-- ==== Defs.lean ====
def Pre_Kernel [hPre_every_row_named_once : Cert.Pre_every_row_named_once.Facts] (m : (ℓ : Loc Cert.Kernel.nD Cert.Kernel.τ Cert.Kernel.sig) → Buf (Elt Bits) ℓ) : Prop :=
  ∀ c : Dev Cert.Kernel.nD,
    (Cert.Pre_every_row_named_once.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_every_row_named_once : Cert.Pre_every_row_named_once.Facts] (m : (ℓ : Loc Cert.KernelIdeal.nD Cert.KernelIdeal.τ Cert.KernelIdeal.sig) → Buf (Elt Ideal) ℓ) : Prop :=
  ∀ c : Dev Cert.KernelIdeal.nD,
    (Cert.Pre_every_row_named_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_row_named_once [hPre_every_row_named_once : Cert.Pre_every_row_named_once.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_row_named_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_every_row_named_once : Cert.Pre_every_row_named_once.Facts] (m : (ℓ : Loc Cert.Reference.nD Cert.Reference.τ Cert.Reference.sig) → Buf (Elt Bits) ℓ) : Prop :=
  ∀ c : Dev Cert.Reference.nD,
    (Cert.Pre_every_row_named_once.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 [hPre_every_block_has_an_expert : Cert.Pre_every_block_has_an_expert.Facts] (m : (ℓ : Loc Cert.Kernel2.nD Cert.Kernel2.τ Cert.Kernel2.sig) → Buf (Elt Bits) ℓ) : Prop :=
  ∀ c : Dev Cert.Kernel2.nD,
    (Cert.Pre_every_block_has_an_expert.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_every_block_has_an_expert : Cert.Pre_every_block_has_an_expert.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_every_block_has_an_expert.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_every_block_has_an_expert [hPre_every_block_has_an_expert : Cert.Pre_every_block_has_an_expert.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_every_block_has_an_expert.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_every_row_named_once : Cert.Pre_every_row_named_once.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_every_row_named_once : Cert.Pre_every_row_named_once.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_every_row_named_once [hReferenceIdeal : Cert.ReferenceIdeal.Facts] [hPre_every_row_named_once : Cert.Pre_every_row_named_once.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_row_named_once m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_every_row_named_once : Cert.Pre_every_row_named_once.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] [hPre_every_block_has_an_expert : Cert.Pre_every_block_has_an_expert.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_every_block_has_an_expert : Cert.Pre_every_block_has_an_expert.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_every_block_has_an_expert [hReference2Ideal : Cert.Reference2Ideal.Facts] [hPre_every_block_has_an_expert : Cert.Pre_every_block_has_an_expert.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_every_block_has_an_expert m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def bitexact_Kernel_Reference [hKernel : Cert.Kernel.Facts] [hReference : Cert.Reference.Facts] [hPre_every_row_named_once : Cert.Pre_every_row_named_once.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal [hKernelIdeal : Cert.KernelIdeal.Facts] [hReferenceIdeal : Cert.ReferenceIdeal.Facts] [hPre_every_row_named_once : Cert.Pre_every_row_named_once.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_every_block_has_an_expert : Cert.Pre_every_block_has_an_expert.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_every_row_named_once : Cert.Pre_every_row_named_once.Facts) (hPre_every_block_has_an_expert : Cert.Pre_every_block_has_an_expert.Facts),
    quiescent_Kernel (hKernel := hKernel) (hPre_every_row_named_once := hPre_every_row_named_once)
    ∧ quiescent_KernelIdeal (hKernelIdeal := hKernelIdeal) (hPre_every_row_named_once := hPre_every_row_named_once)
    ∧ quiescent_ReferenceIdeal (hReferenceIdeal := hReferenceIdeal)
    ∧ quiescent_ReferenceIdeal_pre_every_row_named_once (hReferenceIdeal := hReferenceIdeal) (hPre_every_row_named_once := hPre_every_row_named_once)
    ∧ quiescent_Reference (hReference := hReference) (hPre_every_row_named_once := hPre_every_row_named_once)
    ∧ quiescent_Kernel2 (hKernel2 := hKernel2) (hPre_every_block_has_an_expert := hPre_every_block_has_an_expert)
    ∧ quiescent_Kernel2Ideal (hKernel2Ideal := hKernel2Ideal) (hPre_every_block_has_an_expert := hPre_every_block_has_an_expert)
    ∧ quiescent_Reference2Ideal (hReference2Ideal := hReference2Ideal)
    ∧ quiescent_Reference2Ideal_pre_every_block_has_an_expert (hReference2Ideal := hReference2Ideal) (hPre_every_block_has_an_expert := hPre_every_block_has_an_expert)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ bitexact_Kernel_Reference (hKernel := hKernel) (hReference := hReference) (hPre_every_row_named_once := hPre_every_row_named_once)
    ∧ algebraic_KernelIdeal_ReferenceIdeal (hKernelIdeal := hKernelIdeal) (hReferenceIdeal := hReferenceIdeal) (hPre_every_row_named_once := hPre_every_row_named_once)
    ∧ preserves_Kernel2_Kernel2Ideal
    ∧ algebraic_Kernel2Ideal_Reference2Ideal (hKernel2Ideal := hKernel2Ideal) (hReference2Ideal := hReference2Ideal) (hPre_every_block_has_an_expert := hPre_every_block_has_an_expert)
    ∧ preserves_Kernel3_Kernel3Ideal
    ∧ algebraic_Kernel3Ideal_Reference3Ideal (hKernel3Ideal := hKernel3Ideal) (hReference3Ideal := hReference3Ideal)
-- ==== Pre_every_block_has_an_expert.lean ====
abbrev S37888x1024 : Shape := ⟨2, ![37888, 1024]⟩
abbrev S74 : Shape := ⟨1, ![74]⟩
abbrev S1 : Shape := ⟨1, ![1]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S74 : S_.BroadcastsInDim S74 (![] : Fin 0 → Fin S74.rank)

variable [Facts]

def fn {F : FTy → Type} [FloatOps F] (main_arg0 : FVec F S37888x1024 .f32) (main_arg1 : IVec S74 32) (main_arg2 : IVec S1 32) (main_arg3 : FVec F S8x1024x2816 .bf16) (main_arg4 : FVec F S8x1024x2816 .bf16) (main_arg5 : FVec F S8x2816x1024 .bf16) : IVec S74 1 :=
  let main_c : IVec S_ 32 := constantI S_ 32 0#32
  let main_v0 : IVec S74 32 := broadcastInDim S74 ![] bcast_S_S74 main_c
  let main_v1 : IVec S74 1 := cmpi .sge main_arg1 main_v0
  let main_c_0 : IVec S_ 32 := constantI S_ 32 8#32
  let main_v2 : IVec S74 32 := broadcastInDim S74 ![] bcast_S_S74 main_c_0
  let main_v3 : IVec S74 1 := cmpi .slt main_arg1 main_v2
  let main_v4 : IVec S74 1 := andi main_v1 main_v3
  main_v4
-- ==== Pre_every_row_named_once.lean ====
abbrev S16896x1024 : Shape := ⟨2, ![16896, 1024]⟩
abbrev S33792 : Shape := ⟨1, ![33792]⟩
abbrev S4096 : Shape := ⟨1, ![4096]⟩
abbrev S37888 : Shape := ⟨1, ![37888]⟩

class Facts : Prop where
  concatenates_S33792_S4096_S37888_d0 : Shape.Concatenates [S33792, S4096] S37888 0

variable [Facts]

def comparator_i32_d0 : BitVec 32 → BitVec 32 → BitVec 1 :=
  fun l r =>
    let v1 := IntOp.cmpi .slt l r
    v1
def fn_sort {F : FTy → Type} [FloatOps F] (arg0 : IVec S37888 32) : IVec S37888 32 :=
  let v0 : IVec S37888 32 := (fun x => Host.sort S37888 0 comparator_i32_d0 x) arg0
  v0

def fn {F : FTy → Type} [FloatOps F] (main_arg0 : FVec F S16896x1024 .f32) (main_arg1 : IVec S33792 32) (main_arg2 : IVec S4096 32) : IVec S37888 1 :=
  let main_v0 : IVec S37888 32 := (fun a b => concatenate S37888 0 [⟨S33792, a⟩, ⟨S4096, b⟩] concatenates_S33792_S4096_S37888_d0) main_arg1 main_arg2
  let main_v1 : IVec S37888 32 := fn_sort (F := F) main_v0
  let main_v2 : IVec S37888 32 := iotaInDim S37888 32 0
  let main_v3 : IVec S37888 1 := cmpi .eq main_v1 main_v2
  main_v3
-- ==== Kernel.lean ====
abbrev S16896x1024 : Shape := ⟨2, ![16896, 1024]⟩
abbrev S33792 : Shape := ⟨1, ![33792]⟩
abbrev S4096 : Shape := ⟨1, ![4096]⟩
abbrev S37888x1024 : Shape := ⟨2, ![37888, 1024]⟩
abbrev S512x1024 : Shape := ⟨2, ![512, 1024]⟩
abbrev S_ : Shape := ⟨0, ![]⟩
abbrev S1 : Shape := ⟨1, ![1]⟩
abbrev S1x1024 : Shape := ⟨2, ![1, 1024]⟩

abbrev nBuf : Space → Nat
  | .hbm => 2
  | .vmem => 3
  | .smem => 2
  | _ => 0

abbrev bufTy : (tb : Table) → Fin (tcTables nBuf tb) → BufTy
  | .hbm, ⟨0, _⟩ => ⟨S16896x1024, .f32⟩
  | .hbm, ⟨1, _⟩ => ⟨S37888x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .smem, ⟨0, _⟩ => ⟨S33792, .i32⟩
  | .local _ .smem, ⟨1, _⟩ => ⟨S4096, .i32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![33], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c1024_i32 : BitVec 32 := 1024#32
  let v0 : BitVec 32 := Scalar.muli arg0 c1024_i32
  let c0_i32_1 : BitVec 32 := 0#32
  let v4 : BitVec 32 := Scalar.addi v0 c0_i32_1
  let c0_i32_2 : BitVec 32 := 0#32
  let v5 : BitVec 32 := Scalar.addi v4 c0_i32_2
  let v6 : Index := Scalar.indexCast v5
  ![v6.toNat]
def k0_off2 (v7 : BitVec 32) : Fin 2 → Nat :=
  let c0_i32_3 : BitVec 32 := 0#32
  ![v7.toNat, 0]

def k0_chk1 (v7 : BitVec 32) : Prop :=
  (∀ a, (k0_off2 v7) a + S1x1024.size a ≤ S37888x1024.size a)
theorem k0_off2_inb : ∀ (v7 : BitVec 32) (k0_hw1 : k0_chk1 v7), ∀ a, (k0_off2 v7) a + S1x1024.size a ≤ S37888x1024.size a := fun v7 k0_hw1 => k0_hw1

def k0_off3 (i : grid0.Coords) : Fin 1 → Nat :=
  let arg0 : BitVec 32 := BitVec.ofNat 32 (i 0).val
  let c1024_i32 : BitVec 32 := 1024#32
  let v0 : BitVec 32 := Scalar.muli arg0 c1024_i32
  let c0_i32_6 : BitVec 32 := 0#32
  let v10 : BitVec 32 := Scalar.addi v0 c0_i32_6
  let c1_i32 : BitVec 32 := 1#32
  let v11 : BitVec 32 := Scalar.addi v10 c1_i32
  let v12 : Index := Scalar.indexCast v11
  ![v12.toNat]
def k0_off4 (v13 : BitVec 32) : Fin 2 → Nat :=
  let c0_i32_7 : BitVec 32 := 0#32
  ![v13.toNat, 0]

def k0_chk2 (v13 : BitVec 32) : Prop :=
  (∀ a, (k0_off4 v13) a + S1x1024.size a ≤ S37888x1024.size a)
theorem k0_off4_inb : ∀ (v13 : BitVec 32) (k0_hw2 : k0_chk2 v13), ∀ a, (k0_off4 v13) a + S1x1024.size a ≤ S37888x1024.size a := fun v13 k0_hw2 => k0_hw2

def k0_off5 (i : grid0.Coords) : Fin 1 → Nat :=
  let arg0 : BitVec 32 := BitVec.ofNat 32 (i 0).val
  let c1024_i32 : BitVec 32 := 1024#32
  let v0 : BitVec 32 := Scalar.muli arg0 c1024_i32
  let c2_i32 : BitVec 32 := 2#32
  let v16 : BitVec 32 := Scalar.addi v0 c2_i32
  let c0_i32_10 : BitVec 32 := 0#32
  let v17 : BitVec 32 := Scalar.addi v16 c0_i32_10
  let v18 : Index := Scalar.indexCast v17
  ![v18.toNat]
def k0_off6 (v19 : BitVec 32) : Fin 2 → Nat :=
  let c0_i32_11 : BitVec 32 := 0#32
  ![v19.toNat, 0]

def k0_chk3 (v19 : BitVec 32) : Prop :=
  (∀ a, (k0_off6 v19) a + S1x1024.size a ≤ S37888x1024.size a)
theorem k0_off6_inb : ∀ (v19 : BitVec 32) (k0_hw3 : k0_chk3 v19), ∀ a, (k0_off6 v19) a + S1x1024.size a ≤ S37888x1024.size a := fun v19 k0_hw3 => k0_hw3

def k0_off7 (i : grid0.Coords) : Fin 1 → Nat :=
  let arg0 : BitVec 32 := BitVec.ofNat 32 (i 0).val
  let c1024_i32 : BitVec 32 := 1024#32
  let v0 : BitVec 32 := Scalar.muli arg0 c1024_i32
  let c2_i32_14 : BitVec 32 := 2#32
  let v22 : BitVec 32 := Scalar.addi v0 c2_i32_14
  let c1_i32_15 : BitVec 32 := 1#32
  let v23 : BitVec 32 := Scalar.addi v22 c1_i32_15
  let v24 : Index := Scalar.indexCast v23
  ![v24.toNat]
def k0_off8 (v25 : BitVec 32) : Fin 2 → Nat :=
  let c0_i32_16 : BitVec 32 := 0#32
  ![v25.toNat, 0]

def k0_chk4 (v25 : BitVec 32) : Prop :=
  (∀ a, (k0_off8 v25) a + S1x1024.size a ≤ S37888x1024.size a)
theorem k0_off8_inb : ∀ (v25 : BitVec 32) (k0_hw4 : k0_chk4 v25), ∀ a, (k0_off8 v25) a + S1x1024.size a ≤ S37888x1024.size a := fun v25 k0_hw4 => k0_hw4

def k0_off9 (i : grid0.Coords) : Fin 1 → Nat :=
  let arg0 : BitVec 32 := BitVec.ofNat 32 (i 0).val
  let c1024_i32 : BitVec 32 := 1024#32
  let v0 : BitVec 32 := Scalar.muli arg0 c1024_i32
  let c4_i32 : BitVec 32 := 4#32
  let v28 : BitVec 32 := Scalar.addi v0 c4_i32
  let c0_i32_19 : BitVec 32 := 0#32
  let v29 : BitVec 32 := Scalar.addi v28 c0_i32_19
  let v30 : Index := Scalar.indexCast v29
  ![v30.toNat]
def k0_off10 (v31 : BitVec 32) : Fin 2 → Nat :=
  let c0_i32_20 : BitVec 32 := 0#32
  ![v31.toNat, 0]

def k0_chk5 (v31 : BitVec 32) : Prop :=
  (∀ a, (k0_off10 v31) a + S1x1024.size a ≤ S37888x1024.size a)
theorem k0_off10_inb : ∀ (v31 : BitVec 32) (k0_hw5 : k0_chk5 v31), ∀ a, (k0_off10 v31) a + S1x1024.size a ≤ S37888x1024.size a := fun v31 k0_hw5 => k0_hw5

def k0_off11 (i : grid0.Coords) : Fin 1 → Nat :=
  let arg0 : BitVec 32 := BitVec.ofNat 32 (i 0).val
  let c1024_i32 : BitVec 32 := 1024#32
  let v0 : BitVec 32 := Scalar.muli arg0 c1024_i32
  let c4_i32_23 : BitVec 32 := 4#32
  let v34 : BitVec 32 := Scalar.addi v0 c4_i32_23
  let c1_i32_24 : BitVec 32 := 1#32
  let v35 : BitVec 32 := Scalar.addi v34 c1_i32_24
  let v36 : Index := Scalar.indexCast v35
  ![v36.toNat]
def k0_off12 (v37 : BitVec 32) : Fin 2 → Nat :=
  let c0_i32_25 : BitVec 32 := 0#32
  ![v37.toNat, 0]

def k0_chk6 (v37 : BitVec 32) : Prop :=
  (∀ a, (k0_off12 v37) a + S1x1024.size a ≤ S37888x1024.size a)
theorem k0_off12_inb : ∀ (v37 : BitVec 32) (k0_hw6 : k0_chk6 v37), ∀ a, (k0_off12 v37) a + S1x1024.size a ≤ S37888x1024.size a := fun v37 k0_hw6 => k0_hw6

def k0_off13 (i : grid0.Coords) : Fin 1 → Nat :=
  let arg0 : BitVec 32 := BitVec.ofNat 32 (i 0).val
  let c1024_i32 : BitVec 32 := 1024#32
  let v0 : BitVec 32 := Scalar.muli arg0 c1024_i32
  let c6_i32 : BitVec 32 := 6#32
  let v40 : BitVec 32 := Scalar.addi v0 c6_i32
  let c0_i32_28 : BitVec 32 := 0#32
  let v41 : BitVec 32 := Scalar.addi v40 c0_i32_28
  let v42 : Index := Scalar.indexCast v41
  ![v42.toNat]
def k0_off14 (v43 : BitVec 32) : Fin 2 → Nat :=
  let c0_i32_29 : BitVec 32 := 0#32
  ![v43.toNat, 0]

def k0_chk7 (v43 : BitVec 32) : Prop :=
  (∀ a, (k0_off14 v43) a + S1x1024.size a ≤ S37888x1024.size a)
theorem k0_off14_inb : ∀ (v43 : BitVec 32) (k0_hw7 : k0_chk7 v43), ∀ a, (k0_off14 v43) a + S1x1024.size a ≤ S37888x1024.size a := fun v43 k0_hw7 => k0_hw7

def k0_off15 (i : grid0.Coords) : Fin 1 → Nat :=
  let arg0 : BitVec 32 := BitVec.ofNat 32 (i 0).val
  let c1024_i32 : BitVec 32 := 1024#32
  let v0 : BitVec 32 := Scalar.muli arg0 c1024_i32
  let c6_i32_31 : BitVec 32 := 6#32
  let v46 : BitVec 32 := Scalar.addi v0 c6_i32_31
  let c1_i32_32 : BitVec 32 := 1#32
  let v47 : BitVec 32 := Scalar.addi v46 c1_i32_32
  let v48 : Index := Scalar.indexCast v47
  ![v48.toNat]
def k0_off16 (v49 : BitVec 32) : Fin 2 → Nat :=
  let c0_i32_33 : BitVec 32 := 0#32
  ![v49.toNat, 0]

def k0_chk8 (v49 : BitVec 32) : Prop :=
  (∀ a, (k0_off16 v49) a + S1x1024.size a ≤ S37888x1024.size a)
theorem k0_off16_inb : ∀ (v49 : BitVec 32) (k0_hw8 : k0_chk8 v49), ∀ a, (k0_off16 v49) a + S1x1024.size a ≤ S37888x1024.size a := fun v49 k0_hw8 => k0_hw8

def k0_off17 (i : grid0.Coords) : Fin 1 → Nat :=
  let arg0 : BitVec 32 := BitVec.ofNat 32 (i 0).val
  let c1024_i32 : BitVec 32 := 1024#32
  let v0 : BitVec 32 := Scalar.muli arg0 c1024_i32
  let c8_i32 : BitVec 32 := 8#32
  let v52 : BitVec 32 := Scalar.addi v0 c8_i32
  let c0_i32_36 : BitVec 32 := 0#32
  let v53 : BitVec 32 := Scalar.addi v52 c0_i32_36
  let v54 : Index := Scalar.indexCast v53
  ![v54.toNat]
def k0_off18 (v55 : BitVec 32) : Fin 2 → Nat :=
  let c0_i32_37 : BitVec 32 := 0#32
  ![v55.toNat, 0]

def k0_chk9 (v55 : BitVec 32) : Prop :=
  (∀ a, (k0_off18 v55) a + S1x1024.size a ≤ S37888x1024.size a)
theorem k0_off18_inb : ∀ (v55 : BitVec 32) (k0_hw9 : k0_chk9 v55), ∀ a, (k0_off18 v55) a + S1x1024.size a ≤ S37888x1024.size a := fun v55 k0_hw9 => k0_hw9

def k0_off19 (i : grid0.Coords) : Fin 1 → Nat :=
  let arg0 : BitVec 32 := BitVec.ofNat 32 (i 0).val
  let c1024_i32 : BitVec 32 := 1024#32
  let v0 : BitVec 32 := Scalar.muli arg0 c1024_i32
  let c8_i32_40 : BitVec 32 := 8#32
  let v58 : BitVec 32 := Scalar.addi v0 c8_i32_40
  let c1_i32_41 : BitVec 32 := 1#32
  let v59 : BitVec 32 := Scalar.addi v58 c1_i32_41
  let v60 : Index := Scalar.indexCast v59
  ![v60.toNat]
def k0_off20 (v61 : BitVec 32) : Fin 2 → Nat :=
  let c0_i32_42 : BitVec 32 := 0#32
  ![v61.toNat, 0]

def k0_chk10 (v61 : BitVec 32) : Prop :=
  (∀ a, (k0_off20 v61) a + S1x1024.size a ≤ S37888x1024.size a)
theorem k0_off20_inb : ∀ (v61 : BitVec 32) (k0_hw10 : k0_chk10 v61), ∀ a, (k0_off20 v61) a + S1x1024.size a ≤ S37888x1024.size a := fun v61 k0_hw10 => k0_hw10

def k0_off21 (i : grid0.Coords) : Fin 1 → Nat :=
  let arg0 : BitVec 32 := BitVec.ofNat 32 (i 0).val
  let c1024_i32 : BitVec 32 := 1024#32
  let v0 : BitVec 32 := Scalar.muli arg0 c1024_i32
  let c10_i32 : BitVec 32 := 10#32
  let v64 : BitVec 32 := Scalar.addi v0 c10_i32
  let c0_i32_45 : BitVec 32 := 0#32
  let v65 : BitVec 32 := Scalar.addi v64 c0_i32_45
  let v66 : Index := Scalar.indexCast v65
  ![v66.toNat]
def k0_off22 (v67 : BitVec 32) : Fin 2 → Nat :=
  let c0_i32_46 : BitVec 32 := 0#32
  ![v67.toNat, 0]

def k0_chk11 (v67 : BitVec 32) : Prop :=
  (∀ a, (k0_off22 v67) a + S1x1024.size a ≤ S37888x1024.size a)
theorem k0_off22_inb : ∀ (v67 : BitVec 32) (k0_hw11 : k0_chk11 v67), ∀ a, (k0_off22 v67) a + S1x1024.size a ≤ S37888x1024.size a := fun v67 k0_hw11 => k0_hw11

def k0_off23 (i : grid0.Coords) : Fin 1 → Nat :=
  let arg0 : BitVec 32 := BitVec.ofNat 32 (i 0).val
  let c1024_i32 : BitVec 32 := 1024#32
  let v0 : BitVec 32 := Scalar.muli arg0 c1024_i32
  let c10_i32_48 : BitVec 32 := 10#32
  let v70 : BitVec 32 := Scalar.addi v0 c10_i32_48
  let c1_i32_49 : BitVec 32 := 1#32
  let v71 : BitVec 32 := Scalar.addi v70 c1_i32_49
  let v72 : Index := Scalar.indexCast v71
  ![v72.toNat]
def k0_off24 (v73 : BitVec 32) : Fin 2 → Nat :=
  let c0_i32_50 : BitVec 32 := 0#32
  ![v73.toNat, 0]

def k0_chk12 (v73 : BitVec 32) : Prop :=
  (∀ a, (k0_off24 v73) a + S1x1024.size a ≤ S37888x1024.size a)
theorem k0_off24_inb : ∀ (v73 : BitVec 32) (k0_hw12 : k0_chk12 v73), ∀ a, (k0_off24 v73) a + S1x1024.size a ≤ S37888x1024.size a := fun v73 k0_hw12 => k0_hw12

def k0_off25 (i : grid0.Coords) : Fin 1 → Nat :=
  let arg0 : BitVec 32 := BitVec.ofNat 32 (i 0).val
  let c1024_i32 : BitVec 32 := 1024#32
  let v0 : BitVec 32 := Scalar.muli arg0 c1024_i32
  let c12_i32 : BitVec 32 := 12#32
  let v76 : BitVec 32 := Scalar.addi v0 c12_i32
  let c0_i32_53 : BitVec 32 := 0#32
  let v77 : BitVec 32 := Scalar.addi v76 c0_i32_53
  let v78 : Index := Scalar.indexCast v77
  ![v78.toNat]
def k0_off26 (v79 : BitVec 32) : Fin 2 → Nat :=
  let c0_i32_54 : BitVec 32 := 0#32
  ![v79.toNat, 0]

def k0_chk13 (v79 : BitVec 32) : Prop :=
  (∀ a, (k0_off26 v79) a + S1x1024.size a ≤ S37888x1024.size a)
theorem k0_off26_inb : ∀ (v79 : BitVec 32) (k0_hw13 : k0_chk13 v79), ∀ a, (k0_off26 v79) a + S1x1024.size a ≤ S37888x1024.size a := fun v79 k0_hw13 => k0_hw13

def k0_off27 (i : grid0.Coords) : Fin 1 → Nat :=
  let arg0 : BitVec 32 := BitVec.ofNat 32 (i 0).val
  let c1024_i32 : BitVec 32 := 1024#32
  let v0 : BitVec 32 := Scalar.muli arg0 c1024_i32
  let c12_i32_57 : BitVec 32 := 12#32
  let v82 : BitVec 32 := Scalar.addi v0 c12_i32_57
  let c1_i32_58 : BitVec 32 := 1#32
  let v83 : BitVec 32 := Scalar.addi v82 c1_i32_58
  let v84 : Index := Scalar.indexCast v83
  ![v84.toNat]
def k0_off28 (v85 : BitVec 32) : Fin 2 → Nat :=
  let c0_i32_59 : BitVec 32 := 0#32
  ![v85.toNat, 0]

def k0_chk14 (v85 : BitVec 32) : Prop :=
  (∀ a, (k0_off28 v85) a + S1x1024.size a ≤ S37888x1024.size a)
theorem k0_off28_inb : ∀ (v85 : BitVec 32) (k0_hw14 : k0_chk14 v85), ∀ a, (k0_off28 v85) a + S1x1024.size a ≤ S37888x1024.size a := fun v85 k0_hw14 => k0_hw14

def k0_off29 (i : grid0.Coords) : Fin 1 → Nat :=
  let arg0 : BitVec 32 := BitVec.ofNat 32 (i 0).val
  let c1024_i32 : BitVec 32 := 1024#32
  let v0 : BitVec 32 := Scalar.muli arg0 c1024_i32
  let c14_i32 : BitVec 32 := 14#32
  let v88 : BitVec 32 := Scalar.addi v0 c14_i32
  let c0_i32_62 : BitVec 32 := 0#32
  let v89 : BitVec 32 := Scalar.addi v88 c0_i32_62
  let v90 : Index := Scalar.indexCast v89
  ![v90.toNat]
def k0_off30 (v91 : BitVec 32) : Fin 2 → Nat :=
  let c0_i32_63 : BitVec 32 := 0#32
  ![v91.toNat, 0]

def k0_chk15 (v91 : BitVec 32) : Prop :=
  (∀ a, (k0_off30 v91) a + S1x1024.size a ≤ S37888x1024.size a)
theorem k0_off30_inb : ∀ (v91 : BitVec 32) (k0_hw15 : k0_chk15 v91), ∀ a, (k0_off30 v91) a + S1x1024.size a ≤ S37888x1024.size a := fun v91 k0_hw15 => k0_hw15

def k0_off31 (i : grid0.Coords) : Fin 1 → Nat :=
  let arg0 : BitVec 32 := BitVec.ofNat 32 (i 0).val
  let c1024_i32 : BitVec 32 := 1024#32
  let v0 : BitVec 32 := Scalar.muli arg0 c1024_i32
  let c14_i32_65 : BitVec 32 := 14#32
  let v94 : BitVec 32 := Scalar.addi v0 c14_i32_65
  let c1_i32_66 : BitVec 32 := 1#32
  let v95 : BitVec 32 := Scalar.addi v94 c1_i32_66
  let v96 : Index := Scalar.indexCast v95
  ![v96.toNat]
def k0_off32 (v97 : BitVec 32) : Fin 2 → Nat :=
  let c0_i32_67 : BitVec 32 := 0#32
  ![v97.toNat, 0]

def k0_chk16 (v97 : BitVec 32) : Prop :=
  (∀ a, (k0_off32 v97) a + S1x1024.size a ≤ S37888x1024.size a)
theorem k0_off32_inb : ∀ (v97 : BitVec 32) (k0_hw16 : k0_chk16 v97), ∀ a, (k0_off32 v97) a + S1x1024.size a ≤ S37888x1024.size a := fun v97 k0_hw16 => k0_hw16

def k0_off33 (i : grid0.Coords) : Fin 1 → Nat :=
  let arg0 : BitVec 32 := BitVec.ofNat 32 (i 0).val
  let c1024_i32 : BitVec 32 := 1024#32
  let v0 : BitVec 32 := Scalar.muli arg0 c1024_i32
  let c16_i32 : BitVec 32 := 16#32
  let v100 : BitVec 32 := Scalar.addi v0 c16_i32
  let c0_i32_70 : BitVec 32 := 0#32
  let v101 : BitVec 32 := Scalar.addi v100 c0_i32_70
  let v102 : Index := Scalar.indexCast v101
  ![v102.toNat]
def k0_off34 (v103 : BitVec 32) : Fin 2 → Nat :=
  let c0_i32_71 : BitVec 32 := 0#32
  ![v103.toNat, 0]

def k0_chk17 (v103 : BitVec 32) : Prop :=
  (∀ a, (k0_off34 v103) a + S1x1024.size a ≤ S37888x1024.size a)
theorem k0_off34_inb : ∀ (v103 : BitVec 32) (k0_hw17 : k0_chk17 v103), ∀ a, (k0_off34 v103) a + S1x1024.size a ≤ S37888x1024.size a := fun v103 k0_hw17 => k0_hw17

def k0_off35 (i : grid0.Coords) : Fin 1 → Nat :=
  let arg0 : BitVec 32 := BitVec.ofNat 32 (i 0).val
  let c1024_i32 : BitVec 32 := 1024#32
  let v0 : BitVec 32 := Scalar.muli arg0 c1024_i32
  let c16_i32_74 : BitVec 32 := 16#32
  let v106 : BitVec 32 := Scalar.addi v0 c16_i32_74
  let c1_i32_75 : BitVec 32 := 1#32
  let v107 : BitVec 32 := Scalar.addi v106 c1_i32_75
  let v108 : Index := Scalar.indexCast v107
  ![v108.toNat]
def k0_off36 (v109 : BitVec 32) : Fin 2 → Nat :=
  let c0_i32_76 : BitVec 32 := 0#32
  ![v109.toNat, 0]

def k0_chk18 (v109 : BitVec 32) : Prop :=
  (∀ a, (k0_off36 v109) a + S1x1024.size a ≤ S37888x1024.size a)
theorem k0_off36_inb : ∀ (v109 : BitVec 32) (k0_hw18 : k0_chk18 v109), ∀ a, (k0_off36 v109) a + S1x1024.size a ≤ S37888x1024.size a := fun v109 k0_hw18 => k0_hw18

def k0_off37 (i : grid0.Coords) : Fin 1 → Nat :=
  let arg0 : BitVec 32 := BitVec.ofNat 32 (i 0).val
  let c1024_i32 : BitVec 32 := 1024#32
  let v0 : BitVec 32 := Scalar.muli arg0 c1024_i32
  let c18_i32 : BitVec 32 := 18#32
  let v112 : BitVec 32 := Scalar.addi v0 c18_i32
  let c0_i32_79 : BitVec 32 := 0#32
  let v113 : BitVec 32 := Scalar.addi v112 c0_i32_79
  let v114 : Index := Scalar.indexCast v113
  ![v114.toNat]
def k0_off38 (v115 : BitVec 32) : Fin 2 → Nat :=
  let c0_i32_80 : BitVec 32 := 0#32
  ![v115.toNat, 0]

def k0_chk19 (v115 : BitVec 32) : Prop :=
  (∀ a, (k0_off38 v115) a + S1x1024.size a ≤ S37888x1024.size a)
theorem k0_off38_inb : ∀ (v115 : BitVec 32) (k0_hw19 : k0_chk19 v115), ∀ a, (k0_off38 v115) a + S1x1024.size a ≤ S37888x1024.size a := fun v115 k0_hw19 => k0_hw19

def k0_off39 (i : grid0.Coords) : Fin 1 → Nat :=
  let arg0 : BitVec 32 := BitVec.ofNat 32 (i 0).val
  let c1024_i32 : BitVec 32 := 1024#32
  let v0 : BitVec 32 := Scalar.muli arg0 c1024_i32
  let c18_i32_82 : BitVec 32 := 18#32
  let v118 : BitVec 32 := Scalar.addi v0 c18_i32_82
  let c1_i32_83 : BitVec 32 := 1#32
  let v119 : BitVec 32 := Scalar.addi v118 c1_i32_83
  let v120 : Index := Scalar.indexCast v119
  ![v120.toNat]
def k0_off40 (v121 : BitVec 32) : Fin 2 → Nat :=
  let c0_i32_84 : BitVec 32 := 0#32
  ![v121.toNat, 0]

def k0_chk20 (v121 : BitVec 32) : Prop :=
  (∀ a, (k0_off40 v121) a + S1x1024.size a ≤ S37888x1024.size a)
theorem k0_off40_inb : ∀ (v121 : BitVec 32) (k0_hw20 : k0_chk20 v121), ∀ a, (k0_off40 v121) a + S1x1024.size a ≤ S37888x1024.size a := fun v121 k0_hw20 => k0_hw20

def k0_off41 (i : grid0.Coords) : Fin 1 → Nat :=
  let arg0 : BitVec 32 := BitVec.ofNat 32 (i 0).val
  let c1024_i32 : BitVec 32 := 1024#32
  let v0 : BitVec 32 := Scalar.muli arg0 c1024_i32
  let c20_i32 : BitVec 32 := 20#32
  let v124 : BitVec 32 := Scalar.addi v0 c20_i32
  let c0_i32_87 : BitVec 32 := 0#32
  let v125 : BitVec 32 := Scalar.addi v124 c0_i32_87
  let v126 : Index := Scalar.indexCast v125
  ![v126.toNat]
def k0_off42 (v127 : BitVec 32) : Fin 2 → Nat :=
  let c0_i32_88 : BitVec 32 := 0#32
  ![v127.toNat, 0]

def k0_chk21 (v127 : BitVec 32) : Prop :=
  (∀ a, (k0_off42 v127) a + S1x1024.size a ≤ S37888x1024.size a)
theorem k0_off42_inb : ∀ (v127 : BitVec 32) (k0_hw21 : k0_chk21 v127), ∀ a, (k0_off42 v127) a + S1x1024.size a ≤ S37888x1024.size a := fun v127 k0_hw21 => k0_hw21

def k0_off43 (i : grid0.Coords) : Fin 1 → Nat :=
  let arg0 : BitVec 32 := BitVec.ofNat 32 (i 0).val
  let c1024_i32 : BitVec 32 := 1024#32
  let v0 : BitVec 32 := Scalar.muli arg0 c1024_i32
  let c20_i32_91 : BitVec 32 := 20#32
  let v130 : BitVec 32 := Scalar.addi v0 c20_i32_91
  let c1_i32_92 : BitVec 32 := 1#32
  let v131 : BitVec 32 := Scalar.addi v130 c1_i32_92
  let v132 : Index := Scalar.indexCast v131
  ![v132.toNat]
def k0_off44 (v133 : BitVec 32) : Fin 2 → Nat :=
  let c0_i32_93 : BitVec 32 := 0#32
  ![v133.toNat, 0]

def k0_chk22 (v133 : BitVec 32) : Prop :=
  (∀ a, (k0_off44 v133) a + S1x1024.size a ≤ S37888x1024.size a)
theorem k0_off44_inb : ∀ (v133 : BitVec 32) (k0_hw22 : k0_chk22 v133), ∀ a, (k0_off44 v133) a + S1x1024.size a ≤ S37888x1024.size a := fun v133 k0_hw22 => k0_hw22

def k0_off45 (i : grid0.Coords) : Fin 1 → Nat :=
  let arg0 : BitVec 32 := BitVec.ofNat 32 (i 0).val
  let c1024_i32 : BitVec 32 := 1024#32
  let v0 : BitVec 32 := Scalar.muli arg0 c1024_i32
  let c22_i32 : BitVec 32 := 22#32
  let v136 : BitVec 32 := Scalar.addi v0 c22_i32
  let c0_i32_96 : BitVec 32 := 0#32
  let v137 : BitVec 32 := Scalar.addi v136 c0_i32_96
  let v138 : Index := Scalar.indexCast v137
  ![v138.toNat]
def k0_off46 (v139 : BitVec 32) : Fin 2 → Nat :=
  let c0_i32_97 : BitVec 32 := 0#32
  ![v139.toNat, 0]

def k0_chk23 (v139 : BitVec 32) : Prop :=
  (∀ a, (k0_off46 v139) a + S1x1024.size a ≤ S37888x1024.size a)
theorem k0_off46_inb : ∀ (v139 : BitVec 32) (k0_hw23 : k0_chk23 v139), ∀ a, (k0_off46 v139) a + S1x1024.size a ≤ S37888x1024.size a := fun v139 k0_hw23 => k0_hw23

def k0_off47 (i : grid0.Coords) : Fin 1 → Nat :=
  let arg0 : BitVec 32 := BitVec.ofNat 32 (i 0).val
  let c1024_i32 : BitVec 32 := 1024#32
  let v0 : BitVec 32 := Scalar.muli arg0 c1024_i32
  let c22_i32_99 : BitVec 32 := 22#32
  let v142 : BitVec 32 := Scalar.addi v0 c22_i32_99
  let c1_i32_100 : BitVec 32 := 1#32
  let v143 : BitVec 32 := Scalar.addi v142 c1_i32_100
  let v144 : Index := Scalar.indexCast v143
  ![v144.toNat]
def k0_off48 (v145 : BitVec 32) : Fin 2 → Nat :=
  let c0_i32_101 : BitVec 32 := 0#32
  ![v145.toNat, 0]

def k0_chk24 (v145 : BitVec 32) : Prop :=
  (∀ a, (k0_off48 v145) a + S1x1024.size a ≤ S37888x1024.size a)
theorem k0_off48_inb : ∀ (v145 : BitVec 32) (k0_hw24 : k0_chk24 v145), ∀ a, (k0_off48 v145) a + S1x1024.size a ≤ S37888x1024.size a := fun v145 k0_hw24 => k0_hw24

def k0_off49 (i : grid0.Coords) : Fin 1 → Nat :=
  let arg0 : BitVec 32 := BitVec.ofNat 32 (i 0).val
  let c1024_i32 : BitVec 32 := 1024#32
  let v0 : BitVec 32 := Scalar.muli arg0 c1024_i32
  let c24_i32 : BitVec 32 := 24#32
  let v148 : BitVec 32 := Scalar.addi v0 c24_i32
  let c0_i32_104 : BitVec 32 := 0#32
  let v149 : BitVec 32 := Scalar.addi v148 c0_i32_104
  let v150 : Index := Scalar.indexCast v149
  ![v150.toNat]
def k0_off50 (v151 : BitVec 32) : Fin 2 → Nat :=
  let c0_i32_105 : BitVec 32 := 0#32
  ![v151.toNat, 0]

def k0_chk25 (v151 : BitVec 32) : Prop :=
  (∀ a, (k0_off50 v151) a + S1x1024.size a ≤ S37888x1024.size a)
theorem k0_off50_inb : ∀ (v151 : BitVec 32) (k0_hw25 : k0_chk25 v151), ∀ a, (k0_off50 v151) a + S1x1024.size a ≤ S37888x1024.size a := fun v151 k0_hw25 => k0_hw25

def k0_off51 (i : grid0.Coords) : Fin 1 → Nat :=
  let arg0 : BitVec 32 := BitVec.ofNat 32 (i 0).val
  let c1024_i32 : BitVec 32 := 1024#32
  let v0 : BitVec 32 := Scalar.muli arg0 c1024_i32
  let c24_i32_108 : BitVec 32 := 24#32
  let v154 : BitVec 32 := Scalar.addi v0 c24_i32_108
  let c1_i32_109 : BitVec 32 := 1#32
  let v155 : BitVec 32 := Scalar.addi v154 c1_i32_109
  let v156 : Index := Scalar.indexCast v155
  ![v156.toNat]
def k0_off52 (v157 : BitVec 32) : Fin 2 → Nat :=
  let c0_i32_110 : BitVec 32 := 0#32
  ![v157.toNat, 0]

def k0_chk26 (v157 : BitVec 32) : Prop :=
  (∀ a, (k0_off52 v157) a + S1x1024.size a ≤ S37888x1024.size a)
theorem k0_off52_inb : ∀ (v157 : BitVec 32) (k0_hw26 : k0_chk26 v157), ∀ a, (k0_off52 v157) a + S1x1024.size a ≤ S37888x1024.size a := fun v157 k0_hw26 => k0_hw26

def k0_off53 (i : grid0.Coords) : Fin 1 → Nat :=
  let arg0 : BitVec 32 := BitVec.ofNat 32 (i 0).val
  let c1024_i32 : BitVec 32 := 1024#32
  let v0 : BitVec 32 := Scalar.muli arg0 c1024_i32
  let c26_i32 : BitVec 32 := 26#32
  let v160 : BitVec 32 := Scalar.addi v0 c26_i32
  let c0_i32_113 : BitVec 32 := 0#32
  let v161 : BitVec 32 := Scalar.addi v160 c0_i32_113
  let v162 : Index := Scalar.indexCast v161
  ![v162.toNat]
def k0_off54 (v163 : BitVec 32) : Fin 2 → Nat :=
  let c0_i32_114 : BitVec 32 := 0#32
  ![v163.toNat, 0]

def k0_chk27 (v163 : BitVec 32) : Prop :=
  (∀ a, (k0_off54 v163) a + S1x1024.size a ≤ S37888x1024.size a)
theorem k0_off54_inb : ∀ (v163 : BitVec 32) (k0_hw27 : k0_chk27 v163), ∀ a, (k0_off54 v163) a + S1x1024.size a ≤ S37888x1024.size a := fun v163 k0_hw27 => k0_hw27

def k0_off55 (i : grid0.Coords) : Fin 1 → Nat :=
  let arg0 : BitVec 32 := BitVec.ofNat 32 (i 0).val
  let c1024_i32 : BitVec 32 := 1024#32
  let v0 : BitVec 32 := Scalar.muli arg0 c1024_i32
  let c26_i32_116 : BitVec 32 := 26#32
  let v166 : BitVec 32 := Scalar.addi v0 c26_i32_116
  let c1_i32_117 : BitVec 32 := 1#32
  let v167 : BitVec 32 := Scalar.addi v166 c1_i32_117
  let v168 : Index := Scalar.indexCast v167
  ![v168.toNat]
def k0_off56 (v169 : BitVec 32) : Fin 2 → Nat :=
  let c0_i32_118 : BitVec 32 := 0#32
  ![v169.toNat, 0]

def k0_chk28 (v169 : BitVec 32) : Prop :=
  (∀ a, (k0_off56 v169) a + S1x1024.size a ≤ S37888x1024.size a)
theorem k0_off56_inb : ∀ (v169 : BitVec 32) (k0_hw28 : k0_chk28 v169), ∀ a, (k0_off56 v169) a + S1x1024.size a ≤ S37888x1024.size a := fun v169 k0_hw28 => k0_hw28

def k0_off57 (i : grid0.Coords) : Fin 1 → Nat :=
  let arg0 : BitVec 32 := BitVec.ofNat 32 (i 0).val
  let c1024_i32 : BitVec 32 := 1024#32
  let v0 : BitVec 32 := Scalar.muli arg0 c1024_i32
  let c28_i32 : BitVec 32 := 28#32
  let v172 : BitVec 32 := Scalar.addi v0 c28_i32
  let c0_i32_121 : BitVec 32 := 0#32
  let v173 : BitVec 32 := Scalar.addi v172 c0_i32_121
  let v174 : Index := Scalar.indexCast v173
  ![v174.toNat]
def k0_off58 (v175 : BitVec 32) : Fin 2 → Nat :=
  let c0_i32_122 : BitVec 32 := 0#32
  ![v175.toNat, 0]

def k0_chk29 (v175 : BitVec 32) : Prop :=
  (∀ a, (k0_off58 v175) a + S1x1024.size a ≤ S37888x1024.size a)
theorem k0_off58_inb : ∀ (v175 : BitVec 32) (k0_hw29 : k0_chk29 v175), ∀ a, (k0_off58 v175) a + S1x1024.size a ≤ S37888x1024.size a := fun v175 k0_hw29 => k0_hw29

def k0_off59 (i : grid0.Coords) : Fin 1 → Nat :=
  let arg0 : BitVec 32 := BitVec.ofNat 32 (i 0).val
  let c1024_i32 : BitVec 32 := 1024#32
  let v0 : BitVec 32 := Scalar.muli arg0 c1024_i32
  let c28_i32_125 : BitVec 32 := 28#32
  let v178 : BitVec 32 := Scalar.addi v0 c28_i32_125
  let c1_i32_126 : BitVec 32 := 1#32
  let v179 : BitVec 32 := Scalar.addi v178 c1_i32_126
  let v180 : Index := Scalar.indexCast v179
  ![v180.toNat]
def k0_off60 (v181 : BitVec 32) : Fin 2 → Nat :=
  let c0_i32_127 : BitVec 32 := 0#32
  ![v181.toNat, 0]

def k0_chk30 (v181 : BitVec 32) : Prop :=
  (∀ a, (k0_off60 v181) a + S1x1024.size a ≤ S37888x1024.size a)
theorem k0_off60_inb : ∀ (v181 : BitVec 32) (k0_hw30 : k0_chk30 v181), ∀ a, (k0_off60 v181) a + S1x1024.size a ≤ S37888x1024.size a := fun v181 k0_hw30 => k0_hw30

def k0_off61 (i : grid0.Coords) : Fin 1 → Nat :=
  let arg0 : BitVec 32 := BitVec.ofNat 32 (i 0).val
  let c1024_i32 : BitVec 32 := 1024#32
  let v0 : BitVec 32 := Scalar.muli arg0 c1024_i32
  let c30_i32 : BitVec 32 := 30#32
  let v184 : BitVec 32 := Scalar.addi v0 c30_i32
  let c0_i32_130 : BitVec 32 := 0#32
  let v185 : BitVec 32 := Scalar.addi v184 c0_i32_130
  let v186 : Index := Scalar.indexCast v185
  ![v186.toNat]
def k0_off62 (v187 : BitVec 32) : Fin 2 → Nat :=
  let c0_i32_131 : BitVec 32 := 0#32
  ![v187.toNat, 0]

def k0_chk31 (v187 : BitVec 32) : Prop :=
  (∀ a, (k0_off62 v187) a + S1x1024.size a ≤ S37888x1024.size a)
theorem k0_off62_inb : ∀ (v187 : BitVec 32) (k0_hw31 : k0_chk31 v187), ∀ a, (k0_off62 v187) a + S1x1024.size a ≤ S37888x1024.size a := fun v187 k0_hw31 => k0_hw31

def k0_off63 (i : grid0.Coords) : Fin 1 → Nat :=
  let arg0 : BitVec 32 := BitVec.ofNat 32 (i 0).val
  let c1024_i32 : BitVec 32 := 1024#32
  let v0 : BitVec 32 := Scalar.muli arg0 c1024_i32
  let c30_i32_133 : BitVec 32 := 30#32
  let v190 : BitVec 32 := Scalar.addi v0 c30_i32_133
  let c1_i32_134 : BitVec 32 := 1#32
  let v191 : BitVec 32 := Scalar.addi v190 c1_i32_134
  let v192 : Index := Scalar.indexCast v191
  ![v192.toNat]
def k0_off64 (v193 : BitVec 32) : Fin 2 → Nat :=
  let c0_i32_135 : BitVec 32 := 0#32
  ![v193.toNat, 0]

def k0_chk32 (v193 : BitVec 32) : Prop :=
  (∀ a, (k0_off64 v193) a + S1x1024.size a ≤ S37888x1024.size a)
theorem k0_off64_inb : ∀ (v193 : BitVec 32) (k0_hw32 : k0_chk32 v193), ∀ a, (k0_off64 v193) a + S1x1024.size a ≤ S37888x1024.size a := fun v193 k0_hw32 => k0_hw32

def k0_off65 (i : grid0.Coords) : Fin 1 → Nat :=
  let arg0 : BitVec 32 := BitVec.ofNat 32 (i 0).val
  let c1024_i32 : BitVec 32 := 1024#32
  let v0 : BitVec 32 := Scalar.muli arg0 c1024_i32
  let c32_i32 : BitVec 32 := 32#32
  let v196 : BitVec 32 := Scalar.addi v0 c32_i32
  let c0_i32_138 : BitVec 32 := 0#32
  let v197 : BitVec 32 := Scalar.addi v196 c0_i32_138
  let v198 : Index := Scalar.indexCast v197
  ![v198.toNat]
def k0_off66 (v199 : BitVec 32) : Fin 2 → Nat :=
  let c0_i32_139 : BitVec 32 := 0#32
  ![v199.toNat, 0]

def k0_chk33 (v199 : BitVec 32) : Prop :=
  (∀ a, (k0_off66 v199) a + S1x1024.size a ≤ S37888x1024.size a)
theorem k0_off66_inb : ∀ (v199 : BitVec 32) (k0_hw33 : k0_chk33 v199), ∀ a, (k0_off66 v199) a + S1x1024.size a ≤ S37888x1024.size a := fun v199 k0_hw33 => k0_hw33

def k0_off67 (i : grid0.Coords) : Fin 1 → Nat :=
  let arg0 : BitVec 32 := BitVec.ofNat 32 (i 0).val
  let c1024_i32 : BitVec 32 := 1024#32
  let v0 : BitVec 32 := Scalar.muli arg0 c1024_i32
  let c32_i32_142 : BitVec 32 := 32#32
  let v202 : BitVec 32 := Scalar.addi v0 c32_i32_142
  let c1_i32_143 : BitVec 32 := 1#32
  let v203 : BitVec 32 := Scalar.addi v202 c1_i32_143
  let v204 : Index := Scalar.indexCast v203
  ![v204.toNat]
def k0_off68 (v205 : BitVec 32) : Fin 2 → Nat :=
  let c0_i32_144 : BitVec 32 := 0#32
  ![v205.toNat, 0]

def k0_chk34 (v205 : BitVec 32) : Prop :=
  (∀ a, (k0_off68 v205) a + S1x1024.size a ≤ S37888x1024.size a)
theorem k0_off68_inb : ∀ (v205 : BitVec 32) (k0_hw34 : k0_chk34 v205), ∀ a, (k0_off68 v205) a + S1x1024.size a ≤ S37888x1024.size a := fun v205 k0_hw34 => k0_hw34

def k0_off69 (i : grid0.Coords) : Fin 1 → Nat :=
  let arg0 : BitVec 32 := BitVec.ofNat 32 (i 0).val
  let c1024_i32 : BitVec 32 := 1024#32
  let v0 : BitVec 32 := Scalar.muli arg0 c1024_i32
  let c34_i32 : BitVec 32 := 34#32
  let v208 : BitVec 32 := Scalar.addi v0 c34_i32
  let c0_i32_147 : BitVec 32 := 0#32
  let v209 : BitVec 32 := Scalar.addi v208 c0_i32_147
  let v210 : Index := Scalar.indexCast v209
  ![v210.toNat]
def k0_off70 (v211 : BitVec 32) : Fin 2 → Nat :=
  let c0_i32_148 : BitVec 32 := 0#32
  ![v211.toNat, 0]

def k0_chk35 (v211 : BitVec 32) : Prop :=
  (∀ a, (k0_off70 v211) a + S1x1024.size a ≤ S37888x1024.size a)
theorem k0_off70_inb : ∀ (v211 : BitVec 32) (k0_hw35 : k0_chk35 v211), ∀ a, (k0_off70 v211) a + S1x1024.size a ≤ S37888x1024.size a := fun v211 k0_hw35 => k0_hw35

def k0_off71 (i : grid0.Coords) : Fin 1 → Nat :=
  let arg0 : BitVec 32 := BitVec.ofNat 32 (i 0).val
  let c1024_i32 : BitVec 32 := 1024#32
  let v0 : BitVec 32 := Scalar.muli arg0 c1024_i32
  let c34_i32_150 : BitVec 32 := 34#32
  let v214 : BitVec 32 := Scalar.addi v0 c34_i32_150
  let c1_i32_151 : BitVec 32 := 1#32
  let v215 : BitVec 32 := Scalar.addi v214 c1_i32_151
  let v216 : Index := Scalar.indexCast v215
  ![v216.toNat]
def k0_off72 (v217 : BitVec 32) : Fin 2 → Nat :=
  let c0_i32_152 : BitVec 32 := 0#32
  ![v217.toNat, 0]

def k0_chk36 (v217 : BitVec 32) : Prop :=
  (∀ a, (k0_off72 v217) a + S1x1024.size a ≤ S37888x1024.size a)
theorem k0_off72_inb : ∀ (v217 : BitVec 32) (k0_hw36 : k0_chk36 v217), ∀ a, (k0_off72 v217) a + S1x1024.size a ≤ S37888x1024.size a := fun v217 k0_hw36 => k0_hw36

def k0_off73 (i : grid0.Coords) : Fin 1 → Nat :=
  let arg0 : BitVec 32 := BitVec.ofNat 32 (i 0).val
  let c1024_i32 : BitVec 32 := 1024#32
  let v0 : BitVec 32 := Scalar.muli arg0 c1024_i32
  let c36_i32 : BitVec 32 := 36#32
  let v220 : BitVec 32 := Scalar.addi v0 c36_i32
  let c0_i32_155 : BitVec 32 := 0#32
  let v221 : BitVec 32 := Scalar.addi v220 c0_i32_155
  let v222 : Index := Scalar.indexCast v221
  ![v222.toNat]
def k0_off74 (v223 : BitVec 32) : Fin 2 → Nat :=
  let c0_i32_156 : BitVec 32 := 0#32
  ![v223.toNat, 0]

def k0_chk37 (v223 : BitVec 32) : Prop :=
  (∀ a, (k0_off74 v223) a + S1x1024.size a ≤ S37888x1024.size a)
theorem k0_off74_inb : ∀ (v223 : BitVec 32) (k0_hw37 : k0_chk37 v223), ∀ a, (k0_off74 v223) a + S1x1024.size a ≤ S37888x1024.size a := fun v223 k0_hw37 => k0_hw37

def k0_off75 (i : grid0.Coords) : Fin 1 → Nat :=
  let arg0 : BitVec 32 := BitVec.ofNat 32 (i 0).val
  let c1024_i32 : BitVec 32 := 1024#32
  let v0 : BitVec 32 := Scalar.muli arg0 c1024_i32
  let c36_i32_159 : BitVec 32 := 36#32
  let v226 : BitVec 32 := Scalar.addi v0 c36_i32_159
  let c1_i32_160 : BitVec 32 := 1#32
  let v227 : BitVec 32 := Scalar.addi v226 c1_i32_160
  let v228 : Index := Scalar.indexCast v227
  ![v228.toNat]
def k0_off76 (v229 : BitVec 32) : Fin 2 → Nat :=
  let c0_i32_161 : BitVec 32 := 0#32
  ![v229.toNat, 0]

def k0_chk38 (v229 : BitVec 32) : Prop :=
  (∀ a, (k0_off76 v229) a + S1x1024.size a ≤ S37888x1024.size a)
theorem k0_off76_inb : ∀ (v229 : BitVec 32) (k0_hw38 : k0_chk38 v229), ∀ a, (k0_off76 v229) a + S1x1024.size a ≤ S37888x1024.size a := fun v229 k0_hw38 => k0_hw38

def k0_off77 (i : grid0.Coords) : Fin 1 → Nat :=
  let arg0 : BitVec 32 := BitVec.ofNat 32 (i 0).val
  let c1024_i32 : BitVec 32 := 1024#32
  let v0 : BitVec 32 := Scalar.muli arg0 c1024_i32
  let c38_i32 : BitVec 32 := 38#32
  let v232 : BitVec 32 := Scalar.addi v0 c38_i32
  let c0_i32_164 : BitVec 32 := 0#32
  let v233 : BitVec 32 := Scalar.addi v232 c0_i32_164
  let v234 : Index := Scalar.indexCast v233
  ![v234.toNat]
def k0_off78 (v235 : BitVec 32) : Fin 2 → Nat :=
  let c0_i32_165 : BitVec 32 := 0#32
  ![v235.toNat, 0]

def k0_chk39 (v235 : BitVec 32) : Prop :=
  (∀ a, (k0_off78 v235) a + S1x1024.size a ≤ S37888x1024.size a)
theorem k0_off78_inb : ∀ (v235 : BitVec 32) (k0_hw39 : k0_chk39 v235), ∀ a, (k0_off78 v235) a + S1x1024.size a ≤ S37888x1024.size a := fun v235 k0_hw39 => k0_hw39

def k0_off79 (i : grid0.Coords) : Fin 1 → Nat :=
  let arg0 : BitVec 32 := BitVec.ofNat 32 (i 0).val
  let c1024_i32 : BitVec 32 := 1024#32
  let v0 : BitVec 32 := Scalar.muli arg0 c1024_i32
  let c38_i32_167 : BitVec 32 := 38#32
  let v238 : BitVec 32 := Scalar.addi v0 c38_i32_167
  let c1_i32_168 : BitVec 32 := 1#32
  let v239 : BitVec 32 := Scalar.addi v238 c1_i32_168
  let v240 : Index := Scalar.indexCast v239
  ![v240.toNat]
def k0_off80 (v241 : BitVec 32) : Fin 2 → Nat :=
  let c0_i32_169 : BitVec 32 := 0#32
  ![v241.toNat, 0]

def k0_chk40 (v241 : BitVec 32) : Prop :=
  (∀ a, (k0_off80 v241) a + S1x1024.size a ≤ S37888x1024.size a)
theorem k0_off80_inb : ∀ (v241 : BitVec 32) (k0_hw40 : k0_chk40 v241), ∀ a, (k0_off80 v241) a + S1x1024.size a ≤ S37888x1024.size a := fun v241 k0_hw40 => k0_hw40

def k0_off81 (i : grid0.Coords) : Fin 1 → Nat :=
  let arg0 : BitVec 32 := BitVec.ofNat 32 (i 0).val
  let c1024_i32 : BitVec 32 := 1024#32
  let v0 : BitVec 32 := Scalar.muli arg0 c1024_i32
  let c40_i32 : BitVec 32 := 40#32
  let v244 : BitVec 32 := Scalar.addi v0 c40_i32
  let c0_i32_172 : BitVec 32 := 0#32
  let v245 : BitVec 32 := Scalar.addi v244 c0_i32_172
  let v246 : Index := Scalar.indexCast v245
  ![v246.toNat]
def k0_off82 (v247 : BitVec 32) : Fin 2 → Nat :=
  let c0_i32_173 : BitVec 32 := 0#32
  ![v247.toNat, 0]

def k0_chk41 (v247 : BitVec 32) : Prop :=
  (∀ a, (k0_off82 v247) a + S1x1024.size a ≤ S37888x1024.size a)
theorem k0_off82_inb : ∀ (v247 : BitVec 32) (k0_hw41 : k0_chk41 v247), ∀ a, (k0_off82 v247) a + S1x1024.size a ≤ S37888x1024.size a := fun v247 k0_hw41 => k0_hw41

def k0_off83 (i : grid0.Coords) : Fin 1 → Nat :=
  let arg0 : BitVec 32 := BitVec.ofNat 32 (i 0).val
  let c1024_i32 : BitVec 32 := 1024#32
  let v0 : BitVec 32 := Scalar.muli arg0 c1024_i32
  let c40_i32_176 : BitVec 32 := 40#32
  let v250 : BitVec 32 := Scalar.addi v0 c40_i32_176
  let c1_i32_177 : BitVec 32 := 1#32
  let v251 : BitVec 32 := Scalar.addi v250 c1_i32_177
  let v252 : Index := Scalar.indexCast v251
  ![v252.toNat]
def k0_off84 (v253 : BitVec 32) : Fin 2 → Nat :=
  let c0_i32_178 : BitVec 32 := 0#32
  ![v253.toNat, 0]

def k0_chk42 (v253 : BitVec 32) : Prop :=
  (∀ a, (k0_off84 v253) a + S1x1024.size a ≤ S37888x1024.size a)
theorem k0_off84_inb : ∀ (v253 : BitVec 32) (k0_hw42 : k0_chk42 v253), ∀ a, (k0_off84 v253) a + S1x1024.size a ≤ S37888x1024.size a := fun v253 k0_hw42 => k0_hw42

def k0_off85 (i : grid0.Coords) : Fin 1 → Nat :=
  let arg0 : BitVec 32 := BitVec.ofNat 32 (i 0).val
  let c1024_i32 : BitVec 32 := 1024#32
  let v0 : BitVec 32 := Scalar.muli arg0 c1024_i32
  let c42_i32 : BitVec 32 := 42#32
  let v256 : BitVec 32 := Scalar.addi v0 c42_i32
  let c0_i32_181 : BitVec 32 := 0#32
  let v257 : BitVec 32 := Scalar.addi v256 c0_i32_181
  let v258 : Index := Scalar.indexCast v257
  ![v258.toNat]
def k0_off86 (v259 : BitVec 32) : Fin 2 → Nat :=
  let c0_i32_182 : BitVec 32 := 0#32
  ![v259.toNat, 0]

def k0_chk43 (v259 : BitVec 32) : Prop :=
  (∀ a, (k0_off86 v259) a + S1x1024.size a ≤ S37888x1024.size a)
theorem k0_off86_inb : ∀ (v259 : BitVec 32) (k0_hw43 : k0_chk43 v259), ∀ a, (k0_off86 v259) a + S1x1024.size a ≤ S37888x1024.size a := fun v259 k0_hw43 => k0_hw43

def k0_off87 (i : grid0.Coords) : Fin 1 → Nat :=
  let arg0 : BitVec 32 := BitVec.ofNat 32 (i 0).val
  let c1024_i32 : BitVec 32 := 1024#32
  let v0 : BitVec 32 := Scalar.muli arg0 c1024_i32
  let c42_i32_184 : BitVec 32 := 42#32
  let v262 : BitVec 32 := Scalar.addi v0 c42_i32_184
  let c1_i32_185 : BitVec 32 := 1#32
  let v263 : BitVec 32 := Scalar.addi v262 c1_i32_185
  let v264 : Index := Scalar.indexCast v263
  ![v264.toNat]
def k0_off88 (v265 : BitVec 32) : Fin 2 → Nat :=
  let c0_i32_186 : BitVec 32 := 0#32
  ![v265.toNat, 0]

def k0_chk44 (v265 : BitVec 32) : Prop :=
  (∀ a, (k0_off88 v265) a + S1x1024.size a ≤ S37888x1024.size a)
theorem k0_off88_inb : ∀ (v265 : BitVec 32) (k0_hw44 : k0_chk44 v265), ∀ a, (k0_off88 v265) a + S1x1024.size a ≤ S37888x1024.size a := fun v265 k0_hw44 => k0_hw44

def k0_off89 (i : grid0.Coords) : Fin 1 → Nat :=
  let arg0 : BitVec 32 := BitVec.ofNat 32 (i 0).val
  let c1024_i32 : BitVec 32 := 1024#32
  let v0 : BitVec 32 := Scalar.muli arg0 c1024_i32
  let c44_i32 : BitVec 32 := 44#32
  let v268 : BitVec 32 := Scalar.addi v0 c44_i32
  let c0_i32_189 : BitVec 32 := 0#32
  let v269 : BitVec 32 := Scalar.addi v268 c0_i32_189
  let v270 : Index := Scalar.indexCast v269
  ![v270.toNat]
def k0_off90 (v271 : BitVec 32) : Fin 2 → Nat :=
  let c0_i32_190 : BitVec 32 := 0#32
  ![v271.toNat, 0]

def k0_chk45 (v271 : BitVec 32) : Prop :=
  (∀ a, (k0_off90 v271) a + S1x1024.size a ≤ S37888x1024.size a)
theorem k0_off90_inb : ∀ (v271 : BitVec 32) (k0_hw45 : k0_chk45 v271), ∀ a, (k0_off90 v271) a + S1x1024.size a ≤ S37888x1024.size a := fun v271 k0_hw45 => k0_hw45

def k0_off91 (i : grid0.Coords) : Fin 1 → Nat :=
  let arg0 : BitVec 32 := BitVec.ofNat 32 (i 0).val
  let c1024_i32 : BitVec 32 := 1024#32
  let v0 : BitVec 32 := Scalar.muli arg0 c1024_i32
  let c44_i32_193 : BitVec 32 := 44#32
  let v274 : BitVec 32 := Scalar.addi v0 c44_i32_193
  let c1_i32_194 : BitVec 32 := 1#32
  let v275 : BitVec 32 := Scalar.addi v274 c1_i32_194
  let v276 : Index := Scalar.indexCast v275
  ![v276.toNat]
def k0_off92 (v277 : BitVec 32) : Fin 2 → Nat :=
  let c0_i32_195 : BitVec 32 := 0#32
  ![v277.toNat, 0]

def k0_chk46 (v277 : BitVec 32) : Prop :=
  (∀ a, (k0_off92 v277) a + S1x1024.size a ≤ S37888x1024.size a)
theorem k0_off92_inb : ∀ (v277 : BitVec 32) (k0_hw46 : k0_chk46 v277), ∀ a, (k0_off92 v277) a + S1x1024.size a ≤ S37888x1024.size a := fun v277 k0_hw46 => k0_hw46

def k0_off93 (i : grid0.Coords) : Fin 1 → Nat :=
  let arg0 : BitVec 32 := BitVec.ofNat 32 (i 0).val
  let c1024_i32 : BitVec 32 := 1024#32
  let v0 : BitVec 32 := Scalar.muli arg0 c1024_i32
  let c46_i32 : BitVec 32 := 46#32
  let v280 : BitVec 32 := Scalar.addi v0 c46_i32
  let c0_i32_198 : BitVec 32 := 0#32
  let v281 : BitVec 32 := Scalar.addi v280 c0_i32_198
  let v282 : Index := Scalar.indexCast v281
  ![v282.toNat]
def k0_off94 (v283 : BitVec 32) : Fin 2 → Nat :=
  let c0_i32_199 : BitVec 32 := 0#32
  ![v283.toNat, 0]

def k0_chk47 (v283 : BitVec 32) : Prop :=
  (∀ a, (k0_off94 v283) a + S1x1024.size a ≤ S37888x1024.size a)
theorem k0_off94_inb : ∀ (v283 : BitVec 32) (k0_hw47 : k0_chk47 v283), ∀ a, (k0_off94 v283) a + S1x1024.size a ≤ S37888x1024.size a := fun v283 k0_hw47 => k0_hw47

def k0_off95 (i : grid0.Coords) : Fin 1 → Nat :=
  let arg0 : BitVec 32 := BitVec.ofNat 32 (i 0).val
  let c1024_i32 : BitVec 32 := 1024#32
  let v0 : BitVec 32 := Scalar.muli arg0 c1024_i32
  let c46_i32_201 : BitVec 32 := 46#32
  let v286 : BitVec 32 := Scalar.addi v0 c46_i32_201
  let c1_i32_202 : BitVec 32 := 1#32
  let v287 : BitVec 32 := Scalar.addi v286 c1_i32_202
  let v288 : Index := Scalar.indexCast v287
  ![v288.toNat]
def k0_off96 (v289 : BitVec 32) : Fin 2 → Nat :=
  let c0_i32_203 : BitVec 32 := 0#32
  ![v289.toNat, 0]

def k0_chk48 (v289 : BitVec 32) : Prop :=
  (∀ a, (k0_off96 v289) a + S1x1024.size a ≤ S37888x1024.size a)
theorem k0_off96_inb : ∀ (v289 : BitVec 32) (k0_hw48 : k0_chk48 v289), ∀ a, (k0_off96 v289) a + S1x1024.size a ≤ S37888x1024.size a := fun v289 k0_hw48 => k0_hw48

def k0_off97 (i : grid0.Coords) : Fin 1 → Nat :=
  let arg0 : BitVec 32 := BitVec.ofNat 32 (i 0).val
  let c1024_i32 : BitVec 32 := 1024#32
  let v0 : BitVec 32 := Scalar.muli arg0 c1024_i32
  let c48_i32 : BitVec 32 := 48#32
  let v292 : BitVec 32 := Scalar.addi v0 c48_i32
  let c0_i32_206 : BitVec 32 := 0#32
  let v293 : BitVec 32 := Scalar.addi v292 c0_i32_206
  let v294 : Index := Scalar.indexCast v293
  ![v294.toNat]
def k0_off98 (v295 : BitVec 32) : Fin 2 → Nat :=
  let c0_i32_207 : BitVec 32 := 0#32
  ![v295.toNat, 0]

def k0_chk49 (v295 : BitVec 32) : Prop :=
  (∀ a, (k0_off98 v295) a + S1x1024.size a ≤ S37888x1024.size a)
theorem k0_off98_inb : ∀ (v295 : BitVec 32) (k0_hw49 : k0_chk49 v295), ∀ a, (k0_off98 v295) a + S1x1024.size a ≤ S37888x1024.size a := fun v295 k0_hw49 => k0_hw49

def k0_off99 (i : grid0.Coords) : Fin 1 → Nat :=
  let arg0 : BitVec 32 := BitVec.ofNat 32 (i 0).val
  let c1024_i32 : BitVec 32 := 1024#32
  let v0 : BitVec 32 := Scalar.muli arg0 c1024_i32
  let c48_i32_210 : BitVec 32 := 48#32
  let v298 : BitVec 32 := Scalar.addi v0 c48_i32_210
  let c1_i32_211 : BitVec 32 := 1#32
  let v299 : BitVec 32 := Scalar.addi v298 c1_i32_211
  let v300 : Index := Scalar.indexCast v299
  ![v300.toNat]
def k0_off100 (v301 : BitVec 32) : Fin 2 → Nat :=
  let c0_i32_212 : BitVec 32 := 0#32
  ![v301.toNat, 0]

def k0_chk50 (v301 : BitVec 32) : Prop :=
  (∀ a, (k0_off100 v301) a + S1x1024.size a ≤ S37888x1024.size a)
theorem k0_off100_inb : ∀ (v301 : BitVec 32) (k0_hw50 : k0_chk50 v301), ∀ a, (k0_off100 v301) a + S1x1024.size a ≤ S37888x1024.size a := fun v301 k0_hw50 => k0_hw50

def k0_off101 (i : grid0.Coords) : Fin 1 → Nat :=
  let arg0 : BitVec 32 := BitVec.ofNat 32 (i 0).val
  let c1024_i32 : BitVec 32 := 1024#32
  let v0 : BitVec 32 := Scalar.muli arg0 c1024_i32
  let c50_i32 : BitVec 32 := 50#32
  let v304 : BitVec 32 := Scalar.addi v0 c50_i32
  let c0_i32_215 : BitVec 32 := 0#32
  let v305 : BitVec 32 := Scalar.addi v304 c0_i32_215
  let v306 : Index := Scalar.indexCast v305
  ![v306.toNat]
def k0_off102 (v307 : BitVec 32) : Fin 2 → Nat :=
  let c0_i32_216 : BitVec 32 := 0#32
  ![v307.toNat, 0]

def k0_chk51 (v307 : BitVec 32) : Prop :=
  (∀ a, (k0_off102 v307) a + S1x1024.size a ≤ S37888x1024.size a)
theorem k0_off102_inb : ∀ (v307 : BitVec 32) (k0_hw51 : k0_chk51 v307), ∀ a, (k0_off102 v307) a + S1x1024.size a ≤ S37888x1024.size a := fun v307 k0_hw51 => k0_hw51

def k0_off103 (i : grid0.Coords) : Fin 1 → Nat :=
  let arg0 : BitVec 32 := BitVec.ofNat 32 (i 0).val
  let c1024_i32 : BitVec 32 := 1024#32
  let v0 : BitVec 32 := Scalar.muli arg0 c1024_i32
  let c50_i32_218 : BitVec 32 := 50#32
  let v310 : BitVec 32 := Scalar.addi v0 c50_i32_218
  let c1_i32_219 : BitVec 32 := 1#32
  let v311 : BitVec 32 := Scalar.addi v310 c1_i32_219
  let v312 : Index := Scalar.indexCast v311
  ![v312.toNat]
def k0_off104 (v313 : BitVec 32) : Fin 2 → Nat :=
  let c0_i32_220 : BitVec 32 := 0#32
  ![v313.toNat, 0]

def k0_chk52 (v313 : BitVec 32) : Prop :=
  (∀ a, (k0_off104 v313) a + S1x1024.size a ≤ S37888x1024.size a)
theorem k0_off104_inb : ∀ (v313 : BitVec 32) (k0_hw52 : k0_chk52 v313), ∀ a, (k0_off104 v313) a + S1x1024.size a ≤ S37888x1024.size a := fun v313 k0_hw52 => k0_hw52

def k0_off105 (i : grid0.Coords) : Fin 1 → Nat :=
  let arg0 : BitVec 32 := BitVec.ofNat 32 (i 0).val
  let c1024_i32 : BitVec 32 := 1024#32
  let v0 : BitVec 32 := Scalar.muli arg0 c1024_i32
  let c52_i32 : BitVec 32 := 52#32
  let v316 : BitVec 32 := Scalar.addi v0 c52_i32
  let c0_i32_223 : BitVec 32 := 0#32
  let v317 : BitVec 32 := Scalar.addi v316 c0_i32_223
  let v318 : Index := Scalar.indexCast v317
  ![v318.toNat]
def k0_off106 (v319 : BitVec 32) : Fin 2 → Nat :=
  let c0_i32_224 : BitVec 32 := 0#32
  ![v319.toNat, 0]

def k0_chk53 (v319 : BitVec 32) : Prop :=
  (∀ a, (k0_off106 v319) a + S1x1024.size a ≤ S37888x1024.size a)
theorem k0_off106_inb : ∀ (v319 : BitVec 32) (k0_hw53 : k0_chk53 v319), ∀ a, (k0_off106 v319) a + S1x1024.size a ≤ S37888x1024.size a := fun v319 k0_hw53 => k0_hw53

def k0_off107 (i : grid0.Coords) : Fin 1 → Nat :=
  let arg0 : BitVec 32 := BitVec.ofNat 32 (i 0).val
  let c1024_i32 : BitVec 32 := 1024#32
  let v0 : BitVec 32 := Scalar.muli arg0 c1024_i32
  let c52_i32_227 : BitVec 32 := 52#32
  let v322 : BitVec 32 := Scalar.addi v0 c52_i32_227
  let c1_i32_228 : BitVec 32 := 1#32
  let v323 : BitVec 32 := Scalar.addi v322 c1_i32_228
  let v324 : Index := Scalar.indexCast v323
  ![v324.toNat]
def k0_off108 (v325 : BitVec 32) : Fin 2 → Nat :=
  let c0_i32_229 : BitVec 32 := 0#32
  ![v325.toNat, 0]

def k0_chk54 (v325 : BitVec 32) : Prop :=
  (∀ a, (k0_off108 v325) a + S1x1024.size a ≤ S37888x1024.size a)
theorem k0_off108_inb : ∀ (v325 : BitVec 32) (k0_hw54 : k0_chk54 v325), ∀ a, (k0_off108 v325) a + S1x1024.size a ≤ S37888x1024.size a := fun v325 k0_hw54 => k0_hw54

def k0_off109 (i : grid0.Coords) : Fin 1 → Nat :=
  let arg0 : BitVec 32 := BitVec.ofNat 32 (i 0).val
  let c1024_i32 : BitVec 32 := 1024#32
  let v0 : BitVec 32 := Scalar.muli arg0 c1024_i32
  let c54_i32 : BitVec 32 := 54#32
  let v328 : BitVec 32 := Scalar.addi v0 c54_i32
  let c0_i32_232 : BitVec 32 := 0#32
  let v329 : BitVec 32 := Scalar.addi v328 c0_i32_232
  let v330 : Index := Scalar.indexCast v329
  ![v330.toNat]
def k0_off110 (v331 : BitVec 32) : Fin 2 → Nat :=
  let c0_i32_233 : BitVec 32 := 0#32
  ![v331.toNat, 0]

def k0_chk55 (v331 : BitVec 32) : Prop :=
  (∀ a, (k0_off110 v331) a + S1x1024.size a ≤ S37888x1024.size a)
theorem k0_off110_inb : ∀ (v331 : BitVec 32) (k0_hw55 : k0_chk55 v331), ∀ a, (k0_off110 v331) a + S1x1024.size a ≤ S37888x1024.size a := fun v331 k0_hw55 => k0_hw55

def k0_off111 (i : grid0.Coords) : Fin 1 → Nat :=
  let arg0 : BitVec 32 := BitVec.ofNat 32 (i 0).val
  let c1024_i32 : BitVec 32 := 1024#32
  let v0 : BitVec 32 := Scalar.muli arg0 c1024_i32
  let c54_i32_235 : BitVec 32 := 54#32
  let v334 : BitVec 32 := Scalar.addi v0 c54_i32_235
  let c1_i32_236 : BitVec 32 := 1#32
  let v335 : BitVec 32 := Scalar.addi v334 c1_i32_236
  let v336 : Index := Scalar.indexCast v335
  ![v336.toNat]
def k0_off112 (v337 : BitVec 32) : Fin 2 → Nat :=
  let c0_i32_237 : BitVec 32 := 0#32
  ![v337.toNat, 0]

def k0_chk56 (v337 : BitVec 32) : Prop :=
  (∀ a, (k0_off112 v337) a + S1x1024.size a ≤ S37888x1024.size a)
theorem k0_off112_inb : ∀ (v337 : BitVec 32) (k0_hw56 : k0_chk56 v337), ∀ a, (k0_off112 v337) a + S1x1024.size a ≤ S37888x1024.size a := fun v337 k0_hw56 => k0_hw56

def k0_off113 (i : grid0.Coords) : Fin 1 → Nat :=
  let arg0 : BitVec 32 := BitVec.ofNat 32 (i 0).val
  let c1024_i32 : BitVec 32 := 1024#32
  let v0 : BitVec 32 := Scalar.muli arg0 c1024_i32
  let c56_i32 : BitVec 32 := 56#32
  let v340 : BitVec 32 := Scalar.addi v0 c56_i32
  let c0_i32_240 : BitVec 32 := 0#32
  let v341 : BitVec 32 := Scalar.addi v340 c0_i32_240
  let v342 : Index := Scalar.indexCast v341
  ![v342.toNat]
def k0_off114 (v343 : BitVec 32) : Fin 2 → Nat :=
  let c0_i32_241 : BitVec 32 := 0#32
  ![v343.toNat, 0]

def k0_chk57 (v343 : BitVec 32) : Prop :=
  (∀ a, (k0_off114 v343) a + S1x1024.size a ≤ S37888x1024.size a)
theorem k0_off114_inb : ∀ (v343 : BitVec 32) (k0_hw57 : k0_chk57 v343), ∀ a, (k0_off114 v343) a + S1x1024.size a ≤ S37888x1024.size a := fun v343 k0_hw57 => k0_hw57

def k0_off115 (i : grid0.Coords) : Fin 1 → Nat :=
  let arg0 : BitVec 32 := BitVec.ofNat 32 (i 0).val
  let c1024_i32 : BitVec 32 := 1024#32
  let v0 : BitVec 32 := Scalar.muli arg0 c1024_i32
  let c56_i32_244 : BitVec 32 := 56#32
  let v346 : BitVec 32 := Scalar.addi v0 c56_i32_244
  let c1_i32_245 : BitVec 32 := 1#32
  let v347 : BitVec 32 := Scalar.addi v346 c1_i32_245
  let v348 : Index := Scalar.indexCast v347
  ![v348.toNat]
def k0_off116 (v349 : BitVec 32) : Fin 2 → Nat :=
  let c0_i32_246 : BitVec 32 := 0#32
  ![v349.toNat, 0]

def k0_chk58 (v349 : BitVec 32) : Prop :=
  (∀ a, (k0_off116 v349) a + S1x1024.size a ≤ S37888x1024.size a)
theorem k0_off116_inb : ∀ (v349 : BitVec 32) (k0_hw58 : k0_chk58 v349), ∀ a, (k0_off116 v349) a + S1x1024.size a ≤ S37888x1024.size a := fun v349 k0_hw58 => k0_hw58

def k0_off117 (i : grid0.Coords) : Fin 1 → Nat :=
  let arg0 : BitVec 32 := BitVec.ofNat 32 (i 0).val
  let c1024_i32 : BitVec 32 := 1024#32
  let v0 : BitVec 32 := Scalar.muli arg0 c1024_i32
  let c58_i32 : BitVec 32 := 58#32
  let v352 : BitVec 32 := Scalar.addi v0 c58_i32
  let c0_i32_249 : BitVec 32 := 0#32
  let v353 : BitVec 32 := Scalar.addi v352 c0_i32_249
  let v354 : Index := Scalar.indexCast v353
  ![v354.toNat]
def k0_off118 (v355 : BitVec 32) : Fin 2 → Nat :=
  let c0_i32_250 : BitVec 32 := 0#32
  ![v355.toNat, 0]

def k0_chk59 (v355 : BitVec 32) : Prop :=
  (∀ a, (k0_off118 v355) a + S1x1024.size a ≤ S37888x1024.size a)
theorem k0_off118_inb : ∀ (v355 : BitVec 32) (k0_hw59 : k0_chk59 v355), ∀ a, (k0_off118 v355) a + S1x1024.size a ≤ S37888x1024.size a := fun v355 k0_hw59 => k0_hw59

def k0_off119 (i : grid0.Coords) : Fin 1 → Nat :=
  let arg0 : BitVec 32 := BitVec.ofNat 32 (i 0).val
  let c1024_i32 : BitVec 32 := 1024#32
  let v0 : BitVec 32 := Scalar.muli arg0 c1024_i32
  let c58_i32_252 : BitVec 32 := 58#32
  let v358 : BitVec 32 := Scalar.addi v0 c58_i32_252
  let c1_i32_253 : BitVec 32 := 1#32
  let v359 : BitVec 32 := Scalar.addi v358 c1_i32_253
  let v360 : Index := Scalar.indexCast v359
  ![v360.toNat]
def k0_off120 (v361 : BitVec 32) : Fin 2 → Nat :=
  let c0_i32_254 : BitVec 32 := 0#32
  ![v361.toNat, 0]

def k0_chk60 (v361 : BitVec 32) : Prop :=
  (∀ a, (k0_off120 v361) a + S1x1024.size a ≤ S37888x1024.size a)
theorem k0_off120_inb : ∀ (v361 : BitVec 32) (k0_hw60 : k0_chk60 v361), ∀ a, (k0_off120 v361) a + S1x1024.size a ≤ S37888x1024.size a := fun v361 k0_hw60 => k0_hw60

def k0_off121 (i : grid0.Coords) : Fin 1 → Nat :=
  let arg0 : BitVec 32 := BitVec.ofNat 32 (i 0).val
  let c1024_i32 : BitVec 32 := 1024#32
  let v0 : BitVec 32 := Scalar.muli arg0 c1024_i32
  let c60_i32 : BitVec 32 := 60#32
  let v364 : BitVec 32 := Scalar.addi v0 c60_i32
  let c0_i32_257 : BitVec 32 := 0#32
  let v365 : BitVec 32 := Scalar.addi v364 c0_i32_257
  let v366 : Index := Scalar.indexCast v365
  ![v366.toNat]
def k0_off122 (v367 : BitVec 32) : Fin 2 → Nat :=
  let c0_i32_258 : BitVec 32 := 0#32
  ![v367.toNat, 0]

def k0_chk61 (v367 : BitVec 32) : Prop :=
  (∀ a, (k0_off122 v367) a + S1x1024.size a ≤ S37888x1024.size a)
theorem k0_off122_inb : ∀ (v367 : BitVec 32) (k0_hw61 : k0_chk61 v367), ∀ a, (k0_off122 v367) a + S1x1024.size a ≤ S37888x1024.size a := fun v367 k0_hw61 => k0_hw61

def k0_off123 (i : grid0.Coords) : Fin 1 → Nat :=
  let arg0 : BitVec 32 := BitVec.ofNat 32 (i 0).val
  let c1024_i32 : BitVec 32 := 1024#32
  let v0 : BitVec 32 := Scalar.muli arg0 c1024_i32
  let c60_i32_261 : BitVec 32 := 60#32
  let v370 : BitVec 32 := Scalar.addi v0 c60_i32_261
  let c1_i32_262 : BitVec 32 := 1#32
  let v371 : BitVec 32 := Scalar.addi v370 c1_i32_262
  let v372 : Index := Scalar.indexCast v371
  ![v372.toNat]
def k0_off124 (v373 : BitVec 32) : Fin 2 → Nat :=
  let c0_i32_263 : BitVec 32 := 0#32
  ![v373.toNat, 0]

def k0_chk62 (v373 : BitVec 32) : Prop :=
  (∀ a, (k0_off124 v373) a + S1x1024.size a ≤ S37888x1024.size a)
theorem k0_off124_inb : ∀ (v373 : BitVec 32) (k0_hw62 : k0_chk62 v373), ∀ a, (k0_off124 v373) a + S1x1024.size a ≤ S37888x1024.size a := fun v373 k0_hw62 => k0_hw62

def k0_off125 (i : grid0.Coords) : Fin 1 → Nat :=
  let arg0 : BitVec 32 := BitVec.ofNat 32 (i 0).val
  let c1024_i32 : BitVec 32 := 1024#32
  let v0 : BitVec 32 := Scalar.muli arg0 c1024_i32
  let c62_i32 : BitVec 32 := 62#32
  let v376 : BitVec 32 := Scalar.addi v0 c62_i32
  let c0_i32_266 : BitVec 32 := 0#32
  let v377 : BitVec 32 := Scalar.addi v376 c0_i32_266
  let v378 : Index := Scalar.indexCast v377
  ![v378.toNat]
def k0_off126 (v379 : BitVec 32) : Fin 2 → Nat :=
  let c0_i32_267 : BitVec 32 := 0#32
  ![v379.toNat, 0]

def k0_chk63 (v379 : BitVec 32) : Prop :=
  (∀ a, (k0_off126 v379) a + S1x1024.size a ≤ S37888x1024.size a)
theorem k0_off126_inb : ∀ (v379 : BitVec 32) (k0_hw63 : k0_chk63 v379), ∀ a, (k0_off126 v379) a + S1x1024.size a ≤ S37888x1024.size a := fun v379 k0_hw63 => k0_hw63

def k0_off127 (i : grid0.Coords) : Fin 1 → Nat :=
  let arg0 : BitVec 32 := BitVec.ofNat 32 (i 0).val
  let c1024_i32 : BitVec 32 := 1024#32
  let v0 : BitVec 32 := Scalar.muli arg0 c1024_i32
  let c62_i32_269 : BitVec 32 := 62#32
  let v382 : BitVec 32 := Scalar.addi v0 c62_i32_269
  let c1_i32_270 : BitVec 32 := 1#32
  let v383 : BitVec 32 := Scalar.addi v382 c1_i32_270
  let v384 : Index := Scalar.indexCast v383
  ![v384.toNat]
def k0_off128 (v385 : BitVec 32) : Fin 2 → Nat :=
  let c0_i32_271 : BitVec 32 := 0#32
  ![v385.toNat, 0]

def k0_chk64 (v385 : BitVec 32) : Prop :=
  (∀ a, (k0_off128 v385) a + S1x1024.size a ≤ S37888x1024.size a)
theorem k0_off128_inb : ∀ (v385 : BitVec 32) (k0_hw64 : k0_chk64 v385), ∀ a, (k0_off128 v385) a + S1x1024.size a ≤ S37888x1024.size a := fun v385 k0_hw64 => k0_hw64

def k0_off129 (i : grid0.Coords) : Fin 1 → Nat :=
  let arg0 : BitVec 32 := BitVec.ofNat 32 (i 0).val
  let c1024_i32 : BitVec 32 := 1024#32
  let v0 : BitVec 32 := Scalar.muli arg0 c1024_i32
  let c64_i32 : BitVec 32 := 64#32
  let v388 : BitVec 32 := Scalar.addi v0 c64_i32
  let c0_i32_274 : BitVec 32 := 0#32
  let v389 : BitVec 32 := Scalar.addi v388 c0_i32_274
  let v390 : Index := Scalar.indexCast v389
  ![v390.toNat]
def k0_off130 (v391 : BitVec 32) : Fin 2 → Nat :=
  let c0_i32_275 : BitVec 32 := 0#32
  ![v391.toNat, 0]

def k0_chk65 (v391 : BitVec 32) : Prop :=
  (∀ a, (k0_off130 v391) a + S1x1024.size a ≤ S37888x1024.size a)
theorem k0_off130_inb : ∀ (v391 : BitVec 32) (k0_hw65 : k0_chk65 v391), ∀ a, (k0_off130 v391) a + S1x1024.size a ≤ S37888x1024.size a := fun v391 k0_hw65 => k0_hw65

def k0_off131 (i : grid0.Coords) : Fin 1 → Nat :=
  let arg0 : BitVec 32 := BitVec.ofNat 32 (i 0).val
  let c1024_i32 : BitVec 32 := 1024#32
  let v0 : BitVec 32 := Scalar.muli arg0 c1024_i32
  let c64_i32_278 : BitVec 32 := 64#32
  let v394 : BitVec 32 := Scalar.addi v0 c64_i32_278
  let c1_i32_279 : BitVec 32 := 1#32
  let v395 : BitVec 32 := Scalar.addi v394 c1_i32_279
  let v396 : Index := Scalar.indexCast v395
  ![v396.toNat]
def k0_off132 (v397 : BitVec 32) : Fin 2 → Nat :=
  let c0_i32_280 : BitVec 32 := 0#32
  ![v397.toNat, 0]

def k0_chk66 (v397 : BitVec 32) : Prop :=
  (∀ a, (k0_off132 v397) a + S1x1024.size a ≤ S37888x1024.size a)
theorem k0_off132_inb : ∀ (v397 : BitVec 32) (k0_hw66 : k0_chk66 v397), ∀ a, (k0_off132 v397) a + S1x1024.size a ≤ S37888x1024.size a := fun v397 k0_hw66 => k0_hw66

def k0_off133 (i : grid0.Coords) : Fin 1 → Nat :=
  let arg0 : BitVec 32 := BitVec.ofNat 32 (i 0).val
  let c1024_i32 : BitVec 32 := 1024#32
  let v0 : BitVec 32 := Scalar.muli arg0 c1024_i32
  let c66_i32 : BitVec 32 := 66#32
  let v400 : BitVec 32 := Scalar.addi v0 c66_i32
  let c0_i32_283 : BitVec 32 := 0#32
  let v401 : BitVec 32 := Scalar.addi v400 c0_i32_283
  let v402 : Index := Scalar.indexCast v401
  ![v402.toNat]
def k0_off134 (v403 : BitVec 32) : Fin 2 → Nat :=
  let c0_i32_284 : BitVec 32 := 0#32
  ![v403.toNat, 0]

def k0_chk67 (v403 : BitVec 32) : Prop :=
  (∀ a, (k0_off134 v403) a + S1x1024.size a ≤ S37888x1024.size a)
theorem k0_off134_inb : ∀ (v403 : BitVec 32) (k0_hw67 : k0_chk67 v403), ∀ a, (k0_off134 v403) a + S1x1024.size a ≤ S37888x1024.size a := fun v403 k0_hw67 => k0_hw67

def k0_off135 (i : grid0.Coords) : Fin 1 → Nat :=
  let arg0 : BitVec 32 := BitVec.ofNat 32 (i 0).val
  let c1024_i32 : BitVec 32 := 1024#32
  let v0 : BitVec 32 := Scalar.muli arg0 c1024_i32
  let c66_i32_286 : BitVec 32 := 66#32
  let v406 : BitVec 32 := Scalar.addi v0 c66_i32_286
  let c1_i32_287 : BitVec 32 := 1#32
  let v407 : BitVec 32 := Scalar.addi v406 c1_i32_287
  let v408 : Index := Scalar.indexCast v407
  ![v408.toNat]
def k0_off136 (v409 : BitVec 32) : Fin 2 → Nat :=
  let c0_i32_288 : BitVec 32 := 0#32
  ![v409.toNat, 0]

def k0_chk68 (v409 : BitVec 32) : Prop :=
  (∀ a, (k0_off136 v409) a + S1x1024.size a ≤ S37888x1024.size a)
theorem k0_off136_inb : ∀ (v409 : BitVec 32) (k0_hw68 : k0_chk68 v409), ∀ a, (k0_off136 v409) a + S1x1024.size a ≤ S37888x1024.size a := fun v409 k0_hw68 => k0_hw68

def k0_off137 (i : grid0.Coords) : Fin 1 → Nat :=
  let arg0 : BitVec 32 := BitVec.ofNat 32 (i 0).val
  let c1024_i32 : BitVec 32 := 1024#32
  let v0 : BitVec 32 := Scalar.muli arg0 c1024_i32
  let c68_i32 : BitVec 32 := 68#32
  let v412 : BitVec 32 := Scalar.addi v0 c68_i32
  let c0_i32_291 : BitVec 32 := 0#32
  let v413 : BitVec 32 := Scalar.addi v412 c0_i32_291
  let v414 : Index := Scalar.indexCast v413
  ![v414.toNat]
def k0_off138 (v415 : BitVec 32) : Fin 2 → Nat :=
  let c0_i32_292 : BitVec 32 := 0#32
  ![v415.toNat, 0]

def k0_chk69 (v415 : BitVec 32) : Prop :=
  (∀ a, (k0_off138 v415) a + S1x1024.size a ≤ S37888x1024.size a)
theorem k0_off138_inb : ∀ (v415 : BitVec 32) (k0_hw69 : k0_chk69 v415), ∀ a, (k0_off138 v415) a + S1x1024.size a ≤ S37888x1024.size a := fun v415 k0_hw69 => k0_hw69

def k0_off139 (i : grid0.Coords) : Fin 1 → Nat :=
  let arg0 : BitVec 32 := BitVec.ofNat 32 (i 0).val
  let c1024_i32 : BitVec 32 := 1024#32
  let v0 : BitVec 32 := Scalar.muli arg0 c1024_i32
  let c68_i32_295 : BitVec 32 := 68#32
  let v418 : BitVec 32 := Scalar.addi v0 c68_i32_295
  let c1_i32_296 : BitVec 32 := 1#32
  let v419 : BitVec 32 := Scalar.addi v418 c1_i32_296
  let v420 : Index := Scalar.indexCast v419
  ![v420.toNat]
def k0_off140 (v421 : BitVec 32) : Fin 2 → Nat :=
  let c0_i32_297 : BitVec 32 := 0#32
  ![v421.toNat, 0]

def k0_chk70 (v421 : BitVec 32) : Prop :=
  (∀ a, (k0_off140 v421) a + S1x1024.size a ≤ S37888x1024.size a)
theorem k0_off140_inb : ∀ (v421 : BitVec 32) (k0_hw70 : k0_chk70 v421), ∀ a, (k0_off140 v421) a + S1x1024.size a ≤ S37888x1024.size a := fun v421 k0_hw70 => k0_hw70

def k0_off141 (i : grid0.Coords) : Fin 1 → Nat :=
  let arg0 : BitVec 32 := BitVec.ofNat 32 (i 0).val
  let c1024_i32 : BitVec 32 := 1024#32
  let v0 : BitVec 32 := Scalar.muli arg0 c1024_i32
  let c70_i32 : BitVec 32 := 70#32
  let v424 : BitVec 32 := Scalar.addi v0 c70_i32
  let c0_i32_300 : BitVec 32 := 0#32
  let v425 : BitVec 32 := Scalar.addi v424 c0_i32_300
  let v426 : Index := Scalar.indexCast v425
  ![v426.toNat]
def k0_off142 (v427 : BitVec 32) : Fin 2 → Nat :=
  let c0_i32_301 : BitVec 32 := 0#32
  ![v427.toNat, 0]

def k0_chk71 (v427 : BitVec 32) : Prop :=
  (∀ a, (k0_off142 v427) a + S1x1024.size a ≤ S37888x1024.size a)
theorem k0_off142_inb : ∀ (v427 : BitVec 32) (k0_hw71 : k0_chk71 v427), ∀ a, (k0_off142 v427) a + S1x1024.size a ≤ S37888x1024.size a := fun v427 k0_hw71 => k0_hw71

def k0_off143 (i : grid0.Coords) : Fin 1 → Nat :=
  let arg0 : BitVec 32 := BitVec.ofNat 32 (i 0).val
  let c1024_i32 : BitVec 32 := 1024#32
  let v0 : BitVec 32 := Scalar.muli arg0 c1024_i32
  let c70_i32_303 : BitVec 32 := 70#32
  let v430 : BitVec 32 := Scalar.addi v0 c70_i32_303
  let c1_i32_304 : BitVec 32 := 1#32
  let v431 : BitVec 32 := Scalar.addi v430 c1_i32_304
  let v432 : Index := Scalar.indexCast v431
  ![v432.toNat]
def k0_off144 (v433 : BitVec 32) : Fin 2 → Nat :=
  let c0_i32_305 : BitVec 32 := 0#32
  ![v433.toNat, 0]

def k0_chk72 (v433 : BitVec 32) : Prop :=
  (∀ a, (k0_off144 v433) a + S1x1024.size a ≤ S37888x1024.size a)
theorem k0_off144_inb : ∀ (v433 : BitVec 32) (k0_hw72 : k0_chk72 v433), ∀ a, (k0_off144 v433) a + S1x1024.size a ≤ S37888x1024.size a := fun v433 k0_hw72 => k0_hw72

def k0_off145 (i : grid0.Coords) : Fin 1 → Nat :=
  let arg0 : BitVec 32 := BitVec.ofNat 32 (i 0).val
  let c1024_i32 : BitVec 32 := 1024#32
  let v0 : BitVec 32 := Scalar.muli arg0 c1024_i32
  let c72_i32 : BitVec 32 := 72#32
  let v436 : BitVec 32 := Scalar.addi v0 c72_i32
  let c0_i32_308 : BitVec 32 := 0#32
  let v437 : BitVec 32 := Scalar.addi v436 c0_i32_308
  let v438 : Index := Scalar.indexCast v437
  ![v438.toNat]
def k0_off146 (v439 : BitVec 32) : Fin 2 → Nat :=
  let c0_i32_309 : BitVec 32 := 0#32
  ![v439.toNat, 0]

def k0_chk73 (v439 : BitVec 32) : Prop :=
  (∀ a, (k0_off146 v439) a + S1x1024.size a ≤ S37888x1024.size a)
theorem k0_off146_inb : ∀ (v439 : BitVec 32) (k0_hw73 : k0_chk73 v439), ∀ a, (k0_off146 v439) a + S1x1024.size a ≤ S37888x1024.size a := fun v439 k0_hw73 => k0_hw73

def k0_off147 (i : grid0.Coords) : Fin 1 → Nat :=
  let arg0 : BitVec 32 := BitVec.ofNat 32 (i 0).val
  let c1024_i32 : BitVec 32 := 1024#32
  let v0 : BitVec 32 := Scalar.muli arg0 c1024_i32
  let c72_i32_312 : BitVec 32 := 72#32
  let v442 : BitVec 32 := Scalar.addi v0 c72_i32_312
  let c1_i32_313 : BitVec 32 := 1#32
  let v443 : BitVec 32 := Scalar.addi v442 c1_i32_313
  let v444 : Index := Scalar.indexCast v443
  ![v444.toNat]
def k0_off148 (v445 : BitVec 32) : Fin 2 → Nat :=
  let c0_i32_314 : BitVec 32 := 0#32
  ![v445.toNat, 0]

def k0_chk74 (v445 : BitVec 32) : Prop :=
  (∀ a, (k0_off148 v445) a + S1x1024.size a ≤ S37888x1024.size a)
theorem k0_off148_inb : ∀ (v445 : BitVec 32) (k0_hw74 : k0_chk74 v445), ∀ a, (k0_off148 v445) a + S1x1024.size a ≤ S37888x1024.size a := fun v445 k0_hw74 => k0_hw74

def k0_off149 (i : grid0.Coords) : Fin 1 → Nat :=
  let arg0 : BitVec 32 := BitVec.ofNat 32 (i 0).val
  let c1024_i32 : BitVec 32 := 1024#32
  let v0 : BitVec 32 := Scalar.muli arg0 c1024_i32
  let c74_i32 : BitVec 32 := 74#32
  let v448 : BitVec 32 := Scalar.addi v0 c74_i32
  let c0_i32_317 : BitVec 32 := 0#32
  let v449 : BitVec 32 := Scalar.addi v448 c0_i32_317
  let v450 : Index := Scalar.indexCast v449
  ![v450.toNat]
def k0_off150 (v451 : BitVec 32) : Fin 2 → Nat :=
  let c0_i32_318 : BitVec 32 := 0#32
  ![v451.toNat, 0]

def k0_chk75 (v451 : BitVec 32) : Prop :=
  (∀ a, (k0_off150 v451) a + S1x1024.size a ≤ S37888x1024.size a)
theorem k0_off150_inb : ∀ (v451 : BitVec 32) (k0_hw75 : k0_chk75 v451), ∀ a, (k0_off150 v451) a + S1x1024.size a ≤ S37888x1024.size a := fun v451 k0_hw75 => k0_hw75

def k0_off151 (i : grid0.Coords) : Fin 1 → Nat :=
  let arg0 : BitVec 32 := BitVec.ofNat 32 (i 0).val
  let c1024_i32 : BitVec 32 := 1024#32
  let v0 : BitVec 32 := Scalar.muli arg0 c1024_i32
  let c74_i32_320 : BitVec 32 := 74#32
  let v454 : BitVec 32 := Scalar.addi v0 c74_i32_320
  let c1_i32_321 : BitVec 32 := 1#32
  let v455 : BitVec 32 := Scalar.addi v454 c1_i32_321
  let v456 : Index := Scalar.indexCast v455
  ![v456.toNat]
def k0_off152 (v457 : BitVec 32) : Fin 2 → Nat :=
  let c0_i32_322 : BitVec 32 := 0#32
  ![v457.toNat, 0]

def k0_chk76 (v457 : BitVec 32) : Prop :=
  (∀ a, (k0_off152 v457) a + S1x1024.size a ≤ S37888x1024.size a)
theorem k0_off152_inb : ∀ (v457 : BitVec 32) (k0_hw76 : k0_chk76 v457), ∀ a, (k0_off152 v457) a + S1x1024.size a ≤ S37888x1024.size a := fun v457 k0_hw76 => k0_hw76

def k0_off153 (i : grid0.Coords) : Fin 1 → Nat :=
  let arg0 : BitVec 32 := BitVec.ofNat 32 (i 0).val
  let c1024_i32 : BitVec 32 := 1024#32
  let v0 : BitVec 32 := Scalar.muli arg0 c1024_i32
  let c76_i32 : BitVec 32 := 76#32
  let v460 : BitVec 32 := Scalar.addi v0 c76_i32
  let c0_i32_325 : BitVec 32 := 0#32
  let v461 : BitVec 32 := Scalar.addi v460 c0_i32_325
  let v462 : Index := Scalar.indexCast v461
  ![v462.toNat]
def k0_off154 (v463 : BitVec 32) : Fin 2 → Nat :=
  let c0_i32_326 : BitVec 32 := 0#32
  ![v463.toNat, 0]

def k0_chk77 (v463 : BitVec 32) : Prop :=
  (∀ a, (k0_off154 v463) a + S1x1024.size a ≤ S37888x1024.size a)
theorem k0_off154_inb : ∀ (v463 : BitVec 32) (k0_hw77 : k0_chk77 v463), ∀ a, (k0_off154 v463) a + S1x1024.size a ≤ S37888x1024.size a := fun v463 k0_hw77 => k0_hw77

def k0_off155 (i : grid0.Coords) : Fin 1 → Nat :=
  let arg0 : BitVec 32 := BitVec.ofNat 32 (i 0).val
  let c1024_i32 : BitVec 32 := 1024#32
  let v0 : BitVec 32 := Scalar.muli arg0 c1024_i32
  let c76_i32_329 : BitVec 32 := 76#32
  let v466 : BitVec 32 := Scalar.addi v0 c76_i32_329
  let c1_i32_330 : BitVec 32 := 1#32
  let v467 : BitVec 32 := Scalar.addi v466 c1_i32_330
  let v468 : Index := Scalar.indexCast v467
  ![v468.toNat]
def k0_off156 (v469 : BitVec 32) : Fin 2 → Nat :=
  let c0_i32_331 : BitVec 32 := 0#32
  ![v469.toNat, 0]

def k0_chk78 (v469 : BitVec 32) : Prop :=
  (∀ a, (k0_off156 v469) a + S1x1024.size a ≤ S37888x1024.size a)
theorem k0_off156_inb : ∀ (v469 : BitVec 32) (k0_hw78 : k0_chk78 v469), ∀ a, (k0_off156 v469) a + S1x1024.size a ≤ S37888x1024.size a := fun v469 k0_hw78 => k0_hw78

def k0_off157 (i : grid0.Coords) : Fin 1 → Nat :=
  let arg0 : BitVec 32 := BitVec.ofNat 32 (i 0).val
  let c1024_i32 : BitVec 32 := 1024#32
  let v0 : BitVec 32 := Scalar.muli arg0 c1024_i32
  let c78_i32 : BitVec 32 := 78#32
  let v472 : BitVec 32 := Scalar.addi v0 c78_i32
  let c0_i32_334 : BitVec 32 := 0#32
  let v473 : BitVec 32 := Scalar.addi v472 c0_i32_334
  let v474 : Index := Scalar.indexCast v473
  ![v474.toNat]
def k0_off158 (v475 : BitVec 32) : Fin 2 → Nat :=
  let c0_i32_335 : BitVec 32 := 0#32
  ![v475.toNat, 0]

def k0_chk79 (v475 : BitVec 32) : Prop :=
  (∀ a, (k0_off158 v475) a + S1x1024.size a ≤ S37888x1024.size a)
theorem k0_off158_inb : ∀ (v475 : BitVec 32) (k0_hw79 : k0_chk79 v475), ∀ a, (k0_off158 v475) a + S1x1024.size a ≤ S37888x1024.size a := fun v475 k0_hw79 => k0_hw79

def k0_off159 (i : grid0.Coords) : Fin 1 → Nat :=
  let arg0 : BitVec 32 := BitVec.ofNat 32 (i 0).val
  let c1024_i32 : BitVec 32 := 1024#32
  let v0 : BitVec 32 := Scalar.muli arg0 c1024_i32
  let c78_i32_337 : BitVec 32 := 78#32
  let v478 : BitVec 32 := Scalar.addi v0 c78_i32_337
  let c1_i32_338 : BitVec 32 := 1#32
  let v479 : BitVec 32 := Scalar.addi v478 c1_i32_338
  let v480 : Index := Scalar.indexCast v479
  ![v480.toNat]
def k0_off160 (v481 : BitVec 32) : Fin 2 → Nat :=
  let c0_i32_339 : BitVec 32 := 0#32
  ![v481.toNat, 0]

def k0_chk80 (v481 : BitVec 32) : Prop :=
  (∀ a, (k0_off160 v481) a + S1x1024.size a ≤ S37888x1024.size a)
theorem k0_off160_inb : ∀ (v481 : BitVec 32) (k0_hw80 : k0_chk80 v481), ∀ a, (k0_off160 v481) a + S1x1024.size a ≤ S37888x1024.size a := fun v481 k0_hw80 => k0_hw80

def k0_off161 (i : grid0.Coords) : Fin 1 → Nat :=
  let arg0 : BitVec 32 := BitVec.ofNat 32 (i 0).val
  let c1024_i32 : BitVec 32 := 1024#32
  let v0 : BitVec 32 := Scalar.muli arg0 c1024_i32
  let c80_i32 : BitVec 32 := 80#32
  let v484 : BitVec 32 := Scalar.addi v0 c80_i32
  let c0_i32_342 : BitVec 32 := 0#32
  let v485 : BitVec 32 := Scalar.addi v484 c0_i32_342
  let v486 : Index := Scalar.indexCast v485
  ![v486.toNat]
def k0_off162 (v487 : BitVec 32) : Fin 2 → Nat :=
  let c0_i32_343 : BitVec 32 := 0#32
  ![v487.toNat, 0]

def k0_chk81 (v487 : BitVec 32) : Prop :=
  (∀ a, (k0_off162 v487) a + S1x1024.size a ≤ S37888x1024.size a)
theorem k0_off162_inb : ∀ (v487 : BitVec 32) (k0_hw81 : k0_chk81 v487), ∀ a, (k0_off162 v487) a + S1x1024.size a ≤ S37888x1024.size a := fun v487 k0_hw81 => k0_hw81

def k0_off163 (i : grid0.Coords) : Fin 1 → Nat :=
  let arg0 : BitVec 32 := BitVec.ofNat 32 (i 0).val
  let c1024_i32 : BitVec 32 := 1024#32
  let v0 : BitVec 32 := Scalar.muli arg0 c1024_i32
  let c80_i32_346 : BitVec 32 := 80#32
  let v490 : BitVec 32 := Scalar.addi v0 c80_i32_346
  let c1_i32_347 : BitVec 32 := 1#32
  let v491 : BitVec 32 := Scalar.addi v490 c1_i32_347
  let v492 : Index := Scalar.indexCast v491
  ![v492.toNat]
def k0_off164 (v493 : BitVec 32) : Fin 2 → Nat :=
  let c0_i32_348 : BitVec 32 := 0#32
  ![v493.toNat, 0]

def k0_chk82 (v493 : BitVec 32) : Prop :=
  (∀ a, (k0_off164 v493) a + S1x1024.size a ≤ S37888x1024.size a)
theorem k0_off164_inb : ∀ (v493 : BitVec 32) (k0_hw82 : k0_chk82 v493), ∀ a, (k0_off164 v493) a + S1x1024.size a ≤ S37888x1024.size a := fun v493 k0_hw82 => k0_hw82

def k0_off165 (i : grid0.Coords) : Fin 1 → Nat :=
  let arg0 : BitVec 32 := BitVec.ofNat 32 (i 0).val
  let c1024_i32 : BitVec 32 := 1024#32
  let v0 : BitVec 32 := Scalar.muli arg0 c1024_i32
  let c82_i32 : BitVec 32 := 82#32
  let v496 : BitVec 32 := Scalar.addi v0 c82_i32
  let c0_i32_351 : BitVec 32 := 0#32
  let v497 : BitVec 32 := Scalar.addi v496 c0_i32_351
  let v498 : Index := Scalar.indexCast v497
  ![v498.toNat]
def k0_off166 (v499 : BitVec 32) : Fin 2 → Nat :=
  let c0_i32_352 : BitVec 32 := 0#32
  ![v499.toNat, 0]

def k0_chk83 (v499 : BitVec 32) : Prop :=
  (∀ a, (k0_off166 v499) a + S1x1024.size a ≤ S37888x1024.size a)
theorem k0_off166_inb : ∀ (v499 : BitVec 32) (k0_hw83 : k0_chk83 v499), ∀ a, (k0_off166 v499) a + S1x1024.size a ≤ S37888x1024.size a := fun v499 k0_hw83 => k0_hw83

def k0_off167 (i : grid0.Coords) : Fin 1 → Nat :=
  let arg0 : BitVec 32 := BitVec.ofNat 32 (i 0).val
  let c1024_i32 : BitVec 32 := 1024#32
  let v0 : BitVec 32 := Scalar.muli arg0 c1024_i32
  let c82_i32_354 : BitVec 32 := 82#32
  let v502 : BitVec 32 := Scalar.addi v0 c82_i32_354
  let c1_i32_355 : BitVec 32 := 1#32
  let v503 : BitVec 32 := Scalar.addi v502 c1_i32_355
  let v504 : Index := Scalar.indexCast v503
  ![v504.toNat]
def k0_off168 (v505 : BitVec 32) : Fin 2 → Nat :=
  let c0_i32_356 : BitVec 32 := 0#32
  ![v505.toNat, 0]

def k0_chk84 (v505 : BitVec 32) : Prop :=
  (∀ a, (k0_off168 v505) a + S1x1024.size a ≤ S37888x1024.size a)
theorem k0_off168_inb : ∀ (v505 : BitVec 32) (k0_hw84 : k0_chk84 v505), ∀ a, (k0_off168 v505) a + S1x1024.size a ≤ S37888x1024.size a := fun v505 k0_hw84 => k0_hw84

def k0_off169 (i : grid0.Coords) : Fin 1 → Nat :=
  let arg0 : BitVec 32 := BitVec.ofNat 32 (i 0).val
  let c1024_i32 : BitVec 32 := 1024#32
  let v0 : BitVec 32 := Scalar.muli arg0 c1024_i32
  let c84_i32 : BitVec 32 := 84#32
  let v508 : BitVec 32 := Scalar.addi v0 c84_i32
  let c0_i32_359 : BitVec 32 := 0#32
  let v509 : BitVec 32 := Scalar.addi v508 c0_i32_359
  let v510 : Index := Scalar.indexCast v509
  ![v510.toNat]
def k0_off170 (v511 : BitVec 32) : Fin 2 → Nat :=
  let c0_i32_360 : BitVec 32 := 0#32
  ![v511.toNat, 0]

def k0_chk85 (v511 : BitVec 32) : Prop :=
  (∀ a, (k0_off170 v511) a + S1x1024.size a ≤ S37888x1024.size a)
theorem k0_off170_inb : ∀ (v511 : BitVec 32) (k0_hw85 : k0_chk85 v511), ∀ a, (k0_off170 v511) a + S1x1024.size a ≤ S37888x1024.size a := fun v511 k0_hw85 => k0_hw85

def k0_off171 (i : grid0.Coords) : Fin 1 → Nat :=
  let arg0 : BitVec 32 := BitVec.ofNat 32 (i 0).val
  let c1024_i32 : BitVec 32 := 1024#32
  let v0 : BitVec 32 := Scalar.muli arg0 c1024_i32
  let c84_i32_363 : BitVec 32 := 84#32
  let v514 : BitVec 32 := Scalar.addi v0 c84_i32_363
  let c1_i32_364 : BitVec 32 := 1#32
  let v515 : BitVec 32 := Scalar.addi v514 c1_i32_364
  let v516 : Index := Scalar.indexCast v515
  ![v516.toNat]
def k0_off172 (v517 : BitVec 32) : Fin 2 → Nat :=
  let c0_i32_365 : BitVec 32 := 0#32
  ![v517.toNat, 0]

def k0_chk86 (v517 : BitVec 32) : Prop :=
  (∀ a, (k0_off172 v517) a + S1x1024.size a ≤ S37888x1024.size a)
theorem k0_off172_inb : ∀ (v517 : BitVec 32) (k0_hw86 : k0_chk86 v517), ∀ a, (k0_off172 v517) a + S1x1024.size a ≤ S37888x1024.size a := fun v517 k0_hw86 => k0_hw86

def k0_off173 (i : grid0.Coords) : Fin 1 → Nat :=
  let arg0 : BitVec 32 := BitVec.ofNat 32 (i 0).val
  let c1024_i32 : BitVec 32 := 1024#32
  let v0 : BitVec 32 := Scalar.muli arg0 c1024_i32
  let c86_i32 : BitVec 32 := 86#32
  let v520 : BitVec 32 := Scalar.addi v0 c86_i32
  let c0_i32_368 : BitVec 32 := 0#32
  let v521 : BitVec 32 := Scalar.addi v520 c0_i32_368
  let v522 : Index := Scalar.indexCast v521
  ![v522.toNat]
def k0_off174 (v523 : BitVec 32) : Fin 2 → Nat :=
  let c0_i32_369 : BitVec 32 := 0#32
  ![v523.toNat, 0]

def k0_chk87 (v523 : BitVec 32) : Prop :=
  (∀ a, (k0_off174 v523) a + S1x1024.size a ≤ S37888x1024.size a)
theorem k0_off174_inb : ∀ (v523 : BitVec 32) (k0_hw87 : k0_chk87 v523), ∀ a, (k0_off174 v523) a + S1x1024.size a ≤ S37888x1024.size a := fun v523 k0_hw87 => k0_hw87

def k0_off175 (i : grid0.Coords) : Fin 1 → Nat :=
  let arg0 : BitVec 32 := BitVec.ofNat 32 (i 0).val
  let c1024_i32 : BitVec 32 := 1024#32
  let v0 : BitVec 32 := Scalar.muli arg0 c1024_i32
  let c86_i32_371 : BitVec 32 := 86#32
  let v526 : BitVec 32 := Scalar.addi v0 c86_i32_371
  let c1_i32_372 : BitVec 32 := 1#32
  let v527 : BitVec 32 := Scalar.addi v526 c1_i32_372
  let v528 : Index := Scalar.indexCast v527
  ![v528.toNat]
def k0_off176 (v529 : BitVec 32) : Fin 2 → Nat :=
  let c0_i32_373 : BitVec 32 := 0#32
  ![v529.toNat, 0]

def k0_chk88 (v529 : BitVec 32) : Prop :=
  (∀ a, (k0_off176 v529) a + S1x1024.size a ≤ S37888x1024.size a)
theorem k0_off176_inb : ∀ (v529 : BitVec 32) (k0_hw88 : k0_chk88 v529), ∀ a, (k0_off176 v529) a + S1x1024.size a ≤ S37888x1024.size a := fun v529 k0_hw88 => k0_hw88

def k0_off177 (i : grid0.Coords) : Fin 1 → Nat :=
  let arg0 : BitVec 32 := BitVec.ofNat 32 (i 0).val
  let c1024_i32 : BitVec 32 := 1024#32
  let v0 : BitVec 32 := Scalar.muli arg0 c1024_i32
  let c88_i32 : BitVec 32 := 88#32
  let v532 : BitVec 32 := Scalar.addi v0 c88_i32
  let c0_i32_376 : BitVec 32 := 0#32
  let v533 : BitVec 32 := Scalar.addi v532 c0_i32_376
  let v534 : Index := Scalar.indexCast v533
  ![v534.toNat]
def k0_off178 (v535 : BitVec 32) : Fin 2 → Nat :=
  let c0_i32_377 : BitVec 32 := 0#32
  ![v535.toNat, 0]

def k0_chk89 (v535 : BitVec 32) : Prop :=
  (∀ a, (k0_off178 v535) a + S1x1024.size a ≤ S37888x1024.size a)
theorem k0_off178_inb : ∀ (v535 : BitVec 32) (k0_hw89 : k0_chk89 v535), ∀ a, (k0_off178 v535) a + S1x1024.size a ≤ S37888x1024.size a := fun v535 k0_hw89 => k0_hw89

def k0_off179 (i : grid0.Coords) : Fin 1 → Nat :=
  let arg0 : BitVec 32 := BitVec.ofNat 32 (i 0).val
  let c1024_i32 : BitVec 32 := 1024#32
  let v0 : BitVec 32 := Scalar.muli arg0 c1024_i32
  let c88_i32_380 : BitVec 32 := 88#32
  let v538 : BitVec 32 := Scalar.addi v0 c88_i32_380
  let c1_i32_381 : BitVec 32 := 1#32
  let v539 : BitVec 32 := Scalar.addi v538 c1_i32_381
  let v540 : Index := Scalar.indexCast v539
  ![v540.toNat]
def k0_off180 (v541 : BitVec 32) : Fin 2 → Nat :=
  let c0_i32_382 : BitVec 32 := 0#32
  ![v541.toNat, 0]

def k0_chk90 (v541 : BitVec 32) : Prop :=
  (∀ a, (k0_off180 v541) a + S1x1024.size a ≤ S37888x1024.size a)
theorem k0_off180_inb : ∀ (v541 : BitVec 32) (k0_hw90 : k0_chk90 v541), ∀ a, (k0_off180 v541) a + S1x1024.size a ≤ S37888x1024.size a := fun v541 k0_hw90 => k0_hw90

def k0_off181 (i : grid0.Coords) : Fin 1 → Nat :=
  let arg0 : BitVec 32 := BitVec.ofNat 32 (i 0).val
  let c1024_i32 : BitVec 32 := 1024#32
  let v0 : BitVec 32 := Scalar.muli arg0 c1024_i32
  let c90_i32 : BitVec 32 := 90#32
  let v544 : BitVec 32 := Scalar.addi v0 c90_i32
  let c0_i32_385 : BitVec 32 := 0#32
  let v545 : BitVec 32 := Scalar.addi v544 c0_i32_385
  let v546 : Index := Scalar.indexCast v545
  ![v546.toNat]
def k0_off182 (v547 : BitVec 32) : Fin 2 → Nat :=
  let c0_i32_386 : BitVec 32 := 0#32
  ![v547.toNat, 0]

def k0_chk91 (v547 : BitVec 32) : Prop :=
  (∀ a, (k0_off182 v547) a + S1x1024.size a ≤ S37888x1024.size a)
theorem k0_off182_inb : ∀ (v547 : BitVec 32) (k0_hw91 : k0_chk91 v547), ∀ a, (k0_off182 v547) a + S1x1024.size a ≤ S37888x1024.size a := fun v547 k0_hw91 => k0_hw91

def k0_off183 (i : grid0.Coords) : Fin 1 → Nat :=
  let arg0 : BitVec 32 := BitVec.ofNat 32 (i 0).val
  let c1024_i32 : BitVec 32 := 1024#32
  let v0 : BitVec 32 := Scalar.muli arg0 c1024_i32
  let c90_i32_388 : BitVec 32 := 90#32
  let v550 : BitVec 32 := Scalar.addi v0 c90_i32_388
  let c1_i32_389 : BitVec 32 := 1#32
  let v551 : BitVec 32 := Scalar.addi v550 c1_i32_389
  let v552 : Index := Scalar.indexCast v551
  ![v552.toNat]
def k0_off184 (v553 : BitVec 32) : Fin 2 → Nat :=
  let c0_i32_390 : BitVec 32 := 0#32
  ![v553.toNat, 0]

def k0_chk92 (v553 : BitVec 32) : Prop :=
  (∀ a, (k0_off184 v553) a + S1x1024.size a ≤ S37888x1024.size a)
theorem k0_off184_inb : ∀ (v553 : BitVec 32) (k0_hw92 : k0_chk92 v553), ∀ a, (k0_off184 v553) a + S1x1024.size a ≤ S37888x1024.size a := fun v553 k0_hw92 => k0_hw92

def k0_off185 (i : grid0.Coords) : Fin 1 → Nat :=
  let arg0 : BitVec 32 := BitVec.ofNat 32 (i 0).val
  let c1024_i32 : BitVec 32 := 1024#32
  let v0 : BitVec 32 := Scalar.muli arg0 c1024_i32
  let c92_i32 : BitVec 32 := 92#32
  let v556 : BitVec 32 := Scalar.addi v0 c92_i32
  let c0_i32_393 : BitVec 32 := 0#32
  let v557 : BitVec 32 := Scalar.addi v556 c0_i32_393
  let v558 : Index := Scalar.indexCast v557
  ![v558.toNat]
def k0_off186 (v559 : BitVec 32) : Fin 2 → Nat :=
  let c0_i32_394 : BitVec 32 := 0#32
  ![v559.toNat, 0]

def k0_chk93 (v559 : BitVec 32) : Prop :=
  (∀ a, (k0_off186 v559) a + S1x1024.size a ≤ S37888x1024.size a)
theorem k0_off186_inb : ∀ (v559 : BitVec 32) (k0_hw93 : k0_chk93 v559), ∀ a, (k0_off186 v559) a + S1x1024.size a ≤ S37888x1024.size a := fun v559 k0_hw93 => k0_hw93

def k0_off187 (i : grid0.Coords) : Fin 1 → Nat :=
  let arg0 : BitVec 32 := BitVec.ofNat 32 (i 0).val
  let c1024_i32 : BitVec 32 := 1024#32
  let v0 : BitVec 32 := Scalar.muli arg0 c1024_i32
  let c92_i32_397 : BitVec 32 := 92#32
  let v562 : BitVec 32 := Scalar.addi v0 c92_i32_397
  let c1_i32_398 : BitVec 32 := 1#32
  let v563 : BitVec 32 := Scalar.addi v562 c1_i32_398
  let v564 : Index := Scalar.indexCast v563
  ![v564.toNat]
def k0_off188 (v565 : BitVec 32) : Fin 2 → Nat :=
  let c0_i32_399 : BitVec 32 := 0#32
  ![v565.toNat, 0]

def k0_chk94 (v565 : BitVec 32) : Prop :=
  (∀ a, (k0_off188 v565) a + S1x1024.size a ≤ S37888x1024.size a)
theorem k0_off188_inb : ∀ (v565 : BitVec 32) (k0_hw94 : k0_chk94 v565), ∀ a, (k0_off188 v565) a + S1x1024.size a ≤ S37888x1024.size a := fun v565 k0_hw94 => k0_hw94

def k0_off189 (i : grid0.Coords) : Fin 1 → Nat :=
  let arg0 : BitVec 32 := BitVec.ofNat 32 (i 0).val
  let c1024_i32 : BitVec 32 := 1024#32
  let v0 : BitVec 32 := Scalar.muli arg0 c1024_i32
  let c94_i32 : BitVec 32 := 94#32
  let v568 : BitVec 32 := Scalar.addi v0 c94_i32
  let c0_i32_402 : BitVec 32 := 0#32
  let v569 : BitVec 32 := Scalar.addi v568 c0_i32_402
  let v570 : Index := Scalar.indexCast v569
  ![v570.toNat]
def k0_off190 (v571 : BitVec 32) : Fin 2 → Nat :=
  let c0_i32_403 : BitVec 32 := 0#32
  ![v571.toNat, 0]

def k0_chk95 (v571 : BitVec 32) : Prop :=
  (∀ a, (k0_off190 v571) a + S1x1024.size a ≤ S37888x1024.size a)
theorem k0_off190_inb : ∀ (v571 : BitVec 32) (k0_hw95 : k0_chk95 v571), ∀ a, (k0_off190 v571) a + S1x1024.size a ≤ S37888x1024.size a := fun v571 k0_hw95 => k0_hw95

def k0_off191 (i : grid0.Coords) : Fin 1 → Nat :=
  let arg0 : BitVec 32 := BitVec.ofNat 32 (i 0).val
  let c1024_i32 : BitVec 32 := 1024#32
  let v0 : BitVec 32 := Scalar.muli arg0 c1024_i32
  let c94_i32_405 : BitVec 32 := 94#32
  let v574 : BitVec 32 := Scalar.addi v0 c94_i32_405
  let c1_i32_406 : BitVec 32 := 1#32
  let v575 : BitVec 32 := Scalar.addi v574 c1_i32_406
  let v576 : Index := Scalar.indexCast v575
  ![v576.toNat]
def k0_off192 (v577 : BitVec 32) : Fin 2 → Nat :=
  let c0_i32_407 : BitVec 32 := 0#32
  ![v577.toNat, 0]

def k0_chk96 (v577 : BitVec 32) : Prop :=
  (∀ a, (k0_off192 v577) a + S1x1024.size a ≤ S37888x1024.size a)
theorem k0_off192_inb : ∀ (v577 : BitVec 32) (k0_hw96 : k0_chk96 v577), ∀ a, (k0_off192 v577) a + S1x1024.size a ≤ S37888x1024.size a := fun v577 k0_hw96 => k0_hw96

def k0_off193 (i : grid0.Coords) : Fin 1 → Nat :=
  let arg0 : BitVec 32 := BitVec.ofNat 32 (i 0).val
  let c1024_i32 : BitVec 32 := 1024#32
  let v0 : BitVec 32 := Scalar.muli arg0 c1024_i32
  let c96_i32 : BitVec 32 := 96#32
  let v580 : BitVec 32 := Scalar.addi v0 c96_i32
  let c0_i32_410 : BitVec 32 := 0#32
  let v581 : BitVec 32 := Scalar.addi v580 c0_i32_410
  let v582 : Index := Scalar.indexCast v581
  ![v582.toNat]
def k0_off194 (v583 : BitVec 32) : Fin 2 → Nat :=
  let c0_i32_411 : BitVec 32 := 0#32
  ![v583.toNat, 0]

def k0_chk97 (v583 : BitVec 32) : Prop :=
  (∀ a, (k0_off194 v583) a + S1x1024.size a ≤ S37888x1024.size a)
theorem k0_off194_inb : ∀ (v583 : BitVec 32) (k0_hw97 : k0_chk97 v583), ∀ a, (k0_off194 v583) a + S1x1024.size a ≤ S37888x1024.size a := fun v583 k0_hw97 => k0_hw97

def k0_off195 (i : grid0.Coords) : Fin 1 → Nat :=
  let arg0 : BitVec 32 := BitVec.ofNat 32 (i 0).val
  let c1024_i32 : BitVec 32 := 1024#32
  let v0 : BitVec 32 := Scalar.muli arg0 c1024_i32
  let c96_i32_414 : BitVec 32 := 96#32
  let v586 : BitVec 32 := Scalar.addi v0 c96_i32_414
  let c1_i32_415 : BitVec 32 := 1#32
  let v587 : BitVec 32 := Scalar.addi v586 c1_i32_415
  let v588 : Index := Scalar.indexCast v587
  ![v588.toNat]
def k0_off196 (v589 : BitVec 32) : Fin 2 → Nat :=
  let c0_i32_416 : BitVec 32 := 0#32
  ![v589.toNat, 0]

def k0_chk98 (v589 : BitVec 32) : Prop :=
  (∀ a, (k0_off196 v589) a + S1x1024.size a ≤ S37888x1024.size a)
theorem k0_off196_inb : ∀ (v589 : BitVec 32) (k0_hw98 : k0_chk98 v589), ∀ a, (k0_off196 v589) a + S1x1024.size a ≤ S37888x1024.size a := fun v589 k0_hw98 => k0_hw98

def k0_off197 (i : grid0.Coords) : Fin 1 → Nat :=
  let arg0 : BitVec 32 := BitVec.ofNat 32 (i 0).val
  let c1024_i32 : BitVec 32 := 1024#32
  let v0 : BitVec 32 := Scalar.muli arg0 c1024_i32
  let c98_i32 : BitVec 32 := 98#32
  let v592 : BitVec 32 := Scalar.addi v0 c98_i32
  let c0_i32_419 : BitVec 32 := 0#32
  let v593 : BitVec 32 := Scalar.addi v592 c0_i32_419
  let v594 : Index := Scalar.indexCast v593
  ![v594.toNat]
def k0_off198 (v595 : BitVec 32) : Fin 2 → Nat :=
  let c0_i32_420 : BitVec 32 := 0#32
  ![v595.toNat, 0]

def k0_chk99 (v595 : BitVec 32) : Prop :=
  (∀ a, (k0_off198 v595) a + S1x1024.size a ≤ S37888x1024.size a)
theorem k0_off198_inb : ∀ (v595 : BitVec 32) (k0_hw99 : k0_chk99 v595), ∀ a, (k0_off198 v595) a + S1x1024.size a ≤ S37888x1024.size a := fun v595 k0_hw99 => k0_hw99

def k0_off199 (i : grid0.Coords) : Fin 1 → Nat :=
  let arg0 : BitVec 32 := BitVec.ofNat 32 (i 0).val
  let c1024_i32 : BitVec 32 := 1024#32
  let v0 : BitVec 32 := Scalar.muli arg0 c1024_i32
  let c98_i32_422 : BitVec 32 := 98#32
  let v598 : BitVec 32 := Scalar.addi v0 c98_i32_422
  let c1_i32_423 : BitVec 32 := 1#32
  let v599 : BitVec 32 := Scalar.addi v598 c1_i32_423
  let v600 : Index := Scalar.indexCast v599
  ![v600.toNat]
def k0_off200 (v601 : BitVec 32) : Fin 2 → Nat :=
  let c0_i32_424 : BitVec 32 := 0#32
  ![v601.toNat, 0]

def k0_chk100 (v601 : BitVec 32) : Prop :=
  (∀ a, (k0_off200 v601) a + S1x1024.size a ≤ S37888x1024.size a)
theorem k0_off200_inb : ∀ (v601 : BitVec 32) (k0_hw100 : k0_chk100 v601), ∀ a, (k0_off200 v601) a + S1x1024.size a ≤ S37888x1024.size a := fun v601 k0_hw100 => k0_hw100

def k0_off201 (i : grid0.Coords) : Fin 1 → Nat :=
  let arg0 : BitVec 32 := BitVec.ofNat 32 (i 0).val
  let c1024_i32 : BitVec 32 := 1024#32
  let v0 : BitVec 32 := Scalar.muli arg0 c1024_i32
  let c100_i32 : BitVec 32 := 100#32
  let v604 : BitVec 32 := Scalar.addi v0 c100_i32
  let c0_i32_427 : BitVec 32 := 0#32
  let v605 : BitVec 32 := Scalar.addi v604 c0_i32_427
  let v606 : Index := Scalar.indexCast v605
  ![v606.toNat]
def k0_off202 (v607 : BitVec 32) : Fin 2 → Nat :=
  let c0_i32_428 : BitVec 32 := 0#32
  ![v607.toNat, 0]

def k0_chk101 (v607 : BitVec 32) : Prop :=
  (∀ a, (k0_off202 v607) a + S1x1024.size a ≤ S37888x1024.size a)
theorem k0_off202_inb : ∀ (v607 : BitVec 32) (k0_hw101 : k0_chk101 v607), ∀ a, (k0_off202 v607) a + S1x1024.size a ≤ S37888x1024.size a := fun v607 k0_hw101 => k0_hw101

def k0_off203 (i : grid0.Coords) : Fin 1 → Nat :=
  let arg0 : BitVec 32 := BitVec.ofNat 32 (i 0).val
  let c1024_i32 : BitVec 32 := 1024#32
  let v0 : BitVec 32 := Scalar.muli arg0 c1024_i32
  let c100_i32_431 : BitVec 32 := 100#32
  let v610 : BitVec 32 := Scalar.addi v0 c100_i32_431
  let c1_i32_432 : BitVec 32 := 1#32
  let v611 : BitVec 32 := Scalar.addi v610 c1_i32_432
  let v612 : Index := Scalar.indexCast v611
  ![v612.toNat]
def k0_off204 (v613 : BitVec 32) : Fin 2 → Nat :=
  let c0_i32_433 : BitVec 32 := 0#32
  ![v613.toNat, 0]

def k0_chk102 (v613 : BitVec 32) : Prop :=
  (∀ a, (k0_off204 v613) a + S1x1024.size a ≤ S37888x1024.size a)
theorem k0_off204_inb : ∀ (v613 : BitVec 32) (k0_hw102 : k0_chk102 v613), ∀ a, (k0_off204 v613) a + S1x1024.size a ≤ S37888x1024.size a := fun v613 k0_hw102 => k0_hw102

def k0_off205 (i : grid0.Coords) : Fin 1 → Nat :=
  let arg0 : BitVec 32 := BitVec.ofNat 32 (i 0).val
  let c1024_i32 : BitVec 32 := 1024#32
  let v0 : BitVec 32 := Scalar.muli arg0 c1024_i32
  let c102_i32 : BitVec 32 := 102#32
  let v616 : BitVec 32 := Scalar.addi v0 c102_i32
  let c0_i32_436 : BitVec 32 := 0#32
  let v617 : BitVec 32 := Scalar.addi v616 c0_i32_436
  let v618 : Index := Scalar.indexCast v617
  ![v618.toNat]
def k0_off206 (v619 : BitVec 32) : Fin 2 → Nat :=
  let c0_i32_437 : BitVec 32 := 0#32
  ![v619.toNat, 0]

def k0_chk103 (v619 : BitVec 32) : Prop :=
  (∀ a, (k0_off206 v619) a + S1x1024.size a ≤ S37888x1024.size a)
theorem k0_off206_inb : ∀ (v619 : BitVec 32) (k0_hw103 : k0_chk103 v619), ∀ a, (k0_off206 v619) a + S1x1024.size a ≤ S37888x1024.size a := fun v619 k0_hw103 => k0_hw103

def k0_off207 (i : grid0.Coords) : Fin 1 → Nat :=
  let arg0 : BitVec 32 := BitVec.ofNat 32 (i 0).val
  let c1024_i32 : BitVec 32 := 1024#32
  let v0 : BitVec 32 := Scalar.muli arg0 c1024_i32
  let c102_i32_439 : BitVec 32 := 102#32
  let v622 : BitVec 32 := Scalar.addi v0 c102_i32_439
  let c1_i32_440 : BitVec 32 := 1#32
  let v623 : BitVec 32 := Scalar.addi v622 c1_i32_440
  let v624 : Index := Scalar.indexCast v623
  ![v624.toNat]
def k0_off208 (v625 : BitVec 32) : Fin 2 → Nat :=
  let c0_i32_441 : BitVec 32 := 0#32
  ![v625.toNat, 0]

def k0_chk104 (v625 : BitVec 32) : Prop :=
  (∀ a, (k0_off208 v625) a + S1x1024.size a ≤ S37888x1024.size a)
theorem k0_off208_inb : ∀ (v625 : BitVec 32) (k0_hw104 : k0_chk104 v625), ∀ a, (k0_off208 v625) a + S1x1024.size a ≤ S37888x1024.size a := fun v625 k0_hw104 => k0_hw104

def k0_off209 (i : grid0.Coords) : Fin 1 → Nat :=
  let arg0 : BitVec 32 := BitVec.ofNat 32 (i 0).val
  let c1024_i32 : BitVec 32 := 1024#32
  let v0 : BitVec 32 := Scalar.muli arg0 c1024_i32
  let c104_i32 : BitVec 32 := 104#32
  let v628 : BitVec 32 := Scalar.addi v0 c104_i32
  let c0_i32_444 : BitVec 32 := 0#32
  let v629 : BitVec 32 := Scalar.addi v628 c0_i32_444
  let v630 : Index := Scalar.indexCast v629
  ![v630.toNat]
def k0_off210 (v631 : BitVec 32) : Fin 2 → Nat :=
  let c0_i32_445 : BitVec 32 := 0#32
  ![v631.toNat, 0]

def k0_chk105 (v631 : BitVec 32) : Prop :=
  (∀ a, (k0_off210 v631) a + S1x1024.size a ≤ S37888x1024.size a)
theorem k0_off210_inb : ∀ (v631 : BitVec 32) (k0_hw105 : k0_chk105 v631), ∀ a, (k0_off210 v631) a + S1x1024.size a ≤ S37888x1024.size a := fun v631 k0_hw105 => k0_hw105

def k0_off211 (i : grid0.Coords) : Fin 1 → Nat :=
  let arg0 : BitVec 32 := BitVec.ofNat 32 (i 0).val
  let c1024_i32 : BitVec 32 := 1024#32
  let v0 : BitVec 32 := Scalar.muli arg0 c1024_i32
  let c104_i32_448 : BitVec 32 := 104#32
  let v634 : BitVec 32 := Scalar.addi v0 c104_i32_448
  let c1_i32_449 : BitVec 32 := 1#32
  let v635 : BitVec 32 := Scalar.addi v634 c1_i32_449
  let v636 : Index := Scalar.indexCast v635
  ![v636.toNat]
def k0_off212 (v637 : BitVec 32) : Fin 2 → Nat :=
  let c0_i32_450 : BitVec 32 := 0#32
  ![v637.toNat, 0]

def k0_chk106 (v637 : BitVec 32) : Prop :=
  (∀ a, (k0_off212 v637) a + S1x1024.size a ≤ S37888x1024.size a)
theorem k0_off212_inb : ∀ (v637 : BitVec 32) (k0_hw106 : k0_chk106 v637), ∀ a, (k0_off212 v637) a + S1x1024.size a ≤ S37888x1024.size a := fun v637 k0_hw106 => k0_hw106

def k0_off213 (i : grid0.Coords) : Fin 1 → Nat :=
  let arg0 : BitVec 32 := BitVec.ofNat 32 (i 0).val
  let c1024_i32 : BitVec 32 := 1024#32
  let v0 : BitVec 32 := Scalar.muli arg0 c1024_i32
  let c106_i32 : BitVec 32 := 106#32
  let v640 : BitVec 32 := Scalar.addi v0 c106_i32
  let c0_i32_453 : BitVec 32 := 0#32
  let v641 : BitVec 32 := Scalar.addi v640 c0_i32_453
  let v642 : Index := Scalar.indexCast v641
  ![v642.toNat]
def k0_off214 (v643 : BitVec 32) : Fin 2 → Nat :=
  let c0_i32_454 : BitVec 32 := 0#32
  ![v643.toNat, 0]

def k0_chk107 (v643 : BitVec 32) : Prop :=
  (∀ a, (k0_off214 v643) a + S1x1024.size a ≤ S37888x1024.size a)
theorem k0_off214_inb : ∀ (v643 : BitVec 32) (k0_hw107 : k0_chk107 v643), ∀ a, (k0_off214 v643) a + S1x1024.size a ≤ S37888x1024.size a := fun v643 k0_hw107 => k0_hw107

def k0_off215 (i : grid0.Coords) : Fin 1 → Nat :=
  let arg0 : BitVec 32 := BitVec.ofNat 32 (i 0).val
  let c1024_i32 : BitVec 32 := 1024#32
  let v0 : BitVec 32 := Scalar.muli arg0 c1024_i32
  let c106_i32_456 : BitVec 32 := 106#32
  let v646 : BitVec 32 := Scalar.addi v0 c106_i32_456
  let c1_i32_457 : BitVec 32 := 1#32
  let v647 : BitVec 32 := Scalar.addi v646 c1_i32_457
  let v648 : Index := Scalar.indexCast v647
  ![v648.toNat]
def k0_off216 (v649 : BitVec 32) : Fin 2 → Nat :=
  let c0_i32_458 : BitVec 32 := 0#32
  ![v649.toNat, 0]

def k0_chk108 (v649 : BitVec 32) : Prop :=
  (∀ a, (k0_off216 v649) a + S1x1024.size a ≤ S37888x1024.size a)
theorem k0_off216_inb : ∀ (v649 : BitVec 32) (k0_hw108 : k0_chk108 v649), ∀ a, (k0_off216 v649) a + S1x1024.size a ≤ S37888x1024.size a := fun v649 k0_hw108 => k0_hw108

def k0_off217 (i : grid0.Coords) : Fin 1 → Nat :=
  let arg0 : BitVec 32 := BitVec.ofNat 32 (i 0).val
  let c1024_i32 : BitVec 32 := 1024#32
  let v0 : BitVec 32 := Scalar.muli arg0 c1024_i32
  let c108_i32 : BitVec 32 := 108#32
  let v652 : BitVec 32 := Scalar.addi v0 c108_i32
  let c0_i32_461 : BitVec 32 := 0#32
  let v653 : BitVec 32 := Scalar.addi v652 c0_i32_461
  let v654 : Index := Scalar.indexCast v653
  ![v654.toNat]
def k0_off218 (v655 : BitVec 32) : Fin 2 → Nat :=
  let c0_i32_462 : BitVec 32 := 0#32
  ![v655.toNat, 0]

def k0_chk109 (v655 : BitVec 32) : Prop :=
  (∀ a, (k0_off218 v655) a + S1x1024.size a ≤ S37888x1024.size a)
theorem k0_off218_inb : ∀ (v655 : BitVec 32) (k0_hw109 : k0_chk109 v655), ∀ a, (k0_off218 v655) a + S1x1024.size a ≤ S37888x1024.size a := fun v655 k0_hw109 => k0_hw109

def k0_off219 (i : grid0.Coords) : Fin 1 → Nat :=
  let arg0 : BitVec 32 := BitVec.ofNat 32 (i 0).val
  let c1024_i32 : BitVec 32 := 1024#32
  let v0 : BitVec 32 := Scalar.muli arg0 c1024_i32
  let c108_i32_465 : BitVec 32 := 108#32
  let v658 : BitVec 32 := Scalar.addi v0 c108_i32_465
  let c1_i32_466 : BitVec 32 := 1#32
  let v659 : BitVec 32 := Scalar.addi v658 c1_i32_466
  let v660 : Index := Scalar.indexCast v659
  ![v660.toNat]
def k0_off220 (v661 : BitVec 32) : Fin 2 → Nat :=
  let c0_i32_467 : BitVec 32 := 0#32
  ![v661.toNat, 0]

def k0_chk110 (v661 : BitVec 32) : Prop :=
  (∀ a, (k0_off220 v661) a + S1x1024.size a ≤ S37888x1024.size a)
theorem k0_off220_inb : ∀ (v661 : BitVec 32) (k0_hw110 : k0_chk110 v661), ∀ a, (k0_off220 v661) a + S1x1024.size a ≤ S37888x1024.size a := fun v661 k0_hw110 => k0_hw110

def k0_off221 (i : grid0.Coords) : Fin 1 → Nat :=
  let arg0 : BitVec 32 := BitVec.ofNat 32 (i 0).val
  let c1024_i32 : BitVec 32 := 1024#32
  let v0 : BitVec 32 := Scalar.muli arg0 c1024_i32
  let c110_i32 : BitVec 32 := 110#32
  let v664 : BitVec 32 := Scalar.addi v0 c110_i32
  let c0_i32_470 : BitVec 32 := 0#32
  let v665 : BitVec 32 := Scalar.addi v664 c0_i32_470
  let v666 : Index := Scalar.indexCast v665
  ![v666.toNat]
def k0_off222 (v667 : BitVec 32) : Fin 2 → Nat :=
  let c0_i32_471 : BitVec 32 := 0#32
  ![v667.toNat, 0]

def k0_chk111 (v667 : BitVec 32) : Prop :=
  (∀ a, (k0_off222 v667) a + S1x1024.size a ≤ S37888x1024.size a)
theorem k0_off222_inb : ∀ (v667 : BitVec 32) (k0_hw111 : k0_chk111 v667), ∀ a, (k0_off222 v667) a + S1x1024.size a ≤ S37888x1024.size a := fun v667 k0_hw111 => k0_hw111

def k0_off223 (i : grid0.Coords) : Fin 1 → Nat :=
  let arg0 : BitVec 32 := BitVec.ofNat 32 (i 0).val
  let c1024_i32 : BitVec 32 := 1024#32
  let v0 : BitVec 32 := Scalar.muli arg0 c1024_i32
  let c110_i32_473 : BitVec 32 := 110#32
  let v670 : BitVec 32 := Scalar.addi v0 c110_i32_473
  let c1_i32_474 : BitVec 32 := 1#32
  let v671 : BitVec 32 := Scalar.addi v670 c1_i32_474
  let v672 : Index := Scalar.indexCast v671
  ![v672.toNat]
def k0_off224 (v673 : BitVec 32) : Fin 2 → Nat :=
  let c0_i32_475 : BitVec 32 := 0#32
  ![v673.toNat, 0]

def k0_chk112 (v673 : BitVec 32) : Prop :=
  (∀ a, (k0_off224 v673) a + S1x1024.size a ≤ S37888x1024.size a)
theorem k0_off224_inb : ∀ (v673 : BitVec 32) (k0_hw112 : k0_chk112 v673), ∀ a, (k0_off224 v673) a + S1x1024.size a ≤ S37888x1024.size a := fun v673 k0_hw112 => k0_hw112

def k0_off225 (i : grid0.Coords) : Fin 1 → Nat :=
  let arg0 : BitVec 32 := BitVec.ofNat 32 (i 0).val
  let c1024_i32 : BitVec 32 := 1024#32
  let v0 : BitVec 32 := Scalar.muli arg0 c1024_i32
  let c112_i32 : BitVec 32 := 112#32
  let v676 : BitVec 32 := Scalar.addi v0 c112_i32
  let c0_i32_478 : BitVec 32 := 0#32
  let v677 : BitVec 32 := Scalar.addi v676 c0_i32_478
  let v678 : Index := Scalar.indexCast v677
  ![v678.toNat]
def k0_off226 (v679 : BitVec 32) : Fin 2 → Nat :=
  let c0_i32_479 : BitVec 32 := 0#32
  ![v679.toNat, 0]

def k0_chk113 (v679 : BitVec 32) : Prop :=
  (∀ a, (k0_off226 v679) a + S1x1024.size a ≤ S37888x1024.size a)
theorem k0_off226_inb : ∀ (v679 : BitVec 32) (k0_hw113 : k0_chk113 v679), ∀ a, (k0_off226 v679) a + S1x1024.size a ≤ S37888x1024.size a := fun v679 k0_hw113 => k0_hw113

def k0_off227 (i : grid0.Coords) : Fin 1 → Nat :=
  let arg0 : BitVec 32 := BitVec.ofNat 32 (i 0).val
  let c1024_i32 : BitVec 32 := 1024#32
  let v0 : BitVec 32 := Scalar.muli arg0 c1024_i32
  let c112_i32_482 : BitVec 32 := 112#32
  let v682 : BitVec 32 := Scalar.addi v0 c112_i32_482
  let c1_i32_483 : BitVec 32 := 1#32
  let v683 : BitVec 32 := Scalar.addi v682 c1_i32_483
  let v684 : Index := Scalar.indexCast v683
  ![v684.toNat]
def k0_off228 (v685 : BitVec 32) : Fin 2 → Nat :=
  let c0_i32_484 : BitVec 32 := 0#32
  ![v685.toNat, 0]

def k0_chk114 (v685 : BitVec 32) : Prop :=
  (∀ a, (k0_off228 v685) a + S1x1024.size a ≤ S37888x1024.size a)
theorem k0_off228_inb : ∀ (v685 : BitVec 32) (k0_hw114 : k0_chk114 v685), ∀ a, (k0_off228 v685) a + S1x1024.size a ≤ S37888x1024.size a := fun v685 k0_hw114 => k0_hw114

def k0_off229 (i : grid0.Coords) : Fin 1 → Nat :=
  let arg0 : BitVec 32 := BitVec.ofNat 32 (i 0).val
  let c1024_i32 : BitVec 32 := 1024#32
  let v0 : BitVec 32 := Scalar.muli arg0 c1024_i32
  let c114_i32 : BitVec 32 := 114#32
  let v688 : BitVec 32 := Scalar.addi v0 c114_i32
  let c0_i32_487 : BitVec 32 := 0#32
  let v689 : BitVec 32 := Scalar.addi v688 c0_i32_487
  let v690 : Index := Scalar.indexCast v689
  ![v690.toNat]
def k0_off230 (v691 : BitVec 32) : Fin 2 → Nat :=
  let c0_i32_488 : BitVec 32 := 0#32
  ![v691.toNat, 0]

def k0_chk115 (v691 : BitVec 32) : Prop :=
  (∀ a, (k0_off230 v691) a + S1x1024.size a ≤ S37888x1024.size a)
theorem k0_off230_inb : ∀ (v691 : BitVec 32) (k0_hw115 : k0_chk115 v691), ∀ a, (k0_off230 v691) a + S1x1024.size a ≤ S37888x1024.size a := fun v691 k0_hw115 => k0_hw115

def k0_off231 (i : grid0.Coords) : Fin 1 → Nat :=
  let arg0 : BitVec 32 := BitVec.ofNat 32 (i 0).val
  let c1024_i32 : BitVec 32 := 1024#32
  let v0 : BitVec 32 := Scalar.muli arg0 c1024_i32
  let c114_i32_490 : BitVec 32 := 114#32
  let v694 : BitVec 32 := Scalar.addi v0 c114_i32_490
  let c1_i32_491 : BitVec 32 := 1#32
  let v695 : BitVec 32 := Scalar.addi v694 c1_i32_491
  let v696 : Index := Scalar.indexCast v695
  ![v696.toNat]
def k0_off232 (v697 : BitVec 32) : Fin 2 → Nat :=
  let c0_i32_492 : BitVec 32 := 0#32
  ![v697.toNat, 0]

def k0_chk116 (v697 : BitVec 32) : Prop :=
  (∀ a, (k0_off232 v697) a + S1x1024.size a ≤ S37888x1024.size a)
theorem k0_off232_inb : ∀ (v697 : BitVec 32) (k0_hw116 : k0_chk116 v697), ∀ a, (k0_off232 v697) a + S1x1024.size a ≤ S37888x1024.size a := fun v697 k0_hw116 => k0_hw116

def k0_off233 (i : grid0.Coords) : Fin 1 → Nat :=
  let arg0 : BitVec 32 := BitVec.ofNat 32 (i 0).val
  let c1024_i32 : BitVec 32 := 1024#32
  let v0 : BitVec 32 := Scalar.muli arg0 c1024_i32
  let c116_i32 : BitVec 32 := 116#32
  let v700 : BitVec 32 := Scalar.addi v0 c116_i32
  let c0_i32_495 : BitVec 32 := 0#32
  let v701 : BitVec 32 := Scalar.addi v700 c0_i32_495
  let v702 : Index := Scalar.indexCast v701
  ![v702.toNat]
def k0_off234 (v703 : BitVec 32) : Fin 2 → Nat :=
  let c0_i32_496 : BitVec 32 := 0#32
  ![v703.toNat, 0]

def k0_chk117 (v703 : BitVec 32) : Prop :=
  (∀ a, (k0_off234 v703) a + S1x1024.size a ≤ S37888x1024.size a)
theorem k0_off234_inb : ∀ (v703 : BitVec 32) (k0_hw117 : k0_chk117 v703), ∀ a, (k0_off234 v703) a + S1x1024.size a ≤ S37888x1024.size a := fun v703 k0_hw117 => k0_hw117

def k0_off235 (i : grid0.Coords) : Fin 1 → Nat :=
  let arg0 : BitVec 32 := BitVec.ofNat 32 (i 0).val
  let c1024_i32 : BitVec 32 := 1024#32
  let v0 : BitVec 32 := Scalar.muli arg0 c1024_i32
  let c116_i32_499 : BitVec 32 := 116#32
  let v706 : BitVec 32 := Scalar.addi v0 c116_i32_499
  let c1_i32_500 : BitVec 32 := 1#32
  let v707 : BitVec 32 := Scalar.addi v706 c1_i32_500
  let v708 : Index := Scalar.indexCast v707
  ![v708.toNat]
def k0_off236 (v709 : BitVec 32) : Fin 2 → Nat :=
  let c0_i32_501 : BitVec 32 := 0#32
  ![v709.toNat, 0]

def k0_chk118 (v709 : BitVec 32) : Prop :=
  (∀ a, (k0_off236 v709) a + S1x1024.size a ≤ S37888x1024.size a)
theorem k0_off236_inb : ∀ (v709 : BitVec 32) (k0_hw118 : k0_chk118 v709), ∀ a, (k0_off236 v709) a + S1x1024.size a ≤ S37888x1024.size a := fun v709 k0_hw118 => k0_hw118

def k0_off237 (i : grid0.Coords) : Fin 1 → Nat :=
  let arg0 : BitVec 32 := BitVec.ofNat 32 (i 0).val
  let c1024_i32 : BitVec 32 := 1024#32
  let v0 : BitVec 32 := Scalar.muli arg0 c1024_i32
  let c118_i32 : BitVec 32 := 118#32
  let v712 : BitVec 32 := Scalar.addi v0 c118_i32
  let c0_i32_504 : BitVec 32 := 0#32
  let v713 : BitVec 32 := Scalar.addi v712 c0_i32_504
  let v714 : Index := Scalar.indexCast v713
  ![v714.toNat]
def k0_off238 (v715 : BitVec 32) : Fin 2 → Nat :=
  let c0_i32_505 : BitVec 32 := 0#32
  ![v715.toNat, 0]

def k0_chk119 (v715 : BitVec 32) : Prop :=
  (∀ a, (k0_off238 v715) a + S1x1024.size a ≤ S37888x1024.size a)
theorem k0_off238_inb : ∀ (v715 : BitVec 32) (k0_hw119 : k0_chk119 v715), ∀ a, (k0_off238 v715) a + S1x1024.size a ≤ S37888x1024.size a := fun v715 k0_hw119 => k0_hw119

def k0_off239 (i : grid0.Coords) : Fin 1 → Nat :=
  let arg0 : BitVec 32 := BitVec.ofNat 32 (i 0).val
  let c1024_i32 : BitVec 32 := 1024#32
  let v0 : BitVec 32 := Scalar.muli arg0 c1024_i32
  let c118_i32_507 : BitVec 32 := 118#32
  let v718 : BitVec 32 := Scalar.addi v0 c118_i32_507
  let c1_i32_508 : BitVec 32 := 1#32
  let v719 : BitVec 32 := Scalar.addi v718 c1_i32_508
  let v720 : Index := Scalar.indexCast v719
  ![v720.toNat]
def k0_off240 (v721 : BitVec 32) : Fin 2 → Nat :=
  let c0_i32_509 : BitVec 32 := 0#32
  ![v721.toNat, 0]

def k0_chk120 (v721 : BitVec 32) : Prop :=
  (∀ a, (k0_off240 v721) a + S1x1024.size a ≤ S37888x1024.size a)
theorem k0_off240_inb : ∀ (v721 : BitVec 32) (k0_hw120 : k0_chk120 v721), ∀ a, (k0_off240 v721) a + S1x1024.size a ≤ S37888x1024.size a := fun v721 k0_hw120 => k0_hw120

def k0_off241 (i : grid0.Coords) : Fin 1 → Nat :=
  let arg0 : BitVec 32 := BitVec.ofNat 32 (i 0).val
  let c1024_i32 : BitVec 32 := 1024#32
  let v0 : BitVec 32 := Scalar.muli arg0 c1024_i32
  let c120_i32 : BitVec 32 := 120#32
  let v724 : BitVec 32 := Scalar.addi v0 c120_i32
  let c0_i32_512 : BitVec 32 := 0#32
  let v725 : BitVec 32 := Scalar.addi v724 c0_i32_512
  let v726 : Index := Scalar.indexCast v725
  ![v726.toNat]
def k0_off242 (v727 : BitVec 32) : Fin 2 → Nat :=
  let c0_i32_513 : BitVec 32 := 0#32
  ![v727.toNat, 0]

def k0_chk121 (v727 : BitVec 32) : Prop :=
  (∀ a, (k0_off242 v727) a + S1x1024.size a ≤ S37888x1024.size a)
theorem k0_off242_inb : ∀ (v727 : BitVec 32) (k0_hw121 : k0_chk121 v727), ∀ a, (k0_off242 v727) a + S1x1024.size a ≤ S37888x1024.size a := fun v727 k0_hw121 => k0_hw121

def k0_off243 (i : grid0.Coords) : Fin 1 → Nat :=
  let arg0 : BitVec 32 := BitVec.ofNat 32 (i 0).val
  let c1024_i32 : BitVec 32 := 1024#32
  let v0 : BitVec 32 := Scalar.muli arg0 c1024_i32
  let c120_i32_516 : BitVec 32 := 120#32
  let v730 : BitVec 32 := Scalar.addi v0 c120_i32_516
  let c1_i32_517 : BitVec 32 := 1#32
  let v731 : BitVec 32 := Scalar.addi v730 c1_i32_517
  let v732 : Index := Scalar.indexCast v731
  ![v732.toNat]
def k0_off244 (v733 : BitVec 32) : Fin 2 → Nat :=
  let c0_i32_518 : BitVec 32 := 0#32
  ![v733.toNat, 0]

def k0_chk122 (v733 : BitVec 32) : Prop :=
  (∀ a, (k0_off244 v733) a + S1x1024.size a ≤ S37888x1024.size a)
theorem k0_off244_inb : ∀ (v733 : BitVec 32) (k0_hw122 : k0_chk122 v733), ∀ a, (k0_off244 v733) a + S1x1024.size a ≤ S37888x1024.size a := fun v733 k0_hw122 => k0_hw122

def k0_off245 (i : grid0.Coords) : Fin 1 → Nat :=
  let arg0 : BitVec 32 := BitVec.ofNat 32 (i 0).val
  let c1024_i32 : BitVec 32 := 1024#32
  let v0 : BitVec 32 := Scalar.muli arg0 c1024_i32
  let c122_i32 : BitVec 32 := 122#32
  let v736 : BitVec 32 := Scalar.addi v0 c122_i32
  let c0_i32_521 : BitVec 32 := 0#32
  let v737 : BitVec 32 := Scalar.addi v736 c0_i32_521
  let v738 : Index := Scalar.indexCast v737
  ![v738.toNat]
def k0_off246 (v739 : BitVec 32) : Fin 2 → Nat :=
  let c0_i32_522 : BitVec 32 := 0#32
  ![v739.toNat, 0]

def k0_chk123 (v739 : BitVec 32) : Prop :=
  (∀ a, (k0_off246 v739) a + S1x1024.size a ≤ S37888x1024.size a)
theorem k0_off246_inb : ∀ (v739 : BitVec 32) (k0_hw123 : k0_chk123 v739), ∀ a, (k0_off246 v739) a + S1x1024.size a ≤ S37888x1024.size a := fun v739 k0_hw123 => k0_hw123

def k0_off247 (i : grid0.Coords) : Fin 1 → Nat :=
  let arg0 : BitVec 32 := BitVec.ofNat 32 (i 0).val
  let c1024_i32 : BitVec 32 := 1024#32
  let v0 : BitVec 32 := Scalar.muli arg0 c1024_i32
  let c122_i32_524 : BitVec 32 := 122#32
  let v742 : BitVec 32 := Scalar.addi v0 c122_i32_524
  let c1_i32_525 : BitVec 32 := 1#32
  let v743 : BitVec 32 := Scalar.addi v742 c1_i32_525
  let v744 : Index := Scalar.indexCast v743
  ![v744.toNat]
def k0_off248 (v745 : BitVec 32) : Fin 2 → Nat :=
  let c0_i32_526 : BitVec 32 := 0#32
  ![v745.toNat, 0]

def k0_chk124 (v745 : BitVec 32) : Prop :=
  (∀ a, (k0_off248 v745) a + S1x1024.size a ≤ S37888x1024.size a)
theorem k0_off248_inb : ∀ (v745 : BitVec 32) (k0_hw124 : k0_chk124 v745), ∀ a, (k0_off248 v745) a + S1x1024.size a ≤ S37888x1024.size a := fun v745 k0_hw124 => k0_hw124

def k0_off249 (i : grid0.Coords) : Fin 1 → Nat :=
  let arg0 : BitVec 32 := BitVec.ofNat 32 (i 0).val
  let c1024_i32 : BitVec 32 := 1024#32
  let v0 : BitVec 32 := Scalar.muli arg0 c1024_i32
  let c124_i32 : BitVec 32 := 124#32
  let v748 : BitVec 32 := Scalar.addi v0 c124_i32
  let c0_i32_529 : BitVec 32 := 0#32
  let v749 : BitVec 32 := Scalar.addi v748 c0_i32_529
  let v750 : Index := Scalar.indexCast v749
  ![v750.toNat]
def k0_off250 (v751 : BitVec 32) : Fin 2 → Nat :=
  let c0_i32_530 : BitVec 32 := 0#32
  ![v751.toNat, 0]

def k0_chk125 (v751 : BitVec 32) : Prop :=
  (∀ a, (k0_off250 v751) a + S1x1024.size a ≤ S37888x1024.size a)
theorem k0_off250_inb : ∀ (v751 : BitVec 32) (k0_hw125 : k0_chk125 v751), ∀ a, (k0_off250 v751) a + S1x1024.size a ≤ S37888x1024.size a := fun v751 k0_hw125 => k0_hw125

def k0_off251 (i : grid0.Coords) : Fin 1 → Nat :=
  let arg0 : BitVec 32 := BitVec.ofNat 32 (i 0).val
  let c1024_i32 : BitVec 32 := 1024#32
  let v0 : BitVec 32 := Scalar.muli arg0 c1024_i32
  let c124_i32_533 : BitVec 32 := 124#32
  let v754 : BitVec 32 := Scalar.addi v0 c124_i32_533
  let c1_i32_534 : BitVec 32 := 1#32
  let v755 : BitVec 32 := Scalar.addi v754 c1_i32_534
  let v756 : Index := Scalar.indexCast v755
  ![v756.toNat]
def k0_off252 (v757 : BitVec 32) : Fin 2 → Nat :=
  let c0_i32_535 : BitVec 32 := 0#32
  ![v757.toNat, 0]

def k0_chk126 (v757 : BitVec 32) : Prop :=
  (∀ a, (k0_off252 v757) a + S1x1024.size a ≤ S37888x1024.size a)
theorem k0_off252_inb : ∀ (v757 : BitVec 32) (k0_hw126 : k0_chk126 v757), ∀ a, (k0_off252 v757) a + S1x1024.size a ≤ S37888x1024.size a := fun v757 k0_hw126 => k0_hw126

def k0_off253 (i : grid0.Coords) : Fin 1 → Nat :=
  let arg0 : BitVec 32 := BitVec.ofNat 32 (i 0).val
  let c1024_i32 : BitVec 32 := 1024#32
  let v0 : BitVec 32 := Scalar.muli arg0 c1024_i32
  let c126_i32 : BitVec 32 := 126#32
  let v760 : BitVec 32 := Scalar.addi v0 c126_i32
  let c0_i32_538 : BitVec 32 := 0#32
  let v761 : BitVec 32 := Scalar.addi v760 c0_i32_538
  let v762 : Index := Scalar.indexCast v761
  ![v762.toNat]
def k0_off254 (v763 : BitVec 32) : Fin 2 → Nat :=
  let c0_i32_539 : BitVec 32 := 0#32
  ![v763.toNat, 0]

def k0_chk127 (v763 : BitVec 32) : Prop :=
  (∀ a, (k0_off254 v763) a + S1x1024.size a ≤ S37888x1024.size a)
theorem k0_off254_inb : ∀ (v763 : BitVec 32) (k0_hw127 : k0_chk127 v763), ∀ a, (k0_off254 v763) a + S1x1024.size a ≤ S37888x1024.size a := fun v763 k0_hw127 => k0_hw127

def k0_off255 (i : grid0.Coords) : Fin 1 → Nat :=
  let arg0 : BitVec 32 := BitVec.ofNat 32 (i 0).val
  let c1024_i32 : BitVec 32 := 1024#32
  let v0 : BitVec 32 := Scalar.muli arg0 c1024_i32
  let c126_i32_541 : BitVec 32 := 126#32
  let v766 : BitVec 32 := Scalar.addi v0 c126_i32_541
  let c1_i32_542 : BitVec 32 := 1#32
  let v767 : BitVec 32 := Scalar.addi v766 c1_i32_542
  let v768 : Index := Scalar.indexCast v767
  ![v768.toNat]
def k0_off256 (v769 : BitVec 32) : Fin 2 → Nat :=
  let c0_i32_543 : BitVec 32 := 0#32
  ![v769.toNat, 0]

def k0_chk128 (v769 : BitVec 32) : Prop :=
  (∀ a, (k0_off256 v769) a + S1x1024.size a ≤ S37888x1024.size a)
theorem k0_off256_inb : ∀ (v769 : BitVec 32) (k0_hw128 : k0_chk128 v769), ∀ a, (k0_off256 v769) a + S1x1024.size a ≤ S37888x1024.size a := fun v769 k0_hw128 => k0_hw128

def k0_off257 (i : grid0.Coords) : Fin 1 → Nat :=
  let arg0 : BitVec 32 := BitVec.ofNat 32 (i 0).val
  let c1024_i32 : BitVec 32 := 1024#32
  let v0 : BitVec 32 := Scalar.muli arg0 c1024_i32
  let c128_i32 : BitVec 32 := 128#32
  let v772 : BitVec 32 := Scalar.addi v0 c128_i32
  let c0_i32_546 : BitVec 32 := 0#32
  let v773 : BitVec 32 := Scalar.addi v772 c0_i32_546
  let v774 : Index := Scalar.indexCast v773
  ![v774.toNat]
def k0_off258 (v775 : BitVec 32) : Fin 2 → Nat :=
  let c0_i32_547 : BitVec 32 := 0#32
  ![v775.toNat, 0]

def k0_chk129 (v775 : BitVec 32) : Prop :=
  (∀ a, (k0_off258 v775) a + S1x1024.size a ≤ S37888x1024.size a)
theorem k0_off258_inb : ∀ (v775 : BitVec 32) (k0_hw129 : k0_chk129 v775), ∀ a, (k0_off258 v775) a + S1x1024.size a ≤ S37888x1024.size a := fun v775 k0_hw129 => k0_hw129

def k0_off259 (i : grid0.Coords) : Fin 1 → Nat :=
  let arg0 : BitVec 32 := BitVec.ofNat 32 (i 0).val
  let c1024_i32 : BitVec 32 := 1024#32
  let v0 : BitVec 32 := Scalar.muli arg0 c1024_i32
  let c128_i32_550 : BitVec 32 := 128#32
  let v778 : BitVec 32 := Scalar.addi v0 c128_i32_550
  let c1_i32_551 : BitVec 32 := 1#32
  let v779 : BitVec 32 := Scalar.addi v778 c1_i32_551
  let v780 : Index := Scalar.indexCast v779
  ![v780.toNat]
def k0_off260 (v781 : BitVec 32) : Fin 2 → Nat :=
  let c0_i32_552 : BitVec 32 := 0#32
  ![v781.toNat, 0]

def k0_chk130 (v781 : BitVec 32) : Prop :=
  (∀ a, (k0_off260 v781) a + S1x1024.size a ≤ S37888x1024.size a)
theorem k0_off260_inb : ∀ (v781 : BitVec 32) (k0_hw130 : k0_chk130 v781), ∀ a, (k0_off260 v781) a + S1x1024.size a ≤ S37888x1024.size a := fun v781 k0_hw130 => k0_hw130

def k0_off261 (i : grid0.Coords) : Fin 1 → Nat :=
  let arg0 : BitVec 32 := BitVec.ofNat 32 (i 0).val
  let c1024_i32 : BitVec 32 := 1024#32
  let v0 : BitVec 32 := Scalar.muli arg0 c1024_i32
  let c130_i32 : BitVec 32 := 130#32
  let v784 : BitVec 32 := Scalar.addi v0 c130_i32
  let c0_i32_555 : BitVec 32 := 0#32
  let v785 : BitVec 32 := Scalar.addi v784 c0_i32_555
  let v786 : Index := Scalar.indexCast v785
  ![v786.toNat]
def k0_off262 (v787 : BitVec 32) : Fin 2 → Nat :=
  let c0_i32_556 : BitVec 32 := 0#32
  ![v787.toNat, 0]

def k0_chk131 (v787 : BitVec 32) : Prop :=
  (∀ a, (k0_off262 v787) a + S1x1024.size a ≤ S37888x1024.size a)
theorem k0_off262_inb : ∀ (v787 : BitVec 32) (k0_hw131 : k0_chk131 v787), ∀ a, (k0_off262 v787) a + S1x1024.size a ≤ S37888x1024.size a := fun v787 k0_hw131 => k0_hw131

def k0_off263 (i : grid0.Coords) : Fin 1 → Nat :=
  let arg0 : BitVec 32 := BitVec.ofNat 32 (i 0).val
  let c1024_i32 : BitVec 32 := 1024#32
  let v0 : BitVec 32 := Scalar.muli arg0 c1024_i32
  let c130_i32_558 : BitVec 32 := 130#32
  let v790 : BitVec 32 := Scalar.addi v0 c130_i32_558
  let c1_i32_559 : BitVec 32 := 1#32
  let v791 : BitVec 32 := Scalar.addi v790 c1_i32_559
  let v792 : Index := Scalar.indexCast v791
  ![v792.toNat]
def k0_off264 (v793 : BitVec 32) : Fin 2 → Nat :=
  let c0_i32_560 : BitVec 32 := 0#32
  ![v793.toNat, 0]

def k0_chk132 (v793 : BitVec 32) : Prop :=
  (∀ a, (k0_off264 v793) a + S1x1024.size a ≤ S37888x1024.size a)
theorem k0_off264_inb : ∀ (v793 : BitVec 32) (k0_hw132 : k0_chk132 v793), ∀ a, (k0_off264 v793) a + S1x1024.size a ≤ S37888x1024.size a := fun v793 k0_hw132 => k0_hw132

def k0_off265 (i : grid0.Coords) : Fin 1 → Nat :=
  let arg0 : BitVec 32 := BitVec.ofNat 32 (i 0).val
  let c1024_i32 : BitVec 32 := 1024#32
  let v0 : BitVec 32 := Scalar.muli arg0 c1024_i32
  let c132_i32 : BitVec 32 := 132#32
  let v796 : BitVec 32 := Scalar.addi v0 c132_i32
  let c0_i32_563 : BitVec 32 := 0#32
  let v797 : BitVec 32 := Scalar.addi v796 c0_i32_563
  let v798 : Index := Scalar.indexCast v797
  ![v798.toNat]
def k0_off266 (v799 : BitVec 32) : Fin 2 → Nat :=
  let c0_i32_564 : BitVec 32 := 0#32
  ![v799.toNat, 0]

def k0_chk133 (v799 : BitVec 32) : Prop :=
  (∀ a, (k0_off266 v799) a + S1x1024.size a ≤ S37888x1024.size a)
theorem k0_off266_inb : ∀ (v799 : BitVec 32) (k0_hw133 : k0_chk133 v799), ∀ a, (k0_off266 v799) a + S1x1024.size a ≤ S37888x1024.size a := fun v799 k0_hw133 => k0_hw133

def k0_off267 (i : grid0.Coords) : Fin 1 → Nat :=
  let arg0 : BitVec 32 := BitVec.ofNat 32 (i 0).val
  let c1024_i32 : BitVec 32 := 1024#32
  let v0 : BitVec 32 := Scalar.muli arg0 c1024_i32
  let c132_i32_567 : BitVec 32 := 132#32
  let v802 : BitVec 32 := Scalar.addi v0 c132_i32_567
  let c1_i32_568 : BitVec 32 := 1#32
  let v803 : BitVec 32 := Scalar.addi v802 c1_i32_568
  let v804 : Index := Scalar.indexCast v803
  ![v804.toNat]
def k0_off268 (v805 : BitVec 32) : Fin 2 → Nat :=
  let c0_i32_569 : BitVec 32 := 0#32
  ![v805.toNat, 0]

def k0_chk134 (v805 : BitVec 32) : Prop :=
  (∀ a, (k0_off268 v805) a + S1x1024.size a ≤ S37888x1024.size a)
theorem k0_off268_inb : ∀ (v805 : BitVec 32) (k0_hw134 : k0_chk134 v805), ∀ a, (k0_off268 v805) a + S1x1024.size a ≤ S37888x1024.size a := fun v805 k0_hw134 => k0_hw134

def k0_off269 (i : grid0.Coords) : Fin 1 → Nat :=
  let arg0 : BitVec 32 := BitVec.ofNat 32 (i 0).val
  let c1024_i32 : BitVec 32 := 1024#32
  let v0 : BitVec 32 := Scalar.muli arg0 c1024_i32
  let c134_i32 : BitVec 32 := 134#32
  let v808 : BitVec 32 := Scalar.addi v0 c134_i32
  let c0_i32_572 : BitVec 32 := 0#32
  let v809 : BitVec 32 := Scalar.addi v808 c0_i32_572
  let v810 : Index := Scalar.indexCast v809
  ![v810.toNat]
def k0_off270 (v811 : BitVec 32) : Fin 2 → Nat :=
  let c0_i32_573 : BitVec 32 := 0#32
  ![v811.toNat, 0]

def k0_chk135 (v811 : BitVec 32) : Prop :=
  (∀ a, (k0_off270 v811) a + S1x1024.size a ≤ S37888x1024.size a)
theorem k0_off270_inb : ∀ (v811 : BitVec 32) (k0_hw135 : k0_chk135 v811), ∀ a, (k0_off270 v811) a + S1x1024.size a ≤ S37888x1024.size a := fun v811 k0_hw135 => k0_hw135

def k0_off271 (i : grid0.Coords) : Fin 1 → Nat :=
  let arg0 : BitVec 32 := BitVec.ofNat 32 (i 0).val
  let c1024_i32 : BitVec 32 := 1024#32
  let v0 : BitVec 32 := Scalar.muli arg0 c1024_i32
  let c134_i32_575 : BitVec 32 := 134#32
  let v814 : BitVec 32 := Scalar.addi v0 c134_i32_575
  let c1_i32_576 : BitVec 32 := 1#32
  let v815 : BitVec 32 := Scalar.addi v814 c1_i32_576
  let v816 : Index := Scalar.indexCast v815
  ![v816.toNat]
def k0_off272 (v817 : BitVec 32) : Fin 2 → Nat :=
  let c0_i32_577 : BitVec 32 := 0#32
  ![v817.toNat, 0]

def k0_chk136 (v817 : BitVec 32) : Prop :=
  (∀ a, (k0_off272 v817) a + S1x1024.size a ≤ S37888x1024.size a)
theorem k0_off272_inb : ∀ (v817 : BitVec 32) (k0_hw136 : k0_chk136 v817), ∀ a, (k0_off272 v817) a + S1x1024.size a ≤ S37888x1024.size a := fun v817 k0_hw136 => k0_hw136

def k0_off273 (i : grid0.Coords) : Fin 1 → Nat :=
  let arg0 : BitVec 32 := BitVec.ofNat 32 (i 0).val
  let c1024_i32 : BitVec 32 := 1024#32
  let v0 : BitVec 32 := Scalar.muli arg0 c1024_i32
  let c136_i32 : BitVec 32 := 136#32
  let v820 : BitVec 32 := Scalar.addi v0 c136_i32
  let c0_i32_580 : BitVec 32 := 0#32
  let v821 : BitVec 32 := Scalar.addi v820 c0_i32_580
  let v822 : Index := Scalar.indexCast v821
  ![v822.toNat]
def k0_off274 (v823 : BitVec 32) : Fin 2 → Nat :=
  let c0_i32_581 : BitVec 32 := 0#32
  ![v823.toNat, 0]

def k0_chk137 (v823 : BitVec 32) : Prop :=
  (∀ a, (k0_off274 v823) a + S1x1024.size a ≤ S37888x1024.size a)
theorem k0_off274_inb : ∀ (v823 : BitVec 32) (k0_hw137 : k0_chk137 v823), ∀ a, (k0_off274 v823) a + S1x1024.size a ≤ S37888x1024.size a := fun v823 k0_hw137 => k0_hw137

def k0_off275 (i : grid0.Coords) : Fin 1 → Nat :=
  let arg0 : BitVec 32 := BitVec.ofNat 32 (i 0).val
  let c1024_i32 : BitVec 32 := 1024#32
  let v0 : BitVec 32 := Scalar.muli arg0 c1024_i32
  let c136_i32_584 : BitVec 32 := 136#32
  let v826 : BitVec 32 := Scalar.addi v0 c136_i32_584
  let c1_i32_585 : BitVec 32 := 1#32
  let v827 : BitVec 32 := Scalar.addi v826 c1_i32_585
  let v828 : Index := Scalar.indexCast v827
  ![v828.toNat]
def k0_off276 (v829 : BitVec 32) : Fin 2 → Nat :=
  let c0_i32_586 : BitVec 32 := 0#32
  ![v829.toNat, 0]

def k0_chk138 (v829 : BitVec 32) : Prop :=
  (∀ a, (k0_off276 v829) a + S1x1024.size a ≤ S37888x1024.size a)
theorem k0_off276_inb : ∀ (v829 : BitVec 32) (k0_hw138 : k0_chk138 v829), ∀ a, (k0_off276 v829) a + S1x1024.size a ≤ S37888x1024.size a := fun v829 k0_hw138 => k0_hw138

def k0_off277 (i : grid0.Coords) : Fin 1 → Nat :=
  let arg0 : BitVec 32 := BitVec.ofNat 32 (i 0).val
  let c1024_i32 : BitVec 32 := 1024#32
  let v0 : BitVec 32 := Scalar.muli arg0 c1024_i32
  let c138_i32 : BitVec 32 := 138#32
  let v832 : BitVec 32 := Scalar.addi v0 c138_i32
  let c0_i32_589 : BitVec 32 := 0#32
  let v833 : BitVec 32 := Scalar.addi v832 c0_i32_589
  let v834 : Index := Scalar.indexCast v833
  ![v834.toNat]
def k0_off278 (v835 : BitVec 32) : Fin 2 → Nat :=
  let c0_i32_590 : BitVec 32 := 0#32
  ![v835.toNat, 0]

def k0_chk139 (v835 : BitVec 32) : Prop :=
  (∀ a, (k0_off278 v835) a + S1x1024.size a ≤ S37888x1024.size a)
theorem k0_off278_inb : ∀ (v835 : BitVec 32) (k0_hw139 : k0_chk139 v835), ∀ a, (k0_off278 v835) a + S1x1024.size a ≤ S37888x1024.size a := fun v835 k0_hw139 => k0_hw139

def k0_off279 (i : grid0.Coords) : Fin 1 → Nat :=
  let arg0 : BitVec 32 := BitVec.ofNat 32 (i 0).val
  let c1024_i32 : BitVec 32 := 1024#32
  let v0 : BitVec 32 := Scalar.muli arg0 c1024_i32
  let c138_i32_592 : BitVec 32 := 138#32
  let v838 : BitVec 32 := Scalar.addi v0 c138_i32_592
  let c1_i32_593 : BitVec 32 := 1#32
  let v839 : BitVec 32 := Scalar.addi v838 c1_i32_593
  let v840 : Index := Scalar.indexCast v839
  ![v840.toNat]
def k0_off280 (v841 : BitVec 32) : Fin 2 → Nat :=
  let c0_i32_594 : BitVec 32 := 0#32
  ![v841.toNat, 0]

def k0_chk140 (v841 : BitVec 32) : Prop :=
  (∀ a, (k0_off280 v841) a + S1x1024.size a ≤ S37888x1024.size a)
theorem k0_off280_inb : ∀ (v841 : BitVec 32) (k0_hw140 : k0_chk140 v841), ∀ a, (k0_off280 v841) a + S1x1024.size a ≤ S37888x1024.size a := fun v841 k0_hw140 => k0_hw140

def k0_off281 (i : grid0.Coords) : Fin 1 → Nat :=
  let arg0 : BitVec 32 := BitVec.ofNat 32 (i 0).val
  let c1024_i32 : BitVec 32 := 1024#32
  let v0 : BitVec 32 := Scalar.muli arg0 c1024_i32
  let c140_i32 : BitVec 32 := 140#32
  let v844 : BitVec 32 := Scalar.addi v0 c140_i32
  let c0_i32_597 : BitVec 32 := 0#32
  let v845 : BitVec 32 := Scalar.addi v844 c0_i32_597
  let v846 : Index := Scalar.indexCast v845
  ![v846.toNat]
def k0_off282 (v847 : BitVec 32) : Fin 2 → Nat :=
  let c0_i32_598 : BitVec 32 := 0#32
  ![v847.toNat, 0]

def k0_chk141 (v847 : BitVec 32) : Prop :=
  (∀ a, (k0_off282 v847) a + S1x1024.size a ≤ S37888x1024.size a)
theorem k0_off282_inb : ∀ (v847 : BitVec 32) (k0_hw141 : k0_chk141 v847), ∀ a, (k0_off282 v847) a + S1x1024.size a ≤ S37888x1024.size a := fun v847 k0_hw141 => k0_hw141

def k0_off283 (i : grid0.Coords) : Fin 1 → Nat :=
  let arg0 : BitVec 32 := BitVec.ofNat 32 (i 0).val
  let c1024_i32 : BitVec 32 := 1024#32
  let v0 : BitVec 32 := Scalar.muli arg0 c1024_i32
  let c140_i32_601 : BitVec 32 := 140#32
  let v850 : BitVec 32 := Scalar.addi v0 c140_i32_601
  let c1_i32_602 : BitVec 32 := 1#32
  let v851 : BitVec 32 := Scalar.addi v850 c1_i32_602
  let v852 : Index := Scalar.indexCast v851
  ![v852.toNat]
def k0_off284 (v853 : BitVec 32) : Fin 2 → Nat :=
  let c0_i32_603 : BitVec 32 := 0#32
  ![v853.toNat, 0]

def k0_chk142 (v853 : BitVec 32) : Prop :=
  (∀ a, (k0_off284 v853) a + S1x1024.size a ≤ S37888x1024.size a)
theorem k0_off284_inb : ∀ (v853 : BitVec 32) (k0_hw142 : k0_chk142 v853), ∀ a, (k0_off284 v853) a + S1x1024.size a ≤ S37888x1024.size a := fun v853 k0_hw142 => k0_hw142

def k0_off285 (i : grid0.Coords) : Fin 1 → Nat :=
  let arg0 : BitVec 32 := BitVec.ofNat 32 (i 0).val
  let c1024_i32 : BitVec 32 := 1024#32
  let v0 : BitVec 32 := Scalar.muli arg0 c1024_i32
  let c142_i32 : BitVec 32 := 142#32
  let v856 : BitVec 32 := Scalar.addi v0 c142_i32
  let c0_i32_606 : BitVec 32 := 0#32
  let v857 : BitVec 32 := Scalar.addi v856 c0_i32_606
  let v858 : Index := Scalar.indexCast v857
  ![v858.toNat]
def k0_off286 (v859 : BitVec 32) : Fin 2 → Nat :=
  let c0_i32_607 : BitVec 32 := 0#32
  ![v859.toNat, 0]

def k0_chk143 (v859 : BitVec 32) : Prop :=
  (∀ a, (k0_off286 v859) a + S1x1024.size a ≤ S37888x1024.size a)
theorem k0_off286_inb : ∀ (v859 : BitVec 32) (k0_hw143 : k0_chk143 v859), ∀ a, (k0_off286 v859) a + S1x1024.size a ≤ S37888x1024.size a := fun v859 k0_hw143 => k0_hw143

def k0_off287 (i : grid0.Coords) : Fin 1 → Nat :=
  let arg0 : BitVec 32 := BitVec.ofNat 32 (i 0).val
  let c1024_i32 : BitVec 32 := 1024#32
  let v0 : BitVec 32 := Scalar.muli arg0 c1024_i32
  let c142_i32_609 : BitVec 32 := 142#32
  let v862 : BitVec 32 := Scalar.addi v0 c142_i32_609
  let c1_i32_610 : BitVec 32 := 1#32
  let v863 : BitVec 32 := Scalar.addi v862 c1_i32_610
  let v864 : Index := Scalar.indexCast v863
  ![v864.toNat]
def k0_off288 (v865 : BitVec 32) : Fin 2 → Nat :=
  let c0_i32_611 : BitVec 32 := 0#32
  ![v865.toNat, 0]

def k0_chk144 (v865 : BitVec 32) : Prop :=
  (∀ a, (k0_off288 v865) a + S1x1024.size a ≤ S37888x1024.size a)
theorem k0_off288_inb : ∀ (v865 : BitVec 32) (k0_hw144 : k0_chk144 v865), ∀ a, (k0_off288 v865) a + S1x1024.size a ≤ S37888x1024.size a := fun v865 k0_hw144 => k0_hw144

def k0_off289 (i : grid0.Coords) : Fin 1 → Nat :=
  let arg0 : BitVec 32 := BitVec.ofNat 32 (i 0).val
  let c1024_i32 : BitVec 32 := 1024#32
  let v0 : BitVec 32 := Scalar.muli arg0 c1024_i32
  let c144_i32 : BitVec 32 := 144#32
  let v868 : BitVec 32 := Scalar.addi v0 c144_i32
  let c0_i32_614 : BitVec 32 := 0#32
  let v869 : BitVec 32 := Scalar.addi v868 c0_i32_614
  let v870 : Index := Scalar.indexCast v869
  ![v870.toNat]
def k0_off290 (v871 : BitVec 32) : Fin 2 → Nat :=
  let c0_i32_615 : BitVec 32 := 0#32
  ![v871.toNat, 0]

def k0_chk145 (v871 : BitVec 32) : Prop :=
  (∀ a, (k0_off290 v871) a + S1x1024.size a ≤ S37888x1024.size a)
theorem k0_off290_inb : ∀ (v871 : BitVec 32) (k0_hw145 : k0_chk145 v871), ∀ a, (k0_off290 v871) a + S1x1024.size a ≤ S37888x1024.size a := fun v871 k0_hw145 => k0_hw145

def k0_off291 (i : grid0.Coords) : Fin 1 → Nat :=
  let arg0 : BitVec 32 := BitVec.ofNat 32 (i 0).val
  let c1024_i32 : BitVec 32 := 1024#32
  let v0 : BitVec 32 := Scalar.muli arg0 c1024_i32
  let c144_i32_618 : BitVec 32 := 144#32
  let v874 : BitVec 32 := Scalar.addi v0 c144_i32_618
  let c1_i32_619 : BitVec 32 := 1#32
  let v875 : BitVec 32 := Scalar.addi v874 c1_i32_619
  let v876 : Index := Scalar.indexCast v875
  ![v876.toNat]
def k0_off292 (v877 : BitVec 32) : Fin 2 → Nat :=
  let c0_i32_620 : BitVec 32 := 0#32
  ![v877.toNat, 0]

def k0_chk146 (v877 : BitVec 32) : Prop :=
  (∀ a, (k0_off292 v877) a + S1x1024.size a ≤ S37888x1024.size a)
theorem k0_off292_inb : ∀ (v877 : BitVec 32) (k0_hw146 : k0_chk146 v877), ∀ a, (k0_off292 v877) a + S1x1024.size a ≤ S37888x1024.size a := fun v877 k0_hw146 => k0_hw146

def k0_off293 (i : grid0.Coords) : Fin 1 → Nat :=
  let arg0 : BitVec 32 := BitVec.ofNat 32 (i 0).val
  let c1024_i32 : BitVec 32 := 1024#32
  let v0 : BitVec 32 := Scalar.muli arg0 c1024_i32
  let c146_i32 : BitVec 32 := 146#32
  let v880 : BitVec 32 := Scalar.addi v0 c146_i32
  let c0_i32_623 : BitVec 32 := 0#32
  let v881 : BitVec 32 := Scalar.addi v880 c0_i32_623
  let v882 : Index := Scalar.indexCast v881
  ![v882.toNat]
def k0_off294 (v883 : BitVec 32) : Fin 2 → Nat :=
  let c0_i32_624 : BitVec 32 := 0#32
  ![v883.toNat, 0]

def k0_chk147 (v883 : BitVec 32) : Prop :=
  (∀ a, (k0_off294 v883) a + S1x1024.size a ≤ S37888x1024.size a)
theorem k0_off294_inb : ∀ (v883 : BitVec 32) (k0_hw147 : k0_chk147 v883), ∀ a, (k0_off294 v883) a + S1x1024.size a ≤ S37888x1024.size a := fun v883 k0_hw147 => k0_hw147

def k0_off295 (i : grid0.Coords) : Fin 1 → Nat :=
  let arg0 : BitVec 32 := BitVec.ofNat 32 (i 0).val
  let c1024_i32 : BitVec 32 := 1024#32
  let v0 : BitVec 32 := Scalar.muli arg0 c1024_i32
  let c146_i32_626 : BitVec 32 := 146#32
  let v886 : BitVec 32 := Scalar.addi v0 c146_i32_626
  let c1_i32_627 : BitVec 32 := 1#32
  let v887 : BitVec 32 := Scalar.addi v886 c1_i32_627
  let v888 : Index := Scalar.indexCast v887
  ![v888.toNat]
def k0_off296 (v889 : BitVec 32) : Fin 2 → Nat :=
  let c0_i32_628 : BitVec 32 := 0#32
  ![v889.toNat, 0]

def k0_chk148 (v889 : BitVec 32) : Prop :=
  (∀ a, (k0_off296 v889) a + S1x1024.size a ≤ S37888x1024.size a)
theorem k0_off296_inb : ∀ (v889 : BitVec 32) (k0_hw148 : k0_chk148 v889), ∀ a, (k0_off296 v889) a + S1x1024.size a ≤ S37888x1024.size a := fun v889 k0_hw148 => k0_hw148

def k0_off297 (i : grid0.Coords) : Fin 1 → Nat :=
  let arg0 : BitVec 32 := BitVec.ofNat 32 (i 0).val
  let c1024_i32 : BitVec 32 := 1024#32
  let v0 : BitVec 32 := Scalar.muli arg0 c1024_i32
  let c148_i32 : BitVec 32 := 148#32
  let v892 : BitVec 32 := Scalar.addi v0 c148_i32
  let c0_i32_631 : BitVec 32 := 0#32
  let v893 : BitVec 32 := Scalar.addi v892 c0_i32_631
  let v894 : Index := Scalar.indexCast v893
  ![v894.toNat]
def k0_off298 (v895 : BitVec 32) : Fin 2 → Nat :=
  let c0_i32_632 : BitVec 32 := 0#32
  ![v895.toNat, 0]

def k0_chk149 (v895 : BitVec 32) : Prop :=
  (∀ a, (k0_off298 v895) a + S1x1024.size a ≤ S37888x1024.size a)
theorem k0_off298_inb : ∀ (v895 : BitVec 32) (k0_hw149 : k0_chk149 v895), ∀ a, (k0_off298 v895) a + S1x1024.size a ≤ S37888x1024.size a := fun v895 k0_hw149 => k0_hw149

def k0_off299 (i : grid0.Coords) : Fin 1 → Nat :=
  let arg0 : BitVec 32 := BitVec.ofNat 32 (i 0).val
  let c1024_i32 : BitVec 32 := 1024#32
  let v0 : BitVec 32 := Scalar.muli arg0 c1024_i32
  let c148_i32_635 : BitVec 32 := 148#32
  let v898 : BitVec 32 := Scalar.addi v0 c148_i32_635
  let c1_i32_636 : BitVec 32 := 1#32
  let v899 : BitVec 32 := Scalar.addi v898 c1_i32_636
  let v900 : Index := Scalar.indexCast v899
  ![v900.toNat]
def k0_off300 (v901 : BitVec 32) : Fin 2 → Nat :=
  let c0_i32_637 : BitVec 32 := 0#32
  ![v901.toNat, 0]

def k0_chk150 (v901 : BitVec 32) : Prop :=
  (∀ a, (k0_off300 v901) a + S1x1024.size a ≤ S37888x1024.size a)
theorem k0_off300_inb : ∀ (v901 : BitVec 32) (k0_hw150 : k0_chk150 v901), ∀ a, (k0_off300 v901) a + S1x1024.size a ≤ S37888x1024.size a := fun v901 k0_hw150 => k0_hw150

def k0_off301 (i : grid0.Coords) : Fin 1 → Nat :=
  let arg0 : BitVec 32 := BitVec.ofNat 32 (i 0).val
  let c1024_i32 : BitVec 32 := 1024#32
  let v0 : BitVec 32 := Scalar.muli arg0 c1024_i32
  let c150_i32 : BitVec 32 := 150#32
  let v904 : BitVec 32 := Scalar.addi v0 c150_i32
  let c0_i32_640 : BitVec 32 := 0#32
  let v905 : BitVec 32 := Scalar.addi v904 c0_i32_640
  let v906 : Index := Scalar.indexCast v905
  ![v906.toNat]
def k0_off302 (v907 : BitVec 32) : Fin 2 → Nat :=
  let c0_i32_641 : BitVec 32 := 0#32
  ![v907.toNat, 0]

def k0_chk151 (v907 : BitVec 32) : Prop :=
  (∀ a, (k0_off302 v907) a + S1x1024.size a ≤ S37888x1024.size a)
theorem k0_off302_inb : ∀ (v907 : BitVec 32) (k0_hw151 : k0_chk151 v907), ∀ a, (k0_off302 v907) a + S1x1024.size a ≤ S37888x1024.size a := fun v907 k0_hw151 => k0_hw151

def k0_off303 (i : grid0.Coords) : Fin 1 → Nat :=
  let arg0 : BitVec 32 := BitVec.ofNat 32 (i 0).val
  let c1024_i32 : BitVec 32 := 1024#32
  let v0 : BitVec 32 := Scalar.muli arg0 c1024_i32
  let c150_i32_643 : BitVec 32 := 150#32
  let v910 : BitVec 32 := Scalar.addi v0 c150_i32_643
  let c1_i32_644 : BitVec 32 := 1#32
  let v911 : BitVec 32 := Scalar.addi v910 c1_i32_644
  let v912 : Index := Scalar.indexCast v911
  ![v912.toNat]
def k0_off304 (v913 : BitVec 32) : Fin 2 → Nat :=
  let c0_i32_645 : BitVec 32 := 0#32
  ![v913.toNat, 0]

def k0_chk152 (v913 : BitVec 32) : Prop :=
  (∀ a, (k0_off304 v913) a + S1x1024.size a ≤ S37888x1024.size a)
theorem k0_off304_inb : ∀ (v913 : BitVec 32) (k0_hw152 : k0_chk152 v913), ∀ a, (k0_off304 v913) a + S1x1024.size a ≤ S37888x1024.size a := fun v913 k0_hw152 => k0_hw152

def k0_off305 (i : grid0.Coords) : Fin 1 → Nat :=
  let arg0 : BitVec 32 := BitVec.ofNat 32 (i 0).val
  let c1024_i32 : BitVec 32 := 1024#32
  let v0 : BitVec 32 := Scalar.muli arg0 c1024_i32
  let c152_i32 : BitVec 32 := 152#32
  let v916 : BitVec 32 := Scalar.addi v0 c152_i32
  let c0_i32_648 : BitVec 32 := 0#32
  let v917 : BitVec 32 := Scalar.addi v916 c0_i32_648
  let v918 : Index := Scalar.indexCast v917
  ![v918.toNat]
def k0_off306 (v919 : BitVec 32) : Fin 2 → Nat :=
  let c0_i32_649 : BitVec 32 := 0#32
  ![v919.toNat, 0]

def k0_chk153 (v919 : BitVec 32) : Prop :=
  (∀ a, (k0_off306 v919) a + S1x1024.size a ≤ S37888x1024.size a)
theorem k0_off306_inb : ∀ (v919 : BitVec 32) (k0_hw153 : k0_chk153 v919), ∀ a, (k0_off306 v919) a + S1x1024.size a ≤ S37888x1024.size a := fun v919 k0_hw153 => k0_hw153

def k0_off307 (i : grid0.Coords) : Fin 1 → Nat :=
  let arg0 : BitVec 32 := BitVec.ofNat 32 (i 0).val
  let c1024_i32 : BitVec 32 := 1024#32
  let v0 : BitVec 32 := Scalar.muli arg0 c1024_i32
  let c152_i32_652 : BitVec 32 := 152#32
  let v922 : BitVec 32 := Scalar.addi v0 c152_i32_652
  let c1_i32_653 : BitVec 32 := 1#32
  let v923 : BitVec 32 := Scalar.addi v922 c1_i32_653
  let v924 : Index := Scalar.indexCast v923
  ![v924.toNat]
def k0_off308 (v925 : BitVec 32) : Fin 2 → Nat :=
  let c0_i32_654 : BitVec 32 := 0#32
  ![v925.toNat, 0]

def k0_chk154 (v925 : BitVec 32) : Prop :=
  (∀ a, (k0_off308 v925) a + S1x1024.size a ≤ S37888x1024.size a)
theorem k0_off308_inb : ∀ (v925 : BitVec 32) (k0_hw154 : k0_chk154 v925), ∀ a, (k0_off308 v925) a + S1x1024.size a ≤ S37888x1024.size a := fun v925 k0_hw154 => k0_hw154

def k0_off309 (i : grid0.Coords) : Fin 1 → Nat :=
  let arg0 : BitVec 32 := BitVec.ofNat 32 (i 0).val
  let c1024_i32 : BitVec 32 := 1024#32
  let v0 : BitVec 32 := Scalar.muli arg0 c1024_i32
  let c154_i32 : BitVec 32 := 154#32
  let v928 : BitVec 32 := Scalar.addi v0 c154_i32
  let c0_i32_657 : BitVec 32 := 0#32
  let v929 : BitVec 32 := Scalar.addi v928 c0_i32_657
  let v930 : Index := Scalar.indexCast v929
  ![v930.toNat]
def k0_off310 (v931 : BitVec 32) : Fin 2 → Nat :=
  let c0_i32_658 : BitVec 32 := 0#32
  ![v931.toNat, 0]

def k0_chk155 (v931 : BitVec 32) : Prop :=
  (∀ a, (k0_off310 v931) a + S1x1024.size a ≤ S37888x1024.size a)
theorem k0_off310_inb : ∀ (v931 : BitVec 32) (k0_hw155 : k0_chk155 v931), ∀ a, (k0_off310 v931) a + S1x1024.size a ≤ S37888x1024.size a := fun v931 k0_hw155 => k0_hw155

def k0_off311 (i : grid0.Coords) : Fin 1 → Nat :=
  let arg0 : BitVec 32 := BitVec.ofNat 32 (i 0).val
  let c1024_i32 : BitVec 32 := 1024#32
  let v0 : BitVec 32 := Scalar.muli arg0 c1024_i32
  let c154_i32_660 : BitVec 32 := 154#32
  let v934 : BitVec 32 := Scalar.addi v0 c154_i32_660
  let c1_i32_661 : BitVec 32 := 1#32
  let v935 : BitVec 32 := Scalar.addi v934 c1_i32_661
  let v936 : Index := Scalar.indexCast v935
  ![v936.toNat]
def k0_off312 (v937 : BitVec 32) : Fin 2 → Nat :=
  let c0_i32_662 : BitVec 32 := 0#32
  ![v937.toNat, 0]

def k0_chk156 (v937 : BitVec 32) : Prop :=
  (∀ a, (k0_off312 v937) a + S1x1024.size a ≤ S37888x1024.size a)
theorem k0_off312_inb : ∀ (v937 : BitVec 32) (k0_hw156 : k0_chk156 v937), ∀ a, (k0_off312 v937) a + S1x1024.size a ≤ S37888x1024.size a := fun v937 k0_hw156 => k0_hw156

def k0_off313 (i : grid0.Coords) : Fin 1 → Nat :=
  let arg0 : BitVec 32 := BitVec.ofNat 32 (i 0).val
  let c1024_i32 : BitVec 32 := 1024#32
  let v0 : BitVec 32 := Scalar.muli arg0 c1024_i32
  let c156_i32 : BitVec 32 := 156#32
  let v940 : BitVec 32 := Scalar.addi v0 c156_i32
  let c0_i32_665 : BitVec 32 := 0#32
  let v941 : BitVec 32 := Scalar.addi v940 c0_i32_665
  let v942 : Index := Scalar.indexCast v941
  ![v942.toNat]
def k0_off314 (v943 : BitVec 32) : Fin 2 → Nat :=
  let c0_i32_666 : BitVec 32 := 0#32
  ![v943.toNat, 0]

def k0_chk157 (v943 : BitVec 32) : Prop :=
  (∀ a, (k0_off314 v943) a + S1x1024.size a ≤ S37888x1024.size a)
theorem k0_off314_inb : ∀ (v943 : BitVec 32) (k0_hw157 : k0_chk157 v943), ∀ a, (k0_off314 v943) a + S1x1024.size a ≤ S37888x1024.size a := fun v943 k0_hw157 => k0_hw157

def k0_off315 (i : grid0.Coords) : Fin 1 → Nat :=
  let arg0 : BitVec 32 := BitVec.ofNat 32 (i 0).val
  let c1024_i32 : BitVec 32 := 1024#32
  let v0 : BitVec 32 := Scalar.muli arg0 c1024_i32
  let c156_i32_669 : BitVec 32 := 156#32
  let v946 : BitVec 32 := Scalar.addi v0 c156_i32_669
  let c1_i32_670 : BitVec 32 := 1#32
  let v947 : BitVec 32 := Scalar.addi v946 c1_i32_670
  let v948 : Index := Scalar.indexCast v947
  ![v948.toNat]
def k0_off316 (v949 : BitVec 32) : Fin 2 → Nat :=
  let c0_i32_671 : BitVec 32 := 0#32
  ![v949.toNat, 0]

def k0_chk158 (v949 : BitVec 32) : Prop :=
  (∀ a, (k0_off316 v949) a + S1x1024.size a ≤ S37888x1024.size a)
theorem k0_off316_inb : ∀ (v949 : BitVec 32) (k0_hw158 : k0_chk158 v949), ∀ a, (k0_off316 v949) a + S1x1024.size a ≤ S37888x1024.size a := fun v949 k0_hw158 => k0_hw158

def k0_off317 (i : grid0.Coords) : Fin 1 → Nat :=
  let arg0 : BitVec 32 := BitVec.ofNat 32 (i 0).val
  let c1024_i32 : BitVec 32 := 1024#32
  let v0 : BitVec 32 := Scalar.muli arg0 c1024_i32
  let c158_i32 : BitVec 32 := 158#32
  let v952 : BitVec 32 := Scalar.addi v0 c158_i32
  let c0_i32_674 : BitVec 32 := 0#32
  let v953 : BitVec 32 := Scalar.addi v952 c0_i32_674
  let v954 : Index := Scalar.indexCast v953
  ![v954.toNat]
def k0_off318 (v955 : BitVec 32) : Fin 2 → Nat :=
  let c0_i32_675 : BitVec 32 := 0#32
  ![v955.toNat, 0]

def k0_chk159 (v955 : BitVec 32) : Prop :=
  (∀ a, (k0_off318 v955) a + S1x1024.size a ≤ S37888x1024.size a)
theorem k0_off318_inb : ∀ (v955 : BitVec 32) (k0_hw159 : k0_chk159 v955), ∀ a, (k0_off318 v955) a + S1x1024.size a ≤ S37888x1024.size a := fun v955 k0_hw159 => k0_hw159

def k0_off319 (i : grid0.Coords) : Fin 1 → Nat :=
  let arg0 : BitVec 32 := BitVec.ofNat 32 (i 0).val
  let c1024_i32 : BitVec 32 := 1024#32
  let v0 : BitVec 32 := Scalar.muli arg0 c1024_i32
  let c158_i32_677 : BitVec 32 := 158#32
  let v958 : BitVec 32 := Scalar.addi v0 c158_i32_677
  let c1_i32_678 : BitVec 32 := 1#32
  let v959 : BitVec 32 := Scalar.addi v958 c1_i32_678
  let v960 : Index := Scalar.indexCast v959
  ![v960.toNat]
def k0_off320 (v961 : BitVec 32) : Fin 2 → Nat :=
  let c0_i32_679 : BitVec 32 := 0#32
  ![v961.toNat, 0]

def k0_chk160 (v961 : BitVec 32) : Prop :=
  (∀ a, (k0_off320 v961) a + S1x1024.size a ≤ S37888x1024.size a)
theorem k0_off320_inb : ∀ (v961 : BitVec 32) (k0_hw160 : k0_chk160 v961), ∀ a, (k0_off320 v961) a + S1x1024.size a ≤ S37888x1024.size a := fun v961 k0_hw160 => k0_hw160

def k0_off321 (i : grid0.Coords) : Fin 1 → Nat :=
  let arg0 : BitVec 32 := BitVec.ofNat 32 (i 0).val
  let c1024_i32 : BitVec 32 := 1024#32
  let v0 : BitVec 32 := Scalar.muli arg0 c1024_i32
  let c160_i32 : BitVec 32 := 160#32
  let v964 : BitVec 32 := Scalar.addi v0 c160_i32
  let c0_i32_682 : BitVec 32 := 0#32
  let v965 : BitVec 32 := Scalar.addi v964 c0_i32_682
  let v966 : Index := Scalar.indexCast v965
  ![v966.toNat]
def k0_off322 (v967 : BitVec 32) : Fin 2 → Nat :=
  let c0_i32_683 : BitVec 32 := 0#32
  ![v967.toNat, 0]

def k0_chk161 (v967 : BitVec 32) : Prop :=
  (∀ a, (k0_off322 v967) a + S1x1024.size a ≤ S37888x1024.size a)
theorem k0_off322_inb : ∀ (v967 : BitVec 32) (k0_hw161 : k0_chk161 v967), ∀ a, (k0_off322 v967) a + S1x1024.size a ≤ S37888x1024.size a := fun v967 k0_hw161 => k0_hw161

def k0_off323 (i : grid0.Coords) : Fin 1 → Nat :=
  let arg0 : BitVec 32 := BitVec.ofNat 32 (i 0).val
  let c1024_i32 : BitVec 32 := 1024#32
  let v0 : BitVec 32 := Scalar.muli arg0 c1024_i32
  let c160_i32_686 : BitVec 32 := 160#32
  let v970 : BitVec 32 := Scalar.addi v0 c160_i32_686
  let c1_i32_687 : BitVec 32 := 1#32
  let v971 : BitVec 32 := Scalar.addi v970 c1_i32_687
  let v972 : Index := Scalar.indexCast v971
  ![v972.toNat]
def k0_off324 (v973 : BitVec 32) : Fin 2 → Nat :=
  let c0_i32_688 : BitVec 32 := 0#32
  ![v973.toNat, 0]

def k0_chk162 (v973 : BitVec 32) : Prop :=
  (∀ a, (k0_off324 v973) a + S1x1024.size a ≤ S37888x1024.size a)
theorem k0_off324_inb : ∀ (v973 : BitVec 32) (k0_hw162 : k0_chk162 v973), ∀ a, (k0_off324 v973) a + S1x1024.size a ≤ S37888x1024.size a := fun v973 k0_hw162 => k0_hw162

def k0_off325 (i : grid0.Coords) : Fin 1 → Nat :=
  let arg0 : BitVec 32 := BitVec.ofNat 32 (i 0).val
  let c1024_i32 : BitVec 32 := 1024#32
  let v0 : BitVec 32 := Scalar.muli arg0 c1024_i32
  let c162_i32 : BitVec 32 := 162#32
  let v976 : BitVec 32 := Scalar.addi v0 c162_i32
  let c0_i32_691 : BitVec 32 := 0#32
  let v977 : BitVec 32 := Scalar.addi v976 c0_i32_691
  let v978 : Index := Scalar.indexCast v977
  ![v978.toNat]
def k0_off326 (v979 : BitVec 32) : Fin 2 → Nat :=
  let c0_i32_692 : BitVec 32 := 0#32
  ![v979.toNat, 0]

def k0_chk163 (v979 : BitVec 32) : Prop :=
  (∀ a, (k0_off326 v979) a + S1x1024.size a ≤ S37888x1024.size a)
theorem k0_off326_inb : ∀ (v979 : BitVec 32) (k0_hw163 : k0_chk163 v979), ∀ a, (k0_off326 v979) a + S1x1024.size a ≤ S37888x1024.size a := fun v979 k0_hw163 => k0_hw163

def k0_off327 (i : grid0.Coords) : Fin 1 → Nat :=
  let arg0 : BitVec 32 := BitVec.ofNat 32 (i 0).val
  let c1024_i32 : BitVec 32 := 1024#32
  let v0 : BitVec 32 := Scalar.muli arg0 c1024_i32
  let c162_i32_694 : BitVec 32 := 162#32
  let v982 : BitVec 32 := Scalar.addi v0 c162_i32_694
  let c1_i32_695 : BitVec 32 := 1#32
  let v983 : BitVec 32 := Scalar.addi v982 c1_i32_695
  let v984 : Index := Scalar.indexCast v983
  ![v984.toNat]
def k0_off328 (v985 : BitVec 32) : Fin 2 → Nat :=
  let c0_i32_696 : BitVec 32 := 0#32
  ![v985.toNat, 0]

def k0_chk164 (v985 : BitVec 32) : Prop :=
  (∀ a, (k0_off328 v985) a + S1x1024.size a ≤ S37888x1024.size a)
theorem k0_off328_inb : ∀ (v985 : BitVec 32) (k0_hw164 : k0_chk164 v985), ∀ a, (k0_off328 v985) a + S1x1024.size a ≤ S37888x1024.size a := fun v985 k0_hw164 => k0_hw164

def k0_off329 (i : grid0.Coords) : Fin 1 → Nat :=
  let arg0 : BitVec 32 := BitVec.ofNat 32 (i 0).val
  let c1024_i32 : BitVec 32 := 1024#32
  let v0 : BitVec 32 := Scalar.muli arg0 c1024_i32
  let c164_i32 : BitVec 32 := 164#32
  let v988 : BitVec 32 := Scalar.addi v0 c164_i32
  let c0_i32_699 : BitVec 32 := 0#32
  let v989 : BitVec 32 := Scalar.addi v988 c0_i32_699
  let v990 : Index := Scalar.indexCast v989
  ![v990.toNat]
def k0_off330 (v991 : BitVec 32) : Fin 2 → Nat :=
  let c0_i32_700 : BitVec 32 := 0#32
  ![v991.toNat, 0]

def k0_chk165 (v991 : BitVec 32) : Prop :=
  (∀ a, (k0_off330 v991) a + S1x1024.size a ≤ S37888x1024.size a)
theorem k0_off330_inb : ∀ (v991 : BitVec 32) (k0_hw165 : k0_chk165 v991), ∀ a, (k0_off330 v991) a + S1x1024.size a ≤ S37888x1024.size a := fun v991 k0_hw165 => k0_hw165

def k0_off331 (i : grid0.Coords) : Fin 1 → Nat :=
  let arg0 : BitVec 32 := BitVec.ofNat 32 (i 0).val
  let c1024_i32 : BitVec 32 := 1024#32
  let v0 : BitVec 32 := Scalar.muli arg0 c1024_i32
  let c164_i32_703 : BitVec 32 := 164#32
  let v994 : BitVec 32 := Scalar.addi v0 c164_i32_703
  let c1_i32_704 : BitVec 32 := 1#32
  let v995 : BitVec 32 := Scalar.addi v994 c1_i32_704
  let v996 : Index := Scalar.indexCast v995
  ![v996.toNat]
def k0_off332 (v997 : BitVec 32) : Fin 2 → Nat :=
  let c0_i32_705 : BitVec 32 := 0#32
  ![v997.toNat, 0]

def k0_chk166 (v997 : BitVec 32) : Prop :=
  (∀ a, (k0_off332 v997) a + S1x1024.size a ≤ S37888x1024.size a)
theorem k0_off332_inb : ∀ (v997 : BitVec 32) (k0_hw166 : k0_chk166 v997), ∀ a, (k0_off332 v997) a + S1x1024.size a ≤ S37888x1024.size a := fun v997 k0_hw166 => k0_hw166

def k0_off333 (i : grid0.Coords) : Fin 1 → Nat :=
  let arg0 : BitVec 32 := BitVec.ofNat 32 (i 0).val
  let c1024_i32 : BitVec 32 := 1024#32
  let v0 : BitVec 32 := Scalar.muli arg0 c1024_i32
  let c166_i32 : BitVec 32 := 166#32
  let v1000 : BitVec 32 := Scalar.addi v0 c166_i32
  let c0_i32_708 : BitVec 32 := 0#32
  let v1001 : BitVec 32 := Scalar.addi v1000 c0_i32_708
  let v1002 : Index := Scalar.indexCast v1001
  ![v1002.toNat]
def k0_off334 (v1003 : BitVec 32) : Fin 2 → Nat :=
  let c0_i32_709 : BitVec 32 := 0#32
  ![v1003.toNat, 0]

def k0_chk167 (v1003 : BitVec 32) : Prop :=
  (∀ a, (k0_off334 v1003) a + S1x1024.size a ≤ S37888x1024.size a)
theorem k0_off334_inb : ∀ (v1003 : BitVec 32) (k0_hw167 : k0_chk167 v1003), ∀ a, (k0_off334 v1003) a + S1x1024.size a ≤ S37888x1024.size a := fun v1003 k0_hw167 => k0_hw167

def k0_off335 (i : grid0.Coords) : Fin 1 → Nat :=
  let arg0 : BitVec 32 := BitVec.ofNat 32 (i 0).val
  let c1024_i32 : BitVec 32 := 1024#32
  let v0 : BitVec 32 := Scalar.muli arg0 c1024_i32
  let c166_i32_711 : BitVec 32 := 166#32
  let v1006 : BitVec 32 := Scalar.addi v0 c166_i32_711
  let c1_i32_712 : BitVec 32 := 1#32
  let v1007 : BitVec 32 := Scalar.addi v1006 c1_i32_712
  let v1008 : Index := Scalar.indexCast v1007
  ![v1008.toNat]
def k0_off336 (v1009 : BitVec 32) : Fin 2 → Nat :=
  let c0_i32_713 : BitVec 32 := 0#32
  ![v1009.toNat, 0]

def k0_chk168 (v1009 : BitVec 32) : Prop :=
  (∀ a, (k0_off336 v1009) a + S1x1024.size a ≤ S37888x1024.size a)
theorem k0_off336_inb : ∀ (v1009 : BitVec 32) (k0_hw168 : k0_chk168 v1009), ∀ a, (k0_off336 v1009) a + S1x1024.size a ≤ S37888x1024.size a := fun v1009 k0_hw168 => k0_hw168

def k0_off337 (i : grid0.Coords) : Fin 1 → Nat :=
  let arg0 : BitVec 32 := BitVec.ofNat 32 (i 0).val
  let c1024_i32 : BitVec 32 := 1024#32
  let v0 : BitVec 32 := Scalar.muli arg0 c1024_i32
  let c168_i32 : BitVec 32 := 168#32
  let v1012 : BitVec 32 := Scalar.addi v0 c168_i32
  let c0_i32_716 : BitVec 32 := 0#32
  let v1013 : BitVec 32 := Scalar.addi v1012 c0_i32_716
  let v1014 : Index := Scalar.indexCast v1013
  ![v1014.toNat]
def k0_off338 (v1015 : BitVec 32) : Fin 2 → Nat :=
  let c0_i32_717 : BitVec 32 := 0#32
  ![v1015.toNat, 0]

def k0_chk169 (v1015 : BitVec 32) : Prop :=
  (∀ a, (k0_off338 v1015) a + S1x1024.size a ≤ S37888x1024.size a)
theorem k0_off338_inb : ∀ (v1015 : BitVec 32) (k0_hw169 : k0_chk169 v1015), ∀ a, (k0_off338 v1015) a + S1x1024.size a ≤ S37888x1024.size a := fun v1015 k0_hw169 => k0_hw169

def k0_off339 (i : grid0.Coords) : Fin 1 → Nat :=
  let arg0 : BitVec 32 := BitVec.ofNat 32 (i 0).val
  let c1024_i32 : BitVec 32 := 1024#32
  let v0 : BitVec 32 := Scalar.muli arg0 c1024_i32
  let c168_i32_720 : BitVec 32 := 168#32
  let v1018 : BitVec 32 := Scalar.addi v0 c168_i32_720
  let c1_i32_721 : BitVec 32 := 1#32
  let v1019 : BitVec 32 := Scalar.addi v1018 c1_i32_721
  let v1020 : Index := Scalar.indexCast v1019
  ![v1020.toNat]
def k0_off340 (v1021 : BitVec 32) : Fin 2 → Nat :=
  let c0_i32_722 : BitVec 32 := 0#32
  ![v1021.toNat, 0]

def k0_chk170 (v1021 : BitVec 32) : Prop :=
  (∀ a, (k0_off340 v1021) a + S1x1024.size a ≤ S37888x1024.size a)
theorem k0_off340_inb : ∀ (v1021 : BitVec 32) (k0_hw170 : k0_chk170 v1021), ∀ a, (k0_off340 v1021) a + S1x1024.size a ≤ S37888x1024.size a := fun v1021 k0_hw170 => k0_hw170

def k0_off341 (i : grid0.Coords) : Fin 1 → Nat :=
  let arg0 : BitVec 32 := BitVec.ofNat 32 (i 0).val
  let c1024_i32 : BitVec 32 := 1024#32
  let v0 : BitVec 32 := Scalar.muli arg0 c1024_i32
  let c170_i32 : BitVec 32 := 170#32
  let v1024 : BitVec 32 := Scalar.addi v0 c170_i32
  let c0_i32_725 : BitVec 32 := 0#32
  let v1025 : BitVec 32 := Scalar.addi v1024 c0_i32_725
  let v1026 : Index := Scalar.indexCast v1025
  ![v1026.toNat]
def k0_off342 (v1027 : BitVec 32) : Fin 2 → Nat :=
  let c0_i32_726 : BitVec 32 := 0#32
  ![v1027.toNat, 0]

def k0_chk171 (v1027 : BitVec 32) : Prop :=
  (∀ a, (k0_off342 v1027) a + S1x1024.size a ≤ S37888x1024.size a)
theorem k0_off342_inb : ∀ (v1027 : BitVec 32) (k0_hw171 : k0_chk171 v1027), ∀ a, (k0_off342 v1027) a + S1x1024.size a ≤ S37888x1024.size a := fun v1027 k0_hw171 => k0_hw171

def k0_off343 (i : grid0.Coords) : Fin 1 → Nat :=
  let arg0 : BitVec 32 := BitVec.ofNat 32 (i 0).val
  let c1024_i32 : BitVec 32 := 1024#32
  let v0 : BitVec 32 := Scalar.muli arg0 c1024_i32
  let c170_i32_728 : BitVec 32 := 170#32
  let v1030 : BitVec 32 := Scalar.addi v0 c170_i32_728
  let c1_i32_729 : BitVec 32 := 1#32
  let v1031 : BitVec 32 := Scalar.addi v1030 c1_i32_729
  let v1032 : Index := Scalar.indexCast v1031
  ![v1032.toNat]
def k0_off344 (v1033 : BitVec 32) : Fin 2 → Nat :=
  let c0_i32_730 : BitVec 32 := 0#32
  ![v1033.toNat, 0]

def k0_chk172 (v1033 : BitVec 32) : Prop :=
  (∀ a, (k0_off344 v1033) a + S1x1024.size a ≤ S37888x1024.size a)
theorem k0_off344_inb : ∀ (v1033 : BitVec 32) (k0_hw172 : k0_chk172 v1033), ∀ a, (k0_off344 v1033) a + S1x1024.size a ≤ S37888x1024.size a := fun v1033 k0_hw172 => k0_hw172

def k0_off345 (i : grid0.Coords) : Fin 1 → Nat :=
  let arg0 : BitVec 32 := BitVec.ofNat 32 (i 0).val
  let c1024_i32 : BitVec 32 := 1024#32
  let v0 : BitVec 32 := Scalar.muli arg0 c1024_i32
  let c172_i32 : BitVec 32 := 172#32
  let v1036 : BitVec 32 := Scalar.addi v0 c172_i32
  let c0_i32_733 : BitVec 32 := 0#32
  let v1037 : BitVec 32 := Scalar.addi v1036 c0_i32_733
  let v1038 : Index := Scalar.indexCast v1037
  ![v1038.toNat]
def k0_off346 (v1039 : BitVec 32) : Fin 2 → Nat :=
  let c0_i32_734 : BitVec 32 := 0#32
  ![v1039.toNat, 0]

def k0_chk173 (v1039 : BitVec 32) : Prop :=
  (∀ a, (k0_off346 v1039) a + S1x1024.size a ≤ S37888x1024.size a)
theorem k0_off346_inb : ∀ (v1039 : BitVec 32) (k0_hw173 : k0_chk173 v1039), ∀ a, (k0_off346 v1039) a + S1x1024.size a ≤ S37888x1024.size a := fun v1039 k0_hw173 => k0_hw173

def k0_off347 (i : grid0.Coords) : Fin 1 → Nat :=
  let arg0 : BitVec 32 := BitVec.ofNat 32 (i 0).val
  let c1024_i32 : BitVec 32 := 1024#32
  let v0 : BitVec 32 := Scalar.muli arg0 c1024_i32
  let c172_i32_737 : BitVec 32 := 172#32
  let v1042 : BitVec 32 := Scalar.addi v0 c172_i32_737
  let c1_i32_738 : BitVec 32 := 1#32
  let v1043 : BitVec 32 := Scalar.addi v1042 c1_i32_738
  let v1044 : Index := Scalar.indexCast v1043
  ![v1044.toNat]
def k0_off348 (v1045 : BitVec 32) : Fin 2 → Nat :=
  let c0_i32_739 : BitVec 32 := 0#32
  ![v1045.toNat, 0]

def k0_chk174 (v1045 : BitVec 32) : Prop :=
  (∀ a, (k0_off348 v1045) a + S1x1024.size a ≤ S37888x1024.size a)
theorem k0_off348_inb : ∀ (v1045 : BitVec 32) (k0_hw174 : k0_chk174 v1045), ∀ a, (k0_off348 v1045) a + S1x1024.size a ≤ S37888x1024.size a := fun v1045 k0_hw174 => k0_hw174

def k0_off349 (i : grid0.Coords) : Fin 1 → Nat :=
  let arg0 : BitVec 32 := BitVec.ofNat 32 (i 0).val
  let c1024_i32 : BitVec 32 := 1024#32
  let v0 : BitVec 32 := Scalar.muli arg0 c1024_i32
  let c174_i32 : BitVec 32 := 174#32
  let v1048 : BitVec 32 := Scalar.addi v0 c174_i32
  let c0_i32_742 : BitVec 32 := 0#32
  let v1049 : BitVec 32 := Scalar.addi v1048 c0_i32_742
  let v1050 : Index := Scalar.indexCast v1049
  ![v1050.toNat]
def k0_off350 (v1051 : BitVec 32) : Fin 2 → Nat :=
  let c0_i32_743 : BitVec 32 := 0#32
  ![v1051.toNat, 0]

def k0_chk175 (v1051 : BitVec 32) : Prop :=
  (∀ a, (k0_off350 v1051) a + S1x1024.size a ≤ S37888x1024.size a)
theorem k0_off350_inb : ∀ (v1051 : BitVec 32) (k0_hw175 : k0_chk175 v1051), ∀ a, (k0_off350 v1051) a + S1x1024.size a ≤ S37888x1024.size a := fun v1051 k0_hw175 => k0_hw175

def k0_off351 (i : grid0.Coords) : Fin 1 → Nat :=
  let arg0 : BitVec 32 := BitVec.ofNat 32 (i 0).val
  let c1024_i32 : BitVec 32 := 1024#32
  let v0 : BitVec 32 := Scalar.muli arg0 c1024_i32
  let c174_i32_745 : BitVec 32 := 174#32
  let v1054 : BitVec 32 := Scalar.addi v0 c174_i32_745
  let c1_i32_746 : BitVec 32 := 1#32
  let v1055 : BitVec 32 := Scalar.addi v1054 c1_i32_746
  let v1056 : Index := Scalar.indexCast v1055
  ![v1056.toNat]
def k0_off352 (v1057 : BitVec 32) : Fin 2 → Nat :=
  let c0_i32_747 : BitVec 32 := 0#32
  ![v1057.toNat, 0]

def k0_chk176 (v1057 : BitVec 32) : Prop :=
  (∀ a, (k0_off352 v1057) a + S1x1024.size a ≤ S37888x1024.size a)
theorem k0_off352_inb : ∀ (v1057 : BitVec 32) (k0_hw176 : k0_chk176 v1057), ∀ a, (k0_off352 v1057) a + S1x1024.size a ≤ S37888x1024.size a := fun v1057 k0_hw176 => k0_hw176

def k0_off353 (i : grid0.Coords) : Fin 1 → Nat :=
  let arg0 : BitVec 32 := BitVec.ofNat 32 (i 0).val
  let c1024_i32 : BitVec 32 := 1024#32
  let v0 : BitVec 32 := Scalar.muli arg0 c1024_i32
  let c176_i32 : BitVec 32 := 176#32
  let v1060 : BitVec 32 := Scalar.addi v0 c176_i32
  let c0_i32_750 : BitVec 32 := 0#32
  let v1061 : BitVec 32 := Scalar.addi v1060 c0_i32_750
  let v1062 : Index := Scalar.indexCast v1061
  ![v1062.toNat]
def k0_off354 (v1063 : BitVec 32) : Fin 2 → Nat :=
  let c0_i32_751 : BitVec 32 := 0#32
  ![v1063.toNat, 0]

def k0_chk177 (v1063 : BitVec 32) : Prop :=
  (∀ a, (k0_off354 v1063) a + S1x1024.size a ≤ S37888x1024.size a)
theorem k0_off354_inb : ∀ (v1063 : BitVec 32) (k0_hw177 : k0_chk177 v1063), ∀ a, (k0_off354 v1063) a + S1x1024.size a ≤ S37888x1024.size a := fun v1063 k0_hw177 => k0_hw177

def k0_off355 (i : grid0.Coords) : Fin 1 → Nat :=
  let arg0 : BitVec 32 := BitVec.ofNat 32 (i 0).val
  let c1024_i32 : BitVec 32 := 1024#32
  let v0 : BitVec 32 := Scalar.muli arg0 c1024_i32
  let c176_i32_754 : BitVec 32 := 176#32
  let v1066 : BitVec 32 := Scalar.addi v0 c176_i32_754
  let c1_i32_755 : BitVec 32 := 1#32
  let v1067 : BitVec 32 := Scalar.addi v1066 c1_i32_755
  let v1068 : Index := Scalar.indexCast v1067
  ![v1068.toNat]
def k0_off356 (v1069 : BitVec 32) : Fin 2 → Nat :=
  let c0_i32_756 : BitVec 32 := 0#32
  ![v1069.toNat, 0]

def k0_chk178 (v1069 : BitVec 32) : Prop :=
  (∀ a, (k0_off356 v1069) a + S1x1024.size a ≤ S37888x1024.size a)
theorem k0_off356_inb : ∀ (v1069 : BitVec 32) (k0_hw178 : k0_chk178 v1069), ∀ a, (k0_off356 v1069) a + S1x1024.size a ≤ S37888x1024.size a := fun v1069 k0_hw178 => k0_hw178

def k0_off357 (i : grid0.Coords) : Fin 1 → Nat :=
  let arg0 : BitVec 32 := BitVec.ofNat 32 (i 0).val
  let c1024_i32 : BitVec 32 := 1024#32
  let v0 : BitVec 32 := Scalar.muli arg0 c1024_i32
  let c178_i32 : BitVec 32 := 178#32
  let v1072 : BitVec 32 := Scalar.addi v0 c178_i32
  let c0_i32_759 : BitVec 32 := 0#32
  let v1073 : BitVec 32 := Scalar.addi v1072 c0_i32_759
  let v1074 : Index := Scalar.indexCast v1073
  ![v1074.toNat]
def k0_off358 (v1075 : BitVec 32) : Fin 2 → Nat :=
  let c0_i32_760 : BitVec 32 := 0#32
  ![v1075.toNat, 0]

def k0_chk179 (v1075 : BitVec 32) : Prop :=
  (∀ a, (k0_off358 v1075) a + S1x1024.size a ≤ S37888x1024.size a)
theorem k0_off358_inb : ∀ (v1075 : BitVec 32) (k0_hw179 : k0_chk179 v1075), ∀ a, (k0_off358 v1075) a + S1x1024.size a ≤ S37888x1024.size a := fun v1075 k0_hw179 => k0_hw179

def k0_off359 (i : grid0.Coords) : Fin 1 → Nat :=
  let arg0 : BitVec 32 := BitVec.ofNat 32 (i 0).val
  let c1024_i32 : BitVec 32 := 1024#32
  let v0 : BitVec 32 := Scalar.muli arg0 c1024_i32
  let c178_i32_762 : BitVec 32 := 178#32
  let v1078 : BitVec 32 := Scalar.addi v0 c178_i32_762
  let c1_i32_763 : BitVec 32 := 1#32
  let v1079 : BitVec 32 := Scalar.addi v1078 c1_i32_763
  let v1080 : Index := Scalar.indexCast v1079
  ![v1080.toNat]
def k0_off360 (v1081 : BitVec 32) : Fin 2 → Nat :=
  let c0_i32_764 : BitVec 32 := 0#32
  ![v1081.toNat, 0]

def k0_chk180 (v1081 : BitVec 32) : Prop :=
  (∀ a, (k0_off360 v1081) a + S1x1024.size a ≤ S37888x1024.size a)
theorem k0_off360_inb : ∀ (v1081 : BitVec 32) (k0_hw180 : k0_chk180 v1081), ∀ a, (k0_off360 v1081) a + S1x1024.size a ≤ S37888x1024.size a := fun v1081 k0_hw180 => k0_hw180

def k0_off361 (i : grid0.Coords) : Fin 1 → Nat :=
  let arg0 : BitVec 32 := BitVec.ofNat 32 (i 0).val
  let c1024_i32 : BitVec 32 := 1024#32
  let v0 : BitVec 32 := Scalar.muli arg0 c1024_i32
  let c180_i32 : BitVec 32 := 180#32
  let v1084 : BitVec 32 := Scalar.addi v0 c180_i32
  let c0_i32_767 : BitVec 32 := 0#32
  let v1085 : BitVec 32 := Scalar.addi v1084 c0_i32_767
  let v1086 : Index := Scalar.indexCast v1085
  ![v1086.toNat]
def k0_off362 (v1087 : BitVec 32) : Fin 2 → Nat :=
  let c0_i32_768 : BitVec 32 := 0#32
  ![v1087.toNat, 0]

def k0_chk181 (v1087 : BitVec 32) : Prop :=
  (∀ a, (k0_off362 v1087) a + S1x1024.size a ≤ S37888x1024.size a)
theorem k0_off362_inb : ∀ (v1087 : BitVec 32) (k0_hw181 : k0_chk181 v1087), ∀ a, (k0_off362 v1087) a + S1x1024.size a ≤ S37888x1024.size a := fun v1087 k0_hw181 => k0_hw181

def k0_off363 (i : grid0.Coords) : Fin 1 → Nat :=
  let arg0 : BitVec 32 := BitVec.ofNat 32 (i 0).val
  let c1024_i32 : BitVec 32 := 1024#32
  let v0 : BitVec 32 := Scalar.muli arg0 c1024_i32
  let c180_i32_771 : BitVec 32 := 180#32
  let v1090 : BitVec 32 := Scalar.addi v0 c180_i32_771
  let c1_i32_772 : BitVec 32 := 1#32
  let v1091 : BitVec 32 := Scalar.addi v1090 c1_i32_772
  let v1092 : Index := Scalar.indexCast v1091
  ![v1092.toNat]
def k0_off364 (v1093 : BitVec 32) : Fin 2 → Nat :=
  let c0_i32_773 : BitVec 32 := 0#32
  ![v1093.toNat, 0]

def k0_chk182 (v1093 : BitVec 32) : Prop :=
  (∀ a, (k0_off364 v1093) a + S1x1024.size a ≤ S37888x1024.size a)
theorem k0_off364_inb : ∀ (v1093 : BitVec 32) (k0_hw182 : k0_chk182 v1093), ∀ a, (k0_off364 v1093) a + S1x1024.size a ≤ S37888x1024.size a := fun v1093 k0_hw182 => k0_hw182

def k0_off365 (i : grid0.Coords) : Fin 1 → Nat :=
  let arg0 : BitVec 32 := BitVec.ofNat 32 (i 0).val
  let c1024_i32 : BitVec 32 := 1024#32
  let v0 : BitVec 32 := Scalar.muli arg0 c1024_i32
  let c182_i32 : BitVec 32 := 182#32
  let v1096 : BitVec 32 := Scalar.addi v0 c182_i32
  let c0_i32_776 : BitVec 32 := 0#32
  let v1097 : BitVec 32 := Scalar.addi v1096 c0_i32_776
  let v1098 : Index := Scalar.indexCast v1097
  ![v1098.toNat]
def k0_off366 (v1099 : BitVec 32) : Fin 2 → Nat :=
  let c0_i32_777 : BitVec 32 := 0#32
  ![v1099.toNat, 0]

def k0_chk183 (v1099 : BitVec 32) : Prop :=
  (∀ a, (k0_off366 v1099) a + S1x1024.size a ≤ S37888x1024.size a)
theorem k0_off366_inb : ∀ (v1099 : BitVec 32) (k0_hw183 : k0_chk183 v1099), ∀ a, (k0_off366 v1099) a + S1x1024.size a ≤ S37888x1024.size a := fun v1099 k0_hw183 => k0_hw183

def k0_off367 (i : grid0.Coords) : Fin 1 → Nat :=
  let arg0 : BitVec 32 := BitVec.ofNat 32 (i 0).val
  let c1024_i32 : BitVec 32 := 1024#32
  let v0 : BitVec 32 := Scalar.muli arg0 c1024_i32
  let c182_i32_779 : BitVec 32 := 182#32
  let v1102 : BitVec 32 := Scalar.addi v0 c182_i32_779
  let c1_i32_780 : BitVec 32 := 1#32
  let v1103 : BitVec 32 := Scalar.addi v1102 c1_i32_780
  let v1104 : Index := Scalar.indexCast v1103
  ![v1104.toNat]
def k0_off368 (v1105 : BitVec 32) : Fin 2 → Nat :=
  let c0_i32_781 : BitVec 32 := 0#32
  ![v1105.toNat, 0]

def k0_chk184 (v1105 : BitVec 32) : Prop :=
  (∀ a, (k0_off368 v1105) a + S1x1024.size a ≤ S37888x1024.size a)
theorem k0_off368_inb : ∀ (v1105 : BitVec 32) (k0_hw184 : k0_chk184 v1105), ∀ a, (k0_off368 v1105) a + S1x1024.size a ≤ S37888x1024.size a := fun v1105 k0_hw184 => k0_hw184

def k0_off369 (i : grid0.Coords) : Fin 1 → Nat :=
  let arg0 : BitVec 32 := BitVec.ofNat 32 (i 0).val
  let c1024_i32 : BitVec 32 := 1024#32
  let v0 : BitVec 32 := Scalar.muli arg0 c1024_i32
  let c184_i32 : BitVec 32 := 184#32
  let v1108 : BitVec 32 := Scalar.addi v0 c184_i32
  let c0_i32_784 : BitVec 32 := 0#32
  let v1109 : BitVec 32 := Scalar.addi v1108 c0_i32_784
  let v1110 : Index := Scalar.indexCast v1109
  ![v1110.toNat]
def k0_off370 (v1111 : BitVec 32) : Fin 2 → Nat :=
  let c0_i32_785 : BitVec 32 := 0#32
  ![v1111.toNat, 0]

def k0_chk185 (v1111 : BitVec 32) : Prop :=
  (∀ a, (k0_off370 v1111) a + S1x1024.size a ≤ S37888x1024.size a)
theorem k0_off370_inb : ∀ (v1111 : BitVec 32) (k0_hw185 : k0_chk185 v1111), ∀ a, (k0_off370 v1111) a + S1x1024.size a ≤ S37888x1024.size a := fun v1111 k0_hw185 => k0_hw185

def k0_off371 (i : grid0.Coords) : Fin 1 → Nat :=
  let arg0 : BitVec 32 := BitVec.ofNat 32 (i 0).val
  let c1024_i32 : BitVec 32 := 1024#32
  let v0 : BitVec 32 := Scalar.muli arg0 c1024_i32
  let c184_i32_788 : BitVec 32 := 184#32
  let v1114 : BitVec 32 := Scalar.addi v0 c184_i32_788
  let c1_i32_789 : BitVec 32 := 1#32
  let v1115 : BitVec 32 := Scalar.addi v1114 c1_i32_789
  let v1116 : Index := Scalar.indexCast v1115
  ![v1116.toNat]
def k0_off372 (v1117 : BitVec 32) : Fin 2 → Nat :=
  let c0_i32_790 : BitVec 32 := 0#32
  ![v1117.toNat, 0]

def k0_chk186 (v1117 : BitVec 32) : Prop :=
  (∀ a, (k0_off372 v1117) a + S1x1024.size a ≤ S37888x1024.size a)
theorem k0_off372_inb : ∀ (v1117 : BitVec 32) (k0_hw186 : k0_chk186 v1117), ∀ a, (k0_off372 v1117) a + S1x1024.size a ≤ S37888x1024.size a := fun v1117 k0_hw186 => k0_hw186

def k0_off373 (i : grid0.Coords) : Fin 1 → Nat :=
  let arg0 : BitVec 32 := BitVec.ofNat 32 (i 0).val
  let c1024_i32 : BitVec 32 := 1024#32
  let v0 : BitVec 32 := Scalar.muli arg0 c1024_i32
  let c186_i32 : BitVec 32 := 186#32
  let v1120 : BitVec 32 := Scalar.addi v0 c186_i32
  let c0_i32_793 : BitVec 32 := 0#32
  let v1121 : BitVec 32 := Scalar.addi v1120 c0_i32_793
  let v1122 : Index := Scalar.indexCast v1121
  ![v1122.toNat]
def k0_off374 (v1123 : BitVec 32) : Fin 2 → Nat :=
  let c0_i32_794 : BitVec 32 := 0#32
  ![v1123.toNat, 0]

def k0_chk187 (v1123 : BitVec 32) : Prop :=
  (∀ a, (k0_off374 v1123) a + S1x1024.size a ≤ S37888x1024.size a)
theorem k0_off374_inb : ∀ (v1123 : BitVec 32) (k0_hw187 : k0_chk187 v1123), ∀ a, (k0_off374 v1123) a + S1x1024.size a ≤ S37888x1024.size a := fun v1123 k0_hw187 => k0_hw187

def k0_off375 (i : grid0.Coords) : Fin 1 → Nat :=
  let arg0 : BitVec 32 := BitVec.ofNat 32 (i 0).val
  let c1024_i32 : BitVec 32 := 1024#32
  let v0 : BitVec 32 := Scalar.muli arg0 c1024_i32
  let c186_i32_796 : BitVec 32 := 186#32
  let v1126 : BitVec 32 := Scalar.addi v0 c186_i32_796
  let c1_i32_797 : BitVec 32 := 1#32
  let v1127 : BitVec 32 := Scalar.addi v1126 c1_i32_797
  let v1128 : Index := Scalar.indexCast v1127
  ![v1128.toNat]
def k0_off376 (v1129 : BitVec 32) : Fin 2 → Nat :=
  let c0_i32_798 : BitVec 32 := 0#32
  ![v1129.toNat, 0]

def k0_chk188 (v1129 : BitVec 32) : Prop :=
  (∀ a, (k0_off376 v1129) a + S1x1024.size a ≤ S37888x1024.size a)
theorem k0_off376_inb : ∀ (v1129 : BitVec 32) (k0_hw188 : k0_chk188 v1129), ∀ a, (k0_off376 v1129) a + S1x1024.size a ≤ S37888x1024.size a := fun v1129 k0_hw188 => k0_hw188

def k0_off377 (i : grid0.Coords) : Fin 1 → Nat :=
  let arg0 : BitVec 32 := BitVec.ofNat 32 (i 0).val
  let c1024_i32 : BitVec 32 := 1024#32
  let v0 : BitVec 32 := Scalar.muli arg0 c1024_i32
  let c188_i32 : BitVec 32 := 188#32
  let v1132 : BitVec 32 := Scalar.addi v0 c188_i32
  let c0_i32_801 : BitVec 32 := 0#32
  let v1133 : BitVec 32 := Scalar.addi v1132 c0_i32_801
  let v1134 : Index := Scalar.indexCast v1133
  ![v1134.toNat]
def k0_off378 (v1135 : BitVec 32) : Fin 2 → Nat :=
  let c0_i32_802 : BitVec 32 := 0#32
  ![v1135.toNat, 0]

def k0_chk189 (v1135 : BitVec 32) : Prop :=
  (∀ a, (k0_off378 v1135) a + S1x1024.size a ≤ S37888x1024.size a)
theorem k0_off378_inb : ∀ (v1135 : BitVec 32) (k0_hw189 : k0_chk189 v1135), ∀ a, (k0_off378 v1135) a + S1x1024.size a ≤ S37888x1024.size a := fun v1135 k0_hw189 => k0_hw189

def k0_off379 (i : grid0.Coords) : Fin 1 → Nat :=
  let arg0 : BitVec 32 := BitVec.ofNat 32 (i 0).val
  let c1024_i32 : BitVec 32 := 1024#32
  let v0 : BitVec 32 := Scalar.muli arg0 c1024_i32
  let c188_i32_805 : BitVec 32 := 188#32
  let v1138 : BitVec 32 := Scalar.addi v0 c188_i32_805
  let c1_i32_806 : BitVec 32 := 1#32
  let v1139 : BitVec 32 := Scalar.addi v1138 c1_i32_806
  let v1140 : Index := Scalar.indexCast v1139
  ![v1140.toNat]
def k0_off380 (v1141 : BitVec 32) : Fin 2 → Nat :=
  let c0_i32_807 : BitVec 32 := 0#32
  ![v1141.toNat, 0]

def k0_chk190 (v1141 : BitVec 32) : Prop :=
  (∀ a, (k0_off380 v1141) a + S1x1024.size a ≤ S37888x1024.size a)
theorem k0_off380_inb : ∀ (v1141 : BitVec 32) (k0_hw190 : k0_chk190 v1141), ∀ a, (k0_off380 v1141) a + S1x1024.size a ≤ S37888x1024.size a := fun v1141 k0_hw190 => k0_hw190

def k0_off381 (i : grid0.Coords) : Fin 1 → Nat :=
  let arg0 : BitVec 32 := BitVec.ofNat 32 (i 0).val
  let c1024_i32 : BitVec 32 := 1024#32
  let v0 : BitVec 32 := Scalar.muli arg0 c1024_i32
  let c190_i32 : BitVec 32 := 190#32
  let v1144 : BitVec 32 := Scalar.addi v0 c190_i32
  let c0_i32_810 : BitVec 32 := 0#32
  let v1145 : BitVec 32 := Scalar.addi v1144 c0_i32_810
  let v1146 : Index := Scalar.indexCast v1145
  ![v1146.toNat]
def k0_off382 (v1147 : BitVec 32) : Fin 2 → Nat :=
  let c0_i32_811 : BitVec 32 := 0#32
  ![v1147.toNat, 0]

def k0_chk191 (v1147 : BitVec 32) : Prop :=
  (∀ a, (k0_off382 v1147) a + S1x1024.size a ≤ S37888x1024.size a)
theorem k0_off382_inb : ∀ (v1147 : BitVec 32) (k0_hw191 : k0_chk191 v1147), ∀ a, (k0_off382 v1147) a + S1x1024.size a ≤ S37888x1024.size a := fun v1147 k0_hw191 => k0_hw191

def k0_off383 (i : grid0.Coords) : Fin 1 → Nat :=
  let arg0 : BitVec 32 := BitVec.ofNat 32 (i 0).val
  let c1024_i32 : BitVec 32 := 1024#32
  let v0 : BitVec 32 := Scalar.muli arg0 c1024_i32
  let c190_i32_813 : BitVec 32 := 190#32
  let v1150 : BitVec 32 := Scalar.addi v0 c190_i32_813
  let c1_i32_814 : BitVec 32 := 1#32
  let v1151 : BitVec 32 := Scalar.addi v1150 c1_i32_814
  let v1152 : Index := Scalar.indexCast v1151
  ![v1152.toNat]
def k0_off384 (v1153 : BitVec 32) : Fin 2 → Nat :=
  let c0_i32_815 : BitVec 32 := 0#32
  ![v1153.toNat, 0]

def k0_chk192 (v1153 : BitVec 32) : Prop :=
  (∀ a, (k0_off384 v1153) a + S1x1024.size a ≤ S37888x1024.size a)
theorem k0_off384_inb : ∀ (v1153 : BitVec 32) (k0_hw192 : k0_chk192 v1153), ∀ a, (k0_off384 v1153) a + S1x1024.size a ≤ S37888x1024.size a := fun v1153 k0_hw192 => k0_hw192

def k0_off385 (i : grid0.Coords) : Fin 1 → Nat :=
  let arg0 : BitVec 32 := BitVec.ofNat 32 (i 0).val
  let c1024_i32 : BitVec 32 := 1024#32
  let v0 : BitVec 32 := Scalar.muli arg0 c1024_i32
  let c192_i32 : BitVec 32 := 192#32
  let v1156 : BitVec 32 := Scalar.addi v0 c192_i32
  let c0_i32_818 : BitVec 32 := 0#32
  let v1157 : BitVec 32 := Scalar.addi v1156 c0_i32_818
  let v1158 : Index := Scalar.indexCast v1157
  ![v1158.toNat]
def k0_off386 (v1159 : BitVec 32) : Fin 2 → Nat :=
  let c0_i32_819 : BitVec 32 := 0#32
  ![v1159.toNat, 0]

def k0_chk193 (v1159 : BitVec 32) : Prop :=
  (∀ a, (k0_off386 v1159) a + S1x1024.size a ≤ S37888x1024.size a)
theorem k0_off386_inb : ∀ (v1159 : BitVec 32) (k0_hw193 : k0_chk193 v1159), ∀ a, (k0_off386 v1159) a + S1x1024.size a ≤ S37888x1024.size a := fun v1159 k0_hw193 => k0_hw193

def k0_off387 (i : grid0.Coords) : Fin 1 → Nat :=
  let arg0 : BitVec 32 := BitVec.ofNat 32 (i 0).val
  let c1024_i32 : BitVec 32 := 1024#32
  let v0 : BitVec 32 := Scalar.muli arg0 c1024_i32
  let c192_i32_822 : BitVec 32 := 192#32
  let v1162 : BitVec 32 := Scalar.addi v0 c192_i32_822
  let c1_i32_823 : BitVec 32 := 1#32
  let v1163 : BitVec 32 := Scalar.addi v1162 c1_i32_823
  let v1164 : Index := Scalar.indexCast v1163
  ![v1164.toNat]
def k0_off388 (v1165 : BitVec 32) : Fin 2 → Nat :=
  let c0_i32_824 : BitVec 32 := 0#32
  ![v1165.toNat, 0]

def k0_chk194 (v1165 : BitVec 32) : Prop :=
  (∀ a, (k0_off388 v1165) a + S1x1024.size a ≤ S37888x1024.size a)
theorem k0_off388_inb : ∀ (v1165 : BitVec 32) (k0_hw194 : k0_chk194 v1165), ∀ a, (k0_off388 v1165) a + S1x1024.size a ≤ S37888x1024.size a := fun v1165 k0_hw194 => k0_hw194

def k0_off389 (i : grid0.Coords) : Fin 1 → Nat :=
  let arg0 : BitVec 32 := BitVec.ofNat 32 (i 0).val
  let c1024_i32 : BitVec 32 := 1024#32
  let v0 : BitVec 32 := Scalar.muli arg0 c1024_i32
  let c194_i32 : BitVec 32 := 194#32
  let v1168 : BitVec 32 := Scalar.addi v0 c194_i32
  let c0_i32_827 : BitVec 32 := 0#32
  let v1169 : BitVec 32 := Scalar.addi v1168 c0_i32_827
  let v1170 : Index := Scalar.indexCast v1169
  ![v1170.toNat]
def k0_off390 (v1171 : BitVec 32) : Fin 2 → Nat :=
  let c0_i32_828 : BitVec 32 := 0#32
  ![v1171.toNat, 0]

def k0_chk195 (v1171 : BitVec 32) : Prop :=
  (∀ a, (k0_off390 v1171) a + S1x1024.size a ≤ S37888x1024.size a)
theorem k0_off390_inb : ∀ (v1171 : BitVec 32) (k0_hw195 : k0_chk195 v1171), ∀ a, (k0_off390 v1171) a + S1x1024.size a ≤ S37888x1024.size a := fun v1171 k0_hw195 => k0_hw195

def k0_off391 (i : grid0.Coords) : Fin 1 → Nat :=
  let arg0 : BitVec 32 := BitVec.ofNat 32 (i 0).val
  let c1024_i32 : BitVec 32 := 1024#32
  let v0 : BitVec 32 := Scalar.muli arg0 c1024_i32
  let c194_i32_830 : BitVec 32 := 194#32
  let v1174 : BitVec 32 := Scalar.addi v0 c194_i32_830
  let c1_i32_831 : BitVec 32 := 1#32
  let v1175 : BitVec 32 := Scalar.addi v1174 c1_i32_831
  let v1176 : Index := Scalar.indexCast v1175
  ![v1176.toNat]
def k0_off392 (v1177 : BitVec 32) : Fin 2 → Nat :=
  let c0_i32_832 : BitVec 32 := 0#32
  ![v1177.toNat, 0]

def k0_chk196 (v1177 : BitVec 32) : Prop :=
  (∀ a, (k0_off392 v1177) a + S1x1024.size a ≤ S37888x1024.size a)
theorem k0_off392_inb : ∀ (v1177 : BitVec 32) (k0_hw196 : k0_chk196 v1177), ∀ a, (k0_off392 v1177) a + S1x1024.size a ≤ S37888x1024.size a := fun v1177 k0_hw196 => k0_hw196

def k0_off393 (i : grid0.Coords) : Fin 1 → Nat :=
  let arg0 : BitVec 32 := BitVec.ofNat 32 (i 0).val
  let c1024_i32 : BitVec 32 := 1024#32
  let v0 : BitVec 32 := Scalar.muli arg0 c1024_i32
  let c196_i32 : BitVec 32 := 196#32
  let v1180 : BitVec 32 := Scalar.addi v0 c196_i32
  let c0_i32_835 : BitVec 32 := 0#32
  let v1181 : BitVec 32 := Scalar.addi v1180 c0_i32_835
  let v1182 : Index := Scalar.indexCast v1181
  ![v1182.toNat]
def k0_off394 (v1183 : BitVec 32) : Fin 2 → Nat :=
  let c0_i32_836 : BitVec 32 := 0#32
  ![v1183.toNat, 0]

def k0_chk197 (v1183 : BitVec 32) : Prop :=
  (∀ a, (k0_off394 v1183) a + S1x1024.size a ≤ S37888x1024.size a)
theorem k0_off394_inb : ∀ (v1183 : BitVec 32) (k0_hw197 : k0_chk197 v1183), ∀ a, (k0_off394 v1183) a + S1x1024.size a ≤ S37888x1024.size a := fun v1183 k0_hw197 => k0_hw197

def k0_off395 (i : grid0.Coords) : Fin 1 → Nat :=
  let arg0 : BitVec 32 := BitVec.ofNat 32 (i 0).val
  let c1024_i32 : BitVec 32 := 1024#32
  let v0 : BitVec 32 := Scalar.muli arg0 c1024_i32
  let c196_i32_839 : BitVec 32 := 196#32
  let v1186 : BitVec 32 := Scalar.addi v0 c196_i32_839
  let c1_i32_840 : BitVec 32 := 1#32
  let v1187 : BitVec 32 := Scalar.addi v1186 c1_i32_840
  let v1188 : Index := Scalar.indexCast v1187
  ![v1188.toNat]
def k0_off396 (v1189 : BitVec 32) : Fin 2 → Nat :=
  let c0_i32_841 : BitVec 32 := 0#32
  ![v1189.toNat, 0]

def k0_chk198 (v1189 : BitVec 32) : Prop :=
  (∀ a, (k0_off396 v1189) a + S1x1024.size a ≤ S37888x1024.size a)
theorem k0_off396_inb : ∀ (v1189 : BitVec 32) (k0_hw198 : k0_chk198 v1189), ∀ a, (k0_off396 v1189) a + S1x1024.size a ≤ S37888x1024.size a := fun v1189 k0_hw198 => k0_hw198

def k0_off397 (i : grid0.Coords) : Fin 1 → Nat :=
  let arg0 : BitVec 32 := BitVec.ofNat 32 (i 0).val
  let c1024_i32 : BitVec 32 := 1024#32
  let v0 : BitVec 32 := Scalar.muli arg0 c1024_i32
  let c198_i32 : BitVec 32 := 198#32
  let v1192 : BitVec 32 := Scalar.addi v0 c198_i32
  let c0_i32_844 : BitVec 32 := 0#32
  let v1193 : BitVec 32 := Scalar.addi v1192 c0_i32_844
  let v1194 : Index := Scalar.indexCast v1193
  ![v1194.toNat]
def k0_off398 (v1195 : BitVec 32) : Fin 2 → Nat :=
  let c0_i32_845 : BitVec 32 := 0#32
  ![v1195.toNat, 0]

def k0_chk199 (v1195 : BitVec 32) : Prop :=
  (∀ a, (k0_off398 v1195) a + S1x1024.size a ≤ S37888x1024.size a)
theorem k0_off398_inb : ∀ (v1195 : BitVec 32) (k0_hw199 : k0_chk199 v1195), ∀ a, (k0_off398 v1195) a + S1x1024.size a ≤ S37888x1024.size a := fun v1195 k0_hw199 => k0_hw199

def k0_off399 (i : grid0.Coords) : Fin 1 → Nat :=
  let arg0 : BitVec 32 := BitVec.ofNat 32 (i 0).val
  let c1024_i32 : BitVec 32 := 1024#32
  let v0 : BitVec 32 := Scalar.muli arg0 c1024_i32
  let c198_i32_847 : BitVec 32 := 198#32
  let v1198 : BitVec 32 := Scalar.addi v0 c198_i32_847
  let c1_i32_848 : BitVec 32 := 1#32
  let v1199 : BitVec 32 := Scalar.addi v1198 c1_i32_848
  let v1200 : Index := Scalar.indexCast v1199
  ![v1200.toNat]
def k0_off400 (v1201 : BitVec 32) : Fin 2 → Nat :=
  let c0_i32_849 : BitVec 32 := 0#32
  ![v1201.toNat, 0]

def k0_chk200 (v1201 : BitVec 32) : Prop :=
  (∀ a, (k0_off400 v1201) a + S1x1024.size a ≤ S37888x1024.size a)
theorem k0_off400_inb : ∀ (v1201 : BitVec 32) (k0_hw200 : k0_chk200 v1201), ∀ a, (k0_off400 v1201) a + S1x1024.size a ≤ S37888x1024.size a := fun v1201 k0_hw200 => k0_hw200

def k0_off401 (i : grid0.Coords) : Fin 1 → Nat :=
  let arg0 : BitVec 32 := BitVec.ofNat 32 (i 0).val
  let c1024_i32 : BitVec 32 := 1024#32
  let v0 : BitVec 32 := Scalar.muli arg0 c1024_i32
  let c200_i32 : BitVec 32 := 200#32
  let v1204 : BitVec 32 := Scalar.addi v0 c200_i32
  let c0_i32_852 : BitVec 32 := 0#32
  let v1205 : BitVec 32 := Scalar.addi v1204 c0_i32_852
  let v1206 : Index := Scalar.indexCast v1205
  ![v1206.toNat]
def k0_off402 (v1207 : BitVec 32) : Fin 2 → Nat :=
  let c0_i32_853 : BitVec 32 := 0#32
  ![v1207.toNat, 0]

def k0_chk201 (v1207 : BitVec 32) : Prop :=
  (∀ a, (k0_off402 v1207) a + S1x1024.size a ≤ S37888x1024.size a)
theorem k0_off402_inb : ∀ (v1207 : BitVec 32) (k0_hw201 : k0_chk201 v1207), ∀ a, (k0_off402 v1207) a + S1x1024.size a ≤ S37888x1024.size a := fun v1207 k0_hw201 => k0_hw201

def k0_off403 (i : grid0.Coords) : Fin 1 → Nat :=
  let arg0 : BitVec 32 := BitVec.ofNat 32 (i 0).val
  let c1024_i32 : BitVec 32 := 1024#32
  let v0 : BitVec 32 := Scalar.muli arg0 c1024_i32
  let c200_i32_856 : BitVec 32 := 200#32
  let v1210 : BitVec 32 := Scalar.addi v0 c200_i32_856
  let c1_i32_857 : BitVec 32 := 1#32
  let v1211 : BitVec 32 := Scalar.addi v1210 c1_i32_857
  let v1212 : Index := Scalar.indexCast v1211
  ![v1212.toNat]
def k0_off404 (v1213 : BitVec 32) : Fin 2 → Nat :=
  let c0_i32_858 : BitVec 32 := 0#32
  ![v1213.toNat, 0]

def k0_chk202 (v1213 : BitVec 32) : Prop :=
  (∀ a, (k0_off404 v1213) a + S1x1024.size a ≤ S37888x1024.size a)
theorem k0_off404_inb : ∀ (v1213 : BitVec 32) (k0_hw202 : k0_chk202 v1213), ∀ a, (k0_off404 v1213) a + S1x1024.size a ≤ S37888x1024.size a := fun v1213 k0_hw202 => k0_hw202

def k0_off405 (i : grid0.Coords) : Fin 1 → Nat :=
  let arg0 : BitVec 32 := BitVec.ofNat 32 (i 0).val
  let c1024_i32 : BitVec 32 := 1024#32
  let v0 : BitVec 32 := Scalar.muli arg0 c1024_i32
  let c202_i32 : BitVec 32 := 202#32
  let v1216 : BitVec 32 := Scalar.addi v0 c202_i32
  let c0_i32_861 : BitVec 32 := 0#32
  let v1217 : BitVec 32 := Scalar.addi v1216 c0_i32_861
  let v1218 : Index := Scalar.indexCast v1217
  ![v1218.toNat]
def k0_off406 (v1219 : BitVec 32) : Fin 2 → Nat :=
  let c0_i32_862 : BitVec 32 := 0#32
  ![v1219.toNat, 0]

def k0_chk203 (v1219 : BitVec 32) : Prop :=
  (∀ a, (k0_off406 v1219) a + S1x1024.size a ≤ S37888x1024.size a)
theorem k0_off406_inb : ∀ (v1219 : BitVec 32) (k0_hw203 : k0_chk203 v1219), ∀ a, (k0_off406 v1219) a + S1x1024.size a ≤ S37888x1024.size a := fun v1219 k0_hw203 => k0_hw203

def k0_off407 (i : grid0.Coords) : Fin 1 → Nat :=
  let arg0 : BitVec 32 := BitVec.ofNat 32 (i 0).val
  let c1024_i32 : BitVec 32 := 1024#32
  let v0 : BitVec 32 := Scalar.muli arg0 c1024_i32
  let c202_i32_864 : BitVec 32 := 202#32
  let v1222 : BitVec 32 := Scalar.addi v0 c202_i32_864
  let c1_i32_865 : BitVec 32 := 1#32
  let v1223 : BitVec 32 := Scalar.addi v1222 c1_i32_865
  let v1224 : Index := Scalar.indexCast v1223
  ![v1224.toNat]
def k0_off408 (v1225 : BitVec 32) : Fin 2 → Nat :=
  let c0_i32_866 : BitVec 32 := 0#32
  ![v1225.toNat, 0]

def k0_chk204 (v1225 : BitVec 32) : Prop :=
  (∀ a, (k0_off408 v1225) a + S1x1024.size a ≤ S37888x1024.size a)
theorem k0_off408_inb : ∀ (v1225 : BitVec 32) (k0_hw204 : k0_chk204 v1225), ∀ a, (k0_off408 v1225) a + S1x1024.size a ≤ S37888x1024.size a := fun v1225 k0_hw204 => k0_hw204

def k0_off409 (i : grid0.Coords) : Fin 1 → Nat :=
  let arg0 : BitVec 32 := BitVec.ofNat 32 (i 0).val
  let c1024_i32 : BitVec 32 := 1024#32
  let v0 : BitVec 32 := Scalar.muli arg0 c1024_i32
  let c204_i32 : BitVec 32 := 204#32
  let v1228 : BitVec 32 := Scalar.addi v0 c204_i32
  let c0_i32_869 : BitVec 32 := 0#32
  let v1229 : BitVec 32 := Scalar.addi v1228 c0_i32_869
  let v1230 : Index := Scalar.indexCast v1229
  ![v1230.toNat]
def k0_off410 (v1231 : BitVec 32) : Fin 2 → Nat :=
  let c0_i32_870 : BitVec 32 := 0#32
  ![v1231.toNat, 0]

def k0_chk205 (v1231 : BitVec 32) : Prop :=
  (∀ a, (k0_off410 v1231) a + S1x1024.size a ≤ S37888x1024.size a)
theorem k0_off410_inb : ∀ (v1231 : BitVec 32) (k0_hw205 : k0_chk205 v1231), ∀ a, (k0_off410 v1231) a + S1x1024.size a ≤ S37888x1024.size a := fun v1231 k0_hw205 => k0_hw205

def k0_off411 (i : grid0.Coords) : Fin 1 → Nat :=
  let arg0 : BitVec 32 := BitVec.ofNat 32 (i 0).val
  let c1024_i32 : BitVec 32 := 1024#32
  let v0 : BitVec 32 := Scalar.muli arg0 c1024_i32
  let c204_i32_873 : BitVec 32 := 204#32
  let v1234 : BitVec 32 := Scalar.addi v0 c204_i32_873
  let c1_i32_874 : BitVec 32 := 1#32
  let v1235 : BitVec 32 := Scalar.addi v1234 c1_i32_874
  let v1236 : Index := Scalar.indexCast v1235
  ![v1236.toNat]
def k0_off412 (v1237 : BitVec 32) : Fin 2 → Nat :=
  let c0_i32_875 : BitVec 32 := 0#32
  ![v1237.toNat, 0]

def k0_chk206 (v1237 : BitVec 32) : Prop :=
  (∀ a, (k0_off412 v1237) a + S1x1024.size a ≤ S37888x1024.size a)
theorem k0_off412_inb : ∀ (v1237 : BitVec 32) (k0_hw206 : k0_chk206 v1237), ∀ a, (k0_off412 v1237) a + S1x1024.size a ≤ S37888x1024.size a := fun v1237 k0_hw206 => k0_hw206

def k0_off413 (i : grid0.Coords) : Fin 1 → Nat :=
  let arg0 : BitVec 32 := BitVec.ofNat 32 (i 0).val
  let c1024_i32 : BitVec 32 := 1024#32
  let v0 : BitVec 32 := Scalar.muli arg0 c1024_i32
  let c206_i32 : BitVec 32 := 206#32
  let v1240 : BitVec 32 := Scalar.addi v0 c206_i32
  let c0_i32_878 : BitVec 32 := 0#32
  let v1241 : BitVec 32 := Scalar.addi v1240 c0_i32_878
  let v1242 : Index := Scalar.indexCast v1241
  ![v1242.toNat]
def k0_off414 (v1243 : BitVec 32) : Fin 2 → Nat :=
  let c0_i32_879 : BitVec 32 := 0#32
  ![v1243.toNat, 0]

def k0_chk207 (v1243 : BitVec 32) : Prop :=
  (∀ a, (k0_off414 v1243) a + S1x1024.size a ≤ S37888x1024.size a)
theorem k0_off414_inb : ∀ (v1243 : BitVec 32) (k0_hw207 : k0_chk207 v1243), ∀ a, (k0_off414 v1243) a + S1x1024.size a ≤ S37888x1024.size a := fun v1243 k0_hw207 => k0_hw207

def k0_off415 (i : grid0.Coords) : Fin 1 → Nat :=
  let arg0 : BitVec 32 := BitVec.ofNat 32 (i 0).val
  let c1024_i32 : BitVec 32 := 1024#32
  let v0 : BitVec 32 := Scalar.muli arg0 c1024_i32
  let c206_i32_881 : BitVec 32 := 206#32
  let v1246 : BitVec 32 := Scalar.addi v0 c206_i32_881
  let c1_i32_882 : BitVec 32 := 1#32
  let v1247 : BitVec 32 := Scalar.addi v1246 c1_i32_882
  let v1248 : Index := Scalar.indexCast v1247
  ![v1248.toNat]
def k0_off416 (v1249 : BitVec 32) : Fin 2 → Nat :=
  let c0_i32_883 : BitVec 32 := 0#32
  ![v1249.toNat, 0]

def k0_chk208 (v1249 : BitVec 32) : Prop :=
  (∀ a, (k0_off416 v1249) a + S1x1024.size a ≤ S37888x1024.size a)
theorem k0_off416_inb : ∀ (v1249 : BitVec 32) (k0_hw208 : k0_chk208 v1249), ∀ a, (k0_off416 v1249) a + S1x1024.size a ≤ S37888x1024.size a := fun v1249 k0_hw208 => k0_hw208

def k0_off417 (i : grid0.Coords) : Fin 1 → Nat :=
  let arg0 : BitVec 32 := BitVec.ofNat 32 (i 0).val
  let c1024_i32 : BitVec 32 := 1024#32
  let v0 : BitVec 32 := Scalar.muli arg0 c1024_i32
  let c208_i32 : BitVec 32 := 208#32
  let v1252 : BitVec 32 := Scalar.addi v0 c208_i32
  let c0_i32_886 : BitVec 32 := 0#32
  let v1253 : BitVec 32 := Scalar.addi v1252 c0_i32_886
  let v1254 : Index := Scalar.indexCast v1253
  ![v1254.toNat]
def k0_off418 (v1255 : BitVec 32) : Fin 2 → Nat :=
  let c0_i32_887 : BitVec 32 := 0#32
  ![v1255.toNat, 0]

def k0_chk209 (v1255 : BitVec 32) : Prop :=
  (∀ a, (k0_off418 v1255) a + S1x1024.size a ≤ S37888x1024.size a)
theorem k0_off418_inb : ∀ (v1255 : BitVec 32) (k0_hw209 : k0_chk209 v1255), ∀ a, (k0_off418 v1255) a + S1x1024.size a ≤ S37888x1024.size a := fun v1255 k0_hw209 => k0_hw209

def k0_off419 (i : grid0.Coords) : Fin 1 → Nat :=
  let arg0 : BitVec 32 := BitVec.ofNat 32 (i 0).val
  let c1024_i32 : BitVec 32 := 1024#32
  let v0 : BitVec 32 := Scalar.muli arg0 c1024_i32
  let c208_i32_890 : BitVec 32 := 208#32
  let v1258 : BitVec 32 := Scalar.addi v0 c208_i32_890
  let c1_i32_891 : BitVec 32 := 1#32
  let v1259 : BitVec 32 := Scalar.addi v1258 c1_i32_891
  let v1260 : Index := Scalar.indexCast v1259
  ![v1260.toNat]
def k0_off420 (v1261 : BitVec 32) : Fin 2 → Nat :=
  let c0_i32_892 : BitVec 32 := 0#32
  ![v1261.toNat, 0]

def k0_chk210 (v1261 : BitVec 32) : Prop :=
  (∀ a, (k0_off420 v1261) a + S1x1024.size a ≤ S37888x1024.size a)
theorem k0_off420_inb : ∀ (v1261 : BitVec 32) (k0_hw210 : k0_chk210 v1261), ∀ a, (k0_off420 v1261) a + S1x1024.size a ≤ S37888x1024.size a := fun v1261 k0_hw210 => k0_hw210

def k0_off421 (i : grid0.Coords) : Fin 1 → Nat :=
  let arg0 : BitVec 32 := BitVec.ofNat 32 (i 0).val
  let c1024_i32 : BitVec 32 := 1024#32
  let v0 : BitVec 32 := Scalar.muli arg0 c1024_i32
  let c210_i32 : BitVec 32 := 210#32
  let v1264 : BitVec 32 := Scalar.addi v0 c210_i32
  let c0_i32_895 : BitVec 32 := 0#32
  let v1265 : BitVec 32 := Scalar.addi v1264 c0_i32_895
  let v1266 : Index := Scalar.indexCast v1265
  ![v1266.toNat]
def k0_off422 (v1267 : BitVec 32) : Fin 2 → Nat :=
  let c0_i32_896 : BitVec 32 := 0#32
  ![v1267.toNat, 0]

def k0_chk211 (v1267 : BitVec 32) : Prop :=
  (∀ a, (k0_off422 v1267) a + S1x1024.size a ≤ S37888x1024.size a)
theorem k0_off422_inb : ∀ (v1267 : BitVec 32) (k0_hw211 : k0_chk211 v1267), ∀ a, (k0_off422 v1267) a + S1x1024.size a ≤ S37888x1024.size a := fun v1267 k0_hw211 => k0_hw211

def k0_off423 (i : grid0.Coords) : Fin 1 → Nat :=
  let arg0 : BitVec 32 := BitVec.ofNat 32 (i 0).val
  let c1024_i32 : BitVec 32 := 1024#32
  let v0 : BitVec 32 := Scalar.muli arg0 c1024_i32
  let c210_i32_898 : BitVec 32 := 210#32
  let v1270 : BitVec 32 := Scalar.addi v0 c210_i32_898
  let c1_i32_899 : BitVec 32 := 1#32
  let v1271 : BitVec 32 := Scalar.addi v1270 c1_i32_899
  let v1272 : Index := Scalar.indexCast v1271
  ![v1272.toNat]
def k0_off424 (v1273 : BitVec 32) : Fin 2 → Nat :=
  let c0_i32_900 : BitVec 32 := 0#32
  ![v1273.toNat, 0]

def k0_chk212 (v1273 : BitVec 32) : Prop :=
  (∀ a, (k0_off424 v1273) a + S1x1024.size a ≤ S37888x1024.size a)
theorem k0_off424_inb : ∀ (v1273 : BitVec 32) (k0_hw212 : k0_chk212 v1273), ∀ a, (k0_off424 v1273) a + S1x1024.size a ≤ S37888x1024.size a := fun v1273 k0_hw212 => k0_hw212

def k0_off425 (i : grid0.Coords) : Fin 1 → Nat :=
  let arg0 : BitVec 32 := BitVec.ofNat 32 (i 0).val
  let c1024_i32 : BitVec 32 := 1024#32
  let v0 : BitVec 32 := Scalar.muli arg0 c1024_i32
  let c212_i32 : BitVec 32 := 212#32
  let v1276 : BitVec 32 := Scalar.addi v0 c212_i32
  let c0_i32_903 : BitVec 32 := 0#32
  let v1277 : BitVec 32 := Scalar.addi v1276 c0_i32_903
  let v1278 : Index := Scalar.indexCast v1277
  ![v1278.toNat]
def k0_off426 (v1279 : BitVec 32) : Fin 2 → Nat :=
  let c0_i32_904 : BitVec 32 := 0#32
  ![v1279.toNat, 0]

def k0_chk213 (v1279 : BitVec 32) : Prop :=
  (∀ a, (k0_off426 v1279) a + S1x1024.size a ≤ S37888x1024.size a)
theorem k0_off426_inb : ∀ (v1279 : BitVec 32) (k0_hw213 : k0_chk213 v1279), ∀ a, (k0_off426 v1279) a + S1x1024.size a ≤ S37888x1024.size a := fun v1279 k0_hw213 => k0_hw213

def k0_off427 (i : grid0.Coords) : Fin 1 → Nat :=
  let arg0 : BitVec 32 := BitVec.ofNat 32 (i 0).val
  let c1024_i32 : BitVec 32 := 1024#32
  let v0 : BitVec 32 := Scalar.muli arg0 c1024_i32
  let c212_i32_907 : BitVec 32 := 212#32
  let v1282 : BitVec 32 := Scalar.addi v0 c212_i32_907
  let c1_i32_908 : BitVec 32 := 1#32
  let v1283 : BitVec 32 := Scalar.addi v1282 c1_i32_908
  let v1284 : Index := Scalar.indexCast v1283
  ![v1284.toNat]
def k0_off428 (v1285 : BitVec 32) : Fin 2 → Nat :=
  let c0_i32_909 : BitVec 32 := 0#32
  ![v1285.toNat, 0]

def k0_chk214 (v1285 : BitVec 32) : Prop :=
  (∀ a, (k0_off428 v1285) a + S1x1024.size a ≤ S37888x1024.size a)
theorem k0_off428_inb : ∀ (v1285 : BitVec 32) (k0_hw214 : k0_chk214 v1285), ∀ a, (k0_off428 v1285) a + S1x1024.size a ≤ S37888x1024.size a := fun v1285 k0_hw214 => k0_hw214

def k0_off429 (i : grid0.Coords) : Fin 1 → Nat :=
  let arg0 : BitVec 32 := BitVec.ofNat 32 (i 0).val
  let c1024_i32 : BitVec 32 := 1024#32
  let v0 : BitVec 32 := Scalar.muli arg0 c1024_i32
  let c214_i32 : BitVec 32 := 214#32
  let v1288 : BitVec 32 := Scalar.addi v0 c214_i32
  let c0_i32_912 : BitVec 32 := 0#32
  let v1289 : BitVec 32 := Scalar.addi v1288 c0_i32_912
  let v1290 : Index := Scalar.indexCast v1289
  ![v1290.toNat]
def k0_off430 (v1291 : BitVec 32) : Fin 2 → Nat :=
  let c0_i32_913 : BitVec 32 := 0#32
  ![v1291.toNat, 0]

def k0_chk215 (v1291 : BitVec 32) : Prop :=
  (∀ a, (k0_off430 v1291) a + S1x1024.size a ≤ S37888x1024.size a)
theorem k0_off430_inb : ∀ (v1291 : BitVec 32) (k0_hw215 : k0_chk215 v1291), ∀ a, (k0_off430 v1291) a + S1x1024.size a ≤ S37888x1024.size a := fun v1291 k0_hw215 => k0_hw215

def k0_off431 (i : grid0.Coords) : Fin 1 → Nat :=
  let arg0 : BitVec 32 := BitVec.ofNat 32 (i 0).val
  let c1024_i32 : BitVec 32 := 1024#32
  let v0 : BitVec 32 := Scalar.muli arg0 c1024_i32
  let c214_i32_915 : BitVec 32 := 214#32
  let v1294 : BitVec 32 := Scalar.addi v0 c214_i32_915
  let c1_i32_916 : BitVec 32 := 1#32
  let v1295 : BitVec 32 := Scalar.addi v1294 c1_i32_916
  let v1296 : Index := Scalar.indexCast v1295
  ![v1296.toNat]
def k0_off432 (v1297 : BitVec 32) : Fin 2 → Nat :=
  let c0_i32_917 : BitVec 32 := 0#32
  ![v1297.toNat, 0]

def k0_chk216 (v1297 : BitVec 32) : Prop :=
  (∀ a, (k0_off432 v1297) a + S1x1024.size a ≤ S37888x1024.size a)
theorem k0_off432_inb : ∀ (v1297 : BitVec 32) (k0_hw216 : k0_chk216 v1297), ∀ a, (k0_off432 v1297) a + S1x1024.size a ≤ S37888x1024.size a := fun v1297 k0_hw216 => k0_hw216

def k0_off433 (i : grid0.Coords) : Fin 1 → Nat :=
  let arg0 : BitVec 32 := BitVec.ofNat 32 (i 0).val
  let c1024_i32 : BitVec 32 := 1024#32
  let v0 : BitVec 32 := Scalar.muli arg0 c1024_i32
  let c216_i32 : BitVec 32 := 216#32
  let v1300 : BitVec 32 := Scalar.addi v0 c216_i32
  let c0_i32_920 : BitVec 32 := 0#32
  let v1301 : BitVec 32 := Scalar.addi v1300 c0_i32_920
  let v1302 : Index := Scalar.indexCast v1301
  ![v1302.toNat]
def k0_off434 (v1303 : BitVec 32) : Fin 2 → Nat :=
  let c0_i32_921 : BitVec 32 := 0#32
  ![v1303.toNat, 0]

def k0_chk217 (v1303 : BitVec 32) : Prop :=
  (∀ a, (k0_off434 v1303) a + S1x1024.size a ≤ S37888x1024.size a)
theorem k0_off434_inb : ∀ (v1303 : BitVec 32) (k0_hw217 : k0_chk217 v1303), ∀ a, (k0_off434 v1303) a + S1x1024.size a ≤ S37888x1024.size a := fun v1303 k0_hw217 => k0_hw217

def k0_off435 (i : grid0.Coords) : Fin 1 → Nat :=
  let arg0 : BitVec 32 := BitVec.ofNat 32 (i 0).val
  let c1024_i32 : BitVec 32 := 1024#32
  let v0 : BitVec 32 := Scalar.muli arg0 c1024_i32
  let c216_i32_924 : BitVec 32 := 216#32
  let v1306 : BitVec 32 := Scalar.addi v0 c216_i32_924
  let c1_i32_925 : BitVec 32 := 1#32
  let v1307 : BitVec 32 := Scalar.addi v1306 c1_i32_925
  let v1308 : Index := Scalar.indexCast v1307
  ![v1308.toNat]
def k0_off436 (v1309 : BitVec 32) : Fin 2 → Nat :=
  let c0_i32_926 : BitVec 32 := 0#32
  ![v1309.toNat, 0]

def k0_chk218 (v1309 : BitVec 32) : Prop :=
  (∀ a, (k0_off436 v1309) a + S1x1024.size a ≤ S37888x1024.size a)
theorem k0_off436_inb : ∀ (v1309 : BitVec 32) (k0_hw218 : k0_chk218 v1309), ∀ a, (k0_off436 v1309) a + S1x1024.size a ≤ S37888x1024.size a := fun v1309 k0_hw218 => k0_hw218

def k0_off437 (i : grid0.Coords) : Fin 1 → Nat :=
  let arg0 : BitVec 32 := BitVec.ofNat 32 (i 0).val
  let c1024_i32 : BitVec 32 := 1024#32
  let v0 : BitVec 32 := Scalar.muli arg0 c1024_i32
  let c218_i32 : BitVec 32 := 218#32
  let v1312 : BitVec 32 := Scalar.addi v0 c218_i32
  let c0_i32_929 : BitVec 32 := 0#32
  let v1313 : BitVec 32 := Scalar.addi v1312 c0_i32_929
  let v1314 : Index := Scalar.indexCast v1313
  ![v1314.toNat]
def k0_off438 (v1315 : BitVec 32) : Fin 2 → Nat :=
  let c0_i32_930 : BitVec 32 := 0#32
  ![v1315.toNat, 0]

def k0_chk219 (v1315 : BitVec 32) : Prop :=
  (∀ a, (k0_off438 v1315) a + S1x1024.size a ≤ S37888x1024.size a)
theorem k0_off438_inb : ∀ (v1315 : BitVec 32) (k0_hw219 : k0_chk219 v1315), ∀ a, (k0_off438 v1315) a + S1x1024.size a ≤ S37888x1024.size a := fun v1315 k0_hw219 => k0_hw219

def k0_off439 (i : grid0.Coords) : Fin 1 → Nat :=
  let arg0 : BitVec 32 := BitVec.ofNat 32 (i 0).val
  let c1024_i32 : BitVec 32 := 1024#32
  let v0 : BitVec 32 := Scalar.muli arg0 c1024_i32
  let c218_i32_932 : BitVec 32 := 218#32
  let v1318 : BitVec 32 := Scalar.addi v0 c218_i32_932
  let c1_i32_933 : BitVec 32 := 1#32
  let v1319 : BitVec 32 := Scalar.addi v1318 c1_i32_933
  let v1320 : Index := Scalar.indexCast v1319
  ![v1320.toNat]
def k0_off440 (v1321 : BitVec 32) : Fin 2 → Nat :=
  let c0_i32_934 : BitVec 32 := 0#32
  ![v1321.toNat, 0]

def k0_chk220 (v1321 : BitVec 32) : Prop :=
  (∀ a, (k0_off440 v1321) a + S1x1024.size a ≤ S37888x1024.size a)
theorem k0_off440_inb : ∀ (v1321 : BitVec 32) (k0_hw220 : k0_chk220 v1321), ∀ a, (k0_off440 v1321) a + S1x1024.size a ≤ S37888x1024.size a := fun v1321 k0_hw220 => k0_hw220

def k0_off441 (i : grid0.Coords) : Fin 1 → Nat :=
  let arg0 : BitVec 32 := BitVec.ofNat 32 (i 0).val
  let c1024_i32 : BitVec 32 := 1024#32
  let v0 : BitVec 32 := Scalar.muli arg0 c1024_i32
  let c220_i32 : BitVec 32 := 220#32
  let v1324 : BitVec 32 := Scalar.addi v0 c220_i32
  let c0_i32_937 : BitVec 32 := 0#32
  let v1325 : BitVec 32 := Scalar.addi v1324 c0_i32_937
  let v1326 : Index := Scalar.indexCast v1325
  ![v1326.toNat]
def k0_off442 (v1327 : BitVec 32) : Fin 2 → Nat :=
  let c0_i32_938 : BitVec 32 := 0#32
  ![v1327.toNat, 0]

def k0_chk221 (v1327 : BitVec 32) : Prop :=
  (∀ a, (k0_off442 v1327) a + S1x1024.size a ≤ S37888x1024.size a)
theorem k0_off442_inb : ∀ (v1327 : BitVec 32) (k0_hw221 : k0_chk221 v1327), ∀ a, (k0_off442 v1327) a + S1x1024.size a ≤ S37888x1024.size a := fun v1327 k0_hw221 => k0_hw221

def k0_off443 (i : grid0.Coords) : Fin 1 → Nat :=
  let arg0 : BitVec 32 := BitVec.ofNat 32 (i 0).val
  let c1024_i32 : BitVec 32 := 1024#32
  let v0 : BitVec 32 := Scalar.muli arg0 c1024_i32
  let c220_i32_941 : BitVec 32 := 220#32
  let v1330 : BitVec 32 := Scalar.addi v0 c220_i32_941
  let c1_i32_942 : BitVec 32 := 1#32
  let v1331 : BitVec 32 := Scalar.addi v1330 c1_i32_942
  let v1332 : Index := Scalar.indexCast v1331
  ![v1332.toNat]
def k0_off444 (v1333 : BitVec 32) : Fin 2 → Nat :=
  let c0_i32_943 : BitVec 32 := 0#32
  ![v1333.toNat, 0]

def k0_chk222 (v1333 : BitVec 32) : Prop :=
  (∀ a, (k0_off444 v1333) a + S1x1024.size a ≤ S37888x1024.size a)
theorem k0_off444_inb : ∀ (v1333 : BitVec 32) (k0_hw222 : k0_chk222 v1333), ∀ a, (k0_off444 v1333) a + S1x1024.size a ≤ S37888x1024.size a := fun v1333 k0_hw222 => k0_hw222

def k0_off445 (i : grid0.Coords) : Fin 1 → Nat :=
  let arg0 : BitVec 32 := BitVec.ofNat 32 (i 0).val
  let c1024_i32 : BitVec 32 := 1024#32
  let v0 : BitVec 32 := Scalar.muli arg0 c1024_i32
  let c222_i32 : BitVec 32 := 222#32
  let v1336 : BitVec 32 := Scalar.addi v0 c222_i32
  let c0_i32_946 : BitVec 32 := 0#32
  let v1337 : BitVec 32 := Scalar.addi v1336 c0_i32_946
  let v1338 : Index := Scalar.indexCast v1337
  ![v1338.toNat]
def k0_off446 (v1339 : BitVec 32) : Fin 2 → Nat :=
  let c0_i32_947 : BitVec 32 := 0#32
  ![v1339.toNat, 0]

def k0_chk223 (v1339 : BitVec 32) : Prop :=
  (∀ a, (k0_off446 v1339) a + S1x1024.size a ≤ S37888x1024.size a)
theorem k0_off446_inb : ∀ (v1339 : BitVec 32) (k0_hw223 : k0_chk223 v1339), ∀ a, (k0_off446 v1339) a + S1x1024.size a ≤ S37888x1024.size a := fun v1339 k0_hw223 => k0_hw223

def k0_off447 (i : grid0.Coords) : Fin 1 → Nat :=
  let arg0 : BitVec 32 := BitVec.ofNat 32 (i 0).val
  let c1024_i32 : BitVec 32 := 1024#32
  let v0 : BitVec 32 := Scalar.muli arg0 c1024_i32
  let c222_i32_949 : BitVec 32 := 222#32
  let v1342 : BitVec 32 := Scalar.addi v0 c222_i32_949
  let c1_i32_950 : BitVec 32 := 1#32
  let v1343 : BitVec 32 := Scalar.addi v1342 c1_i32_950
  let v1344 : Index := Scalar.indexCast v1343
  ![v1344.toNat]
def k0_off448 (v1345 : BitVec 32) : Fin 2 → Nat :=
  let c0_i32_951 : BitVec 32 := 0#32
  ![v1345.toNat, 0]

def k0_chk224 (v1345 : BitVec 32) : Prop :=
  (∀ a, (k0_off448 v1345) a + S1x1024.size a ≤ S37888x1024.size a)
theorem k0_off448_inb : ∀ (v1345 : BitVec 32) (k0_hw224 : k0_chk224 v1345), ∀ a, (k0_off448 v1345) a + S1x1024.size a ≤ S37888x1024.size a := fun v1345 k0_hw224 => k0_hw224

def k0_off449 (i : grid0.Coords) : Fin 1 → Nat :=
  let arg0 : BitVec 32 := BitVec.ofNat 32 (i 0).val
  let c1024_i32 : BitVec 32 := 1024#32
  let v0 : BitVec 32 := Scalar.muli arg0 c1024_i32
  let c224_i32 : BitVec 32 := 224#32
  let v1348 : BitVec 32 := Scalar.addi v0 c224_i32
  let c0_i32_954 : BitVec 32 := 0#32
  let v1349 : BitVec 32 := Scalar.addi v1348 c0_i32_954
  let v1350 : Index := Scalar.indexCast v1349
  ![v1350.toNat]
def k0_off450 (v1351 : BitVec 32) : Fin 2 → Nat :=
  let c0_i32_955 : BitVec 32 := 0#32
  ![v1351.toNat, 0]

def k0_chk225 (v1351 : BitVec 32) : Prop :=
  (∀ a, (k0_off450 v1351) a + S1x1024.size a ≤ S37888x1024.size a)
theorem k0_off450_inb : ∀ (v1351 : BitVec 32) (k0_hw225 : k0_chk225 v1351), ∀ a, (k0_off450 v1351) a + S1x1024.size a ≤ S37888x1024.size a := fun v1351 k0_hw225 => k0_hw225

def k0_off451 (i : grid0.Coords) : Fin 1 → Nat :=
  let arg0 : BitVec 32 := BitVec.ofNat 32 (i 0).val
  let c1024_i32 : BitVec 32 := 1024#32
  let v0 : BitVec 32 := Scalar.muli arg0 c1024_i32
  let c224_i32_958 : BitVec 32 := 224#32
  let v1354 : BitVec 32 := Scalar.addi v0 c224_i32_958
  let c1_i32_959 : BitVec 32 := 1#32
  let v1355 : BitVec 32 := Scalar.addi v1354 c1_i32_959
  let v1356 : Index := Scalar.indexCast v1355
  ![v1356.toNat]
def k0_off452 (v1357 : BitVec 32) : Fin 2 → Nat :=
  let c0_i32_960 : BitVec 32 := 0#32
  ![v1357.toNat, 0]

def k0_chk226 (v1357 : BitVec 32) : Prop :=
  (∀ a, (k0_off452 v1357) a + S1x1024.size a ≤ S37888x1024.size a)
theorem k0_off452_inb : ∀ (v1357 : BitVec 32) (k0_hw226 : k0_chk226 v1357), ∀ a, (k0_off452 v1357) a + S1x1024.size a ≤ S37888x1024.size a := fun v1357 k0_hw226 => k0_hw226

def k0_off453 (i : grid0.Coords) : Fin 1 → Nat :=
  let arg0 : BitVec 32 := BitVec.ofNat 32 (i 0).val
  let c1024_i32 : BitVec 32 := 1024#32
  let v0 : BitVec 32 := Scalar.muli arg0 c1024_i32
  let c226_i32 : BitVec 32 := 226#32
  let v1360 : BitVec 32 := Scalar.addi v0 c226_i32
  let c0_i32_963 : BitVec 32 := 0#32
  let v1361 : BitVec 32 := Scalar.addi v1360 c0_i32_963
  let v1362 : Index := Scalar.indexCast v1361
  ![v1362.toNat]
def k0_off454 (v1363 : BitVec 32) : Fin 2 → Nat :=
  let c0_i32_964 : BitVec 32 := 0#32
  ![v1363.toNat, 0]

def k0_chk227 (v1363 : BitVec 32) : Prop :=
  (∀ a, (k0_off454 v1363) a + S1x1024.size a ≤ S37888x1024.size a)
theorem k0_off454_inb : ∀ (v1363 : BitVec 32) (k0_hw227 : k0_chk227 v1363), ∀ a, (k0_off454 v1363) a + S1x1024.size a ≤ S37888x1024.size a := fun v1363 k0_hw227 => k0_hw227

def k0_off455 (i : grid0.Coords) : Fin 1 → Nat :=
  let arg0 : BitVec 32 := BitVec.ofNat 32 (i 0).val
  let c1024_i32 : BitVec 32 := 1024#32
  let v0 : BitVec 32 := Scalar.muli arg0 c1024_i32
  let c226_i32_966 : BitVec 32 := 226#32
  let v1366 : BitVec 32 := Scalar.addi v0 c226_i32_966
  let c1_i32_967 : BitVec 32 := 1#32
  let v1367 : BitVec 32 := Scalar.addi v1366 c1_i32_967
  let v1368 : Index := Scalar.indexCast v1367
  ![v1368.toNat]
def k0_off456 (v1369 : BitVec 32) : Fin 2 → Nat :=
  let c0_i32_968 : BitVec 32 := 0#32
  ![v1369.toNat, 0]

def k0_chk228 (v1369 : BitVec 32) : Prop :=
  (∀ a, (k0_off456 v1369) a + S1x1024.size a ≤ S37888x1024.size a)
theorem k0_off456_inb : ∀ (v1369 : BitVec 32) (k0_hw228 : k0_chk228 v1369), ∀ a, (k0_off456 v1369) a + S1x1024.size a ≤ S37888x1024.size a := fun v1369 k0_hw228 => k0_hw228

def k0_off457 (i : grid0.Coords) : Fin 1 → Nat :=
  let arg0 : BitVec 32 := BitVec.ofNat 32 (i 0).val
  let c1024_i32 : BitVec 32 := 1024#32
  let v0 : BitVec 32 := Scalar.muli arg0 c1024_i32
  let c228_i32 : BitVec 32 := 228#32
  let v1372 : BitVec 32 := Scalar.addi v0 c228_i32
  let c0_i32_971 : BitVec 32 := 0#32
  let v1373 : BitVec 32 := Scalar.addi v1372 c0_i32_971
  let v1374 : Index := Scalar.indexCast v1373
  ![v1374.toNat]
def k0_off458 (v1375 : BitVec 32) : Fin 2 → Nat :=
  let c0_i32_972 : BitVec 32 := 0#32
  ![v1375.toNat, 0]

def k0_chk229 (v1375 : BitVec 32) : Prop :=
  (∀ a, (k0_off458 v1375) a + S1x1024.size a ≤ S37888x1024.size a)
theorem k0_off458_inb : ∀ (v1375 : BitVec 32) (k0_hw229 : k0_chk229 v1375), ∀ a, (k0_off458 v1375) a + S1x1024.size a ≤ S37888x1024.size a := fun v1375 k0_hw229 => k0_hw229

def k0_off459 (i : grid0.Coords) : Fin 1 → Nat :=
  let arg0 : BitVec 32 := BitVec.ofNat 32 (i 0).val
  let c1024_i32 : BitVec 32 := 1024#32
  let v0 : BitVec 32 := Scalar.muli arg0 c1024_i32
  let c228_i32_975 : BitVec 32 := 228#32
  let v1378 : BitVec 32 := Scalar.addi v0 c228_i32_975
  let c1_i32_976 : BitVec 32 := 1#32
  let v1379 : BitVec 32 := Scalar.addi v1378 c1_i32_976
  let v1380 : Index := Scalar.indexCast v1379
  ![v1380.toNat]
def k0_off460 (v1381 : BitVec 32) : Fin 2 → Nat :=
  let c0_i32_977 : BitVec 32 := 0#32
  ![v1381.toNat, 0]

def k0_chk230 (v1381 : BitVec 32) : Prop :=
  (∀ a, (k0_off460 v1381) a + S1x1024.size a ≤ S37888x1024.size a)
theorem k0_off460_inb : ∀ (v1381 : BitVec 32) (k0_hw230 : k0_chk230 v1381), ∀ a, (k0_off460 v1381) a + S1x1024.size a ≤ S37888x1024.size a := fun v1381 k0_hw230 => k0_hw230

def k0_off461 (i : grid0.Coords) : Fin 1 → Nat :=
  let arg0 : BitVec 32 := BitVec.ofNat 32 (i 0).val
  let c1024_i32 : BitVec 32 := 1024#32
  let v0 : BitVec 32 := Scalar.muli arg0 c1024_i32
  let c230_i32 : BitVec 32 := 230#32
  let v1384 : BitVec 32 := Scalar.addi v0 c230_i32
  let c0_i32_980 : BitVec 32 := 0#32
  let v1385 : BitVec 32 := Scalar.addi v1384 c0_i32_980
  let v1386 : Index := Scalar.indexCast v1385
  ![v1386.toNat]
def k0_off462 (v1387 : BitVec 32) : Fin 2 → Nat :=
  let c0_i32_981 : BitVec 32 := 0#32
  ![v1387.toNat, 0]

def k0_chk231 (v1387 : BitVec 32) : Prop :=
  (∀ a, (k0_off462 v1387) a + S1x1024.size a ≤ S37888x1024.size a)
theorem k0_off462_inb : ∀ (v1387 : BitVec 32) (k0_hw231 : k0_chk231 v1387), ∀ a, (k0_off462 v1387) a + S1x1024.size a ≤ S37888x1024.size a := fun v1387 k0_hw231 => k0_hw231

def k0_off463 (i : grid0.Coords) : Fin 1 → Nat :=
  let arg0 : BitVec 32 := BitVec.ofNat 32 (i 0).val
  let c1024_i32 : BitVec 32 := 1024#32
  let v0 : BitVec 32 := Scalar.muli arg0 c1024_i32
  let c230_i32_983 : BitVec 32 := 230#32
  let v1390 : BitVec 32 := Scalar.addi v0 c230_i32_983
  let c1_i32_984 : BitVec 32 := 1#32
  let v1391 : BitVec 32 := Scalar.addi v1390 c1_i32_984
  let v1392 : Index := Scalar.indexCast v1391
  ![v1392.toNat]
def k0_off464 (v1393 : BitVec 32) : Fin 2 → Nat :=
  let c0_i32_985 : BitVec 32 := 0#32
  ![v1393.toNat, 0]

def k0_chk232 (v1393 : BitVec 32) : Prop :=
  (∀ a, (k0_off464 v1393) a + S1x1024.size a ≤ S37888x1024.size a)
theorem k0_off464_inb : ∀ (v1393 : BitVec 32) (k0_hw232 : k0_chk232 v1393), ∀ a, (k0_off464 v1393) a + S1x1024.size a ≤ S37888x1024.size a := fun v1393 k0_hw232 => k0_hw232

def k0_off465 (i : grid0.Coords) : Fin 1 → Nat :=
  let arg0 : BitVec 32 := BitVec.ofNat 32 (i 0).val
  let c1024_i32 : BitVec 32 := 1024#32
  let v0 : BitVec 32 := Scalar.muli arg0 c1024_i32
  let c232_i32 : BitVec 32 := 232#32
  let v1396 : BitVec 32 := Scalar.addi v0 c232_i32
  let c0_i32_988 : BitVec 32 := 0#32
  let v1397 : BitVec 32 := Scalar.addi v1396 c0_i32_988
  let v1398 : Index := Scalar.indexCast v1397
  ![v1398.toNat]
def k0_off466 (v1399 : BitVec 32) : Fin 2 → Nat :=
  let c0_i32_989 : BitVec 32 := 0#32
  ![v1399.toNat, 0]

def k0_chk233 (v1399 : BitVec 32) : Prop :=
  (∀ a, (k0_off466 v1399) a + S1x1024.size a ≤ S37888x1024.size a)
theorem k0_off466_inb : ∀ (v1399 : BitVec 32) (k0_hw233 : k0_chk233 v1399), ∀ a, (k0_off466 v1399) a + S1x1024.size a ≤ S37888x1024.size a := fun v1399 k0_hw233 => k0_hw233

def k0_off467 (i : grid0.Coords) : Fin 1 → Nat :=
  let arg0 : BitVec 32 := BitVec.ofNat 32 (i 0).val
  let c1024_i32 : BitVec 32 := 1024#32
  let v0 : BitVec 32 := Scalar.muli arg0 c1024_i32
  let c232_i32_992 : BitVec 32 := 232#32
  let v1402 : BitVec 32 := Scalar.addi v0 c232_i32_992
  let c1_i32_993 : BitVec 32 := 1#32
  let v1403 : BitVec 32 := Scalar.addi v1402 c1_i32_993
  let v1404 : Index := Scalar.indexCast v1403
  ![v1404.toNat]
def k0_off468 (v1405 : BitVec 32) : Fin 2 → Nat :=
  let c0_i32_994 : BitVec 32 := 0#32
  ![v1405.toNat, 0]

def k0_chk234 (v1405 : BitVec 32) : Prop :=
  (∀ a, (k0_off468 v1405) a + S1x1024.size a ≤ S37888x1024.size a)
theorem k0_off468_inb : ∀ (v1405 : BitVec 32) (k0_hw234 : k0_chk234 v1405), ∀ a, (k0_off468 v1405) a + S1x1024.size a ≤ S37888x1024.size a := fun v1405 k0_hw234 => k0_hw234

def k0_off469 (i : grid0.Coords) : Fin 1 → Nat :=
  let arg0 : BitVec 32 := BitVec.ofNat 32 (i 0).val
  let c1024_i32 : BitVec 32 := 1024#32
  let v0 : BitVec 32 := Scalar.muli arg0 c1024_i32
  let c234_i32 : BitVec 32 := 234#32
  let v1408 : BitVec 32 := Scalar.addi v0 c234_i32
  let c0_i32_997 : BitVec 32 := 0#32
  let v1409 : BitVec 32 := Scalar.addi v1408 c0_i32_997
  let v1410 : Index := Scalar.indexCast v1409
  ![v1410.toNat]
def k0_off470 (v1411 : BitVec 32) : Fin 2 → Nat :=
  let c0_i32_998 : BitVec 32 := 0#32
  ![v1411.toNat, 0]

def k0_chk235 (v1411 : BitVec 32) : Prop :=
  (∀ a, (k0_off470 v1411) a + S1x1024.size a ≤ S37888x1024.size a)
theorem k0_off470_inb : ∀ (v1411 : BitVec 32) (k0_hw235 : k0_chk235 v1411), ∀ a, (k0_off470 v1411) a + S1x1024.size a ≤ S37888x1024.size a := fun v1411 k0_hw235 => k0_hw235

def k0_off471 (i : grid0.Coords) : Fin 1 → Nat :=
  let arg0 : BitVec 32 := BitVec.ofNat 32 (i 0).val
  let c1024_i32 : BitVec 32 := 1024#32
  let v0 : BitVec 32 := Scalar.muli arg0 c1024_i32
  let c234_i32_1000 : BitVec 32 := 234#32
  let v1414 : BitVec 32 := Scalar.addi v0 c234_i32_1000
  let c1_i32_1001 : BitVec 32 := 1#32
  let v1415 : BitVec 32 := Scalar.addi v1414 c1_i32_1001
  let v1416 : Index := Scalar.indexCast v1415
  ![v1416.toNat]
def k0_off472 (v1417 : BitVec 32) : Fin 2 → Nat :=
  let c0_i32_1002 : BitVec 32 := 0#32
  ![v1417.toNat, 0]

def k0_chk236 (v1417 : BitVec 32) : Prop :=
  (∀ a, (k0_off472 v1417) a + S1x1024.size a ≤ S37888x1024.size a)
theorem k0_off472_inb : ∀ (v1417 : BitVec 32) (k0_hw236 : k0_chk236 v1417), ∀ a, (k0_off472 v1417) a + S1x1024.size a ≤ S37888x1024.size a := fun v1417 k0_hw236 => k0_hw236

def k0_off473 (i : grid0.Coords) : Fin 1 → Nat :=
  let arg0 : BitVec 32 := BitVec.ofNat 32 (i 0).val
  let c1024_i32 : BitVec 32 := 1024#32
  let v0 : BitVec 32 := Scalar.muli arg0 c1024_i32
  let c236_i32 : BitVec 32 := 236#32
  let v1420 : BitVec 32 := Scalar.addi v0 c236_i32
  let c0_i32_1005 : BitVec 32 := 0#32
  let v1421 : BitVec 32 := Scalar.addi v1420 c0_i32_1005
  let v1422 : Index := Scalar.indexCast v1421
  ![v1422.toNat]
def k0_off474 (v1423 : BitVec 32) : Fin 2 → Nat :=
  let c0_i32_1006 : BitVec 32 := 0#32
  ![v1423.toNat, 0]

def k0_chk237 (v1423 : BitVec 32) : Prop :=
  (∀ a, (k0_off474 v1423) a + S1x1024.size a ≤ S37888x1024.size a)
theorem k0_off474_inb : ∀ (v1423 : BitVec 32) (k0_hw237 : k0_chk237 v1423), ∀ a, (k0_off474 v1423) a + S1x1024.size a ≤ S37888x1024.size a := fun v1423 k0_hw237 => k0_hw237

def k0_off475 (i : grid0.Coords) : Fin 1 → Nat :=
  let arg0 : BitVec 32 := BitVec.ofNat 32 (i 0).val
  let c1024_i32 : BitVec 32 := 1024#32
  let v0 : BitVec 32 := Scalar.muli arg0 c1024_i32
  let c236_i32_1009 : BitVec 32 := 236#32
  let v1426 : BitVec 32 := Scalar.addi v0 c236_i32_1009
  let c1_i32_1010 : BitVec 32 := 1#32
  let v1427 : BitVec 32 := Scalar.addi v1426 c1_i32_1010
  let v1428 : Index := Scalar.indexCast v1427
  ![v1428.toNat]
def k0_off476 (v1429 : BitVec 32) : Fin 2 → Nat :=
  let c0_i32_1011 : BitVec 32 := 0#32
  ![v1429.toNat, 0]

def k0_chk238 (v1429 : BitVec 32) : Prop :=
  (∀ a, (k0_off476 v1429) a + S1x1024.size a ≤ S37888x1024.size a)
theorem k0_off476_inb : ∀ (v1429 : BitVec 32) (k0_hw238 : k0_chk238 v1429), ∀ a, (k0_off476 v1429) a + S1x1024.size a ≤ S37888x1024.size a := fun v1429 k0_hw238 => k0_hw238

def k0_off477 (i : grid0.Coords) : Fin 1 → Nat :=
  let arg0 : BitVec 32 := BitVec.ofNat 32 (i 0).val
  let c1024_i32 : BitVec 32 := 1024#32
  let v0 : BitVec 32 := Scalar.muli arg0 c1024_i32
  let c238_i32 : BitVec 32 := 238#32
  let v1432 : BitVec 32 := Scalar.addi v0 c238_i32
  let c0_i32_1014 : BitVec 32 := 0#32
  let v1433 : BitVec 32 := Scalar.addi v1432 c0_i32_1014
  let v1434 : Index := Scalar.indexCast v1433
  ![v1434.toNat]
def k0_off478 (v1435 : BitVec 32) : Fin 2 → Nat :=
  let c0_i32_1015 : BitVec 32 := 0#32
  ![v1435.toNat, 0]

def k0_chk239 (v1435 : BitVec 32) : Prop :=
  (∀ a, (k0_off478 v1435) a + S1x1024.size a ≤ S37888x1024.size a)
theorem k0_off478_inb : ∀ (v1435 : BitVec 32) (k0_hw239 : k0_chk239 v1435), ∀ a, (k0_off478 v1435) a + S1x1024.size a ≤ S37888x1024.size a := fun v1435 k0_hw239 => k0_hw239

def k0_off479 (i : grid0.Coords) : Fin 1 → Nat :=
  let arg0 : BitVec 32 := BitVec.ofNat 32 (i 0).val
  let c1024_i32 : BitVec 32 := 1024#32
  let v0 : BitVec 32 := Scalar.muli arg0 c1024_i32
  let c238_i32_1017 : BitVec 32 := 238#32
  let v1438 : BitVec 32 := Scalar.addi v0 c238_i32_1017
  let c1_i32_1018 : BitVec 32 := 1#32
  let v1439 : BitVec 32 := Scalar.addi v1438 c1_i32_1018
  let v1440 : Index := Scalar.indexCast v1439
  ![v1440.toNat]
def k0_off480 (v1441 : BitVec 32) : Fin 2 → Nat :=
  let c0_i32_1019 : BitVec 32 := 0#32
  ![v1441.toNat, 0]

def k0_chk240 (v1441 : BitVec 32) : Prop :=
  (∀ a, (k0_off480 v1441) a + S1x1024.size a ≤ S37888x1024.size a)
theorem k0_off480_inb : ∀ (v1441 : BitVec 32) (k0_hw240 : k0_chk240 v1441), ∀ a, (k0_off480 v1441) a + S1x1024.size a ≤ S37888x1024.size a := fun v1441 k0_hw240 => k0_hw240

def k0_off481 (i : grid0.Coords) : Fin 1 → Nat :=
  let arg0 : BitVec 32 := BitVec.ofNat 32 (i 0).val
  let c1024_i32 : BitVec 32 := 1024#32
  let v0 : BitVec 32 := Scalar.muli arg0 c1024_i32
  let c240_i32 : BitVec 32 := 240#32
  let v1444 : BitVec 32 := Scalar.addi v0 c240_i32
  let c0_i32_1022 : BitVec 32 := 0#32
  let v1445 : BitVec 32 := Scalar.addi v1444 c0_i32_1022
  let v1446 : Index := Scalar.indexCast v1445
  ![v1446.toNat]
def k0_off482 (v1447 : BitVec 32) : Fin 2 → Nat :=
  let c0_i32_1023 : BitVec 32 := 0#32
  ![v1447.toNat, 0]

def k0_chk241 (v1447 : BitVec 32) : Prop :=
  (∀ a, (k0_off482 v1447) a + S1x1024.size a ≤ S37888x1024.size a)
theorem k0_off482_inb : ∀ (v1447 : BitVec 32) (k0_hw241 : k0_chk241 v1447), ∀ a, (k0_off482 v1447) a + S1x1024.size a ≤ S37888x1024.size a := fun v1447 k0_hw241 => k0_hw241

def k0_off483 (i : grid0.Coords) : Fin 1 → Nat :=
  let arg0 : BitVec 32 := BitVec.ofNat 32 (i 0).val
  let c1024_i32 : BitVec 32 := 1024#32
  let v0 : BitVec 32 := Scalar.muli arg0 c1024_i32
  let c240_i32_1026 : BitVec 32 := 240#32
  let v1450 : BitVec 32 := Scalar.addi v0 c240_i32_1026
  let c1_i32_1027 : BitVec 32 := 1#32
  let v1451 : BitVec 32 := Scalar.addi v1450 c1_i32_1027
  let v1452 : Index := Scalar.indexCast v1451
  ![v1452.toNat]
def k0_off484 (v1453 : BitVec 32) : Fin 2 → Nat :=
  let c0_i32_1028 : BitVec 32 := 0#32
  ![v1453.toNat, 0]

def k0_chk242 (v1453 : BitVec 32) : Prop :=
  (∀ a, (k0_off484 v1453) a + S1x1024.size a ≤ S37888x1024.size a)
theorem k0_off484_inb : ∀ (v1453 : BitVec 32) (k0_hw242 : k0_chk242 v1453), ∀ a, (k0_off484 v1453) a + S1x1024.size a ≤ S37888x1024.size a := fun v1453 k0_hw242 => k0_hw242

def k0_off485 (i : grid0.Coords) : Fin 1 → Nat :=
  let arg0 : BitVec 32 := BitVec.ofNat 32 (i 0).val
  let c1024_i32 : BitVec 32 := 1024#32
  let v0 : BitVec 32 := Scalar.muli arg0 c1024_i32
  let c242_i32 : BitVec 32 := 242#32
  let v1456 : BitVec 32 := Scalar.addi v0 c242_i32
  let c0_i32_1031 : BitVec 32 := 0#32
  let v1457 : BitVec 32 := Scalar.addi v1456 c0_i32_1031
  let v1458 : Index := Scalar.indexCast v1457
  ![v1458.toNat]
def k0_off486 (v1459 : BitVec 32) : Fin 2 → Nat :=
  let c0_i32_1032 : BitVec 32 := 0#32
  ![v1459.toNat, 0]

def k0_chk243 (v1459 : BitVec 32) : Prop :=
  (∀ a, (k0_off486 v1459) a + S1x1024.size a ≤ S37888x1024.size a)
theorem k0_off486_inb : ∀ (v1459 : BitVec 32) (k0_hw243 : k0_chk243 v1459), ∀ a, (k0_off486 v1459) a + S1x1024.size a ≤ S37888x1024.size a := fun v1459 k0_hw243 => k0_hw243

def k0_off487 (i : grid0.Coords) : Fin 1 → Nat :=
  let arg0 : BitVec 32 := BitVec.ofNat 32 (i 0).val
  let c1024_i32 : BitVec 32 := 1024#32
  let v0 : BitVec 32 := Scalar.muli arg0 c1024_i32
  let c242_i32_1034 : BitVec 32 := 242#32
  let v1462 : BitVec 32 := Scalar.addi v0 c242_i32_1034
  let c1_i32_1035 : BitVec 32 := 1#32
  let v1463 : BitVec 32 := Scalar.addi v1462 c1_i32_1035
  let v1464 : Index := Scalar.indexCast v1463
  ![v1464.toNat]
def k0_off488 (v1465 : BitVec 32) : Fin 2 → Nat :=
  let c0_i32_1036 : BitVec 32 := 0#32
  ![v1465.toNat, 0]

def k0_chk244 (v1465 : BitVec 32) : Prop :=
  (∀ a, (k0_off488 v1465) a + S1x1024.size a ≤ S37888x1024.size a)
theorem k0_off488_inb : ∀ (v1465 : BitVec 32) (k0_hw244 : k0_chk244 v1465), ∀ a, (k0_off488 v1465) a + S1x1024.size a ≤ S37888x1024.size a := fun v1465 k0_hw244 => k0_hw244

def k0_off489 (i : grid0.Coords) : Fin 1 → Nat :=
  let arg0 : BitVec 32 := BitVec.ofNat 32 (i 0).val
  let c1024_i32 : BitVec 32 := 1024#32
  let v0 : BitVec 32 := Scalar.muli arg0 c1024_i32
  let c244_i32 : BitVec 32 := 244#32
  let v1468 : BitVec 32 := Scalar.addi v0 c244_i32
  let c0_i32_1039 : BitVec 32 := 0#32
  let v1469 : BitVec 32 := Scalar.addi v1468 c0_i32_1039
  let v1470 : Index := Scalar.indexCast v1469
  ![v1470.toNat]
def k0_off490 (v1471 : BitVec 32) : Fin 2 → Nat :=
  let c0_i32_1040 : BitVec 32 := 0#32
  ![v1471.toNat, 0]

def k0_chk245 (v1471 : BitVec 32) : Prop :=
  (∀ a, (k0_off490 v1471) a + S1x1024.size a ≤ S37888x1024.size a)
theorem k0_off490_inb : ∀ (v1471 : BitVec 32) (k0_hw245 : k0_chk245 v1471), ∀ a, (k0_off490 v1471) a + S1x1024.size a ≤ S37888x1024.size a := fun v1471 k0_hw245 => k0_hw245

def k0_off491 (i : grid0.Coords) : Fin 1 → Nat :=
  let arg0 : BitVec 32 := BitVec.ofNat 32 (i 0).val
  let c1024_i32 : BitVec 32 := 1024#32
  let v0 : BitVec 32 := Scalar.muli arg0 c1024_i32
  let c244_i32_1043 : BitVec 32 := 244#32
  let v1474 : BitVec 32 := Scalar.addi v0 c244_i32_1043
  let c1_i32_1044 : BitVec 32 := 1#32
  let v1475 : BitVec 32 := Scalar.addi v1474 c1_i32_1044
  let v1476 : Index := Scalar.indexCast v1475
  ![v1476.toNat]
def k0_off492 (v1477 : BitVec 32) : Fin 2 → Nat :=
  let c0_i32_1045 : BitVec 32 := 0#32
  ![v1477.toNat, 0]

def k0_chk246 (v1477 : BitVec 32) : Prop :=
  (∀ a, (k0_off492 v1477) a + S1x1024.size a ≤ S37888x1024.size a)
theorem k0_off492_inb : ∀ (v1477 : BitVec 32) (k0_hw246 : k0_chk246 v1477), ∀ a, (k0_off492 v1477) a + S1x1024.size a ≤ S37888x1024.size a := fun v1477 k0_hw246 => k0_hw246

def k0_off493 (i : grid0.Coords) : Fin 1 → Nat :=
  let arg0 : BitVec 32 := BitVec.ofNat 32 (i 0).val
  let c1024_i32 : BitVec 32 := 1024#32
  let v0 : BitVec 32 := Scalar.muli arg0 c1024_i32
  let c246_i32 : BitVec 32 := 246#32
  let v1480 : BitVec 32 := Scalar.addi v0 c246_i32
  let c0_i32_1048 : BitVec 32 := 0#32
  let v1481 : BitVec 32 := Scalar.addi v1480 c0_i32_1048
  let v1482 : Index := Scalar.indexCast v1481
  ![v1482.toNat]
def k0_off494 (v1483 : BitVec 32) : Fin 2 → Nat :=
  let c0_i32_1049 : BitVec 32 := 0#32
  ![v1483.toNat, 0]

def k0_chk247 (v1483 : BitVec 32) : Prop :=
  (∀ a, (k0_off494 v1483) a + S1x1024.size a ≤ S37888x1024.size a)
theorem k0_off494_inb : ∀ (v1483 : BitVec 32) (k0_hw247 : k0_chk247 v1483), ∀ a, (k0_off494 v1483) a + S1x1024.size a ≤ S37888x1024.size a := fun v1483 k0_hw247 => k0_hw247

def k0_off495 (i : grid0.Coords) : Fin 1 → Nat :=
  let arg0 : BitVec 32 := BitVec.ofNat 32 (i 0).val
  let c1024_i32 : BitVec 32 := 1024#32
  let v0 : BitVec 32 := Scalar.muli arg0 c1024_i32
  let c246_i32_1051 : BitVec 32 := 246#32
  let v1486 : BitVec 32 := Scalar.addi v0 c246_i32_1051
  let c1_i32_1052 : BitVec 32 := 1#32
  let v1487 : BitVec 32 := Scalar.addi v1486 c1_i32_1052
  let v1488 : Index := Scalar.indexCast v1487
  ![v1488.toNat]
def k0_off496 (v1489 : BitVec 32) : Fin 2 → Nat :=
  let c0_i32_1053 : BitVec 32 := 0#32
  ![v1489.toNat, 0]

def k0_chk248 (v1489 : BitVec 32) : Prop :=
  (∀ a, (k0_off496 v1489) a + S1x1024.size a ≤ S37888x1024.size a)
theorem k0_off496_inb : ∀ (v1489 : BitVec 32) (k0_hw248 : k0_chk248 v1489), ∀ a, (k0_off496 v1489) a + S1x1024.size a ≤ S37888x1024.size a := fun v1489 k0_hw248 => k0_hw248

def k0_off497 (i : grid0.Coords) : Fin 1 → Nat :=
  let arg0 : BitVec 32 := BitVec.ofNat 32 (i 0).val
  let c1024_i32 : BitVec 32 := 1024#32
  let v0 : BitVec 32 := Scalar.muli arg0 c1024_i32
  let c248_i32 : BitVec 32 := 248#32
  let v1492 : BitVec 32 := Scalar.addi v0 c248_i32
  let c0_i32_1056 : BitVec 32 := 0#32
  let v1493 : BitVec 32 := Scalar.addi v1492 c0_i32_1056
  let v1494 : Index := Scalar.indexCast v1493
  ![v1494.toNat]
def k0_off498 (v1495 : BitVec 32) : Fin 2 → Nat :=
  let c0_i32_1057 : BitVec 32 := 0#32
  ![v1495.toNat, 0]

def k0_chk249 (v1495 : BitVec 32) : Prop :=
  (∀ a, (k0_off498 v1495) a + S1x1024.size a ≤ S37888x1024.size a)
theorem k0_off498_inb : ∀ (v1495 : BitVec 32) (k0_hw249 : k0_chk249 v1495), ∀ a, (k0_off498 v1495) a + S1x1024.size a ≤ S37888x1024.size a := fun v1495 k0_hw249 => k0_hw249

def k0_off499 (i : grid0.Coords) : Fin 1 → Nat :=
  let arg0 : BitVec 32 := BitVec.ofNat 32 (i 0).val
  let c1024_i32 : BitVec 32 := 1024#32
  let v0 : BitVec 32 := Scalar.muli arg0 c1024_i32
  let c248_i32_1060 : BitVec 32 := 248#32
  let v1498 : BitVec 32 := Scalar.addi v0 c248_i32_1060
  let c1_i32_1061 : BitVec 32 := 1#32
  let v1499 : BitVec 32 := Scalar.addi v1498 c1_i32_1061
  let v1500 : Index := Scalar.indexCast v1499
  ![v1500.toNat]
def k0_off500 (v1501 : BitVec 32) : Fin 2 → Nat :=
  let c0_i32_1062 : BitVec 32 := 0#32
  ![v1501.toNat, 0]

def k0_chk250 (v1501 : BitVec 32) : Prop :=
  (∀ a, (k0_off500 v1501) a + S1x1024.size a ≤ S37888x1024.size a)
theorem k0_off500_inb : ∀ (v1501 : BitVec 32) (k0_hw250 : k0_chk250 v1501), ∀ a, (k0_off500 v1501) a + S1x1024.size a ≤ S37888x1024.size a := fun v1501 k0_hw250 => k0_hw250

def k0_off501 (i : grid0.Coords) : Fin 1 → Nat :=
  let arg0 : BitVec 32 := BitVec.ofNat 32 (i 0).val
  let c1024_i32 : BitVec 32 := 1024#32
  let v0 : BitVec 32 := Scalar.muli arg0 c1024_i32
  let c250_i32 : BitVec 32 := 250#32
  let v1504 : BitVec 32 := Scalar.addi v0 c250_i32
  let c0_i32_1065 : BitVec 32 := 0#32
  let v1505 : BitVec 32 := Scalar.addi v1504 c0_i32_1065
  let v1506 : Index := Scalar.indexCast v1505
  ![v1506.toNat]
def k0_off502 (v1507 : BitVec 32) : Fin 2 → Nat :=
  let c0_i32_1066 : BitVec 32 := 0#32
  ![v1507.toNat, 0]

def k0_chk251 (v1507 : BitVec 32) : Prop :=
  (∀ a, (k0_off502 v1507) a + S1x1024.size a ≤ S37888x1024.size a)
theorem k0_off502_inb : ∀ (v1507 : BitVec 32) (k0_hw251 : k0_chk251 v1507), ∀ a, (k0_off502 v1507) a + S1x1024.size a ≤ S37888x1024.size a := fun v1507 k0_hw251 => k0_hw251

def k0_off503 (i : grid0.Coords) : Fin 1 → Nat :=
  let arg0 : BitVec 32 := BitVec.ofNat 32 (i 0).val
  let c1024_i32 : BitVec 32 := 1024#32
  let v0 : BitVec 32 := Scalar.muli arg0 c1024_i32
  let c250_i32_1068 : BitVec 32 := 250#32
  let v1510 : BitVec 32 := Scalar.addi v0 c250_i32_1068
  let c1_i32_1069 : BitVec 32 := 1#32
  let v1511 : BitVec 32 := Scalar.addi v1510 c1_i32_1069
  let v1512 : Index := Scalar.indexCast v1511
  ![v1512.toNat]
def k0_off504 (v1513 : BitVec 32) : Fin 2 → Nat :=
  let c0_i32_1070 : BitVec 32 := 0#32
  ![v1513.toNat, 0]

def k0_chk252 (v1513 : BitVec 32) : Prop :=
  (∀ a, (k0_off504 v1513) a + S1x1024.size a ≤ S37888x1024.size a)
theorem k0_off504_inb : ∀ (v1513 : BitVec 32) (k0_hw252 : k0_chk252 v1513), ∀ a, (k0_off504 v1513) a + S1x1024.size a ≤ S37888x1024.size a := fun v1513 k0_hw252 => k0_hw252

def k0_off505 (i : grid0.Coords) : Fin 1 → Nat :=
  let arg0 : BitVec 32 := BitVec.ofNat 32 (i 0).val
  let c1024_i32 : BitVec 32 := 1024#32
  let v0 : BitVec 32 := Scalar.muli arg0 c1024_i32
  let c252_i32 : BitVec 32 := 252#32
  let v1516 : BitVec 32 := Scalar.addi v0 c252_i32
  let c0_i32_1073 : BitVec 32 := 0#32
  let v1517 : BitVec 32 := Scalar.addi v1516 c0_i32_1073
  let v1518 : Index := Scalar.indexCast v1517
  ![v1518.toNat]
def k0_off506 (v1519 : BitVec 32) : Fin 2 → Nat :=
  let c0_i32_1074 : BitVec 32 := 0#32
  ![v1519.toNat, 0]

def k0_chk253 (v1519 : BitVec 32) : Prop :=
  (∀ a, (k0_off506 v1519) a + S1x1024.size a ≤ S37888x1024.size a)
theorem k0_off506_inb : ∀ (v1519 : BitVec 32) (k0_hw253 : k0_chk253 v1519), ∀ a, (k0_off506 v1519) a + S1x1024.size a ≤ S37888x1024.size a := fun v1519 k0_hw253 => k0_hw253

def k0_off507 (i : grid0.Coords) : Fin 1 → Nat :=
  let arg0 : BitVec 32 := BitVec.ofNat 32 (i 0).val
  let c1024_i32 : BitVec 32 := 1024#32
  let v0 : BitVec 32 := Scalar.muli arg0 c1024_i32
  let c252_i32_1077 : BitVec 32 := 252#32
  let v1522 : BitVec 32 := Scalar.addi v0 c252_i32_1077
  let c1_i32_1078 : BitVec 32 := 1#32
  let v1523 : BitVec 32 := Scalar.addi v1522 c1_i32_1078
  let v1524 : Index := Scalar.indexCast v1523
  ![v1524.toNat]
def k0_off508 (v1525 : BitVec 32) : Fin 2 → Nat :=
  let c0_i32_1079 : BitVec 32 := 0#32
  ![v1525.toNat, 0]

def k0_chk254 (v1525 : BitVec 32) : Prop :=
  (∀ a, (k0_off508 v1525) a + S1x1024.size a ≤ S37888x1024.size a)
theorem k0_off508_inb : ∀ (v1525 : BitVec 32) (k0_hw254 : k0_chk254 v1525), ∀ a, (k0_off508 v1525) a + S1x1024.size a ≤ S37888x1024.size a := fun v1525 k0_hw254 => k0_hw254

def k0_off509 (i : grid0.Coords) : Fin 1 → Nat :=
  let arg0 : BitVec 32 := BitVec.ofNat 32 (i 0).val
  let c1024_i32 : BitVec 32 := 1024#32
  let v0 : BitVec 32 := Scalar.muli arg0 c1024_i32
  let c254_i32 : BitVec 32 := 254#32
  let v1528 : BitVec 32 := Scalar.addi v0 c254_i32
  let c0_i32_1082 : BitVec 32 := 0#32
  let v1529 : BitVec 32 := Scalar.addi v1528 c0_i32_1082
  let v1530 : Index := Scalar.indexCast v1529
  ![v1530.toNat]
def k0_off510 (v1531 : BitVec 32) : Fin 2 → Nat :=
  let c0_i32_1083 : BitVec 32 := 0#32
  ![v1531.toNat, 0]

def k0_chk255 (v1531 : BitVec 32) : Prop :=
  (∀ a, (k0_off510 v1531) a + S1x1024.size a ≤ S37888x1024.size a)
theorem k0_off510_inb : ∀ (v1531 : BitVec 32) (k0_hw255 : k0_chk255 v1531), ∀ a, (k0_off510 v1531) a + S1x1024.size a ≤ S37888x1024.size a := fun v1531 k0_hw255 => k0_hw255

def k0_off511 (i : grid0.Coords) : Fin 1 → Nat :=
  let arg0 : BitVec 32 := BitVec.ofNat 32 (i 0).val
  let c1024_i32 : BitVec 32 := 1024#32
  let v0 : BitVec 32 := Scalar.muli arg0 c1024_i32
  let c254_i32_1085 : BitVec 32 := 254#32
  let v1534 : BitVec 32 := Scalar.addi v0 c254_i32_1085
  let c1_i32_1086 : BitVec 32 := 1#32
  let v1535 : BitVec 32 := Scalar.addi v1534 c1_i32_1086
  let v1536 : Index := Scalar.indexCast v1535
  ![v1536.toNat]
def k0_off512 (v1537 : BitVec 32) : Fin 2 → Nat :=
  let c0_i32_1087 : BitVec 32 := 0#32
  ![v1537.toNat, 0]

def k0_chk256 (v1537 : BitVec 32) : Prop :=
  (∀ a, (k0_off512 v1537) a + S1x1024.size a ≤ S37888x1024.size a)
theorem k0_off512_inb : ∀ (v1537 : BitVec 32) (k0_hw256 : k0_chk256 v1537), ∀ a, (k0_off512 v1537) a + S1x1024.size a ≤ S37888x1024.size a := fun v1537 k0_hw256 => k0_hw256

def k0_off513 (i : grid0.Coords) : Fin 1 → Nat :=
  let arg0 : BitVec 32 := BitVec.ofNat 32 (i 0).val
  let c1024_i32 : BitVec 32 := 1024#32
  let v0 : BitVec 32 := Scalar.muli arg0 c1024_i32
  let c256_i32 : BitVec 32 := 256#32
  let v1540 : BitVec 32 := Scalar.addi v0 c256_i32
  let c0_i32_1090 : BitVec 32 := 0#32
  let v1541 : BitVec 32 := Scalar.addi v1540 c0_i32_1090
  let v1542 : Index := Scalar.indexCast v1541
  ![v1542.toNat]
def k0_off514 (v1543 : BitVec 32) : Fin 2 → Nat :=
  let c0_i32_1091 : BitVec 32 := 0#32
  ![v1543.toNat, 0]

def k0_chk257 (v1543 : BitVec 32) : Prop :=
  (∀ a, (k0_off514 v1543) a + S1x1024.size a ≤ S37888x1024.size a)
theorem k0_off514_inb : ∀ (v1543 : BitVec 32) (k0_hw257 : k0_chk257 v1543), ∀ a, (k0_off514 v1543) a + S1x1024.size a ≤ S37888x1024.size a := fun v1543 k0_hw257 => k0_hw257

def k0_off515 (i : grid0.Coords) : Fin 1 → Nat :=
  let arg0 : BitVec 32 := BitVec.ofNat 32 (i 0).val
  let c1024_i32 : BitVec 32 := 1024#32
  let v0 : BitVec 32 := Scalar.muli arg0 c1024_i32
  let c256_i32_1094 : BitVec 32 := 256#32
  let v1546 : BitVec 32 := Scalar.addi v0 c256_i32_1094
  let c1_i32_1095 : BitVec 32 := 1#32
  let v1547 : BitVec 32 := Scalar.addi v1546 c1_i32_1095
  let v1548 : Index := Scalar.indexCast v1547
  ![v1548.toNat]
def k0_off516 (v1549 : BitVec 32) : Fin 2 → Nat :=
  let c0_i32_1096 : BitVec 32 := 0#32
  ![v1549.toNat, 0]

def k0_chk258 (v1549 : BitVec 32) : Prop :=
  (∀ a, (k0_off516 v1549) a + S1x1024.size a ≤ S37888x1024.size a)
theorem k0_off516_inb : ∀ (v1549 : BitVec 32) (k0_hw258 : k0_chk258 v1549), ∀ a, (k0_off516 v1549) a + S1x1024.size a ≤ S37888x1024.size a := fun v1549 k0_hw258 => k0_hw258

def k0_off517 (i : grid0.Coords) : Fin 1 → Nat :=
  let arg0 : BitVec 32 := BitVec.ofNat 32 (i 0).val
  let c1024_i32 : BitVec 32 := 1024#32
  let v0 : BitVec 32 := Scalar.muli arg0 c1024_i32
  let c258_i32 : BitVec 32 := 258#32
  let v1552 : BitVec 32 := Scalar.addi v0 c258_i32
  let c0_i32_1099 : BitVec 32 := 0#32
  let v1553 : BitVec 32 := Scalar.addi v1552 c0_i32_1099
  let v1554 : Index := Scalar.indexCast v1553
  ![v1554.toNat]
def k0_off518 (v1555 : BitVec 32) : Fin 2 → Nat :=
  let c0_i32_1100 : BitVec 32 := 0#32
  ![v1555.toNat, 0]

def k0_chk259 (v1555 : BitVec 32) : Prop :=
  (∀ a, (k0_off518 v1555) a + S1x1024.size a ≤ S37888x1024.size a)
theorem k0_off518_inb : ∀ (v1555 : BitVec 32) (k0_hw259 : k0_chk259 v1555), ∀ a, (k0_off518 v1555) a + S1x1024.size a ≤ S37888x1024.size a := fun v1555 k0_hw259 => k0_hw259

def k0_off519 (i : grid0.Coords) : Fin 1 → Nat :=
  let arg0 : BitVec 32 := BitVec.ofNat 32 (i 0).val
  let c1024_i32 : BitVec 32 := 1024#32
  let v0 : BitVec 32 := Scalar.muli arg0 c1024_i32
  let c258_i32_1102 : BitVec 32 := 258#32
  let v1558 : BitVec 32 := Scalar.addi v0 c258_i32_1102
  let c1_i32_1103 : BitVec 32 := 1#32
  let v1559 : BitVec 32 := Scalar.addi v1558 c1_i32_1103
  let v1560 : Index := Scalar.indexCast v1559
  ![v1560.toNat]
def k0_off520 (v1561 : BitVec 32) : Fin 2 → Nat :=
  let c0_i32_1104 : BitVec 32 := 0#32
  ![v1561.toNat, 0]

def k0_chk260 (v1561 : BitVec 32) : Prop :=
  (∀ a, (k0_off520 v1561) a + S1x1024.size a ≤ S37888x1024.size a)
theorem k0_off520_inb : ∀ (v1561 : BitVec 32) (k0_hw260 : k0_chk260 v1561), ∀ a, (k0_off520 v1561) a + S1x1024.size a ≤ S37888x1024.size a := fun v1561 k0_hw260 => k0_hw260

def k0_off521 (i : grid0.Coords) : Fin 1 → Nat :=
  let arg0 : BitVec 32 := BitVec.ofNat 32 (i 0).val
  let c1024_i32 : BitVec 32 := 1024#32
  let v0 : BitVec 32 := Scalar.muli arg0 c1024_i32
  let c260_i32 : BitVec 32 := 260#32
  let v1564 : BitVec 32 := Scalar.addi v0 c260_i32
  let c0_i32_1107 : BitVec 32 := 0#32
  let v1565 : BitVec 32 := Scalar.addi v1564 c0_i32_1107
  let v1566 : Index := Scalar.indexCast v1565
  ![v1566.toNat]
def k0_off522 (v1567 : BitVec 32) : Fin 2 → Nat :=
  let c0_i32_1108 : BitVec 32 := 0#32
  ![v1567.toNat, 0]

def k0_chk261 (v1567 : BitVec 32) : Prop :=
  (∀ a, (k0_off522 v1567) a + S1x1024.size a ≤ S37888x1024.size a)
theorem k0_off522_inb : ∀ (v1567 : BitVec 32) (k0_hw261 : k0_chk261 v1567), ∀ a, (k0_off522 v1567) a + S1x1024.size a ≤ S37888x1024.size a := fun v1567 k0_hw261 => k0_hw261

def k0_off523 (i : grid0.Coords) : Fin 1 → Nat :=
  let arg0 : BitVec 32 := BitVec.ofNat 32 (i 0).val
  let c1024_i32 : BitVec 32 := 1024#32
  let v0 : BitVec 32 := Scalar.muli arg0 c1024_i32
  let c260_i32_1111 : BitVec 32 := 260#32
  let v1570 : BitVec 32 := Scalar.addi v0 c260_i32_1111
  let c1_i32_1112 : BitVec 32 := 1#32
  let v1571 : BitVec 32 := Scalar.addi v1570 c1_i32_1112
  let v1572 : Index := Scalar.indexCast v1571
  ![v1572.toNat]
def k0_off524 (v1573 : BitVec 32) : Fin 2 → Nat :=
  let c0_i32_1113 : BitVec 32 := 0#32
  ![v1573.toNat, 0]

def k0_chk262 (v1573 : BitVec 32) : Prop :=
  (∀ a, (k0_off524 v1573) a + S1x1024.size a ≤ S37888x1024.size a)
theorem k0_off524_inb : ∀ (v1573 : BitVec 32) (k0_hw262 : k0_chk262 v1573), ∀ a, (k0_off524 v1573) a + S1x1024.size a ≤ S37888x1024.size a := fun v1573 k0_hw262 => k0_hw262

def k0_off525 (i : grid0.Coords) : Fin 1 → Nat :=
  let arg0 : BitVec 32 := BitVec.ofNat 32 (i 0).val
  let c1024_i32 : BitVec 32 := 1024#32
  let v0 : BitVec 32 := Scalar.muli arg0 c1024_i32
  let c262_i32 : BitVec 32 := 262#32
  let v1576 : BitVec 32 := Scalar.addi v0 c262_i32
  let c0_i32_1116 : BitVec 32 := 0#32
  let v1577 : BitVec 32 := Scalar.addi v1576 c0_i32_1116
  let v1578 : Index := Scalar.indexCast v1577
  ![v1578.toNat]
def k0_off526 (v1579 : BitVec 32) : Fin 2 → Nat :=
  let c0_i32_1117 : BitVec 32 := 0#32
  ![v1579.toNat, 0]

def k0_chk263 (v1579 : BitVec 32) : Prop :=
  (∀ a, (k0_off526 v1579) a + S1x1024.size a ≤ S37888x1024.size a)
theorem k0_off526_inb : ∀ (v1579 : BitVec 32) (k0_hw263 : k0_chk263 v1579), ∀ a, (k0_off526 v1579) a + S1x1024.size a ≤ S37888x1024.size a := fun v1579 k0_hw263 => k0_hw263

def k0_off527 (i : grid0.Coords) : Fin 1 → Nat :=
  let arg0 : BitVec 32 := BitVec.ofNat 32 (i 0).val
  let c1024_i32 : BitVec 32 := 1024#32
  let v0 : BitVec 32 := Scalar.muli arg0 c1024_i32
  let c262_i32_1119 : BitVec 32 := 262#32
  let v1582 : BitVec 32 := Scalar.addi v0 c262_i32_1119
  let c1_i32_1120 : BitVec 32 := 1#32
  let v1583 : BitVec 32 := Scalar.addi v1582 c1_i32_1120
  let v1584 : Index := Scalar.indexCast v1583
  ![v1584.toNat]
def k0_off528 (v1585 : BitVec 32) : Fin 2 → Nat :=
  let c0_i32_1121 : BitVec 32 := 0#32
  ![v1585.toNat, 0]

def k0_chk264 (v1585 : BitVec 32) : Prop :=
  (∀ a, (k0_off528 v1585) a + S1x1024.size a ≤ S37888x1024.size a)
theorem k0_off528_inb : ∀ (v1585 : BitVec 32) (k0_hw264 : k0_chk264 v1585), ∀ a, (k0_off528 v1585) a + S1x1024.size a ≤ S37888x1024.size a := fun v1585 k0_hw264 => k0_hw264

def k0_off529 (i : grid0.Coords) : Fin 1 → Nat :=
  let arg0 : BitVec 32 := BitVec.ofNat 32 (i 0).val
  let c1024_i32 : BitVec 32 := 1024#32
  let v0 : BitVec 32 := Scalar.muli arg0 c1024_i32
  let c264_i32 : BitVec 32 := 264#32
  let v1588 : BitVec 32 := Scalar.addi v0 c264_i32
  let c0_i32_1124 : BitVec 32 := 0#32
  let v1589 : BitVec 32 := Scalar.addi v1588 c0_i32_1124
  let v1590 : Index := Scalar.indexCast v1589
  ![v1590.toNat]
def k0_off530 (v1591 : BitVec 32) : Fin 2 → Nat :=
  let c0_i32_1125 : BitVec 32 := 0#32
  ![v1591.toNat, 0]

def k0_chk265 (v1591 : BitVec 32) : Prop :=
  (∀ a, (k0_off530 v1591) a + S1x1024.size a ≤ S37888x1024.size a)
theorem k0_off530_inb : ∀ (v1591 : BitVec 32) (k0_hw265 : k0_chk265 v1591), ∀ a, (k0_off530 v1591) a + S1x1024.size a ≤ S37888x1024.size a := fun v1591 k0_hw265 => k0_hw265

def k0_off531 (i : grid0.Coords) : Fin 1 → Nat :=
  let arg0 : BitVec 32 := BitVec.ofNat 32 (i 0).val
  let c1024_i32 : BitVec 32 := 1024#32
  let v0 : BitVec 32 := Scalar.muli arg0 c1024_i32
  let c264_i32_1128 : BitVec 32 := 264#32
  let v1594 : BitVec 32 := Scalar.addi v0 c264_i32_1128
  let c1_i32_1129 : BitVec 32 := 1#32
  let v1595 : BitVec 32 := Scalar.addi v1594 c1_i32_1129
  let v1596 : Index := Scalar.indexCast v1595
  ![v1596.toNat]
def k0_off532 (v1597 : BitVec 32) : Fin 2 → Nat :=
  let c0_i32_1130 : BitVec 32 := 0#32
  ![v1597.toNat, 0]

def k0_chk266 (v1597 : BitVec 32) : Prop :=
  (∀ a, (k0_off532 v1597) a + S1x1024.size a ≤ S37888x1024.size a)
theorem k0_off532_inb : ∀ (v1597 : BitVec 32) (k0_hw266 : k0_chk266 v1597), ∀ a, (k0_off532 v1597) a + S1x1024.size a ≤ S37888x1024.size a := fun v1597 k0_hw266 => k0_hw266

def k0_off533 (i : grid0.Coords) : Fin 1 → Nat :=
  let arg0 : BitVec 32 := BitVec.ofNat 32 (i 0).val
  let c1024_i32 : BitVec 32 := 1024#32
  let v0 : BitVec 32 := Scalar.muli arg0 c1024_i32
  let c266_i32 : BitVec 32 := 266#32
  let v1600 : BitVec 32 := Scalar.addi v0 c266_i32
  let c0_i32_1133 : BitVec 32 := 0#32
  let v1601 : BitVec 32 := Scalar.addi v1600 c0_i32_1133
  let v1602 : Index := Scalar.indexCast v1601
  ![v1602.toNat]
def k0_off534 (v1603 : BitVec 32) : Fin 2 → Nat :=
  let c0_i32_1134 : BitVec 32 := 0#32
  ![v1603.toNat, 0]

def k0_chk267 (v1603 : BitVec 32) : Prop :=
  (∀ a, (k0_off534 v1603) a + S1x1024.size a ≤ S37888x1024.size a)
theorem k0_off534_inb : ∀ (v1603 : BitVec 32) (k0_hw267 : k0_chk267 v1603), ∀ a, (k0_off534 v1603) a + S1x1024.size a ≤ S37888x1024.size a := fun v1603 k0_hw267 => k0_hw267

def k0_off535 (i : grid0.Coords) : Fin 1 → Nat :=
  let arg0 : BitVec 32 := BitVec.ofNat 32 (i 0).val
  let c1024_i32 : BitVec 32 := 1024#32
  let v0 : BitVec 32 := Scalar.muli arg0 c1024_i32
  let c266_i32_1136 : BitVec 32 := 266#32
  let v1606 : BitVec 32 := Scalar.addi v0 c266_i32_1136
  let c1_i32_1137 : BitVec 32 := 1#32
  let v1607 : BitVec 32 := Scalar.addi v1606 c1_i32_1137
  let v1608 : Index := Scalar.indexCast v1607
  ![v1608.toNat]
def k0_off536 (v1609 : BitVec 32) : Fin 2 → Nat :=
  let c0_i32_1138 : BitVec 32 := 0#32
  ![v1609.toNat, 0]

def k0_chk268 (v1609 : BitVec 32) : Prop :=
  (∀ a, (k0_off536 v1609) a + S1x1024.size a ≤ S37888x1024.size a)
theorem k0_off536_inb : ∀ (v1609 : BitVec 32) (k0_hw268 : k0_chk268 v1609), ∀ a, (k0_off536 v1609) a + S1x1024.size a ≤ S37888x1024.size a := fun v1609 k0_hw268 => k0_hw268

def k0_off537 (i : grid0.Coords) : Fin 1 → Nat :=
  let arg0 : BitVec 32 := BitVec.ofNat 32 (i 0).val
  let c1024_i32 : BitVec 32 := 1024#32
  let v0 : BitVec 32 := Scalar.muli arg0 c1024_i32
  let c268_i32 : BitVec 32 := 268#32
  let v1612 : BitVec 32 := Scalar.addi v0 c268_i32
  let c0_i32_1141 : BitVec 32 := 0#32
  let v1613 : BitVec 32 := Scalar.addi v1612 c0_i32_1141
  let v1614 : Index := Scalar.indexCast v1613
  ![v1614.toNat]
def k0_off538 (v1615 : BitVec 32) : Fin 2 → Nat :=
  let c0_i32_1142 : BitVec 32 := 0#32
  ![v1615.toNat, 0]

def k0_chk269 (v1615 : BitVec 32) : Prop :=
  (∀ a, (k0_off538 v1615) a + S1x1024.size a ≤ S37888x1024.size a)
theorem k0_off538_inb : ∀ (v1615 : BitVec 32) (k0_hw269 : k0_chk269 v1615), ∀ a, (k0_off538 v1615) a + S1x1024.size a ≤ S37888x1024.size a := fun v1615 k0_hw269 => k0_hw269

def k0_off539 (i : grid0.Coords) : Fin 1 → Nat :=
  let arg0 : BitVec 32 := BitVec.ofNat 32 (i 0).val
  let c1024_i32 : BitVec 32 := 1024#32
  let v0 : BitVec 32 := Scalar.muli arg0 c1024_i32
  let c268_i32_1145 : BitVec 32 := 268#32
  let v1618 : BitVec 32 := Scalar.addi v0 c268_i32_1145
  let c1_i32_1146 : BitVec 32 := 1#32
  let v1619 : BitVec 32 := Scalar.addi v1618 c1_i32_1146
  let v1620 : Index := Scalar.indexCast v1619
  ![v1620.toNat]
def k0_off540 (v1621 : BitVec 32) : Fin 2 → Nat :=
  let c0_i32_1147 : BitVec 32 := 0#32
  ![v1621.toNat, 0]

def k0_chk270 (v1621 : BitVec 32) : Prop :=
  (∀ a, (k0_off540 v1621) a + S1x1024.size a ≤ S37888x1024.size a)
theorem k0_off540_inb : ∀ (v1621 : BitVec 32) (k0_hw270 : k0_chk270 v1621), ∀ a, (k0_off540 v1621) a + S1x1024.size a ≤ S37888x1024.size a := fun v1621 k0_hw270 => k0_hw270

def k0_off541 (i : grid0.Coords) : Fin 1 → Nat :=
  let arg0 : BitVec 32 := BitVec.ofNat 32 (i 0).val
  let c1024_i32 : BitVec 32 := 1024#32
  let v0 : BitVec 32 := Scalar.muli arg0 c1024_i32
  let c270_i32 : BitVec 32 := 270#32
  let v1624 : BitVec 32 := Scalar.addi v0 c270_i32
  let c0_i32_1150 : BitVec 32 := 0#32
  let v1625 : BitVec 32 := Scalar.addi v1624 c0_i32_1150
  let v1626 : Index := Scalar.indexCast v1625
  ![v1626.toNat]
def k0_off542 (v1627 : BitVec 32) : Fin 2 → Nat :=
  let c0_i32_1151 : BitVec 32 := 0#32
  ![v1627.toNat, 0]

def k0_chk271 (v1627 : BitVec 32) : Prop :=
  (∀ a, (k0_off542 v1627) a + S1x1024.size a ≤ S37888x1024.size a)
theorem k0_off542_inb : ∀ (v1627 : BitVec 32) (k0_hw271 : k0_chk271 v1627), ∀ a, (k0_off542 v1627) a + S1x1024.size a ≤ S37888x1024.size a := fun v1627 k0_hw271 => k0_hw271

def k0_off543 (i : grid0.Coords) : Fin 1 → Nat :=
  let arg0 : BitVec 32 := BitVec.ofNat 32 (i 0).val
  let c1024_i32 : BitVec 32 := 1024#32
  let v0 : BitVec 32 := Scalar.muli arg0 c1024_i32
  let c270_i32_1153 : BitVec 32 := 270#32
  let v1630 : BitVec 32 := Scalar.addi v0 c270_i32_1153
  let c1_i32_1154 : BitVec 32 := 1#32
  let v1631 : BitVec 32 := Scalar.addi v1630 c1_i32_1154
  let v1632 : Index := Scalar.indexCast v1631
  ![v1632.toNat]
def k0_off544 (v1633 : BitVec 32) : Fin 2 → Nat :=
  let c0_i32_1155 : BitVec 32 := 0#32
  ![v1633.toNat, 0]

def k0_chk272 (v1633 : BitVec 32) : Prop :=
  (∀ a, (k0_off544 v1633) a + S1x1024.size a ≤ S37888x1024.size a)
theorem k0_off544_inb : ∀ (v1633 : BitVec 32) (k0_hw272 : k0_chk272 v1633), ∀ a, (k0_off544 v1633) a + S1x1024.size a ≤ S37888x1024.size a := fun v1633 k0_hw272 => k0_hw272

def k0_off545 (i : grid0.Coords) : Fin 1 → Nat :=
  let arg0 : BitVec 32 := BitVec.ofNat 32 (i 0).val
  let c1024_i32 : BitVec 32 := 1024#32
  let v0 : BitVec 32 := Scalar.muli arg0 c1024_i32
  let c272_i32 : BitVec 32 := 272#32
  let v1636 : BitVec 32 := Scalar.addi v0 c272_i32
  let c0_i32_1158 : BitVec 32 := 0#32
  let v1637 : BitVec 32 := Scalar.addi v1636 c0_i32_1158
  let v1638 : Index := Scalar.indexCast v1637
  ![v1638.toNat]
def k0_off546 (v1639 : BitVec 32) : Fin 2 → Nat :=
  let c0_i32_1159 : BitVec 32 := 0#32
  ![v1639.toNat, 0]

def k0_chk273 (v1639 : BitVec 32) : Prop :=
  (∀ a, (k0_off546 v1639) a + S1x1024.size a ≤ S37888x1024.size a)
theorem k0_off546_inb : ∀ (v1639 : BitVec 32) (k0_hw273 : k0_chk273 v1639), ∀ a, (k0_off546 v1639) a + S1x1024.size a ≤ S37888x1024.size a := fun v1639 k0_hw273 => k0_hw273

def k0_off547 (i : grid0.Coords) : Fin 1 → Nat :=
  let arg0 : BitVec 32 := BitVec.ofNat 32 (i 0).val
  let c1024_i32 : BitVec 32 := 1024#32
  let v0 : BitVec 32 := Scalar.muli arg0 c1024_i32
  let c272_i32_1162 : BitVec 32 := 272#32
  let v1642 : BitVec 32 := Scalar.addi v0 c272_i32_1162
  let c1_i32_1163 : BitVec 32 := 1#32
  let v1643 : BitVec 32 := Scalar.addi v1642 c1_i32_1163
  let v1644 : Index := Scalar.indexCast v1643
  ![v1644.toNat]
def k0_off548 (v1645 : BitVec 32) : Fin 2 → Nat :=
  let c0_i32_1164 : BitVec 32 := 0#32
  ![v1645.toNat, 0]

def k0_chk274 (v1645 : BitVec 32) : Prop :=
  (∀ a, (k0_off548 v1645) a + S1x1024.size a ≤ S37888x1024.size a)
theorem k0_off548_inb : ∀ (v1645 : BitVec 32) (k0_hw274 : k0_chk274 v1645), ∀ a, (k0_off548 v1645) a + S1x1024.size a ≤ S37888x1024.size a := fun v1645 k0_hw274 => k0_hw274

def k0_off549 (i : grid0.Coords) : Fin 1 → Nat :=
  let arg0 : BitVec 32 := BitVec.ofNat 32 (i 0).val
  let c1024_i32 : BitVec 32 := 1024#32
  let v0 : BitVec 32 := Scalar.muli arg0 c1024_i32
  let c274_i32 : BitVec 32 := 274#32
  let v1648 : BitVec 32 := Scalar.addi v0 c274_i32
  let c0_i32_1167 : BitVec 32 := 0#32
  let v1649 : BitVec 32 := Scalar.addi v1648 c0_i32_1167
  let v1650 : Index := Scalar.indexCast v1649
  ![v1650.toNat]
def k0_off550 (v1651 : BitVec 32) : Fin 2 → Nat :=
  let c0_i32_1168 : BitVec 32 := 0#32
  ![v1651.toNat, 0]

def k0_chk275 (v1651 : BitVec 32) : Prop :=
  (∀ a, (k0_off550 v1651) a + S1x1024.size a ≤ S37888x1024.size a)
theorem k0_off550_inb : ∀ (v1651 : BitVec 32) (k0_hw275 : k0_chk275 v1651), ∀ a, (k0_off550 v1651) a + S1x1024.size a ≤ S37888x1024.size a := fun v1651 k0_hw275 => k0_hw275

def k0_off551 (i : grid0.Coords) : Fin 1 → Nat :=
  let arg0 : BitVec 32 := BitVec.ofNat 32 (i 0).val
  let c1024_i32 : BitVec 32 := 1024#32
  let v0 : BitVec 32 := Scalar.muli arg0 c1024_i32
  let c274_i32_1170 : BitVec 32 := 274#32
  let v1654 : BitVec 32 := Scalar.addi v0 c274_i32_1170
  let c1_i32_1171 : BitVec 32 := 1#32
  let v1655 : BitVec 32 := Scalar.addi v1654 c1_i32_1171
  let v1656 : Index := Scalar.indexCast v1655
  ![v1656.toNat]
def k0_off552 (v1657 : BitVec 32) : Fin 2 → Nat :=
  let c0_i32_1172 : BitVec 32 := 0#32
  ![v1657.toNat, 0]

def k0_chk276 (v1657 : BitVec 32) : Prop :=
  (∀ a, (k0_off552 v1657) a + S1x1024.size a ≤ S37888x1024.size a)
theorem k0_off552_inb : ∀ (v1657 : BitVec 32) (k0_hw276 : k0_chk276 v1657), ∀ a, (k0_off552 v1657) a + S1x1024.size a ≤ S37888x1024.size a := fun v1657 k0_hw276 => k0_hw276

def k0_off553 (i : grid0.Coords) : Fin 1 → Nat :=
  let arg0 : BitVec 32 := BitVec.ofNat 32 (i 0).val
  let c1024_i32 : BitVec 32 := 1024#32
  let v0 : BitVec 32 := Scalar.muli arg0 c1024_i32
  let c276_i32 : BitVec 32 := 276#32
  let v1660 : BitVec 32 := Scalar.addi v0 c276_i32
  let c0_i32_1175 : BitVec 32 := 0#32
  let v1661 : BitVec 32 := Scalar.addi v1660 c0_i32_1175
  let v1662 : Index := Scalar.indexCast v1661
  ![v1662.toNat]
def k0_off554 (v1663 : BitVec 32) : Fin 2 → Nat :=
  let c0_i32_1176 : BitVec 32 := 0#32
  ![v1663.toNat, 0]

def k0_chk277 (v1663 : BitVec 32) : Prop :=
  (∀ a, (k0_off554 v1663) a + S1x1024.size a ≤ S37888x1024.size a)
theorem k0_off554_inb : ∀ (v1663 : BitVec 32) (k0_hw277 : k0_chk277 v1663), ∀ a, (k0_off554 v1663) a + S1x1024.size a ≤ S37888x1024.size a := fun v1663 k0_hw277 => k0_hw277

def k0_off555 (i : grid0.Coords) : Fin 1 → Nat :=
  let arg0 : BitVec 32 := BitVec.ofNat 32 (i 0).val
  let c1024_i32 : BitVec 32 := 1024#32
  let v0 : BitVec 32 := Scalar.muli arg0 c1024_i32
  let c276_i32_1179 : BitVec 32 := 276#32
  let v1666 : BitVec 32 := Scalar.addi v0 c276_i32_1179
  let c1_i32_1180 : BitVec 32 := 1#32
  let v1667 : BitVec 32 := Scalar.addi v1666 c1_i32_1180
  let v1668 : Index := Scalar.indexCast v1667
  ![v1668.toNat]
def k0_off556 (v1669 : BitVec 32) : Fin 2 → Nat :=
  let c0_i32_1181 : BitVec 32 := 0#32
  ![v1669.toNat, 0]

def k0_chk278 (v1669 : BitVec 32) : Prop :=
  (∀ a, (k0_off556 v1669) a + S1x1024.size a ≤ S37888x1024.size a)
theorem k0_off556_inb : ∀ (v1669 : BitVec 32) (k0_hw278 : k0_chk278 v1669), ∀ a, (k0_off556 v1669) a + S1x1024.size a ≤ S37888x1024.size a := fun v1669 k0_hw278 => k0_hw278

def k0_off557 (i : grid0.Coords) : Fin 1 → Nat :=
  let arg0 : BitVec 32 := BitVec.ofNat 32 (i 0).val
  let c1024_i32 : BitVec 32 := 1024#32
  let v0 : BitVec 32 := Scalar.muli arg0 c1024_i32
  let c278_i32 : BitVec 32 := 278#32
  let v1672 : BitVec 32 := Scalar.addi v0 c278_i32
  let c0_i32_1184 : BitVec 32 := 0#32
  let v1673 : BitVec 32 := Scalar.addi v1672 c0_i32_1184
  let v1674 : Index := Scalar.indexCast v1673
  ![v1674.toNat]
def k0_off558 (v1675 : BitVec 32) : Fin 2 → Nat :=
  let c0_i32_1185 : BitVec 32 := 0#32
  ![v1675.toNat, 0]

def k0_chk279 (v1675 : BitVec 32) : Prop :=
  (∀ a, (k0_off558 v1675) a + S1x1024.size a ≤ S37888x1024.size a)
theorem k0_off558_inb : ∀ (v1675 : BitVec 32) (k0_hw279 : k0_chk279 v1675), ∀ a, (k0_off558 v1675) a + S1x1024.size a ≤ S37888x1024.size a := fun v1675 k0_hw279 => k0_hw279

def k0_off559 (i : grid0.Coords) : Fin 1 → Nat :=
  let arg0 : BitVec 32 := BitVec.ofNat 32 (i 0).val
  let c1024_i32 : BitVec 32 := 1024#32
  let v0 : BitVec 32 := Scalar.muli arg0 c1024_i32
  let c278_i32_1187 : BitVec 32 := 278#32
  let v1678 : BitVec 32 := Scalar.addi v0 c278_i32_1187
  let c1_i32_1188 : BitVec 32 := 1#32
  let v1679 : BitVec 32 := Scalar.addi v1678 c1_i32_1188
  let v1680 : Index := Scalar.indexCast v1679
  ![v1680.toNat]
def k0_off560 (v1681 : BitVec 32) : Fin 2 → Nat :=
  let c0_i32_1189 : BitVec 32 := 0#32
  ![v1681.toNat, 0]

def k0_chk280 (v1681 : BitVec 32) : Prop :=
  (∀ a, (k0_off560 v1681) a + S1x1024.size a ≤ S37888x1024.size a)
theorem k0_off560_inb : ∀ (v1681 : BitVec 32) (k0_hw280 : k0_chk280 v1681), ∀ a, (k0_off560 v1681) a + S1x1024.size a ≤ S37888x1024.size a := fun v1681 k0_hw280 => k0_hw280

def k0_off561 (i : grid0.Coords) : Fin 1 → Nat :=
  let arg0 : BitVec 32 := BitVec.ofNat 32 (i 0).val
  let c1024_i32 : BitVec 32 := 1024#32
  let v0 : BitVec 32 := Scalar.muli arg0 c1024_i32
  let c280_i32 : BitVec 32 := 280#32
  let v1684 : BitVec 32 := Scalar.addi v0 c280_i32
  let c0_i32_1192 : BitVec 32 := 0#32
  let v1685 : BitVec 32 := Scalar.addi v1684 c0_i32_1192
  let v1686 : Index := Scalar.indexCast v1685
  ![v1686.toNat]
def k0_off562 (v1687 : BitVec 32) : Fin 2 → Nat :=
  let c0_i32_1193 : BitVec 32 := 0#32
  ![v1687.toNat, 0]

def k0_chk281 (v1687 : BitVec 32) : Prop :=
  (∀ a, (k0_off562 v1687) a + S1x1024.size a ≤ S37888x1024.size a)
theorem k0_off562_inb : ∀ (v1687 : BitVec 32) (k0_hw281 : k0_chk281 v1687), ∀ a, (k0_off562 v1687) a + S1x1024.size a ≤ S37888x1024.size a := fun v1687 k0_hw281 => k0_hw281

def k0_off563 (i : grid0.Coords) : Fin 1 → Nat :=
  let arg0 : BitVec 32 := BitVec.ofNat 32 (i 0).val
  let c1024_i32 : BitVec 32 := 1024#32
  let v0 : BitVec 32 := Scalar.muli arg0 c1024_i32
  let c280_i32_1196 : BitVec 32 := 280#32
  let v1690 : BitVec 32 := Scalar.addi v0 c280_i32_1196
  let c1_i32_1197 : BitVec 32 := 1#32
  let v1691 : BitVec 32 := Scalar.addi v1690 c1_i32_1197
  let v1692 : Index := Scalar.indexCast v1691
  ![v1692.toNat]
def k0_off564 (v1693 : BitVec 32) : Fin 2 → Nat :=
  let c0_i32_1198 : BitVec 32 := 0#32
  ![v1693.toNat, 0]

def k0_chk282 (v1693 : BitVec 32) : Prop :=
  (∀ a, (k0_off564 v1693) a + S1x1024.size a ≤ S37888x1024.size a)
theorem k0_off564_inb : ∀ (v1693 : BitVec 32) (k0_hw282 : k0_chk282 v1693), ∀ a, (k0_off564 v1693) a + S1x1024.size a ≤ S37888x1024.size a := fun v1693 k0_hw282 => k0_hw282

def k0_off565 (i : grid0.Coords) : Fin 1 → Nat :=
  let arg0 : BitVec 32 := BitVec.ofNat 32 (i 0).val
  let c1024_i32 : BitVec 32 := 1024#32
  let v0 : BitVec 32 := Scalar.muli arg0 c1024_i32
  let c282_i32 : BitVec 32 := 282#32
  let v1696 : BitVec 32 := Scalar.addi v0 c282_i32
  let c0_i32_1201 : BitVec 32 := 0#32
  let v1697 : BitVec 32 := Scalar.addi v1696 c0_i32_1201
  let v1698 : Index := Scalar.indexCast v1697
  ![v1698.toNat]
def k0_off566 (v1699 : BitVec 32) : Fin 2 → Nat :=
  let c0_i32_1202 : BitVec 32 := 0#32
  ![v1699.toNat, 0]

def k0_chk283 (v1699 : BitVec 32) : Prop :=
  (∀ a, (k0_off566 v1699) a + S1x1024.size a ≤ S37888x1024.size a)
theorem k0_off566_inb : ∀ (v1699 : BitVec 32) (k0_hw283 : k0_chk283 v1699), ∀ a, (k0_off566 v1699) a + S1x1024.size a ≤ S37888x1024.size a := fun v1699 k0_hw283 => k0_hw283

def k0_off567 (i : grid0.Coords) : Fin 1 → Nat :=
  let arg0 : BitVec 32 := BitVec.ofNat 32 (i 0).val
  let c1024_i32 : BitVec 32 := 1024#32
  let v0 : BitVec 32 := Scalar.muli arg0 c1024_i32
  let c282_i32_1204 : BitVec 32 := 282#32
  let v1702 : BitVec 32 := Scalar.addi v0 c282_i32_1204
  let c1_i32_1205 : BitVec 32 := 1#32
  let v1703 : BitVec 32 := Scalar.addi v1702 c1_i32_1205
  let v1704 : Index := Scalar.indexCast v1703
  ![v1704.toNat]
def k0_off568 (v1705 : BitVec 32) : Fin 2 → Nat :=
  let c0_i32_1206 : BitVec 32 := 0#32
  ![v1705.toNat, 0]

def k0_chk284 (v1705 : BitVec 32) : Prop :=
  (∀ a, (k0_off568 v1705) a + S1x1024.size a ≤ S37888x1024.size a)
theorem k0_off568_inb : ∀ (v1705 : BitVec 32) (k0_hw284 : k0_chk284 v1705), ∀ a, (k0_off568 v1705) a + S1x1024.size a ≤ S37888x1024.size a := fun v1705 k0_hw284 => k0_hw284

def k0_off569 (i : grid0.Coords) : Fin 1 → Nat :=
  let arg0 : BitVec 32 := BitVec.ofNat 32 (i 0).val
  let c1024_i32 : BitVec 32 := 1024#32
  let v0 : BitVec 32 := Scalar.muli arg0 c1024_i32
  let c284_i32 : BitVec 32 := 284#32
  let v1708 : BitVec 32 := Scalar.addi v0 c284_i32
  let c0_i32_1209 : BitVec 32 := 0#32
  let v1709 : BitVec 32 := Scalar.addi v1708 c0_i32_1209
  let v1710 : Index := Scalar.indexCast v1709
  ![v1710.toNat]
def k0_off570 (v1711 : BitVec 32) : Fin 2 → Nat :=
  let c0_i32_1210 : BitVec 32 := 0#32
  ![v1711.toNat, 0]

def k0_chk285 (v1711 : BitVec 32) : Prop :=
  (∀ a, (k0_off570 v1711) a + S1x1024.size a ≤ S37888x1024.size a)
theorem k0_off570_inb : ∀ (v1711 : BitVec 32) (k0_hw285 : k0_chk285 v1711), ∀ a, (k0_off570 v1711) a + S1x1024.size a ≤ S37888x1024.size a := fun v1711 k0_hw285 => k0_hw285

def k0_off571 (i : grid0.Coords) : Fin 1 → Nat :=
  let arg0 : BitVec 32 := BitVec.ofNat 32 (i 0).val
  let c1024_i32 : BitVec 32 := 1024#32
  let v0 : BitVec 32 := Scalar.muli arg0 c1024_i32
  let c284_i32_1213 : BitVec 32 := 284#32
  let v1714 : BitVec 32 := Scalar.addi v0 c284_i32_1213
  let c1_i32_1214 : BitVec 32 := 1#32
  let v1715 : BitVec 32 := Scalar.addi v1714 c1_i32_1214
  let v1716 : Index := Scalar.indexCast v1715
  ![v1716.toNat]
def k0_off572 (v1717 : BitVec 32) : Fin 2 → Nat :=
  let c0_i32_1215 : BitVec 32 := 0#32
  ![v1717.toNat, 0]

def k0_chk286 (v1717 : BitVec 32) : Prop :=
  (∀ a, (k0_off572 v1717) a + S1x1024.size a ≤ S37888x1024.size a)
theorem k0_off572_inb : ∀ (v1717 : BitVec 32) (k0_hw286 : k0_chk286 v1717), ∀ a, (k0_off572 v1717) a + S1x1024.size a ≤ S37888x1024.size a := fun v1717 k0_hw286 => k0_hw286

def k0_off573 (i : grid0.Coords) : Fin 1 → Nat :=
  let arg0 : BitVec 32 := BitVec.ofNat 32 (i 0).val
  let c1024_i32 : BitVec 32 := 1024#32
  let v0 : BitVec 32 := Scalar.muli arg0 c1024_i32
  let c286_i32 : BitVec 32 := 286#32
  let v1720 : BitVec 32 := Scalar.addi v0 c286_i32
  let c0_i32_1218 : BitVec 32 := 0#32
  let v1721 : BitVec 32 := Scalar.addi v1720 c0_i32_1218
  let v1722 : Index := Scalar.indexCast v1721
  ![v1722.toNat]
def k0_off574 (v1723 : BitVec 32) : Fin 2 → Nat :=
  let c0_i32_1219 : BitVec 32 := 0#32
  ![v1723.toNat, 0]

def k0_chk287 (v1723 : BitVec 32) : Prop :=
  (∀ a, (k0_off574 v1723) a + S1x1024.size a ≤ S37888x1024.size a)
theorem k0_off574_inb : ∀ (v1723 : BitVec 32) (k0_hw287 : k0_chk287 v1723), ∀ a, (k0_off574 v1723) a + S1x1024.size a ≤ S37888x1024.size a := fun v1723 k0_hw287 => k0_hw287

def k0_off575 (i : grid0.Coords) : Fin 1 → Nat :=
  let arg0 : BitVec 32 := BitVec.ofNat 32 (i 0).val
  let c1024_i32 : BitVec 32 := 1024#32
  let v0 : BitVec 32 := Scalar.muli arg0 c1024_i32
  let c286_i32_1221 : BitVec 32 := 286#32
  let v1726 : BitVec 32 := Scalar.addi v0 c286_i32_1221
  let c1_i32_1222 : BitVec 32 := 1#32
  let v1727 : BitVec 32 := Scalar.addi v1726 c1_i32_1222
  let v1728 : Index := Scalar.indexCast v1727
  ![v1728.toNat]
def k0_off576 (v1729 : BitVec 32) : Fin 2 → Nat :=
  let c0_i32_1223 : BitVec 32 := 0#32
  ![v1729.toNat, 0]

def k0_chk288 (v1729 : BitVec 32) : Prop :=
  (∀ a, (k0_off576 v1729) a + S1x1024.size a ≤ S37888x1024.size a)
theorem k0_off576_inb : ∀ (v1729 : BitVec 32) (k0_hw288 : k0_chk288 v1729), ∀ a, (k0_off576 v1729) a + S1x1024.size a ≤ S37888x1024.size a := fun v1729 k0_hw288 => k0_hw288

def k0_off577 (i : grid0.Coords) : Fin 1 → Nat :=
  let arg0 : BitVec 32 := BitVec.ofNat 32 (i 0).val
  let c1024_i32 : BitVec 32 := 1024#32
  let v0 : BitVec 32 := Scalar.muli arg0 c1024_i32
  let c288_i32 : BitVec 32 := 288#32
  let v1732 : BitVec 32 := Scalar.addi v0 c288_i32
  let c0_i32_1226 : BitVec 32 := 0#32
  let v1733 : BitVec 32 := Scalar.addi v1732 c0_i32_1226
  let v1734 : Index := Scalar.indexCast v1733
  ![v1734.toNat]
def k0_off578 (v1735 : BitVec 32) : Fin 2 → Nat :=
  let c0_i32_1227 : BitVec 32 := 0#32
  ![v1735.toNat, 0]

def k0_chk289 (v1735 : BitVec 32) : Prop :=
  (∀ a, (k0_off578 v1735) a + S1x1024.size a ≤ S37888x1024.size a)
theorem k0_off578_inb : ∀ (v1735 : BitVec 32) (k0_hw289 : k0_chk289 v1735), ∀ a, (k0_off578 v1735) a + S1x1024.size a ≤ S37888x1024.size a := fun v1735 k0_hw289 => k0_hw289

def k0_off579 (i : grid0.Coords) : Fin 1 → Nat :=
  let arg0 : BitVec 32 := BitVec.ofNat 32 (i 0).val
  let c1024_i32 : BitVec 32 := 1024#32
  let v0 : BitVec 32 := Scalar.muli arg0 c1024_i32
  let c288_i32_1230 : BitVec 32 := 288#32
  let v1738 : BitVec 32 := Scalar.addi v0 c288_i32_1230
  let c1_i32_1231 : BitVec 32 := 1#32
  let v1739 : BitVec 32 := Scalar.addi v1738 c1_i32_1231
  let v1740 : Index := Scalar.indexCast v1739
  ![v1740.toNat]
def k0_off580 (v1741 : BitVec 32) : Fin 2 → Nat :=
  let c0_i32_1232 : BitVec 32 := 0#32
  ![v1741.toNat, 0]

def k0_chk290 (v1741 : BitVec 32) : Prop :=
  (∀ a, (k0_off580 v1741) a + S1x1024.size a ≤ S37888x1024.size a)
theorem k0_off580_inb : ∀ (v1741 : BitVec 32) (k0_hw290 : k0_chk290 v1741), ∀ a, (k0_off580 v1741) a + S1x1024.size a ≤ S37888x1024.size a := fun v1741 k0_hw290 => k0_hw290

def k0_off581 (i : grid0.Coords) : Fin 1 → Nat :=
  let arg0 : BitVec 32 := BitVec.ofNat 32 (i 0).val
  let c1024_i32 : BitVec 32 := 1024#32
  let v0 : BitVec 32 := Scalar.muli arg0 c1024_i32
  let c290_i32 : BitVec 32 := 290#32
  let v1744 : BitVec 32 := Scalar.addi v0 c290_i32
  let c0_i32_1235 : BitVec 32 := 0#32
  let v1745 : BitVec 32 := Scalar.addi v1744 c0_i32_1235
  let v1746 : Index := Scalar.indexCast v1745
  ![v1746.toNat]
def k0_off582 (v1747 : BitVec 32) : Fin 2 → Nat :=
  let c0_i32_1236 : BitVec 32 := 0#32
  ![v1747.toNat, 0]

def k0_chk291 (v1747 : BitVec 32) : Prop :=
  (∀ a, (k0_off582 v1747) a + S1x1024.size a ≤ S37888x1024.size a)
theorem k0_off582_inb : ∀ (v1747 : BitVec 32) (k0_hw291 : k0_chk291 v1747), ∀ a, (k0_off582 v1747) a + S1x1024.size a ≤ S37888x1024.size a := fun v1747 k0_hw291 => k0_hw291

def k0_off583 (i : grid0.Coords) : Fin 1 → Nat :=
  let arg0 : BitVec 32 := BitVec.ofNat 32 (i 0).val
  let c1024_i32 : BitVec 32 := 1024#32
  let v0 : BitVec 32 := Scalar.muli arg0 c1024_i32
  let c290_i32_1238 : BitVec 32 := 290#32
  let v1750 : BitVec 32 := Scalar.addi v0 c290_i32_1238
  let c1_i32_1239 : BitVec 32 := 1#32
  let v1751 : BitVec 32 := Scalar.addi v1750 c1_i32_1239
  let v1752 : Index := Scalar.indexCast v1751
  ![v1752.toNat]
def k0_off584 (v1753 : BitVec 32) : Fin 2 → Nat :=
  let c0_i32_1240 : BitVec 32 := 0#32
  ![v1753.toNat, 0]

def k0_chk292 (v1753 : BitVec 32) : Prop :=
  (∀ a, (k0_off584 v1753) a + S1x1024.size a ≤ S37888x1024.size a)
theorem k0_off584_inb : ∀ (v1753 : BitVec 32) (k0_hw292 : k0_chk292 v1753), ∀ a, (k0_off584 v1753) a + S1x1024.size a ≤ S37888x1024.size a := fun v1753 k0_hw292 => k0_hw292

def k0_off585 (i : grid0.Coords) : Fin 1 → Nat :=
  let arg0 : BitVec 32 := BitVec.ofNat 32 (i 0).val
  let c1024_i32 : BitVec 32 := 1024#32
  let v0 : BitVec 32 := Scalar.muli arg0 c1024_i32
  let c292_i32 : BitVec 32 := 292#32
  let v1756 : BitVec 32 := Scalar.addi v0 c292_i32
  let c0_i32_1243 : BitVec 32 := 0#32
  let v1757 : BitVec 32 := Scalar.addi v1756 c0_i32_1243
  let v1758 : Index := Scalar.indexCast v1757
  ![v1758.toNat]
def k0_off586 (v1759 : BitVec 32) : Fin 2 → Nat :=
  let c0_i32_1244 : BitVec 32 := 0#32
  ![v1759.toNat, 0]

def k0_chk293 (v1759 : BitVec 32) : Prop :=
  (∀ a, (k0_off586 v1759) a + S1x1024.size a ≤ S37888x1024.size a)
theorem k0_off586_inb : ∀ (v1759 : BitVec 32) (k0_hw293 : k0_chk293 v1759), ∀ a, (k0_off586 v1759) a + S1x1024.size a ≤ S37888x1024.size a := fun v1759 k0_hw293 => k0_hw293

def k0_off587 (i : grid0.Coords) : Fin 1 → Nat :=
  let arg0 : BitVec 32 := BitVec.ofNat 32 (i 0).val
  let c1024_i32 : BitVec 32 := 1024#32
  let v0 : BitVec 32 := Scalar.muli arg0 c1024_i32
  let c292_i32_1247 : BitVec 32 := 292#32
  let v1762 : BitVec 32 := Scalar.addi v0 c292_i32_1247
  let c1_i32_1248 : BitVec 32 := 1#32
  let v1763 : BitVec 32 := Scalar.addi v1762 c1_i32_1248
  let v1764 : Index := Scalar.indexCast v1763
  ![v1764.toNat]
def k0_off588 (v1765 : BitVec 32) : Fin 2 → Nat :=
  let c0_i32_1249 : BitVec 32 := 0#32
  ![v1765.toNat, 0]

def k0_chk294 (v1765 : BitVec 32) : Prop :=
  (∀ a, (k0_off588 v1765) a + S1x1024.size a ≤ S37888x1024.size a)
theorem k0_off588_inb : ∀ (v1765 : BitVec 32) (k0_hw294 : k0_chk294 v1765), ∀ a, (k0_off588 v1765) a + S1x1024.size a ≤ S37888x1024.size a := fun v1765 k0_hw294 => k0_hw294

def k0_off589 (i : grid0.Coords) : Fin 1 → Nat :=
  let arg0 : BitVec 32 := BitVec.ofNat 32 (i 0).val
  let c1024_i32 : BitVec 32 := 1024#32
  let v0 : BitVec 32 := Scalar.muli arg0 c1024_i32
  let c294_i32 : BitVec 32 := 294#32
  let v1768 : BitVec 32 := Scalar.addi v0 c294_i32
  let c0_i32_1252 : BitVec 32 := 0#32
  let v1769 : BitVec 32 := Scalar.addi v1768 c0_i32_1252
  let v1770 : Index := Scalar.indexCast v1769
  ![v1770.toNat]
def k0_off590 (v1771 : BitVec 32) : Fin 2 → Nat :=
  let c0_i32_1253 : BitVec 32 := 0#32
  ![v1771.toNat, 0]

def k0_chk295 (v1771 : BitVec 32) : Prop :=
  (∀ a, (k0_off590 v1771) a + S1x1024.size a ≤ S37888x1024.size a)
theorem k0_off590_inb : ∀ (v1771 : BitVec 32) (k0_hw295 : k0_chk295 v1771), ∀ a, (k0_off590 v1771) a + S1x1024.size a ≤ S37888x1024.size a := fun v1771 k0_hw295 => k0_hw295

def k0_off591 (i : grid0.Coords) : Fin 1 → Nat :=
  let arg0 : BitVec 32 := BitVec.ofNat 32 (i 0).val
  let c1024_i32 : BitVec 32 := 1024#32
  let v0 : BitVec 32 := Scalar.muli arg0 c1024_i32
  let c294_i32_1255 : BitVec 32 := 294#32
  let v1774 : BitVec 32 := Scalar.addi v0 c294_i32_1255
  let c1_i32_1256 : BitVec 32 := 1#32
  let v1775 : BitVec 32 := Scalar.addi v1774 c1_i32_1256
  let v1776 : Index := Scalar.indexCast v1775
  ![v1776.toNat]
def k0_off592 (v1777 : BitVec 32) : Fin 2 → Nat :=
  let c0_i32_1257 : BitVec 32 := 0#32
  ![v1777.toNat, 0]

def k0_chk296 (v1777 : BitVec 32) : Prop :=
  (∀ a, (k0_off592 v1777) a + S1x1024.size a ≤ S37888x1024.size a)
theorem k0_off592_inb : ∀ (v1777 : BitVec 32) (k0_hw296 : k0_chk296 v1777), ∀ a, (k0_off592 v1777) a + S1x1024.size a ≤ S37888x1024.size a := fun v1777 k0_hw296 => k0_hw296

def k0_off593 (i : grid0.Coords) : Fin 1 → Nat :=
  let arg0 : BitVec 32 := BitVec.ofNat 32 (i 0).val
  let c1024_i32 : BitVec 32 := 1024#32
  let v0 : BitVec 32 := Scalar.muli arg0 c1024_i32
  let c296_i32 : BitVec 32 := 296#32
  let v1780 : BitVec 32 := Scalar.addi v0 c296_i32
  let c0_i32_1260 : BitVec 32 := 0#32
  let v1781 : BitVec 32 := Scalar.addi v1780 c0_i32_1260
  let v1782 : Index := Scalar.indexCast v1781
  ![v1782.toNat]
def k0_off594 (v1783 : BitVec 32) : Fin 2 → Nat :=
  let c0_i32_1261 : BitVec 32 := 0#32
  ![v1783.toNat, 0]

def k0_chk297 (v1783 : BitVec 32) : Prop :=
  (∀ a, (k0_off594 v1783) a + S1x1024.size a ≤ S37888x1024.size a)
theorem k0_off594_inb : ∀ (v1783 : BitVec 32) (k0_hw297 : k0_chk297 v1783), ∀ a, (k0_off594 v1783) a + S1x1024.size a ≤ S37888x1024.size a := fun v1783 k0_hw297 => k0_hw297

def k0_off595 (i : grid0.Coords) : Fin 1 → Nat :=
  let arg0 : BitVec 32 := BitVec.ofNat 32 (i 0).val
  let c1024_i32 : BitVec 32 := 1024#32
  let v0 : BitVec 32 := Scalar.muli arg0 c1024_i32
  let c296_i32_1264 : BitVec 32 := 296#32
  let v1786 : BitVec 32 := Scalar.addi v0 c296_i32_1264
  let c1_i32_1265 : BitVec 32 := 1#32
  let v1787 : BitVec 32 := Scalar.addi v1786 c1_i32_1265
  let v1788 : Index := Scalar.indexCast v1787
  ![v1788.toNat]
def k0_off596 (v1789 : BitVec 32) : Fin 2 → Nat :=
  let c0_i32_1266 : BitVec 32 := 0#32
  ![v1789.toNat, 0]

def k0_chk298 (v1789 : BitVec 32) : Prop :=
  (∀ a, (k0_off596 v1789) a + S1x1024.size a ≤ S37888x1024.size a)
theorem k0_off596_inb : ∀ (v1789 : BitVec 32) (k0_hw298 : k0_chk298 v1789), ∀ a, (k0_off596 v1789) a + S1x1024.size a ≤ S37888x1024.size a := fun v1789 k0_hw298 => k0_hw298

def k0_off597 (i : grid0.Coords) : Fin 1 → Nat :=
  let arg0 : BitVec 32 := BitVec.ofNat 32 (i 0).val
  let c1024_i32 : BitVec 32 := 1024#32
  let v0 : BitVec 32 := Scalar.muli arg0 c1024_i32
  let c298_i32 : BitVec 32 := 298#32
  let v1792 : BitVec 32 := Scalar.addi v0 c298_i32
  let c0_i32_1269 : BitVec 32 := 0#32
  let v1793 : BitVec 32 := Scalar.addi v1792 c0_i32_1269
  let v1794 : Index := Scalar.indexCast v1793
  ![v1794.toNat]
def k0_off598 (v1795 : BitVec 32) : Fin 2 → Nat :=
  let c0_i32_1270 : BitVec 32 := 0#32
  ![v1795.toNat, 0]

def k0_chk299 (v1795 : BitVec 32) : Prop :=
  (∀ a, (k0_off598 v1795) a + S1x1024.size a ≤ S37888x1024.size a)
theorem k0_off598_inb : ∀ (v1795 : BitVec 32) (k0_hw299 : k0_chk299 v1795), ∀ a, (k0_off598 v1795) a + S1x1024.size a ≤ S37888x1024.size a := fun v1795 k0_hw299 => k0_hw299

def k0_off599 (i : grid0.Coords) : Fin 1 → Nat :=
  let arg0 : BitVec 32 := BitVec.ofNat 32 (i 0).val
  let c1024_i32 : BitVec 32 := 1024#32
  let v0 : BitVec 32 := Scalar.muli arg0 c1024_i32
  let c298_i32_1272 : BitVec 32 := 298#32
  let v1798 : BitVec 32 := Scalar.addi v0 c298_i32_1272
  let c1_i32_1273 : BitVec 32 := 1#32
  let v1799 : BitVec 32 := Scalar.addi v1798 c1_i32_1273
  let v1800 : Index := Scalar.indexCast v1799
  ![v1800.toNat]
def k0_off600 (v1801 : BitVec 32) : Fin 2 → Nat :=
  let c0_i32_1274 : BitVec 32 := 0#32
  ![v1801.toNat, 0]

def k0_chk300 (v1801 : BitVec 32) : Prop :=
  (∀ a, (k0_off600 v1801) a + S1x1024.size a ≤ S37888x1024.size a)
theorem k0_off600_inb : ∀ (v1801 : BitVec 32) (k0_hw300 : k0_chk300 v1801), ∀ a, (k0_off600 v1801) a + S1x1024.size a ≤ S37888x1024.size a := fun v1801 k0_hw300 => k0_hw300

def k0_off601 (i : grid0.Coords) : Fin 1 → Nat :=
  let arg0 : BitVec 32 := BitVec.ofNat 32 (i 0).val
  let c1024_i32 : BitVec 32 := 1024#32
  let v0 : BitVec 32 := Scalar.muli arg0 c1024_i32
  let c300_i32 : BitVec 32 := 300#32
  let v1804 : BitVec 32 := Scalar.addi v0 c300_i32
  let c0_i32_1277 : BitVec 32 := 0#32
  let v1805 : BitVec 32 := Scalar.addi v1804 c0_i32_1277
  let v1806 : Index := Scalar.indexCast v1805
  ![v1806.toNat]
def k0_off602 (v1807 : BitVec 32) : Fin 2 → Nat :=
  let c0_i32_1278 : BitVec 32 := 0#32
  ![v1807.toNat, 0]

def k0_chk301 (v1807 : BitVec 32) : Prop :=
  (∀ a, (k0_off602 v1807) a + S1x1024.size a ≤ S37888x1024.size a)
theorem k0_off602_inb : ∀ (v1807 : BitVec 32) (k0_hw301 : k0_chk301 v1807), ∀ a, (k0_off602 v1807) a + S1x1024.size a ≤ S37888x1024.size a := fun v1807 k0_hw301 => k0_hw301

def k0_off603 (i : grid0.Coords) : Fin 1 → Nat :=
  let arg0 : BitVec 32 := BitVec.ofNat 32 (i 0).val
  let c1024_i32 : BitVec 32 := 1024#32
  let v0 : BitVec 32 := Scalar.muli arg0 c1024_i32
  let c300_i32_1281 : BitVec 32 := 300#32
  let v1810 : BitVec 32 := Scalar.addi v0 c300_i32_1281
  let c1_i32_1282 : BitVec 32 := 1#32
  let v1811 : BitVec 32 := Scalar.addi v1810 c1_i32_1282
  let v1812 : Index := Scalar.indexCast v1811
  ![v1812.toNat]
def k0_off604 (v1813 : BitVec 32) : Fin 2 → Nat :=
  let c0_i32_1283 : BitVec 32 := 0#32
  ![v1813.toNat, 0]

def k0_chk302 (v1813 : BitVec 32) : Prop :=
  (∀ a, (k0_off604 v1813) a + S1x1024.size a ≤ S37888x1024.size a)
theorem k0_off604_inb : ∀ (v1813 : BitVec 32) (k0_hw302 : k0_chk302 v1813), ∀ a, (k0_off604 v1813) a + S1x1024.size a ≤ S37888x1024.size a := fun v1813 k0_hw302 => k0_hw302

def k0_off605 (i : grid0.Coords) : Fin 1 → Nat :=
  let arg0 : BitVec 32 := BitVec.ofNat 32 (i 0).val
  let c1024_i32 : BitVec 32 := 1024#32
  let v0 : BitVec 32 := Scalar.muli arg0 c1024_i32
  let c302_i32 : BitVec 32 := 302#32
  let v1816 : BitVec 32 := Scalar.addi v0 c302_i32
  let c0_i32_1286 : BitVec 32 := 0#32
  let v1817 : BitVec 32 := Scalar.addi v1816 c0_i32_1286
  let v1818 : Index := Scalar.indexCast v1817
  ![v1818.toNat]
def k0_off606 (v1819 : BitVec 32) : Fin 2 → Nat :=
  let c0_i32_1287 : BitVec 32 := 0#32
  ![v1819.toNat, 0]

def k0_chk303 (v1819 : BitVec 32) : Prop :=
  (∀ a, (k0_off606 v1819) a + S1x1024.size a ≤ S37888x1024.size a)
theorem k0_off606_inb : ∀ (v1819 : BitVec 32) (k0_hw303 : k0_chk303 v1819), ∀ a, (k0_off606 v1819) a + S1x1024.size a ≤ S37888x1024.size a := fun v1819 k0_hw303 => k0_hw303

def k0_off607 (i : grid0.Coords) : Fin 1 → Nat :=
  let arg0 : BitVec 32 := BitVec.ofNat 32 (i 0).val
  let c1024_i32 : BitVec 32 := 1024#32
  let v0 : BitVec 32 := Scalar.muli arg0 c1024_i32
  let c302_i32_1289 : BitVec 32 := 302#32
  let v1822 : BitVec 32 := Scalar.addi v0 c302_i32_1289
  let c1_i32_1290 : BitVec 32 := 1#32
  let v1823 : BitVec 32 := Scalar.addi v1822 c1_i32_1290
  let v1824 : Index := Scalar.indexCast v1823
  ![v1824.toNat]
def k0_off608 (v1825 : BitVec 32) : Fin 2 → Nat :=
  let c0_i32_1291 : BitVec 32 := 0#32
  ![v1825.toNat, 0]

def k0_chk304 (v1825 : BitVec 32) : Prop :=
  (∀ a, (k0_off608 v1825) a + S1x1024.size a ≤ S37888x1024.size a)
theorem k0_off608_inb : ∀ (v1825 : BitVec 32) (k0_hw304 : k0_chk304 v1825), ∀ a, (k0_off608 v1825) a + S1x1024.size a ≤ S37888x1024.size a := fun v1825 k0_hw304 => k0_hw304

def k0_off609 (i : grid0.Coords) : Fin 1 → Nat :=
  let arg0 : BitVec 32 := BitVec.ofNat 32 (i 0).val
  let c1024_i32 : BitVec 32 := 1024#32
  let v0 : BitVec 32 := Scalar.muli arg0 c1024_i32
  let c304_i32 : BitVec 32 := 304#32
  let v1828 : BitVec 32 := Scalar.addi v0 c304_i32
  let c0_i32_1294 : BitVec 32 := 0#32
  let v1829 : BitVec 32 := Scalar.addi v1828 c0_i32_1294
  let v1830 : Index := Scalar.indexCast v1829
  ![v1830.toNat]
def k0_off610 (v1831 : BitVec 32) : Fin 2 → Nat :=
  let c0_i32_1295 : BitVec 32 := 0#32
  ![v1831.toNat, 0]

def k0_chk305 (v1831 : BitVec 32) : Prop :=
  (∀ a, (k0_off610 v1831) a + S1x1024.size a ≤ S37888x1024.size a)
theorem k0_off610_inb : ∀ (v1831 : BitVec 32) (k0_hw305 : k0_chk305 v1831), ∀ a, (k0_off610 v1831) a + S1x1024.size a ≤ S37888x1024.size a := fun v1831 k0_hw305 => k0_hw305

def k0_off611 (i : grid0.Coords) : Fin 1 → Nat :=
  let arg0 : BitVec 32 := BitVec.ofNat 32 (i 0).val
  let c1024_i32 : BitVec 32 := 1024#32
  let v0 : BitVec 32 := Scalar.muli arg0 c1024_i32
  let c304_i32_1298 : BitVec 32 := 304#32
  let v1834 : BitVec 32 := Scalar.addi v0 c304_i32_1298
  let c1_i32_1299 : BitVec 32 := 1#32
  let v1835 : BitVec 32 := Scalar.addi v1834 c1_i32_1299
  let v1836 : Index := Scalar.indexCast v1835
  ![v1836.toNat]
def k0_off612 (v1837 : BitVec 32) : Fin 2 → Nat :=
  let c0_i32_1300 : BitVec 32 := 0#32
  ![v1837.toNat, 0]

def k0_chk306 (v1837 : BitVec 32) : Prop :=
  (∀ a, (k0_off612 v1837) a + S1x1024.size a ≤ S37888x1024.size a)
theorem k0_off612_inb : ∀ (v1837 : BitVec 32) (k0_hw306 : k0_chk306 v1837), ∀ a, (k0_off612 v1837) a + S1x1024.size a ≤ S37888x1024.size a := fun v1837 k0_hw306 => k0_hw306

def k0_off613 (i : grid0.Coords) : Fin 1 → Nat :=
  let arg0 : BitVec 32 := BitVec.ofNat 32 (i 0).val
  let c1024_i32 : BitVec 32 := 1024#32
  let v0 : BitVec 32 := Scalar.muli arg0 c1024_i32
  let c306_i32 : BitVec 32 := 306#32
  let v1840 : BitVec 32 := Scalar.addi v0 c306_i32
  let c0_i32_1303 : BitVec 32 := 0#32
  let v1841 : BitVec 32 := Scalar.addi v1840 c0_i32_1303
  let v1842 : Index := Scalar.indexCast v1841
  ![v1842.toNat]
def k0_off614 (v1843 : BitVec 32) : Fin 2 → Nat :=
  let c0_i32_1304 : BitVec 32 := 0#32
  ![v1843.toNat, 0]

def k0_chk307 (v1843 : BitVec 32) : Prop :=
  (∀ a, (k0_off614 v1843) a + S1x1024.size a ≤ S37888x1024.size a)
theorem k0_off614_inb : ∀ (v1843 : BitVec 32) (k0_hw307 : k0_chk307 v1843), ∀ a, (k0_off614 v1843) a + S1x1024.size a ≤ S37888x1024.size a := fun v1843 k0_hw307 => k0_hw307

def k0_off615 (i : grid0.Coords) : Fin 1 → Nat :=
  let arg0 : BitVec 32 := BitVec.ofNat 32 (i 0).val
  let c1024_i32 : BitVec 32 := 1024#32
  let v0 : BitVec 32 := Scalar.muli arg0 c1024_i32
  let c306_i32_1306 : BitVec 32 := 306#32
  let v1846 : BitVec 32 := Scalar.addi v0 c306_i32_1306
  let c1_i32_1307 : BitVec 32 := 1#32
  let v1847 : BitVec 32 := Scalar.addi v1846 c1_i32_1307
  let v1848 : Index := Scalar.indexCast v1847
  ![v1848.toNat]
def k0_off616 (v1849 : BitVec 32) : Fin 2 → Nat :=
  let c0_i32_1308 : BitVec 32 := 0#32
  ![v1849.toNat, 0]

def k0_chk308 (v1849 : BitVec 32) : Prop :=
  (∀ a, (k0_off616 v1849) a + S1x1024.size a ≤ S37888x1024.size a)
theorem k0_off616_inb : ∀ (v1849 : BitVec 32) (k0_hw308 : k0_chk308 v1849), ∀ a, (k0_off616 v1849) a + S1x1024.size a ≤ S37888x1024.size a := fun v1849 k0_hw308 => k0_hw308

def k0_off617 (i : grid0.Coords) : Fin 1 → Nat :=
  let arg0 : BitVec 32 := BitVec.ofNat 32 (i 0).val
  let c1024_i32 : BitVec 32 := 1024#32
  let v0 : BitVec 32 := Scalar.muli arg0 c1024_i32
  let c308_i32 : BitVec 32 := 308#32
  let v1852 : BitVec 32 := Scalar.addi v0 c308_i32
  let c0_i32_1311 : BitVec 32 := 0#32
  let v1853 : BitVec 32 := Scalar.addi v1852 c0_i32_1311
  let v1854 : Index := Scalar.indexCast v1853
  ![v1854.toNat]
def k0_off618 (v1855 : BitVec 32) : Fin 2 → Nat :=
  let c0_i32_1312 : BitVec 32 := 0#32
  ![v1855.toNat, 0]

def k0_chk309 (v1855 : BitVec 32) : Prop :=
  (∀ a, (k0_off618 v1855) a + S1x1024.size a ≤ S37888x1024.size a)
theorem k0_off618_inb : ∀ (v1855 : BitVec 32) (k0_hw309 : k0_chk309 v1855), ∀ a, (k0_off618 v1855) a + S1x1024.size a ≤ S37888x1024.size a := fun v1855 k0_hw309 => k0_hw309

def k0_off619 (i : grid0.Coords) : Fin 1 → Nat :=
  let arg0 : BitVec 32 := BitVec.ofNat 32 (i 0).val
  let c1024_i32 : BitVec 32 := 1024#32
  let v0 : BitVec 32 := Scalar.muli arg0 c1024_i32
  let c308_i32_1315 : BitVec 32 := 308#32
  let v1858 : BitVec 32 := Scalar.addi v0 c308_i32_1315
  let c1_i32_1316 : BitVec 32 := 1#32
  let v1859 : BitVec 32 := Scalar.addi v1858 c1_i32_1316
  let v1860 : Index := Scalar.indexCast v1859
  ![v1860.toNat]
def k0_off620 (v1861 : BitVec 32) : Fin 2 → Nat :=
  let c0_i32_1317 : BitVec 32 := 0#32
  ![v1861.toNat, 0]

def k0_chk310 (v1861 : BitVec 32) : Prop :=
  (∀ a, (k0_off620 v1861) a + S1x1024.size a ≤ S37888x1024.size a)
theorem k0_off620_inb : ∀ (v1861 : BitVec 32) (k0_hw310 : k0_chk310 v1861), ∀ a, (k0_off620 v1861) a + S1x1024.size a ≤ S37888x1024.size a := fun v1861 k0_hw310 => k0_hw310

def k0_off621 (i : grid0.Coords) : Fin 1 → Nat :=
  let arg0 : BitVec 32 := BitVec.ofNat 32 (i 0).val
  let c1024_i32 : BitVec 32 := 1024#32
  let v0 : BitVec 32 := Scalar.muli arg0 c1024_i32
  let c310_i32 : BitVec 32 := 310#32
  let v1864 : BitVec 32 := Scalar.addi v0 c310_i32
  let c0_i32_1320 : BitVec 32 := 0#32
  let v1865 : BitVec 32 := Scalar.addi v1864 c0_i32_1320
  let v1866 : Index := Scalar.indexCast v1865
  ![v1866.toNat]
def k0_off622 (v1867 : BitVec 32) : Fin 2 → Nat :=
  let c0_i32_1321 : BitVec 32 := 0#32
  ![v1867.toNat, 0]

def k0_chk311 (v1867 : BitVec 32) : Prop :=
  (∀ a, (k0_off622 v1867) a + S1x1024.size a ≤ S37888x1024.size a)
theorem k0_off622_inb : ∀ (v1867 : BitVec 32) (k0_hw311 : k0_chk311 v1867), ∀ a, (k0_off622 v1867) a + S1x1024.size a ≤ S37888x1024.size a := fun v1867 k0_hw311 => k0_hw311

def k0_off623 (i : grid0.Coords) : Fin 1 → Nat :=
  let arg0 : BitVec 32 := BitVec.ofNat 32 (i 0).val
  let c1024_i32 : BitVec 32 := 1024#32
  let v0 : BitVec 32 := Scalar.muli arg0 c1024_i32
  let c310_i32_1323 : BitVec 32 := 310#32
  let v1870 : BitVec 32 := Scalar.addi v0 c310_i32_1323
  let c1_i32_1324 : BitVec 32 := 1#32
  let v1871 : BitVec 32 := Scalar.addi v1870 c1_i32_1324
  let v1872 : Index := Scalar.indexCast v1871
  ![v1872.toNat]
def k0_off624 (v1873 : BitVec 32) : Fin 2 → Nat :=
  let c0_i32_1325 : BitVec 32 := 0#32
  ![v1873.toNat, 0]

def k0_chk312 (v1873 : BitVec 32) : Prop :=
  (∀ a, (k0_off624 v1873) a + S1x1024.size a ≤ S37888x1024.size a)
theorem k0_off624_inb : ∀ (v1873 : BitVec 32) (k0_hw312 : k0_chk312 v1873), ∀ a, (k0_off624 v1873) a + S1x1024.size a ≤ S37888x1024.size a := fun v1873 k0_hw312 => k0_hw312

def k0_off625 (i : grid0.Coords) : Fin 1 → Nat :=
  let arg0 : BitVec 32 := BitVec.ofNat 32 (i 0).val
  let c1024_i32 : BitVec 32 := 1024#32
  let v0 : BitVec 32 := Scalar.muli arg0 c1024_i32
  let c312_i32 : BitVec 32 := 312#32
  let v1876 : BitVec 32 := Scalar.addi v0 c312_i32
  let c0_i32_1328 : BitVec 32 := 0#32
  let v1877 : BitVec 32 := Scalar.addi v1876 c0_i32_1328
  let v1878 : Index := Scalar.indexCast v1877
  ![v1878.toNat]
def k0_off626 (v1879 : BitVec 32) : Fin 2 → Nat :=
  let c0_i32_1329 : BitVec 32 := 0#32
  ![v1879.toNat, 0]

def k0_chk313 (v1879 : BitVec 32) : Prop :=
  (∀ a, (k0_off626 v1879) a + S1x1024.size a ≤ S37888x1024.size a)
theorem k0_off626_inb : ∀ (v1879 : BitVec 32) (k0_hw313 : k0_chk313 v1879), ∀ a, (k0_off626 v1879) a + S1x1024.size a ≤ S37888x1024.size a := fun v1879 k0_hw313 => k0_hw313

def k0_off627 (i : grid0.Coords) : Fin 1 → Nat :=
  let arg0 : BitVec 32 := BitVec.ofNat 32 (i 0).val
  let c1024_i32 : BitVec 32 := 1024#32
  let v0 : BitVec 32 := Scalar.muli arg0 c1024_i32
  let c312_i32_1332 : BitVec 32 := 312#32
  let v1882 : BitVec 32 := Scalar.addi v0 c312_i32_1332
  let c1_i32_1333 : BitVec 32 := 1#32
  let v1883 : BitVec 32 := Scalar.addi v1882 c1_i32_1333
  let v1884 : Index := Scalar.indexCast v1883
  ![v1884.toNat]
def k0_off628 (v1885 : BitVec 32) : Fin 2 → Nat :=
  let c0_i32_1334 : BitVec 32 := 0#32
  ![v1885.toNat, 0]

def k0_chk314 (v1885 : BitVec 32) : Prop :=
  (∀ a, (k0_off628 v1885) a + S1x1024.size a ≤ S37888x1024.size a)
theorem k0_off628_inb : ∀ (v1885 : BitVec 32) (k0_hw314 : k0_chk314 v1885), ∀ a, (k0_off628 v1885) a + S1x1024.size a ≤ S37888x1024.size a := fun v1885 k0_hw314 => k0_hw314

def k0_off629 (i : grid0.Coords) : Fin 1 → Nat :=
  let arg0 : BitVec 32 := BitVec.ofNat 32 (i 0).val
  let c1024_i32 : BitVec 32 := 1024#32
  let v0 : BitVec 32 := Scalar.muli arg0 c1024_i32
  let c314_i32 : BitVec 32 := 314#32
  let v1888 : BitVec 32 := Scalar.addi v0 c314_i32
  let c0_i32_1337 : BitVec 32 := 0#32
  let v1889 : BitVec 32 := Scalar.addi v1888 c0_i32_1337
  let v1890 : Index := Scalar.indexCast v1889
  ![v1890.toNat]
def k0_off630 (v1891 : BitVec 32) : Fin 2 → Nat :=
  let c0_i32_1338 : BitVec 32 := 0#32
  ![v1891.toNat, 0]

def k0_chk315 (v1891 : BitVec 32) : Prop :=
  (∀ a, (k0_off630 v1891) a + S1x1024.size a ≤ S37888x1024.size a)
theorem k0_off630_inb : ∀ (v1891 : BitVec 32) (k0_hw315 : k0_chk315 v1891), ∀ a, (k0_off630 v1891) a + S1x1024.size a ≤ S37888x1024.size a := fun v1891 k0_hw315 => k0_hw315

def k0_off631 (i : grid0.Coords) : Fin 1 → Nat :=
  let arg0 : BitVec 32 := BitVec.ofNat 32 (i 0).val
  let c1024_i32 : BitVec 32 := 1024#32
  let v0 : BitVec 32 := Scalar.muli arg0 c1024_i32
  let c314_i32_1340 : BitVec 32 := 314#32
  let v1894 : BitVec 32 := Scalar.addi v0 c314_i32_1340
  let c1_i32_1341 : BitVec 32 := 1#32
  let v1895 : BitVec 32 := Scalar.addi v1894 c1_i32_1341
  let v1896 : Index := Scalar.indexCast v1895
  ![v1896.toNat]
def k0_off632 (v1897 : BitVec 32) : Fin 2 → Nat :=
  let c0_i32_1342 : BitVec 32 := 0#32
  ![v1897.toNat, 0]

def k0_chk316 (v1897 : BitVec 32) : Prop :=
  (∀ a, (k0_off632 v1897) a + S1x1024.size a ≤ S37888x1024.size a)
theorem k0_off632_inb : ∀ (v1897 : BitVec 32) (k0_hw316 : k0_chk316 v1897), ∀ a, (k0_off632 v1897) a + S1x1024.size a ≤ S37888x1024.size a := fun v1897 k0_hw316 => k0_hw316

def k0_off633 (i : grid0.Coords) : Fin 1 → Nat :=
  let arg0 : BitVec 32 := BitVec.ofNat 32 (i 0).val
  let c1024_i32 : BitVec 32 := 1024#32
  let v0 : BitVec 32 := Scalar.muli arg0 c1024_i32
  let c316_i32 : BitVec 32 := 316#32
  let v1900 : BitVec 32 := Scalar.addi v0 c316_i32
  let c0_i32_1345 : BitVec 32 := 0#32
  let v1901 : BitVec 32 := Scalar.addi v1900 c0_i32_1345
  let v1902 : Index := Scalar.indexCast v1901
  ![v1902.toNat]
def k0_off634 (v1903 : BitVec 32) : Fin 2 → Nat :=
  let c0_i32_1346 : BitVec 32 := 0#32
  ![v1903.toNat, 0]

def k0_chk317 (v1903 : BitVec 32) : Prop :=
  (∀ a, (k0_off634 v1903) a + S1x1024.size a ≤ S37888x1024.size a)
theorem k0_off634_inb : ∀ (v1903 : BitVec 32) (k0_hw317 : k0_chk317 v1903), ∀ a, (k0_off634 v1903) a + S1x1024.size a ≤ S37888x1024.size a := fun v1903 k0_hw317 => k0_hw317

def k0_off635 (i : grid0.Coords) : Fin 1 → Nat :=
  let arg0 : BitVec 32 := BitVec.ofNat 32 (i 0).val
  let c1024_i32 : BitVec 32 := 1024#32
  let v0 : BitVec 32 := Scalar.muli arg0 c1024_i32
  let c316_i32_1349 : BitVec 32 := 316#32
  let v1906 : BitVec 32 := Scalar.addi v0 c316_i32_1349
  let c1_i32_1350 : BitVec 32 := 1#32
  let v1907 : BitVec 32 := Scalar.addi v1906 c1_i32_1350
  let v1908 : Index := Scalar.indexCast v1907
  ![v1908.toNat]
def k0_off636 (v1909 : BitVec 32) : Fin 2 → Nat :=
  let c0_i32_1351 : BitVec 32 := 0#32
  ![v1909.toNat, 0]

def k0_chk318 (v1909 : BitVec 32) : Prop :=
  (∀ a, (k0_off636 v1909) a + S1x1024.size a ≤ S37888x1024.size a)
theorem k0_off636_inb : ∀ (v1909 : BitVec 32) (k0_hw318 : k0_chk318 v1909), ∀ a, (k0_off636 v1909) a + S1x1024.size a ≤ S37888x1024.size a := fun v1909 k0_hw318 => k0_hw318

def k0_off637 (i : grid0.Coords) : Fin 1 → Nat :=
  let arg0 : BitVec 32 := BitVec.ofNat 32 (i 0).val
  let c1024_i32 : BitVec 32 := 1024#32
  let v0 : BitVec 32 := Scalar.muli arg0 c1024_i32
  let c318_i32 : BitVec 32 := 318#32
  let v1912 : BitVec 32 := Scalar.addi v0 c318_i32
  let c0_i32_1354 : BitVec 32 := 0#32
  let v1913 : BitVec 32 := Scalar.addi v1912 c0_i32_1354
  let v1914 : Index := Scalar.indexCast v1913
  ![v1914.toNat]
def k0_off638 (v1915 : BitVec 32) : Fin 2 → Nat :=
  let c0_i32_1355 : BitVec 32 := 0#32
  ![v1915.toNat, 0]

def k0_chk319 (v1915 : BitVec 32) : Prop :=
  (∀ a, (k0_off638 v1915) a + S1x1024.size a ≤ S37888x1024.size a)
theorem k0_off638_inb : ∀ (v1915 : BitVec 32) (k0_hw319 : k0_chk319 v1915), ∀ a, (k0_off638 v1915) a + S1x1024.size a ≤ S37888x1024.size a := fun v1915 k0_hw319 => k0_hw319

def k0_off639 (i : grid0.Coords) : Fin 1 → Nat :=
  let arg0 : BitVec 32 := BitVec.ofNat 32 (i 0).val
  let c1024_i32 : BitVec 32 := 1024#32
  let v0 : BitVec 32 := Scalar.muli arg0 c1024_i32
  let c318_i32_1357 : BitVec 32 := 318#32
  let v1918 : BitVec 32 := Scalar.addi v0 c318_i32_1357
  let c1_i32_1358 : BitVec 32 := 1#32
  let v1919 : BitVec 32 := Scalar.addi v1918 c1_i32_1358
  let v1920 : Index := Scalar.indexCast v1919
  ![v1920.toNat]
def k0_off640 (v1921 : BitVec 32) : Fin 2 → Nat :=
  let c0_i32_1359 : BitVec 32 := 0#32
  ![v1921.toNat, 0]

def k0_chk320 (v1921 : BitVec 32) : Prop :=
  (∀ a, (k0_off640 v1921) a + S1x1024.size a ≤ S37888x1024.size a)
theorem k0_off640_inb : ∀ (v1921 : BitVec 32) (k0_hw320 : k0_chk320 v1921), ∀ a, (k0_off640 v1921) a + S1x1024.size a ≤ S37888x1024.size a := fun v1921 k0_hw320 => k0_hw320

def k0_off641 (i : grid0.Coords) : Fin 1 → Nat :=
  let arg0 : BitVec 32 := BitVec.ofNat 32 (i 0).val
  let c1024_i32 : BitVec 32 := 1024#32
  let v0 : BitVec 32 := Scalar.muli arg0 c1024_i32
  let c320_i32 : BitVec 32 := 320#32
  let v1924 : BitVec 32 := Scalar.addi v0 c320_i32
  let c0_i32_1362 : BitVec 32 := 0#32
  let v1925 : BitVec 32 := Scalar.addi v1924 c0_i32_1362
  let v1926 : Index := Scalar.indexCast v1925
  ![v1926.toNat]
def k0_off642 (v1927 : BitVec 32) : Fin 2 → Nat :=
  let c0_i32_1363 : BitVec 32 := 0#32
  ![v1927.toNat, 0]

def k0_chk321 (v1927 : BitVec 32) : Prop :=
  (∀ a, (k0_off642 v1927) a + S1x1024.size a ≤ S37888x1024.size a)
theorem k0_off642_inb : ∀ (v1927 : BitVec 32) (k0_hw321 : k0_chk321 v1927), ∀ a, (k0_off642 v1927) a + S1x1024.size a ≤ S37888x1024.size a := fun v1927 k0_hw321 => k0_hw321

def k0_off643 (i : grid0.Coords) : Fin 1 → Nat :=
  let arg0 : BitVec 32 := BitVec.ofNat 32 (i 0).val
  let c1024_i32 : BitVec 32 := 1024#32
  let v0 : BitVec 32 := Scalar.muli arg0 c1024_i32
  let c320_i32_1366 : BitVec 32 := 320#32
  let v1930 : BitVec 32 := Scalar.addi v0 c320_i32_1366
  let c1_i32_1367 : BitVec 32 := 1#32
  let v1931 : BitVec 32 := Scalar.addi v1930 c1_i32_1367
  let v1932 : Index := Scalar.indexCast v1931
  ![v1932.toNat]
def k0_off644 (v1933 : BitVec 32) : Fin 2 → Nat :=
  let c0_i32_1368 : BitVec 32 := 0#32
  ![v1933.toNat, 0]

def k0_chk322 (v1933 : BitVec 32) : Prop :=
  (∀ a, (k0_off644 v1933) a + S1x1024.size a ≤ S37888x1024.size a)
theorem k0_off644_inb : ∀ (v1933 : BitVec 32) (k0_hw322 : k0_chk322 v1933), ∀ a, (k0_off644 v1933) a + S1x1024.size a ≤ S37888x1024.size a := fun v1933 k0_hw322 => k0_hw322

def k0_off645 (i : grid0.Coords) : Fin 1 → Nat :=
  let arg0 : BitVec 32 := BitVec.ofNat 32 (i 0).val
  let c1024_i32 : BitVec 32 := 1024#32
  let v0 : BitVec 32 := Scalar.muli arg0 c1024_i32
  let c322_i32 : BitVec 32 := 322#32
  let v1936 : BitVec 32 := Scalar.addi v0 c322_i32
  let c0_i32_1371 : BitVec 32 := 0#32
  let v1937 : BitVec 32 := Scalar.addi v1936 c0_i32_1371
  let v1938 : Index := Scalar.indexCast v1937
  ![v1938.toNat]
def k0_off646 (v1939 : BitVec 32) : Fin 2 → Nat :=
  let c0_i32_1372 : BitVec 32 := 0#32
  ![v1939.toNat, 0]

def k0_chk323 (v1939 : BitVec 32) : Prop :=
  (∀ a, (k0_off646 v1939) a + S1x1024.size a ≤ S37888x1024.size a)
theorem k0_off646_inb : ∀ (v1939 : BitVec 32) (k0_hw323 : k0_chk323 v1939), ∀ a, (k0_off646 v1939) a + S1x1024.size a ≤ S37888x1024.size a := fun v1939 k0_hw323 => k0_hw323

def k0_off647 (i : grid0.Coords) : Fin 1 → Nat :=
  let arg0 : BitVec 32 := BitVec.ofNat 32 (i 0).val
  let c1024_i32 : BitVec 32 := 1024#32
  let v0 : BitVec 32 := Scalar.muli arg0 c1024_i32
  let c322_i32_1374 : BitVec 32 := 322#32
  let v1942 : BitVec 32 := Scalar.addi v0 c322_i32_1374
  let c1_i32_1375 : BitVec 32 := 1#32
  let v1943 : BitVec 32 := Scalar.addi v1942 c1_i32_1375
  let v1944 : Index := Scalar.indexCast v1943
  ![v1944.toNat]
def k0_off648 (v1945 : BitVec 32) : Fin 2 → Nat :=
  let c0_i32_1376 : BitVec 32 := 0#32
  ![v1945.toNat, 0]

def k0_chk324 (v1945 : BitVec 32) : Prop :=
  (∀ a, (k0_off648 v1945) a + S1x1024.size a ≤ S37888x1024.size a)
theorem k0_off648_inb : ∀ (v1945 : BitVec 32) (k0_hw324 : k0_chk324 v1945), ∀ a, (k0_off648 v1945) a + S1x1024.size a ≤ S37888x1024.size a := fun v1945 k0_hw324 => k0_hw324

def k0_off649 (i : grid0.Coords) : Fin 1 → Nat :=
  let arg0 : BitVec 32 := BitVec.ofNat 32 (i 0).val
  let c1024_i32 : BitVec 32 := 1024#32
  let v0 : BitVec 32 := Scalar.muli arg0 c1024_i32
  let c324_i32 : BitVec 32 := 324#32
  let v1948 : BitVec 32 := Scalar.addi v0 c324_i32
  let c0_i32_1379 : BitVec 32 := 0#32
  let v1949 : BitVec 32 := Scalar.addi v1948 c0_i32_1379
  let v1950 : Index := Scalar.indexCast v1949
  ![v1950.toNat]
def k0_off650 (v1951 : BitVec 32) : Fin 2 → Nat :=
  let c0_i32_1380 : BitVec 32 := 0#32
  ![v1951.toNat, 0]

def k0_chk325 (v1951 : BitVec 32) : Prop :=
  (∀ a, (k0_off650 v1951) a + S1x1024.size a ≤ S37888x1024.size a)
theorem k0_off650_inb : ∀ (v1951 : BitVec 32) (k0_hw325 : k0_chk325 v1951), ∀ a, (k0_off650 v1951) a + S1x1024.size a ≤ S37888x1024.size a := fun v1951 k0_hw325 => k0_hw325

def k0_off651 (i : grid0.Coords) : Fin 1 → Nat :=
  let arg0 : BitVec 32 := BitVec.ofNat 32 (i 0).val
  let c1024_i32 : BitVec 32 := 1024#32
  let v0 : BitVec 32 := Scalar.muli arg0 c1024_i32
  let c324_i32_1383 : BitVec 32 := 324#32
  let v1954 : BitVec 32 := Scalar.addi v0 c324_i32_1383
  let c1_i32_1384 : BitVec 32 := 1#32
  let v1955 : BitVec 32 := Scalar.addi v1954 c1_i32_1384
  let v1956 : Index := Scalar.indexCast v1955
  ![v1956.toNat]
def k0_off652 (v1957 : BitVec 32) : Fin 2 → Nat :=
  let c0_i32_1385 : BitVec 32 := 0#32
  ![v1957.toNat, 0]

def k0_chk326 (v1957 : BitVec 32) : Prop :=
  (∀ a, (k0_off652 v1957) a + S1x1024.size a ≤ S37888x1024.size a)
theorem k0_off652_inb : ∀ (v1957 : BitVec 32) (k0_hw326 : k0_chk326 v1957), ∀ a, (k0_off652 v1957) a + S1x1024.size a ≤ S37888x1024.size a := fun v1957 k0_hw326 => k0_hw326

def k0_off653 (i : grid0.Coords) : Fin 1 → Nat :=
  let arg0 : BitVec 32 := BitVec.ofNat 32 (i 0).val
  let c1024_i32 : BitVec 32 := 1024#32
  let v0 : BitVec 32 := Scalar.muli arg0 c1024_i32
  let c326_i32 : BitVec 32 := 326#32
  let v1960 : BitVec 32 := Scalar.addi v0 c326_i32
  let c0_i32_1388 : BitVec 32 := 0#32
  let v1961 : BitVec 32 := Scalar.addi v1960 c0_i32_1388
  let v1962 : Index := Scalar.indexCast v1961
  ![v1962.toNat]
def k0_off654 (v1963 : BitVec 32) : Fin 2 → Nat :=
  let c0_i32_1389 : BitVec 32 := 0#32
  ![v1963.toNat, 0]

def k0_chk327 (v1963 : BitVec 32) : Prop :=
  (∀ a, (k0_off654 v1963) a + S1x1024.size a ≤ S37888x1024.size a)
theorem k0_off654_inb : ∀ (v1963 : BitVec 32) (k0_hw327 : k0_chk327 v1963), ∀ a, (k0_off654 v1963) a + S1x1024.size a ≤ S37888x1024.size a := fun v1963 k0_hw327 => k0_hw327

def k0_off655 (i : grid0.Coords) : Fin 1 → Nat :=
  let arg0 : BitVec 32 := BitVec.ofNat 32 (i 0).val
  let c1024_i32 : BitVec 32 := 1024#32
  let v0 : BitVec 32 := Scalar.muli arg0 c1024_i32
  let c326_i32_1391 : BitVec 32 := 326#32
  let v1966 : BitVec 32 := Scalar.addi v0 c326_i32_1391
  let c1_i32_1392 : BitVec 32 := 1#32
  let v1967 : BitVec 32 := Scalar.addi v1966 c1_i32_1392
  let v1968 : Index := Scalar.indexCast v1967
  ![v1968.toNat]
def k0_off656 (v1969 : BitVec 32) : Fin 2 → Nat :=
  let c0_i32_1393 : BitVec 32 := 0#32
  ![v1969.toNat, 0]

def k0_chk328 (v1969 : BitVec 32) : Prop :=
  (∀ a, (k0_off656 v1969) a + S1x1024.size a ≤ S37888x1024.size a)
theorem k0_off656_inb : ∀ (v1969 : BitVec 32) (k0_hw328 : k0_chk328 v1969), ∀ a, (k0_off656 v1969) a + S1x1024.size a ≤ S37888x1024.size a := fun v1969 k0_hw328 => k0_hw328

def k0_off657 (i : grid0.Coords) : Fin 1 → Nat :=
  let arg0 : BitVec 32 := BitVec.ofNat 32 (i 0).val
  let c1024_i32 : BitVec 32 := 1024#32
  let v0 : BitVec 32 := Scalar.muli arg0 c1024_i32
  let c328_i32 : BitVec 32 := 328#32
  let v1972 : BitVec 32 := Scalar.addi v0 c328_i32
  let c0_i32_1396 : BitVec 32 := 0#32
  let v1973 : BitVec 32 := Scalar.addi v1972 c0_i32_1396
  let v1974 : Index := Scalar.indexCast v1973
  ![v1974.toNat]
def k0_off658 (v1975 : BitVec 32) : Fin 2 → Nat :=
  let c0_i32_1397 : BitVec 32 := 0#32
  ![v1975.toNat, 0]

def k0_chk329 (v1975 : BitVec 32) : Prop :=
  (∀ a, (k0_off658 v1975) a + S1x1024.size a ≤ S37888x1024.size a)
theorem k0_off658_inb : ∀ (v1975 : BitVec 32) (k0_hw329 : k0_chk329 v1975), ∀ a, (k0_off658 v1975) a + S1x1024.size a ≤ S37888x1024.size a := fun v1975 k0_hw329 => k0_hw329

def k0_off659 (i : grid0.Coords) : Fin 1 → Nat :=
  let arg0 : BitVec 32 := BitVec.ofNat 32 (i 0).val
  let c1024_i32 : BitVec 32 := 1024#32
  let v0 : BitVec 32 := Scalar.muli arg0 c1024_i32
  let c328_i32_1400 : BitVec 32 := 328#32
  let v1978 : BitVec 32 := Scalar.addi v0 c328_i32_1400
  let c1_i32_1401 : BitVec 32 := 1#32
  let v1979 : BitVec 32 := Scalar.addi v1978 c1_i32_1401
  let v1980 : Index := Scalar.indexCast v1979
  ![v1980.toNat]
def k0_off660 (v1981 : BitVec 32) : Fin 2 → Nat :=
  let c0_i32_1402 : BitVec 32 := 0#32
  ![v1981.toNat, 0]

def k0_chk330 (v1981 : BitVec 32) : Prop :=
  (∀ a, (k0_off660 v1981) a + S1x1024.size a ≤ S37888x1024.size a)
theorem k0_off660_inb : ∀ (v1981 : BitVec 32) (k0_hw330 : k0_chk330 v1981), ∀ a, (k0_off660 v1981) a + S1x1024.size a ≤ S37888x1024.size a := fun v1981 k0_hw330 => k0_hw330

def k0_off661 (i : grid0.Coords) : Fin 1 → Nat :=
  let arg0 : BitVec 32 := BitVec.ofNat 32 (i 0).val
  let c1024_i32 : BitVec 32 := 1024#32
  let v0 : BitVec 32 := Scalar.muli arg0 c1024_i32
  let c330_i32 : BitVec 32 := 330#32
  let v1984 : BitVec 32 := Scalar.addi v0 c330_i32
  let c0_i32_1405 : BitVec 32 := 0#32
  let v1985 : BitVec 32 := Scalar.addi v1984 c0_i32_1405
  let v1986 : Index := Scalar.indexCast v1985
  ![v1986.toNat]
def k0_off662 (v1987 : BitVec 32) : Fin 2 → Nat :=
  let c0_i32_1406 : BitVec 32 := 0#32
  ![v1987.toNat, 0]

def k0_chk331 (v1987 : BitVec 32) : Prop :=
  (∀ a, (k0_off662 v1987) a + S1x1024.size a ≤ S37888x1024.size a)
theorem k0_off662_inb : ∀ (v1987 : BitVec 32) (k0_hw331 : k0_chk331 v1987), ∀ a, (k0_off662 v1987) a + S1x1024.size a ≤ S37888x1024.size a := fun v1987 k0_hw331 => k0_hw331

def k0_off663 (i : grid0.Coords) : Fin 1 → Nat :=
  let arg0 : BitVec 32 := BitVec.ofNat 32 (i 0).val
  let c1024_i32 : BitVec 32 := 1024#32
  let v0 : BitVec 32 := Scalar.muli arg0 c1024_i32
  let c330_i32_1408 : BitVec 32 := 330#32
  let v1990 : BitVec 32 := Scalar.addi v0 c330_i32_1408
  let c1_i32_1409 : BitVec 32 := 1#32
  let v1991 : BitVec 32 := Scalar.addi v1990 c1_i32_1409
  let v1992 : Index := Scalar.indexCast v1991
  ![v1992.toNat]
def k0_off664 (v1993 : BitVec 32) : Fin 2 → Nat :=
  let c0_i32_1410 : BitVec 32 := 0#32
  ![v1993.toNat, 0]

def k0_chk332 (v1993 : BitVec 32) : Prop :=
  (∀ a, (k0_off664 v1993) a + S1x1024.size a ≤ S37888x1024.size a)
theorem k0_off664_inb : ∀ (v1993 : BitVec 32) (k0_hw332 : k0_chk332 v1993), ∀ a, (k0_off664 v1993) a + S1x1024.size a ≤ S37888x1024.size a := fun v1993 k0_hw332 => k0_hw332

def k0_off665 (i : grid0.Coords) : Fin 1 → Nat :=
  let arg0 : BitVec 32 := BitVec.ofNat 32 (i 0).val
  let c1024_i32 : BitVec 32 := 1024#32
  let v0 : BitVec 32 := Scalar.muli arg0 c1024_i32
  let c332_i32 : BitVec 32 := 332#32
  let v1996 : BitVec 32 := Scalar.addi v0 c332_i32
  let c0_i32_1413 : BitVec 32 := 0#32
  let v1997 : BitVec 32 := Scalar.addi v1996 c0_i32_1413
  let v1998 : Index := Scalar.indexCast v1997
  ![v1998.toNat]
def k0_off666 (v1999 : BitVec 32) : Fin 2 → Nat :=
  let c0_i32_1414 : BitVec 32 := 0#32
  ![v1999.toNat, 0]

def k0_chk333 (v1999 : BitVec 32) : Prop :=
  (∀ a, (k0_off666 v1999) a + S1x1024.size a ≤ S37888x1024.size a)
theorem k0_off666_inb : ∀ (v1999 : BitVec 32) (k0_hw333 : k0_chk333 v1999), ∀ a, (k0_off666 v1999) a + S1x1024.size a ≤ S37888x1024.size a := fun v1999 k0_hw333 => k0_hw333

def k0_off667 (i : grid0.Coords) : Fin 1 → Nat :=
  let arg0 : BitVec 32 := BitVec.ofNat 32 (i 0).val
  let c1024_i32 : BitVec 32 := 1024#32
  let v0 : BitVec 32 := Scalar.muli arg0 c1024_i32
  let c332_i32_1417 : BitVec 32 := 332#32
  let v2002 : BitVec 32 := Scalar.addi v0 c332_i32_1417
  let c1_i32_1418 : BitVec 32 := 1#32
  let v2003 : BitVec 32 := Scalar.addi v2002 c1_i32_1418
  let v2004 : Index := Scalar.indexCast v2003
  ![v2004.toNat]
def k0_off668 (v2005 : BitVec 32) : Fin 2 → Nat :=
  let c0_i32_1419 : BitVec 32 := 0#32
  ![v2005.toNat, 0]

def k0_chk334 (v2005 : BitVec 32) : Prop :=
  (∀ a, (k0_off668 v2005) a + S1x1024.size a ≤ S37888x1024.size a)
theorem k0_off668_inb : ∀ (v2005 : BitVec 32) (k0_hw334 : k0_chk334 v2005), ∀ a, (k0_off668 v2005) a + S1x1024.size a ≤ S37888x1024.size a := fun v2005 k0_hw334 => k0_hw334

def k0_off669 (i : grid0.Coords) : Fin 1 → Nat :=
  let arg0 : BitVec 32 := BitVec.ofNat 32 (i 0).val
  let c1024_i32 : BitVec 32 := 1024#32
  let v0 : BitVec 32 := Scalar.muli arg0 c1024_i32
  let c334_i32 : BitVec 32 := 334#32
  let v2008 : BitVec 32 := Scalar.addi v0 c334_i32
  let c0_i32_1422 : BitVec 32 := 0#32
  let v2009 : BitVec 32 := Scalar.addi v2008 c0_i32_1422
  let v2010 : Index := Scalar.indexCast v2009
  ![v2010.toNat]
def k0_off670 (v2011 : BitVec 32) : Fin 2 → Nat :=
  let c0_i32_1423 : BitVec 32 := 0#32
  ![v2011.toNat, 0]

def k0_chk335 (v2011 : BitVec 32) : Prop :=
  (∀ a, (k0_off670 v2011) a + S1x1024.size a ≤ S37888x1024.size a)
theorem k0_off670_inb : ∀ (v2011 : BitVec 32) (k0_hw335 : k0_chk335 v2011), ∀ a, (k0_off670 v2011) a + S1x1024.size a ≤ S37888x1024.size a := fun v2011 k0_hw335 => k0_hw335

def k0_off671 (i : grid0.Coords) : Fin 1 → Nat :=
  let arg0 : BitVec 32 := BitVec.ofNat 32 (i 0).val
  let c1024_i32 : BitVec 32 := 1024#32
  let v0 : BitVec 32 := Scalar.muli arg0 c1024_i32
  let c334_i32_1425 : BitVec 32 := 334#32
  let v2014 : BitVec 32 := Scalar.addi v0 c334_i32_1425
  let c1_i32_1426 : BitVec 32 := 1#32
  let v2015 : BitVec 32 := Scalar.addi v2014 c1_i32_1426
  let v2016 : Index := Scalar.indexCast v2015
  ![v2016.toNat]
def k0_off672 (v2017 : BitVec 32) : Fin 2 → Nat :=
  let c0_i32_1427 : BitVec 32 := 0#32
  ![v2017.toNat, 0]

def k0_chk336 (v2017 : BitVec 32) : Prop :=
  (∀ a, (k0_off672 v2017) a + S1x1024.size a ≤ S37888x1024.size a)
theorem k0_off672_inb : ∀ (v2017 : BitVec 32) (k0_hw336 : k0_chk336 v2017), ∀ a, (k0_off672 v2017) a + S1x1024.size a ≤ S37888x1024.size a := fun v2017 k0_hw336 => k0_hw336

def k0_off673 (i : grid0.Coords) : Fin 1 → Nat :=
  let arg0 : BitVec 32 := BitVec.ofNat 32 (i 0).val
  let c1024_i32 : BitVec 32 := 1024#32
  let v0 : BitVec 32 := Scalar.muli arg0 c1024_i32
  let c336_i32 : BitVec 32 := 336#32
  let v2020 : BitVec 32 := Scalar.addi v0 c336_i32
  let c0_i32_1430 : BitVec 32 := 0#32
  let v2021 : BitVec 32 := Scalar.addi v2020 c0_i32_1430
  let v2022 : Index := Scalar.indexCast v2021
  ![v2022.toNat]
def k0_off674 (v2023 : BitVec 32) : Fin 2 → Nat :=
  let c0_i32_1431 : BitVec 32 := 0#32
  ![v2023.toNat, 0]

def k0_chk337 (v2023 : BitVec 32) : Prop :=
  (∀ a, (k0_off674 v2023) a + S1x1024.size a ≤ S37888x1024.size a)
theorem k0_off674_inb : ∀ (v2023 : BitVec 32) (k0_hw337 : k0_chk337 v2023), ∀ a, (k0_off674 v2023) a + S1x1024.size a ≤ S37888x1024.size a := fun v2023 k0_hw337 => k0_hw337

def k0_off675 (i : grid0.Coords) : Fin 1 → Nat :=
  let arg0 : BitVec 32 := BitVec.ofNat 32 (i 0).val
  let c1024_i32 : BitVec 32 := 1024#32
  let v0 : BitVec 32 := Scalar.muli arg0 c1024_i32
  let c336_i32_1434 : BitVec 32 := 336#32
  let v2026 : BitVec 32 := Scalar.addi v0 c336_i32_1434
  let c1_i32_1435 : BitVec 32 := 1#32
  let v2027 : BitVec 32 := Scalar.addi v2026 c1_i32_1435
  let v2028 : Index := Scalar.indexCast v2027
  ![v2028.toNat]
def k0_off676 (v2029 : BitVec 32) : Fin 2 → Nat :=
  let c0_i32_1436 : BitVec 32 := 0#32
  ![v2029.toNat, 0]

def k0_chk338 (v2029 : BitVec 32) : Prop :=
  (∀ a, (k0_off676 v2029) a + S1x1024.size a ≤ S37888x1024.size a)
theorem k0_off676_inb : ∀ (v2029 : BitVec 32) (k0_hw338 : k0_chk338 v2029), ∀ a, (k0_off676 v2029) a + S1x1024.size a ≤ S37888x1024.size a := fun v2029 k0_hw338 => k0_hw338

def k0_off677 (i : grid0.Coords) : Fin 1 → Nat :=
  let arg0 : BitVec 32 := BitVec.ofNat 32 (i 0).val
  let c1024_i32 : BitVec 32 := 1024#32
  let v0 : BitVec 32 := Scalar.muli arg0 c1024_i32
  let c338_i32 : BitVec 32 := 338#32
  let v2032 : BitVec 32 := Scalar.addi v0 c338_i32
  let c0_i32_1439 : BitVec 32 := 0#32
  let v2033 : BitVec 32 := Scalar.addi v2032 c0_i32_1439
  let v2034 : Index := Scalar.indexCast v2033
  ![v2034.toNat]
def k0_off678 (v2035 : BitVec 32) : Fin 2 → Nat :=
  let c0_i32_1440 : BitVec 32 := 0#32
  ![v2035.toNat, 0]

def k0_chk339 (v2035 : BitVec 32) : Prop :=
  (∀ a, (k0_off678 v2035) a + S1x1024.size a ≤ S37888x1024.size a)
theorem k0_off678_inb : ∀ (v2035 : BitVec 32) (k0_hw339 : k0_chk339 v2035), ∀ a, (k0_off678 v2035) a + S1x1024.size a ≤ S37888x1024.size a := fun v2035 k0_hw339 => k0_hw339

def k0_off679 (i : grid0.Coords) : Fin 1 → Nat :=
  let arg0 : BitVec 32 := BitVec.ofNat 32 (i 0).val
  let c1024_i32 : BitVec 32 := 1024#32
  let v0 : BitVec 32 := Scalar.muli arg0 c1024_i32
  let c338_i32_1442 : BitVec 32 := 338#32
  let v2038 : BitVec 32 := Scalar.addi v0 c338_i32_1442
  let c1_i32_1443 : BitVec 32 := 1#32
  let v2039 : BitVec 32 := Scalar.addi v2038 c1_i32_1443
  let v2040 : Index := Scalar.indexCast v2039
  ![v2040.toNat]
def k0_off680 (v2041 : BitVec 32) : Fin 2 → Nat :=
  let c0_i32_1444 : BitVec 32 := 0#32
  ![v2041.toNat, 0]

def k0_chk340 (v2041 : BitVec 32) : Prop :=
  (∀ a, (k0_off680 v2041) a + S1x1024.size a ≤ S37888x1024.size a)
theorem k0_off680_inb : ∀ (v2041 : BitVec 32) (k0_hw340 : k0_chk340 v2041), ∀ a, (k0_off680 v2041) a + S1x1024.size a ≤ S37888x1024.size a := fun v2041 k0_hw340 => k0_hw340

def k0_off681 (i : grid0.Coords) : Fin 1 → Nat :=
  let arg0 : BitVec 32 := BitVec.ofNat 32 (i 0).val
  let c1024_i32 : BitVec 32 := 1024#32
  let v0 : BitVec 32 := Scalar.muli arg0 c1024_i32
  let c340_i32 : BitVec 32 := 340#32
  let v2044 : BitVec 32 := Scalar.addi v0 c340_i32
  let c0_i32_1447 : BitVec 32 := 0#32
  let v2045 : BitVec 32 := Scalar.addi v2044 c0_i32_1447
  let v2046 : Index := Scalar.indexCast v2045
  ![v2046.toNat]
def k0_off682 (v2047 : BitVec 32) : Fin 2 → Nat :=
  let c0_i32_1448 : BitVec 32 := 0#32
  ![v2047.toNat, 0]

def k0_chk341 (v2047 : BitVec 32) : Prop :=
  (∀ a, (k0_off682 v2047) a + S1x1024.size a ≤ S37888x1024.size a)
theorem k0_off682_inb : ∀ (v2047 : BitVec 32) (k0_hw341 : k0_chk341 v2047), ∀ a, (k0_off682 v2047) a + S1x1024.size a ≤ S37888x1024.size a := fun v2047 k0_hw341 => k0_hw341

def k0_off683 (i : grid0.Coords) : Fin 1 → Nat :=
  let arg0 : BitVec 32 := BitVec.ofNat 32 (i 0).val
  let c1024_i32 : BitVec 32 := 1024#32
  let v0 : BitVec 32 := Scalar.muli arg0 c1024_i32
  let c340_i32_1451 : BitVec 32 := 340#32
  let v2050 : BitVec 32 := Scalar.addi v0 c340_i32_1451
  let c1_i32_1452 : BitVec 32 := 1#32
  let v2051 : BitVec 32 := Scalar.addi v2050 c1_i32_1452
  let v2052 : Index := Scalar.indexCast v2051
  ![v2052.toNat]
def k0_off684 (v2053 : BitVec 32) : Fin 2 → Nat :=
  let c0_i32_1453 : BitVec 32 := 0#32
  ![v2053.toNat, 0]

def k0_chk342 (v2053 : BitVec 32) : Prop :=
  (∀ a, (k0_off684 v2053) a + S1x1024.size a ≤ S37888x1024.size a)
theorem k0_off684_inb : ∀ (v2053 : BitVec 32) (k0_hw342 : k0_chk342 v2053), ∀ a, (k0_off684 v2053) a + S1x1024.size a ≤ S37888x1024.size a := fun v2053 k0_hw342 => k0_hw342

def k0_off685 (i : grid0.Coords) : Fin 1 → Nat :=
  let arg0 : BitVec 32 := BitVec.ofNat 32 (i 0).val
  let c1024_i32 : BitVec 32 := 1024#32
  let v0 : BitVec 32 := Scalar.muli arg0 c1024_i32
  let c342_i32 : BitVec 32 := 342#32
  let v2056 : BitVec 32 := Scalar.addi v0 c342_i32
  let c0_i32_1456 : BitVec 32 := 0#32
  let v2057 : BitVec 32 := Scalar.addi v2056 c0_i32_1456
  let v2058 : Index := Scalar.indexCast v2057
  ![v2058.toNat]
def k0_off686 (v2059 : BitVec 32) : Fin 2 → Nat :=
  let c0_i32_1457 : BitVec 32 := 0#32
  ![v2059.toNat, 0]

def k0_chk343 (v2059 : BitVec 32) : Prop :=
  (∀ a, (k0_off686 v2059) a + S1x1024.size a ≤ S37888x1024.size a)
theorem k0_off686_inb : ∀ (v2059 : BitVec 32) (k0_hw343 : k0_chk343 v2059), ∀ a, (k0_off686 v2059) a + S1x1024.size a ≤ S37888x1024.size a := fun v2059 k0_hw343 => k0_hw343

def k0_off687 (i : grid0.Coords) : Fin 1 → Nat :=
  let arg0 : BitVec 32 := BitVec.ofNat 32 (i 0).val
  let c1024_i32 : BitVec 32 := 1024#32
  let v0 : BitVec 32 := Scalar.muli arg0 c1024_i32
  let c342_i32_1459 : BitVec 32 := 342#32
  let v2062 : BitVec 32 := Scalar.addi v0 c342_i32_1459
  let c1_i32_1460 : BitVec 32 := 1#32
  let v2063 : BitVec 32 := Scalar.addi v2062 c1_i32_1460
  let v2064 : Index := Scalar.indexCast v2063
  ![v2064.toNat]
def k0_off688 (v2065 : BitVec 32) : Fin 2 → Nat :=
  let c0_i32_1461 : BitVec 32 := 0#32
  ![v2065.toNat, 0]

def k0_chk344 (v2065 : BitVec 32) : Prop :=
  (∀ a, (k0_off688 v2065) a + S1x1024.size a ≤ S37888x1024.size a)
theorem k0_off688_inb : ∀ (v2065 : BitVec 32) (k0_hw344 : k0_chk344 v2065), ∀ a, (k0_off688 v2065) a + S1x1024.size a ≤ S37888x1024.size a := fun v2065 k0_hw344 => k0_hw344

def k0_off689 (i : grid0.Coords) : Fin 1 → Nat :=
  let arg0 : BitVec 32 := BitVec.ofNat 32 (i 0).val
  let c1024_i32 : BitVec 32 := 1024#32
  let v0 : BitVec 32 := Scalar.muli arg0 c1024_i32
  let c344_i32 : BitVec 32 := 344#32
  let v2068 : BitVec 32 := Scalar.addi v0 c344_i32
  let c0_i32_1464 : BitVec 32 := 0#32
  let v2069 : BitVec 32 := Scalar.addi v2068 c0_i32_1464
  let v2070 : Index := Scalar.indexCast v2069
  ![v2070.toNat]
def k0_off690 (v2071 : BitVec 32) : Fin 2 → Nat :=
  let c0_i32_1465 : BitVec 32 := 0#32
  ![v2071.toNat, 0]

def k0_chk345 (v2071 : BitVec 32) : Prop :=
  (∀ a, (k0_off690 v2071) a + S1x1024.size a ≤ S37888x1024.size a)
theorem k0_off690_inb : ∀ (v2071 : BitVec 32) (k0_hw345 : k0_chk345 v2071), ∀ a, (k0_off690 v2071) a + S1x1024.size a ≤ S37888x1024.size a := fun v2071 k0_hw345 => k0_hw345

def k0_off691 (i : grid0.Coords) : Fin 1 → Nat :=
  let arg0 : BitVec 32 := BitVec.ofNat 32 (i 0).val
  let c1024_i32 : BitVec 32 := 1024#32
  let v0 : BitVec 32 := Scalar.muli arg0 c1024_i32
  let c344_i32_1468 : BitVec 32 := 344#32
  let v2074 : BitVec 32 := Scalar.addi v0 c344_i32_1468
  let c1_i32_1469 : BitVec 32 := 1#32
  let v2075 : BitVec 32 := Scalar.addi v2074 c1_i32_1469
  let v2076 : Index := Scalar.indexCast v2075
  ![v2076.toNat]
def k0_off692 (v2077 : BitVec 32) : Fin 2 → Nat :=
  let c0_i32_1470 : BitVec 32 := 0#32
  ![v2077.toNat, 0]

def k0_chk346 (v2077 : BitVec 32) : Prop :=
  (∀ a, (k0_off692 v2077) a + S1x1024.size a ≤ S37888x1024.size a)
theorem k0_off692_inb : ∀ (v2077 : BitVec 32) (k0_hw346 : k0_chk346 v2077), ∀ a, (k0_off692 v2077) a + S1x1024.size a ≤ S37888x1024.size a := fun v2077 k0_hw346 => k0_hw346

def k0_off693 (i : grid0.Coords) : Fin 1 → Nat :=
  let arg0 : BitVec 32 := BitVec.ofNat 32 (i 0).val
  let c1024_i32 : BitVec 32 := 1024#32
  let v0 : BitVec 32 := Scalar.muli arg0 c1024_i32
  let c346_i32 : BitVec 32 := 346#32
  let v2080 : BitVec 32 := Scalar.addi v0 c346_i32
  let c0_i32_1473 : BitVec 32 := 0#32
  let v2081 : BitVec 32 := Scalar.addi v2080 c0_i32_1473
  let v2082 : Index := Scalar.indexCast v2081
  ![v2082.toNat]
def k0_off694 (v2083 : BitVec 32) : Fin 2 → Nat :=
  let c0_i32_1474 : BitVec 32 := 0#32
  ![v2083.toNat, 0]

def k0_chk347 (v2083 : BitVec 32) : Prop :=
  (∀ a, (k0_off694 v2083) a + S1x1024.size a ≤ S37888x1024.size a)
theorem k0_off694_inb : ∀ (v2083 : BitVec 32) (k0_hw347 : k0_chk347 v2083), ∀ a, (k0_off694 v2083) a + S1x1024.size a ≤ S37888x1024.size a := fun v2083 k0_hw347 => k0_hw347

def k0_off695 (i : grid0.Coords) : Fin 1 → Nat :=
  let arg0 : BitVec 32 := BitVec.ofNat 32 (i 0).val
  let c1024_i32 : BitVec 32 := 1024#32
  let v0 : BitVec 32 := Scalar.muli arg0 c1024_i32
  let c346_i32_1476 : BitVec 32 := 346#32
  let v2086 : BitVec 32 := Scalar.addi v0 c346_i32_1476
  let c1_i32_1477 : BitVec 32 := 1#32
  let v2087 : BitVec 32 := Scalar.addi v2086 c1_i32_1477
  let v2088 : Index := Scalar.indexCast v2087
  ![v2088.toNat]
def k0_off696 (v2089 : BitVec 32) : Fin 2 → Nat :=
  let c0_i32_1478 : BitVec 32 := 0#32
  ![v2089.toNat, 0]

def k0_chk348 (v2089 : BitVec 32) : Prop :=
  (∀ a, (k0_off696 v2089) a + S1x1024.size a ≤ S37888x1024.size a)
theorem k0_off696_inb : ∀ (v2089 : BitVec 32) (k0_hw348 : k0_chk348 v2089), ∀ a, (k0_off696 v2089) a + S1x1024.size a ≤ S37888x1024.size a := fun v2089 k0_hw348 => k0_hw348

def k0_off697 (i : grid0.Coords) : Fin 1 → Nat :=
  let arg0 : BitVec 32 := BitVec.ofNat 32 (i 0).val
  let c1024_i32 : BitVec 32 := 1024#32
  let v0 : BitVec 32 := Scalar.muli arg0 c1024_i32
  let c348_i32 : BitVec 32 := 348#32
  let v2092 : BitVec 32 := Scalar.addi v0 c348_i32
  let c0_i32_1481 : BitVec 32 := 0#32
  let v2093 : BitVec 32 := Scalar.addi v2092 c0_i32_1481
  let v2094 : Index := Scalar.indexCast v2093
  ![v2094.toNat]
def k0_off698 (v2095 : BitVec 32) : Fin 2 → Nat :=
  let c0_i32_1482 : BitVec 32 := 0#32
  ![v2095.toNat, 0]

def k0_chk349 (v2095 : BitVec 32) : Prop :=
  (∀ a, (k0_off698 v2095) a + S1x1024.size a ≤ S37888x1024.size a)
theorem k0_off698_inb : ∀ (v2095 : BitVec 32) (k0_hw349 : k0_chk349 v2095), ∀ a, (k0_off698 v2095) a + S1x1024.size a ≤ S37888x1024.size a := fun v2095 k0_hw349 => k0_hw349

def k0_off699 (i : grid0.Coords) : Fin 1 → Nat :=
  let arg0 : BitVec 32 := BitVec.ofNat 32 (i 0).val
  let c1024_i32 : BitVec 32 := 1024#32
  let v0 : BitVec 32 := Scalar.muli arg0 c1024_i32
  let c348_i32_1485 : BitVec 32 := 348#32
  let v2098 : BitVec 32 := Scalar.addi v0 c348_i32_1485
  let c1_i32_1486 : BitVec 32 := 1#32
  let v2099 : BitVec 32 := Scalar.addi v2098 c1_i32_1486
  let v2100 : Index := Scalar.indexCast v2099
  ![v2100.toNat]
def k0_off700 (v2101 : BitVec 32) : Fin 2 → Nat :=
  let c0_i32_1487 : BitVec 32 := 0#32
  ![v2101.toNat, 0]

def k0_chk350 (v2101 : BitVec 32) : Prop :=
  (∀ a, (k0_off700 v2101) a + S1x1024.size a ≤ S37888x1024.size a)
theorem k0_off700_inb : ∀ (v2101 : BitVec 32) (k0_hw350 : k0_chk350 v2101), ∀ a, (k0_off700 v2101) a + S1x1024.size a ≤ S37888x1024.size a := fun v2101 k0_hw350 => k0_hw350

def k0_off701 (i : grid0.Coords) : Fin 1 → Nat :=
  let arg0 : BitVec 32 := BitVec.ofNat 32 (i 0).val
  let c1024_i32 : BitVec 32 := 1024#32
  let v0 : BitVec 32 := Scalar.muli arg0 c1024_i32
  let c350_i32 : BitVec 32 := 350#32
  let v2104 : BitVec 32 := Scalar.addi v0 c350_i32
  let c0_i32_1490 : BitVec 32 := 0#32
  let v2105 : BitVec 32 := Scalar.addi v2104 c0_i32_1490
  let v2106 : Index := Scalar.indexCast v2105
  ![v2106.toNat]
def k0_off702 (v2107 : BitVec 32) : Fin 2 → Nat :=
  let c0_i32_1491 : BitVec 32 := 0#32
  ![v2107.toNat, 0]

def k0_chk351 (v2107 : BitVec 32) : Prop :=
  (∀ a, (k0_off702 v2107) a + S1x1024.size a ≤ S37888x1024.size a)
theorem k0_off702_inb : ∀ (v2107 : BitVec 32) (k0_hw351 : k0_chk351 v2107), ∀ a, (k0_off702 v2107) a + S1x1024.size a ≤ S37888x1024.size a := fun v2107 k0_hw351 => k0_hw351

def k0_off703 (i : grid0.Coords) : Fin 1 → Nat :=
  let arg0 : BitVec 32 := BitVec.ofNat 32 (i 0).val
  let c1024_i32 : BitVec 32 := 1024#32
  let v0 : BitVec 32 := Scalar.muli arg0 c1024_i32
  let c350_i32_1493 : BitVec 32 := 350#32
  let v2110 : BitVec 32 := Scalar.addi v0 c350_i32_1493
  let c1_i32_1494 : BitVec 32 := 1#32
  let v2111 : BitVec 32 := Scalar.addi v2110 c1_i32_1494
  let v2112 : Index := Scalar.indexCast v2111
  ![v2112.toNat]
def k0_off704 (v2113 : BitVec 32) : Fin 2 → Nat :=
  let c0_i32_1495 : BitVec 32 := 0#32
  ![v2113.toNat, 0]

def k0_chk352 (v2113 : BitVec 32) : Prop :=
  (∀ a, (k0_off704 v2113) a + S1x1024.size a ≤ S37888x1024.size a)
theorem k0_off704_inb : ∀ (v2113 : BitVec 32) (k0_hw352 : k0_chk352 v2113), ∀ a, (k0_off704 v2113) a + S1x1024.size a ≤ S37888x1024.size a := fun v2113 k0_hw352 => k0_hw352

def k0_off705 (i : grid0.Coords) : Fin 1 → Nat :=
  let arg0 : BitVec 32 := BitVec.ofNat 32 (i 0).val
  let c1024_i32 : BitVec 32 := 1024#32
  let v0 : BitVec 32 := Scalar.muli arg0 c1024_i32
  let c352_i32 : BitVec 32 := 352#32
  let v2116 : BitVec 32 := Scalar.addi v0 c352_i32
  let c0_i32_1498 : BitVec 32 := 0#32
  let v2117 : BitVec 32 := Scalar.addi v2116 c0_i32_1498
  let v2118 : Index := Scalar.indexCast v2117
  ![v2118.toNat]
def k0_off706 (v2119 : BitVec 32) : Fin 2 → Nat :=
  let c0_i32_1499 : BitVec 32 := 0#32
  ![v2119.toNat, 0]

def k0_chk353 (v2119 : BitVec 32) : Prop :=
  (∀ a, (k0_off706 v2119) a + S1x1024.size a ≤ S37888x1024.size a)
theorem k0_off706_inb : ∀ (v2119 : BitVec 32) (k0_hw353 : k0_chk353 v2119), ∀ a, (k0_off706 v2119) a + S1x1024.size a ≤ S37888x1024.size a := fun v2119 k0_hw353 => k0_hw353

def k0_off707 (i : grid0.Coords) : Fin 1 → Nat :=
  let arg0 : BitVec 32 := BitVec.ofNat 32 (i 0).val
  let c1024_i32 : BitVec 32 := 1024#32
  let v0 : BitVec 32 := Scalar.muli arg0 c1024_i32
  let c352_i32_1502 : BitVec 32 := 352#32
  let v2122 : BitVec 32 := Scalar.addi v0 c352_i32_1502
  let c1_i32_1503 : BitVec 32 := 1#32
  let v2123 : BitVec 32 := Scalar.addi v2122 c1_i32_1503
  let v2124 : Index := Scalar.indexCast v2123
  ![v2124.toNat]
def k0_off708 (v2125 : BitVec 32) : Fin 2 → Nat :=
  let c0_i32_1504 : BitVec 32 := 0#32
  ![v2125.toNat, 0]

def k0_chk354 (v2125 : BitVec 32) : Prop :=
  (∀ a, (k0_off708 v2125) a + S1x1024.size a ≤ S37888x1024.size a)
theorem k0_off708_inb : ∀ (v2125 : BitVec 32) (k0_hw354 : k0_chk354 v2125), ∀ a, (k0_off708 v2125) a + S1x1024.size a ≤ S37888x1024.size a := fun v2125 k0_hw354 => k0_hw354

def k0_off709 (i : grid0.Coords) : Fin 1 → Nat :=
  let arg0 : BitVec 32 := BitVec.ofNat 32 (i 0).val
  let c1024_i32 : BitVec 32 := 1024#32
  let v0 : BitVec 32 := Scalar.muli arg0 c1024_i32
  let c354_i32 : BitVec 32 := 354#32
  let v2128 : BitVec 32 := Scalar.addi v0 c354_i32
  let c0_i32_1507 : BitVec 32 := 0#32
  let v2129 : BitVec 32 := Scalar.addi v2128 c0_i32_1507
  let v2130 : Index := Scalar.indexCast v2129
  ![v2130.toNat]
def k0_off710 (v2131 : BitVec 32) : Fin 2 → Nat :=
  let c0_i32_1508 : BitVec 32 := 0#32
  ![v2131.toNat, 0]

def k0_chk355 (v2131 : BitVec 32) : Prop :=
  (∀ a, (k0_off710 v2131) a + S1x1024.size a ≤ S37888x1024.size a)
theorem k0_off710_inb : ∀ (v2131 : BitVec 32) (k0_hw355 : k0_chk355 v2131), ∀ a, (k0_off710 v2131) a + S1x1024.size a ≤ S37888x1024.size a := fun v2131 k0_hw355 => k0_hw355

def k0_off711 (i : grid0.Coords) : Fin 1 → Nat :=
  let arg0 : BitVec 32 := BitVec.ofNat 32 (i 0).val
  let c1024_i32 : BitVec 32 := 1024#32
  let v0 : BitVec 32 := Scalar.muli arg0 c1024_i32
  let c354_i32_1510 : BitVec 32 := 354#32
  let v2134 : BitVec 32 := Scalar.addi v0 c354_i32_1510
  let c1_i32_1511 : BitVec 32 := 1#32
  let v2135 : BitVec 32 := Scalar.addi v2134 c1_i32_1511
  let v2136 : Index := Scalar.indexCast v2135
  ![v2136.toNat]
def k0_off712 (v2137 : BitVec 32) : Fin 2 → Nat :=
  let c0_i32_1512 : BitVec 32 := 0#32
  ![v2137.toNat, 0]

def k0_chk356 (v2137 : BitVec 32) : Prop :=
  (∀ a, (k0_off712 v2137) a + S1x1024.size a ≤ S37888x1024.size a)
theorem k0_off712_inb : ∀ (v2137 : BitVec 32) (k0_hw356 : k0_chk356 v2137), ∀ a, (k0_off712 v2137) a + S1x1024.size a ≤ S37888x1024.size a := fun v2137 k0_hw356 => k0_hw356

def k0_off713 (i : grid0.Coords) : Fin 1 → Nat :=
  let arg0 : BitVec 32 := BitVec.ofNat 32 (i 0).val
  let c1024_i32 : BitVec 32 := 1024#32
  let v0 : BitVec 32 := Scalar.muli arg0 c1024_i32
  let c356_i32 : BitVec 32 := 356#32
  let v2140 : BitVec 32 := Scalar.addi v0 c356_i32
  let c0_i32_1515 : BitVec 32 := 0#32
  let v2141 : BitVec 32 := Scalar.addi v2140 c0_i32_1515
  let v2142 : Index := Scalar.indexCast v2141
  ![v2142.toNat]
def k0_off714 (v2143 : BitVec 32) : Fin 2 → Nat :=
  let c0_i32_1516 : BitVec 32 := 0#32
  ![v2143.toNat, 0]

def k0_chk357 (v2143 : BitVec 32) : Prop :=
  (∀ a, (k0_off714 v2143) a + S1x1024.size a ≤ S37888x1024.size a)
theorem k0_off714_inb : ∀ (v2143 : BitVec 32) (k0_hw357 : k0_chk357 v2143), ∀ a, (k0_off714 v2143) a + S1x1024.size a ≤ S37888x1024.size a := fun v2143 k0_hw357 => k0_hw357

def k0_off715 (i : grid0.Coords) : Fin 1 → Nat :=
  let arg0 : BitVec 32 := BitVec.ofNat 32 (i 0).val
  let c1024_i32 : BitVec 32 := 1024#32
  let v0 : BitVec 32 := Scalar.muli arg0 c1024_i32
  let c356_i32_1519 : BitVec 32 := 356#32
  let v2146 : BitVec 32 := Scalar.addi v0 c356_i32_1519
  let c1_i32_1520 : BitVec 32 := 1#32
  let v2147 : BitVec 32 := Scalar.addi v2146 c1_i32_1520
  let v2148 : Index := Scalar.indexCast v2147
  ![v2148.toNat]
def k0_off716 (v2149 : BitVec 32) : Fin 2 → Nat :=
  let c0_i32_1521 : BitVec 32 := 0#32
  ![v2149.toNat, 0]

def k0_chk358 (v2149 : BitVec 32) : Prop :=
  (∀ a, (k0_off716 v2149) a + S1x1024.size a ≤ S37888x1024.size a)
theorem k0_off716_inb : ∀ (v2149 : BitVec 32) (k0_hw358 : k0_chk358 v2149), ∀ a, (k0_off716 v2149) a + S1x1024.size a ≤ S37888x1024.size a := fun v2149 k0_hw358 => k0_hw358

def k0_off717 (i : grid0.Coords) : Fin 1 → Nat :=
  let arg0 : BitVec 32 := BitVec.ofNat 32 (i 0).val
  let c1024_i32 : BitVec 32 := 1024#32
  let v0 : BitVec 32 := Scalar.muli arg0 c1024_i32
  let c358_i32 : BitVec 32 := 358#32
  let v2152 : BitVec 32 := Scalar.addi v0 c358_i32
  let c0_i32_1524 : BitVec 32 := 0#32
  let v2153 : BitVec 32 := Scalar.addi v2152 c0_i32_1524
  let v2154 : Index := Scalar.indexCast v2153
  ![v2154.toNat]
def k0_off718 (v2155 : BitVec 32) : Fin 2 → Nat :=
  let c0_i32_1525 : BitVec 32 := 0#32
  ![v2155.toNat, 0]

def k0_chk359 (v2155 : BitVec 32) : Prop :=
  (∀ a, (k0_off718 v2155) a + S1x1024.size a ≤ S37888x1024.size a)
theorem k0_off718_inb : ∀ (v2155 : BitVec 32) (k0_hw359 : k0_chk359 v2155), ∀ a, (k0_off718 v2155) a + S1x1024.size a ≤ S37888x1024.size a := fun v2155 k0_hw359 => k0_hw359

def k0_off719 (i : grid0.Coords) : Fin 1 → Nat :=
  let arg0 : BitVec 32 := BitVec.ofNat 32 (i 0).val
  let c1024_i32 : BitVec 32 := 1024#32
  let v0 : BitVec 32 := Scalar.muli arg0 c1024_i32
  let c358_i32_1527 : BitVec 32 := 358#32
  let v2158 : BitVec 32 := Scalar.addi v0 c358_i32_1527
  let c1_i32_1528 : BitVec 32 := 1#32
  let v2159 : BitVec 32 := Scalar.addi v2158 c1_i32_1528
  let v2160 : Index := Scalar.indexCast v2159
  ![v2160.toNat]
def k0_off720 (v2161 : BitVec 32) : Fin 2 → Nat :=
  let c0_i32_1529 : BitVec 32 := 0#32
  ![v2161.toNat, 0]

def k0_chk360 (v2161 : BitVec 32) : Prop :=
  (∀ a, (k0_off720 v2161) a + S1x1024.size a ≤ S37888x1024.size a)
theorem k0_off720_inb : ∀ (v2161 : BitVec 32) (k0_hw360 : k0_chk360 v2161), ∀ a, (k0_off720 v2161) a + S1x1024.size a ≤ S37888x1024.size a := fun v2161 k0_hw360 => k0_hw360

def k0_off721 (i : grid0.Coords) : Fin 1 → Nat :=
  let arg0 : BitVec 32 := BitVec.ofNat 32 (i 0).val
  let c1024_i32 : BitVec 32 := 1024#32
  let v0 : BitVec 32 := Scalar.muli arg0 c1024_i32
  let c360_i32 : BitVec 32 := 360#32
  let v2164 : BitVec 32 := Scalar.addi v0 c360_i32
  let c0_i32_1532 : BitVec 32 := 0#32
  let v2165 : BitVec 32 := Scalar.addi v2164 c0_i32_1532
  let v2166 : Index := Scalar.indexCast v2165
  ![v2166.toNat]
def k0_off722 (v2167 : BitVec 32) : Fin 2 → Nat :=
  let c0_i32_1533 : BitVec 32 := 0#32
  ![v2167.toNat, 0]

def k0_chk361 (v2167 : BitVec 32) : Prop :=
  (∀ a, (k0_off722 v2167) a + S1x1024.size a ≤ S37888x1024.size a)
theorem k0_off722_inb : ∀ (v2167 : BitVec 32) (k0_hw361 : k0_chk361 v2167), ∀ a, (k0_off722 v2167) a + S1x1024.size a ≤ S37888x1024.size a := fun v2167 k0_hw361 => k0_hw361

def k0_off723 (i : grid0.Coords) : Fin 1 → Nat :=
  let arg0 : BitVec 32 := BitVec.ofNat 32 (i 0).val
  let c1024_i32 : BitVec 32 := 1024#32
  let v0 : BitVec 32 := Scalar.muli arg0 c1024_i32
  let c360_i32_1536 : BitVec 32 := 360#32
  let v2170 : BitVec 32 := Scalar.addi v0 c360_i32_1536
  let c1_i32_1537 : BitVec 32 := 1#32
  let v2171 : BitVec 32 := Scalar.addi v2170 c1_i32_1537
  let v2172 : Index := Scalar.indexCast v2171
  ![v2172.toNat]
def k0_off724 (v2173 : BitVec 32) : Fin 2 → Nat :=
  let c0_i32_1538 : BitVec 32 := 0#32
  ![v2173.toNat, 0]

def k0_chk362 (v2173 : BitVec 32) : Prop :=
  (∀ a, (k0_off724 v2173) a + S1x1024.size a ≤ S37888x1024.size a)
theorem k0_off724_inb : ∀ (v2173 : BitVec 32) (k0_hw362 : k0_chk362 v2173), ∀ a, (k0_off724 v2173) a + S1x1024.size a ≤ S37888x1024.size a := fun v2173 k0_hw362 => k0_hw362

def k0_off725 (i : grid0.Coords) : Fin 1 → Nat :=
  let arg0 : BitVec 32 := BitVec.ofNat 32 (i 0).val
  let c1024_i32 : BitVec 32 := 1024#32
  let v0 : BitVec 32 := Scalar.muli arg0 c1024_i32
  let c362_i32 : BitVec 32 := 362#32
  let v2176 : BitVec 32 := Scalar.addi v0 c362_i32
  let c0_i32_1541 : BitVec 32 := 0#32
  let v2177 : BitVec 32 := Scalar.addi v2176 c0_i32_1541
  let v2178 : Index := Scalar.indexCast v2177
  ![v2178.toNat]
def k0_off726 (v2179 : BitVec 32) : Fin 2 → Nat :=
  let c0_i32_1542 : BitVec 32 := 0#32
  ![v2179.toNat, 0]

def k0_chk363 (v2179 : BitVec 32) : Prop :=
  (∀ a, (k0_off726 v2179) a + S1x1024.size a ≤ S37888x1024.size a)
theorem k0_off726_inb : ∀ (v2179 : BitVec 32) (k0_hw363 : k0_chk363 v2179), ∀ a, (k0_off726 v2179) a + S1x1024.size a ≤ S37888x1024.size a := fun v2179 k0_hw363 => k0_hw363

def k0_off727 (i : grid0.Coords) : Fin 1 → Nat :=
  let arg0 : BitVec 32 := BitVec.ofNat 32 (i 0).val
  let c1024_i32 : BitVec 32 := 1024#32
  let v0 : BitVec 32 := Scalar.muli arg0 c1024_i32
  let c362_i32_1544 : BitVec 32 := 362#32
  let v2182 : BitVec 32 := Scalar.addi v0 c362_i32_1544
  let c1_i32_1545 : BitVec 32 := 1#32
  let v2183 : BitVec 32 := Scalar.addi v2182 c1_i32_1545
  let v2184 : Index := Scalar.indexCast v2183
  ![v2184.toNat]
def k0_off728 (v2185 : BitVec 32) : Fin 2 → Nat :=
  let c0_i32_1546 : BitVec 32 := 0#32
  ![v2185.toNat, 0]

def k0_chk364 (v2185 : BitVec 32) : Prop :=
  (∀ a, (k0_off728 v2185) a + S1x1024.size a ≤ S37888x1024.size a)
theorem k0_off728_inb : ∀ (v2185 : BitVec 32) (k0_hw364 : k0_chk364 v2185), ∀ a, (k0_off728 v2185) a + S1x1024.size a ≤ S37888x1024.size a := fun v2185 k0_hw364 => k0_hw364

def k0_off729 (i : grid0.Coords) : Fin 1 → Nat :=
  let arg0 : BitVec 32 := BitVec.ofNat 32 (i 0).val
  let c1024_i32 : BitVec 32 := 1024#32
  let v0 : BitVec 32 := Scalar.muli arg0 c1024_i32
  let c364_i32 : BitVec 32 := 364#32
  let v2188 : BitVec 32 := Scalar.addi v0 c364_i32
  let c0_i32_1549 : BitVec 32 := 0#32
  let v2189 : BitVec 32 := Scalar.addi v2188 c0_i32_1549
  let v2190 : Index := Scalar.indexCast v2189
  ![v2190.toNat]
def k0_off730 (v2191 : BitVec 32) : Fin 2 → Nat :=
  let c0_i32_1550 : BitVec 32 := 0#32
  ![v2191.toNat, 0]

def k0_chk365 (v2191 : BitVec 32) : Prop :=
  (∀ a, (k0_off730 v2191) a + S1x1024.size a ≤ S37888x1024.size a)
theorem k0_off730_inb : ∀ (v2191 : BitVec 32) (k0_hw365 : k0_chk365 v2191), ∀ a, (k0_off730 v2191) a + S1x1024.size a ≤ S37888x1024.size a := fun v2191 k0_hw365 => k0_hw365

def k0_off731 (i : grid0.Coords) : Fin 1 → Nat :=
  let arg0 : BitVec 32 := BitVec.ofNat 32 (i 0).val
  let c1024_i32 : BitVec 32 := 1024#32
  let v0 : BitVec 32 := Scalar.muli arg0 c1024_i32
  let c364_i32_1553 : BitVec 32 := 364#32
  let v2194 : BitVec 32 := Scalar.addi v0 c364_i32_1553
  let c1_i32_1554 : BitVec 32 := 1#32
  let v2195 : BitVec 32 := Scalar.addi v2194 c1_i32_1554
  let v2196 : Index := Scalar.indexCast v2195
  ![v2196.toNat]
def k0_off732 (v2197 : BitVec 32) : Fin 2 → Nat :=
  let c0_i32_1555 : BitVec 32 := 0#32
  ![v2197.toNat, 0]

def k0_chk366 (v2197 : BitVec 32) : Prop :=
  (∀ a, (k0_off732 v2197) a + S1x1024.size a ≤ S37888x1024.size a)
theorem k0_off732_inb : ∀ (v2197 : BitVec 32) (k0_hw366 : k0_chk366 v2197), ∀ a, (k0_off732 v2197) a + S1x1024.size a ≤ S37888x1024.size a := fun v2197 k0_hw366 => k0_hw366

def k0_off733 (i : grid0.Coords) : Fin 1 → Nat :=
  let arg0 : BitVec 32 := BitVec.ofNat 32 (i 0).val
  let c1024_i32 : BitVec 32 := 1024#32
  let v0 : BitVec 32 := Scalar.muli arg0 c1024_i32
  let c366_i32 : BitVec 32 := 366#32
  let v2200 : BitVec 32 := Scalar.addi v0 c366_i32
  let c0_i32_1558 : BitVec 32 := 0#32
  let v2201 : BitVec 32 := Scalar.addi v2200 c0_i32_1558
  let v2202 : Index := Scalar.indexCast v2201
  ![v2202.toNat]
def k0_off734 (v2203 : BitVec 32) : Fin 2 → Nat :=
  let c0_i32_1559 : BitVec 32 := 0#32
  ![v2203.toNat, 0]

def k0_chk367 (v2203 : BitVec 32) : Prop :=
  (∀ a, (k0_off734 v2203) a + S1x1024.size a ≤ S37888x1024.size a)
theorem k0_off734_inb : ∀ (v2203 : BitVec 32) (k0_hw367 : k0_chk367 v2203), ∀ a, (k0_off734 v2203) a + S1x1024.size a ≤ S37888x1024.size a := fun v2203 k0_hw367 => k0_hw367

def k0_off735 (i : grid0.Coords) : Fin 1 → Nat :=
  let arg0 : BitVec 32 := BitVec.ofNat 32 (i 0).val
  let c1024_i32 : BitVec 32 := 1024#32
  let v0 : BitVec 32 := Scalar.muli arg0 c1024_i32
  let c366_i32_1561 : BitVec 32 := 366#32
  let v2206 : BitVec 32 := Scalar.addi v0 c366_i32_1561
  let c1_i32_1562 : BitVec 32 := 1#32
  let v2207 : BitVec 32 := Scalar.addi v2206 c1_i32_1562
  let v2208 : Index := Scalar.indexCast v2207
  ![v2208.toNat]
def k0_off736 (v2209 : BitVec 32) : Fin 2 → Nat :=
  let c0_i32_1563 : BitVec 32 := 0#32
  ![v2209.toNat, 0]

def k0_chk368 (v2209 : BitVec 32) : Prop :=
  (∀ a, (k0_off736 v2209) a + S1x1024.size a ≤ S37888x1024.size a)
theorem k0_off736_inb : ∀ (v2209 : BitVec 32) (k0_hw368 : k0_chk368 v2209), ∀ a, (k0_off736 v2209) a + S1x1024.size a ≤ S37888x1024.size a := fun v2209 k0_hw368 => k0_hw368

def k0_off737 (i : grid0.Coords) : Fin 1 → Nat :=
  let arg0 : BitVec 32 := BitVec.ofNat 32 (i 0).val
  let c1024_i32 : BitVec 32 := 1024#32
  let v0 : BitVec 32 := Scalar.muli arg0 c1024_i32
  let c368_i32 : BitVec 32 := 368#32
  let v2212 : BitVec 32 := Scalar.addi v0 c368_i32
  let c0_i32_1566 : BitVec 32 := 0#32
  let v2213 : BitVec 32 := Scalar.addi v2212 c0_i32_1566
  let v2214 : Index := Scalar.indexCast v2213
  ![v2214.toNat]
def k0_off738 (v2215 : BitVec 32) : Fin 2 → Nat :=
  let c0_i32_1567 : BitVec 32 := 0#32
  ![v2215.toNat, 0]

def k0_chk369 (v2215 : BitVec 32) : Prop :=
  (∀ a, (k0_off738 v2215) a + S1x1024.size a ≤ S37888x1024.size a)
theorem k0_off738_inb : ∀ (v2215 : BitVec 32) (k0_hw369 : k0_chk369 v2215), ∀ a, (k0_off738 v2215) a + S1x1024.size a ≤ S37888x1024.size a := fun v2215 k0_hw369 => k0_hw369

def k0_off739 (i : grid0.Coords) : Fin 1 → Nat :=
  let arg0 : BitVec 32 := BitVec.ofNat 32 (i 0).val
  let c1024_i32 : BitVec 32 := 1024#32
  let v0 : BitVec 32 := Scalar.muli arg0 c1024_i32
  let c368_i32_1570 : BitVec 32 := 368#32
  let v2218 : BitVec 32 := Scalar.addi v0 c368_i32_1570
  let c1_i32_1571 : BitVec 32 := 1#32
  let v2219 : BitVec 32 := Scalar.addi v2218 c1_i32_1571
  let v2220 : Index := Scalar.indexCast v2219
  ![v2220.toNat]
def k0_off740 (v2221 : BitVec 32) : Fin 2 → Nat :=
  let c0_i32_1572 : BitVec 32 := 0#32
  ![v2221.toNat, 0]

def k0_chk370 (v2221 : BitVec 32) : Prop :=
  (∀ a, (k0_off740 v2221) a + S1x1024.size a ≤ S37888x1024.size a)
theorem k0_off740_inb : ∀ (v2221 : BitVec 32) (k0_hw370 : k0_chk370 v2221), ∀ a, (k0_off740 v2221) a + S1x1024.size a ≤ S37888x1024.size a := fun v2221 k0_hw370 => k0_hw370

def k0_off741 (i : grid0.Coords) : Fin 1 → Nat :=
  let arg0 : BitVec 32 := BitVec.ofNat 32 (i 0).val
  let c1024_i32 : BitVec 32 := 1024#32
  let v0 : BitVec 32 := Scalar.muli arg0 c1024_i32
  let c370_i32 : BitVec 32 := 370#32
  let v2224 : BitVec 32 := Scalar.addi v0 c370_i32
  let c0_i32_1575 : BitVec 32 := 0#32
  let v2225 : BitVec 32 := Scalar.addi v2224 c0_i32_1575
  let v2226 : Index := Scalar.indexCast v2225
  ![v2226.toNat]
def k0_off742 (v2227 : BitVec 32) : Fin 2 → Nat :=
  let c0_i32_1576 : BitVec 32 := 0#32
  ![v2227.toNat, 0]

def k0_chk371 (v2227 : BitVec 32) : Prop :=
  (∀ a, (k0_off742 v2227) a + S1x1024.size a ≤ S37888x1024.size a)
theorem k0_off742_inb : ∀ (v2227 : BitVec 32) (k0_hw371 : k0_chk371 v2227), ∀ a, (k0_off742 v2227) a + S1x1024.size a ≤ S37888x1024.size a := fun v2227 k0_hw371 => k0_hw371

def k0_off743 (i : grid0.Coords) : Fin 1 → Nat :=
  let arg0 : BitVec 32 := BitVec.ofNat 32 (i 0).val
  let c1024_i32 : BitVec 32 := 1024#32
  let v0 : BitVec 32 := Scalar.muli arg0 c1024_i32
  let c370_i32_1578 : BitVec 32 := 370#32
  let v2230 : BitVec 32 := Scalar.addi v0 c370_i32_1578
  let c1_i32_1579 : BitVec 32 := 1#32
  let v2231 : BitVec 32 := Scalar.addi v2230 c1_i32_1579
  let v2232 : Index := Scalar.indexCast v2231
  ![v2232.toNat]
def k0_off744 (v2233 : BitVec 32) : Fin 2 → Nat :=
  let c0_i32_1580 : BitVec 32 := 0#32
  ![v2233.toNat, 0]

def k0_chk372 (v2233 : BitVec 32) : Prop :=
  (∀ a, (k0_off744 v2233) a + S1x1024.size a ≤ S37888x1024.size a)
theorem k0_off744_inb : ∀ (v2233 : BitVec 32) (k0_hw372 : k0_chk372 v2233), ∀ a, (k0_off744 v2233) a + S1x1024.size a ≤ S37888x1024.size a := fun v2233 k0_hw372 => k0_hw372

def k0_off745 (i : grid0.Coords) : Fin 1 → Nat :=
  let arg0 : BitVec 32 := BitVec.ofNat 32 (i 0).val
  let c1024_i32 : BitVec 32 := 1024#32
  let v0 : BitVec 32 := Scalar.muli arg0 c1024_i32
  let c372_i32 : BitVec 32 := 372#32
  let v2236 : BitVec 32 := Scalar.addi v0 c372_i32
  let c0_i32_1583 : BitVec 32 := 0#32
  let v2237 : BitVec 32 := Scalar.addi v2236 c0_i32_1583
  let v2238 : Index := Scalar.indexCast v2237
  ![v2238.toNat]
def k0_off746 (v2239 : BitVec 32) : Fin 2 → Nat :=
  let c0_i32_1584 : BitVec 32 := 0#32
  ![v2239.toNat, 0]

def k0_chk373 (v2239 : BitVec 32) : Prop :=
  (∀ a, (k0_off746 v2239) a + S1x1024.size a ≤ S37888x1024.size a)
theorem k0_off746_inb : ∀ (v2239 : BitVec 32) (k0_hw373 : k0_chk373 v2239), ∀ a, (k0_off746 v2239) a + S1x1024.size a ≤ S37888x1024.size a := fun v2239 k0_hw373 => k0_hw373

def k0_off747 (i : grid0.Coords) : Fin 1 → Nat :=
  let arg0 : BitVec 32 := BitVec.ofNat 32 (i 0).val
  let c1024_i32 : BitVec 32 := 1024#32
  let v0 : BitVec 32 := Scalar.muli arg0 c1024_i32
  let c372_i32_1587 : BitVec 32 := 372#32
  let v2242 : BitVec 32 := Scalar.addi v0 c372_i32_1587
  let c1_i32_1588 : BitVec 32 := 1#32
  let v2243 : BitVec 32 := Scalar.addi v2242 c1_i32_1588
  let v2244 : Index := Scalar.indexCast v2243
  ![v2244.toNat]
def k0_off748 (v2245 : BitVec 32) : Fin 2 → Nat :=
  let c0_i32_1589 : BitVec 32 := 0#32
  ![v2245.toNat, 0]

def k0_chk374 (v2245 : BitVec 32) : Prop :=
  (∀ a, (k0_off748 v2245) a + S1x1024.size a ≤ S37888x1024.size a)
theorem k0_off748_inb : ∀ (v2245 : BitVec 32) (k0_hw374 : k0_chk374 v2245), ∀ a, (k0_off748 v2245) a + S1x1024.size a ≤ S37888x1024.size a := fun v2245 k0_hw374 => k0_hw374

def k0_off749 (i : grid0.Coords) : Fin 1 → Nat :=
  let arg0 : BitVec 32 := BitVec.ofNat 32 (i 0).val
  let c1024_i32 : BitVec 32 := 1024#32
  let v0 : BitVec 32 := Scalar.muli arg0 c1024_i32
  let c374_i32 : BitVec 32 := 374#32
  let v2248 : BitVec 32 := Scalar.addi v0 c374_i32
  let c0_i32_1592 : BitVec 32 := 0#32
  let v2249 : BitVec 32 := Scalar.addi v2248 c0_i32_1592
  let v2250 : Index := Scalar.indexCast v2249
  ![v2250.toNat]
def k0_off750 (v2251 : BitVec 32) : Fin 2 → Nat :=
  let c0_i32_1593 : BitVec 32 := 0#32
  ![v2251.toNat, 0]

def k0_chk375 (v2251 : BitVec 32) : Prop :=
  (∀ a, (k0_off750 v2251) a + S1x1024.size a ≤ S37888x1024.size a)
theorem k0_off750_inb : ∀ (v2251 : BitVec 32) (k0_hw375 : k0_chk375 v2251), ∀ a, (k0_off750 v2251) a + S1x1024.size a ≤ S37888x1024.size a := fun v2251 k0_hw375 => k0_hw375

def k0_off751 (i : grid0.Coords) : Fin 1 → Nat :=
  let arg0 : BitVec 32 := BitVec.ofNat 32 (i 0).val
  let c1024_i32 : BitVec 32 := 1024#32
  let v0 : BitVec 32 := Scalar.muli arg0 c1024_i32
  let c374_i32_1595 : BitVec 32 := 374#32
  let v2254 : BitVec 32 := Scalar.addi v0 c374_i32_1595
  let c1_i32_1596 : BitVec 32 := 1#32
  let v2255 : BitVec 32 := Scalar.addi v2254 c1_i32_1596
  let v2256 : Index := Scalar.indexCast v2255
  ![v2256.toNat]
def k0_off752 (v2257 : BitVec 32) : Fin 2 → Nat :=
  let c0_i32_1597 : BitVec 32 := 0#32
  ![v2257.toNat, 0]

def k0_chk376 (v2257 : BitVec 32) : Prop :=
  (∀ a, (k0_off752 v2257) a + S1x1024.size a ≤ S37888x1024.size a)
theorem k0_off752_inb : ∀ (v2257 : BitVec 32) (k0_hw376 : k0_chk376 v2257), ∀ a, (k0_off752 v2257) a + S1x1024.size a ≤ S37888x1024.size a := fun v2257 k0_hw376 => k0_hw376

def k0_off753 (i : grid0.Coords) : Fin 1 → Nat :=
  let arg0 : BitVec 32 := BitVec.ofNat 32 (i 0).val
  let c1024_i32 : BitVec 32 := 1024#32
  let v0 : BitVec 32 := Scalar.muli arg0 c1024_i32
  let c376_i32 : BitVec 32 := 376#32
  let v2260 : BitVec 32 := Scalar.addi v0 c376_i32
  let c0_i32_1600 : BitVec 32 := 0#32
  let v2261 : BitVec 32 := Scalar.addi v2260 c0_i32_1600
  let v2262 : Index := Scalar.indexCast v2261
  ![v2262.toNat]
def k0_off754 (v2263 : BitVec 32) : Fin 2 → Nat :=
  let c0_i32_1601 : BitVec 32 := 0#32
  ![v2263.toNat, 0]

def k0_chk377 (v2263 : BitVec 32) : Prop :=
  (∀ a, (k0_off754 v2263) a + S1x1024.size a ≤ S37888x1024.size a)
theorem k0_off754_inb : ∀ (v2263 : BitVec 32) (k0_hw377 : k0_chk377 v2263), ∀ a, (k0_off754 v2263) a + S1x1024.size a ≤ S37888x1024.size a := fun v2263 k0_hw377 => k0_hw377

def k0_off755 (i : grid0.Coords) : Fin 1 → Nat :=
  let arg0 : BitVec 32 := BitVec.ofNat 32 (i 0).val
  let c1024_i32 : BitVec 32 := 1024#32
  let v0 : BitVec 32 := Scalar.muli arg0 c1024_i32
  let c376_i32_1604 : BitVec 32 := 376#32
  let v2266 : BitVec 32 := Scalar.addi v0 c376_i32_1604
  let c1_i32_1605 : BitVec 32 := 1#32
  let v2267 : BitVec 32 := Scalar.addi v2266 c1_i32_1605
  let v2268 : Index := Scalar.indexCast v2267
  ![v2268.toNat]
def k0_off756 (v2269 : BitVec 32) : Fin 2 → Nat :=
  let c0_i32_1606 : BitVec 32 := 0#32
  ![v2269.toNat, 0]

def k0_chk378 (v2269 : BitVec 32) : Prop :=
  (∀ a, (k0_off756 v2269) a + S1x1024.size a ≤ S37888x1024.size a)
theorem k0_off756_inb : ∀ (v2269 : BitVec 32) (k0_hw378 : k0_chk378 v2269), ∀ a, (k0_off756 v2269) a + S1x1024.size a ≤ S37888x1024.size a := fun v2269 k0_hw378 => k0_hw378

def k0_off757 (i : grid0.Coords) : Fin 1 → Nat :=
  let arg0 : BitVec 32 := BitVec.ofNat 32 (i 0).val
  let c1024_i32 : BitVec 32 := 1024#32
  let v0 : BitVec 32 := Scalar.muli arg0 c1024_i32
  let c378_i32 : BitVec 32 := 378#32
  let v2272 : BitVec 32 := Scalar.addi v0 c378_i32
  let c0_i32_1609 : BitVec 32 := 0#32
  let v2273 : BitVec 32 := Scalar.addi v2272 c0_i32_1609
  let v2274 : Index := Scalar.indexCast v2273
  ![v2274.toNat]
def k0_off758 (v2275 : BitVec 32) : Fin 2 → Nat :=
  let c0_i32_1610 : BitVec 32 := 0#32
  ![v2275.toNat, 0]

def k0_chk379 (v2275 : BitVec 32) : Prop :=
  (∀ a, (k0_off758 v2275) a + S1x1024.size a ≤ S37888x1024.size a)
theorem k0_off758_inb : ∀ (v2275 : BitVec 32) (k0_hw379 : k0_chk379 v2275), ∀ a, (k0_off758 v2275) a + S1x1024.size a ≤ S37888x1024.size a := fun v2275 k0_hw379 => k0_hw379

def k0_off759 (i : grid0.Coords) : Fin 1 → Nat :=
  let arg0 : BitVec 32 := BitVec.ofNat 32 (i 0).val
  let c1024_i32 : BitVec 32 := 1024#32
  let v0 : BitVec 32 := Scalar.muli arg0 c1024_i32
  let c378_i32_1612 : BitVec 32 := 378#32
  let v2278 : BitVec 32 := Scalar.addi v0 c378_i32_1612
  let c1_i32_1613 : BitVec 32 := 1#32
  let v2279 : BitVec 32 := Scalar.addi v2278 c1_i32_1613
  let v2280 : Index := Scalar.indexCast v2279
  ![v2280.toNat]
def k0_off760 (v2281 : BitVec 32) : Fin 2 → Nat :=
  let c0_i32_1614 : BitVec 32 := 0#32
  ![v2281.toNat, 0]

def k0_chk380 (v2281 : BitVec 32) : Prop :=
  (∀ a, (k0_off760 v2281) a + S1x1024.size a ≤ S37888x1024.size a)
theorem k0_off760_inb : ∀ (v2281 : BitVec 32) (k0_hw380 : k0_chk380 v2281), ∀ a, (k0_off760 v2281) a + S1x1024.size a ≤ S37888x1024.size a := fun v2281 k0_hw380 => k0_hw380

def k0_off761 (i : grid0.Coords) : Fin 1 → Nat :=
  let arg0 : BitVec 32 := BitVec.ofNat 32 (i 0).val
  let c1024_i32 : BitVec 32 := 1024#32
  let v0 : BitVec 32 := Scalar.muli arg0 c1024_i32
  let c380_i32 : BitVec 32 := 380#32
  let v2284 : BitVec 32 := Scalar.addi v0 c380_i32
  let c0_i32_1617 : BitVec 32 := 0#32
  let v2285 : BitVec 32 := Scalar.addi v2284 c0_i32_1617
  let v2286 : Index := Scalar.indexCast v2285
  ![v2286.toNat]
def k0_off762 (v2287 : BitVec 32) : Fin 2 → Nat :=
  let c0_i32_1618 : BitVec 32 := 0#32
  ![v2287.toNat, 0]

def k0_chk381 (v2287 : BitVec 32) : Prop :=
  (∀ a, (k0_off762 v2287) a + S1x1024.size a ≤ S37888x1024.size a)
theorem k0_off762_inb : ∀ (v2287 : BitVec 32) (k0_hw381 : k0_chk381 v2287), ∀ a, (k0_off762 v2287) a + S1x1024.size a ≤ S37888x1024.size a := fun v2287 k0_hw381 => k0_hw381

def k0_off763 (i : grid0.Coords) : Fin 1 → Nat :=
  let arg0 : BitVec 32 := BitVec.ofNat 32 (i 0).val
  let c1024_i32 : BitVec 32 := 1024#32
  let v0 : BitVec 32 := Scalar.muli arg0 c1024_i32
  let c380_i32_1621 : BitVec 32 := 380#32
  let v2290 : BitVec 32 := Scalar.addi v0 c380_i32_1621
  let c1_i32_1622 : BitVec 32 := 1#32
  let v2291 : BitVec 32 := Scalar.addi v2290 c1_i32_1622
  let v2292 : Index := Scalar.indexCast v2291
  ![v2292.toNat]
def k0_off764 (v2293 : BitVec 32) : Fin 2 → Nat :=
  let c0_i32_1623 : BitVec 32 := 0#32
  ![v2293.toNat, 0]

def k0_chk382 (v2293 : BitVec 32) : Prop :=
  (∀ a, (k0_off764 v2293) a + S1x1024.size a ≤ S37888x1024.size a)
theorem k0_off764_inb : ∀ (v2293 : BitVec 32) (k0_hw382 : k0_chk382 v2293), ∀ a, (k0_off764 v2293) a + S1x1024.size a ≤ S37888x1024.size a := fun v2293 k0_hw382 => k0_hw382

def k0_off765 (i : grid0.Coords) : Fin 1 → Nat :=
  let arg0 : BitVec 32 := BitVec.ofNat 32 (i 0).val
  let c1024_i32 : BitVec 32 := 1024#32
  let v0 : BitVec 32 := Scalar.muli arg0 c1024_i32
  let c382_i32 : BitVec 32 := 382#32
  let v2296 : BitVec 32 := Scalar.addi v0 c382_i32
  let c0_i32_1626 : BitVec 32 := 0#32
  let v2297 : BitVec 32 := Scalar.addi v2296 c0_i32_1626
  let v2298 : Index := Scalar.indexCast v2297
  ![v2298.toNat]
def k0_off766 (v2299 : BitVec 32) : Fin 2 → Nat :=
  let c0_i32_1627 : BitVec 32 := 0#32
  ![v2299.toNat, 0]

def k0_chk383 (v2299 : BitVec 32) : Prop :=
  (∀ a, (k0_off766 v2299) a + S1x1024.size a ≤ S37888x1024.size a)
theorem k0_off766_inb : ∀ (v2299 : BitVec 32) (k0_hw383 : k0_chk383 v2299), ∀ a, (k0_off766 v2299) a + S1x1024.size a ≤ S37888x1024.size a := fun v2299 k0_hw383 => k0_hw383

def k0_off767 (i : grid0.Coords) : Fin 1 → Nat :=
  let arg0 : BitVec 32 := BitVec.ofNat 32 (i 0).val
  let c1024_i32 : BitVec 32 := 1024#32
  let v0 : BitVec 32 := Scalar.muli arg0 c1024_i32
  let c382_i32_1629 : BitVec 32 := 382#32
  let v2302 : BitVec 32 := Scalar.addi v0 c382_i32_1629
  let c1_i32_1630 : BitVec 32 := 1#32
  let v2303 : BitVec 32 := Scalar.addi v2302 c1_i32_1630
  let v2304 : Index := Scalar.indexCast v2303
  ![v2304.toNat]
def k0_off768 (v2305 : BitVec 32) : Fin 2 → Nat :=
  let c0_i32_1631 : BitVec 32 := 0#32
  ![v2305.toNat, 0]

def k0_chk384 (v2305 : BitVec 32) : Prop :=
  (∀ a, (k0_off768 v2305) a + S1x1024.size a ≤ S37888x1024.size a)
theorem k0_off768_inb : ∀ (v2305 : BitVec 32) (k0_hw384 : k0_chk384 v2305), ∀ a, (k0_off768 v2305) a + S1x1024.size a ≤ S37888x1024.size a := fun v2305 k0_hw384 => k0_hw384

def k0_off769 (i : grid0.Coords) : Fin 1 → Nat :=
  let arg0 : BitVec 32 := BitVec.ofNat 32 (i 0).val
  let c1024_i32 : BitVec 32 := 1024#32
  let v0 : BitVec 32 := Scalar.muli arg0 c1024_i32
  let c384_i32 : BitVec 32 := 384#32
  let v2308 : BitVec 32 := Scalar.addi v0 c384_i32
  let c0_i32_1634 : BitVec 32 := 0#32
  let v2309 : BitVec 32 := Scalar.addi v2308 c0_i32_1634
  let v2310 : Index := Scalar.indexCast v2309
  ![v2310.toNat]
def k0_off770 (v2311 : BitVec 32) : Fin 2 → Nat :=
  let c0_i32_1635 : BitVec 32 := 0#32
  ![v2311.toNat, 0]

def k0_chk385 (v2311 : BitVec 32) : Prop :=
  (∀ a, (k0_off770 v2311) a + S1x1024.size a ≤ S37888x1024.size a)
theorem k0_off770_inb : ∀ (v2311 : BitVec 32) (k0_hw385 : k0_chk385 v2311), ∀ a, (k0_off770 v2311) a + S1x1024.size a ≤ S37888x1024.size a := fun v2311 k0_hw385 => k0_hw385

def k0_off771 (i : grid0.Coords) : Fin 1 → Nat :=
  let arg0 : BitVec 32 := BitVec.ofNat 32 (i 0).val
  let c1024_i32 : BitVec 32 := 1024#32
  let v0 : BitVec 32 := Scalar.muli arg0 c1024_i32
  let c384_i32_1638 : BitVec 32 := 384#32
  let v2314 : BitVec 32 := Scalar.addi v0 c384_i32_1638
  let c1_i32_1639 : BitVec 32 := 1#32
  let v2315 : BitVec 32 := Scalar.addi v2314 c1_i32_1639
  let v2316 : Index := Scalar.indexCast v2315
  ![v2316.toNat]
def k0_off772 (v2317 : BitVec 32) : Fin 2 → Nat :=
  let c0_i32_1640 : BitVec 32 := 0#32
  ![v2317.toNat, 0]

def k0_chk386 (v2317 : BitVec 32) : Prop :=
  (∀ a, (k0_off772 v2317) a + S1x1024.size a ≤ S37888x1024.size a)
theorem k0_off772_inb : ∀ (v2317 : BitVec 32) (k0_hw386 : k0_chk386 v2317), ∀ a, (k0_off772 v2317) a + S1x1024.size a ≤ S37888x1024.size a := fun v2317 k0_hw386 => k0_hw386

def k0_off773 (i : grid0.Coords) : Fin 1 → Nat :=
  let arg0 : BitVec 32 := BitVec.ofNat 32 (i 0).val
  let c1024_i32 : BitVec 32 := 1024#32
  let v0 : BitVec 32 := Scalar.muli arg0 c1024_i32
  let c386_i32 : BitVec 32 := 386#32
  let v2320 : BitVec 32 := Scalar.addi v0 c386_i32
  let c0_i32_1643 : BitVec 32 := 0#32
  let v2321 : BitVec 32 := Scalar.addi v2320 c0_i32_1643
  let v2322 : Index := Scalar.indexCast v2321
  ![v2322.toNat]
def k0_off774 (v2323 : BitVec 32) : Fin 2 → Nat :=
  let c0_i32_1644 : BitVec 32 := 0#32
  ![v2323.toNat, 0]

def k0_chk387 (v2323 : BitVec 32) : Prop :=
  (∀ a, (k0_off774 v2323) a + S1x1024.size a ≤ S37888x1024.size a)
theorem k0_off774_inb : ∀ (v2323 : BitVec 32) (k0_hw387 : k0_chk387 v2323), ∀ a, (k0_off774 v2323) a + S1x1024.size a ≤ S37888x1024.size a := fun v2323 k0_hw387 => k0_hw387

def k0_off775 (i : grid0.Coords) : Fin 1 → Nat :=
  let arg0 : BitVec 32 := BitVec.ofNat 32 (i 0).val
  let c1024_i32 : BitVec 32 := 1024#32
  let v0 : BitVec 32 := Scalar.muli arg0 c1024_i32
  let c386_i32_1646 : BitVec 32 := 386#32
  let v2326 : BitVec 32 := Scalar.addi v0 c386_i32_1646
  let c1_i32_1647 : BitVec 32 := 1#32
  let v2327 : BitVec 32 := Scalar.addi v2326 c1_i32_1647
  let v2328 : Index := Scalar.indexCast v2327
  ![v2328.toNat]
def k0_off776 (v2329 : BitVec 32) : Fin 2 → Nat :=
  let c0_i32_1648 : BitVec 32 := 0#32
  ![v2329.toNat, 0]

def k0_chk388 (v2329 : BitVec 32) : Prop :=
  (∀ a, (k0_off776 v2329) a + S1x1024.size a ≤ S37888x1024.size a)
theorem k0_off776_inb : ∀ (v2329 : BitVec 32) (k0_hw388 : k0_chk388 v2329), ∀ a, (k0_off776 v2329) a + S1x1024.size a ≤ S37888x1024.size a := fun v2329 k0_hw388 => k0_hw388

def k0_off777 (i : grid0.Coords) : Fin 1 → Nat :=
  let arg0 : BitVec 32 := BitVec.ofNat 32 (i 0).val
  let c1024_i32 : BitVec 32 := 1024#32
  let v0 : BitVec 32 := Scalar.muli arg0 c1024_i32
  let c388_i32 : BitVec 32 := 388#32
  let v2332 : BitVec 32 := Scalar.addi v0 c388_i32
  let c0_i32_1651 : BitVec 32 := 0#32
  let v2333 : BitVec 32 := Scalar.addi v2332 c0_i32_1651
  let v2334 : Index := Scalar.indexCast v2333
  ![v2334.toNat]
def k0_off778 (v2335 : BitVec 32) : Fin 2 → Nat :=
  let c0_i32_1652 : BitVec 32 := 0#32
  ![v2335.toNat, 0]

def k0_chk389 (v2335 : BitVec 32) : Prop :=
  (∀ a, (k0_off778 v2335) a + S1x1024.size a ≤ S37888x1024.size a)
theorem k0_off778_inb : ∀ (v2335 : BitVec 32) (k0_hw389 : k0_chk389 v2335), ∀ a, (k0_off778 v2335) a + S1x1024.size a ≤ S37888x1024.size a := fun v2335 k0_hw389 => k0_hw389

def k0_off779 (i : grid0.Coords) : Fin 1 → Nat :=
  let arg0 : BitVec 32 := BitVec.ofNat 32 (i 0).val
  let c1024_i32 : BitVec 32 := 1024#32
  let v0 : BitVec 32 := Scalar.muli arg0 c1024_i32
  let c388_i32_1655 : BitVec 32 := 388#32
  let v2338 : BitVec 32 := Scalar.addi v0 c388_i32_1655
  let c1_i32_1656 : BitVec 32 := 1#32
  let v2339 : BitVec 32 := Scalar.addi v2338 c1_i32_1656
  let v2340 : Index := Scalar.indexCast v2339
  ![v2340.toNat]
def k0_off780 (v2341 : BitVec 32) : Fin 2 → Nat :=
  let c0_i32_1657 : BitVec 32 := 0#32
  ![v2341.toNat, 0]

def k0_chk390 (v2341 : BitVec 32) : Prop :=
  (∀ a, (k0_off780 v2341) a + S1x1024.size a ≤ S37888x1024.size a)
theorem k0_off780_inb : ∀ (v2341 : BitVec 32) (k0_hw390 : k0_chk390 v2341), ∀ a, (k0_off780 v2341) a + S1x1024.size a ≤ S37888x1024.size a := fun v2341 k0_hw390 => k0_hw390

def k0_off781 (i : grid0.Coords) : Fin 1 → Nat :=
  let arg0 : BitVec 32 := BitVec.ofNat 32 (i 0).val
  let c1024_i32 : BitVec 32 := 1024#32
  let v0 : BitVec 32 := Scalar.muli arg0 c1024_i32
  let c390_i32 : BitVec 32 := 390#32
  let v2344 : BitVec 32 := Scalar.addi v0 c390_i32
  let c0_i32_1660 : BitVec 32 := 0#32
  let v2345 : BitVec 32 := Scalar.addi v2344 c0_i32_1660
  let v2346 : Index := Scalar.indexCast v2345
  ![v2346.toNat]
def k0_off782 (v2347 : BitVec 32) : Fin 2 → Nat :=
  let c0_i32_1661 : BitVec 32 := 0#32
  ![v2347.toNat, 0]

def k0_chk391 (v2347 : BitVec 32) : Prop :=
  (∀ a, (k0_off782 v2347) a + S1x1024.size a ≤ S37888x1024.size a)
theorem k0_off782_inb : ∀ (v2347 : BitVec 32) (k0_hw391 : k0_chk391 v2347), ∀ a, (k0_off782 v2347) a + S1x1024.size a ≤ S37888x1024.size a := fun v2347 k0_hw391 => k0_hw391

def k0_off783 (i : grid0.Coords) : Fin 1 → Nat :=
  let arg0 : BitVec 32 := BitVec.ofNat 32 (i 0).val
  let c1024_i32 : BitVec 32 := 1024#32
  let v0 : BitVec 32 := Scalar.muli arg0 c1024_i32
  let c390_i32_1663 : BitVec 32 := 390#32
  let v2350 : BitVec 32 := Scalar.addi v0 c390_i32_1663
  let c1_i32_1664 : BitVec 32 := 1#32
  let v2351 : BitVec 32 := Scalar.addi v2350 c1_i32_1664
  let v2352 : Index := Scalar.indexCast v2351
  ![v2352.toNat]
def k0_off784 (v2353 : BitVec 32) : Fin 2 → Nat :=
  let c0_i32_1665 : BitVec 32 := 0#32
  ![v2353.toNat, 0]

def k0_chk392 (v2353 : BitVec 32) : Prop :=
  (∀ a, (k0_off784 v2353) a + S1x1024.size a ≤ S37888x1024.size a)
theorem k0_off784_inb : ∀ (v2353 : BitVec 32) (k0_hw392 : k0_chk392 v2353), ∀ a, (k0_off784 v2353) a + S1x1024.size a ≤ S37888x1024.size a := fun v2353 k0_hw392 => k0_hw392

def k0_off785 (i : grid0.Coords) : Fin 1 → Nat :=
  let arg0 : BitVec 32 := BitVec.ofNat 32 (i 0).val
  let c1024_i32 : BitVec 32 := 1024#32
  let v0 : BitVec 32 := Scalar.muli arg0 c1024_i32
  let c392_i32 : BitVec 32 := 392#32
  let v2356 : BitVec 32 := Scalar.addi v0 c392_i32
  let c0_i32_1668 : BitVec 32 := 0#32
  let v2357 : BitVec 32 := Scalar.addi v2356 c0_i32_1668
  let v2358 : Index := Scalar.indexCast v2357
  ![v2358.toNat]
def k0_off786 (v2359 : BitVec 32) : Fin 2 → Nat :=
  let c0_i32_1669 : BitVec 32 := 0#32
  ![v2359.toNat, 0]

def k0_chk393 (v2359 : BitVec 32) : Prop :=
  (∀ a, (k0_off786 v2359) a + S1x1024.size a ≤ S37888x1024.size a)
theorem k0_off786_inb : ∀ (v2359 : BitVec 32) (k0_hw393 : k0_chk393 v2359), ∀ a, (k0_off786 v2359) a + S1x1024.size a ≤ S37888x1024.size a := fun v2359 k0_hw393 => k0_hw393

def k0_off787 (i : grid0.Coords) : Fin 1 → Nat :=
  let arg0 : BitVec 32 := BitVec.ofNat 32 (i 0).val
  let c1024_i32 : BitVec 32 := 1024#32
  let v0 : BitVec 32 := Scalar.muli arg0 c1024_i32
  let c392_i32_1672 : BitVec 32 := 392#32
  let v2362 : BitVec 32 := Scalar.addi v0 c392_i32_1672
  let c1_i32_1673 : BitVec 32 := 1#32
  let v2363 : BitVec 32 := Scalar.addi v2362 c1_i32_1673
  let v2364 : Index := Scalar.indexCast v2363
  ![v2364.toNat]
def k0_off788 (v2365 : BitVec 32) : Fin 2 → Nat :=
  let c0_i32_1674 : BitVec 32 := 0#32
  ![v2365.toNat, 0]

def k0_chk394 (v2365 : BitVec 32) : Prop :=
  (∀ a, (k0_off788 v2365) a + S1x1024.size a ≤ S37888x1024.size a)
theorem k0_off788_inb : ∀ (v2365 : BitVec 32) (k0_hw394 : k0_chk394 v2365), ∀ a, (k0_off788 v2365) a + S1x1024.size a ≤ S37888x1024.size a := fun v2365 k0_hw394 => k0_hw394

def k0_off789 (i : grid0.Coords) : Fin 1 → Nat :=
  let arg0 : BitVec 32 := BitVec.ofNat 32 (i 0).val
  let c1024_i32 : BitVec 32 := 1024#32
  let v0 : BitVec 32 := Scalar.muli arg0 c1024_i32
  let c394_i32 : BitVec 32 := 394#32
  let v2368 : BitVec 32 := Scalar.addi v0 c394_i32
  let c0_i32_1677 : BitVec 32 := 0#32
  let v2369 : BitVec 32 := Scalar.addi v2368 c0_i32_1677
  let v2370 : Index := Scalar.indexCast v2369
  ![v2370.toNat]
def k0_off790 (v2371 : BitVec 32) : Fin 2 → Nat :=
  let c0_i32_1678 : BitVec 32 := 0#32
  ![v2371.toNat, 0]

def k0_chk395 (v2371 : BitVec 32) : Prop :=
  (∀ a, (k0_off790 v2371) a + S1x1024.size a ≤ S37888x1024.size a)
theorem k0_off790_inb : ∀ (v2371 : BitVec 32) (k0_hw395 : k0_chk395 v2371), ∀ a, (k0_off790 v2371) a + S1x1024.size a ≤ S37888x1024.size a := fun v2371 k0_hw395 => k0_hw395

def k0_off791 (i : grid0.Coords) : Fin 1 → Nat :=
  let arg0 : BitVec 32 := BitVec.ofNat 32 (i 0).val
  let c1024_i32 : BitVec 32 := 1024#32
  let v0 : BitVec 32 := Scalar.muli arg0 c1024_i32
  let c394_i32_1680 : BitVec 32 := 394#32
  let v2374 : BitVec 32 := Scalar.addi v0 c394_i32_1680
  let c1_i32_1681 : BitVec 32 := 1#32
  let v2375 : BitVec 32 := Scalar.addi v2374 c1_i32_1681
  let v2376 : Index := Scalar.indexCast v2375
  ![v2376.toNat]
def k0_off792 (v2377 : BitVec 32) : Fin 2 → Nat :=
  let c0_i32_1682 : BitVec 32 := 0#32
  ![v2377.toNat, 0]

def k0_chk396 (v2377 : BitVec 32) : Prop :=
  (∀ a, (k0_off792 v2377) a + S1x1024.size a ≤ S37888x1024.size a)
theorem k0_off792_inb : ∀ (v2377 : BitVec 32) (k0_hw396 : k0_chk396 v2377), ∀ a, (k0_off792 v2377) a + S1x1024.size a ≤ S37888x1024.size a := fun v2377 k0_hw396 => k0_hw396

def k0_off793 (i : grid0.Coords) : Fin 1 → Nat :=
  let arg0 : BitVec 32 := BitVec.ofNat 32 (i 0).val
  let c1024_i32 : BitVec 32 := 1024#32
  let v0 : BitVec 32 := Scalar.muli arg0 c1024_i32
  let c396_i32 : BitVec 32 := 396#32
  let v2380 : BitVec 32 := Scalar.addi v0 c396_i32
  let c0_i32_1685 : BitVec 32 := 0#32
  let v2381 : BitVec 32 := Scalar.addi v2380 c0_i32_1685
  let v2382 : Index := Scalar.indexCast v2381
  ![v2382.toNat]
def k0_off794 (v2383 : BitVec 32) : Fin 2 → Nat :=
  let c0_i32_1686 : BitVec 32 := 0#32
  ![v2383.toNat, 0]

def k0_chk397 (v2383 : BitVec 32) : Prop :=
  (∀ a, (k0_off794 v2383) a + S1x1024.size a ≤ S37888x1024.size a)
theorem k0_off794_inb : ∀ (v2383 : BitVec 32) (k0_hw397 : k0_chk397 v2383), ∀ a, (k0_off794 v2383) a + S1x1024.size a ≤ S37888x1024.size a := fun v2383 k0_hw397 => k0_hw397

def k0_off795 (i : grid0.Coords) : Fin 1 → Nat :=
  let arg0 : BitVec 32 := BitVec.ofNat 32 (i 0).val
  let c1024_i32 : BitVec 32 := 1024#32
  let v0 : BitVec 32 := Scalar.muli arg0 c1024_i32
  let c396_i32_1689 : BitVec 32 := 396#32
  let v2386 : BitVec 32 := Scalar.addi v0 c396_i32_1689
  let c1_i32_1690 : BitVec 32 := 1#32
  let v2387 : BitVec 32 := Scalar.addi v2386 c1_i32_1690
  let v2388 : Index := Scalar.indexCast v2387
  ![v2388.toNat]
def k0_off796 (v2389 : BitVec 32) : Fin 2 → Nat :=
  let c0_i32_1691 : BitVec 32 := 0#32
  ![v2389.toNat, 0]

def k0_chk398 (v2389 : BitVec 32) : Prop :=
  (∀ a, (k0_off796 v2389) a + S1x1024.size a ≤ S37888x1024.size a)
theorem k0_off796_inb : ∀ (v2389 : BitVec 32) (k0_hw398 : k0_chk398 v2389), ∀ a, (k0_off796 v2389) a + S1x1024.size a ≤ S37888x1024.size a := fun v2389 k0_hw398 => k0_hw398

def k0_off797 (i : grid0.Coords) : Fin 1 → Nat :=
  let arg0 : BitVec 32 := BitVec.ofNat 32 (i 0).val
  let c1024_i32 : BitVec 32 := 1024#32
  let v0 : BitVec 32 := Scalar.muli arg0 c1024_i32
  let c398_i32 : BitVec 32 := 398#32
  let v2392 : BitVec 32 := Scalar.addi v0 c398_i32
  let c0_i32_1694 : BitVec 32 := 0#32
  let v2393 : BitVec 32 := Scalar.addi v2392 c0_i32_1694
  let v2394 : Index := Scalar.indexCast v2393
  ![v2394.toNat]
def k0_off798 (v2395 : BitVec 32) : Fin 2 → Nat :=
  let c0_i32_1695 : BitVec 32 := 0#32
  ![v2395.toNat, 0]

def k0_chk399 (v2395 : BitVec 32) : Prop :=
  (∀ a, (k0_off798 v2395) a + S1x1024.size a ≤ S37888x1024.size a)
theorem k0_off798_inb : ∀ (v2395 : BitVec 32) (k0_hw399 : k0_chk399 v2395), ∀ a, (k0_off798 v2395) a + S1x1024.size a ≤ S37888x1024.size a := fun v2395 k0_hw399 => k0_hw399

def k0_off799 (i : grid0.Coords) : Fin 1 → Nat :=
  let arg0 : BitVec 32 := BitVec.ofNat 32 (i 0).val
  let c1024_i32 : BitVec 32 := 1024#32
  let v0 : BitVec 32 := Scalar.muli arg0 c1024_i32
  let c398_i32_1697 : BitVec 32 := 398#32
  let v2398 : BitVec 32 := Scalar.addi v0 c398_i32_1697
  let c1_i32_1698 : BitVec 32 := 1#32
  let v2399 : BitVec 32 := Scalar.addi v2398 c1_i32_1698
  let v2400 : Index := Scalar.indexCast v2399
  ![v2400.toNat]
def k0_off800 (v2401 : BitVec 32) : Fin 2 → Nat :=
  let c0_i32_1699 : BitVec 32 := 0#32
  ![v2401.toNat, 0]

def k0_chk400 (v2401 : BitVec 32) : Prop :=
  (∀ a, (k0_off800 v2401) a + S1x1024.size a ≤ S37888x1024.size a)
theorem k0_off800_inb : ∀ (v2401 : BitVec 32) (k0_hw400 : k0_chk400 v2401), ∀ a, (k0_off800 v2401) a + S1x1024.size a ≤ S37888x1024.size a := fun v2401 k0_hw400 => k0_hw400

def k0_off801 (i : grid0.Coords) : Fin 1 → Nat :=
  let arg0 : BitVec 32 := BitVec.ofNat 32 (i 0).val
  let c1024_i32 : BitVec 32 := 1024#32
  let v0 : BitVec 32 := Scalar.muli arg0 c1024_i32
  let c400_i32 : BitVec 32 := 400#32
  let v2404 : BitVec 32 := Scalar.addi v0 c400_i32
  let c0_i32_1702 : BitVec 32 := 0#32
  let v2405 : BitVec 32 := Scalar.addi v2404 c0_i32_1702
  let v2406 : Index := Scalar.indexCast v2405
  ![v2406.toNat]
def k0_off802 (v2407 : BitVec 32) : Fin 2 → Nat :=
  let c0_i32_1703 : BitVec 32 := 0#32
  ![v2407.toNat, 0]

def k0_chk401 (v2407 : BitVec 32) : Prop :=
  (∀ a, (k0_off802 v2407) a + S1x1024.size a ≤ S37888x1024.size a)
theorem k0_off802_inb : ∀ (v2407 : BitVec 32) (k0_hw401 : k0_chk401 v2407), ∀ a, (k0_off802 v2407) a + S1x1024.size a ≤ S37888x1024.size a := fun v2407 k0_hw401 => k0_hw401

def k0_off803 (i : grid0.Coords) : Fin 1 → Nat :=
  let arg0 : BitVec 32 := BitVec.ofNat 32 (i 0).val
  let c1024_i32 : BitVec 32 := 1024#32
  let v0 : BitVec 32 := Scalar.muli arg0 c1024_i32
  let c400_i32_1706 : BitVec 32 := 400#32
  let v2410 : BitVec 32 := Scalar.addi v0 c400_i32_1706
  let c1_i32_1707 : BitVec 32 := 1#32
  let v2411 : BitVec 32 := Scalar.addi v2410 c1_i32_1707
  let v2412 : Index := Scalar.indexCast v2411
  ![v2412.toNat]
def k0_off804 (v2413 : BitVec 32) : Fin 2 → Nat :=
  let c0_i32_1708 : BitVec 32 := 0#32
  ![v2413.toNat, 0]

def k0_chk402 (v2413 : BitVec 32) : Prop :=
  (∀ a, (k0_off804 v2413) a + S1x1024.size a ≤ S37888x1024.size a)
theorem k0_off804_inb : ∀ (v2413 : BitVec 32) (k0_hw402 : k0_chk402 v2413), ∀ a, (k0_off804 v2413) a + S1x1024.size a ≤ S37888x1024.size a := fun v2413 k0_hw402 => k0_hw402

def k0_off805 (i : grid0.Coords) : Fin 1 → Nat :=
  let arg0 : BitVec 32 := BitVec.ofNat 32 (i 0).val
  let c1024_i32 : BitVec 32 := 1024#32
  let v0 : BitVec 32 := Scalar.muli arg0 c1024_i32
  let c402_i32 : BitVec 32 := 402#32
  let v2416 : BitVec 32 := Scalar.addi v0 c402_i32
  let c0_i32_1711 : BitVec 32 := 0#32
  let v2417 : BitVec 32 := Scalar.addi v2416 c0_i32_1711
  let v2418 : Index := Scalar.indexCast v2417
  ![v2418.toNat]
def k0_off806 (v2419 : BitVec 32) : Fin 2 → Nat :=
  let c0_i32_1712 : BitVec 32 := 0#32
  ![v2419.toNat, 0]

def k0_chk403 (v2419 : BitVec 32) : Prop :=
  (∀ a, (k0_off806 v2419) a + S1x1024.size a ≤ S37888x1024.size a)
theorem k0_off806_inb : ∀ (v2419 : BitVec 32) (k0_hw403 : k0_chk403 v2419), ∀ a, (k0_off806 v2419) a + S1x1024.size a ≤ S37888x1024.size a := fun v2419 k0_hw403 => k0_hw403

def k0_off807 (i : grid0.Coords) : Fin 1 → Nat :=
  let arg0 : BitVec 32 := BitVec.ofNat 32 (i 0).val
  let c1024_i32 : BitVec 32 := 1024#32
  let v0 : BitVec 32 := Scalar.muli arg0 c1024_i32
  let c402_i32_1714 : BitVec 32 := 402#32
  let v2422 : BitVec 32 := Scalar.addi v0 c402_i32_1714
  let c1_i32_1715 : BitVec 32 := 1#32
  let v2423 : BitVec 32 := Scalar.addi v2422 c1_i32_1715
  let v2424 : Index := Scalar.indexCast v2423
  ![v2424.toNat]
def k0_off808 (v2425 : BitVec 32) : Fin 2 → Nat :=
  let c0_i32_1716 : BitVec 32 := 0#32
  ![v2425.toNat, 0]

def k0_chk404 (v2425 : BitVec 32) : Prop :=
  (∀ a, (k0_off808 v2425) a + S1x1024.size a ≤ S37888x1024.size a)
theorem k0_off808_inb : ∀ (v2425 : BitVec 32) (k0_hw404 : k0_chk404 v2425), ∀ a, (k0_off808 v2425) a + S1x1024.size a ≤ S37888x1024.size a := fun v2425 k0_hw404 => k0_hw404

def k0_off809 (i : grid0.Coords) : Fin 1 → Nat :=
  let arg0 : BitVec 32 := BitVec.ofNat 32 (i 0).val
  let c1024_i32 : BitVec 32 := 1024#32
  let v0 : BitVec 32 := Scalar.muli arg0 c1024_i32
  let c404_i32 : BitVec 32 := 404#32
  let v2428 : BitVec 32 := Scalar.addi v0 c404_i32
  let c0_i32_1719 : BitVec 32 := 0#32
  let v2429 : BitVec 32 := Scalar.addi v2428 c0_i32_1719
  let v2430 : Index := Scalar.indexCast v2429
  ![v2430.toNat]
def k0_off810 (v2431 : BitVec 32) : Fin 2 → Nat :=
  let c0_i32_1720 : BitVec 32 := 0#32
  ![v2431.toNat, 0]

def k0_chk405 (v2431 : BitVec 32) : Prop :=
  (∀ a, (k0_off810 v2431) a + S1x1024.size a ≤ S37888x1024.size a)
theorem k0_off810_inb : ∀ (v2431 : BitVec 32) (k0_hw405 : k0_chk405 v2431), ∀ a, (k0_off810 v2431) a + S1x1024.size a ≤ S37888x1024.size a := fun v2431 k0_hw405 => k0_hw405

def k0_off811 (i : grid0.Coords) : Fin 1 → Nat :=
  let arg0 : BitVec 32 := BitVec.ofNat 32 (i 0).val
  let c1024_i32 : BitVec 32 := 1024#32
  let v0 : BitVec 32 := Scalar.muli arg0 c1024_i32
  let c404_i32_1723 : BitVec 32 := 404#32
  let v2434 : BitVec 32 := Scalar.addi v0 c404_i32_1723
  let c1_i32_1724 : BitVec 32 := 1#32
  let v2435 : BitVec 32 := Scalar.addi v2434 c1_i32_1724
  let v2436 : Index := Scalar.indexCast v2435
  ![v2436.toNat]
def k0_off812 (v2437 : BitVec 32) : Fin 2 → Nat :=
  let c0_i32_1725 : BitVec 32 := 0#32
  ![v2437.toNat, 0]

def k0_chk406 (v2437 : BitVec 32) : Prop :=
  (∀ a, (k0_off812 v2437) a + S1x1024.size a ≤ S37888x1024.size a)
theorem k0_off812_inb : ∀ (v2437 : BitVec 32) (k0_hw406 : k0_chk406 v2437), ∀ a, (k0_off812 v2437) a + S1x1024.size a ≤ S37888x1024.size a := fun v2437 k0_hw406 => k0_hw406

def k0_off813 (i : grid0.Coords) : Fin 1 → Nat :=
  let arg0 : BitVec 32 := BitVec.ofNat 32 (i 0).val
  let c1024_i32 : BitVec 32 := 1024#32
  let v0 : BitVec 32 := Scalar.muli arg0 c1024_i32
  let c406_i32 : BitVec 32 := 406#32
  let v2440 : BitVec 32 := Scalar.addi v0 c406_i32
  let c0_i32_1728 : BitVec 32 := 0#32
  let v2441 : BitVec 32 := Scalar.addi v2440 c0_i32_1728
  let v2442 : Index := Scalar.indexCast v2441
  ![v2442.toNat]
def k0_off814 (v2443 : BitVec 32) : Fin 2 → Nat :=
  let c0_i32_1729 : BitVec 32 := 0#32
  ![v2443.toNat, 0]

def k0_chk407 (v2443 : BitVec 32) : Prop :=
  (∀ a, (k0_off814 v2443) a + S1x1024.size a ≤ S37888x1024.size a)
theorem k0_off814_inb : ∀ (v2443 : BitVec 32) (k0_hw407 : k0_chk407 v2443), ∀ a, (k0_off814 v2443) a + S1x1024.size a ≤ S37888x1024.size a := fun v2443 k0_hw407 => k0_hw407

def k0_off815 (i : grid0.Coords) : Fin 1 → Nat :=
  let arg0 : BitVec 32 := BitVec.ofNat 32 (i 0).val
  let c1024_i32 : BitVec 32 := 1024#32
  let v0 : BitVec 32 := Scalar.muli arg0 c1024_i32
  let c406_i32_1731 : BitVec 32 := 406#32
  let v2446 : BitVec 32 := Scalar.addi v0 c406_i32_1731
  let c1_i32_1732 : BitVec 32 := 1#32
  let v2447 : BitVec 32 := Scalar.addi v2446 c1_i32_1732
  let v2448 : Index := Scalar.indexCast v2447
  ![v2448.toNat]
def k0_off816 (v2449 : BitVec 32) : Fin 2 → Nat :=
  let c0_i32_1733 : BitVec 32 := 0#32
  ![v2449.toNat, 0]

def k0_chk408 (v2449 : BitVec 32) : Prop :=
  (∀ a, (k0_off816 v2449) a + S1x1024.size a ≤ S37888x1024.size a)
theorem k0_off816_inb : ∀ (v2449 : BitVec 32) (k0_hw408 : k0_chk408 v2449), ∀ a, (k0_off816 v2449) a + S1x1024.size a ≤ S37888x1024.size a := fun v2449 k0_hw408 => k0_hw408

def k0_off817 (i : grid0.Coords) : Fin 1 → Nat :=
  let arg0 : BitVec 32 := BitVec.ofNat 32 (i 0).val
  let c1024_i32 : BitVec 32 := 1024#32
  let v0 : BitVec 32 := Scalar.muli arg0 c1024_i32
  let c408_i32 : BitVec 32 := 408#32
  let v2452 : BitVec 32 := Scalar.addi v0 c408_i32
  let c0_i32_1736 : BitVec 32 := 0#32
  let v2453 : BitVec 32 := Scalar.addi v2452 c0_i32_1736
  let v2454 : Index := Scalar.indexCast v2453
  ![v2454.toNat]
def k0_off818 (v2455 : BitVec 32) : Fin 2 → Nat :=
  let c0_i32_1737 : BitVec 32 := 0#32
  ![v2455.toNat, 0]

def k0_chk409 (v2455 : BitVec 32) : Prop :=
  (∀ a, (k0_off818 v2455) a + S1x1024.size a ≤ S37888x1024.size a)
theorem k0_off818_inb : ∀ (v2455 : BitVec 32) (k0_hw409 : k0_chk409 v2455), ∀ a, (k0_off818 v2455) a + S1x1024.size a ≤ S37888x1024.size a := fun v2455 k0_hw409 => k0_hw409

def k0_off819 (i : grid0.Coords) : Fin 1 → Nat :=
  let arg0 : BitVec 32 := BitVec.ofNat 32 (i 0).val
  let c1024_i32 : BitVec 32 := 1024#32
  let v0 : BitVec 32 := Scalar.muli arg0 c1024_i32
  let c408_i32_1740 : BitVec 32 := 408#32
  let v2458 : BitVec 32 := Scalar.addi v0 c408_i32_1740
  let c1_i32_1741 : BitVec 32 := 1#32
  let v2459 : BitVec 32 := Scalar.addi v2458 c1_i32_1741
  let v2460 : Index := Scalar.indexCast v2459
  ![v2460.toNat]
def k0_off820 (v2461 : BitVec 32) : Fin 2 → Nat :=
  let c0_i32_1742 : BitVec 32 := 0#32
  ![v2461.toNat, 0]

def k0_chk410 (v2461 : BitVec 32) : Prop :=
  (∀ a, (k0_off820 v2461) a + S1x1024.size a ≤ S37888x1024.size a)
theorem k0_off820_inb : ∀ (v2461 : BitVec 32) (k0_hw410 : k0_chk410 v2461), ∀ a, (k0_off820 v2461) a + S1x1024.size a ≤ S37888x1024.size a := fun v2461 k0_hw410 => k0_hw410

def k0_off821 (i : grid0.Coords) : Fin 1 → Nat :=
  let arg0 : BitVec 32 := BitVec.ofNat 32 (i 0).val
  let c1024_i32 : BitVec 32 := 1024#32
  let v0 : BitVec 32 := Scalar.muli arg0 c1024_i32
  let c410_i32 : BitVec 32 := 410#32
  let v2464 : BitVec 32 := Scalar.addi v0 c410_i32
  let c0_i32_1745 : BitVec 32 := 0#32
  let v2465 : BitVec 32 := Scalar.addi v2464 c0_i32_1745
  let v2466 : Index := Scalar.indexCast v2465
  ![v2466.toNat]
def k0_off822 (v2467 : BitVec 32) : Fin 2 → Nat :=
  let c0_i32_1746 : BitVec 32 := 0#32
  ![v2467.toNat, 0]

def k0_chk411 (v2467 : BitVec 32) : Prop :=
  (∀ a, (k0_off822 v2467) a + S1x1024.size a ≤ S37888x1024.size a)
theorem k0_off822_inb : ∀ (v2467 : BitVec 32) (k0_hw411 : k0_chk411 v2467), ∀ a, (k0_off822 v2467) a + S1x1024.size a ≤ S37888x1024.size a := fun v2467 k0_hw411 => k0_hw411

def k0_off823 (i : grid0.Coords) : Fin 1 → Nat :=
  let arg0 : BitVec 32 := BitVec.ofNat 32 (i 0).val
  let c1024_i32 : BitVec 32 := 1024#32
  let v0 : BitVec 32 := Scalar.muli arg0 c1024_i32
  let c410_i32_1748 : BitVec 32 := 410#32
  let v2470 : BitVec 32 := Scalar.addi v0 c410_i32_1748
  let c1_i32_1749 : BitVec 32 := 1#32
  let v2471 : BitVec 32 := Scalar.addi v2470 c1_i32_1749
  let v2472 : Index := Scalar.indexCast v2471
  ![v2472.toNat]
def k0_off824 (v2473 : BitVec 32) : Fin 2 → Nat :=
  let c0_i32_1750 : BitVec 32 := 0#32
  ![v2473.toNat, 0]

def k0_chk412 (v2473 : BitVec 32) : Prop :=
  (∀ a, (k0_off824 v2473) a + S1x1024.size a ≤ S37888x1024.size a)
theorem k0_off824_inb : ∀ (v2473 : BitVec 32) (k0_hw412 : k0_chk412 v2473), ∀ a, (k0_off824 v2473) a + S1x1024.size a ≤ S37888x1024.size a := fun v2473 k0_hw412 => k0_hw412

def k0_off825 (i : grid0.Coords) : Fin 1 → Nat :=
  let arg0 : BitVec 32 := BitVec.ofNat 32 (i 0).val
  let c1024_i32 : BitVec 32 := 1024#32
  let v0 : BitVec 32 := Scalar.muli arg0 c1024_i32
  let c412_i32 : BitVec 32 := 412#32
  let v2476 : BitVec 32 := Scalar.addi v0 c412_i32
  let c0_i32_1753 : BitVec 32 := 0#32
  let v2477 : BitVec 32 := Scalar.addi v2476 c0_i32_1753
  let v2478 : Index := Scalar.indexCast v2477
  ![v2478.toNat]
def k0_off826 (v2479 : BitVec 32) : Fin 2 → Nat :=
  let c0_i32_1754 : BitVec 32 := 0#32
  ![v2479.toNat, 0]

def k0_chk413 (v2479 : BitVec 32) : Prop :=
  (∀ a, (k0_off826 v2479) a + S1x1024.size a ≤ S37888x1024.size a)
theorem k0_off826_inb : ∀ (v2479 : BitVec 32) (k0_hw413 : k0_chk413 v2479), ∀ a, (k0_off826 v2479) a + S1x1024.size a ≤ S37888x1024.size a := fun v2479 k0_hw413 => k0_hw413

def k0_off827 (i : grid0.Coords) : Fin 1 → Nat :=
  let arg0 : BitVec 32 := BitVec.ofNat 32 (i 0).val
  let c1024_i32 : BitVec 32 := 1024#32
  let v0 : BitVec 32 := Scalar.muli arg0 c1024_i32
  let c412_i32_1757 : BitVec 32 := 412#32
  let v2482 : BitVec 32 := Scalar.addi v0 c412_i32_1757
  let c1_i32_1758 : BitVec 32 := 1#32
  let v2483 : BitVec 32 := Scalar.addi v2482 c1_i32_1758
  let v2484 : Index := Scalar.indexCast v2483
  ![v2484.toNat]
def k0_off828 (v2485 : BitVec 32) : Fin 2 → Nat :=
  let c0_i32_1759 : BitVec 32 := 0#32
  ![v2485.toNat, 0]

def k0_chk414 (v2485 : BitVec 32) : Prop :=
  (∀ a, (k0_off828 v2485) a + S1x1024.size a ≤ S37888x1024.size a)
theorem k0_off828_inb : ∀ (v2485 : BitVec 32) (k0_hw414 : k0_chk414 v2485), ∀ a, (k0_off828 v2485) a + S1x1024.size a ≤ S37888x1024.size a := fun v2485 k0_hw414 => k0_hw414

def k0_off829 (i : grid0.Coords) : Fin 1 → Nat :=
  let arg0 : BitVec 32 := BitVec.ofNat 32 (i 0).val
  let c1024_i32 : BitVec 32 := 1024#32
  let v0 : BitVec 32 := Scalar.muli arg0 c1024_i32
  let c414_i32 : BitVec 32 := 414#32
  let v2488 : BitVec 32 := Scalar.addi v0 c414_i32
  let c0_i32_1762 : BitVec 32 := 0#32
  let v2489 : BitVec 32 := Scalar.addi v2488 c0_i32_1762
  let v2490 : Index := Scalar.indexCast v2489
  ![v2490.toNat]
def k0_off830 (v2491 : BitVec 32) : Fin 2 → Nat :=
  let c0_i32_1763 : BitVec 32 := 0#32
  ![v2491.toNat, 0]

def k0_chk415 (v2491 : BitVec 32) : Prop :=
  (∀ a, (k0_off830 v2491) a + S1x1024.size a ≤ S37888x1024.size a)
theorem k0_off830_inb : ∀ (v2491 : BitVec 32) (k0_hw415 : k0_chk415 v2491), ∀ a, (k0_off830 v2491) a + S1x1024.size a ≤ S37888x1024.size a := fun v2491 k0_hw415 => k0_hw415

def k0_off831 (i : grid0.Coords) : Fin 1 → Nat :=
  let arg0 : BitVec 32 := BitVec.ofNat 32 (i 0).val
  let c1024_i32 : BitVec 32 := 1024#32
  let v0 : BitVec 32 := Scalar.muli arg0 c1024_i32
  let c414_i32_1765 : BitVec 32 := 414#32
  let v2494 : BitVec 32 := Scalar.addi v0 c414_i32_1765
  let c1_i32_1766 : BitVec 32 := 1#32
  let v2495 : BitVec 32 := Scalar.addi v2494 c1_i32_1766
  let v2496 : Index := Scalar.indexCast v2495
  ![v2496.toNat]
def k0_off832 (v2497 : BitVec 32) : Fin 2 → Nat :=
  let c0_i32_1767 : BitVec 32 := 0#32
  ![v2497.toNat, 0]

def k0_chk416 (v2497 : BitVec 32) : Prop :=
  (∀ a, (k0_off832 v2497) a + S1x1024.size a ≤ S37888x1024.size a)
theorem k0_off832_inb : ∀ (v2497 : BitVec 32) (k0_hw416 : k0_chk416 v2497), ∀ a, (k0_off832 v2497) a + S1x1024.size a ≤ S37888x1024.size a := fun v2497 k0_hw416 => k0_hw416

def k0_off833 (i : grid0.Coords) : Fin 1 → Nat :=
  let arg0 : BitVec 32 := BitVec.ofNat 32 (i 0).val
  let c1024_i32 : BitVec 32 := 1024#32
  let v0 : BitVec 32 := Scalar.muli arg0 c1024_i32
  let c416_i32 : BitVec 32 := 416#32
  let v2500 : BitVec 32 := Scalar.addi v0 c416_i32
  let c0_i32_1770 : BitVec 32 := 0#32
  let v2501 : BitVec 32 := Scalar.addi v2500 c0_i32_1770
  let v2502 : Index := Scalar.indexCast v2501
  ![v2502.toNat]
def k0_off834 (v2503 : BitVec 32) : Fin 2 → Nat :=
  let c0_i32_1771 : BitVec 32 := 0#32
  ![v2503.toNat, 0]

def k0_chk417 (v2503 : BitVec 32) : Prop :=
  (∀ a, (k0_off834 v2503) a + S1x1024.size a ≤ S37888x1024.size a)
theorem k0_off834_inb : ∀ (v2503 : BitVec 32) (k0_hw417 : k0_chk417 v2503), ∀ a, (k0_off834 v2503) a + S1x1024.size a ≤ S37888x1024.size a := fun v2503 k0_hw417 => k0_hw417

def k0_off835 (i : grid0.Coords) : Fin 1 → Nat :=
  let arg0 : BitVec 32 := BitVec.ofNat 32 (i 0).val
  let c1024_i32 : BitVec 32 := 1024#32
  let v0 : BitVec 32 := Scalar.muli arg0 c1024_i32
  let c416_i32_1774 : BitVec 32 := 416#32
  let v2506 : BitVec 32 := Scalar.addi v0 c416_i32_1774
  let c1_i32_1775 : BitVec 32 := 1#32
  let v2507 : BitVec 32 := Scalar.addi v2506 c1_i32_1775
  let v2508 : Index := Scalar.indexCast v2507
  ![v2508.toNat]
def k0_off836 (v2509 : BitVec 32) : Fin 2 → Nat :=
  let c0_i32_1776 : BitVec 32 := 0#32
  ![v2509.toNat, 0]

def k0_chk418 (v2509 : BitVec 32) : Prop :=
  (∀ a, (k0_off836 v2509) a + S1x1024.size a ≤ S37888x1024.size a)
theorem k0_off836_inb : ∀ (v2509 : BitVec 32) (k0_hw418 : k0_chk418 v2509), ∀ a, (k0_off836 v2509) a + S1x1024.size a ≤ S37888x1024.size a := fun v2509 k0_hw418 => k0_hw418

def k0_off837 (i : grid0.Coords) : Fin 1 → Nat :=
  let arg0 : BitVec 32 := BitVec.ofNat 32 (i 0).val
  let c1024_i32 : BitVec 32 := 1024#32
  let v0 : BitVec 32 := Scalar.muli arg0 c1024_i32
  let c418_i32 : BitVec 32 := 418#32
  let v2512 : BitVec 32 := Scalar.addi v0 c418_i32
  let c0_i32_1779 : BitVec 32 := 0#32
  let v2513 : BitVec 32 := Scalar.addi v2512 c0_i32_1779
  let v2514 : Index := Scalar.indexCast v2513
  ![v2514.toNat]
def k0_off838 (v2515 : BitVec 32) : Fin 2 → Nat :=
  let c0_i32_1780 : BitVec 32 := 0#32
  ![v2515.toNat, 0]

def k0_chk419 (v2515 : BitVec 32) : Prop :=
  (∀ a, (k0_off838 v2515) a + S1x1024.size a ≤ S37888x1024.size a)
theorem k0_off838_inb : ∀ (v2515 : BitVec 32) (k0_hw419 : k0_chk419 v2515), ∀ a, (k0_off838 v2515) a + S1x1024.size a ≤ S37888x1024.size a := fun v2515 k0_hw419 => k0_hw419

def k0_off839 (i : grid0.Coords) : Fin 1 → Nat :=
  let arg0 : BitVec 32 := BitVec.ofNat 32 (i 0).val
  let c1024_i32 : BitVec 32 := 1024#32
  let v0 : BitVec 32 := Scalar.muli arg0 c1024_i32
  let c418_i32_1782 : BitVec 32 := 418#32
  let v2518 : BitVec 32 := Scalar.addi v0 c418_i32_1782
  let c1_i32_1783 : BitVec 32 := 1#32
  let v2519 : BitVec 32 := Scalar.addi v2518 c1_i32_1783
  let v2520 : Index := Scalar.indexCast v2519
  ![v2520.toNat]
def k0_off840 (v2521 : BitVec 32) : Fin 2 → Nat :=
  let c0_i32_1784 : BitVec 32 := 0#32
  ![v2521.toNat, 0]

def k0_chk420 (v2521 : BitVec 32) : Prop :=
  (∀ a, (k0_off840 v2521) a + S1x1024.size a ≤ S37888x1024.size a)
theorem k0_off840_inb : ∀ (v2521 : BitVec 32) (k0_hw420 : k0_chk420 v2521), ∀ a, (k0_off840 v2521) a + S1x1024.size a ≤ S37888x1024.size a := fun v2521 k0_hw420 => k0_hw420

def k0_off841 (i : grid0.Coords) : Fin 1 → Nat :=
  let arg0 : BitVec 32 := BitVec.ofNat 32 (i 0).val
  let c1024_i32 : BitVec 32 := 1024#32
  let v0 : BitVec 32 := Scalar.muli arg0 c1024_i32
  let c420_i32 : BitVec 32 := 420#32
  let v2524 : BitVec 32 := Scalar.addi v0 c420_i32
  let c0_i32_1787 : BitVec 32 := 0#32
  let v2525 : BitVec 32 := Scalar.addi v2524 c0_i32_1787
  let v2526 : Index := Scalar.indexCast v2525
  ![v2526.toNat]
def k0_off842 (v2527 : BitVec 32) : Fin 2 → Nat :=
  let c0_i32_1788 : BitVec 32 := 0#32
  ![v2527.toNat, 0]

def k0_chk421 (v2527 : BitVec 32) : Prop :=
  (∀ a, (k0_off842 v2527) a + S1x1024.size a ≤ S37888x1024.size a)
theorem k0_off842_inb : ∀ (v2527 : BitVec 32) (k0_hw421 : k0_chk421 v2527), ∀ a, (k0_off842 v2527) a + S1x1024.size a ≤ S37888x1024.size a := fun v2527 k0_hw421 => k0_hw421

def k0_off843 (i : grid0.Coords) : Fin 1 → Nat :=
  let arg0 : BitVec 32 := BitVec.ofNat 32 (i 0).val
  let c1024_i32 : BitVec 32 := 1024#32
  let v0 : BitVec 32 := Scalar.muli arg0 c1024_i32
  let c420_i32_1791 : BitVec 32 := 420#32
  let v2530 : BitVec 32 := Scalar.addi v0 c420_i32_1791
  let c1_i32_1792 : BitVec 32 := 1#32
  let v2531 : BitVec 32 := Scalar.addi v2530 c1_i32_1792
  let v2532 : Index := Scalar.indexCast v2531
  ![v2532.toNat]
def k0_off844 (v2533 : BitVec 32) : Fin 2 → Nat :=
  let c0_i32_1793 : BitVec 32 := 0#32
  ![v2533.toNat, 0]

def k0_chk422 (v2533 : BitVec 32) : Prop :=
  (∀ a, (k0_off844 v2533) a + S1x1024.size a ≤ S37888x1024.size a)
theorem k0_off844_inb : ∀ (v2533 : BitVec 32) (k0_hw422 : k0_chk422 v2533), ∀ a, (k0_off844 v2533) a + S1x1024.size a ≤ S37888x1024.size a := fun v2533 k0_hw422 => k0_hw422

def k0_off845 (i : grid0.Coords) : Fin 1 → Nat :=
  let arg0 : BitVec 32 := BitVec.ofNat 32 (i 0).val
  let c1024_i32 : BitVec 32 := 1024#32
  let v0 : BitVec 32 := Scalar.muli arg0 c1024_i32
  let c422_i32 : BitVec 32 := 422#32
  let v2536 : BitVec 32 := Scalar.addi v0 c422_i32
  let c0_i32_1796 : BitVec 32 := 0#32
  let v2537 : BitVec 32 := Scalar.addi v2536 c0_i32_1796
  let v2538 : Index := Scalar.indexCast v2537
  ![v2538.toNat]
def k0_off846 (v2539 : BitVec 32) : Fin 2 → Nat :=
  let c0_i32_1797 : BitVec 32 := 0#32
  ![v2539.toNat, 0]

def k0_chk423 (v2539 : BitVec 32) : Prop :=
  (∀ a, (k0_off846 v2539) a + S1x1024.size a ≤ S37888x1024.size a)
theorem k0_off846_inb : ∀ (v2539 : BitVec 32) (k0_hw423 : k0_chk423 v2539), ∀ a, (k0_off846 v2539) a + S1x1024.size a ≤ S37888x1024.size a := fun v2539 k0_hw423 => k0_hw423

def k0_off847 (i : grid0.Coords) : Fin 1 → Nat :=
  let arg0 : BitVec 32 := BitVec.ofNat 32 (i 0).val
  let c1024_i32 : BitVec 32 := 1024#32
  let v0 : BitVec 32 := Scalar.muli arg0 c1024_i32
  let c422_i32_1799 : BitVec 32 := 422#32
  let v2542 : BitVec 32 := Scalar.addi v0 c422_i32_1799
  let c1_i32_1800 : BitVec 32 := 1#32
  let v2543 : BitVec 32 := Scalar.addi v2542 c1_i32_1800
  let v2544 : Index := Scalar.indexCast v2543
  ![v2544.toNat]
def k0_off848 (v2545 : BitVec 32) : Fin 2 → Nat :=
  let c0_i32_1801 : BitVec 32 := 0#32
  ![v2545.toNat, 0]

def k0_chk424 (v2545 : BitVec 32) : Prop :=
  (∀ a, (k0_off848 v2545) a + S1x1024.size a ≤ S37888x1024.size a)
theorem k0_off848_inb : ∀ (v2545 : BitVec 32) (k0_hw424 : k0_chk424 v2545), ∀ a, (k0_off848 v2545) a + S1x1024.size a ≤ S37888x1024.size a := fun v2545 k0_hw424 => k0_hw424

def k0_off849 (i : grid0.Coords) : Fin 1 → Nat :=
  let arg0 : BitVec 32 := BitVec.ofNat 32 (i 0).val
  let c1024_i32 : BitVec 32 := 1024#32
  let v0 : BitVec 32 := Scalar.muli arg0 c1024_i32
  let c424_i32 : BitVec 32 := 424#32
  let v2548 : BitVec 32 := Scalar.addi v0 c424_i32
  let c0_i32_1804 : BitVec 32 := 0#32
  let v2549 : BitVec 32 := Scalar.addi v2548 c0_i32_1804
  let v2550 : Index := Scalar.indexCast v2549
  ![v2550.toNat]
def k0_off850 (v2551 : BitVec 32) : Fin 2 → Nat :=
  let c0_i32_1805 : BitVec 32 := 0#32
  ![v2551.toNat, 0]

def k0_chk425 (v2551 : BitVec 32) : Prop :=
  (∀ a, (k0_off850 v2551) a + S1x1024.size a ≤ S37888x1024.size a)
theorem k0_off850_inb : ∀ (v2551 : BitVec 32) (k0_hw425 : k0_chk425 v2551), ∀ a, (k0_off850 v2551) a + S1x1024.size a ≤ S37888x1024.size a := fun v2551 k0_hw425 => k0_hw425

def k0_off851 (i : grid0.Coords) : Fin 1 → Nat :=
  let arg0 : BitVec 32 := BitVec.ofNat 32 (i 0).val
  let c1024_i32 : BitVec 32 := 1024#32
  let v0 : BitVec 32 := Scalar.muli arg0 c1024_i32
  let c424_i32_1808 : BitVec 32 := 424#32
  let v2554 : BitVec 32 := Scalar.addi v0 c424_i32_1808
  let c1_i32_1809 : BitVec 32 := 1#32
  let v2555 : BitVec 32 := Scalar.addi v2554 c1_i32_1809
  let v2556 : Index := Scalar.indexCast v2555
  ![v2556.toNat]
def k0_off852 (v2557 : BitVec 32) : Fin 2 → Nat :=
  let c0_i32_1810 : BitVec 32 := 0#32
  ![v2557.toNat, 0]

def k0_chk426 (v2557 : BitVec 32) : Prop :=
  (∀ a, (k0_off852 v2557) a + S1x1024.size a ≤ S37888x1024.size a)
theorem k0_off852_inb : ∀ (v2557 : BitVec 32) (k0_hw426 : k0_chk426 v2557), ∀ a, (k0_off852 v2557) a + S1x1024.size a ≤ S37888x1024.size a := fun v2557 k0_hw426 => k0_hw426

def k0_off853 (i : grid0.Coords) : Fin 1 → Nat :=
  let arg0 : BitVec 32 := BitVec.ofNat 32 (i 0).val
  let c1024_i32 : BitVec 32 := 1024#32
  let v0 : BitVec 32 := Scalar.muli arg0 c1024_i32
  let c426_i32 : BitVec 32 := 426#32
  let v2560 : BitVec 32 := Scalar.addi v0 c426_i32
  let c0_i32_1813 : BitVec 32 := 0#32
  let v2561 : BitVec 32 := Scalar.addi v2560 c0_i32_1813
  let v2562 : Index := Scalar.indexCast v2561
  ![v2562.toNat]
def k0_off854 (v2563 : BitVec 32) : Fin 2 → Nat :=
  let c0_i32_1814 : BitVec 32 := 0#32
  ![v2563.toNat, 0]

def k0_chk427 (v2563 : BitVec 32) : Prop :=
  (∀ a, (k0_off854 v2563) a + S1x1024.size a ≤ S37888x1024.size a)
theorem k0_off854_inb : ∀ (v2563 : BitVec 32) (k0_hw427 : k0_chk427 v2563), ∀ a, (k0_off854 v2563) a + S1x1024.size a ≤ S37888x1024.size a := fun v2563 k0_hw427 => k0_hw427

def k0_off855 (i : grid0.Coords) : Fin 1 → Nat :=
  let arg0 : BitVec 32 := BitVec.ofNat 32 (i 0).val
  let c1024_i32 : BitVec 32 := 1024#32
  let v0 : BitVec 32 := Scalar.muli arg0 c1024_i32
  let c426_i32_1816 : BitVec 32 := 426#32
  let v2566 : BitVec 32 := Scalar.addi v0 c426_i32_1816
  let c1_i32_1817 : BitVec 32 := 1#32
  let v2567 : BitVec 32 := Scalar.addi v2566 c1_i32_1817
  let v2568 : Index := Scalar.indexCast v2567
  ![v2568.toNat]
def k0_off856 (v2569 : BitVec 32) : Fin 2 → Nat :=
  let c0_i32_1818 : BitVec 32 := 0#32
  ![v2569.toNat, 0]

def k0_chk428 (v2569 : BitVec 32) : Prop :=
  (∀ a, (k0_off856 v2569) a + S1x1024.size a ≤ S37888x1024.size a)
theorem k0_off856_inb : ∀ (v2569 : BitVec 32) (k0_hw428 : k0_chk428 v2569), ∀ a, (k0_off856 v2569) a + S1x1024.size a ≤ S37888x1024.size a := fun v2569 k0_hw428 => k0_hw428

def k0_off857 (i : grid0.Coords) : Fin 1 → Nat :=
  let arg0 : BitVec 32 := BitVec.ofNat 32 (i 0).val
  let c1024_i32 : BitVec 32 := 1024#32
  let v0 : BitVec 32 := Scalar.muli arg0 c1024_i32
  let c428_i32 : BitVec 32 := 428#32
  let v2572 : BitVec 32 := Scalar.addi v0 c428_i32
  let c0_i32_1821 : BitVec 32 := 0#32
  let v2573 : BitVec 32 := Scalar.addi v2572 c0_i32_1821
  let v2574 : Index := Scalar.indexCast v2573
  ![v2574.toNat]
def k0_off858 (v2575 : BitVec 32) : Fin 2 → Nat :=
  let c0_i32_1822 : BitVec 32 := 0#32
  ![v2575.toNat, 0]

def k0_chk429 (v2575 : BitVec 32) : Prop :=
  (∀ a, (k0_off858 v2575) a + S1x1024.size a ≤ S37888x1024.size a)
theorem k0_off858_inb : ∀ (v2575 : BitVec 32) (k0_hw429 : k0_chk429 v2575), ∀ a, (k0_off858 v2575) a + S1x1024.size a ≤ S37888x1024.size a := fun v2575 k0_hw429 => k0_hw429

def k0_off859 (i : grid0.Coords) : Fin 1 → Nat :=
  let arg0 : BitVec 32 := BitVec.ofNat 32 (i 0).val
  let c1024_i32 : BitVec 32 := 1024#32
  let v0 : BitVec 32 := Scalar.muli arg0 c1024_i32
  let c428_i32_1825 : BitVec 32 := 428#32
  let v2578 : BitVec 32 := Scalar.addi v0 c428_i32_1825
  let c1_i32_1826 : BitVec 32 := 1#32
  let v2579 : BitVec 32 := Scalar.addi v2578 c1_i32_1826
  let v2580 : Index := Scalar.indexCast v2579
  ![v2580.toNat]
def k0_off860 (v2581 : BitVec 32) : Fin 2 → Nat :=
  let c0_i32_1827 : BitVec 32 := 0#32
  ![v2581.toNat, 0]

def k0_chk430 (v2581 : BitVec 32) : Prop :=
  (∀ a, (k0_off860 v2581) a + S1x1024.size a ≤ S37888x1024.size a)
theorem k0_off860_inb : ∀ (v2581 : BitVec 32) (k0_hw430 : k0_chk430 v2581), ∀ a, (k0_off860 v2581) a + S1x1024.size a ≤ S37888x1024.size a := fun v2581 k0_hw430 => k0_hw430

def k0_off861 (i : grid0.Coords) : Fin 1 → Nat :=
  let arg0 : BitVec 32 := BitVec.ofNat 32 (i 0).val
  let c1024_i32 : BitVec 32 := 1024#32
  let v0 : BitVec 32 := Scalar.muli arg0 c1024_i32
  let c430_i32 : BitVec 32 := 430#32
  let v2584 : BitVec 32 := Scalar.addi v0 c430_i32
  let c0_i32_1830 : BitVec 32 := 0#32
  let v2585 : BitVec 32 := Scalar.addi v2584 c0_i32_1830
  let v2586 : Index := Scalar.indexCast v2585
  ![v2586.toNat]
def k0_off862 (v2587 : BitVec 32) : Fin 2 → Nat :=
  let c0_i32_1831 : BitVec 32 := 0#32
  ![v2587.toNat, 0]

def k0_chk431 (v2587 : BitVec 32) : Prop :=
  (∀ a, (k0_off862 v2587) a + S1x1024.size a ≤ S37888x1024.size a)
theorem k0_off862_inb : ∀ (v2587 : BitVec 32) (k0_hw431 : k0_chk431 v2587), ∀ a, (k0_off862 v2587) a + S1x1024.size a ≤ S37888x1024.size a := fun v2587 k0_hw431 => k0_hw431

def k0_off863 (i : grid0.Coords) : Fin 1 → Nat :=
  let arg0 : BitVec 32 := BitVec.ofNat 32 (i 0).val
  let c1024_i32 : BitVec 32 := 1024#32
  let v0 : BitVec 32 := Scalar.muli arg0 c1024_i32
  let c430_i32_1833 : BitVec 32 := 430#32
  let v2590 : BitVec 32 := Scalar.addi v0 c430_i32_1833
  let c1_i32_1834 : BitVec 32 := 1#32
  let v2591 : BitVec 32 := Scalar.addi v2590 c1_i32_1834
  let v2592 : Index := Scalar.indexCast v2591
  ![v2592.toNat]
def k0_off864 (v2593 : BitVec 32) : Fin 2 → Nat :=
  let c0_i32_1835 : BitVec 32 := 0#32
  ![v2593.toNat, 0]

def k0_chk432 (v2593 : BitVec 32) : Prop :=
  (∀ a, (k0_off864 v2593) a + S1x1024.size a ≤ S37888x1024.size a)
theorem k0_off864_inb : ∀ (v2593 : BitVec 32) (k0_hw432 : k0_chk432 v2593), ∀ a, (k0_off864 v2593) a + S1x1024.size a ≤ S37888x1024.size a := fun v2593 k0_hw432 => k0_hw432

def k0_off865 (i : grid0.Coords) : Fin 1 → Nat :=
  let arg0 : BitVec 32 := BitVec.ofNat 32 (i 0).val
  let c1024_i32 : BitVec 32 := 1024#32
  let v0 : BitVec 32 := Scalar.muli arg0 c1024_i32
  let c432_i32 : BitVec 32 := 432#32
  let v2596 : BitVec 32 := Scalar.addi v0 c432_i32
  let c0_i32_1838 : BitVec 32 := 0#32
  let v2597 : BitVec 32 := Scalar.addi v2596 c0_i32_1838
  let v2598 : Index := Scalar.indexCast v2597
  ![v2598.toNat]
def k0_off866 (v2599 : BitVec 32) : Fin 2 → Nat :=
  let c0_i32_1839 : BitVec 32 := 0#32
  ![v2599.toNat, 0]

def k0_chk433 (v2599 : BitVec 32) : Prop :=
  (∀ a, (k0_off866 v2599) a + S1x1024.size a ≤ S37888x1024.size a)
theorem k0_off866_inb : ∀ (v2599 : BitVec 32) (k0_hw433 : k0_chk433 v2599), ∀ a, (k0_off866 v2599) a + S1x1024.size a ≤ S37888x1024.size a := fun v2599 k0_hw433 => k0_hw433

def k0_off867 (i : grid0.Coords) : Fin 1 → Nat :=
  let arg0 : BitVec 32 := BitVec.ofNat 32 (i 0).val
  let c1024_i32 : BitVec 32 := 1024#32
  let v0 : BitVec 32 := Scalar.muli arg0 c1024_i32
  let c432_i32_1842 : BitVec 32 := 432#32
  let v2602 : BitVec 32 := Scalar.addi v0 c432_i32_1842
  let c1_i32_1843 : BitVec 32 := 1#32
  let v2603 : BitVec 32 := Scalar.addi v2602 c1_i32_1843
  let v2604 : Index := Scalar.indexCast v2603
  ![v2604.toNat]
def k0_off868 (v2605 : BitVec 32) : Fin 2 → Nat :=
  let c0_i32_1844 : BitVec 32 := 0#32
  ![v2605.toNat, 0]

def k0_chk434 (v2605 : BitVec 32) : Prop :=
  (∀ a, (k0_off868 v2605) a + S1x1024.size a ≤ S37888x1024.size a)
theorem k0_off868_inb : ∀ (v2605 : BitVec 32) (k0_hw434 : k0_chk434 v2605), ∀ a, (k0_off868 v2605) a + S1x1024.size a ≤ S37888x1024.size a := fun v2605 k0_hw434 => k0_hw434

def k0_off869 (i : grid0.Coords) : Fin 1 → Nat :=
  let arg0 : BitVec 32 := BitVec.ofNat 32 (i 0).val
  let c1024_i32 : BitVec 32 := 1024#32
  let v0 : BitVec 32 := Scalar.muli arg0 c1024_i32
  let c434_i32 : BitVec 32 := 434#32
  let v2608 : BitVec 32 := Scalar.addi v0 c434_i32
  let c0_i32_1847 : BitVec 32 := 0#32
  let v2609 : BitVec 32 := Scalar.addi v2608 c0_i32_1847
  let v2610 : Index := Scalar.indexCast v2609
  ![v2610.toNat]
def k0_off870 (v2611 : BitVec 32) : Fin 2 → Nat :=
  let c0_i32_1848 : BitVec 32 := 0#32
  ![v2611.toNat, 0]

def k0_chk435 (v2611 : BitVec 32) : Prop :=
  (∀ a, (k0_off870 v2611) a + S1x1024.size a ≤ S37888x1024.size a)
theorem k0_off870_inb : ∀ (v2611 : BitVec 32) (k0_hw435 : k0_chk435 v2611), ∀ a, (k0_off870 v2611) a + S1x1024.size a ≤ S37888x1024.size a := fun v2611 k0_hw435 => k0_hw435

def k0_off871 (i : grid0.Coords) : Fin 1 → Nat :=
  let arg0 : BitVec 32 := BitVec.ofNat 32 (i 0).val
  let c1024_i32 : BitVec 32 := 1024#32
  let v0 : BitVec 32 := Scalar.muli arg0 c1024_i32
  let c434_i32_1850 : BitVec 32 := 434#32
  let v2614 : BitVec 32 := Scalar.addi v0 c434_i32_1850
  let c1_i32_1851 : BitVec 32 := 1#32
  let v2615 : BitVec 32 := Scalar.addi v2614 c1_i32_1851
  let v2616 : Index := Scalar.indexCast v2615
  ![v2616.toNat]
def k0_off872 (v2617 : BitVec 32) : Fin 2 → Nat :=
  let c0_i32_1852 : BitVec 32 := 0#32
  ![v2617.toNat, 0]

def k0_chk436 (v2617 : BitVec 32) : Prop :=
  (∀ a, (k0_off872 v2617) a + S1x1024.size a ≤ S37888x1024.size a)
theorem k0_off872_inb : ∀ (v2617 : BitVec 32) (k0_hw436 : k0_chk436 v2617), ∀ a, (k0_off872 v2617) a + S1x1024.size a ≤ S37888x1024.size a := fun v2617 k0_hw436 => k0_hw436

def k0_off873 (i : grid0.Coords) : Fin 1 → Nat :=
  let arg0 : BitVec 32 := BitVec.ofNat 32 (i 0).val
  let c1024_i32 : BitVec 32 := 1024#32
  let v0 : BitVec 32 := Scalar.muli arg0 c1024_i32
  let c436_i32 : BitVec 32 := 436#32
  let v2620 : BitVec 32 := Scalar.addi v0 c436_i32
  let c0_i32_1855 : BitVec 32 := 0#32
  let v2621 : BitVec 32 := Scalar.addi v2620 c0_i32_1855
  let v2622 : Index := Scalar.indexCast v2621
  ![v2622.toNat]
def k0_off874 (v2623 : BitVec 32) : Fin 2 → Nat :=
  let c0_i32_1856 : BitVec 32 := 0#32
  ![v2623.toNat, 0]

def k0_chk437 (v2623 : BitVec 32) : Prop :=
  (∀ a, (k0_off874 v2623) a + S1x1024.size a ≤ S37888x1024.size a)
theorem k0_off874_inb : ∀ (v2623 : BitVec 32) (k0_hw437 : k0_chk437 v2623), ∀ a, (k0_off874 v2623) a + S1x1024.size a ≤ S37888x1024.size a := fun v2623 k0_hw437 => k0_hw437

def k0_off875 (i : grid0.Coords) : Fin 1 → Nat :=
  let arg0 : BitVec 32 := BitVec.ofNat 32 (i 0).val
  let c1024_i32 : BitVec 32 := 1024#32
  let v0 : BitVec 32 := Scalar.muli arg0 c1024_i32
  let c436_i32_1859 : BitVec 32 := 436#32
  let v2626 : BitVec 32 := Scalar.addi v0 c436_i32_1859
  let c1_i32_1860 : BitVec 32 := 1#32
  let v2627 : BitVec 32 := Scalar.addi v2626 c1_i32_1860
  let v2628 : Index := Scalar.indexCast v2627
  ![v2628.toNat]
def k0_off876 (v2629 : BitVec 32) : Fin 2 → Nat :=
  let c0_i32_1861 : BitVec 32 := 0#32
  ![v2629.toNat, 0]

def k0_chk438 (v2629 : BitVec 32) : Prop :=
  (∀ a, (k0_off876 v2629) a + S1x1024.size a ≤ S37888x1024.size a)
theorem k0_off876_inb : ∀ (v2629 : BitVec 32) (k0_hw438 : k0_chk438 v2629), ∀ a, (k0_off876 v2629) a + S1x1024.size a ≤ S37888x1024.size a := fun v2629 k0_hw438 => k0_hw438

def k0_off877 (i : grid0.Coords) : Fin 1 → Nat :=
  let arg0 : BitVec 32 := BitVec.ofNat 32 (i 0).val
  let c1024_i32 : BitVec 32 := 1024#32
  let v0 : BitVec 32 := Scalar.muli arg0 c1024_i32
  let c438_i32 : BitVec 32 := 438#32
  let v2632 : BitVec 32 := Scalar.addi v0 c438_i32
  let c0_i32_1864 : BitVec 32 := 0#32
  let v2633 : BitVec 32 := Scalar.addi v2632 c0_i32_1864
  let v2634 : Index := Scalar.indexCast v2633
  ![v2634.toNat]
def k0_off878 (v2635 : BitVec 32) : Fin 2 → Nat :=
  let c0_i32_1865 : BitVec 32 := 0#32
  ![v2635.toNat, 0]

def k0_chk439 (v2635 : BitVec 32) : Prop :=
  (∀ a, (k0_off878 v2635) a + S1x1024.size a ≤ S37888x1024.size a)
theorem k0_off878_inb : ∀ (v2635 : BitVec 32) (k0_hw439 : k0_chk439 v2635), ∀ a, (k0_off878 v2635) a + S1x1024.size a ≤ S37888x1024.size a := fun v2635 k0_hw439 => k0_hw439

def k0_off879 (i : grid0.Coords) : Fin 1 → Nat :=
  let arg0 : BitVec 32 := BitVec.ofNat 32 (i 0).val
  let c1024_i32 : BitVec 32 := 1024#32
  let v0 : BitVec 32 := Scalar.muli arg0 c1024_i32
  let c438_i32_1867 : BitVec 32 := 438#32
  let v2638 : BitVec 32 := Scalar.addi v0 c438_i32_1867
  let c1_i32_1868 : BitVec 32 := 1#32
  let v2639 : BitVec 32 := Scalar.addi v2638 c1_i32_1868
  let v2640 : Index := Scalar.indexCast v2639
  ![v2640.toNat]
def k0_off880 (v2641 : BitVec 32) : Fin 2 → Nat :=
  let c0_i32_1869 : BitVec 32 := 0#32
  ![v2641.toNat, 0]

def k0_chk440 (v2641 : BitVec 32) : Prop :=
  (∀ a, (k0_off880 v2641) a + S1x1024.size a ≤ S37888x1024.size a)
theorem k0_off880_inb : ∀ (v2641 : BitVec 32) (k0_hw440 : k0_chk440 v2641), ∀ a, (k0_off880 v2641) a + S1x1024.size a ≤ S37888x1024.size a := fun v2641 k0_hw440 => k0_hw440

def k0_off881 (i : grid0.Coords) : Fin 1 → Nat :=
  let arg0 : BitVec 32 := BitVec.ofNat 32 (i 0).val
  let c1024_i32 : BitVec 32 := 1024#32
  let v0 : BitVec 32 := Scalar.muli arg0 c1024_i32
  let c440_i32 : BitVec 32 := 440#32
  let v2644 : BitVec 32 := Scalar.addi v0 c440_i32
  let c0_i32_1872 : BitVec 32 := 0#32
  let v2645 : BitVec 32 := Scalar.addi v2644 c0_i32_1872
  let v2646 : Index := Scalar.indexCast v2645
  ![v2646.toNat]
def k0_off882 (v2647 : BitVec 32) : Fin 2 → Nat :=
  let c0_i32_1873 : BitVec 32 := 0#32
  ![v2647.toNat, 0]

def k0_chk441 (v2647 : BitVec 32) : Prop :=
  (∀ a, (k0_off882 v2647) a + S1x1024.size a ≤ S37888x1024.size a)
theorem k0_off882_inb : ∀ (v2647 : BitVec 32) (k0_hw441 : k0_chk441 v2647), ∀ a, (k0_off882 v2647) a + S1x1024.size a ≤ S37888x1024.size a := fun v2647 k0_hw441 => k0_hw441

def k0_off883 (i : grid0.Coords) : Fin 1 → Nat :=
  let arg0 : BitVec 32 := BitVec.ofNat 32 (i 0).val
  let c1024_i32 : BitVec 32 := 1024#32
  let v0 : BitVec 32 := Scalar.muli arg0 c1024_i32
  let c440_i32_1876 : BitVec 32 := 440#32
  let v2650 : BitVec 32 := Scalar.addi v0 c440_i32_1876
  let c1_i32_1877 : BitVec 32 := 1#32
  let v2651 : BitVec 32 := Scalar.addi v2650 c1_i32_1877
  let v2652 : Index := Scalar.indexCast v2651
  ![v2652.toNat]
def k0_off884 (v2653 : BitVec 32) : Fin 2 → Nat :=
  let c0_i32_1878 : BitVec 32 := 0#32
  ![v2653.toNat, 0]

def k0_chk442 (v2653 : BitVec 32) : Prop :=
  (∀ a, (k0_off884 v2653) a + S1x1024.size a ≤ S37888x1024.size a)
theorem k0_off884_inb : ∀ (v2653 : BitVec 32) (k0_hw442 : k0_chk442 v2653), ∀ a, (k0_off884 v2653) a + S1x1024.size a ≤ S37888x1024.size a := fun v2653 k0_hw442 => k0_hw442

def k0_off885 (i : grid0.Coords) : Fin 1 → Nat :=
  let arg0 : BitVec 32 := BitVec.ofNat 32 (i 0).val
  let c1024_i32 : BitVec 32 := 1024#32
  let v0 : BitVec 32 := Scalar.muli arg0 c1024_i32
  let c442_i32 : BitVec 32 := 442#32
  let v2656 : BitVec 32 := Scalar.addi v0 c442_i32
  let c0_i32_1881 : BitVec 32 := 0#32
  let v2657 : BitVec 32 := Scalar.addi v2656 c0_i32_1881
  let v2658 : Index := Scalar.indexCast v2657
  ![v2658.toNat]
def k0_off886 (v2659 : BitVec 32) : Fin 2 → Nat :=
  let c0_i32_1882 : BitVec 32 := 0#32
  ![v2659.toNat, 0]

def k0_chk443 (v2659 : BitVec 32) : Prop :=
  (∀ a, (k0_off886 v2659) a + S1x1024.size a ≤ S37888x1024.size a)
theorem k0_off886_inb : ∀ (v2659 : BitVec 32) (k0_hw443 : k0_chk443 v2659), ∀ a, (k0_off886 v2659) a + S1x1024.size a ≤ S37888x1024.size a := fun v2659 k0_hw443 => k0_hw443

def k0_off887 (i : grid0.Coords) : Fin 1 → Nat :=
  let arg0 : BitVec 32 := BitVec.ofNat 32 (i 0).val
  let c1024_i32 : BitVec 32 := 1024#32
  let v0 : BitVec 32 := Scalar.muli arg0 c1024_i32
  let c442_i32_1884 : BitVec 32 := 442#32
  let v2662 : BitVec 32 := Scalar.addi v0 c442_i32_1884
  let c1_i32_1885 : BitVec 32 := 1#32
  let v2663 : BitVec 32 := Scalar.addi v2662 c1_i32_1885
  let v2664 : Index := Scalar.indexCast v2663
  ![v2664.toNat]
def k0_off888 (v2665 : BitVec 32) : Fin 2 → Nat :=
  let c0_i32_1886 : BitVec 32 := 0#32
  ![v2665.toNat, 0]

def k0_chk444 (v2665 : BitVec 32) : Prop :=
  (∀ a, (k0_off888 v2665) a + S1x1024.size a ≤ S37888x1024.size a)
theorem k0_off888_inb : ∀ (v2665 : BitVec 32) (k0_hw444 : k0_chk444 v2665), ∀ a, (k0_off888 v2665) a + S1x1024.size a ≤ S37888x1024.size a := fun v2665 k0_hw444 => k0_hw444

def k0_off889 (i : grid0.Coords) : Fin 1 → Nat :=
  let arg0 : BitVec 32 := BitVec.ofNat 32 (i 0).val
  let c1024_i32 : BitVec 32 := 1024#32
  let v0 : BitVec 32 := Scalar.muli arg0 c1024_i32
  let c444_i32 : BitVec 32 := 444#32
  let v2668 : BitVec 32 := Scalar.addi v0 c444_i32
  let c0_i32_1889 : BitVec 32 := 0#32
  let v2669 : BitVec 32 := Scalar.addi v2668 c0_i32_1889
  let v2670 : Index := Scalar.indexCast v2669
  ![v2670.toNat]
def k0_off890 (v2671 : BitVec 32) : Fin 2 → Nat :=
  let c0_i32_1890 : BitVec 32 := 0#32
  ![v2671.toNat, 0]

def k0_chk445 (v2671 : BitVec 32) : Prop :=
  (∀ a, (k0_off890 v2671) a + S1x1024.size a ≤ S37888x1024.size a)
theorem k0_off890_inb : ∀ (v2671 : BitVec 32) (k0_hw445 : k0_chk445 v2671), ∀ a, (k0_off890 v2671) a + S1x1024.size a ≤ S37888x1024.size a := fun v2671 k0_hw445 => k0_hw445

def k0_off891 (i : grid0.Coords) : Fin 1 → Nat :=
  let arg0 : BitVec 32 := BitVec.ofNat 32 (i 0).val
  let c1024_i32 : BitVec 32 := 1024#32
  let v0 : BitVec 32 := Scalar.muli arg0 c1024_i32
  let c444_i32_1893 : BitVec 32 := 444#32
  let v2674 : BitVec 32 := Scalar.addi v0 c444_i32_1893
  let c1_i32_1894 : BitVec 32 := 1#32
  let v2675 : BitVec 32 := Scalar.addi v2674 c1_i32_1894
  let v2676 : Index := Scalar.indexCast v2675
  ![v2676.toNat]
def k0_off892 (v2677 : BitVec 32) : Fin 2 → Nat :=
  let c0_i32_1895 : BitVec 32 := 0#32
  ![v2677.toNat, 0]

def k0_chk446 (v2677 : BitVec 32) : Prop :=
  (∀ a, (k0_off892 v2677) a + S1x1024.size a ≤ S37888x1024.size a)
theorem k0_off892_inb : ∀ (v2677 : BitVec 32) (k0_hw446 : k0_chk446 v2677), ∀ a, (k0_off892 v2677) a + S1x1024.size a ≤ S37888x1024.size a := fun v2677 k0_hw446 => k0_hw446

def k0_off893 (i : grid0.Coords) : Fin 1 → Nat :=
  let arg0 : BitVec 32 := BitVec.ofNat 32 (i 0).val
  let c1024_i32 : BitVec 32 := 1024#32
  let v0 : BitVec 32 := Scalar.muli arg0 c1024_i32
  let c446_i32 : BitVec 32 := 446#32
  let v2680 : BitVec 32 := Scalar.addi v0 c446_i32
  let c0_i32_1898 : BitVec 32 := 0#32
  let v2681 : BitVec 32 := Scalar.addi v2680 c0_i32_1898
  let v2682 : Index := Scalar.indexCast v2681
  ![v2682.toNat]
def k0_off894 (v2683 : BitVec 32) : Fin 2 → Nat :=
  let c0_i32_1899 : BitVec 32 := 0#32
  ![v2683.toNat, 0]

def k0_chk447 (v2683 : BitVec 32) : Prop :=
  (∀ a, (k0_off894 v2683) a + S1x1024.size a ≤ S37888x1024.size a)
theorem k0_off894_inb : ∀ (v2683 : BitVec 32) (k0_hw447 : k0_chk447 v2683), ∀ a, (k0_off894 v2683) a + S1x1024.size a ≤ S37888x1024.size a := fun v2683 k0_hw447 => k0_hw447

def k0_off895 (i : grid0.Coords) : Fin 1 → Nat :=
  let arg0 : BitVec 32 := BitVec.ofNat 32 (i 0).val
  let c1024_i32 : BitVec 32 := 1024#32
  let v0 : BitVec 32 := Scalar.muli arg0 c1024_i32
  let c446_i32_1901 : BitVec 32 := 446#32
  let v2686 : BitVec 32 := Scalar.addi v0 c446_i32_1901
  let c1_i32_1902 : BitVec 32 := 1#32
  let v2687 : BitVec 32 := Scalar.addi v2686 c1_i32_1902
  let v2688 : Index := Scalar.indexCast v2687
  ![v2688.toNat]
def k0_off896 (v2689 : BitVec 32) : Fin 2 → Nat :=
  let c0_i32_1903 : BitVec 32 := 0#32
  ![v2689.toNat, 0]

def k0_chk448 (v2689 : BitVec 32) : Prop :=
  (∀ a, (k0_off896 v2689) a + S1x1024.size a ≤ S37888x1024.size a)
theorem k0_off896_inb : ∀ (v2689 : BitVec 32) (k0_hw448 : k0_chk448 v2689), ∀ a, (k0_off896 v2689) a + S1x1024.size a ≤ S37888x1024.size a := fun v2689 k0_hw448 => k0_hw448

def k0_off897 (i : grid0.Coords) : Fin 1 → Nat :=
  let arg0 : BitVec 32 := BitVec.ofNat 32 (i 0).val
  let c1024_i32 : BitVec 32 := 1024#32
  let v0 : BitVec 32 := Scalar.muli arg0 c1024_i32
  let c448_i32 : BitVec 32 := 448#32
  let v2692 : BitVec 32 := Scalar.addi v0 c448_i32
  let c0_i32_1906 : BitVec 32 := 0#32
  let v2693 : BitVec 32 := Scalar.addi v2692 c0_i32_1906
  let v2694 : Index := Scalar.indexCast v2693
  ![v2694.toNat]
def k0_off898 (v2695 : BitVec 32) : Fin 2 → Nat :=
  let c0_i32_1907 : BitVec 32 := 0#32
  ![v2695.toNat, 0]

def k0_chk449 (v2695 : BitVec 32) : Prop :=
  (∀ a, (k0_off898 v2695) a + S1x1024.size a ≤ S37888x1024.size a)
theorem k0_off898_inb : ∀ (v2695 : BitVec 32) (k0_hw449 : k0_chk449 v2695), ∀ a, (k0_off898 v2695) a + S1x1024.size a ≤ S37888x1024.size a := fun v2695 k0_hw449 => k0_hw449

def k0_off899 (i : grid0.Coords) : Fin 1 → Nat :=
  let arg0 : BitVec 32 := BitVec.ofNat 32 (i 0).val
  let c1024_i32 : BitVec 32 := 1024#32
  let v0 : BitVec 32 := Scalar.muli arg0 c1024_i32
  let c448_i32_1910 : BitVec 32 := 448#32
  let v2698 : BitVec 32 := Scalar.addi v0 c448_i32_1910
  let c1_i32_1911 : BitVec 32 := 1#32
  let v2699 : BitVec 32 := Scalar.addi v2698 c1_i32_1911
  let v2700 : Index := Scalar.indexCast v2699
  ![v2700.toNat]
def k0_off900 (v2701 : BitVec 32) : Fin 2 → Nat :=
  let c0_i32_1912 : BitVec 32 := 0#32
  ![v2701.toNat, 0]

def k0_chk450 (v2701 : BitVec 32) : Prop :=
  (∀ a, (k0_off900 v2701) a + S1x1024.size a ≤ S37888x1024.size a)
theorem k0_off900_inb : ∀ (v2701 : BitVec 32) (k0_hw450 : k0_chk450 v2701), ∀ a, (k0_off900 v2701) a + S1x1024.size a ≤ S37888x1024.size a := fun v2701 k0_hw450 => k0_hw450

def k0_off901 (i : grid0.Coords) : Fin 1 → Nat :=
  let arg0 : BitVec 32 := BitVec.ofNat 32 (i 0).val
  let c1024_i32 : BitVec 32 := 1024#32
  let v0 : BitVec 32 := Scalar.muli arg0 c1024_i32
  let c450_i32 : BitVec 32 := 450#32
  let v2704 : BitVec 32 := Scalar.addi v0 c450_i32
  let c0_i32_1915 : BitVec 32 := 0#32
  let v2705 : BitVec 32 := Scalar.addi v2704 c0_i32_1915
  let v2706 : Index := Scalar.indexCast v2705
  ![v2706.toNat]
def k0_off902 (v2707 : BitVec 32) : Fin 2 → Nat :=
  let c0_i32_1916 : BitVec 32 := 0#32
  ![v2707.toNat, 0]

def k0_chk451 (v2707 : BitVec 32) : Prop :=
  (∀ a, (k0_off902 v2707) a + S1x1024.size a ≤ S37888x1024.size a)
theorem k0_off902_inb : ∀ (v2707 : BitVec 32) (k0_hw451 : k0_chk451 v2707), ∀ a, (k0_off902 v2707) a + S1x1024.size a ≤ S37888x1024.size a := fun v2707 k0_hw451 => k0_hw451

def k0_off903 (i : grid0.Coords) : Fin 1 → Nat :=
  let arg0 : BitVec 32 := BitVec.ofNat 32 (i 0).val
  let c1024_i32 : BitVec 32 := 1024#32
  let v0 : BitVec 32 := Scalar.muli arg0 c1024_i32
  let c450_i32_1918 : BitVec 32 := 450#32
  let v2710 : BitVec 32 := Scalar.addi v0 c450_i32_1918
  let c1_i32_1919 : BitVec 32 := 1#32
  let v2711 : BitVec 32 := Scalar.addi v2710 c1_i32_1919
  let v2712 : Index := Scalar.indexCast v2711
  ![v2712.toNat]
def k0_off904 (v2713 : BitVec 32) : Fin 2 → Nat :=
  let c0_i32_1920 : BitVec 32 := 0#32
  ![v2713.toNat, 0]

def k0_chk452 (v2713 : BitVec 32) : Prop :=
  (∀ a, (k0_off904 v2713) a + S1x1024.size a ≤ S37888x1024.size a)
theorem k0_off904_inb : ∀ (v2713 : BitVec 32) (k0_hw452 : k0_chk452 v2713), ∀ a, (k0_off904 v2713) a + S1x1024.size a ≤ S37888x1024.size a := fun v2713 k0_hw452 => k0_hw452

def k0_off905 (i : grid0.Coords) : Fin 1 → Nat :=
  let arg0 : BitVec 32 := BitVec.ofNat 32 (i 0).val
  let c1024_i32 : BitVec 32 := 1024#32
  let v0 : BitVec 32 := Scalar.muli arg0 c1024_i32
  let c452_i32 : BitVec 32 := 452#32
  let v2716 : BitVec 32 := Scalar.addi v0 c452_i32
  let c0_i32_1923 : BitVec 32 := 0#32
  let v2717 : BitVec 32 := Scalar.addi v2716 c0_i32_1923
  let v2718 : Index := Scalar.indexCast v2717
  ![v2718.toNat]
def k0_off906 (v2719 : BitVec 32) : Fin 2 → Nat :=
  let c0_i32_1924 : BitVec 32 := 0#32
  ![v2719.toNat, 0]

def k0_chk453 (v2719 : BitVec 32) : Prop :=
  (∀ a, (k0_off906 v2719) a + S1x1024.size a ≤ S37888x1024.size a)
theorem k0_off906_inb : ∀ (v2719 : BitVec 32) (k0_hw453 : k0_chk453 v2719), ∀ a, (k0_off906 v2719) a + S1x1024.size a ≤ S37888x1024.size a := fun v2719 k0_hw453 => k0_hw453

def k0_off907 (i : grid0.Coords) : Fin 1 → Nat :=
  let arg0 : BitVec 32 := BitVec.ofNat 32 (i 0).val
  let c1024_i32 : BitVec 32 := 1024#32
  let v0 : BitVec 32 := Scalar.muli arg0 c1024_i32
  let c452_i32_1927 : BitVec 32 := 452#32
  let v2722 : BitVec 32 := Scalar.addi v0 c452_i32_1927
  let c1_i32_1928 : BitVec 32 := 1#32
  let v2723 : BitVec 32 := Scalar.addi v2722 c1_i32_1928
  let v2724 : Index := Scalar.indexCast v2723
  ![v2724.toNat]
def k0_off908 (v2725 : BitVec 32) : Fin 2 → Nat :=
  let c0_i32_1929 : BitVec 32 := 0#32
  ![v2725.toNat, 0]

def k0_chk454 (v2725 : BitVec 32) : Prop :=
  (∀ a, (k0_off908 v2725) a + S1x1024.size a ≤ S37888x1024.size a)
theorem k0_off908_inb : ∀ (v2725 : BitVec 32) (k0_hw454 : k0_chk454 v2725), ∀ a, (k0_off908 v2725) a + S1x1024.size a ≤ S37888x1024.size a := fun v2725 k0_hw454 => k0_hw454

def k0_off909 (i : grid0.Coords) : Fin 1 → Nat :=
  let arg0 : BitVec 32 := BitVec.ofNat 32 (i 0).val
  let c1024_i32 : BitVec 32 := 1024#32
  let v0 : BitVec 32 := Scalar.muli arg0 c1024_i32
  let c454_i32 : BitVec 32 := 454#32
  let v2728 : BitVec 32 := Scalar.addi v0 c454_i32
  let c0_i32_1932 : BitVec 32 := 0#32
  let v2729 : BitVec 32 := Scalar.addi v2728 c0_i32_1932
  let v2730 : Index := Scalar.indexCast v2729
  ![v2730.toNat]
def k0_off910 (v2731 : BitVec 32) : Fin 2 → Nat :=
  let c0_i32_1933 : BitVec 32 := 0#32
  ![v2731.toNat, 0]

def k0_chk455 (v2731 : BitVec 32) : Prop :=
  (∀ a, (k0_off910 v2731) a + S1x1024.size a ≤ S37888x1024.size a)
theorem k0_off910_inb : ∀ (v2731 : BitVec 32) (k0_hw455 : k0_chk455 v2731), ∀ a, (k0_off910 v2731) a + S1x1024.size a ≤ S37888x1024.size a := fun v2731 k0_hw455 => k0_hw455

def k0_off911 (i : grid0.Coords) : Fin 1 → Nat :=
  let arg0 : BitVec 32 := BitVec.ofNat 32 (i 0).val
  let c1024_i32 : BitVec 32 := 1024#32
  let v0 : BitVec 32 := Scalar.muli arg0 c1024_i32
  let c454_i32_1935 : BitVec 32 := 454#32
  let v2734 : BitVec 32 := Scalar.addi v0 c454_i32_1935
  let c1_i32_1936 : BitVec 32 := 1#32
  let v2735 : BitVec 32 := Scalar.addi v2734 c1_i32_1936
  let v2736 : Index := Scalar.indexCast v2735
  ![v2736.toNat]
def k0_off912 (v2737 : BitVec 32) : Fin 2 → Nat :=
  let c0_i32_1937 : BitVec 32 := 0#32
  ![v2737.toNat, 0]

def k0_chk456 (v2737 : BitVec 32) : Prop :=
  (∀ a, (k0_off912 v2737) a + S1x1024.size a ≤ S37888x1024.size a)
theorem k0_off912_inb : ∀ (v2737 : BitVec 32) (k0_hw456 : k0_chk456 v2737), ∀ a, (k0_off912 v2737) a + S1x1024.size a ≤ S37888x1024.size a := fun v2737 k0_hw456 => k0_hw456

def k0_off913 (i : grid0.Coords) : Fin 1 → Nat :=
  let arg0 : BitVec 32 := BitVec.ofNat 32 (i 0).val
  let c1024_i32 : BitVec 32 := 1024#32
  let v0 : BitVec 32 := Scalar.muli arg0 c1024_i32
  let c456_i32 : BitVec 32 := 456#32
  let v2740 : BitVec 32 := Scalar.addi v0 c456_i32
  let c0_i32_1940 : BitVec 32 := 0#32
  let v2741 : BitVec 32 := Scalar.addi v2740 c0_i32_1940
  let v2742 : Index := Scalar.indexCast v2741
  ![v2742.toNat]
def k0_off914 (v2743 : BitVec 32) : Fin 2 → Nat :=
  let c0_i32_1941 : BitVec 32 := 0#32
  ![v2743.toNat, 0]

def k0_chk457 (v2743 : BitVec 32) : Prop :=
  (∀ a, (k0_off914 v2743) a + S1x1024.size a ≤ S37888x1024.size a)
theorem k0_off914_inb : ∀ (v2743 : BitVec 32) (k0_hw457 : k0_chk457 v2743), ∀ a, (k0_off914 v2743) a + S1x1024.size a ≤ S37888x1024.size a := fun v2743 k0_hw457 => k0_hw457

def k0_off915 (i : grid0.Coords) : Fin 1 → Nat :=
  let arg0 : BitVec 32 := BitVec.ofNat 32 (i 0).val
  let c1024_i32 : BitVec 32 := 1024#32
  let v0 : BitVec 32 := Scalar.muli arg0 c1024_i32
  let c456_i32_1944 : BitVec 32 := 456#32
  let v2746 : BitVec 32 := Scalar.addi v0 c456_i32_1944
  let c1_i32_1945 : BitVec 32 := 1#32
  let v2747 : BitVec 32 := Scalar.addi v2746 c1_i32_1945
  let v2748 : Index := Scalar.indexCast v2747
  ![v2748.toNat]
def k0_off916 (v2749 : BitVec 32) : Fin 2 → Nat :=
  let c0_i32_1946 : BitVec 32 := 0#32
  ![v2749.toNat, 0]

def k0_chk458 (v2749 : BitVec 32) : Prop :=
  (∀ a, (k0_off916 v2749) a + S1x1024.size a ≤ S37888x1024.size a)
theorem k0_off916_inb : ∀ (v2749 : BitVec 32) (k0_hw458 : k0_chk458 v2749), ∀ a, (k0_off916 v2749) a + S1x1024.size a ≤ S37888x1024.size a := fun v2749 k0_hw458 => k0_hw458

def k0_off917 (i : grid0.Coords) : Fin 1 → Nat :=
  let arg0 : BitVec 32 := BitVec.ofNat 32 (i 0).val
  let c1024_i32 : BitVec 32 := 1024#32
  let v0 : BitVec 32 := Scalar.muli arg0 c1024_i32
  let c458_i32 : BitVec 32 := 458#32
  let v2752 : BitVec 32 := Scalar.addi v0 c458_i32
  let c0_i32_1949 : BitVec 32 := 0#32
  let v2753 : BitVec 32 := Scalar.addi v2752 c0_i32_1949
  let v2754 : Index := Scalar.indexCast v2753
  ![v2754.toNat]
def k0_off918 (v2755 : BitVec 32) : Fin 2 → Nat :=
  let c0_i32_1950 : BitVec 32 := 0#32
  ![v2755.toNat, 0]

def k0_chk459 (v2755 : BitVec 32) : Prop :=
  (∀ a, (k0_off918 v2755) a + S1x1024.size a ≤ S37888x1024.size a)
theorem k0_off918_inb : ∀ (v2755 : BitVec 32) (k0_hw459 : k0_chk459 v2755), ∀ a, (k0_off918 v2755) a + S1x1024.size a ≤ S37888x1024.size a := fun v2755 k0_hw459 => k0_hw459

def k0_off919 (i : grid0.Coords) : Fin 1 → Nat :=
  let arg0 : BitVec 32 := BitVec.ofNat 32 (i 0).val
  let c1024_i32 : BitVec 32 := 1024#32
  let v0 : BitVec 32 := Scalar.muli arg0 c1024_i32
  let c458_i32_1952 : BitVec 32 := 458#32
  let v2758 : BitVec 32 := Scalar.addi v0 c458_i32_1952
  let c1_i32_1953 : BitVec 32 := 1#32
  let v2759 : BitVec 32 := Scalar.addi v2758 c1_i32_1953
  let v2760 : Index := Scalar.indexCast v2759
  ![v2760.toNat]
def k0_off920 (v2761 : BitVec 32) : Fin 2 → Nat :=
  let c0_i32_1954 : BitVec 32 := 0#32
  ![v2761.toNat, 0]

def k0_chk460 (v2761 : BitVec 32) : Prop :=
  (∀ a, (k0_off920 v2761) a + S1x1024.size a ≤ S37888x1024.size a)
theorem k0_off920_inb : ∀ (v2761 : BitVec 32) (k0_hw460 : k0_chk460 v2761), ∀ a, (k0_off920 v2761) a + S1x1024.size a ≤ S37888x1024.size a := fun v2761 k0_hw460 => k0_hw460

def k0_off921 (i : grid0.Coords) : Fin 1 → Nat :=
  let arg0 : BitVec 32 := BitVec.ofNat 32 (i 0).val
  let c1024_i32 : BitVec 32 := 1024#32
  let v0 : BitVec 32 := Scalar.muli arg0 c1024_i32
  let c460_i32 : BitVec 32 := 460#32
  let v2764 : BitVec 32 := Scalar.addi v0 c460_i32
  let c0_i32_1957 : BitVec 32 := 0#32
  let v2765 : BitVec 32 := Scalar.addi v2764 c0_i32_1957
  let v2766 : Index := Scalar.indexCast v2765
  ![v2766.toNat]
def k0_off922 (v2767 : BitVec 32) : Fin 2 → Nat :=
  let c0_i32_1958 : BitVec 32 := 0#32
  ![v2767.toNat, 0]

def k0_chk461 (v2767 : BitVec 32) : Prop :=
  (∀ a, (k0_off922 v2767) a + S1x1024.size a ≤ S37888x1024.size a)
theorem k0_off922_inb : ∀ (v2767 : BitVec 32) (k0_hw461 : k0_chk461 v2767), ∀ a, (k0_off922 v2767) a + S1x1024.size a ≤ S37888x1024.size a := fun v2767 k0_hw461 => k0_hw461

def k0_off923 (i : grid0.Coords) : Fin 1 → Nat :=
  let arg0 : BitVec 32 := BitVec.ofNat 32 (i 0).val
  let c1024_i32 : BitVec 32 := 1024#32
  let v0 : BitVec 32 := Scalar.muli arg0 c1024_i32
  let c460_i32_1961 : BitVec 32 := 460#32
  let v2770 : BitVec 32 := Scalar.addi v0 c460_i32_1961
  let c1_i32_1962 : BitVec 32 := 1#32
  let v2771 : BitVec 32 := Scalar.addi v2770 c1_i32_1962
  let v2772 : Index := Scalar.indexCast v2771
  ![v2772.toNat]
def k0_off924 (v2773 : BitVec 32) : Fin 2 → Nat :=
  let c0_i32_1963 : BitVec 32 := 0#32
  ![v2773.toNat, 0]

def k0_chk462 (v2773 : BitVec 32) : Prop :=
  (∀ a, (k0_off924 v2773) a + S1x1024.size a ≤ S37888x1024.size a)
theorem k0_off924_inb : ∀ (v2773 : BitVec 32) (k0_hw462 : k0_chk462 v2773), ∀ a, (k0_off924 v2773) a + S1x1024.size a ≤ S37888x1024.size a := fun v2773 k0_hw462 => k0_hw462

def k0_off925 (i : grid0.Coords) : Fin 1 → Nat :=
  let arg0 : BitVec 32 := BitVec.ofNat 32 (i 0).val
  let c1024_i32 : BitVec 32 := 1024#32
  let v0 : BitVec 32 := Scalar.muli arg0 c1024_i32
  let c462_i32 : BitVec 32 := 462#32
  let v2776 : BitVec 32 := Scalar.addi v0 c462_i32
  let c0_i32_1966 : BitVec 32 := 0#32
  let v2777 : BitVec 32 := Scalar.addi v2776 c0_i32_1966
  let v2778 : Index := Scalar.indexCast v2777
  ![v2778.toNat]
def k0_off926 (v2779 : BitVec 32) : Fin 2 → Nat :=
  let c0_i32_1967 : BitVec 32 := 0#32
  ![v2779.toNat, 0]

def k0_chk463 (v2779 : BitVec 32) : Prop :=
  (∀ a, (k0_off926 v2779) a + S1x1024.size a ≤ S37888x1024.size a)
theorem k0_off926_inb : ∀ (v2779 : BitVec 32) (k0_hw463 : k0_chk463 v2779), ∀ a, (k0_off926 v2779) a + S1x1024.size a ≤ S37888x1024.size a := fun v2779 k0_hw463 => k0_hw463

def k0_off927 (i : grid0.Coords) : Fin 1 → Nat :=
  let arg0 : BitVec 32 := BitVec.ofNat 32 (i 0).val
  let c1024_i32 : BitVec 32 := 1024#32
  let v0 : BitVec 32 := Scalar.muli arg0 c1024_i32
  let c462_i32_1969 : BitVec 32 := 462#32
  let v2782 : BitVec 32 := Scalar.addi v0 c462_i32_1969
  let c1_i32_1970 : BitVec 32 := 1#32
  let v2783 : BitVec 32 := Scalar.addi v2782 c1_i32_1970
  let v2784 : Index := Scalar.indexCast v2783
  ![v2784.toNat]
def k0_off928 (v2785 : BitVec 32) : Fin 2 → Nat :=
  let c0_i32_1971 : BitVec 32 := 0#32
  ![v2785.toNat, 0]

def k0_chk464 (v2785 : BitVec 32) : Prop :=
  (∀ a, (k0_off928 v2785) a + S1x1024.size a ≤ S37888x1024.size a)
theorem k0_off928_inb : ∀ (v2785 : BitVec 32) (k0_hw464 : k0_chk464 v2785), ∀ a, (k0_off928 v2785) a + S1x1024.size a ≤ S37888x1024.size a := fun v2785 k0_hw464 => k0_hw464

def k0_off929 (i : grid0.Coords) : Fin 1 → Nat :=
  let arg0 : BitVec 32 := BitVec.ofNat 32 (i 0).val
  let c1024_i32 : BitVec 32 := 1024#32
  let v0 : BitVec 32 := Scalar.muli arg0 c1024_i32
  let c464_i32 : BitVec 32 := 464#32
  let v2788 : BitVec 32 := Scalar.addi v0 c464_i32
  let c0_i32_1974 : BitVec 32 := 0#32
  let v2789 : BitVec 32 := Scalar.addi v2788 c0_i32_1974
  let v2790 : Index := Scalar.indexCast v2789
  ![v2790.toNat]
def k0_off930 (v2791 : BitVec 32) : Fin 2 → Nat :=
  let c0_i32_1975 : BitVec 32 := 0#32
  ![v2791.toNat, 0]

def k0_chk465 (v2791 : BitVec 32) : Prop :=
  (∀ a, (k0_off930 v2791) a + S1x1024.size a ≤ S37888x1024.size a)
theorem k0_off930_inb : ∀ (v2791 : BitVec 32) (k0_hw465 : k0_chk465 v2791), ∀ a, (k0_off930 v2791) a + S1x1024.size a ≤ S37888x1024.size a := fun v2791 k0_hw465 => k0_hw465

def k0_off931 (i : grid0.Coords) : Fin 1 → Nat :=
  let arg0 : BitVec 32 := BitVec.ofNat 32 (i 0).val
  let c1024_i32 : BitVec 32 := 1024#32
  let v0 : BitVec 32 := Scalar.muli arg0 c1024_i32
  let c464_i32_1978 : BitVec 32 := 464#32
  let v2794 : BitVec 32 := Scalar.addi v0 c464_i32_1978
  let c1_i32_1979 : BitVec 32 := 1#32
  let v2795 : BitVec 32 := Scalar.addi v2794 c1_i32_1979
  let v2796 : Index := Scalar.indexCast v2795
  ![v2796.toNat]
def k0_off932 (v2797 : BitVec 32) : Fin 2 → Nat :=
  let c0_i32_1980 : BitVec 32 := 0#32
  ![v2797.toNat, 0]

def k0_chk466 (v2797 : BitVec 32) : Prop :=
  (∀ a, (k0_off932 v2797) a + S1x1024.size a ≤ S37888x1024.size a)
theorem k0_off932_inb : ∀ (v2797 : BitVec 32) (k0_hw466 : k0_chk466 v2797), ∀ a, (k0_off932 v2797) a + S1x1024.size a ≤ S37888x1024.size a := fun v2797 k0_hw466 => k0_hw466

def k0_off933 (i : grid0.Coords) : Fin 1 → Nat :=
  let arg0 : BitVec 32 := BitVec.ofNat 32 (i 0).val
  let c1024_i32 : BitVec 32 := 1024#32
  let v0 : BitVec 32 := Scalar.muli arg0 c1024_i32
  let c466_i32 : BitVec 32 := 466#32
  let v2800 : BitVec 32 := Scalar.addi v0 c466_i32
  let c0_i32_1983 : BitVec 32 := 0#32
  let v2801 : BitVec 32 := Scalar.addi v2800 c0_i32_1983
  let v2802 : Index := Scalar.indexCast v2801
  ![v2802.toNat]
def k0_off934 (v2803 : BitVec 32) : Fin 2 → Nat :=
  let c0_i32_1984 : BitVec 32 := 0#32
  ![v2803.toNat, 0]

def k0_chk467 (v2803 : BitVec 32) : Prop :=
  (∀ a, (k0_off934 v2803) a + S1x1024.size a ≤ S37888x1024.size a)
theorem k0_off934_inb : ∀ (v2803 : BitVec 32) (k0_hw467 : k0_chk467 v2803), ∀ a, (k0_off934 v2803) a + S1x1024.size a ≤ S37888x1024.size a := fun v2803 k0_hw467 => k0_hw467

def k0_off935 (i : grid0.Coords) : Fin 1 → Nat :=
  let arg0 : BitVec 32 := BitVec.ofNat 32 (i 0).val
  let c1024_i32 : BitVec 32 := 1024#32
  let v0 : BitVec 32 := Scalar.muli arg0 c1024_i32
  let c466_i32_1986 : BitVec 32 := 466#32
  let v2806 : BitVec 32 := Scalar.addi v0 c466_i32_1986
  let c1_i32_1987 : BitVec 32 := 1#32
  let v2807 : BitVec 32 := Scalar.addi v2806 c1_i32_1987
  let v2808 : Index := Scalar.indexCast v2807
  ![v2808.toNat]
def k0_off936 (v2809 : BitVec 32) : Fin 2 → Nat :=
  let c0_i32_1988 : BitVec 32 := 0#32
  ![v2809.toNat, 0]

def k0_chk468 (v2809 : BitVec 32) : Prop :=
  (∀ a, (k0_off936 v2809) a + S1x1024.size a ≤ S37888x1024.size a)
theorem k0_off936_inb : ∀ (v2809 : BitVec 32) (k0_hw468 : k0_chk468 v2809), ∀ a, (k0_off936 v2809) a + S1x1024.size a ≤ S37888x1024.size a := fun v2809 k0_hw468 => k0_hw468

def k0_off937 (i : grid0.Coords) : Fin 1 → Nat :=
  let arg0 : BitVec 32 := BitVec.ofNat 32 (i 0).val
  let c1024_i32 : BitVec 32 := 1024#32
  let v0 : BitVec 32 := Scalar.muli arg0 c1024_i32
  let c468_i32 : BitVec 32 := 468#32
  let v2812 : BitVec 32 := Scalar.addi v0 c468_i32
  let c0_i32_1991 : BitVec 32 := 0#32
  let v2813 : BitVec 32 := Scalar.addi v2812 c0_i32_1991
  let v2814 : Index := Scalar.indexCast v2813
  ![v2814.toNat]
def k0_off938 (v2815 : BitVec 32) : Fin 2 → Nat :=
  let c0_i32_1992 : BitVec 32 := 0#32
  ![v2815.toNat, 0]

def k0_chk469 (v2815 : BitVec 32) : Prop :=
  (∀ a, (k0_off938 v2815) a + S1x1024.size a ≤ S37888x1024.size a)
theorem k0_off938_inb : ∀ (v2815 : BitVec 32) (k0_hw469 : k0_chk469 v2815), ∀ a, (k0_off938 v2815) a + S1x1024.size a ≤ S37888x1024.size a := fun v2815 k0_hw469 => k0_hw469

def k0_off939 (i : grid0.Coords) : Fin 1 → Nat :=
  let arg0 : BitVec 32 := BitVec.ofNat 32 (i 0).val
  let c1024_i32 : BitVec 32 := 1024#32
  let v0 : BitVec 32 := Scalar.muli arg0 c1024_i32
  let c468_i32_1995 : BitVec 32 := 468#32
  let v2818 : BitVec 32 := Scalar.addi v0 c468_i32_1995
  let c1_i32_1996 : BitVec 32 := 1#32
  let v2819 : BitVec 32 := Scalar.addi v2818 c1_i32_1996
  let v2820 : Index := Scalar.indexCast v2819
  ![v2820.toNat]
def k0_off940 (v2821 : BitVec 32) : Fin 2 → Nat :=
  let c0_i32_1997 : BitVec 32 := 0#32
  ![v2821.toNat, 0]

def k0_chk470 (v2821 : BitVec 32) : Prop :=
  (∀ a, (k0_off940 v2821) a + S1x1024.size a ≤ S37888x1024.size a)
theorem k0_off940_inb : ∀ (v2821 : BitVec 32) (k0_hw470 : k0_chk470 v2821), ∀ a, (k0_off940 v2821) a + S1x1024.size a ≤ S37888x1024.size a := fun v2821 k0_hw470 => k0_hw470

def k0_off941 (i : grid0.Coords) : Fin 1 → Nat :=
  let arg0 : BitVec 32 := BitVec.ofNat 32 (i 0).val
  let c1024_i32 : BitVec 32 := 1024#32
  let v0 : BitVec 32 := Scalar.muli arg0 c1024_i32
  let c470_i32 : BitVec 32 := 470#32
  let v2824 : BitVec 32 := Scalar.addi v0 c470_i32
  let c0_i32_2000 : BitVec 32 := 0#32
  let v2825 : BitVec 32 := Scalar.addi v2824 c0_i32_2000
  let v2826 : Index := Scalar.indexCast v2825
  ![v2826.toNat]
def k0_off942 (v2827 : BitVec 32) : Fin 2 → Nat :=
  let c0_i32_2001 : BitVec 32 := 0#32
  ![v2827.toNat, 0]

def k0_chk471 (v2827 : BitVec 32) : Prop :=
  (∀ a, (k0_off942 v2827) a + S1x1024.size a ≤ S37888x1024.size a)
theorem k0_off942_inb : ∀ (v2827 : BitVec 32) (k0_hw471 : k0_chk471 v2827), ∀ a, (k0_off942 v2827) a + S1x1024.size a ≤ S37888x1024.size a := fun v2827 k0_hw471 => k0_hw471

def k0_off943 (i : grid0.Coords) : Fin 1 → Nat :=
  let arg0 : BitVec 32 := BitVec.ofNat 32 (i 0).val
  let c1024_i32 : BitVec 32 := 1024#32
  let v0 : BitVec 32 := Scalar.muli arg0 c1024_i32
  let c470_i32_2003 : BitVec 32 := 470#32
  let v2830 : BitVec 32 := Scalar.addi v0 c470_i32_2003
  let c1_i32_2004 : BitVec 32 := 1#32
  let v2831 : BitVec 32 := Scalar.addi v2830 c1_i32_2004
  let v2832 : Index := Scalar.indexCast v2831
  ![v2832.toNat]
def k0_off944 (v2833 : BitVec 32) : Fin 2 → Nat :=
  let c0_i32_2005 : BitVec 32 := 0#32
  ![v2833.toNat, 0]

def k0_chk472 (v2833 : BitVec 32) : Prop :=
  (∀ a, (k0_off944 v2833) a + S1x1024.size a ≤ S37888x1024.size a)
theorem k0_off944_inb : ∀ (v2833 : BitVec 32) (k0_hw472 : k0_chk472 v2833), ∀ a, (k0_off944 v2833) a + S1x1024.size a ≤ S37888x1024.size a := fun v2833 k0_hw472 => k0_hw472

def k0_off945 (i : grid0.Coords) : Fin 1 → Nat :=
  let arg0 : BitVec 32 := BitVec.ofNat 32 (i 0).val
  let c1024_i32 : BitVec 32 := 1024#32
  let v0 : BitVec 32 := Scalar.muli arg0 c1024_i32
  let c472_i32 : BitVec 32 := 472#32
  let v2836 : BitVec 32 := Scalar.addi v0 c472_i32
  let c0_i32_2008 : BitVec 32 := 0#32
  let v2837 : BitVec 32 := Scalar.addi v2836 c0_i32_2008
  let v2838 : Index := Scalar.indexCast v2837
  ![v2838.toNat]
def k0_off946 (v2839 : BitVec 32) : Fin 2 → Nat :=
  let c0_i32_2009 : BitVec 32 := 0#32
  ![v2839.toNat, 0]

def k0_chk473 (v2839 : BitVec 32) : Prop :=
  (∀ a, (k0_off946 v2839) a + S1x1024.size a ≤ S37888x1024.size a)
theorem k0_off946_inb : ∀ (v2839 : BitVec 32) (k0_hw473 : k0_chk473 v2839), ∀ a, (k0_off946 v2839) a + S1x1024.size a ≤ S37888x1024.size a := fun v2839 k0_hw473 => k0_hw473

def k0_off947 (i : grid0.Coords) : Fin 1 → Nat :=
  let arg0 : BitVec 32 := BitVec.ofNat 32 (i 0).val
  let c1024_i32 : BitVec 32 := 1024#32
  let v0 : BitVec 32 := Scalar.muli arg0 c1024_i32
  let c472_i32_2012 : BitVec 32 := 472#32
  let v2842 : BitVec 32 := Scalar.addi v0 c472_i32_2012
  let c1_i32_2013 : BitVec 32 := 1#32
  let v2843 : BitVec 32 := Scalar.addi v2842 c1_i32_2013
  let v2844 : Index := Scalar.indexCast v2843
  ![v2844.toNat]
def k0_off948 (v2845 : BitVec 32) : Fin 2 → Nat :=
  let c0_i32_2014 : BitVec 32 := 0#32
  ![v2845.toNat, 0]

def k0_chk474 (v2845 : BitVec 32) : Prop :=
  (∀ a, (k0_off948 v2845) a + S1x1024.size a ≤ S37888x1024.size a)
theorem k0_off948_inb : ∀ (v2845 : BitVec 32) (k0_hw474 : k0_chk474 v2845), ∀ a, (k0_off948 v2845) a + S1x1024.size a ≤ S37888x1024.size a := fun v2845 k0_hw474 => k0_hw474

def k0_off949 (i : grid0.Coords) : Fin 1 → Nat :=
  let arg0 : BitVec 32 := BitVec.ofNat 32 (i 0).val
  let c1024_i32 : BitVec 32 := 1024#32
  let v0 : BitVec 32 := Scalar.muli arg0 c1024_i32
  let c474_i32 : BitVec 32 := 474#32
  let v2848 : BitVec 32 := Scalar.addi v0 c474_i32
  let c0_i32_2017 : BitVec 32 := 0#32
  let v2849 : BitVec 32 := Scalar.addi v2848 c0_i32_2017
  let v2850 : Index := Scalar.indexCast v2849
  ![v2850.toNat]
def k0_off950 (v2851 : BitVec 32) : Fin 2 → Nat :=
  let c0_i32_2018 : BitVec 32 := 0#32
  ![v2851.toNat, 0]

def k0_chk475 (v2851 : BitVec 32) : Prop :=
  (∀ a, (k0_off950 v2851) a + S1x1024.size a ≤ S37888x1024.size a)
theorem k0_off950_inb : ∀ (v2851 : BitVec 32) (k0_hw475 : k0_chk475 v2851), ∀ a, (k0_off950 v2851) a + S1x1024.size a ≤ S37888x1024.size a := fun v2851 k0_hw475 => k0_hw475

def k0_off951 (i : grid0.Coords) : Fin 1 → Nat :=
  let arg0 : BitVec 32 := BitVec.ofNat 32 (i 0).val
  let c1024_i32 : BitVec 32 := 1024#32
  let v0 : BitVec 32 := Scalar.muli arg0 c1024_i32
  let c474_i32_2020 : BitVec 32 := 474#32
  let v2854 : BitVec 32 := Scalar.addi v0 c474_i32_2020
  let c1_i32_2021 : BitVec 32 := 1#32
  let v2855 : BitVec 32 := Scalar.addi v2854 c1_i32_2021
  let v2856 : Index := Scalar.indexCast v2855
  ![v2856.toNat]
def k0_off952 (v2857 : BitVec 32) : Fin 2 → Nat :=
  let c0_i32_2022 : BitVec 32 := 0#32
  ![v2857.toNat, 0]

def k0_chk476 (v2857 : BitVec 32) : Prop :=
  (∀ a, (k0_off952 v2857) a + S1x1024.size a ≤ S37888x1024.size a)
theorem k0_off952_inb : ∀ (v2857 : BitVec 32) (k0_hw476 : k0_chk476 v2857), ∀ a, (k0_off952 v2857) a + S1x1024.size a ≤ S37888x1024.size a := fun v2857 k0_hw476 => k0_hw476

def k0_off953 (i : grid0.Coords) : Fin 1 → Nat :=
  let arg0 : BitVec 32 := BitVec.ofNat 32 (i 0).val
  let c1024_i32 : BitVec 32 := 1024#32
  let v0 : BitVec 32 := Scalar.muli arg0 c1024_i32
  let c476_i32 : BitVec 32 := 476#32
  let v2860 : BitVec 32 := Scalar.addi v0 c476_i32
  let c0_i32_2025 : BitVec 32 := 0#32
  let v2861 : BitVec 32 := Scalar.addi v2860 c0_i32_2025
  let v2862 : Index := Scalar.indexCast v2861
  ![v2862.toNat]
def k0_off954 (v2863 : BitVec 32) : Fin 2 → Nat :=
  let c0_i32_2026 : BitVec 32 := 0#32
  ![v2863.toNat, 0]

def k0_chk477 (v2863 : BitVec 32) : Prop :=
  (∀ a, (k0_off954 v2863) a + S1x1024.size a ≤ S37888x1024.size a)
theorem k0_off954_inb : ∀ (v2863 : BitVec 32) (k0_hw477 : k0_chk477 v2863), ∀ a, (k0_off954 v2863) a + S1x1024.size a ≤ S37888x1024.size a := fun v2863 k0_hw477 => k0_hw477

def k0_off955 (i : grid0.Coords) : Fin 1 → Nat :=
  let arg0 : BitVec 32 := BitVec.ofNat 32 (i 0).val
  let c1024_i32 : BitVec 32 := 1024#32
  let v0 : BitVec 32 := Scalar.muli arg0 c1024_i32
  let c476_i32_2029 : BitVec 32 := 476#32
  let v2866 : BitVec 32 := Scalar.addi v0 c476_i32_2029
  let c1_i32_2030 : BitVec 32 := 1#32
  let v2867 : BitVec 32 := Scalar.addi v2866 c1_i32_2030
  let v2868 : Index := Scalar.indexCast v2867
  ![v2868.toNat]
def k0_off956 (v2869 : BitVec 32) : Fin 2 → Nat :=
  let c0_i32_2031 : BitVec 32 := 0#32
  ![v2869.toNat, 0]

def k0_chk478 (v2869 : BitVec 32) : Prop :=
  (∀ a, (k0_off956 v2869) a + S1x1024.size a ≤ S37888x1024.size a)
theorem k0_off956_inb : ∀ (v2869 : BitVec 32) (k0_hw478 : k0_chk478 v2869), ∀ a, (k0_off956 v2869) a + S1x1024.size a ≤ S37888x1024.size a := fun v2869 k0_hw478 => k0_hw478

def k0_off957 (i : grid0.Coords) : Fin 1 → Nat :=
  let arg0 : BitVec 32 := BitVec.ofNat 32 (i 0).val
  let c1024_i32 : BitVec 32 := 1024#32
  let v0 : BitVec 32 := Scalar.muli arg0 c1024_i32
  let c478_i32 : BitVec 32 := 478#32
  let v2872 : BitVec 32 := Scalar.addi v0 c478_i32
  let c0_i32_2034 : BitVec 32 := 0#32
  let v2873 : BitVec 32 := Scalar.addi v2872 c0_i32_2034
  let v2874 : Index := Scalar.indexCast v2873
  ![v2874.toNat]
def k0_off958 (v2875 : BitVec 32) : Fin 2 → Nat :=
  let c0_i32_2035 : BitVec 32 := 0#32
  ![v2875.toNat, 0]

def k0_chk479 (v2875 : BitVec 32) : Prop :=
  (∀ a, (k0_off958 v2875) a + S1x1024.size a ≤ S37888x1024.size a)
theorem k0_off958_inb : ∀ (v2875 : BitVec 32) (k0_hw479 : k0_chk479 v2875), ∀ a, (k0_off958 v2875) a + S1x1024.size a ≤ S37888x1024.size a := fun v2875 k0_hw479 => k0_hw479

def k0_off959 (i : grid0.Coords) : Fin 1 → Nat :=
  let arg0 : BitVec 32 := BitVec.ofNat 32 (i 0).val
  let c1024_i32 : BitVec 32 := 1024#32
  let v0 : BitVec 32 := Scalar.muli arg0 c1024_i32
  let c478_i32_2037 : BitVec 32 := 478#32
  let v2878 : BitVec 32 := Scalar.addi v0 c478_i32_2037
  let c1_i32_2038 : BitVec 32 := 1#32
  let v2879 : BitVec 32 := Scalar.addi v2878 c1_i32_2038
  let v2880 : Index := Scalar.indexCast v2879
  ![v2880.toNat]
def k0_off960 (v2881 : BitVec 32) : Fin 2 → Nat :=
  let c0_i32_2039 : BitVec 32 := 0#32
  ![v2881.toNat, 0]

def k0_chk480 (v2881 : BitVec 32) : Prop :=
  (∀ a, (k0_off960 v2881) a + S1x1024.size a ≤ S37888x1024.size a)
theorem k0_off960_inb : ∀ (v2881 : BitVec 32) (k0_hw480 : k0_chk480 v2881), ∀ a, (k0_off960 v2881) a + S1x1024.size a ≤ S37888x1024.size a := fun v2881 k0_hw480 => k0_hw480

def k0_off961 (i : grid0.Coords) : Fin 1 → Nat :=
  let arg0 : BitVec 32 := BitVec.ofNat 32 (i 0).val
  let c1024_i32 : BitVec 32 := 1024#32
  let v0 : BitVec 32 := Scalar.muli arg0 c1024_i32
  let c480_i32 : BitVec 32 := 480#32
  let v2884 : BitVec 32 := Scalar.addi v0 c480_i32
  let c0_i32_2042 : BitVec 32 := 0#32
  let v2885 : BitVec 32 := Scalar.addi v2884 c0_i32_2042
  let v2886 : Index := Scalar.indexCast v2885
  ![v2886.toNat]
def k0_off962 (v2887 : BitVec 32) : Fin 2 → Nat :=
  let c0_i32_2043 : BitVec 32 := 0#32
  ![v2887.toNat, 0]

def k0_chk481 (v2887 : BitVec 32) : Prop :=
  (∀ a, (k0_off962 v2887) a + S1x1024.size a ≤ S37888x1024.size a)
theorem k0_off962_inb : ∀ (v2887 : BitVec 32) (k0_hw481 : k0_chk481 v2887), ∀ a, (k0_off962 v2887) a + S1x1024.size a ≤ S37888x1024.size a := fun v2887 k0_hw481 => k0_hw481

def k0_off963 (i : grid0.Coords) : Fin 1 → Nat :=
  let arg0 : BitVec 32 := BitVec.ofNat 32 (i 0).val
  let c1024_i32 : BitVec 32 := 1024#32
  let v0 : BitVec 32 := Scalar.muli arg0 c1024_i32
  let c480_i32_2046 : BitVec 32 := 480#32
  let v2890 : BitVec 32 := Scalar.addi v0 c480_i32_2046
  let c1_i32_2047 : BitVec 32 := 1#32
  let v2891 : BitVec 32 := Scalar.addi v2890 c1_i32_2047
  let v2892 : Index := Scalar.indexCast v2891
  ![v2892.toNat]
def k0_off964 (v2893 : BitVec 32) : Fin 2 → Nat :=
  let c0_i32_2048 : BitVec 32 := 0#32
  ![v2893.toNat, 0]

def k0_chk482 (v2893 : BitVec 32) : Prop :=
  (∀ a, (k0_off964 v2893) a + S1x1024.size a ≤ S37888x1024.size a)
theorem k0_off964_inb : ∀ (v2893 : BitVec 32) (k0_hw482 : k0_chk482 v2893), ∀ a, (k0_off964 v2893) a + S1x1024.size a ≤ S37888x1024.size a := fun v2893 k0_hw482 => k0_hw482

def k0_off965 (i : grid0.Coords) : Fin 1 → Nat :=
  let arg0 : BitVec 32 := BitVec.ofNat 32 (i 0).val
  let c1024_i32 : BitVec 32 := 1024#32
  let v0 : BitVec 32 := Scalar.muli arg0 c1024_i32
  let c482_i32 : BitVec 32 := 482#32
  let v2896 : BitVec 32 := Scalar.addi v0 c482_i32
  let c0_i32_2051 : BitVec 32 := 0#32
  let v2897 : BitVec 32 := Scalar.addi v2896 c0_i32_2051
  let v2898 : Index := Scalar.indexCast v2897
  ![v2898.toNat]
def k0_off966 (v2899 : BitVec 32) : Fin 2 → Nat :=
  let c0_i32_2052 : BitVec 32 := 0#32
  ![v2899.toNat, 0]

def k0_chk483 (v2899 : BitVec 32) : Prop :=
  (∀ a, (k0_off966 v2899) a + S1x1024.size a ≤ S37888x1024.size a)
theorem k0_off966_inb : ∀ (v2899 : BitVec 32) (k0_hw483 : k0_chk483 v2899), ∀ a, (k0_off966 v2899) a + S1x1024.size a ≤ S37888x1024.size a := fun v2899 k0_hw483 => k0_hw483

def k0_off967 (i : grid0.Coords) : Fin 1 → Nat :=
  let arg0 : BitVec 32 := BitVec.ofNat 32 (i 0).val
  let c1024_i32 : BitVec 32 := 1024#32
  let v0 : BitVec 32 := Scalar.muli arg0 c1024_i32
  let c482_i32_2054 : BitVec 32 := 482#32
  let v2902 : BitVec 32 := Scalar.addi v0 c482_i32_2054
  let c1_i32_2055 : BitVec 32 := 1#32
  let v2903 : BitVec 32 := Scalar.addi v2902 c1_i32_2055
  let v2904 : Index := Scalar.indexCast v2903
  ![v2904.toNat]
def k0_off968 (v2905 : BitVec 32) : Fin 2 → Nat :=
  let c0_i32_2056 : BitVec 32 := 0#32
  ![v2905.toNat, 0]

def k0_chk484 (v2905 : BitVec 32) : Prop :=
  (∀ a, (k0_off968 v2905) a + S1x1024.size a ≤ S37888x1024.size a)
theorem k0_off968_inb : ∀ (v2905 : BitVec 32) (k0_hw484 : k0_chk484 v2905), ∀ a, (k0_off968 v2905) a + S1x1024.size a ≤ S37888x1024.size a := fun v2905 k0_hw484 => k0_hw484

def k0_off969 (i : grid0.Coords) : Fin 1 → Nat :=
  let arg0 : BitVec 32 := BitVec.ofNat 32 (i 0).val
  let c1024_i32 : BitVec 32 := 1024#32
  let v0 : BitVec 32 := Scalar.muli arg0 c1024_i32
  let c484_i32 : BitVec 32 := 484#32
  let v2908 : BitVec 32 := Scalar.addi v0 c484_i32
  let c0_i32_2059 : BitVec 32 := 0#32
  let v2909 : BitVec 32 := Scalar.addi v2908 c0_i32_2059
  let v2910 : Index := Scalar.indexCast v2909
  ![v2910.toNat]
def k0_off970 (v2911 : BitVec 32) : Fin 2 → Nat :=
  let c0_i32_2060 : BitVec 32 := 0#32
  ![v2911.toNat, 0]

def k0_chk485 (v2911 : BitVec 32) : Prop :=
  (∀ a, (k0_off970 v2911) a + S1x1024.size a ≤ S37888x1024.size a)
theorem k0_off970_inb : ∀ (v2911 : BitVec 32) (k0_hw485 : k0_chk485 v2911), ∀ a, (k0_off970 v2911) a + S1x1024.size a ≤ S37888x1024.size a := fun v2911 k0_hw485 => k0_hw485

def k0_off971 (i : grid0.Coords) : Fin 1 → Nat :=
  let arg0 : BitVec 32 := BitVec.ofNat 32 (i 0).val
  let c1024_i32 : BitVec 32 := 1024#32
  let v0 : BitVec 32 := Scalar.muli arg0 c1024_i32
  let c484_i32_2063 : BitVec 32 := 484#32
  let v2914 : BitVec 32 := Scalar.addi v0 c484_i32_2063
  let c1_i32_2064 : BitVec 32 := 1#32
  let v2915 : BitVec 32 := Scalar.addi v2914 c1_i32_2064
  let v2916 : Index := Scalar.indexCast v2915
  ![v2916.toNat]
def k0_off972 (v2917 : BitVec 32) : Fin 2 → Nat :=
  let c0_i32_2065 : BitVec 32 := 0#32
  ![v2917.toNat, 0]

def k0_chk486 (v2917 : BitVec 32) : Prop :=
  (∀ a, (k0_off972 v2917) a + S1x1024.size a ≤ S37888x1024.size a)
theorem k0_off972_inb : ∀ (v2917 : BitVec 32) (k0_hw486 : k0_chk486 v2917), ∀ a, (k0_off972 v2917) a + S1x1024.size a ≤ S37888x1024.size a := fun v2917 k0_hw486 => k0_hw486

def k0_off973 (i : grid0.Coords) : Fin 1 → Nat :=
  let arg0 : BitVec 32 := BitVec.ofNat 32 (i 0).val
  let c1024_i32 : BitVec 32 := 1024#32
  let v0 : BitVec 32 := Scalar.muli arg0 c1024_i32
  let c486_i32 : BitVec 32 := 486#32
  let v2920 : BitVec 32 := Scalar.addi v0 c486_i32
  let c0_i32_2068 : BitVec 32 := 0#32
  let v2921 : BitVec 32 := Scalar.addi v2920 c0_i32_2068
  let v2922 : Index := Scalar.indexCast v2921
  ![v2922.toNat]
def k0_off974 (v2923 : BitVec 32) : Fin 2 → Nat :=
  let c0_i32_2069 : BitVec 32 := 0#32
  ![v2923.toNat, 0]

def k0_chk487 (v2923 : BitVec 32) : Prop :=
  (∀ a, (k0_off974 v2923) a + S1x1024.size a ≤ S37888x1024.size a)
theorem k0_off974_inb : ∀ (v2923 : BitVec 32) (k0_hw487 : k0_chk487 v2923), ∀ a, (k0_off974 v2923) a + S1x1024.size a ≤ S37888x1024.size a := fun v2923 k0_hw487 => k0_hw487

def k0_off975 (i : grid0.Coords) : Fin 1 → Nat :=
  let arg0 : BitVec 32 := BitVec.ofNat 32 (i 0).val
  let c1024_i32 : BitVec 32 := 1024#32
  let v0 : BitVec 32 := Scalar.muli arg0 c1024_i32
  let c486_i32_2071 : BitVec 32 := 486#32
  let v2926 : BitVec 32 := Scalar.addi v0 c486_i32_2071
  let c1_i32_2072 : BitVec 32 := 1#32
  let v2927 : BitVec 32 := Scalar.addi v2926 c1_i32_2072
  let v2928 : Index := Scalar.indexCast v2927
  ![v2928.toNat]
def k0_off976 (v2929 : BitVec 32) : Fin 2 → Nat :=
  let c0_i32_2073 : BitVec 32 := 0#32
  ![v2929.toNat, 0]

def k0_chk488 (v2929 : BitVec 32) : Prop :=
  (∀ a, (k0_off976 v2929) a + S1x1024.size a ≤ S37888x1024.size a)
theorem k0_off976_inb : ∀ (v2929 : BitVec 32) (k0_hw488 : k0_chk488 v2929), ∀ a, (k0_off976 v2929) a + S1x1024.size a ≤ S37888x1024.size a := fun v2929 k0_hw488 => k0_hw488

def k0_off977 (i : grid0.Coords) : Fin 1 → Nat :=
  let arg0 : BitVec 32 := BitVec.ofNat 32 (i 0).val
  let c1024_i32 : BitVec 32 := 1024#32
  let v0 : BitVec 32 := Scalar.muli arg0 c1024_i32
  let c488_i32 : BitVec 32 := 488#32
  let v2932 : BitVec 32 := Scalar.addi v0 c488_i32
  let c0_i32_2076 : BitVec 32 := 0#32
  let v2933 : BitVec 32 := Scalar.addi v2932 c0_i32_2076
  let v2934 : Index := Scalar.indexCast v2933
  ![v2934.toNat]
def k0_off978 (v2935 : BitVec 32) : Fin 2 → Nat :=
  let c0_i32_2077 : BitVec 32 := 0#32
  ![v2935.toNat, 0]

def k0_chk489 (v2935 : BitVec 32) : Prop :=
  (∀ a, (k0_off978 v2935) a + S1x1024.size a ≤ S37888x1024.size a)
theorem k0_off978_inb : ∀ (v2935 : BitVec 32) (k0_hw489 : k0_chk489 v2935), ∀ a, (k0_off978 v2935) a + S1x1024.size a ≤ S37888x1024.size a := fun v2935 k0_hw489 => k0_hw489

def k0_off979 (i : grid0.Coords) : Fin 1 → Nat :=
  let arg0 : BitVec 32 := BitVec.ofNat 32 (i 0).val
  let c1024_i32 : BitVec 32 := 1024#32
  let v0 : BitVec 32 := Scalar.muli arg0 c1024_i32
  let c488_i32_2080 : BitVec 32 := 488#32
  let v2938 : BitVec 32 := Scalar.addi v0 c488_i32_2080
  let c1_i32_2081 : BitVec 32 := 1#32
  let v2939 : BitVec 32 := Scalar.addi v2938 c1_i32_2081
  let v2940 : Index := Scalar.indexCast v2939
  ![v2940.toNat]
def k0_off980 (v2941 : BitVec 32) : Fin 2 → Nat :=
  let c0_i32_2082 : BitVec 32 := 0#32
  ![v2941.toNat, 0]

def k0_chk490 (v2941 : BitVec 32) : Prop :=
  (∀ a, (k0_off980 v2941) a + S1x1024.size a ≤ S37888x1024.size a)
theorem k0_off980_inb : ∀ (v2941 : BitVec 32) (k0_hw490 : k0_chk490 v2941), ∀ a, (k0_off980 v2941) a + S1x1024.size a ≤ S37888x1024.size a := fun v2941 k0_hw490 => k0_hw490

def k0_off981 (i : grid0.Coords) : Fin 1 → Nat :=
  let arg0 : BitVec 32 := BitVec.ofNat 32 (i 0).val
  let c1024_i32 : BitVec 32 := 1024#32
  let v0 : BitVec 32 := Scalar.muli arg0 c1024_i32
  let c490_i32 : BitVec 32 := 490#32
  let v2944 : BitVec 32 := Scalar.addi v0 c490_i32
  let c0_i32_2085 : BitVec 32 := 0#32
  let v2945 : BitVec 32 := Scalar.addi v2944 c0_i32_2085
  let v2946 : Index := Scalar.indexCast v2945
  ![v2946.toNat]
def k0_off982 (v2947 : BitVec 32) : Fin 2 → Nat :=
  let c0_i32_2086 : BitVec 32 := 0#32
  ![v2947.toNat, 0]

def k0_chk491 (v2947 : BitVec 32) : Prop :=
  (∀ a, (k0_off982 v2947) a + S1x1024.size a ≤ S37888x1024.size a)
theorem k0_off982_inb : ∀ (v2947 : BitVec 32) (k0_hw491 : k0_chk491 v2947), ∀ a, (k0_off982 v2947) a + S1x1024.size a ≤ S37888x1024.size a := fun v2947 k0_hw491 => k0_hw491

def k0_off983 (i : grid0.Coords) : Fin 1 → Nat :=
  let arg0 : BitVec 32 := BitVec.ofNat 32 (i 0).val
  let c1024_i32 : BitVec 32 := 1024#32
  let v0 : BitVec 32 := Scalar.muli arg0 c1024_i32
  let c490_i32_2088 : BitVec 32 := 490#32
  let v2950 : BitVec 32 := Scalar.addi v0 c490_i32_2088
  let c1_i32_2089 : BitVec 32 := 1#32
  let v2951 : BitVec 32 := Scalar.addi v2950 c1_i32_2089
  let v2952 : Index := Scalar.indexCast v2951
  ![v2952.toNat]
def k0_off984 (v2953 : BitVec 32) : Fin 2 → Nat :=
  let c0_i32_2090 : BitVec 32 := 0#32
  ![v2953.toNat, 0]

def k0_chk492 (v2953 : BitVec 32) : Prop :=
  (∀ a, (k0_off984 v2953) a + S1x1024.size a ≤ S37888x1024.size a)
theorem k0_off984_inb : ∀ (v2953 : BitVec 32) (k0_hw492 : k0_chk492 v2953), ∀ a, (k0_off984 v2953) a + S1x1024.size a ≤ S37888x1024.size a := fun v2953 k0_hw492 => k0_hw492

def k0_off985 (i : grid0.Coords) : Fin 1 → Nat :=
  let arg0 : BitVec 32 := BitVec.ofNat 32 (i 0).val
  let c1024_i32 : BitVec 32 := 1024#32
  let v0 : BitVec 32 := Scalar.muli arg0 c1024_i32
  let c492_i32 : BitVec 32 := 492#32
  let v2956 : BitVec 32 := Scalar.addi v0 c492_i32
  let c0_i32_2093 : BitVec 32 := 0#32
  let v2957 : BitVec 32 := Scalar.addi v2956 c0_i32_2093
  let v2958 : Index := Scalar.indexCast v2957
  ![v2958.toNat]
def k0_off986 (v2959 : BitVec 32) : Fin 2 → Nat :=
  let c0_i32_2094 : BitVec 32 := 0#32
  ![v2959.toNat, 0]

def k0_chk493 (v2959 : BitVec 32) : Prop :=
  (∀ a, (k0_off986 v2959) a + S1x1024.size a ≤ S37888x1024.size a)
theorem k0_off986_inb : ∀ (v2959 : BitVec 32) (k0_hw493 : k0_chk493 v2959), ∀ a, (k0_off986 v2959) a + S1x1024.size a ≤ S37888x1024.size a := fun v2959 k0_hw493 => k0_hw493

def k0_off987 (i : grid0.Coords) : Fin 1 → Nat :=
  let arg0 : BitVec 32 := BitVec.ofNat 32 (i 0).val
  let c1024_i32 : BitVec 32 := 1024#32
  let v0 : BitVec 32 := Scalar.muli arg0 c1024_i32
  let c492_i32_2097 : BitVec 32 := 492#32
  let v2962 : BitVec 32 := Scalar.addi v0 c492_i32_2097
  let c1_i32_2098 : BitVec 32 := 1#32
  let v2963 : BitVec 32 := Scalar.addi v2962 c1_i32_2098
  let v2964 : Index := Scalar.indexCast v2963
  ![v2964.toNat]
def k0_off988 (v2965 : BitVec 32) : Fin 2 → Nat :=
  let c0_i32_2099 : BitVec 32 := 0#32
  ![v2965.toNat, 0]

def k0_chk494 (v2965 : BitVec 32) : Prop :=
  (∀ a, (k0_off988 v2965) a + S1x1024.size a ≤ S37888x1024.size a)
theorem k0_off988_inb : ∀ (v2965 : BitVec 32) (k0_hw494 : k0_chk494 v2965), ∀ a, (k0_off988 v2965) a + S1x1024.size a ≤ S37888x1024.size a := fun v2965 k0_hw494 => k0_hw494

def k0_off989 (i : grid0.Coords) : Fin 1 → Nat :=
  let arg0 : BitVec 32 := BitVec.ofNat 32 (i 0).val
  let c1024_i32 : BitVec 32 := 1024#32
  let v0 : BitVec 32 := Scalar.muli arg0 c1024_i32
  let c494_i32 : BitVec 32 := 494#32
  let v2968 : BitVec 32 := Scalar.addi v0 c494_i32
  let c0_i32_2102 : BitVec 32 := 0#32
  let v2969 : BitVec 32 := Scalar.addi v2968 c0_i32_2102
  let v2970 : Index := Scalar.indexCast v2969
  ![v2970.toNat]
def k0_off990 (v2971 : BitVec 32) : Fin 2 → Nat :=
  let c0_i32_2103 : BitVec 32 := 0#32
  ![v2971.toNat, 0]

def k0_chk495 (v2971 : BitVec 32) : Prop :=
  (∀ a, (k0_off990 v2971) a + S1x1024.size a ≤ S37888x1024.size a)
theorem k0_off990_inb : ∀ (v2971 : BitVec 32) (k0_hw495 : k0_chk495 v2971), ∀ a, (k0_off990 v2971) a + S1x1024.size a ≤ S37888x1024.size a := fun v2971 k0_hw495 => k0_hw495

def k0_off991 (i : grid0.Coords) : Fin 1 → Nat :=
  let arg0 : BitVec 32 := BitVec.ofNat 32 (i 0).val
  let c1024_i32 : BitVec 32 := 1024#32
  let v0 : BitVec 32 := Scalar.muli arg0 c1024_i32
  let c494_i32_2105 : BitVec 32 := 494#32
  let v2974 : BitVec 32 := Scalar.addi v0 c494_i32_2105
  let c1_i32_2106 : BitVec 32 := 1#32
  let v2975 : BitVec 32 := Scalar.addi v2974 c1_i32_2106
  let v2976 : Index := Scalar.indexCast v2975
  ![v2976.toNat]
def k0_off992 (v2977 : BitVec 32) : Fin 2 → Nat :=
  let c0_i32_2107 : BitVec 32 := 0#32
  ![v2977.toNat, 0]

def k0_chk496 (v2977 : BitVec 32) : Prop :=
  (∀ a, (k0_off992 v2977) a + S1x1024.size a ≤ S37888x1024.size a)
theorem k0_off992_inb : ∀ (v2977 : BitVec 32) (k0_hw496 : k0_chk496 v2977), ∀ a, (k0_off992 v2977) a + S1x1024.size a ≤ S37888x1024.size a := fun v2977 k0_hw496 => k0_hw496

def k0_off993 (i : grid0.Coords) : Fin 1 → Nat :=
  let arg0 : BitVec 32 := BitVec.ofNat 32 (i 0).val
  let c1024_i32 : BitVec 32 := 1024#32
  let v0 : BitVec 32 := Scalar.muli arg0 c1024_i32
  let c496_i32 : BitVec 32 := 496#32
  let v2980 : BitVec 32 := Scalar.addi v0 c496_i32
  let c0_i32_2110 : BitVec 32 := 0#32
  let v2981 : BitVec 32 := Scalar.addi v2980 c0_i32_2110
  let v2982 : Index := Scalar.indexCast v2981
  ![v2982.toNat]
def k0_off994 (v2983 : BitVec 32) : Fin 2 → Nat :=
  let c0_i32_2111 : BitVec 32 := 0#32
  ![v2983.toNat, 0]

def k0_chk497 (v2983 : BitVec 32) : Prop :=
  (∀ a, (k0_off994 v2983) a + S1x1024.size a ≤ S37888x1024.size a)
theorem k0_off994_inb : ∀ (v2983 : BitVec 32) (k0_hw497 : k0_chk497 v2983), ∀ a, (k0_off994 v2983) a + S1x1024.size a ≤ S37888x1024.size a := fun v2983 k0_hw497 => k0_hw497

def k0_off995 (i : grid0.Coords) : Fin 1 → Nat :=
  let arg0 : BitVec 32 := BitVec.ofNat 32 (i 0).val
  let c1024_i32 : BitVec 32 := 1024#32
  let v0 : BitVec 32 := Scalar.muli arg0 c1024_i32
  let c496_i32_2114 : BitVec 32 := 496#32
  let v2986 : BitVec 32 := Scalar.addi v0 c496_i32_2114
  let c1_i32_2115 : BitVec 32 := 1#32
  let v2987 : BitVec 32 := Scalar.addi v2986 c1_i32_2115
  let v2988 : Index := Scalar.indexCast v2987
  ![v2988.toNat]
def k0_off996 (v2989 : BitVec 32) : Fin 2 → Nat :=
  let c0_i32_2116 : BitVec 32 := 0#32
  ![v2989.toNat, 0]

def k0_chk498 (v2989 : BitVec 32) : Prop :=
  (∀ a, (k0_off996 v2989) a + S1x1024.size a ≤ S37888x1024.size a)
theorem k0_off996_inb : ∀ (v2989 : BitVec 32) (k0_hw498 : k0_chk498 v2989), ∀ a, (k0_off996 v2989) a + S1x1024.size a ≤ S37888x1024.size a := fun v2989 k0_hw498 => k0_hw498

def k0_off997 (i : grid0.Coords) : Fin 1 → Nat :=
  let arg0 : BitVec 32 := BitVec.ofNat 32 (i 0).val
  let c1024_i32 : BitVec 32 := 1024#32
  let v0 : BitVec 32 := Scalar.muli arg0 c1024_i32
  let c498_i32 : BitVec 32 := 498#32
  let v2992 : BitVec 32 := Scalar.addi v0 c498_i32
  let c0_i32_2119 : BitVec 32 := 0#32
  let v2993 : BitVec 32 := Scalar.addi v2992 c0_i32_2119
  let v2994 : Index := Scalar.indexCast v2993
  ![v2994.toNat]
def k0_off998 (v2995 : BitVec 32) : Fin 2 → Nat :=
  let c0_i32_2120 : BitVec 32 := 0#32
  ![v2995.toNat, 0]

def k0_chk499 (v2995 : BitVec 32) : Prop :=
  (∀ a, (k0_off998 v2995) a + S1x1024.size a ≤ S37888x1024.size a)
theorem k0_off998_inb : ∀ (v2995 : BitVec 32) (k0_hw499 : k0_chk499 v2995), ∀ a, (k0_off998 v2995) a + S1x1024.size a ≤ S37888x1024.size a := fun v2995 k0_hw499 => k0_hw499

def k0_off999 (i : grid0.Coords) : Fin 1 → Nat :=
  let arg0 : BitVec 32 := BitVec.ofNat 32 (i 0).val
  let c1024_i32 : BitVec 32 := 1024#32
  let v0 : BitVec 32 := Scalar.muli arg0 c1024_i32
  let c498_i32_2122 : BitVec 32 := 498#32
  let v2998 : BitVec 32 := Scalar.addi v0 c498_i32_2122
  let c1_i32_2123 : BitVec 32 := 1#32
  let v2999 : BitVec 32 := Scalar.addi v2998 c1_i32_2123
  let v3000 : Index := Scalar.indexCast v2999
  ![v3000.toNat]
def k0_off1000 (v3001 : BitVec 32) : Fin 2 → Nat :=
  let c0_i32_2124 : BitVec 32 := 0#32
  ![v3001.toNat, 0]

def k0_chk500 (v3001 : BitVec 32) : Prop :=
  (∀ a, (k0_off1000 v3001) a + S1x1024.size a ≤ S37888x1024.size a)
theorem k0_off1000_inb : ∀ (v3001 : BitVec 32) (k0_hw500 : k0_chk500 v3001), ∀ a, (k0_off1000 v3001) a + S1x1024.size a ≤ S37888x1024.size a := fun v3001 k0_hw500 => k0_hw500

def k0_off1001 (i : grid0.Coords) : Fin 1 → Nat :=
  let arg0 : BitVec 32 := BitVec.ofNat 32 (i 0).val
  let c1024_i32 : BitVec 32 := 1024#32
  let v0 : BitVec 32 := Scalar.muli arg0 c1024_i32
  let c500_i32 : BitVec 32 := 500#32
  let v3004 : BitVec 32 := Scalar.addi v0 c500_i32
  let c0_i32_2127 : BitVec 32 := 0#32
  let v3005 : BitVec 32 := Scalar.addi v3004 c0_i32_2127
  let v3006 : Index := Scalar.indexCast v3005
  ![v3006.toNat]
def k0_off1002 (v3007 : BitVec 32) : Fin 2 → Nat :=
  let c0_i32_2128 : BitVec 32 := 0#32
  ![v3007.toNat, 0]

def k0_chk501 (v3007 : BitVec 32) : Prop :=
  (∀ a, (k0_off1002 v3007) a + S1x1024.size a ≤ S37888x1024.size a)
theorem k0_off1002_inb : ∀ (v3007 : BitVec 32) (k0_hw501 : k0_chk501 v3007), ∀ a, (k0_off1002 v3007) a + S1x1024.size a ≤ S37888x1024.size a := fun v3007 k0_hw501 => k0_hw501

def k0_off1003 (i : grid0.Coords) : Fin 1 → Nat :=
  let arg0 : BitVec 32 := BitVec.ofNat 32 (i 0).val
  let c1024_i32 : BitVec 32 := 1024#32
  let v0 : BitVec 32 := Scalar.muli arg0 c1024_i32
  let c500_i32_2131 : BitVec 32 := 500#32
  let v3010 : BitVec 32 := Scalar.addi v0 c500_i32_2131
  let c1_i32_2132 : BitVec 32 := 1#32
  let v3011 : BitVec 32 := Scalar.addi v3010 c1_i32_2132
  let v3012 : Index := Scalar.indexCast v3011
  ![v3012.toNat]
def k0_off1004 (v3013 : BitVec 32) : Fin 2 → Nat :=
  let c0_i32_2133 : BitVec 32 := 0#32
  ![v3013.toNat, 0]

def k0_chk502 (v3013 : BitVec 32) : Prop :=
  (∀ a, (k0_off1004 v3013) a + S1x1024.size a ≤ S37888x1024.size a)
theorem k0_off1004_inb : ∀ (v3013 : BitVec 32) (k0_hw502 : k0_chk502 v3013), ∀ a, (k0_off1004 v3013) a + S1x1024.size a ≤ S37888x1024.size a := fun v3013 k0_hw502 => k0_hw502

def k0_off1005 (i : grid0.Coords) : Fin 1 → Nat :=
  let arg0 : BitVec 32 := BitVec.ofNat 32 (i 0).val
  let c1024_i32 : BitVec 32 := 1024#32
  let v0 : BitVec 32 := Scalar.muli arg0 c1024_i32
  let c502_i32 : BitVec 32 := 502#32
  let v3016 : BitVec 32 := Scalar.addi v0 c502_i32
  let c0_i32_2136 : BitVec 32 := 0#32
  let v3017 : BitVec 32 := Scalar.addi v3016 c0_i32_2136
  let v3018 : Index := Scalar.indexCast v3017
  ![v3018.toNat]
def k0_off1006 (v3019 : BitVec 32) : Fin 2 → Nat :=
  let c0_i32_2137 : BitVec 32 := 0#32
  ![v3019.toNat, 0]

def k0_chk503 (v3019 : BitVec 32) : Prop :=
  (∀ a, (k0_off1006 v3019) a + S1x1024.size a ≤ S37888x1024.size a)
theorem k0_off1006_inb : ∀ (v3019 : BitVec 32) (k0_hw503 : k0_chk503 v3019), ∀ a, (k0_off1006 v3019) a + S1x1024.size a ≤ S37888x1024.size a := fun v3019 k0_hw503 => k0_hw503

def k0_off1007 (i : grid0.Coords) : Fin 1 → Nat :=
  let arg0 : BitVec 32 := BitVec.ofNat 32 (i 0).val
  let c1024_i32 : BitVec 32 := 1024#32
  let v0 : BitVec 32 := Scalar.muli arg0 c1024_i32
  let c502_i32_2139 : BitVec 32 := 502#32
  let v3022 : BitVec 32 := Scalar.addi v0 c502_i32_2139
  let c1_i32_2140 : BitVec 32 := 1#32
  let v3023 : BitVec 32 := Scalar.addi v3022 c1_i32_2140
  let v3024 : Index := Scalar.indexCast v3023
  ![v3024.toNat]
def k0_off1008 (v3025 : BitVec 32) : Fin 2 → Nat :=
  let c0_i32_2141 : BitVec 32 := 0#32
  ![v3025.toNat, 0]

def k0_chk504 (v3025 : BitVec 32) : Prop :=
  (∀ a, (k0_off1008 v3025) a + S1x1024.size a ≤ S37888x1024.size a)
theorem k0_off1008_inb : ∀ (v3025 : BitVec 32) (k0_hw504 : k0_chk504 v3025), ∀ a, (k0_off1008 v3025) a + S1x1024.size a ≤ S37888x1024.size a := fun v3025 k0_hw504 => k0_hw504

def k0_off1009 (i : grid0.Coords) : Fin 1 → Nat :=
  let arg0 : BitVec 32 := BitVec.ofNat 32 (i 0).val
  let c1024_i32 : BitVec 32 := 1024#32
  let v0 : BitVec 32 := Scalar.muli arg0 c1024_i32
  let c504_i32 : BitVec 32 := 504#32
  let v3028 : BitVec 32 := Scalar.addi v0 c504_i32
  let c0_i32_2144 : BitVec 32 := 0#32
  let v3029 : BitVec 32 := Scalar.addi v3028 c0_i32_2144
  let v3030 : Index := Scalar.indexCast v3029
  ![v3030.toNat]
def k0_off1010 (v3031 : BitVec 32) : Fin 2 → Nat :=
  let c0_i32_2145 : BitVec 32 := 0#32
  ![v3031.toNat, 0]

def k0_chk505 (v3031 : BitVec 32) : Prop :=
  (∀ a, (k0_off1010 v3031) a + S1x1024.size a ≤ S37888x1024.size a)
theorem k0_off1010_inb : ∀ (v3031 : BitVec 32) (k0_hw505 : k0_chk505 v3031), ∀ a, (k0_off1010 v3031) a + S1x1024.size a ≤ S37888x1024.size a := fun v3031 k0_hw505 => k0_hw505

def k0_off1011 (i : grid0.Coords) : Fin 1 → Nat :=
  let arg0 : BitVec 32 := BitVec.ofNat 32 (i 0).val
  let c1024_i32 : BitVec 32 := 1024#32
  let v0 : BitVec 32 := Scalar.muli arg0 c1024_i32
  let c504_i32_2148 : BitVec 32 := 504#32
  let v3034 : BitVec 32 := Scalar.addi v0 c504_i32_2148
  let c1_i32_2149 : BitVec 32 := 1#32
  let v3035 : BitVec 32 := Scalar.addi v3034 c1_i32_2149
  let v3036 : Index := Scalar.indexCast v3035
  ![v3036.toNat]
def k0_off1012 (v3037 : BitVec 32) : Fin 2 → Nat :=
  let c0_i32_2150 : BitVec 32 := 0#32
  ![v3037.toNat, 0]

def k0_chk506 (v3037 : BitVec 32) : Prop :=
  (∀ a, (k0_off1012 v3037) a + S1x1024.size a ≤ S37888x1024.size a)
theorem k0_off1012_inb : ∀ (v3037 : BitVec 32) (k0_hw506 : k0_chk506 v3037), ∀ a, (k0_off1012 v3037) a + S1x1024.size a ≤ S37888x1024.size a := fun v3037 k0_hw506 => k0_hw506

def k0_off1013 (i : grid0.Coords) : Fin 1 → Nat :=
  let arg0 : BitVec 32 := BitVec.ofNat 32 (i 0).val
  let c1024_i32 : BitVec 32 := 1024#32
  let v0 : BitVec 32 := Scalar.muli arg0 c1024_i32
  let c506_i32 : BitVec 32 := 506#32
  let v3040 : BitVec 32 := Scalar.addi v0 c506_i32
  let c0_i32_2153 : BitVec 32 := 0#32
  let v3041 : BitVec 32 := Scalar.addi v3040 c0_i32_2153
  let v3042 : Index := Scalar.indexCast v3041
  ![v3042.toNat]
def k0_off1014 (v3043 : BitVec 32) : Fin 2 → Nat :=
  let c0_i32_2154 : BitVec 32 := 0#32
  ![v3043.toNat, 0]

def k0_chk507 (v3043 : BitVec 32) : Prop :=
  (∀ a, (k0_off1014 v3043) a + S1x1024.size a ≤ S37888x1024.size a)
theorem k0_off1014_inb : ∀ (v3043 : BitVec 32) (k0_hw507 : k0_chk507 v3043), ∀ a, (k0_off1014 v3043) a + S1x1024.size a ≤ S37888x1024.size a := fun v3043 k0_hw507 => k0_hw507

def k0_off1015 (i : grid0.Coords) : Fin 1 → Nat :=
  let arg0 : BitVec 32 := BitVec.ofNat 32 (i 0).val
  let c1024_i32 : BitVec 32 := 1024#32
  let v0 : BitVec 32 := Scalar.muli arg0 c1024_i32
  let c506_i32_2156 : BitVec 32 := 506#32
  let v3046 : BitVec 32 := Scalar.addi v0 c506_i32_2156
  let c1_i32_2157 : BitVec 32 := 1#32
  let v3047 : BitVec 32 := Scalar.addi v3046 c1_i32_2157
  let v3048 : Index := Scalar.indexCast v3047
  ![v3048.toNat]
def k0_off1016 (v3049 : BitVec 32) : Fin 2 → Nat :=
  let c0_i32_2158 : BitVec 32 := 0#32
  ![v3049.toNat, 0]

def k0_chk508 (v3049 : BitVec 32) : Prop :=
  (∀ a, (k0_off1016 v3049) a + S1x1024.size a ≤ S37888x1024.size a)
theorem k0_off1016_inb : ∀ (v3049 : BitVec 32) (k0_hw508 : k0_chk508 v3049), ∀ a, (k0_off1016 v3049) a + S1x1024.size a ≤ S37888x1024.size a := fun v3049 k0_hw508 => k0_hw508

def k0_off1017 (i : grid0.Coords) : Fin 1 → Nat :=
  let arg0 : BitVec 32 := BitVec.ofNat 32 (i 0).val
  let c1024_i32 : BitVec 32 := 1024#32
  let v0 : BitVec 32 := Scalar.muli arg0 c1024_i32
  let c508_i32 : BitVec 32 := 508#32
  let v3052 : BitVec 32 := Scalar.addi v0 c508_i32
  let c0_i32_2161 : BitVec 32 := 0#32
  let v3053 : BitVec 32 := Scalar.addi v3052 c0_i32_2161
  let v3054 : Index := Scalar.indexCast v3053
  ![v3054.toNat]
def k0_off1018 (v3055 : BitVec 32) : Fin 2 → Nat :=
  let c0_i32_2162 : BitVec 32 := 0#32
  ![v3055.toNat, 0]

def k0_chk509 (v3055 : BitVec 32) : Prop :=
  (∀ a, (k0_off1018 v3055) a + S1x1024.size a ≤ S37888x1024.size a)
theorem k0_off1018_inb : ∀ (v3055 : BitVec 32) (k0_hw509 : k0_chk509 v3055), ∀ a, (k0_off1018 v3055) a + S1x1024.size a ≤ S37888x1024.size a := fun v3055 k0_hw509 => k0_hw509

def k0_off1019 (i : grid0.Coords) : Fin 1 → Nat :=
  let arg0 : BitVec 32 := BitVec.ofNat 32 (i 0).val
  let c1024_i32 : BitVec 32 := 1024#32
  let v0 : BitVec 32 := Scalar.muli arg0 c1024_i32
  let c508_i32_2165 : BitVec 32 := 508#32
  let v3058 : BitVec 32 := Scalar.addi v0 c508_i32_2165
  let c1_i32_2166 : BitVec 32 := 1#32
  let v3059 : BitVec 32 := Scalar.addi v3058 c1_i32_2166
  let v3060 : Index := Scalar.indexCast v3059
  ![v3060.toNat]
def k0_off1020 (v3061 : BitVec 32) : Fin 2 → Nat :=
  let c0_i32_2167 : BitVec 32 := 0#32
  ![v3061.toNat, 0]

def k0_chk510 (v3061 : BitVec 32) : Prop :=
  (∀ a, (k0_off1020 v3061) a + S1x1024.size a ≤ S37888x1024.size a)
theorem k0_off1020_inb : ∀ (v3061 : BitVec 32) (k0_hw510 : k0_chk510 v3061), ∀ a, (k0_off1020 v3061) a + S1x1024.size a ≤ S37888x1024.size a := fun v3061 k0_hw510 => k0_hw510

def k0_off1021 (i : grid0.Coords) : Fin 1 → Nat :=
  let arg0 : BitVec 32 := BitVec.ofNat 32 (i 0).val
  let c1024_i32 : BitVec 32 := 1024#32
  let v0 : BitVec 32 := Scalar.muli arg0 c1024_i32
  let c510_i32 : BitVec 32 := 510#32
  let v3064 : BitVec 32 := Scalar.addi v0 c510_i32
  let c0_i32_2170 : BitVec 32 := 0#32
  let v3065 : BitVec 32 := Scalar.addi v3064 c0_i32_2170
  let v3066 : Index := Scalar.indexCast v3065
  ![v3066.toNat]
def k0_off1022 (v3067 : BitVec 32) : Fin 2 → Nat :=
  let c0_i32_2171 : BitVec 32 := 0#32
  ![v3067.toNat, 0]

def k0_chk511 (v3067 : BitVec 32) : Prop :=
  (∀ a, (k0_off1022 v3067) a + S1x1024.size a ≤ S37888x1024.size a)
theorem k0_off1022_inb : ∀ (v3067 : BitVec 32) (k0_hw511 : k0_chk511 v3067), ∀ a, (k0_off1022 v3067) a + S1x1024.size a ≤ S37888x1024.size a := fun v3067 k0_hw511 => k0_hw511

def k0_off1023 (i : grid0.Coords) : Fin 1 → Nat :=
  let arg0 : BitVec 32 := BitVec.ofNat 32 (i 0).val
  let c1024_i32 : BitVec 32 := 1024#32
  let v0 : BitVec 32 := Scalar.muli arg0 c1024_i32
  let c510_i32_2173 : BitVec 32 := 510#32
  let v3070 : BitVec 32 := Scalar.addi v0 c510_i32_2173
  let c1_i32_2174 : BitVec 32 := 1#32
  let v3071 : BitVec 32 := Scalar.addi v3070 c1_i32_2174
  let v3072 : Index := Scalar.indexCast v3071
  ![v3072.toNat]
def k0_off1024 (v3073 : BitVec 32) : Fin 2 → Nat :=
  let c0_i32_2175 : BitVec 32 := 0#32
  ![v3073.toNat, 0]

def k0_chk512 (v3073 : BitVec 32) : Prop :=
  (∀ a, (k0_off1024 v3073) a + S1x1024.size a ≤ S37888x1024.size a)
theorem k0_off1024_inb : ∀ (v3073 : BitVec 32) (k0_hw512 : k0_chk512 v3073), ∀ a, (k0_off1024 v3073) a + S1x1024.size a ≤ S37888x1024.size a := fun v3073 k0_hw512 => k0_hw512

def k0_off1025 (i : grid0.Coords) : Fin 1 → Nat :=
  let arg0 : BitVec 32 := BitVec.ofNat 32 (i 0).val
  let c1024_i32 : BitVec 32 := 1024#32
  let v0 : BitVec 32 := Scalar.muli arg0 c1024_i32
  let c512_i32 : BitVec 32 := 512#32
  let v3076 : BitVec 32 := Scalar.addi v0 c512_i32
  let c0_i32_2178 : BitVec 32 := 0#32
  let v3077 : BitVec 32 := Scalar.addi v3076 c0_i32_2178
  let v3078 : Index := Scalar.indexCast v3077
  ![v3078.toNat]
def k0_off1026 (v3079 : BitVec 32) : Fin 2 → Nat :=
  let c0_i32_2179 : BitVec 32 := 0#32
  ![v3079.toNat, 0]

def k0_chk513 (v3079 : BitVec 32) : Prop :=
  (∀ a, (k0_off1026 v3079) a + S1x1024.size a ≤ S37888x1024.size a)
theorem k0_off1026_inb : ∀ (v3079 : BitVec 32) (k0_hw513 : k0_chk513 v3079), ∀ a, (k0_off1026 v3079) a + S1x1024.size a ≤ S37888x1024.size a := fun v3079 k0_hw513 => k0_hw513

def k0_off1027 (i : grid0.Coords) : Fin 1 → Nat :=
  let arg0 : BitVec 32 := BitVec.ofNat 32 (i 0).val
  let c1024_i32 : BitVec 32 := 1024#32
  let v0 : BitVec 32 := Scalar.muli arg0 c1024_i32
  let c512_i32_2182 : BitVec 32 := 512#32
  let v3082 : BitVec 32 := Scalar.addi v0 c512_i32_2182
  let c1_i32_2183 : BitVec 32 := 1#32
  let v3083 : BitVec 32 := Scalar.addi v3082 c1_i32_2183
  let v3084 : Index := Scalar.indexCast v3083
  ![v3084.toNat]
def k0_off1028 (v3085 : BitVec 32) : Fin 2 → Nat :=
  let c0_i32_2184 : BitVec 32 := 0#32
  ![v3085.toNat, 0]

def k0_chk514 (v3085 : BitVec 32) : Prop :=
  (∀ a, (k0_off1028 v3085) a + S1x1024.size a ≤ S37888x1024.size a)
theorem k0_off1028_inb : ∀ (v3085 : BitVec 32) (k0_hw514 : k0_chk514 v3085), ∀ a, (k0_off1028 v3085) a + S1x1024.size a ≤ S37888x1024.size a := fun v3085 k0_hw514 => k0_hw514

def k0_off1029 (i : grid0.Coords) : Fin 1 → Nat :=
  let arg0 : BitVec 32 := BitVec.ofNat 32 (i 0).val
  let c1024_i32 : BitVec 32 := 1024#32
  let v0 : BitVec 32 := Scalar.muli arg0 c1024_i32
  let c514_i32 : BitVec 32 := 514#32
  let v3088 : BitVec 32 := Scalar.addi v0 c514_i32
  let c0_i32_2187 : BitVec 32 := 0#32
  let v3089 : BitVec 32 := Scalar.addi v3088 c0_i32_2187
  let v3090 : Index := Scalar.indexCast v3089
  ![v3090.toNat]
def k0_off1030 (v3091 : BitVec 32) : Fin 2 → Nat :=
  let c0_i32_2188 : BitVec 32 := 0#32
  ![v3091.toNat, 0]

def k0_chk515 (v3091 : BitVec 32) : Prop :=
  (∀ a, (k0_off1030 v3091) a + S1x1024.size a ≤ S37888x1024.size a)
theorem k0_off1030_inb : ∀ (v3091 : BitVec 32) (k0_hw515 : k0_chk515 v3091), ∀ a, (k0_off1030 v3091) a + S1x1024.size a ≤ S37888x1024.size a := fun v3091 k0_hw515 => k0_hw515

def k0_off1031 (i : grid0.Coords) : Fin 1 → Nat :=
  let arg0 : BitVec 32 := BitVec.ofNat 32 (i 0).val
  let c1024_i32 : BitVec 32 := 1024#32
  let v0 : BitVec 32 := Scalar.muli arg0 c1024_i32
  let c514_i32_2190 : BitVec 32 := 514#32
  let v3094 : BitVec 32 := Scalar.addi v0 c514_i32_2190
  let c1_i32_2191 : BitVec 32 := 1#32
  let v3095 : BitVec 32 := Scalar.addi v3094 c1_i32_2191
  let v3096 : Index := Scalar.indexCast v3095
  ![v3096.toNat]
def k0_off1032 (v3097 : BitVec 32) : Fin 2 → Nat :=
  let c0_i32_2192 : BitVec 32 := 0#32
  ![v3097.toNat, 0]

def k0_chk516 (v3097 : BitVec 32) : Prop :=
  (∀ a, (k0_off1032 v3097) a + S1x1024.size a ≤ S37888x1024.size a)
theorem k0_off1032_inb : ∀ (v3097 : BitVec 32) (k0_hw516 : k0_chk516 v3097), ∀ a, (k0_off1032 v3097) a + S1x1024.size a ≤ S37888x1024.size a := fun v3097 k0_hw516 => k0_hw516

def k0_off1033 (i : grid0.Coords) : Fin 1 → Nat :=
  let arg0 : BitVec 32 := BitVec.ofNat 32 (i 0).val
  let c1024_i32 : BitVec 32 := 1024#32
  let v0 : BitVec 32 := Scalar.muli arg0 c1024_i32
  let c516_i32 : BitVec 32 := 516#32
  let v3100 : BitVec 32 := Scalar.addi v0 c516_i32
  let c0_i32_2195 : BitVec 32 := 0#32
  let v3101 : BitVec 32 := Scalar.addi v3100 c0_i32_2195
  let v3102 : Index := Scalar.indexCast v3101
  ![v3102.toNat]
def k0_off1034 (v3103 : BitVec 32) : Fin 2 → Nat :=
  let c0_i32_2196 : BitVec 32 := 0#32
  ![v3103.toNat, 0]

def k0_chk517 (v3103 : BitVec 32) : Prop :=
  (∀ a, (k0_off1034 v3103) a + S1x1024.size a ≤ S37888x1024.size a)
theorem k0_off1034_inb : ∀ (v3103 : BitVec 32) (k0_hw517 : k0_chk517 v3103), ∀ a, (k0_off1034 v3103) a + S1x1024.size a ≤ S37888x1024.size a := fun v3103 k0_hw517 => k0_hw517

def k0_off1035 (i : grid0.Coords) : Fin 1 → Nat :=
  let arg0 : BitVec 32 := BitVec.ofNat 32 (i 0).val
  let c1024_i32 : BitVec 32 := 1024#32
  let v0 : BitVec 32 := Scalar.muli arg0 c1024_i32
  let c516_i32_2199 : BitVec 32 := 516#32
  let v3106 : BitVec 32 := Scalar.addi v0 c516_i32_2199
  let c1_i32_2200 : BitVec 32 := 1#32
  let v3107 : BitVec 32 := Scalar.addi v3106 c1_i32_2200
  let v3108 : Index := Scalar.indexCast v3107
  ![v3108.toNat]
def k0_off1036 (v3109 : BitVec 32) : Fin 2 → Nat :=
  let c0_i32_2201 : BitVec 32 := 0#32
  ![v3109.toNat, 0]

def k0_chk518 (v3109 : BitVec 32) : Prop :=
  (∀ a, (k0_off1036 v3109) a + S1x1024.size a ≤ S37888x1024.size a)
theorem k0_off1036_inb : ∀ (v3109 : BitVec 32) (k0_hw518 : k0_chk518 v3109), ∀ a, (k0_off1036 v3109) a + S1x1024.size a ≤ S37888x1024.size a := fun v3109 k0_hw518 => k0_hw518

def k0_off1037 (i : grid0.Coords) : Fin 1 → Nat :=
  let arg0 : BitVec 32 := BitVec.ofNat 32 (i 0).val
  let c1024_i32 : BitVec 32 := 1024#32
  let v0 : BitVec 32 := Scalar.muli arg0 c1024_i32
  let c518_i32 : BitVec 32 := 518#32
  let v3112 : BitVec 32 := Scalar.addi v0 c518_i32
  let c0_i32_2204 : BitVec 32 := 0#32
  let v3113 : BitVec 32 := Scalar.addi v3112 c0_i32_2204
  let v3114 : Index := Scalar.indexCast v3113
  ![v3114.toNat]
def k0_off1038 (v3115 : BitVec 32) : Fin 2 → Nat :=
  let c0_i32_2205 : BitVec 32 := 0#32
  ![v3115.toNat, 0]

def k0_chk519 (v3115 : BitVec 32) : Prop :=
  (∀ a, (k0_off1038 v3115) a + S1x1024.size a ≤ S37888x1024.size a)
theorem k0_off1038_inb : ∀ (v3115 : BitVec 32) (k0_hw519 : k0_chk519 v3115), ∀ a, (k0_off1038 v3115) a + S1x1024.size a ≤ S37888x1024.size a := fun v3115 k0_hw519 => k0_hw519

def k0_off1039 (i : grid0.Coords) : Fin 1 → Nat :=
  let arg0 : BitVec 32 := BitVec.ofNat 32 (i 0).val
  let c1024_i32 : BitVec 32 := 1024#32
  let v0 : BitVec 32 := Scalar.muli arg0 c1024_i32
  let c518_i32_2207 : BitVec 32 := 518#32
  let v3118 : BitVec 32 := Scalar.addi v0 c518_i32_2207
  let c1_i32_2208 : BitVec 32 := 1#32
  let v3119 : BitVec 32 := Scalar.addi v3118 c1_i32_2208
  let v3120 : Index := Scalar.indexCast v3119
  ![v3120.toNat]
def k0_off1040 (v3121 : BitVec 32) : Fin 2 → Nat :=
  let c0_i32_2209 : BitVec 32 := 0#32
  ![v3121.toNat, 0]

def k0_chk520 (v3121 : BitVec 32) : Prop :=
  (∀ a, (k0_off1040 v3121) a + S1x1024.size a ≤ S37888x1024.size a)
theorem k0_off1040_inb : ∀ (v3121 : BitVec 32) (k0_hw520 : k0_chk520 v3121), ∀ a, (k0_off1040 v3121) a + S1x1024.size a ≤ S37888x1024.size a := fun v3121 k0_hw520 => k0_hw520

def k0_off1041 (i : grid0.Coords) : Fin 1 → Nat :=
  let arg0 : BitVec 32 := BitVec.ofNat 32 (i 0).val
  let c1024_i32 : BitVec 32 := 1024#32
  let v0 : BitVec 32 := Scalar.muli arg0 c1024_i32
  let c520_i32 : BitVec 32 := 520#32
  let v3124 : BitVec 32 := Scalar.addi v0 c520_i32
  let c0_i32_2212 : BitVec 32 := 0#32
  let v3125 : BitVec 32 := Scalar.addi v3124 c0_i32_2212
  let v3126 : Index := Scalar.indexCast v3125
  ![v3126.toNat]
def k0_off1042 (v3127 : BitVec 32) : Fin 2 → Nat :=
  let c0_i32_2213 : BitVec 32 := 0#32
  ![v3127.toNat, 0]

def k0_chk521 (v3127 : BitVec 32) : Prop :=
  (∀ a, (k0_off1042 v3127) a + S1x1024.size a ≤ S37888x1024.size a)
theorem k0_off1042_inb : ∀ (v3127 : BitVec 32) (k0_hw521 : k0_chk521 v3127), ∀ a, (k0_off1042 v3127) a + S1x1024.size a ≤ S37888x1024.size a := fun v3127 k0_hw521 => k0_hw521

def k0_off1043 (i : grid0.Coords) : Fin 1 → Nat :=
  let arg0 : BitVec 32 := BitVec.ofNat 32 (i 0).val
  let c1024_i32 : BitVec 32 := 1024#32
  let v0 : BitVec 32 := Scalar.muli arg0 c1024_i32
  let c520_i32_2216 : BitVec 32 := 520#32
  let v3130 : BitVec 32 := Scalar.addi v0 c520_i32_2216
  let c1_i32_2217 : BitVec 32 := 1#32
  let v3131 : BitVec 32 := Scalar.addi v3130 c1_i32_2217
  let v3132 : Index := Scalar.indexCast v3131
  ![v3132.toNat]
def k0_off1044 (v3133 : BitVec 32) : Fin 2 → Nat :=
  let c0_i32_2218 : BitVec 32 := 0#32
  ![v3133.toNat, 0]

def k0_chk522 (v3133 : BitVec 32) : Prop :=
  (∀ a, (k0_off1044 v3133) a + S1x1024.size a ≤ S37888x1024.size a)
theorem k0_off1044_inb : ∀ (v3133 : BitVec 32) (k0_hw522 : k0_chk522 v3133), ∀ a, (k0_off1044 v3133) a + S1x1024.size a ≤ S37888x1024.size a := fun v3133 k0_hw522 => k0_hw522

def k0_off1045 (i : grid0.Coords) : Fin 1 → Nat :=
  let arg0 : BitVec 32 := BitVec.ofNat 32 (i 0).val
  let c1024_i32 : BitVec 32 := 1024#32
  let v0 : BitVec 32 := Scalar.muli arg0 c1024_i32
  let c522_i32 : BitVec 32 := 522#32
  let v3136 : BitVec 32 := Scalar.addi v0 c522_i32
  let c0_i32_2221 : BitVec 32 := 0#32
  let v3137 : BitVec 32 := Scalar.addi v3136 c0_i32_2221
  let v3138 : Index := Scalar.indexCast v3137
  ![v3138.toNat]
def k0_off1046 (v3139 : BitVec 32) : Fin 2 → Nat :=
  let c0_i32_2222 : BitVec 32 := 0#32
  ![v3139.toNat, 0]

def k0_chk523 (v3139 : BitVec 32) : Prop :=
  (∀ a, (k0_off1046 v3139) a + S1x1024.size a ≤ S37888x1024.size a)
theorem k0_off1046_inb : ∀ (v3139 : BitVec 32) (k0_hw523 : k0_chk523 v3139), ∀ a, (k0_off1046 v3139) a + S1x1024.size a ≤ S37888x1024.size a := fun v3139 k0_hw523 => k0_hw523

def k0_off1047 (i : grid0.Coords) : Fin 1 → Nat :=
  let arg0 : BitVec 32 := BitVec.ofNat 32 (i 0).val
  let c1024_i32 : BitVec 32 := 1024#32
  let v0 : BitVec 32 := Scalar.muli arg0 c1024_i32
  let c522_i32_2224 : BitVec 32 := 522#32
  let v3142 : BitVec 32 := Scalar.addi v0 c522_i32_2224
  let c1_i32_2225 : BitVec 32 := 1#32
  let v3143 : BitVec 32 := Scalar.addi v3142 c1_i32_2225
  let v3144 : Index := Scalar.indexCast v3143
  ![v3144.toNat]
def k0_off1048 (v3145 : BitVec 32) : Fin 2 → Nat :=
  let c0_i32_2226 : BitVec 32 := 0#32
  ![v3145.toNat, 0]

def k0_chk524 (v3145 : BitVec 32) : Prop :=
  (∀ a, (k0_off1048 v3145) a + S1x1024.size a ≤ S37888x1024.size a)
theorem k0_off1048_inb : ∀ (v3145 : BitVec 32) (k0_hw524 : k0_chk524 v3145), ∀ a, (k0_off1048 v3145) a + S1x1024.size a ≤ S37888x1024.size a := fun v3145 k0_hw524 => k0_hw524

def k0_off1049 (i : grid0.Coords) : Fin 1 → Nat :=
  let arg0 : BitVec 32 := BitVec.ofNat 32 (i 0).val
  let c1024_i32 : BitVec 32 := 1024#32
  let v0 : BitVec 32 := Scalar.muli arg0 c1024_i32
  let c524_i32 : BitVec 32 := 524#32
  let v3148 : BitVec 32 := Scalar.addi v0 c524_i32
  let c0_i32_2229 : BitVec 32 := 0#32
  let v3149 : BitVec 32 := Scalar.addi v3148 c0_i32_2229
  let v3150 : Index := Scalar.indexCast v3149
  ![v3150.toNat]
def k0_off1050 (v3151 : BitVec 32) : Fin 2 → Nat :=
  let c0_i32_2230 : BitVec 32 := 0#32
  ![v3151.toNat, 0]

def k0_chk525 (v3151 : BitVec 32) : Prop :=
  (∀ a, (k0_off1050 v3151) a + S1x1024.size a ≤ S37888x1024.size a)
theorem k0_off1050_inb : ∀ (v3151 : BitVec 32) (k0_hw525 : k0_chk525 v3151), ∀ a, (k0_off1050 v3151) a + S1x1024.size a ≤ S37888x1024.size a := fun v3151 k0_hw525 => k0_hw525

def k0_off1051 (i : grid0.Coords) : Fin 1 → Nat :=
  let arg0 : BitVec 32 := BitVec.ofNat 32 (i 0).val
  let c1024_i32 : BitVec 32 := 1024#32
  let v0 : BitVec 32 := Scalar.muli arg0 c1024_i32
  let c524_i32_2233 : BitVec 32 := 524#32
  let v3154 : BitVec 32 := Scalar.addi v0 c524_i32_2233
  let c1_i32_2234 : BitVec 32 := 1#32
  let v3155 : BitVec 32 := Scalar.addi v3154 c1_i32_2234
  let v3156 : Index := Scalar.indexCast v3155
  ![v3156.toNat]
def k0_off1052 (v3157 : BitVec 32) : Fin 2 → Nat :=
  let c0_i32_2235 : BitVec 32 := 0#32
  ![v3157.toNat, 0]

def k0_chk526 (v3157 : BitVec 32) : Prop :=
  (∀ a, (k0_off1052 v3157) a + S1x1024.size a ≤ S37888x1024.size a)
theorem k0_off1052_inb : ∀ (v3157 : BitVec 32) (k0_hw526 : k0_chk526 v3157), ∀ a, (k0_off1052 v3157) a + S1x1024.size a ≤ S37888x1024.size a := fun v3157 k0_hw526 => k0_hw526

def k0_off1053 (i : grid0.Coords) : Fin 1 → Nat :=
  let arg0 : BitVec 32 := BitVec.ofNat 32 (i 0).val
  let c1024_i32 : BitVec 32 := 1024#32
  let v0 : BitVec 32 := Scalar.muli arg0 c1024_i32
  let c526_i32 : BitVec 32 := 526#32
  let v3160 : BitVec 32 := Scalar.addi v0 c526_i32
  let c0_i32_2238 : BitVec 32 := 0#32
  let v3161 : BitVec 32 := Scalar.addi v3160 c0_i32_2238
  let v3162 : Index := Scalar.indexCast v3161
  ![v3162.toNat]
def k0_off1054 (v3163 : BitVec 32) : Fin 2 → Nat :=
  let c0_i32_2239 : BitVec 32 := 0#32
  ![v3163.toNat, 0]

def k0_chk527 (v3163 : BitVec 32) : Prop :=
  (∀ a, (k0_off1054 v3163) a + S1x1024.size a ≤ S37888x1024.size a)
theorem k0_off1054_inb : ∀ (v3163 : BitVec 32) (k0_hw527 : k0_chk527 v3163), ∀ a, (k0_off1054 v3163) a + S1x1024.size a ≤ S37888x1024.size a := fun v3163 k0_hw527 => k0_hw527

def k0_off1055 (i : grid0.Coords) : Fin 1 → Nat :=
  let arg0 : BitVec 32 := BitVec.ofNat 32 (i 0).val
  let c1024_i32 : BitVec 32 := 1024#32
  let v0 : BitVec 32 := Scalar.muli arg0 c1024_i32
  let c526_i32_2241 : BitVec 32 := 526#32
  let v3166 : BitVec 32 := Scalar.addi v0 c526_i32_2241
  let c1_i32_2242 : BitVec 32 := 1#32
  let v3167 : BitVec 32 := Scalar.addi v3166 c1_i32_2242
  let v3168 : Index := Scalar.indexCast v3167
  ![v3168.toNat]
def k0_off1056 (v3169 : BitVec 32) : Fin 2 → Nat :=
  let c0_i32_2243 : BitVec 32 := 0#32
  ![v3169.toNat, 0]

def k0_chk528 (v3169 : BitVec 32) : Prop :=
  (∀ a, (k0_off1056 v3169) a + S1x1024.size a ≤ S37888x1024.size a)
theorem k0_off1056_inb : ∀ (v3169 : BitVec 32) (k0_hw528 : k0_chk528 v3169), ∀ a, (k0_off1056 v3169) a + S1x1024.size a ≤ S37888x1024.size a := fun v3169 k0_hw528 => k0_hw528

def k0_off1057 (i : grid0.Coords) : Fin 1 → Nat :=
  let arg0 : BitVec 32 := BitVec.ofNat 32 (i 0).val
  let c1024_i32 : BitVec 32 := 1024#32
  let v0 : BitVec 32 := Scalar.muli arg0 c1024_i32
  let c528_i32 : BitVec 32 := 528#32
  let v3172 : BitVec 32 := Scalar.addi v0 c528_i32
  let c0_i32_2246 : BitVec 32 := 0#32
  let v3173 : BitVec 32 := Scalar.addi v3172 c0_i32_2246
  let v3174 : Index := Scalar.indexCast v3173
  ![v3174.toNat]
def k0_off1058 (v3175 : BitVec 32) : Fin 2 → Nat :=
  let c0_i32_2247 : BitVec 32 := 0#32
  ![v3175.toNat, 0]

def k0_chk529 (v3175 : BitVec 32) : Prop :=
  (∀ a, (k0_off1058 v3175) a + S1x1024.size a ≤ S37888x1024.size a)
theorem k0_off1058_inb : ∀ (v3175 : BitVec 32) (k0_hw529 : k0_chk529 v3175), ∀ a, (k0_off1058 v3175) a + S1x1024.size a ≤ S37888x1024.size a := fun v3175 k0_hw529 => k0_hw529

def k0_off1059 (i : grid0.Coords) : Fin 1 → Nat :=
  let arg0 : BitVec 32 := BitVec.ofNat 32 (i 0).val
  let c1024_i32 : BitVec 32 := 1024#32
  let v0 : BitVec 32 := Scalar.muli arg0 c1024_i32
  let c528_i32_2250 : BitVec 32 := 528#32
  let v3178 : BitVec 32 := Scalar.addi v0 c528_i32_2250
  let c1_i32_2251 : BitVec 32 := 1#32
  let v3179 : BitVec 32 := Scalar.addi v3178 c1_i32_2251
  let v3180 : Index := Scalar.indexCast v3179
  ![v3180.toNat]
def k0_off1060 (v3181 : BitVec 32) : Fin 2 → Nat :=
  let c0_i32_2252 : BitVec 32 := 0#32
  ![v3181.toNat, 0]

def k0_chk530 (v3181 : BitVec 32) : Prop :=
  (∀ a, (k0_off1060 v3181) a + S1x1024.size a ≤ S37888x1024.size a)
theorem k0_off1060_inb : ∀ (v3181 : BitVec 32) (k0_hw530 : k0_chk530 v3181), ∀ a, (k0_off1060 v3181) a + S1x1024.size a ≤ S37888x1024.size a := fun v3181 k0_hw530 => k0_hw530

def k0_off1061 (i : grid0.Coords) : Fin 1 → Nat :=
  let arg0 : BitVec 32 := BitVec.ofNat 32 (i 0).val
  let c1024_i32 : BitVec 32 := 1024#32
  let v0 : BitVec 32 := Scalar.muli arg0 c1024_i32
  let c530_i32 : BitVec 32 := 530#32
  let v3184 : BitVec 32 := Scalar.addi v0 c530_i32
  let c0_i32_2255 : BitVec 32 := 0#32
  let v3185 : BitVec 32 := Scalar.addi v3184 c0_i32_2255
  let v3186 : Index := Scalar.indexCast v3185
  ![v3186.toNat]
def k0_off1062 (v3187 : BitVec 32) : Fin 2 → Nat :=
  let c0_i32_2256 : BitVec 32 := 0#32
  ![v3187.toNat, 0]

def k0_chk531 (v3187 : BitVec 32) : Prop :=
  (∀ a, (k0_off1062 v3187) a + S1x1024.size a ≤ S37888x1024.size a)
theorem k0_off1062_inb : ∀ (v3187 : BitVec 32) (k0_hw531 : k0_chk531 v3187), ∀ a, (k0_off1062 v3187) a + S1x1024.size a ≤ S37888x1024.size a := fun v3187 k0_hw531 => k0_hw531

def k0_off1063 (i : grid0.Coords) : Fin 1 → Nat :=
  let arg0 : BitVec 32 := BitVec.ofNat 32 (i 0).val
  let c1024_i32 : BitVec 32 := 1024#32
  let v0 : BitVec 32 := Scalar.muli arg0 c1024_i32
  let c530_i32_2258 : BitVec 32 := 530#32
  let v3190 : BitVec 32 := Scalar.addi v0 c530_i32_2258
  let c1_i32_2259 : BitVec 32 := 1#32
  let v3191 : BitVec 32 := Scalar.addi v3190 c1_i32_2259
  let v3192 : Index := Scalar.indexCast v3191
  ![v3192.toNat]
def k0_off1064 (v3193 : BitVec 32) : Fin 2 → Nat :=
  let c0_i32_2260 : BitVec 32 := 0#32
  ![v3193.toNat, 0]

def k0_chk532 (v3193 : BitVec 32) : Prop :=
  (∀ a, (k0_off1064 v3193) a + S1x1024.size a ≤ S37888x1024.size a)
theorem k0_off1064_inb : ∀ (v3193 : BitVec 32) (k0_hw532 : k0_chk532 v3193), ∀ a, (k0_off1064 v3193) a + S1x1024.size a ≤ S37888x1024.size a := fun v3193 k0_hw532 => k0_hw532

def k0_off1065 (i : grid0.Coords) : Fin 1 → Nat :=
  let arg0 : BitVec 32 := BitVec.ofNat 32 (i 0).val
  let c1024_i32 : BitVec 32 := 1024#32
  let v0 : BitVec 32 := Scalar.muli arg0 c1024_i32
  let c532_i32 : BitVec 32 := 532#32
  let v3196 : BitVec 32 := Scalar.addi v0 c532_i32
  let c0_i32_2263 : BitVec 32 := 0#32
  let v3197 : BitVec 32 := Scalar.addi v3196 c0_i32_2263
  let v3198 : Index := Scalar.indexCast v3197
  ![v3198.toNat]
def k0_off1066 (v3199 : BitVec 32) : Fin 2 → Nat :=
  let c0_i32_2264 : BitVec 32 := 0#32
  ![v3199.toNat, 0]

def k0_chk533 (v3199 : BitVec 32) : Prop :=
  (∀ a, (k0_off1066 v3199) a + S1x1024.size a ≤ S37888x1024.size a)
theorem k0_off1066_inb : ∀ (v3199 : BitVec 32) (k0_hw533 : k0_chk533 v3199), ∀ a, (k0_off1066 v3199) a + S1x1024.size a ≤ S37888x1024.size a := fun v3199 k0_hw533 => k0_hw533

def k0_off1067 (i : grid0.Coords) : Fin 1 → Nat :=
  let arg0 : BitVec 32 := BitVec.ofNat 32 (i 0).val
  let c1024_i32 : BitVec 32 := 1024#32
  let v0 : BitVec 32 := Scalar.muli arg0 c1024_i32
  let c532_i32_2267 : BitVec 32 := 532#32
  let v3202 : BitVec 32 := Scalar.addi v0 c532_i32_2267
  let c1_i32_2268 : BitVec 32 := 1#32
  let v3203 : BitVec 32 := Scalar.addi v3202 c1_i32_2268
  let v3204 : Index := Scalar.indexCast v3203
  ![v3204.toNat]
def k0_off1068 (v3205 : BitVec 32) : Fin 2 → Nat :=
  let c0_i32_2269 : BitVec 32 := 0#32
  ![v3205.toNat, 0]

def k0_chk534 (v3205 : BitVec 32) : Prop :=
  (∀ a, (k0_off1068 v3205) a + S1x1024.size a ≤ S37888x1024.size a)
theorem k0_off1068_inb : ∀ (v3205 : BitVec 32) (k0_hw534 : k0_chk534 v3205), ∀ a, (k0_off1068 v3205) a + S1x1024.size a ≤ S37888x1024.size a := fun v3205 k0_hw534 => k0_hw534

def k0_off1069 (i : grid0.Coords) : Fin 1 → Nat :=
  let arg0 : BitVec 32 := BitVec.ofNat 32 (i 0).val
  let c1024_i32 : BitVec 32 := 1024#32
  let v0 : BitVec 32 := Scalar.muli arg0 c1024_i32
  let c534_i32 : BitVec 32 := 534#32
  let v3208 : BitVec 32 := Scalar.addi v0 c534_i32
  let c0_i32_2272 : BitVec 32 := 0#32
  let v3209 : BitVec 32 := Scalar.addi v3208 c0_i32_2272
  let v3210 : Index := Scalar.indexCast v3209
  ![v3210.toNat]
def k0_off1070 (v3211 : BitVec 32) : Fin 2 → Nat :=
  let c0_i32_2273 : BitVec 32 := 0#32
  ![v3211.toNat, 0]

def k0_chk535 (v3211 : BitVec 32) : Prop :=
  (∀ a, (k0_off1070 v3211) a + S1x1024.size a ≤ S37888x1024.size a)
theorem k0_off1070_inb : ∀ (v3211 : BitVec 32) (k0_hw535 : k0_chk535 v3211), ∀ a, (k0_off1070 v3211) a + S1x1024.size a ≤ S37888x1024.size a := fun v3211 k0_hw535 => k0_hw535

def k0_off1071 (i : grid0.Coords) : Fin 1 → Nat :=
  let arg0 : BitVec 32 := BitVec.ofNat 32 (i 0).val
  let c1024_i32 : BitVec 32 := 1024#32
  let v0 : BitVec 32 := Scalar.muli arg0 c1024_i32
  let c534_i32_2275 : BitVec 32 := 534#32
  let v3214 : BitVec 32 := Scalar.addi v0 c534_i32_2275
  let c1_i32_2276 : BitVec 32 := 1#32
  let v3215 : BitVec 32 := Scalar.addi v3214 c1_i32_2276
  let v3216 : Index := Scalar.indexCast v3215
  ![v3216.toNat]
def k0_off1072 (v3217 : BitVec 32) : Fin 2 → Nat :=
  let c0_i32_2277 : BitVec 32 := 0#32
  ![v3217.toNat, 0]

def k0_chk536 (v3217 : BitVec 32) : Prop :=
  (∀ a, (k0_off1072 v3217) a + S1x1024.size a ≤ S37888x1024.size a)
theorem k0_off1072_inb : ∀ (v3217 : BitVec 32) (k0_hw536 : k0_chk536 v3217), ∀ a, (k0_off1072 v3217) a + S1x1024.size a ≤ S37888x1024.size a := fun v3217 k0_hw536 => k0_hw536

def k0_off1073 (i : grid0.Coords) : Fin 1 → Nat :=
  let arg0 : BitVec 32 := BitVec.ofNat 32 (i 0).val
  let c1024_i32 : BitVec 32 := 1024#32
  let v0 : BitVec 32 := Scalar.muli arg0 c1024_i32
  let c536_i32 : BitVec 32 := 536#32
  let v3220 : BitVec 32 := Scalar.addi v0 c536_i32
  let c0_i32_2280 : BitVec 32 := 0#32
  let v3221 : BitVec 32 := Scalar.addi v3220 c0_i32_2280
  let v3222 : Index := Scalar.indexCast v3221
  ![v3222.toNat]
def k0_off1074 (v3223 : BitVec 32) : Fin 2 → Nat :=
  let c0_i32_2281 : BitVec 32 := 0#32
  ![v3223.toNat, 0]

def k0_chk537 (v3223 : BitVec 32) : Prop :=
  (∀ a, (k0_off1074 v3223) a + S1x1024.size a ≤ S37888x1024.size a)
theorem k0_off1074_inb : ∀ (v3223 : BitVec 32) (k0_hw537 : k0_chk537 v3223), ∀ a, (k0_off1074 v3223) a + S1x1024.size a ≤ S37888x1024.size a := fun v3223 k0_hw537 => k0_hw537

def k0_off1075 (i : grid0.Coords) : Fin 1 → Nat :=
  let arg0 : BitVec 32 := BitVec.ofNat 32 (i 0).val
  let c1024_i32 : BitVec 32 := 1024#32
  let v0 : BitVec 32 := Scalar.muli arg0 c1024_i32
  let c536_i32_2284 : BitVec 32 := 536#32
  let v3226 : BitVec 32 := Scalar.addi v0 c536_i32_2284
  let c1_i32_2285 : BitVec 32 := 1#32
  let v3227 : BitVec 32 := Scalar.addi v3226 c1_i32_2285
  let v3228 : Index := Scalar.indexCast v3227
  ![v3228.toNat]
def k0_off1076 (v3229 : BitVec 32) : Fin 2 → Nat :=
  let c0_i32_2286 : BitVec 32 := 0#32
  ![v3229.toNat, 0]

def k0_chk538 (v3229 : BitVec 32) : Prop :=
  (∀ a, (k0_off1076 v3229) a + S1x1024.size a ≤ S37888x1024.size a)
theorem k0_off1076_inb : ∀ (v3229 : BitVec 32) (k0_hw538 : k0_chk538 v3229), ∀ a, (k0_off1076 v3229) a + S1x1024.size a ≤ S37888x1024.size a := fun v3229 k0_hw538 => k0_hw538

def k0_off1077 (i : grid0.Coords) : Fin 1 → Nat :=
  let arg0 : BitVec 32 := BitVec.ofNat 32 (i 0).val
  let c1024_i32 : BitVec 32 := 1024#32
  let v0 : BitVec 32 := Scalar.muli arg0 c1024_i32
  let c538_i32 : BitVec 32 := 538#32
  let v3232 : BitVec 32 := Scalar.addi v0 c538_i32
  let c0_i32_2289 : BitVec 32 := 0#32
  let v3233 : BitVec 32 := Scalar.addi v3232 c0_i32_2289
  let v3234 : Index := Scalar.indexCast v3233
  ![v3234.toNat]
def k0_off1078 (v3235 : BitVec 32) : Fin 2 → Nat :=
  let c0_i32_2290 : BitVec 32 := 0#32
  ![v3235.toNat, 0]

def k0_chk539 (v3235 : BitVec 32) : Prop :=
  (∀ a, (k0_off1078 v3235) a + S1x1024.size a ≤ S37888x1024.size a)
theorem k0_off1078_inb : ∀ (v3235 : BitVec 32) (k0_hw539 : k0_chk539 v3235), ∀ a, (k0_off1078 v3235) a + S1x1024.size a ≤ S37888x1024.size a := fun v3235 k0_hw539 => k0_hw539

def k0_off1079 (i : grid0.Coords) : Fin 1 → Nat :=
  let arg0 : BitVec 32 := BitVec.ofNat 32 (i 0).val
  let c1024_i32 : BitVec 32 := 1024#32
  let v0 : BitVec 32 := Scalar.muli arg0 c1024_i32
  let c538_i32_2292 : BitVec 32 := 538#32
  let v3238 : BitVec 32 := Scalar.addi v0 c538_i32_2292
  let c1_i32_2293 : BitVec 32 := 1#32
  let v3239 : BitVec 32 := Scalar.addi v3238 c1_i32_2293
  let v3240 : Index := Scalar.indexCast v3239
  ![v3240.toNat]
def k0_off1080 (v3241 : BitVec 32) : Fin 2 → Nat :=
  let c0_i32_2294 : BitVec 32 := 0#32
  ![v3241.toNat, 0]

def k0_chk540 (v3241 : BitVec 32) : Prop :=
  (∀ a, (k0_off1080 v3241) a + S1x1024.size a ≤ S37888x1024.size a)
theorem k0_off1080_inb : ∀ (v3241 : BitVec 32) (k0_hw540 : k0_chk540 v3241), ∀ a, (k0_off1080 v3241) a + S1x1024.size a ≤ S37888x1024.size a := fun v3241 k0_hw540 => k0_hw540

def k0_off1081 (i : grid0.Coords) : Fin 1 → Nat :=
  let arg0 : BitVec 32 := BitVec.ofNat 32 (i 0).val
  let c1024_i32 : BitVec 32 := 1024#32
  let v0 : BitVec 32 := Scalar.muli arg0 c1024_i32
  let c540_i32 : BitVec 32 := 540#32
  let v3244 : BitVec 32 := Scalar.addi v0 c540_i32
  let c0_i32_2297 : BitVec 32 := 0#32
  let v3245 : BitVec 32 := Scalar.addi v3244 c0_i32_2297
  let v3246 : Index := Scalar.indexCast v3245
  ![v3246.toNat]
def k0_off1082 (v3247 : BitVec 32) : Fin 2 → Nat :=
  let c0_i32_2298 : BitVec 32 := 0#32
  ![v3247.toNat, 0]

def k0_chk541 (v3247 : BitVec 32) : Prop :=
  (∀ a, (k0_off1082 v3247) a + S1x1024.size a ≤ S37888x1024.size a)
theorem k0_off1082_inb : ∀ (v3247 : BitVec 32) (k0_hw541 : k0_chk541 v3247), ∀ a, (k0_off1082 v3247) a + S1x1024.size a ≤ S37888x1024.size a := fun v3247 k0_hw541 => k0_hw541

def k0_off1083 (i : grid0.Coords) : Fin 1 → Nat :=
  let arg0 : BitVec 32 := BitVec.ofNat 32 (i 0).val
  let c1024_i32 : BitVec 32 := 1024#32
  let v0 : BitVec 32 := Scalar.muli arg0 c1024_i32
  let c540_i32_2301 : BitVec 32 := 540#32
  let v3250 : BitVec 32 := Scalar.addi v0 c540_i32_2301
  let c1_i32_2302 : BitVec 32 := 1#32
  let v3251 : BitVec 32 := Scalar.addi v3250 c1_i32_2302
  let v3252 : Index := Scalar.indexCast v3251
  ![v3252.toNat]
def k0_off1084 (v3253 : BitVec 32) : Fin 2 → Nat :=
  let c0_i32_2303 : BitVec 32 := 0#32
  ![v3253.toNat, 0]

def k0_chk542 (v3253 : BitVec 32) : Prop :=
  (∀ a, (k0_off1084 v3253) a + S1x1024.size a ≤ S37888x1024.size a)
theorem k0_off1084_inb : ∀ (v3253 : BitVec 32) (k0_hw542 : k0_chk542 v3253), ∀ a, (k0_off1084 v3253) a + S1x1024.size a ≤ S37888x1024.size a := fun v3253 k0_hw542 => k0_hw542

def k0_off1085 (i : grid0.Coords) : Fin 1 → Nat :=
  let arg0 : BitVec 32 := BitVec.ofNat 32 (i 0).val
  let c1024_i32 : BitVec 32 := 1024#32
  let v0 : BitVec 32 := Scalar.muli arg0 c1024_i32
  let c542_i32 : BitVec 32 := 542#32
  let v3256 : BitVec 32 := Scalar.addi v0 c542_i32
  let c0_i32_2306 : BitVec 32 := 0#32
  let v3257 : BitVec 32 := Scalar.addi v3256 c0_i32_2306
  let v3258 : Index := Scalar.indexCast v3257
  ![v3258.toNat]
def k0_off1086 (v3259 : BitVec 32) : Fin 2 → Nat :=
  let c0_i32_2307 : BitVec 32 := 0#32
  ![v3259.toNat, 0]

def k0_chk543 (v3259 : BitVec 32) : Prop :=
  (∀ a, (k0_off1086 v3259) a + S1x1024.size a ≤ S37888x1024.size a)
theorem k0_off1086_inb : ∀ (v3259 : BitVec 32) (k0_hw543 : k0_chk543 v3259), ∀ a, (k0_off1086 v3259) a + S1x1024.size a ≤ S37888x1024.size a := fun v3259 k0_hw543 => k0_hw543

def k0_off1087 (i : grid0.Coords) : Fin 1 → Nat :=
  let arg0 : BitVec 32 := BitVec.ofNat 32 (i 0).val
  let c1024_i32 : BitVec 32 := 1024#32
  let v0 : BitVec 32 := Scalar.muli arg0 c1024_i32
  let c542_i32_2309 : BitVec 32 := 542#32
  let v3262 : BitVec 32 := Scalar.addi v0 c542_i32_2309
  let c1_i32_2310 : BitVec 32 := 1#32
  let v3263 : BitVec 32 := Scalar.addi v3262 c1_i32_2310
  let v3264 : Index := Scalar.indexCast v3263
  ![v3264.toNat]
def k0_off1088 (v3265 : BitVec 32) : Fin 2 → Nat :=
  let c0_i32_2311 : BitVec 32 := 0#32
  ![v3265.toNat, 0]

def k0_chk544 (v3265 : BitVec 32) : Prop :=
  (∀ a, (k0_off1088 v3265) a + S1x1024.size a ≤ S37888x1024.size a)
theorem k0_off1088_inb : ∀ (v3265 : BitVec 32) (k0_hw544 : k0_chk544 v3265), ∀ a, (k0_off1088 v3265) a + S1x1024.size a ≤ S37888x1024.size a := fun v3265 k0_hw544 => k0_hw544

def k0_off1089 (i : grid0.Coords) : Fin 1 → Nat :=
  let arg0 : BitVec 32 := BitVec.ofNat 32 (i 0).val
  let c1024_i32 : BitVec 32 := 1024#32
  let v0 : BitVec 32 := Scalar.muli arg0 c1024_i32
  let c544_i32 : BitVec 32 := 544#32
  let v3268 : BitVec 32 := Scalar.addi v0 c544_i32
  let c0_i32_2314 : BitVec 32 := 0#32
  let v3269 : BitVec 32 := Scalar.addi v3268 c0_i32_2314
  let v3270 : Index := Scalar.indexCast v3269
  ![v3270.toNat]
def k0_off1090 (v3271 : BitVec 32) : Fin 2 → Nat :=
  let c0_i32_2315 : BitVec 32 := 0#32
  ![v3271.toNat, 0]

def k0_chk545 (v3271 : BitVec 32) : Prop :=
  (∀ a, (k0_off1090 v3271) a + S1x1024.size a ≤ S37888x1024.size a)
theorem k0_off1090_inb : ∀ (v3271 : BitVec 32) (k0_hw545 : k0_chk545 v3271), ∀ a, (k0_off1090 v3271) a + S1x1024.size a ≤ S37888x1024.size a := fun v3271 k0_hw545 => k0_hw545

def k0_off1091 (i : grid0.Coords) : Fin 1 → Nat :=
  let arg0 : BitVec 32 := BitVec.ofNat 32 (i 0).val
  let c1024_i32 : BitVec 32 := 1024#32
  let v0 : BitVec 32 := Scalar.muli arg0 c1024_i32
  let c544_i32_2318 : BitVec 32 := 544#32
  let v3274 : BitVec 32 := Scalar.addi v0 c544_i32_2318
  let c1_i32_2319 : BitVec 32 := 1#32
  let v3275 : BitVec 32 := Scalar.addi v3274 c1_i32_2319
  let v3276 : Index := Scalar.indexCast v3275
  ![v3276.toNat]
def k0_off1092 (v3277 : BitVec 32) : Fin 2 → Nat :=
  let c0_i32_2320 : BitVec 32 := 0#32
  ![v3277.toNat, 0]

def k0_chk546 (v3277 : BitVec 32) : Prop :=
  (∀ a, (k0_off1092 v3277) a + S1x1024.size a ≤ S37888x1024.size a)
theorem k0_off1092_inb : ∀ (v3277 : BitVec 32) (k0_hw546 : k0_chk546 v3277), ∀ a, (k0_off1092 v3277) a + S1x1024.size a ≤ S37888x1024.size a := fun v3277 k0_hw546 => k0_hw546

def k0_off1093 (i : grid0.Coords) : Fin 1 → Nat :=
  let arg0 : BitVec 32 := BitVec.ofNat 32 (i 0).val
  let c1024_i32 : BitVec 32 := 1024#32
  let v0 : BitVec 32 := Scalar.muli arg0 c1024_i32
  let c546_i32 : BitVec 32 := 546#32
  let v3280 : BitVec 32 := Scalar.addi v0 c546_i32
  let c0_i32_2323 : BitVec 32 := 0#32
  let v3281 : BitVec 32 := Scalar.addi v3280 c0_i32_2323
  let v3282 : Index := Scalar.indexCast v3281
  ![v3282.toNat]
def k0_off1094 (v3283 : BitVec 32) : Fin 2 → Nat :=
  let c0_i32_2324 : BitVec 32 := 0#32
  ![v3283.toNat, 0]

def k0_chk547 (v3283 : BitVec 32) : Prop :=
  (∀ a, (k0_off1094 v3283) a + S1x1024.size a ≤ S37888x1024.size a)
theorem k0_off1094_inb : ∀ (v3283 : BitVec 32) (k0_hw547 : k0_chk547 v3283), ∀ a, (k0_off1094 v3283) a + S1x1024.size a ≤ S37888x1024.size a := fun v3283 k0_hw547 => k0_hw547

def k0_off1095 (i : grid0.Coords) : Fin 1 → Nat :=
  let arg0 : BitVec 32 := BitVec.ofNat 32 (i 0).val
  let c1024_i32 : BitVec 32 := 1024#32
  let v0 : BitVec 32 := Scalar.muli arg0 c1024_i32
  let c546_i32_2326 : BitVec 32 := 546#32
  let v3286 : BitVec 32 := Scalar.addi v0 c546_i32_2326
  let c1_i32_2327 : BitVec 32 := 1#32
  let v3287 : BitVec 32 := Scalar.addi v3286 c1_i32_2327
  let v3288 : Index := Scalar.indexCast v3287
  ![v3288.toNat]
def k0_off1096 (v3289 : BitVec 32) : Fin 2 → Nat :=
  let c0_i32_2328 : BitVec 32 := 0#32
  ![v3289.toNat, 0]

def k0_chk548 (v3289 : BitVec 32) : Prop :=
  (∀ a, (k0_off1096 v3289) a + S1x1024.size a ≤ S37888x1024.size a)
theorem k0_off1096_inb : ∀ (v3289 : BitVec 32) (k0_hw548 : k0_chk548 v3289), ∀ a, (k0_off1096 v3289) a + S1x1024.size a ≤ S37888x1024.size a := fun v3289 k0_hw548 => k0_hw548

def k0_off1097 (i : grid0.Coords) : Fin 1 → Nat :=
  let arg0 : BitVec 32 := BitVec.ofNat 32 (i 0).val
  let c1024_i32 : BitVec 32 := 1024#32
  let v0 : BitVec 32 := Scalar.muli arg0 c1024_i32
  let c548_i32 : BitVec 32 := 548#32
  let v3292 : BitVec 32 := Scalar.addi v0 c548_i32
  let c0_i32_2331 : BitVec 32 := 0#32
  let v3293 : BitVec 32 := Scalar.addi v3292 c0_i32_2331
  let v3294 : Index := Scalar.indexCast v3293
  ![v3294.toNat]
def k0_off1098 (v3295 : BitVec 32) : Fin 2 → Nat :=
  let c0_i32_2332 : BitVec 32 := 0#32
  ![v3295.toNat, 0]

def k0_chk549 (v3295 : BitVec 32) : Prop :=
  (∀ a, (k0_off1098 v3295) a + S1x1024.size a ≤ S37888x1024.size a)
theorem k0_off1098_inb : ∀ (v3295 : BitVec 32) (k0_hw549 : k0_chk549 v3295), ∀ a, (k0_off1098 v3295) a + S1x1024.size a ≤ S37888x1024.size a := fun v3295 k0_hw549 => k0_hw549

def k0_off1099 (i : grid0.Coords) : Fin 1 → Nat :=
  let arg0 : BitVec 32 := BitVec.ofNat 32 (i 0).val
  let c1024_i32 : BitVec 32 := 1024#32
  let v0 : BitVec 32 := Scalar.muli arg0 c1024_i32
  let c548_i32_2335 : BitVec 32 := 548#32
  let v3298 : BitVec 32 := Scalar.addi v0 c548_i32_2335
  let c1_i32_2336 : BitVec 32 := 1#32
  let v3299 : BitVec 32 := Scalar.addi v3298 c1_i32_2336
  let v3300 : Index := Scalar.indexCast v3299
  ![v3300.toNat]
def k0_off1100 (v3301 : BitVec 32) : Fin 2 → Nat :=
  let c0_i32_2337 : BitVec 32 := 0#32
  ![v3301.toNat, 0]

def k0_chk550 (v3301 : BitVec 32) : Prop :=
  (∀ a, (k0_off1100 v3301) a + S1x1024.size a ≤ S37888x1024.size a)
theorem k0_off1100_inb : ∀ (v3301 : BitVec 32) (k0_hw550 : k0_chk550 v3301), ∀ a, (k0_off1100 v3301) a + S1x1024.size a ≤ S37888x1024.size a := fun v3301 k0_hw550 => k0_hw550

def k0_off1101 (i : grid0.Coords) : Fin 1 → Nat :=
  let arg0 : BitVec 32 := BitVec.ofNat 32 (i 0).val
  let c1024_i32 : BitVec 32 := 1024#32
  let v0 : BitVec 32 := Scalar.muli arg0 c1024_i32
  let c550_i32 : BitVec 32 := 550#32
  let v3304 : BitVec 32 := Scalar.addi v0 c550_i32
  let c0_i32_2340 : BitVec 32 := 0#32
  let v3305 : BitVec 32 := Scalar.addi v3304 c0_i32_2340
  let v3306 : Index := Scalar.indexCast v3305
  ![v3306.toNat]
def k0_off1102 (v3307 : BitVec 32) : Fin 2 → Nat :=
  let c0_i32_2341 : BitVec 32 := 0#32
  ![v3307.toNat, 0]

def k0_chk551 (v3307 : BitVec 32) : Prop :=
  (∀ a, (k0_off1102 v3307) a + S1x1024.size a ≤ S37888x1024.size a)
theorem k0_off1102_inb : ∀ (v3307 : BitVec 32) (k0_hw551 : k0_chk551 v3307), ∀ a, (k0_off1102 v3307) a + S1x1024.size a ≤ S37888x1024.size a := fun v3307 k0_hw551 => k0_hw551

def k0_off1103 (i : grid0.Coords) : Fin 1 → Nat :=
  let arg0 : BitVec 32 := BitVec.ofNat 32 (i 0).val
  let c1024_i32 : BitVec 32 := 1024#32
  let v0 : BitVec 32 := Scalar.muli arg0 c1024_i32
  let c550_i32_2343 : BitVec 32 := 550#32
  let v3310 : BitVec 32 := Scalar.addi v0 c550_i32_2343
  let c1_i32_2344 : BitVec 32 := 1#32
  let v3311 : BitVec 32 := Scalar.addi v3310 c1_i32_2344
  let v3312 : Index := Scalar.indexCast v3311
  ![v3312.toNat]
def k0_off1104 (v3313 : BitVec 32) : Fin 2 → Nat :=
  let c0_i32_2345 : BitVec 32 := 0#32
  ![v3313.toNat, 0]

def k0_chk552 (v3313 : BitVec 32) : Prop :=
  (∀ a, (k0_off1104 v3313) a + S1x1024.size a ≤ S37888x1024.size a)
theorem k0_off1104_inb : ∀ (v3313 : BitVec 32) (k0_hw552 : k0_chk552 v3313), ∀ a, (k0_off1104 v3313) a + S1x1024.size a ≤ S37888x1024.size a := fun v3313 k0_hw552 => k0_hw552

def k0_off1105 (i : grid0.Coords) : Fin 1 → Nat :=
  let arg0 : BitVec 32 := BitVec.ofNat 32 (i 0).val
  let c1024_i32 : BitVec 32 := 1024#32
  let v0 : BitVec 32 := Scalar.muli arg0 c1024_i32
  let c552_i32 : BitVec 32 := 552#32
  let v3316 : BitVec 32 := Scalar.addi v0 c552_i32
  let c0_i32_2348 : BitVec 32 := 0#32
  let v3317 : BitVec 32 := Scalar.addi v3316 c0_i32_2348
  let v3318 : Index := Scalar.indexCast v3317
  ![v3318.toNat]
def k0_off1106 (v3319 : BitVec 32) : Fin 2 → Nat :=
  let c0_i32_2349 : BitVec 32 := 0#32
  ![v3319.toNat, 0]

def k0_chk553 (v3319 : BitVec 32) : Prop :=
  (∀ a, (k0_off1106 v3319) a + S1x1024.size a ≤ S37888x1024.size a)
theorem k0_off1106_inb : ∀ (v3319 : BitVec 32) (k0_hw553 : k0_chk553 v3319), ∀ a, (k0_off1106 v3319) a + S1x1024.size a ≤ S37888x1024.size a := fun v3319 k0_hw553 => k0_hw553

def k0_off1107 (i : grid0.Coords) : Fin 1 → Nat :=
  let arg0 : BitVec 32 := BitVec.ofNat 32 (i 0).val
  let c1024_i32 : BitVec 32 := 1024#32
  let v0 : BitVec 32 := Scalar.muli arg0 c1024_i32
  let c552_i32_2352 : BitVec 32 := 552#32
  let v3322 : BitVec 32 := Scalar.addi v0 c552_i32_2352
  let c1_i32_2353 : BitVec 32 := 1#32
  let v3323 : BitVec 32 := Scalar.addi v3322 c1_i32_2353
  let v3324 : Index := Scalar.indexCast v3323
  ![v3324.toNat]
def k0_off1108 (v3325 : BitVec 32) : Fin 2 → Nat :=
  let c0_i32_2354 : BitVec 32 := 0#32
  ![v3325.toNat, 0]

def k0_chk554 (v3325 : BitVec 32) : Prop :=
  (∀ a, (k0_off1108 v3325) a + S1x1024.size a ≤ S37888x1024.size a)
theorem k0_off1108_inb : ∀ (v3325 : BitVec 32) (k0_hw554 : k0_chk554 v3325), ∀ a, (k0_off1108 v3325) a + S1x1024.size a ≤ S37888x1024.size a := fun v3325 k0_hw554 => k0_hw554

def k0_off1109 (i : grid0.Coords) : Fin 1 → Nat :=
  let arg0 : BitVec 32 := BitVec.ofNat 32 (i 0).val
  let c1024_i32 : BitVec 32 := 1024#32
  let v0 : BitVec 32 := Scalar.muli arg0 c1024_i32
  let c554_i32 : BitVec 32 := 554#32
  let v3328 : BitVec 32 := Scalar.addi v0 c554_i32
  let c0_i32_2357 : BitVec 32 := 0#32
  let v3329 : BitVec 32 := Scalar.addi v3328 c0_i32_2357
  let v3330 : Index := Scalar.indexCast v3329
  ![v3330.toNat]
def k0_off1110 (v3331 : BitVec 32) : Fin 2 → Nat :=
  let c0_i32_2358 : BitVec 32 := 0#32
  ![v3331.toNat, 0]

def k0_chk555 (v3331 : BitVec 32) : Prop :=
  (∀ a, (k0_off1110 v3331) a + S1x1024.size a ≤ S37888x1024.size a)
theorem k0_off1110_inb : ∀ (v3331 : BitVec 32) (k0_hw555 : k0_chk555 v3331), ∀ a, (k0_off1110 v3331) a + S1x1024.size a ≤ S37888x1024.size a := fun v3331 k0_hw555 => k0_hw555

def k0_off1111 (i : grid0.Coords) : Fin 1 → Nat :=
  let arg0 : BitVec 32 := BitVec.ofNat 32 (i 0).val
  let c1024_i32 : BitVec 32 := 1024#32
  let v0 : BitVec 32 := Scalar.muli arg0 c1024_i32
  let c554_i32_2360 : BitVec 32 := 554#32
  let v3334 : BitVec 32 := Scalar.addi v0 c554_i32_2360
  let c1_i32_2361 : BitVec 32 := 1#32
  let v3335 : BitVec 32 := Scalar.addi v3334 c1_i32_2361
  let v3336 : Index := Scalar.indexCast v3335
  ![v3336.toNat]
def k0_off1112 (v3337 : BitVec 32) : Fin 2 → Nat :=
  let c0_i32_2362 : BitVec 32 := 0#32
  ![v3337.toNat, 0]

def k0_chk556 (v3337 : BitVec 32) : Prop :=
  (∀ a, (k0_off1112 v3337) a + S1x1024.size a ≤ S37888x1024.size a)
theorem k0_off1112_inb : ∀ (v3337 : BitVec 32) (k0_hw556 : k0_chk556 v3337), ∀ a, (k0_off1112 v3337) a + S1x1024.size a ≤ S37888x1024.size a := fun v3337 k0_hw556 => k0_hw556

def k0_off1113 (i : grid0.Coords) : Fin 1 → Nat :=
  let arg0 : BitVec 32 := BitVec.ofNat 32 (i 0).val
  let c1024_i32 : BitVec 32 := 1024#32
  let v0 : BitVec 32 := Scalar.muli arg0 c1024_i32
  let c556_i32 : BitVec 32 := 556#32
  let v3340 : BitVec 32 := Scalar.addi v0 c556_i32
  let c0_i32_2365 : BitVec 32 := 0#32
  let v3341 : BitVec 32 := Scalar.addi v3340 c0_i32_2365
  let v3342 : Index := Scalar.indexCast v3341
  ![v3342.toNat]
def k0_off1114 (v3343 : BitVec 32) : Fin 2 → Nat :=
  let c0_i32_2366 : BitVec 32 := 0#32
  ![v3343.toNat, 0]

def k0_chk557 (v3343 : BitVec 32) : Prop :=
  (∀ a, (k0_off1114 v3343) a + S1x1024.size a ≤ S37888x1024.size a)
theorem k0_off1114_inb : ∀ (v3343 : BitVec 32) (k0_hw557 : k0_chk557 v3343), ∀ a, (k0_off1114 v3343) a + S1x1024.size a ≤ S37888x1024.size a := fun v3343 k0_hw557 => k0_hw557

def k0_off1115 (i : grid0.Coords) : Fin 1 → Nat :=
  let arg0 : BitVec 32 := BitVec.ofNat 32 (i 0).val
  let c1024_i32 : BitVec 32 := 1024#32
  let v0 : BitVec 32 := Scalar.muli arg0 c1024_i32
  let c556_i32_2369 : BitVec 32 := 556#32
  let v3346 : BitVec 32 := Scalar.addi v0 c556_i32_2369
  let c1_i32_2370 : BitVec 32 := 1#32
  let v3347 : BitVec 32 := Scalar.addi v3346 c1_i32_2370
  let v3348 : Index := Scalar.indexCast v3347
  ![v3348.toNat]
def k0_off1116 (v3349 : BitVec 32) : Fin 2 → Nat :=
  let c0_i32_2371 : BitVec 32 := 0#32
  ![v3349.toNat, 0]

def k0_chk558 (v3349 : BitVec 32) : Prop :=
  (∀ a, (k0_off1116 v3349) a + S1x1024.size a ≤ S37888x1024.size a)
theorem k0_off1116_inb : ∀ (v3349 : BitVec 32) (k0_hw558 : k0_chk558 v3349), ∀ a, (k0_off1116 v3349) a + S1x1024.size a ≤ S37888x1024.size a := fun v3349 k0_hw558 => k0_hw558

def k0_off1117 (i : grid0.Coords) : Fin 1 → Nat :=
  let arg0 : BitVec 32 := BitVec.ofNat 32 (i 0).val
  let c1024_i32 : BitVec 32 := 1024#32
  let v0 : BitVec 32 := Scalar.muli arg0 c1024_i32
  let c558_i32 : BitVec 32 := 558#32
  let v3352 : BitVec 32 := Scalar.addi v0 c558_i32
  let c0_i32_2374 : BitVec 32 := 0#32
  let v3353 : BitVec 32 := Scalar.addi v3352 c0_i32_2374
  let v3354 : Index := Scalar.indexCast v3353
  ![v3354.toNat]
def k0_off1118 (v3355 : BitVec 32) : Fin 2 → Nat :=
  let c0_i32_2375 : BitVec 32 := 0#32
  ![v3355.toNat, 0]

def k0_chk559 (v3355 : BitVec 32) : Prop :=
  (∀ a, (k0_off1118 v3355) a + S1x1024.size a ≤ S37888x1024.size a)
theorem k0_off1118_inb : ∀ (v3355 : BitVec 32) (k0_hw559 : k0_chk559 v3355), ∀ a, (k0_off1118 v3355) a + S1x1024.size a ≤ S37888x1024.size a := fun v3355 k0_hw559 => k0_hw559

def k0_off1119 (i : grid0.Coords) : Fin 1 → Nat :=
  let arg0 : BitVec 32 := BitVec.ofNat 32 (i 0).val
  let c1024_i32 : BitVec 32 := 1024#32
  let v0 : BitVec 32 := Scalar.muli arg0 c1024_i32
  let c558_i32_2377 : BitVec 32 := 558#32
  let v3358 : BitVec 32 := Scalar.addi v0 c558_i32_2377
  let c1_i32_2378 : BitVec 32 := 1#32
  let v3359 : BitVec 32 := Scalar.addi v3358 c1_i32_2378
  let v3360 : Index := Scalar.indexCast v3359
  ![v3360.toNat]
def k0_off1120 (v3361 : BitVec 32) : Fin 2 → Nat :=
  let c0_i32_2379 : BitVec 32 := 0#32
  ![v3361.toNat, 0]

def k0_chk560 (v3361 : BitVec 32) : Prop :=
  (∀ a, (k0_off1120 v3361) a + S1x1024.size a ≤ S37888x1024.size a)
theorem k0_off1120_inb : ∀ (v3361 : BitVec 32) (k0_hw560 : k0_chk560 v3361), ∀ a, (k0_off1120 v3361) a + S1x1024.size a ≤ S37888x1024.size a := fun v3361 k0_hw560 => k0_hw560

def k0_off1121 (i : grid0.Coords) : Fin 1 → Nat :=
  let arg0 : BitVec 32 := BitVec.ofNat 32 (i 0).val
  let c1024_i32 : BitVec 32 := 1024#32
  let v0 : BitVec 32 := Scalar.muli arg0 c1024_i32
  let c560_i32 : BitVec 32 := 560#32
  let v3364 : BitVec 32 := Scalar.addi v0 c560_i32
  let c0_i32_2382 : BitVec 32 := 0#32
  let v3365 : BitVec 32 := Scalar.addi v3364 c0_i32_2382
  let v3366 : Index := Scalar.indexCast v3365
  ![v3366.toNat]
def k0_off1122 (v3367 : BitVec 32) : Fin 2 → Nat :=
  let c0_i32_2383 : BitVec 32 := 0#32
  ![v3367.toNat, 0]

def k0_chk561 (v3367 : BitVec 32) : Prop :=
  (∀ a, (k0_off1122 v3367) a + S1x1024.size a ≤ S37888x1024.size a)
theorem k0_off1122_inb : ∀ (v3367 : BitVec 32) (k0_hw561 : k0_chk561 v3367), ∀ a, (k0_off1122 v3367) a + S1x1024.size a ≤ S37888x1024.size a := fun v3367 k0_hw561 => k0_hw561

def k0_off1123 (i : grid0.Coords) : Fin 1 → Nat :=
  let arg0 : BitVec 32 := BitVec.ofNat 32 (i 0).val
  let c1024_i32 : BitVec 32 := 1024#32
  let v0 : BitVec 32 := Scalar.muli arg0 c1024_i32
  let c560_i32_2386 : BitVec 32 := 560#32
  let v3370 : BitVec 32 := Scalar.addi v0 c560_i32_2386
  let c1_i32_2387 : BitVec 32 := 1#32
  let v3371 : BitVec 32 := Scalar.addi v3370 c1_i32_2387
  let v3372 : Index := Scalar.indexCast v3371
  ![v3372.toNat]
def k0_off1124 (v3373 : BitVec 32) : Fin 2 → Nat :=
  let c0_i32_2388 : BitVec 32 := 0#32
  ![v3373.toNat, 0]

def k0_chk562 (v3373 : BitVec 32) : Prop :=
  (∀ a, (k0_off1124 v3373) a + S1x1024.size a ≤ S37888x1024.size a)
theorem k0_off1124_inb : ∀ (v3373 : BitVec 32) (k0_hw562 : k0_chk562 v3373), ∀ a, (k0_off1124 v3373) a + S1x1024.size a ≤ S37888x1024.size a := fun v3373 k0_hw562 => k0_hw562

def k0_off1125 (i : grid0.Coords) : Fin 1 → Nat :=
  let arg0 : BitVec 32 := BitVec.ofNat 32 (i 0).val
  let c1024_i32 : BitVec 32 := 1024#32
  let v0 : BitVec 32 := Scalar.muli arg0 c1024_i32
  let c562_i32 : BitVec 32 := 562#32
  let v3376 : BitVec 32 := Scalar.addi v0 c562_i32
  let c0_i32_2391 : BitVec 32 := 0#32
  let v3377 : BitVec 32 := Scalar.addi v3376 c0_i32_2391
  let v3378 : Index := Scalar.indexCast v3377
  ![v3378.toNat]
def k0_off1126 (v3379 : BitVec 32) : Fin 2 → Nat :=
  let c0_i32_2392 : BitVec 32 := 0#32
  ![v3379.toNat, 0]

def k0_chk563 (v3379 : BitVec 32) : Prop :=
  (∀ a, (k0_off1126 v3379) a + S1x1024.size a ≤ S37888x1024.size a)
theorem k0_off1126_inb : ∀ (v3379 : BitVec 32) (k0_hw563 : k0_chk563 v3379), ∀ a, (k0_off1126 v3379) a + S1x1024.size a ≤ S37888x1024.size a := fun v3379 k0_hw563 => k0_hw563

def k0_off1127 (i : grid0.Coords) : Fin 1 → Nat :=
  let arg0 : BitVec 32 := BitVec.ofNat 32 (i 0).val
  let c1024_i32 : BitVec 32 := 1024#32
  let v0 : BitVec 32 := Scalar.muli arg0 c1024_i32
  let c562_i32_2394 : BitVec 32 := 562#32
  let v3382 : BitVec 32 := Scalar.addi v0 c562_i32_2394
  let c1_i32_2395 : BitVec 32 := 1#32
  let v3383 : BitVec 32 := Scalar.addi v3382 c1_i32_2395
  let v3384 : Index := Scalar.indexCast v3383
  ![v3384.toNat]
def k0_off1128 (v3385 : BitVec 32) : Fin 2 → Nat :=
  let c0_i32_2396 : BitVec 32 := 0#32
  ![v3385.toNat, 0]

def k0_chk564 (v3385 : BitVec 32) : Prop :=
  (∀ a, (k0_off1128 v3385) a + S1x1024.size a ≤ S37888x1024.size a)
theorem k0_off1128_inb : ∀ (v3385 : BitVec 32) (k0_hw564 : k0_chk564 v3385), ∀ a, (k0_off1128 v3385) a + S1x1024.size a ≤ S37888x1024.size a := fun v3385 k0_hw564 => k0_hw564

def k0_off1129 (i : grid0.Coords) : Fin 1 → Nat :=
  let arg0 : BitVec 32 := BitVec.ofNat 32 (i 0).val
  let c1024_i32 : BitVec 32 := 1024#32
  let v0 : BitVec 32 := Scalar.muli arg0 c1024_i32
  let c564_i32 : BitVec 32 := 564#32
  let v3388 : BitVec 32 := Scalar.addi v0 c564_i32
  let c0_i32_2399 : BitVec 32 := 0#32
  let v3389 : BitVec 32 := Scalar.addi v3388 c0_i32_2399
  let v3390 : Index := Scalar.indexCast v3389
  ![v3390.toNat]
def k0_off1130 (v3391 : BitVec 32) : Fin 2 → Nat :=
  let c0_i32_2400 : BitVec 32 := 0#32
  ![v3391.toNat, 0]

def k0_chk565 (v3391 : BitVec 32) : Prop :=
  (∀ a, (k0_off1130 v3391) a + S1x1024.size a ≤ S37888x1024.size a)
theorem k0_off1130_inb : ∀ (v3391 : BitVec 32) (k0_hw565 : k0_chk565 v3391), ∀ a, (k0_off1130 v3391) a + S1x1024.size a ≤ S37888x1024.size a := fun v3391 k0_hw565 => k0_hw565

def k0_off1131 (i : grid0.Coords) : Fin 1 → Nat :=
  let arg0 : BitVec 32 := BitVec.ofNat 32 (i 0).val
  let c1024_i32 : BitVec 32 := 1024#32
  let v0 : BitVec 32 := Scalar.muli arg0 c1024_i32
  let c564_i32_2403 : BitVec 32 := 564#32
  let v3394 : BitVec 32 := Scalar.addi v0 c564_i32_2403
  let c1_i32_2404 : BitVec 32 := 1#32
  let v3395 : BitVec 32 := Scalar.addi v3394 c1_i32_2404
  let v3396 : Index := Scalar.indexCast v3395
  ![v3396.toNat]
def k0_off1132 (v3397 : BitVec 32) : Fin 2 → Nat :=
  let c0_i32_2405 : BitVec 32 := 0#32
  ![v3397.toNat, 0]

def k0_chk566 (v3397 : BitVec 32) : Prop :=
  (∀ a, (k0_off1132 v3397) a + S1x1024.size a ≤ S37888x1024.size a)
theorem k0_off1132_inb : ∀ (v3397 : BitVec 32) (k0_hw566 : k0_chk566 v3397), ∀ a, (k0_off1132 v3397) a + S1x1024.size a ≤ S37888x1024.size a := fun v3397 k0_hw566 => k0_hw566

def k0_off1133 (i : grid0.Coords) : Fin 1 → Nat :=
  let arg0 : BitVec 32 := BitVec.ofNat 32 (i 0).val
  let c1024_i32 : BitVec 32 := 1024#32
  let v0 : BitVec 32 := Scalar.muli arg0 c1024_i32
  let c566_i32 : BitVec 32 := 566#32
  let v3400 : BitVec 32 := Scalar.addi v0 c566_i32
  let c0_i32_2408 : BitVec 32 := 0#32
  let v3401 : BitVec 32 := Scalar.addi v3400 c0_i32_2408
  let v3402 : Index := Scalar.indexCast v3401
  ![v3402.toNat]
def k0_off1134 (v3403 : BitVec 32) : Fin 2 → Nat :=
  let c0_i32_2409 : BitVec 32 := 0#32
  ![v3403.toNat, 0]

def k0_chk567 (v3403 : BitVec 32) : Prop :=
  (∀ a, (k0_off1134 v3403) a + S1x1024.size a ≤ S37888x1024.size a)
theorem k0_off1134_inb : ∀ (v3403 : BitVec 32) (k0_hw567 : k0_chk567 v3403), ∀ a, (k0_off1134 v3403) a + S1x1024.size a ≤ S37888x1024.size a := fun v3403 k0_hw567 => k0_hw567

def k0_off1135 (i : grid0.Coords) : Fin 1 → Nat :=
  let arg0 : BitVec 32 := BitVec.ofNat 32 (i 0).val
  let c1024_i32 : BitVec 32 := 1024#32
  let v0 : BitVec 32 := Scalar.muli arg0 c1024_i32
  let c566_i32_2411 : BitVec 32 := 566#32
  let v3406 : BitVec 32 := Scalar.addi v0 c566_i32_2411
  let c1_i32_2412 : BitVec 32 := 1#32
  let v3407 : BitVec 32 := Scalar.addi v3406 c1_i32_2412
  let v3408 : Index := Scalar.indexCast v3407
  ![v3408.toNat]
def k0_off1136 (v3409 : BitVec 32) : Fin 2 → Nat :=
  let c0_i32_2413 : BitVec 32 := 0#32
  ![v3409.toNat, 0]

def k0_chk568 (v3409 : BitVec 32) : Prop :=
  (∀ a, (k0_off1136 v3409) a + S1x1024.size a ≤ S37888x1024.size a)
theorem k0_off1136_inb : ∀ (v3409 : BitVec 32) (k0_hw568 : k0_chk568 v3409), ∀ a, (k0_off1136 v3409) a + S1x1024.size a ≤ S37888x1024.size a := fun v3409 k0_hw568 => k0_hw568

def k0_off1137 (i : grid0.Coords) : Fin 1 → Nat :=
  let arg0 : BitVec 32 := BitVec.ofNat 32 (i 0).val
  let c1024_i32 : BitVec 32 := 1024#32
  let v0 : BitVec 32 := Scalar.muli arg0 c1024_i32
  let c568_i32 : BitVec 32 := 568#32
  let v3412 : BitVec 32 := Scalar.addi v0 c568_i32
  let c0_i32_2416 : BitVec 32 := 0#32
  let v3413 : BitVec 32 := Scalar.addi v3412 c0_i32_2416
  let v3414 : Index := Scalar.indexCast v3413
  ![v3414.toNat]
def k0_off1138 (v3415 : BitVec 32) : Fin 2 → Nat :=
  let c0_i32_2417 : BitVec 32 := 0#32
  ![v3415.toNat, 0]

def k0_chk569 (v3415 : BitVec 32) : Prop :=
  (∀ a, (k0_off1138 v3415) a + S1x1024.size a ≤ S37888x1024.size a)
theorem k0_off1138_inb : ∀ (v3415 : BitVec 32) (k0_hw569 : k0_chk569 v3415), ∀ a, (k0_off1138 v3415) a + S1x1024.size a ≤ S37888x1024.size a := fun v3415 k0_hw569 => k0_hw569

def k0_off1139 (i : grid0.Coords) : Fin 1 → Nat :=
  let arg0 : BitVec 32 := BitVec.ofNat 32 (i 0).val
  let c1024_i32 : BitVec 32 := 1024#32
  let v0 : BitVec 32 := Scalar.muli arg0 c1024_i32
  let c568_i32_2420 : BitVec 32 := 568#32
  let v3418 : BitVec 32 := Scalar.addi v0 c568_i32_2420
  let c1_i32_2421 : BitVec 32 := 1#32
  let v3419 : BitVec 32 := Scalar.addi v3418 c1_i32_2421
  let v3420 : Index := Scalar.indexCast v3419
  ![v3420.toNat]
def k0_off1140 (v3421 : BitVec 32) : Fin 2 → Nat :=
  let c0_i32_2422 : BitVec 32 := 0#32
  ![v3421.toNat, 0]

def k0_chk570 (v3421 : BitVec 32) : Prop :=
  (∀ a, (k0_off1140 v3421) a + S1x1024.size a ≤ S37888x1024.size a)
theorem k0_off1140_inb : ∀ (v3421 : BitVec 32) (k0_hw570 : k0_chk570 v3421), ∀ a, (k0_off1140 v3421) a + S1x1024.size a ≤ S37888x1024.size a := fun v3421 k0_hw570 => k0_hw570

def k0_off1141 (i : grid0.Coords) : Fin 1 → Nat :=
  let arg0 : BitVec 32 := BitVec.ofNat 32 (i 0).val
  let c1024_i32 : BitVec 32 := 1024#32
  let v0 : BitVec 32 := Scalar.muli arg0 c1024_i32
  let c570_i32 : BitVec 32 := 570#32
  let v3424 : BitVec 32 := Scalar.addi v0 c570_i32
  let c0_i32_2425 : BitVec 32 := 0#32
  let v3425 : BitVec 32 := Scalar.addi v3424 c0_i32_2425
  let v3426 : Index := Scalar.indexCast v3425
  ![v3426.toNat]
def k0_off1142 (v3427 : BitVec 32) : Fin 2 → Nat :=
  let c0_i32_2426 : BitVec 32 := 0#32
  ![v3427.toNat, 0]

def k0_chk571 (v3427 : BitVec 32) : Prop :=
  (∀ a, (k0_off1142 v3427) a + S1x1024.size a ≤ S37888x1024.size a)
theorem k0_off1142_inb : ∀ (v3427 : BitVec 32) (k0_hw571 : k0_chk571 v3427), ∀ a, (k0_off1142 v3427) a + S1x1024.size a ≤ S37888x1024.size a := fun v3427 k0_hw571 => k0_hw571

def k0_off1143 (i : grid0.Coords) : Fin 1 → Nat :=
  let arg0 : BitVec 32 := BitVec.ofNat 32 (i 0).val
  let c1024_i32 : BitVec 32 := 1024#32
  let v0 : BitVec 32 := Scalar.muli arg0 c1024_i32
  let c570_i32_2428 : BitVec 32 := 570#32
  let v3430 : BitVec 32 := Scalar.addi v0 c570_i32_2428
  let c1_i32_2429 : BitVec 32 := 1#32
  let v3431 : BitVec 32 := Scalar.addi v3430 c1_i32_2429
  let v3432 : Index := Scalar.indexCast v3431
  ![v3432.toNat]
def k0_off1144 (v3433 : BitVec 32) : Fin 2 → Nat :=
  let c0_i32_2430 : BitVec 32 := 0#32
  ![v3433.toNat, 0]

def k0_chk572 (v3433 : BitVec 32) : Prop :=
  (∀ a, (k0_off1144 v3433) a + S1x1024.size a ≤ S37888x1024.size a)
theorem k0_off1144_inb : ∀ (v3433 : BitVec 32) (k0_hw572 : k0_chk572 v3433), ∀ a, (k0_off1144 v3433) a + S1x1024.size a ≤ S37888x1024.size a := fun v3433 k0_hw572 => k0_hw572

def k0_off1145 (i : grid0.Coords) : Fin 1 → Nat :=
  let arg0 : BitVec 32 := BitVec.ofNat 32 (i 0).val
  let c1024_i32 : BitVec 32 := 1024#32
  let v0 : BitVec 32 := Scalar.muli arg0 c1024_i32
  let c572_i32 : BitVec 32 := 572#32
  let v3436 : BitVec 32 := Scalar.addi v0 c572_i32
  let c0_i32_2433 : BitVec 32 := 0#32
  let v3437 : BitVec 32 := Scalar.addi v3436 c0_i32_2433
  let v3438 : Index := Scalar.indexCast v3437
  ![v3438.toNat]
def k0_off1146 (v3439 : BitVec 32) : Fin 2 → Nat :=
  let c0_i32_2434 : BitVec 32 := 0#32
  ![v3439.toNat, 0]

def k0_chk573 (v3439 : BitVec 32) : Prop :=
  (∀ a, (k0_off1146 v3439) a + S1x1024.size a ≤ S37888x1024.size a)
theorem k0_off1146_inb : ∀ (v3439 : BitVec 32) (k0_hw573 : k0_chk573 v3439), ∀ a, (k0_off1146 v3439) a + S1x1024.size a ≤ S37888x1024.size a := fun v3439 k0_hw573 => k0_hw573

def k0_off1147 (i : grid0.Coords) : Fin 1 → Nat :=
  let arg0 : BitVec 32 := BitVec.ofNat 32 (i 0).val
  let c1024_i32 : BitVec 32 := 1024#32
  let v0 : BitVec 32 := Scalar.muli arg0 c1024_i32
  let c572_i32_2437 : BitVec 32 := 572#32
  let v3442 : BitVec 32 := Scalar.addi v0 c572_i32_2437
  let c1_i32_2438 : BitVec 32 := 1#32
  let v3443 : BitVec 32 := Scalar.addi v3442 c1_i32_2438
  let v3444 : Index := Scalar.indexCast v3443
  ![v3444.toNat]
def k0_off1148 (v3445 : BitVec 32) : Fin 2 → Nat :=
  let c0_i32_2439 : BitVec 32 := 0#32
  ![v3445.toNat, 0]

def k0_chk574 (v3445 : BitVec 32) : Prop :=
  (∀ a, (k0_off1148 v3445) a + S1x1024.size a ≤ S37888x1024.size a)
theorem k0_off1148_inb : ∀ (v3445 : BitVec 32) (k0_hw574 : k0_chk574 v3445), ∀ a, (k0_off1148 v3445) a + S1x1024.size a ≤ S37888x1024.size a := fun v3445 k0_hw574 => k0_hw574

def k0_off1149 (i : grid0.Coords) : Fin 1 → Nat :=
  let arg0 : BitVec 32 := BitVec.ofNat 32 (i 0).val
  let c1024_i32 : BitVec 32 := 1024#32
  let v0 : BitVec 32 := Scalar.muli arg0 c1024_i32
  let c574_i32 : BitVec 32 := 574#32
  let v3448 : BitVec 32 := Scalar.addi v0 c574_i32
  let c0_i32_2442 : BitVec 32 := 0#32
  let v3449 : BitVec 32 := Scalar.addi v3448 c0_i32_2442
  let v3450 : Index := Scalar.indexCast v3449
  ![v3450.toNat]
def k0_off1150 (v3451 : BitVec 32) : Fin 2 → Nat :=
  let c0_i32_2443 : BitVec 32 := 0#32
  ![v3451.toNat, 0]

def k0_chk575 (v3451 : BitVec 32) : Prop :=
  (∀ a, (k0_off1150 v3451) a + S1x1024.size a ≤ S37888x1024.size a)
theorem k0_off1150_inb : ∀ (v3451 : BitVec 32) (k0_hw575 : k0_chk575 v3451), ∀ a, (k0_off1150 v3451) a + S1x1024.size a ≤ S37888x1024.size a := fun v3451 k0_hw575 => k0_hw575

def k0_off1151 (i : grid0.Coords) : Fin 1 → Nat :=
  let arg0 : BitVec 32 := BitVec.ofNat 32 (i 0).val
  let c1024_i32 : BitVec 32 := 1024#32
  let v0 : BitVec 32 := Scalar.muli arg0 c1024_i32
  let c574_i32_2445 : BitVec 32 := 574#32
  let v3454 : BitVec 32 := Scalar.addi v0 c574_i32_2445
  let c1_i32_2446 : BitVec 32 := 1#32
  let v3455 : BitVec 32 := Scalar.addi v3454 c1_i32_2446
  let v3456 : Index := Scalar.indexCast v3455
  ![v3456.toNat]
def k0_off1152 (v3457 : BitVec 32) : Fin 2 → Nat :=
  let c0_i32_2447 : BitVec 32 := 0#32
  ![v3457.toNat, 0]

def k0_chk576 (v3457 : BitVec 32) : Prop :=
  (∀ a, (k0_off1152 v3457) a + S1x1024.size a ≤ S37888x1024.size a)
theorem k0_off1152_inb : ∀ (v3457 : BitVec 32) (k0_hw576 : k0_chk576 v3457), ∀ a, (k0_off1152 v3457) a + S1x1024.size a ≤ S37888x1024.size a := fun v3457 k0_hw576 => k0_hw576

def k0_off1153 (i : grid0.Coords) : Fin 1 → Nat :=
  let arg0 : BitVec 32 := BitVec.ofNat 32 (i 0).val
  let c1024_i32 : BitVec 32 := 1024#32
  let v0 : BitVec 32 := Scalar.muli arg0 c1024_i32
  let c576_i32 : BitVec 32 := 576#32
  let v3460 : BitVec 32 := Scalar.addi v0 c576_i32
  let c0_i32_2450 : BitVec 32 := 0#32
  let v3461 : BitVec 32 := Scalar.addi v3460 c0_i32_2450
  let v3462 : Index := Scalar.indexCast v3461
  ![v3462.toNat]
def k0_off1154 (v3463 : BitVec 32) : Fin 2 → Nat :=
  let c0_i32_2451 : BitVec 32 := 0#32
  ![v3463.toNat, 0]

def k0_chk577 (v3463 : BitVec 32) : Prop :=
  (∀ a, (k0_off1154 v3463) a + S1x1024.size a ≤ S37888x1024.size a)
theorem k0_off1154_inb : ∀ (v3463 : BitVec 32) (k0_hw577 : k0_chk577 v3463), ∀ a, (k0_off1154 v3463) a + S1x1024.size a ≤ S37888x1024.size a := fun v3463 k0_hw577 => k0_hw577

def k0_off1155 (i : grid0.Coords) : Fin 1 → Nat :=
  let arg0 : BitVec 32 := BitVec.ofNat 32 (i 0).val
  let c1024_i32 : BitVec 32 := 1024#32
  let v0 : BitVec 32 := Scalar.muli arg0 c1024_i32
  let c576_i32_2454 : BitVec 32 := 576#32
  let v3466 : BitVec 32 := Scalar.addi v0 c576_i32_2454
  let c1_i32_2455 : BitVec 32 := 1#32
  let v3467 : BitVec 32 := Scalar.addi v3466 c1_i32_2455
  let v3468 : Index := Scalar.indexCast v3467
  ![v3468.toNat]
def k0_off1156 (v3469 : BitVec 32) : Fin 2 → Nat :=
  let c0_i32_2456 : BitVec 32 := 0#32
  ![v3469.toNat, 0]

def k0_chk578 (v3469 : BitVec 32) : Prop :=
  (∀ a, (k0_off1156 v3469) a + S1x1024.size a ≤ S37888x1024.size a)
theorem k0_off1156_inb : ∀ (v3469 : BitVec 32) (k0_hw578 : k0_chk578 v3469), ∀ a, (k0_off1156 v3469) a + S1x1024.size a ≤ S37888x1024.size a := fun v3469 k0_hw578 => k0_hw578

def k0_off1157 (i : grid0.Coords) : Fin 1 → Nat :=
  let arg0 : BitVec 32 := BitVec.ofNat 32 (i 0).val
  let c1024_i32 : BitVec 32 := 1024#32
  let v0 : BitVec 32 := Scalar.muli arg0 c1024_i32
  let c578_i32 : BitVec 32 := 578#32
  let v3472 : BitVec 32 := Scalar.addi v0 c578_i32
  let c0_i32_2459 : BitVec 32 := 0#32
  let v3473 : BitVec 32 := Scalar.addi v3472 c0_i32_2459
  let v3474 : Index := Scalar.indexCast v3473
  ![v3474.toNat]
def k0_off1158 (v3475 : BitVec 32) : Fin 2 → Nat :=
  let c0_i32_2460 : BitVec 32 := 0#32
  ![v3475.toNat, 0]

def k0_chk579 (v3475 : BitVec 32) : Prop :=
  (∀ a, (k0_off1158 v3475) a + S1x1024.size a ≤ S37888x1024.size a)
theorem k0_off1158_inb : ∀ (v3475 : BitVec 32) (k0_hw579 : k0_chk579 v3475), ∀ a, (k0_off1158 v3475) a + S1x1024.size a ≤ S37888x1024.size a := fun v3475 k0_hw579 => k0_hw579

def k0_off1159 (i : grid0.Coords) : Fin 1 → Nat :=
  let arg0 : BitVec 32 := BitVec.ofNat 32 (i 0).val
  let c1024_i32 : BitVec 32 := 1024#32
  let v0 : BitVec 32 := Scalar.muli arg0 c1024_i32
  let c578_i32_2462 : BitVec 32 := 578#32
  let v3478 : BitVec 32 := Scalar.addi v0 c578_i32_2462
  let c1_i32_2463 : BitVec 32 := 1#32
  let v3479 : BitVec 32 := Scalar.addi v3478 c1_i32_2463
  let v3480 : Index := Scalar.indexCast v3479
  ![v3480.toNat]
def k0_off1160 (v3481 : BitVec 32) : Fin 2 → Nat :=
  let c0_i32_2464 : BitVec 32 := 0#32
  ![v3481.toNat, 0]

def k0_chk580 (v3481 : BitVec 32) : Prop :=
  (∀ a, (k0_off1160 v3481) a + S1x1024.size a ≤ S37888x1024.size a)
theorem k0_off1160_inb : ∀ (v3481 : BitVec 32) (k0_hw580 : k0_chk580 v3481), ∀ a, (k0_off1160 v3481) a + S1x1024.size a ≤ S37888x1024.size a := fun v3481 k0_hw580 => k0_hw580

def k0_off1161 (i : grid0.Coords) : Fin 1 → Nat :=
  let arg0 : BitVec 32 := BitVec.ofNat 32 (i 0).val
  let c1024_i32 : BitVec 32 := 1024#32
  let v0 : BitVec 32 := Scalar.muli arg0 c1024_i32
  let c580_i32 : BitVec 32 := 580#32
  let v3484 : BitVec 32 := Scalar.addi v0 c580_i32
  let c0_i32_2467 : BitVec 32 := 0#32
  let v3485 : BitVec 32 := Scalar.addi v3484 c0_i32_2467
  let v3486 : Index := Scalar.indexCast v3485
  ![v3486.toNat]
def k0_off1162 (v3487 : BitVec 32) : Fin 2 → Nat :=
  let c0_i32_2468 : BitVec 32 := 0#32
  ![v3487.toNat, 0]

def k0_chk581 (v3487 : BitVec 32) : Prop :=
  (∀ a, (k0_off1162 v3487) a + S1x1024.size a ≤ S37888x1024.size a)
theorem k0_off1162_inb : ∀ (v3487 : BitVec 32) (k0_hw581 : k0_chk581 v3487), ∀ a, (k0_off1162 v3487) a + S1x1024.size a ≤ S37888x1024.size a := fun v3487 k0_hw581 => k0_hw581

def k0_off1163 (i : grid0.Coords) : Fin 1 → Nat :=
  let arg0 : BitVec 32 := BitVec.ofNat 32 (i 0).val
  let c1024_i32 : BitVec 32 := 1024#32
  let v0 : BitVec 32 := Scalar.muli arg0 c1024_i32
  let c580_i32_2471 : BitVec 32 := 580#32
  let v3490 : BitVec 32 := Scalar.addi v0 c580_i32_2471
  let c1_i32_2472 : BitVec 32 := 1#32
  let v3491 : BitVec 32 := Scalar.addi v3490 c1_i32_2472
  let v3492 : Index := Scalar.indexCast v3491
  ![v3492.toNat]
def k0_off1164 (v3493 : BitVec 32) : Fin 2 → Nat :=
  let c0_i32_2473 : BitVec 32 := 0#32
  ![v3493.toNat, 0]

def k0_chk582 (v3493 : BitVec 32) : Prop :=
  (∀ a, (k0_off1164 v3493) a + S1x1024.size a ≤ S37888x1024.size a)
theorem k0_off1164_inb : ∀ (v3493 : BitVec 32) (k0_hw582 : k0_chk582 v3493), ∀ a, (k0_off1164 v3493) a + S1x1024.size a ≤ S37888x1024.size a := fun v3493 k0_hw582 => k0_hw582

def k0_off1165 (i : grid0.Coords) : Fin 1 → Nat :=
  let arg0 : BitVec 32 := BitVec.ofNat 32 (i 0).val
  let c1024_i32 : BitVec 32 := 1024#32
  let v0 : BitVec 32 := Scalar.muli arg0 c1024_i32
  let c582_i32 : BitVec 32 := 582#32
  let v3496 : BitVec 32 := Scalar.addi v0 c582_i32
  let c0_i32_2476 : BitVec 32 := 0#32
  let v3497 : BitVec 32 := Scalar.addi v3496 c0_i32_2476
  let v3498 : Index := Scalar.indexCast v3497
  ![v3498.toNat]
def k0_off1166 (v3499 : BitVec 32) : Fin 2 → Nat :=
  let c0_i32_2477 : BitVec 32 := 0#32
  ![v3499.toNat, 0]

def k0_chk583 (v3499 : BitVec 32) : Prop :=
  (∀ a, (k0_off1166 v3499) a + S1x1024.size a ≤ S37888x1024.size a)
theorem k0_off1166_inb : ∀ (v3499 : BitVec 32) (k0_hw583 : k0_chk583 v3499), ∀ a, (k0_off1166 v3499) a + S1x1024.size a ≤ S37888x1024.size a := fun v3499 k0_hw583 => k0_hw583

def k0_off1167 (i : grid0.Coords) : Fin 1 → Nat :=
  let arg0 : BitVec 32 := BitVec.ofNat 32 (i 0).val
  let c1024_i32 : BitVec 32 := 1024#32
  let v0 : BitVec 32 := Scalar.muli arg0 c1024_i32
  let c582_i32_2479 : BitVec 32 := 582#32
  let v3502 : BitVec 32 := Scalar.addi v0 c582_i32_2479
  let c1_i32_2480 : BitVec 32 := 1#32
  let v3503 : BitVec 32 := Scalar.addi v3502 c1_i32_2480
  let v3504 : Index := Scalar.indexCast v3503
  ![v3504.toNat]
def k0_off1168 (v3505 : BitVec 32) : Fin 2 → Nat :=
  let c0_i32_2481 : BitVec 32 := 0#32
  ![v3505.toNat, 0]

def k0_chk584 (v3505 : BitVec 32) : Prop :=
  (∀ a, (k0_off1168 v3505) a + S1x1024.size a ≤ S37888x1024.size a)
theorem k0_off1168_inb : ∀ (v3505 : BitVec 32) (k0_hw584 : k0_chk584 v3505), ∀ a, (k0_off1168 v3505) a + S1x1024.size a ≤ S37888x1024.size a := fun v3505 k0_hw584 => k0_hw584

def k0_off1169 (i : grid0.Coords) : Fin 1 → Nat :=
  let arg0 : BitVec 32 := BitVec.ofNat 32 (i 0).val
  let c1024_i32 : BitVec 32 := 1024#32
  let v0 : BitVec 32 := Scalar.muli arg0 c1024_i32
  let c584_i32 : BitVec 32 := 584#32
  let v3508 : BitVec 32 := Scalar.addi v0 c584_i32
  let c0_i32_2484 : BitVec 32 := 0#32
  let v3509 : BitVec 32 := Scalar.addi v3508 c0_i32_2484
  let v3510 : Index := Scalar.indexCast v3509
  ![v3510.toNat]
def k0_off1170 (v3511 : BitVec 32) : Fin 2 → Nat :=
  let c0_i32_2485 : BitVec 32 := 0#32
  ![v3511.toNat, 0]

def k0_chk585 (v3511 : BitVec 32) : Prop :=
  (∀ a, (k0_off1170 v3511) a + S1x1024.size a ≤ S37888x1024.size a)
theorem k0_off1170_inb : ∀ (v3511 : BitVec 32) (k0_hw585 : k0_chk585 v3511), ∀ a, (k0_off1170 v3511) a + S1x1024.size a ≤ S37888x1024.size a := fun v3511 k0_hw585 => k0_hw585

def k0_off1171 (i : grid0.Coords) : Fin 1 → Nat :=
  let arg0 : BitVec 32 := BitVec.ofNat 32 (i 0).val
  let c1024_i32 : BitVec 32 := 1024#32
  let v0 : BitVec 32 := Scalar.muli arg0 c1024_i32
  let c584_i32_2488 : BitVec 32 := 584#32
  let v3514 : BitVec 32 := Scalar.addi v0 c584_i32_2488
  let c1_i32_2489 : BitVec 32 := 1#32
  let v3515 : BitVec 32 := Scalar.addi v3514 c1_i32_2489
  let v3516 : Index := Scalar.indexCast v3515
  ![v3516.toNat]
def k0_off1172 (v3517 : BitVec 32) : Fin 2 → Nat :=
  let c0_i32_2490 : BitVec 32 := 0#32
  ![v3517.toNat, 0]

def k0_chk586 (v3517 : BitVec 32) : Prop :=
  (∀ a, (k0_off1172 v3517) a + S1x1024.size a ≤ S37888x1024.size a)
theorem k0_off1172_inb : ∀ (v3517 : BitVec 32) (k0_hw586 : k0_chk586 v3517), ∀ a, (k0_off1172 v3517) a + S1x1024.size a ≤ S37888x1024.size a := fun v3517 k0_hw586 => k0_hw586

def k0_off1173 (i : grid0.Coords) : Fin 1 → Nat :=
  let arg0 : BitVec 32 := BitVec.ofNat 32 (i 0).val
  let c1024_i32 : BitVec 32 := 1024#32
  let v0 : BitVec 32 := Scalar.muli arg0 c1024_i32
  let c586_i32 : BitVec 32 := 586#32
  let v3520 : BitVec 32 := Scalar.addi v0 c586_i32
  let c0_i32_2493 : BitVec 32 := 0#32
  let v3521 : BitVec 32 := Scalar.addi v3520 c0_i32_2493
  let v3522 : Index := Scalar.indexCast v3521
  ![v3522.toNat]
def k0_off1174 (v3523 : BitVec 32) : Fin 2 → Nat :=
  let c0_i32_2494 : BitVec 32 := 0#32
  ![v3523.toNat, 0]

def k0_chk587 (v3523 : BitVec 32) : Prop :=
  (∀ a, (k0_off1174 v3523) a + S1x1024.size a ≤ S37888x1024.size a)
theorem k0_off1174_inb : ∀ (v3523 : BitVec 32) (k0_hw587 : k0_chk587 v3523), ∀ a, (k0_off1174 v3523) a + S1x1024.size a ≤ S37888x1024.size a := fun v3523 k0_hw587 => k0_hw587

def k0_off1175 (i : grid0.Coords) : Fin 1 → Nat :=
  let arg0 : BitVec 32 := BitVec.ofNat 32 (i 0).val
  let c1024_i32 : BitVec 32 := 1024#32
  let v0 : BitVec 32 := Scalar.muli arg0 c1024_i32
  let c586_i32_2496 : BitVec 32 := 586#32
  let v3526 : BitVec 32 := Scalar.addi v0 c586_i32_2496
  let c1_i32_2497 : BitVec 32 := 1#32
  let v3527 : BitVec 32 := Scalar.addi v3526 c1_i32_2497
  let v3528 : Index := Scalar.indexCast v3527
  ![v3528.toNat]
def k0_off1176 (v3529 : BitVec 32) : Fin 2 → Nat :=
  let c0_i32_2498 : BitVec 32 := 0#32
  ![v3529.toNat, 0]

def k0_chk588 (v3529 : BitVec 32) : Prop :=
  (∀ a, (k0_off1176 v3529) a + S1x1024.size a ≤ S37888x1024.size a)
theorem k0_off1176_inb : ∀ (v3529 : BitVec 32) (k0_hw588 : k0_chk588 v3529), ∀ a, (k0_off1176 v3529) a + S1x1024.size a ≤ S37888x1024.size a := fun v3529 k0_hw588 => k0_hw588

def k0_off1177 (i : grid0.Coords) : Fin 1 → Nat :=
  let arg0 : BitVec 32 := BitVec.ofNat 32 (i 0).val
  let c1024_i32 : BitVec 32 := 1024#32
  let v0 : BitVec 32 := Scalar.muli arg0 c1024_i32
  let c588_i32 : BitVec 32 := 588#32
  let v3532 : BitVec 32 := Scalar.addi v0 c588_i32
  let c0_i32_2501 : BitVec 32 := 0#32
  let v3533 : BitVec 32 := Scalar.addi v3532 c0_i32_2501
  let v3534 : Index := Scalar.indexCast v3533
  ![v3534.toNat]
def k0_off1178 (v3535 : BitVec 32) : Fin 2 → Nat :=
  let c0_i32_2502 : BitVec 32 := 0#32
  ![v3535.toNat, 0]

def k0_chk589 (v3535 : BitVec 32) : Prop :=
  (∀ a, (k0_off1178 v3535) a + S1x1024.size a ≤ S37888x1024.size a)
theorem k0_off1178_inb : ∀ (v3535 : BitVec 32) (k0_hw589 : k0_chk589 v3535), ∀ a, (k0_off1178 v3535) a + S1x1024.size a ≤ S37888x1024.size a := fun v3535 k0_hw589 => k0_hw589

def k0_off1179 (i : grid0.Coords) : Fin 1 → Nat :=
  let arg0 : BitVec 32 := BitVec.ofNat 32 (i 0).val
  let c1024_i32 : BitVec 32 := 1024#32
  let v0 : BitVec 32 := Scalar.muli arg0 c1024_i32
  let c588_i32_2505 : BitVec 32 := 588#32
  let v3538 : BitVec 32 := Scalar.addi v0 c588_i32_2505
  let c1_i32_2506 : BitVec 32 := 1#32
  let v3539 : BitVec 32 := Scalar.addi v3538 c1_i32_2506
  let v3540 : Index := Scalar.indexCast v3539
  ![v3540.toNat]
def k0_off1180 (v3541 : BitVec 32) : Fin 2 → Nat :=
  let c0_i32_2507 : BitVec 32 := 0#32
  ![v3541.toNat, 0]

def k0_chk590 (v3541 : BitVec 32) : Prop :=
  (∀ a, (k0_off1180 v3541) a + S1x1024.size a ≤ S37888x1024.size a)
theorem k0_off1180_inb : ∀ (v3541 : BitVec 32) (k0_hw590 : k0_chk590 v3541), ∀ a, (k0_off1180 v3541) a + S1x1024.size a ≤ S37888x1024.size a := fun v3541 k0_hw590 => k0_hw590

def k0_off1181 (i : grid0.Coords) : Fin 1 → Nat :=
  let arg0 : BitVec 32 := BitVec.ofNat 32 (i 0).val
  let c1024_i32 : BitVec 32 := 1024#32
  let v0 : BitVec 32 := Scalar.muli arg0 c1024_i32
  let c590_i32 : BitVec 32 := 590#32
  let v3544 : BitVec 32 := Scalar.addi v0 c590_i32
  let c0_i32_2510 : BitVec 32 := 0#32
  let v3545 : BitVec 32 := Scalar.addi v3544 c0_i32_2510
  let v3546 : Index := Scalar.indexCast v3545
  ![v3546.toNat]
def k0_off1182 (v3547 : BitVec 32) : Fin 2 → Nat :=
  let c0_i32_2511 : BitVec 32 := 0#32
  ![v3547.toNat, 0]

def k0_chk591 (v3547 : BitVec 32) : Prop :=
  (∀ a, (k0_off1182 v3547) a + S1x1024.size a ≤ S37888x1024.size a)
theorem k0_off1182_inb : ∀ (v3547 : BitVec 32) (k0_hw591 : k0_chk591 v3547), ∀ a, (k0_off1182 v3547) a + S1x1024.size a ≤ S37888x1024.size a := fun v3547 k0_hw591 => k0_hw591

def k0_off1183 (i : grid0.Coords) : Fin 1 → Nat :=
  let arg0 : BitVec 32 := BitVec.ofNat 32 (i 0).val
  let c1024_i32 : BitVec 32 := 1024#32
  let v0 : BitVec 32 := Scalar.muli arg0 c1024_i32
  let c590_i32_2513 : BitVec 32 := 590#32
  let v3550 : BitVec 32 := Scalar.addi v0 c590_i32_2513
  let c1_i32_2514 : BitVec 32 := 1#32
  let v3551 : BitVec 32 := Scalar.addi v3550 c1_i32_2514
  let v3552 : Index := Scalar.indexCast v3551
  ![v3552.toNat]
def k0_off1184 (v3553 : BitVec 32) : Fin 2 → Nat :=
  let c0_i32_2515 : BitVec 32 := 0#32
  ![v3553.toNat, 0]

def k0_chk592 (v3553 : BitVec 32) : Prop :=
  (∀ a, (k0_off1184 v3553) a + S1x1024.size a ≤ S37888x1024.size a)
theorem k0_off1184_inb : ∀ (v3553 : BitVec 32) (k0_hw592 : k0_chk592 v3553), ∀ a, (k0_off1184 v3553) a + S1x1024.size a ≤ S37888x1024.size a := fun v3553 k0_hw592 => k0_hw592

def k0_off1185 (i : grid0.Coords) : Fin 1 → Nat :=
  let arg0 : BitVec 32 := BitVec.ofNat 32 (i 0).val
  let c1024_i32 : BitVec 32 := 1024#32
  let v0 : BitVec 32 := Scalar.muli arg0 c1024_i32
  let c592_i32 : BitVec 32 := 592#32
  let v3556 : BitVec 32 := Scalar.addi v0 c592_i32
  let c0_i32_2518 : BitVec 32 := 0#32
  let v3557 : BitVec 32 := Scalar.addi v3556 c0_i32_2518
  let v3558 : Index := Scalar.indexCast v3557
  ![v3558.toNat]
def k0_off1186 (v3559 : BitVec 32) : Fin 2 → Nat :=
  let c0_i32_2519 : BitVec 32 := 0#32
  ![v3559.toNat, 0]

def k0_chk593 (v3559 : BitVec 32) : Prop :=
  (∀ a, (k0_off1186 v3559) a + S1x1024.size a ≤ S37888x1024.size a)
theorem k0_off1186_inb : ∀ (v3559 : BitVec 32) (k0_hw593 : k0_chk593 v3559), ∀ a, (k0_off1186 v3559) a + S1x1024.size a ≤ S37888x1024.size a := fun v3559 k0_hw593 => k0_hw593

def k0_off1187 (i : grid0.Coords) : Fin 1 → Nat :=
  let arg0 : BitVec 32 := BitVec.ofNat 32 (i 0).val
  let c1024_i32 : BitVec 32 := 1024#32
  let v0 : BitVec 32 := Scalar.muli arg0 c1024_i32
  let c592_i32_2522 : BitVec 32 := 592#32
  let v3562 : BitVec 32 := Scalar.addi v0 c592_i32_2522
  let c1_i32_2523 : BitVec 32 := 1#32
  let v3563 : BitVec 32 := Scalar.addi v3562 c1_i32_2523
  let v3564 : Index := Scalar.indexCast v3563
  ![v3564.toNat]
def k0_off1188 (v3565 : BitVec 32) : Fin 2 → Nat :=
  let c0_i32_2524 : BitVec 32 := 0#32
  ![v3565.toNat, 0]

def k0_chk594 (v3565 : BitVec 32) : Prop :=
  (∀ a, (k0_off1188 v3565) a + S1x1024.size a ≤ S37888x1024.size a)
theorem k0_off1188_inb : ∀ (v3565 : BitVec 32) (k0_hw594 : k0_chk594 v3565), ∀ a, (k0_off1188 v3565) a + S1x1024.size a ≤ S37888x1024.size a := fun v3565 k0_hw594 => k0_hw594

def k0_off1189 (i : grid0.Coords) : Fin 1 → Nat :=
  let arg0 : BitVec 32 := BitVec.ofNat 32 (i 0).val
  let c1024_i32 : BitVec 32 := 1024#32
  let v0 : BitVec 32 := Scalar.muli arg0 c1024_i32
  let c594_i32 : BitVec 32 := 594#32
  let v3568 : BitVec 32 := Scalar.addi v0 c594_i32
  let c0_i32_2527 : BitVec 32 := 0#32
  let v3569 : BitVec 32 := Scalar.addi v3568 c0_i32_2527
  let v3570 : Index := Scalar.indexCast v3569
  ![v3570.toNat]
def k0_off1190 (v3571 : BitVec 32) : Fin 2 → Nat :=
  let c0_i32_2528 : BitVec 32 := 0#32
  ![v3571.toNat, 0]

def k0_chk595 (v3571 : BitVec 32) : Prop :=
  (∀ a, (k0_off1190 v3571) a + S1x1024.size a ≤ S37888x1024.size a)
theorem k0_off1190_inb : ∀ (v3571 : BitVec 32) (k0_hw595 : k0_chk595 v3571), ∀ a, (k0_off1190 v3571) a + S1x1024.size a ≤ S37888x1024.size a := fun v3571 k0_hw595 => k0_hw595

def k0_off1191 (i : grid0.Coords) : Fin 1 → Nat :=
  let arg0 : BitVec 32 := BitVec.ofNat 32 (i 0).val
  let c1024_i32 : BitVec 32 := 1024#32
  let v0 : BitVec 32 := Scalar.muli arg0 c1024_i32
  let c594_i32_2530 : BitVec 32 := 594#32
  let v3574 : BitVec 32 := Scalar.addi v0 c594_i32_2530
  let c1_i32_2531 : BitVec 32 := 1#32
  let v3575 : BitVec 32 := Scalar.addi v3574 c1_i32_2531
  let v3576 : Index := Scalar.indexCast v3575
  ![v3576.toNat]
def k0_off1192 (v3577 : BitVec 32) : Fin 2 → Nat :=
  let c0_i32_2532 : BitVec 32 := 0#32
  ![v3577.toNat, 0]

def k0_chk596 (v3577 : BitVec 32) : Prop :=
  (∀ a, (k0_off1192 v3577) a + S1x1024.size a ≤ S37888x1024.size a)
theorem k0_off1192_inb : ∀ (v3577 : BitVec 32) (k0_hw596 : k0_chk596 v3577), ∀ a, (k0_off1192 v3577) a + S1x1024.size a ≤ S37888x1024.size a := fun v3577 k0_hw596 => k0_hw596

def k0_off1193 (i : grid0.Coords) : Fin 1 → Nat :=
  let arg0 : BitVec 32 := BitVec.ofNat 32 (i 0).val
  let c1024_i32 : BitVec 32 := 1024#32
  let v0 : BitVec 32 := Scalar.muli arg0 c1024_i32
  let c596_i32 : BitVec 32 := 596#32
  let v3580 : BitVec 32 := Scalar.addi v0 c596_i32
  let c0_i32_2535 : BitVec 32 := 0#32
  let v3581 : BitVec 32 := Scalar.addi v3580 c0_i32_2535
  let v3582 : Index := Scalar.indexCast v3581
  ![v3582.toNat]
def k0_off1194 (v3583 : BitVec 32) : Fin 2 → Nat :=
  let c0_i32_2536 : BitVec 32 := 0#32
  ![v3583.toNat, 0]

def k0_chk597 (v3583 : BitVec 32) : Prop :=
  (∀ a, (k0_off1194 v3583) a + S1x1024.size a ≤ S37888x1024.size a)
theorem k0_off1194_inb : ∀ (v3583 : BitVec 32) (k0_hw597 : k0_chk597 v3583), ∀ a, (k0_off1194 v3583) a + S1x1024.size a ≤ S37888x1024.size a := fun v3583 k0_hw597 => k0_hw597

def k0_off1195 (i : grid0.Coords) : Fin 1 → Nat :=
  let arg0 : BitVec 32 := BitVec.ofNat 32 (i 0).val
  let c1024_i32 : BitVec 32 := 1024#32
  let v0 : BitVec 32 := Scalar.muli arg0 c1024_i32
  let c596_i32_2539 : BitVec 32 := 596#32
  let v3586 : BitVec 32 := Scalar.addi v0 c596_i32_2539
  let c1_i32_2540 : BitVec 32 := 1#32
  let v3587 : BitVec 32 := Scalar.addi v3586 c1_i32_2540
  let v3588 : Index := Scalar.indexCast v3587
  ![v3588.toNat]
def k0_off1196 (v3589 : BitVec 32) : Fin 2 → Nat :=
  let c0_i32_2541 : BitVec 32 := 0#32
  ![v3589.toNat, 0]

def k0_chk598 (v3589 : BitVec 32) : Prop :=
  (∀ a, (k0_off1196 v3589) a + S1x1024.size a ≤ S37888x1024.size a)
theorem k0_off1196_inb : ∀ (v3589 : BitVec 32) (k0_hw598 : k0_chk598 v3589), ∀ a, (k0_off1196 v3589) a + S1x1024.size a ≤ S37888x1024.size a := fun v3589 k0_hw598 => k0_hw598

def k0_off1197 (i : grid0.Coords) : Fin 1 → Nat :=
  let arg0 : BitVec 32 := BitVec.ofNat 32 (i 0).val
  let c1024_i32 : BitVec 32 := 1024#32
  let v0 : BitVec 32 := Scalar.muli arg0 c1024_i32
  let c598_i32 : BitVec 32 := 598#32
  let v3592 : BitVec 32 := Scalar.addi v0 c598_i32
  let c0_i32_2544 : BitVec 32 := 0#32
  let v3593 : BitVec 32 := Scalar.addi v3592 c0_i32_2544
  let v3594 : Index := Scalar.indexCast v3593
  ![v3594.toNat]
def k0_off1198 (v3595 : BitVec 32) : Fin 2 → Nat :=
  let c0_i32_2545 : BitVec 32 := 0#32
  ![v3595.toNat, 0]

def k0_chk599 (v3595 : BitVec 32) : Prop :=
  (∀ a, (k0_off1198 v3595) a + S1x1024.size a ≤ S37888x1024.size a)
theorem k0_off1198_inb : ∀ (v3595 : BitVec 32) (k0_hw599 : k0_chk599 v3595), ∀ a, (k0_off1198 v3595) a + S1x1024.size a ≤ S37888x1024.size a := fun v3595 k0_hw599 => k0_hw599

def k0_off1199 (i : grid0.Coords) : Fin 1 → Nat :=
  let arg0 : BitVec 32 := BitVec.ofNat 32 (i 0).val
  let c1024_i32 : BitVec 32 := 1024#32
  let v0 : BitVec 32 := Scalar.muli arg0 c1024_i32
  let c598_i32_2547 : BitVec 32 := 598#32
  let v3598 : BitVec 32 := Scalar.addi v0 c598_i32_2547
  let c1_i32_2548 : BitVec 32 := 1#32
  let v3599 : BitVec 32 := Scalar.addi v3598 c1_i32_2548
  let v3600 : Index := Scalar.indexCast v3599
  ![v3600.toNat]
def k0_off1200 (v3601 : BitVec 32) : Fin 2 → Nat :=
  let c0_i32_2549 : BitVec 32 := 0#32
  ![v3601.toNat, 0]

def k0_chk600 (v3601 : BitVec 32) : Prop :=
  (∀ a, (k0_off1200 v3601) a + S1x1024.size a ≤ S37888x1024.size a)
theorem k0_off1200_inb : ∀ (v3601 : BitVec 32) (k0_hw600 : k0_chk600 v3601), ∀ a, (k0_off1200 v3601) a + S1x1024.size a ≤ S37888x1024.size a := fun v3601 k0_hw600 => k0_hw600

def k0_off1201 (i : grid0.Coords) : Fin 1 → Nat :=
  let arg0 : BitVec 32 := BitVec.ofNat 32 (i 0).val
  let c1024_i32 : BitVec 32 := 1024#32
  let v0 : BitVec 32 := Scalar.muli arg0 c1024_i32
  let c600_i32 : BitVec 32 := 600#32
  let v3604 : BitVec 32 := Scalar.addi v0 c600_i32
  let c0_i32_2552 : BitVec 32 := 0#32
  let v3605 : BitVec 32 := Scalar.addi v3604 c0_i32_2552
  let v3606 : Index := Scalar.indexCast v3605
  ![v3606.toNat]
def k0_off1202 (v3607 : BitVec 32) : Fin 2 → Nat :=
  let c0_i32_2553 : BitVec 32 := 0#32
  ![v3607.toNat, 0]

def k0_chk601 (v3607 : BitVec 32) : Prop :=
  (∀ a, (k0_off1202 v3607) a + S1x1024.size a ≤ S37888x1024.size a)
theorem k0_off1202_inb : ∀ (v3607 : BitVec 32) (k0_hw601 : k0_chk601 v3607), ∀ a, (k0_off1202 v3607) a + S1x1024.size a ≤ S37888x1024.size a := fun v3607 k0_hw601 => k0_hw601

def k0_off1203 (i : grid0.Coords) : Fin 1 → Nat :=
  let arg0 : BitVec 32 := BitVec.ofNat 32 (i 0).val
  let c1024_i32 : BitVec 32 := 1024#32
  let v0 : BitVec 32 := Scalar.muli arg0 c1024_i32
  let c600_i32_2556 : BitVec 32 := 600#32
  let v3610 : BitVec 32 := Scalar.addi v0 c600_i32_2556
  let c1_i32_2557 : BitVec 32 := 1#32
  let v3611 : BitVec 32 := Scalar.addi v3610 c1_i32_2557
  let v3612 : Index := Scalar.indexCast v3611
  ![v3612.toNat]
def k0_off1204 (v3613 : BitVec 32) : Fin 2 → Nat :=
  let c0_i32_2558 : BitVec 32 := 0#32
  ![v3613.toNat, 0]

def k0_chk602 (v3613 : BitVec 32) : Prop :=
  (∀ a, (k0_off1204 v3613) a + S1x1024.size a ≤ S37888x1024.size a)
theorem k0_off1204_inb : ∀ (v3613 : BitVec 32) (k0_hw602 : k0_chk602 v3613), ∀ a, (k0_off1204 v3613) a + S1x1024.size a ≤ S37888x1024.size a := fun v3613 k0_hw602 => k0_hw602

def k0_off1205 (i : grid0.Coords) : Fin 1 → Nat :=
  let arg0 : BitVec 32 := BitVec.ofNat 32 (i 0).val
  let c1024_i32 : BitVec 32 := 1024#32
  let v0 : BitVec 32 := Scalar.muli arg0 c1024_i32
  let c602_i32 : BitVec 32 := 602#32
  let v3616 : BitVec 32 := Scalar.addi v0 c602_i32
  let c0_i32_2561 : BitVec 32 := 0#32
  let v3617 : BitVec 32 := Scalar.addi v3616 c0_i32_2561
  let v3618 : Index := Scalar.indexCast v3617
  ![v3618.toNat]
def k0_off1206 (v3619 : BitVec 32) : Fin 2 → Nat :=
  let c0_i32_2562 : BitVec 32 := 0#32
  ![v3619.toNat, 0]

def k0_chk603 (v3619 : BitVec 32) : Prop :=
  (∀ a, (k0_off1206 v3619) a + S1x1024.size a ≤ S37888x1024.size a)
theorem k0_off1206_inb : ∀ (v3619 : BitVec 32) (k0_hw603 : k0_chk603 v3619), ∀ a, (k0_off1206 v3619) a + S1x1024.size a ≤ S37888x1024.size a := fun v3619 k0_hw603 => k0_hw603

def k0_off1207 (i : grid0.Coords) : Fin 1 → Nat :=
  let arg0 : BitVec 32 := BitVec.ofNat 32 (i 0).val
  let c1024_i32 : BitVec 32 := 1024#32
  let v0 : BitVec 32 := Scalar.muli arg0 c1024_i32
  let c602_i32_2564 : BitVec 32 := 602#32
  let v3622 : BitVec 32 := Scalar.addi v0 c602_i32_2564
  let c1_i32_2565 : BitVec 32 := 1#32
  let v3623 : BitVec 32 := Scalar.addi v3622 c1_i32_2565
  let v3624 : Index := Scalar.indexCast v3623
  ![v3624.toNat]
def k0_off1208 (v3625 : BitVec 32) : Fin 2 → Nat :=
  let c0_i32_2566 : BitVec 32 := 0#32
  ![v3625.toNat, 0]

def k0_chk604 (v3625 : BitVec 32) : Prop :=
  (∀ a, (k0_off1208 v3625) a + S1x1024.size a ≤ S37888x1024.size a)
theorem k0_off1208_inb : ∀ (v3625 : BitVec 32) (k0_hw604 : k0_chk604 v3625), ∀ a, (k0_off1208 v3625) a + S1x1024.size a ≤ S37888x1024.size a := fun v3625 k0_hw604 => k0_hw604

def k0_off1209 (i : grid0.Coords) : Fin 1 → Nat :=
  let arg0 : BitVec 32 := BitVec.ofNat 32 (i 0).val
  let c1024_i32 : BitVec 32 := 1024#32
  let v0 : BitVec 32 := Scalar.muli arg0 c1024_i32
  let c604_i32 : BitVec 32 := 604#32
  let v3628 : BitVec 32 := Scalar.addi v0 c604_i32
  let c0_i32_2569 : BitVec 32 := 0#32
  let v3629 : BitVec 32 := Scalar.addi v3628 c0_i32_2569
  let v3630 : Index := Scalar.indexCast v3629
  ![v3630.toNat]
def k0_off1210 (v3631 : BitVec 32) : Fin 2 → Nat :=
  let c0_i32_2570 : BitVec 32 := 0#32
  ![v3631.toNat, 0]

def k0_chk605 (v3631 : BitVec 32) : Prop :=
  (∀ a, (k0_off1210 v3631) a + S1x1024.size a ≤ S37888x1024.size a)
theorem k0_off1210_inb : ∀ (v3631 : BitVec 32) (k0_hw605 : k0_chk605 v3631), ∀ a, (k0_off1210 v3631) a + S1x1024.size a ≤ S37888x1024.size a := fun v3631 k0_hw605 => k0_hw605

def k0_off1211 (i : grid0.Coords) : Fin 1 → Nat :=
  let arg0 : BitVec 32 := BitVec.ofNat 32 (i 0).val
  let c1024_i32 : BitVec 32 := 1024#32
  let v0 : BitVec 32 := Scalar.muli arg0 c1024_i32
  let c604_i32_2573 : BitVec 32 := 604#32
  let v3634 : BitVec 32 := Scalar.addi v0 c604_i32_2573
  let c1_i32_2574 : BitVec 32 := 1#32
  let v3635 : BitVec 32 := Scalar.addi v3634 c1_i32_2574
  let v3636 : Index := Scalar.indexCast v3635
  ![v3636.toNat]
def k0_off1212 (v3637 : BitVec 32) : Fin 2 → Nat :=
  let c0_i32_2575 : BitVec 32 := 0#32
  ![v3637.toNat, 0]

def k0_chk606 (v3637 : BitVec 32) : Prop :=
  (∀ a, (k0_off1212 v3637) a + S1x1024.size a ≤ S37888x1024.size a)
theorem k0_off1212_inb : ∀ (v3637 : BitVec 32) (k0_hw606 : k0_chk606 v3637), ∀ a, (k0_off1212 v3637) a + S1x1024.size a ≤ S37888x1024.size a := fun v3637 k0_hw606 => k0_hw606

def k0_off1213 (i : grid0.Coords) : Fin 1 → Nat :=
  let arg0 : BitVec 32 := BitVec.ofNat 32 (i 0).val
  let c1024_i32 : BitVec 32 := 1024#32
  let v0 : BitVec 32 := Scalar.muli arg0 c1024_i32
  let c606_i32 : BitVec 32 := 606#32
  let v3640 : BitVec 32 := Scalar.addi v0 c606_i32
  let c0_i32_2578 : BitVec 32 := 0#32
  let v3641 : BitVec 32 := Scalar.addi v3640 c0_i32_2578
  let v3642 : Index := Scalar.indexCast v3641
  ![v3642.toNat]
def k0_off1214 (v3643 : BitVec 32) : Fin 2 → Nat :=
  let c0_i32_2579 : BitVec 32 := 0#32
  ![v3643.toNat, 0]

def k0_chk607 (v3643 : BitVec 32) : Prop :=
  (∀ a, (k0_off1214 v3643) a + S1x1024.size a ≤ S37888x1024.size a)
theorem k0_off1214_inb : ∀ (v3643 : BitVec 32) (k0_hw607 : k0_chk607 v3643), ∀ a, (k0_off1214 v3643) a + S1x1024.size a ≤ S37888x1024.size a := fun v3643 k0_hw607 => k0_hw607

def k0_off1215 (i : grid0.Coords) : Fin 1 → Nat :=
  let arg0 : BitVec 32 := BitVec.ofNat 32 (i 0).val
  let c1024_i32 : BitVec 32 := 1024#32
  let v0 : BitVec 32 := Scalar.muli arg0 c1024_i32
  let c606_i32_2581 : BitVec 32 := 606#32
  let v3646 : BitVec 32 := Scalar.addi v0 c606_i32_2581
  let c1_i32_2582 : BitVec 32 := 1#32
  let v3647 : BitVec 32 := Scalar.addi v3646 c1_i32_2582
  let v3648 : Index := Scalar.indexCast v3647
  ![v3648.toNat]
def k0_off1216 (v3649 : BitVec 32) : Fin 2 → Nat :=
  let c0_i32_2583 : BitVec 32 := 0#32
  ![v3649.toNat, 0]

def k0_chk608 (v3649 : BitVec 32) : Prop :=
  (∀ a, (k0_off1216 v3649) a + S1x1024.size a ≤ S37888x1024.size a)
theorem k0_off1216_inb : ∀ (v3649 : BitVec 32) (k0_hw608 : k0_chk608 v3649), ∀ a, (k0_off1216 v3649) a + S1x1024.size a ≤ S37888x1024.size a := fun v3649 k0_hw608 => k0_hw608

def k0_off1217 (i : grid0.Coords) : Fin 1 → Nat :=
  let arg0 : BitVec 32 := BitVec.ofNat 32 (i 0).val
  let c1024_i32 : BitVec 32 := 1024#32
  let v0 : BitVec 32 := Scalar.muli arg0 c1024_i32
  let c608_i32 : BitVec 32 := 608#32
  let v3652 : BitVec 32 := Scalar.addi v0 c608_i32
  let c0_i32_2586 : BitVec 32 := 0#32
  let v3653 : BitVec 32 := Scalar.addi v3652 c0_i32_2586
  let v3654 : Index := Scalar.indexCast v3653
  ![v3654.toNat]
def k0_off1218 (v3655 : BitVec 32) : Fin 2 → Nat :=
  let c0_i32_2587 : BitVec 32 := 0#32
  ![v3655.toNat, 0]

def k0_chk609 (v3655 : BitVec 32) : Prop :=
  (∀ a, (k0_off1218 v3655) a + S1x1024.size a ≤ S37888x1024.size a)
theorem k0_off1218_inb : ∀ (v3655 : BitVec 32) (k0_hw609 : k0_chk609 v3655), ∀ a, (k0_off1218 v3655) a + S1x1024.size a ≤ S37888x1024.size a := fun v3655 k0_hw609 => k0_hw609

def k0_off1219 (i : grid0.Coords) : Fin 1 → Nat :=
  let arg0 : BitVec 32 := BitVec.ofNat 32 (i 0).val
  let c1024_i32 : BitVec 32 := 1024#32
  let v0 : BitVec 32 := Scalar.muli arg0 c1024_i32
  let c608_i32_2590 : BitVec 32 := 608#32
  let v3658 : BitVec 32 := Scalar.addi v0 c608_i32_2590
  let c1_i32_2591 : BitVec 32 := 1#32
  let v3659 : BitVec 32 := Scalar.addi v3658 c1_i32_2591
  let v3660 : Index := Scalar.indexCast v3659
  ![v3660.toNat]
def k0_off1220 (v3661 : BitVec 32) : Fin 2 → Nat :=
  let c0_i32_2592 : BitVec 32 := 0#32
  ![v3661.toNat, 0]

def k0_chk610 (v3661 : BitVec 32) : Prop :=
  (∀ a, (k0_off1220 v3661) a + S1x1024.size a ≤ S37888x1024.size a)
theorem k0_off1220_inb : ∀ (v3661 : BitVec 32) (k0_hw610 : k0_chk610 v3661), ∀ a, (k0_off1220 v3661) a + S1x1024.size a ≤ S37888x1024.size a := fun v3661 k0_hw610 => k0_hw610

def k0_off1221 (i : grid0.Coords) : Fin 1 → Nat :=
  let arg0 : BitVec 32 := BitVec.ofNat 32 (i 0).val
  let c1024_i32 : BitVec 32 := 1024#32
  let v0 : BitVec 32 := Scalar.muli arg0 c1024_i32
  let c610_i32 : BitVec 32 := 610#32
  let v3664 : BitVec 32 := Scalar.addi v0 c610_i32
  let c0_i32_2595 : BitVec 32 := 0#32
  let v3665 : BitVec 32 := Scalar.addi v3664 c0_i32_2595
  let v3666 : Index := Scalar.indexCast v3665
  ![v3666.toNat]
def k0_off1222 (v3667 : BitVec 32) : Fin 2 → Nat :=
  let c0_i32_2596 : BitVec 32 := 0#32
  ![v3667.toNat, 0]

def k0_chk611 (v3667 : BitVec 32) : Prop :=
  (∀ a, (k0_off1222 v3667) a + S1x1024.size a ≤ S37888x1024.size a)
theorem k0_off1222_inb : ∀ (v3667 : BitVec 32) (k0_hw611 : k0_chk611 v3667), ∀ a, (k0_off1222 v3667) a + S1x1024.size a ≤ S37888x1024.size a := fun v3667 k0_hw611 => k0_hw611

def k0_off1223 (i : grid0.Coords) : Fin 1 → Nat :=
  let arg0 : BitVec 32 := BitVec.ofNat 32 (i 0).val
  let c1024_i32 : BitVec 32 := 1024#32
  let v0 : BitVec 32 := Scalar.muli arg0 c1024_i32
  let c610_i32_2598 : BitVec 32 := 610#32
  let v3670 : BitVec 32 := Scalar.addi v0 c610_i32_2598
  let c1_i32_2599 : BitVec 32 := 1#32
  let v3671 : BitVec 32 := Scalar.addi v3670 c1_i32_2599
  let v3672 : Index := Scalar.indexCast v3671
  ![v3672.toNat]
def k0_off1224 (v3673 : BitVec 32) : Fin 2 → Nat :=
  let c0_i32_2600 : BitVec 32 := 0#32
  ![v3673.toNat, 0]

def k0_chk612 (v3673 : BitVec 32) : Prop :=
  (∀ a, (k0_off1224 v3673) a + S1x1024.size a ≤ S37888x1024.size a)
theorem k0_off1224_inb : ∀ (v3673 : BitVec 32) (k0_hw612 : k0_chk612 v3673), ∀ a, (k0_off1224 v3673) a + S1x1024.size a ≤ S37888x1024.size a := fun v3673 k0_hw612 => k0_hw612

def k0_off1225 (i : grid0.Coords) : Fin 1 → Nat :=
  let arg0 : BitVec 32 := BitVec.ofNat 32 (i 0).val
  let c1024_i32 : BitVec 32 := 1024#32
  let v0 : BitVec 32 := Scalar.muli arg0 c1024_i32
  let c612_i32 : BitVec 32 := 612#32
  let v3676 : BitVec 32 := Scalar.addi v0 c612_i32
  let c0_i32_2603 : BitVec 32 := 0#32
  let v3677 : BitVec 32 := Scalar.addi v3676 c0_i32_2603
  let v3678 : Index := Scalar.indexCast v3677
  ![v3678.toNat]
def k0_off1226 (v3679 : BitVec 32) : Fin 2 → Nat :=
  let c0_i32_2604 : BitVec 32 := 0#32
  ![v3679.toNat, 0]

def k0_chk613 (v3679 : BitVec 32) : Prop :=
  (∀ a, (k0_off1226 v3679) a + S1x1024.size a ≤ S37888x1024.size a)
theorem k0_off1226_inb : ∀ (v3679 : BitVec 32) (k0_hw613 : k0_chk613 v3679), ∀ a, (k0_off1226 v3679) a + S1x1024.size a ≤ S37888x1024.size a := fun v3679 k0_hw613 => k0_hw613

def k0_off1227 (i : grid0.Coords) : Fin 1 → Nat :=
  let arg0 : BitVec 32 := BitVec.ofNat 32 (i 0).val
  let c1024_i32 : BitVec 32 := 1024#32
  let v0 : BitVec 32 := Scalar.muli arg0 c1024_i32
  let c612_i32_2607 : BitVec 32 := 612#32
  let v3682 : BitVec 32 := Scalar.addi v0 c612_i32_2607
  let c1_i32_2608 : BitVec 32 := 1#32
  let v3683 : BitVec 32 := Scalar.addi v3682 c1_i32_2608
  let v3684 : Index := Scalar.indexCast v3683
  ![v3684.toNat]
def k0_off1228 (v3685 : BitVec 32) : Fin 2 → Nat :=
  let c0_i32_2609 : BitVec 32 := 0#32
  ![v3685.toNat, 0]

def k0_chk614 (v3685 : BitVec 32) : Prop :=
  (∀ a, (k0_off1228 v3685) a + S1x1024.size a ≤ S37888x1024.size a)
theorem k0_off1228_inb : ∀ (v3685 : BitVec 32) (k0_hw614 : k0_chk614 v3685), ∀ a, (k0_off1228 v3685) a + S1x1024.size a ≤ S37888x1024.size a := fun v3685 k0_hw614 => k0_hw614

def k0_off1229 (i : grid0.Coords) : Fin 1 → Nat :=
  let arg0 : BitVec 32 := BitVec.ofNat 32 (i 0).val
  let c1024_i32 : BitVec 32 := 1024#32
  let v0 : BitVec 32 := Scalar.muli arg0 c1024_i32
  let c614_i32 : BitVec 32 := 614#32
  let v3688 : BitVec 32 := Scalar.addi v0 c614_i32
  let c0_i32_2612 : BitVec 32 := 0#32
  let v3689 : BitVec 32 := Scalar.addi v3688 c0_i32_2612
  let v3690 : Index := Scalar.indexCast v3689
  ![v3690.toNat]
def k0_off1230 (v3691 : BitVec 32) : Fin 2 → Nat :=
  let c0_i32_2613 : BitVec 32 := 0#32
  ![v3691.toNat, 0]

def k0_chk615 (v3691 : BitVec 32) : Prop :=
  (∀ a, (k0_off1230 v3691) a + S1x1024.size a ≤ S37888x1024.size a)
theorem k0_off1230_inb : ∀ (v3691 : BitVec 32) (k0_hw615 : k0_chk615 v3691), ∀ a, (k0_off1230 v3691) a + S1x1024.size a ≤ S37888x1024.size a := fun v3691 k0_hw615 => k0_hw615

def k0_off1231 (i : grid0.Coords) : Fin 1 → Nat :=
  let arg0 : BitVec 32 := BitVec.ofNat 32 (i 0).val
  let c1024_i32 : BitVec 32 := 1024#32
  let v0 : BitVec 32 := Scalar.muli arg0 c1024_i32
  let c614_i32_2615 : BitVec 32 := 614#32
  let v3694 : BitVec 32 := Scalar.addi v0 c614_i32_2615
  let c1_i32_2616 : BitVec 32 := 1#32
  let v3695 : BitVec 32 := Scalar.addi v3694 c1_i32_2616
  let v3696 : Index := Scalar.indexCast v3695
  ![v3696.toNat]
def k0_off1232 (v3697 : BitVec 32) : Fin 2 → Nat :=
  let c0_i32_2617 : BitVec 32 := 0#32
  ![v3697.toNat, 0]

def k0_chk616 (v3697 : BitVec 32) : Prop :=
  (∀ a, (k0_off1232 v3697) a + S1x1024.size a ≤ S37888x1024.size a)
theorem k0_off1232_inb : ∀ (v3697 : BitVec 32) (k0_hw616 : k0_chk616 v3697), ∀ a, (k0_off1232 v3697) a + S1x1024.size a ≤ S37888x1024.size a := fun v3697 k0_hw616 => k0_hw616

def k0_off1233 (i : grid0.Coords) : Fin 1 → Nat :=
  let arg0 : BitVec 32 := BitVec.ofNat 32 (i 0).val
  let c1024_i32 : BitVec 32 := 1024#32
  let v0 : BitVec 32 := Scalar.muli arg0 c1024_i32
  let c616_i32 : BitVec 32 := 616#32
  let v3700 : BitVec 32 := Scalar.addi v0 c616_i32
  let c0_i32_2620 : BitVec 32 := 0#32
  let v3701 : BitVec 32 := Scalar.addi v3700 c0_i32_2620
  let v3702 : Index := Scalar.indexCast v3701
  ![v3702.toNat]
def k0_off1234 (v3703 : BitVec 32) : Fin 2 → Nat :=
  let c0_i32_2621 : BitVec 32 := 0#32
  ![v3703.toNat, 0]

def k0_chk617 (v3703 : BitVec 32) : Prop :=
  (∀ a, (k0_off1234 v3703) a + S1x1024.size a ≤ S37888x1024.size a)
theorem k0_off1234_inb : ∀ (v3703 : BitVec 32) (k0_hw617 : k0_chk617 v3703), ∀ a, (k0_off1234 v3703) a + S1x1024.size a ≤ S37888x1024.size a := fun v3703 k0_hw617 => k0_hw617

def k0_off1235 (i : grid0.Coords) : Fin 1 → Nat :=
  let arg0 : BitVec 32 := BitVec.ofNat 32 (i 0).val
  let c1024_i32 : BitVec 32 := 1024#32
  let v0 : BitVec 32 := Scalar.muli arg0 c1024_i32
  let c616_i32_2624 : BitVec 32 := 616#32
  let v3706 : BitVec 32 := Scalar.addi v0 c616_i32_2624
  let c1_i32_2625 : BitVec 32 := 1#32
  let v3707 : BitVec 32 := Scalar.addi v3706 c1_i32_2625
  let v3708 : Index := Scalar.indexCast v3707
  ![v3708.toNat]
def k0_off1236 (v3709 : BitVec 32) : Fin 2 → Nat :=
  let c0_i32_2626 : BitVec 32 := 0#32
  ![v3709.toNat, 0]

def k0_chk618 (v3709 : BitVec 32) : Prop :=
  (∀ a, (k0_off1236 v3709) a + S1x1024.size a ≤ S37888x1024.size a)
theorem k0_off1236_inb : ∀ (v3709 : BitVec 32) (k0_hw618 : k0_chk618 v3709), ∀ a, (k0_off1236 v3709) a + S1x1024.size a ≤ S37888x1024.size a := fun v3709 k0_hw618 => k0_hw618

def k0_off1237 (i : grid0.Coords) : Fin 1 → Nat :=
  let arg0 : BitVec 32 := BitVec.ofNat 32 (i 0).val
  let c1024_i32 : BitVec 32 := 1024#32
  let v0 : BitVec 32 := Scalar.muli arg0 c1024_i32
  let c618_i32 : BitVec 32 := 618#32
  let v3712 : BitVec 32 := Scalar.addi v0 c618_i32
  let c0_i32_2629 : BitVec 32 := 0#32
  let v3713 : BitVec 32 := Scalar.addi v3712 c0_i32_2629
  let v3714 : Index := Scalar.indexCast v3713
  ![v3714.toNat]
def k0_off1238 (v3715 : BitVec 32) : Fin 2 → Nat :=
  let c0_i32_2630 : BitVec 32 := 0#32
  ![v3715.toNat, 0]

def k0_chk619 (v3715 : BitVec 32) : Prop :=
  (∀ a, (k0_off1238 v3715) a + S1x1024.size a ≤ S37888x1024.size a)
theorem k0_off1238_inb : ∀ (v3715 : BitVec 32) (k0_hw619 : k0_chk619 v3715), ∀ a, (k0_off1238 v3715) a + S1x1024.size a ≤ S37888x1024.size a := fun v3715 k0_hw619 => k0_hw619

def k0_off1239 (i : grid0.Coords) : Fin 1 → Nat :=
  let arg0 : BitVec 32 := BitVec.ofNat 32 (i 0).val
  let c1024_i32 : BitVec 32 := 1024#32
  let v0 : BitVec 32 := Scalar.muli arg0 c1024_i32
  let c618_i32_2632 : BitVec 32 := 618#32
  let v3718 : BitVec 32 := Scalar.addi v0 c618_i32_2632
  let c1_i32_2633 : BitVec 32 := 1#32
  let v3719 : BitVec 32 := Scalar.addi v3718 c1_i32_2633
  let v3720 : Index := Scalar.indexCast v3719
  ![v3720.toNat]
def k0_off1240 (v3721 : BitVec 32) : Fin 2 → Nat :=
  let c0_i32_2634 : BitVec 32 := 0#32
  ![v3721.toNat, 0]

def k0_chk620 (v3721 : BitVec 32) : Prop :=
  (∀ a, (k0_off1240 v3721) a + S1x1024.size a ≤ S37888x1024.size a)
theorem k0_off1240_inb : ∀ (v3721 : BitVec 32) (k0_hw620 : k0_chk620 v3721), ∀ a, (k0_off1240 v3721) a + S1x1024.size a ≤ S37888x1024.size a := fun v3721 k0_hw620 => k0_hw620

def k0_off1241 (i : grid0.Coords) : Fin 1 → Nat :=
  let arg0 : BitVec 32 := BitVec.ofNat 32 (i 0).val
  let c1024_i32 : BitVec 32 := 1024#32
  let v0 : BitVec 32 := Scalar.muli arg0 c1024_i32
  let c620_i32 : BitVec 32 := 620#32
  let v3724 : BitVec 32 := Scalar.addi v0 c620_i32
  let c0_i32_2637 : BitVec 32 := 0#32
  let v3725 : BitVec 32 := Scalar.addi v3724 c0_i32_2637
  let v3726 : Index := Scalar.indexCast v3725
  ![v3726.toNat]
def k0_off1242 (v3727 : BitVec 32) : Fin 2 → Nat :=
  let c0_i32_2638 : BitVec 32 := 0#32
  ![v3727.toNat, 0]

def k0_chk621 (v3727 : BitVec 32) : Prop :=
  (∀ a, (k0_off1242 v3727) a + S1x1024.size a ≤ S37888x1024.size a)
theorem k0_off1242_inb : ∀ (v3727 : BitVec 32) (k0_hw621 : k0_chk621 v3727), ∀ a, (k0_off1242 v3727) a + S1x1024.size a ≤ S37888x1024.size a := fun v3727 k0_hw621 => k0_hw621

def k0_off1243 (i : grid0.Coords) : Fin 1 → Nat :=
  let arg0 : BitVec 32 := BitVec.ofNat 32 (i 0).val
  let c1024_i32 : BitVec 32 := 1024#32
  let v0 : BitVec 32 := Scalar.muli arg0 c1024_i32
  let c620_i32_2641 : BitVec 32 := 620#32
  let v3730 : BitVec 32 := Scalar.addi v0 c620_i32_2641
  let c1_i32_2642 : BitVec 32 := 1#32
  let v3731 : BitVec 32 := Scalar.addi v3730 c1_i32_2642
  let v3732 : Index := Scalar.indexCast v3731
  ![v3732.toNat]
def k0_off1244 (v3733 : BitVec 32) : Fin 2 → Nat :=
  let c0_i32_2643 : BitVec 32 := 0#32
  ![v3733.toNat, 0]

def k0_chk622 (v3733 : BitVec 32) : Prop :=
  (∀ a, (k0_off1244 v3733) a + S1x1024.size a ≤ S37888x1024.size a)
theorem k0_off1244_inb : ∀ (v3733 : BitVec 32) (k0_hw622 : k0_chk622 v3733), ∀ a, (k0_off1244 v3733) a + S1x1024.size a ≤ S37888x1024.size a := fun v3733 k0_hw622 => k0_hw622

def k0_off1245 (i : grid0.Coords) : Fin 1 → Nat :=
  let arg0 : BitVec 32 := BitVec.ofNat 32 (i 0).val
  let c1024_i32 : BitVec 32 := 1024#32
  let v0 : BitVec 32 := Scalar.muli arg0 c1024_i32
  let c622_i32 : BitVec 32 := 622#32
  let v3736 : BitVec 32 := Scalar.addi v0 c622_i32
  let c0_i32_2646 : BitVec 32 := 0#32
  let v3737 : BitVec 32 := Scalar.addi v3736 c0_i32_2646
  let v3738 : Index := Scalar.indexCast v3737
  ![v3738.toNat]
def k0_off1246 (v3739 : BitVec 32) : Fin 2 → Nat :=
  let c0_i32_2647 : BitVec 32 := 0#32
  ![v3739.toNat, 0]

def k0_chk623 (v3739 : BitVec 32) : Prop :=
  (∀ a, (k0_off1246 v3739) a + S1x1024.size a ≤ S37888x1024.size a)
theorem k0_off1246_inb : ∀ (v3739 : BitVec 32) (k0_hw623 : k0_chk623 v3739), ∀ a, (k0_off1246 v3739) a + S1x1024.size a ≤ S37888x1024.size a := fun v3739 k0_hw623 => k0_hw623

def k0_off1247 (i : grid0.Coords) : Fin 1 → Nat :=
  let arg0 : BitVec 32 := BitVec.ofNat 32 (i 0).val
  let c1024_i32 : BitVec 32 := 1024#32
  let v0 : BitVec 32 := Scalar.muli arg0 c1024_i32
  let c622_i32_2649 : BitVec 32 := 622#32
  let v3742 : BitVec 32 := Scalar.addi v0 c622_i32_2649
  let c1_i32_2650 : BitVec 32 := 1#32
  let v3743 : BitVec 32 := Scalar.addi v3742 c1_i32_2650
  let v3744 : Index := Scalar.indexCast v3743
  ![v3744.toNat]
def k0_off1248 (v3745 : BitVec 32) : Fin 2 → Nat :=
  let c0_i32_2651 : BitVec 32 := 0#32
  ![v3745.toNat, 0]

def k0_chk624 (v3745 : BitVec 32) : Prop :=
  (∀ a, (k0_off1248 v3745) a + S1x1024.size a ≤ S37888x1024.size a)
theorem k0_off1248_inb : ∀ (v3745 : BitVec 32) (k0_hw624 : k0_chk624 v3745), ∀ a, (k0_off1248 v3745) a + S1x1024.size a ≤ S37888x1024.size a := fun v3745 k0_hw624 => k0_hw624

def k0_off1249 (i : grid0.Coords) : Fin 1 → Nat :=
  let arg0 : BitVec 32 := BitVec.ofNat 32 (i 0).val
  let c1024_i32 : BitVec 32 := 1024#32
  let v0 : BitVec 32 := Scalar.muli arg0 c1024_i32
  let c624_i32 : BitVec 32 := 624#32
  let v3748 : BitVec 32 := Scalar.addi v0 c624_i32
  let c0_i32_2654 : BitVec 32 := 0#32
  let v3749 : BitVec 32 := Scalar.addi v3748 c0_i32_2654
  let v3750 : Index := Scalar.indexCast v3749
  ![v3750.toNat]
def k0_off1250 (v3751 : BitVec 32) : Fin 2 → Nat :=
  let c0_i32_2655 : BitVec 32 := 0#32
  ![v3751.toNat, 0]

def k0_chk625 (v3751 : BitVec 32) : Prop :=
  (∀ a, (k0_off1250 v3751) a + S1x1024.size a ≤ S37888x1024.size a)
theorem k0_off1250_inb : ∀ (v3751 : BitVec 32) (k0_hw625 : k0_chk625 v3751), ∀ a, (k0_off1250 v3751) a + S1x1024.size a ≤ S37888x1024.size a := fun v3751 k0_hw625 => k0_hw625

def k0_off1251 (i : grid0.Coords) : Fin 1 → Nat :=
  let arg0 : BitVec 32 := BitVec.ofNat 32 (i 0).val
  let c1024_i32 : BitVec 32 := 1024#32
  let v0 : BitVec 32 := Scalar.muli arg0 c1024_i32
  let c624_i32_2658 : BitVec 32 := 624#32
  let v3754 : BitVec 32 := Scalar.addi v0 c624_i32_2658
  let c1_i32_2659 : BitVec 32 := 1#32
  let v3755 : BitVec 32 := Scalar.addi v3754 c1_i32_2659
  let v3756 : Index := Scalar.indexCast v3755
  ![v3756.toNat]
def k0_off1252 (v3757 : BitVec 32) : Fin 2 → Nat :=
  let c0_i32_2660 : BitVec 32 := 0#32
  ![v3757.toNat, 0]

def k0_chk626 (v3757 : BitVec 32) : Prop :=
  (∀ a, (k0_off1252 v3757) a + S1x1024.size a ≤ S37888x1024.size a)
theorem k0_off1252_inb : ∀ (v3757 : BitVec 32) (k0_hw626 : k0_chk626 v3757), ∀ a, (k0_off1252 v3757) a + S1x1024.size a ≤ S37888x1024.size a := fun v3757 k0_hw626 => k0_hw626

def k0_off1253 (i : grid0.Coords) : Fin 1 → Nat :=
  let arg0 : BitVec 32 := BitVec.ofNat 32 (i 0).val
  let c1024_i32 : BitVec 32 := 1024#32
  let v0 : BitVec 32 := Scalar.muli arg0 c1024_i32
  let c626_i32 : BitVec 32 := 626#32
  let v3760 : BitVec 32 := Scalar.addi v0 c626_i32
  let c0_i32_2663 : BitVec 32 := 0#32
  let v3761 : BitVec 32 := Scalar.addi v3760 c0_i32_2663
  let v3762 : Index := Scalar.indexCast v3761
  ![v3762.toNat]
def k0_off1254 (v3763 : BitVec 32) : Fin 2 → Nat :=
  let c0_i32_2664 : BitVec 32 := 0#32
  ![v3763.toNat, 0]

def k0_chk627 (v3763 : BitVec 32) : Prop :=
  (∀ a, (k0_off1254 v3763) a + S1x1024.size a ≤ S37888x1024.size a)
theorem k0_off1254_inb : ∀ (v3763 : BitVec 32) (k0_hw627 : k0_chk627 v3763), ∀ a, (k0_off1254 v3763) a + S1x1024.size a ≤ S37888x1024.size a := fun v3763 k0_hw627 => k0_hw627

def k0_off1255 (i : grid0.Coords) : Fin 1 → Nat :=
  let arg0 : BitVec 32 := BitVec.ofNat 32 (i 0).val
  let c1024_i32 : BitVec 32 := 1024#32
  let v0 : BitVec 32 := Scalar.muli arg0 c1024_i32
  let c626_i32_2666 : BitVec 32 := 626#32
  let v3766 : BitVec 32 := Scalar.addi v0 c626_i32_2666
  let c1_i32_2667 : BitVec 32 := 1#32
  let v3767 : BitVec 32 := Scalar.addi v3766 c1_i32_2667
  let v3768 : Index := Scalar.indexCast v3767
  ![v3768.toNat]
def k0_off1256 (v3769 : BitVec 32) : Fin 2 → Nat :=
  let c0_i32_2668 : BitVec 32 := 0#32
  ![v3769.toNat, 0]

def k0_chk628 (v3769 : BitVec 32) : Prop :=
  (∀ a, (k0_off1256 v3769) a + S1x1024.size a ≤ S37888x1024.size a)
theorem k0_off1256_inb : ∀ (v3769 : BitVec 32) (k0_hw628 : k0_chk628 v3769), ∀ a, (k0_off1256 v3769) a + S1x1024.size a ≤ S37888x1024.size a := fun v3769 k0_hw628 => k0_hw628

def k0_off1257 (i : grid0.Coords) : Fin 1 → Nat :=
  let arg0 : BitVec 32 := BitVec.ofNat 32 (i 0).val
  let c1024_i32 : BitVec 32 := 1024#32
  let v0 : BitVec 32 := Scalar.muli arg0 c1024_i32
  let c628_i32 : BitVec 32 := 628#32
  let v3772 : BitVec 32 := Scalar.addi v0 c628_i32
  let c0_i32_2671 : BitVec 32 := 0#32
  let v3773 : BitVec 32 := Scalar.addi v3772 c0_i32_2671
  let v3774 : Index := Scalar.indexCast v3773
  ![v3774.toNat]
def k0_off1258 (v3775 : BitVec 32) : Fin 2 → Nat :=
  let c0_i32_2672 : BitVec 32 := 0#32
  ![v3775.toNat, 0]

def k0_chk629 (v3775 : BitVec 32) : Prop :=
  (∀ a, (k0_off1258 v3775) a + S1x1024.size a ≤ S37888x1024.size a)
theorem k0_off1258_inb : ∀ (v3775 : BitVec 32) (k0_hw629 : k0_chk629 v3775), ∀ a, (k0_off1258 v3775) a + S1x1024.size a ≤ S37888x1024.size a := fun v3775 k0_hw629 => k0_hw629

def k0_off1259 (i : grid0.Coords) : Fin 1 → Nat :=
  let arg0 : BitVec 32 := BitVec.ofNat 32 (i 0).val
  let c1024_i32 : BitVec 32 := 1024#32
  let v0 : BitVec 32 := Scalar.muli arg0 c1024_i32
  let c628_i32_2675 : BitVec 32 := 628#32
  let v3778 : BitVec 32 := Scalar.addi v0 c628_i32_2675
  let c1_i32_2676 : BitVec 32 := 1#32
  let v3779 : BitVec 32 := Scalar.addi v3778 c1_i32_2676
  let v3780 : Index := Scalar.indexCast v3779
  ![v3780.toNat]
def k0_off1260 (v3781 : BitVec 32) : Fin 2 → Nat :=
  let c0_i32_2677 : BitVec 32 := 0#32
  ![v3781.toNat, 0]

def k0_chk630 (v3781 : BitVec 32) : Prop :=
  (∀ a, (k0_off1260 v3781) a + S1x1024.size a ≤ S37888x1024.size a)
theorem k0_off1260_inb : ∀ (v3781 : BitVec 32) (k0_hw630 : k0_chk630 v3781), ∀ a, (k0_off1260 v3781) a + S1x1024.size a ≤ S37888x1024.size a := fun v3781 k0_hw630 => k0_hw630

def k0_off1261 (i : grid0.Coords) : Fin 1 → Nat :=
  let arg0 : BitVec 32 := BitVec.ofNat 32 (i 0).val
  let c1024_i32 : BitVec 32 := 1024#32
  let v0 : BitVec 32 := Scalar.muli arg0 c1024_i32
  let c630_i32 : BitVec 32 := 630#32
  let v3784 : BitVec 32 := Scalar.addi v0 c630_i32
  let c0_i32_2680 : BitVec 32 := 0#32
  let v3785 : BitVec 32 := Scalar.addi v3784 c0_i32_2680
  let v3786 : Index := Scalar.indexCast v3785
  ![v3786.toNat]
def k0_off1262 (v3787 : BitVec 32) : Fin 2 → Nat :=
  let c0_i32_2681 : BitVec 32 := 0#32
  ![v3787.toNat, 0]

def k0_chk631 (v3787 : BitVec 32) : Prop :=
  (∀ a, (k0_off1262 v3787) a + S1x1024.size a ≤ S37888x1024.size a)
theorem k0_off1262_inb : ∀ (v3787 : BitVec 32) (k0_hw631 : k0_chk631 v3787), ∀ a, (k0_off1262 v3787) a + S1x1024.size a ≤ S37888x1024.size a := fun v3787 k0_hw631 => k0_hw631

def k0_off1263 (i : grid0.Coords) : Fin 1 → Nat :=
  let arg0 : BitVec 32 := BitVec.ofNat 32 (i 0).val
  let c1024_i32 : BitVec 32 := 1024#32
  let v0 : BitVec 32 := Scalar.muli arg0 c1024_i32
  let c630_i32_2683 : BitVec 32 := 630#32
  let v3790 : BitVec 32 := Scalar.addi v0 c630_i32_2683
  let c1_i32_2684 : BitVec 32 := 1#32
  let v3791 : BitVec 32 := Scalar.addi v3790 c1_i32_2684
  let v3792 : Index := Scalar.indexCast v3791
  ![v3792.toNat]
def k0_off1264 (v3793 : BitVec 32) : Fin 2 → Nat :=
  let c0_i32_2685 : BitVec 32 := 0#32
  ![v3793.toNat, 0]

def k0_chk632 (v3793 : BitVec 32) : Prop :=
  (∀ a, (k0_off1264 v3793) a + S1x1024.size a ≤ S37888x1024.size a)
theorem k0_off1264_inb : ∀ (v3793 : BitVec 32) (k0_hw632 : k0_chk632 v3793), ∀ a, (k0_off1264 v3793) a + S1x1024.size a ≤ S37888x1024.size a := fun v3793 k0_hw632 => k0_hw632

def k0_off1265 (i : grid0.Coords) : Fin 1 → Nat :=
  let arg0 : BitVec 32 := BitVec.ofNat 32 (i 0).val
  let c1024_i32 : BitVec 32 := 1024#32
  let v0 : BitVec 32 := Scalar.muli arg0 c1024_i32
  let c632_i32 : BitVec 32 := 632#32
  let v3796 : BitVec 32 := Scalar.addi v0 c632_i32
  let c0_i32_2688 : BitVec 32 := 0#32
  let v3797 : BitVec 32 := Scalar.addi v3796 c0_i32_2688
  let v3798 : Index := Scalar.indexCast v3797
  ![v3798.toNat]
def k0_off1266 (v3799 : BitVec 32) : Fin 2 → Nat :=
  let c0_i32_2689 : BitVec 32 := 0#32
  ![v3799.toNat, 0]

def k0_chk633 (v3799 : BitVec 32) : Prop :=
  (∀ a, (k0_off1266 v3799) a + S1x1024.size a ≤ S37888x1024.size a)
theorem k0_off1266_inb : ∀ (v3799 : BitVec 32) (k0_hw633 : k0_chk633 v3799), ∀ a, (k0_off1266 v3799) a + S1x1024.size a ≤ S37888x1024.size a := fun v3799 k0_hw633 => k0_hw633

def k0_off1267 (i : grid0.Coords) : Fin 1 → Nat :=
  let arg0 : BitVec 32 := BitVec.ofNat 32 (i 0).val
  let c1024_i32 : BitVec 32 := 1024#32
  let v0 : BitVec 32 := Scalar.muli arg0 c1024_i32
  let c632_i32_2692 : BitVec 32 := 632#32
  let v3802 : BitVec 32 := Scalar.addi v0 c632_i32_2692
  let c1_i32_2693 : BitVec 32 := 1#32
  let v3803 : BitVec 32 := Scalar.addi v3802 c1_i32_2693
  let v3804 : Index := Scalar.indexCast v3803
  ![v3804.toNat]
def k0_off1268 (v3805 : BitVec 32) : Fin 2 → Nat :=
  let c0_i32_2694 : BitVec 32 := 0#32
  ![v3805.toNat, 0]

def k0_chk634 (v3805 : BitVec 32) : Prop :=
  (∀ a, (k0_off1268 v3805) a + S1x1024.size a ≤ S37888x1024.size a)
theorem k0_off1268_inb : ∀ (v3805 : BitVec 32) (k0_hw634 : k0_chk634 v3805), ∀ a, (k0_off1268 v3805) a + S1x1024.size a ≤ S37888x1024.size a := fun v3805 k0_hw634 => k0_hw634

def k0_off1269 (i : grid0.Coords) : Fin 1 → Nat :=
  let arg0 : BitVec 32 := BitVec.ofNat 32 (i 0).val
  let c1024_i32 : BitVec 32 := 1024#32
  let v0 : BitVec 32 := Scalar.muli arg0 c1024_i32
  let c634_i32 : BitVec 32 := 634#32
  let v3808 : BitVec 32 := Scalar.addi v0 c634_i32
  let c0_i32_2697 : BitVec 32 := 0#32
  let v3809 : BitVec 32 := Scalar.addi v3808 c0_i32_2697
  let v3810 : Index := Scalar.indexCast v3809
  ![v3810.toNat]
def k0_off1270 (v3811 : BitVec 32) : Fin 2 → Nat :=
  let c0_i32_2698 : BitVec 32 := 0#32
  ![v3811.toNat, 0]

def k0_chk635 (v3811 : BitVec 32) : Prop :=
  (∀ a, (k0_off1270 v3811) a + S1x1024.size a ≤ S37888x1024.size a)
theorem k0_off1270_inb : ∀ (v3811 : BitVec 32) (k0_hw635 : k0_chk635 v3811), ∀ a, (k0_off1270 v3811) a + S1x1024.size a ≤ S37888x1024.size a := fun v3811 k0_hw635 => k0_hw635

def k0_off1271 (i : grid0.Coords) : Fin 1 → Nat :=
  let arg0 : BitVec 32 := BitVec.ofNat 32 (i 0).val
  let c1024_i32 : BitVec 32 := 1024#32
  let v0 : BitVec 32 := Scalar.muli arg0 c1024_i32
  let c634_i32_2700 : BitVec 32 := 634#32
  let v3814 : BitVec 32 := Scalar.addi v0 c634_i32_2700
  let c1_i32_2701 : BitVec 32 := 1#32
  let v3815 : BitVec 32 := Scalar.addi v3814 c1_i32_2701
  let v3816 : Index := Scalar.indexCast v3815
  ![v3816.toNat]
def k0_off1272 (v3817 : BitVec 32) : Fin 2 → Nat :=
  let c0_i32_2702 : BitVec 32 := 0#32
  ![v3817.toNat, 0]

def k0_chk636 (v3817 : BitVec 32) : Prop :=
  (∀ a, (k0_off1272 v3817) a + S1x1024.size a ≤ S37888x1024.size a)
theorem k0_off1272_inb : ∀ (v3817 : BitVec 32) (k0_hw636 : k0_chk636 v3817), ∀ a, (k0_off1272 v3817) a + S1x1024.size a ≤ S37888x1024.size a := fun v3817 k0_hw636 => k0_hw636

def k0_off1273 (i : grid0.Coords) : Fin 1 → Nat :=
  let arg0 : BitVec 32 := BitVec.ofNat 32 (i 0).val
  let c1024_i32 : BitVec 32 := 1024#32
  let v0 : BitVec 32 := Scalar.muli arg0 c1024_i32
  let c636_i32 : BitVec 32 := 636#32
  let v3820 : BitVec 32 := Scalar.addi v0 c636_i32
  let c0_i32_2705 : BitVec 32 := 0#32
  let v3821 : BitVec 32 := Scalar.addi v3820 c0_i32_2705
  let v3822 : Index := Scalar.indexCast v3821
  ![v3822.toNat]
def k0_off1274 (v3823 : BitVec 32) : Fin 2 → Nat :=
  let c0_i32_2706 : BitVec 32 := 0#32
  ![v3823.toNat, 0]

def k0_chk637 (v3823 : BitVec 32) : Prop :=
  (∀ a, (k0_off1274 v3823) a + S1x1024.size a ≤ S37888x1024.size a)
theorem k0_off1274_inb : ∀ (v3823 : BitVec 32) (k0_hw637 : k0_chk637 v3823), ∀ a, (k0_off1274 v3823) a + S1x1024.size a ≤ S37888x1024.size a := fun v3823 k0_hw637 => k0_hw637

def k0_off1275 (i : grid0.Coords) : Fin 1 → Nat :=
  let arg0 : BitVec 32 := BitVec.ofNat 32 (i 0).val
  let c1024_i32 : BitVec 32 := 1024#32
  let v0 : BitVec 32 := Scalar.muli arg0 c1024_i32
  let c636_i32_2709 : BitVec 32 := 636#32
  let v3826 : BitVec 32 := Scalar.addi v0 c636_i32_2709
  let c1_i32_2710 : BitVec 32 := 1#32
  let v3827 : BitVec 32 := Scalar.addi v3826 c1_i32_2710
  let v3828 : Index := Scalar.indexCast v3827
  ![v3828.toNat]
def k0_off1276 (v3829 : BitVec 32) : Fin 2 → Nat :=
  let c0_i32_2711 : BitVec 32 := 0#32
  ![v3829.toNat, 0]

def k0_chk638 (v3829 : BitVec 32) : Prop :=
  (∀ a, (k0_off1276 v3829) a + S1x1024.size a ≤ S37888x1024.size a)
theorem k0_off1276_inb : ∀ (v3829 : BitVec 32) (k0_hw638 : k0_chk638 v3829), ∀ a, (k0_off1276 v3829) a + S1x1024.size a ≤ S37888x1024.size a := fun v3829 k0_hw638 => k0_hw638

def k0_off1277 (i : grid0.Coords) : Fin 1 → Nat :=
  let arg0 : BitVec 32 := BitVec.ofNat 32 (i 0).val
  let c1024_i32 : BitVec 32 := 1024#32
  let v0 : BitVec 32 := Scalar.muli arg0 c1024_i32
  let c638_i32 : BitVec 32 := 638#32
  let v3832 : BitVec 32 := Scalar.addi v0 c638_i32
  let c0_i32_2714 : BitVec 32 := 0#32
  let v3833 : BitVec 32 := Scalar.addi v3832 c0_i32_2714
  let v3834 : Index := Scalar.indexCast v3833
  ![v3834.toNat]
def k0_off1278 (v3835 : BitVec 32) : Fin 2 → Nat :=
  let c0_i32_2715 : BitVec 32 := 0#32
  ![v3835.toNat, 0]

def k0_chk639 (v3835 : BitVec 32) : Prop :=
  (∀ a, (k0_off1278 v3835) a + S1x1024.size a ≤ S37888x1024.size a)
theorem k0_off1278_inb : ∀ (v3835 : BitVec 32) (k0_hw639 : k0_chk639 v3835), ∀ a, (k0_off1278 v3835) a + S1x1024.size a ≤ S37888x1024.size a := fun v3835 k0_hw639 => k0_hw639

def k0_off1279 (i : grid0.Coords) : Fin 1 → Nat :=
  let arg0 : BitVec 32 := BitVec.ofNat 32 (i 0).val
  let c1024_i32 : BitVec 32 := 1024#32
  let v0 : BitVec 32 := Scalar.muli arg0 c1024_i32
  let c638_i32_2717 : BitVec 32 := 638#32
  let v3838 : BitVec 32 := Scalar.addi v0 c638_i32_2717
  let c1_i32_2718 : BitVec 32 := 1#32
  let v3839 : BitVec 32 := Scalar.addi v3838 c1_i32_2718
  let v3840 : Index := Scalar.indexCast v3839
  ![v3840.toNat]
def k0_off1280 (v3841 : BitVec 32) : Fin 2 → Nat :=
  let c0_i32_2719 : BitVec 32 := 0#32
  ![v3841.toNat, 0]

def k0_chk640 (v3841 : BitVec 32) : Prop :=
  (∀ a, (k0_off1280 v3841) a + S1x1024.size a ≤ S37888x1024.size a)
theorem k0_off1280_inb : ∀ (v3841 : BitVec 32) (k0_hw640 : k0_chk640 v3841), ∀ a, (k0_off1280 v3841) a + S1x1024.size a ≤ S37888x1024.size a := fun v3841 k0_hw640 => k0_hw640

def k0_off1281 (i : grid0.Coords) : Fin 1 → Nat :=
  let arg0 : BitVec 32 := BitVec.ofNat 32 (i 0).val
  let c1024_i32 : BitVec 32 := 1024#32
  let v0 : BitVec 32 := Scalar.muli arg0 c1024_i32
  let c640_i32 : BitVec 32 := 640#32
  let v3844 : BitVec 32 := Scalar.addi v0 c640_i32
  let c0_i32_2722 : BitVec 32 := 0#32
  let v3845 : BitVec 32 := Scalar.addi v3844 c0_i32_2722
  let v3846 : Index := Scalar.indexCast v3845
  ![v3846.toNat]
def k0_off1282 (v3847 : BitVec 32) : Fin 2 → Nat :=
  let c0_i32_2723 : BitVec 32 := 0#32
  ![v3847.toNat, 0]

def k0_chk641 (v3847 : BitVec 32) : Prop :=
  (∀ a, (k0_off1282 v3847) a + S1x1024.size a ≤ S37888x1024.size a)
theorem k0_off1282_inb : ∀ (v3847 : BitVec 32) (k0_hw641 : k0_chk641 v3847), ∀ a, (k0_off1282 v3847) a + S1x1024.size a ≤ S37888x1024.size a := fun v3847 k0_hw641 => k0_hw641

def k0_off1283 (i : grid0.Coords) : Fin 1 → Nat :=
  let arg0 : BitVec 32 := BitVec.ofNat 32 (i 0).val
  let c1024_i32 : BitVec 32 := 1024#32
  let v0 : BitVec 32 := Scalar.muli arg0 c1024_i32
  let c640_i32_2726 : BitVec 32 := 640#32
  let v3850 : BitVec 32 := Scalar.addi v0 c640_i32_2726
  let c1_i32_2727 : BitVec 32 := 1#32
  let v3851 : BitVec 32 := Scalar.addi v3850 c1_i32_2727
  let v3852 : Index := Scalar.indexCast v3851
  ![v3852.toNat]
def k0_off1284 (v3853 : BitVec 32) : Fin 2 → Nat :=
  let c0_i32_2728 : BitVec 32 := 0#32
  ![v3853.toNat, 0]

def k0_chk642 (v3853 : BitVec 32) : Prop :=
  (∀ a, (k0_off1284 v3853) a + S1x1024.size a ≤ S37888x1024.size a)
theorem k0_off1284_inb : ∀ (v3853 : BitVec 32) (k0_hw642 : k0_chk642 v3853), ∀ a, (k0_off1284 v3853) a + S1x1024.size a ≤ S37888x1024.size a := fun v3853 k0_hw642 => k0_hw642

def k0_off1285 (i : grid0.Coords) : Fin 1 → Nat :=
  let arg0 : BitVec 32 := BitVec.ofNat 32 (i 0).val
  let c1024_i32 : BitVec 32 := 1024#32
  let v0 : BitVec 32 := Scalar.muli arg0 c1024_i32
  let c642_i32 : BitVec 32 := 642#32
  let v3856 : BitVec 32 := Scalar.addi v0 c642_i32
  let c0_i32_2731 : BitVec 32 := 0#32
  let v3857 : BitVec 32 := Scalar.addi v3856 c0_i32_2731
  let v3858 : Index := Scalar.indexCast v3857
  ![v3858.toNat]
def k0_off1286 (v3859 : BitVec 32) : Fin 2 → Nat :=
  let c0_i32_2732 : BitVec 32 := 0#32
  ![v3859.toNat, 0]

def k0_chk643 (v3859 : BitVec 32) : Prop :=
  (∀ a, (k0_off1286 v3859) a + S1x1024.size a ≤ S37888x1024.size a)
theorem k0_off1286_inb : ∀ (v3859 : BitVec 32) (k0_hw643 : k0_chk643 v3859), ∀ a, (k0_off1286 v3859) a + S1x1024.size a ≤ S37888x1024.size a := fun v3859 k0_hw643 => k0_hw643

def k0_off1287 (i : grid0.Coords) : Fin 1 → Nat :=
  let arg0 : BitVec 32 := BitVec.ofNat 32 (i 0).val
  let c1024_i32 : BitVec 32 := 1024#32
  let v0 : BitVec 32 := Scalar.muli arg0 c1024_i32
  let c642_i32_2734 : BitVec 32 := 642#32
  let v3862 : BitVec 32 := Scalar.addi v0 c642_i32_2734
  let c1_i32_2735 : BitVec 32 := 1#32
  let v3863 : BitVec 32 := Scalar.addi v3862 c1_i32_2735
  let v3864 : Index := Scalar.indexCast v3863
  ![v3864.toNat]
def k0_off1288 (v3865 : BitVec 32) : Fin 2 → Nat :=
  let c0_i32_2736 : BitVec 32 := 0#32
  ![v3865.toNat, 0]

def k0_chk644 (v3865 : BitVec 32) : Prop :=
  (∀ a, (k0_off1288 v3865) a + S1x1024.size a ≤ S37888x1024.size a)
theorem k0_off1288_inb : ∀ (v3865 : BitVec 32) (k0_hw644 : k0_chk644 v3865), ∀ a, (k0_off1288 v3865) a + S1x1024.size a ≤ S37888x1024.size a := fun v3865 k0_hw644 => k0_hw644

def k0_off1289 (i : grid0.Coords) : Fin 1 → Nat :=
  let arg0 : BitVec 32 := BitVec.ofNat 32 (i 0).val
  let c1024_i32 : BitVec 32 := 1024#32
  let v0 : BitVec 32 := Scalar.muli arg0 c1024_i32
  let c644_i32 : BitVec 32 := 644#32
  let v3868 : BitVec 32 := Scalar.addi v0 c644_i32
  let c0_i32_2739 : BitVec 32 := 0#32
  let v3869 : BitVec 32 := Scalar.addi v3868 c0_i32_2739
  let v3870 : Index := Scalar.indexCast v3869
  ![v3870.toNat]
def k0_off1290 (v3871 : BitVec 32) : Fin 2 → Nat :=
  let c0_i32_2740 : BitVec 32 := 0#32
  ![v3871.toNat, 0]

def k0_chk645 (v3871 : BitVec 32) : Prop :=
  (∀ a, (k0_off1290 v3871) a + S1x1024.size a ≤ S37888x1024.size a)
theorem k0_off1290_inb : ∀ (v3871 : BitVec 32) (k0_hw645 : k0_chk645 v3871), ∀ a, (k0_off1290 v3871) a + S1x1024.size a ≤ S37888x1024.size a := fun v3871 k0_hw645 => k0_hw645

def k0_off1291 (i : grid0.Coords) : Fin 1 → Nat :=
  let arg0 : BitVec 32 := BitVec.ofNat 32 (i 0).val
  let c1024_i32 : BitVec 32 := 1024#32
  let v0 : BitVec 32 := Scalar.muli arg0 c1024_i32
  let c644_i32_2743 : BitVec 32 := 644#32
  let v3874 : BitVec 32 := Scalar.addi v0 c644_i32_2743
  let c1_i32_2744 : BitVec 32 := 1#32
  let v3875 : BitVec 32 := Scalar.addi v3874 c1_i32_2744
  let v3876 : Index := Scalar.indexCast v3875
  ![v3876.toNat]
def k0_off1292 (v3877 : BitVec 32) : Fin 2 → Nat :=
  let c0_i32_2745 : BitVec 32 := 0#32
  ![v3877.toNat, 0]

def k0_chk646 (v3877 : BitVec 32) : Prop :=
  (∀ a, (k0_off1292 v3877) a + S1x1024.size a ≤ S37888x1024.size a)
theorem k0_off1292_inb : ∀ (v3877 : BitVec 32) (k0_hw646 : k0_chk646 v3877), ∀ a, (k0_off1292 v3877) a + S1x1024.size a ≤ S37888x1024.size a := fun v3877 k0_hw646 => k0_hw646

def k0_off1293 (i : grid0.Coords) : Fin 1 → Nat :=
  let arg0 : BitVec 32 := BitVec.ofNat 32 (i 0).val
  let c1024_i32 : BitVec 32 := 1024#32
  let v0 : BitVec 32 := Scalar.muli arg0 c1024_i32
  let c646_i32 : BitVec 32 := 646#32
  let v3880 : BitVec 32 := Scalar.addi v0 c646_i32
  let c0_i32_2748 : BitVec 32 := 0#32
  let v3881 : BitVec 32 := Scalar.addi v3880 c0_i32_2748
  let v3882 : Index := Scalar.indexCast v3881
  ![v3882.toNat]
def k0_off1294 (v3883 : BitVec 32) : Fin 2 → Nat :=
  let c0_i32_2749 : BitVec 32 := 0#32
  ![v3883.toNat, 0]

def k0_chk647 (v3883 : BitVec 32) : Prop :=
  (∀ a, (k0_off1294 v3883) a + S1x1024.size a ≤ S37888x1024.size a)
theorem k0_off1294_inb : ∀ (v3883 : BitVec 32) (k0_hw647 : k0_chk647 v3883), ∀ a, (k0_off1294 v3883) a + S1x1024.size a ≤ S37888x1024.size a := fun v3883 k0_hw647 => k0_hw647

def k0_off1295 (i : grid0.Coords) : Fin 1 → Nat :=
  let arg0 : BitVec 32 := BitVec.ofNat 32 (i 0).val
  let c1024_i32 : BitVec 32 := 1024#32
  let v0 : BitVec 32 := Scalar.muli arg0 c1024_i32
  let c646_i32_2751 : BitVec 32 := 646#32
  let v3886 : BitVec 32 := Scalar.addi v0 c646_i32_2751
  let c1_i32_2752 : BitVec 32 := 1#32
  let v3887 : BitVec 32 := Scalar.addi v3886 c1_i32_2752
  let v3888 : Index := Scalar.indexCast v3887
  ![v3888.toNat]
def k0_off1296 (v3889 : BitVec 32) : Fin 2 → Nat :=
  let c0_i32_2753 : BitVec 32 := 0#32
  ![v3889.toNat, 0]

def k0_chk648 (v3889 : BitVec 32) : Prop :=
  (∀ a, (k0_off1296 v3889) a + S1x1024.size a ≤ S37888x1024.size a)
theorem k0_off1296_inb : ∀ (v3889 : BitVec 32) (k0_hw648 : k0_chk648 v3889), ∀ a, (k0_off1296 v3889) a + S1x1024.size a ≤ S37888x1024.size a := fun v3889 k0_hw648 => k0_hw648

def k0_off1297 (i : grid0.Coords) : Fin 1 → Nat :=
  let arg0 : BitVec 32 := BitVec.ofNat 32 (i 0).val
  let c1024_i32 : BitVec 32 := 1024#32
  let v0 : BitVec 32 := Scalar.muli arg0 c1024_i32
  let c648_i32 : BitVec 32 := 648#32
  let v3892 : BitVec 32 := Scalar.addi v0 c648_i32
  let c0_i32_2756 : BitVec 32 := 0#32
  let v3893 : BitVec 32 := Scalar.addi v3892 c0_i32_2756
  let v3894 : Index := Scalar.indexCast v3893
  ![v3894.toNat]
def k0_off1298 (v3895 : BitVec 32) : Fin 2 → Nat :=
  let c0_i32_2757 : BitVec 32 := 0#32
  ![v3895.toNat, 0]

def k0_chk649 (v3895 : BitVec 32) : Prop :=
  (∀ a, (k0_off1298 v3895) a + S1x1024.size a ≤ S37888x1024.size a)
theorem k0_off1298_inb : ∀ (v3895 : BitVec 32) (k0_hw649 : k0_chk649 v3895), ∀ a, (k0_off1298 v3895) a + S1x1024.size a ≤ S37888x1024.size a := fun v3895 k0_hw649 => k0_hw649

def k0_off1299 (i : grid0.Coords) : Fin 1 → Nat :=
  let arg0 : BitVec 32 := BitVec.ofNat 32 (i 0).val
  let c1024_i32 : BitVec 32 := 1024#32
  let v0 : BitVec 32 := Scalar.muli arg0 c1024_i32
  let c648_i32_2760 : BitVec 32 := 648#32
  let v3898 : BitVec 32 := Scalar.addi v0 c648_i32_2760
  let c1_i32_2761 : BitVec 32 := 1#32
  let v3899 : BitVec 32 := Scalar.addi v3898 c1_i32_2761
  let v3900 : Index := Scalar.indexCast v3899
  ![v3900.toNat]
def k0_off1300 (v3901 : BitVec 32) : Fin 2 → Nat :=
  let c0_i32_2762 : BitVec 32 := 0#32
  ![v3901.toNat, 0]

def k0_chk650 (v3901 : BitVec 32) : Prop :=
  (∀ a, (k0_off1300 v3901) a + S1x1024.size a ≤ S37888x1024.size a)
theorem k0_off1300_inb : ∀ (v3901 : BitVec 32) (k0_hw650 : k0_chk650 v3901), ∀ a, (k0_off1300 v3901) a + S1x1024.size a ≤ S37888x1024.size a := fun v3901 k0_hw650 => k0_hw650

def k0_off1301 (i : grid0.Coords) : Fin 1 → Nat :=
  let arg0 : BitVec 32 := BitVec.ofNat 32 (i 0).val
  let c1024_i32 : BitVec 32 := 1024#32
  let v0 : BitVec 32 := Scalar.muli arg0 c1024_i32
  let c650_i32 : BitVec 32 := 650#32
  let v3904 : BitVec 32 := Scalar.addi v0 c650_i32
  let c0_i32_2765 : BitVec 32 := 0#32
  let v3905 : BitVec 32 := Scalar.addi v3904 c0_i32_2765
  let v3906 : Index := Scalar.indexCast v3905
  ![v3906.toNat]
def k0_off1302 (v3907 : BitVec 32) : Fin 2 → Nat :=
  let c0_i32_2766 : BitVec 32 := 0#32
  ![v3907.toNat, 0]

def k0_chk651 (v3907 : BitVec 32) : Prop :=
  (∀ a, (k0_off1302 v3907) a + S1x1024.size a ≤ S37888x1024.size a)
theorem k0_off1302_inb : ∀ (v3907 : BitVec 32) (k0_hw651 : k0_chk651 v3907), ∀ a, (k0_off1302 v3907) a + S1x1024.size a ≤ S37888x1024.size a := fun v3907 k0_hw651 => k0_hw651

def k0_off1303 (i : grid0.Coords) : Fin 1 → Nat :=
  let arg0 : BitVec 32 := BitVec.ofNat 32 (i 0).val
  let c1024_i32 : BitVec 32 := 1024#32
  let v0 : BitVec 32 := Scalar.muli arg0 c1024_i32
  let c650_i32_2768 : BitVec 32 := 650#32
  let v3910 : BitVec 32 := Scalar.addi v0 c650_i32_2768
  let c1_i32_2769 : BitVec 32 := 1#32
  let v3911 : BitVec 32 := Scalar.addi v3910 c1_i32_2769
  let v3912 : Index := Scalar.indexCast v3911
  ![v3912.toNat]
def k0_off1304 (v3913 : BitVec 32) : Fin 2 → Nat :=
  let c0_i32_2770 : BitVec 32 := 0#32
  ![v3913.toNat, 0]

def k0_chk652 (v3913 : BitVec 32) : Prop :=
  (∀ a, (k0_off1304 v3913) a + S1x1024.size a ≤ S37888x1024.size a)
theorem k0_off1304_inb : ∀ (v3913 : BitVec 32) (k0_hw652 : k0_chk652 v3913), ∀ a, (k0_off1304 v3913) a + S1x1024.size a ≤ S37888x1024.size a := fun v3913 k0_hw652 => k0_hw652

def k0_off1305 (i : grid0.Coords) : Fin 1 → Nat :=
  let arg0 : BitVec 32 := BitVec.ofNat 32 (i 0).val
  let c1024_i32 : BitVec 32 := 1024#32
  let v0 : BitVec 32 := Scalar.muli arg0 c1024_i32
  let c652_i32 : BitVec 32 := 652#32
  let v3916 : BitVec 32 := Scalar.addi v0 c652_i32
  let c0_i32_2773 : BitVec 32 := 0#32
  let v3917 : BitVec 32 := Scalar.addi v3916 c0_i32_2773
  let v3918 : Index := Scalar.indexCast v3917
  ![v3918.toNat]
def k0_off1306 (v3919 : BitVec 32) : Fin 2 → Nat :=
  let c0_i32_2774 : BitVec 32 := 0#32
  ![v3919.toNat, 0]

def k0_chk653 (v3919 : BitVec 32) : Prop :=
  (∀ a, (k0_off1306 v3919) a + S1x1024.size a ≤ S37888x1024.size a)
theorem k0_off1306_inb : ∀ (v3919 : BitVec 32) (k0_hw653 : k0_chk653 v3919), ∀ a, (k0_off1306 v3919) a + S1x1024.size a ≤ S37888x1024.size a := fun v3919 k0_hw653 => k0_hw653

def k0_off1307 (i : grid0.Coords) : Fin 1 → Nat :=
  let arg0 : BitVec 32 := BitVec.ofNat 32 (i 0).val
  let c1024_i32 : BitVec 32 := 1024#32
  let v0 : BitVec 32 := Scalar.muli arg0 c1024_i32
  let c652_i32_2777 : BitVec 32 := 652#32
  let v3922 : BitVec 32 := Scalar.addi v0 c652_i32_2777
  let c1_i32_2778 : BitVec 32 := 1#32
  let v3923 : BitVec 32 := Scalar.addi v3922 c1_i32_2778
  let v3924 : Index := Scalar.indexCast v3923
  ![v3924.toNat]
def k0_off1308 (v3925 : BitVec 32) : Fin 2 → Nat :=
  let c0_i32_2779 : BitVec 32 := 0#32
  ![v3925.toNat, 0]

def k0_chk654 (v3925 : BitVec 32) : Prop :=
  (∀ a, (k0_off1308 v3925) a + S1x1024.size a ≤ S37888x1024.size a)
theorem k0_off1308_inb : ∀ (v3925 : BitVec 32) (k0_hw654 : k0_chk654 v3925), ∀ a, (k0_off1308 v3925) a + S1x1024.size a ≤ S37888x1024.size a := fun v3925 k0_hw654 => k0_hw654

def k0_off1309 (i : grid0.Coords) : Fin 1 → Nat :=
  let arg0 : BitVec 32 := BitVec.ofNat 32 (i 0).val
  let c1024_i32 : BitVec 32 := 1024#32
  let v0 : BitVec 32 := Scalar.muli arg0 c1024_i32
  let c654_i32 : BitVec 32 := 654#32
  let v3928 : BitVec 32 := Scalar.addi v0 c654_i32
  let c0_i32_2782 : BitVec 32 := 0#32
  let v3929 : BitVec 32 := Scalar.addi v3928 c0_i32_2782
  let v3930 : Index := Scalar.indexCast v3929
  ![v3930.toNat]
def k0_off1310 (v3931 : BitVec 32) : Fin 2 → Nat :=
  let c0_i32_2783 : BitVec 32 := 0#32
  ![v3931.toNat, 0]

def k0_chk655 (v3931 : BitVec 32) : Prop :=
  (∀ a, (k0_off1310 v3931) a + S1x1024.size a ≤ S37888x1024.size a)
theorem k0_off1310_inb : ∀ (v3931 : BitVec 32) (k0_hw655 : k0_chk655 v3931), ∀ a, (k0_off1310 v3931) a + S1x1024.size a ≤ S37888x1024.size a := fun v3931 k0_hw655 => k0_hw655

def k0_off1311 (i : grid0.Coords) : Fin 1 → Nat :=
  let arg0 : BitVec 32 := BitVec.ofNat 32 (i 0).val
  let c1024_i32 : BitVec 32 := 1024#32
  let v0 : BitVec 32 := Scalar.muli arg0 c1024_i32
  let c654_i32_2785 : BitVec 32 := 654#32
  let v3934 : BitVec 32 := Scalar.addi v0 c654_i32_2785
  let c1_i32_2786 : BitVec 32 := 1#32
  let v3935 : BitVec 32 := Scalar.addi v3934 c1_i32_2786
  let v3936 : Index := Scalar.indexCast v3935
  ![v3936.toNat]
def k0_off1312 (v3937 : BitVec 32) : Fin 2 → Nat :=
  let c0_i32_2787 : BitVec 32 := 0#32
  ![v3937.toNat, 0]

def k0_chk656 (v3937 : BitVec 32) : Prop :=
  (∀ a, (k0_off1312 v3937) a + S1x1024.size a ≤ S37888x1024.size a)
theorem k0_off1312_inb : ∀ (v3937 : BitVec 32) (k0_hw656 : k0_chk656 v3937), ∀ a, (k0_off1312 v3937) a + S1x1024.size a ≤ S37888x1024.size a := fun v3937 k0_hw656 => k0_hw656

def k0_off1313 (i : grid0.Coords) : Fin 1 → Nat :=
  let arg0 : BitVec 32 := BitVec.ofNat 32 (i 0).val
  let c1024_i32 : BitVec 32 := 1024#32
  let v0 : BitVec 32 := Scalar.muli arg0 c1024_i32
  let c656_i32 : BitVec 32 := 656#32
  let v3940 : BitVec 32 := Scalar.addi v0 c656_i32
  let c0_i32_2790 : BitVec 32 := 0#32
  let v3941 : BitVec 32 := Scalar.addi v3940 c0_i32_2790
  let v3942 : Index := Scalar.indexCast v3941
  ![v3942.toNat]
def k0_off1314 (v3943 : BitVec 32) : Fin 2 → Nat :=
  let c0_i32_2791 : BitVec 32 := 0#32
  ![v3943.toNat, 0]

def k0_chk657 (v3943 : BitVec 32) : Prop :=
  (∀ a, (k0_off1314 v3943) a + S1x1024.size a ≤ S37888x1024.size a)
theorem k0_off1314_inb : ∀ (v3943 : BitVec 32) (k0_hw657 : k0_chk657 v3943), ∀ a, (k0_off1314 v3943) a + S1x1024.size a ≤ S37888x1024.size a := fun v3943 k0_hw657 => k0_hw657

def k0_off1315 (i : grid0.Coords) : Fin 1 → Nat :=
  let arg0 : BitVec 32 := BitVec.ofNat 32 (i 0).val
  let c1024_i32 : BitVec 32 := 1024#32
  let v0 : BitVec 32 := Scalar.muli arg0 c1024_i32
  let c656_i32_2794 : BitVec 32 := 656#32
  let v3946 : BitVec 32 := Scalar.addi v0 c656_i32_2794
  let c1_i32_2795 : BitVec 32 := 1#32
  let v3947 : BitVec 32 := Scalar.addi v3946 c1_i32_2795
  let v3948 : Index := Scalar.indexCast v3947
  ![v3948.toNat]
def k0_off1316 (v3949 : BitVec 32) : Fin 2 → Nat :=
  let c0_i32_2796 : BitVec 32 := 0#32
  ![v3949.toNat, 0]

def k0_chk658 (v3949 : BitVec 32) : Prop :=
  (∀ a, (k0_off1316 v3949) a + S1x1024.size a ≤ S37888x1024.size a)
theorem k0_off1316_inb : ∀ (v3949 : BitVec 32) (k0_hw658 : k0_chk658 v3949), ∀ a, (k0_off1316 v3949) a + S1x1024.size a ≤ S37888x1024.size a := fun v3949 k0_hw658 => k0_hw658

def k0_off1317 (i : grid0.Coords) : Fin 1 → Nat :=
  let arg0 : BitVec 32 := BitVec.ofNat 32 (i 0).val
  let c1024_i32 : BitVec 32 := 1024#32
  let v0 : BitVec 32 := Scalar.muli arg0 c1024_i32
  let c658_i32 : BitVec 32 := 658#32
  let v3952 : BitVec 32 := Scalar.addi v0 c658_i32
  let c0_i32_2799 : BitVec 32 := 0#32
  let v3953 : BitVec 32 := Scalar.addi v3952 c0_i32_2799
  let v3954 : Index := Scalar.indexCast v3953
  ![v3954.toNat]
def k0_off1318 (v3955 : BitVec 32) : Fin 2 → Nat :=
  let c0_i32_2800 : BitVec 32 := 0#32
  ![v3955.toNat, 0]

def k0_chk659 (v3955 : BitVec 32) : Prop :=
  (∀ a, (k0_off1318 v3955) a + S1x1024.size a ≤ S37888x1024.size a)
theorem k0_off1318_inb : ∀ (v3955 : BitVec 32) (k0_hw659 : k0_chk659 v3955), ∀ a, (k0_off1318 v3955) a + S1x1024.size a ≤ S37888x1024.size a := fun v3955 k0_hw659 => k0_hw659

def k0_off1319 (i : grid0.Coords) : Fin 1 → Nat :=
  let arg0 : BitVec 32 := BitVec.ofNat 32 (i 0).val
  let c1024_i32 : BitVec 32 := 1024#32
  let v0 : BitVec 32 := Scalar.muli arg0 c1024_i32
  let c658_i32_2802 : BitVec 32 := 658#32
  let v3958 : BitVec 32 := Scalar.addi v0 c658_i32_2802
  let c1_i32_2803 : BitVec 32 := 1#32
  let v3959 : BitVec 32 := Scalar.addi v3958 c1_i32_2803
  let v3960 : Index := Scalar.indexCast v3959
  ![v3960.toNat]
def k0_off1320 (v3961 : BitVec 32) : Fin 2 → Nat :=
  let c0_i32_2804 : BitVec 32 := 0#32
  ![v3961.toNat, 0]

def k0_chk660 (v3961 : BitVec 32) : Prop :=
  (∀ a, (k0_off1320 v3961) a + S1x1024.size a ≤ S37888x1024.size a)
theorem k0_off1320_inb : ∀ (v3961 : BitVec 32) (k0_hw660 : k0_chk660 v3961), ∀ a, (k0_off1320 v3961) a + S1x1024.size a ≤ S37888x1024.size a := fun v3961 k0_hw660 => k0_hw660

def k0_off1321 (i : grid0.Coords) : Fin 1 → Nat :=
  let arg0 : BitVec 32 := BitVec.ofNat 32 (i 0).val
  let c1024_i32 : BitVec 32 := 1024#32
  let v0 : BitVec 32 := Scalar.muli arg0 c1024_i32
  let c660_i32 : BitVec 32 := 660#32
  let v3964 : BitVec 32 := Scalar.addi v0 c660_i32
  let c0_i32_2807 : BitVec 32 := 0#32
  let v3965 : BitVec 32 := Scalar.addi v3964 c0_i32_2807
  let v3966 : Index := Scalar.indexCast v3965
  ![v3966.toNat]
def k0_off1322 (v3967 : BitVec 32) : Fin 2 → Nat :=
  let c0_i32_2808 : BitVec 32 := 0#32
  ![v3967.toNat, 0]

def k0_chk661 (v3967 : BitVec 32) : Prop :=
  (∀ a, (k0_off1322 v3967) a + S1x1024.size a ≤ S37888x1024.size a)
theorem k0_off1322_inb : ∀ (v3967 : BitVec 32) (k0_hw661 : k0_chk661 v3967), ∀ a, (k0_off1322 v3967) a + S1x1024.size a ≤ S37888x1024.size a := fun v3967 k0_hw661 => k0_hw661

def k0_off1323 (i : grid0.Coords) : Fin 1 → Nat :=
  let arg0 : BitVec 32 := BitVec.ofNat 32 (i 0).val
  let c1024_i32 : BitVec 32 := 1024#32
  let v0 : BitVec 32 := Scalar.muli arg0 c1024_i32
  let c660_i32_2811 : BitVec 32 := 660#32
  let v3970 : BitVec 32 := Scalar.addi v0 c660_i32_2811
  let c1_i32_2812 : BitVec 32 := 1#32
  let v3971 : BitVec 32 := Scalar.addi v3970 c1_i32_2812
  let v3972 : Index := Scalar.indexCast v3971
  ![v3972.toNat]
def k0_off1324 (v3973 : BitVec 32) : Fin 2 → Nat :=
  let c0_i32_2813 : BitVec 32 := 0#32
  ![v3973.toNat, 0]

def k0_chk662 (v3973 : BitVec 32) : Prop :=
  (∀ a, (k0_off1324 v3973) a + S1x1024.size a ≤ S37888x1024.size a)
theorem k0_off1324_inb : ∀ (v3973 : BitVec 32) (k0_hw662 : k0_chk662 v3973), ∀ a, (k0_off1324 v3973) a + S1x1024.size a ≤ S37888x1024.size a := fun v3973 k0_hw662 => k0_hw662

def k0_off1325 (i : grid0.Coords) : Fin 1 → Nat :=
  let arg0 : BitVec 32 := BitVec.ofNat 32 (i 0).val
  let c1024_i32 : BitVec 32 := 1024#32
  let v0 : BitVec 32 := Scalar.muli arg0 c1024_i32
  let c662_i32 : BitVec 32 := 662#32
  let v3976 : BitVec 32 := Scalar.addi v0 c662_i32
  let c0_i32_2816 : BitVec 32 := 0#32
  let v3977 : BitVec 32 := Scalar.addi v3976 c0_i32_2816
  let v3978 : Index := Scalar.indexCast v3977
  ![v3978.toNat]
def k0_off1326 (v3979 : BitVec 32) : Fin 2 → Nat :=
  let c0_i32_2817 : BitVec 32 := 0#32
  ![v3979.toNat, 0]

def k0_chk663 (v3979 : BitVec 32) : Prop :=
  (∀ a, (k0_off1326 v3979) a + S1x1024.size a ≤ S37888x1024.size a)
theorem k0_off1326_inb : ∀ (v3979 : BitVec 32) (k0_hw663 : k0_chk663 v3979), ∀ a, (k0_off1326 v3979) a + S1x1024.size a ≤ S37888x1024.size a := fun v3979 k0_hw663 => k0_hw663

def k0_off1327 (i : grid0.Coords) : Fin 1 → Nat :=
  let arg0 : BitVec 32 := BitVec.ofNat 32 (i 0).val
  let c1024_i32 : BitVec 32 := 1024#32
  let v0 : BitVec 32 := Scalar.muli arg0 c1024_i32
  let c662_i32_2819 : BitVec 32 := 662#32
  let v3982 : BitVec 32 := Scalar.addi v0 c662_i32_2819
  let c1_i32_2820 : BitVec 32 := 1#32
  let v3983 : BitVec 32 := Scalar.addi v3982 c1_i32_2820
  let v3984 : Index := Scalar.indexCast v3983
  ![v3984.toNat]
def k0_off1328 (v3985 : BitVec 32) : Fin 2 → Nat :=
  let c0_i32_2821 : BitVec 32 := 0#32
  ![v3985.toNat, 0]

def k0_chk664 (v3985 : BitVec 32) : Prop :=
  (∀ a, (k0_off1328 v3985) a + S1x1024.size a ≤ S37888x1024.size a)
theorem k0_off1328_inb : ∀ (v3985 : BitVec 32) (k0_hw664 : k0_chk664 v3985), ∀ a, (k0_off1328 v3985) a + S1x1024.size a ≤ S37888x1024.size a := fun v3985 k0_hw664 => k0_hw664

def k0_off1329 (i : grid0.Coords) : Fin 1 → Nat :=
  let arg0 : BitVec 32 := BitVec.ofNat 32 (i 0).val
  let c1024_i32 : BitVec 32 := 1024#32
  let v0 : BitVec 32 := Scalar.muli arg0 c1024_i32
  let c664_i32 : BitVec 32 := 664#32
  let v3988 : BitVec 32 := Scalar.addi v0 c664_i32
  let c0_i32_2824 : BitVec 32 := 0#32
  let v3989 : BitVec 32 := Scalar.addi v3988 c0_i32_2824
  let v3990 : Index := Scalar.indexCast v3989
  ![v3990.toNat]
def k0_off1330 (v3991 : BitVec 32) : Fin 2 → Nat :=
  let c0_i32_2825 : BitVec 32 := 0#32
  ![v3991.toNat, 0]

def k0_chk665 (v3991 : BitVec 32) : Prop :=
  (∀ a, (k0_off1330 v3991) a + S1x1024.size a ≤ S37888x1024.size a)
theorem k0_off1330_inb : ∀ (v3991 : BitVec 32) (k0_hw665 : k0_chk665 v3991), ∀ a, (k0_off1330 v3991) a + S1x1024.size a ≤ S37888x1024.size a := fun v3991 k0_hw665 => k0_hw665

def k0_off1331 (i : grid0.Coords) : Fin 1 → Nat :=
  let arg0 : BitVec 32 := BitVec.ofNat 32 (i 0).val
  let c1024_i32 : BitVec 32 := 1024#32
  let v0 : BitVec 32 := Scalar.muli arg0 c1024_i32
  let c664_i32_2828 : BitVec 32 := 664#32
  let v3994 : BitVec 32 := Scalar.addi v0 c664_i32_2828
  let c1_i32_2829 : BitVec 32 := 1#32
  let v3995 : BitVec 32 := Scalar.addi v3994 c1_i32_2829
  let v3996 : Index := Scalar.indexCast v3995
  ![v3996.toNat]
def k0_off1332 (v3997 : BitVec 32) : Fin 2 → Nat :=
  let c0_i32_2830 : BitVec 32 := 0#32
  ![v3997.toNat, 0]

def k0_chk666 (v3997 : BitVec 32) : Prop :=
  (∀ a, (k0_off1332 v3997) a + S1x1024.size a ≤ S37888x1024.size a)
theorem k0_off1332_inb : ∀ (v3997 : BitVec 32) (k0_hw666 : k0_chk666 v3997), ∀ a, (k0_off1332 v3997) a + S1x1024.size a ≤ S37888x1024.size a := fun v3997 k0_hw666 => k0_hw666

def k0_off1333 (i : grid0.Coords) : Fin 1 → Nat :=
  let arg0 : BitVec 32 := BitVec.ofNat 32 (i 0).val
  let c1024_i32 : BitVec 32 := 1024#32
  let v0 : BitVec 32 := Scalar.muli arg0 c1024_i32
  let c666_i32 : BitVec 32 := 666#32
  let v4000 : BitVec 32 := Scalar.addi v0 c666_i32
  let c0_i32_2833 : BitVec 32 := 0#32
  let v4001 : BitVec 32 := Scalar.addi v4000 c0_i32_2833
  let v4002 : Index := Scalar.indexCast v4001
  ![v4002.toNat]
def k0_off1334 (v4003 : BitVec 32) : Fin 2 → Nat :=
  let c0_i32_2834 : BitVec 32 := 0#32
  ![v4003.toNat, 0]

def k0_chk667 (v4003 : BitVec 32) : Prop :=
  (∀ a, (k0_off1334 v4003) a + S1x1024.size a ≤ S37888x1024.size a)
theorem k0_off1334_inb : ∀ (v4003 : BitVec 32) (k0_hw667 : k0_chk667 v4003), ∀ a, (k0_off1334 v4003) a + S1x1024.size a ≤ S37888x1024.size a := fun v4003 k0_hw667 => k0_hw667

def k0_off1335 (i : grid0.Coords) : Fin 1 → Nat :=
  let arg0 : BitVec 32 := BitVec.ofNat 32 (i 0).val
  let c1024_i32 : BitVec 32 := 1024#32
  let v0 : BitVec 32 := Scalar.muli arg0 c1024_i32
  let c666_i32_2836 : BitVec 32 := 666#32
  let v4006 : BitVec 32 := Scalar.addi v0 c666_i32_2836
  let c1_i32_2837 : BitVec 32 := 1#32
  let v4007 : BitVec 32 := Scalar.addi v4006 c1_i32_2837
  let v4008 : Index := Scalar.indexCast v4007
  ![v4008.toNat]
def k0_off1336 (v4009 : BitVec 32) : Fin 2 → Nat :=
  let c0_i32_2838 : BitVec 32 := 0#32
  ![v4009.toNat, 0]

def k0_chk668 (v4009 : BitVec 32) : Prop :=
  (∀ a, (k0_off1336 v4009) a + S1x1024.size a ≤ S37888x1024.size a)
theorem k0_off1336_inb : ∀ (v4009 : BitVec 32) (k0_hw668 : k0_chk668 v4009), ∀ a, (k0_off1336 v4009) a + S1x1024.size a ≤ S37888x1024.size a := fun v4009 k0_hw668 => k0_hw668

def k0_off1337 (i : grid0.Coords) : Fin 1 → Nat :=
  let arg0 : BitVec 32 := BitVec.ofNat 32 (i 0).val
  let c1024_i32 : BitVec 32 := 1024#32
  let v0 : BitVec 32 := Scalar.muli arg0 c1024_i32
  let c668_i32 : BitVec 32 := 668#32
  let v4012 : BitVec 32 := Scalar.addi v0 c668_i32
  let c0_i32_2841 : BitVec 32 := 0#32
  let v4013 : BitVec 32 := Scalar.addi v4012 c0_i32_2841
  let v4014 : Index := Scalar.indexCast v4013
  ![v4014.toNat]
def k0_off1338 (v4015 : BitVec 32) : Fin 2 → Nat :=
  let c0_i32_2842 : BitVec 32 := 0#32
  ![v4015.toNat, 0]

def k0_chk669 (v4015 : BitVec 32) : Prop :=
  (∀ a, (k0_off1338 v4015) a + S1x1024.size a ≤ S37888x1024.size a)
theorem k0_off1338_inb : ∀ (v4015 : BitVec 32) (k0_hw669 : k0_chk669 v4015), ∀ a, (k0_off1338 v4015) a + S1x1024.size a ≤ S37888x1024.size a := fun v4015 k0_hw669 => k0_hw669

def k0_off1339 (i : grid0.Coords) : Fin 1 → Nat :=
  let arg0 : BitVec 32 := BitVec.ofNat 32 (i 0).val
  let c1024_i32 : BitVec 32 := 1024#32
  let v0 : BitVec 32 := Scalar.muli arg0 c1024_i32
  let c668_i32_2845 : BitVec 32 := 668#32
  let v4018 : BitVec 32 := Scalar.addi v0 c668_i32_2845
  let c1_i32_2846 : BitVec 32 := 1#32
  let v4019 : BitVec 32 := Scalar.addi v4018 c1_i32_2846
  let v4020 : Index := Scalar.indexCast v4019
  ![v4020.toNat]
def k0_off1340 (v4021 : BitVec 32) : Fin 2 → Nat :=
  let c0_i32_2847 : BitVec 32 := 0#32
  ![v4021.toNat, 0]

def k0_chk670 (v4021 : BitVec 32) : Prop :=
  (∀ a, (k0_off1340 v4021) a + S1x1024.size a ≤ S37888x1024.size a)
theorem k0_off1340_inb : ∀ (v4021 : BitVec 32) (k0_hw670 : k0_chk670 v4021), ∀ a, (k0_off1340 v4021) a + S1x1024.size a ≤ S37888x1024.size a := fun v4021 k0_hw670 => k0_hw670

def k0_off1341 (i : grid0.Coords) : Fin 1 → Nat :=
  let arg0 : BitVec 32 := BitVec.ofNat 32 (i 0).val
  let c1024_i32 : BitVec 32 := 1024#32
  let v0 : BitVec 32 := Scalar.muli arg0 c1024_i32
  let c670_i32 : BitVec 32 := 670#32
  let v4024 : BitVec 32 := Scalar.addi v0 c670_i32
  let c0_i32_2850 : BitVec 32 := 0#32
  let v4025 : BitVec 32 := Scalar.addi v4024 c0_i32_2850
  let v4026 : Index := Scalar.indexCast v4025
  ![v4026.toNat]
def k0_off1342 (v4027 : BitVec 32) : Fin 2 → Nat :=
  let c0_i32_2851 : BitVec 32 := 0#32
  ![v4027.toNat, 0]

def k0_chk671 (v4027 : BitVec 32) : Prop :=
  (∀ a, (k0_off1342 v4027) a + S1x1024.size a ≤ S37888x1024.size a)
theorem k0_off1342_inb : ∀ (v4027 : BitVec 32) (k0_hw671 : k0_chk671 v4027), ∀ a, (k0_off1342 v4027) a + S1x1024.size a ≤ S37888x1024.size a := fun v4027 k0_hw671 => k0_hw671

def k0_off1343 (i : grid0.Coords) : Fin 1 → Nat :=
  let arg0 : BitVec 32 := BitVec.ofNat 32 (i 0).val
  let c1024_i32 : BitVec 32 := 1024#32
  let v0 : BitVec 32 := Scalar.muli arg0 c1024_i32
  let c670_i32_2853 : BitVec 32 := 670#32
  let v4030 : BitVec 32 := Scalar.addi v0 c670_i32_2853
  let c1_i32_2854 : BitVec 32 := 1#32
  let v4031 : BitVec 32 := Scalar.addi v4030 c1_i32_2854
  let v4032 : Index := Scalar.indexCast v4031
  ![v4032.toNat]
def k0_off1344 (v4033 : BitVec 32) : Fin 2 → Nat :=
  let c0_i32_2855 : BitVec 32 := 0#32
  ![v4033.toNat, 0]

def k0_chk672 (v4033 : BitVec 32) : Prop :=
  (∀ a, (k0_off1344 v4033) a + S1x1024.size a ≤ S37888x1024.size a)
theorem k0_off1344_inb : ∀ (v4033 : BitVec 32) (k0_hw672 : k0_chk672 v4033), ∀ a, (k0_off1344 v4033) a + S1x1024.size a ≤ S37888x1024.size a := fun v4033 k0_hw672 => k0_hw672

def k0_off1345 (i : grid0.Coords) : Fin 1 → Nat :=
  let arg0 : BitVec 32 := BitVec.ofNat 32 (i 0).val
  let c1024_i32 : BitVec 32 := 1024#32
  let v0 : BitVec 32 := Scalar.muli arg0 c1024_i32
  let c672_i32 : BitVec 32 := 672#32
  let v4036 : BitVec 32 := Scalar.addi v0 c672_i32
  let c0_i32_2858 : BitVec 32 := 0#32
  let v4037 : BitVec 32 := Scalar.addi v4036 c0_i32_2858
  let v4038 : Index := Scalar.indexCast v4037
  ![v4038.toNat]
def k0_off1346 (v4039 : BitVec 32) : Fin 2 → Nat :=
  let c0_i32_2859 : BitVec 32 := 0#32
  ![v4039.toNat, 0]

def k0_chk673 (v4039 : BitVec 32) : Prop :=
  (∀ a, (k0_off1346 v4039) a + S1x1024.size a ≤ S37888x1024.size a)
theorem k0_off1346_inb : ∀ (v4039 : BitVec 32) (k0_hw673 : k0_chk673 v4039), ∀ a, (k0_off1346 v4039) a + S1x1024.size a ≤ S37888x1024.size a := fun v4039 k0_hw673 => k0_hw673

def k0_off1347 (i : grid0.Coords) : Fin 1 → Nat :=
  let arg0 : BitVec 32 := BitVec.ofNat 32 (i 0).val
  let c1024_i32 : BitVec 32 := 1024#32
  let v0 : BitVec 32 := Scalar.muli arg0 c1024_i32
  let c672_i32_2862 : BitVec 32 := 672#32
  let v4042 : BitVec 32 := Scalar.addi v0 c672_i32_2862
  let c1_i32_2863 : BitVec 32 := 1#32
  let v4043 : BitVec 32 := Scalar.addi v4042 c1_i32_2863
  let v4044 : Index := Scalar.indexCast v4043
  ![v4044.toNat]
def k0_off1348 (v4045 : BitVec 32) : Fin 2 → Nat :=
  let c0_i32_2864 : BitVec 32 := 0#32
  ![v4045.toNat, 0]

def k0_chk674 (v4045 : BitVec 32) : Prop :=
  (∀ a, (k0_off1348 v4045) a + S1x1024.size a ≤ S37888x1024.size a)
theorem k0_off1348_inb : ∀ (v4045 : BitVec 32) (k0_hw674 : k0_chk674 v4045), ∀ a, (k0_off1348 v4045) a + S1x1024.size a ≤ S37888x1024.size a := fun v4045 k0_hw674 => k0_hw674

def k0_off1349 (i : grid0.Coords) : Fin 1 → Nat :=
  let arg0 : BitVec 32 := BitVec.ofNat 32 (i 0).val
  let c1024_i32 : BitVec 32 := 1024#32
  let v0 : BitVec 32 := Scalar.muli arg0 c1024_i32
  let c674_i32 : BitVec 32 := 674#32
  let v4048 : BitVec 32 := Scalar.addi v0 c674_i32
  let c0_i32_2867 : BitVec 32 := 0#32
  let v4049 : BitVec 32 := Scalar.addi v4048 c0_i32_2867
  let v4050 : Index := Scalar.indexCast v4049
  ![v4050.toNat]
def k0_off1350 (v4051 : BitVec 32) : Fin 2 → Nat :=
  let c0_i32_2868 : BitVec 32 := 0#32
  ![v4051.toNat, 0]

def k0_chk675 (v4051 : BitVec 32) : Prop :=
  (∀ a, (k0_off1350 v4051) a + S1x1024.size a ≤ S37888x1024.size a)
theorem k0_off1350_inb : ∀ (v4051 : BitVec 32) (k0_hw675 : k0_chk675 v4051), ∀ a, (k0_off1350 v4051) a + S1x1024.size a ≤ S37888x1024.size a := fun v4051 k0_hw675 => k0_hw675

def k0_off1351 (i : grid0.Coords) : Fin 1 → Nat :=
  let arg0 : BitVec 32 := BitVec.ofNat 32 (i 0).val
  let c1024_i32 : BitVec 32 := 1024#32
  let v0 : BitVec 32 := Scalar.muli arg0 c1024_i32
  let c674_i32_2870 : BitVec 32 := 674#32
  let v4054 : BitVec 32 := Scalar.addi v0 c674_i32_2870
  let c1_i32_2871 : BitVec 32 := 1#32
  let v4055 : BitVec 32 := Scalar.addi v4054 c1_i32_2871
  let v4056 : Index := Scalar.indexCast v4055
  ![v4056.toNat]
def k0_off1352 (v4057 : BitVec 32) : Fin 2 → Nat :=
  let c0_i32_2872 : BitVec 32 := 0#32
  ![v4057.toNat, 0]

def k0_chk676 (v4057 : BitVec 32) : Prop :=
  (∀ a, (k0_off1352 v4057) a + S1x1024.size a ≤ S37888x1024.size a)
theorem k0_off1352_inb : ∀ (v4057 : BitVec 32) (k0_hw676 : k0_chk676 v4057), ∀ a, (k0_off1352 v4057) a + S1x1024.size a ≤ S37888x1024.size a := fun v4057 k0_hw676 => k0_hw676

def k0_off1353 (i : grid0.Coords) : Fin 1 → Nat :=
  let arg0 : BitVec 32 := BitVec.ofNat 32 (i 0).val
  let c1024_i32 : BitVec 32 := 1024#32
  let v0 : BitVec 32 := Scalar.muli arg0 c1024_i32
  let c676_i32 : BitVec 32 := 676#32
  let v4060 : BitVec 32 := Scalar.addi v0 c676_i32
  let c0_i32_2875 : BitVec 32 := 0#32
  let v4061 : BitVec 32 := Scalar.addi v4060 c0_i32_2875
  let v4062 : Index := Scalar.indexCast v4061
  ![v4062.toNat]
def k0_off1354 (v4063 : BitVec 32) : Fin 2 → Nat :=
  let c0_i32_2876 : BitVec 32 := 0#32
  ![v4063.toNat, 0]

def k0_chk677 (v4063 : BitVec 32) : Prop :=
  (∀ a, (k0_off1354 v4063) a + S1x1024.size a ≤ S37888x1024.size a)
theorem k0_off1354_inb : ∀ (v4063 : BitVec 32) (k0_hw677 : k0_chk677 v4063), ∀ a, (k0_off1354 v4063) a + S1x1024.size a ≤ S37888x1024.size a := fun v4063 k0_hw677 => k0_hw677

def k0_off1355 (i : grid0.Coords) : Fin 1 → Nat :=
  let arg0 : BitVec 32 := BitVec.ofNat 32 (i 0).val
  let c1024_i32 : BitVec 32 := 1024#32
  let v0 : BitVec 32 := Scalar.muli arg0 c1024_i32
  let c676_i32_2879 : BitVec 32 := 676#32
  let v4066 : BitVec 32 := Scalar.addi v0 c676_i32_2879
  let c1_i32_2880 : BitVec 32 := 1#32
  let v4067 : BitVec 32 := Scalar.addi v4066 c1_i32_2880
  let v4068 : Index := Scalar.indexCast v4067
  ![v4068.toNat]
def k0_off1356 (v4069 : BitVec 32) : Fin 2 → Nat :=
  let c0_i32_2881 : BitVec 32 := 0#32
  ![v4069.toNat, 0]

def k0_chk678 (v4069 : BitVec 32) : Prop :=
  (∀ a, (k0_off1356 v4069) a + S1x1024.size a ≤ S37888x1024.size a)
theorem k0_off1356_inb : ∀ (v4069 : BitVec 32) (k0_hw678 : k0_chk678 v4069), ∀ a, (k0_off1356 v4069) a + S1x1024.size a ≤ S37888x1024.size a := fun v4069 k0_hw678 => k0_hw678

def k0_off1357 (i : grid0.Coords) : Fin 1 → Nat :=
  let arg0 : BitVec 32 := BitVec.ofNat 32 (i 0).val
  let c1024_i32 : BitVec 32 := 1024#32
  let v0 : BitVec 32 := Scalar.muli arg0 c1024_i32
  let c678_i32 : BitVec 32 := 678#32
  let v4072 : BitVec 32 := Scalar.addi v0 c678_i32
  let c0_i32_2884 : BitVec 32 := 0#32
  let v4073 : BitVec 32 := Scalar.addi v4072 c0_i32_2884
  let v4074 : Index := Scalar.indexCast v4073
  ![v4074.toNat]
def k0_off1358 (v4075 : BitVec 32) : Fin 2 → Nat :=
  let c0_i32_2885 : BitVec 32 := 0#32
  ![v4075.toNat, 0]

def k0_chk679 (v4075 : BitVec 32) : Prop :=
  (∀ a, (k0_off1358 v4075) a + S1x1024.size a ≤ S37888x1024.size a)
theorem k0_off1358_inb : ∀ (v4075 : BitVec 32) (k0_hw679 : k0_chk679 v4075), ∀ a, (k0_off1358 v4075) a + S1x1024.size a ≤ S37888x1024.size a := fun v4075 k0_hw679 => k0_hw679

def k0_off1359 (i : grid0.Coords) : Fin 1 → Nat :=
  let arg0 : BitVec 32 := BitVec.ofNat 32 (i 0).val
  let c1024_i32 : BitVec 32 := 1024#32
  let v0 : BitVec 32 := Scalar.muli arg0 c1024_i32
  let c678_i32_2887 : BitVec 32 := 678#32
  let v4078 : BitVec 32 := Scalar.addi v0 c678_i32_2887
  let c1_i32_2888 : BitVec 32 := 1#32
  let v4079 : BitVec 32 := Scalar.addi v4078 c1_i32_2888
  let v4080 : Index := Scalar.indexCast v4079
  ![v4080.toNat]
def k0_off1360 (v4081 : BitVec 32) : Fin 2 → Nat :=
  let c0_i32_2889 : BitVec 32 := 0#32
  ![v4081.toNat, 0]

def k0_chk680 (v4081 : BitVec 32) : Prop :=
  (∀ a, (k0_off1360 v4081) a + S1x1024.size a ≤ S37888x1024.size a)
theorem k0_off1360_inb : ∀ (v4081 : BitVec 32) (k0_hw680 : k0_chk680 v4081), ∀ a, (k0_off1360 v4081) a + S1x1024.size a ≤ S37888x1024.size a := fun v4081 k0_hw680 => k0_hw680

def k0_off1361 (i : grid0.Coords) : Fin 1 → Nat :=
  let arg0 : BitVec 32 := BitVec.ofNat 32 (i 0).val
  let c1024_i32 : BitVec 32 := 1024#32
  let v0 : BitVec 32 := Scalar.muli arg0 c1024_i32
  let c680_i32 : BitVec 32 := 680#32
  let v4084 : BitVec 32 := Scalar.addi v0 c680_i32
  let c0_i32_2892 : BitVec 32 := 0#32
  let v4085 : BitVec 32 := Scalar.addi v4084 c0_i32_2892
  let v4086 : Index := Scalar.indexCast v4085
  ![v4086.toNat]
def k0_off1362 (v4087 : BitVec 32) : Fin 2 → Nat :=
  let c0_i32_2893 : BitVec 32 := 0#32
  ![v4087.toNat, 0]

def k0_chk681 (v4087 : BitVec 32) : Prop :=
  (∀ a, (k0_off1362 v4087) a + S1x1024.size a ≤ S37888x1024.size a)
theorem k0_off1362_inb : ∀ (v4087 : BitVec 32) (k0_hw681 : k0_chk681 v4087), ∀ a, (k0_off1362 v4087) a + S1x1024.size a ≤ S37888x1024.size a := fun v4087 k0_hw681 => k0_hw681

def k0_off1363 (i : grid0.Coords) : Fin 1 → Nat :=
  let arg0 : BitVec 32 := BitVec.ofNat 32 (i 0).val
  let c1024_i32 : BitVec 32 := 1024#32
  let v0 : BitVec 32 := Scalar.muli arg0 c1024_i32
  let c680_i32_2896 : BitVec 32 := 680#32
  let v4090 : BitVec 32 := Scalar.addi v0 c680_i32_2896
  let c1_i32_2897 : BitVec 32 := 1#32
  let v4091 : BitVec 32 := Scalar.addi v4090 c1_i32_2897
  let v4092 : Index := Scalar.indexCast v4091
  ![v4092.toNat]
def k0_off1364 (v4093 : BitVec 32) : Fin 2 → Nat :=
  let c0_i32_2898 : BitVec 32 := 0#32
  ![v4093.toNat, 0]

def k0_chk682 (v4093 : BitVec 32) : Prop :=
  (∀ a, (k0_off1364 v4093) a + S1x1024.size a ≤ S37888x1024.size a)
theorem k0_off1364_inb : ∀ (v4093 : BitVec 32) (k0_hw682 : k0_chk682 v4093), ∀ a, (k0_off1364 v4093) a + S1x1024.size a ≤ S37888x1024.size a := fun v4093 k0_hw682 => k0_hw682

def k0_off1365 (i : grid0.Coords) : Fin 1 → Nat :=
  let arg0 : BitVec 32 := BitVec.ofNat 32 (i 0).val
  let c1024_i32 : BitVec 32 := 1024#32
  let v0 : BitVec 32 := Scalar.muli arg0 c1024_i32
  let c682_i32 : BitVec 32 := 682#32
  let v4096 : BitVec 32 := Scalar.addi v0 c682_i32
  let c0_i32_2901 : BitVec 32 := 0#32
  let v4097 : BitVec 32 := Scalar.addi v4096 c0_i32_2901
  let v4098 : Index := Scalar.indexCast v4097
  ![v4098.toNat]
def k0_off1366 (v4099 : BitVec 32) : Fin 2 → Nat :=
  let c0_i32_2902 : BitVec 32 := 0#32
  ![v4099.toNat, 0]

def k0_chk683 (v4099 : BitVec 32) : Prop :=
  (∀ a, (k0_off1366 v4099) a + S1x1024.size a ≤ S37888x1024.size a)
theorem k0_off1366_inb : ∀ (v4099 : BitVec 32) (k0_hw683 : k0_chk683 v4099), ∀ a, (k0_off1366 v4099) a + S1x1024.size a ≤ S37888x1024.size a := fun v4099 k0_hw683 => k0_hw683

def k0_off1367 (i : grid0.Coords) : Fin 1 → Nat :=
  let arg0 : BitVec 32 := BitVec.ofNat 32 (i 0).val
  let c1024_i32 : BitVec 32 := 1024#32
  let v0 : BitVec 32 := Scalar.muli arg0 c1024_i32
  let c682_i32_2904 : BitVec 32 := 682#32
  let v4102 : BitVec 32 := Scalar.addi v0 c682_i32_2904
  let c1_i32_2905 : BitVec 32 := 1#32
  let v4103 : BitVec 32 := Scalar.addi v4102 c1_i32_2905
  let v4104 : Index := Scalar.indexCast v4103
  ![v4104.toNat]
def k0_off1368 (v4105 : BitVec 32) : Fin 2 → Nat :=
  let c0_i32_2906 : BitVec 32 := 0#32
  ![v4105.toNat, 0]

def k0_chk684 (v4105 : BitVec 32) : Prop :=
  (∀ a, (k0_off1368 v4105) a + S1x1024.size a ≤ S37888x1024.size a)
theorem k0_off1368_inb : ∀ (v4105 : BitVec 32) (k0_hw684 : k0_chk684 v4105), ∀ a, (k0_off1368 v4105) a + S1x1024.size a ≤ S37888x1024.size a := fun v4105 k0_hw684 => k0_hw684

def k0_off1369 (i : grid0.Coords) : Fin 1 → Nat :=
  let arg0 : BitVec 32 := BitVec.ofNat 32 (i 0).val
  let c1024_i32 : BitVec 32 := 1024#32
  let v0 : BitVec 32 := Scalar.muli arg0 c1024_i32
  let c684_i32 : BitVec 32 := 684#32
  let v4108 : BitVec 32 := Scalar.addi v0 c684_i32
  let c0_i32_2909 : BitVec 32 := 0#32
  let v4109 : BitVec 32 := Scalar.addi v4108 c0_i32_2909
  let v4110 : Index := Scalar.indexCast v4109
  ![v4110.toNat]
def k0_off1370 (v4111 : BitVec 32) : Fin 2 → Nat :=
  let c0_i32_2910 : BitVec 32 := 0#32
  ![v4111.toNat, 0]

def k0_chk685 (v4111 : BitVec 32) : Prop :=
  (∀ a, (k0_off1370 v4111) a + S1x1024.size a ≤ S37888x1024.size a)
theorem k0_off1370_inb : ∀ (v4111 : BitVec 32) (k0_hw685 : k0_chk685 v4111), ∀ a, (k0_off1370 v4111) a + S1x1024.size a ≤ S37888x1024.size a := fun v4111 k0_hw685 => k0_hw685

def k0_off1371 (i : grid0.Coords) : Fin 1 → Nat :=
  let arg0 : BitVec 32 := BitVec.ofNat 32 (i 0).val
  let c1024_i32 : BitVec 32 := 1024#32
  let v0 : BitVec 32 := Scalar.muli arg0 c1024_i32
  let c684_i32_2913 : BitVec 32 := 684#32
  let v4114 : BitVec 32 := Scalar.addi v0 c684_i32_2913
  let c1_i32_2914 : BitVec 32 := 1#32
  let v4115 : BitVec 32 := Scalar.addi v4114 c1_i32_2914
  let v4116 : Index := Scalar.indexCast v4115
  ![v4116.toNat]
def k0_off1372 (v4117 : BitVec 32) : Fin 2 → Nat :=
  let c0_i32_2915 : BitVec 32 := 0#32
  ![v4117.toNat, 0]

def k0_chk686 (v4117 : BitVec 32) : Prop :=
  (∀ a, (k0_off1372 v4117) a + S1x1024.size a ≤ S37888x1024.size a)
theorem k0_off1372_inb : ∀ (v4117 : BitVec 32) (k0_hw686 : k0_chk686 v4117), ∀ a, (k0_off1372 v4117) a + S1x1024.size a ≤ S37888x1024.size a := fun v4117 k0_hw686 => k0_hw686

def k0_off1373 (i : grid0.Coords) : Fin 1 → Nat :=
  let arg0 : BitVec 32 := BitVec.ofNat 32 (i 0).val
  let c1024_i32 : BitVec 32 := 1024#32
  let v0 : BitVec 32 := Scalar.muli arg0 c1024_i32
  let c686_i32 : BitVec 32 := 686#32
  let v4120 : BitVec 32 := Scalar.addi v0 c686_i32
  let c0_i32_2918 : BitVec 32 := 0#32
  let v4121 : BitVec 32 := Scalar.addi v4120 c0_i32_2918
  let v4122 : Index := Scalar.indexCast v4121
  ![v4122.toNat]
def k0_off1374 (v4123 : BitVec 32) : Fin 2 → Nat :=
  let c0_i32_2919 : BitVec 32 := 0#32
  ![v4123.toNat, 0]

def k0_chk687 (v4123 : BitVec 32) : Prop :=
  (∀ a, (k0_off1374 v4123) a + S1x1024.size a ≤ S37888x1024.size a)
theorem k0_off1374_inb : ∀ (v4123 : BitVec 32) (k0_hw687 : k0_chk687 v4123), ∀ a, (k0_off1374 v4123) a + S1x1024.size a ≤ S37888x1024.size a := fun v4123 k0_hw687 => k0_hw687

def k0_off1375 (i : grid0.Coords) : Fin 1 → Nat :=
  let arg0 : BitVec 32 := BitVec.ofNat 32 (i 0).val
  let c1024_i32 : BitVec 32 := 1024#32
  let v0 : BitVec 32 := Scalar.muli arg0 c1024_i32
  let c686_i32_2921 : BitVec 32 := 686#32
  let v4126 : BitVec 32 := Scalar.addi v0 c686_i32_2921
  let c1_i32_2922 : BitVec 32 := 1#32
  let v4127 : BitVec 32 := Scalar.addi v4126 c1_i32_2922
  let v4128 : Index := Scalar.indexCast v4127
  ![v4128.toNat]
def k0_off1376 (v4129 : BitVec 32) : Fin 2 → Nat :=
  let c0_i32_2923 : BitVec 32 := 0#32
  ![v4129.toNat, 0]

def k0_chk688 (v4129 : BitVec 32) : Prop :=
  (∀ a, (k0_off1376 v4129) a + S1x1024.size a ≤ S37888x1024.size a)
theorem k0_off1376_inb : ∀ (v4129 : BitVec 32) (k0_hw688 : k0_chk688 v4129), ∀ a, (k0_off1376 v4129) a + S1x1024.size a ≤ S37888x1024.size a := fun v4129 k0_hw688 => k0_hw688

def k0_off1377 (i : grid0.Coords) : Fin 1 → Nat :=
  let arg0 : BitVec 32 := BitVec.ofNat 32 (i 0).val
  let c1024_i32 : BitVec 32 := 1024#32
  let v0 : BitVec 32 := Scalar.muli arg0 c1024_i32
  let c688_i32 : BitVec 32 := 688#32
  let v4132 : BitVec 32 := Scalar.addi v0 c688_i32
  let c0_i32_2926 : BitVec 32 := 0#32
  let v4133 : BitVec 32 := Scalar.addi v4132 c0_i32_2926
  let v4134 : Index := Scalar.indexCast v4133
  ![v4134.toNat]
def k0_off1378 (v4135 : BitVec 32) : Fin 2 → Nat :=
  let c0_i32_2927 : BitVec 32 := 0#32
  ![v4135.toNat, 0]

def k0_chk689 (v4135 : BitVec 32) : Prop :=
  (∀ a, (k0_off1378 v4135) a + S1x1024.size a ≤ S37888x1024.size a)
theorem k0_off1378_inb : ∀ (v4135 : BitVec 32) (k0_hw689 : k0_chk689 v4135), ∀ a, (k0_off1378 v4135) a + S1x1024.size a ≤ S37888x1024.size a := fun v4135 k0_hw689 => k0_hw689

def k0_off1379 (i : grid0.Coords) : Fin 1 → Nat :=
  let arg0 : BitVec 32 := BitVec.ofNat 32 (i 0).val
  let c1024_i32 : BitVec 32 := 1024#32
  let v0 : BitVec 32 := Scalar.muli arg0 c1024_i32
  let c688_i32_2930 : BitVec 32 := 688#32
  let v4138 : BitVec 32 := Scalar.addi v0 c688_i32_2930
  let c1_i32_2931 : BitVec 32 := 1#32
  let v4139 : BitVec 32 := Scalar.addi v4138 c1_i32_2931
  let v4140 : Index := Scalar.indexCast v4139
  ![v4140.toNat]
def k0_off1380 (v4141 : BitVec 32) : Fin 2 → Nat :=
  let c0_i32_2932 : BitVec 32 := 0#32
  ![v4141.toNat, 0]

def k0_chk690 (v4141 : BitVec 32) : Prop :=
  (∀ a, (k0_off1380 v4141) a + S1x1024.size a ≤ S37888x1024.size a)
theorem k0_off1380_inb : ∀ (v4141 : BitVec 32) (k0_hw690 : k0_chk690 v4141), ∀ a, (k0_off1380 v4141) a + S1x1024.size a ≤ S37888x1024.size a := fun v4141 k0_hw690 => k0_hw690

def k0_off1381 (i : grid0.Coords) : Fin 1 → Nat :=
  let arg0 : BitVec 32 := BitVec.ofNat 32 (i 0).val
  let c1024_i32 : BitVec 32 := 1024#32
  let v0 : BitVec 32 := Scalar.muli arg0 c1024_i32
  let c690_i32 : BitVec 32 := 690#32
  let v4144 : BitVec 32 := Scalar.addi v0 c690_i32
  let c0_i32_2935 : BitVec 32 := 0#32
  let v4145 : BitVec 32 := Scalar.addi v4144 c0_i32_2935
  let v4146 : Index := Scalar.indexCast v4145
  ![v4146.toNat]
def k0_off1382 (v4147 : BitVec 32) : Fin 2 → Nat :=
  let c0_i32_2936 : BitVec 32 := 0#32
  ![v4147.toNat, 0]

def k0_chk691 (v4147 : BitVec 32) : Prop :=
  (∀ a, (k0_off1382 v4147) a + S1x1024.size a ≤ S37888x1024.size a)
theorem k0_off1382_inb : ∀ (v4147 : BitVec 32) (k0_hw691 : k0_chk691 v4147), ∀ a, (k0_off1382 v4147) a + S1x1024.size a ≤ S37888x1024.size a := fun v4147 k0_hw691 => k0_hw691

def k0_off1383 (i : grid0.Coords) : Fin 1 → Nat :=
  let arg0 : BitVec 32 := BitVec.ofNat 32 (i 0).val
  let c1024_i32 : BitVec 32 := 1024#32
  let v0 : BitVec 32 := Scalar.muli arg0 c1024_i32
  let c690_i32_2938 : BitVec 32 := 690#32
  let v4150 : BitVec 32 := Scalar.addi v0 c690_i32_2938
  let c1_i32_2939 : BitVec 32 := 1#32
  let v4151 : BitVec 32 := Scalar.addi v4150 c1_i32_2939
  let v4152 : Index := Scalar.indexCast v4151
  ![v4152.toNat]
def k0_off1384 (v4153 : BitVec 32) : Fin 2 → Nat :=
  let c0_i32_2940 : BitVec 32 := 0#32
  ![v4153.toNat, 0]

def k0_chk692 (v4153 : BitVec 32) : Prop :=
  (∀ a, (k0_off1384 v4153) a + S1x1024.size a ≤ S37888x1024.size a)
theorem k0_off1384_inb : ∀ (v4153 : BitVec 32) (k0_hw692 : k0_chk692 v4153), ∀ a, (k0_off1384 v4153) a + S1x1024.size a ≤ S37888x1024.size a := fun v4153 k0_hw692 => k0_hw692

def k0_off1385 (i : grid0.Coords) : Fin 1 → Nat :=
  let arg0 : BitVec 32 := BitVec.ofNat 32 (i 0).val
  let c1024_i32 : BitVec 32 := 1024#32
  let v0 : BitVec 32 := Scalar.muli arg0 c1024_i32
  let c692_i32 : BitVec 32 := 692#32
  let v4156 : BitVec 32 := Scalar.addi v0 c692_i32
  let c0_i32_2943 : BitVec 32 := 0#32
  let v4157 : BitVec 32 := Scalar.addi v4156 c0_i32_2943
  let v4158 : Index := Scalar.indexCast v4157
  ![v4158.toNat]
def k0_off1386 (v4159 : BitVec 32) : Fin 2 → Nat :=
  let c0_i32_2944 : BitVec 32 := 0#32
  ![v4159.toNat, 0]

def k0_chk693 (v4159 : BitVec 32) : Prop :=
  (∀ a, (k0_off1386 v4159) a + S1x1024.size a ≤ S37888x1024.size a)
theorem k0_off1386_inb : ∀ (v4159 : BitVec 32) (k0_hw693 : k0_chk693 v4159), ∀ a, (k0_off1386 v4159) a + S1x1024.size a ≤ S37888x1024.size a := fun v4159 k0_hw693 => k0_hw693

def k0_off1387 (i : grid0.Coords) : Fin 1 → Nat :=
  let arg0 : BitVec 32 := BitVec.ofNat 32 (i 0).val
  let c1024_i32 : BitVec 32 := 1024#32
  let v0 : BitVec 32 := Scalar.muli arg0 c1024_i32
  let c692_i32_2947 : BitVec 32 := 692#32
  let v4162 : BitVec 32 := Scalar.addi v0 c692_i32_2947
  let c1_i32_2948 : BitVec 32 := 1#32
  let v4163 : BitVec 32 := Scalar.addi v4162 c1_i32_2948
  let v4164 : Index := Scalar.indexCast v4163
  ![v4164.toNat]
def k0_off1388 (v4165 : BitVec 32) : Fin 2 → Nat :=
  let c0_i32_2949 : BitVec 32 := 0#32
  ![v4165.toNat, 0]

def k0_chk694 (v4165 : BitVec 32) : Prop :=
  (∀ a, (k0_off1388 v4165) a + S1x1024.size a ≤ S37888x1024.size a)
theorem k0_off1388_inb : ∀ (v4165 : BitVec 32) (k0_hw694 : k0_chk694 v4165), ∀ a, (k0_off1388 v4165) a + S1x1024.size a ≤ S37888x1024.size a := fun v4165 k0_hw694 => k0_hw694

def k0_off1389 (i : grid0.Coords) : Fin 1 → Nat :=
  let arg0 : BitVec 32 := BitVec.ofNat 32 (i 0).val
  let c1024_i32 : BitVec 32 := 1024#32
  let v0 : BitVec 32 := Scalar.muli arg0 c1024_i32
  let c694_i32 : BitVec 32 := 694#32
  let v4168 : BitVec 32 := Scalar.addi v0 c694_i32
  let c0_i32_2952 : BitVec 32 := 0#32
  let v4169 : BitVec 32 := Scalar.addi v4168 c0_i32_2952
  let v4170 : Index := Scalar.indexCast v4169
  ![v4170.toNat]
def k0_off1390 (v4171 : BitVec 32) : Fin 2 → Nat :=
  let c0_i32_2953 : BitVec 32 := 0#32
  ![v4171.toNat, 0]

def k0_chk695 (v4171 : BitVec 32) : Prop :=
  (∀ a, (k0_off1390 v4171) a + S1x1024.size a ≤ S37888x1024.size a)
theorem k0_off1390_inb : ∀ (v4171 : BitVec 32) (k0_hw695 : k0_chk695 v4171), ∀ a, (k0_off1390 v4171) a + S1x1024.size a ≤ S37888x1024.size a := fun v4171 k0_hw695 => k0_hw695

def k0_off1391 (i : grid0.Coords) : Fin 1 → Nat :=
  let arg0 : BitVec 32 := BitVec.ofNat 32 (i 0).val
  let c1024_i32 : BitVec 32 := 1024#32
  let v0 : BitVec 32 := Scalar.muli arg0 c1024_i32
  let c694_i32_2955 : BitVec 32 := 694#32
  let v4174 : BitVec 32 := Scalar.addi v0 c694_i32_2955
  let c1_i32_2956 : BitVec 32 := 1#32
  let v4175 : BitVec 32 := Scalar.addi v4174 c1_i32_2956
  let v4176 : Index := Scalar.indexCast v4175
  ![v4176.toNat]
def k0_off1392 (v4177 : BitVec 32) : Fin 2 → Nat :=
  let c0_i32_2957 : BitVec 32 := 0#32
  ![v4177.toNat, 0]

def k0_chk696 (v4177 : BitVec 32) : Prop :=
  (∀ a, (k0_off1392 v4177) a + S1x1024.size a ≤ S37888x1024.size a)
theorem k0_off1392_inb : ∀ (v4177 : BitVec 32) (k0_hw696 : k0_chk696 v4177), ∀ a, (k0_off1392 v4177) a + S1x1024.size a ≤ S37888x1024.size a := fun v4177 k0_hw696 => k0_hw696

def k0_off1393 (i : grid0.Coords) : Fin 1 → Nat :=
  let arg0 : BitVec 32 := BitVec.ofNat 32 (i 0).val
  let c1024_i32 : BitVec 32 := 1024#32
  let v0 : BitVec 32 := Scalar.muli arg0 c1024_i32
  let c696_i32 : BitVec 32 := 696#32
  let v4180 : BitVec 32 := Scalar.addi v0 c696_i32
  let c0_i32_2960 : BitVec 32 := 0#32
  let v4181 : BitVec 32 := Scalar.addi v4180 c0_i32_2960
  let v4182 : Index := Scalar.indexCast v4181
  ![v4182.toNat]
def k0_off1394 (v4183 : BitVec 32) : Fin 2 → Nat :=
  let c0_i32_2961 : BitVec 32 := 0#32
  ![v4183.toNat, 0]

def k0_chk697 (v4183 : BitVec 32) : Prop :=
  (∀ a, (k0_off1394 v4183) a + S1x1024.size a ≤ S37888x1024.size a)
theorem k0_off1394_inb : ∀ (v4183 : BitVec 32) (k0_hw697 : k0_chk697 v4183), ∀ a, (k0_off1394 v4183) a + S1x1024.size a ≤ S37888x1024.size a := fun v4183 k0_hw697 => k0_hw697

def k0_off1395 (i : grid0.Coords) : Fin 1 → Nat :=
  let arg0 : BitVec 32 := BitVec.ofNat 32 (i 0).val
  let c1024_i32 : BitVec 32 := 1024#32
  let v0 : BitVec 32 := Scalar.muli arg0 c1024_i32
  let c696_i32_2964 : BitVec 32 := 696#32
  let v4186 : BitVec 32 := Scalar.addi v0 c696_i32_2964
  let c1_i32_2965 : BitVec 32 := 1#32
  let v4187 : BitVec 32 := Scalar.addi v4186 c1_i32_2965
  let v4188 : Index := Scalar.indexCast v4187
  ![v4188.toNat]
def k0_off1396 (v4189 : BitVec 32) : Fin 2 → Nat :=
  let c0_i32_2966 : BitVec 32 := 0#32
  ![v4189.toNat, 0]

def k0_chk698 (v4189 : BitVec 32) : Prop :=
  (∀ a, (k0_off1396 v4189) a + S1x1024.size a ≤ S37888x1024.size a)
theorem k0_off1396_inb : ∀ (v4189 : BitVec 32) (k0_hw698 : k0_chk698 v4189), ∀ a, (k0_off1396 v4189) a + S1x1024.size a ≤ S37888x1024.size a := fun v4189 k0_hw698 => k0_hw698

def k0_off1397 (i : grid0.Coords) : Fin 1 → Nat :=
  let arg0 : BitVec 32 := BitVec.ofNat 32 (i 0).val
  let c1024_i32 : BitVec 32 := 1024#32
  let v0 : BitVec 32 := Scalar.muli arg0 c1024_i32
  let c698_i32 : BitVec 32 := 698#32
  let v4192 : BitVec 32 := Scalar.addi v0 c698_i32
  let c0_i32_2969 : BitVec 32 := 0#32
  let v4193 : BitVec 32 := Scalar.addi v4192 c0_i32_2969
  let v4194 : Index := Scalar.indexCast v4193
  ![v4194.toNat]
def k0_off1398 (v4195 : BitVec 32) : Fin 2 → Nat :=
  let c0_i32_2970 : BitVec 32 := 0#32
  ![v4195.toNat, 0]

def k0_chk699 (v4195 : BitVec 32) : Prop :=
  (∀ a, (k0_off1398 v4195) a + S1x1024.size a ≤ S37888x1024.size a)
theorem k0_off1398_inb : ∀ (v4195 : BitVec 32) (k0_hw699 : k0_chk699 v4195), ∀ a, (k0_off1398 v4195) a + S1x1024.size a ≤ S37888x1024.size a := fun v4195 k0_hw699 => k0_hw699

def k0_off1399 (i : grid0.Coords) : Fin 1 → Nat :=
  let arg0 : BitVec 32 := BitVec.ofNat 32 (i 0).val
  let c1024_i32 : BitVec 32 := 1024#32
  let v0 : BitVec 32 := Scalar.muli arg0 c1024_i32
  let c698_i32_2972 : BitVec 32 := 698#32
  let v4198 : BitVec 32 := Scalar.addi v0 c698_i32_2972
  let c1_i32_2973 : BitVec 32 := 1#32
  let v4199 : BitVec 32 := Scalar.addi v4198 c1_i32_2973
  let v4200 : Index := Scalar.indexCast v4199
  ![v4200.toNat]
def k0_off1400 (v4201 : BitVec 32) : Fin 2 → Nat :=
  let c0_i32_2974 : BitVec 32 := 0#32
  ![v4201.toNat, 0]

def k0_chk700 (v4201 : BitVec 32) : Prop :=
  (∀ a, (k0_off1400 v4201) a + S1x1024.size a ≤ S37888x1024.size a)
theorem k0_off1400_inb : ∀ (v4201 : BitVec 32) (k0_hw700 : k0_chk700 v4201), ∀ a, (k0_off1400 v4201) a + S1x1024.size a ≤ S37888x1024.size a := fun v4201 k0_hw700 => k0_hw700

def k0_off1401 (i : grid0.Coords) : Fin 1 → Nat :=
  let arg0 : BitVec 32 := BitVec.ofNat 32 (i 0).val
  let c1024_i32 : BitVec 32 := 1024#32
  let v0 : BitVec 32 := Scalar.muli arg0 c1024_i32
  let c700_i32 : BitVec 32 := 700#32
  let v4204 : BitVec 32 := Scalar.addi v0 c700_i32
  let c0_i32_2977 : BitVec 32 := 0#32
  let v4205 : BitVec 32 := Scalar.addi v4204 c0_i32_2977
  let v4206 : Index := Scalar.indexCast v4205
  ![v4206.toNat]
def k0_off1402 (v4207 : BitVec 32) : Fin 2 → Nat :=
  let c0_i32_2978 : BitVec 32 := 0#32
  ![v4207.toNat, 0]

def k0_chk701 (v4207 : BitVec 32) : Prop :=
  (∀ a, (k0_off1402 v4207) a + S1x1024.size a ≤ S37888x1024.size a)
theorem k0_off1402_inb : ∀ (v4207 : BitVec 32) (k0_hw701 : k0_chk701 v4207), ∀ a, (k0_off1402 v4207) a + S1x1024.size a ≤ S37888x1024.size a := fun v4207 k0_hw701 => k0_hw701

def k0_off1403 (i : grid0.Coords) : Fin 1 → Nat :=
  let arg0 : BitVec 32 := BitVec.ofNat 32 (i 0).val
  let c1024_i32 : BitVec 32 := 1024#32
  let v0 : BitVec 32 := Scalar.muli arg0 c1024_i32
  let c700_i32_2981 : BitVec 32 := 700#32
  let v4210 : BitVec 32 := Scalar.addi v0 c700_i32_2981
  let c1_i32_2982 : BitVec 32 := 1#32
  let v4211 : BitVec 32 := Scalar.addi v4210 c1_i32_2982
  let v4212 : Index := Scalar.indexCast v4211
  ![v4212.toNat]
def k0_off1404 (v4213 : BitVec 32) : Fin 2 → Nat :=
  let c0_i32_2983 : BitVec 32 := 0#32
  ![v4213.toNat, 0]

def k0_chk702 (v4213 : BitVec 32) : Prop :=
  (∀ a, (k0_off1404 v4213) a + S1x1024.size a ≤ S37888x1024.size a)
theorem k0_off1404_inb : ∀ (v4213 : BitVec 32) (k0_hw702 : k0_chk702 v4213), ∀ a, (k0_off1404 v4213) a + S1x1024.size a ≤ S37888x1024.size a := fun v4213 k0_hw702 => k0_hw702

def k0_off1405 (i : grid0.Coords) : Fin 1 → Nat :=
  let arg0 : BitVec 32 := BitVec.ofNat 32 (i 0).val
  let c1024_i32 : BitVec 32 := 1024#32
  let v0 : BitVec 32 := Scalar.muli arg0 c1024_i32
  let c702_i32 : BitVec 32 := 702#32
  let v4216 : BitVec 32 := Scalar.addi v0 c702_i32
  let c0_i32_2986 : BitVec 32 := 0#32
  let v4217 : BitVec 32 := Scalar.addi v4216 c0_i32_2986
  let v4218 : Index := Scalar.indexCast v4217
  ![v4218.toNat]
def k0_off1406 (v4219 : BitVec 32) : Fin 2 → Nat :=
  let c0_i32_2987 : BitVec 32 := 0#32
  ![v4219.toNat, 0]

def k0_chk703 (v4219 : BitVec 32) : Prop :=
  (∀ a, (k0_off1406 v4219) a + S1x1024.size a ≤ S37888x1024.size a)
theorem k0_off1406_inb : ∀ (v4219 : BitVec 32) (k0_hw703 : k0_chk703 v4219), ∀ a, (k0_off1406 v4219) a + S1x1024.size a ≤ S37888x1024.size a := fun v4219 k0_hw703 => k0_hw703

def k0_off1407 (i : grid0.Coords) : Fin 1 → Nat :=
  let arg0 : BitVec 32 := BitVec.ofNat 32 (i 0).val
  let c1024_i32 : BitVec 32 := 1024#32
  let v0 : BitVec 32 := Scalar.muli arg0 c1024_i32
  let c702_i32_2989 : BitVec 32 := 702#32
  let v4222 : BitVec 32 := Scalar.addi v0 c702_i32_2989
  let c1_i32_2990 : BitVec 32 := 1#32
  let v4223 : BitVec 32 := Scalar.addi v4222 c1_i32_2990
  let v4224 : Index := Scalar.indexCast v4223
  ![v4224.toNat]
def k0_off1408 (v4225 : BitVec 32) : Fin 2 → Nat :=
  let c0_i32_2991 : BitVec 32 := 0#32
  ![v4225.toNat, 0]

def k0_chk704 (v4225 : BitVec 32) : Prop :=
  (∀ a, (k0_off1408 v4225) a + S1x1024.size a ≤ S37888x1024.size a)
theorem k0_off1408_inb : ∀ (v4225 : BitVec 32) (k0_hw704 : k0_chk704 v4225), ∀ a, (k0_off1408 v4225) a + S1x1024.size a ≤ S37888x1024.size a := fun v4225 k0_hw704 => k0_hw704

def k0_off1409 (i : grid0.Coords) : Fin 1 → Nat :=
  let arg0 : BitVec 32 := BitVec.ofNat 32 (i 0).val
  let c1024_i32 : BitVec 32 := 1024#32
  let v0 : BitVec 32 := Scalar.muli arg0 c1024_i32
  let c704_i32 : BitVec 32 := 704#32
  let v4228 : BitVec 32 := Scalar.addi v0 c704_i32
  let c0_i32_2994 : BitVec 32 := 0#32
  let v4229 : BitVec 32 := Scalar.addi v4228 c0_i32_2994
  let v4230 : Index := Scalar.indexCast v4229
  ![v4230.toNat]
def k0_off1410 (v4231 : BitVec 32) : Fin 2 → Nat :=
  let c0_i32_2995 : BitVec 32 := 0#32
  ![v4231.toNat, 0]

def k0_chk705 (v4231 : BitVec 32) : Prop :=
  (∀ a, (k0_off1410 v4231) a + S1x1024.size a ≤ S37888x1024.size a)
theorem k0_off1410_inb : ∀ (v4231 : BitVec 32) (k0_hw705 : k0_chk705 v4231), ∀ a, (k0_off1410 v4231) a + S1x1024.size a ≤ S37888x1024.size a := fun v4231 k0_hw705 => k0_hw705

def k0_off1411 (i : grid0.Coords) : Fin 1 → Nat :=
  let arg0 : BitVec 32 := BitVec.ofNat 32 (i 0).val
  let c1024_i32 : BitVec 32 := 1024#32
  let v0 : BitVec 32 := Scalar.muli arg0 c1024_i32
  let c704_i32_2998 : BitVec 32 := 704#32
  let v4234 : BitVec 32 := Scalar.addi v0 c704_i32_2998
  let c1_i32_2999 : BitVec 32 := 1#32
  let v4235 : BitVec 32 := Scalar.addi v4234 c1_i32_2999
  let v4236 : Index := Scalar.indexCast v4235
  ![v4236.toNat]
def k0_off1412 (v4237 : BitVec 32) : Fin 2 → Nat :=
  let c0_i32_3000 : BitVec 32 := 0#32
  ![v4237.toNat, 0]

def k0_chk706 (v4237 : BitVec 32) : Prop :=
  (∀ a, (k0_off1412 v4237) a + S1x1024.size a ≤ S37888x1024.size a)
theorem k0_off1412_inb : ∀ (v4237 : BitVec 32) (k0_hw706 : k0_chk706 v4237), ∀ a, (k0_off1412 v4237) a + S1x1024.size a ≤ S37888x1024.size a := fun v4237 k0_hw706 => k0_hw706

def k0_off1413 (i : grid0.Coords) : Fin 1 → Nat :=
  let arg0 : BitVec 32 := BitVec.ofNat 32 (i 0).val
  let c1024_i32 : BitVec 32 := 1024#32
  let v0 : BitVec 32 := Scalar.muli arg0 c1024_i32
  let c706_i32 : BitVec 32 := 706#32
  let v4240 : BitVec 32 := Scalar.addi v0 c706_i32
  let c0_i32_3003 : BitVec 32 := 0#32
  let v4241 : BitVec 32 := Scalar.addi v4240 c0_i32_3003
  let v4242 : Index := Scalar.indexCast v4241
  ![v4242.toNat]
def k0_off1414 (v4243 : BitVec 32) : Fin 2 → Nat :=
  let c0_i32_3004 : BitVec 32 := 0#32
  ![v4243.toNat, 0]

def k0_chk707 (v4243 : BitVec 32) : Prop :=
  (∀ a, (k0_off1414 v4243) a + S1x1024.size a ≤ S37888x1024.size a)
theorem k0_off1414_inb : ∀ (v4243 : BitVec 32) (k0_hw707 : k0_chk707 v4243), ∀ a, (k0_off1414 v4243) a + S1x1024.size a ≤ S37888x1024.size a := fun v4243 k0_hw707 => k0_hw707

def k0_off1415 (i : grid0.Coords) : Fin 1 → Nat :=
  let arg0 : BitVec 32 := BitVec.ofNat 32 (i 0).val
  let c1024_i32 : BitVec 32 := 1024#32
  let v0 : BitVec 32 := Scalar.muli arg0 c1024_i32
  let c706_i32_3006 : BitVec 32 := 706#32
  let v4246 : BitVec 32 := Scalar.addi v0 c706_i32_3006
  let c1_i32_3007 : BitVec 32 := 1#32
  let v4247 : BitVec 32 := Scalar.addi v4246 c1_i32_3007
  let v4248 : Index := Scalar.indexCast v4247
  ![v4248.toNat]
def k0_off1416 (v4249 : BitVec 32) : Fin 2 → Nat :=
  let c0_i32_3008 : BitVec 32 := 0#32
  ![v4249.toNat, 0]

def k0_chk708 (v4249 : BitVec 32) : Prop :=
  (∀ a, (k0_off1416 v4249) a + S1x1024.size a ≤ S37888x1024.size a)
theorem k0_off1416_inb : ∀ (v4249 : BitVec 32) (k0_hw708 : k0_chk708 v4249), ∀ a, (k0_off1416 v4249) a + S1x1024.size a ≤ S37888x1024.size a := fun v4249 k0_hw708 => k0_hw708

def k0_off1417 (i : grid0.Coords) : Fin 1 → Nat :=
  let arg0 : BitVec 32 := BitVec.ofNat 32 (i 0).val
  let c1024_i32 : BitVec 32 := 1024#32
  let v0 : BitVec 32 := Scalar.muli arg0 c1024_i32
  let c708_i32 : BitVec 32 := 708#32
  let v4252 : BitVec 32 := Scalar.addi v0 c708_i32
  let c0_i32_3011 : BitVec 32 := 0#32
  let v4253 : BitVec 32 := Scalar.addi v4252 c0_i32_3011
  let v4254 : Index := Scalar.indexCast v4253
  ![v4254.toNat]
def k0_off1418 (v4255 : BitVec 32) : Fin 2 → Nat :=
  let c0_i32_3012 : BitVec 32 := 0#32
  ![v4255.toNat, 0]

def k0_chk709 (v4255 : BitVec 32) : Prop :=
  (∀ a, (k0_off1418 v4255) a + S1x1024.size a ≤ S37888x1024.size a)
theorem k0_off1418_inb : ∀ (v4255 : BitVec 32) (k0_hw709 : k0_chk709 v4255), ∀ a, (k0_off1418 v4255) a + S1x1024.size a ≤ S37888x1024.size a := fun v4255 k0_hw709 => k0_hw709

def k0_off1419 (i : grid0.Coords) : Fin 1 → Nat :=
  let arg0 : BitVec 32 := BitVec.ofNat 32 (i 0).val
  let c1024_i32 : BitVec 32 := 1024#32
  let v0 : BitVec 32 := Scalar.muli arg0 c1024_i32
  let c708_i32_3015 : BitVec 32 := 708#32
  let v4258 : BitVec 32 := Scalar.addi v0 c708_i32_3015
  let c1_i32_3016 : BitVec 32 := 1#32
  let v4259 : BitVec 32 := Scalar.addi v4258 c1_i32_3016
  let v4260 : Index := Scalar.indexCast v4259
  ![v4260.toNat]
def k0_off1420 (v4261 : BitVec 32) : Fin 2 → Nat :=
  let c0_i32_3017 : BitVec 32 := 0#32
  ![v4261.toNat, 0]

def k0_chk710 (v4261 : BitVec 32) : Prop :=
  (∀ a, (k0_off1420 v4261) a + S1x1024.size a ≤ S37888x1024.size a)
theorem k0_off1420_inb : ∀ (v4261 : BitVec 32) (k0_hw710 : k0_chk710 v4261), ∀ a, (k0_off1420 v4261) a + S1x1024.size a ≤ S37888x1024.size a := fun v4261 k0_hw710 => k0_hw710

def k0_off1421 (i : grid0.Coords) : Fin 1 → Nat :=
  let arg0 : BitVec 32 := BitVec.ofNat 32 (i 0).val
  let c1024_i32 : BitVec 32 := 1024#32
  let v0 : BitVec 32 := Scalar.muli arg0 c1024_i32
  let c710_i32 : BitVec 32 := 710#32
  let v4264 : BitVec 32 := Scalar.addi v0 c710_i32
  let c0_i32_3020 : BitVec 32 := 0#32
  let v4265 : BitVec 32 := Scalar.addi v4264 c0_i32_3020
  let v4266 : Index := Scalar.indexCast v4265
  ![v4266.toNat]
def k0_off1422 (v4267 : BitVec 32) : Fin 2 → Nat :=
  let c0_i32_3021 : BitVec 32 := 0#32
  ![v4267.toNat, 0]

def k0_chk711 (v4267 : BitVec 32) : Prop :=
  (∀ a, (k0_off1422 v4267) a + S1x1024.size a ≤ S37888x1024.size a)
theorem k0_off1422_inb : ∀ (v4267 : BitVec 32) (k0_hw711 : k0_chk711 v4267), ∀ a, (k0_off1422 v4267) a + S1x1024.size a ≤ S37888x1024.size a := fun v4267 k0_hw711 => k0_hw711

def k0_off1423 (i : grid0.Coords) : Fin 1 → Nat :=
  let arg0 : BitVec 32 := BitVec.ofNat 32 (i 0).val
  let c1024_i32 : BitVec 32 := 1024#32
  let v0 : BitVec 32 := Scalar.muli arg0 c1024_i32
  let c710_i32_3023 : BitVec 32 := 710#32
  let v4270 : BitVec 32 := Scalar.addi v0 c710_i32_3023
  let c1_i32_3024 : BitVec 32 := 1#32
  let v4271 : BitVec 32 := Scalar.addi v4270 c1_i32_3024
  let v4272 : Index := Scalar.indexCast v4271
  ![v4272.toNat]
def k0_off1424 (v4273 : BitVec 32) : Fin 2 → Nat :=
  let c0_i32_3025 : BitVec 32 := 0#32
  ![v4273.toNat, 0]

def k0_chk712 (v4273 : BitVec 32) : Prop :=
  (∀ a, (k0_off1424 v4273) a + S1x1024.size a ≤ S37888x1024.size a)
theorem k0_off1424_inb : ∀ (v4273 : BitVec 32) (k0_hw712 : k0_chk712 v4273), ∀ a, (k0_off1424 v4273) a + S1x1024.size a ≤ S37888x1024.size a := fun v4273 k0_hw712 => k0_hw712

def k0_off1425 (i : grid0.Coords) : Fin 1 → Nat :=
  let arg0 : BitVec 32 := BitVec.ofNat 32 (i 0).val
  let c1024_i32 : BitVec 32 := 1024#32
  let v0 : BitVec 32 := Scalar.muli arg0 c1024_i32
  let c712_i32 : BitVec 32 := 712#32
  let v4276 : BitVec 32 := Scalar.addi v0 c712_i32
  let c0_i32_3028 : BitVec 32 := 0#32
  let v4277 : BitVec 32 := Scalar.addi v4276 c0_i32_3028
  let v4278 : Index := Scalar.indexCast v4277
  ![v4278.toNat]
def k0_off1426 (v4279 : BitVec 32) : Fin 2 → Nat :=
  let c0_i32_3029 : BitVec 32 := 0#32
  ![v4279.toNat, 0]

def k0_chk713 (v4279 : BitVec 32) : Prop :=
  (∀ a, (k0_off1426 v4279) a + S1x1024.size a ≤ S37888x1024.size a)
theorem k0_off1426_inb : ∀ (v4279 : BitVec 32) (k0_hw713 : k0_chk713 v4279), ∀ a, (k0_off1426 v4279) a + S1x1024.size a ≤ S37888x1024.size a := fun v4279 k0_hw713 => k0_hw713

def k0_off1427 (i : grid0.Coords) : Fin 1 → Nat :=
  let arg0 : BitVec 32 := BitVec.ofNat 32 (i 0).val
  let c1024_i32 : BitVec 32 := 1024#32
  let v0 : BitVec 32 := Scalar.muli arg0 c1024_i32
  let c712_i32_3032 : BitVec 32 := 712#32
  let v4282 : BitVec 32 := Scalar.addi v0 c712_i32_3032
  let c1_i32_3033 : BitVec 32 := 1#32
  let v4283 : BitVec 32 := Scalar.addi v4282 c1_i32_3033
  let v4284 : Index := Scalar.indexCast v4283
  ![v4284.toNat]
def k0_off1428 (v4285 : BitVec 32) : Fin 2 → Nat :=
  let c0_i32_3034 : BitVec 32 := 0#32
  ![v4285.toNat, 0]

def k0_chk714 (v4285 : BitVec 32) : Prop :=
  (∀ a, (k0_off1428 v4285) a + S1x1024.size a ≤ S37888x1024.size a)
theorem k0_off1428_inb : ∀ (v4285 : BitVec 32) (k0_hw714 : k0_chk714 v4285), ∀ a, (k0_off1428 v4285) a + S1x1024.size a ≤ S37888x1024.size a := fun v4285 k0_hw714 => k0_hw714

def k0_off1429 (i : grid0.Coords) : Fin 1 → Nat :=
  let arg0 : BitVec 32 := BitVec.ofNat 32 (i 0).val
  let c1024_i32 : BitVec 32 := 1024#32
  let v0 : BitVec 32 := Scalar.muli arg0 c1024_i32
  let c714_i32 : BitVec 32 := 714#32
  let v4288 : BitVec 32 := Scalar.addi v0 c714_i32
  let c0_i32_3037 : BitVec 32 := 0#32
  let v4289 : BitVec 32 := Scalar.addi v4288 c0_i32_3037
  let v4290 : Index := Scalar.indexCast v4289
  ![v4290.toNat]
def k0_off1430 (v4291 : BitVec 32) : Fin 2 → Nat :=
  let c0_i32_3038 : BitVec 32 := 0#32
  ![v4291.toNat, 0]

def k0_chk715 (v4291 : BitVec 32) : Prop :=
  (∀ a, (k0_off1430 v4291) a + S1x1024.size a ≤ S37888x1024.size a)
theorem k0_off1430_inb : ∀ (v4291 : BitVec 32) (k0_hw715 : k0_chk715 v4291), ∀ a, (k0_off1430 v4291) a + S1x1024.size a ≤ S37888x1024.size a := fun v4291 k0_hw715 => k0_hw715

def k0_off1431 (i : grid0.Coords) : Fin 1 → Nat :=
  let arg0 : BitVec 32 := BitVec.ofNat 32 (i 0).val
  let c1024_i32 : BitVec 32 := 1024#32
  let v0 : BitVec 32 := Scalar.muli arg0 c1024_i32
  let c714_i32_3040 : BitVec 32 := 714#32
  let v4294 : BitVec 32 := Scalar.addi v0 c714_i32_3040
  let c1_i32_3041 : BitVec 32 := 1#32
  let v4295 : BitVec 32 := Scalar.addi v4294 c1_i32_3041
  let v4296 : Index := Scalar.indexCast v4295
  ![v4296.toNat]
def k0_off1432 (v4297 : BitVec 32) : Fin 2 → Nat :=
  let c0_i32_3042 : BitVec 32 := 0#32
  ![v4297.toNat, 0]

def k0_chk716 (v4297 : BitVec 32) : Prop :=
  (∀ a, (k0_off1432 v4297) a + S1x1024.size a ≤ S37888x1024.size a)
theorem k0_off1432_inb : ∀ (v4297 : BitVec 32) (k0_hw716 : k0_chk716 v4297), ∀ a, (k0_off1432 v4297) a + S1x1024.size a ≤ S37888x1024.size a := fun v4297 k0_hw716 => k0_hw716

def k0_off1433 (i : grid0.Coords) : Fin 1 → Nat :=
  let arg0 : BitVec 32 := BitVec.ofNat 32 (i 0).val
  let c1024_i32 : BitVec 32 := 1024#32
  let v0 : BitVec 32 := Scalar.muli arg0 c1024_i32
  let c716_i32 : BitVec 32 := 716#32
  let v4300 : BitVec 32 := Scalar.addi v0 c716_i32
  let c0_i32_3045 : BitVec 32 := 0#32
  let v4301 : BitVec 32 := Scalar.addi v4300 c0_i32_3045
  let v4302 : Index := Scalar.indexCast v4301
  ![v4302.toNat]
def k0_off1434 (v4303 : BitVec 32) : Fin 2 → Nat :=
  let c0_i32_3046 : BitVec 32 := 0#32
  ![v4303.toNat, 0]

def k0_chk717 (v4303 : BitVec 32) : Prop :=
  (∀ a, (k0_off1434 v4303) a + S1x1024.size a ≤ S37888x1024.size a)
theorem k0_off1434_inb : ∀ (v4303 : BitVec 32) (k0_hw717 : k0_chk717 v4303), ∀ a, (k0_off1434 v4303) a + S1x1024.size a ≤ S37888x1024.size a := fun v4303 k0_hw717 => k0_hw717

def k0_off1435 (i : grid0.Coords) : Fin 1 → Nat :=
  let arg0 : BitVec 32 := BitVec.ofNat 32 (i 0).val
  let c1024_i32 : BitVec 32 := 1024#32
  let v0 : BitVec 32 := Scalar.muli arg0 c1024_i32
  let c716_i32_3049 : BitVec 32 := 716#32
  let v4306 : BitVec 32 := Scalar.addi v0 c716_i32_3049
  let c1_i32_3050 : BitVec 32 := 1#32
  let v4307 : BitVec 32 := Scalar.addi v4306 c1_i32_3050
  let v4308 : Index := Scalar.indexCast v4307
  ![v4308.toNat]
def k0_off1436 (v4309 : BitVec 32) : Fin 2 → Nat :=
  let c0_i32_3051 : BitVec 32 := 0#32
  ![v4309.toNat, 0]

def k0_chk718 (v4309 : BitVec 32) : Prop :=
  (∀ a, (k0_off1436 v4309) a + S1x1024.size a ≤ S37888x1024.size a)
theorem k0_off1436_inb : ∀ (v4309 : BitVec 32) (k0_hw718 : k0_chk718 v4309), ∀ a, (k0_off1436 v4309) a + S1x1024.size a ≤ S37888x1024.size a := fun v4309 k0_hw718 => k0_hw718

def k0_off1437 (i : grid0.Coords) : Fin 1 → Nat :=
  let arg0 : BitVec 32 := BitVec.ofNat 32 (i 0).val
  let c1024_i32 : BitVec 32 := 1024#32
  let v0 : BitVec 32 := Scalar.muli arg0 c1024_i32
  let c718_i32 : BitVec 32 := 718#32
  let v4312 : BitVec 32 := Scalar.addi v0 c718_i32
  let c0_i32_3054 : BitVec 32 := 0#32
  let v4313 : BitVec 32 := Scalar.addi v4312 c0_i32_3054
  let v4314 : Index := Scalar.indexCast v4313
  ![v4314.toNat]
def k0_off1438 (v4315 : BitVec 32) : Fin 2 → Nat :=
  let c0_i32_3055 : BitVec 32 := 0#32
  ![v4315.toNat, 0]

def k0_chk719 (v4315 : BitVec 32) : Prop :=
  (∀ a, (k0_off1438 v4315) a + S1x1024.size a ≤ S37888x1024.size a)
theorem k0_off1438_inb : ∀ (v4315 : BitVec 32) (k0_hw719 : k0_chk719 v4315), ∀ a, (k0_off1438 v4315) a + S1x1024.size a ≤ S37888x1024.size a := fun v4315 k0_hw719 => k0_hw719

def k0_off1439 (i : grid0.Coords) : Fin 1 → Nat :=
  let arg0 : BitVec 32 := BitVec.ofNat 32 (i 0).val
  let c1024_i32 : BitVec 32 := 1024#32
  let v0 : BitVec 32 := Scalar.muli arg0 c1024_i32
  let c718_i32_3057 : BitVec 32 := 718#32
  let v4318 : BitVec 32 := Scalar.addi v0 c718_i32_3057
  let c1_i32_3058 : BitVec 32 := 1#32
  let v4319 : BitVec 32 := Scalar.addi v4318 c1_i32_3058
  let v4320 : Index := Scalar.indexCast v4319
  ![v4320.toNat]
def k0_off1440 (v4321 : BitVec 32) : Fin 2 → Nat :=
  let c0_i32_3059 : BitVec 32 := 0#32
  ![v4321.toNat, 0]

def k0_chk720 (v4321 : BitVec 32) : Prop :=
  (∀ a, (k0_off1440 v4321) a + S1x1024.size a ≤ S37888x1024.size a)
theorem k0_off1440_inb : ∀ (v4321 : BitVec 32) (k0_hw720 : k0_chk720 v4321), ∀ a, (k0_off1440 v4321) a + S1x1024.size a ≤ S37888x1024.size a := fun v4321 k0_hw720 => k0_hw720

def k0_off1441 (i : grid0.Coords) : Fin 1 → Nat :=
  let arg0 : BitVec 32 := BitVec.ofNat 32 (i 0).val
  let c1024_i32 : BitVec 32 := 1024#32
  let v0 : BitVec 32 := Scalar.muli arg0 c1024_i32
  let c720_i32 : BitVec 32 := 720#32
  let v4324 : BitVec 32 := Scalar.addi v0 c720_i32
  let c0_i32_3062 : BitVec 32 := 0#32
  let v4325 : BitVec 32 := Scalar.addi v4324 c0_i32_3062
  let v4326 : Index := Scalar.indexCast v4325
  ![v4326.toNat]
def k0_off1442 (v4327 : BitVec 32) : Fin 2 → Nat :=
  let c0_i32_3063 : BitVec 32 := 0#32
  ![v4327.toNat, 0]

def k0_chk721 (v4327 : BitVec 32) : Prop :=
  (∀ a, (k0_off1442 v4327) a + S1x1024.size a ≤ S37888x1024.size a)
theorem k0_off1442_inb : ∀ (v4327 : BitVec 32) (k0_hw721 : k0_chk721 v4327), ∀ a, (k0_off1442 v4327) a + S1x1024.size a ≤ S37888x1024.size a := fun v4327 k0_hw721 => k0_hw721

def k0_off1443 (i : grid0.Coords) : Fin 1 → Nat :=
  let arg0 : BitVec 32 := BitVec.ofNat 32 (i 0).val
  let c1024_i32 : BitVec 32 := 1024#32
  let v0 : BitVec 32 := Scalar.muli arg0 c1024_i32
  let c720_i32_3066 : BitVec 32 := 720#32
  let v4330 : BitVec 32 := Scalar.addi v0 c720_i32_3066
  let c1_i32_3067 : BitVec 32 := 1#32
  let v4331 : BitVec 32 := Scalar.addi v4330 c1_i32_3067
  let v4332 : Index := Scalar.indexCast v4331
  ![v4332.toNat]
def k0_off1444 (v4333 : BitVec 32) : Fin 2 → Nat :=
  let c0_i32_3068 : BitVec 32 := 0#32
  ![v4333.toNat, 0]

def k0_chk722 (v4333 : BitVec 32) : Prop :=
  (∀ a, (k0_off1444 v4333) a + S1x1024.size a ≤ S37888x1024.size a)
theorem k0_off1444_inb : ∀ (v4333 : BitVec 32) (k0_hw722 : k0_chk722 v4333), ∀ a, (k0_off1444 v4333) a + S1x1024.size a ≤ S37888x1024.size a := fun v4333 k0_hw722 => k0_hw722

def k0_off1445 (i : grid0.Coords) : Fin 1 → Nat :=
  let arg0 : BitVec 32 := BitVec.ofNat 32 (i 0).val
  let c1024_i32 : BitVec 32 := 1024#32
  let v0 : BitVec 32 := Scalar.muli arg0 c1024_i32
  let c722_i32 : BitVec 32 := 722#32
  let v4336 : BitVec 32 := Scalar.addi v0 c722_i32
  let c0_i32_3071 : BitVec 32 := 0#32
  let v4337 : BitVec 32 := Scalar.addi v4336 c0_i32_3071
  let v4338 : Index := Scalar.indexCast v4337
  ![v4338.toNat]
def k0_off1446 (v4339 : BitVec 32) : Fin 2 → Nat :=
  let c0_i32_3072 : BitVec 32 := 0#32
  ![v4339.toNat, 0]

def k0_chk723 (v4339 : BitVec 32) : Prop :=
  (∀ a, (k0_off1446 v4339) a + S1x1024.size a ≤ S37888x1024.size a)
theorem k0_off1446_inb : ∀ (v4339 : BitVec 32) (k0_hw723 : k0_chk723 v4339), ∀ a, (k0_off1446 v4339) a + S1x1024.size a ≤ S37888x1024.size a := fun v4339 k0_hw723 => k0_hw723

def k0_off1447 (i : grid0.Coords) : Fin 1 → Nat :=
  let arg0 : BitVec 32 := BitVec.ofNat 32 (i 0).val
  let c1024_i32 : BitVec 32 := 1024#32
  let v0 : BitVec 32 := Scalar.muli arg0 c1024_i32
  let c722_i32_3074 : BitVec 32 := 722#32
  let v4342 : BitVec 32 := Scalar.addi v0 c722_i32_3074
  let c1_i32_3075 : BitVec 32 := 1#32
  let v4343 : BitVec 32 := Scalar.addi v4342 c1_i32_3075
  let v4344 : Index := Scalar.indexCast v4343
  ![v4344.toNat]
def k0_off1448 (v4345 : BitVec 32) : Fin 2 → Nat :=
  let c0_i32_3076 : BitVec 32 := 0#32
  ![v4345.toNat, 0]

def k0_chk724 (v4345 : BitVec 32) : Prop :=
  (∀ a, (k0_off1448 v4345) a + S1x1024.size a ≤ S37888x1024.size a)
theorem k0_off1448_inb : ∀ (v4345 : BitVec 32) (k0_hw724 : k0_chk724 v4345), ∀ a, (k0_off1448 v4345) a + S1x1024.size a ≤ S37888x1024.size a := fun v4345 k0_hw724 => k0_hw724

def k0_off1449 (i : grid0.Coords) : Fin 1 → Nat :=
  let arg0 : BitVec 32 := BitVec.ofNat 32 (i 0).val
  let c1024_i32 : BitVec 32 := 1024#32
  let v0 : BitVec 32 := Scalar.muli arg0 c1024_i32
  let c724_i32 : BitVec 32 := 724#32
  let v4348 : BitVec 32 := Scalar.addi v0 c724_i32
  let c0_i32_3079 : BitVec 32 := 0#32
  let v4349 : BitVec 32 := Scalar.addi v4348 c0_i32_3079
  let v4350 : Index := Scalar.indexCast v4349
  ![v4350.toNat]
def k0_off1450 (v4351 : BitVec 32) : Fin 2 → Nat :=
  let c0_i32_3080 : BitVec 32 := 0#32
  ![v4351.toNat, 0]

def k0_chk725 (v4351 : BitVec 32) : Prop :=
  (∀ a, (k0_off1450 v4351) a + S1x1024.size a ≤ S37888x1024.size a)
theorem k0_off1450_inb : ∀ (v4351 : BitVec 32) (k0_hw725 : k0_chk725 v4351), ∀ a, (k0_off1450 v4351) a + S1x1024.size a ≤ S37888x1024.size a := fun v4351 k0_hw725 => k0_hw725

def k0_off1451 (i : grid0.Coords) : Fin 1 → Nat :=
  let arg0 : BitVec 32 := BitVec.ofNat 32 (i 0).val
  let c1024_i32 : BitVec 32 := 1024#32
  let v0 : BitVec 32 := Scalar.muli arg0 c1024_i32
  let c724_i32_3083 : BitVec 32 := 724#32
  let v4354 : BitVec 32 := Scalar.addi v0 c724_i32_3083
  let c1_i32_3084 : BitVec 32 := 1#32
  let v4355 : BitVec 32 := Scalar.addi v4354 c1_i32_3084
  let v4356 : Index := Scalar.indexCast v4355
  ![v4356.toNat]
def k0_off1452 (v4357 : BitVec 32) : Fin 2 → Nat :=
  let c0_i32_3085 : BitVec 32 := 0#32
  ![v4357.toNat, 0]

def k0_chk726 (v4357 : BitVec 32) : Prop :=
  (∀ a, (k0_off1452 v4357) a + S1x1024.size a ≤ S37888x1024.size a)
theorem k0_off1452_inb : ∀ (v4357 : BitVec 32) (k0_hw726 : k0_chk726 v4357), ∀ a, (k0_off1452 v4357) a + S1x1024.size a ≤ S37888x1024.size a := fun v4357 k0_hw726 => k0_hw726

def k0_off1453 (i : grid0.Coords) : Fin 1 → Nat :=
  let arg0 : BitVec 32 := BitVec.ofNat 32 (i 0).val
  let c1024_i32 : BitVec 32 := 1024#32
  let v0 : BitVec 32 := Scalar.muli arg0 c1024_i32
  let c726_i32 : BitVec 32 := 726#32
  let v4360 : BitVec 32 := Scalar.addi v0 c726_i32
  let c0_i32_3088 : BitVec 32 := 0#32
  let v4361 : BitVec 32 := Scalar.addi v4360 c0_i32_3088
  let v4362 : Index := Scalar.indexCast v4361
  ![v4362.toNat]
def k0_off1454 (v4363 : BitVec 32) : Fin 2 → Nat :=
  let c0_i32_3089 : BitVec 32 := 0#32
  ![v4363.toNat, 0]

def k0_chk727 (v4363 : BitVec 32) : Prop :=
  (∀ a, (k0_off1454 v4363) a + S1x1024.size a ≤ S37888x1024.size a)
theorem k0_off1454_inb : ∀ (v4363 : BitVec 32) (k0_hw727 : k0_chk727 v4363), ∀ a, (k0_off1454 v4363) a + S1x1024.size a ≤ S37888x1024.size a := fun v4363 k0_hw727 => k0_hw727

def k0_off1455 (i : grid0.Coords) : Fin 1 → Nat :=
  let arg0 : BitVec 32 := BitVec.ofNat 32 (i 0).val
  let c1024_i32 : BitVec 32 := 1024#32
  let v0 : BitVec 32 := Scalar.muli arg0 c1024_i32
  let c726_i32_3091 : BitVec 32 := 726#32
  let v4366 : BitVec 32 := Scalar.addi v0 c726_i32_3091
  let c1_i32_3092 : BitVec 32 := 1#32
  let v4367 : BitVec 32 := Scalar.addi v4366 c1_i32_3092
  let v4368 : Index := Scalar.indexCast v4367
  ![v4368.toNat]
def k0_off1456 (v4369 : BitVec 32) : Fin 2 → Nat :=
  let c0_i32_3093 : BitVec 32 := 0#32
  ![v4369.toNat, 0]

def k0_chk728 (v4369 : BitVec 32) : Prop :=
  (∀ a, (k0_off1456 v4369) a + S1x1024.size a ≤ S37888x1024.size a)
theorem k0_off1456_inb : ∀ (v4369 : BitVec 32) (k0_hw728 : k0_chk728 v4369), ∀ a, (k0_off1456 v4369) a + S1x1024.size a ≤ S37888x1024.size a := fun v4369 k0_hw728 => k0_hw728

def k0_off1457 (i : grid0.Coords) : Fin 1 → Nat :=
  let arg0 : BitVec 32 := BitVec.ofNat 32 (i 0).val
  let c1024_i32 : BitVec 32 := 1024#32
  let v0 : BitVec 32 := Scalar.muli arg0 c1024_i32
  let c728_i32 : BitVec 32 := 728#32
  let v4372 : BitVec 32 := Scalar.addi v0 c728_i32
  let c0_i32_3096 : BitVec 32 := 0#32
  let v4373 : BitVec 32 := Scalar.addi v4372 c0_i32_3096
  let v4374 : Index := Scalar.indexCast v4373
  ![v4374.toNat]
def k0_off1458 (v4375 : BitVec 32) : Fin 2 → Nat :=
  let c0_i32_3097 : BitVec 32 := 0#32
  ![v4375.toNat, 0]

def k0_chk729 (v4375 : BitVec 32) : Prop :=
  (∀ a, (k0_off1458 v4375) a + S1x1024.size a ≤ S37888x1024.size a)
theorem k0_off1458_inb : ∀ (v4375 : BitVec 32) (k0_hw729 : k0_chk729 v4375), ∀ a, (k0_off1458 v4375) a + S1x1024.size a ≤ S37888x1024.size a := fun v4375 k0_hw729 => k0_hw729

def k0_off1459 (i : grid0.Coords) : Fin 1 → Nat :=
  let arg0 : BitVec 32 := BitVec.ofNat 32 (i 0).val
  let c1024_i32 : BitVec 32 := 1024#32
  let v0 : BitVec 32 := Scalar.muli arg0 c1024_i32
  let c728_i32_3100 : BitVec 32 := 728#32
  let v4378 : BitVec 32 := Scalar.addi v0 c728_i32_3100
  let c1_i32_3101 : BitVec 32 := 1#32
  let v4379 : BitVec 32 := Scalar.addi v4378 c1_i32_3101
  let v4380 : Index := Scalar.indexCast v4379
  ![v4380.toNat]
def k0_off1460 (v4381 : BitVec 32) : Fin 2 → Nat :=
  let c0_i32_3102 : BitVec 32 := 0#32
  ![v4381.toNat, 0]

def k0_chk730 (v4381 : BitVec 32) : Prop :=
  (∀ a, (k0_off1460 v4381) a + S1x1024.size a ≤ S37888x1024.size a)
theorem k0_off1460_inb : ∀ (v4381 : BitVec 32) (k0_hw730 : k0_chk730 v4381), ∀ a, (k0_off1460 v4381) a + S1x1024.size a ≤ S37888x1024.size a := fun v4381 k0_hw730 => k0_hw730

def k0_off1461 (i : grid0.Coords) : Fin 1 → Nat :=
  let arg0 : BitVec 32 := BitVec.ofNat 32 (i 0).val
  let c1024_i32 : BitVec 32 := 1024#32
  let v0 : BitVec 32 := Scalar.muli arg0 c1024_i32
  let c730_i32 : BitVec 32 := 730#32
  let v4384 : BitVec 32 := Scalar.addi v0 c730_i32
  let c0_i32_3105 : BitVec 32 := 0#32
  let v4385 : BitVec 32 := Scalar.addi v4384 c0_i32_3105
  let v4386 : Index := Scalar.indexCast v4385
  ![v4386.toNat]
def k0_off1462 (v4387 : BitVec 32) : Fin 2 → Nat :=
  let c0_i32_3106 : BitVec 32 := 0#32
  ![v4387.toNat, 0]

def k0_chk731 (v4387 : BitVec 32) : Prop :=
  (∀ a, (k0_off1462 v4387) a + S1x1024.size a ≤ S37888x1024.size a)
theorem k0_off1462_inb : ∀ (v4387 : BitVec 32) (k0_hw731 : k0_chk731 v4387), ∀ a, (k0_off1462 v4387) a + S1x1024.size a ≤ S37888x1024.size a := fun v4387 k0_hw731 => k0_hw731

def k0_off1463 (i : grid0.Coords) : Fin 1 → Nat :=
  let arg0 : BitVec 32 := BitVec.ofNat 32 (i 0).val
  let c1024_i32 : BitVec 32 := 1024#32
  let v0 : BitVec 32 := Scalar.muli arg0 c1024_i32
  let c730_i32_3108 : BitVec 32 := 730#32
  let v4390 : BitVec 32 := Scalar.addi v0 c730_i32_3108
  let c1_i32_3109 : BitVec 32 := 1#32
  let v4391 : BitVec 32 := Scalar.addi v4390 c1_i32_3109
  let v4392 : Index := Scalar.indexCast v4391
  ![v4392.toNat]
def k0_off1464 (v4393 : BitVec 32) : Fin 2 → Nat :=
  let c0_i32_3110 : BitVec 32 := 0#32
  ![v4393.toNat, 0]

def k0_chk732 (v4393 : BitVec 32) : Prop :=
  (∀ a, (k0_off1464 v4393) a + S1x1024.size a ≤ S37888x1024.size a)
theorem k0_off1464_inb : ∀ (v4393 : BitVec 32) (k0_hw732 : k0_chk732 v4393), ∀ a, (k0_off1464 v4393) a + S1x1024.size a ≤ S37888x1024.size a := fun v4393 k0_hw732 => k0_hw732

def k0_off1465 (i : grid0.Coords) : Fin 1 → Nat :=
  let arg0 : BitVec 32 := BitVec.ofNat 32 (i 0).val
  let c1024_i32 : BitVec 32 := 1024#32
  let v0 : BitVec 32 := Scalar.muli arg0 c1024_i32
  let c732_i32 : BitVec 32 := 732#32
  let v4396 : BitVec 32 := Scalar.addi v0 c732_i32
  let c0_i32_3113 : BitVec 32 := 0#32
  let v4397 : BitVec 32 := Scalar.addi v4396 c0_i32_3113
  let v4398 : Index := Scalar.indexCast v4397
  ![v4398.toNat]
def k0_off1466 (v4399 : BitVec 32) : Fin 2 → Nat :=
  let c0_i32_3114 : BitVec 32 := 0#32
  ![v4399.toNat, 0]

def k0_chk733 (v4399 : BitVec 32) : Prop :=
  (∀ a, (k0_off1466 v4399) a + S1x1024.size a ≤ S37888x1024.size a)
theorem k0_off1466_inb : ∀ (v4399 : BitVec 32) (k0_hw733 : k0_chk733 v4399), ∀ a, (k0_off1466 v4399) a + S1x1024.size a ≤ S37888x1024.size a := fun v4399 k0_hw733 => k0_hw733

def k0_off1467 (i : grid0.Coords) : Fin 1 → Nat :=
  let arg0 : BitVec 32 := BitVec.ofNat 32 (i 0).val
  let c1024_i32 : BitVec 32 := 1024#32
  let v0 : BitVec 32 := Scalar.muli arg0 c1024_i32
  let c732_i32_3117 : BitVec 32 := 732#32
  let v4402 : BitVec 32 := Scalar.addi v0 c732_i32_3117
  let c1_i32_3118 : BitVec 32 := 1#32
  let v4403 : BitVec 32 := Scalar.addi v4402 c1_i32_3118
  let v4404 : Index := Scalar.indexCast v4403
  ![v4404.toNat]
def k0_off1468 (v4405 : BitVec 32) : Fin 2 → Nat :=
  let c0_i32_3119 : BitVec 32 := 0#32
  ![v4405.toNat, 0]

def k0_chk734 (v4405 : BitVec 32) : Prop :=
  (∀ a, (k0_off1468 v4405) a + S1x1024.size a ≤ S37888x1024.size a)
theorem k0_off1468_inb : ∀ (v4405 : BitVec 32) (k0_hw734 : k0_chk734 v4405), ∀ a, (k0_off1468 v4405) a + S1x1024.size a ≤ S37888x1024.size a := fun v4405 k0_hw734 => k0_hw734

def k0_off1469 (i : grid0.Coords) : Fin 1 → Nat :=
  let arg0 : BitVec 32 := BitVec.ofNat 32 (i 0).val
  let c1024_i32 : BitVec 32 := 1024#32
  let v0 : BitVec 32 := Scalar.muli arg0 c1024_i32
  let c734_i32 : BitVec 32 := 734#32
  let v4408 : BitVec 32 := Scalar.addi v0 c734_i32
  let c0_i32_3122 : BitVec 32 := 0#32
  let v4409 : BitVec 32 := Scalar.addi v4408 c0_i32_3122
  let v4410 : Index := Scalar.indexCast v4409
  ![v4410.toNat]
def k0_off1470 (v4411 : BitVec 32) : Fin 2 → Nat :=
  let c0_i32_3123 : BitVec 32 := 0#32
  ![v4411.toNat, 0]

def k0_chk735 (v4411 : BitVec 32) : Prop :=
  (∀ a, (k0_off1470 v4411) a + S1x1024.size a ≤ S37888x1024.size a)
theorem k0_off1470_inb : ∀ (v4411 : BitVec 32) (k0_hw735 : k0_chk735 v4411), ∀ a, (k0_off1470 v4411) a + S1x1024.size a ≤ S37888x1024.size a := fun v4411 k0_hw735 => k0_hw735

def k0_off1471 (i : grid0.Coords) : Fin 1 → Nat :=
  let arg0 : BitVec 32 := BitVec.ofNat 32 (i 0).val
  let c1024_i32 : BitVec 32 := 1024#32
  let v0 : BitVec 32 := Scalar.muli arg0 c1024_i32
  let c734_i32_3125 : BitVec 32 := 734#32
  let v4414 : BitVec 32 := Scalar.addi v0 c734_i32_3125
  let c1_i32_3126 : BitVec 32 := 1#32
  let v4415 : BitVec 32 := Scalar.addi v4414 c1_i32_3126
  let v4416 : Index := Scalar.indexCast v4415
  ![v4416.toNat]
def k0_off1472 (v4417 : BitVec 32) : Fin 2 → Nat :=
  let c0_i32_3127 : BitVec 32 := 0#32
  ![v4417.toNat, 0]

def k0_chk736 (v4417 : BitVec 32) : Prop :=
  (∀ a, (k0_off1472 v4417) a + S1x1024.size a ≤ S37888x1024.size a)
theorem k0_off1472_inb : ∀ (v4417 : BitVec 32) (k0_hw736 : k0_chk736 v4417), ∀ a, (k0_off1472 v4417) a + S1x1024.size a ≤ S37888x1024.size a := fun v4417 k0_hw736 => k0_hw736

def k0_off1473 (i : grid0.Coords) : Fin 1 → Nat :=
  let arg0 : BitVec 32 := BitVec.ofNat 32 (i 0).val
  let c1024_i32 : BitVec 32 := 1024#32
  let v0 : BitVec 32 := Scalar.muli arg0 c1024_i32
  let c736_i32 : BitVec 32 := 736#32
  let v4420 : BitVec 32 := Scalar.addi v0 c736_i32
  let c0_i32_3130 : BitVec 32 := 0#32
  let v4421 : BitVec 32 := Scalar.addi v4420 c0_i32_3130
  let v4422 : Index := Scalar.indexCast v4421
  ![v4422.toNat]
def k0_off1474 (v4423 : BitVec 32) : Fin 2 → Nat :=
  let c0_i32_3131 : BitVec 32 := 0#32
  ![v4423.toNat, 0]

def k0_chk737 (v4423 : BitVec 32) : Prop :=
  (∀ a, (k0_off1474 v4423) a + S1x1024.size a ≤ S37888x1024.size a)
theorem k0_off1474_inb : ∀ (v4423 : BitVec 32) (k0_hw737 : k0_chk737 v4423), ∀ a, (k0_off1474 v4423) a + S1x1024.size a ≤ S37888x1024.size a := fun v4423 k0_hw737 => k0_hw737

def k0_off1475 (i : grid0.Coords) : Fin 1 → Nat :=
  let arg0 : BitVec 32 := BitVec.ofNat 32 (i 0).val
  let c1024_i32 : BitVec 32 := 1024#32
  let v0 : BitVec 32 := Scalar.muli arg0 c1024_i32
  let c736_i32_3134 : BitVec 32 := 736#32
  let v4426 : BitVec 32 := Scalar.addi v0 c736_i32_3134
  let c1_i32_3135 : BitVec 32 := 1#32
  let v4427 : BitVec 32 := Scalar.addi v4426 c1_i32_3135
  let v4428 : Index := Scalar.indexCast v4427
  ![v4428.toNat]
def k0_off1476 (v4429 : BitVec 32) : Fin 2 → Nat :=
  let c0_i32_3136 : BitVec 32 := 0#32
  ![v4429.toNat, 0]

def k0_chk738 (v4429 : BitVec 32) : Prop :=
  (∀ a, (k0_off1476 v4429) a + S1x1024.size a ≤ S37888x1024.size a)
theorem k0_off1476_inb : ∀ (v4429 : BitVec 32) (k0_hw738 : k0_chk738 v4429), ∀ a, (k0_off1476 v4429) a + S1x1024.size a ≤ S37888x1024.size a := fun v4429 k0_hw738 => k0_hw738

def k0_off1477 (i : grid0.Coords) : Fin 1 → Nat :=
  let arg0 : BitVec 32 := BitVec.ofNat 32 (i 0).val
  let c1024_i32 : BitVec 32 := 1024#32
  let v0 : BitVec 32 := Scalar.muli arg0 c1024_i32
  let c738_i32 : BitVec 32 := 738#32
  let v4432 : BitVec 32 := Scalar.addi v0 c738_i32
  let c0_i32_3139 : BitVec 32 := 0#32
  let v4433 : BitVec 32 := Scalar.addi v4432 c0_i32_3139
  let v4434 : Index := Scalar.indexCast v4433
  ![v4434.toNat]
def k0_off1478 (v4435 : BitVec 32) : Fin 2 → Nat :=
  let c0_i32_3140 : BitVec 32 := 0#32
  ![v4435.toNat, 0]

def k0_chk739 (v4435 : BitVec 32) : Prop :=
  (∀ a, (k0_off1478 v4435) a + S1x1024.size a ≤ S37888x1024.size a)
theorem k0_off1478_inb : ∀ (v4435 : BitVec 32) (k0_hw739 : k0_chk739 v4435), ∀ a, (k0_off1478 v4435) a + S1x1024.size a ≤ S37888x1024.size a := fun v4435 k0_hw739 => k0_hw739

def k0_off1479 (i : grid0.Coords) : Fin 1 → Nat :=
  let arg0 : BitVec 32 := BitVec.ofNat 32 (i 0).val
  let c1024_i32 : BitVec 32 := 1024#32
  let v0 : BitVec 32 := Scalar.muli arg0 c1024_i32
  let c738_i32_3142 : BitVec 32 := 738#32
  let v4438 : BitVec 32 := Scalar.addi v0 c738_i32_3142
  let c1_i32_3143 : BitVec 32 := 1#32
  let v4439 : BitVec 32 := Scalar.addi v4438 c1_i32_3143
  let v4440 : Index := Scalar.indexCast v4439
  ![v4440.toNat]
def k0_off1480 (v4441 : BitVec 32) : Fin 2 → Nat :=
  let c0_i32_3144 : BitVec 32 := 0#32
  ![v4441.toNat, 0]

def k0_chk740 (v4441 : BitVec 32) : Prop :=
  (∀ a, (k0_off1480 v4441) a + S1x1024.size a ≤ S37888x1024.size a)
theorem k0_off1480_inb : ∀ (v4441 : BitVec 32) (k0_hw740 : k0_chk740 v4441), ∀ a, (k0_off1480 v4441) a + S1x1024.size a ≤ S37888x1024.size a := fun v4441 k0_hw740 => k0_hw740

def k0_off1481 (i : grid0.Coords) : Fin 1 → Nat :=
  let arg0 : BitVec 32 := BitVec.ofNat 32 (i 0).val
  let c1024_i32 : BitVec 32 := 1024#32
  let v0 : BitVec 32 := Scalar.muli arg0 c1024_i32
  let c740_i32 : BitVec 32 := 740#32
  let v4444 : BitVec 32 := Scalar.addi v0 c740_i32
  let c0_i32_3147 : BitVec 32 := 0#32
  let v4445 : BitVec 32 := Scalar.addi v4444 c0_i32_3147
  let v4446 : Index := Scalar.indexCast v4445
  ![v4446.toNat]
def k0_off1482 (v4447 : BitVec 32) : Fin 2 → Nat :=
  let c0_i32_3148 : BitVec 32 := 0#32
  ![v4447.toNat, 0]

def k0_chk741 (v4447 : BitVec 32) : Prop :=
  (∀ a, (k0_off1482 v4447) a + S1x1024.size a ≤ S37888x1024.size a)
theorem k0_off1482_inb : ∀ (v4447 : BitVec 32) (k0_hw741 : k0_chk741 v4447), ∀ a, (k0_off1482 v4447) a + S1x1024.size a ≤ S37888x1024.size a := fun v4447 k0_hw741 => k0_hw741

def k0_off1483 (i : grid0.Coords) : Fin 1 → Nat :=
  let arg0 : BitVec 32 := BitVec.ofNat 32 (i 0).val
  let c1024_i32 : BitVec 32 := 1024#32
  let v0 : BitVec 32 := Scalar.muli arg0 c1024_i32
  let c740_i32_3151 : BitVec 32 := 740#32
  let v4450 : BitVec 32 := Scalar.addi v0 c740_i32_3151
  let c1_i32_3152 : BitVec 32 := 1#32
  let v4451 : BitVec 32 := Scalar.addi v4450 c1_i32_3152
  let v4452 : Index := Scalar.indexCast v4451
  ![v4452.toNat]
def k0_off1484 (v4453 : BitVec 32) : Fin 2 → Nat :=
  let c0_i32_3153 : BitVec 32 := 0#32
  ![v4453.toNat, 0]

def k0_chk742 (v4453 : BitVec 32) : Prop :=
  (∀ a, (k0_off1484 v4453) a + S1x1024.size a ≤ S37888x1024.size a)
theorem k0_off1484_inb : ∀ (v4453 : BitVec 32) (k0_hw742 : k0_chk742 v4453), ∀ a, (k0_off1484 v4453) a + S1x1024.size a ≤ S37888x1024.size a := fun v4453 k0_hw742 => k0_hw742

def k0_off1485 (i : grid0.Coords) : Fin 1 → Nat :=
  let arg0 : BitVec 32 := BitVec.ofNat 32 (i 0).val
  let c1024_i32 : BitVec 32 := 1024#32
  let v0 : BitVec 32 := Scalar.muli arg0 c1024_i32
  let c742_i32 : BitVec 32 := 742#32
  let v4456 : BitVec 32 := Scalar.addi v0 c742_i32
  let c0_i32_3156 : BitVec 32 := 0#32
  let v4457 : BitVec 32 := Scalar.addi v4456 c0_i32_3156
  let v4458 : Index := Scalar.indexCast v4457
  ![v4458.toNat]
def k0_off1486 (v4459 : BitVec 32) : Fin 2 → Nat :=
  let c0_i32_3157 : BitVec 32 := 0#32
  ![v4459.toNat, 0]

def k0_chk743 (v4459 : BitVec 32) : Prop :=
  (∀ a, (k0_off1486 v4459) a + S1x1024.size a ≤ S37888x1024.size a)
theorem k0_off1486_inb : ∀ (v4459 : BitVec 32) (k0_hw743 : k0_chk743 v4459), ∀ a, (k0_off1486 v4459) a + S1x1024.size a ≤ S37888x1024.size a := fun v4459 k0_hw743 => k0_hw743

def k0_off1487 (i : grid0.Coords) : Fin 1 → Nat :=
  let arg0 : BitVec 32 := BitVec.ofNat 32 (i 0).val
  let c1024_i32 : BitVec 32 := 1024#32
  let v0 : BitVec 32 := Scalar.muli arg0 c1024_i32
  let c742_i32_3159 : BitVec 32 := 742#32
  let v4462 : BitVec 32 := Scalar.addi v0 c742_i32_3159
  let c1_i32_3160 : BitVec 32 := 1#32
  let v4463 : BitVec 32 := Scalar.addi v4462 c1_i32_3160
  let v4464 : Index := Scalar.indexCast v4463
  ![v4464.toNat]
def k0_off1488 (v4465 : BitVec 32) : Fin 2 → Nat :=
  let c0_i32_3161 : BitVec 32 := 0#32
  ![v4465.toNat, 0]

def k0_chk744 (v4465 : BitVec 32) : Prop :=
  (∀ a, (k0_off1488 v4465) a + S1x1024.size a ≤ S37888x1024.size a)
theorem k0_off1488_inb : ∀ (v4465 : BitVec 32) (k0_hw744 : k0_chk744 v4465), ∀ a, (k0_off1488 v4465) a + S1x1024.size a ≤ S37888x1024.size a := fun v4465 k0_hw744 => k0_hw744

def k0_off1489 (i : grid0.Coords) : Fin 1 → Nat :=
  let arg0 : BitVec 32 := BitVec.ofNat 32 (i 0).val
  let c1024_i32 : BitVec 32 := 1024#32
  let v0 : BitVec 32 := Scalar.muli arg0 c1024_i32
  let c744_i32 : BitVec 32 := 744#32
  let v4468 : BitVec 32 := Scalar.addi v0 c744_i32
  let c0_i32_3164 : BitVec 32 := 0#32
  let v4469 : BitVec 32 := Scalar.addi v4468 c0_i32_3164
  let v4470 : Index := Scalar.indexCast v4469
  ![v4470.toNat]
def k0_off1490 (v4471 : BitVec 32) : Fin 2 → Nat :=
  let c0_i32_3165 : BitVec 32 := 0#32
  ![v4471.toNat, 0]

def k0_chk745 (v4471 : BitVec 32) : Prop :=
  (∀ a, (k0_off1490 v4471) a + S1x1024.size a ≤ S37888x1024.size a)
theorem k0_off1490_inb : ∀ (v4471 : BitVec 32) (k0_hw745 : k0_chk745 v4471), ∀ a, (k0_off1490 v4471) a + S1x1024.size a ≤ S37888x1024.size a := fun v4471 k0_hw745 => k0_hw745

def k0_off1491 (i : grid0.Coords) : Fin 1 → Nat :=
  let arg0 : BitVec 32 := BitVec.ofNat 32 (i 0).val
  let c1024_i32 : BitVec 32 := 1024#32
  let v0 : BitVec 32 := Scalar.muli arg0 c1024_i32
  let c744_i32_3168 : BitVec 32 := 744#32
  let v4474 : BitVec 32 := Scalar.addi v0 c744_i32_3168
  let c1_i32_3169 : BitVec 32 := 1#32
  let v4475 : BitVec 32 := Scalar.addi v4474 c1_i32_3169
  let v4476 : Index := Scalar.indexCast v4475
  ![v4476.toNat]
def k0_off1492 (v4477 : BitVec 32) : Fin 2 → Nat :=
  let c0_i32_3170 : BitVec 32 := 0#32
  ![v4477.toNat, 0]

def k0_chk746 (v4477 : BitVec 32) : Prop :=
  (∀ a, (k0_off1492 v4477) a + S1x1024.size a ≤ S37888x1024.size a)
theorem k0_off1492_inb : ∀ (v4477 : BitVec 32) (k0_hw746 : k0_chk746 v4477), ∀ a, (k0_off1492 v4477) a + S1x1024.size a ≤ S37888x1024.size a := fun v4477 k0_hw746 => k0_hw746

def k0_off1493 (i : grid0.Coords) : Fin 1 → Nat :=
  let arg0 : BitVec 32 := BitVec.ofNat 32 (i 0).val
  let c1024_i32 : BitVec 32 := 1024#32
  let v0 : BitVec 32 := Scalar.muli arg0 c1024_i32
  let c746_i32 : BitVec 32 := 746#32
  let v4480 : BitVec 32 := Scalar.addi v0 c746_i32
  let c0_i32_3173 : BitVec 32 := 0#32
  let v4481 : BitVec 32 := Scalar.addi v4480 c0_i32_3173
  let v4482 : Index := Scalar.indexCast v4481
  ![v4482.toNat]
def k0_off1494 (v4483 : BitVec 32) : Fin 2 → Nat :=
  let c0_i32_3174 : BitVec 32 := 0#32
  ![v4483.toNat, 0]

def k0_chk747 (v4483 : BitVec 32) : Prop :=
  (∀ a, (k0_off1494 v4483) a + S1x1024.size a ≤ S37888x1024.size a)
theorem k0_off1494_inb : ∀ (v4483 : BitVec 32) (k0_hw747 : k0_chk747 v4483), ∀ a, (k0_off1494 v4483) a + S1x1024.size a ≤ S37888x1024.size a := fun v4483 k0_hw747 => k0_hw747

def k0_off1495 (i : grid0.Coords) : Fin 1 → Nat :=
  let arg0 : BitVec 32 := BitVec.ofNat 32 (i 0).val
  let c1024_i32 : BitVec 32 := 1024#32
  let v0 : BitVec 32 := Scalar.muli arg0 c1024_i32
  let c746_i32_3176 : BitVec 32 := 746#32
  let v4486 : BitVec 32 := Scalar.addi v0 c746_i32_3176
  let c1_i32_3177 : BitVec 32 := 1#32
  let v4487 : BitVec 32 := Scalar.addi v4486 c1_i32_3177
  let v4488 : Index := Scalar.indexCast v4487
  ![v4488.toNat]
def k0_off1496 (v4489 : BitVec 32) : Fin 2 → Nat :=
  let c0_i32_3178 : BitVec 32 := 0#32
  ![v4489.toNat, 0]

def k0_chk748 (v4489 : BitVec 32) : Prop :=
  (∀ a, (k0_off1496 v4489) a + S1x1024.size a ≤ S37888x1024.size a)
theorem k0_off1496_inb : ∀ (v4489 : BitVec 32) (k0_hw748 : k0_chk748 v4489), ∀ a, (k0_off1496 v4489) a + S1x1024.size a ≤ S37888x1024.size a := fun v4489 k0_hw748 => k0_hw748

def k0_off1497 (i : grid0.Coords) : Fin 1 → Nat :=
  let arg0 : BitVec 32 := BitVec.ofNat 32 (i 0).val
  let c1024_i32 : BitVec 32 := 1024#32
  let v0 : BitVec 32 := Scalar.muli arg0 c1024_i32
  let c748_i32 : BitVec 32 := 748#32
  let v4492 : BitVec 32 := Scalar.addi v0 c748_i32
  let c0_i32_3181 : BitVec 32 := 0#32
  let v4493 : BitVec 32 := Scalar.addi v4492 c0_i32_3181
  let v4494 : Index := Scalar.indexCast v4493
  ![v4494.toNat]
def k0_off1498 (v4495 : BitVec 32) : Fin 2 → Nat :=
  let c0_i32_3182 : BitVec 32 := 0#32
  ![v4495.toNat, 0]

def k0_chk749 (v4495 : BitVec 32) : Prop :=
  (∀ a, (k0_off1498 v4495) a + S1x1024.size a ≤ S37888x1024.size a)
theorem k0_off1498_inb : ∀ (v4495 : BitVec 32) (k0_hw749 : k0_chk749 v4495), ∀ a, (k0_off1498 v4495) a + S1x1024.size a ≤ S37888x1024.size a := fun v4495 k0_hw749 => k0_hw749

def k0_off1499 (i : grid0.Coords) : Fin 1 → Nat :=
  let arg0 : BitVec 32 := BitVec.ofNat 32 (i 0).val
  let c1024_i32 : BitVec 32 := 1024#32
  let v0 : BitVec 32 := Scalar.muli arg0 c1024_i32
  let c748_i32_3185 : BitVec 32 := 748#32
  let v4498 : BitVec 32 := Scalar.addi v0 c748_i32_3185
  let c1_i32_3186 : BitVec 32 := 1#32
  let v4499 : BitVec 32 := Scalar.addi v4498 c1_i32_3186
  let v4500 : Index := Scalar.indexCast v4499
  ![v4500.toNat]
def k0_off1500 (v4501 : BitVec 32) : Fin 2 → Nat :=
  let c0_i32_3187 : BitVec 32 := 0#32
  ![v4501.toNat, 0]

def k0_chk750 (v4501 : BitVec 32) : Prop :=
  (∀ a, (k0_off1500 v4501) a + S1x1024.size a ≤ S37888x1024.size a)
theorem k0_off1500_inb : ∀ (v4501 : BitVec 32) (k0_hw750 : k0_chk750 v4501), ∀ a, (k0_off1500 v4501) a + S1x1024.size a ≤ S37888x1024.size a := fun v4501 k0_hw750 => k0_hw750

def k0_off1501 (i : grid0.Coords) : Fin 1 → Nat :=
  let arg0 : BitVec 32 := BitVec.ofNat 32 (i 0).val
  let c1024_i32 : BitVec 32 := 1024#32
  let v0 : BitVec 32 := Scalar.muli arg0 c1024_i32
  let c750_i32 : BitVec 32 := 750#32
  let v4504 : BitVec 32 := Scalar.addi v0 c750_i32
  let c0_i32_3190 : BitVec 32 := 0#32
  let v4505 : BitVec 32 := Scalar.addi v4504 c0_i32_3190
  let v4506 : Index := Scalar.indexCast v4505
  ![v4506.toNat]
def k0_off1502 (v4507 : BitVec 32) : Fin 2 → Nat :=
  let c0_i32_3191 : BitVec 32 := 0#32
  ![v4507.toNat, 0]

def k0_chk751 (v4507 : BitVec 32) : Prop :=
  (∀ a, (k0_off1502 v4507) a + S1x1024.size a ≤ S37888x1024.size a)
theorem k0_off1502_inb : ∀ (v4507 : BitVec 32) (k0_hw751 : k0_chk751 v4507), ∀ a, (k0_off1502 v4507) a + S1x1024.size a ≤ S37888x1024.size a := fun v4507 k0_hw751 => k0_hw751

def k0_off1503 (i : grid0.Coords) : Fin 1 → Nat :=
  let arg0 : BitVec 32 := BitVec.ofNat 32 (i 0).val
  let c1024_i32 : BitVec 32 := 1024#32
  let v0 : BitVec 32 := Scalar.muli arg0 c1024_i32
  let c750_i32_3193 : BitVec 32 := 750#32
  let v4510 : BitVec 32 := Scalar.addi v0 c750_i32_3193
  let c1_i32_3194 : BitVec 32 := 1#32
  let v4511 : BitVec 32 := Scalar.addi v4510 c1_i32_3194
  let v4512 : Index := Scalar.indexCast v4511
  ![v4512.toNat]
def k0_off1504 (v4513 : BitVec 32) : Fin 2 → Nat :=
  let c0_i32_3195 : BitVec 32 := 0#32
  ![v4513.toNat, 0]

def k0_chk752 (v4513 : BitVec 32) : Prop :=
  (∀ a, (k0_off1504 v4513) a + S1x1024.size a ≤ S37888x1024.size a)
theorem k0_off1504_inb : ∀ (v4513 : BitVec 32) (k0_hw752 : k0_chk752 v4513), ∀ a, (k0_off1504 v4513) a + S1x1024.size a ≤ S37888x1024.size a := fun v4513 k0_hw752 => k0_hw752

def k0_off1505 (i : grid0.Coords) : Fin 1 → Nat :=
  let arg0 : BitVec 32 := BitVec.ofNat 32 (i 0).val
  let c1024_i32 : BitVec 32 := 1024#32
  let v0 : BitVec 32 := Scalar.muli arg0 c1024_i32
  let c752_i32 : BitVec 32 := 752#32
  let v4516 : BitVec 32 := Scalar.addi v0 c752_i32
  let c0_i32_3198 : BitVec 32 := 0#32
  let v4517 : BitVec 32 := Scalar.addi v4516 c0_i32_3198
  let v4518 : Index := Scalar.indexCast v4517
  ![v4518.toNat]
def k0_off1506 (v4519 : BitVec 32) : Fin 2 → Nat :=
  let c0_i32_3199 : BitVec 32 := 0#32
  ![v4519.toNat, 0]

def k0_chk753 (v4519 : BitVec 32) : Prop :=
  (∀ a, (k0_off1506 v4519) a + S1x1024.size a ≤ S37888x1024.size a)
theorem k0_off1506_inb : ∀ (v4519 : BitVec 32) (k0_hw753 : k0_chk753 v4519), ∀ a, (k0_off1506 v4519) a + S1x1024.size a ≤ S37888x1024.size a := fun v4519 k0_hw753 => k0_hw753

def k0_off1507 (i : grid0.Coords) : Fin 1 → Nat :=
  let arg0 : BitVec 32 := BitVec.ofNat 32 (i 0).val
  let c1024_i32 : BitVec 32 := 1024#32
  let v0 : BitVec 32 := Scalar.muli arg0 c1024_i32
  let c752_i32_3202 : BitVec 32 := 752#32
  let v4522 : BitVec 32 := Scalar.addi v0 c752_i32_3202
  let c1_i32_3203 : BitVec 32 := 1#32
  let v4523 : BitVec 32 := Scalar.addi v4522 c1_i32_3203
  let v4524 : Index := Scalar.indexCast v4523
  ![v4524.toNat]
def k0_off1508 (v4525 : BitVec 32) : Fin 2 → Nat :=
  let c0_i32_3204 : BitVec 32 := 0#32
  ![v4525.toNat, 0]

def k0_chk754 (v4525 : BitVec 32) : Prop :=
  (∀ a, (k0_off1508 v4525) a + S1x1024.size a ≤ S37888x1024.size a)
theorem k0_off1508_inb : ∀ (v4525 : BitVec 32) (k0_hw754 : k0_chk754 v4525), ∀ a, (k0_off1508 v4525) a + S1x1024.size a ≤ S37888x1024.size a := fun v4525 k0_hw754 => k0_hw754

def k0_off1509 (i : grid0.Coords) : Fin 1 → Nat :=
  let arg0 : BitVec 32 := BitVec.ofNat 32 (i 0).val
  let c1024_i32 : BitVec 32 := 1024#32
  let v0 : BitVec 32 := Scalar.muli arg0 c1024_i32
  let c754_i32 : BitVec 32 := 754#32
  let v4528 : BitVec 32 := Scalar.addi v0 c754_i32
  let c0_i32_3207 : BitVec 32 := 0#32
  let v4529 : BitVec 32 := Scalar.addi v4528 c0_i32_3207
  let v4530 : Index := Scalar.indexCast v4529
  ![v4530.toNat]
def k0_off1510 (v4531 : BitVec 32) : Fin 2 → Nat :=
  let c0_i32_3208 : BitVec 32 := 0#32
  ![v4531.toNat, 0]

def k0_chk755 (v4531 : BitVec 32) : Prop :=
  (∀ a, (k0_off1510 v4531) a + S1x1024.size a ≤ S37888x1024.size a)
theorem k0_off1510_inb : ∀ (v4531 : BitVec 32) (k0_hw755 : k0_chk755 v4531), ∀ a, (k0_off1510 v4531) a + S1x1024.size a ≤ S37888x1024.size a := fun v4531 k0_hw755 => k0_hw755

def k0_off1511 (i : grid0.Coords) : Fin 1 → Nat :=
  let arg0 : BitVec 32 := BitVec.ofNat 32 (i 0).val
  let c1024_i32 : BitVec 32 := 1024#32
  let v0 : BitVec 32 := Scalar.muli arg0 c1024_i32
  let c754_i32_3210 : BitVec 32 := 754#32
  let v4534 : BitVec 32 := Scalar.addi v0 c754_i32_3210
  let c1_i32_3211 : BitVec 32 := 1#32
  let v4535 : BitVec 32 := Scalar.addi v4534 c1_i32_3211
  let v4536 : Index := Scalar.indexCast v4535
  ![v4536.toNat]
def k0_off1512 (v4537 : BitVec 32) : Fin 2 → Nat :=
  let c0_i32_3212 : BitVec 32 := 0#32
  ![v4537.toNat, 0]

def k0_chk756 (v4537 : BitVec 32) : Prop :=
  (∀ a, (k0_off1512 v4537) a + S1x1024.size a ≤ S37888x1024.size a)
theorem k0_off1512_inb : ∀ (v4537 : BitVec 32) (k0_hw756 : k0_chk756 v4537), ∀ a, (k0_off1512 v4537) a + S1x1024.size a ≤ S37888x1024.size a := fun v4537 k0_hw756 => k0_hw756

def k0_off1513 (i : grid0.Coords) : Fin 1 → Nat :=
  let arg0 : BitVec 32 := BitVec.ofNat 32 (i 0).val
  let c1024_i32 : BitVec 32 := 1024#32
  let v0 : BitVec 32 := Scalar.muli arg0 c1024_i32
  let c756_i32 : BitVec 32 := 756#32
  let v4540 : BitVec 32 := Scalar.addi v0 c756_i32
  let c0_i32_3215 : BitVec 32 := 0#32
  let v4541 : BitVec 32 := Scalar.addi v4540 c0_i32_3215
  let v4542 : Index := Scalar.indexCast v4541
  ![v4542.toNat]
def k0_off1514 (v4543 : BitVec 32) : Fin 2 → Nat :=
  let c0_i32_3216 : BitVec 32 := 0#32
  ![v4543.toNat, 0]

def k0_chk757 (v4543 : BitVec 32) : Prop :=
  (∀ a, (k0_off1514 v4543) a + S1x1024.size a ≤ S37888x1024.size a)
theorem k0_off1514_inb : ∀ (v4543 : BitVec 32) (k0_hw757 : k0_chk757 v4543), ∀ a, (k0_off1514 v4543) a + S1x1024.size a ≤ S37888x1024.size a := fun v4543 k0_hw757 => k0_hw757

def k0_off1515 (i : grid0.Coords) : Fin 1 → Nat :=
  let arg0 : BitVec 32 := BitVec.ofNat 32 (i 0).val
  let c1024_i32 : BitVec 32 := 1024#32
  let v0 : BitVec 32 := Scalar.muli arg0 c1024_i32
  let c756_i32_3219 : BitVec 32 := 756#32
  let v4546 : BitVec 32 := Scalar.addi v0 c756_i32_3219
  let c1_i32_3220 : BitVec 32 := 1#32
  let v4547 : BitVec 32 := Scalar.addi v4546 c1_i32_3220
  let v4548 : Index := Scalar.indexCast v4547
  ![v4548.toNat]
def k0_off1516 (v4549 : BitVec 32) : Fin 2 → Nat :=
  let c0_i32_3221 : BitVec 32 := 0#32
  ![v4549.toNat, 0]

def k0_chk758 (v4549 : BitVec 32) : Prop :=
  (∀ a, (k0_off1516 v4549) a + S1x1024.size a ≤ S37888x1024.size a)
theorem k0_off1516_inb : ∀ (v4549 : BitVec 32) (k0_hw758 : k0_chk758 v4549), ∀ a, (k0_off1516 v4549) a + S1x1024.size a ≤ S37888x1024.size a := fun v4549 k0_hw758 => k0_hw758

def k0_off1517 (i : grid0.Coords) : Fin 1 → Nat :=
  let arg0 : BitVec 32 := BitVec.ofNat 32 (i 0).val
  let c1024_i32 : BitVec 32 := 1024#32
  let v0 : BitVec 32 := Scalar.muli arg0 c1024_i32
  let c758_i32 : BitVec 32 := 758#32
  let v4552 : BitVec 32 := Scalar.addi v0 c758_i32
  let c0_i32_3224 : BitVec 32 := 0#32
  let v4553 : BitVec 32 := Scalar.addi v4552 c0_i32_3224
  let v4554 : Index := Scalar.indexCast v4553
  ![v4554.toNat]
def k0_off1518 (v4555 : BitVec 32) : Fin 2 → Nat :=
  let c0_i32_3225 : BitVec 32 := 0#32
  ![v4555.toNat, 0]

def k0_chk759 (v4555 : BitVec 32) : Prop :=
  (∀ a, (k0_off1518 v4555) a + S1x1024.size a ≤ S37888x1024.size a)
theorem k0_off1518_inb : ∀ (v4555 : BitVec 32) (k0_hw759 : k0_chk759 v4555), ∀ a, (k0_off1518 v4555) a + S1x1024.size a ≤ S37888x1024.size a := fun v4555 k0_hw759 => k0_hw759

def k0_off1519 (i : grid0.Coords) : Fin 1 → Nat :=
  let arg0 : BitVec 32 := BitVec.ofNat 32 (i 0).val
  let c1024_i32 : BitVec 32 := 1024#32
  let v0 : BitVec 32 := Scalar.muli arg0 c1024_i32
  let c758_i32_3227 : BitVec 32 := 758#32
  let v4558 : BitVec 32 := Scalar.addi v0 c758_i32_3227
  let c1_i32_3228 : BitVec 32 := 1#32
  let v4559 : BitVec 32 := Scalar.addi v4558 c1_i32_3228
  let v4560 : Index := Scalar.indexCast v4559
  ![v4560.toNat]
def k0_off1520 (v4561 : BitVec 32) : Fin 2 → Nat :=
  let c0_i32_3229 : BitVec 32 := 0#32
  ![v4561.toNat, 0]

def k0_chk760 (v4561 : BitVec 32) : Prop :=
  (∀ a, (k0_off1520 v4561) a + S1x1024.size a ≤ S37888x1024.size a)
theorem k0_off1520_inb : ∀ (v4561 : BitVec 32) (k0_hw760 : k0_chk760 v4561), ∀ a, (k0_off1520 v4561) a + S1x1024.size a ≤ S37888x1024.size a := fun v4561 k0_hw760 => k0_hw760

def k0_off1521 (i : grid0.Coords) : Fin 1 → Nat :=
  let arg0 : BitVec 32 := BitVec.ofNat 32 (i 0).val
  let c1024_i32 : BitVec 32 := 1024#32
  let v0 : BitVec 32 := Scalar.muli arg0 c1024_i32
  let c760_i32 : BitVec 32 := 760#32
  let v4564 : BitVec 32 := Scalar.addi v0 c760_i32
  let c0_i32_3232 : BitVec 32 := 0#32
  let v4565 : BitVec 32 := Scalar.addi v4564 c0_i32_3232
  let v4566 : Index := Scalar.indexCast v4565
  ![v4566.toNat]
def k0_off1522 (v4567 : BitVec 32) : Fin 2 → Nat :=
  let c0_i32_3233 : BitVec 32 := 0#32
  ![v4567.toNat, 0]

def k0_chk761 (v4567 : BitVec 32) : Prop :=
  (∀ a, (k0_off1522 v4567) a + S1x1024.size a ≤ S37888x1024.size a)
theorem k0_off1522_inb : ∀ (v4567 : BitVec 32) (k0_hw761 : k0_chk761 v4567), ∀ a, (k0_off1522 v4567) a + S1x1024.size a ≤ S37888x1024.size a := fun v4567 k0_hw761 => k0_hw761

def k0_off1523 (i : grid0.Coords) : Fin 1 → Nat :=
  let arg0 : BitVec 32 := BitVec.ofNat 32 (i 0).val
  let c1024_i32 : BitVec 32 := 1024#32
  let v0 : BitVec 32 := Scalar.muli arg0 c1024_i32
  let c760_i32_3236 : BitVec 32 := 760#32
  let v4570 : BitVec 32 := Scalar.addi v0 c760_i32_3236
  let c1_i32_3237 : BitVec 32 := 1#32
  let v4571 : BitVec 32 := Scalar.addi v4570 c1_i32_3237
  let v4572 : Index := Scalar.indexCast v4571
  ![v4572.toNat]
def k0_off1524 (v4573 : BitVec 32) : Fin 2 → Nat :=
  let c0_i32_3238 : BitVec 32 := 0#32
  ![v4573.toNat, 0]

def k0_chk762 (v4573 : BitVec 32) : Prop :=
  (∀ a, (k0_off1524 v4573) a + S1x1024.size a ≤ S37888x1024.size a)
theorem k0_off1524_inb : ∀ (v4573 : BitVec 32) (k0_hw762 : k0_chk762 v4573), ∀ a, (k0_off1524 v4573) a + S1x1024.size a ≤ S37888x1024.size a := fun v4573 k0_hw762 => k0_hw762

def k0_off1525 (i : grid0.Coords) : Fin 1 → Nat :=
  let arg0 : BitVec 32 := BitVec.ofNat 32 (i 0).val
  let c1024_i32 : BitVec 32 := 1024#32
  let v0 : BitVec 32 := Scalar.muli arg0 c1024_i32
  let c762_i32 : BitVec 32 := 762#32
  let v4576 : BitVec 32 := Scalar.addi v0 c762_i32
  let c0_i32_3241 : BitVec 32 := 0#32
  let v4577 : BitVec 32 := Scalar.addi v4576 c0_i32_3241
  let v4578 : Index := Scalar.indexCast v4577
  ![v4578.toNat]
def k0_off1526 (v4579 : BitVec 32) : Fin 2 → Nat :=
  let c0_i32_3242 : BitVec 32 := 0#32
  ![v4579.toNat, 0]

def k0_chk763 (v4579 : BitVec 32) : Prop :=
  (∀ a, (k0_off1526 v4579) a + S1x1024.size a ≤ S37888x1024.size a)
theorem k0_off1526_inb : ∀ (v4579 : BitVec 32) (k0_hw763 : k0_chk763 v4579), ∀ a, (k0_off1526 v4579) a + S1x1024.size a ≤ S37888x1024.size a := fun v4579 k0_hw763 => k0_hw763

def k0_off1527 (i : grid0.Coords) : Fin 1 → Nat :=
  let arg0 : BitVec 32 := BitVec.ofNat 32 (i 0).val
  let c1024_i32 : BitVec 32 := 1024#32
  let v0 : BitVec 32 := Scalar.muli arg0 c1024_i32
  let c762_i32_3244 : BitVec 32 := 762#32
  let v4582 : BitVec 32 := Scalar.addi v0 c762_i32_3244
  let c1_i32_3245 : BitVec 32 := 1#32
  let v4583 : BitVec 32 := Scalar.addi v4582 c1_i32_3245
  let v4584 : Index := Scalar.indexCast v4583
  ![v4584.toNat]
def k0_off1528 (v4585 : BitVec 32) : Fin 2 → Nat :=
  let c0_i32_3246 : BitVec 32 := 0#32
  ![v4585.toNat, 0]

def k0_chk764 (v4585 : BitVec 32) : Prop :=
  (∀ a, (k0_off1528 v4585) a + S1x1024.size a ≤ S37888x1024.size a)
theorem k0_off1528_inb : ∀ (v4585 : BitVec 32) (k0_hw764 : k0_chk764 v4585), ∀ a, (k0_off1528 v4585) a + S1x1024.size a ≤ S37888x1024.size a := fun v4585 k0_hw764 => k0_hw764

def k0_off1529 (i : grid0.Coords) : Fin 1 → Nat :=
  let arg0 : BitVec 32 := BitVec.ofNat 32 (i 0).val
  let c1024_i32 : BitVec 32 := 1024#32
  let v0 : BitVec 32 := Scalar.muli arg0 c1024_i32
  let c764_i32 : BitVec 32 := 764#32
  let v4588 : BitVec 32 := Scalar.addi v0 c764_i32
  let c0_i32_3249 : BitVec 32 := 0#32
  let v4589 : BitVec 32 := Scalar.addi v4588 c0_i32_3249
  let v4590 : Index := Scalar.indexCast v4589
  ![v4590.toNat]
def k0_off1530 (v4591 : BitVec 32) : Fin 2 → Nat :=
  let c0_i32_3250 : BitVec 32 := 0#32
  ![v4591.toNat, 0]

def k0_chk765 (v4591 : BitVec 32) : Prop :=
  (∀ a, (k0_off1530 v4591) a + S1x1024.size a ≤ S37888x1024.size a)
theorem k0_off1530_inb : ∀ (v4591 : BitVec 32) (k0_hw765 : k0_chk765 v4591), ∀ a, (k0_off1530 v4591) a + S1x1024.size a ≤ S37888x1024.size a := fun v4591 k0_hw765 => k0_hw765

def k0_off1531 (i : grid0.Coords) : Fin 1 → Nat :=
  let arg0 : BitVec 32 := BitVec.ofNat 32 (i 0).val
  let c1024_i32 : BitVec 32 := 1024#32
  let v0 : BitVec 32 := Scalar.muli arg0 c1024_i32
  let c764_i32_3253 : BitVec 32 := 764#32
  let v4594 : BitVec 32 := Scalar.addi v0 c764_i32_3253
  let c1_i32_3254 : BitVec 32 := 1#32
  let v4595 : BitVec 32 := Scalar.addi v4594 c1_i32_3254
  let v4596 : Index := Scalar.indexCast v4595
  ![v4596.toNat]
def k0_off1532 (v4597 : BitVec 32) : Fin 2 → Nat :=
  let c0_i32_3255 : BitVec 32 := 0#32
  ![v4597.toNat, 0]

def k0_chk766 (v4597 : BitVec 32) : Prop :=
  (∀ a, (k0_off1532 v4597) a + S1x1024.size a ≤ S37888x1024.size a)
theorem k0_off1532_inb : ∀ (v4597 : BitVec 32) (k0_hw766 : k0_chk766 v4597), ∀ a, (k0_off1532 v4597) a + S1x1024.size a ≤ S37888x1024.size a := fun v4597 k0_hw766 => k0_hw766

def k0_off1533 (i : grid0.Coords) : Fin 1 → Nat :=
  let arg0 : BitVec 32 := BitVec.ofNat 32 (i 0).val
  let c1024_i32 : BitVec 32 := 1024#32
  let v0 : BitVec 32 := Scalar.muli arg0 c1024_i32
  let c766_i32 : BitVec 32 := 766#32
  let v4600 : BitVec 32 := Scalar.addi v0 c766_i32
  let c0_i32_3258 : BitVec 32 := 0#32
  let v4601 : BitVec 32 := Scalar.addi v4600 c0_i32_3258
  let v4602 : Index := Scalar.indexCast v4601
  ![v4602.toNat]
def k0_off1534 (v4603 : BitVec 32) : Fin 2 → Nat :=
  let c0_i32_3259 : BitVec 32 := 0#32
  ![v4603.toNat, 0]

def k0_chk767 (v4603 : BitVec 32) : Prop :=
  (∀ a, (k0_off1534 v4603) a + S1x1024.size a ≤ S37888x1024.size a)
theorem k0_off1534_inb : ∀ (v4603 : BitVec 32) (k0_hw767 : k0_chk767 v4603), ∀ a, (k0_off1534 v4603) a + S1x1024.size a ≤ S37888x1024.size a := fun v4603 k0_hw767 => k0_hw767

def k0_off1535 (i : grid0.Coords) : Fin 1 → Nat :=
  let arg0 : BitVec 32 := BitVec.ofNat 32 (i 0).val
  let c1024_i32 : BitVec 32 := 1024#32
  let v0 : BitVec 32 := Scalar.muli arg0 c1024_i32
  let c766_i32_3261 : BitVec 32 := 766#32
  let v4606 : BitVec 32 := Scalar.addi v0 c766_i32_3261
  let c1_i32_3262 : BitVec 32 := 1#32
  let v4607 : BitVec 32 := Scalar.addi v4606 c1_i32_3262
  let v4608 : Index := Scalar.indexCast v4607
  ![v4608.toNat]
def k0_off1536 (v4609 : BitVec 32) : Fin 2 → Nat :=
  let c0_i32_3263 : BitVec 32 := 0#32
  ![v4609.toNat, 0]

def k0_chk768 (v4609 : BitVec 32) : Prop :=
  (∀ a, (k0_off1536 v4609) a + S1x1024.size a ≤ S37888x1024.size a)
theorem k0_off1536_inb : ∀ (v4609 : BitVec 32) (k0_hw768 : k0_chk768 v4609), ∀ a, (k0_off1536 v4609) a + S1x1024.size a ≤ S37888x1024.size a := fun v4609 k0_hw768 => k0_hw768

def k0_off1537 (i : grid0.Coords) : Fin 1 → Nat :=
  let arg0 : BitVec 32 := BitVec.ofNat 32 (i 0).val
  let c1024_i32 : BitVec 32 := 1024#32
  let v0 : BitVec 32 := Scalar.muli arg0 c1024_i32
  let c768_i32 : BitVec 32 := 768#32
  let v4612 : BitVec 32 := Scalar.addi v0 c768_i32
  let c0_i32_3266 : BitVec 32 := 0#32
  let v4613 : BitVec 32 := Scalar.addi v4612 c0_i32_3266
  let v4614 : Index := Scalar.indexCast v4613
  ![v4614.toNat]
def k0_off1538 (v4615 : BitVec 32) : Fin 2 → Nat :=
  let c0_i32_3267 : BitVec 32 := 0#32
  ![v4615.toNat, 0]

def k0_chk769 (v4615 : BitVec 32) : Prop :=
  (∀ a, (k0_off1538 v4615) a + S1x1024.size a ≤ S37888x1024.size a)
theorem k0_off1538_inb : ∀ (v4615 : BitVec 32) (k0_hw769 : k0_chk769 v4615), ∀ a, (k0_off1538 v4615) a + S1x1024.size a ≤ S37888x1024.size a := fun v4615 k0_hw769 => k0_hw769

def k0_off1539 (i : grid0.Coords) : Fin 1 → Nat :=
  let arg0 : BitVec 32 := BitVec.ofNat 32 (i 0).val
  let c1024_i32 : BitVec 32 := 1024#32
  let v0 : BitVec 32 := Scalar.muli arg0 c1024_i32
  let c768_i32_3270 : BitVec 32 := 768#32
  let v4618 : BitVec 32 := Scalar.addi v0 c768_i32_3270
  let c1_i32_3271 : BitVec 32 := 1#32
  let v4619 : BitVec 32 := Scalar.addi v4618 c1_i32_3271
  let v4620 : Index := Scalar.indexCast v4619
  ![v4620.toNat]
def k0_off1540 (v4621 : BitVec 32) : Fin 2 → Nat :=
  let c0_i32_3272 : BitVec 32 := 0#32
  ![v4621.toNat, 0]

def k0_chk770 (v4621 : BitVec 32) : Prop :=
  (∀ a, (k0_off1540 v4621) a + S1x1024.size a ≤ S37888x1024.size a)
theorem k0_off1540_inb : ∀ (v4621 : BitVec 32) (k0_hw770 : k0_chk770 v4621), ∀ a, (k0_off1540 v4621) a + S1x1024.size a ≤ S37888x1024.size a := fun v4621 k0_hw770 => k0_hw770

def k0_off1541 (i : grid0.Coords) : Fin 1 → Nat :=
  let arg0 : BitVec 32 := BitVec.ofNat 32 (i 0).val
  let c1024_i32 : BitVec 32 := 1024#32
  let v0 : BitVec 32 := Scalar.muli arg0 c1024_i32
  let c770_i32 : BitVec 32 := 770#32
  let v4624 : BitVec 32 := Scalar.addi v0 c770_i32
  let c0_i32_3275 : BitVec 32 := 0#32
  let v4625 : BitVec 32 := Scalar.addi v4624 c0_i32_3275
  let v4626 : Index := Scalar.indexCast v4625
  ![v4626.toNat]
def k0_off1542 (v4627 : BitVec 32) : Fin 2 → Nat :=
  let c0_i32_3276 : BitVec 32 := 0#32
  ![v4627.toNat, 0]

def k0_chk771 (v4627 : BitVec 32) : Prop :=
  (∀ a, (k0_off1542 v4627) a + S1x1024.size a ≤ S37888x1024.size a)
theorem k0_off1542_inb : ∀ (v4627 : BitVec 32) (k0_hw771 : k0_chk771 v4627), ∀ a, (k0_off1542 v4627) a + S1x1024.size a ≤ S37888x1024.size a := fun v4627 k0_hw771 => k0_hw771

def k0_off1543 (i : grid0.Coords) : Fin 1 → Nat :=
  let arg0 : BitVec 32 := BitVec.ofNat 32 (i 0).val
  let c1024_i32 : BitVec 32 := 1024#32
  let v0 : BitVec 32 := Scalar.muli arg0 c1024_i32
  let c770_i32_3278 : BitVec 32 := 770#32
  let v4630 : BitVec 32 := Scalar.addi v0 c770_i32_3278
  let c1_i32_3279 : BitVec 32 := 1#32
  let v4631 : BitVec 32 := Scalar.addi v4630 c1_i32_3279
  let v4632 : Index := Scalar.indexCast v4631
  ![v4632.toNat]
def k0_off1544 (v4633 : BitVec 32) : Fin 2 → Nat :=
  let c0_i32_3280 : BitVec 32 := 0#32
  ![v4633.toNat, 0]

def k0_chk772 (v4633 : BitVec 32) : Prop :=
  (∀ a, (k0_off1544 v4633) a + S1x1024.size a ≤ S37888x1024.size a)
theorem k0_off1544_inb : ∀ (v4633 : BitVec 32) (k0_hw772 : k0_chk772 v4633), ∀ a, (k0_off1544 v4633) a + S1x1024.size a ≤ S37888x1024.size a := fun v4633 k0_hw772 => k0_hw772

def k0_off1545 (i : grid0.Coords) : Fin 1 → Nat :=
  let arg0 : BitVec 32 := BitVec.ofNat 32 (i 0).val
  let c1024_i32 : BitVec 32 := 1024#32
  let v0 : BitVec 32 := Scalar.muli arg0 c1024_i32
  let c772_i32 : BitVec 32 := 772#32
  let v4636 : BitVec 32 := Scalar.addi v0 c772_i32
  let c0_i32_3283 : BitVec 32 := 0#32
  let v4637 : BitVec 32 := Scalar.addi v4636 c0_i32_3283
  let v4638 : Index := Scalar.indexCast v4637
  ![v4638.toNat]
def k0_off1546 (v4639 : BitVec 32) : Fin 2 → Nat :=
  let c0_i32_3284 : BitVec 32 := 0#32
  ![v4639.toNat, 0]

def k0_chk773 (v4639 : BitVec 32) : Prop :=
  (∀ a, (k0_off1546 v4639) a + S1x1024.size a ≤ S37888x1024.size a)
theorem k0_off1546_inb : ∀ (v4639 : BitVec 32) (k0_hw773 : k0_chk773 v4639), ∀ a, (k0_off1546 v4639) a + S1x1024.size a ≤ S37888x1024.size a := fun v4639 k0_hw773 => k0_hw773

def k0_off1547 (i : grid0.Coords) : Fin 1 → Nat :=
  let arg0 : BitVec 32 := BitVec.ofNat 32 (i 0).val
  let c1024_i32 : BitVec 32 := 1024#32
  let v0 : BitVec 32 := Scalar.muli arg0 c1024_i32
  let c772_i32_3287 : BitVec 32 := 772#32
  let v4642 : BitVec 32 := Scalar.addi v0 c772_i32_3287
  let c1_i32_3288 : BitVec 32 := 1#32
  let v4643 : BitVec 32 := Scalar.addi v4642 c1_i32_3288
  let v4644 : Index := Scalar.indexCast v4643
  ![v4644.toNat]
def k0_off1548 (v4645 : BitVec 32) : Fin 2 → Nat :=
  let c0_i32_3289 : BitVec 32 := 0#32
  ![v4645.toNat, 0]

def k0_chk774 (v4645 : BitVec 32) : Prop :=
  (∀ a, (k0_off1548 v4645) a + S1x1024.size a ≤ S37888x1024.size a)
theorem k0_off1548_inb : ∀ (v4645 : BitVec 32) (k0_hw774 : k0_chk774 v4645), ∀ a, (k0_off1548 v4645) a + S1x1024.size a ≤ S37888x1024.size a := fun v4645 k0_hw774 => k0_hw774

def k0_off1549 (i : grid0.Coords) : Fin 1 → Nat :=
  let arg0 : BitVec 32 := BitVec.ofNat 32 (i 0).val
  let c1024_i32 : BitVec 32 := 1024#32
  let v0 : BitVec 32 := Scalar.muli arg0 c1024_i32
  let c774_i32 : BitVec 32 := 774#32
  let v4648 : BitVec 32 := Scalar.addi v0 c774_i32
  let c0_i32_3292 : BitVec 32 := 0#32
  let v4649 : BitVec 32 := Scalar.addi v4648 c0_i32_3292
  let v4650 : Index := Scalar.indexCast v4649
  ![v4650.toNat]
def k0_off1550 (v4651 : BitVec 32) : Fin 2 → Nat :=
  let c0_i32_3293 : BitVec 32 := 0#32
  ![v4651.toNat, 0]

def k0_chk775 (v4651 : BitVec 32) : Prop :=
  (∀ a, (k0_off1550 v4651) a + S1x1024.size a ≤ S37888x1024.size a)
theorem k0_off1550_inb : ∀ (v4651 : BitVec 32) (k0_hw775 : k0_chk775 v4651), ∀ a, (k0_off1550 v4651) a + S1x1024.size a ≤ S37888x1024.size a := fun v4651 k0_hw775 => k0_hw775

def k0_off1551 (i : grid0.Coords) : Fin 1 → Nat :=
  let arg0 : BitVec 32 := BitVec.ofNat 32 (i 0).val
  let c1024_i32 : BitVec 32 := 1024#32
  let v0 : BitVec 32 := Scalar.muli arg0 c1024_i32
  let c774_i32_3295 : BitVec 32 := 774#32
  let v4654 : BitVec 32 := Scalar.addi v0 c774_i32_3295
  let c1_i32_3296 : BitVec 32 := 1#32
  let v4655 : BitVec 32 := Scalar.addi v4654 c1_i32_3296
  let v4656 : Index := Scalar.indexCast v4655
  ![v4656.toNat]
def k0_off1552 (v4657 : BitVec 32) : Fin 2 → Nat :=
  let c0_i32_3297 : BitVec 32 := 0#32
  ![v4657.toNat, 0]

def k0_chk776 (v4657 : BitVec 32) : Prop :=
  (∀ a, (k0_off1552 v4657) a + S1x1024.size a ≤ S37888x1024.size a)
theorem k0_off1552_inb : ∀ (v4657 : BitVec 32) (k0_hw776 : k0_chk776 v4657), ∀ a, (k0_off1552 v4657) a + S1x1024.size a ≤ S37888x1024.size a := fun v4657 k0_hw776 => k0_hw776

def k0_off1553 (i : grid0.Coords) : Fin 1 → Nat :=
  let arg0 : BitVec 32 := BitVec.ofNat 32 (i 0).val
  let c1024_i32 : BitVec 32 := 1024#32
  let v0 : BitVec 32 := Scalar.muli arg0 c1024_i32
  let c776_i32 : BitVec 32 := 776#32
  let v4660 : BitVec 32 := Scalar.addi v0 c776_i32
  let c0_i32_3300 : BitVec 32 := 0#32
  let v4661 : BitVec 32 := Scalar.addi v4660 c0_i32_3300
  let v4662 : Index := Scalar.indexCast v4661
  ![v4662.toNat]
def k0_off1554 (v4663 : BitVec 32) : Fin 2 → Nat :=
  let c0_i32_3301 : BitVec 32 := 0#32
  ![v4663.toNat, 0]

def k0_chk777 (v4663 : BitVec 32) : Prop :=
  (∀ a, (k0_off1554 v4663) a + S1x1024.size a ≤ S37888x1024.size a)
theorem k0_off1554_inb : ∀ (v4663 : BitVec 32) (k0_hw777 : k0_chk777 v4663), ∀ a, (k0_off1554 v4663) a + S1x1024.size a ≤ S37888x1024.size a := fun v4663 k0_hw777 => k0_hw777

def k0_off1555 (i : grid0.Coords) : Fin 1 → Nat :=
  let arg0 : BitVec 32 := BitVec.ofNat 32 (i 0).val
  let c1024_i32 : BitVec 32 := 1024#32
  let v0 : BitVec 32 := Scalar.muli arg0 c1024_i32
  let c776_i32_3304 : BitVec 32 := 776#32
  let v4666 : BitVec 32 := Scalar.addi v0 c776_i32_3304
  let c1_i32_3305 : BitVec 32 := 1#32
  let v4667 : BitVec 32 := Scalar.addi v4666 c1_i32_3305
  let v4668 : Index := Scalar.indexCast v4667
  ![v4668.toNat]
def k0_off1556 (v4669 : BitVec 32) : Fin 2 → Nat :=
  let c0_i32_3306 : BitVec 32 := 0#32
  ![v4669.toNat, 0]

def k0_chk778 (v4669 : BitVec 32) : Prop :=
  (∀ a, (k0_off1556 v4669) a + S1x1024.size a ≤ S37888x1024.size a)
theorem k0_off1556_inb : ∀ (v4669 : BitVec 32) (k0_hw778 : k0_chk778 v4669), ∀ a, (k0_off1556 v4669) a + S1x1024.size a ≤ S37888x1024.size a := fun v4669 k0_hw778 => k0_hw778

def k0_off1557 (i : grid0.Coords) : Fin 1 → Nat :=
  let arg0 : BitVec 32 := BitVec.ofNat 32 (i 0).val
  let c1024_i32 : BitVec 32 := 1024#32
  let v0 : BitVec 32 := Scalar.muli arg0 c1024_i32
  let c778_i32 : BitVec 32 := 778#32
  let v4672 : BitVec 32 := Scalar.addi v0 c778_i32
  let c0_i32_3309 : BitVec 32 := 0#32
  let v4673 : BitVec 32 := Scalar.addi v4672 c0_i32_3309
  let v4674 : Index := Scalar.indexCast v4673
  ![v4674.toNat]
def k0_off1558 (v4675 : BitVec 32) : Fin 2 → Nat :=
  let c0_i32_3310 : BitVec 32 := 0#32
  ![v4675.toNat, 0]

def k0_chk779 (v4675 : BitVec 32) : Prop :=
  (∀ a, (k0_off1558 v4675) a + S1x1024.size a ≤ S37888x1024.size a)
theorem k0_off1558_inb : ∀ (v4675 : BitVec 32) (k0_hw779 : k0_chk779 v4675), ∀ a, (k0_off1558 v4675) a + S1x1024.size a ≤ S37888x1024.size a := fun v4675 k0_hw779 => k0_hw779

def k0_off1559 (i : grid0.Coords) : Fin 1 → Nat :=
  let arg0 : BitVec 32 := BitVec.ofNat 32 (i 0).val
  let c1024_i32 : BitVec 32 := 1024#32
  let v0 : BitVec 32 := Scalar.muli arg0 c1024_i32
  let c778_i32_3312 : BitVec 32 := 778#32
  let v4678 : BitVec 32 := Scalar.addi v0 c778_i32_3312
  let c1_i32_3313 : BitVec 32 := 1#32
  let v4679 : BitVec 32 := Scalar.addi v4678 c1_i32_3313
  let v4680 : Index := Scalar.indexCast v4679
  ![v4680.toNat]
def k0_off1560 (v4681 : BitVec 32) : Fin 2 → Nat :=
  let c0_i32_3314 : BitVec 32 := 0#32
  ![v4681.toNat, 0]

def k0_chk780 (v4681 : BitVec 32) : Prop :=
  (∀ a, (k0_off1560 v4681) a + S1x1024.size a ≤ S37888x1024.size a)
theorem k0_off1560_inb : ∀ (v4681 : BitVec 32) (k0_hw780 : k0_chk780 v4681), ∀ a, (k0_off1560 v4681) a + S1x1024.size a ≤ S37888x1024.size a := fun v4681 k0_hw780 => k0_hw780

def k0_off1561 (i : grid0.Coords) : Fin 1 → Nat :=
  let arg0 : BitVec 32 := BitVec.ofNat 32 (i 0).val
  let c1024_i32 : BitVec 32 := 1024#32
  let v0 : BitVec 32 := Scalar.muli arg0 c1024_i32
  let c780_i32 : BitVec 32 := 780#32
  let v4684 : BitVec 32 := Scalar.addi v0 c780_i32
  let c0_i32_3317 : BitVec 32 := 0#32
  let v4685 : BitVec 32 := Scalar.addi v4684 c0_i32_3317
  let v4686 : Index := Scalar.indexCast v4685
  ![v4686.toNat]
def k0_off1562 (v4687 : BitVec 32) : Fin 2 → Nat :=
  let c0_i32_3318 : BitVec 32 := 0#32
  ![v4687.toNat, 0]

def k0_chk781 (v4687 : BitVec 32) : Prop :=
  (∀ a, (k0_off1562 v4687) a + S1x1024.size a ≤ S37888x1024.size a)
theorem k0_off1562_inb : ∀ (v4687 : BitVec 32) (k0_hw781 : k0_chk781 v4687), ∀ a, (k0_off1562 v4687) a + S1x1024.size a ≤ S37888x1024.size a := fun v4687 k0_hw781 => k0_hw781

def k0_off1563 (i : grid0.Coords) : Fin 1 → Nat :=
  let arg0 : BitVec 32 := BitVec.ofNat 32 (i 0).val
  let c1024_i32 : BitVec 32 := 1024#32
  let v0 : BitVec 32 := Scalar.muli arg0 c1024_i32
  let c780_i32_3321 : BitVec 32 := 780#32
  let v4690 : BitVec 32 := Scalar.addi v0 c780_i32_3321
  let c1_i32_3322 : BitVec 32 := 1#32
  let v4691 : BitVec 32 := Scalar.addi v4690 c1_i32_3322
  let v4692 : Index := Scalar.indexCast v4691
  ![v4692.toNat]
def k0_off1564 (v4693 : BitVec 32) : Fin 2 → Nat :=
  let c0_i32_3323 : BitVec 32 := 0#32
  ![v4693.toNat, 0]

def k0_chk782 (v4693 : BitVec 32) : Prop :=
  (∀ a, (k0_off1564 v4693) a + S1x1024.size a ≤ S37888x1024.size a)
theorem k0_off1564_inb : ∀ (v4693 : BitVec 32) (k0_hw782 : k0_chk782 v4693), ∀ a, (k0_off1564 v4693) a + S1x1024.size a ≤ S37888x1024.size a := fun v4693 k0_hw782 => k0_hw782

def k0_off1565 (i : grid0.Coords) : Fin 1 → Nat :=
  let arg0 : BitVec 32 := BitVec.ofNat 32 (i 0).val
  let c1024_i32 : BitVec 32 := 1024#32
  let v0 : BitVec 32 := Scalar.muli arg0 c1024_i32
  let c782_i32 : BitVec 32 := 782#32
  let v4696 : BitVec 32 := Scalar.addi v0 c782_i32
  let c0_i32_3326 : BitVec 32 := 0#32
  let v4697 : BitVec 32 := Scalar.addi v4696 c0_i32_3326
  let v4698 : Index := Scalar.indexCast v4697
  ![v4698.toNat]
def k0_off1566 (v4699 : BitVec 32) : Fin 2 → Nat :=
  let c0_i32_3327 : BitVec 32 := 0#32
  ![v4699.toNat, 0]

def k0_chk783 (v4699 : BitVec 32) : Prop :=
  (∀ a, (k0_off1566 v4699) a + S1x1024.size a ≤ S37888x1024.size a)
theorem k0_off1566_inb : ∀ (v4699 : BitVec 32) (k0_hw783 : k0_chk783 v4699), ∀ a, (k0_off1566 v4699) a + S1x1024.size a ≤ S37888x1024.size a := fun v4699 k0_hw783 => k0_hw783

def k0_off1567 (i : grid0.Coords) : Fin 1 → Nat :=
  let arg0 : BitVec 32 := BitVec.ofNat 32 (i 0).val
  let c1024_i32 : BitVec 32 := 1024#32
  let v0 : BitVec 32 := Scalar.muli arg0 c1024_i32
  let c782_i32_3329 : BitVec 32 := 782#32
  let v4702 : BitVec 32 := Scalar.addi v0 c782_i32_3329
  let c1_i32_3330 : BitVec 32 := 1#32
  let v4703 : BitVec 32 := Scalar.addi v4702 c1_i32_3330
  let v4704 : Index := Scalar.indexCast v4703
  ![v4704.toNat]
def k0_off1568 (v4705 : BitVec 32) : Fin 2 → Nat :=
  let c0_i32_3331 : BitVec 32 := 0#32
  ![v4705.toNat, 0]

def k0_chk784 (v4705 : BitVec 32) : Prop :=
  (∀ a, (k0_off1568 v4705) a + S1x1024.size a ≤ S37888x1024.size a)
theorem k0_off1568_inb : ∀ (v4705 : BitVec 32) (k0_hw784 : k0_chk784 v4705), ∀ a, (k0_off1568 v4705) a + S1x1024.size a ≤ S37888x1024.size a := fun v4705 k0_hw784 => k0_hw784

def k0_off1569 (i : grid0.Coords) : Fin 1 → Nat :=
  let arg0 : BitVec 32 := BitVec.ofNat 32 (i 0).val
  let c1024_i32 : BitVec 32 := 1024#32
  let v0 : BitVec 32 := Scalar.muli arg0 c1024_i32
  let c784_i32 : BitVec 32 := 784#32
  let v4708 : BitVec 32 := Scalar.addi v0 c784_i32
  let c0_i32_3334 : BitVec 32 := 0#32
  let v4709 : BitVec 32 := Scalar.addi v4708 c0_i32_3334
  let v4710 : Index := Scalar.indexCast v4709
  ![v4710.toNat]
def k0_off1570 (v4711 : BitVec 32) : Fin 2 → Nat :=
  let c0_i32_3335 : BitVec 32 := 0#32
  ![v4711.toNat, 0]

def k0_chk785 (v4711 : BitVec 32) : Prop :=
  (∀ a, (k0_off1570 v4711) a + S1x1024.size a ≤ S37888x1024.size a)
theorem k0_off1570_inb : ∀ (v4711 : BitVec 32) (k0_hw785 : k0_chk785 v4711), ∀ a, (k0_off1570 v4711) a + S1x1024.size a ≤ S37888x1024.size a := fun v4711 k0_hw785 => k0_hw785

def k0_off1571 (i : grid0.Coords) : Fin 1 → Nat :=
  let arg0 : BitVec 32 := BitVec.ofNat 32 (i 0).val
  let c1024_i32 : BitVec 32 := 1024#32
  let v0 : BitVec 32 := Scalar.muli arg0 c1024_i32
  let c784_i32_3338 : BitVec 32 := 784#32
  let v4714 : BitVec 32 := Scalar.addi v0 c784_i32_3338
  let c1_i32_3339 : BitVec 32 := 1#32
  let v4715 : BitVec 32 := Scalar.addi v4714 c1_i32_3339
  let v4716 : Index := Scalar.indexCast v4715
  ![v4716.toNat]
def k0_off1572 (v4717 : BitVec 32) : Fin 2 → Nat :=
  let c0_i32_3340 : BitVec 32 := 0#32
  ![v4717.toNat, 0]

def k0_chk786 (v4717 : BitVec 32) : Prop :=
  (∀ a, (k0_off1572 v4717) a + S1x1024.size a ≤ S37888x1024.size a)
theorem k0_off1572_inb : ∀ (v4717 : BitVec 32) (k0_hw786 : k0_chk786 v4717), ∀ a, (k0_off1572 v4717) a + S1x1024.size a ≤ S37888x1024.size a := fun v4717 k0_hw786 => k0_hw786

def k0_off1573 (i : grid0.Coords) : Fin 1 → Nat :=
  let arg0 : BitVec 32 := BitVec.ofNat 32 (i 0).val
  let c1024_i32 : BitVec 32 := 1024#32
  let v0 : BitVec 32 := Scalar.muli arg0 c1024_i32
  let c786_i32 : BitVec 32 := 786#32
  let v4720 : BitVec 32 := Scalar.addi v0 c786_i32
  let c0_i32_3343 : BitVec 32 := 0#32
  let v4721 : BitVec 32 := Scalar.addi v4720 c0_i32_3343
  let v4722 : Index := Scalar.indexCast v4721
  ![v4722.toNat]
def k0_off1574 (v4723 : BitVec 32) : Fin 2 → Nat :=
  let c0_i32_3344 : BitVec 32 := 0#32
  ![v4723.toNat, 0]

def k0_chk787 (v4723 : BitVec 32) : Prop :=
  (∀ a, (k0_off1574 v4723) a + S1x1024.size a ≤ S37888x1024.size a)
theorem k0_off1574_inb : ∀ (v4723 : BitVec 32) (k0_hw787 : k0_chk787 v4723), ∀ a, (k0_off1574 v4723) a + S1x1024.size a ≤ S37888x1024.size a := fun v4723 k0_hw787 => k0_hw787

def k0_off1575 (i : grid0.Coords) : Fin 1 → Nat :=
  let arg0 : BitVec 32 := BitVec.ofNat 32 (i 0).val
  let c1024_i32 : BitVec 32 := 1024#32
  let v0 : BitVec 32 := Scalar.muli arg0 c1024_i32
  let c786_i32_3346 : BitVec 32 := 786#32
  let v4726 : BitVec 32 := Scalar.addi v0 c786_i32_3346
  let c1_i32_3347 : BitVec 32 := 1#32
  let v4727 : BitVec 32 := Scalar.addi v4726 c1_i32_3347
  let v4728 : Index := Scalar.indexCast v4727
  ![v4728.toNat]
def k0_off1576 (v4729 : BitVec 32) : Fin 2 → Nat :=
  let c0_i32_3348 : BitVec 32 := 0#32
  ![v4729.toNat, 0]

def k0_chk788 (v4729 : BitVec 32) : Prop :=
  (∀ a, (k0_off1576 v4729) a + S1x1024.size a ≤ S37888x1024.size a)
theorem k0_off1576_inb : ∀ (v4729 : BitVec 32) (k0_hw788 : k0_chk788 v4729), ∀ a, (k0_off1576 v4729) a + S1x1024.size a ≤ S37888x1024.size a := fun v4729 k0_hw788 => k0_hw788

def k0_off1577 (i : grid0.Coords) : Fin 1 → Nat :=
  let arg0 : BitVec 32 := BitVec.ofNat 32 (i 0).val
  let c1024_i32 : BitVec 32 := 1024#32
  let v0 : BitVec 32 := Scalar.muli arg0 c1024_i32
  let c788_i32 : BitVec 32 := 788#32
  let v4732 : BitVec 32 := Scalar.addi v0 c788_i32
  let c0_i32_3351 : BitVec 32 := 0#32
  let v4733 : BitVec 32 := Scalar.addi v4732 c0_i32_3351
  let v4734 : Index := Scalar.indexCast v4733
  ![v4734.toNat]
def k0_off1578 (v4735 : BitVec 32) : Fin 2 → Nat :=
  let c0_i32_3352 : BitVec 32 := 0#32
  ![v4735.toNat, 0]

def k0_chk789 (v4735 : BitVec 32) : Prop :=
  (∀ a, (k0_off1578 v4735) a + S1x1024.size a ≤ S37888x1024.size a)
theorem k0_off1578_inb : ∀ (v4735 : BitVec 32) (k0_hw789 : k0_chk789 v4735), ∀ a, (k0_off1578 v4735) a + S1x1024.size a ≤ S37888x1024.size a := fun v4735 k0_hw789 => k0_hw789

def k0_off1579 (i : grid0.Coords) : Fin 1 → Nat :=
  let arg0 : BitVec 32 := BitVec.ofNat 32 (i 0).val
  let c1024_i32 : BitVec 32 := 1024#32
  let v0 : BitVec 32 := Scalar.muli arg0 c1024_i32
  let c788_i32_3355 : BitVec 32 := 788#32
  let v4738 : BitVec 32 := Scalar.addi v0 c788_i32_3355
  let c1_i32_3356 : BitVec 32 := 1#32
  let v4739 : BitVec 32 := Scalar.addi v4738 c1_i32_3356
  let v4740 : Index := Scalar.indexCast v4739
  ![v4740.toNat]
def k0_off1580 (v4741 : BitVec 32) : Fin 2 → Nat :=
  let c0_i32_3357 : BitVec 32 := 0#32
  ![v4741.toNat, 0]

def k0_chk790 (v4741 : BitVec 32) : Prop :=
  (∀ a, (k0_off1580 v4741) a + S1x1024.size a ≤ S37888x1024.size a)
theorem k0_off1580_inb : ∀ (v4741 : BitVec 32) (k0_hw790 : k0_chk790 v4741), ∀ a, (k0_off1580 v4741) a + S1x1024.size a ≤ S37888x1024.size a := fun v4741 k0_hw790 => k0_hw790

def k0_off1581 (i : grid0.Coords) : Fin 1 → Nat :=
  let arg0 : BitVec 32 := BitVec.ofNat 32 (i 0).val
  let c1024_i32 : BitVec 32 := 1024#32
  let v0 : BitVec 32 := Scalar.muli arg0 c1024_i32
  let c790_i32 : BitVec 32 := 790#32
  let v4744 : BitVec 32 := Scalar.addi v0 c790_i32
  let c0_i32_3360 : BitVec 32 := 0#32
  let v4745 : BitVec 32 := Scalar.addi v4744 c0_i32_3360
  let v4746 : Index := Scalar.indexCast v4745
  ![v4746.toNat]
def k0_off1582 (v4747 : BitVec 32) : Fin 2 → Nat :=
  let c0_i32_3361 : BitVec 32 := 0#32
  ![v4747.toNat, 0]

def k0_chk791 (v4747 : BitVec 32) : Prop :=
  (∀ a, (k0_off1582 v4747) a + S1x1024.size a ≤ S37888x1024.size a)
theorem k0_off1582_inb : ∀ (v4747 : BitVec 32) (k0_hw791 : k0_chk791 v4747), ∀ a, (k0_off1582 v4747) a + S1x1024.size a ≤ S37888x1024.size a := fun v4747 k0_hw791 => k0_hw791

def k0_off1583 (i : grid0.Coords) : Fin 1 → Nat :=
  let arg0 : BitVec 32 := BitVec.ofNat 32 (i 0).val
  let c1024_i32 : BitVec 32 := 1024#32
  let v0 : BitVec 32 := Scalar.muli arg0 c1024_i32
  let c790_i32_3363 : BitVec 32 := 790#32
  let v4750 : BitVec 32 := Scalar.addi v0 c790_i32_3363
  let c1_i32_3364 : BitVec 32 := 1#32
  let v4751 : BitVec 32 := Scalar.addi v4750 c1_i32_3364
  let v4752 : Index := Scalar.indexCast v4751
  ![v4752.toNat]
def k0_off1584 (v4753 : BitVec 32) : Fin 2 → Nat :=
  let c0_i32_3365 : BitVec 32 := 0#32
  ![v4753.toNat, 0]

def k0_chk792 (v4753 : BitVec 32) : Prop :=
  (∀ a, (k0_off1584 v4753) a + S1x1024.size a ≤ S37888x1024.size a)
theorem k0_off1584_inb : ∀ (v4753 : BitVec 32) (k0_hw792 : k0_chk792 v4753), ∀ a, (k0_off1584 v4753) a + S1x1024.size a ≤ S37888x1024.size a := fun v4753 k0_hw792 => k0_hw792

def k0_off1585 (i : grid0.Coords) : Fin 1 → Nat :=
  let arg0 : BitVec 32 := BitVec.ofNat 32 (i 0).val
  let c1024_i32 : BitVec 32 := 1024#32
  let v0 : BitVec 32 := Scalar.muli arg0 c1024_i32
  let c792_i32 : BitVec 32 := 792#32
  let v4756 : BitVec 32 := Scalar.addi v0 c792_i32
  let c0_i32_3368 : BitVec 32 := 0#32
  let v4757 : BitVec 32 := Scalar.addi v4756 c0_i32_3368
  let v4758 : Index := Scalar.indexCast v4757
  ![v4758.toNat]
def k0_off1586 (v4759 : BitVec 32) : Fin 2 → Nat :=
  let c0_i32_3369 : BitVec 32 := 0#32
  ![v4759.toNat, 0]

def k0_chk793 (v4759 : BitVec 32) : Prop :=
  (∀ a, (k0_off1586 v4759) a + S1x1024.size a ≤ S37888x1024.size a)
theorem k0_off1586_inb : ∀ (v4759 : BitVec 32) (k0_hw793 : k0_chk793 v4759), ∀ a, (k0_off1586 v4759) a + S1x1024.size a ≤ S37888x1024.size a := fun v4759 k0_hw793 => k0_hw793

def k0_off1587 (i : grid0.Coords) : Fin 1 → Nat :=
  let arg0 : BitVec 32 := BitVec.ofNat 32 (i 0).val
  let c1024_i32 : BitVec 32 := 1024#32
  let v0 : BitVec 32 := Scalar.muli arg0 c1024_i32
  let c792_i32_3372 : BitVec 32 := 792#32
  let v4762 : BitVec 32 := Scalar.addi v0 c792_i32_3372
  let c1_i32_3373 : BitVec 32 := 1#32
  let v4763 : BitVec 32 := Scalar.addi v4762 c1_i32_3373
  let v4764 : Index := Scalar.indexCast v4763
  ![v4764.toNat]
def k0_off1588 (v4765 : BitVec 32) : Fin 2 → Nat :=
  let c0_i32_3374 : BitVec 32 := 0#32
  ![v4765.toNat, 0]

def k0_chk794 (v4765 : BitVec 32) : Prop :=
  (∀ a, (k0_off1588 v4765) a + S1x1024.size a ≤ S37888x1024.size a)
theorem k0_off1588_inb : ∀ (v4765 : BitVec 32) (k0_hw794 : k0_chk794 v4765), ∀ a, (k0_off1588 v4765) a + S1x1024.size a ≤ S37888x1024.size a := fun v4765 k0_hw794 => k0_hw794

def k0_off1589 (i : grid0.Coords) : Fin 1 → Nat :=
  let arg0 : BitVec 32 := BitVec.ofNat 32 (i 0).val
  let c1024_i32 : BitVec 32 := 1024#32
  let v0 : BitVec 32 := Scalar.muli arg0 c1024_i32
  let c794_i32 : BitVec 32 := 794#32
  let v4768 : BitVec 32 := Scalar.addi v0 c794_i32
  let c0_i32_3377 : BitVec 32 := 0#32
  let v4769 : BitVec 32 := Scalar.addi v4768 c0_i32_3377
  let v4770 : Index := Scalar.indexCast v4769
  ![v4770.toNat]
def k0_off1590 (v4771 : BitVec 32) : Fin 2 → Nat :=
  let c0_i32_3378 : BitVec 32 := 0#32
  ![v4771.toNat, 0]

def k0_chk795 (v4771 : BitVec 32) : Prop :=
  (∀ a, (k0_off1590 v4771) a + S1x1024.size a ≤ S37888x1024.size a)
theorem k0_off1590_inb : ∀ (v4771 : BitVec 32) (k0_hw795 : k0_chk795 v4771), ∀ a, (k0_off1590 v4771) a + S1x1024.size a ≤ S37888x1024.size a := fun v4771 k0_hw795 => k0_hw795

def k0_off1591 (i : grid0.Coords) : Fin 1 → Nat :=
  let arg0 : BitVec 32 := BitVec.ofNat 32 (i 0).val
  let c1024_i32 : BitVec 32 := 1024#32
  let v0 : BitVec 32 := Scalar.muli arg0 c1024_i32
  let c794_i32_3380 : BitVec 32 := 794#32
  let v4774 : BitVec 32 := Scalar.addi v0 c794_i32_3380
  let c1_i32_3381 : BitVec 32 := 1#32
  let v4775 : BitVec 32 := Scalar.addi v4774 c1_i32_3381
  let v4776 : Index := Scalar.indexCast v4775
  ![v4776.toNat]
def k0_off1592 (v4777 : BitVec 32) : Fin 2 → Nat :=
  let c0_i32_3382 : BitVec 32 := 0#32
  ![v4777.toNat, 0]

def k0_chk796 (v4777 : BitVec 32) : Prop :=
  (∀ a, (k0_off1592 v4777) a + S1x1024.size a ≤ S37888x1024.size a)
theorem k0_off1592_inb : ∀ (v4777 : BitVec 32) (k0_hw796 : k0_chk796 v4777), ∀ a, (k0_off1592 v4777) a + S1x1024.size a ≤ S37888x1024.size a := fun v4777 k0_hw796 => k0_hw796

def k0_off1593 (i : grid0.Coords) : Fin 1 → Nat :=
  let arg0 : BitVec 32 := BitVec.ofNat 32 (i 0).val
  let c1024_i32 : BitVec 32 := 1024#32
  let v0 : BitVec 32 := Scalar.muli arg0 c1024_i32
  let c796_i32 : BitVec 32 := 796#32
  let v4780 : BitVec 32 := Scalar.addi v0 c796_i32
  let c0_i32_3385 : BitVec 32 := 0#32
  let v4781 : BitVec 32 := Scalar.addi v4780 c0_i32_3385
  let v4782 : Index := Scalar.indexCast v4781
  ![v4782.toNat]
def k0_off1594 (v4783 : BitVec 32) : Fin 2 → Nat :=
  let c0_i32_3386 : BitVec 32 := 0#32
  ![v4783.toNat, 0]

def k0_chk797 (v4783 : BitVec 32) : Prop :=
  (∀ a, (k0_off1594 v4783) a + S1x1024.size a ≤ S37888x1024.size a)
theorem k0_off1594_inb : ∀ (v4783 : BitVec 32) (k0_hw797 : k0_chk797 v4783), ∀ a, (k0_off1594 v4783) a + S1x1024.size a ≤ S37888x1024.size a := fun v4783 k0_hw797 => k0_hw797

def k0_off1595 (i : grid0.Coords) : Fin 1 → Nat :=
  let arg0 : BitVec 32 := BitVec.ofNat 32 (i 0).val
  let c1024_i32 : BitVec 32 := 1024#32
  let v0 : BitVec 32 := Scalar.muli arg0 c1024_i32
  let c796_i32_3389 : BitVec 32 := 796#32
  let v4786 : BitVec 32 := Scalar.addi v0 c796_i32_3389
  let c1_i32_3390 : BitVec 32 := 1#32
  let v4787 : BitVec 32 := Scalar.addi v4786 c1_i32_3390
  let v4788 : Index := Scalar.indexCast v4787
  ![v4788.toNat]
def k0_off1596 (v4789 : BitVec 32) : Fin 2 → Nat :=
  let c0_i32_3391 : BitVec 32 := 0#32
  ![v4789.toNat, 0]

def k0_chk798 (v4789 : BitVec 32) : Prop :=
  (∀ a, (k0_off1596 v4789) a + S1x1024.size a ≤ S37888x1024.size a)
theorem k0_off1596_inb : ∀ (v4789 : BitVec 32) (k0_hw798 : k0_chk798 v4789), ∀ a, (k0_off1596 v4789) a + S1x1024.size a ≤ S37888x1024.size a := fun v4789 k0_hw798 => k0_hw798

def k0_off1597 (i : grid0.Coords) : Fin 1 → Nat :=
  let arg0 : BitVec 32 := BitVec.ofNat 32 (i 0).val
  let c1024_i32 : BitVec 32 := 1024#32
  let v0 : BitVec 32 := Scalar.muli arg0 c1024_i32
  let c798_i32 : BitVec 32 := 798#32
  let v4792 : BitVec 32 := Scalar.addi v0 c798_i32
  let c0_i32_3394 : BitVec 32 := 0#32
  let v4793 : BitVec 32 := Scalar.addi v4792 c0_i32_3394
  let v4794 : Index := Scalar.indexCast v4793
  ![v4794.toNat]
def k0_off1598 (v4795 : BitVec 32) : Fin 2 → Nat :=
  let c0_i32_3395 : BitVec 32 := 0#32
  ![v4795.toNat, 0]

def k0_chk799 (v4795 : BitVec 32) : Prop :=
  (∀ a, (k0_off1598 v4795) a + S1x1024.size a ≤ S37888x1024.size a)
theorem k0_off1598_inb : ∀ (v4795 : BitVec 32) (k0_hw799 : k0_chk799 v4795), ∀ a, (k0_off1598 v4795) a + S1x1024.size a ≤ S37888x1024.size a := fun v4795 k0_hw799 => k0_hw799

def k0_off1599 (i : grid0.Coords) : Fin 1 → Nat :=
  let arg0 : BitVec 32 := BitVec.ofNat 32 (i 0).val
  let c1024_i32 : BitVec 32 := 1024#32
  let v0 : BitVec 32 := Scalar.muli arg0 c1024_i32
  let c798_i32_3397 : BitVec 32 := 798#32
  let v4798 : BitVec 32 := Scalar.addi v0 c798_i32_3397
  let c1_i32_3398 : BitVec 32 := 1#32
  let v4799 : BitVec 32 := Scalar.addi v4798 c1_i32_3398
  let v4800 : Index := Scalar.indexCast v4799
  ![v4800.toNat]
def k0_off1600 (v4801 : BitVec 32) : Fin 2 → Nat :=
  let c0_i32_3399 : BitVec 32 := 0#32
  ![v4801.toNat, 0]

def k0_chk800 (v4801 : BitVec 32) : Prop :=
  (∀ a, (k0_off1600 v4801) a + S1x1024.size a ≤ S37888x1024.size a)
theorem k0_off1600_inb : ∀ (v4801 : BitVec 32) (k0_hw800 : k0_chk800 v4801), ∀ a, (k0_off1600 v4801) a + S1x1024.size a ≤ S37888x1024.size a := fun v4801 k0_hw800 => k0_hw800

def k0_off1601 (i : grid0.Coords) : Fin 1 → Nat :=
  let arg0 : BitVec 32 := BitVec.ofNat 32 (i 0).val
  let c1024_i32 : BitVec 32 := 1024#32
  let v0 : BitVec 32 := Scalar.muli arg0 c1024_i32
  let c800_i32 : BitVec 32 := 800#32
  let v4804 : BitVec 32 := Scalar.addi v0 c800_i32
  let c0_i32_3402 : BitVec 32 := 0#32
  let v4805 : BitVec 32 := Scalar.addi v4804 c0_i32_3402
  let v4806 : Index := Scalar.indexCast v4805
  ![v4806.toNat]
def k0_off1602 (v4807 : BitVec 32) : Fin 2 → Nat :=
  let c0_i32_3403 : BitVec 32 := 0#32
  ![v4807.toNat, 0]

def k0_chk801 (v4807 : BitVec 32) : Prop :=
  (∀ a, (k0_off1602 v4807) a + S1x1024.size a ≤ S37888x1024.size a)
theorem k0_off1602_inb : ∀ (v4807 : BitVec 32) (k0_hw801 : k0_chk801 v4807), ∀ a, (k0_off1602 v4807) a + S1x1024.size a ≤ S37888x1024.size a := fun v4807 k0_hw801 => k0_hw801

def k0_off1603 (i : grid0.Coords) : Fin 1 → Nat :=
  let arg0 : BitVec 32 := BitVec.ofNat 32 (i 0).val
  let c1024_i32 : BitVec 32 := 1024#32
  let v0 : BitVec 32 := Scalar.muli arg0 c1024_i32
  let c800_i32_3406 : BitVec 32 := 800#32
  let v4810 : BitVec 32 := Scalar.addi v0 c800_i32_3406
  let c1_i32_3407 : BitVec 32 := 1#32
  let v4811 : BitVec 32 := Scalar.addi v4810 c1_i32_3407
  let v4812 : Index := Scalar.indexCast v4811
  ![v4812.toNat]
def k0_off1604 (v4813 : BitVec 32) : Fin 2 → Nat :=
  let c0_i32_3408 : BitVec 32 := 0#32
  ![v4813.toNat, 0]

def k0_chk802 (v4813 : BitVec 32) : Prop :=
  (∀ a, (k0_off1604 v4813) a + S1x1024.size a ≤ S37888x1024.size a)
theorem k0_off1604_inb : ∀ (v4813 : BitVec 32) (k0_hw802 : k0_chk802 v4813), ∀ a, (k0_off1604 v4813) a + S1x1024.size a ≤ S37888x1024.size a := fun v4813 k0_hw802 => k0_hw802

def k0_off1605 (i : grid0.Coords) : Fin 1 → Nat :=
  let arg0 : BitVec 32 := BitVec.ofNat 32 (i 0).val
  let c1024_i32 : BitVec 32 := 1024#32
  let v0 : BitVec 32 := Scalar.muli arg0 c1024_i32
  let c802_i32 : BitVec 32 := 802#32
  let v4816 : BitVec 32 := Scalar.addi v0 c802_i32
  let c0_i32_3411 : BitVec 32 := 0#32
  let v4817 : BitVec 32 := Scalar.addi v4816 c0_i32_3411
  let v4818 : Index := Scalar.indexCast v4817
  ![v4818.toNat]
def k0_off1606 (v4819 : BitVec 32) : Fin 2 → Nat :=
  let c0_i32_3412 : BitVec 32 := 0#32
  ![v4819.toNat, 0]

def k0_chk803 (v4819 : BitVec 32) : Prop :=
  (∀ a, (k0_off1606 v4819) a + S1x1024.size a ≤ S37888x1024.size a)
theorem k0_off1606_inb : ∀ (v4819 : BitVec 32) (k0_hw803 : k0_chk803 v4819), ∀ a, (k0_off1606 v4819) a + S1x1024.size a ≤ S37888x1024.size a := fun v4819 k0_hw803 => k0_hw803

def k0_off1607 (i : grid0.Coords) : Fin 1 → Nat :=
  let arg0 : BitVec 32 := BitVec.ofNat 32 (i 0).val
  let c1024_i32 : BitVec 32 := 1024#32
  let v0 : BitVec 32 := Scalar.muli arg0 c1024_i32
  let c802_i32_3414 : BitVec 32 := 802#32
  let v4822 : BitVec 32 := Scalar.addi v0 c802_i32_3414
  let c1_i32_3415 : BitVec 32 := 1#32
  let v4823 : BitVec 32 := Scalar.addi v4822 c1_i32_3415
  let v4824 : Index := Scalar.indexCast v4823
  ![v4824.toNat]
def k0_off1608 (v4825 : BitVec 32) : Fin 2 → Nat :=
  let c0_i32_3416 : BitVec 32 := 0#32
  ![v4825.toNat, 0]

def k0_chk804 (v4825 : BitVec 32) : Prop :=
  (∀ a, (k0_off1608 v4825) a + S1x1024.size a ≤ S37888x1024.size a)
theorem k0_off1608_inb : ∀ (v4825 : BitVec 32) (k0_hw804 : k0_chk804 v4825), ∀ a, (k0_off1608 v4825) a + S1x1024.size a ≤ S37888x1024.size a := fun v4825 k0_hw804 => k0_hw804

def k0_off1609 (i : grid0.Coords) : Fin 1 → Nat :=
  let arg0 : BitVec 32 := BitVec.ofNat 32 (i 0).val
  let c1024_i32 : BitVec 32 := 1024#32
  let v0 : BitVec 32 := Scalar.muli arg0 c1024_i32
  let c804_i32 : BitVec 32 := 804#32
  let v4828 : BitVec 32 := Scalar.addi v0 c804_i32
  let c0_i32_3419 : BitVec 32 := 0#32
  let v4829 : BitVec 32 := Scalar.addi v4828 c0_i32_3419
  let v4830 : Index := Scalar.indexCast v4829
  ![v4830.toNat]
def k0_off1610 (v4831 : BitVec 32) : Fin 2 → Nat :=
  let c0_i32_3420 : BitVec 32 := 0#32
  ![v4831.toNat, 0]

def k0_chk805 (v4831 : BitVec 32) : Prop :=
  (∀ a, (k0_off1610 v4831) a + S1x1024.size a ≤ S37888x1024.size a)
theorem k0_off1610_inb : ∀ (v4831 : BitVec 32) (k0_hw805 : k0_chk805 v4831), ∀ a, (k0_off1610 v4831) a + S1x1024.size a ≤ S37888x1024.size a := fun v4831 k0_hw805 => k0_hw805

def k0_off1611 (i : grid0.Coords) : Fin 1 → Nat :=
  let arg0 : BitVec 32 := BitVec.ofNat 32 (i 0).val
  let c1024_i32 : BitVec 32 := 1024#32
  let v0 : BitVec 32 := Scalar.muli arg0 c1024_i32
  let c804_i32_3423 : BitVec 32 := 804#32
  let v4834 : BitVec 32 := Scalar.addi v0 c804_i32_3423
  let c1_i32_3424 : BitVec 32 := 1#32
  let v4835 : BitVec 32 := Scalar.addi v4834 c1_i32_3424
  let v4836 : Index := Scalar.indexCast v4835
  ![v4836.toNat]
def k0_off1612 (v4837 : BitVec 32) : Fin 2 → Nat :=
  let c0_i32_3425 : BitVec 32 := 0#32
  ![v4837.toNat, 0]

def k0_chk806 (v4837 : BitVec 32) : Prop :=
  (∀ a, (k0_off1612 v4837) a + S1x1024.size a ≤ S37888x1024.size a)
theorem k0_off1612_inb : ∀ (v4837 : BitVec 32) (k0_hw806 : k0_chk806 v4837), ∀ a, (k0_off1612 v4837) a + S1x1024.size a ≤ S37888x1024.size a := fun v4837 k0_hw806 => k0_hw806

def k0_off1613 (i : grid0.Coords) : Fin 1 → Nat :=
  let arg0 : BitVec 32 := BitVec.ofNat 32 (i 0).val
  let c1024_i32 : BitVec 32 := 1024#32
  let v0 : BitVec 32 := Scalar.muli arg0 c1024_i32
  let c806_i32 : BitVec 32 := 806#32
  let v4840 : BitVec 32 := Scalar.addi v0 c806_i32
  let c0_i32_3428 : BitVec 32 := 0#32
  let v4841 : BitVec 32 := Scalar.addi v4840 c0_i32_3428
  let v4842 : Index := Scalar.indexCast v4841
  ![v4842.toNat]
def k0_off1614 (v4843 : BitVec 32) : Fin 2 → Nat :=
  let c0_i32_3429 : BitVec 32 := 0#32
  ![v4843.toNat, 0]

def k0_chk807 (v4843 : BitVec 32) : Prop :=
  (∀ a, (k0_off1614 v4843) a + S1x1024.size a ≤ S37888x1024.size a)
theorem k0_off1614_inb : ∀ (v4843 : BitVec 32) (k0_hw807 : k0_chk807 v4843), ∀ a, (k0_off1614 v4843) a + S1x1024.size a ≤ S37888x1024.size a := fun v4843 k0_hw807 => k0_hw807

def k0_off1615 (i : grid0.Coords) : Fin 1 → Nat :=
  let arg0 : BitVec 32 := BitVec.ofNat 32 (i 0).val
  let c1024_i32 : BitVec 32 := 1024#32
  let v0 : BitVec 32 := Scalar.muli arg0 c1024_i32
  let c806_i32_3431 : BitVec 32 := 806#32
  let v4846 : BitVec 32 := Scalar.addi v0 c806_i32_3431
  let c1_i32_3432 : BitVec 32 := 1#32
  let v4847 : BitVec 32 := Scalar.addi v4846 c1_i32_3432
  let v4848 : Index := Scalar.indexCast v4847
  ![v4848.toNat]
def k0_off1616 (v4849 : BitVec 32) : Fin 2 → Nat :=
  let c0_i32_3433 : BitVec 32 := 0#32
  ![v4849.toNat, 0]

def k0_chk808 (v4849 : BitVec 32) : Prop :=
  (∀ a, (k0_off1616 v4849) a + S1x1024.size a ≤ S37888x1024.size a)
theorem k0_off1616_inb : ∀ (v4849 : BitVec 32) (k0_hw808 : k0_chk808 v4849), ∀ a, (k0_off1616 v4849) a + S1x1024.size a ≤ S37888x1024.size a := fun v4849 k0_hw808 => k0_hw808

def k0_off1617 (i : grid0.Coords) : Fin 1 → Nat :=
  let arg0 : BitVec 32 := BitVec.ofNat 32 (i 0).val
  let c1024_i32 : BitVec 32 := 1024#32
  let v0 : BitVec 32 := Scalar.muli arg0 c1024_i32
  let c808_i32 : BitVec 32 := 808#32
  let v4852 : BitVec 32 := Scalar.addi v0 c808_i32
  let c0_i32_3436 : BitVec 32 := 0#32
  let v4853 : BitVec 32 := Scalar.addi v4852 c0_i32_3436
  let v4854 : Index := Scalar.indexCast v4853
  ![v4854.toNat]
def k0_off1618 (v4855 : BitVec 32) : Fin 2 → Nat :=
  let c0_i32_3437 : BitVec 32 := 0#32
  ![v4855.toNat, 0]

def k0_chk809 (v4855 : BitVec 32) : Prop :=
  (∀ a, (k0_off1618 v4855) a + S1x1024.size a ≤ S37888x1024.size a)
theorem k0_off1618_inb : ∀ (v4855 : BitVec 32) (k0_hw809 : k0_chk809 v4855), ∀ a, (k0_off1618 v4855) a + S1x1024.size a ≤ S37888x1024.size a := fun v4855 k0_hw809 => k0_hw809

def k0_off1619 (i : grid0.Coords) : Fin 1 → Nat :=
  let arg0 : BitVec 32 := BitVec.ofNat 32 (i 0).val
  let c1024_i32 : BitVec 32 := 1024#32
  let v0 : BitVec 32 := Scalar.muli arg0 c1024_i32
  let c808_i32_3440 : BitVec 32 := 808#32
  let v4858 : BitVec 32 := Scalar.addi v0 c808_i32_3440
  let c1_i32_3441 : BitVec 32 := 1#32
  let v4859 : BitVec 32 := Scalar.addi v4858 c1_i32_3441
  let v4860 : Index := Scalar.indexCast v4859
  ![v4860.toNat]
def k0_off1620 (v4861 : BitVec 32) : Fin 2 → Nat :=
  let c0_i32_3442 : BitVec 32 := 0#32
  ![v4861.toNat, 0]

def k0_chk810 (v4861 : BitVec 32) : Prop :=
  (∀ a, (k0_off1620 v4861) a + S1x1024.size a ≤ S37888x1024.size a)
theorem k0_off1620_inb : ∀ (v4861 : BitVec 32) (k0_hw810 : k0_chk810 v4861), ∀ a, (k0_off1620 v4861) a + S1x1024.size a ≤ S37888x1024.size a := fun v4861 k0_hw810 => k0_hw810

def k0_off1621 (i : grid0.Coords) : Fin 1 → Nat :=
  let arg0 : BitVec 32 := BitVec.ofNat 32 (i 0).val
  let c1024_i32 : BitVec 32 := 1024#32
  let v0 : BitVec 32 := Scalar.muli arg0 c1024_i32
  let c810_i32 : BitVec 32 := 810#32
  let v4864 : BitVec 32 := Scalar.addi v0 c810_i32
  let c0_i32_3445 : BitVec 32 := 0#32
  let v4865 : BitVec 32 := Scalar.addi v4864 c0_i32_3445
  let v4866 : Index := Scalar.indexCast v4865
  ![v4866.toNat]
def k0_off1622 (v4867 : BitVec 32) : Fin 2 → Nat :=
  let c0_i32_3446 : BitVec 32 := 0#32
  ![v4867.toNat, 0]

def k0_chk811 (v4867 : BitVec 32) : Prop :=
  (∀ a, (k0_off1622 v4867) a + S1x1024.size a ≤ S37888x1024.size a)
theorem k0_off1622_inb : ∀ (v4867 : BitVec 32) (k0_hw811 : k0_chk811 v4867), ∀ a, (k0_off1622 v4867) a + S1x1024.size a ≤ S37888x1024.size a := fun v4867 k0_hw811 => k0_hw811

def k0_off1623 (i : grid0.Coords) : Fin 1 → Nat :=
  let arg0 : BitVec 32 := BitVec.ofNat 32 (i 0).val
  let c1024_i32 : BitVec 32 := 1024#32
  let v0 : BitVec 32 := Scalar.muli arg0 c1024_i32
  let c810_i32_3448 : BitVec 32 := 810#32
  let v4870 : BitVec 32 := Scalar.addi v0 c810_i32_3448
  let c1_i32_3449 : BitVec 32 := 1#32
  let v4871 : BitVec 32 := Scalar.addi v4870 c1_i32_3449
  let v4872 : Index := Scalar.indexCast v4871
  ![v4872.toNat]
def k0_off1624 (v4873 : BitVec 32) : Fin 2 → Nat :=
  let c0_i32_3450 : BitVec 32 := 0#32
  ![v4873.toNat, 0]

def k0_chk812 (v4873 : BitVec 32) : Prop :=
  (∀ a, (k0_off1624 v4873) a + S1x1024.size a ≤ S37888x1024.size a)
theorem k0_off1624_inb : ∀ (v4873 : BitVec 32) (k0_hw812 : k0_chk812 v4873), ∀ a, (k0_off1624 v4873) a + S1x1024.size a ≤ S37888x1024.size a := fun v4873 k0_hw812 => k0_hw812

def k0_off1625 (i : grid0.Coords) : Fin 1 → Nat :=
  let arg0 : BitVec 32 := BitVec.ofNat 32 (i 0).val
  let c1024_i32 : BitVec 32 := 1024#32
  let v0 : BitVec 32 := Scalar.muli arg0 c1024_i32
  let c812_i32 : BitVec 32 := 812#32
  let v4876 : BitVec 32 := Scalar.addi v0 c812_i32
  let c0_i32_3453 : BitVec 32 := 0#32
  let v4877 : BitVec 32 := Scalar.addi v4876 c0_i32_3453
  let v4878 : Index := Scalar.indexCast v4877
  ![v4878.toNat]
def k0_off1626 (v4879 : BitVec 32) : Fin 2 → Nat :=
  let c0_i32_3454 : BitVec 32 := 0#32
  ![v4879.toNat, 0]

def k0_chk813 (v4879 : BitVec 32) : Prop :=
  (∀ a, (k0_off1626 v4879) a + S1x1024.size a ≤ S37888x1024.size a)
theorem k0_off1626_inb : ∀ (v4879 : BitVec 32) (k0_hw813 : k0_chk813 v4879), ∀ a, (k0_off1626 v4879) a + S1x1024.size a ≤ S37888x1024.size a := fun v4879 k0_hw813 => k0_hw813

def k0_off1627 (i : grid0.Coords) : Fin 1 → Nat :=
  let arg0 : BitVec 32 := BitVec.ofNat 32 (i 0).val
  let c1024_i32 : BitVec 32 := 1024#32
  let v0 : BitVec 32 := Scalar.muli arg0 c1024_i32
  let c812_i32_3457 : BitVec 32 := 812#32
  let v4882 : BitVec 32 := Scalar.addi v0 c812_i32_3457
  let c1_i32_3458 : BitVec 32 := 1#32
  let v4883 : BitVec 32 := Scalar.addi v4882 c1_i32_3458
  let v4884 : Index := Scalar.indexCast v4883
  ![v4884.toNat]
def k0_off1628 (v4885 : BitVec 32) : Fin 2 → Nat :=
  let c0_i32_3459 : BitVec 32 := 0#32
  ![v4885.toNat, 0]

def k0_chk814 (v4885 : BitVec 32) : Prop :=
  (∀ a, (k0_off1628 v4885) a + S1x1024.size a ≤ S37888x1024.size a)
theorem k0_off1628_inb : ∀ (v4885 : BitVec 32) (k0_hw814 : k0_chk814 v4885), ∀ a, (k0_off1628 v4885) a + S1x1024.size a ≤ S37888x1024.size a := fun v4885 k0_hw814 => k0_hw814

def k0_off1629 (i : grid0.Coords) : Fin 1 → Nat :=
  let arg0 : BitVec 32 := BitVec.ofNat 32 (i 0).val
  let c1024_i32 : BitVec 32 := 1024#32
  let v0 : BitVec 32 := Scalar.muli arg0 c1024_i32
  let c814_i32 : BitVec 32 := 814#32
  let v4888 : BitVec 32 := Scalar.addi v0 c814_i32
  let c0_i32_3462 : BitVec 32 := 0#32
  let v4889 : BitVec 32 := Scalar.addi v4888 c0_i32_3462
  let v4890 : Index := Scalar.indexCast v4889
  ![v4890.toNat]
def k0_off1630 (v4891 : BitVec 32) : Fin 2 → Nat :=
  let c0_i32_3463 : BitVec 32 := 0#32
  ![v4891.toNat, 0]

def k0_chk815 (v4891 : BitVec 32) : Prop :=
  (∀ a, (k0_off1630 v4891) a + S1x1024.size a ≤ S37888x1024.size a)
theorem k0_off1630_inb : ∀ (v4891 : BitVec 32) (k0_hw815 : k0_chk815 v4891), ∀ a, (k0_off1630 v4891) a + S1x1024.size a ≤ S37888x1024.size a := fun v4891 k0_hw815 => k0_hw815

def k0_off1631 (i : grid0.Coords) : Fin 1 → Nat :=
  let arg0 : BitVec 32 := BitVec.ofNat 32 (i 0).val
  let c1024_i32 : BitVec 32 := 1024#32
  let v0 : BitVec 32 := Scalar.muli arg0 c1024_i32
  let c814_i32_3465 : BitVec 32 := 814#32
  let v4894 : BitVec 32 := Scalar.addi v0 c814_i32_3465
  let c1_i32_3466 : BitVec 32 := 1#32
  let v4895 : BitVec 32 := Scalar.addi v4894 c1_i32_3466
  let v4896 : Index := Scalar.indexCast v4895
  ![v4896.toNat]
def k0_off1632 (v4897 : BitVec 32) : Fin 2 → Nat :=
  let c0_i32_3467 : BitVec 32 := 0#32
  ![v4897.toNat, 0]

def k0_chk816 (v4897 : BitVec 32) : Prop :=
  (∀ a, (k0_off1632 v4897) a + S1x1024.size a ≤ S37888x1024.size a)
theorem k0_off1632_inb : ∀ (v4897 : BitVec 32) (k0_hw816 : k0_chk816 v4897), ∀ a, (k0_off1632 v4897) a + S1x1024.size a ≤ S37888x1024.size a := fun v4897 k0_hw816 => k0_hw816

def k0_off1633 (i : grid0.Coords) : Fin 1 → Nat :=
  let arg0 : BitVec 32 := BitVec.ofNat 32 (i 0).val
  let c1024_i32 : BitVec 32 := 1024#32
  let v0 : BitVec 32 := Scalar.muli arg0 c1024_i32
  let c816_i32 : BitVec 32 := 816#32
  let v4900 : BitVec 32 := Scalar.addi v0 c816_i32
  let c0_i32_3470 : BitVec 32 := 0#32
  let v4901 : BitVec 32 := Scalar.addi v4900 c0_i32_3470
  let v4902 : Index := Scalar.indexCast v4901
  ![v4902.toNat]
def k0_off1634 (v4903 : BitVec 32) : Fin 2 → Nat :=
  let c0_i32_3471 : BitVec 32 := 0#32
  ![v4903.toNat, 0]

def k0_chk817 (v4903 : BitVec 32) : Prop :=
  (∀ a, (k0_off1634 v4903) a + S1x1024.size a ≤ S37888x1024.size a)
theorem k0_off1634_inb : ∀ (v4903 : BitVec 32) (k0_hw817 : k0_chk817 v4903), ∀ a, (k0_off1634 v4903) a + S1x1024.size a ≤ S37888x1024.size a := fun v4903 k0_hw817 => k0_hw817

def k0_off1635 (i : grid0.Coords) : Fin 1 → Nat :=
  let arg0 : BitVec 32 := BitVec.ofNat 32 (i 0).val
  let c1024_i32 : BitVec 32 := 1024#32
  let v0 : BitVec 32 := Scalar.muli arg0 c1024_i32
  let c816_i32_3474 : BitVec 32 := 816#32
  let v4906 : BitVec 32 := Scalar.addi v0 c816_i32_3474
  let c1_i32_3475 : BitVec 32 := 1#32
  let v4907 : BitVec 32 := Scalar.addi v4906 c1_i32_3475
  let v4908 : Index := Scalar.indexCast v4907
  ![v4908.toNat]
def k0_off1636 (v4909 : BitVec 32) : Fin 2 → Nat :=
  let c0_i32_3476 : BitVec 32 := 0#32
  ![v4909.toNat, 0]

def k0_chk818 (v4909 : BitVec 32) : Prop :=
  (∀ a, (k0_off1636 v4909) a + S1x1024.size a ≤ S37888x1024.size a)
theorem k0_off1636_inb : ∀ (v4909 : BitVec 32) (k0_hw818 : k0_chk818 v4909), ∀ a, (k0_off1636 v4909) a + S1x1024.size a ≤ S37888x1024.size a := fun v4909 k0_hw818 => k0_hw818

def k0_off1637 (i : grid0.Coords) : Fin 1 → Nat :=
  let arg0 : BitVec 32 := BitVec.ofNat 32 (i 0).val
  let c1024_i32 : BitVec 32 := 1024#32
  let v0 : BitVec 32 := Scalar.muli arg0 c1024_i32
  let c818_i32 : BitVec 32 := 818#32
  let v4912 : BitVec 32 := Scalar.addi v0 c818_i32
  let c0_i32_3479 : BitVec 32 := 0#32
  let v4913 : BitVec 32 := Scalar.addi v4912 c0_i32_3479
  let v4914 : Index := Scalar.indexCast v4913
  ![v4914.toNat]
def k0_off1638 (v4915 : BitVec 32) : Fin 2 → Nat :=
  let c0_i32_3480 : BitVec 32 := 0#32
  ![v4915.toNat, 0]

def k0_chk819 (v4915 : BitVec 32) : Prop :=
  (∀ a, (k0_off1638 v4915) a + S1x1024.size a ≤ S37888x1024.size a)
theorem k0_off1638_inb : ∀ (v4915 : BitVec 32) (k0_hw819 : k0_chk819 v4915), ∀ a, (k0_off1638 v4915) a + S1x1024.size a ≤ S37888x1024.size a := fun v4915 k0_hw819 => k0_hw819

def k0_off1639 (i : grid0.Coords) : Fin 1 → Nat :=
  let arg0 : BitVec 32 := BitVec.ofNat 32 (i 0).val
  let c1024_i32 : BitVec 32 := 1024#32
  let v0 : BitVec 32 := Scalar.muli arg0 c1024_i32
  let c818_i32_3482 : BitVec 32 := 818#32
  let v4918 : BitVec 32 := Scalar.addi v0 c818_i32_3482
  let c1_i32_3483 : BitVec 32 := 1#32
  let v4919 : BitVec 32 := Scalar.addi v4918 c1_i32_3483
  let v4920 : Index := Scalar.indexCast v4919
  ![v4920.toNat]
def k0_off1640 (v4921 : BitVec 32) : Fin 2 → Nat :=
  let c0_i32_3484 : BitVec 32 := 0#32
  ![v4921.toNat, 0]

def k0_chk820 (v4921 : BitVec 32) : Prop :=
  (∀ a, (k0_off1640 v4921) a + S1x1024.size a ≤ S37888x1024.size a)
theorem k0_off1640_inb : ∀ (v4921 : BitVec 32) (k0_hw820 : k0_chk820 v4921), ∀ a, (k0_off1640 v4921) a + S1x1024.size a ≤ S37888x1024.size a := fun v4921 k0_hw820 => k0_hw820

def k0_off1641 (i : grid0.Coords) : Fin 1 → Nat :=
  let arg0 : BitVec 32 := BitVec.ofNat 32 (i 0).val
  let c1024_i32 : BitVec 32 := 1024#32
  let v0 : BitVec 32 := Scalar.muli arg0 c1024_i32
  let c820_i32 : BitVec 32 := 820#32
  let v4924 : BitVec 32 := Scalar.addi v0 c820_i32
  let c0_i32_3487 : BitVec 32 := 0#32
  let v4925 : BitVec 32 := Scalar.addi v4924 c0_i32_3487
  let v4926 : Index := Scalar.indexCast v4925
  ![v4926.toNat]
def k0_off1642 (v4927 : BitVec 32) : Fin 2 → Nat :=
  let c0_i32_3488 : BitVec 32 := 0#32
  ![v4927.toNat, 0]

def k0_chk821 (v4927 : BitVec 32) : Prop :=
  (∀ a, (k0_off1642 v4927) a + S1x1024.size a ≤ S37888x1024.size a)
theorem k0_off1642_inb : ∀ (v4927 : BitVec 32) (k0_hw821 : k0_chk821 v4927), ∀ a, (k0_off1642 v4927) a + S1x1024.size a ≤ S37888x1024.size a := fun v4927 k0_hw821 => k0_hw821

def k0_off1643 (i : grid0.Coords) : Fin 1 → Nat :=
  let arg0 : BitVec 32 := BitVec.ofNat 32 (i 0).val
  let c1024_i32 : BitVec 32 := 1024#32
  let v0 : BitVec 32 := Scalar.muli arg0 c1024_i32
  let c820_i32_3491 : BitVec 32 := 820#32
  let v4930 : BitVec 32 := Scalar.addi v0 c820_i32_3491
  let c1_i32_3492 : BitVec 32 := 1#32
  let v4931 : BitVec 32 := Scalar.addi v4930 c1_i32_3492
  let v4932 : Index := Scalar.indexCast v4931
  ![v4932.toNat]
def k0_off1644 (v4933 : BitVec 32) : Fin 2 → Nat :=
  let c0_i32_3493 : BitVec 32 := 0#32
  ![v4933.toNat, 0]

def k0_chk822 (v4933 : BitVec 32) : Prop :=
  (∀ a, (k0_off1644 v4933) a + S1x1024.size a ≤ S37888x1024.size a)
theorem k0_off1644_inb : ∀ (v4933 : BitVec 32) (k0_hw822 : k0_chk822 v4933), ∀ a, (k0_off1644 v4933) a + S1x1024.size a ≤ S37888x1024.size a := fun v4933 k0_hw822 => k0_hw822

def k0_off1645 (i : grid0.Coords) : Fin 1 → Nat :=
  let arg0 : BitVec 32 := BitVec.ofNat 32 (i 0).val
  let c1024_i32 : BitVec 32 := 1024#32
  let v0 : BitVec 32 := Scalar.muli arg0 c1024_i32
  let c822_i32 : BitVec 32 := 822#32
  let v4936 : BitVec 32 := Scalar.addi v0 c822_i32
  let c0_i32_3496 : BitVec 32 := 0#32
  let v4937 : BitVec 32 := Scalar.addi v4936 c0_i32_3496
  let v4938 : Index := Scalar.indexCast v4937
  ![v4938.toNat]
def k0_off1646 (v4939 : BitVec 32) : Fin 2 → Nat :=
  let c0_i32_3497 : BitVec 32 := 0#32
  ![v4939.toNat, 0]

def k0_chk823 (v4939 : BitVec 32) : Prop :=
  (∀ a, (k0_off1646 v4939) a + S1x1024.size a ≤ S37888x1024.size a)
theorem k0_off1646_inb : ∀ (v4939 : BitVec 32) (k0_hw823 : k0_chk823 v4939), ∀ a, (k0_off1646 v4939) a + S1x1024.size a ≤ S37888x1024.size a := fun v4939 k0_hw823 => k0_hw823

def k0_off1647 (i : grid0.Coords) : Fin 1 → Nat :=
  let arg0 : BitVec 32 := BitVec.ofNat 32 (i 0).val
  let c1024_i32 : BitVec 32 := 1024#32
  let v0 : BitVec 32 := Scalar.muli arg0 c1024_i32
  let c822_i32_3499 : BitVec 32 := 822#32
  let v4942 : BitVec 32 := Scalar.addi v0 c822_i32_3499
  let c1_i32_3500 : BitVec 32 := 1#32
  let v4943 : BitVec 32 := Scalar.addi v4942 c1_i32_3500
  let v4944 : Index := Scalar.indexCast v4943
  ![v4944.toNat]
def k0_off1648 (v4945 : BitVec 32) : Fin 2 → Nat :=
  let c0_i32_3501 : BitVec 32 := 0#32
  ![v4945.toNat, 0]

def k0_chk824 (v4945 : BitVec 32) : Prop :=
  (∀ a, (k0_off1648 v4945) a + S1x1024.size a ≤ S37888x1024.size a)
theorem k0_off1648_inb : ∀ (v4945 : BitVec 32) (k0_hw824 : k0_chk824 v4945), ∀ a, (k0_off1648 v4945) a + S1x1024.size a ≤ S37888x1024.size a := fun v4945 k0_hw824 => k0_hw824

def k0_off1649 (i : grid0.Coords) : Fin 1 → Nat :=
  let arg0 : BitVec 32 := BitVec.ofNat 32 (i 0).val
  let c1024_i32 : BitVec 32 := 1024#32
  let v0 : BitVec 32 := Scalar.muli arg0 c1024_i32
  let c824_i32 : BitVec 32 := 824#32
  let v4948 : BitVec 32 := Scalar.addi v0 c824_i32
  let c0_i32_3504 : BitVec 32 := 0#32
  let v4949 : BitVec 32 := Scalar.addi v4948 c0_i32_3504
  let v4950 : Index := Scalar.indexCast v4949
  ![v4950.toNat]
def k0_off1650 (v4951 : BitVec 32) : Fin 2 → Nat :=
  let c0_i32_3505 : BitVec 32 := 0#32
  ![v4951.toNat, 0]

def k0_chk825 (v4951 : BitVec 32) : Prop :=
  (∀ a, (k0_off1650 v4951) a + S1x1024.size a ≤ S37888x1024.size a)
theorem k0_off1650_inb : ∀ (v4951 : BitVec 32) (k0_hw825 : k0_chk825 v4951), ∀ a, (k0_off1650 v4951) a + S1x1024.size a ≤ S37888x1024.size a := fun v4951 k0_hw825 => k0_hw825

def k0_off1651 (i : grid0.Coords) : Fin 1 → Nat :=
  let arg0 : BitVec 32 := BitVec.ofNat 32 (i 0).val
  let c1024_i32 : BitVec 32 := 1024#32
  let v0 : BitVec 32 := Scalar.muli arg0 c1024_i32
  let c824_i32_3508 : BitVec 32 := 824#32
  let v4954 : BitVec 32 := Scalar.addi v0 c824_i32_3508
  let c1_i32_3509 : BitVec 32 := 1#32
  let v4955 : BitVec 32 := Scalar.addi v4954 c1_i32_3509
  let v4956 : Index := Scalar.indexCast v4955
  ![v4956.toNat]
def k0_off1652 (v4957 : BitVec 32) : Fin 2 → Nat :=
  let c0_i32_3510 : BitVec 32 := 0#32
  ![v4957.toNat, 0]

def k0_chk826 (v4957 : BitVec 32) : Prop :=
  (∀ a, (k0_off1652 v4957) a + S1x1024.size a ≤ S37888x1024.size a)
theorem k0_off1652_inb : ∀ (v4957 : BitVec 32) (k0_hw826 : k0_chk826 v4957), ∀ a, (k0_off1652 v4957) a + S1x1024.size a ≤ S37888x1024.size a := fun v4957 k0_hw826 => k0_hw826

def k0_off1653 (i : grid0.Coords) : Fin 1 → Nat :=
  let arg0 : BitVec 32 := BitVec.ofNat 32 (i 0).val
  let c1024_i32 : BitVec 32 := 1024#32
  let v0 : BitVec 32 := Scalar.muli arg0 c1024_i32
  let c826_i32 : BitVec 32 := 826#32
  let v4960 : BitVec 32 := Scalar.addi v0 c826_i32
  let c0_i32_3513 : BitVec 32 := 0#32
  let v4961 : BitVec 32 := Scalar.addi v4960 c0_i32_3513
  let v4962 : Index := Scalar.indexCast v4961
  ![v4962.toNat]
def k0_off1654 (v4963 : BitVec 32) : Fin 2 → Nat :=
  let c0_i32_3514 : BitVec 32 := 0#32
  ![v4963.toNat, 0]

def k0_chk827 (v4963 : BitVec 32) : Prop :=
  (∀ a, (k0_off1654 v4963) a + S1x1024.size a ≤ S37888x1024.size a)
theorem k0_off1654_inb : ∀ (v4963 : BitVec 32) (k0_hw827 : k0_chk827 v4963), ∀ a, (k0_off1654 v4963) a + S1x1024.size a ≤ S37888x1024.size a := fun v4963 k0_hw827 => k0_hw827

def k0_off1655 (i : grid0.Coords) : Fin 1 → Nat :=
  let arg0 : BitVec 32 := BitVec.ofNat 32 (i 0).val
  let c1024_i32 : BitVec 32 := 1024#32
  let v0 : BitVec 32 := Scalar.muli arg0 c1024_i32
  let c826_i32_3516 : BitVec 32 := 826#32
  let v4966 : BitVec 32 := Scalar.addi v0 c826_i32_3516
  let c1_i32_3517 : BitVec 32 := 1#32
  let v4967 : BitVec 32 := Scalar.addi v4966 c1_i32_3517
  let v4968 : Index := Scalar.indexCast v4967
  ![v4968.toNat]
def k0_off1656 (v4969 : BitVec 32) : Fin 2 → Nat :=
  let c0_i32_3518 : BitVec 32 := 0#32
  ![v4969.toNat, 0]

def k0_chk828 (v4969 : BitVec 32) : Prop :=
  (∀ a, (k0_off1656 v4969) a + S1x1024.size a ≤ S37888x1024.size a)
theorem k0_off1656_inb : ∀ (v4969 : BitVec 32) (k0_hw828 : k0_chk828 v4969), ∀ a, (k0_off1656 v4969) a + S1x1024.size a ≤ S37888x1024.size a := fun v4969 k0_hw828 => k0_hw828

def k0_off1657 (i : grid0.Coords) : Fin 1 → Nat :=
  let arg0 : BitVec 32 := BitVec.ofNat 32 (i 0).val
  let c1024_i32 : BitVec 32 := 1024#32
  let v0 : BitVec 32 := Scalar.muli arg0 c1024_i32
  let c828_i32 : BitVec 32 := 828#32
  let v4972 : BitVec 32 := Scalar.addi v0 c828_i32
  let c0_i32_3521 : BitVec 32 := 0#32
  let v4973 : BitVec 32 := Scalar.addi v4972 c0_i32_3521
  let v4974 : Index := Scalar.indexCast v4973
  ![v4974.toNat]
def k0_off1658 (v4975 : BitVec 32) : Fin 2 → Nat :=
  let c0_i32_3522 : BitVec 32 := 0#32
  ![v4975.toNat, 0]

def k0_chk829 (v4975 : BitVec 32) : Prop :=
  (∀ a, (k0_off1658 v4975) a + S1x1024.size a ≤ S37888x1024.size a)
theorem k0_off1658_inb : ∀ (v4975 : BitVec 32) (k0_hw829 : k0_chk829 v4975), ∀ a, (k0_off1658 v4975) a + S1x1024.size a ≤ S37888x1024.size a := fun v4975 k0_hw829 => k0_hw829

def k0_off1659 (i : grid0.Coords) : Fin 1 → Nat :=
  let arg0 : BitVec 32 := BitVec.ofNat 32 (i 0).val
  let c1024_i32 : BitVec 32 := 1024#32
  let v0 : BitVec 32 := Scalar.muli arg0 c1024_i32
  let c828_i32_3525 : BitVec 32 := 828#32
  let v4978 : BitVec 32 := Scalar.addi v0 c828_i32_3525
  let c1_i32_3526 : BitVec 32 := 1#32
  let v4979 : BitVec 32 := Scalar.addi v4978 c1_i32_3526
  let v4980 : Index := Scalar.indexCast v4979
  ![v4980.toNat]
def k0_off1660 (v4981 : BitVec 32) : Fin 2 → Nat :=
  let c0_i32_3527 : BitVec 32 := 0#32
  ![v4981.toNat, 0]

def k0_chk830 (v4981 : BitVec 32) : Prop :=
  (∀ a, (k0_off1660 v4981) a + S1x1024.size a ≤ S37888x1024.size a)
theorem k0_off1660_inb : ∀ (v4981 : BitVec 32) (k0_hw830 : k0_chk830 v4981), ∀ a, (k0_off1660 v4981) a + S1x1024.size a ≤ S37888x1024.size a := fun v4981 k0_hw830 => k0_hw830

def k0_off1661 (i : grid0.Coords) : Fin 1 → Nat :=
  let arg0 : BitVec 32 := BitVec.ofNat 32 (i 0).val
  let c1024_i32 : BitVec 32 := 1024#32
  let v0 : BitVec 32 := Scalar.muli arg0 c1024_i32
  let c830_i32 : BitVec 32 := 830#32
  let v4984 : BitVec 32 := Scalar.addi v0 c830_i32
  let c0_i32_3530 : BitVec 32 := 0#32
  let v4985 : BitVec 32 := Scalar.addi v4984 c0_i32_3530
  let v4986 : Index := Scalar.indexCast v4985
  ![v4986.toNat]
def k0_off1662 (v4987 : BitVec 32) : Fin 2 → Nat :=
  let c0_i32_3531 : BitVec 32 := 0#32
  ![v4987.toNat, 0]

def k0_chk831 (v4987 : BitVec 32) : Prop :=
  (∀ a, (k0_off1662 v4987) a + S1x1024.size a ≤ S37888x1024.size a)
theorem k0_off1662_inb : ∀ (v4987 : BitVec 32) (k0_hw831 : k0_chk831 v4987), ∀ a, (k0_off1662 v4987) a + S1x1024.size a ≤ S37888x1024.size a := fun v4987 k0_hw831 => k0_hw831

def k0_off1663 (i : grid0.Coords) : Fin 1 → Nat :=
  let arg0 : BitVec 32 := BitVec.ofNat 32 (i 0).val
  let c1024_i32 : BitVec 32 := 1024#32
  let v0 : BitVec 32 := Scalar.muli arg0 c1024_i32
  let c830_i32_3533 : BitVec 32 := 830#32
  let v4990 : BitVec 32 := Scalar.addi v0 c830_i32_3533
  let c1_i32_3534 : BitVec 32 := 1#32
  let v4991 : BitVec 32 := Scalar.addi v4990 c1_i32_3534
  let v4992 : Index := Scalar.indexCast v4991
  ![v4992.toNat]
def k0_off1664 (v4993 : BitVec 32) : Fin 2 → Nat :=
  let c0_i32_3535 : BitVec 32 := 0#32
  ![v4993.toNat, 0]

def k0_chk832 (v4993 : BitVec 32) : Prop :=
  (∀ a, (k0_off1664 v4993) a + S1x1024.size a ≤ S37888x1024.size a)
theorem k0_off1664_inb : ∀ (v4993 : BitVec 32) (k0_hw832 : k0_chk832 v4993), ∀ a, (k0_off1664 v4993) a + S1x1024.size a ≤ S37888x1024.size a := fun v4993 k0_hw832 => k0_hw832

def k0_off1665 (i : grid0.Coords) : Fin 1 → Nat :=
  let arg0 : BitVec 32 := BitVec.ofNat 32 (i 0).val
  let c1024_i32 : BitVec 32 := 1024#32
  let v0 : BitVec 32 := Scalar.muli arg0 c1024_i32
  let c832_i32 : BitVec 32 := 832#32
  let v4996 : BitVec 32 := Scalar.addi v0 c832_i32
  let c0_i32_3538 : BitVec 32 := 0#32
  let v4997 : BitVec 32 := Scalar.addi v4996 c0_i32_3538
  let v4998 : Index := Scalar.indexCast v4997
  ![v4998.toNat]
def k0_off1666 (v4999 : BitVec 32) : Fin 2 → Nat :=
  let c0_i32_3539 : BitVec 32 := 0#32
  ![v4999.toNat, 0]

def k0_chk833 (v4999 : BitVec 32) : Prop :=
  (∀ a, (k0_off1666 v4999) a + S1x1024.size a ≤ S37888x1024.size a)
theorem k0_off1666_inb : ∀ (v4999 : BitVec 32) (k0_hw833 : k0_chk833 v4999), ∀ a, (k0_off1666 v4999) a + S1x1024.size a ≤ S37888x1024.size a := fun v4999 k0_hw833 => k0_hw833

def k0_off1667 (i : grid0.Coords) : Fin 1 → Nat :=
  let arg0 : BitVec 32 := BitVec.ofNat 32 (i 0).val
  let c1024_i32 : BitVec 32 := 1024#32
  let v0 : BitVec 32 := Scalar.muli arg0 c1024_i32
  let c832_i32_3542 : BitVec 32 := 832#32
  let v5002 : BitVec 32 := Scalar.addi v0 c832_i32_3542
  let c1_i32_3543 : BitVec 32 := 1#32
  let v5003 : BitVec 32 := Scalar.addi v5002 c1_i32_3543
  let v5004 : Index := Scalar.indexCast v5003
  ![v5004.toNat]
def k0_off1668 (v5005 : BitVec 32) : Fin 2 → Nat :=
  let c0_i32_3544 : BitVec 32 := 0#32
  ![v5005.toNat, 0]

def k0_chk834 (v5005 : BitVec 32) : Prop :=
  (∀ a, (k0_off1668 v5005) a + S1x1024.size a ≤ S37888x1024.size a)
theorem k0_off1668_inb : ∀ (v5005 : BitVec 32) (k0_hw834 : k0_chk834 v5005), ∀ a, (k0_off1668 v5005) a + S1x1024.size a ≤ S37888x1024.size a := fun v5005 k0_hw834 => k0_hw834

def k0_off1669 (i : grid0.Coords) : Fin 1 → Nat :=
  let arg0 : BitVec 32 := BitVec.ofNat 32 (i 0).val
  let c1024_i32 : BitVec 32 := 1024#32
  let v0 : BitVec 32 := Scalar.muli arg0 c1024_i32
  let c834_i32 : BitVec 32 := 834#32
  let v5008 : BitVec 32 := Scalar.addi v0 c834_i32
  let c0_i32_3547 : BitVec 32 := 0#32
  let v5009 : BitVec 32 := Scalar.addi v5008 c0_i32_3547
  let v5010 : Index := Scalar.indexCast v5009
  ![v5010.toNat]
def k0_off1670 (v5011 : BitVec 32) : Fin 2 → Nat :=
  let c0_i32_3548 : BitVec 32 := 0#32
  ![v5011.toNat, 0]

def k0_chk835 (v5011 : BitVec 32) : Prop :=
  (∀ a, (k0_off1670 v5011) a + S1x1024.size a ≤ S37888x1024.size a)
theorem k0_off1670_inb : ∀ (v5011 : BitVec 32) (k0_hw835 : k0_chk835 v5011), ∀ a, (k0_off1670 v5011) a + S1x1024.size a ≤ S37888x1024.size a := fun v5011 k0_hw835 => k0_hw835

def k0_off1671 (i : grid0.Coords) : Fin 1 → Nat :=
  let arg0 : BitVec 32 := BitVec.ofNat 32 (i 0).val
  let c1024_i32 : BitVec 32 := 1024#32
  let v0 : BitVec 32 := Scalar.muli arg0 c1024_i32
  let c834_i32_3550 : BitVec 32 := 834#32
  let v5014 : BitVec 32 := Scalar.addi v0 c834_i32_3550
  let c1_i32_3551 : BitVec 32 := 1#32
  let v5015 : BitVec 32 := Scalar.addi v5014 c1_i32_3551
  let v5016 : Index := Scalar.indexCast v5015
  ![v5016.toNat]
def k0_off1672 (v5017 : BitVec 32) : Fin 2 → Nat :=
  let c0_i32_3552 : BitVec 32 := 0#32
  ![v5017.toNat, 0]

def k0_chk836 (v5017 : BitVec 32) : Prop :=
  (∀ a, (k0_off1672 v5017) a + S1x1024.size a ≤ S37888x1024.size a)
theorem k0_off1672_inb : ∀ (v5017 : BitVec 32) (k0_hw836 : k0_chk836 v5017), ∀ a, (k0_off1672 v5017) a + S1x1024.size a ≤ S37888x1024.size a := fun v5017 k0_hw836 => k0_hw836

def k0_off1673 (i : grid0.Coords) : Fin 1 → Nat :=
  let arg0 : BitVec 32 := BitVec.ofNat 32 (i 0).val
  let c1024_i32 : BitVec 32 := 1024#32
  let v0 : BitVec 32 := Scalar.muli arg0 c1024_i32
  let c836_i32 : BitVec 32 := 836#32
  let v5020 : BitVec 32 := Scalar.addi v0 c836_i32
  let c0_i32_3555 : BitVec 32 := 0#32
  let v5021 : BitVec 32 := Scalar.addi v5020 c0_i32_3555
  let v5022 : Index := Scalar.indexCast v5021
  ![v5022.toNat]
def k0_off1674 (v5023 : BitVec 32) : Fin 2 → Nat :=
  let c0_i32_3556 : BitVec 32 := 0#32
  ![v5023.toNat, 0]

def k0_chk837 (v5023 : BitVec 32) : Prop :=
  (∀ a, (k0_off1674 v5023) a + S1x1024.size a ≤ S37888x1024.size a)
theorem k0_off1674_inb : ∀ (v5023 : BitVec 32) (k0_hw837 : k0_chk837 v5023), ∀ a, (k0_off1674 v5023) a + S1x1024.size a ≤ S37888x1024.size a := fun v5023 k0_hw837 => k0_hw837

def k0_off1675 (i : grid0.Coords) : Fin 1 → Nat :=
  let arg0 : BitVec 32 := BitVec.ofNat 32 (i 0).val
  let c1024_i32 : BitVec 32 := 1024#32
  let v0 : BitVec 32 := Scalar.muli arg0 c1024_i32
  let c836_i32_3559 : BitVec 32 := 836#32
  let v5026 : BitVec 32 := Scalar.addi v0 c836_i32_3559
  let c1_i32_3560 : BitVec 32 := 1#32
  let v5027 : BitVec 32 := Scalar.addi v5026 c1_i32_3560
  let v5028 : Index := Scalar.indexCast v5027
  ![v5028.toNat]
def k0_off1676 (v5029 : BitVec 32) : Fin 2 → Nat :=
  let c0_i32_3561 : BitVec 32 := 0#32
  ![v5029.toNat, 0]

def k0_chk838 (v5029 : BitVec 32) : Prop :=
  (∀ a, (k0_off1676 v5029) a + S1x1024.size a ≤ S37888x1024.size a)
theorem k0_off1676_inb : ∀ (v5029 : BitVec 32) (k0_hw838 : k0_chk838 v5029), ∀ a, (k0_off1676 v5029) a + S1x1024.size a ≤ S37888x1024.size a := fun v5029 k0_hw838 => k0_hw838

def k0_off1677 (i : grid0.Coords) : Fin 1 → Nat :=
  let arg0 : BitVec 32 := BitVec.ofNat 32 (i 0).val
  let c1024_i32 : BitVec 32 := 1024#32
  let v0 : BitVec 32 := Scalar.muli arg0 c1024_i32
  let c838_i32 : BitVec 32 := 838#32
  let v5032 : BitVec 32 := Scalar.addi v0 c838_i32
  let c0_i32_3564 : BitVec 32 := 0#32
  let v5033 : BitVec 32 := Scalar.addi v5032 c0_i32_3564
  let v5034 : Index := Scalar.indexCast v5033
  ![v5034.toNat]
def k0_off1678 (v5035 : BitVec 32) : Fin 2 → Nat :=
  let c0_i32_3565 : BitVec 32 := 0#32
  ![v5035.toNat, 0]

def k0_chk839 (v5035 : BitVec 32) : Prop :=
  (∀ a, (k0_off1678 v5035) a + S1x1024.size a ≤ S37888x1024.size a)
theorem k0_off1678_inb : ∀ (v5035 : BitVec 32) (k0_hw839 : k0_chk839 v5035), ∀ a, (k0_off1678 v5035) a + S1x1024.size a ≤ S37888x1024.size a := fun v5035 k0_hw839 => k0_hw839

def k0_off1679 (i : grid0.Coords) : Fin 1 → Nat :=
  let arg0 : BitVec 32 := BitVec.ofNat 32 (i 0).val
  let c1024_i32 : BitVec 32 := 1024#32
  let v0 : BitVec 32 := Scalar.muli arg0 c1024_i32
  let c838_i32_3567 : BitVec 32 := 838#32
  let v5038 : BitVec 32 := Scalar.addi v0 c838_i32_3567
  let c1_i32_3568 : BitVec 32 := 1#32
  let v5039 : BitVec 32 := Scalar.addi v5038 c1_i32_3568
  let v5040 : Index := Scalar.indexCast v5039
  ![v5040.toNat]
def k0_off1680 (v5041 : BitVec 32) : Fin 2 → Nat :=
  let c0_i32_3569 : BitVec 32 := 0#32
  ![v5041.toNat, 0]

def k0_chk840 (v5041 : BitVec 32) : Prop :=
  (∀ a, (k0_off1680 v5041) a + S1x1024.size a ≤ S37888x1024.size a)
theorem k0_off1680_inb : ∀ (v5041 : BitVec 32) (k0_hw840 : k0_chk840 v5041), ∀ a, (k0_off1680 v5041) a + S1x1024.size a ≤ S37888x1024.size a := fun v5041 k0_hw840 => k0_hw840

def k0_off1681 (i : grid0.Coords) : Fin 1 → Nat :=
  let arg0 : BitVec 32 := BitVec.ofNat 32 (i 0).val
  let c1024_i32 : BitVec 32 := 1024#32
  let v0 : BitVec 32 := Scalar.muli arg0 c1024_i32
  let c840_i32 : BitVec 32 := 840#32
  let v5044 : BitVec 32 := Scalar.addi v0 c840_i32
  let c0_i32_3572 : BitVec 32 := 0#32
  let v5045 : BitVec 32 := Scalar.addi v5044 c0_i32_3572
  let v5046 : Index := Scalar.indexCast v5045
  ![v5046.toNat]
def k0_off1682 (v5047 : BitVec 32) : Fin 2 → Nat :=
  let c0_i32_3573 : BitVec 32 := 0#32
  ![v5047.toNat, 0]

def k0_chk841 (v5047 : BitVec 32) : Prop :=
  (∀ a, (k0_off1682 v5047) a + S1x1024.size a ≤ S37888x1024.size a)
theorem k0_off1682_inb : ∀ (v5047 : BitVec 32) (k0_hw841 : k0_chk841 v5047), ∀ a, (k0_off1682 v5047) a + S1x1024.size a ≤ S37888x1024.size a := fun v5047 k0_hw841 => k0_hw841

def k0_off1683 (i : grid0.Coords) : Fin 1 → Nat :=
  let arg0 : BitVec 32 := BitVec.ofNat 32 (i 0).val
  let c1024_i32 : BitVec 32 := 1024#32
  let v0 : BitVec 32 := Scalar.muli arg0 c1024_i32
  let c840_i32_3576 : BitVec 32 := 840#32
  let v5050 : BitVec 32 := Scalar.addi v0 c840_i32_3576
  let c1_i32_3577 : BitVec 32 := 1#32
  let v5051 : BitVec 32 := Scalar.addi v5050 c1_i32_3577
  let v5052 : Index := Scalar.indexCast v5051
  ![v5052.toNat]
def k0_off1684 (v5053 : BitVec 32) : Fin 2 → Nat :=
  let c0_i32_3578 : BitVec 32 := 0#32
  ![v5053.toNat, 0]

def k0_chk842 (v5053 : BitVec 32) : Prop :=
  (∀ a, (k0_off1684 v5053) a + S1x1024.size a ≤ S37888x1024.size a)
theorem k0_off1684_inb : ∀ (v5053 : BitVec 32) (k0_hw842 : k0_chk842 v5053), ∀ a, (k0_off1684 v5053) a + S1x1024.size a ≤ S37888x1024.size a := fun v5053 k0_hw842 => k0_hw842

def k0_off1685 (i : grid0.Coords) : Fin 1 → Nat :=
  let arg0 : BitVec 32 := BitVec.ofNat 32 (i 0).val
  let c1024_i32 : BitVec 32 := 1024#32
  let v0 : BitVec 32 := Scalar.muli arg0 c1024_i32
  let c842_i32 : BitVec 32 := 842#32
  let v5056 : BitVec 32 := Scalar.addi v0 c842_i32
  let c0_i32_3581 : BitVec 32 := 0#32
  let v5057 : BitVec 32 := Scalar.addi v5056 c0_i32_3581
  let v5058 : Index := Scalar.indexCast v5057
  ![v5058.toNat]
def k0_off1686 (v5059 : BitVec 32) : Fin 2 → Nat :=
  let c0_i32_3582 : BitVec 32 := 0#32
  ![v5059.toNat, 0]

def k0_chk843 (v5059 : BitVec 32) : Prop :=
  (∀ a, (k0_off1686 v5059) a + S1x1024.size a ≤ S37888x1024.size a)
theorem k0_off1686_inb : ∀ (v5059 : BitVec 32) (k0_hw843 : k0_chk843 v5059), ∀ a, (k0_off1686 v5059) a + S1x1024.size a ≤ S37888x1024.size a := fun v5059 k0_hw843 => k0_hw843

def k0_off1687 (i : grid0.Coords) : Fin 1 → Nat :=
  let arg0 : BitVec 32 := BitVec.ofNat 32 (i 0).val
  let c1024_i32 : BitVec 32 := 1024#32
  let v0 : BitVec 32 := Scalar.muli arg0 c1024_i32
  let c842_i32_3584 : BitVec 32 := 842#32
  let v5062 : BitVec 32 := Scalar.addi v0 c842_i32_3584
  let c1_i32_3585 : BitVec 32 := 1#32
  let v5063 : BitVec 32 := Scalar.addi v5062 c1_i32_3585
  let v5064 : Index := Scalar.indexCast v5063
  ![v5064.toNat]
def k0_off1688 (v5065 : BitVec 32) : Fin 2 → Nat :=
  let c0_i32_3586 : BitVec 32 := 0#32
  ![v5065.toNat, 0]

def k0_chk844 (v5065 : BitVec 32) : Prop :=
  (∀ a, (k0_off1688 v5065) a + S1x1024.size a ≤ S37888x1024.size a)
theorem k0_off1688_inb : ∀ (v5065 : BitVec 32) (k0_hw844 : k0_chk844 v5065), ∀ a, (k0_off1688 v5065) a + S1x1024.size a ≤ S37888x1024.size a := fun v5065 k0_hw844 => k0_hw844

def k0_off1689 (i : grid0.Coords) : Fin 1 → Nat :=
  let arg0 : BitVec 32 := BitVec.ofNat 32 (i 0).val
  let c1024_i32 : BitVec 32 := 1024#32
  let v0 : BitVec 32 := Scalar.muli arg0 c1024_i32
  let c844_i32 : BitVec 32 := 844#32
  let v5068 : BitVec 32 := Scalar.addi v0 c844_i32
  let c0_i32_3589 : BitVec 32 := 0#32
  let v5069 : BitVec 32 := Scalar.addi v5068 c0_i32_3589
  let v5070 : Index := Scalar.indexCast v5069
  ![v5070.toNat]
def k0_off1690 (v5071 : BitVec 32) : Fin 2 → Nat :=
  let c0_i32_3590 : BitVec 32 := 0#32
  ![v5071.toNat, 0]

def k0_chk845 (v5071 : BitVec 32) : Prop :=
  (∀ a, (k0_off1690 v5071) a + S1x1024.size a ≤ S37888x1024.size a)
theorem k0_off1690_inb : ∀ (v5071 : BitVec 32) (k0_hw845 : k0_chk845 v5071), ∀ a, (k0_off1690 v5071) a + S1x1024.size a ≤ S37888x1024.size a := fun v5071 k0_hw845 => k0_hw845

def k0_off1691 (i : grid0.Coords) : Fin 1 → Nat :=
  let arg0 : BitVec 32 := BitVec.ofNat 32 (i 0).val
  let c1024_i32 : BitVec 32 := 1024#32
  let v0 : BitVec 32 := Scalar.muli arg0 c1024_i32
  let c844_i32_3593 : BitVec 32 := 844#32
  let v5074 : BitVec 32 := Scalar.addi v0 c844_i32_3593
  let c1_i32_3594 : BitVec 32 := 1#32
  let v5075 : BitVec 32 := Scalar.addi v5074 c1_i32_3594
  let v5076 : Index := Scalar.indexCast v5075
  ![v5076.toNat]
def k0_off1692 (v5077 : BitVec 32) : Fin 2 → Nat :=
  let c0_i32_3595 : BitVec 32 := 0#32
  ![v5077.toNat, 0]

def k0_chk846 (v5077 : BitVec 32) : Prop :=
  (∀ a, (k0_off1692 v5077) a + S1x1024.size a ≤ S37888x1024.size a)
theorem k0_off1692_inb : ∀ (v5077 : BitVec 32) (k0_hw846 : k0_chk846 v5077), ∀ a, (k0_off1692 v5077) a + S1x1024.size a ≤ S37888x1024.size a := fun v5077 k0_hw846 => k0_hw846

def k0_off1693 (i : grid0.Coords) : Fin 1 → Nat :=
  let arg0 : BitVec 32 := BitVec.ofNat 32 (i 0).val
  let c1024_i32 : BitVec 32 := 1024#32
  let v0 : BitVec 32 := Scalar.muli arg0 c1024_i32
  let c846_i32 : BitVec 32 := 846#32
  let v5080 : BitVec 32 := Scalar.addi v0 c846_i32
  let c0_i32_3598 : BitVec 32 := 0#32
  let v5081 : BitVec 32 := Scalar.addi v5080 c0_i32_3598
  let v5082 : Index := Scalar.indexCast v5081
  ![v5082.toNat]
def k0_off1694 (v5083 : BitVec 32) : Fin 2 → Nat :=
  let c0_i32_3599 : BitVec 32 := 0#32
  ![v5083.toNat, 0]

def k0_chk847 (v5083 : BitVec 32) : Prop :=
  (∀ a, (k0_off1694 v5083) a + S1x1024.size a ≤ S37888x1024.size a)
theorem k0_off1694_inb : ∀ (v5083 : BitVec 32) (k0_hw847 : k0_chk847 v5083), ∀ a, (k0_off1694 v5083) a + S1x1024.size a ≤ S37888x1024.size a := fun v5083 k0_hw847 => k0_hw847

def k0_off1695 (i : grid0.Coords) : Fin 1 → Nat :=
  let arg0 : BitVec 32 := BitVec.ofNat 32 (i 0).val
  let c1024_i32 : BitVec 32 := 1024#32
  let v0 : BitVec 32 := Scalar.muli arg0 c1024_i32
  let c846_i32_3601 : BitVec 32 := 846#32
  let v5086 : BitVec 32 := Scalar.addi v0 c846_i32_3601
  let c1_i32_3602 : BitVec 32 := 1#32
  let v5087 : BitVec 32 := Scalar.addi v5086 c1_i32_3602
  let v5088 : Index := Scalar.indexCast v5087
  ![v5088.toNat]
def k0_off1696 (v5089 : BitVec 32) : Fin 2 → Nat :=
  let c0_i32_3603 : BitVec 32 := 0#32
  ![v5089.toNat, 0]

def k0_chk848 (v5089 : BitVec 32) : Prop :=
  (∀ a, (k0_off1696 v5089) a + S1x1024.size a ≤ S37888x1024.size a)
theorem k0_off1696_inb : ∀ (v5089 : BitVec 32) (k0_hw848 : k0_chk848 v5089), ∀ a, (k0_off1696 v5089) a + S1x1024.size a ≤ S37888x1024.size a := fun v5089 k0_hw848 => k0_hw848

def k0_off1697 (i : grid0.Coords) : Fin 1 → Nat :=
  let arg0 : BitVec 32 := BitVec.ofNat 32 (i 0).val
  let c1024_i32 : BitVec 32 := 1024#32
  let v0 : BitVec 32 := Scalar.muli arg0 c1024_i32
  let c848_i32 : BitVec 32 := 848#32
  let v5092 : BitVec 32 := Scalar.addi v0 c848_i32
  let c0_i32_3606 : BitVec 32 := 0#32
  let v5093 : BitVec 32 := Scalar.addi v5092 c0_i32_3606
  let v5094 : Index := Scalar.indexCast v5093
  ![v5094.toNat]
def k0_off1698 (v5095 : BitVec 32) : Fin 2 → Nat :=
  let c0_i32_3607 : BitVec 32 := 0#32
  ![v5095.toNat, 0]

def k0_chk849 (v5095 : BitVec 32) : Prop :=
  (∀ a, (k0_off1698 v5095) a + S1x1024.size a ≤ S37888x1024.size a)
theorem k0_off1698_inb : ∀ (v5095 : BitVec 32) (k0_hw849 : k0_chk849 v5095), ∀ a, (k0_off1698 v5095) a + S1x1024.size a ≤ S37888x1024.size a := fun v5095 k0_hw849 => k0_hw849

def k0_off1699 (i : grid0.Coords) : Fin 1 → Nat :=
  let arg0 : BitVec 32 := BitVec.ofNat 32 (i 0).val
  let c1024_i32 : BitVec 32 := 1024#32
  let v0 : BitVec 32 := Scalar.muli arg0 c1024_i32
  let c848_i32_3610 : BitVec 32 := 848#32
  let v5098 : BitVec 32 := Scalar.addi v0 c848_i32_3610
  let c1_i32_3611 : BitVec 32 := 1#32
  let v5099 : BitVec 32 := Scalar.addi v5098 c1_i32_3611
  let v5100 : Index := Scalar.indexCast v5099
  ![v5100.toNat]
def k0_off1700 (v5101 : BitVec 32) : Fin 2 → Nat :=
  let c0_i32_3612 : BitVec 32 := 0#32
  ![v5101.toNat, 0]

def k0_chk850 (v5101 : BitVec 32) : Prop :=
  (∀ a, (k0_off1700 v5101) a + S1x1024.size a ≤ S37888x1024.size a)
theorem k0_off1700_inb : ∀ (v5101 : BitVec 32) (k0_hw850 : k0_chk850 v5101), ∀ a, (k0_off1700 v5101) a + S1x1024.size a ≤ S37888x1024.size a := fun v5101 k0_hw850 => k0_hw850

def k0_off1701 (i : grid0.Coords) : Fin 1 → Nat :=
  let arg0 : BitVec 32 := BitVec.ofNat 32 (i 0).val
  let c1024_i32 : BitVec 32 := 1024#32
  let v0 : BitVec 32 := Scalar.muli arg0 c1024_i32
  let c850_i32 : BitVec 32 := 850#32
  let v5104 : BitVec 32 := Scalar.addi v0 c850_i32
  let c0_i32_3615 : BitVec 32 := 0#32
  let v5105 : BitVec 32 := Scalar.addi v5104 c0_i32_3615
  let v5106 : Index := Scalar.indexCast v5105
  ![v5106.toNat]
def k0_off1702 (v5107 : BitVec 32) : Fin 2 → Nat :=
  let c0_i32_3616 : BitVec 32 := 0#32
  ![v5107.toNat, 0]

def k0_chk851 (v5107 : BitVec 32) : Prop :=
  (∀ a, (k0_off1702 v5107) a + S1x1024.size a ≤ S37888x1024.size a)
theorem k0_off1702_inb : ∀ (v5107 : BitVec 32) (k0_hw851 : k0_chk851 v5107), ∀ a, (k0_off1702 v5107) a + S1x1024.size a ≤ S37888x1024.size a := fun v5107 k0_hw851 => k0_hw851

def k0_off1703 (i : grid0.Coords) : Fin 1 → Nat :=
  let arg0 : BitVec 32 := BitVec.ofNat 32 (i 0).val
  let c1024_i32 : BitVec 32 := 1024#32
  let v0 : BitVec 32 := Scalar.muli arg0 c1024_i32
  let c850_i32_3618 : BitVec 32 := 850#32
  let v5110 : BitVec 32 := Scalar.addi v0 c850_i32_3618
  let c1_i32_3619 : BitVec 32 := 1#32
  let v5111 : BitVec 32 := Scalar.addi v5110 c1_i32_3619
  let v5112 : Index := Scalar.indexCast v5111
  ![v5112.toNat]
def k0_off1704 (v5113 : BitVec 32) : Fin 2 → Nat :=
  let c0_i32_3620 : BitVec 32 := 0#32
  ![v5113.toNat, 0]

def k0_chk852 (v5113 : BitVec 32) : Prop :=
  (∀ a, (k0_off1704 v5113) a + S1x1024.size a ≤ S37888x1024.size a)
theorem k0_off1704_inb : ∀ (v5113 : BitVec 32) (k0_hw852 : k0_chk852 v5113), ∀ a, (k0_off1704 v5113) a + S1x1024.size a ≤ S37888x1024.size a := fun v5113 k0_hw852 => k0_hw852

def k0_off1705 (i : grid0.Coords) : Fin 1 → Nat :=
  let arg0 : BitVec 32 := BitVec.ofNat 32 (i 0).val
  let c1024_i32 : BitVec 32 := 1024#32
  let v0 : BitVec 32 := Scalar.muli arg0 c1024_i32
  let c852_i32 : BitVec 32 := 852#32
  let v5116 : BitVec 32 := Scalar.addi v0 c852_i32
  let c0_i32_3623 : BitVec 32 := 0#32
  let v5117 : BitVec 32 := Scalar.addi v5116 c0_i32_3623
  let v5118 : Index := Scalar.indexCast v5117
  ![v5118.toNat]
def k0_off1706 (v5119 : BitVec 32) : Fin 2 → Nat :=
  let c0_i32_3624 : BitVec 32 := 0#32
  ![v5119.toNat, 0]

def k0_chk853 (v5119 : BitVec 32) : Prop :=
  (∀ a, (k0_off1706 v5119) a + S1x1024.size a ≤ S37888x1024.size a)
theorem k0_off1706_inb : ∀ (v5119 : BitVec 32) (k0_hw853 : k0_chk853 v5119), ∀ a, (k0_off1706 v5119) a + S1x1024.size a ≤ S37888x1024.size a := fun v5119 k0_hw853 => k0_hw853

def k0_off1707 (i : grid0.Coords) : Fin 1 → Nat :=
  let arg0 : BitVec 32 := BitVec.ofNat 32 (i 0).val
  let c1024_i32 : BitVec 32 := 1024#32
  let v0 : BitVec 32 := Scalar.muli arg0 c1024_i32
  let c852_i32_3627 : BitVec 32 := 852#32
  let v5122 : BitVec 32 := Scalar.addi v0 c852_i32_3627
  let c1_i32_3628 : BitVec 32 := 1#32
  let v5123 : BitVec 32 := Scalar.addi v5122 c1_i32_3628
  let v5124 : Index := Scalar.indexCast v5123
  ![v5124.toNat]
def k0_off1708 (v5125 : BitVec 32) : Fin 2 → Nat :=
  let c0_i32_3629 : BitVec 32 := 0#32
  ![v5125.toNat, 0]

def k0_chk854 (v5125 : BitVec 32) : Prop :=
  (∀ a, (k0_off1708 v5125) a + S1x1024.size a ≤ S37888x1024.size a)
theorem k0_off1708_inb : ∀ (v5125 : BitVec 32) (k0_hw854 : k0_chk854 v5125), ∀ a, (k0_off1708 v5125) a + S1x1024.size a ≤ S37888x1024.size a := fun v5125 k0_hw854 => k0_hw854

def k0_off1709 (i : grid0.Coords) : Fin 1 → Nat :=
  let arg0 : BitVec 32 := BitVec.ofNat 32 (i 0).val
  let c1024_i32 : BitVec 32 := 1024#32
  let v0 : BitVec 32 := Scalar.muli arg0 c1024_i32
  let c854_i32 : BitVec 32 := 854#32
  let v5128 : BitVec 32 := Scalar.addi v0 c854_i32
  let c0_i32_3632 : BitVec 32 := 0#32
  let v5129 : BitVec 32 := Scalar.addi v5128 c0_i32_3632
  let v5130 : Index := Scalar.indexCast v5129
  ![v5130.toNat]
def k0_off1710 (v5131 : BitVec 32) : Fin 2 → Nat :=
  let c0_i32_3633 : BitVec 32 := 0#32
  ![v5131.toNat, 0]

def k0_chk855 (v5131 : BitVec 32) : Prop :=
  (∀ a, (k0_off1710 v5131) a + S1x1024.size a ≤ S37888x1024.size a)
theorem k0_off1710_inb : ∀ (v5131 : BitVec 32) (k0_hw855 : k0_chk855 v5131), ∀ a, (k0_off1710 v5131) a + S1x1024.size a ≤ S37888x1024.size a := fun v5131 k0_hw855 => k0_hw855

def k0_off1711 (i : grid0.Coords) : Fin 1 → Nat :=
  let arg0 : BitVec 32 := BitVec.ofNat 32 (i 0).val
  let c1024_i32 : BitVec 32 := 1024#32
  let v0 : BitVec 32 := Scalar.muli arg0 c1024_i32
  let c854_i32_3635 : BitVec 32 := 854#32
  let v5134 : BitVec 32 := Scalar.addi v0 c854_i32_3635
  let c1_i32_3636 : BitVec 32 := 1#32
  let v5135 : BitVec 32 := Scalar.addi v5134 c1_i32_3636
  let v5136 : Index := Scalar.indexCast v5135
  ![v5136.toNat]
def k0_off1712 (v5137 : BitVec 32) : Fin 2 → Nat :=
  let c0_i32_3637 : BitVec 32 := 0#32
  ![v5137.toNat, 0]

def k0_chk856 (v5137 : BitVec 32) : Prop :=
  (∀ a, (k0_off1712 v5137) a + S1x1024.size a ≤ S37888x1024.size a)
theorem k0_off1712_inb : ∀ (v5137 : BitVec 32) (k0_hw856 : k0_chk856 v5137), ∀ a, (k0_off1712 v5137) a + S1x1024.size a ≤ S37888x1024.size a := fun v5137 k0_hw856 => k0_hw856

def k0_off1713 (i : grid0.Coords) : Fin 1 → Nat :=
  let arg0 : BitVec 32 := BitVec.ofNat 32 (i 0).val
  let c1024_i32 : BitVec 32 := 1024#32
  let v0 : BitVec 32 := Scalar.muli arg0 c1024_i32
  let c856_i32 : BitVec 32 := 856#32
  let v5140 : BitVec 32 := Scalar.addi v0 c856_i32
  let c0_i32_3640 : BitVec 32 := 0#32
  let v5141 : BitVec 32 := Scalar.addi v5140 c0_i32_3640
  let v5142 : Index := Scalar.indexCast v5141
  ![v5142.toNat]
def k0_off1714 (v5143 : BitVec 32) : Fin 2 → Nat :=
  let c0_i32_3641 : BitVec 32 := 0#32
  ![v5143.toNat, 0]

def k0_chk857 (v5143 : BitVec 32) : Prop :=
  (∀ a, (k0_off1714 v5143) a + S1x1024.size a ≤ S37888x1024.size a)
theorem k0_off1714_inb : ∀ (v5143 : BitVec 32) (k0_hw857 : k0_chk857 v5143), ∀ a, (k0_off1714 v5143) a + S1x1024.size a ≤ S37888x1024.size a := fun v5143 k0_hw857 => k0_hw857

def k0_off1715 (i : grid0.Coords) : Fin 1 → Nat :=
  let arg0 : BitVec 32 := BitVec.ofNat 32 (i 0).val
  let c1024_i32 : BitVec 32 := 1024#32
  let v0 : BitVec 32 := Scalar.muli arg0 c1024_i32
  let c856_i32_3644 : BitVec 32 := 856#32
  let v5146 : BitVec 32 := Scalar.addi v0 c856_i32_3644
  let c1_i32_3645 : BitVec 32 := 1#32
  let v5147 : BitVec 32 := Scalar.addi v5146 c1_i32_3645
  let v5148 : Index := Scalar.indexCast v5147
  ![v5148.toNat]
def k0_off1716 (v5149 : BitVec 32) : Fin 2 → Nat :=
  let c0_i32_3646 : BitVec 32 := 0#32
  ![v5149.toNat, 0]

def k0_chk858 (v5149 : BitVec 32) : Prop :=
  (∀ a, (k0_off1716 v5149) a + S1x1024.size a ≤ S37888x1024.size a)
theorem k0_off1716_inb : ∀ (v5149 : BitVec 32) (k0_hw858 : k0_chk858 v5149), ∀ a, (k0_off1716 v5149) a + S1x1024.size a ≤ S37888x1024.size a := fun v5149 k0_hw858 => k0_hw858

def k0_off1717 (i : grid0.Coords) : Fin 1 → Nat :=
  let arg0 : BitVec 32 := BitVec.ofNat 32 (i 0).val
  let c1024_i32 : BitVec 32 := 1024#32
  let v0 : BitVec 32 := Scalar.muli arg0 c1024_i32
  let c858_i32 : BitVec 32 := 858#32
  let v5152 : BitVec 32 := Scalar.addi v0 c858_i32
  let c0_i32_3649 : BitVec 32 := 0#32
  let v5153 : BitVec 32 := Scalar.addi v5152 c0_i32_3649
  let v5154 : Index := Scalar.indexCast v5153
  ![v5154.toNat]
def k0_off1718 (v5155 : BitVec 32) : Fin 2 → Nat :=
  let c0_i32_3650 : BitVec 32 := 0#32
  ![v5155.toNat, 0]

def k0_chk859 (v5155 : BitVec 32) : Prop :=
  (∀ a, (k0_off1718 v5155) a + S1x1024.size a ≤ S37888x1024.size a)
theorem k0_off1718_inb : ∀ (v5155 : BitVec 32) (k0_hw859 : k0_chk859 v5155), ∀ a, (k0_off1718 v5155) a + S1x1024.size a ≤ S37888x1024.size a := fun v5155 k0_hw859 => k0_hw859

def k0_off1719 (i : grid0.Coords) : Fin 1 → Nat :=
  let arg0 : BitVec 32 := BitVec.ofNat 32 (i 0).val
  let c1024_i32 : BitVec 32 := 1024#32
  let v0 : BitVec 32 := Scalar.muli arg0 c1024_i32
  let c858_i32_3652 : BitVec 32 := 858#32
  let v5158 : BitVec 32 := Scalar.addi v0 c858_i32_3652
  let c1_i32_3653 : BitVec 32 := 1#32
  let v5159 : BitVec 32 := Scalar.addi v5158 c1_i32_3653
  let v5160 : Index := Scalar.indexCast v5159
  ![v5160.toNat]
def k0_off1720 (v5161 : BitVec 32) : Fin 2 → Nat :=
  let c0_i32_3654 : BitVec 32 := 0#32
  ![v5161.toNat, 0]

def k0_chk860 (v5161 : BitVec 32) : Prop :=
  (∀ a, (k0_off1720 v5161) a + S1x1024.size a ≤ S37888x1024.size a)
theorem k0_off1720_inb : ∀ (v5161 : BitVec 32) (k0_hw860 : k0_chk860 v5161), ∀ a, (k0_off1720 v5161) a + S1x1024.size a ≤ S37888x1024.size a := fun v5161 k0_hw860 => k0_hw860

def k0_off1721 (i : grid0.Coords) : Fin 1 → Nat :=
  let arg0 : BitVec 32 := BitVec.ofNat 32 (i 0).val
  let c1024_i32 : BitVec 32 := 1024#32
  let v0 : BitVec 32 := Scalar.muli arg0 c1024_i32
  let c860_i32 : BitVec 32 := 860#32
  let v5164 : BitVec 32 := Scalar.addi v0 c860_i32
  let c0_i32_3657 : BitVec 32 := 0#32
  let v5165 : BitVec 32 := Scalar.addi v5164 c0_i32_3657
  let v5166 : Index := Scalar.indexCast v5165
  ![v5166.toNat]
def k0_off1722 (v5167 : BitVec 32) : Fin 2 → Nat :=
  let c0_i32_3658 : BitVec 32 := 0#32
  ![v5167.toNat, 0]

def k0_chk861 (v5167 : BitVec 32) : Prop :=
  (∀ a, (k0_off1722 v5167) a + S1x1024.size a ≤ S37888x1024.size a)
theorem k0_off1722_inb : ∀ (v5167 : BitVec 32) (k0_hw861 : k0_chk861 v5167), ∀ a, (k0_off1722 v5167) a + S1x1024.size a ≤ S37888x1024.size a := fun v5167 k0_hw861 => k0_hw861

def k0_off1723 (i : grid0.Coords) : Fin 1 → Nat :=
  let arg0 : BitVec 32 := BitVec.ofNat 32 (i 0).val
  let c1024_i32 : BitVec 32 := 1024#32
  let v0 : BitVec 32 := Scalar.muli arg0 c1024_i32
  let c860_i32_3661 : BitVec 32 := 860#32
  let v5170 : BitVec 32 := Scalar.addi v0 c860_i32_3661
  let c1_i32_3662 : BitVec 32 := 1#32
  let v5171 : BitVec 32 := Scalar.addi v5170 c1_i32_3662
  let v5172 : Index := Scalar.indexCast v5171
  ![v5172.toNat]
def k0_off1724 (v5173 : BitVec 32) : Fin 2 → Nat :=
  let c0_i32_3663 : BitVec 32 := 0#32
  ![v5173.toNat, 0]

def k0_chk862 (v5173 : BitVec 32) : Prop :=
  (∀ a, (k0_off1724 v5173) a + S1x1024.size a ≤ S37888x1024.size a)
theorem k0_off1724_inb : ∀ (v5173 : BitVec 32) (k0_hw862 : k0_chk862 v5173), ∀ a, (k0_off1724 v5173) a + S1x1024.size a ≤ S37888x1024.size a := fun v5173 k0_hw862 => k0_hw862

def k0_off1725 (i : grid0.Coords) : Fin 1 → Nat :=
  let arg0 : BitVec 32 := BitVec.ofNat 32 (i 0).val
  let c1024_i32 : BitVec 32 := 1024#32
  let v0 : BitVec 32 := Scalar.muli arg0 c1024_i32
  let c862_i32 : BitVec 32 := 862#32
  let v5176 : BitVec 32 := Scalar.addi v0 c862_i32
  let c0_i32_3666 : BitVec 32 := 0#32
  let v5177 : BitVec 32 := Scalar.addi v5176 c0_i32_3666
  let v5178 : Index := Scalar.indexCast v5177
  ![v5178.toNat]
def k0_off1726 (v5179 : BitVec 32) : Fin 2 → Nat :=
  let c0_i32_3667 : BitVec 32 := 0#32
  ![v5179.toNat, 0]

def k0_chk863 (v5179 : BitVec 32) : Prop :=
  (∀ a, (k0_off1726 v5179) a + S1x1024.size a ≤ S37888x1024.size a)
theorem k0_off1726_inb : ∀ (v5179 : BitVec 32) (k0_hw863 : k0_chk863 v5179), ∀ a, (k0_off1726 v5179) a + S1x1024.size a ≤ S37888x1024.size a := fun v5179 k0_hw863 => k0_hw863

def k0_off1727 (i : grid0.Coords) : Fin 1 → Nat :=
  let arg0 : BitVec 32 := BitVec.ofNat 32 (i 0).val
  let c1024_i32 : BitVec 32 := 1024#32
  let v0 : BitVec 32 := Scalar.muli arg0 c1024_i32
  let c862_i32_3669 : BitVec 32 := 862#32
  let v5182 : BitVec 32 := Scalar.addi v0 c862_i32_3669
  let c1_i32_3670 : BitVec 32 := 1#32
  let v5183 : BitVec 32 := Scalar.addi v5182 c1_i32_3670
  let v5184 : Index := Scalar.indexCast v5183
  ![v5184.toNat]
def k0_off1728 (v5185 : BitVec 32) : Fin 2 → Nat :=
  let c0_i32_3671 : BitVec 32 := 0#32
  ![v5185.toNat, 0]

def k0_chk864 (v5185 : BitVec 32) : Prop :=
  (∀ a, (k0_off1728 v5185) a + S1x1024.size a ≤ S37888x1024.size a)
theorem k0_off1728_inb : ∀ (v5185 : BitVec 32) (k0_hw864 : k0_chk864 v5185), ∀ a, (k0_off1728 v5185) a + S1x1024.size a ≤ S37888x1024.size a := fun v5185 k0_hw864 => k0_hw864

def k0_off1729 (i : grid0.Coords) : Fin 1 → Nat :=
  let arg0 : BitVec 32 := BitVec.ofNat 32 (i 0).val
  let c1024_i32 : BitVec 32 := 1024#32
  let v0 : BitVec 32 := Scalar.muli arg0 c1024_i32
  let c864_i32 : BitVec 32 := 864#32
  let v5188 : BitVec 32 := Scalar.addi v0 c864_i32
  let c0_i32_3674 : BitVec 32 := 0#32
  let v5189 : BitVec 32 := Scalar.addi v5188 c0_i32_3674
  let v5190 : Index := Scalar.indexCast v5189
  ![v5190.toNat]
def k0_off1730 (v5191 : BitVec 32) : Fin 2 → Nat :=
  let c0_i32_3675 : BitVec 32 := 0#32
  ![v5191.toNat, 0]

def k0_chk865 (v5191 : BitVec 32) : Prop :=
  (∀ a, (k0_off1730 v5191) a + S1x1024.size a ≤ S37888x1024.size a)
theorem k0_off1730_inb : ∀ (v5191 : BitVec 32) (k0_hw865 : k0_chk865 v5191), ∀ a, (k0_off1730 v5191) a + S1x1024.size a ≤ S37888x1024.size a := fun v5191 k0_hw865 => k0_hw865

def k0_off1731 (i : grid0.Coords) : Fin 1 → Nat :=
  let arg0 : BitVec 32 := BitVec.ofNat 32 (i 0).val
  let c1024_i32 : BitVec 32 := 1024#32
  let v0 : BitVec 32 := Scalar.muli arg0 c1024_i32
  let c864_i32_3678 : BitVec 32 := 864#32
  let v5194 : BitVec 32 := Scalar.addi v0 c864_i32_3678
  let c1_i32_3679 : BitVec 32 := 1#32
  let v5195 : BitVec 32 := Scalar.addi v5194 c1_i32_3679
  let v5196 : Index := Scalar.indexCast v5195
  ![v5196.toNat]
def k0_off1732 (v5197 : BitVec 32) : Fin 2 → Nat :=
  let c0_i32_3680 : BitVec 32 := 0#32
  ![v5197.toNat, 0]

def k0_chk866 (v5197 : BitVec 32) : Prop :=
  (∀ a, (k0_off1732 v5197) a + S1x1024.size a ≤ S37888x1024.size a)
theorem k0_off1732_inb : ∀ (v5197 : BitVec 32) (k0_hw866 : k0_chk866 v5197), ∀ a, (k0_off1732 v5197) a + S1x1024.size a ≤ S37888x1024.size a := fun v5197 k0_hw866 => k0_hw866

def k0_off1733 (i : grid0.Coords) : Fin 1 → Nat :=
  let arg0 : BitVec 32 := BitVec.ofNat 32 (i 0).val
  let c1024_i32 : BitVec 32 := 1024#32
  let v0 : BitVec 32 := Scalar.muli arg0 c1024_i32
  let c866_i32 : BitVec 32 := 866#32
  let v5200 : BitVec 32 := Scalar.addi v0 c866_i32
  let c0_i32_3683 : BitVec 32 := 0#32
  let v5201 : BitVec 32 := Scalar.addi v5200 c0_i32_3683
  let v5202 : Index := Scalar.indexCast v5201
  ![v5202.toNat]
def k0_off1734 (v5203 : BitVec 32) : Fin 2 → Nat :=
  let c0_i32_3684 : BitVec 32 := 0#32
  ![v5203.toNat, 0]

def k0_chk867 (v5203 : BitVec 32) : Prop :=
  (∀ a, (k0_off1734 v5203) a + S1x1024.size a ≤ S37888x1024.size a)
theorem k0_off1734_inb : ∀ (v5203 : BitVec 32) (k0_hw867 : k0_chk867 v5203), ∀ a, (k0_off1734 v5203) a + S1x1024.size a ≤ S37888x1024.size a := fun v5203 k0_hw867 => k0_hw867

def k0_off1735 (i : grid0.Coords) : Fin 1 → Nat :=
  let arg0 : BitVec 32 := BitVec.ofNat 32 (i 0).val
  let c1024_i32 : BitVec 32 := 1024#32
  let v0 : BitVec 32 := Scalar.muli arg0 c1024_i32
  let c866_i32_3686 : BitVec 32 := 866#32
  let v5206 : BitVec 32 := Scalar.addi v0 c866_i32_3686
  let c1_i32_3687 : BitVec 32 := 1#32
  let v5207 : BitVec 32 := Scalar.addi v5206 c1_i32_3687
  let v5208 : Index := Scalar.indexCast v5207
  ![v5208.toNat]
def k0_off1736 (v5209 : BitVec 32) : Fin 2 → Nat :=
  let c0_i32_3688 : BitVec 32 := 0#32
  ![v5209.toNat, 0]

def k0_chk868 (v5209 : BitVec 32) : Prop :=
  (∀ a, (k0_off1736 v5209) a + S1x1024.size a ≤ S37888x1024.size a)
theorem k0_off1736_inb : ∀ (v5209 : BitVec 32) (k0_hw868 : k0_chk868 v5209), ∀ a, (k0_off1736 v5209) a + S1x1024.size a ≤ S37888x1024.size a := fun v5209 k0_hw868 => k0_hw868

def k0_off1737 (i : grid0.Coords) : Fin 1 → Nat :=
  let arg0 : BitVec 32 := BitVec.ofNat 32 (i 0).val
  let c1024_i32 : BitVec 32 := 1024#32
  let v0 : BitVec 32 := Scalar.muli arg0 c1024_i32
  let c868_i32 : BitVec 32 := 868#32
  let v5212 : BitVec 32 := Scalar.addi v0 c868_i32
  let c0_i32_3691 : BitVec 32 := 0#32
  let v5213 : BitVec 32 := Scalar.addi v5212 c0_i32_3691
  let v5214 : Index := Scalar.indexCast v5213
  ![v5214.toNat]
def k0_off1738 (v5215 : BitVec 32) : Fin 2 → Nat :=
  let c0_i32_3692 : BitVec 32 := 0#32
  ![v5215.toNat, 0]

def k0_chk869 (v5215 : BitVec 32) : Prop :=
  (∀ a, (k0_off1738 v5215) a + S1x1024.size a ≤ S37888x1024.size a)
theorem k0_off1738_inb : ∀ (v5215 : BitVec 32) (k0_hw869 : k0_chk869 v5215), ∀ a, (k0_off1738 v5215) a + S1x1024.size a ≤ S37888x1024.size a := fun v5215 k0_hw869 => k0_hw869

def k0_off1739 (i : grid0.Coords) : Fin 1 → Nat :=
  let arg0 : BitVec 32 := BitVec.ofNat 32 (i 0).val
  let c1024_i32 : BitVec 32 := 1024#32
  let v0 : BitVec 32 := Scalar.muli arg0 c1024_i32
  let c868_i32_3695 : BitVec 32 := 868#32
  let v5218 : BitVec 32 := Scalar.addi v0 c868_i32_3695
  let c1_i32_3696 : BitVec 32 := 1#32
  let v5219 : BitVec 32 := Scalar.addi v5218 c1_i32_3696
  let v5220 : Index := Scalar.indexCast v5219
  ![v5220.toNat]
def k0_off1740 (v5221 : BitVec 32) : Fin 2 → Nat :=
  let c0_i32_3697 : BitVec 32 := 0#32
  ![v5221.toNat, 0]

def k0_chk870 (v5221 : BitVec 32) : Prop :=
  (∀ a, (k0_off1740 v5221) a + S1x1024.size a ≤ S37888x1024.size a)
theorem k0_off1740_inb : ∀ (v5221 : BitVec 32) (k0_hw870 : k0_chk870 v5221), ∀ a, (k0_off1740 v5221) a + S1x1024.size a ≤ S37888x1024.size a := fun v5221 k0_hw870 => k0_hw870

def k0_off1741 (i : grid0.Coords) : Fin 1 → Nat :=
  let arg0 : BitVec 32 := BitVec.ofNat 32 (i 0).val
  let c1024_i32 : BitVec 32 := 1024#32
  let v0 : BitVec 32 := Scalar.muli arg0 c1024_i32
  let c870_i32 : BitVec 32 := 870#32
  let v5224 : BitVec 32 := Scalar.addi v0 c870_i32
  let c0_i32_3700 : BitVec 32 := 0#32
  let v5225 : BitVec 32 := Scalar.addi v5224 c0_i32_3700
  let v5226 : Index := Scalar.indexCast v5225
  ![v5226.toNat]
def k0_off1742 (v5227 : BitVec 32) : Fin 2 → Nat :=
  let c0_i32_3701 : BitVec 32 := 0#32
  ![v5227.toNat, 0]

def k0_chk871 (v5227 : BitVec 32) : Prop :=
  (∀ a, (k0_off1742 v5227) a + S1x1024.size a ≤ S37888x1024.size a)
theorem k0_off1742_inb : ∀ (v5227 : BitVec 32) (k0_hw871 : k0_chk871 v5227), ∀ a, (k0_off1742 v5227) a + S1x1024.size a ≤ S37888x1024.size a := fun v5227 k0_hw871 => k0_hw871

def k0_off1743 (i : grid0.Coords) : Fin 1 → Nat :=
  let arg0 : BitVec 32 := BitVec.ofNat 32 (i 0).val
  let c1024_i32 : BitVec 32 := 1024#32
  let v0 : BitVec 32 := Scalar.muli arg0 c1024_i32
  let c870_i32_3703 : BitVec 32 := 870#32
  let v5230 : BitVec 32 := Scalar.addi v0 c870_i32_3703
  let c1_i32_3704 : BitVec 32 := 1#32
  let v5231 : BitVec 32 := Scalar.addi v5230 c1_i32_3704
  let v5232 : Index := Scalar.indexCast v5231
  ![v5232.toNat]
def k0_off1744 (v5233 : BitVec 32) : Fin 2 → Nat :=
  let c0_i32_3705 : BitVec 32 := 0#32
  ![v5233.toNat, 0]

def k0_chk872 (v5233 : BitVec 32) : Prop :=
  (∀ a, (k0_off1744 v5233) a + S1x1024.size a ≤ S37888x1024.size a)
theorem k0_off1744_inb : ∀ (v5233 : BitVec 32) (k0_hw872 : k0_chk872 v5233), ∀ a, (k0_off1744 v5233) a + S1x1024.size a ≤ S37888x1024.size a := fun v5233 k0_hw872 => k0_hw872

def k0_off1745 (i : grid0.Coords) : Fin 1 → Nat :=
  let arg0 : BitVec 32 := BitVec.ofNat 32 (i 0).val
  let c1024_i32 : BitVec 32 := 1024#32
  let v0 : BitVec 32 := Scalar.muli arg0 c1024_i32
  let c872_i32 : BitVec 32 := 872#32
  let v5236 : BitVec 32 := Scalar.addi v0 c872_i32
  let c0_i32_3708 : BitVec 32 := 0#32
  let v5237 : BitVec 32 := Scalar.addi v5236 c0_i32_3708
  let v5238 : Index := Scalar.indexCast v5237
  ![v5238.toNat]
def k0_off1746 (v5239 : BitVec 32) : Fin 2 → Nat :=
  let c0_i32_3709 : BitVec 32 := 0#32
  ![v5239.toNat, 0]

def k0_chk873 (v5239 : BitVec 32) : Prop :=
  (∀ a, (k0_off1746 v5239) a + S1x1024.size a ≤ S37888x1024.size a)
theorem k0_off1746_inb : ∀ (v5239 : BitVec 32) (k0_hw873 : k0_chk873 v5239), ∀ a, (k0_off1746 v5239) a + S1x1024.size a ≤ S37888x1024.size a := fun v5239 k0_hw873 => k0_hw873

def k0_off1747 (i : grid0.Coords) : Fin 1 → Nat :=
  let arg0 : BitVec 32 := BitVec.ofNat 32 (i 0).val
  let c1024_i32 : BitVec 32 := 1024#32
  let v0 : BitVec 32 := Scalar.muli arg0 c1024_i32
  let c872_i32_3712 : BitVec 32 := 872#32
  let v5242 : BitVec 32 := Scalar.addi v0 c872_i32_3712
  let c1_i32_3713 : BitVec 32 := 1#32
  let v5243 : BitVec 32 := Scalar.addi v5242 c1_i32_3713
  let v5244 : Index := Scalar.indexCast v5243
  ![v5244.toNat]
def k0_off1748 (v5245 : BitVec 32) : Fin 2 → Nat :=
  let c0_i32_3714 : BitVec 32 := 0#32
  ![v5245.toNat, 0]

def k0_chk874 (v5245 : BitVec 32) : Prop :=
  (∀ a, (k0_off1748 v5245) a + S1x1024.size a ≤ S37888x1024.size a)
theorem k0_off1748_inb : ∀ (v5245 : BitVec 32) (k0_hw874 : k0_chk874 v5245), ∀ a, (k0_off1748 v5245) a + S1x1024.size a ≤ S37888x1024.size a := fun v5245 k0_hw874 => k0_hw874

def k0_off1749 (i : grid0.Coords) : Fin 1 → Nat :=
  let arg0 : BitVec 32 := BitVec.ofNat 32 (i 0).val
  let c1024_i32 : BitVec 32 := 1024#32
  let v0 : BitVec 32 := Scalar.muli arg0 c1024_i32
  let c874_i32 : BitVec 32 := 874#32
  let v5248 : BitVec 32 := Scalar.addi v0 c874_i32
  let c0_i32_3717 : BitVec 32 := 0#32
  let v5249 : BitVec 32 := Scalar.addi v5248 c0_i32_3717
  let v5250 : Index := Scalar.indexCast v5249
  ![v5250.toNat]
def k0_off1750 (v5251 : BitVec 32) : Fin 2 → Nat :=
  let c0_i32_3718 : BitVec 32 := 0#32
  ![v5251.toNat, 0]

def k0_chk875 (v5251 : BitVec 32) : Prop :=
  (∀ a, (k0_off1750 v5251) a + S1x1024.size a ≤ S37888x1024.size a)
theorem k0_off1750_inb : ∀ (v5251 : BitVec 32) (k0_hw875 : k0_chk875 v5251), ∀ a, (k0_off1750 v5251) a + S1x1024.size a ≤ S37888x1024.size a := fun v5251 k0_hw875 => k0_hw875

def k0_off1751 (i : grid0.Coords) : Fin 1 → Nat :=
  let arg0 : BitVec 32 := BitVec.ofNat 32 (i 0).val
  let c1024_i32 : BitVec 32 := 1024#32
  let v0 : BitVec 32 := Scalar.muli arg0 c1024_i32
  let c874_i32_3720 : BitVec 32 := 874#32
  let v5254 : BitVec 32 := Scalar.addi v0 c874_i32_3720
  let c1_i32_3721 : BitVec 32 := 1#32
  let v5255 : BitVec 32 := Scalar.addi v5254 c1_i32_3721
  let v5256 : Index := Scalar.indexCast v5255
  ![v5256.toNat]
def k0_off1752 (v5257 : BitVec 32) : Fin 2 → Nat :=
  let c0_i32_3722 : BitVec 32 := 0#32
  ![v5257.toNat, 0]

def k0_chk876 (v5257 : BitVec 32) : Prop :=
  (∀ a, (k0_off1752 v5257) a + S1x1024.size a ≤ S37888x1024.size a)
theorem k0_off1752_inb : ∀ (v5257 : BitVec 32) (k0_hw876 : k0_chk876 v5257), ∀ a, (k0_off1752 v5257) a + S1x1024.size a ≤ S37888x1024.size a := fun v5257 k0_hw876 => k0_hw876

def k0_off1753 (i : grid0.Coords) : Fin 1 → Nat :=
  let arg0 : BitVec 32 := BitVec.ofNat 32 (i 0).val
  let c1024_i32 : BitVec 32 := 1024#32
  let v0 : BitVec 32 := Scalar.muli arg0 c1024_i32
  let c876_i32 : BitVec 32 := 876#32
  let v5260 : BitVec 32 := Scalar.addi v0 c876_i32
  let c0_i32_3725 : BitVec 32 := 0#32
  let v5261 : BitVec 32 := Scalar.addi v5260 c0_i32_3725
  let v5262 : Index := Scalar.indexCast v5261
  ![v5262.toNat]
def k0_off1754 (v5263 : BitVec 32) : Fin 2 → Nat :=
  let c0_i32_3726 : BitVec 32 := 0#32
  ![v5263.toNat, 0]

def k0_chk877 (v5263 : BitVec 32) : Prop :=
  (∀ a, (k0_off1754 v5263) a + S1x1024.size a ≤ S37888x1024.size a)
theorem k0_off1754_inb : ∀ (v5263 : BitVec 32) (k0_hw877 : k0_chk877 v5263), ∀ a, (k0_off1754 v5263) a + S1x1024.size a ≤ S37888x1024.size a := fun v5263 k0_hw877 => k0_hw877

def k0_off1755 (i : grid0.Coords) : Fin 1 → Nat :=
  let arg0 : BitVec 32 := BitVec.ofNat 32 (i 0).val
  let c1024_i32 : BitVec 32 := 1024#32
  let v0 : BitVec 32 := Scalar.muli arg0 c1024_i32
  let c876_i32_3729 : BitVec 32 := 876#32
  let v5266 : BitVec 32 := Scalar.addi v0 c876_i32_3729
  let c1_i32_3730 : BitVec 32 := 1#32
  let v5267 : BitVec 32 := Scalar.addi v5266 c1_i32_3730
  let v5268 : Index := Scalar.indexCast v5267
  ![v5268.toNat]
def k0_off1756 (v5269 : BitVec 32) : Fin 2 → Nat :=
  let c0_i32_3731 : BitVec 32 := 0#32
  ![v5269.toNat, 0]

def k0_chk878 (v5269 : BitVec 32) : Prop :=
  (∀ a, (k0_off1756 v5269) a + S1x1024.size a ≤ S37888x1024.size a)
theorem k0_off1756_inb : ∀ (v5269 : BitVec 32) (k0_hw878 : k0_chk878 v5269), ∀ a, (k0_off1756 v5269) a + S1x1024.size a ≤ S37888x1024.size a := fun v5269 k0_hw878 => k0_hw878

def k0_off1757 (i : grid0.Coords) : Fin 1 → Nat :=
  let arg0 : BitVec 32 := BitVec.ofNat 32 (i 0).val
  let c1024_i32 : BitVec 32 := 1024#32
  let v0 : BitVec 32 := Scalar.muli arg0 c1024_i32
  let c878_i32 : BitVec 32 := 878#32
  let v5272 : BitVec 32 := Scalar.addi v0 c878_i32
  let c0_i32_3734 : BitVec 32 := 0#32
  let v5273 : BitVec 32 := Scalar.addi v5272 c0_i32_3734
  let v5274 : Index := Scalar.indexCast v5273
  ![v5274.toNat]
def k0_off1758 (v5275 : BitVec 32) : Fin 2 → Nat :=
  let c0_i32_3735 : BitVec 32 := 0#32
  ![v5275.toNat, 0]

def k0_chk879 (v5275 : BitVec 32) : Prop :=
  (∀ a, (k0_off1758 v5275) a + S1x1024.size a ≤ S37888x1024.size a)
theorem k0_off1758_inb : ∀ (v5275 : BitVec 32) (k0_hw879 : k0_chk879 v5275), ∀ a, (k0_off1758 v5275) a + S1x1024.size a ≤ S37888x1024.size a := fun v5275 k0_hw879 => k0_hw879

def k0_off1759 (i : grid0.Coords) : Fin 1 → Nat :=
  let arg0 : BitVec 32 := BitVec.ofNat 32 (i 0).val
  let c1024_i32 : BitVec 32 := 1024#32
  let v0 : BitVec 32 := Scalar.muli arg0 c1024_i32
  let c878_i32_3737 : BitVec 32 := 878#32
  let v5278 : BitVec 32 := Scalar.addi v0 c878_i32_3737
  let c1_i32_3738 : BitVec 32 := 1#32
  let v5279 : BitVec 32 := Scalar.addi v5278 c1_i32_3738
  let v5280 : Index := Scalar.indexCast v5279
  ![v5280.toNat]
def k0_off1760 (v5281 : BitVec 32) : Fin 2 → Nat :=
  let c0_i32_3739 : BitVec 32 := 0#32
  ![v5281.toNat, 0]

def k0_chk880 (v5281 : BitVec 32) : Prop :=
  (∀ a, (k0_off1760 v5281) a + S1x1024.size a ≤ S37888x1024.size a)
theorem k0_off1760_inb : ∀ (v5281 : BitVec 32) (k0_hw880 : k0_chk880 v5281), ∀ a, (k0_off1760 v5281) a + S1x1024.size a ≤ S37888x1024.size a := fun v5281 k0_hw880 => k0_hw880

def k0_off1761 (i : grid0.Coords) : Fin 1 → Nat :=
  let arg0 : BitVec 32 := BitVec.ofNat 32 (i 0).val
  let c1024_i32 : BitVec 32 := 1024#32
  let v0 : BitVec 32 := Scalar.muli arg0 c1024_i32
  let c880_i32 : BitVec 32 := 880#32
  let v5284 : BitVec 32 := Scalar.addi v0 c880_i32
  let c0_i32_3742 : BitVec 32 := 0#32
  let v5285 : BitVec 32 := Scalar.addi v5284 c0_i32_3742
  let v5286 : Index := Scalar.indexCast v5285
  ![v5286.toNat]
def k0_off1762 (v5287 : BitVec 32) : Fin 2 → Nat :=
  let c0_i32_3743 : BitVec 32 := 0#32
  ![v5287.toNat, 0]

def k0_chk881 (v5287 : BitVec 32) : Prop :=
  (∀ a, (k0_off1762 v5287) a + S1x1024.size a ≤ S37888x1024.size a)
theorem k0_off1762_inb : ∀ (v5287 : BitVec 32) (k0_hw881 : k0_chk881 v5287), ∀ a, (k0_off1762 v5287) a + S1x1024.size a ≤ S37888x1024.size a := fun v5287 k0_hw881 => k0_hw881

def k0_off1763 (i : grid0.Coords) : Fin 1 → Nat :=
  let arg0 : BitVec 32 := BitVec.ofNat 32 (i 0).val
  let c1024_i32 : BitVec 32 := 1024#32
  let v0 : BitVec 32 := Scalar.muli arg0 c1024_i32
  let c880_i32_3746 : BitVec 32 := 880#32
  let v5290 : BitVec 32 := Scalar.addi v0 c880_i32_3746
  let c1_i32_3747 : BitVec 32 := 1#32
  let v5291 : BitVec 32 := Scalar.addi v5290 c1_i32_3747
  let v5292 : Index := Scalar.indexCast v5291
  ![v5292.toNat]
def k0_off1764 (v5293 : BitVec 32) : Fin 2 → Nat :=
  let c0_i32_3748 : BitVec 32 := 0#32
  ![v5293.toNat, 0]

def k0_chk882 (v5293 : BitVec 32) : Prop :=
  (∀ a, (k0_off1764 v5293) a + S1x1024.size a ≤ S37888x1024.size a)
theorem k0_off1764_inb : ∀ (v5293 : BitVec 32) (k0_hw882 : k0_chk882 v5293), ∀ a, (k0_off1764 v5293) a + S1x1024.size a ≤ S37888x1024.size a := fun v5293 k0_hw882 => k0_hw882

def k0_off1765 (i : grid0.Coords) : Fin 1 → Nat :=
  let arg0 : BitVec 32 := BitVec.ofNat 32 (i 0).val
  let c1024_i32 : BitVec 32 := 1024#32
  let v0 : BitVec 32 := Scalar.muli arg0 c1024_i32
  let c882_i32 : BitVec 32 := 882#32
  let v5296 : BitVec 32 := Scalar.addi v0 c882_i32
  let c0_i32_3751 : BitVec 32 := 0#32
  let v5297 : BitVec 32 := Scalar.addi v5296 c0_i32_3751
  let v5298 : Index := Scalar.indexCast v5297
  ![v5298.toNat]
def k0_off1766 (v5299 : BitVec 32) : Fin 2 → Nat :=
  let c0_i32_3752 : BitVec 32 := 0#32
  ![v5299.toNat, 0]

def k0_chk883 (v5299 : BitVec 32) : Prop :=
  (∀ a, (k0_off1766 v5299) a + S1x1024.size a ≤ S37888x1024.size a)
theorem k0_off1766_inb : ∀ (v5299 : BitVec 32) (k0_hw883 : k0_chk883 v5299), ∀ a, (k0_off1766 v5299) a + S1x1024.size a ≤ S37888x1024.size a := fun v5299 k0_hw883 => k0_hw883

def k0_off1767 (i : grid0.Coords) : Fin 1 → Nat :=
  let arg0 : BitVec 32 := BitVec.ofNat 32 (i 0).val
  let c1024_i32 : BitVec 32 := 1024#32
  let v0 : BitVec 32 := Scalar.muli arg0 c1024_i32
  let c882_i32_3754 : BitVec 32 := 882#32
  let v5302 : BitVec 32 := Scalar.addi v0 c882_i32_3754
  let c1_i32_3755 : BitVec 32 := 1#32
  let v5303 : BitVec 32 := Scalar.addi v5302 c1_i32_3755
  let v5304 : Index := Scalar.indexCast v5303
  ![v5304.toNat]
def k0_off1768 (v5305 : BitVec 32) : Fin 2 → Nat :=
  let c0_i32_3756 : BitVec 32 := 0#32
  ![v5305.toNat, 0]

def k0_chk884 (v5305 : BitVec 32) : Prop :=
  (∀ a, (k0_off1768 v5305) a + S1x1024.size a ≤ S37888x1024.size a)
theorem k0_off1768_inb : ∀ (v5305 : BitVec 32) (k0_hw884 : k0_chk884 v5305), ∀ a, (k0_off1768 v5305) a + S1x1024.size a ≤ S37888x1024.size a := fun v5305 k0_hw884 => k0_hw884

def k0_off1769 (i : grid0.Coords) : Fin 1 → Nat :=
  let arg0 : BitVec 32 := BitVec.ofNat 32 (i 0).val
  let c1024_i32 : BitVec 32 := 1024#32
  let v0 : BitVec 32 := Scalar.muli arg0 c1024_i32
  let c884_i32 : BitVec 32 := 884#32
  let v5308 : BitVec 32 := Scalar.addi v0 c884_i32
  let c0_i32_3759 : BitVec 32 := 0#32
  let v5309 : BitVec 32 := Scalar.addi v5308 c0_i32_3759
  let v5310 : Index := Scalar.indexCast v5309
  ![v5310.toNat]
def k0_off1770 (v5311 : BitVec 32) : Fin 2 → Nat :=
  let c0_i32_3760 : BitVec 32 := 0#32
  ![v5311.toNat, 0]

def k0_chk885 (v5311 : BitVec 32) : Prop :=
  (∀ a, (k0_off1770 v5311) a + S1x1024.size a ≤ S37888x1024.size a)
theorem k0_off1770_inb : ∀ (v5311 : BitVec 32) (k0_hw885 : k0_chk885 v5311), ∀ a, (k0_off1770 v5311) a + S1x1024.size a ≤ S37888x1024.size a := fun v5311 k0_hw885 => k0_hw885

def k0_off1771 (i : grid0.Coords) : Fin 1 → Nat :=
  let arg0 : BitVec 32 := BitVec.ofNat 32 (i 0).val
  let c1024_i32 : BitVec 32 := 1024#32
  let v0 : BitVec 32 := Scalar.muli arg0 c1024_i32
  let c884_i32_3763 : BitVec 32 := 884#32
  let v5314 : BitVec 32 := Scalar.addi v0 c884_i32_3763
  let c1_i32_3764 : BitVec 32 := 1#32
  let v5315 : BitVec 32 := Scalar.addi v5314 c1_i32_3764
  let v5316 : Index := Scalar.indexCast v5315
  ![v5316.toNat]
def k0_off1772 (v5317 : BitVec 32) : Fin 2 → Nat :=
  let c0_i32_3765 : BitVec 32 := 0#32
  ![v5317.toNat, 0]

def k0_chk886 (v5317 : BitVec 32) : Prop :=
  (∀ a, (k0_off1772 v5317) a + S1x1024.size a ≤ S37888x1024.size a)
theorem k0_off1772_inb : ∀ (v5317 : BitVec 32) (k0_hw886 : k0_chk886 v5317), ∀ a, (k0_off1772 v5317) a + S1x1024.size a ≤ S37888x1024.size a := fun v5317 k0_hw886 => k0_hw886

def k0_off1773 (i : grid0.Coords) : Fin 1 → Nat :=
  let arg0 : BitVec 32 := BitVec.ofNat 32 (i 0).val
  let c1024_i32 : BitVec 32 := 1024#32
  let v0 : BitVec 32 := Scalar.muli arg0 c1024_i32
  let c886_i32 : BitVec 32 := 886#32
  let v5320 : BitVec 32 := Scalar.addi v0 c886_i32
  let c0_i32_3768 : BitVec 32 := 0#32
  let v5321 : BitVec 32 := Scalar.addi v5320 c0_i32_3768
  let v5322 : Index := Scalar.indexCast v5321
  ![v5322.toNat]
def k0_off1774 (v5323 : BitVec 32) : Fin 2 → Nat :=
  let c0_i32_3769 : BitVec 32 := 0#32
  ![v5323.toNat, 0]

def k0_chk887 (v5323 : BitVec 32) : Prop :=
  (∀ a, (k0_off1774 v5323) a + S1x1024.size a ≤ S37888x1024.size a)
theorem k0_off1774_inb : ∀ (v5323 : BitVec 32) (k0_hw887 : k0_chk887 v5323), ∀ a, (k0_off1774 v5323) a + S1x1024.size a ≤ S37888x1024.size a := fun v5323 k0_hw887 => k0_hw887

def k0_off1775 (i : grid0.Coords) : Fin 1 → Nat :=
  let arg0 : BitVec 32 := BitVec.ofNat 32 (i 0).val
  let c1024_i32 : BitVec 32 := 1024#32
  let v0 : BitVec 32 := Scalar.muli arg0 c1024_i32
  let c886_i32_3771 : BitVec 32 := 886#32
  let v5326 : BitVec 32 := Scalar.addi v0 c886_i32_3771
  let c1_i32_3772 : BitVec 32 := 1#32
  let v5327 : BitVec 32 := Scalar.addi v5326 c1_i32_3772
  let v5328 : Index := Scalar.indexCast v5327
  ![v5328.toNat]
def k0_off1776 (v5329 : BitVec 32) : Fin 2 → Nat :=
  let c0_i32_3773 : BitVec 32 := 0#32
  ![v5329.toNat, 0]

def k0_chk888 (v5329 : BitVec 32) : Prop :=
  (∀ a, (k0_off1776 v5329) a + S1x1024.size a ≤ S37888x1024.size a)
theorem k0_off1776_inb : ∀ (v5329 : BitVec 32) (k0_hw888 : k0_chk888 v5329), ∀ a, (k0_off1776 v5329) a + S1x1024.size a ≤ S37888x1024.size a := fun v5329 k0_hw888 => k0_hw888

def k0_off1777 (i : grid0.Coords) : Fin 1 → Nat :=
  let arg0 : BitVec 32 := BitVec.ofNat 32 (i 0).val
  let c1024_i32 : BitVec 32 := 1024#32
  let v0 : BitVec 32 := Scalar.muli arg0 c1024_i32
  let c888_i32 : BitVec 32 := 888#32
  let v5332 : BitVec 32 := Scalar.addi v0 c888_i32
  let c0_i32_3776 : BitVec 32 := 0#32
  let v5333 : BitVec 32 := Scalar.addi v5332 c0_i32_3776
  let v5334 : Index := Scalar.indexCast v5333
  ![v5334.toNat]
def k0_off1778 (v5335 : BitVec 32) : Fin 2 → Nat :=
  let c0_i32_3777 : BitVec 32 := 0#32
  ![v5335.toNat, 0]

def k0_chk889 (v5335 : BitVec 32) : Prop :=
  (∀ a, (k0_off1778 v5335) a + S1x1024.size a ≤ S37888x1024.size a)
theorem k0_off1778_inb : ∀ (v5335 : BitVec 32) (k0_hw889 : k0_chk889 v5335), ∀ a, (k0_off1778 v5335) a + S1x1024.size a ≤ S37888x1024.size a := fun v5335 k0_hw889 => k0_hw889

def k0_off1779 (i : grid0.Coords) : Fin 1 → Nat :=
  let arg0 : BitVec 32 := BitVec.ofNat 32 (i 0).val
  let c1024_i32 : BitVec 32 := 1024#32
  let v0 : BitVec 32 := Scalar.muli arg0 c1024_i32
  let c888_i32_3780 : BitVec 32 := 888#32
  let v5338 : BitVec 32 := Scalar.addi v0 c888_i32_3780
  let c1_i32_3781 : BitVec 32 := 1#32
  let v5339 : BitVec 32 := Scalar.addi v5338 c1_i32_3781
  let v5340 : Index := Scalar.indexCast v5339
  ![v5340.toNat]
def k0_off1780 (v5341 : BitVec 32) : Fin 2 → Nat :=
  let c0_i32_3782 : BitVec 32 := 0#32
  ![v5341.toNat, 0]

def k0_chk890 (v5341 : BitVec 32) : Prop :=
  (∀ a, (k0_off1780 v5341) a + S1x1024.size a ≤ S37888x1024.size a)
theorem k0_off1780_inb : ∀ (v5341 : BitVec 32) (k0_hw890 : k0_chk890 v5341), ∀ a, (k0_off1780 v5341) a + S1x1024.size a ≤ S37888x1024.size a := fun v5341 k0_hw890 => k0_hw890

def k0_off1781 (i : grid0.Coords) : Fin 1 → Nat :=
  let arg0 : BitVec 32 := BitVec.ofNat 32 (i 0).val
  let c1024_i32 : BitVec 32 := 1024#32
  let v0 : BitVec 32 := Scalar.muli arg0 c1024_i32
  let c890_i32 : BitVec 32 := 890#32
  let v5344 : BitVec 32 := Scalar.addi v0 c890_i32
  let c0_i32_3785 : BitVec 32 := 0#32
  let v5345 : BitVec 32 := Scalar.addi v5344 c0_i32_3785
  let v5346 : Index := Scalar.indexCast v5345
  ![v5346.toNat]
def k0_off1782 (v5347 : BitVec 32) : Fin 2 → Nat :=
  let c0_i32_3786 : BitVec 32 := 0#32
  ![v5347.toNat, 0]

def k0_chk891 (v5347 : BitVec 32) : Prop :=
  (∀ a, (k0_off1782 v5347) a + S1x1024.size a ≤ S37888x1024.size a)
theorem k0_off1782_inb : ∀ (v5347 : BitVec 32) (k0_hw891 : k0_chk891 v5347), ∀ a, (k0_off1782 v5347) a + S1x1024.size a ≤ S37888x1024.size a := fun v5347 k0_hw891 => k0_hw891

def k0_off1783 (i : grid0.Coords) : Fin 1 → Nat :=
  let arg0 : BitVec 32 := BitVec.ofNat 32 (i 0).val
  let c1024_i32 : BitVec 32 := 1024#32
  let v0 : BitVec 32 := Scalar.muli arg0 c1024_i32
  let c890_i32_3788 : BitVec 32 := 890#32
  let v5350 : BitVec 32 := Scalar.addi v0 c890_i32_3788
  let c1_i32_3789 : BitVec 32 := 1#32
  let v5351 : BitVec 32 := Scalar.addi v5350 c1_i32_3789
  let v5352 : Index := Scalar.indexCast v5351
  ![v5352.toNat]
def k0_off1784 (v5353 : BitVec 32) : Fin 2 → Nat :=
  let c0_i32_3790 : BitVec 32 := 0#32
  ![v5353.toNat, 0]

def k0_chk892 (v5353 : BitVec 32) : Prop :=
  (∀ a, (k0_off1784 v5353) a + S1x1024.size a ≤ S37888x1024.size a)
theorem k0_off1784_inb : ∀ (v5353 : BitVec 32) (k0_hw892 : k0_chk892 v5353), ∀ a, (k0_off1784 v5353) a + S1x1024.size a ≤ S37888x1024.size a := fun v5353 k0_hw892 => k0_hw892

def k0_off1785 (i : grid0.Coords) : Fin 1 → Nat :=
  let arg0 : BitVec 32 := BitVec.ofNat 32 (i 0).val
  let c1024_i32 : BitVec 32 := 1024#32
  let v0 : BitVec 32 := Scalar.muli arg0 c1024_i32
  let c892_i32 : BitVec 32 := 892#32
  let v5356 : BitVec 32 := Scalar.addi v0 c892_i32
  let c0_i32_3793 : BitVec 32 := 0#32
  let v5357 : BitVec 32 := Scalar.addi v5356 c0_i32_3793
  let v5358 : Index := Scalar.indexCast v5357
  ![v5358.toNat]
def k0_off1786 (v5359 : BitVec 32) : Fin 2 → Nat :=
  let c0_i32_3794 : BitVec 32 := 0#32
  ![v5359.toNat, 0]

def k0_chk893 (v5359 : BitVec 32) : Prop :=
  (∀ a, (k0_off1786 v5359) a + S1x1024.size a ≤ S37888x1024.size a)
theorem k0_off1786_inb : ∀ (v5359 : BitVec 32) (k0_hw893 : k0_chk893 v5359), ∀ a, (k0_off1786 v5359) a + S1x1024.size a ≤ S37888x1024.size a := fun v5359 k0_hw893 => k0_hw893

def k0_off1787 (i : grid0.Coords) : Fin 1 → Nat :=
  let arg0 : BitVec 32 := BitVec.ofNat 32 (i 0).val
  let c1024_i32 : BitVec 32 := 1024#32
  let v0 : BitVec 32 := Scalar.muli arg0 c1024_i32
  let c892_i32_3797 : BitVec 32 := 892#32
  let v5362 : BitVec 32 := Scalar.addi v0 c892_i32_3797
  let c1_i32_3798 : BitVec 32 := 1#32
  let v5363 : BitVec 32 := Scalar.addi v5362 c1_i32_3798
  let v5364 : Index := Scalar.indexCast v5363
  ![v5364.toNat]
def k0_off1788 (v5365 : BitVec 32) : Fin 2 → Nat :=
  let c0_i32_3799 : BitVec 32 := 0#32
  ![v5365.toNat, 0]

def k0_chk894 (v5365 : BitVec 32) : Prop :=
  (∀ a, (k0_off1788 v5365) a + S1x1024.size a ≤ S37888x1024.size a)
theorem k0_off1788_inb : ∀ (v5365 : BitVec 32) (k0_hw894 : k0_chk894 v5365), ∀ a, (k0_off1788 v5365) a + S1x1024.size a ≤ S37888x1024.size a := fun v5365 k0_hw894 => k0_hw894

def k0_off1789 (i : grid0.Coords) : Fin 1 → Nat :=
  let arg0 : BitVec 32 := BitVec.ofNat 32 (i 0).val
  let c1024_i32 : BitVec 32 := 1024#32
  let v0 : BitVec 32 := Scalar.muli arg0 c1024_i32
  let c894_i32 : BitVec 32 := 894#32
  let v5368 : BitVec 32 := Scalar.addi v0 c894_i32
  let c0_i32_3802 : BitVec 32 := 0#32
  let v5369 : BitVec 32 := Scalar.addi v5368 c0_i32_3802
  let v5370 : Index := Scalar.indexCast v5369
  ![v5370.toNat]
def k0_off1790 (v5371 : BitVec 32) : Fin 2 → Nat :=
  let c0_i32_3803 : BitVec 32 := 0#32
  ![v5371.toNat, 0]

def k0_chk895 (v5371 : BitVec 32) : Prop :=
  (∀ a, (k0_off1790 v5371) a + S1x1024.size a ≤ S37888x1024.size a)
theorem k0_off1790_inb : ∀ (v5371 : BitVec 32) (k0_hw895 : k0_chk895 v5371), ∀ a, (k0_off1790 v5371) a + S1x1024.size a ≤ S37888x1024.size a := fun v5371 k0_hw895 => k0_hw895

def k0_off1791 (i : grid0.Coords) : Fin 1 → Nat :=
  let arg0 : BitVec 32 := BitVec.ofNat 32 (i 0).val
  let c1024_i32 : BitVec 32 := 1024#32
  let v0 : BitVec 32 := Scalar.muli arg0 c1024_i32
  let c894_i32_3805 : BitVec 32 := 894#32
  let v5374 : BitVec 32 := Scalar.addi v0 c894_i32_3805
  let c1_i32_3806 : BitVec 32 := 1#32
  let v5375 : BitVec 32 := Scalar.addi v5374 c1_i32_3806
  let v5376 : Index := Scalar.indexCast v5375
  ![v5376.toNat]
def k0_off1792 (v5377 : BitVec 32) : Fin 2 → Nat :=
  let c0_i32_3807 : BitVec 32 := 0#32
  ![v5377.toNat, 0]

def k0_chk896 (v5377 : BitVec 32) : Prop :=
  (∀ a, (k0_off1792 v5377) a + S1x1024.size a ≤ S37888x1024.size a)
theorem k0_off1792_inb : ∀ (v5377 : BitVec 32) (k0_hw896 : k0_chk896 v5377), ∀ a, (k0_off1792 v5377) a + S1x1024.size a ≤ S37888x1024.size a := fun v5377 k0_hw896 => k0_hw896

def k0_off1793 (i : grid0.Coords) : Fin 1 → Nat :=
  let arg0 : BitVec 32 := BitVec.ofNat 32 (i 0).val
  let c1024_i32 : BitVec 32 := 1024#32
  let v0 : BitVec 32 := Scalar.muli arg0 c1024_i32
  let c896_i32 : BitVec 32 := 896#32
  let v5380 : BitVec 32 := Scalar.addi v0 c896_i32
  let c0_i32_3810 : BitVec 32 := 0#32
  let v5381 : BitVec 32 := Scalar.addi v5380 c0_i32_3810
  let v5382 : Index := Scalar.indexCast v5381
  ![v5382.toNat]
def k0_off1794 (v5383 : BitVec 32) : Fin 2 → Nat :=
  let c0_i32_3811 : BitVec 32 := 0#32
  ![v5383.toNat, 0]

def k0_chk897 (v5383 : BitVec 32) : Prop :=
  (∀ a, (k0_off1794 v5383) a + S1x1024.size a ≤ S37888x1024.size a)
theorem k0_off1794_inb : ∀ (v5383 : BitVec 32) (k0_hw897 : k0_chk897 v5383), ∀ a, (k0_off1794 v5383) a + S1x1024.size a ≤ S37888x1024.size a := fun v5383 k0_hw897 => k0_hw897

def k0_off1795 (i : grid0.Coords) : Fin 1 → Nat :=
  let arg0 : BitVec 32 := BitVec.ofNat 32 (i 0).val
  let c1024_i32 : BitVec 32 := 1024#32
  let v0 : BitVec 32 := Scalar.muli arg0 c1024_i32
  let c896_i32_3814 : BitVec 32 := 896#32
  let v5386 : BitVec 32 := Scalar.addi v0 c896_i32_3814
  let c1_i32_3815 : BitVec 32 := 1#32
  let v5387 : BitVec 32 := Scalar.addi v5386 c1_i32_3815
  let v5388 : Index := Scalar.indexCast v5387
  ![v5388.toNat]
def k0_off1796 (v5389 : BitVec 32) : Fin 2 → Nat :=
  let c0_i32_3816 : BitVec 32 := 0#32
  ![v5389.toNat, 0]

def k0_chk898 (v5389 : BitVec 32) : Prop :=
  (∀ a, (k0_off1796 v5389) a + S1x1024.size a ≤ S37888x1024.size a)
theorem k0_off1796_inb : ∀ (v5389 : BitVec 32) (k0_hw898 : k0_chk898 v5389), ∀ a, (k0_off1796 v5389) a + S1x1024.size a ≤ S37888x1024.size a := fun v5389 k0_hw898 => k0_hw898

def k0_off1797 (i : grid0.Coords) : Fin 1 → Nat :=
  let arg0 : BitVec 32 := BitVec.ofNat 32 (i 0).val
  let c1024_i32 : BitVec 32 := 1024#32
  let v0 : BitVec 32 := Scalar.muli arg0 c1024_i32
  let c898_i32 : BitVec 32 := 898#32
  let v5392 : BitVec 32 := Scalar.addi v0 c898_i32
  let c0_i32_3819 : BitVec 32 := 0#32
  let v5393 : BitVec 32 := Scalar.addi v5392 c0_i32_3819
  let v5394 : Index := Scalar.indexCast v5393
  ![v5394.toNat]
def k0_off1798 (v5395 : BitVec 32) : Fin 2 → Nat :=
  let c0_i32_3820 : BitVec 32 := 0#32
  ![v5395.toNat, 0]

def k0_chk899 (v5395 : BitVec 32) : Prop :=
  (∀ a, (k0_off1798 v5395) a + S1x1024.size a ≤ S37888x1024.size a)
theorem k0_off1798_inb : ∀ (v5395 : BitVec 32) (k0_hw899 : k0_chk899 v5395), ∀ a, (k0_off1798 v5395) a + S1x1024.size a ≤ S37888x1024.size a := fun v5395 k0_hw899 => k0_hw899

def k0_off1799 (i : grid0.Coords) : Fin 1 → Nat :=
  let arg0 : BitVec 32 := BitVec.ofNat 32 (i 0).val
  let c1024_i32 : BitVec 32 := 1024#32
  let v0 : BitVec 32 := Scalar.muli arg0 c1024_i32
  let c898_i32_3822 : BitVec 32 := 898#32
  let v5398 : BitVec 32 := Scalar.addi v0 c898_i32_3822
  let c1_i32_3823 : BitVec 32 := 1#32
  let v5399 : BitVec 32 := Scalar.addi v5398 c1_i32_3823
  let v5400 : Index := Scalar.indexCast v5399
  ![v5400.toNat]
def k0_off1800 (v5401 : BitVec 32) : Fin 2 → Nat :=
  let c0_i32_3824 : BitVec 32 := 0#32
  ![v5401.toNat, 0]

def k0_chk900 (v5401 : BitVec 32) : Prop :=
  (∀ a, (k0_off1800 v5401) a + S1x1024.size a ≤ S37888x1024.size a)
theorem k0_off1800_inb : ∀ (v5401 : BitVec 32) (k0_hw900 : k0_chk900 v5401), ∀ a, (k0_off1800 v5401) a + S1x1024.size a ≤ S37888x1024.size a := fun v5401 k0_hw900 => k0_hw900

def k0_off1801 (i : grid0.Coords) : Fin 1 → Nat :=
  let arg0 : BitVec 32 := BitVec.ofNat 32 (i 0).val
  let c1024_i32 : BitVec 32 := 1024#32
  let v0 : BitVec 32 := Scalar.muli arg0 c1024_i32
  let c900_i32 : BitVec 32 := 900#32
  let v5404 : BitVec 32 := Scalar.addi v0 c900_i32
  let c0_i32_3827 : BitVec 32 := 0#32
  let v5405 : BitVec 32 := Scalar.addi v5404 c0_i32_3827
  let v5406 : Index := Scalar.indexCast v5405
  ![v5406.toNat]
def k0_off1802 (v5407 : BitVec 32) : Fin 2 → Nat :=
  let c0_i32_3828 : BitVec 32 := 0#32
  ![v5407.toNat, 0]

def k0_chk901 (v5407 : BitVec 32) : Prop :=
  (∀ a, (k0_off1802 v5407) a + S1x1024.size a ≤ S37888x1024.size a)
theorem k0_off1802_inb : ∀ (v5407 : BitVec 32) (k0_hw901 : k0_chk901 v5407), ∀ a, (k0_off1802 v5407) a + S1x1024.size a ≤ S37888x1024.size a := fun v5407 k0_hw901 => k0_hw901

def k0_off1803 (i : grid0.Coords) : Fin 1 → Nat :=
  let arg0 : BitVec 32 := BitVec.ofNat 32 (i 0).val
  let c1024_i32 : BitVec 32 := 1024#32
  let v0 : BitVec 32 := Scalar.muli arg0 c1024_i32
  let c900_i32_3831 : BitVec 32 := 900#32
  let v5410 : BitVec 32 := Scalar.addi v0 c900_i32_3831
  let c1_i32_3832 : BitVec 32 := 1#32
  let v5411 : BitVec 32 := Scalar.addi v5410 c1_i32_3832
  let v5412 : Index := Scalar.indexCast v5411
  ![v5412.toNat]
def k0_off1804 (v5413 : BitVec 32) : Fin 2 → Nat :=
  let c0_i32_3833 : BitVec 32 := 0#32
  ![v5413.toNat, 0]

def k0_chk902 (v5413 : BitVec 32) : Prop :=
  (∀ a, (k0_off1804 v5413) a + S1x1024.size a ≤ S37888x1024.size a)
theorem k0_off1804_inb : ∀ (v5413 : BitVec 32) (k0_hw902 : k0_chk902 v5413), ∀ a, (k0_off1804 v5413) a + S1x1024.size a ≤ S37888x1024.size a := fun v5413 k0_hw902 => k0_hw902

def k0_off1805 (i : grid0.Coords) : Fin 1 → Nat :=
  let arg0 : BitVec 32 := BitVec.ofNat 32 (i 0).val
  let c1024_i32 : BitVec 32 := 1024#32
  let v0 : BitVec 32 := Scalar.muli arg0 c1024_i32
  let c902_i32 : BitVec 32 := 902#32
  let v5416 : BitVec 32 := Scalar.addi v0 c902_i32
  let c0_i32_3836 : BitVec 32 := 0#32
  let v5417 : BitVec 32 := Scalar.addi v5416 c0_i32_3836
  let v5418 : Index := Scalar.indexCast v5417
  ![v5418.toNat]
def k0_off1806 (v5419 : BitVec 32) : Fin 2 → Nat :=
  let c0_i32_3837 : BitVec 32 := 0#32
  ![v5419.toNat, 0]

def k0_chk903 (v5419 : BitVec 32) : Prop :=
  (∀ a, (k0_off1806 v5419) a + S1x1024.size a ≤ S37888x1024.size a)
theorem k0_off1806_inb : ∀ (v5419 : BitVec 32) (k0_hw903 : k0_chk903 v5419), ∀ a, (k0_off1806 v5419) a + S1x1024.size a ≤ S37888x1024.size a := fun v5419 k0_hw903 => k0_hw903

def k0_off1807 (i : grid0.Coords) : Fin 1 → Nat :=
  let arg0 : BitVec 32 := BitVec.ofNat 32 (i 0).val
  let c1024_i32 : BitVec 32 := 1024#32
  let v0 : BitVec 32 := Scalar.muli arg0 c1024_i32
  let c902_i32_3839 : BitVec 32 := 902#32
  let v5422 : BitVec 32 := Scalar.addi v0 c902_i32_3839
  let c1_i32_3840 : BitVec 32 := 1#32
  let v5423 : BitVec 32 := Scalar.addi v5422 c1_i32_3840
  let v5424 : Index := Scalar.indexCast v5423
  ![v5424.toNat]
def k0_off1808 (v5425 : BitVec 32) : Fin 2 → Nat :=
  let c0_i32_3841 : BitVec 32 := 0#32
  ![v5425.toNat, 0]

def k0_chk904 (v5425 : BitVec 32) : Prop :=
  (∀ a, (k0_off1808 v5425) a + S1x1024.size a ≤ S37888x1024.size a)
theorem k0_off1808_inb : ∀ (v5425 : BitVec 32) (k0_hw904 : k0_chk904 v5425), ∀ a, (k0_off1808 v5425) a + S1x1024.size a ≤ S37888x1024.size a := fun v5425 k0_hw904 => k0_hw904

def k0_off1809 (i : grid0.Coords) : Fin 1 → Nat :=
  let arg0 : BitVec 32 := BitVec.ofNat 32 (i 0).val
  let c1024_i32 : BitVec 32 := 1024#32
  let v0 : BitVec 32 := Scalar.muli arg0 c1024_i32
  let c904_i32 : BitVec 32 := 904#32
  let v5428 : BitVec 32 := Scalar.addi v0 c904_i32
  let c0_i32_3844 : BitVec 32 := 0#32
  let v5429 : BitVec 32 := Scalar.addi v5428 c0_i32_3844
  let v5430 : Index := Scalar.indexCast v5429
  ![v5430.toNat]
def k0_off1810 (v5431 : BitVec 32) : Fin 2 → Nat :=
  let c0_i32_3845 : BitVec 32 := 0#32
  ![v5431.toNat, 0]

def k0_chk905 (v5431 : BitVec 32) : Prop :=
  (∀ a, (k0_off1810 v5431) a + S1x1024.size a ≤ S37888x1024.size a)
theorem k0_off1810_inb : ∀ (v5431 : BitVec 32) (k0_hw905 : k0_chk905 v5431), ∀ a, (k0_off1810 v5431) a + S1x1024.size a ≤ S37888x1024.size a := fun v5431 k0_hw905 => k0_hw905

def k0_off1811 (i : grid0.Coords) : Fin 1 → Nat :=
  let arg0 : BitVec 32 := BitVec.ofNat 32 (i 0).val
  let c1024_i32 : BitVec 32 := 1024#32
  let v0 : BitVec 32 := Scalar.muli arg0 c1024_i32
  let c904_i32_3848 : BitVec 32 := 904#32
  let v5434 : BitVec 32 := Scalar.addi v0 c904_i32_3848
  let c1_i32_3849 : BitVec 32 := 1#32
  let v5435 : BitVec 32 := Scalar.addi v5434 c1_i32_3849
  let v5436 : Index := Scalar.indexCast v5435
  ![v5436.toNat]
def k0_off1812 (v5437 : BitVec 32) : Fin 2 → Nat :=
  let c0_i32_3850 : BitVec 32 := 0#32
  ![v5437.toNat, 0]

def k0_chk906 (v5437 : BitVec 32) : Prop :=
  (∀ a, (k0_off1812 v5437) a + S1x1024.size a ≤ S37888x1024.size a)
theorem k0_off1812_inb : ∀ (v5437 : BitVec 32) (k0_hw906 : k0_chk906 v5437), ∀ a, (k0_off1812 v5437) a + S1x1024.size a ≤ S37888x1024.size a := fun v5437 k0_hw906 => k0_hw906

def k0_off1813 (i : grid0.Coords) : Fin 1 → Nat :=
  let arg0 : BitVec 32 := BitVec.ofNat 32 (i 0).val
  let c1024_i32 : BitVec 32 := 1024#32
  let v0 : BitVec 32 := Scalar.muli arg0 c1024_i32
  let c906_i32 : BitVec 32 := 906#32
  let v5440 : BitVec 32 := Scalar.addi v0 c906_i32
  let c0_i32_3853 : BitVec 32 := 0#32
  let v5441 : BitVec 32 := Scalar.addi v5440 c0_i32_3853
  let v5442 : Index := Scalar.indexCast v5441
  ![v5442.toNat]
def k0_off1814 (v5443 : BitVec 32) : Fin 2 → Nat :=
  let c0_i32_3854 : BitVec 32 := 0#32
  ![v5443.toNat, 0]

def k0_chk907 (v5443 : BitVec 32) : Prop :=
  (∀ a, (k0_off1814 v5443) a + S1x1024.size a ≤ S37888x1024.size a)
theorem k0_off1814_inb : ∀ (v5443 : BitVec 32) (k0_hw907 : k0_chk907 v5443), ∀ a, (k0_off1814 v5443) a + S1x1024.size a ≤ S37888x1024.size a := fun v5443 k0_hw907 => k0_hw907

def k0_off1815 (i : grid0.Coords) : Fin 1 → Nat :=
  let arg0 : BitVec 32 := BitVec.ofNat 32 (i 0).val
  let c1024_i32 : BitVec 32 := 1024#32
  let v0 : BitVec 32 := Scalar.muli arg0 c1024_i32
  let c906_i32_3856 : BitVec 32 := 906#32
  let v5446 : BitVec 32 := Scalar.addi v0 c906_i32_3856
  let c1_i32_3857 : BitVec 32 := 1#32
  let v5447 : BitVec 32 := Scalar.addi v5446 c1_i32_3857
  let v5448 : Index := Scalar.indexCast v5447
  ![v5448.toNat]
def k0_off1816 (v5449 : BitVec 32) : Fin 2 → Nat :=
  let c0_i32_3858 : BitVec 32 := 0#32
  ![v5449.toNat, 0]

def k0_chk908 (v5449 : BitVec 32) : Prop :=
  (∀ a, (k0_off1816 v5449) a + S1x1024.size a ≤ S37888x1024.size a)
theorem k0_off1816_inb : ∀ (v5449 : BitVec 32) (k0_hw908 : k0_chk908 v5449), ∀ a, (k0_off1816 v5449) a + S1x1024.size a ≤ S37888x1024.size a := fun v5449 k0_hw908 => k0_hw908

def k0_off1817 (i : grid0.Coords) : Fin 1 → Nat :=
  let arg0 : BitVec 32 := BitVec.ofNat 32 (i 0).val
  let c1024_i32 : BitVec 32 := 1024#32
  let v0 : BitVec 32 := Scalar.muli arg0 c1024_i32
  let c908_i32 : BitVec 32 := 908#32
  let v5452 : BitVec 32 := Scalar.addi v0 c908_i32
  let c0_i32_3861 : BitVec 32 := 0#32
  let v5453 : BitVec 32 := Scalar.addi v5452 c0_i32_3861
  let v5454 : Index := Scalar.indexCast v5453
  ![v5454.toNat]
def k0_off1818 (v5455 : BitVec 32) : Fin 2 → Nat :=
  let c0_i32_3862 : BitVec 32 := 0#32
  ![v5455.toNat, 0]

def k0_chk909 (v5455 : BitVec 32) : Prop :=
  (∀ a, (k0_off1818 v5455) a + S1x1024.size a ≤ S37888x1024.size a)
theorem k0_off1818_inb : ∀ (v5455 : BitVec 32) (k0_hw909 : k0_chk909 v5455), ∀ a, (k0_off1818 v5455) a + S1x1024.size a ≤ S37888x1024.size a := fun v5455 k0_hw909 => k0_hw909

def k0_off1819 (i : grid0.Coords) : Fin 1 → Nat :=
  let arg0 : BitVec 32 := BitVec.ofNat 32 (i 0).val
  let c1024_i32 : BitVec 32 := 1024#32
  let v0 : BitVec 32 := Scalar.muli arg0 c1024_i32
  let c908_i32_3865 : BitVec 32 := 908#32
  let v5458 : BitVec 32 := Scalar.addi v0 c908_i32_3865
  let c1_i32_3866 : BitVec 32 := 1#32
  let v5459 : BitVec 32 := Scalar.addi v5458 c1_i32_3866
  let v5460 : Index := Scalar.indexCast v5459
  ![v5460.toNat]
def k0_off1820 (v5461 : BitVec 32) : Fin 2 → Nat :=
  let c0_i32_3867 : BitVec 32 := 0#32
  ![v5461.toNat, 0]

def k0_chk910 (v5461 : BitVec 32) : Prop :=
  (∀ a, (k0_off1820 v5461) a + S1x1024.size a ≤ S37888x1024.size a)
theorem k0_off1820_inb : ∀ (v5461 : BitVec 32) (k0_hw910 : k0_chk910 v5461), ∀ a, (k0_off1820 v5461) a + S1x1024.size a ≤ S37888x1024.size a := fun v5461 k0_hw910 => k0_hw910

def k0_off1821 (i : grid0.Coords) : Fin 1 → Nat :=
  let arg0 : BitVec 32 := BitVec.ofNat 32 (i 0).val
  let c1024_i32 : BitVec 32 := 1024#32
  let v0 : BitVec 32 := Scalar.muli arg0 c1024_i32
  let c910_i32 : BitVec 32 := 910#32
  let v5464 : BitVec 32 := Scalar.addi v0 c910_i32
  let c0_i32_3870 : BitVec 32 := 0#32
  let v5465 : BitVec 32 := Scalar.addi v5464 c0_i32_3870
  let v5466 : Index := Scalar.indexCast v5465
  ![v5466.toNat]
def k0_off1822 (v5467 : BitVec 32) : Fin 2 → Nat :=
  let c0_i32_3871 : BitVec 32 := 0#32
  ![v5467.toNat, 0]

def k0_chk911 (v5467 : BitVec 32) : Prop :=
  (∀ a, (k0_off1822 v5467) a + S1x1024.size a ≤ S37888x1024.size a)
theorem k0_off1822_inb : ∀ (v5467 : BitVec 32) (k0_hw911 : k0_chk911 v5467), ∀ a, (k0_off1822 v5467) a + S1x1024.size a ≤ S37888x1024.size a := fun v5467 k0_hw911 => k0_hw911

def k0_off1823 (i : grid0.Coords) : Fin 1 → Nat :=
  let arg0 : BitVec 32 := BitVec.ofNat 32 (i 0).val
  let c1024_i32 : BitVec 32 := 1024#32
  let v0 : BitVec 32 := Scalar.muli arg0 c1024_i32
  let c910_i32_3873 : BitVec 32 := 910#32
  let v5470 : BitVec 32 := Scalar.addi v0 c910_i32_3873
  let c1_i32_3874 : BitVec 32 := 1#32
  let v5471 : BitVec 32 := Scalar.addi v5470 c1_i32_3874
  let v5472 : Index := Scalar.indexCast v5471
  ![v5472.toNat]
def k0_off1824 (v5473 : BitVec 32) : Fin 2 → Nat :=
  let c0_i32_3875 : BitVec 32 := 0#32
  ![v5473.toNat, 0]

def k0_chk912 (v5473 : BitVec 32) : Prop :=
  (∀ a, (k0_off1824 v5473) a + S1x1024.size a ≤ S37888x1024.size a)
theorem k0_off1824_inb : ∀ (v5473 : BitVec 32) (k0_hw912 : k0_chk912 v5473), ∀ a, (k0_off1824 v5473) a + S1x1024.size a ≤ S37888x1024.size a := fun v5473 k0_hw912 => k0_hw912

def k0_off1825 (i : grid0.Coords) : Fin 1 → Nat :=
  let arg0 : BitVec 32 := BitVec.ofNat 32 (i 0).val
  let c1024_i32 : BitVec 32 := 1024#32
  let v0 : BitVec 32 := Scalar.muli arg0 c1024_i32
  let c912_i32 : BitVec 32 := 912#32
  let v5476 : BitVec 32 := Scalar.addi v0 c912_i32
  let c0_i32_3878 : BitVec 32 := 0#32
  let v5477 : BitVec 32 := Scalar.addi v5476 c0_i32_3878
  let v5478 : Index := Scalar.indexCast v5477
  ![v5478.toNat]
def k0_off1826 (v5479 : BitVec 32) : Fin 2 → Nat :=
  let c0_i32_3879 : BitVec 32 := 0#32
  ![v5479.toNat, 0]

def k0_chk913 (v5479 : BitVec 32) : Prop :=
  (∀ a, (k0_off1826 v5479) a + S1x1024.size a ≤ S37888x1024.size a)
theorem k0_off1826_inb : ∀ (v5479 : BitVec 32) (k0_hw913 : k0_chk913 v5479), ∀ a, (k0_off1826 v5479) a + S1x1024.size a ≤ S37888x1024.size a := fun v5479 k0_hw913 => k0_hw913

def k0_off1827 (i : grid0.Coords) : Fin 1 → Nat :=
  let arg0 : BitVec 32 := BitVec.ofNat 32 (i 0).val
  let c1024_i32 : BitVec 32 := 1024#32
  let v0 : BitVec 32 := Scalar.muli arg0 c1024_i32
  let c912_i32_3882 : BitVec 32 := 912#32
  let v5482 : BitVec 32 := Scalar.addi v0 c912_i32_3882
  let c1_i32_3883 : BitVec 32 := 1#32
  let v5483 : BitVec 32 := Scalar.addi v5482 c1_i32_3883
  let v5484 : Index := Scalar.indexCast v5483
  ![v5484.toNat]
def k0_off1828 (v5485 : BitVec 32) : Fin 2 → Nat :=
  let c0_i32_3884 : BitVec 32 := 0#32
  ![v5485.toNat, 0]

def k0_chk914 (v5485 : BitVec 32) : Prop :=
  (∀ a, (k0_off1828 v5485) a + S1x1024.size a ≤ S37888x1024.size a)
theorem k0_off1828_inb : ∀ (v5485 : BitVec 32) (k0_hw914 : k0_chk914 v5485), ∀ a, (k0_off1828 v5485) a + S1x1024.size a ≤ S37888x1024.size a := fun v5485 k0_hw914 => k0_hw914

def k0_off1829 (i : grid0.Coords) : Fin 1 → Nat :=
  let arg0 : BitVec 32 := BitVec.ofNat 32 (i 0).val
  let c1024_i32 : BitVec 32 := 1024#32
  let v0 : BitVec 32 := Scalar.muli arg0 c1024_i32
  let c914_i32 : BitVec 32 := 914#32
  let v5488 : BitVec 32 := Scalar.addi v0 c914_i32
  let c0_i32_3887 : BitVec 32 := 0#32
  let v5489 : BitVec 32 := Scalar.addi v5488 c0_i32_3887
  let v5490 : Index := Scalar.indexCast v5489
  ![v5490.toNat]
def k0_off1830 (v5491 : BitVec 32) : Fin 2 → Nat :=
  let c0_i32_3888 : BitVec 32 := 0#32
  ![v5491.toNat, 0]

def k0_chk915 (v5491 : BitVec 32) : Prop :=
  (∀ a, (k0_off1830 v5491) a + S1x1024.size a ≤ S37888x1024.size a)
theorem k0_off1830_inb : ∀ (v5491 : BitVec 32) (k0_hw915 : k0_chk915 v5491), ∀ a, (k0_off1830 v5491) a + S1x1024.size a ≤ S37888x1024.size a := fun v5491 k0_hw915 => k0_hw915

def k0_off1831 (i : grid0.Coords) : Fin 1 → Nat :=
  let arg0 : BitVec 32 := BitVec.ofNat 32 (i 0).val
  let c1024_i32 : BitVec 32 := 1024#32
  let v0 : BitVec 32 := Scalar.muli arg0 c1024_i32
  let c914_i32_3890 : BitVec 32 := 914#32
  let v5494 : BitVec 32 := Scalar.addi v0 c914_i32_3890
  let c1_i32_3891 : BitVec 32 := 1#32
  let v5495 : BitVec 32 := Scalar.addi v5494 c1_i32_3891
  let v5496 : Index := Scalar.indexCast v5495
  ![v5496.toNat]
def k0_off1832 (v5497 : BitVec 32) : Fin 2 → Nat :=
  let c0_i32_3892 : BitVec 32 := 0#32
  ![v5497.toNat, 0]

def k0_chk916 (v5497 : BitVec 32) : Prop :=
  (∀ a, (k0_off1832 v5497) a + S1x1024.size a ≤ S37888x1024.size a)
theorem k0_off1832_inb : ∀ (v5497 : BitVec 32) (k0_hw916 : k0_chk916 v5497), ∀ a, (k0_off1832 v5497) a + S1x1024.size a ≤ S37888x1024.size a := fun v5497 k0_hw916 => k0_hw916

def k0_off1833 (i : grid0.Coords) : Fin 1 → Nat :=
  let arg0 : BitVec 32 := BitVec.ofNat 32 (i 0).val
  let c1024_i32 : BitVec 32 := 1024#32
  let v0 : BitVec 32 := Scalar.muli arg0 c1024_i32
  let c916_i32 : BitVec 32 := 916#32
  let v5500 : BitVec 32 := Scalar.addi v0 c916_i32
  let c0_i32_3895 : BitVec 32 := 0#32
  let v5501 : BitVec 32 := Scalar.addi v5500 c0_i32_3895
  let v5502 : Index := Scalar.indexCast v5501
  ![v5502.toNat]
def k0_off1834 (v5503 : BitVec 32) : Fin 2 → Nat :=
  let c0_i32_3896 : BitVec 32 := 0#32
  ![v5503.toNat, 0]

def k0_chk917 (v5503 : BitVec 32) : Prop :=
  (∀ a, (k0_off1834 v5503) a + S1x1024.size a ≤ S37888x1024.size a)
theorem k0_off1834_inb : ∀ (v5503 : BitVec 32) (k0_hw917 : k0_chk917 v5503), ∀ a, (k0_off1834 v5503) a + S1x1024.size a ≤ S37888x1024.size a := fun v5503 k0_hw917 => k0_hw917

def k0_off1835 (i : grid0.Coords) : Fin 1 → Nat :=
  let arg0 : BitVec 32 := BitVec.ofNat 32 (i 0).val
  let c1024_i32 : BitVec 32 := 1024#32
  let v0 : BitVec 32 := Scalar.muli arg0 c1024_i32
  let c916_i32_3899 : BitVec 32 := 916#32
  let v5506 : BitVec 32 := Scalar.addi v0 c916_i32_3899
  let c1_i32_3900 : BitVec 32 := 1#32
  let v5507 : BitVec 32 := Scalar.addi v5506 c1_i32_3900
  let v5508 : Index := Scalar.indexCast v5507
  ![v5508.toNat]
def k0_off1836 (v5509 : BitVec 32) : Fin 2 → Nat :=
  let c0_i32_3901 : BitVec 32 := 0#32
  ![v5509.toNat, 0]

def k0_chk918 (v5509 : BitVec 32) : Prop :=
  (∀ a, (k0_off1836 v5509) a + S1x1024.size a ≤ S37888x1024.size a)
theorem k0_off1836_inb : ∀ (v5509 : BitVec 32) (k0_hw918 : k0_chk918 v5509), ∀ a, (k0_off1836 v5509) a + S1x1024.size a ≤ S37888x1024.size a := fun v5509 k0_hw918 => k0_hw918

def k0_off1837 (i : grid0.Coords) : Fin 1 → Nat :=
  let arg0 : BitVec 32 := BitVec.ofNat 32 (i 0).val
  let c1024_i32 : BitVec 32 := 1024#32
  let v0 : BitVec 32 := Scalar.muli arg0 c1024_i32
  let c918_i32 : BitVec 32 := 918#32
  let v5512 : BitVec 32 := Scalar.addi v0 c918_i32
  let c0_i32_3904 : BitVec 32 := 0#32
  let v5513 : BitVec 32 := Scalar.addi v5512 c0_i32_3904
  let v5514 : Index := Scalar.indexCast v5513
  ![v5514.toNat]
def k0_off1838 (v5515 : BitVec 32) : Fin 2 → Nat :=
  let c0_i32_3905 : BitVec 32 := 0#32
  ![v5515.toNat, 0]

def k0_chk919 (v5515 : BitVec 32) : Prop :=
  (∀ a, (k0_off1838 v5515) a + S1x1024.size a ≤ S37888x1024.size a)
theorem k0_off1838_inb : ∀ (v5515 : BitVec 32) (k0_hw919 : k0_chk919 v5515), ∀ a, (k0_off1838 v5515) a + S1x1024.size a ≤ S37888x1024.size a := fun v5515 k0_hw919 => k0_hw919

def k0_off1839 (i : grid0.Coords) : Fin 1 → Nat :=
  let arg0 : BitVec 32 := BitVec.ofNat 32 (i 0).val
  let c1024_i32 : BitVec 32 := 1024#32
  let v0 : BitVec 32 := Scalar.muli arg0 c1024_i32
  let c918_i32_3907 : BitVec 32 := 918#32
  let v5518 : BitVec 32 := Scalar.addi v0 c918_i32_3907
  let c1_i32_3908 : BitVec 32 := 1#32
  let v5519 : BitVec 32 := Scalar.addi v5518 c1_i32_3908
  let v5520 : Index := Scalar.indexCast v5519
  ![v5520.toNat]
def k0_off1840 (v5521 : BitVec 32) : Fin 2 → Nat :=
  let c0_i32_3909 : BitVec 32 := 0#32
  ![v5521.toNat, 0]

def k0_chk920 (v5521 : BitVec 32) : Prop :=
  (∀ a, (k0_off1840 v5521) a + S1x1024.size a ≤ S37888x1024.size a)
theorem k0_off1840_inb : ∀ (v5521 : BitVec 32) (k0_hw920 : k0_chk920 v5521), ∀ a, (k0_off1840 v5521) a + S1x1024.size a ≤ S37888x1024.size a := fun v5521 k0_hw920 => k0_hw920

def k0_off1841 (i : grid0.Coords) : Fin 1 → Nat :=
  let arg0 : BitVec 32 := BitVec.ofNat 32 (i 0).val
  let c1024_i32 : BitVec 32 := 1024#32
  let v0 : BitVec 32 := Scalar.muli arg0 c1024_i32
  let c920_i32 : BitVec 32 := 920#32
  let v5524 : BitVec 32 := Scalar.addi v0 c920_i32
  let c0_i32_3912 : BitVec 32 := 0#32
  let v5525 : BitVec 32 := Scalar.addi v5524 c0_i32_3912
  let v5526 : Index := Scalar.indexCast v5525
  ![v5526.toNat]
def k0_off1842 (v5527 : BitVec 32) : Fin 2 → Nat :=
  let c0_i32_3913 : BitVec 32 := 0#32
  ![v5527.toNat, 0]

def k0_chk921 (v5527 : BitVec 32) : Prop :=
  (∀ a, (k0_off1842 v5527) a + S1x1024.size a ≤ S37888x1024.size a)
theorem k0_off1842_inb : ∀ (v5527 : BitVec 32) (k0_hw921 : k0_chk921 v5527), ∀ a, (k0_off1842 v5527) a + S1x1024.size a ≤ S37888x1024.size a := fun v5527 k0_hw921 => k0_hw921

def k0_off1843 (i : grid0.Coords) : Fin 1 → Nat :=
  let arg0 : BitVec 32 := BitVec.ofNat 32 (i 0).val
  let c1024_i32 : BitVec 32 := 1024#32
  let v0 : BitVec 32 := Scalar.muli arg0 c1024_i32
  let c920_i32_3916 : BitVec 32 := 920#32
  let v5530 : BitVec 32 := Scalar.addi v0 c920_i32_3916
  let c1_i32_3917 : BitVec 32 := 1#32
  let v5531 : BitVec 32 := Scalar.addi v5530 c1_i32_3917
  let v5532 : Index := Scalar.indexCast v5531
  ![v5532.toNat]
def k0_off1844 (v5533 : BitVec 32) : Fin 2 → Nat :=
  let c0_i32_3918 : BitVec 32 := 0#32
  ![v5533.toNat, 0]

def k0_chk922 (v5533 : BitVec 32) : Prop :=
  (∀ a, (k0_off1844 v5533) a + S1x1024.size a ≤ S37888x1024.size a)
theorem k0_off1844_inb : ∀ (v5533 : BitVec 32) (k0_hw922 : k0_chk922 v5533), ∀ a, (k0_off1844 v5533) a + S1x1024.size a ≤ S37888x1024.size a := fun v5533 k0_hw922 => k0_hw922

def k0_off1845 (i : grid0.Coords) : Fin 1 → Nat :=
  let arg0 : BitVec 32 := BitVec.ofNat 32 (i 0).val
  let c1024_i32 : BitVec 32 := 1024#32
  let v0 : BitVec 32 := Scalar.muli arg0 c1024_i32
  let c922_i32 : BitVec 32 := 922#32
  let v5536 : BitVec 32 := Scalar.addi v0 c922_i32
  let c0_i32_3921 : BitVec 32 := 0#32
  let v5537 : BitVec 32 := Scalar.addi v5536 c0_i32_3921
  let v5538 : Index := Scalar.indexCast v5537
  ![v5538.toNat]
def k0_off1846 (v5539 : BitVec 32) : Fin 2 → Nat :=
  let c0_i32_3922 : BitVec 32 := 0#32
  ![v5539.toNat, 0]

def k0_chk923 (v5539 : BitVec 32) : Prop :=
  (∀ a, (k0_off1846 v5539) a + S1x1024.size a ≤ S37888x1024.size a)
theorem k0_off1846_inb : ∀ (v5539 : BitVec 32) (k0_hw923 : k0_chk923 v5539), ∀ a, (k0_off1846 v5539) a + S1x1024.size a ≤ S37888x1024.size a := fun v5539 k0_hw923 => k0_hw923

def k0_off1847 (i : grid0.Coords) : Fin 1 → Nat :=
  let arg0 : BitVec 32 := BitVec.ofNat 32 (i 0).val
  let c1024_i32 : BitVec 32 := 1024#32
  let v0 : BitVec 32 := Scalar.muli arg0 c1024_i32
  let c922_i32_3924 : BitVec 32 := 922#32
  let v5542 : BitVec 32 := Scalar.addi v0 c922_i32_3924
  let c1_i32_3925 : BitVec 32 := 1#32
  let v5543 : BitVec 32 := Scalar.addi v5542 c1_i32_3925
  let v5544 : Index := Scalar.indexCast v5543
  ![v5544.toNat]
def k0_off1848 (v5545 : BitVec 32) : Fin 2 → Nat :=
  let c0_i32_3926 : BitVec 32 := 0#32
  ![v5545.toNat, 0]

def k0_chk924 (v5545 : BitVec 32) : Prop :=
  (∀ a, (k0_off1848 v5545) a + S1x1024.size a ≤ S37888x1024.size a)
theorem k0_off1848_inb : ∀ (v5545 : BitVec 32) (k0_hw924 : k0_chk924 v5545), ∀ a, (k0_off1848 v5545) a + S1x1024.size a ≤ S37888x1024.size a := fun v5545 k0_hw924 => k0_hw924

def k0_off1849 (i : grid0.Coords) : Fin 1 → Nat :=
  let arg0 : BitVec 32 := BitVec.ofNat 32 (i 0).val
  let c1024_i32 : BitVec 32 := 1024#32
  let v0 : BitVec 32 := Scalar.muli arg0 c1024_i32
  let c924_i32 : BitVec 32 := 924#32
  let v5548 : BitVec 32 := Scalar.addi v0 c924_i32
  let c0_i32_3929 : BitVec 32 := 0#32
  let v5549 : BitVec 32 := Scalar.addi v5548 c0_i32_3929
  let v5550 : Index := Scalar.indexCast v5549
  ![v5550.toNat]
def k0_off1850 (v5551 : BitVec 32) : Fin 2 → Nat :=
  let c0_i32_3930 : BitVec 32 := 0#32
  ![v5551.toNat, 0]

def k0_chk925 (v5551 : BitVec 32) : Prop :=
  (∀ a, (k0_off1850 v5551) a + S1x1024.size a ≤ S37888x1024.size a)
theorem k0_off1850_inb : ∀ (v5551 : BitVec 32) (k0_hw925 : k0_chk925 v5551), ∀ a, (k0_off1850 v5551) a + S1x1024.size a ≤ S37888x1024.size a := fun v5551 k0_hw925 => k0_hw925

def k0_off1851 (i : grid0.Coords) : Fin 1 → Nat :=
  let arg0 : BitVec 32 := BitVec.ofNat 32 (i 0).val
  let c1024_i32 : BitVec 32 := 1024#32
  let v0 : BitVec 32 := Scalar.muli arg0 c1024_i32
  let c924_i32_3933 : BitVec 32 := 924#32
  let v5554 : BitVec 32 := Scalar.addi v0 c924_i32_3933
  let c1_i32_3934 : BitVec 32 := 1#32
  let v5555 : BitVec 32 := Scalar.addi v5554 c1_i32_3934
  let v5556 : Index := Scalar.indexCast v5555
  ![v5556.toNat]
def k0_off1852 (v5557 : BitVec 32) : Fin 2 → Nat :=
  let c0_i32_3935 : BitVec 32 := 0#32
  ![v5557.toNat, 0]

def k0_chk926 (v5557 : BitVec 32) : Prop :=
  (∀ a, (k0_off1852 v5557) a + S1x1024.size a ≤ S37888x1024.size a)
theorem k0_off1852_inb : ∀ (v5557 : BitVec 32) (k0_hw926 : k0_chk926 v5557), ∀ a, (k0_off1852 v5557) a + S1x1024.size a ≤ S37888x1024.size a := fun v5557 k0_hw926 => k0_hw926

def k0_off1853 (i : grid0.Coords) : Fin 1 → Nat :=
  let arg0 : BitVec 32 := BitVec.ofNat 32 (i 0).val
  let c1024_i32 : BitVec 32 := 1024#32
  let v0 : BitVec 32 := Scalar.muli arg0 c1024_i32
  let c926_i32 : BitVec 32 := 926#32
  let v5560 : BitVec 32 := Scalar.addi v0 c926_i32
  let c0_i32_3938 : BitVec 32 := 0#32
  let v5561 : BitVec 32 := Scalar.addi v5560 c0_i32_3938
  let v5562 : Index := Scalar.indexCast v5561
  ![v5562.toNat]
def k0_off1854 (v5563 : BitVec 32) : Fin 2 → Nat :=
  let c0_i32_3939 : BitVec 32 := 0#32
  ![v5563.toNat, 0]

def k0_chk927 (v5563 : BitVec 32) : Prop :=
  (∀ a, (k0_off1854 v5563) a + S1x1024.size a ≤ S37888x1024.size a)
theorem k0_off1854_inb : ∀ (v5563 : BitVec 32) (k0_hw927 : k0_chk927 v5563), ∀ a, (k0_off1854 v5563) a + S1x1024.size a ≤ S37888x1024.size a := fun v5563 k0_hw927 => k0_hw927

def k0_off1855 (i : grid0.Coords) : Fin 1 → Nat :=
  let arg0 : BitVec 32 := BitVec.ofNat 32 (i 0).val
  let c1024_i32 : BitVec 32 := 1024#32
  let v0 : BitVec 32 := Scalar.muli arg0 c1024_i32
  let c926_i32_3941 : BitVec 32 := 926#32
  let v5566 : BitVec 32 := Scalar.addi v0 c926_i32_3941
  let c1_i32_3942 : BitVec 32 := 1#32
  let v5567 : BitVec 32 := Scalar.addi v5566 c1_i32_3942
  let v5568 : Index := Scalar.indexCast v5567
  ![v5568.toNat]
def k0_off1856 (v5569 : BitVec 32) : Fin 2 → Nat :=
  let c0_i32_3943 : BitVec 32 := 0#32
  ![v5569.toNat, 0]

def k0_chk928 (v5569 : BitVec 32) : Prop :=
  (∀ a, (k0_off1856 v5569) a + S1x1024.size a ≤ S37888x1024.size a)
theorem k0_off1856_inb : ∀ (v5569 : BitVec 32) (k0_hw928 : k0_chk928 v5569), ∀ a, (k0_off1856 v5569) a + S1x1024.size a ≤ S37888x1024.size a := fun v5569 k0_hw928 => k0_hw928

def k0_off1857 (i : grid0.Coords) : Fin 1 → Nat :=
  let arg0 : BitVec 32 := BitVec.ofNat 32 (i 0).val
  let c1024_i32 : BitVec 32 := 1024#32
  let v0 : BitVec 32 := Scalar.muli arg0 c1024_i32
  let c928_i32 : BitVec 32 := 928#32
  let v5572 : BitVec 32 := Scalar.addi v0 c928_i32
  let c0_i32_3946 : BitVec 32 := 0#32
  let v5573 : BitVec 32 := Scalar.addi v5572 c0_i32_3946
  let v5574 : Index := Scalar.indexCast v5573
  ![v5574.toNat]
def k0_off1858 (v5575 : BitVec 32) : Fin 2 → Nat :=
  let c0_i32_3947 : BitVec 32 := 0#32
  ![v5575.toNat, 0]

def k0_chk929 (v5575 : BitVec 32) : Prop :=
  (∀ a, (k0_off1858 v5575) a + S1x1024.size a ≤ S37888x1024.size a)
theorem k0_off1858_inb : ∀ (v5575 : BitVec 32) (k0_hw929 : k0_chk929 v5575), ∀ a, (k0_off1858 v5575) a + S1x1024.size a ≤ S37888x1024.size a := fun v5575 k0_hw929 => k0_hw929

def k0_off1859 (i : grid0.Coords) : Fin 1 → Nat :=
  let arg0 : BitVec 32 := BitVec.ofNat 32 (i 0).val
  let c1024_i32 : BitVec 32 := 1024#32
  let v0 : BitVec 32 := Scalar.muli arg0 c1024_i32
  let c928_i32_3950 : BitVec 32 := 928#32
  let v5578 : BitVec 32 := Scalar.addi v0 c928_i32_3950
  let c1_i32_3951 : BitVec 32 := 1#32
  let v5579 : BitVec 32 := Scalar.addi v5578 c1_i32_3951
  let v5580 : Index := Scalar.indexCast v5579
  ![v5580.toNat]
def k0_off1860 (v5581 : BitVec 32) : Fin 2 → Nat :=
  let c0_i32_3952 : BitVec 32 := 0#32
  ![v5581.toNat, 0]

def k0_chk930 (v5581 : BitVec 32) : Prop :=
  (∀ a, (k0_off1860 v5581) a + S1x1024.size a ≤ S37888x1024.size a)
theorem k0_off1860_inb : ∀ (v5581 : BitVec 32) (k0_hw930 : k0_chk930 v5581), ∀ a, (k0_off1860 v5581) a + S1x1024.size a ≤ S37888x1024.size a := fun v5581 k0_hw930 => k0_hw930

def k0_off1861 (i : grid0.Coords) : Fin 1 → Nat :=
  let arg0 : BitVec 32 := BitVec.ofNat 32 (i 0).val
  let c1024_i32 : BitVec 32 := 1024#32
  let v0 : BitVec 32 := Scalar.muli arg0 c1024_i32
  let c930_i32 : BitVec 32 := 930#32
  let v5584 : BitVec 32 := Scalar.addi v0 c930_i32
  let c0_i32_3955 : BitVec 32 := 0#32
  let v5585 : BitVec 32 := Scalar.addi v5584 c0_i32_3955
  let v5586 : Index := Scalar.indexCast v5585
  ![v5586.toNat]
def k0_off1862 (v5587 : BitVec 32) : Fin 2 → Nat :=
  let c0_i32_3956 : BitVec 32 := 0#32
  ![v5587.toNat, 0]

def k0_chk931 (v5587 : BitVec 32) : Prop :=
  (∀ a, (k0_off1862 v5587) a + S1x1024.size a ≤ S37888x1024.size a)
theorem k0_off1862_inb : ∀ (v5587 : BitVec 32) (k0_hw931 : k0_chk931 v5587), ∀ a, (k0_off1862 v5587) a + S1x1024.size a ≤ S37888x1024.size a := fun v5587 k0_hw931 => k0_hw931

def k0_off1863 (i : grid0.Coords) : Fin 1 → Nat :=
  let arg0 : BitVec 32 := BitVec.ofNat 32 (i 0).val
  let c1024_i32 : BitVec 32 := 1024#32
  let v0 : BitVec 32 := Scalar.muli arg0 c1024_i32
  let c930_i32_3958 : BitVec 32 := 930#32
  let v5590 : BitVec 32 := Scalar.addi v0 c930_i32_3958
  let c1_i32_3959 : BitVec 32 := 1#32
  let v5591 : BitVec 32 := Scalar.addi v5590 c1_i32_3959
  let v5592 : Index := Scalar.indexCast v5591
  ![v5592.toNat]
def k0_off1864 (v5593 : BitVec 32) : Fin 2 → Nat :=
  let c0_i32_3960 : BitVec 32 := 0#32
  ![v5593.toNat, 0]

def k0_chk932 (v5593 : BitVec 32) : Prop :=
  (∀ a, (k0_off1864 v5593) a + S1x1024.size a ≤ S37888x1024.size a)
theorem k0_off1864_inb : ∀ (v5593 : BitVec 32) (k0_hw932 : k0_chk932 v5593), ∀ a, (k0_off1864 v5593) a + S1x1024.size a ≤ S37888x1024.size a := fun v5593 k0_hw932 => k0_hw932

def k0_off1865 (i : grid0.Coords) : Fin 1 → Nat :=
  let arg0 : BitVec 32 := BitVec.ofNat 32 (i 0).val
  let c1024_i32 : BitVec 32 := 1024#32
  let v0 : BitVec 32 := Scalar.muli arg0 c1024_i32
  let c932_i32 : BitVec 32 := 932#32
  let v5596 : BitVec 32 := Scalar.addi v0 c932_i32
  let c0_i32_3963 : BitVec 32 := 0#32
  let v5597 : BitVec 32 := Scalar.addi v5596 c0_i32_3963
  let v5598 : Index := Scalar.indexCast v5597
  ![v5598.toNat]
def k0_off1866 (v5599 : BitVec 32) : Fin 2 → Nat :=
  let c0_i32_3964 : BitVec 32 := 0#32
  ![v5599.toNat, 0]

def k0_chk933 (v5599 : BitVec 32) : Prop :=
  (∀ a, (k0_off1866 v5599) a + S1x1024.size a ≤ S37888x1024.size a)
theorem k0_off1866_inb : ∀ (v5599 : BitVec 32) (k0_hw933 : k0_chk933 v5599), ∀ a, (k0_off1866 v5599) a + S1x1024.size a ≤ S37888x1024.size a := fun v5599 k0_hw933 => k0_hw933

def k0_off1867 (i : grid0.Coords) : Fin 1 → Nat :=
  let arg0 : BitVec 32 := BitVec.ofNat 32 (i 0).val
  let c1024_i32 : BitVec 32 := 1024#32
  let v0 : BitVec 32 := Scalar.muli arg0 c1024_i32
  let c932_i32_3967 : BitVec 32 := 932#32
  let v5602 : BitVec 32 := Scalar.addi v0 c932_i32_3967
  let c1_i32_3968 : BitVec 32 := 1#32
  let v5603 : BitVec 32 := Scalar.addi v5602 c1_i32_3968
  let v5604 : Index := Scalar.indexCast v5603
  ![v5604.toNat]
def k0_off1868 (v5605 : BitVec 32) : Fin 2 → Nat :=
  let c0_i32_3969 : BitVec 32 := 0#32
  ![v5605.toNat, 0]

def k0_chk934 (v5605 : BitVec 32) : Prop :=
  (∀ a, (k0_off1868 v5605) a + S1x1024.size a ≤ S37888x1024.size a)
theorem k0_off1868_inb : ∀ (v5605 : BitVec 32) (k0_hw934 : k0_chk934 v5605), ∀ a, (k0_off1868 v5605) a + S1x1024.size a ≤ S37888x1024.size a := fun v5605 k0_hw934 => k0_hw934

def k0_off1869 (i : grid0.Coords) : Fin 1 → Nat :=
  let arg0 : BitVec 32 := BitVec.ofNat 32 (i 0).val
  let c1024_i32 : BitVec 32 := 1024#32
  let v0 : BitVec 32 := Scalar.muli arg0 c1024_i32
  let c934_i32 : BitVec 32 := 934#32
  let v5608 : BitVec 32 := Scalar.addi v0 c934_i32
  let c0_i32_3972 : BitVec 32 := 0#32
  let v5609 : BitVec 32 := Scalar.addi v5608 c0_i32_3972
  let v5610 : Index := Scalar.indexCast v5609
  ![v5610.toNat]
def k0_off1870 (v5611 : BitVec 32) : Fin 2 → Nat :=
  let c0_i32_3973 : BitVec 32 := 0#32
  ![v5611.toNat, 0]

def k0_chk935 (v5611 : BitVec 32) : Prop :=
  (∀ a, (k0_off1870 v5611) a + S1x1024.size a ≤ S37888x1024.size a)
theorem k0_off1870_inb : ∀ (v5611 : BitVec 32) (k0_hw935 : k0_chk935 v5611), ∀ a, (k0_off1870 v5611) a + S1x1024.size a ≤ S37888x1024.size a := fun v5611 k0_hw935 => k0_hw935

def k0_off1871 (i : grid0.Coords) : Fin 1 → Nat :=
  let arg0 : BitVec 32 := BitVec.ofNat 32 (i 0).val
  let c1024_i32 : BitVec 32 := 1024#32
  let v0 : BitVec 32 := Scalar.muli arg0 c1024_i32
  let c934_i32_3975 : BitVec 32 := 934#32
  let v5614 : BitVec 32 := Scalar.addi v0 c934_i32_3975
  let c1_i32_3976 : BitVec 32 := 1#32
  let v5615 : BitVec 32 := Scalar.addi v5614 c1_i32_3976
  let v5616 : Index := Scalar.indexCast v5615
  ![v5616.toNat]
def k0_off1872 (v5617 : BitVec 32) : Fin 2 → Nat :=
  let c0_i32_3977 : BitVec 32 := 0#32
  ![v5617.toNat, 0]

def k0_chk936 (v5617 : BitVec 32) : Prop :=
  (∀ a, (k0_off1872 v5617) a + S1x1024.size a ≤ S37888x1024.size a)
theorem k0_off1872_inb : ∀ (v5617 : BitVec 32) (k0_hw936 : k0_chk936 v5617), ∀ a, (k0_off1872 v5617) a + S1x1024.size a ≤ S37888x1024.size a := fun v5617 k0_hw936 => k0_hw936

def k0_off1873 (i : grid0.Coords) : Fin 1 → Nat :=
  let arg0 : BitVec 32 := BitVec.ofNat 32 (i 0).val
  let c1024_i32 : BitVec 32 := 1024#32
  let v0 : BitVec 32 := Scalar.muli arg0 c1024_i32
  let c936_i32 : BitVec 32 := 936#32
  let v5620 : BitVec 32 := Scalar.addi v0 c936_i32
  let c0_i32_3980 : BitVec 32 := 0#32
  let v5621 : BitVec 32 := Scalar.addi v5620 c0_i32_3980
  let v5622 : Index := Scalar.indexCast v5621
  ![v5622.toNat]
def k0_off1874 (v5623 : BitVec 32) : Fin 2 → Nat :=
  let c0_i32_3981 : BitVec 32 := 0#32
  ![v5623.toNat, 0]

def k0_chk937 (v5623 : BitVec 32) : Prop :=
  (∀ a, (k0_off1874 v5623) a + S1x1024.size a ≤ S37888x1024.size a)
theorem k0_off1874_inb : ∀ (v5623 : BitVec 32) (k0_hw937 : k0_chk937 v5623), ∀ a, (k0_off1874 v5623) a + S1x1024.size a ≤ S37888x1024.size a := fun v5623 k0_hw937 => k0_hw937

def k0_off1875 (i : grid0.Coords) : Fin 1 → Nat :=
  let arg0 : BitVec 32 := BitVec.ofNat 32 (i 0).val
  let c1024_i32 : BitVec 32 := 1024#32
  let v0 : BitVec 32 := Scalar.muli arg0 c1024_i32
  let c936_i32_3984 : BitVec 32 := 936#32
  let v5626 : BitVec 32 := Scalar.addi v0 c936_i32_3984
  let c1_i32_3985 : BitVec 32 := 1#32
  let v5627 : BitVec 32 := Scalar.addi v5626 c1_i32_3985
  let v5628 : Index := Scalar.indexCast v5627
  ![v5628.toNat]
def k0_off1876 (v5629 : BitVec 32) : Fin 2 → Nat :=
  let c0_i32_3986 : BitVec 32 := 0#32
  ![v5629.toNat, 0]

def k0_chk938 (v5629 : BitVec 32) : Prop :=
  (∀ a, (k0_off1876 v5629) a + S1x1024.size a ≤ S37888x1024.size a)
theorem k0_off1876_inb : ∀ (v5629 : BitVec 32) (k0_hw938 : k0_chk938 v5629), ∀ a, (k0_off1876 v5629) a + S1x1024.size a ≤ S37888x1024.size a := fun v5629 k0_hw938 => k0_hw938

def k0_off1877 (i : grid0.Coords) : Fin 1 → Nat :=
  let arg0 : BitVec 32 := BitVec.ofNat 32 (i 0).val
  let c1024_i32 : BitVec 32 := 1024#32
  let v0 : BitVec 32 := Scalar.muli arg0 c1024_i32
  let c938_i32 : BitVec 32 := 938#32
  let v5632 : BitVec 32 := Scalar.addi v0 c938_i32
  let c0_i32_3989 : BitVec 32 := 0#32
  let v5633 : BitVec 32 := Scalar.addi v5632 c0_i32_3989
  let v5634 : Index := Scalar.indexCast v5633
  ![v5634.toNat]
def k0_off1878 (v5635 : BitVec 32) : Fin 2 → Nat :=
  let c0_i32_3990 : BitVec 32 := 0#32
  ![v5635.toNat, 0]

def k0_chk939 (v5635 : BitVec 32) : Prop :=
  (∀ a, (k0_off1878 v5635) a + S1x1024.size a ≤ S37888x1024.size a)
theorem k0_off1878_inb : ∀ (v5635 : BitVec 32) (k0_hw939 : k0_chk939 v5635), ∀ a, (k0_off1878 v5635) a + S1x1024.size a ≤ S37888x1024.size a := fun v5635 k0_hw939 => k0_hw939

def k0_off1879 (i : grid0.Coords) : Fin 1 → Nat :=
  let arg0 : BitVec 32 := BitVec.ofNat 32 (i 0).val
  let c1024_i32 : BitVec 32 := 1024#32
  let v0 : BitVec 32 := Scalar.muli arg0 c1024_i32
  let c938_i32_3992 : BitVec 32 := 938#32
  let v5638 : BitVec 32 := Scalar.addi v0 c938_i32_3992
  let c1_i32_3993 : BitVec 32 := 1#32
  let v5639 : BitVec 32 := Scalar.addi v5638 c1_i32_3993
  let v5640 : Index := Scalar.indexCast v5639
  ![v5640.toNat]
def k0_off1880 (v5641 : BitVec 32) : Fin 2 → Nat :=
  let c0_i32_3994 : BitVec 32 := 0#32
  ![v5641.toNat, 0]

def k0_chk940 (v5641 : BitVec 32) : Prop :=
  (∀ a, (k0_off1880 v5641) a + S1x1024.size a ≤ S37888x1024.size a)
theorem k0_off1880_inb : ∀ (v5641 : BitVec 32) (k0_hw940 : k0_chk940 v5641), ∀ a, (k0_off1880 v5641) a + S1x1024.size a ≤ S37888x1024.size a := fun v5641 k0_hw940 => k0_hw940

def k0_off1881 (i : grid0.Coords) : Fin 1 → Nat :=
  let arg0 : BitVec 32 := BitVec.ofNat 32 (i 0).val
  let c1024_i32 : BitVec 32 := 1024#32
  let v0 : BitVec 32 := Scalar.muli arg0 c1024_i32
  let c940_i32 : BitVec 32 := 940#32
  let v5644 : BitVec 32 := Scalar.addi v0 c940_i32
  let c0_i32_3997 : BitVec 32 := 0#32
  let v5645 : BitVec 32 := Scalar.addi v5644 c0_i32_3997
  let v5646 : Index := Scalar.indexCast v5645
  ![v5646.toNat]
def k0_off1882 (v5647 : BitVec 32) : Fin 2 → Nat :=
  let c0_i32_3998 : BitVec 32 := 0#32
  ![v5647.toNat, 0]

def k0_chk941 (v5647 : BitVec 32) : Prop :=
  (∀ a, (k0_off1882 v5647) a + S1x1024.size a ≤ S37888x1024.size a)
theorem k0_off1882_inb : ∀ (v5647 : BitVec 32) (k0_hw941 : k0_chk941 v5647), ∀ a, (k0_off1882 v5647) a + S1x1024.size a ≤ S37888x1024.size a := fun v5647 k0_hw941 => k0_hw941

def k0_off1883 (i : grid0.Coords) : Fin 1 → Nat :=
  let arg0 : BitVec 32 := BitVec.ofNat 32 (i 0).val
  let c1024_i32 : BitVec 32 := 1024#32
  let v0 : BitVec 32 := Scalar.muli arg0 c1024_i32
  let c940_i32_4001 : BitVec 32 := 940#32
  let v5650 : BitVec 32 := Scalar.addi v0 c940_i32_4001
  let c1_i32_4002 : BitVec 32 := 1#32
  let v5651 : BitVec 32 := Scalar.addi v5650 c1_i32_4002
  let v5652 : Index := Scalar.indexCast v5651
  ![v5652.toNat]
def k0_off1884 (v5653 : BitVec 32) : Fin 2 → Nat :=
  let c0_i32_4003 : BitVec 32 := 0#32
  ![v5653.toNat, 0]

def k0_chk942 (v5653 : BitVec 32) : Prop :=
  (∀ a, (k0_off1884 v5653) a + S1x1024.size a ≤ S37888x1024.size a)
theorem k0_off1884_inb : ∀ (v5653 : BitVec 32) (k0_hw942 : k0_chk942 v5653), ∀ a, (k0_off1884 v5653) a + S1x1024.size a ≤ S37888x1024.size a := fun v5653 k0_hw942 => k0_hw942

def k0_off1885 (i : grid0.Coords) : Fin 1 → Nat :=
  let arg0 : BitVec 32 := BitVec.ofNat 32 (i 0).val
  let c1024_i32 : BitVec 32 := 1024#32
  let v0 : BitVec 32 := Scalar.muli arg0 c1024_i32
  let c942_i32 : BitVec 32 := 942#32
  let v5656 : BitVec 32 := Scalar.addi v0 c942_i32
  let c0_i32_4006 : BitVec 32 := 0#32
  let v5657 : BitVec 32 := Scalar.addi v5656 c0_i32_4006
  let v5658 : Index := Scalar.indexCast v5657
  ![v5658.toNat]
def k0_off1886 (v5659 : BitVec 32) : Fin 2 → Nat :=
  let c0_i32_4007 : BitVec 32 := 0#32
  ![v5659.toNat, 0]

def k0_chk943 (v5659 : BitVec 32) : Prop :=
  (∀ a, (k0_off1886 v5659) a + S1x1024.size a ≤ S37888x1024.size a)
theorem k0_off1886_inb : ∀ (v5659 : BitVec 32) (k0_hw943 : k0_chk943 v5659), ∀ a, (k0_off1886 v5659) a + S1x1024.size a ≤ S37888x1024.size a := fun v5659 k0_hw943 => k0_hw943

def k0_off1887 (i : grid0.Coords) : Fin 1 → Nat :=
  let arg0 : BitVec 32 := BitVec.ofNat 32 (i 0).val
  let c1024_i32 : BitVec 32 := 1024#32
  let v0 : BitVec 32 := Scalar.muli arg0 c1024_i32
  let c942_i32_4009 : BitVec 32 := 942#32
  let v5662 : BitVec 32 := Scalar.addi v0 c942_i32_4009
  let c1_i32_4010 : BitVec 32 := 1#32
  let v5663 : BitVec 32 := Scalar.addi v5662 c1_i32_4010
  let v5664 : Index := Scalar.indexCast v5663
  ![v5664.toNat]
def k0_off1888 (v5665 : BitVec 32) : Fin 2 → Nat :=
  let c0_i32_4011 : BitVec 32 := 0#32
  ![v5665.toNat, 0]

def k0_chk944 (v5665 : BitVec 32) : Prop :=
  (∀ a, (k0_off1888 v5665) a + S1x1024.size a ≤ S37888x1024.size a)
theorem k0_off1888_inb : ∀ (v5665 : BitVec 32) (k0_hw944 : k0_chk944 v5665), ∀ a, (k0_off1888 v5665) a + S1x1024.size a ≤ S37888x1024.size a := fun v5665 k0_hw944 => k0_hw944

def k0_off1889 (i : grid0.Coords) : Fin 1 → Nat :=
  let arg0 : BitVec 32 := BitVec.ofNat 32 (i 0).val
  let c1024_i32 : BitVec 32 := 1024#32
  let v0 : BitVec 32 := Scalar.muli arg0 c1024_i32
  let c944_i32 : BitVec 32 := 944#32
  let v5668 : BitVec 32 := Scalar.addi v0 c944_i32
  let c0_i32_4014 : BitVec 32 := 0#32
  let v5669 : BitVec 32 := Scalar.addi v5668 c0_i32_4014
  let v5670 : Index := Scalar.indexCast v5669
  ![v5670.toNat]
def k0_off1890 (v5671 : BitVec 32) : Fin 2 → Nat :=
  let c0_i32_4015 : BitVec 32 := 0#32
  ![v5671.toNat, 0]

def k0_chk945 (v5671 : BitVec 32) : Prop :=
  (∀ a, (k0_off1890 v5671) a + S1x1024.size a ≤ S37888x1024.size a)
theorem k0_off1890_inb : ∀ (v5671 : BitVec 32) (k0_hw945 : k0_chk945 v5671), ∀ a, (k0_off1890 v5671) a + S1x1024.size a ≤ S37888x1024.size a := fun v5671 k0_hw945 => k0_hw945

def k0_off1891 (i : grid0.Coords) : Fin 1 → Nat :=
  let arg0 : BitVec 32 := BitVec.ofNat 32 (i 0).val
  let c1024_i32 : BitVec 32 := 1024#32
  let v0 : BitVec 32 := Scalar.muli arg0 c1024_i32
  let c944_i32_4018 : BitVec 32 := 944#32
  let v5674 : BitVec 32 := Scalar.addi v0 c944_i32_4018
  let c1_i32_4019 : BitVec 32 := 1#32
  let v5675 : BitVec 32 := Scalar.addi v5674 c1_i32_4019
  let v5676 : Index := Scalar.indexCast v5675
  ![v5676.toNat]
def k0_off1892 (v5677 : BitVec 32) : Fin 2 → Nat :=
  let c0_i32_4020 : BitVec 32 := 0#32
  ![v5677.toNat, 0]

def k0_chk946 (v5677 : BitVec 32) : Prop :=
  (∀ a, (k0_off1892 v5677) a + S1x1024.size a ≤ S37888x1024.size a)
theorem k0_off1892_inb : ∀ (v5677 : BitVec 32) (k0_hw946 : k0_chk946 v5677), ∀ a, (k0_off1892 v5677) a + S1x1024.size a ≤ S37888x1024.size a := fun v5677 k0_hw946 => k0_hw946

def k0_off1893 (i : grid0.Coords) : Fin 1 → Nat :=
  let arg0 : BitVec 32 := BitVec.ofNat 32 (i 0).val
  let c1024_i32 : BitVec 32 := 1024#32
  let v0 : BitVec 32 := Scalar.muli arg0 c1024_i32
  let c946_i32 : BitVec 32 := 946#32
  let v5680 : BitVec 32 := Scalar.addi v0 c946_i32
  let c0_i32_4023 : BitVec 32 := 0#32
  let v5681 : BitVec 32 := Scalar.addi v5680 c0_i32_4023
  let v5682 : Index := Scalar.indexCast v5681
  ![v5682.toNat]
def k0_off1894 (v5683 : BitVec 32) : Fin 2 → Nat :=
  let c0_i32_4024 : BitVec 32 := 0#32
  ![v5683.toNat, 0]

def k0_chk947 (v5683 : BitVec 32) : Prop :=
  (∀ a, (k0_off1894 v5683) a + S1x1024.size a ≤ S37888x1024.size a)
theorem k0_off1894_inb : ∀ (v5683 : BitVec 32) (k0_hw947 : k0_chk947 v5683), ∀ a, (k0_off1894 v5683) a + S1x1024.size a ≤ S37888x1024.size a := fun v5683 k0_hw947 => k0_hw947

def k0_off1895 (i : grid0.Coords) : Fin 1 → Nat :=
  let arg0 : BitVec 32 := BitVec.ofNat 32 (i 0).val
  let c1024_i32 : BitVec 32 := 1024#32
  let v0 : BitVec 32 := Scalar.muli arg0 c1024_i32
  let c946_i32_4026 : BitVec 32 := 946#32
  let v5686 : BitVec 32 := Scalar.addi v0 c946_i32_4026
  let c1_i32_4027 : BitVec 32 := 1#32
  let v5687 : BitVec 32 := Scalar.addi v5686 c1_i32_4027
  let v5688 : Index := Scalar.indexCast v5687
  ![v5688.toNat]
def k0_off1896 (v5689 : BitVec 32) : Fin 2 → Nat :=
  let c0_i32_4028 : BitVec 32 := 0#32
  ![v5689.toNat, 0]

def k0_chk948 (v5689 : BitVec 32) : Prop :=
  (∀ a, (k0_off1896 v5689) a + S1x1024.size a ≤ S37888x1024.size a)
theorem k0_off1896_inb : ∀ (v5689 : BitVec 32) (k0_hw948 : k0_chk948 v5689), ∀ a, (k0_off1896 v5689) a + S1x1024.size a ≤ S37888x1024.size a := fun v5689 k0_hw948 => k0_hw948

def k0_off1897 (i : grid0.Coords) : Fin 1 → Nat :=
  let arg0 : BitVec 32 := BitVec.ofNat 32 (i 0).val
  let c1024_i32 : BitVec 32 := 1024#32
  let v0 : BitVec 32 := Scalar.muli arg0 c1024_i32
  let c948_i32 : BitVec 32 := 948#32
  let v5692 : BitVec 32 := Scalar.addi v0 c948_i32
  let c0_i32_4031 : BitVec 32 := 0#32
  let v5693 : BitVec 32 := Scalar.addi v5692 c0_i32_4031
  let v5694 : Index := Scalar.indexCast v5693
  ![v5694.toNat]
def k0_off1898 (v5695 : BitVec 32) : Fin 2 → Nat :=
  let c0_i32_4032 : BitVec 32 := 0#32
  ![v5695.toNat, 0]

def k0_chk949 (v5695 : BitVec 32) : Prop :=
  (∀ a, (k0_off1898 v5695) a + S1x1024.size a ≤ S37888x1024.size a)
theorem k0_off1898_inb : ∀ (v5695 : BitVec 32) (k0_hw949 : k0_chk949 v5695), ∀ a, (k0_off1898 v5695) a + S1x1024.size a ≤ S37888x1024.size a := fun v5695 k0_hw949 => k0_hw949

def k0_off1899 (i : grid0.Coords) : Fin 1 → Nat :=
  let arg0 : BitVec 32 := BitVec.ofNat 32 (i 0).val
  let c1024_i32 : BitVec 32 := 1024#32
  let v0 : BitVec 32 := Scalar.muli arg0 c1024_i32
  let c948_i32_4035 : BitVec 32 := 948#32
  let v5698 : BitVec 32 := Scalar.addi v0 c948_i32_4035
  let c1_i32_4036 : BitVec 32 := 1#32
  let v5699 : BitVec 32 := Scalar.addi v5698 c1_i32_4036
  let v5700 : Index := Scalar.indexCast v5699
  ![v5700.toNat]
def k0_off1900 (v5701 : BitVec 32) : Fin 2 → Nat :=
  let c0_i32_4037 : BitVec 32 := 0#32
  ![v5701.toNat, 0]

def k0_chk950 (v5701 : BitVec 32) : Prop :=
  (∀ a, (k0_off1900 v5701) a + S1x1024.size a ≤ S37888x1024.size a)
theorem k0_off1900_inb : ∀ (v5701 : BitVec 32) (k0_hw950 : k0_chk950 v5701), ∀ a, (k0_off1900 v5701) a + S1x1024.size a ≤ S37888x1024.size a := fun v5701 k0_hw950 => k0_hw950

def k0_off1901 (i : grid0.Coords) : Fin 1 → Nat :=
  let arg0 : BitVec 32 := BitVec.ofNat 32 (i 0).val
  let c1024_i32 : BitVec 32 := 1024#32
  let v0 : BitVec 32 := Scalar.muli arg0 c1024_i32
  let c950_i32 : BitVec 32 := 950#32
  let v5704 : BitVec 32 := Scalar.addi v0 c950_i32
  let c0_i32_4040 : BitVec 32 := 0#32
  let v5705 : BitVec 32 := Scalar.addi v5704 c0_i32_4040
  let v5706 : Index := Scalar.indexCast v5705
  ![v5706.toNat]
def k0_off1902 (v5707 : BitVec 32) : Fin 2 → Nat :=
  let c0_i32_4041 : BitVec 32 := 0#32
  ![v5707.toNat, 0]

def k0_chk951 (v5707 : BitVec 32) : Prop :=
  (∀ a, (k0_off1902 v5707) a + S1x1024.size a ≤ S37888x1024.size a)
theorem k0_off1902_inb : ∀ (v5707 : BitVec 32) (k0_hw951 : k0_chk951 v5707), ∀ a, (k0_off1902 v5707) a + S1x1024.size a ≤ S37888x1024.size a := fun v5707 k0_hw951 => k0_hw951

def k0_off1903 (i : grid0.Coords) : Fin 1 → Nat :=
  let arg0 : BitVec 32 := BitVec.ofNat 32 (i 0).val
  let c1024_i32 : BitVec 32 := 1024#32
  let v0 : BitVec 32 := Scalar.muli arg0 c1024_i32
  let c950_i32_4043 : BitVec 32 := 950#32
  let v5710 : BitVec 32 := Scalar.addi v0 c950_i32_4043
  let c1_i32_4044 : BitVec 32 := 1#32
  let v5711 : BitVec 32 := Scalar.addi v5710 c1_i32_4044
  let v5712 : Index := Scalar.indexCast v5711
  ![v5712.toNat]
def k0_off1904 (v5713 : BitVec 32) : Fin 2 → Nat :=
  let c0_i32_4045 : BitVec 32 := 0#32
  ![v5713.toNat, 0]

def k0_chk952 (v5713 : BitVec 32) : Prop :=
  (∀ a, (k0_off1904 v5713) a + S1x1024.size a ≤ S37888x1024.size a)
theorem k0_off1904_inb : ∀ (v5713 : BitVec 32) (k0_hw952 : k0_chk952 v5713), ∀ a, (k0_off1904 v5713) a + S1x1024.size a ≤ S37888x1024.size a := fun v5713 k0_hw952 => k0_hw952

def k0_off1905 (i : grid0.Coords) : Fin 1 → Nat :=
  let arg0 : BitVec 32 := BitVec.ofNat 32 (i 0).val
  let c1024_i32 : BitVec 32 := 1024#32
  let v0 : BitVec 32 := Scalar.muli arg0 c1024_i32
  let c952_i32 : BitVec 32 := 952#32
  let v5716 : BitVec 32 := Scalar.addi v0 c952_i32
  let c0_i32_4048 : BitVec 32 := 0#32
  let v5717 : BitVec 32 := Scalar.addi v5716 c0_i32_4048
  let v5718 : Index := Scalar.indexCast v5717
  ![v5718.toNat]
def k0_off1906 (v5719 : BitVec 32) : Fin 2 → Nat :=
  let c0_i32_4049 : BitVec 32 := 0#32
  ![v5719.toNat, 0]

def k0_chk953 (v5719 : BitVec 32) : Prop :=
  (∀ a, (k0_off1906 v5719) a + S1x1024.size a ≤ S37888x1024.size a)
theorem k0_off1906_inb : ∀ (v5719 : BitVec 32) (k0_hw953 : k0_chk953 v5719), ∀ a, (k0_off1906 v5719) a + S1x1024.size a ≤ S37888x1024.size a := fun v5719 k0_hw953 => k0_hw953

def k0_off1907 (i : grid0.Coords) : Fin 1 → Nat :=
  let arg0 : BitVec 32 := BitVec.ofNat 32 (i 0).val
  let c1024_i32 : BitVec 32 := 1024#32
  let v0 : BitVec 32 := Scalar.muli arg0 c1024_i32
  let c952_i32_4052 : BitVec 32 := 952#32
  let v5722 : BitVec 32 := Scalar.addi v0 c952_i32_4052
  let c1_i32_4053 : BitVec 32 := 1#32
  let v5723 : BitVec 32 := Scalar.addi v5722 c1_i32_4053
  let v5724 : Index := Scalar.indexCast v5723
  ![v5724.toNat]
def k0_off1908 (v5725 : BitVec 32) : Fin 2 → Nat :=
  let c0_i32_4054 : BitVec 32 := 0#32
  ![v5725.toNat, 0]

def k0_chk954 (v5725 : BitVec 32) : Prop :=
  (∀ a, (k0_off1908 v5725) a + S1x1024.size a ≤ S37888x1024.size a)
theorem k0_off1908_inb : ∀ (v5725 : BitVec 32) (k0_hw954 : k0_chk954 v5725), ∀ a, (k0_off1908 v5725) a + S1x1024.size a ≤ S37888x1024.size a := fun v5725 k0_hw954 => k0_hw954

def k0_off1909 (i : grid0.Coords) : Fin 1 → Nat :=
  let arg0 : BitVec 32 := BitVec.ofNat 32 (i 0).val
  let c1024_i32 : BitVec 32 := 1024#32
  let v0 : BitVec 32 := Scalar.muli arg0 c1024_i32
  let c954_i32 : BitVec 32 := 954#32
  let v5728 : BitVec 32 := Scalar.addi v0 c954_i32
  let c0_i32_4057 : BitVec 32 := 0#32
  let v5729 : BitVec 32 := Scalar.addi v5728 c0_i32_4057
  let v5730 : Index := Scalar.indexCast v5729
  ![v5730.toNat]
def k0_off1910 (v5731 : BitVec 32) : Fin 2 → Nat :=
  let c0_i32_4058 : BitVec 32 := 0#32
  ![v5731.toNat, 0]

def k0_chk955 (v5731 : BitVec 32) : Prop :=
  (∀ a, (k0_off1910 v5731) a + S1x1024.size a ≤ S37888x1024.size a)
theorem k0_off1910_inb : ∀ (v5731 : BitVec 32) (k0_hw955 : k0_chk955 v5731), ∀ a, (k0_off1910 v5731) a + S1x1024.size a ≤ S37888x1024.size a := fun v5731 k0_hw955 => k0_hw955

def k0_off1911 (i : grid0.Coords) : Fin 1 → Nat :=
  let arg0 : BitVec 32 := BitVec.ofNat 32 (i 0).val
  let c1024_i32 : BitVec 32 := 1024#32
  let v0 : BitVec 32 := Scalar.muli arg0 c1024_i32
  let c954_i32_4060 : BitVec 32 := 954#32
  let v5734 : BitVec 32 := Scalar.addi v0 c954_i32_4060
  let c1_i32_4061 : BitVec 32 := 1#32
  let v5735 : BitVec 32 := Scalar.addi v5734 c1_i32_4061
  let v5736 : Index := Scalar.indexCast v5735
  ![v5736.toNat]
def k0_off1912 (v5737 : BitVec 32) : Fin 2 → Nat :=
  let c0_i32_4062 : BitVec 32 := 0#32
  ![v5737.toNat, 0]

def k0_chk956 (v5737 : BitVec 32) : Prop :=
  (∀ a, (k0_off1912 v5737) a + S1x1024.size a ≤ S37888x1024.size a)
theorem k0_off1912_inb : ∀ (v5737 : BitVec 32) (k0_hw956 : k0_chk956 v5737), ∀ a, (k0_off1912 v5737) a + S1x1024.size a ≤ S37888x1024.size a := fun v5737 k0_hw956 => k0_hw956

def k0_off1913 (i : grid0.Coords) : Fin 1 → Nat :=
  let arg0 : BitVec 32 := BitVec.ofNat 32 (i 0).val
  let c1024_i32 : BitVec 32 := 1024#32
  let v0 : BitVec 32 := Scalar.muli arg0 c1024_i32
  let c956_i32 : BitVec 32 := 956#32
  let v5740 : BitVec 32 := Scalar.addi v0 c956_i32
  let c0_i32_4065 : BitVec 32 := 0#32
  let v5741 : BitVec 32 := Scalar.addi v5740 c0_i32_4065
  let v5742 : Index := Scalar.indexCast v5741
  ![v5742.toNat]
def k0_off1914 (v5743 : BitVec 32) : Fin 2 → Nat :=
  let c0_i32_4066 : BitVec 32 := 0#32
  ![v5743.toNat, 0]

def k0_chk957 (v5743 : BitVec 32) : Prop :=
  (∀ a, (k0_off1914 v5743) a + S1x1024.size a ≤ S37888x1024.size a)
theorem k0_off1914_inb : ∀ (v5743 : BitVec 32) (k0_hw957 : k0_chk957 v5743), ∀ a, (k0_off1914 v5743) a + S1x1024.size a ≤ S37888x1024.size a := fun v5743 k0_hw957 => k0_hw957

def k0_off1915 (i : grid0.Coords) : Fin 1 → Nat :=
  let arg0 : BitVec 32 := BitVec.ofNat 32 (i 0).val
  let c1024_i32 : BitVec 32 := 1024#32
  let v0 : BitVec 32 := Scalar.muli arg0 c1024_i32
  let c956_i32_4069 : BitVec 32 := 956#32
  let v5746 : BitVec 32 := Scalar.addi v0 c956_i32_4069
  let c1_i32_4070 : BitVec 32 := 1#32
  let v5747 : BitVec 32 := Scalar.addi v5746 c1_i32_4070
  let v5748 : Index := Scalar.indexCast v5747
  ![v5748.toNat]
def k0_off1916 (v5749 : BitVec 32) : Fin 2 → Nat :=
  let c0_i32_4071 : BitVec 32 := 0#32
  ![v5749.toNat, 0]

def k0_chk958 (v5749 : BitVec 32) : Prop :=
  (∀ a, (k0_off1916 v5749) a + S1x1024.size a ≤ S37888x1024.size a)
theorem k0_off1916_inb : ∀ (v5749 : BitVec 32) (k0_hw958 : k0_chk958 v5749), ∀ a, (k0_off1916 v5749) a + S1x1024.size a ≤ S37888x1024.size a := fun v5749 k0_hw958 => k0_hw958

def k0_off1917 (i : grid0.Coords) : Fin 1 → Nat :=
  let arg0 : BitVec 32 := BitVec.ofNat 32 (i 0).val
  let c1024_i32 : BitVec 32 := 1024#32
  let v0 : BitVec 32 := Scalar.muli arg0 c1024_i32
  let c958_i32 : BitVec 32 := 958#32
  let v5752 : BitVec 32 := Scalar.addi v0 c958_i32
  let c0_i32_4074 : BitVec 32 := 0#32
  let v5753 : BitVec 32 := Scalar.addi v5752 c0_i32_4074
  let v5754 : Index := Scalar.indexCast v5753
  ![v5754.toNat]
def k0_off1918 (v5755 : BitVec 32) : Fin 2 → Nat :=
  let c0_i32_4075 : BitVec 32 := 0#32
  ![v5755.toNat, 0]

def k0_chk959 (v5755 : BitVec 32) : Prop :=
  (∀ a, (k0_off1918 v5755) a + S1x1024.size a ≤ S37888x1024.size a)
theorem k0_off1918_inb : ∀ (v5755 : BitVec 32) (k0_hw959 : k0_chk959 v5755), ∀ a, (k0_off1918 v5755) a + S1x1024.size a ≤ S37888x1024.size a := fun v5755 k0_hw959 => k0_hw959

def k0_off1919 (i : grid0.Coords) : Fin 1 → Nat :=
  let arg0 : BitVec 32 := BitVec.ofNat 32 (i 0).val
  let c1024_i32 : BitVec 32 := 1024#32
  let v0 : BitVec 32 := Scalar.muli arg0 c1024_i32
  let c958_i32_4077 : BitVec 32 := 958#32
  let v5758 : BitVec 32 := Scalar.addi v0 c958_i32_4077
  let c1_i32_4078 : BitVec 32 := 1#32
  let v5759 : BitVec 32 := Scalar.addi v5758 c1_i32_4078
  let v5760 : Index := Scalar.indexCast v5759
  ![v5760.toNat]
def k0_off1920 (v5761 : BitVec 32) : Fin 2 → Nat :=
  let c0_i32_4079 : BitVec 32 := 0#32
  ![v5761.toNat, 0]

def k0_chk960 (v5761 : BitVec 32) : Prop :=
  (∀ a, (k0_off1920 v5761) a + S1x1024.size a ≤ S37888x1024.size a)
theorem k0_off1920_inb : ∀ (v5761 : BitVec 32) (k0_hw960 : k0_chk960 v5761), ∀ a, (k0_off1920 v5761) a + S1x1024.size a ≤ S37888x1024.size a := fun v5761 k0_hw960 => k0_hw960

def k0_off1921 (i : grid0.Coords) : Fin 1 → Nat :=
  let arg0 : BitVec 32 := BitVec.ofNat 32 (i 0).val
  let c1024_i32 : BitVec 32 := 1024#32
  let v0 : BitVec 32 := Scalar.muli arg0 c1024_i32
  let c960_i32 : BitVec 32 := 960#32
  let v5764 : BitVec 32 := Scalar.addi v0 c960_i32
  let c0_i32_4082 : BitVec 32 := 0#32
  let v5765 : BitVec 32 := Scalar.addi v5764 c0_i32_4082
  let v5766 : Index := Scalar.indexCast v5765
  ![v5766.toNat]
def k0_off1922 (v5767 : BitVec 32) : Fin 2 → Nat :=
  let c0_i32_4083 : BitVec 32 := 0#32
  ![v5767.toNat, 0]

def k0_chk961 (v5767 : BitVec 32) : Prop :=
  (∀ a, (k0_off1922 v5767) a + S1x1024.size a ≤ S37888x1024.size a)
theorem k0_off1922_inb : ∀ (v5767 : BitVec 32) (k0_hw961 : k0_chk961 v5767), ∀ a, (k0_off1922 v5767) a + S1x1024.size a ≤ S37888x1024.size a := fun v5767 k0_hw961 => k0_hw961

def k0_off1923 (i : grid0.Coords) : Fin 1 → Nat :=
  let arg0 : BitVec 32 := BitVec.ofNat 32 (i 0).val
  let c1024_i32 : BitVec 32 := 1024#32
  let v0 : BitVec 32 := Scalar.muli arg0 c1024_i32
  let c960_i32_4086 : BitVec 32 := 960#32
  let v5770 : BitVec 32 := Scalar.addi v0 c960_i32_4086
  let c1_i32_4087 : BitVec 32 := 1#32
  let v5771 : BitVec 32 := Scalar.addi v5770 c1_i32_4087
  let v5772 : Index := Scalar.indexCast v5771
  ![v5772.toNat]
def k0_off1924 (v5773 : BitVec 32) : Fin 2 → Nat :=
  let c0_i32_4088 : BitVec 32 := 0#32
  ![v5773.toNat, 0]

def k0_chk962 (v5773 : BitVec 32) : Prop :=
  (∀ a, (k0_off1924 v5773) a + S1x1024.size a ≤ S37888x1024.size a)
theorem k0_off1924_inb : ∀ (v5773 : BitVec 32) (k0_hw962 : k0_chk962 v5773), ∀ a, (k0_off1924 v5773) a + S1x1024.size a ≤ S37888x1024.size a := fun v5773 k0_hw962 => k0_hw962

def k0_off1925 (i : grid0.Coords) : Fin 1 → Nat :=
  let arg0 : BitVec 32 := BitVec.ofNat 32 (i 0).val
  let c1024_i32 : BitVec 32 := 1024#32
  let v0 : BitVec 32 := Scalar.muli arg0 c1024_i32
  let c962_i32 : BitVec 32 := 962#32
  let v5776 : BitVec 32 := Scalar.addi v0 c962_i32
  let c0_i32_4091 : BitVec 32 := 0#32
  let v5777 : BitVec 32 := Scalar.addi v5776 c0_i32_4091
  let v5778 : Index := Scalar.indexCast v5777
  ![v5778.toNat]
def k0_off1926 (v5779 : BitVec 32) : Fin 2 → Nat :=
  let c0_i32_4092 : BitVec 32 := 0#32
  ![v5779.toNat, 0]

def k0_chk963 (v5779 : BitVec 32) : Prop :=
  (∀ a, (k0_off1926 v5779) a + S1x1024.size a ≤ S37888x1024.size a)
theorem k0_off1926_inb : ∀ (v5779 : BitVec 32) (k0_hw963 : k0_chk963 v5779), ∀ a, (k0_off1926 v5779) a + S1x1024.size a ≤ S37888x1024.size a := fun v5779 k0_hw963 => k0_hw963

def k0_off1927 (i : grid0.Coords) : Fin 1 → Nat :=
  let arg0 : BitVec 32 := BitVec.ofNat 32 (i 0).val
  let c1024_i32 : BitVec 32 := 1024#32
  let v0 : BitVec 32 := Scalar.muli arg0 c1024_i32
  let c962_i32_4094 : BitVec 32 := 962#32
  let v5782 : BitVec 32 := Scalar.addi v0 c962_i32_4094
  let c1_i32_4095 : BitVec 32 := 1#32
  let v5783 : BitVec 32 := Scalar.addi v5782 c1_i32_4095
  let v5784 : Index := Scalar.indexCast v5783
  ![v5784.toNat]
def k0_off1928 (v5785 : BitVec 32) : Fin 2 → Nat :=
  let c0_i32_4096 : BitVec 32 := 0#32
  ![v5785.toNat, 0]

def k0_chk964 (v5785 : BitVec 32) : Prop :=
  (∀ a, (k0_off1928 v5785) a + S1x1024.size a ≤ S37888x1024.size a)
theorem k0_off1928_inb : ∀ (v5785 : BitVec 32) (k0_hw964 : k0_chk964 v5785), ∀ a, (k0_off1928 v5785) a + S1x1024.size a ≤ S37888x1024.size a := fun v5785 k0_hw964 => k0_hw964

def k0_off1929 (i : grid0.Coords) : Fin 1 → Nat :=
  let arg0 : BitVec 32 := BitVec.ofNat 32 (i 0).val
  let c1024_i32 : BitVec 32 := 1024#32
  let v0 : BitVec 32 := Scalar.muli arg0 c1024_i32
  let c964_i32 : BitVec 32 := 964#32
  let v5788 : BitVec 32 := Scalar.addi v0 c964_i32
  let c0_i32_4099 : BitVec 32 := 0#32
  let v5789 : BitVec 32 := Scalar.addi v5788 c0_i32_4099
  let v5790 : Index := Scalar.indexCast v5789
  ![v5790.toNat]
def k0_off1930 (v5791 : BitVec 32) : Fin 2 → Nat :=
  let c0_i32_4100 : BitVec 32 := 0#32
  ![v5791.toNat, 0]

def k0_chk965 (v5791 : BitVec 32) : Prop :=
  (∀ a, (k0_off1930 v5791) a + S1x1024.size a ≤ S37888x1024.size a)
theorem k0_off1930_inb : ∀ (v5791 : BitVec 32) (k0_hw965 : k0_chk965 v5791), ∀ a, (k0_off1930 v5791) a + S1x1024.size a ≤ S37888x1024.size a := fun v5791 k0_hw965 => k0_hw965

def k0_off1931 (i : grid0.Coords) : Fin 1 → Nat :=
  let arg0 : BitVec 32 := BitVec.ofNat 32 (i 0).val
  let c1024_i32 : BitVec 32 := 1024#32
  let v0 : BitVec 32 := Scalar.muli arg0 c1024_i32
  let c964_i32_4103 : BitVec 32 := 964#32
  let v5794 : BitVec 32 := Scalar.addi v0 c964_i32_4103
  let c1_i32_4104 : BitVec 32 := 1#32
  let v5795 : BitVec 32 := Scalar.addi v5794 c1_i32_4104
  let v5796 : Index := Scalar.indexCast v5795
  ![v5796.toNat]
def k0_off1932 (v5797 : BitVec 32) : Fin 2 → Nat :=
  let c0_i32_4105 : BitVec 32 := 0#32
  ![v5797.toNat, 0]

def k0_chk966 (v5797 : BitVec 32) : Prop :=
  (∀ a, (k0_off1932 v5797) a + S1x1024.size a ≤ S37888x1024.size a)
theorem k0_off1932_inb : ∀ (v5797 : BitVec 32) (k0_hw966 : k0_chk966 v5797), ∀ a, (k0_off1932 v5797) a + S1x1024.size a ≤ S37888x1024.size a := fun v5797 k0_hw966 => k0_hw966

def k0_off1933 (i : grid0.Coords) : Fin 1 → Nat :=
  let arg0 : BitVec 32 := BitVec.ofNat 32 (i 0).val
  let c1024_i32 : BitVec 32 := 1024#32
  let v0 : BitVec 32 := Scalar.muli arg0 c1024_i32
  let c966_i32 : BitVec 32 := 966#32
  let v5800 : BitVec 32 := Scalar.addi v0 c966_i32
  let c0_i32_4108 : BitVec 32 := 0#32
  let v5801 : BitVec 32 := Scalar.addi v5800 c0_i32_4108
  let v5802 : Index := Scalar.indexCast v5801
  ![v5802.toNat]
def k0_off1934 (v5803 : BitVec 32) : Fin 2 → Nat :=
  let c0_i32_4109 : BitVec 32 := 0#32
  ![v5803.toNat, 0]

def k0_chk967 (v5803 : BitVec 32) : Prop :=
  (∀ a, (k0_off1934 v5803) a + S1x1024.size a ≤ S37888x1024.size a)
theorem k0_off1934_inb : ∀ (v5803 : BitVec 32) (k0_hw967 : k0_chk967 v5803), ∀ a, (k0_off1934 v5803) a + S1x1024.size a ≤ S37888x1024.size a := fun v5803 k0_hw967 => k0_hw967

def k0_off1935 (i : grid0.Coords) : Fin 1 → Nat :=
  let arg0 : BitVec 32 := BitVec.ofNat 32 (i 0).val
  let c1024_i32 : BitVec 32 := 1024#32
  let v0 : BitVec 32 := Scalar.muli arg0 c1024_i32
  let c966_i32_4111 : BitVec 32 := 966#32
  let v5806 : BitVec 32 := Scalar.addi v0 c966_i32_4111
  let c1_i32_4112 : BitVec 32 := 1#32
  let v5807 : BitVec 32 := Scalar.addi v5806 c1_i32_4112
  let v5808 : Index := Scalar.indexCast v5807
  ![v5808.toNat]
def k0_off1936 (v5809 : BitVec 32) : Fin 2 → Nat :=
  let c0_i32_4113 : BitVec 32 := 0#32
  ![v5809.toNat, 0]

def k0_chk968 (v5809 : BitVec 32) : Prop :=
  (∀ a, (k0_off1936 v5809) a + S1x1024.size a ≤ S37888x1024.size a)
theorem k0_off1936_inb : ∀ (v5809 : BitVec 32) (k0_hw968 : k0_chk968 v5809), ∀ a, (k0_off1936 v5809) a + S1x1024.size a ≤ S37888x1024.size a := fun v5809 k0_hw968 => k0_hw968

def k0_off1937 (i : grid0.Coords) : Fin 1 → Nat :=
  let arg0 : BitVec 32 := BitVec.ofNat 32 (i 0).val
  let c1024_i32 : BitVec 32 := 1024#32
  let v0 : BitVec 32 := Scalar.muli arg0 c1024_i32
  let c968_i32 : BitVec 32 := 968#32
  let v5812 : BitVec 32 := Scalar.addi v0 c968_i32
  let c0_i32_4116 : BitVec 32 := 0#32
  let v5813 : BitVec 32 := Scalar.addi v5812 c0_i32_4116
  let v5814 : Index := Scalar.indexCast v5813
  ![v5814.toNat]
def k0_off1938 (v5815 : BitVec 32) : Fin 2 → Nat :=
  let c0_i32_4117 : BitVec 32 := 0#32
  ![v5815.toNat, 0]

def k0_chk969 (v5815 : BitVec 32) : Prop :=
  (∀ a, (k0_off1938 v5815) a + S1x1024.size a ≤ S37888x1024.size a)
theorem k0_off1938_inb : ∀ (v5815 : BitVec 32) (k0_hw969 : k0_chk969 v5815), ∀ a, (k0_off1938 v5815) a + S1x1024.size a ≤ S37888x1024.size a := fun v5815 k0_hw969 => k0_hw969

def k0_off1939 (i : grid0.Coords) : Fin 1 → Nat :=
  let arg0 : BitVec 32 := BitVec.ofNat 32 (i 0).val
  let c1024_i32 : BitVec 32 := 1024#32
  let v0 : BitVec 32 := Scalar.muli arg0 c1024_i32
  let c968_i32_4120 : BitVec 32 := 968#32
  let v5818 : BitVec 32 := Scalar.addi v0 c968_i32_4120
  let c1_i32_4121 : BitVec 32 := 1#32
  let v5819 : BitVec 32 := Scalar.addi v5818 c1_i32_4121
  let v5820 : Index := Scalar.indexCast v5819
  ![v5820.toNat]
def k0_off1940 (v5821 : BitVec 32) : Fin 2 → Nat :=
  let c0_i32_4122 : BitVec 32 := 0#32
  ![v5821.toNat, 0]

def k0_chk970 (v5821 : BitVec 32) : Prop :=
  (∀ a, (k0_off1940 v5821) a + S1x1024.size a ≤ S37888x1024.size a)
theorem k0_off1940_inb : ∀ (v5821 : BitVec 32) (k0_hw970 : k0_chk970 v5821), ∀ a, (k0_off1940 v5821) a + S1x1024.size a ≤ S37888x1024.size a := fun v5821 k0_hw970 => k0_hw970

def k0_off1941 (i : grid0.Coords) : Fin 1 → Nat :=
  let arg0 : BitVec 32 := BitVec.ofNat 32 (i 0).val
  let c1024_i32 : BitVec 32 := 1024#32
  let v0 : BitVec 32 := Scalar.muli arg0 c1024_i32
  let c970_i32 : BitVec 32 := 970#32
  let v5824 : BitVec 32 := Scalar.addi v0 c970_i32
  let c0_i32_4125 : BitVec 32 := 0#32
  let v5825 : BitVec 32 := Scalar.addi v5824 c0_i32_4125
  let v5826 : Index := Scalar.indexCast v5825
  ![v5826.toNat]
def k0_off1942 (v5827 : BitVec 32) : Fin 2 → Nat :=
  let c0_i32_4126 : BitVec 32 := 0#32
  ![v5827.toNat, 0]

def k0_chk971 (v5827 : BitVec 32) : Prop :=
  (∀ a, (k0_off1942 v5827) a + S1x1024.size a ≤ S37888x1024.size a)
theorem k0_off1942_inb : ∀ (v5827 : BitVec 32) (k0_hw971 : k0_chk971 v5827), ∀ a, (k0_off1942 v5827) a + S1x1024.size a ≤ S37888x1024.size a := fun v5827 k0_hw971 => k0_hw971

def k0_off1943 (i : grid0.Coords) : Fin 1 → Nat :=
  let arg0 : BitVec 32 := BitVec.ofNat 32 (i 0).val
  let c1024_i32 : BitVec 32 := 1024#32
  let v0 : BitVec 32 := Scalar.muli arg0 c1024_i32
  let c970_i32_4128 : BitVec 32 := 970#32
  let v5830 : BitVec 32 := Scalar.addi v0 c970_i32_4128
  let c1_i32_4129 : BitVec 32 := 1#32
  let v5831 : BitVec 32 := Scalar.addi v5830 c1_i32_4129
  let v5832 : Index := Scalar.indexCast v5831
  ![v5832.toNat]
def k0_off1944 (v5833 : BitVec 32) : Fin 2 → Nat :=
  let c0_i32_4130 : BitVec 32 := 0#32
  ![v5833.toNat, 0]

def k0_chk972 (v5833 : BitVec 32) : Prop :=
  (∀ a, (k0_off1944 v5833) a + S1x1024.size a ≤ S37888x1024.size a)
theorem k0_off1944_inb : ∀ (v5833 : BitVec 32) (k0_hw972 : k0_chk972 v5833), ∀ a, (k0_off1944 v5833) a + S1x1024.size a ≤ S37888x1024.size a := fun v5833 k0_hw972 => k0_hw972

def k0_off1945 (i : grid0.Coords) : Fin 1 → Nat :=
  let arg0 : BitVec 32 := BitVec.ofNat 32 (i 0).val
  let c1024_i32 : BitVec 32 := 1024#32
  let v0 : BitVec 32 := Scalar.muli arg0 c1024_i32
  let c972_i32 : BitVec 32 := 972#32
  let v5836 : BitVec 32 := Scalar.addi v0 c972_i32
  let c0_i32_4133 : BitVec 32 := 0#32
  let v5837 : BitVec 32 := Scalar.addi v5836 c0_i32_4133
  let v5838 : Index := Scalar.indexCast v5837
  ![v5838.toNat]
def k0_off1946 (v5839 : BitVec 32) : Fin 2 → Nat :=
  let c0_i32_4134 : BitVec 32 := 0#32
  ![v5839.toNat, 0]

def k0_chk973 (v5839 : BitVec 32) : Prop :=
  (∀ a, (k0_off1946 v5839) a + S1x1024.size a ≤ S37888x1024.size a)
theorem k0_off1946_inb : ∀ (v5839 : BitVec 32) (k0_hw973 : k0_chk973 v5839), ∀ a, (k0_off1946 v5839) a + S1x1024.size a ≤ S37888x1024.size a := fun v5839 k0_hw973 => k0_hw973

def k0_off1947 (i : grid0.Coords) : Fin 1 → Nat :=
  let arg0 : BitVec 32 := BitVec.ofNat 32 (i 0).val
  let c1024_i32 : BitVec 32 := 1024#32
  let v0 : BitVec 32 := Scalar.muli arg0 c1024_i32
  let c972_i32_4137 : BitVec 32 := 972#32
  let v5842 : BitVec 32 := Scalar.addi v0 c972_i32_4137
  let c1_i32_4138 : BitVec 32 := 1#32
  let v5843 : BitVec 32 := Scalar.addi v5842 c1_i32_4138
  let v5844 : Index := Scalar.indexCast v5843
  ![v5844.toNat]
def k0_off1948 (v5845 : BitVec 32) : Fin 2 → Nat :=
  let c0_i32_4139 : BitVec 32 := 0#32
  ![v5845.toNat, 0]

def k0_chk974 (v5845 : BitVec 32) : Prop :=
  (∀ a, (k0_off1948 v5845) a + S1x1024.size a ≤ S37888x1024.size a)
theorem k0_off1948_inb : ∀ (v5845 : BitVec 32) (k0_hw974 : k0_chk974 v5845), ∀ a, (k0_off1948 v5845) a + S1x1024.size a ≤ S37888x1024.size a := fun v5845 k0_hw974 => k0_hw974

def k0_off1949 (i : grid0.Coords) : Fin 1 → Nat :=
  let arg0 : BitVec 32 := BitVec.ofNat 32 (i 0).val
  let c1024_i32 : BitVec 32 := 1024#32
  let v0 : BitVec 32 := Scalar.muli arg0 c1024_i32
  let c974_i32 : BitVec 32 := 974#32
  let v5848 : BitVec 32 := Scalar.addi v0 c974_i32
  let c0_i32_4142 : BitVec 32 := 0#32
  let v5849 : BitVec 32 := Scalar.addi v5848 c0_i32_4142
  let v5850 : Index := Scalar.indexCast v5849
  ![v5850.toNat]
def k0_off1950 (v5851 : BitVec 32) : Fin 2 → Nat :=
  let c0_i32_4143 : BitVec 32 := 0#32
  ![v5851.toNat, 0]

def k0_chk975 (v5851 : BitVec 32) : Prop :=
  (∀ a, (k0_off1950 v5851) a + S1x1024.size a ≤ S37888x1024.size a)
theorem k0_off1950_inb : ∀ (v5851 : BitVec 32) (k0_hw975 : k0_chk975 v5851), ∀ a, (k0_off1950 v5851) a + S1x1024.size a ≤ S37888x1024.size a := fun v5851 k0_hw975 => k0_hw975

def k0_off1951 (i : grid0.Coords) : Fin 1 → Nat :=
  let arg0 : BitVec 32 := BitVec.ofNat 32 (i 0).val
  let c1024_i32 : BitVec 32 := 1024#32
  let v0 : BitVec 32 := Scalar.muli arg0 c1024_i32
  let c974_i32_4145 : BitVec 32 := 974#32
  let v5854 : BitVec 32 := Scalar.addi v0 c974_i32_4145
  let c1_i32_4146 : BitVec 32 := 1#32
  let v5855 : BitVec 32 := Scalar.addi v5854 c1_i32_4146
  let v5856 : Index := Scalar.indexCast v5855
  ![v5856.toNat]
def k0_off1952 (v5857 : BitVec 32) : Fin 2 → Nat :=
  let c0_i32_4147 : BitVec 32 := 0#32
  ![v5857.toNat, 0]

def k0_chk976 (v5857 : BitVec 32) : Prop :=
  (∀ a, (k0_off1952 v5857) a + S1x1024.size a ≤ S37888x1024.size a)
theorem k0_off1952_inb : ∀ (v5857 : BitVec 32) (k0_hw976 : k0_chk976 v5857), ∀ a, (k0_off1952 v5857) a + S1x1024.size a ≤ S37888x1024.size a := fun v5857 k0_hw976 => k0_hw976

def k0_off1953 (i : grid0.Coords) : Fin 1 → Nat :=
  let arg0 : BitVec 32 := BitVec.ofNat 32 (i 0).val
  let c1024_i32 : BitVec 32 := 1024#32
  let v0 : BitVec 32 := Scalar.muli arg0 c1024_i32
  let c976_i32 : BitVec 32 := 976#32
  let v5860 : BitVec 32 := Scalar.addi v0 c976_i32
  let c0_i32_4150 : BitVec 32 := 0#32
  let v5861 : BitVec 32 := Scalar.addi v5860 c0_i32_4150
  let v5862 : Index := Scalar.indexCast v5861
  ![v5862.toNat]
def k0_off1954 (v5863 : BitVec 32) : Fin 2 → Nat :=
  let c0_i32_4151 : BitVec 32 := 0#32
  ![v5863.toNat, 0]

def k0_chk977 (v5863 : BitVec 32) : Prop :=
  (∀ a, (k0_off1954 v5863) a + S1x1024.size a ≤ S37888x1024.size a)
theorem k0_off1954_inb : ∀ (v5863 : BitVec 32) (k0_hw977 : k0_chk977 v5863), ∀ a, (k0_off1954 v5863) a + S1x1024.size a ≤ S37888x1024.size a := fun v5863 k0_hw977 => k0_hw977

def k0_off1955 (i : grid0.Coords) : Fin 1 → Nat :=
  let arg0 : BitVec 32 := BitVec.ofNat 32 (i 0).val
  let c1024_i32 : BitVec 32 := 1024#32
  let v0 : BitVec 32 := Scalar.muli arg0 c1024_i32
  let c976_i32_4154 : BitVec 32 := 976#32
  let v5866 : BitVec 32 := Scalar.addi v0 c976_i32_4154
  let c1_i32_4155 : BitVec 32 := 1#32
  let v5867 : BitVec 32 := Scalar.addi v5866 c1_i32_4155
  let v5868 : Index := Scalar.indexCast v5867
  ![v5868.toNat]
def k0_off1956 (v5869 : BitVec 32) : Fin 2 → Nat :=
  let c0_i32_4156 : BitVec 32 := 0#32
  ![v5869.toNat, 0]

def k0_chk978 (v5869 : BitVec 32) : Prop :=
  (∀ a, (k0_off1956 v5869) a + S1x1024.size a ≤ S37888x1024.size a)
theorem k0_off1956_inb : ∀ (v5869 : BitVec 32) (k0_hw978 : k0_chk978 v5869), ∀ a, (k0_off1956 v5869) a + S1x1024.size a ≤ S37888x1024.size a := fun v5869 k0_hw978 => k0_hw978

def k0_off1957 (i : grid0.Coords) : Fin 1 → Nat :=
  let arg0 : BitVec 32 := BitVec.ofNat 32 (i 0).val
  let c1024_i32 : BitVec 32 := 1024#32
  let v0 : BitVec 32 := Scalar.muli arg0 c1024_i32
  let c978_i32 : BitVec 32 := 978#32
  let v5872 : BitVec 32 := Scalar.addi v0 c978_i32
  let c0_i32_4159 : BitVec 32 := 0#32
  let v5873 : BitVec 32 := Scalar.addi v5872 c0_i32_4159
  let v5874 : Index := Scalar.indexCast v5873
  ![v5874.toNat]
def k0_off1958 (v5875 : BitVec 32) : Fin 2 → Nat :=
  let c0_i32_4160 : BitVec 32 := 0#32
  ![v5875.toNat, 0]

def k0_chk979 (v5875 : BitVec 32) : Prop :=
  (∀ a, (k0_off1958 v5875) a + S1x1024.size a ≤ S37888x1024.size a)
theorem k0_off1958_inb : ∀ (v5875 : BitVec 32) (k0_hw979 : k0_chk979 v5875), ∀ a, (k0_off1958 v5875) a + S1x1024.size a ≤ S37888x1024.size a := fun v5875 k0_hw979 => k0_hw979

def k0_off1959 (i : grid0.Coords) : Fin 1 → Nat :=
  let arg0 : BitVec 32 := BitVec.ofNat 32 (i 0).val
  let c1024_i32 : BitVec 32 := 1024#32
  let v0 : BitVec 32 := Scalar.muli arg0 c1024_i32
  let c978_i32_4162 : BitVec 32 := 978#32
  let v5878 : BitVec 32 := Scalar.addi v0 c978_i32_4162
  let c1_i32_4163 : BitVec 32 := 1#32
  let v5879 : BitVec 32 := Scalar.addi v5878 c1_i32_4163
  let v5880 : Index := Scalar.indexCast v5879
  ![v5880.toNat]
def k0_off1960 (v5881 : BitVec 32) : Fin 2 → Nat :=
  let c0_i32_4164 : BitVec 32 := 0#32
  ![v5881.toNat, 0]

def k0_chk980 (v5881 : BitVec 32) : Prop :=
  (∀ a, (k0_off1960 v5881) a + S1x1024.size a ≤ S37888x1024.size a)
theorem k0_off1960_inb : ∀ (v5881 : BitVec 32) (k0_hw980 : k0_chk980 v5881), ∀ a, (k0_off1960 v5881) a + S1x1024.size a ≤ S37888x1024.size a := fun v5881 k0_hw980 => k0_hw980

def k0_off1961 (i : grid0.Coords) : Fin 1 → Nat :=
  let arg0 : BitVec 32 := BitVec.ofNat 32 (i 0).val
  let c1024_i32 : BitVec 32 := 1024#32
  let v0 : BitVec 32 := Scalar.muli arg0 c1024_i32
  let c980_i32 : BitVec 32 := 980#32
  let v5884 : BitVec 32 := Scalar.addi v0 c980_i32
  let c0_i32_4167 : BitVec 32 := 0#32
  let v5885 : BitVec 32 := Scalar.addi v5884 c0_i32_4167
  let v5886 : Index := Scalar.indexCast v5885
  ![v5886.toNat]
def k0_off1962 (v5887 : BitVec 32) : Fin 2 → Nat :=
  let c0_i32_4168 : BitVec 32 := 0#32
  ![v5887.toNat, 0]

def k0_chk981 (v5887 : BitVec 32) : Prop :=
  (∀ a, (k0_off1962 v5887) a + S1x1024.size a ≤ S37888x1024.size a)
theorem k0_off1962_inb : ∀ (v5887 : BitVec 32) (k0_hw981 : k0_chk981 v5887), ∀ a, (k0_off1962 v5887) a + S1x1024.size a ≤ S37888x1024.size a := fun v5887 k0_hw981 => k0_hw981

def k0_off1963 (i : grid0.Coords) : Fin 1 → Nat :=
  let arg0 : BitVec 32 := BitVec.ofNat 32 (i 0).val
  let c1024_i32 : BitVec 32 := 1024#32
  let v0 : BitVec 32 := Scalar.muli arg0 c1024_i32
  let c980_i32_4171 : BitVec 32 := 980#32
  let v5890 : BitVec 32 := Scalar.addi v0 c980_i32_4171
  let c1_i32_4172 : BitVec 32 := 1#32
  let v5891 : BitVec 32 := Scalar.addi v5890 c1_i32_4172
  let v5892 : Index := Scalar.indexCast v5891
  ![v5892.toNat]
def k0_off1964 (v5893 : BitVec 32) : Fin 2 → Nat :=
  let c0_i32_4173 : BitVec 32 := 0#32
  ![v5893.toNat, 0]

def k0_chk982 (v5893 : BitVec 32) : Prop :=
  (∀ a, (k0_off1964 v5893) a + S1x1024.size a ≤ S37888x1024.size a)
theorem k0_off1964_inb : ∀ (v5893 : BitVec 32) (k0_hw982 : k0_chk982 v5893), ∀ a, (k0_off1964 v5893) a + S1x1024.size a ≤ S37888x1024.size a := fun v5893 k0_hw982 => k0_hw982

def k0_off1965 (i : grid0.Coords) : Fin 1 → Nat :=
  let arg0 : BitVec 32 := BitVec.ofNat 32 (i 0).val
  let c1024_i32 : BitVec 32 := 1024#32
  let v0 : BitVec 32 := Scalar.muli arg0 c1024_i32
  let c982_i32 : BitVec 32 := 982#32
  let v5896 : BitVec 32 := Scalar.addi v0 c982_i32
  let c0_i32_4176 : BitVec 32 := 0#32
  let v5897 : BitVec 32 := Scalar.addi v5896 c0_i32_4176
  let v5898 : Index := Scalar.indexCast v5897
  ![v5898.toNat]
def k0_off1966 (v5899 : BitVec 32) : Fin 2 → Nat :=
  let c0_i32_4177 : BitVec 32 := 0#32
  ![v5899.toNat, 0]

def k0_chk983 (v5899 : BitVec 32) : Prop :=
  (∀ a, (k0_off1966 v5899) a + S1x1024.size a ≤ S37888x1024.size a)
theorem k0_off1966_inb : ∀ (v5899 : BitVec 32) (k0_hw983 : k0_chk983 v5899), ∀ a, (k0_off1966 v5899) a + S1x1024.size a ≤ S37888x1024.size a := fun v5899 k0_hw983 => k0_hw983

def k0_off1967 (i : grid0.Coords) : Fin 1 → Nat :=
  let arg0 : BitVec 32 := BitVec.ofNat 32 (i 0).val
  let c1024_i32 : BitVec 32 := 1024#32
  let v0 : BitVec 32 := Scalar.muli arg0 c1024_i32
  let c982_i32_4179 : BitVec 32 := 982#32
  let v5902 : BitVec 32 := Scalar.addi v0 c982_i32_4179
  let c1_i32_4180 : BitVec 32 := 1#32
  let v5903 : BitVec 32 := Scalar.addi v5902 c1_i32_4180
  let v5904 : Index := Scalar.indexCast v5903
  ![v5904.toNat]
def k0_off1968 (v5905 : BitVec 32) : Fin 2 → Nat :=
  let c0_i32_4181 : BitVec 32 := 0#32
  ![v5905.toNat, 0]

def k0_chk984 (v5905 : BitVec 32) : Prop :=
  (∀ a, (k0_off1968 v5905) a + S1x1024.size a ≤ S37888x1024.size a)
theorem k0_off1968_inb : ∀ (v5905 : BitVec 32) (k0_hw984 : k0_chk984 v5905), ∀ a, (k0_off1968 v5905) a + S1x1024.size a ≤ S37888x1024.size a := fun v5905 k0_hw984 => k0_hw984

def k0_off1969 (i : grid0.Coords) : Fin 1 → Nat :=
  let arg0 : BitVec 32 := BitVec.ofNat 32 (i 0).val
  let c1024_i32 : BitVec 32 := 1024#32
  let v0 : BitVec 32 := Scalar.muli arg0 c1024_i32
  let c984_i32 : BitVec 32 := 984#32
  let v5908 : BitVec 32 := Scalar.addi v0 c984_i32
  let c0_i32_4184 : BitVec 32 := 0#32
  let v5909 : BitVec 32 := Scalar.addi v5908 c0_i32_4184
  let v5910 : Index := Scalar.indexCast v5909
  ![v5910.toNat]
def k0_off1970 (v5911 : BitVec 32) : Fin 2 → Nat :=
  let c0_i32_4185 : BitVec 32 := 0#32
  ![v5911.toNat, 0]

def k0_chk985 (v5911 : BitVec 32) : Prop :=
  (∀ a, (k0_off1970 v5911) a + S1x1024.size a ≤ S37888x1024.size a)
theorem k0_off1970_inb : ∀ (v5911 : BitVec 32) (k0_hw985 : k0_chk985 v5911), ∀ a, (k0_off1970 v5911) a + S1x1024.size a ≤ S37888x1024.size a := fun v5911 k0_hw985 => k0_hw985

def k0_off1971 (i : grid0.Coords) : Fin 1 → Nat :=
  let arg0 : BitVec 32 := BitVec.ofNat 32 (i 0).val
  let c1024_i32 : BitVec 32 := 1024#32
  let v0 : BitVec 32 := Scalar.muli arg0 c1024_i32
  let c984_i32_4188 : BitVec 32 := 984#32
  let v5914 : BitVec 32 := Scalar.addi v0 c984_i32_4188
  let c1_i32_4189 : BitVec 32 := 1#32
  let v5915 : BitVec 32 := Scalar.addi v5914 c1_i32_4189
  let v5916 : Index := Scalar.indexCast v5915
  ![v5916.toNat]
def k0_off1972 (v5917 : BitVec 32) : Fin 2 → Nat :=
  let c0_i32_4190 : BitVec 32 := 0#32
  ![v5917.toNat, 0]

def k0_chk986 (v5917 : BitVec 32) : Prop :=
  (∀ a, (k0_off1972 v5917) a + S1x1024.size a ≤ S37888x1024.size a)
theorem k0_off1972_inb : ∀ (v5917 : BitVec 32) (k0_hw986 : k0_chk986 v5917), ∀ a, (k0_off1972 v5917) a + S1x1024.size a ≤ S37888x1024.size a := fun v5917 k0_hw986 => k0_hw986

def k0_off1973 (i : grid0.Coords) : Fin 1 → Nat :=
  let arg0 : BitVec 32 := BitVec.ofNat 32 (i 0).val
  let c1024_i32 : BitVec 32 := 1024#32
  let v0 : BitVec 32 := Scalar.muli arg0 c1024_i32
  let c986_i32 : BitVec 32 := 986#32
  let v5920 : BitVec 32 := Scalar.addi v0 c986_i32
  let c0_i32_4193 : BitVec 32 := 0#32
  let v5921 : BitVec 32 := Scalar.addi v5920 c0_i32_4193
  let v5922 : Index := Scalar.indexCast v5921
  ![v5922.toNat]
def k0_off1974 (v5923 : BitVec 32) : Fin 2 → Nat :=
  let c0_i32_4194 : BitVec 32 := 0#32
  ![v5923.toNat, 0]

def k0_chk987 (v5923 : BitVec 32) : Prop :=
  (∀ a, (k0_off1974 v5923) a + S1x1024.size a ≤ S37888x1024.size a)
theorem k0_off1974_inb : ∀ (v5923 : BitVec 32) (k0_hw987 : k0_chk987 v5923), ∀ a, (k0_off1974 v5923) a + S1x1024.size a ≤ S37888x1024.size a := fun v5923 k0_hw987 => k0_hw987

def k0_off1975 (i : grid0.Coords) : Fin 1 → Nat :=
  let arg0 : BitVec 32 := BitVec.ofNat 32 (i 0).val
  let c1024_i32 : BitVec 32 := 1024#32
  let v0 : BitVec 32 := Scalar.muli arg0 c1024_i32
  let c986_i32_4196 : BitVec 32 := 986#32
  let v5926 : BitVec 32 := Scalar.addi v0 c986_i32_4196
  let c1_i32_4197 : BitVec 32 := 1#32
  let v5927 : BitVec 32 := Scalar.addi v5926 c1_i32_4197
  let v5928 : Index := Scalar.indexCast v5927
  ![v5928.toNat]
def k0_off1976 (v5929 : BitVec 32) : Fin 2 → Nat :=
  let c0_i32_4198 : BitVec 32 := 0#32
  ![v5929.toNat, 0]

def k0_chk988 (v5929 : BitVec 32) : Prop :=
  (∀ a, (k0_off1976 v5929) a + S1x1024.size a ≤ S37888x1024.size a)
theorem k0_off1976_inb : ∀ (v5929 : BitVec 32) (k0_hw988 : k0_chk988 v5929), ∀ a, (k0_off1976 v5929) a + S1x1024.size a ≤ S37888x1024.size a := fun v5929 k0_hw988 => k0_hw988

def k0_off1977 (i : grid0.Coords) : Fin 1 → Nat :=
  let arg0 : BitVec 32 := BitVec.ofNat 32 (i 0).val
  let c1024_i32 : BitVec 32 := 1024#32
  let v0 : BitVec 32 := Scalar.muli arg0 c1024_i32
  let c988_i32 : BitVec 32 := 988#32
  let v5932 : BitVec 32 := Scalar.addi v0 c988_i32
  let c0_i32_4201 : BitVec 32 := 0#32
  let v5933 : BitVec 32 := Scalar.addi v5932 c0_i32_4201
  let v5934 : Index := Scalar.indexCast v5933
  ![v5934.toNat]
def k0_off1978 (v5935 : BitVec 32) : Fin 2 → Nat :=
  let c0_i32_4202 : BitVec 32 := 0#32
  ![v5935.toNat, 0]

def k0_chk989 (v5935 : BitVec 32) : Prop :=
  (∀ a, (k0_off1978 v5935) a + S1x1024.size a ≤ S37888x1024.size a)
theorem k0_off1978_inb : ∀ (v5935 : BitVec 32) (k0_hw989 : k0_chk989 v5935), ∀ a, (k0_off1978 v5935) a + S1x1024.size a ≤ S37888x1024.size a := fun v5935 k0_hw989 => k0_hw989

def k0_off1979 (i : grid0.Coords) : Fin 1 → Nat :=
  let arg0 : BitVec 32 := BitVec.ofNat 32 (i 0).val
  let c1024_i32 : BitVec 32 := 1024#32
  let v0 : BitVec 32 := Scalar.muli arg0 c1024_i32
  let c988_i32_4205 : BitVec 32 := 988#32
  let v5938 : BitVec 32 := Scalar.addi v0 c988_i32_4205
  let c1_i32_4206 : BitVec 32 := 1#32
  let v5939 : BitVec 32 := Scalar.addi v5938 c1_i32_4206
  let v5940 : Index := Scalar.indexCast v5939
  ![v5940.toNat]
def k0_off1980 (v5941 : BitVec 32) : Fin 2 → Nat :=
  let c0_i32_4207 : BitVec 32 := 0#32
  ![v5941.toNat, 0]

def k0_chk990 (v5941 : BitVec 32) : Prop :=
  (∀ a, (k0_off1980 v5941) a + S1x1024.size a ≤ S37888x1024.size a)
theorem k0_off1980_inb : ∀ (v5941 : BitVec 32) (k0_hw990 : k0_chk990 v5941), ∀ a, (k0_off1980 v5941) a + S1x1024.size a ≤ S37888x1024.size a := fun v5941 k0_hw990 => k0_hw990

def k0_off1981 (i : grid0.Coords) : Fin 1 → Nat :=
  let arg0 : BitVec 32 := BitVec.ofNat 32 (i 0).val
  let c1024_i32 : BitVec 32 := 1024#32
  let v0 : BitVec 32 := Scalar.muli arg0 c1024_i32
  let c990_i32 : BitVec 32 := 990#32
  let v5944 : BitVec 32 := Scalar.addi v0 c990_i32
  let c0_i32_4210 : BitVec 32 := 0#32
  let v5945 : BitVec 32 := Scalar.addi v5944 c0_i32_4210
  let v5946 : Index := Scalar.indexCast v5945
  ![v5946.toNat]
def k0_off1982 (v5947 : BitVec 32) : Fin 2 → Nat :=
  let c0_i32_4211 : BitVec 32 := 0#32
  ![v5947.toNat, 0]

def k0_chk991 (v5947 : BitVec 32) : Prop :=
  (∀ a, (k0_off1982 v5947) a + S1x1024.size a ≤ S37888x1024.size a)
theorem k0_off1982_inb : ∀ (v5947 : BitVec 32) (k0_hw991 : k0_chk991 v5947), ∀ a, (k0_off1982 v5947) a + S1x1024.size a ≤ S37888x1024.size a := fun v5947 k0_hw991 => k0_hw991

def k0_off1983 (i : grid0.Coords) : Fin 1 → Nat :=
  let arg0 : BitVec 32 := BitVec.ofNat 32 (i 0).val
  let c1024_i32 : BitVec 32 := 1024#32
  let v0 : BitVec 32 := Scalar.muli arg0 c1024_i32
  let c990_i32_4213 : BitVec 32 := 990#32
  let v5950 : BitVec 32 := Scalar.addi v0 c990_i32_4213
  let c1_i32_4214 : BitVec 32 := 1#32
  let v5951 : BitVec 32 := Scalar.addi v5950 c1_i32_4214
  let v5952 : Index := Scalar.indexCast v5951
  ![v5952.toNat]
def k0_off1984 (v5953 : BitVec 32) : Fin 2 → Nat :=
  let c0_i32_4215 : BitVec 32 := 0#32
  ![v5953.toNat, 0]

def k0_chk992 (v5953 : BitVec 32) : Prop :=
  (∀ a, (k0_off1984 v5953) a + S1x1024.size a ≤ S37888x1024.size a)
theorem k0_off1984_inb : ∀ (v5953 : BitVec 32) (k0_hw992 : k0_chk992 v5953), ∀ a, (k0_off1984 v5953) a + S1x1024.size a ≤ S37888x1024.size a := fun v5953 k0_hw992 => k0_hw992

def k0_off1985 (i : grid0.Coords) : Fin 1 → Nat :=
  let arg0 : BitVec 32 := BitVec.ofNat 32 (i 0).val
  let c1024_i32 : BitVec 32 := 1024#32
  let v0 : BitVec 32 := Scalar.muli arg0 c1024_i32
  let c992_i32 : BitVec 32 := 992#32
  let v5956 : BitVec 32 := Scalar.addi v0 c992_i32
  let c0_i32_4218 : BitVec 32 := 0#32
  let v5957 : BitVec 32 := Scalar.addi v5956 c0_i32_4218
  let v5958 : Index := Scalar.indexCast v5957
  ![v5958.toNat]
def k0_off1986 (v5959 : BitVec 32) : Fin 2 → Nat :=
  let c0_i32_4219 : BitVec 32 := 0#32
  ![v5959.toNat, 0]

def k0_chk993 (v5959 : BitVec 32) : Prop :=
  (∀ a, (k0_off1986 v5959) a + S1x1024.size a ≤ S37888x1024.size a)
theorem k0_off1986_inb : ∀ (v5959 : BitVec 32) (k0_hw993 : k0_chk993 v5959), ∀ a, (k0_off1986 v5959) a + S1x1024.size a ≤ S37888x1024.size a := fun v5959 k0_hw993 => k0_hw993

def k0_off1987 (i : grid0.Coords) : Fin 1 → Nat :=
  let arg0 : BitVec 32 := BitVec.ofNat 32 (i 0).val
  let c1024_i32 : BitVec 32 := 1024#32
  let v0 : BitVec 32 := Scalar.muli arg0 c1024_i32
  let c992_i32_4222 : BitVec 32 := 992#32
  let v5962 : BitVec 32 := Scalar.addi v0 c992_i32_4222
  let c1_i32_4223 : BitVec 32 := 1#32
  let v5963 : BitVec 32 := Scalar.addi v5962 c1_i32_4223
  let v5964 : Index := Scalar.indexCast v5963
  ![v5964.toNat]
def k0_off1988 (v5965 : BitVec 32) : Fin 2 → Nat :=
  let c0_i32_4224 : BitVec 32 := 0#32
  ![v5965.toNat, 0]

def k0_chk994 (v5965 : BitVec 32) : Prop :=
  (∀ a, (k0_off1988 v5965) a + S1x1024.size a ≤ S37888x1024.size a)
theorem k0_off1988_inb : ∀ (v5965 : BitVec 32) (k0_hw994 : k0_chk994 v5965), ∀ a, (k0_off1988 v5965) a + S1x1024.size a ≤ S37888x1024.size a := fun v5965 k0_hw994 => k0_hw994

def k0_off1989 (i : grid0.Coords) : Fin 1 → Nat :=
  let arg0 : BitVec 32 := BitVec.ofNat 32 (i 0).val
  let c1024_i32 : BitVec 32 := 1024#32
  let v0 : BitVec 32 := Scalar.muli arg0 c1024_i32
  let c994_i32 : BitVec 32 := 994#32
  let v5968 : BitVec 32 := Scalar.addi v0 c994_i32
  let c0_i32_4227 : BitVec 32 := 0#32
  let v5969 : BitVec 32 := Scalar.addi v5968 c0_i32_4227
  let v5970 : Index := Scalar.indexCast v5969
  ![v5970.toNat]
def k0_off1990 (v5971 : BitVec 32) : Fin 2 → Nat :=
  let c0_i32_4228 : BitVec 32 := 0#32
  ![v5971.toNat, 0]

def k0_chk995 (v5971 : BitVec 32) : Prop :=
  (∀ a, (k0_off1990 v5971) a + S1x1024.size a ≤ S37888x1024.size a)
theorem k0_off1990_inb : ∀ (v5971 : BitVec 32) (k0_hw995 : k0_chk995 v5971), ∀ a, (k0_off1990 v5971) a + S1x1024.size a ≤ S37888x1024.size a := fun v5971 k0_hw995 => k0_hw995

def k0_off1991 (i : grid0.Coords) : Fin 1 → Nat :=
  let arg0 : BitVec 32 := BitVec.ofNat 32 (i 0).val
  let c1024_i32 : BitVec 32 := 1024#32
  let v0 : BitVec 32 := Scalar.muli arg0 c1024_i32
  let c994_i32_4230 : BitVec 32 := 994#32
  let v5974 : BitVec 32 := Scalar.addi v0 c994_i32_4230
  let c1_i32_4231 : BitVec 32 := 1#32
  let v5975 : BitVec 32 := Scalar.addi v5974 c1_i32_4231
  let v5976 : Index := Scalar.indexCast v5975
  ![v5976.toNat]
def k0_off1992 (v5977 : BitVec 32) : Fin 2 → Nat :=
  let c0_i32_4232 : BitVec 32 := 0#32
  ![v5977.toNat, 0]

def k0_chk996 (v5977 : BitVec 32) : Prop :=
  (∀ a, (k0_off1992 v5977) a + S1x1024.size a ≤ S37888x1024.size a)
theorem k0_off1992_inb : ∀ (v5977 : BitVec 32) (k0_hw996 : k0_chk996 v5977), ∀ a, (k0_off1992 v5977) a + S1x1024.size a ≤ S37888x1024.size a := fun v5977 k0_hw996 => k0_hw996

def k0_off1993 (i : grid0.Coords) : Fin 1 → Nat :=
  let arg0 : BitVec 32 := BitVec.ofNat 32 (i 0).val
  let c1024_i32 : BitVec 32 := 1024#32
  let v0 : BitVec 32 := Scalar.muli arg0 c1024_i32
  let c996_i32 : BitVec 32 := 996#32
  let v5980 : BitVec 32 := Scalar.addi v0 c996_i32
  let c0_i32_4235 : BitVec 32 := 0#32
  let v5981 : BitVec 32 := Scalar.addi v5980 c0_i32_4235
  let v5982 : Index := Scalar.indexCast v5981
  ![v5982.toNat]
def k0_off1994 (v5983 : BitVec 32) : Fin 2 → Nat :=
  let c0_i32_4236 : BitVec 32 := 0#32
  ![v5983.toNat, 0]

def k0_chk997 (v5983 : BitVec 32) : Prop :=
  (∀ a, (k0_off1994 v5983) a + S1x1024.size a ≤ S37888x1024.size a)
theorem k0_off1994_inb : ∀ (v5983 : BitVec 32) (k0_hw997 : k0_chk997 v5983), ∀ a, (k0_off1994 v5983) a + S1x1024.size a ≤ S37888x1024.size a := fun v5983 k0_hw997 => k0_hw997

def k0_off1995 (i : grid0.Coords) : Fin 1 → Nat :=
  let arg0 : BitVec 32 := BitVec.ofNat 32 (i 0).val
  let c1024_i32 : BitVec 32 := 1024#32
  let v0 : BitVec 32 := Scalar.muli arg0 c1024_i32
  let c996_i32_4239 : BitVec 32 := 996#32
  let v5986 : BitVec 32 := Scalar.addi v0 c996_i32_4239
  let c1_i32_4240 : BitVec 32 := 1#32
  let v5987 : BitVec 32 := Scalar.addi v5986 c1_i32_4240
  let v5988 : Index := Scalar.indexCast v5987
  ![v5988.toNat]
def k0_off1996 (v5989 : BitVec 32) : Fin 2 → Nat :=
  let c0_i32_4241 : BitVec 32 := 0#32
  ![v5989.toNat, 0]

def k0_chk998 (v5989 : BitVec 32) : Prop :=
  (∀ a, (k0_off1996 v5989) a + S1x1024.size a ≤ S37888x1024.size a)
theorem k0_off1996_inb : ∀ (v5989 : BitVec 32) (k0_hw998 : k0_chk998 v5989), ∀ a, (k0_off1996 v5989) a + S1x1024.size a ≤ S37888x1024.size a := fun v5989 k0_hw998 => k0_hw998

def k0_off1997 (i : grid0.Coords) : Fin 1 → Nat :=
  let arg0 : BitVec 32 := BitVec.ofNat 32 (i 0).val
  let c1024_i32 : BitVec 32 := 1024#32
  let v0 : BitVec 32 := Scalar.muli arg0 c1024_i32
  let c998_i32 : BitVec 32 := 998#32
  let v5992 : BitVec 32 := Scalar.addi v0 c998_i32
  let c0_i32_4244 : BitVec 32 := 0#32
  let v5993 : BitVec 32 := Scalar.addi v5992 c0_i32_4244
  let v5994 : Index := Scalar.indexCast v5993
  ![v5994.toNat]
def k0_off1998 (v5995 : BitVec 32) : Fin 2 → Nat :=
  let c0_i32_4245 : BitVec 32 := 0#32
  ![v5995.toNat, 0]

def k0_chk999 (v5995 : BitVec 32) : Prop :=
  (∀ a, (k0_off1998 v5995) a + S1x1024.size a ≤ S37888x1024.size a)
theorem k0_off1998_inb : ∀ (v5995 : BitVec 32) (k0_hw999 : k0_chk999 v5995), ∀ a, (k0_off1998 v5995) a + S1x1024.size a ≤ S37888x1024.size a := fun v5995 k0_hw999 => k0_hw999

def k0_off1999 (i : grid0.Coords) : Fin 1 → Nat :=
  let arg0 : BitVec 32 := BitVec.ofNat 32 (i 0).val
  let c1024_i32 : BitVec 32 := 1024#32
  let v0 : BitVec 32 := Scalar.muli arg0 c1024_i32
  let c998_i32_4247 : BitVec 32 := 998#32
  let v5998 : BitVec 32 := Scalar.addi v0 c998_i32_4247
  let c1_i32_4248 : BitVec 32 := 1#32
  let v5999 : BitVec 32 := Scalar.addi v5998 c1_i32_4248
  let v6000 : Index := Scalar.indexCast v5999
  ![v6000.toNat]
def k0_off2000 (v6001 : BitVec 32) : Fin 2 → Nat :=
  let c0_i32_4249 : BitVec 32 := 0#32
  ![v6001.toNat, 0]

def k0_chk1000 (v6001 : BitVec 32) : Prop :=
  (∀ a, (k0_off2000 v6001) a + S1x1024.size a ≤ S37888x1024.size a)
theorem k0_off2000_inb : ∀ (v6001 : BitVec 32) (k0_hw1000 : k0_chk1000 v6001), ∀ a, (k0_off2000 v6001) a + S1x1024.size a ≤ S37888x1024.size a := fun v6001 k0_hw1000 => k0_hw1000

def k0_off2001 (i : grid0.Coords) : Fin 1 → Nat :=
  let arg0 : BitVec 32 := BitVec.ofNat 32 (i 0).val
  let c1024_i32 : BitVec 32 := 1024#32
  let v0 : BitVec 32 := Scalar.muli arg0 c1024_i32
  let c1000_i32 : BitVec 32 := 1000#32
  let v6004 : BitVec 32 := Scalar.addi v0 c1000_i32
  let c0_i32_4252 : BitVec 32 := 0#32
  let v6005 : BitVec 32 := Scalar.addi v6004 c0_i32_4252
  let v6006 : Index := Scalar.indexCast v6005
  ![v6006.toNat]
def k0_off2002 (v6007 : BitVec 32) : Fin 2 → Nat :=
  let c0_i32_4253 : BitVec 32 := 0#32
  ![v6007.toNat, 0]

def k0_chk1001 (v6007 : BitVec 32) : Prop :=
  (∀ a, (k0_off2002 v6007) a + S1x1024.size a ≤ S37888x1024.size a)
theorem k0_off2002_inb : ∀ (v6007 : BitVec 32) (k0_hw1001 : k0_chk1001 v6007), ∀ a, (k0_off2002 v6007) a + S1x1024.size a ≤ S37888x1024.size a := fun v6007 k0_hw1001 => k0_hw1001

def k0_off2003 (i : grid0.Coords) : Fin 1 → Nat :=
  let arg0 : BitVec 32 := BitVec.ofNat 32 (i 0).val
  let c1024_i32 : BitVec 32 := 1024#32
  let v0 : BitVec 32 := Scalar.muli arg0 c1024_i32
  let c1000_i32_4256 : BitVec 32 := 1000#32
  let v6010 : BitVec 32 := Scalar.addi v0 c1000_i32_4256
  let c1_i32_4257 : BitVec 32 := 1#32
  let v6011 : BitVec 32 := Scalar.addi v6010 c1_i32_4257
  let v6012 : Index := Scalar.indexCast v6011
  ![v6012.toNat]
def k0_off2004 (v6013 : BitVec 32) : Fin 2 → Nat :=
  let c0_i32_4258 : BitVec 32 := 0#32
  ![v6013.toNat, 0]

def k0_chk1002 (v6013 : BitVec 32) : Prop :=
  (∀ a, (k0_off2004 v6013) a + S1x1024.size a ≤ S37888x1024.size a)
theorem k0_off2004_inb : ∀ (v6013 : BitVec 32) (k0_hw1002 : k0_chk1002 v6013), ∀ a, (k0_off2004 v6013) a + S1x1024.size a ≤ S37888x1024.size a := fun v6013 k0_hw1002 => k0_hw1002

def k0_off2005 (i : grid0.Coords) : Fin 1 → Nat :=
  let arg0 : BitVec 32 := BitVec.ofNat 32 (i 0).val
  let c1024_i32 : BitVec 32 := 1024#32
  let v0 : BitVec 32 := Scalar.muli arg0 c1024_i32
  let c1002_i32 : BitVec 32 := 1002#32
  let v6016 : BitVec 32 := Scalar.addi v0 c1002_i32
  let c0_i32_4261 : BitVec 32 := 0#32
  let v6017 : BitVec 32 := Scalar.addi v6016 c0_i32_4261
  let v6018 : Index := Scalar.indexCast v6017
  ![v6018.toNat]
def k0_off2006 (v6019 : BitVec 32) : Fin 2 → Nat :=
  let c0_i32_4262 : BitVec 32 := 0#32
  ![v6019.toNat, 0]

def k0_chk1003 (v6019 : BitVec 32) : Prop :=
  (∀ a, (k0_off2006 v6019) a + S1x1024.size a ≤ S37888x1024.size a)
theorem k0_off2006_inb : ∀ (v6019 : BitVec 32) (k0_hw1003 : k0_chk1003 v6019), ∀ a, (k0_off2006 v6019) a + S1x1024.size a ≤ S37888x1024.size a := fun v6019 k0_hw1003 => k0_hw1003

def k0_off2007 (i : grid0.Coords) : Fin 1 → Nat :=
  let arg0 : BitVec 32 := BitVec.ofNat 32 (i 0).val
  let c1024_i32 : BitVec 32 := 1024#32
  let v0 : BitVec 32 := Scalar.muli arg0 c1024_i32
  let c1002_i32_4264 : BitVec 32 := 1002#32
  let v6022 : BitVec 32 := Scalar.addi v0 c1002_i32_4264
  let c1_i32_4265 : BitVec 32 := 1#32
  let v6023 : BitVec 32 := Scalar.addi v6022 c1_i32_4265
  let v6024 : Index := Scalar.indexCast v6023
  ![v6024.toNat]
def k0_off2008 (v6025 : BitVec 32) : Fin 2 → Nat :=
  let c0_i32_4266 : BitVec 32 := 0#32
  ![v6025.toNat, 0]

def k0_chk1004 (v6025 : BitVec 32) : Prop :=
  (∀ a, (k0_off2008 v6025) a + S1x1024.size a ≤ S37888x1024.size a)
theorem k0_off2008_inb : ∀ (v6025 : BitVec 32) (k0_hw1004 : k0_chk1004 v6025), ∀ a, (k0_off2008 v6025) a + S1x1024.size a ≤ S37888x1024.size a := fun v6025 k0_hw1004 => k0_hw1004

def k0_off2009 (i : grid0.Coords) : Fin 1 → Nat :=
  let arg0 : BitVec 32 := BitVec.ofNat 32 (i 0).val
  let c1024_i32 : BitVec 32 := 1024#32
  let v0 : BitVec 32 := Scalar.muli arg0 c1024_i32
  let c1004_i32 : BitVec 32 := 1004#32
  let v6028 : BitVec 32 := Scalar.addi v0 c1004_i32
  let c0_i32_4269 : BitVec 32 := 0#32
  let v6029 : BitVec 32 := Scalar.addi v6028 c0_i32_4269
  let v6030 : Index := Scalar.indexCast v6029
  ![v6030.toNat]
def k0_off2010 (v6031 : BitVec 32) : Fin 2 → Nat :=
  let c0_i32_4270 : BitVec 32 := 0#32
  ![v6031.toNat, 0]

def k0_chk1005 (v6031 : BitVec 32) : Prop :=
  (∀ a, (k0_off2010 v6031) a + S1x1024.size a ≤ S37888x1024.size a)
theorem k0_off2010_inb : ∀ (v6031 : BitVec 32) (k0_hw1005 : k0_chk1005 v6031), ∀ a, (k0_off2010 v6031) a + S1x1024.size a ≤ S37888x1024.size a := fun v6031 k0_hw1005 => k0_hw1005

def k0_off2011 (i : grid0.Coords) : Fin 1 → Nat :=
  let arg0 : BitVec 32 := BitVec.ofNat 32 (i 0).val
  let c1024_i32 : BitVec 32 := 1024#32
  let v0 : BitVec 32 := Scalar.muli arg0 c1024_i32
  let c1004_i32_4273 : BitVec 32 := 1004#32
  let v6034 : BitVec 32 := Scalar.addi v0 c1004_i32_4273
  let c1_i32_4274 : BitVec 32 := 1#32
  let v6035 : BitVec 32 := Scalar.addi v6034 c1_i32_4274
  let v6036 : Index := Scalar.indexCast v6035
  ![v6036.toNat]
def k0_off2012 (v6037 : BitVec 32) : Fin 2 → Nat :=
  let c0_i32_4275 : BitVec 32 := 0#32
  ![v6037.toNat, 0]

def k0_chk1006 (v6037 : BitVec 32) : Prop :=
  (∀ a, (k0_off2012 v6037) a + S1x1024.size a ≤ S37888x1024.size a)
theorem k0_off2012_inb : ∀ (v6037 : BitVec 32) (k0_hw1006 : k0_chk1006 v6037), ∀ a, (k0_off2012 v6037) a + S1x1024.size a ≤ S37888x1024.size a := fun v6037 k0_hw1006 => k0_hw1006

def k0_off2013 (i : grid0.Coords) : Fin 1 → Nat :=
  let arg0 : BitVec 32 := BitVec.ofNat 32 (i 0).val
  let c1024_i32 : BitVec 32 := 1024#32
  let v0 : BitVec 32 := Scalar.muli arg0 c1024_i32
  let c1006_i32 : BitVec 32 := 1006#32
  let v6040 : BitVec 32 := Scalar.addi v0 c1006_i32
  let c0_i32_4278 : BitVec 32 := 0#32
  let v6041 : BitVec 32 := Scalar.addi v6040 c0_i32_4278
  let v6042 : Index := Scalar.indexCast v6041
  ![v6042.toNat]
def k0_off2014 (v6043 : BitVec 32) : Fin 2 → Nat :=
  let c0_i32_4279 : BitVec 32 := 0#32
  ![v6043.toNat, 0]

def k0_chk1007 (v6043 : BitVec 32) : Prop :=
  (∀ a, (k0_off2014 v6043) a + S1x1024.size a ≤ S37888x1024.size a)
theorem k0_off2014_inb : ∀ (v6043 : BitVec 32) (k0_hw1007 : k0_chk1007 v6043), ∀ a, (k0_off2014 v6043) a + S1x1024.size a ≤ S37888x1024.size a := fun v6043 k0_hw1007 => k0_hw1007

def k0_off2015 (i : grid0.Coords) : Fin 1 → Nat :=
  let arg0 : BitVec 32 := BitVec.ofNat 32 (i 0).val
  let c1024_i32 : BitVec 32 := 1024#32
  let v0 : BitVec 32 := Scalar.muli arg0 c1024_i32
  let c1006_i32_4281 : BitVec 32 := 1006#32
  let v6046 : BitVec 32 := Scalar.addi v0 c1006_i32_4281
  let c1_i32_4282 : BitVec 32 := 1#32
  let v6047 : BitVec 32 := Scalar.addi v6046 c1_i32_4282
  let v6048 : Index := Scalar.indexCast v6047
  ![v6048.toNat]
def k0_off2016 (v6049 : BitVec 32) : Fin 2 → Nat :=
  let c0_i32_4283 : BitVec 32 := 0#32
  ![v6049.toNat, 0]

def k0_chk1008 (v6049 : BitVec 32) : Prop :=
  (∀ a, (k0_off2016 v6049) a + S1x1024.size a ≤ S37888x1024.size a)
theorem k0_off2016_inb : ∀ (v6049 : BitVec 32) (k0_hw1008 : k0_chk1008 v6049), ∀ a, (k0_off2016 v6049) a + S1x1024.size a ≤ S37888x1024.size a := fun v6049 k0_hw1008 => k0_hw1008

def k0_off2017 (i : grid0.Coords) : Fin 1 → Nat :=
  let arg0 : BitVec 32 := BitVec.ofNat 32 (i 0).val
  let c1024_i32 : BitVec 32 := 1024#32
  let v0 : BitVec 32 := Scalar.muli arg0 c1024_i32
  let c1008_i32 : BitVec 32 := 1008#32
  let v6052 : BitVec 32 := Scalar.addi v0 c1008_i32
  let c0_i32_4286 : BitVec 32 := 0#32
  let v6053 : BitVec 32 := Scalar.addi v6052 c0_i32_4286
  let v6054 : Index := Scalar.indexCast v6053
  ![v6054.toNat]
def k0_off2018 (v6055 : BitVec 32) : Fin 2 → Nat :=
  let c0_i32_4287 : BitVec 32 := 0#32
  ![v6055.toNat, 0]

def k0_chk1009 (v6055 : BitVec 32) : Prop :=
  (∀ a, (k0_off2018 v6055) a + S1x1024.size a ≤ S37888x1024.size a)
theorem k0_off2018_inb : ∀ (v6055 : BitVec 32) (k0_hw1009 : k0_chk1009 v6055), ∀ a, (k0_off2018 v6055) a + S1x1024.size a ≤ S37888x1024.size a := fun v6055 k0_hw1009 => k0_hw1009

def k0_off2019 (i : grid0.Coords) : Fin 1 → Nat :=
  let arg0 : BitVec 32 := BitVec.ofNat 32 (i 0).val
  let c1024_i32 : BitVec 32 := 1024#32
  let v0 : BitVec 32 := Scalar.muli arg0 c1024_i32
  let c1008_i32_4290 : BitVec 32 := 1008#32
  let v6058 : BitVec 32 := Scalar.addi v0 c1008_i32_4290
  let c1_i32_4291 : BitVec 32 := 1#32
  let v6059 : BitVec 32 := Scalar.addi v6058 c1_i32_4291
  let v6060 : Index := Scalar.indexCast v6059
  ![v6060.toNat]
def k0_off2020 (v6061 : BitVec 32) : Fin 2 → Nat :=
  let c0_i32_4292 : BitVec 32 := 0#32
  ![v6061.toNat, 0]

def k0_chk1010 (v6061 : BitVec 32) : Prop :=
  (∀ a, (k0_off2020 v6061) a + S1x1024.size a ≤ S37888x1024.size a)
theorem k0_off2020_inb : ∀ (v6061 : BitVec 32) (k0_hw1010 : k0_chk1010 v6061), ∀ a, (k0_off2020 v6061) a + S1x1024.size a ≤ S37888x1024.size a := fun v6061 k0_hw1010 => k0_hw1010

def k0_off2021 (i : grid0.Coords) : Fin 1 → Nat :=
  let arg0 : BitVec 32 := BitVec.ofNat 32 (i 0).val
  let c1024_i32 : BitVec 32 := 1024#32
  let v0 : BitVec 32 := Scalar.muli arg0 c1024_i32
  let c1010_i32 : BitVec 32 := 1010#32
  let v6064 : BitVec 32 := Scalar.addi v0 c1010_i32
  let c0_i32_4295 : BitVec 32 := 0#32
  let v6065 : BitVec 32 := Scalar.addi v6064 c0_i32_4295
  let v6066 : Index := Scalar.indexCast v6065
  ![v6066.toNat]
def k0_off2022 (v6067 : BitVec 32) : Fin 2 → Nat :=
  let c0_i32_4296 : BitVec 32 := 0#32
  ![v6067.toNat, 0]

def k0_chk1011 (v6067 : BitVec 32) : Prop :=
  (∀ a, (k0_off2022 v6067) a + S1x1024.size a ≤ S37888x1024.size a)
theorem k0_off2022_inb : ∀ (v6067 : BitVec 32) (k0_hw1011 : k0_chk1011 v6067), ∀ a, (k0_off2022 v6067) a + S1x1024.size a ≤ S37888x1024.size a := fun v6067 k0_hw1011 => k0_hw1011

def k0_off2023 (i : grid0.Coords) : Fin 1 → Nat :=
  let arg0 : BitVec 32 := BitVec.ofNat 32 (i 0).val
  let c1024_i32 : BitVec 32 := 1024#32
  let v0 : BitVec 32 := Scalar.muli arg0 c1024_i32
  let c1010_i32_4298 : BitVec 32 := 1010#32
  let v6070 : BitVec 32 := Scalar.addi v0 c1010_i32_4298
  let c1_i32_4299 : BitVec 32 := 1#32
  let v6071 : BitVec 32 := Scalar.addi v6070 c1_i32_4299
  let v6072 : Index := Scalar.indexCast v6071
  ![v6072.toNat]
def k0_off2024 (v6073 : BitVec 32) : Fin 2 → Nat :=
  let c0_i32_4300 : BitVec 32 := 0#32
  ![v6073.toNat, 0]

def k0_chk1012 (v6073 : BitVec 32) : Prop :=
  (∀ a, (k0_off2024 v6073) a + S1x1024.size a ≤ S37888x1024.size a)
theorem k0_off2024_inb : ∀ (v6073 : BitVec 32) (k0_hw1012 : k0_chk1012 v6073), ∀ a, (k0_off2024 v6073) a + S1x1024.size a ≤ S37888x1024.size a := fun v6073 k0_hw1012 => k0_hw1012

def k0_off2025 (i : grid0.Coords) : Fin 1 → Nat :=
  let arg0 : BitVec 32 := BitVec.ofNat 32 (i 0).val
  let c1024_i32 : BitVec 32 := 1024#32
  let v0 : BitVec 32 := Scalar.muli arg0 c1024_i32
  let c1012_i32 : BitVec 32 := 1012#32
  let v6076 : BitVec 32 := Scalar.addi v0 c1012_i32
  let c0_i32_4303 : BitVec 32 := 0#32
  let v6077 : BitVec 32 := Scalar.addi v6076 c0_i32_4303
  let v6078 : Index := Scalar.indexCast v6077
  ![v6078.toNat]
def k0_off2026 (v6079 : BitVec 32) : Fin 2 → Nat :=
  let c0_i32_4304 : BitVec 32 := 0#32
  ![v6079.toNat, 0]

def k0_chk1013 (v6079 : BitVec 32) : Prop :=
  (∀ a, (k0_off2026 v6079) a + S1x1024.size a ≤ S37888x1024.size a)
theorem k0_off2026_inb : ∀ (v6079 : BitVec 32) (k0_hw1013 : k0_chk1013 v6079), ∀ a, (k0_off2026 v6079) a + S1x1024.size a ≤ S37888x1024.size a := fun v6079 k0_hw1013 => k0_hw1013

def k0_off2027 (i : grid0.Coords) : Fin 1 → Nat :=
  let arg0 : BitVec 32 := BitVec.ofNat 32 (i 0).val
  let c1024_i32 : BitVec 32 := 1024#32
  let v0 : BitVec 32 := Scalar.muli arg0 c1024_i32
  let c1012_i32_4307 : BitVec 32 := 1012#32
  let v6082 : BitVec 32 := Scalar.addi v0 c1012_i32_4307
  let c1_i32_4308 : BitVec 32 := 1#32
  let v6083 : BitVec 32 := Scalar.addi v6082 c1_i32_4308
  let v6084 : Index := Scalar.indexCast v6083
  ![v6084.toNat]
def k0_off2028 (v6085 : BitVec 32) : Fin 2 → Nat :=
  let c0_i32_4309 : BitVec 32 := 0#32
  ![v6085.toNat, 0]

def k0_chk1014 (v6085 : BitVec 32) : Prop :=
  (∀ a, (k0_off2028 v6085) a + S1x1024.size a ≤ S37888x1024.size a)
theorem k0_off2028_inb : ∀ (v6085 : BitVec 32) (k0_hw1014 : k0_chk1014 v6085), ∀ a, (k0_off2028 v6085) a + S1x1024.size a ≤ S37888x1024.size a := fun v6085 k0_hw1014 => k0_hw1014

def k0_off2029 (i : grid0.Coords) : Fin 1 → Nat :=
  let arg0 : BitVec 32 := BitVec.ofNat 32 (i 0).val
  let c1024_i32 : BitVec 32 := 1024#32
  let v0 : BitVec 32 := Scalar.muli arg0 c1024_i32
  let c1014_i32 : BitVec 32 := 1014#32
  let v6088 : BitVec 32 := Scalar.addi v0 c1014_i32
  let c0_i32_4312 : BitVec 32 := 0#32
  let v6089 : BitVec 32 := Scalar.addi v6088 c0_i32_4312
  let v6090 : Index := Scalar.indexCast v6089
  ![v6090.toNat]
def k0_off2030 (v6091 : BitVec 32) : Fin 2 → Nat :=
  let c0_i32_4313 : BitVec 32 := 0#32
  ![v6091.toNat, 0]

def k0_chk1015 (v6091 : BitVec 32) : Prop :=
  (∀ a, (k0_off2030 v6091) a + S1x1024.size a ≤ S37888x1024.size a)
theorem k0_off2030_inb : ∀ (v6091 : BitVec 32) (k0_hw1015 : k0_chk1015 v6091), ∀ a, (k0_off2030 v6091) a + S1x1024.size a ≤ S37888x1024.size a := fun v6091 k0_hw1015 => k0_hw1015

def k0_off2031 (i : grid0.Coords) : Fin 1 → Nat :=
  let arg0 : BitVec 32 := BitVec.ofNat 32 (i 0).val
  let c1024_i32 : BitVec 32 := 1024#32
  let v0 : BitVec 32 := Scalar.muli arg0 c1024_i32
  let c1014_i32_4315 : BitVec 32 := 1014#32
  let v6094 : BitVec 32 := Scalar.addi v0 c1014_i32_4315
  let c1_i32_4316 : BitVec 32 := 1#32
  let v6095 : BitVec 32 := Scalar.addi v6094 c1_i32_4316
  let v6096 : Index := Scalar.indexCast v6095
  ![v6096.toNat]
def k0_off2032 (v6097 : BitVec 32) : Fin 2 → Nat :=
  let c0_i32_4317 : BitVec 32 := 0#32
  ![v6097.toNat, 0]

def k0_chk1016 (v6097 : BitVec 32) : Prop :=
  (∀ a, (k0_off2032 v6097) a + S1x1024.size a ≤ S37888x1024.size a)
theorem k0_off2032_inb : ∀ (v6097 : BitVec 32) (k0_hw1016 : k0_chk1016 v6097), ∀ a, (k0_off2032 v6097) a + S1x1024.size a ≤ S37888x1024.size a := fun v6097 k0_hw1016 => k0_hw1016

def k0_off2033 (i : grid0.Coords) : Fin 1 → Nat :=
  let arg0 : BitVec 32 := BitVec.ofNat 32 (i 0).val
  let c1024_i32 : BitVec 32 := 1024#32
  let v0 : BitVec 32 := Scalar.muli arg0 c1024_i32
  let c1016_i32 : BitVec 32 := 1016#32
  let v6100 : BitVec 32 := Scalar.addi v0 c1016_i32
  let c0_i32_4320 : BitVec 32 := 0#32
  let v6101 : BitVec 32 := Scalar.addi v6100 c0_i32_4320
  let v6102 : Index := Scalar.indexCast v6101
  ![v6102.toNat]
def k0_off2034 (v6103 : BitVec 32) : Fin 2 → Nat :=
  let c0_i32_4321 : BitVec 32 := 0#32
  ![v6103.toNat, 0]

def k0_chk1017 (v6103 : BitVec 32) : Prop :=
  (∀ a, (k0_off2034 v6103) a + S1x1024.size a ≤ S37888x1024.size a)
theorem k0_off2034_inb : ∀ (v6103 : BitVec 32) (k0_hw1017 : k0_chk1017 v6103), ∀ a, (k0_off2034 v6103) a + S1x1024.size a ≤ S37888x1024.size a := fun v6103 k0_hw1017 => k0_hw1017

def k0_off2035 (i : grid0.Coords) : Fin 1 → Nat :=
  let arg0 : BitVec 32 := BitVec.ofNat 32 (i 0).val
  let c1024_i32 : BitVec 32 := 1024#32
  let v0 : BitVec 32 := Scalar.muli arg0 c1024_i32
  let c1016_i32_4324 : BitVec 32 := 1016#32
  let v6106 : BitVec 32 := Scalar.addi v0 c1016_i32_4324
  let c1_i32_4325 : BitVec 32 := 1#32
  let v6107 : BitVec 32 := Scalar.addi v6106 c1_i32_4325
  let v6108 : Index := Scalar.indexCast v6107
  ![v6108.toNat]
def k0_off2036 (v6109 : BitVec 32) : Fin 2 → Nat :=
  let c0_i32_4326 : BitVec 32 := 0#32
  ![v6109.toNat, 0]

def k0_chk1018 (v6109 : BitVec 32) : Prop :=
  (∀ a, (k0_off2036 v6109) a + S1x1024.size a ≤ S37888x1024.size a)
theorem k0_off2036_inb : ∀ (v6109 : BitVec 32) (k0_hw1018 : k0_chk1018 v6109), ∀ a, (k0_off2036 v6109) a + S1x1024.size a ≤ S37888x1024.size a := fun v6109 k0_hw1018 => k0_hw1018

def k0_off2037 (i : grid0.Coords) : Fin 1 → Nat :=
  let arg0 : BitVec 32 := BitVec.ofNat 32 (i 0).val
  let c1024_i32 : BitVec 32 := 1024#32
  let v0 : BitVec 32 := Scalar.muli arg0 c1024_i32
  let c1018_i32 : BitVec 32 := 1018#32
  let v6112 : BitVec 32 := Scalar.addi v0 c1018_i32
  let c0_i32_4329 : BitVec 32 := 0#32
  let v6113 : BitVec 32 := Scalar.addi v6112 c0_i32_4329
  let v6114 : Index := Scalar.indexCast v6113
  ![v6114.toNat]
def k0_off2038 (v6115 : BitVec 32) : Fin 2 → Nat :=
  let c0_i32_4330 : BitVec 32 := 0#32
  ![v6115.toNat, 0]

def k0_chk1019 (v6115 : BitVec 32) : Prop :=
  (∀ a, (k0_off2038 v6115) a + S1x1024.size a ≤ S37888x1024.size a)
theorem k0_off2038_inb : ∀ (v6115 : BitVec 32) (k0_hw1019 : k0_chk1019 v6115), ∀ a, (k0_off2038 v6115) a + S1x1024.size a ≤ S37888x1024.size a := fun v6115 k0_hw1019 => k0_hw1019

def k0_off2039 (i : grid0.Coords) : Fin 1 → Nat :=
  let arg0 : BitVec 32 := BitVec.ofNat 32 (i 0).val
  let c1024_i32 : BitVec 32 := 1024#32
  let v0 : BitVec 32 := Scalar.muli arg0 c1024_i32
  let c1018_i32_4332 : BitVec 32 := 1018#32
  let v6118 : BitVec 32 := Scalar.addi v0 c1018_i32_4332
  let c1_i32_4333 : BitVec 32 := 1#32
  let v6119 : BitVec 32 := Scalar.addi v6118 c1_i32_4333
  let v6120 : Index := Scalar.indexCast v6119
  ![v6120.toNat]
def k0_off2040 (v6121 : BitVec 32) : Fin 2 → Nat :=
  let c0_i32_4334 : BitVec 32 := 0#32
  ![v6121.toNat, 0]

def k0_chk1020 (v6121 : BitVec 32) : Prop :=
  (∀ a, (k0_off2040 v6121) a + S1x1024.size a ≤ S37888x1024.size a)
theorem k0_off2040_inb : ∀ (v6121 : BitVec 32) (k0_hw1020 : k0_chk1020 v6121), ∀ a, (k0_off2040 v6121) a + S1x1024.size a ≤ S37888x1024.size a := fun v6121 k0_hw1020 => k0_hw1020

def k0_off2041 (i : grid0.Coords) : Fin 1 → Nat :=
  let arg0 : BitVec 32 := BitVec.ofNat 32 (i 0).val
  let c1024_i32 : BitVec 32 := 1024#32
  let v0 : BitVec 32 := Scalar.muli arg0 c1024_i32
  let c1020_i32 : BitVec 32 := 1020#32
  let v6124 : BitVec 32 := Scalar.addi v0 c1020_i32
  let c0_i32_4337 : BitVec 32 := 0#32
  let v6125 : BitVec 32 := Scalar.addi v6124 c0_i32_4337
  let v6126 : Index := Scalar.indexCast v6125
  ![v6126.toNat]
def k0_off2042 (v6127 : BitVec 32) : Fin 2 → Nat :=
  let c0_i32_4338 : BitVec 32 := 0#32
  ![v6127.toNat, 0]

def k0_chk1021 (v6127 : BitVec 32) : Prop :=
  (∀ a, (k0_off2042 v6127) a + S1x1024.size a ≤ S37888x1024.size a)
theorem k0_off2042_inb : ∀ (v6127 : BitVec 32) (k0_hw1021 : k0_chk1021 v6127), ∀ a, (k0_off2042 v6127) a + S1x1024.size a ≤ S37888x1024.size a := fun v6127 k0_hw1021 => k0_hw1021

def k0_off2043 (i : grid0.Coords) : Fin 1 → Nat :=
  let arg0 : BitVec 32 := BitVec.ofNat 32 (i 0).val
  let c1024_i32 : BitVec 32 := 1024#32
  let v0 : BitVec 32 := Scalar.muli arg0 c1024_i32
  let c1020_i32_4341 : BitVec 32 := 1020#32
  let v6130 : BitVec 32 := Scalar.addi v0 c1020_i32_4341
  let c1_i32_4342 : BitVec 32 := 1#32
  let v6131 : BitVec 32 := Scalar.addi v6130 c1_i32_4342
  let v6132 : Index := Scalar.indexCast v6131
  ![v6132.toNat]
def k0_off2044 (v6133 : BitVec 32) : Fin 2 → Nat :=
  let c0_i32_4343 : BitVec 32 := 0#32
  ![v6133.toNat, 0]

def k0_chk1022 (v6133 : BitVec 32) : Prop :=
  (∀ a, (k0_off2044 v6133) a + S1x1024.size a ≤ S37888x1024.size a)
theorem k0_off2044_inb : ∀ (v6133 : BitVec 32) (k0_hw1022 : k0_chk1022 v6133), ∀ a, (k0_off2044 v6133) a + S1x1024.size a ≤ S37888x1024.size a := fun v6133 k0_hw1022 => k0_hw1022

def k0_off2045 (i : grid0.Coords) : Fin 1 → Nat :=
  let arg0 : BitVec 32 := BitVec.ofNat 32 (i 0).val
  let c1024_i32 : BitVec 32 := 1024#32
  let v0 : BitVec 32 := Scalar.muli arg0 c1024_i32
  let c1022_i32 : BitVec 32 := 1022#32
  let v6136 : BitVec 32 := Scalar.addi v0 c1022_i32
  let c0_i32_4346 : BitVec 32 := 0#32
  let v6137 : BitVec 32 := Scalar.addi v6136 c0_i32_4346
  let v6138 : Index := Scalar.indexCast v6137
  ![v6138.toNat]
def k0_off2046 (v6139 : BitVec 32) : Fin 2 → Nat :=
  let c0_i32_4347 : BitVec 32 := 0#32
  ![v6139.toNat, 0]

def k0_chk1023 (v6139 : BitVec 32) : Prop :=
  (∀ a, (k0_off2046 v6139) a + S1x1024.size a ≤ S37888x1024.size a)
theorem k0_off2046_inb : ∀ (v6139 : BitVec 32) (k0_hw1023 : k0_chk1023 v6139), ∀ a, (k0_off2046 v6139) a + S1x1024.size a ≤ S37888x1024.size a := fun v6139 k0_hw1023 => k0_hw1023

def k0_off2047 (i : grid0.Coords) : Fin 1 → Nat :=
  let arg0 : BitVec 32 := BitVec.ofNat 32 (i 0).val
  let c1024_i32 : BitVec 32 := 1024#32
  let v0 : BitVec 32 := Scalar.muli arg0 c1024_i32
  let c1022_i32_4349 : BitVec 32 := 1022#32
  let v6142 : BitVec 32 := Scalar.addi v0 c1022_i32_4349
  let c1_i32_4350 : BitVec 32 := 1#32
  let v6143 : BitVec 32 := Scalar.addi v6142 c1_i32_4350
  let v6144 : Index := Scalar.indexCast v6143
  ![v6144.toNat]
def k0_off2048 (v6145 : BitVec 32) : Fin 2 → Nat :=
  let c0_i32_4351 : BitVec 32 := 0#32
  ![v6145.toNat, 0]

def k0_chk1024 (v6145 : BitVec 32) : Prop :=
  (∀ a, (k0_off2048 v6145) a + S1x1024.size a ≤ S37888x1024.size a)
theorem k0_off2048_inb : ∀ (v6145 : BitVec 32) (k0_hw1024 : k0_chk1024 v6145), ∀ a, (k0_off2048 v6145) a + S1x1024.size a ≤ S37888x1024.size a := fun v6145 k0_hw1024 => k0_hw1024

def k0_cond2 (i : grid0.Coords) : BitVec 1 :=
  let arg0 : BitVec 32 := BitVec.ofNat 32 (i 0).val
  let c32_i32_4354 : BitVec 32 := 32#32
  let v6148 : BitVec 1 := Scalar.cmpi .slt arg0 c32_i32_4354
  let v6149 : BitVec 32 := Scalar.extui v6148
  let c0_i32_4355 : BitVec 32 := 0#32
  let v6150 : BitVec 1 := Scalar.cmpi .ne v6149 c0_i32_4355
  v6150

def k0_off2049 (i : grid0.Coords) : Fin 1 → Nat :=
  let arg0 : BitVec 32 := BitVec.ofNat 32 (i 0).val
  let c128_i32_4359 : BitVec 32 := 128#32
  let v6152 : BitVec 32 := Scalar.muli arg0 c128_i32_4359
  let c0_i32_4360 : BitVec 32 := 0#32
  let v6153 : BitVec 32 := Scalar.addi v6152 c0_i32_4360
  let v6154 : Index := Scalar.indexCast v6153
  ![v6154.toNat]
def k0_off2050 (v6155 : BitVec 32) : Fin 2 → Nat :=
  let c0_i32_4361 : BitVec 32 := 0#32
  ![v6155.toNat, 0]

def k0_chk1025 (i : grid0.Coords) (v6155 : BitVec 32) : Prop :=
  (∀ (k0_h2 : k0_cond2 i = 1#1), ∀ a, (k0_off2050 v6155) a + S1x1024.size a ≤ S37888x1024.size a)
theorem k0_off2050_inb : ∀ (i : grid0.Coords) (v6155 : BitVec 32) (k0_hw1025 : k0_chk1025 i v6155), ∀ (k0_h2 : k0_cond2 i = 1#1), ∀ a, (k0_off2050 v6155) a + S1x1024.size a ≤ S37888x1024.size a := fun i v6155 k0_hw1025 k0_h2 => k0_hw1025 k0_h2

def k0_off2051 (i : grid0.Coords) : Fin 1 → Nat :=
  let arg0 : BitVec 32 := BitVec.ofNat 32 (i 0).val
  let c128_i32_4359 : BitVec 32 := 128#32
  let v6152 : BitVec 32 := Scalar.muli arg0 c128_i32_4359
  let c1_i32_4364 : BitVec 32 := 1#32
  let v6158 : BitVec 32 := Scalar.addi v6152 c1_i32_4364
  let v6159 : Index := Scalar.indexCast v6158
  ![v6159.toNat]
def k0_off2052 (v6160 : BitVec 32) : Fin 2 → Nat :=
  let c0_i32_4365 : BitVec 32 := 0#32
  ![v6160.toNat, 0]

def k0_chk1026 (i : grid0.Coords) (v6160 : BitVec 32) : Prop :=
  (∀ (k0_h2 : k0_cond2 i = 1#1), ∀ a, (k0_off2052 v6160) a + S1x1024.size a ≤ S37888x1024.size a)
theorem k0_off2052_inb : ∀ (i : grid0.Coords) (v6160 : BitVec 32) (k0_hw1026 : k0_chk1026 i v6160), ∀ (k0_h2 : k0_cond2 i = 1#1), ∀ a, (k0_off2052 v6160) a + S1x1024.size a ≤ S37888x1024.size a := fun i v6160 k0_hw1026 k0_h2 => k0_hw1026 k0_h2

def k0_off2053 (i : grid0.Coords) : Fin 1 → Nat :=
  let arg0 : BitVec 32 := BitVec.ofNat 32 (i 0).val
  let c128_i32_4359 : BitVec 32 := 128#32
  let v6152 : BitVec 32 := Scalar.muli arg0 c128_i32_4359
  let c2_i32_4368 : BitVec 32 := 2#32
  let v6163 : BitVec 32 := Scalar.addi v6152 c2_i32_4368
  let v6164 : Index := Scalar.indexCast v6163
  ![v6164.toNat]
def k0_off2054 (v6165 : BitVec 32) : Fin 2 → Nat :=
  let c0_i32_4369 : BitVec 32 := 0#32
  ![v6165.toNat, 0]

def k0_chk1027 (i : grid0.Coords) (v6165 : BitVec 32) : Prop :=
  (∀ (k0_h2 : k0_cond2 i = 1#1), ∀ a, (k0_off2054 v6165) a + S1x1024.size a ≤ S37888x1024.size a)
theorem k0_off2054_inb : ∀ (i : grid0.Coords) (v6165 : BitVec 32) (k0_hw1027 : k0_chk1027 i v6165), ∀ (k0_h2 : k0_cond2 i = 1#1), ∀ a, (k0_off2054 v6165) a + S1x1024.size a ≤ S37888x1024.size a := fun i v6165 k0_hw1027 k0_h2 => k0_hw1027 k0_h2

def k0_off2055 (i : grid0.Coords) : Fin 1 → Nat :=
  let arg0 : BitVec 32 := BitVec.ofNat 32 (i 0).val
  let c128_i32_4359 : BitVec 32 := 128#32
  let v6152 : BitVec 32 := Scalar.muli arg0 c128_i32_4359
  let c3_i32_4372 : BitVec 32 := 3#32
  let v6168 : BitVec 32 := Scalar.addi v6152 c3_i32_4372
  let v6169 : Index := Scalar.indexCast v6168
  ![v6169.toNat]
def k0_off2056 (v6170 : BitVec 32) : Fin 2 → Nat :=
  let c0_i32_4373 : BitVec 32 := 0#32
  ![v6170.toNat, 0]

def k0_chk1028 (i : grid0.Coords) (v6170 : BitVec 32) : Prop :=
  (∀ (k0_h2 : k0_cond2 i = 1#1), ∀ a, (k0_off2056 v6170) a + S1x1024.size a ≤ S37888x1024.size a)
theorem k0_off2056_inb : ∀ (i : grid0.Coords) (v6170 : BitVec 32) (k0_hw1028 : k0_chk1028 i v6170), ∀ (k0_h2 : k0_cond2 i = 1#1), ∀ a, (k0_off2056 v6170) a + S1x1024.size a ≤ S37888x1024.size a := fun i v6170 k0_hw1028 k0_h2 => k0_hw1028 k0_h2

def k0_off2057 (i : grid0.Coords) : Fin 1 → Nat :=
  let arg0 : BitVec 32 := BitVec.ofNat 32 (i 0).val
  let c128_i32_4359 : BitVec 32 := 128#32
  let v6152 : BitVec 32 := Scalar.muli arg0 c128_i32_4359
  let c4_i32_4376 : BitVec 32 := 4#32
  let v6173 : BitVec 32 := Scalar.addi v6152 c4_i32_4376
  let v6174 : Index := Scalar.indexCast v6173
  ![v6174.toNat]
def k0_off2058 (v6175 : BitVec 32) : Fin 2 → Nat :=
  let c0_i32_4377 : BitVec 32 := 0#32
  ![v6175.toNat, 0]

def k0_chk1029 (i : grid0.Coords) (v6175 : BitVec 32) : Prop :=
  (∀ (k0_h2 : k0_cond2 i = 1#1), ∀ a, (k0_off2058 v6175) a + S1x1024.size a ≤ S37888x1024.size a)
theorem k0_off2058_inb : ∀ (i : grid0.Coords) (v6175 : BitVec 32) (k0_hw1029 : k0_chk1029 i v6175), ∀ (k0_h2 : k0_cond2 i = 1#1), ∀ a, (k0_off2058 v6175) a + S1x1024.size a ≤ S37888x1024.size a := fun i v6175 k0_hw1029 k0_h2 => k0_hw1029 k0_h2

def k0_off2059 (i : grid0.Coords) : Fin 1 → Nat :=
  let arg0 : BitVec 32 := BitVec.ofNat 32 (i 0).val
  let c128_i32_4359 : BitVec 32 := 128#32
  let v6152 : BitVec 32 := Scalar.muli arg0 c128_i32_4359
  let c5_i32_4380 : BitVec 32 := 5#32
  let v6178 : BitVec 32 := Scalar.addi v6152 c5_i32_4380
  let v6179 : Index := Scalar.indexCast v6178
  ![v6179.toNat]
def k0_off2060 (v6180 : BitVec 32) : Fin 2 → Nat :=
  let c0_i32_4381 : BitVec 32 := 0#32
  ![v6180.toNat, 0]

def k0_chk1030 (i : grid0.Coords) (v6180 : BitVec 32) : Prop :=
  (∀ (k0_h2 : k0_cond2 i = 1#1), ∀ a, (k0_off2060 v6180) a + S1x1024.size a ≤ S37888x1024.size a)
theorem k0_off2060_inb : ∀ (i : grid0.Coords) (v6180 : BitVec 32) (k0_hw1030 : k0_chk1030 i v6180), ∀ (k0_h2 : k0_cond2 i = 1#1), ∀ a, (k0_off2060 v6180) a + S1x1024.size a ≤ S37888x1024.size a := fun i v6180 k0_hw1030 k0_h2 => k0_hw1030 k0_h2

def k0_off2061 (i : grid0.Coords) : Fin 1 → Nat :=
  let arg0 : BitVec 32 := BitVec.ofNat 32 (i 0).val
  let c128_i32_4359 : BitVec 32 := 128#32
  let v6152 : BitVec 32 := Scalar.muli arg0 c128_i32_4359
  let c6_i32_4384 : BitVec 32 := 6#32
  let v6183 : BitVec 32 := Scalar.addi v6152 c6_i32_4384
  let v6184 : Index := Scalar.indexCast v6183
  ![v6184.toNat]
def k0_off2062 (v6185 : BitVec 32) : Fin 2 → Nat :=
  let c0_i32_4385 : BitVec 32 := 0#32
  ![v6185.toNat, 0]

def k0_chk1031 (i : grid0.Coords) (v6185 : BitVec 32) : Prop :=
  (∀ (k0_h2 : k0_cond2 i = 1#1), ∀ a, (k0_off2062 v6185) a + S1x1024.size a ≤ S37888x1024.size a)
theorem k0_off2062_inb : ∀ (i : grid0.Coords) (v6185 : BitVec 32) (k0_hw1031 : k0_chk1031 i v6185), ∀ (k0_h2 : k0_cond2 i = 1#1), ∀ a, (k0_off2062 v6185) a + S1x1024.size a ≤ S37888x1024.size a := fun i v6185 k0_hw1031 k0_h2 => k0_hw1031 k0_h2

def k0_off2063 (i : grid0.Coords) : Fin 1 → Nat :=
  let arg0 : BitVec 32 := BitVec.ofNat 32 (i 0).val
  let c128_i32_4359 : BitVec 32 := 128#32
  let v6152 : BitVec 32 := Scalar.muli arg0 c128_i32_4359
  let c7_i32_4388 : BitVec 32 := 7#32
  let v6188 : BitVec 32 := Scalar.addi v6152 c7_i32_4388
  let v6189 : Index := Scalar.indexCast v6188
  ![v6189.toNat]
def k0_off2064 (v6190 : BitVec 32) : Fin 2 → Nat :=
  let c0_i32_4389 : BitVec 32 := 0#32
  ![v6190.toNat, 0]

def k0_chk1032 (i : grid0.Coords) (v6190 : BitVec 32) : Prop :=
  (∀ (k0_h2 : k0_cond2 i = 1#1), ∀ a, (k0_off2064 v6190) a + S1x1024.size a ≤ S37888x1024.size a)
theorem k0_off2064_inb : ∀ (i : grid0.Coords) (v6190 : BitVec 32) (k0_hw1032 : k0_chk1032 i v6190), ∀ (k0_h2 : k0_cond2 i = 1#1), ∀ a, (k0_off2064 v6190) a + S1x1024.size a ≤ S37888x1024.size a := fun i v6190 k0_hw1032 k0_h2 => k0_hw1032 k0_h2

def k0_off2065 (i : grid0.Coords) : Fin 1 → Nat :=
  let arg0 : BitVec 32 := BitVec.ofNat 32 (i 0).val
  let c128_i32_4359 : BitVec 32 := 128#32
  let v6152 : BitVec 32 := Scalar.muli arg0 c128_i32_4359
  let c8_i32_4392 : BitVec 32 := 8#32
  let v6193 : BitVec 32 := Scalar.addi v6152 c8_i32_4392
  let v6194 : Index := Scalar.indexCast v6193
  ![v6194.toNat]
def k0_off2066 (v6195 : BitVec 32) : Fin 2 → Nat :=
  let c0_i32_4393 : BitVec 32 := 0#32
  ![v6195.toNat, 0]

def k0_chk1033 (i : grid0.Coords) (v6195 : BitVec 32) : Prop :=
  (∀ (k0_h2 : k0_cond2 i = 1#1), ∀ a, (k0_off2066 v6195) a + S1x1024.size a ≤ S37888x1024.size a)
theorem k0_off2066_inb : ∀ (i : grid0.Coords) (v6195 : BitVec 32) (k0_hw1033 : k0_chk1033 i v6195), ∀ (k0_h2 : k0_cond2 i = 1#1), ∀ a, (k0_off2066 v6195) a + S1x1024.size a ≤ S37888x1024.size a := fun i v6195 k0_hw1033 k0_h2 => k0_hw1033 k0_h2

def k0_off2067 (i : grid0.Coords) : Fin 1 → Nat :=
  let arg0 : BitVec 32 := BitVec.ofNat 32 (i 0).val
  let c128_i32_4359 : BitVec 32 := 128#32
  let v6152 : BitVec 32 := Scalar.muli arg0 c128_i32_4359
  let c9_i32_4396 : BitVec 32 := 9#32
  let v6198 : BitVec 32 := Scalar.addi v6152 c9_i32_4396
  let v6199 : Index := Scalar.indexCast v6198
  ![v6199.toNat]
def k0_off2068 (v6200 : BitVec 32) : Fin 2 → Nat :=
  let c0_i32_4397 : BitVec 32 := 0#32
  ![v6200.toNat, 0]

def k0_chk1034 (i : grid0.Coords) (v6200 : BitVec 32) : Prop :=
  (∀ (k0_h2 : k0_cond2 i = 1#1), ∀ a, (k0_off2068 v6200) a + S1x1024.size a ≤ S37888x1024.size a)
theorem k0_off2068_inb : ∀ (i : grid0.Coords) (v6200 : BitVec 32) (k0_hw1034 : k0_chk1034 i v6200), ∀ (k0_h2 : k0_cond2 i = 1#1), ∀ a, (k0_off2068 v6200) a + S1x1024.size a ≤ S37888x1024.size a := fun i v6200 k0_hw1034 k0_h2 => k0_hw1034 k0_h2

def k0_off2069 (i : grid0.Coords) : Fin 1 → Nat :=
  let arg0 : BitVec 32 := BitVec.ofNat 32 (i 0).val
  let c128_i32_4359 : BitVec 32 := 128#32
  let v6152 : BitVec 32 := Scalar.muli arg0 c128_i32_4359
  let c10_i32_4400 : BitVec 32 := 10#32
  let v6203 : BitVec 32 := Scalar.addi v6152 c10_i32_4400
  let v6204 : Index := Scalar.indexCast v6203
  ![v6204.toNat]
def k0_off2070 (v6205 : BitVec 32) : Fin 2 → Nat :=
  let c0_i32_4401 : BitVec 32 := 0#32
  ![v6205.toNat, 0]

def k0_chk1035 (i : grid0.Coords) (v6205 : BitVec 32) : Prop :=
  (∀ (k0_h2 : k0_cond2 i = 1#1), ∀ a, (k0_off2070 v6205) a + S1x1024.size a ≤ S37888x1024.size a)
theorem k0_off2070_inb : ∀ (i : grid0.Coords) (v6205 : BitVec 32) (k0_hw1035 : k0_chk1035 i v6205), ∀ (k0_h2 : k0_cond2 i = 1#1), ∀ a, (k0_off2070 v6205) a + S1x1024.size a ≤ S37888x1024.size a := fun i v6205 k0_hw1035 k0_h2 => k0_hw1035 k0_h2

def k0_off2071 (i : grid0.Coords) : Fin 1 → Nat :=
  let arg0 : BitVec 32 := BitVec.ofNat 32 (i 0).val
  let c128_i32_4359 : BitVec 32 := 128#32
  let v6152 : BitVec 32 := Scalar.muli arg0 c128_i32_4359
  let c11_i32_4404 : BitVec 32 := 11#32
  let v6208 : BitVec 32 := Scalar.addi v6152 c11_i32_4404
  let v6209 : Index := Scalar.indexCast v6208
  ![v6209.toNat]
def k0_off2072 (v6210 : BitVec 32) : Fin 2 → Nat :=
  let c0_i32_4405 : BitVec 32 := 0#32
  ![v6210.toNat, 0]

def k0_chk1036 (i : grid0.Coords) (v6210 : BitVec 32) : Prop :=
  (∀ (k0_h2 : k0_cond2 i = 1#1), ∀ a, (k0_off2072 v6210) a + S1x1024.size a ≤ S37888x1024.size a)
theorem k0_off2072_inb : ∀ (i : grid0.Coords) (v6210 : BitVec 32) (k0_hw1036 : k0_chk1036 i v6210), ∀ (k0_h2 : k0_cond2 i = 1#1), ∀ a, (k0_off2072 v6210) a + S1x1024.size a ≤ S37888x1024.size a := fun i v6210 k0_hw1036 k0_h2 => k0_hw1036 k0_h2

def k0_off2073 (i : grid0.Coords) : Fin 1 → Nat :=
  let arg0 : BitVec 32 := BitVec.ofNat 32 (i 0).val
  let c128_i32_4359 : BitVec 32 := 128#32
  let v6152 : BitVec 32 := Scalar.muli arg0 c128_i32_4359
  let c12_i32_4408 : BitVec 32 := 12#32
  let v6213 : BitVec 32 := Scalar.addi v6152 c12_i32_4408
  let v6214 : Index := Scalar.indexCast v6213
  ![v6214.toNat]
def k0_off2074 (v6215 : BitVec 32) : Fin 2 → Nat :=
  let c0_i32_4409 : BitVec 32 := 0#32
  ![v6215.toNat, 0]

def k0_chk1037 (i : grid0.Coords) (v6215 : BitVec 32) : Prop :=
  (∀ (k0_h2 : k0_cond2 i = 1#1), ∀ a, (k0_off2074 v6215) a + S1x1024.size a ≤ S37888x1024.size a)
theorem k0_off2074_inb : ∀ (i : grid0.Coords) (v6215 : BitVec 32) (k0_hw1037 : k0_chk1037 i v6215), ∀ (k0_h2 : k0_cond2 i = 1#1), ∀ a, (k0_off2074 v6215) a + S1x1024.size a ≤ S37888x1024.size a := fun i v6215 k0_hw1037 k0_h2 => k0_hw1037 k0_h2

def k0_off2075 (i : grid0.Coords) : Fin 1 → Nat :=
  let arg0 : BitVec 32 := BitVec.ofNat 32 (i 0).val
  let c128_i32_4359 : BitVec 32 := 128#32
  let v6152 : BitVec 32 := Scalar.muli arg0 c128_i32_4359
  let c13_i32_4412 : BitVec 32 := 13#32
  let v6218 : BitVec 32 := Scalar.addi v6152 c13_i32_4412
  let v6219 : Index := Scalar.indexCast v6218
  ![v6219.toNat]
def k0_off2076 (v6220 : BitVec 32) : Fin 2 → Nat :=
  let c0_i32_4413 : BitVec 32 := 0#32
  ![v6220.toNat, 0]

def k0_chk1038 (i : grid0.Coords) (v6220 : BitVec 32) : Prop :=
  (∀ (k0_h2 : k0_cond2 i = 1#1), ∀ a, (k0_off2076 v6220) a + S1x1024.size a ≤ S37888x1024.size a)
theorem k0_off2076_inb : ∀ (i : grid0.Coords) (v6220 : BitVec 32) (k0_hw1038 : k0_chk1038 i v6220), ∀ (k0_h2 : k0_cond2 i = 1#1), ∀ a, (k0_off2076 v6220) a + S1x1024.size a ≤ S37888x1024.size a := fun i v6220 k0_hw1038 k0_h2 => k0_hw1038 k0_h2

def k0_off2077 (i : grid0.Coords) : Fin 1 → Nat :=
  let arg0 : BitVec 32 := BitVec.ofNat 32 (i 0).val
  let c128_i32_4359 : BitVec 32 := 128#32
  let v6152 : BitVec 32 := Scalar.muli arg0 c128_i32_4359
  let c14_i32_4416 : BitVec 32 := 14#32
  let v6223 : BitVec 32 := Scalar.addi v6152 c14_i32_4416
  let v6224 : Index := Scalar.indexCast v6223
  ![v6224.toNat]
def k0_off2078 (v6225 : BitVec 32) : Fin 2 → Nat :=
  let c0_i32_4417 : BitVec 32 := 0#32
  ![v6225.toNat, 0]

def k0_chk1039 (i : grid0.Coords) (v6225 : BitVec 32) : Prop :=
  (∀ (k0_h2 : k0_cond2 i = 1#1), ∀ a, (k0_off2078 v6225) a + S1x1024.size a ≤ S37888x1024.size a)
theorem k0_off2078_inb : ∀ (i : grid0.Coords) (v6225 : BitVec 32) (k0_hw1039 : k0_chk1039 i v6225), ∀ (k0_h2 : k0_cond2 i = 1#1), ∀ a, (k0_off2078 v6225) a + S1x1024.size a ≤ S37888x1024.size a := fun i v6225 k0_hw1039 k0_h2 => k0_hw1039 k0_h2

def k0_off2079 (i : grid0.Coords) : Fin 1 → Nat :=
  let arg0 : BitVec 32 := BitVec.ofNat 32 (i 0).val
  let c128_i32_4359 : BitVec 32 := 128#32
  let v6152 : BitVec 32 := Scalar.muli arg0 c128_i32_4359
  let c15_i32_4420 : BitVec 32 := 15#32
  let v6228 : BitVec 32 := Scalar.addi v6152 c15_i32_4420
  let v6229 : Index := Scalar.indexCast v6228
  ![v6229.toNat]
def k0_off2080 (v6230 : BitVec 32) : Fin 2 → Nat :=
  let c0_i32_4421 : BitVec 32 := 0#32
  ![v6230.toNat, 0]

def k0_chk1040 (i : grid0.Coords) (v6230 : BitVec 32) : Prop :=
  (∀ (k0_h2 : k0_cond2 i = 1#1), ∀ a, (k0_off2080 v6230) a + S1x1024.size a ≤ S37888x1024.size a)
theorem k0_off2080_inb : ∀ (i : grid0.Coords) (v6230 : BitVec 32) (k0_hw1040 : k0_chk1040 i v6230), ∀ (k0_h2 : k0_cond2 i = 1#1), ∀ a, (k0_off2080 v6230) a + S1x1024.size a ≤ S37888x1024.size a := fun i v6230 k0_hw1040 k0_h2 => k0_hw1040 k0_h2

def k0_off2081 (i : grid0.Coords) : Fin 1 → Nat :=
  let arg0 : BitVec 32 := BitVec.ofNat 32 (i 0).val
  let c128_i32_4359 : BitVec 32 := 128#32
  let v6152 : BitVec 32 := Scalar.muli arg0 c128_i32_4359
  let c16_i32_4424 : BitVec 32 := 16#32
  let v6233 : BitVec 32 := Scalar.addi v6152 c16_i32_4424
  let v6234 : Index := Scalar.indexCast v6233
  ![v6234.toNat]
def k0_off2082 (v6235 : BitVec 32) : Fin 2 → Nat :=
  let c0_i32_4425 : BitVec 32 := 0#32
  ![v6235.toNat, 0]

def k0_chk1041 (i : grid0.Coords) (v6235 : BitVec 32) : Prop :=
  (∀ (k0_h2 : k0_cond2 i = 1#1), ∀ a, (k0_off2082 v6235) a + S1x1024.size a ≤ S37888x1024.size a)
theorem k0_off2082_inb : ∀ (i : grid0.Coords) (v6235 : BitVec 32) (k0_hw1041 : k0_chk1041 i v6235), ∀ (k0_h2 : k0_cond2 i = 1#1), ∀ a, (k0_off2082 v6235) a + S1x1024.size a ≤ S37888x1024.size a := fun i v6235 k0_hw1041 k0_h2 => k0_hw1041 k0_h2

def k0_off2083 (i : grid0.Coords) : Fin 1 → Nat :=
  let arg0 : BitVec 32 := BitVec.ofNat 32 (i 0).val
  let c128_i32_4359 : BitVec 32 := 128#32
  let v6152 : BitVec 32 := Scalar.muli arg0 c128_i32_4359
  let c17_i32_4428 : BitVec 32 := 17#32
  let v6238 : BitVec 32 := Scalar.addi v6152 c17_i32_4428
  let v6239 : Index := Scalar.indexCast v6238
  ![v6239.toNat]
def k0_off2084 (v6240 : BitVec 32) : Fin 2 → Nat :=
  let c0_i32_4429 : BitVec 32 := 0#32
  ![v6240.toNat, 0]

def k0_chk1042 (i : grid0.Coords) (v6240 : BitVec 32) : Prop :=
  (∀ (k0_h2 : k0_cond2 i = 1#1), ∀ a, (k0_off2084 v6240) a + S1x1024.size a ≤ S37888x1024.size a)
theorem k0_off2084_inb : ∀ (i : grid0.Coords) (v6240 : BitVec 32) (k0_hw1042 : k0_chk1042 i v6240), ∀ (k0_h2 : k0_cond2 i = 1#1), ∀ a, (k0_off2084 v6240) a + S1x1024.size a ≤ S37888x1024.size a := fun i v6240 k0_hw1042 k0_h2 => k0_hw1042 k0_h2

def k0_off2085 (i : grid0.Coords) : Fin 1 → Nat :=
  let arg0 : BitVec 32 := BitVec.ofNat 32 (i 0).val
  let c128_i32_4359 : BitVec 32 := 128#32
  let v6152 : BitVec 32 := Scalar.muli arg0 c128_i32_4359
  let c18_i32_4432 : BitVec 32 := 18#32
  let v6243 : BitVec 32 := Scalar.addi v6152 c18_i32_4432
  let v6244 : Index := Scalar.indexCast v6243
  ![v6244.toNat]
def k0_off2086 (v6245 : BitVec 32) : Fin 2 → Nat :=
  let c0_i32_4433 : BitVec 32 := 0#32
  ![v6245.toNat, 0]

def k0_chk1043 (i : grid0.Coords) (v6245 : BitVec 32) : Prop :=
  (∀ (k0_h2 : k0_cond2 i = 1#1), ∀ a, (k0_off2086 v6245) a + S1x1024.size a ≤ S37888x1024.size a)
theorem k0_off2086_inb : ∀ (i : grid0.Coords) (v6245 : BitVec 32) (k0_hw1043 : k0_chk1043 i v6245), ∀ (k0_h2 : k0_cond2 i = 1#1), ∀ a, (k0_off2086 v6245) a + S1x1024.size a ≤ S37888x1024.size a := fun i v6245 k0_hw1043 k0_h2 => k0_hw1043 k0_h2

def k0_off2087 (i : grid0.Coords) : Fin 1 → Nat :=
  let arg0 : BitVec 32 := BitVec.ofNat 32 (i 0).val
  let c128_i32_4359 : BitVec 32 := 128#32
  let v6152 : BitVec 32 := Scalar.muli arg0 c128_i32_4359
  let c19_i32_4436 : BitVec 32 := 19#32
  let v6248 : BitVec 32 := Scalar.addi v6152 c19_i32_4436
  let v6249 : Index := Scalar.indexCast v6248
  ![v6249.toNat]
def k0_off2088 (v6250 : BitVec 32) : Fin 2 → Nat :=
  let c0_i32_4437 : BitVec 32 := 0#32
  ![v6250.toNat, 0]

def k0_chk1044 (i : grid0.Coords) (v6250 : BitVec 32) : Prop :=
  (∀ (k0_h2 : k0_cond2 i = 1#1), ∀ a, (k0_off2088 v6250) a + S1x1024.size a ≤ S37888x1024.size a)
theorem k0_off2088_inb : ∀ (i : grid0.Coords) (v6250 : BitVec 32) (k0_hw1044 : k0_chk1044 i v6250), ∀ (k0_h2 : k0_cond2 i = 1#1), ∀ a, (k0_off2088 v6250) a + S1x1024.size a ≤ S37888x1024.size a := fun i v6250 k0_hw1044 k0_h2 => k0_hw1044 k0_h2

def k0_off2089 (i : grid0.Coords) : Fin 1 → Nat :=
  let arg0 : BitVec 32 := BitVec.ofNat 32 (i 0).val
  let c128_i32_4359 : BitVec 32 := 128#32
  let v6152 : BitVec 32 := Scalar.muli arg0 c128_i32_4359
  let c20_i32_4440 : BitVec 32 := 20#32
  let v6253 : BitVec 32 := Scalar.addi v6152 c20_i32_4440
  let v6254 : Index := Scalar.indexCast v6253
  ![v6254.toNat]
def k0_off2090 (v6255 : BitVec 32) : Fin 2 → Nat :=
  let c0_i32_4441 : BitVec 32 := 0#32
  ![v6255.toNat, 0]

def k0_chk1045 (i : grid0.Coords) (v6255 : BitVec 32) : Prop :=
  (∀ (k0_h2 : k0_cond2 i = 1#1), ∀ a, (k0_off2090 v6255) a + S1x1024.size a ≤ S37888x1024.size a)
theorem k0_off2090_inb : ∀ (i : grid0.Coords) (v6255 : BitVec 32) (k0_hw1045 : k0_chk1045 i v6255), ∀ (k0_h2 : k0_cond2 i = 1#1), ∀ a, (k0_off2090 v6255) a + S1x1024.size a ≤ S37888x1024.size a := fun i v6255 k0_hw1045 k0_h2 => k0_hw1045 k0_h2

def k0_off2091 (i : grid0.Coords) : Fin 1 → Nat :=
  let arg0 : BitVec 32 := BitVec.ofNat 32 (i 0).val
  let c128_i32_4359 : BitVec 32 := 128#32
  let v6152 : BitVec 32 := Scalar.muli arg0 c128_i32_4359
  let c21_i32_4444 : BitVec 32 := 21#32
  let v6258 : BitVec 32 := Scalar.addi v6152 c21_i32_4444
  let v6259 : Index := Scalar.indexCast v6258
  ![v6259.toNat]
def k0_off2092 (v6260 : BitVec 32) : Fin 2 → Nat :=
  let c0_i32_4445 : BitVec 32 := 0#32
  ![v6260.toNat, 0]

def k0_chk1046 (i : grid0.Coords) (v6260 : BitVec 32) : Prop :=
  (∀ (k0_h2 : k0_cond2 i = 1#1), ∀ a, (k0_off2092 v6260) a + S1x1024.size a ≤ S37888x1024.size a)
theorem k0_off2092_inb : ∀ (i : grid0.Coords) (v6260 : BitVec 32) (k0_hw1046 : k0_chk1046 i v6260), ∀ (k0_h2 : k0_cond2 i = 1#1), ∀ a, (k0_off2092 v6260) a + S1x1024.size a ≤ S37888x1024.size a := fun i v6260 k0_hw1046 k0_h2 => k0_hw1046 k0_h2

def k0_off2093 (i : grid0.Coords) : Fin 1 → Nat :=
  let arg0 : BitVec 32 := BitVec.ofNat 32 (i 0).val
  let c128_i32_4359 : BitVec 32 := 128#32
  let v6152 : BitVec 32 := Scalar.muli arg0 c128_i32_4359
  let c22_i32_4448 : BitVec 32 := 22#32
  let v6263 : BitVec 32 := Scalar.addi v6152 c22_i32_4448
  let v6264 : Index := Scalar.indexCast v6263
  ![v6264.toNat]
def k0_off2094 (v6265 : BitVec 32) : Fin 2 → Nat :=
  let c0_i32_4449 : BitVec 32 := 0#32
  ![v6265.toNat, 0]

def k0_chk1047 (i : grid0.Coords) (v6265 : BitVec 32) : Prop :=
  (∀ (k0_h2 : k0_cond2 i = 1#1), ∀ a, (k0_off2094 v6265) a + S1x1024.size a ≤ S37888x1024.size a)
theorem k0_off2094_inb : ∀ (i : grid0.Coords) (v6265 : BitVec 32) (k0_hw1047 : k0_chk1047 i v6265), ∀ (k0_h2 : k0_cond2 i = 1#1), ∀ a, (k0_off2094 v6265) a + S1x1024.size a ≤ S37888x1024.size a := fun i v6265 k0_hw1047 k0_h2 => k0_hw1047 k0_h2

def k0_off2095 (i : grid0.Coords) : Fin 1 → Nat :=
  let arg0 : BitVec 32 := BitVec.ofNat 32 (i 0).val
  let c128_i32_4359 : BitVec 32 := 128#32
  let v6152 : BitVec 32 := Scalar.muli arg0 c128_i32_4359
  let c23_i32_4452 : BitVec 32 := 23#32
  let v6268 : BitVec 32 := Scalar.addi v6152 c23_i32_4452
  let v6269 : Index := Scalar.indexCast v6268
  ![v6269.toNat]
def k0_off2096 (v6270 : BitVec 32) : Fin 2 → Nat :=
  let c0_i32_4453 : BitVec 32 := 0#32
  ![v6270.toNat, 0]

def k0_chk1048 (i : grid0.Coords) (v6270 : BitVec 32) : Prop :=
  (∀ (k0_h2 : k0_cond2 i = 1#1), ∀ a, (k0_off2096 v6270) a + S1x1024.size a ≤ S37888x1024.size a)
theorem k0_off2096_inb : ∀ (i : grid0.Coords) (v6270 : BitVec 32) (k0_hw1048 : k0_chk1048 i v6270), ∀ (k0_h2 : k0_cond2 i = 1#1), ∀ a, (k0_off2096 v6270) a + S1x1024.size a ≤ S37888x1024.size a := fun i v6270 k0_hw1048 k0_h2 => k0_hw1048 k0_h2

def k0_off2097 (i : grid0.Coords) : Fin 1 → Nat :=
  let arg0 : BitVec 32 := BitVec.ofNat 32 (i 0).val
  let c128_i32_4359 : BitVec 32 := 128#32
  let v6152 : BitVec 32 := Scalar.muli arg0 c128_i32_4359
  let c24_i32_4456 : BitVec 32 := 24#32
  let v6273 : BitVec 32 := Scalar.addi v6152 c24_i32_4456
  let v6274 : Index := Scalar.indexCast v6273
  ![v6274.toNat]
def k0_off2098 (v6275 : BitVec 32) : Fin 2 → Nat :=
  let c0_i32_4457 : BitVec 32 := 0#32
  ![v6275.toNat, 0]

def k0_chk1049 (i : grid0.Coords) (v6275 : BitVec 32) : Prop :=
  (∀ (k0_h2 : k0_cond2 i = 1#1), ∀ a, (k0_off2098 v6275) a + S1x1024.size a ≤ S37888x1024.size a)
theorem k0_off2098_inb : ∀ (i : grid0.Coords) (v6275 : BitVec 32) (k0_hw1049 : k0_chk1049 i v6275), ∀ (k0_h2 : k0_cond2 i = 1#1), ∀ a, (k0_off2098 v6275) a + S1x1024.size a ≤ S37888x1024.size a := fun i v6275 k0_hw1049 k0_h2 => k0_hw1049 k0_h2

def k0_off2099 (i : grid0.Coords) : Fin 1 → Nat :=
  let arg0 : BitVec 32 := BitVec.ofNat 32 (i 0).val
  let c128_i32_4359 : BitVec 32 := 128#32
  let v6152 : BitVec 32 := Scalar.muli arg0 c128_i32_4359
  let c25_i32_4460 : BitVec 32 := 25#32
  let v6278 : BitVec 32 := Scalar.addi v6152 c25_i32_4460
  let v6279 : Index := Scalar.indexCast v6278
  ![v6279.toNat]
def k0_off2100 (v6280 : BitVec 32) : Fin 2 → Nat :=
  let c0_i32_4461 : BitVec 32 := 0#32
  ![v6280.toNat, 0]

def k0_chk1050 (i : grid0.Coords) (v6280 : BitVec 32) : Prop :=
  (∀ (k0_h2 : k0_cond2 i = 1#1), ∀ a, (k0_off2100 v6280) a + S1x1024.size a ≤ S37888x1024.size a)
theorem k0_off2100_inb : ∀ (i : grid0.Coords) (v6280 : BitVec 32) (k0_hw1050 : k0_chk1050 i v6280), ∀ (k0_h2 : k0_cond2 i = 1#1), ∀ a, (k0_off2100 v6280) a + S1x1024.size a ≤ S37888x1024.size a := fun i v6280 k0_hw1050 k0_h2 => k0_hw1050 k0_h2

def k0_off2101 (i : grid0.Coords) : Fin 1 → Nat :=
  let arg0 : BitVec 32 := BitVec.ofNat 32 (i 0).val
  let c128_i32_4359 : BitVec 32 := 128#32
  let v6152 : BitVec 32 := Scalar.muli arg0 c128_i32_4359
  let c26_i32_4464 : BitVec 32 := 26#32
  let v6283 : BitVec 32 := Scalar.addi v6152 c26_i32_4464
  let v6284 : Index := Scalar.indexCast v6283
  ![v6284.toNat]
def k0_off2102 (v6285 : BitVec 32) : Fin 2 → Nat :=
  let c0_i32_4465 : BitVec 32 := 0#32
  ![v6285.toNat, 0]

def k0_chk1051 (i : grid0.Coords) (v6285 : BitVec 32) : Prop :=
  (∀ (k0_h2 : k0_cond2 i = 1#1), ∀ a, (k0_off2102 v6285) a + S1x1024.size a ≤ S37888x1024.size a)
theorem k0_off2102_inb : ∀ (i : grid0.Coords) (v6285 : BitVec 32) (k0_hw1051 : k0_chk1051 i v6285), ∀ (k0_h2 : k0_cond2 i = 1#1), ∀ a, (k0_off2102 v6285) a + S1x1024.size a ≤ S37888x1024.size a := fun i v6285 k0_hw1051 k0_h2 => k0_hw1051 k0_h2

def k0_off2103 (i : grid0.Coords) : Fin 1 → Nat :=
  let arg0 : BitVec 32 := BitVec.ofNat 32 (i 0).val
  let c128_i32_4359 : BitVec 32 := 128#32
  let v6152 : BitVec 32 := Scalar.muli arg0 c128_i32_4359
  let c27_i32_4468 : BitVec 32 := 27#32
  let v6288 : BitVec 32 := Scalar.addi v6152 c27_i32_4468
  let v6289 : Index := Scalar.indexCast v6288
  ![v6289.toNat]
def k0_off2104 (v6290 : BitVec 32) : Fin 2 → Nat :=
  let c0_i32_4469 : BitVec 32 := 0#32
  ![v6290.toNat, 0]

def k0_chk1052 (i : grid0.Coords) (v6290 : BitVec 32) : Prop :=
  (∀ (k0_h2 : k0_cond2 i = 1#1), ∀ a, (k0_off2104 v6290) a + S1x1024.size a ≤ S37888x1024.size a)
theorem k0_off2104_inb : ∀ (i : grid0.Coords) (v6290 : BitVec 32) (k0_hw1052 : k0_chk1052 i v6290), ∀ (k0_h2 : k0_cond2 i = 1#1), ∀ a, (k0_off2104 v6290) a + S1x1024.size a ≤ S37888x1024.size a := fun i v6290 k0_hw1052 k0_h2 => k0_hw1052 k0_h2

def k0_off2105 (i : grid0.Coords) : Fin 1 → Nat :=
  let arg0 : BitVec 32 := BitVec.ofNat 32 (i 0).val
  let c128_i32_4359 : BitVec 32 := 128#32
  let v6152 : BitVec 32 := Scalar.muli arg0 c128_i32_4359
  let c28_i32_4472 : BitVec 32 := 28#32
  let v6293 : BitVec 32 := Scalar.addi v6152 c28_i32_4472
  let v6294 : Index := Scalar.indexCast v6293
  ![v6294.toNat]
def k0_off2106 (v6295 : BitVec 32) : Fin 2 → Nat :=
  let c0_i32_4473 : BitVec 32 := 0#32
  ![v6295.toNat, 0]

def k0_chk1053 (i : grid0.Coords) (v6295 : BitVec 32) : Prop :=
  (∀ (k0_h2 : k0_cond2 i = 1#1), ∀ a, (k0_off2106 v6295) a + S1x1024.size a ≤ S37888x1024.size a)
theorem k0_off2106_inb : ∀ (i : grid0.Coords) (v6295 : BitVec 32) (k0_hw1053 : k0_chk1053 i v6295), ∀ (k0_h2 : k0_cond2 i = 1#1), ∀ a, (k0_off2106 v6295) a + S1x1024.size a ≤ S37888x1024.size a := fun i v6295 k0_hw1053 k0_h2 => k0_hw1053 k0_h2

def k0_off2107 (i : grid0.Coords) : Fin 1 → Nat :=
  let arg0 : BitVec 32 := BitVec.ofNat 32 (i 0).val
  let c128_i32_4359 : BitVec 32 := 128#32
  let v6152 : BitVec 32 := Scalar.muli arg0 c128_i32_4359
  let c29_i32_4476 : BitVec 32 := 29#32
  let v6298 : BitVec 32 := Scalar.addi v6152 c29_i32_4476
  let v6299 : Index := Scalar.indexCast v6298
  ![v6299.toNat]
def k0_off2108 (v6300 : BitVec 32) : Fin 2 → Nat :=
  let c0_i32_4477 : BitVec 32 := 0#32
  ![v6300.toNat, 0]

def k0_chk1054 (i : grid0.Coords) (v6300 : BitVec 32) : Prop :=
  (∀ (k0_h2 : k0_cond2 i = 1#1), ∀ a, (k0_off2108 v6300) a + S1x1024.size a ≤ S37888x1024.size a)
theorem k0_off2108_inb : ∀ (i : grid0.Coords) (v6300 : BitVec 32) (k0_hw1054 : k0_chk1054 i v6300), ∀ (k0_h2 : k0_cond2 i = 1#1), ∀ a, (k0_off2108 v6300) a + S1x1024.size a ≤ S37888x1024.size a := fun i v6300 k0_hw1054 k0_h2 => k0_hw1054 k0_h2

def k0_off2109 (i : grid0.Coords) : Fin 1 → Nat :=
  let arg0 : BitVec 32 := BitVec.ofNat 32 (i 0).val
  let c128_i32_4359 : BitVec 32 := 128#32
  let v6152 : BitVec 32 := Scalar.muli arg0 c128_i32_4359
  let c30_i32_4480 : BitVec 32 := 30#32
  let v6303 : BitVec 32 := Scalar.addi v6152 c30_i32_4480
  let v6304 : Index := Scalar.indexCast v6303
  ![v6304.toNat]
def k0_off2110 (v6305 : BitVec 32) : Fin 2 → Nat :=
  let c0_i32_4481 : BitVec 32 := 0#32
  ![v6305.toNat, 0]

def k0_chk1055 (i : grid0.Coords) (v6305 : BitVec 32) : Prop :=
  (∀ (k0_h2 : k0_cond2 i = 1#1), ∀ a, (k0_off2110 v6305) a + S1x1024.size a ≤ S37888x1024.size a)
theorem k0_off2110_inb : ∀ (i : grid0.Coords) (v6305 : BitVec 32) (k0_hw1055 : k0_chk1055 i v6305), ∀ (k0_h2 : k0_cond2 i = 1#1), ∀ a, (k0_off2110 v6305) a + S1x1024.size a ≤ S37888x1024.size a := fun i v6305 k0_hw1055 k0_h2 => k0_hw1055 k0_h2

def k0_off2111 (i : grid0.Coords) : Fin 1 → Nat :=
  let arg0 : BitVec 32 := BitVec.ofNat 32 (i 0).val
  let c128_i32_4359 : BitVec 32 := 128#32
  let v6152 : BitVec 32 := Scalar.muli arg0 c128_i32_4359
  let c31_i32_4484 : BitVec 32 := 31#32
  let v6308 : BitVec 32 := Scalar.addi v6152 c31_i32_4484
  let v6309 : Index := Scalar.indexCast v6308
  ![v6309.toNat]
def k0_off2112 (v6310 : BitVec 32) : Fin 2 → Nat :=
  let c0_i32_4485 : BitVec 32 := 0#32
  ![v6310.toNat, 0]

def k0_chk1056 (i : grid0.Coords) (v6310 : BitVec 32) : Prop :=
  (∀ (k0_h2 : k0_cond2 i = 1#1), ∀ a, (k0_off2112 v6310) a + S1x1024.size a ≤ S37888x1024.size a)
theorem k0_off2112_inb : ∀ (i : grid0.Coords) (v6310 : BitVec 32) (k0_hw1056 : k0_chk1056 i v6310), ∀ (k0_h2 : k0_cond2 i = 1#1), ∀ a, (k0_off2112 v6310) a + S1x1024.size a ≤ S37888x1024.size a := fun i v6310 k0_hw1056 k0_h2 => k0_hw1056 k0_h2

def k0_off2113 (i : grid0.Coords) : Fin 1 → Nat :=
  let arg0 : BitVec 32 := BitVec.ofNat 32 (i 0).val
  let c128_i32_4359 : BitVec 32 := 128#32
  let v6152 : BitVec 32 := Scalar.muli arg0 c128_i32_4359
  let c32_i32_4488 : BitVec 32 := 32#32
  let v6313 : BitVec 32 := Scalar.addi v6152 c32_i32_4488
  let v6314 : Index := Scalar.indexCast v6313
  ![v6314.toNat]
def k0_off2114 (v6315 : BitVec 32) : Fin 2 → Nat :=
  let c0_i32_4489 : BitVec 32 := 0#32
  ![v6315.toNat, 0]

def k0_chk1057 (i : grid0.Coords) (v6315 : BitVec 32) : Prop :=
  (∀ (k0_h2 : k0_cond2 i = 1#1), ∀ a, (k0_off2114 v6315) a + S1x1024.size a ≤ S37888x1024.size a)
theorem k0_off2114_inb : ∀ (i : grid0.Coords) (v6315 : BitVec 32) (k0_hw1057 : k0_chk1057 i v6315), ∀ (k0_h2 : k0_cond2 i = 1#1), ∀ a, (k0_off2114 v6315) a + S1x1024.size a ≤ S37888x1024.size a := fun i v6315 k0_hw1057 k0_h2 => k0_hw1057 k0_h2

def k0_off2115 (i : grid0.Coords) : Fin 1 → Nat :=
  let arg0 : BitVec 32 := BitVec.ofNat 32 (i 0).val
  let c128_i32_4359 : BitVec 32 := 128#32
  let v6152 : BitVec 32 := Scalar.muli arg0 c128_i32_4359
  let c33_i32_4492 : BitVec 32 := 33#32
  let v6318 : BitVec 32 := Scalar.addi v6152 c33_i32_4492
  let v6319 : Index := Scalar.indexCast v6318
  ![v6319.toNat]
def k0_off2116 (v6320 : BitVec 32) : Fin 2 → Nat :=
  let c0_i32_4493 : BitVec 32 := 0#32
  ![v6320.toNat, 0]

def k0_chk1058 (i : grid0.Coords) (v6320 : BitVec 32) : Prop :=
  (∀ (k0_h2 : k0_cond2 i = 1#1), ∀ a, (k0_off2116 v6320) a + S1x1024.size a ≤ S37888x1024.size a)
theorem k0_off2116_inb : ∀ (i : grid0.Coords) (v6320 : BitVec 32) (k0_hw1058 : k0_chk1058 i v6320), ∀ (k0_h2 : k0_cond2 i = 1#1), ∀ a, (k0_off2116 v6320) a + S1x1024.size a ≤ S37888x1024.size a := fun i v6320 k0_hw1058 k0_h2 => k0_hw1058 k0_h2

def k0_off2117 (i : grid0.Coords) : Fin 1 → Nat :=
  let arg0 : BitVec 32 := BitVec.ofNat 32 (i 0).val
  let c128_i32_4359 : BitVec 32 := 128#32
  let v6152 : BitVec 32 := Scalar.muli arg0 c128_i32_4359
  let c34_i32_4496 : BitVec 32 := 34#32
  let v6323 : BitVec 32 := Scalar.addi v6152 c34_i32_4496
  let v6324 : Index := Scalar.indexCast v6323
  ![v6324.toNat]
def k0_off2118 (v6325 : BitVec 32) : Fin 2 → Nat :=
  let c0_i32_4497 : BitVec 32 := 0#32
  ![v6325.toNat, 0]

def k0_chk1059 (i : grid0.Coords) (v6325 : BitVec 32) : Prop :=
  (∀ (k0_h2 : k0_cond2 i = 1#1), ∀ a, (k0_off2118 v6325) a + S1x1024.size a ≤ S37888x1024.size a)
theorem k0_off2118_inb : ∀ (i : grid0.Coords) (v6325 : BitVec 32) (k0_hw1059 : k0_chk1059 i v6325), ∀ (k0_h2 : k0_cond2 i = 1#1), ∀ a, (k0_off2118 v6325) a + S1x1024.size a ≤ S37888x1024.size a := fun i v6325 k0_hw1059 k0_h2 => k0_hw1059 k0_h2

def k0_off2119 (i : grid0.Coords) : Fin 1 → Nat :=
  let arg0 : BitVec 32 := BitVec.ofNat 32 (i 0).val
  let c128_i32_4359 : BitVec 32 := 128#32
  let v6152 : BitVec 32 := Scalar.muli arg0 c128_i32_4359
  let c35_i32_4500 : BitVec 32 := 35#32
  let v6328 : BitVec 32 := Scalar.addi v6152 c35_i32_4500
  let v6329 : Index := Scalar.indexCast v6328
  ![v6329.toNat]
def k0_off2120 (v6330 : BitVec 32) : Fin 2 → Nat :=
  let c0_i32_4501 : BitVec 32 := 0#32
  ![v6330.toNat, 0]

def k0_chk1060 (i : grid0.Coords) (v6330 : BitVec 32) : Prop :=
  (∀ (k0_h2 : k0_cond2 i = 1#1), ∀ a, (k0_off2120 v6330) a + S1x1024.size a ≤ S37888x1024.size a)
theorem k0_off2120_inb : ∀ (i : grid0.Coords) (v6330 : BitVec 32) (k0_hw1060 : k0_chk1060 i v6330), ∀ (k0_h2 : k0_cond2 i = 1#1), ∀ a, (k0_off2120 v6330) a + S1x1024.size a ≤ S37888x1024.size a := fun i v6330 k0_hw1060 k0_h2 => k0_hw1060 k0_h2

def k0_off2121 (i : grid0.Coords) : Fin 1 → Nat :=
  let arg0 : BitVec 32 := BitVec.ofNat 32 (i 0).val
  let c128_i32_4359 : BitVec 32 := 128#32
  let v6152 : BitVec 32 := Scalar.muli arg0 c128_i32_4359
  let c36_i32_4504 : BitVec 32 := 36#32
  let v6333 : BitVec 32 := Scalar.addi v6152 c36_i32_4504
  let v6334 : Index := Scalar.indexCast v6333
  ![v6334.toNat]
def k0_off2122 (v6335 : BitVec 32) : Fin 2 → Nat :=
  let c0_i32_4505 : BitVec 32 := 0#32
  ![v6335.toNat, 0]

def k0_chk1061 (i : grid0.Coords) (v6335 : BitVec 32) : Prop :=
  (∀ (k0_h2 : k0_cond2 i = 1#1), ∀ a, (k0_off2122 v6335) a + S1x1024.size a ≤ S37888x1024.size a)
theorem k0_off2122_inb : ∀ (i : grid0.Coords) (v6335 : BitVec 32) (k0_hw1061 : k0_chk1061 i v6335), ∀ (k0_h2 : k0_cond2 i = 1#1), ∀ a, (k0_off2122 v6335) a + S1x1024.size a ≤ S37888x1024.size a := fun i v6335 k0_hw1061 k0_h2 => k0_hw1061 k0_h2

def k0_off2123 (i : grid0.Coords) : Fin 1 → Nat :=
  let arg0 : BitVec 32 := BitVec.ofNat 32 (i 0).val
  let c128_i32_4359 : BitVec 32 := 128#32
  let v6152 : BitVec 32 := Scalar.muli arg0 c128_i32_4359
  let c37_i32_4508 : BitVec 32 := 37#32
  let v6338 : BitVec 32 := Scalar.addi v6152 c37_i32_4508
  let v6339 : Index := Scalar.indexCast v6338
  ![v6339.toNat]
def k0_off2124 (v6340 : BitVec 32) : Fin 2 → Nat :=
  let c0_i32_4509 : BitVec 32 := 0#32
  ![v6340.toNat, 0]

def k0_chk1062 (i : grid0.Coords) (v6340 : BitVec 32) : Prop :=
  (∀ (k0_h2 : k0_cond2 i = 1#1), ∀ a, (k0_off2124 v6340) a + S1x1024.size a ≤ S37888x1024.size a)
theorem k0_off2124_inb : ∀ (i : grid0.Coords) (v6340 : BitVec 32) (k0_hw1062 : k0_chk1062 i v6340), ∀ (k0_h2 : k0_cond2 i = 1#1), ∀ a, (k0_off2124 v6340) a + S1x1024.size a ≤ S37888x1024.size a := fun i v6340 k0_hw1062 k0_h2 => k0_hw1062 k0_h2

def k0_off2125 (i : grid0.Coords) : Fin 1 → Nat :=
  let arg0 : BitVec 32 := BitVec.ofNat 32 (i 0).val
  let c128_i32_4359 : BitVec 32 := 128#32
  let v6152 : BitVec 32 := Scalar.muli arg0 c128_i32_4359
  let c38_i32_4512 : BitVec 32 := 38#32
  let v6343 : BitVec 32 := Scalar.addi v6152 c38_i32_4512
  let v6344 : Index := Scalar.indexCast v6343
  ![v6344.toNat]
def k0_off2126 (v6345 : BitVec 32) : Fin 2 → Nat :=
  let c0_i32_4513 : BitVec 32 := 0#32
  ![v6345.toNat, 0]

def k0_chk1063 (i : grid0.Coords) (v6345 : BitVec 32) : Prop :=
  (∀ (k0_h2 : k0_cond2 i = 1#1), ∀ a, (k0_off2126 v6345) a + S1x1024.size a ≤ S37888x1024.size a)
theorem k0_off2126_inb : ∀ (i : grid0.Coords) (v6345 : BitVec 32) (k0_hw1063 : k0_chk1063 i v6345), ∀ (k0_h2 : k0_cond2 i = 1#1), ∀ a, (k0_off2126 v6345) a + S1x1024.size a ≤ S37888x1024.size a := fun i v6345 k0_hw1063 k0_h2 => k0_hw1063 k0_h2

def k0_off2127 (i : grid0.Coords) : Fin 1 → Nat :=
  let arg0 : BitVec 32 := BitVec.ofNat 32 (i 0).val
  let c128_i32_4359 : BitVec 32 := 128#32
  let v6152 : BitVec 32 := Scalar.muli arg0 c128_i32_4359
  let c39_i32_4516 : BitVec 32 := 39#32
  let v6348 : BitVec 32 := Scalar.addi v6152 c39_i32_4516
  let v6349 : Index := Scalar.indexCast v6348
  ![v6349.toNat]
def k0_off2128 (v6350 : BitVec 32) : Fin 2 → Nat :=
  let c0_i32_4517 : BitVec 32 := 0#32
  ![v6350.toNat, 0]

def k0_chk1064 (i : grid0.Coords) (v6350 : BitVec 32) : Prop :=
  (∀ (k0_h2 : k0_cond2 i = 1#1), ∀ a, (k0_off2128 v6350) a + S1x1024.size a ≤ S37888x1024.size a)
theorem k0_off2128_inb : ∀ (i : grid0.Coords) (v6350 : BitVec 32) (k0_hw1064 : k0_chk1064 i v6350), ∀ (k0_h2 : k0_cond2 i = 1#1), ∀ a, (k0_off2128 v6350) a + S1x1024.size a ≤ S37888x1024.size a := fun i v6350 k0_hw1064 k0_h2 => k0_hw1064 k0_h2

def k0_off2129 (i : grid0.Coords) : Fin 1 → Nat :=
  let arg0 : BitVec 32 := BitVec.ofNat 32 (i 0).val
  let c128_i32_4359 : BitVec 32 := 128#32
  let v6152 : BitVec 32 := Scalar.muli arg0 c128_i32_4359
  let c40_i32_4520 : BitVec 32 := 40#32
  let v6353 : BitVec 32 := Scalar.addi v6152 c40_i32_4520
  let v6354 : Index := Scalar.indexCast v6353
  ![v6354.toNat]
def k0_off2130 (v6355 : BitVec 32) : Fin 2 → Nat :=
  let c0_i32_4521 : BitVec 32 := 0#32
  ![v6355.toNat, 0]

def k0_chk1065 (i : grid0.Coords) (v6355 : BitVec 32) : Prop :=
  (∀ (k0_h2 : k0_cond2 i = 1#1), ∀ a, (k0_off2130 v6355) a + S1x1024.size a ≤ S37888x1024.size a)
theorem k0_off2130_inb : ∀ (i : grid0.Coords) (v6355 : BitVec 32) (k0_hw1065 : k0_chk1065 i v6355), ∀ (k0_h2 : k0_cond2 i = 1#1), ∀ a, (k0_off2130 v6355) a + S1x1024.size a ≤ S37888x1024.size a := fun i v6355 k0_hw1065 k0_h2 => k0_hw1065 k0_h2

def k0_off2131 (i : grid0.Coords) : Fin 1 → Nat :=
  let arg0 : BitVec 32 := BitVec.ofNat 32 (i 0).val
  let c128_i32_4359 : BitVec 32 := 128#32
  let v6152 : BitVec 32 := Scalar.muli arg0 c128_i32_4359
  let c41_i32_4524 : BitVec 32 := 41#32
  let v6358 : BitVec 32 := Scalar.addi v6152 c41_i32_4524
  let v6359 : Index := Scalar.indexCast v6358
  ![v6359.toNat]
def k0_off2132 (v6360 : BitVec 32) : Fin 2 → Nat :=
  let c0_i32_4525 : BitVec 32 := 0#32
  ![v6360.toNat, 0]

def k0_chk1066 (i : grid0.Coords) (v6360 : BitVec 32) : Prop :=
  (∀ (k0_h2 : k0_cond2 i = 1#1), ∀ a, (k0_off2132 v6360) a + S1x1024.size a ≤ S37888x1024.size a)
theorem k0_off2132_inb : ∀ (i : grid0.Coords) (v6360 : BitVec 32) (k0_hw1066 : k0_chk1066 i v6360), ∀ (k0_h2 : k0_cond2 i = 1#1), ∀ a, (k0_off2132 v6360) a + S1x1024.size a ≤ S37888x1024.size a := fun i v6360 k0_hw1066 k0_h2 => k0_hw1066 k0_h2

def k0_off2133 (i : grid0.Coords) : Fin 1 → Nat :=
  let arg0 : BitVec 32 := BitVec.ofNat 32 (i 0).val
  let c128_i32_4359 : BitVec 32 := 128#32
  let v6152 : BitVec 32 := Scalar.muli arg0 c128_i32_4359
  let c42_i32_4528 : BitVec 32 := 42#32
  let v6363 : BitVec 32 := Scalar.addi v6152 c42_i32_4528
  let v6364 : Index := Scalar.indexCast v6363
  ![v6364.toNat]
def k0_off2134 (v6365 : BitVec 32) : Fin 2 → Nat :=
  let c0_i32_4529 : BitVec 32 := 0#32
  ![v6365.toNat, 0]

def k0_chk1067 (i : grid0.Coords) (v6365 : BitVec 32) : Prop :=
  (∀ (k0_h2 : k0_cond2 i = 1#1), ∀ a, (k0_off2134 v6365) a + S1x1024.size a ≤ S37888x1024.size a)
theorem k0_off2134_inb : ∀ (i : grid0.Coords) (v6365 : BitVec 32) (k0_hw1067 : k0_chk1067 i v6365), ∀ (k0_h2 : k0_cond2 i = 1#1), ∀ a, (k0_off2134 v6365) a + S1x1024.size a ≤ S37888x1024.size a := fun i v6365 k0_hw1067 k0_h2 => k0_hw1067 k0_h2

def k0_off2135 (i : grid0.Coords) : Fin 1 → Nat :=
  let arg0 : BitVec 32 := BitVec.ofNat 32 (i 0).val
  let c128_i32_4359 : BitVec 32 := 128#32
  let v6152 : BitVec 32 := Scalar.muli arg0 c128_i32_4359
  let c43_i32_4532 : BitVec 32 := 43#32
  let v6368 : BitVec 32 := Scalar.addi v6152 c43_i32_4532
  let v6369 : Index := Scalar.indexCast v6368
  ![v6369.toNat]
def k0_off2136 (v6370 : BitVec 32) : Fin 2 → Nat :=
  let c0_i32_4533 : BitVec 32 := 0#32
  ![v6370.toNat, 0]

def k0_chk1068 (i : grid0.Coords) (v6370 : BitVec 32) : Prop :=
  (∀ (k0_h2 : k0_cond2 i = 1#1), ∀ a, (k0_off2136 v6370) a + S1x1024.size a ≤ S37888x1024.size a)
theorem k0_off2136_inb : ∀ (i : grid0.Coords) (v6370 : BitVec 32) (k0_hw1068 : k0_chk1068 i v6370), ∀ (k0_h2 : k0_cond2 i = 1#1), ∀ a, (k0_off2136 v6370) a + S1x1024.size a ≤ S37888x1024.size a := fun i v6370 k0_hw1068 k0_h2 => k0_hw1068 k0_h2

def k0_off2137 (i : grid0.Coords) : Fin 1 → Nat :=
  let arg0 : BitVec 32 := BitVec.ofNat 32 (i 0).val
  let c128_i32_4359 : BitVec 32 := 128#32
  let v6152 : BitVec 32 := Scalar.muli arg0 c128_i32_4359
  let c44_i32_4536 : BitVec 32 := 44#32
  let v6373 : BitVec 32 := Scalar.addi v6152 c44_i32_4536
  let v6374 : Index := Scalar.indexCast v6373
  ![v6374.toNat]
def k0_off2138 (v6375 : BitVec 32) : Fin 2 → Nat :=
  let c0_i32_4537 : BitVec 32 := 0#32
  ![v6375.toNat, 0]

def k0_chk1069 (i : grid0.Coords) (v6375 : BitVec 32) : Prop :=
  (∀ (k0_h2 : k0_cond2 i = 1#1), ∀ a, (k0_off2138 v6375) a + S1x1024.size a ≤ S37888x1024.size a)
theorem k0_off2138_inb : ∀ (i : grid0.Coords) (v6375 : BitVec 32) (k0_hw1069 : k0_chk1069 i v6375), ∀ (k0_h2 : k0_cond2 i = 1#1), ∀ a, (k0_off2138 v6375) a + S1x1024.size a ≤ S37888x1024.size a := fun i v6375 k0_hw1069 k0_h2 => k0_hw1069 k0_h2

def k0_off2139 (i : grid0.Coords) : Fin 1 → Nat :=
  let arg0 : BitVec 32 := BitVec.ofNat 32 (i 0).val
  let c128_i32_4359 : BitVec 32 := 128#32
  let v6152 : BitVec 32 := Scalar.muli arg0 c128_i32_4359
  let c45_i32_4540 : BitVec 32 := 45#32
  let v6378 : BitVec 32 := Scalar.addi v6152 c45_i32_4540
  let v6379 : Index := Scalar.indexCast v6378
  ![v6379.toNat]
def k0_off2140 (v6380 : BitVec 32) : Fin 2 → Nat :=
  let c0_i32_4541 : BitVec 32 := 0#32
  ![v6380.toNat, 0]

def k0_chk1070 (i : grid0.Coords) (v6380 : BitVec 32) : Prop :=
  (∀ (k0_h2 : k0_cond2 i = 1#1), ∀ a, (k0_off2140 v6380) a + S1x1024.size a ≤ S37888x1024.size a)
theorem k0_off2140_inb : ∀ (i : grid0.Coords) (v6380 : BitVec 32) (k0_hw1070 : k0_chk1070 i v6380), ∀ (k0_h2 : k0_cond2 i = 1#1), ∀ a, (k0_off2140 v6380) a + S1x1024.size a ≤ S37888x1024.size a := fun i v6380 k0_hw1070 k0_h2 => k0_hw1070 k0_h2

def k0_off2141 (i : grid0.Coords) : Fin 1 → Nat :=
  let arg0 : BitVec 32 := BitVec.ofNat 32 (i 0).val
  let c128_i32_4359 : BitVec 32 := 128#32
  let v6152 : BitVec 32 := Scalar.muli arg0 c128_i32_4359
  let c46_i32_4544 : BitVec 32 := 46#32
  let v6383 : BitVec 32 := Scalar.addi v6152 c46_i32_4544
  let v6384 : Index := Scalar.indexCast v6383
  ![v6384.toNat]
def k0_off2142 (v6385 : BitVec 32) : Fin 2 → Nat :=
  let c0_i32_4545 : BitVec 32 := 0#32
  ![v6385.toNat, 0]

def k0_chk1071 (i : grid0.Coords) (v6385 : BitVec 32) : Prop :=
  (∀ (k0_h2 : k0_cond2 i = 1#1), ∀ a, (k0_off2142 v6385) a + S1x1024.size a ≤ S37888x1024.size a)
theorem k0_off2142_inb : ∀ (i : grid0.Coords) (v6385 : BitVec 32) (k0_hw1071 : k0_chk1071 i v6385), ∀ (k0_h2 : k0_cond2 i = 1#1), ∀ a, (k0_off2142 v6385) a + S1x1024.size a ≤ S37888x1024.size a := fun i v6385 k0_hw1071 k0_h2 => k0_hw1071 k0_h2

def k0_off2143 (i : grid0.Coords) : Fin 1 → Nat :=
  let arg0 : BitVec 32 := BitVec.ofNat 32 (i 0).val
  let c128_i32_4359 : BitVec 32 := 128#32
  let v6152 : BitVec 32 := Scalar.muli arg0 c128_i32_4359
  let c47_i32_4548 : BitVec 32 := 47#32
  let v6388 : BitVec 32 := Scalar.addi v6152 c47_i32_4548
  let v6389 : Index := Scalar.indexCast v6388
  ![v6389.toNat]
def k0_off2144 (v6390 : BitVec 32) : Fin 2 → Nat :=
  let c0_i32_4549 : BitVec 32 := 0#32
  ![v6390.toNat, 0]

def k0_chk1072 (i : grid0.Coords) (v6390 : BitVec 32) : Prop :=
  (∀ (k0_h2 : k0_cond2 i = 1#1), ∀ a, (k0_off2144 v6390) a + S1x1024.size a ≤ S37888x1024.size a)
theorem k0_off2144_inb : ∀ (i : grid0.Coords) (v6390 : BitVec 32) (k0_hw1072 : k0_chk1072 i v6390), ∀ (k0_h2 : k0_cond2 i = 1#1), ∀ a, (k0_off2144 v6390) a + S1x1024.size a ≤ S37888x1024.size a := fun i v6390 k0_hw1072 k0_h2 => k0_hw1072 k0_h2

def k0_off2145 (i : grid0.Coords) : Fin 1 → Nat :=
  let arg0 : BitVec 32 := BitVec.ofNat 32 (i 0).val
  let c128_i32_4359 : BitVec 32 := 128#32
  let v6152 : BitVec 32 := Scalar.muli arg0 c128_i32_4359
  let c48_i32_4552 : BitVec 32 := 48#32
  let v6393 : BitVec 32 := Scalar.addi v6152 c48_i32_4552
  let v6394 : Index := Scalar.indexCast v6393
  ![v6394.toNat]
def k0_off2146 (v6395 : BitVec 32) : Fin 2 → Nat :=
  let c0_i32_4553 : BitVec 32 := 0#32
  ![v6395.toNat, 0]

def k0_chk1073 (i : grid0.Coords) (v6395 : BitVec 32) : Prop :=
  (∀ (k0_h2 : k0_cond2 i = 1#1), ∀ a, (k0_off2146 v6395) a + S1x1024.size a ≤ S37888x1024.size a)
theorem k0_off2146_inb : ∀ (i : grid0.Coords) (v6395 : BitVec 32) (k0_hw1073 : k0_chk1073 i v6395), ∀ (k0_h2 : k0_cond2 i = 1#1), ∀ a, (k0_off2146 v6395) a + S1x1024.size a ≤ S37888x1024.size a := fun i v6395 k0_hw1073 k0_h2 => k0_hw1073 k0_h2

def k0_off2147 (i : grid0.Coords) : Fin 1 → Nat :=
  let arg0 : BitVec 32 := BitVec.ofNat 32 (i 0).val
  let c128_i32_4359 : BitVec 32 := 128#32
  let v6152 : BitVec 32 := Scalar.muli arg0 c128_i32_4359
  let c49_i32_4556 : BitVec 32 := 49#32
  let v6398 : BitVec 32 := Scalar.addi v6152 c49_i32_4556
  let v6399 : Index := Scalar.indexCast v6398
  ![v6399.toNat]
def k0_off2148 (v6400 : BitVec 32) : Fin 2 → Nat :=
  let c0_i32_4557 : BitVec 32 := 0#32
  ![v6400.toNat, 0]

def k0_chk1074 (i : grid0.Coords) (v6400 : BitVec 32) : Prop :=
  (∀ (k0_h2 : k0_cond2 i = 1#1), ∀ a, (k0_off2148 v6400) a + S1x1024.size a ≤ S37888x1024.size a)
theorem k0_off2148_inb : ∀ (i : grid0.Coords) (v6400 : BitVec 32) (k0_hw1074 : k0_chk1074 i v6400), ∀ (k0_h2 : k0_cond2 i = 1#1), ∀ a, (k0_off2148 v6400) a + S1x1024.size a ≤ S37888x1024.size a := fun i v6400 k0_hw1074 k0_h2 => k0_hw1074 k0_h2

def k0_off2149 (i : grid0.Coords) : Fin 1 → Nat :=
  let arg0 : BitVec 32 := BitVec.ofNat 32 (i 0).val
  let c128_i32_4359 : BitVec 32 := 128#32
  let v6152 : BitVec 32 := Scalar.muli arg0 c128_i32_4359
  let c50_i32_4560 : BitVec 32 := 50#32
  let v6403 : BitVec 32 := Scalar.addi v6152 c50_i32_4560
  let v6404 : Index := Scalar.indexCast v6403
  ![v6404.toNat]
def k0_off2150 (v6405 : BitVec 32) : Fin 2 → Nat :=
  let c0_i32_4561 : BitVec 32 := 0#32
  ![v6405.toNat, 0]

def k0_chk1075 (i : grid0.Coords) (v6405 : BitVec 32) : Prop :=
  (∀ (k0_h2 : k0_cond2 i = 1#1), ∀ a, (k0_off2150 v6405) a + S1x1024.size a ≤ S37888x1024.size a)
theorem k0_off2150_inb : ∀ (i : grid0.Coords) (v6405 : BitVec 32) (k0_hw1075 : k0_chk1075 i v6405), ∀ (k0_h2 : k0_cond2 i = 1#1), ∀ a, (k0_off2150 v6405) a + S1x1024.size a ≤ S37888x1024.size a := fun i v6405 k0_hw1075 k0_h2 => k0_hw1075 k0_h2

def k0_off2151 (i : grid0.Coords) : Fin 1 → Nat :=
  let arg0 : BitVec 32 := BitVec.ofNat 32 (i 0).val
  let c128_i32_4359 : BitVec 32 := 128#32
  let v6152 : BitVec 32 := Scalar.muli arg0 c128_i32_4359
  let c51_i32_4564 : BitVec 32 := 51#32
  let v6408 : BitVec 32 := Scalar.addi v6152 c51_i32_4564
  let v6409 : Index := Scalar.indexCast v6408
  ![v6409.toNat]
def k0_off2152 (v6410 : BitVec 32) : Fin 2 → Nat :=
  let c0_i32_4565 : BitVec 32 := 0#32
  ![v6410.toNat, 0]

def k0_chk1076 (i : grid0.Coords) (v6410 : BitVec 32) : Prop :=
  (∀ (k0_h2 : k0_cond2 i = 1#1), ∀ a, (k0_off2152 v6410) a + S1x1024.size a ≤ S37888x1024.size a)
theorem k0_off2152_inb : ∀ (i : grid0.Coords) (v6410 : BitVec 32) (k0_hw1076 : k0_chk1076 i v6410), ∀ (k0_h2 : k0_cond2 i = 1#1), ∀ a, (k0_off2152 v6410) a + S1x1024.size a ≤ S37888x1024.size a := fun i v6410 k0_hw1076 k0_h2 => k0_hw1076 k0_h2

def k0_off2153 (i : grid0.Coords) : Fin 1 → Nat :=
  let arg0 : BitVec 32 := BitVec.ofNat 32 (i 0).val
  let c128_i32_4359 : BitVec 32 := 128#32
  let v6152 : BitVec 32 := Scalar.muli arg0 c128_i32_4359
  let c52_i32_4568 : BitVec 32 := 52#32
  let v6413 : BitVec 32 := Scalar.addi v6152 c52_i32_4568
  let v6414 : Index := Scalar.indexCast v6413
  ![v6414.toNat]
def k0_off2154 (v6415 : BitVec 32) : Fin 2 → Nat :=
  let c0_i32_4569 : BitVec 32 := 0#32
  ![v6415.toNat, 0]

def k0_chk1077 (i : grid0.Coords) (v6415 : BitVec 32) : Prop :=
  (∀ (k0_h2 : k0_cond2 i = 1#1), ∀ a, (k0_off2154 v6415) a + S1x1024.size a ≤ S37888x1024.size a)
theorem k0_off2154_inb : ∀ (i : grid0.Coords) (v6415 : BitVec 32) (k0_hw1077 : k0_chk1077 i v6415), ∀ (k0_h2 : k0_cond2 i = 1#1), ∀ a, (k0_off2154 v6415) a + S1x1024.size a ≤ S37888x1024.size a := fun i v6415 k0_hw1077 k0_h2 => k0_hw1077 k0_h2

def k0_off2155 (i : grid0.Coords) : Fin 1 → Nat :=
  let arg0 : BitVec 32 := BitVec.ofNat 32 (i 0).val
  let c128_i32_4359 : BitVec 32 := 128#32
  let v6152 : BitVec 32 := Scalar.muli arg0 c128_i32_4359
  let c53_i32_4572 : BitVec 32 := 53#32
  let v6418 : BitVec 32 := Scalar.addi v6152 c53_i32_4572
  let v6419 : Index := Scalar.indexCast v6418
  ![v6419.toNat]
def k0_off2156 (v6420 : BitVec 32) : Fin 2 → Nat :=
  let c0_i32_4573 : BitVec 32 := 0#32
  ![v6420.toNat, 0]

def k0_chk1078 (i : grid0.Coords) (v6420 : BitVec 32) : Prop :=
  (∀ (k0_h2 : k0_cond2 i = 1#1), ∀ a, (k0_off2156 v6420) a + S1x1024.size a ≤ S37888x1024.size a)
theorem k0_off2156_inb : ∀ (i : grid0.Coords) (v6420 : BitVec 32) (k0_hw1078 : k0_chk1078 i v6420), ∀ (k0_h2 : k0_cond2 i = 1#1), ∀ a, (k0_off2156 v6420) a + S1x1024.size a ≤ S37888x1024.size a := fun i v6420 k0_hw1078 k0_h2 => k0_hw1078 k0_h2

def k0_off2157 (i : grid0.Coords) : Fin 1 → Nat :=
  let arg0 : BitVec 32 := BitVec.ofNat 32 (i 0).val
  let c128_i32_4359 : BitVec 32 := 128#32
  let v6152 : BitVec 32 := Scalar.muli arg0 c128_i32_4359
  let c54_i32_4576 : BitVec 32 := 54#32
  let v6423 : BitVec 32 := Scalar.addi v6152 c54_i32_4576
  let v6424 : Index := Scalar.indexCast v6423
  ![v6424.toNat]
def k0_off2158 (v6425 : BitVec 32) : Fin 2 → Nat :=
  let c0_i32_4577 : BitVec 32 := 0#32
  ![v6425.toNat, 0]

def k0_chk1079 (i : grid0.Coords) (v6425 : BitVec 32) : Prop :=
  (∀ (k0_h2 : k0_cond2 i = 1#1), ∀ a, (k0_off2158 v6425) a + S1x1024.size a ≤ S37888x1024.size a)
theorem k0_off2158_inb : ∀ (i : grid0.Coords) (v6425 : BitVec 32) (k0_hw1079 : k0_chk1079 i v6425), ∀ (k0_h2 : k0_cond2 i = 1#1), ∀ a, (k0_off2158 v6425) a + S1x1024.size a ≤ S37888x1024.size a := fun i v6425 k0_hw1079 k0_h2 => k0_hw1079 k0_h2

def k0_off2159 (i : grid0.Coords) : Fin 1 → Nat :=
  let arg0 : BitVec 32 := BitVec.ofNat 32 (i 0).val
  let c128_i32_4359 : BitVec 32 := 128#32
  let v6152 : BitVec 32 := Scalar.muli arg0 c128_i32_4359
  let c55_i32_4580 : BitVec 32 := 55#32
  let v6428 : BitVec 32 := Scalar.addi v6152 c55_i32_4580
  let v6429 : Index := Scalar.indexCast v6428
  ![v6429.toNat]
def k0_off2160 (v6430 : BitVec 32) : Fin 2 → Nat :=
  let c0_i32_4581 : BitVec 32 := 0#32
  ![v6430.toNat, 0]

def k0_chk1080 (i : grid0.Coords) (v6430 : BitVec 32) : Prop :=
  (∀ (k0_h2 : k0_cond2 i = 1#1), ∀ a, (k0_off2160 v6430) a + S1x1024.size a ≤ S37888x1024.size a)
theorem k0_off2160_inb : ∀ (i : grid0.Coords) (v6430 : BitVec 32) (k0_hw1080 : k0_chk1080 i v6430), ∀ (k0_h2 : k0_cond2 i = 1#1), ∀ a, (k0_off2160 v6430) a + S1x1024.size a ≤ S37888x1024.size a := fun i v6430 k0_hw1080 k0_h2 => k0_hw1080 k0_h2

def k0_off2161 (i : grid0.Coords) : Fin 1 → Nat :=
  let arg0 : BitVec 32 := BitVec.ofNat 32 (i 0).val
  let c128_i32_4359 : BitVec 32 := 128#32
  let v6152 : BitVec 32 := Scalar.muli arg0 c128_i32_4359
  let c56_i32_4584 : BitVec 32 := 56#32
  let v6433 : BitVec 32 := Scalar.addi v6152 c56_i32_4584
  let v6434 : Index := Scalar.indexCast v6433
  ![v6434.toNat]
def k0_off2162 (v6435 : BitVec 32) : Fin 2 → Nat :=
  let c0_i32_4585 : BitVec 32 := 0#32
  ![v6435.toNat, 0]

def k0_chk1081 (i : grid0.Coords) (v6435 : BitVec 32) : Prop :=
  (∀ (k0_h2 : k0_cond2 i = 1#1), ∀ a, (k0_off2162 v6435) a + S1x1024.size a ≤ S37888x1024.size a)
theorem k0_off2162_inb : ∀ (i : grid0.Coords) (v6435 : BitVec 32) (k0_hw1081 : k0_chk1081 i v6435), ∀ (k0_h2 : k0_cond2 i = 1#1), ∀ a, (k0_off2162 v6435) a + S1x1024.size a ≤ S37888x1024.size a := fun i v6435 k0_hw1081 k0_h2 => k0_hw1081 k0_h2

def k0_off2163 (i : grid0.Coords) : Fin 1 → Nat :=
  let arg0 : BitVec 32 := BitVec.ofNat 32 (i 0).val
  let c128_i32_4359 : BitVec 32 := 128#32
  let v6152 : BitVec 32 := Scalar.muli arg0 c128_i32_4359
  let c57_i32_4588 : BitVec 32 := 57#32
  let v6438 : BitVec 32 := Scalar.addi v6152 c57_i32_4588
  let v6439 : Index := Scalar.indexCast v6438
  ![v6439.toNat]
def k0_off2164 (v6440 : BitVec 32) : Fin 2 → Nat :=
  let c0_i32_4589 : BitVec 32 := 0#32
  ![v6440.toNat, 0]

def k0_chk1082 (i : grid0.Coords) (v6440 : BitVec 32) : Prop :=
  (∀ (k0_h2 : k0_cond2 i = 1#1), ∀ a, (k0_off2164 v6440) a + S1x1024.size a ≤ S37888x1024.size a)
theorem k0_off2164_inb : ∀ (i : grid0.Coords) (v6440 : BitVec 32) (k0_hw1082 : k0_chk1082 i v6440), ∀ (k0_h2 : k0_cond2 i = 1#1), ∀ a, (k0_off2164 v6440) a + S1x1024.size a ≤ S37888x1024.size a := fun i v6440 k0_hw1082 k0_h2 => k0_hw1082 k0_h2

def k0_off2165 (i : grid0.Coords) : Fin 1 → Nat :=
  let arg0 : BitVec 32 := BitVec.ofNat 32 (i 0).val
  let c128_i32_4359 : BitVec 32 := 128#32
  let v6152 : BitVec 32 := Scalar.muli arg0 c128_i32_4359
  let c58_i32_4592 : BitVec 32 := 58#32
  let v6443 : BitVec 32 := Scalar.addi v6152 c58_i32_4592
  let v6444 : Index := Scalar.indexCast v6443
  ![v6444.toNat]
def k0_off2166 (v6445 : BitVec 32) : Fin 2 → Nat :=
  let c0_i32_4593 : BitVec 32 := 0#32
  ![v6445.toNat, 0]

def k0_chk1083 (i : grid0.Coords) (v6445 : BitVec 32) : Prop :=
  (∀ (k0_h2 : k0_cond2 i = 1#1), ∀ a, (k0_off2166 v6445) a + S1x1024.size a ≤ S37888x1024.size a)
theorem k0_off2166_inb : ∀ (i : grid0.Coords) (v6445 : BitVec 32) (k0_hw1083 : k0_chk1083 i v6445), ∀ (k0_h2 : k0_cond2 i = 1#1), ∀ a, (k0_off2166 v6445) a + S1x1024.size a ≤ S37888x1024.size a := fun i v6445 k0_hw1083 k0_h2 => k0_hw1083 k0_h2

def k0_off2167 (i : grid0.Coords) : Fin 1 → Nat :=
  let arg0 : BitVec 32 := BitVec.ofNat 32 (i 0).val
  let c128_i32_4359 : BitVec 32 := 128#32
  let v6152 : BitVec 32 := Scalar.muli arg0 c128_i32_4359
  let c59_i32_4596 : BitVec 32 := 59#32
  let v6448 : BitVec 32 := Scalar.addi v6152 c59_i32_4596
  let v6449 : Index := Scalar.indexCast v6448
  ![v6449.toNat]
def k0_off2168 (v6450 : BitVec 32) : Fin 2 → Nat :=
  let c0_i32_4597 : BitVec 32 := 0#32
  ![v6450.toNat, 0]

def k0_chk1084 (i : grid0.Coords) (v6450 : BitVec 32) : Prop :=
  (∀ (k0_h2 : k0_cond2 i = 1#1), ∀ a, (k0_off2168 v6450) a + S1x1024.size a ≤ S37888x1024.size a)
theorem k0_off2168_inb : ∀ (i : grid0.Coords) (v6450 : BitVec 32) (k0_hw1084 : k0_chk1084 i v6450), ∀ (k0_h2 : k0_cond2 i = 1#1), ∀ a, (k0_off2168 v6450) a + S1x1024.size a ≤ S37888x1024.size a := fun i v6450 k0_hw1084 k0_h2 => k0_hw1084 k0_h2

def k0_off2169 (i : grid0.Coords) : Fin 1 → Nat :=
  let arg0 : BitVec 32 := BitVec.ofNat 32 (i 0).val
  let c128_i32_4359 : BitVec 32 := 128#32
  let v6152 : BitVec 32 := Scalar.muli arg0 c128_i32_4359
  let c60_i32_4600 : BitVec 32 := 60#32
  let v6453 : BitVec 32 := Scalar.addi v6152 c60_i32_4600
  let v6454 : Index := Scalar.indexCast v6453
  ![v6454.toNat]
def k0_off2170 (v6455 : BitVec 32) : Fin 2 → Nat :=
  let c0_i32_4601 : BitVec 32 := 0#32
  ![v6455.toNat, 0]

def k0_chk1085 (i : grid0.Coords) (v6455 : BitVec 32) : Prop :=
  (∀ (k0_h2 : k0_cond2 i = 1#1), ∀ a, (k0_off2170 v6455) a + S1x1024.size a ≤ S37888x1024.size a)
theorem k0_off2170_inb : ∀ (i : grid0.Coords) (v6455 : BitVec 32) (k0_hw1085 : k0_chk1085 i v6455), ∀ (k0_h2 : k0_cond2 i = 1#1), ∀ a, (k0_off2170 v6455) a + S1x1024.size a ≤ S37888x1024.size a := fun i v6455 k0_hw1085 k0_h2 => k0_hw1085 k0_h2

def k0_off2171 (i : grid0.Coords) : Fin 1 → Nat :=
  let arg0 : BitVec 32 := BitVec.ofNat 32 (i 0).val
  let c128_i32_4359 : BitVec 32 := 128#32
  let v6152 : BitVec 32 := Scalar.muli arg0 c128_i32_4359
  let c61_i32_4604 : BitVec 32 := 61#32
  let v6458 : BitVec 32 := Scalar.addi v6152 c61_i32_4604
  let v6459 : Index := Scalar.indexCast v6458
  ![v6459.toNat]
def k0_off2172 (v6460 : BitVec 32) : Fin 2 → Nat :=
  let c0_i32_4605 : BitVec 32 := 0#32
  ![v6460.toNat, 0]

def k0_chk1086 (i : grid0.Coords) (v6460 : BitVec 32) : Prop :=
  (∀ (k0_h2 : k0_cond2 i = 1#1), ∀ a, (k0_off2172 v6460) a + S1x1024.size a ≤ S37888x1024.size a)
theorem k0_off2172_inb : ∀ (i : grid0.Coords) (v6460 : BitVec 32) (k0_hw1086 : k0_chk1086 i v6460), ∀ (k0_h2 : k0_cond2 i = 1#1), ∀ a, (k0_off2172 v6460) a + S1x1024.size a ≤ S37888x1024.size a := fun i v6460 k0_hw1086 k0_h2 => k0_hw1086 k0_h2

def k0_off2173 (i : grid0.Coords) : Fin 1 → Nat :=
  let arg0 : BitVec 32 := BitVec.ofNat 32 (i 0).val
  let c128_i32_4359 : BitVec 32 := 128#32
  let v6152 : BitVec 32 := Scalar.muli arg0 c128_i32_4359
  let c62_i32_4608 : BitVec 32 := 62#32
  let v6463 : BitVec 32 := Scalar.addi v6152 c62_i32_4608
  let v6464 : Index := Scalar.indexCast v6463
  ![v6464.toNat]
def k0_off2174 (v6465 : BitVec 32) : Fin 2 → Nat :=
  let c0_i32_4609 : BitVec 32 := 0#32
  ![v6465.toNat, 0]

def k0_chk1087 (i : grid0.Coords) (v6465 : BitVec 32) : Prop :=
  (∀ (k0_h2 : k0_cond2 i = 1#1), ∀ a, (k0_off2174 v6465) a + S1x1024.size a ≤ S37888x1024.size a)
theorem k0_off2174_inb : ∀ (i : grid0.Coords) (v6465 : BitVec 32) (k0_hw1087 : k0_chk1087 i v6465), ∀ (k0_h2 : k0_cond2 i = 1#1), ∀ a, (k0_off2174 v6465) a + S1x1024.size a ≤ S37888x1024.size a := fun i v6465 k0_hw1087 k0_h2 => k0_hw1087 k0_h2

def k0_off2175 (i : grid0.Coords) : Fin 1 → Nat :=
  let arg0 : BitVec 32 := BitVec.ofNat 32 (i 0).val
  let c128_i32_4359 : BitVec 32 := 128#32
  let v6152 : BitVec 32 := Scalar.muli arg0 c128_i32_4359
  let c63_i32_4612 : BitVec 32 := 63#32
  let v6468 : BitVec 32 := Scalar.addi v6152 c63_i32_4612
  let v6469 : Index := Scalar.indexCast v6468
  ![v6469.toNat]
def k0_off2176 (v6470 : BitVec 32) : Fin 2 → Nat :=
  let c0_i32_4613 : BitVec 32 := 0#32
  ![v6470.toNat, 0]

def k0_chk1088 (i : grid0.Coords) (v6470 : BitVec 32) : Prop :=
  (∀ (k0_h2 : k0_cond2 i = 1#1), ∀ a, (k0_off2176 v6470) a + S1x1024.size a ≤ S37888x1024.size a)
theorem k0_off2176_inb : ∀ (i : grid0.Coords) (v6470 : BitVec 32) (k0_hw1088 : k0_chk1088 i v6470), ∀ (k0_h2 : k0_cond2 i = 1#1), ∀ a, (k0_off2176 v6470) a + S1x1024.size a ≤ S37888x1024.size a := fun i v6470 k0_hw1088 k0_h2 => k0_hw1088 k0_h2

def k0_off2177 (i : grid0.Coords) : Fin 1 → Nat :=
  let arg0 : BitVec 32 := BitVec.ofNat 32 (i 0).val
  let c128_i32_4359 : BitVec 32 := 128#32
  let v6152 : BitVec 32 := Scalar.muli arg0 c128_i32_4359
  let c64_i32_4616 : BitVec 32 := 64#32
  let v6473 : BitVec 32 := Scalar.addi v6152 c64_i32_4616
  let v6474 : Index := Scalar.indexCast v6473
  ![v6474.toNat]
def k0_off2178 (v6475 : BitVec 32) : Fin 2 → Nat :=
  let c0_i32_4617 : BitVec 32 := 0#32
  ![v6475.toNat, 0]

def k0_chk1089 (i : grid0.Coords) (v6475 : BitVec 32) : Prop :=
  (∀ (k0_h2 : k0_cond2 i = 1#1), ∀ a, (k0_off2178 v6475) a + S1x1024.size a ≤ S37888x1024.size a)
theorem k0_off2178_inb : ∀ (i : grid0.Coords) (v6475 : BitVec 32) (k0_hw1089 : k0_chk1089 i v6475), ∀ (k0_h2 : k0_cond2 i = 1#1), ∀ a, (k0_off2178 v6475) a + S1x1024.size a ≤ S37888x1024.size a := fun i v6475 k0_hw1089 k0_h2 => k0_hw1089 k0_h2

def k0_off2179 (i : grid0.Coords) : Fin 1 → Nat :=
  let arg0 : BitVec 32 := BitVec.ofNat 32 (i 0).val
  let c128_i32_4359 : BitVec 32 := 128#32
  let v6152 : BitVec 32 := Scalar.muli arg0 c128_i32_4359
  let c65_i32_4620 : BitVec 32 := 65#32
  let v6478 : BitVec 32 := Scalar.addi v6152 c65_i32_4620
  let v6479 : Index := Scalar.indexCast v6478
  ![v6479.toNat]
def k0_off2180 (v6480 : BitVec 32) : Fin 2 → Nat :=
  let c0_i32_4621 : BitVec 32 := 0#32
  ![v6480.toNat, 0]

def k0_chk1090 (i : grid0.Coords) (v6480 : BitVec 32) : Prop :=
  (∀ (k0_h2 : k0_cond2 i = 1#1), ∀ a, (k0_off2180 v6480) a + S1x1024.size a ≤ S37888x1024.size a)
theorem k0_off2180_inb : ∀ (i : grid0.Coords) (v6480 : BitVec 32) (k0_hw1090 : k0_chk1090 i v6480), ∀ (k0_h2 : k0_cond2 i = 1#1), ∀ a, (k0_off2180 v6480) a + S1x1024.size a ≤ S37888x1024.size a := fun i v6480 k0_hw1090 k0_h2 => k0_hw1090 k0_h2

def k0_off2181 (i : grid0.Coords) : Fin 1 → Nat :=
  let arg0 : BitVec 32 := BitVec.ofNat 32 (i 0).val
  let c128_i32_4359 : BitVec 32 := 128#32
  let v6152 : BitVec 32 := Scalar.muli arg0 c128_i32_4359
  let c66_i32_4624 : BitVec 32 := 66#32
  let v6483 : BitVec 32 := Scalar.addi v6152 c66_i32_4624
  let v6484 : Index := Scalar.indexCast v6483
  ![v6484.toNat]
def k0_off2182 (v6485 : BitVec 32) : Fin 2 → Nat :=
  let c0_i32_4625 : BitVec 32 := 0#32
  ![v6485.toNat, 0]

def k0_chk1091 (i : grid0.Coords) (v6485 : BitVec 32) : Prop :=
  (∀ (k0_h2 : k0_cond2 i = 1#1), ∀ a, (k0_off2182 v6485) a + S1x1024.size a ≤ S37888x1024.size a)
theorem k0_off2182_inb : ∀ (i : grid0.Coords) (v6485 : BitVec 32) (k0_hw1091 : k0_chk1091 i v6485), ∀ (k0_h2 : k0_cond2 i = 1#1), ∀ a, (k0_off2182 v6485) a + S1x1024.size a ≤ S37888x1024.size a := fun i v6485 k0_hw1091 k0_h2 => k0_hw1091 k0_h2

def k0_off2183 (i : grid0.Coords) : Fin 1 → Nat :=
  let arg0 : BitVec 32 := BitVec.ofNat 32 (i 0).val
  let c128_i32_4359 : BitVec 32 := 128#32
  let v6152 : BitVec 32 := Scalar.muli arg0 c128_i32_4359
  let c67_i32_4628 : BitVec 32 := 67#32
  let v6488 : BitVec 32 := Scalar.addi v6152 c67_i32_4628
  let v6489 : Index := Scalar.indexCast v6488
  ![v6489.toNat]
def k0_off2184 (v6490 : BitVec 32) : Fin 2 → Nat :=
  let c0_i32_4629 : BitVec 32 := 0#32
  ![v6490.toNat, 0]

def k0_chk1092 (i : grid0.Coords) (v6490 : BitVec 32) : Prop :=
  (∀ (k0_h2 : k0_cond2 i = 1#1), ∀ a, (k0_off2184 v6490) a + S1x1024.size a ≤ S37888x1024.size a)
theorem k0_off2184_inb : ∀ (i : grid0.Coords) (v6490 : BitVec 32) (k0_hw1092 : k0_chk1092 i v6490), ∀ (k0_h2 : k0_cond2 i = 1#1), ∀ a, (k0_off2184 v6490) a + S1x1024.size a ≤ S37888x1024.size a := fun i v6490 k0_hw1092 k0_h2 => k0_hw1092 k0_h2

def k0_off2185 (i : grid0.Coords) : Fin 1 → Nat :=
  let arg0 : BitVec 32 := BitVec.ofNat 32 (i 0).val
  let c128_i32_4359 : BitVec 32 := 128#32
  let v6152 : BitVec 32 := Scalar.muli arg0 c128_i32_4359
  let c68_i32_4632 : BitVec 32 := 68#32
  let v6493 : BitVec 32 := Scalar.addi v6152 c68_i32_4632
  let v6494 : Index := Scalar.indexCast v6493
  ![v6494.toNat]
def k0_off2186 (v6495 : BitVec 32) : Fin 2 → Nat :=
  let c0_i32_4633 : BitVec 32 := 0#32
  ![v6495.toNat, 0]

def k0_chk1093 (i : grid0.Coords) (v6495 : BitVec 32) : Prop :=
  (∀ (k0_h2 : k0_cond2 i = 1#1), ∀ a, (k0_off2186 v6495) a + S1x1024.size a ≤ S37888x1024.size a)
theorem k0_off2186_inb : ∀ (i : grid0.Coords) (v6495 : BitVec 32) (k0_hw1093 : k0_chk1093 i v6495), ∀ (k0_h2 : k0_cond2 i = 1#1), ∀ a, (k0_off2186 v6495) a + S1x1024.size a ≤ S37888x1024.size a := fun i v6495 k0_hw1093 k0_h2 => k0_hw1093 k0_h2

def k0_off2187 (i : grid0.Coords) : Fin 1 → Nat :=
  let arg0 : BitVec 32 := BitVec.ofNat 32 (i 0).val
  let c128_i32_4359 : BitVec 32 := 128#32
  let v6152 : BitVec 32 := Scalar.muli arg0 c128_i32_4359
  let c69_i32_4636 : BitVec 32 := 69#32
  let v6498 : BitVec 32 := Scalar.addi v6152 c69_i32_4636
  let v6499 : Index := Scalar.indexCast v6498
  ![v6499.toNat]
def k0_off2188 (v6500 : BitVec 32) : Fin 2 → Nat :=
  let c0_i32_4637 : BitVec 32 := 0#32
  ![v6500.toNat, 0]

def k0_chk1094 (i : grid0.Coords) (v6500 : BitVec 32) : Prop :=
  (∀ (k0_h2 : k0_cond2 i = 1#1), ∀ a, (k0_off2188 v6500) a + S1x1024.size a ≤ S37888x1024.size a)
theorem k0_off2188_inb : ∀ (i : grid0.Coords) (v6500 : BitVec 32) (k0_hw1094 : k0_chk1094 i v6500), ∀ (k0_h2 : k0_cond2 i = 1#1), ∀ a, (k0_off2188 v6500) a + S1x1024.size a ≤ S37888x1024.size a := fun i v6500 k0_hw1094 k0_h2 => k0_hw1094 k0_h2

def k0_off2189 (i : grid0.Coords) : Fin 1 → Nat :=
  let arg0 : BitVec 32 := BitVec.ofNat 32 (i 0).val
  let c128_i32_4359 : BitVec 32 := 128#32
  let v6152 : BitVec 32 := Scalar.muli arg0 c128_i32_4359
  let c70_i32_4640 : BitVec 32 := 70#32
  let v6503 : BitVec 32 := Scalar.addi v6152 c70_i32_4640
  let v6504 : Index := Scalar.indexCast v6503
  ![v6504.toNat]
def k0_off2190 (v6505 : BitVec 32) : Fin 2 → Nat :=
  let c0_i32_4641 : BitVec 32 := 0#32
  ![v6505.toNat, 0]

def k0_chk1095 (i : grid0.Coords) (v6505 : BitVec 32) : Prop :=
  (∀ (k0_h2 : k0_cond2 i = 1#1), ∀ a, (k0_off2190 v6505) a + S1x1024.size a ≤ S37888x1024.size a)
theorem k0_off2190_inb : ∀ (i : grid0.Coords) (v6505 : BitVec 32) (k0_hw1095 : k0_chk1095 i v6505), ∀ (k0_h2 : k0_cond2 i = 1#1), ∀ a, (k0_off2190 v6505) a + S1x1024.size a ≤ S37888x1024.size a := fun i v6505 k0_hw1095 k0_h2 => k0_hw1095 k0_h2

def k0_off2191 (i : grid0.Coords) : Fin 1 → Nat :=
  let arg0 : BitVec 32 := BitVec.ofNat 32 (i 0).val
  let c128_i32_4359 : BitVec 32 := 128#32
  let v6152 : BitVec 32 := Scalar.muli arg0 c128_i32_4359
  let c71_i32_4644 : BitVec 32 := 71#32
  let v6508 : BitVec 32 := Scalar.addi v6152 c71_i32_4644
  let v6509 : Index := Scalar.indexCast v6508
  ![v6509.toNat]
def k0_off2192 (v6510 : BitVec 32) : Fin 2 → Nat :=
  let c0_i32_4645 : BitVec 32 := 0#32
  ![v6510.toNat, 0]

def k0_chk1096 (i : grid0.Coords) (v6510 : BitVec 32) : Prop :=
  (∀ (k0_h2 : k0_cond2 i = 1#1), ∀ a, (k0_off2192 v6510) a + S1x1024.size a ≤ S37888x1024.size a)
theorem k0_off2192_inb : ∀ (i : grid0.Coords) (v6510 : BitVec 32) (k0_hw1096 : k0_chk1096 i v6510), ∀ (k0_h2 : k0_cond2 i = 1#1), ∀ a, (k0_off2192 v6510) a + S1x1024.size a ≤ S37888x1024.size a := fun i v6510 k0_hw1096 k0_h2 => k0_hw1096 k0_h2

def k0_off2193 (i : grid0.Coords) : Fin 1 → Nat :=
  let arg0 : BitVec 32 := BitVec.ofNat 32 (i 0).val
  let c128_i32_4359 : BitVec 32 := 128#32
  let v6152 : BitVec 32 := Scalar.muli arg0 c128_i32_4359
  let c72_i32_4648 : BitVec 32 := 72#32
  let v6513 : BitVec 32 := Scalar.addi v6152 c72_i32_4648
  let v6514 : Index := Scalar.indexCast v6513
  ![v6514.toNat]
def k0_off2194 (v6515 : BitVec 32) : Fin 2 → Nat :=
  let c0_i32_4649 : BitVec 32 := 0#32
  ![v6515.toNat, 0]

def k0_chk1097 (i : grid0.Coords) (v6515 : BitVec 32) : Prop :=
  (∀ (k0_h2 : k0_cond2 i = 1#1), ∀ a, (k0_off2194 v6515) a + S1x1024.size a ≤ S37888x1024.size a)
theorem k0_off2194_inb : ∀ (i : grid0.Coords) (v6515 : BitVec 32) (k0_hw1097 : k0_chk1097 i v6515), ∀ (k0_h2 : k0_cond2 i = 1#1), ∀ a, (k0_off2194 v6515) a + S1x1024.size a ≤ S37888x1024.size a := fun i v6515 k0_hw1097 k0_h2 => k0_hw1097 k0_h2

def k0_off2195 (i : grid0.Coords) : Fin 1 → Nat :=
  let arg0 : BitVec 32 := BitVec.ofNat 32 (i 0).val
  let c128_i32_4359 : BitVec 32 := 128#32
  let v6152 : BitVec 32 := Scalar.muli arg0 c128_i32_4359
  let c73_i32_4652 : BitVec 32 := 73#32
  let v6518 : BitVec 32 := Scalar.addi v6152 c73_i32_4652
  let v6519 : Index := Scalar.indexCast v6518
  ![v6519.toNat]
def k0_off2196 (v6520 : BitVec 32) : Fin 2 → Nat :=
  let c0_i32_4653 : BitVec 32 := 0#32
  ![v6520.toNat, 0]

def k0_chk1098 (i : grid0.Coords) (v6520 : BitVec 32) : Prop :=
  (∀ (k0_h2 : k0_cond2 i = 1#1), ∀ a, (k0_off2196 v6520) a + S1x1024.size a ≤ S37888x1024.size a)
theorem k0_off2196_inb : ∀ (i : grid0.Coords) (v6520 : BitVec 32) (k0_hw1098 : k0_chk1098 i v6520), ∀ (k0_h2 : k0_cond2 i = 1#1), ∀ a, (k0_off2196 v6520) a + S1x1024.size a ≤ S37888x1024.size a := fun i v6520 k0_hw1098 k0_h2 => k0_hw1098 k0_h2

def k0_off2197 (i : grid0.Coords) : Fin 1 → Nat :=
  let arg0 : BitVec 32 := BitVec.ofNat 32 (i 0).val
  let c128_i32_4359 : BitVec 32 := 128#32
  let v6152 : BitVec 32 := Scalar.muli arg0 c128_i32_4359
  let c74_i32_4656 : BitVec 32 := 74#32
  let v6523 : BitVec 32 := Scalar.addi v6152 c74_i32_4656
  let v6524 : Index := Scalar.indexCast v6523
  ![v6524.toNat]
def k0_off2198 (v6525 : BitVec 32) : Fin 2 → Nat :=
  let c0_i32_4657 : BitVec 32 := 0#32
  ![v6525.toNat, 0]

def k0_chk1099 (i : grid0.Coords) (v6525 : BitVec 32) : Prop :=
  (∀ (k0_h2 : k0_cond2 i = 1#1), ∀ a, (k0_off2198 v6525) a + S1x1024.size a ≤ S37888x1024.size a)
theorem k0_off2198_inb : ∀ (i : grid0.Coords) (v6525 : BitVec 32) (k0_hw1099 : k0_chk1099 i v6525), ∀ (k0_h2 : k0_cond2 i = 1#1), ∀ a, (k0_off2198 v6525) a + S1x1024.size a ≤ S37888x1024.size a := fun i v6525 k0_hw1099 k0_h2 => k0_hw1099 k0_h2

def k0_off2199 (i : grid0.Coords) : Fin 1 → Nat :=
  let arg0 : BitVec 32 := BitVec.ofNat 32 (i 0).val
  let c128_i32_4359 : BitVec 32 := 128#32
  let v6152 : BitVec 32 := Scalar.muli arg0 c128_i32_4359
  let c75_i32_4660 : BitVec 32 := 75#32
  let v6528 : BitVec 32 := Scalar.addi v6152 c75_i32_4660
  let v6529 : Index := Scalar.indexCast v6528
  ![v6529.toNat]
def k0_off2200 (v6530 : BitVec 32) : Fin 2 → Nat :=
  let c0_i32_4661 : BitVec 32 := 0#32
  ![v6530.toNat, 0]

def k0_chk1100 (i : grid0.Coords) (v6530 : BitVec 32) : Prop :=
  (∀ (k0_h2 : k0_cond2 i = 1#1), ∀ a, (k0_off2200 v6530) a + S1x1024.size a ≤ S37888x1024.size a)
theorem k0_off2200_inb : ∀ (i : grid0.Coords) (v6530 : BitVec 32) (k0_hw1100 : k0_chk1100 i v6530), ∀ (k0_h2 : k0_cond2 i = 1#1), ∀ a, (k0_off2200 v6530) a + S1x1024.size a ≤ S37888x1024.size a := fun i v6530 k0_hw1100 k0_h2 => k0_hw1100 k0_h2

def k0_off2201 (i : grid0.Coords) : Fin 1 → Nat :=
  let arg0 : BitVec 32 := BitVec.ofNat 32 (i 0).val
  let c128_i32_4359 : BitVec 32 := 128#32
  let v6152 : BitVec 32 := Scalar.muli arg0 c128_i32_4359
  let c76_i32_4664 : BitVec 32 := 76#32
  let v6533 : BitVec 32 := Scalar.addi v6152 c76_i32_4664
  let v6534 : Index := Scalar.indexCast v6533
  ![v6534.toNat]
def k0_off2202 (v6535 : BitVec 32) : Fin 2 → Nat :=
  let c0_i32_4665 : BitVec 32 := 0#32
  ![v6535.toNat, 0]

def k0_chk1101 (i : grid0.Coords) (v6535 : BitVec 32) : Prop :=
  (∀ (k0_h2 : k0_cond2 i = 1#1), ∀ a, (k0_off2202 v6535) a + S1x1024.size a ≤ S37888x1024.size a)
theorem k0_off2202_inb : ∀ (i : grid0.Coords) (v6535 : BitVec 32) (k0_hw1101 : k0_chk1101 i v6535), ∀ (k0_h2 : k0_cond2 i = 1#1), ∀ a, (k0_off2202 v6535) a + S1x1024.size a ≤ S37888x1024.size a := fun i v6535 k0_hw1101 k0_h2 => k0_hw1101 k0_h2

def k0_off2203 (i : grid0.Coords) : Fin 1 → Nat :=
  let arg0 : BitVec 32 := BitVec.ofNat 32 (i 0).val
  let c128_i32_4359 : BitVec 32 := 128#32
  let v6152 : BitVec 32 := Scalar.muli arg0 c128_i32_4359
  let c77_i32_4668 : BitVec 32 := 77#32
  let v6538 : BitVec 32 := Scalar.addi v6152 c77_i32_4668
  let v6539 : Index := Scalar.indexCast v6538
  ![v6539.toNat]
def k0_off2204 (v6540 : BitVec 32) : Fin 2 → Nat :=
  let c0_i32_4669 : BitVec 32 := 0#32
  ![v6540.toNat, 0]

def k0_chk1102 (i : grid0.Coords) (v6540 : BitVec 32) : Prop :=
  (∀ (k0_h2 : k0_cond2 i = 1#1), ∀ a, (k0_off2204 v6540) a + S1x1024.size a ≤ S37888x1024.size a)
theorem k0_off2204_inb : ∀ (i : grid0.Coords) (v6540 : BitVec 32) (k0_hw1102 : k0_chk1102 i v6540), ∀ (k0_h2 : k0_cond2 i = 1#1), ∀ a, (k0_off2204 v6540) a + S1x1024.size a ≤ S37888x1024.size a := fun i v6540 k0_hw1102 k0_h2 => k0_hw1102 k0_h2

def k0_off2205 (i : grid0.Coords) : Fin 1 → Nat :=
  let arg0 : BitVec 32 := BitVec.ofNat 32 (i 0).val
  let c128_i32_4359 : BitVec 32 := 128#32
  let v6152 : BitVec 32 := Scalar.muli arg0 c128_i32_4359
  let c78_i32_4672 : BitVec 32 := 78#32
  let v6543 : BitVec 32 := Scalar.addi v6152 c78_i32_4672
  let v6544 : Index := Scalar.indexCast v6543
  ![v6544.toNat]
def k0_off2206 (v6545 : BitVec 32) : Fin 2 → Nat :=
  let c0_i32_4673 : BitVec 32 := 0#32
  ![v6545.toNat, 0]

def k0_chk1103 (i : grid0.Coords) (v6545 : BitVec 32) : Prop :=
  (∀ (k0_h2 : k0_cond2 i = 1#1), ∀ a, (k0_off2206 v6545) a + S1x1024.size a ≤ S37888x1024.size a)
theorem k0_off2206_inb : ∀ (i : grid0.Coords) (v6545 : BitVec 32) (k0_hw1103 : k0_chk1103 i v6545), ∀ (k0_h2 : k0_cond2 i = 1#1), ∀ a, (k0_off2206 v6545) a + S1x1024.size a ≤ S37888x1024.size a := fun i v6545 k0_hw1103 k0_h2 => k0_hw1103 k0_h2

def k0_off2207 (i : grid0.Coords) : Fin 1 → Nat :=
  let arg0 : BitVec 32 := BitVec.ofNat 32 (i 0).val
  let c128_i32_4359 : BitVec 32 := 128#32
  let v6152 : BitVec 32 := Scalar.muli arg0 c128_i32_4359
  let c79_i32_4676 : BitVec 32 := 79#32
  let v6548 : BitVec 32 := Scalar.addi v6152 c79_i32_4676
  let v6549 : Index := Scalar.indexCast v6548
  ![v6549.toNat]
def k0_off2208 (v6550 : BitVec 32) : Fin 2 → Nat :=
  let c0_i32_4677 : BitVec 32 := 0#32
  ![v6550.toNat, 0]

def k0_chk1104 (i : grid0.Coords) (v6550 : BitVec 32) : Prop :=
  (∀ (k0_h2 : k0_cond2 i = 1#1), ∀ a, (k0_off2208 v6550) a + S1x1024.size a ≤ S37888x1024.size a)
theorem k0_off2208_inb : ∀ (i : grid0.Coords) (v6550 : BitVec 32) (k0_hw1104 : k0_chk1104 i v6550), ∀ (k0_h2 : k0_cond2 i = 1#1), ∀ a, (k0_off2208 v6550) a + S1x1024.size a ≤ S37888x1024.size a := fun i v6550 k0_hw1104 k0_h2 => k0_hw1104 k0_h2

def k0_off2209 (i : grid0.Coords) : Fin 1 → Nat :=
  let arg0 : BitVec 32 := BitVec.ofNat 32 (i 0).val
  let c128_i32_4359 : BitVec 32 := 128#32
  let v6152 : BitVec 32 := Scalar.muli arg0 c128_i32_4359
  let c80_i32_4680 : BitVec 32 := 80#32
  let v6553 : BitVec 32 := Scalar.addi v6152 c80_i32_4680
  let v6554 : Index := Scalar.indexCast v6553
  ![v6554.toNat]
def k0_off2210 (v6555 : BitVec 32) : Fin 2 → Nat :=
  let c0_i32_4681 : BitVec 32 := 0#32
  ![v6555.toNat, 0]

def k0_chk1105 (i : grid0.Coords) (v6555 : BitVec 32) : Prop :=
  (∀ (k0_h2 : k0_cond2 i = 1#1), ∀ a, (k0_off2210 v6555) a + S1x1024.size a ≤ S37888x1024.size a)
theorem k0_off2210_inb : ∀ (i : grid0.Coords) (v6555 : BitVec 32) (k0_hw1105 : k0_chk1105 i v6555), ∀ (k0_h2 : k0_cond2 i = 1#1), ∀ a, (k0_off2210 v6555) a + S1x1024.size a ≤ S37888x1024.size a := fun i v6555 k0_hw1105 k0_h2 => k0_hw1105 k0_h2

def k0_off2211 (i : grid0.Coords) : Fin 1 → Nat :=
  let arg0 : BitVec 32 := BitVec.ofNat 32 (i 0).val
  let c128_i32_4359 : BitVec 32 := 128#32
  let v6152 : BitVec 32 := Scalar.muli arg0 c128_i32_4359
  let c81_i32_4684 : BitVec 32 := 81#32
  let v6558 : BitVec 32 := Scalar.addi v6152 c81_i32_4684
  let v6559 : Index := Scalar.indexCast v6558
  ![v6559.toNat]
def k0_off2212 (v6560 : BitVec 32) : Fin 2 → Nat :=
  let c0_i32_4685 : BitVec 32 := 0#32
  ![v6560.toNat, 0]

def k0_chk1106 (i : grid0.Coords) (v6560 : BitVec 32) : Prop :=
  (∀ (k0_h2 : k0_cond2 i = 1#1), ∀ a, (k0_off2212 v6560) a + S1x1024.size a ≤ S37888x1024.size a)
theorem k0_off2212_inb : ∀ (i : grid0.Coords) (v6560 : BitVec 32) (k0_hw1106 : k0_chk1106 i v6560), ∀ (k0_h2 : k0_cond2 i = 1#1), ∀ a, (k0_off2212 v6560) a + S1x1024.size a ≤ S37888x1024.size a := fun i v6560 k0_hw1106 k0_h2 => k0_hw1106 k0_h2

def k0_off2213 (i : grid0.Coords) : Fin 1 → Nat :=
  let arg0 : BitVec 32 := BitVec.ofNat 32 (i 0).val
  let c128_i32_4359 : BitVec 32 := 128#32
  let v6152 : BitVec 32 := Scalar.muli arg0 c128_i32_4359
  let c82_i32_4688 : BitVec 32 := 82#32
  let v6563 : BitVec 32 := Scalar.addi v6152 c82_i32_4688
  let v6564 : Index := Scalar.indexCast v6563
  ![v6564.toNat]
def k0_off2214 (v6565 : BitVec 32) : Fin 2 → Nat :=
  let c0_i32_4689 : BitVec 32 := 0#32
  ![v6565.toNat, 0]

def k0_chk1107 (i : grid0.Coords) (v6565 : BitVec 32) : Prop :=
  (∀ (k0_h2 : k0_cond2 i = 1#1), ∀ a, (k0_off2214 v6565) a + S1x1024.size a ≤ S37888x1024.size a)
theorem k0_off2214_inb : ∀ (i : grid0.Coords) (v6565 : BitVec 32) (k0_hw1107 : k0_chk1107 i v6565), ∀ (k0_h2 : k0_cond2 i = 1#1), ∀ a, (k0_off2214 v6565) a + S1x1024.size a ≤ S37888x1024.size a := fun i v6565 k0_hw1107 k0_h2 => k0_hw1107 k0_h2

def k0_off2215 (i : grid0.Coords) : Fin 1 → Nat :=
  let arg0 : BitVec 32 := BitVec.ofNat 32 (i 0).val
  let c128_i32_4359 : BitVec 32 := 128#32
  let v6152 : BitVec 32 := Scalar.muli arg0 c128_i32_4359
  let c83_i32_4692 : BitVec 32 := 83#32
  let v6568 : BitVec 32 := Scalar.addi v6152 c83_i32_4692
  let v6569 : Index := Scalar.indexCast v6568
  ![v6569.toNat]
def k0_off2216 (v6570 : BitVec 32) : Fin 2 → Nat :=
  let c0_i32_4693 : BitVec 32 := 0#32
  ![v6570.toNat, 0]

def k0_chk1108 (i : grid0.Coords) (v6570 : BitVec 32) : Prop :=
  (∀ (k0_h2 : k0_cond2 i = 1#1), ∀ a, (k0_off2216 v6570) a + S1x1024.size a ≤ S37888x1024.size a)
theorem k0_off2216_inb : ∀ (i : grid0.Coords) (v6570 : BitVec 32) (k0_hw1108 : k0_chk1108 i v6570), ∀ (k0_h2 : k0_cond2 i = 1#1), ∀ a, (k0_off2216 v6570) a + S1x1024.size a ≤ S37888x1024.size a := fun i v6570 k0_hw1108 k0_h2 => k0_hw1108 k0_h2

def k0_off2217 (i : grid0.Coords) : Fin 1 → Nat :=
  let arg0 : BitVec 32 := BitVec.ofNat 32 (i 0).val
  let c128_i32_4359 : BitVec 32 := 128#32
  let v6152 : BitVec 32 := Scalar.muli arg0 c128_i32_4359
  let c84_i32_4696 : BitVec 32 := 84#32
  let v6573 : BitVec 32 := Scalar.addi v6152 c84_i32_4696
  let v6574 : Index := Scalar.indexCast v6573
  ![v6574.toNat]
def k0_off2218 (v6575 : BitVec 32) : Fin 2 → Nat :=
  let c0_i32_4697 : BitVec 32 := 0#32
  ![v6575.toNat, 0]

def k0_chk1109 (i : grid0.Coords) (v6575 : BitVec 32) : Prop :=
  (∀ (k0_h2 : k0_cond2 i = 1#1), ∀ a, (k0_off2218 v6575) a + S1x1024.size a ≤ S37888x1024.size a)
theorem k0_off2218_inb : ∀ (i : grid0.Coords) (v6575 : BitVec 32) (k0_hw1109 : k0_chk1109 i v6575), ∀ (k0_h2 : k0_cond2 i = 1#1), ∀ a, (k0_off2218 v6575) a + S1x1024.size a ≤ S37888x1024.size a := fun i v6575 k0_hw1109 k0_h2 => k0_hw1109 k0_h2

def k0_off2219 (i : grid0.Coords) : Fin 1 → Nat :=
  let arg0 : BitVec 32 := BitVec.ofNat 32 (i 0).val
  let c128_i32_4359 : BitVec 32 := 128#32
  let v6152 : BitVec 32 := Scalar.muli arg0 c128_i32_4359
  let c85_i32_4700 : BitVec 32 := 85#32
  let v6578 : BitVec 32 := Scalar.addi v6152 c85_i32_4700
  let v6579 : Index := Scalar.indexCast v6578
  ![v6579.toNat]
def k0_off2220 (v6580 : BitVec 32) : Fin 2 → Nat :=
  let c0_i32_4701 : BitVec 32 := 0#32
  ![v6580.toNat, 0]

def k0_chk1110 (i : grid0.Coords) (v6580 : BitVec 32) : Prop :=
  (∀ (k0_h2 : k0_cond2 i = 1#1), ∀ a, (k0_off2220 v6580) a + S1x1024.size a ≤ S37888x1024.size a)
theorem k0_off2220_inb : ∀ (i : grid0.Coords) (v6580 : BitVec 32) (k0_hw1110 : k0_chk1110 i v6580), ∀ (k0_h2 : k0_cond2 i = 1#1), ∀ a, (k0_off2220 v6580) a + S1x1024.size a ≤ S37888x1024.size a := fun i v6580 k0_hw1110 k0_h2 => k0_hw1110 k0_h2

def k0_off2221 (i : grid0.Coords) : Fin 1 → Nat :=
  let arg0 : BitVec 32 := BitVec.ofNat 32 (i 0).val
  let c128_i32_4359 : BitVec 32 := 128#32
  let v6152 : BitVec 32 := Scalar.muli arg0 c128_i32_4359
  let c86_i32_4704 : BitVec 32 := 86#32
  let v6583 : BitVec 32 := Scalar.addi v6152 c86_i32_4704
  let v6584 : Index := Scalar.indexCast v6583
  ![v6584.toNat]
def k0_off2222 (v6585 : BitVec 32) : Fin 2 → Nat :=
  let c0_i32_4705 : BitVec 32 := 0#32
  ![v6585.toNat, 0]

def k0_chk1111 (i : grid0.Coords) (v6585 : BitVec 32) : Prop :=
  (∀ (k0_h2 : k0_cond2 i = 1#1), ∀ a, (k0_off2222 v6585) a + S1x1024.size a ≤ S37888x1024.size a)
theorem k0_off2222_inb : ∀ (i : grid0.Coords) (v6585 : BitVec 32) (k0_hw1111 : k0_chk1111 i v6585), ∀ (k0_h2 : k0_cond2 i = 1#1), ∀ a, (k0_off2222 v6585) a + S1x1024.size a ≤ S37888x1024.size a := fun i v6585 k0_hw1111 k0_h2 => k0_hw1111 k0_h2

def k0_off2223 (i : grid0.Coords) : Fin 1 → Nat :=
  let arg0 : BitVec 32 := BitVec.ofNat 32 (i 0).val
  let c128_i32_4359 : BitVec 32 := 128#32
  let v6152 : BitVec 32 := Scalar.muli arg0 c128_i32_4359
  let c87_i32_4708 : BitVec 32 := 87#32
  let v6588 : BitVec 32 := Scalar.addi v6152 c87_i32_4708
  let v6589 : Index := Scalar.indexCast v6588
  ![v6589.toNat]
def k0_off2224 (v6590 : BitVec 32) : Fin 2 → Nat :=
  let c0_i32_4709 : BitVec 32 := 0#32
  ![v6590.toNat, 0]

def k0_chk1112 (i : grid0.Coords) (v6590 : BitVec 32) : Prop :=
  (∀ (k0_h2 : k0_cond2 i = 1#1), ∀ a, (k0_off2224 v6590) a + S1x1024.size a ≤ S37888x1024.size a)
theorem k0_off2224_inb : ∀ (i : grid0.Coords) (v6590 : BitVec 32) (k0_hw1112 : k0_chk1112 i v6590), ∀ (k0_h2 : k0_cond2 i = 1#1), ∀ a, (k0_off2224 v6590) a + S1x1024.size a ≤ S37888x1024.size a := fun i v6590 k0_hw1112 k0_h2 => k0_hw1112 k0_h2

def k0_off2225 (i : grid0.Coords) : Fin 1 → Nat :=
  let arg0 : BitVec 32 := BitVec.ofNat 32 (i 0).val
  let c128_i32_4359 : BitVec 32 := 128#32
  let v6152 : BitVec 32 := Scalar.muli arg0 c128_i32_4359
  let c88_i32_4712 : BitVec 32 := 88#32
  let v6593 : BitVec 32 := Scalar.addi v6152 c88_i32_4712
  let v6594 : Index := Scalar.indexCast v6593
  ![v6594.toNat]
def k0_off2226 (v6595 : BitVec 32) : Fin 2 → Nat :=
  let c0_i32_4713 : BitVec 32 := 0#32
  ![v6595.toNat, 0]

def k0_chk1113 (i : grid0.Coords) (v6595 : BitVec 32) : Prop :=
  (∀ (k0_h2 : k0_cond2 i = 1#1), ∀ a, (k0_off2226 v6595) a + S1x1024.size a ≤ S37888x1024.size a)
theorem k0_off2226_inb : ∀ (i : grid0.Coords) (v6595 : BitVec 32) (k0_hw1113 : k0_chk1113 i v6595), ∀ (k0_h2 : k0_cond2 i = 1#1), ∀ a, (k0_off2226 v6595) a + S1x1024.size a ≤ S37888x1024.size a := fun i v6595 k0_hw1113 k0_h2 => k0_hw1113 k0_h2

def k0_off2227 (i : grid0.Coords) : Fin 1 → Nat :=
  let arg0 : BitVec 32 := BitVec.ofNat 32 (i 0).val
  let c128_i32_4359 : BitVec 32 := 128#32
  let v6152 : BitVec 32 := Scalar.muli arg0 c128_i32_4359
  let c89_i32_4716 : BitVec 32 := 89#32
  let v6598 : BitVec 32 := Scalar.addi v6152 c89_i32_4716
  let v6599 : Index := Scalar.indexCast v6598
  ![v6599.toNat]
def k0_off2228 (v6600 : BitVec 32) : Fin 2 → Nat :=
  let c0_i32_4717 : BitVec 32 := 0#32
  ![v6600.toNat, 0]

def k0_chk1114 (i : grid0.Coords) (v6600 : BitVec 32) : Prop :=
  (∀ (k0_h2 : k0_cond2 i = 1#1), ∀ a, (k0_off2228 v6600) a + S1x1024.size a ≤ S37888x1024.size a)
theorem k0_off2228_inb : ∀ (i : grid0.Coords) (v6600 : BitVec 32) (k0_hw1114 : k0_chk1114 i v6600), ∀ (k0_h2 : k0_cond2 i = 1#1), ∀ a, (k0_off2228 v6600) a + S1x1024.size a ≤ S37888x1024.size a := fun i v6600 k0_hw1114 k0_h2 => k0_hw1114 k0_h2

def k0_off2229 (i : grid0.Coords) : Fin 1 → Nat :=
  let arg0 : BitVec 32 := BitVec.ofNat 32 (i 0).val
  let c128_i32_4359 : BitVec 32 := 128#32
  let v6152 : BitVec 32 := Scalar.muli arg0 c128_i32_4359
  let c90_i32_4720 : BitVec 32 := 90#32
  let v6603 : BitVec 32 := Scalar.addi v6152 c90_i32_4720
  let v6604 : Index := Scalar.indexCast v6603
  ![v6604.toNat]
def k0_off2230 (v6605 : BitVec 32) : Fin 2 → Nat :=
  let c0_i32_4721 : BitVec 32 := 0#32
  ![v6605.toNat, 0]

def k0_chk1115 (i : grid0.Coords) (v6605 : BitVec 32) : Prop :=
  (∀ (k0_h2 : k0_cond2 i = 1#1), ∀ a, (k0_off2230 v6605) a + S1x1024.size a ≤ S37888x1024.size a)
theorem k0_off2230_inb : ∀ (i : grid0.Coords) (v6605 : BitVec 32) (k0_hw1115 : k0_chk1115 i v6605), ∀ (k0_h2 : k0_cond2 i = 1#1), ∀ a, (k0_off2230 v6605) a + S1x1024.size a ≤ S37888x1024.size a := fun i v6605 k0_hw1115 k0_h2 => k0_hw1115 k0_h2

def k0_off2231 (i : grid0.Coords) : Fin 1 → Nat :=
  let arg0 : BitVec 32 := BitVec.ofNat 32 (i 0).val
  let c128_i32_4359 : BitVec 32 := 128#32
  let v6152 : BitVec 32 := Scalar.muli arg0 c128_i32_4359
  let c91_i32_4724 : BitVec 32 := 91#32
  let v6608 : BitVec 32 := Scalar.addi v6152 c91_i32_4724
  let v6609 : Index := Scalar.indexCast v6608
  ![v6609.toNat]
def k0_off2232 (v6610 : BitVec 32) : Fin 2 → Nat :=
  let c0_i32_4725 : BitVec 32 := 0#32
  ![v6610.toNat, 0]

def k0_chk1116 (i : grid0.Coords) (v6610 : BitVec 32) : Prop :=
  (∀ (k0_h2 : k0_cond2 i = 1#1), ∀ a, (k0_off2232 v6610) a + S1x1024.size a ≤ S37888x1024.size a)
theorem k0_off2232_inb : ∀ (i : grid0.Coords) (v6610 : BitVec 32) (k0_hw1116 : k0_chk1116 i v6610), ∀ (k0_h2 : k0_cond2 i = 1#1), ∀ a, (k0_off2232 v6610) a + S1x1024.size a ≤ S37888x1024.size a := fun i v6610 k0_hw1116 k0_h2 => k0_hw1116 k0_h2

def k0_off2233 (i : grid0.Coords) : Fin 1 → Nat :=
  let arg0 : BitVec 32 := BitVec.ofNat 32 (i 0).val
  let c128_i32_4359 : BitVec 32 := 128#32
  let v6152 : BitVec 32 := Scalar.muli arg0 c128_i32_4359
  let c92_i32_4728 : BitVec 32 := 92#32
  let v6613 : BitVec 32 := Scalar.addi v6152 c92_i32_4728
  let v6614 : Index := Scalar.indexCast v6613
  ![v6614.toNat]
def k0_off2234 (v6615 : BitVec 32) : Fin 2 → Nat :=
  let c0_i32_4729 : BitVec 32 := 0#32
  ![v6615.toNat, 0]

def k0_chk1117 (i : grid0.Coords) (v6615 : BitVec 32) : Prop :=
  (∀ (k0_h2 : k0_cond2 i = 1#1), ∀ a, (k0_off2234 v6615) a + S1x1024.size a ≤ S37888x1024.size a)
theorem k0_off2234_inb : ∀ (i : grid0.Coords) (v6615 : BitVec 32) (k0_hw1117 : k0_chk1117 i v6615), ∀ (k0_h2 : k0_cond2 i = 1#1), ∀ a, (k0_off2234 v6615) a + S1x1024.size a ≤ S37888x1024.size a := fun i v6615 k0_hw1117 k0_h2 => k0_hw1117 k0_h2

def k0_off2235 (i : grid0.Coords) : Fin 1 → Nat :=
  let arg0 : BitVec 32 := BitVec.ofNat 32 (i 0).val
  let c128_i32_4359 : BitVec 32 := 128#32
  let v6152 : BitVec 32 := Scalar.muli arg0 c128_i32_4359
  let c93_i32_4732 : BitVec 32 := 93#32
  let v6618 : BitVec 32 := Scalar.addi v6152 c93_i32_4732
  let v6619 : Index := Scalar.indexCast v6618
  ![v6619.toNat]
def k0_off2236 (v6620 : BitVec 32) : Fin 2 → Nat :=
  let c0_i32_4733 : BitVec 32 := 0#32
  ![v6620.toNat, 0]

def k0_chk1118 (i : grid0.Coords) (v6620 : BitVec 32) : Prop :=
  (∀ (k0_h2 : k0_cond2 i = 1#1), ∀ a, (k0_off2236 v6620) a + S1x1024.size a ≤ S37888x1024.size a)
theorem k0_off2236_inb : ∀ (i : grid0.Coords) (v6620 : BitVec 32) (k0_hw1118 : k0_chk1118 i v6620), ∀ (k0_h2 : k0_cond2 i = 1#1), ∀ a, (k0_off2236 v6620) a + S1x1024.size a ≤ S37888x1024.size a := fun i v6620 k0_hw1118 k0_h2 => k0_hw1118 k0_h2

def k0_off2237 (i : grid0.Coords) : Fin 1 → Nat :=
  let arg0 : BitVec 32 := BitVec.ofNat 32 (i 0).val
  let c128_i32_4359 : BitVec 32 := 128#32
  let v6152 : BitVec 32 := Scalar.muli arg0 c128_i32_4359
  let c94_i32_4736 : BitVec 32 := 94#32
  let v6623 : BitVec 32 := Scalar.addi v6152 c94_i32_4736
  let v6624 : Index := Scalar.indexCast v6623
  ![v6624.toNat]
def k0_off2238 (v6625 : BitVec 32) : Fin 2 → Nat :=
  let c0_i32_4737 : BitVec 32 := 0#32
  ![v6625.toNat, 0]

def k0_chk1119 (i : grid0.Coords) (v6625 : BitVec 32) : Prop :=
  (∀ (k0_h2 : k0_cond2 i = 1#1), ∀ a, (k0_off2238 v6625) a + S1x1024.size a ≤ S37888x1024.size a)
theorem k0_off2238_inb : ∀ (i : grid0.Coords) (v6625 : BitVec 32) (k0_hw1119 : k0_chk1119 i v6625), ∀ (k0_h2 : k0_cond2 i = 1#1), ∀ a, (k0_off2238 v6625) a + S1x1024.size a ≤ S37888x1024.size a := fun i v6625 k0_hw1119 k0_h2 => k0_hw1119 k0_h2

def k0_off2239 (i : grid0.Coords) : Fin 1 → Nat :=
  let arg0 : BitVec 32 := BitVec.ofNat 32 (i 0).val
  let c128_i32_4359 : BitVec 32 := 128#32
  let v6152 : BitVec 32 := Scalar.muli arg0 c128_i32_4359
  let c95_i32_4740 : BitVec 32 := 95#32
  let v6628 : BitVec 32 := Scalar.addi v6152 c95_i32_4740
  let v6629 : Index := Scalar.indexCast v6628
  ![v6629.toNat]
def k0_off2240 (v6630 : BitVec 32) : Fin 2 → Nat :=
  let c0_i32_4741 : BitVec 32 := 0#32
  ![v6630.toNat, 0]

def k0_chk1120 (i : grid0.Coords) (v6630 : BitVec 32) : Prop :=
  (∀ (k0_h2 : k0_cond2 i = 1#1), ∀ a, (k0_off2240 v6630) a + S1x1024.size a ≤ S37888x1024.size a)
theorem k0_off2240_inb : ∀ (i : grid0.Coords) (v6630 : BitVec 32) (k0_hw1120 : k0_chk1120 i v6630), ∀ (k0_h2 : k0_cond2 i = 1#1), ∀ a, (k0_off2240 v6630) a + S1x1024.size a ≤ S37888x1024.size a := fun i v6630 k0_hw1120 k0_h2 => k0_hw1120 k0_h2

def k0_off2241 (i : grid0.Coords) : Fin 1 → Nat :=
  let arg0 : BitVec 32 := BitVec.ofNat 32 (i 0).val
  let c128_i32_4359 : BitVec 32 := 128#32
  let v6152 : BitVec 32 := Scalar.muli arg0 c128_i32_4359
  let c96_i32_4744 : BitVec 32 := 96#32
  let v6633 : BitVec 32 := Scalar.addi v6152 c96_i32_4744
  let v6634 : Index := Scalar.indexCast v6633
  ![v6634.toNat]
def k0_off2242 (v6635 : BitVec 32) : Fin 2 → Nat :=
  let c0_i32_4745 : BitVec 32 := 0#32
  ![v6635.toNat, 0]

def k0_chk1121 (i : grid0.Coords) (v6635 : BitVec 32) : Prop :=
  (∀ (k0_h2 : k0_cond2 i = 1#1), ∀ a, (k0_off2242 v6635) a + S1x1024.size a ≤ S37888x1024.size a)
theorem k0_off2242_inb : ∀ (i : grid0.Coords) (v6635 : BitVec 32) (k0_hw1121 : k0_chk1121 i v6635), ∀ (k0_h2 : k0_cond2 i = 1#1), ∀ a, (k0_off2242 v6635) a + S1x1024.size a ≤ S37888x1024.size a := fun i v6635 k0_hw1121 k0_h2 => k0_hw1121 k0_h2

def k0_off2243 (i : grid0.Coords) : Fin 1 → Nat :=
  let arg0 : BitVec 32 := BitVec.ofNat 32 (i 0).val
  let c128_i32_4359 : BitVec 32 := 128#32
  let v6152 : BitVec 32 := Scalar.muli arg0 c128_i32_4359
  let c97_i32_4748 : BitVec 32 := 97#32
  let v6638 : BitVec 32 := Scalar.addi v6152 c97_i32_4748
  let v6639 : Index := Scalar.indexCast v6638
  ![v6639.toNat]
def k0_off2244 (v6640 : BitVec 32) : Fin 2 → Nat :=
  let c0_i32_4749 : BitVec 32 := 0#32
  ![v6640.toNat, 0]

def k0_chk1122 (i : grid0.Coords) (v6640 : BitVec 32) : Prop :=
  (∀ (k0_h2 : k0_cond2 i = 1#1), ∀ a, (k0_off2244 v6640) a + S1x1024.size a ≤ S37888x1024.size a)
theorem k0_off2244_inb : ∀ (i : grid0.Coords) (v6640 : BitVec 32) (k0_hw1122 : k0_chk1122 i v6640), ∀ (k0_h2 : k0_cond2 i = 1#1), ∀ a, (k0_off2244 v6640) a + S1x1024.size a ≤ S37888x1024.size a := fun i v6640 k0_hw1122 k0_h2 => k0_hw1122 k0_h2

def k0_off2245 (i : grid0.Coords) : Fin 1 → Nat :=
  let arg0 : BitVec 32 := BitVec.ofNat 32 (i 0).val
  let c128_i32_4359 : BitVec 32 := 128#32
  let v6152 : BitVec 32 := Scalar.muli arg0 c128_i32_4359
  let c98_i32_4752 : BitVec 32 := 98#32
  let v6643 : BitVec 32 := Scalar.addi v6152 c98_i32_4752
  let v6644 : Index := Scalar.indexCast v6643
  ![v6644.toNat]
def k0_off2246 (v6645 : BitVec 32) : Fin 2 → Nat :=
  let c0_i32_4753 : BitVec 32 := 0#32
  ![v6645.toNat, 0]

def k0_chk1123 (i : grid0.Coords) (v6645 : BitVec 32) : Prop :=
  (∀ (k0_h2 : k0_cond2 i = 1#1), ∀ a, (k0_off2246 v6645) a + S1x1024.size a ≤ S37888x1024.size a)
theorem k0_off2246_inb : ∀ (i : grid0.Coords) (v6645 : BitVec 32) (k0_hw1123 : k0_chk1123 i v6645), ∀ (k0_h2 : k0_cond2 i = 1#1), ∀ a, (k0_off2246 v6645) a + S1x1024.size a ≤ S37888x1024.size a := fun i v6645 k0_hw1123 k0_h2 => k0_hw1123 k0_h2

def k0_off2247 (i : grid0.Coords) : Fin 1 → Nat :=
  let arg0 : BitVec 32 := BitVec.ofNat 32 (i 0).val
  let c128_i32_4359 : BitVec 32 := 128#32
  let v6152 : BitVec 32 := Scalar.muli arg0 c128_i32_4359
  let c99_i32_4756 : BitVec 32 := 99#32
  let v6648 : BitVec 32 := Scalar.addi v6152 c99_i32_4756
  let v6649 : Index := Scalar.indexCast v6648
  ![v6649.toNat]
def k0_off2248 (v6650 : BitVec 32) : Fin 2 → Nat :=
  let c0_i32_4757 : BitVec 32 := 0#32
  ![v6650.toNat, 0]

def k0_chk1124 (i : grid0.Coords) (v6650 : BitVec 32) : Prop :=
  (∀ (k0_h2 : k0_cond2 i = 1#1), ∀ a, (k0_off2248 v6650) a + S1x1024.size a ≤ S37888x1024.size a)
theorem k0_off2248_inb : ∀ (i : grid0.Coords) (v6650 : BitVec 32) (k0_hw1124 : k0_chk1124 i v6650), ∀ (k0_h2 : k0_cond2 i = 1#1), ∀ a, (k0_off2248 v6650) a + S1x1024.size a ≤ S37888x1024.size a := fun i v6650 k0_hw1124 k0_h2 => k0_hw1124 k0_h2

def k0_off2249 (i : grid0.Coords) : Fin 1 → Nat :=
  let arg0 : BitVec 32 := BitVec.ofNat 32 (i 0).val
  let c128_i32_4359 : BitVec 32 := 128#32
  let v6152 : BitVec 32 := Scalar.muli arg0 c128_i32_4359
  let c100_i32_4760 : BitVec 32 := 100#32
  let v6653 : BitVec 32 := Scalar.addi v6152 c100_i32_4760
  let v6654 : Index := Scalar.indexCast v6653
  ![v6654.toNat]
def k0_off2250 (v6655 : BitVec 32) : Fin 2 → Nat :=
  let c0_i32_4761 : BitVec 32 := 0#32
  ![v6655.toNat, 0]

def k0_chk1125 (i : grid0.Coords) (v6655 : BitVec 32) : Prop :=
  (∀ (k0_h2 : k0_cond2 i = 1#1), ∀ a, (k0_off2250 v6655) a + S1x1024.size a ≤ S37888x1024.size a)
theorem k0_off2250_inb : ∀ (i : grid0.Coords) (v6655 : BitVec 32) (k0_hw1125 : k0_chk1125 i v6655), ∀ (k0_h2 : k0_cond2 i = 1#1), ∀ a, (k0_off2250 v6655) a + S1x1024.size a ≤ S37888x1024.size a := fun i v6655 k0_hw1125 k0_h2 => k0_hw1125 k0_h2

def k0_off2251 (i : grid0.Coords) : Fin 1 → Nat :=
  let arg0 : BitVec 32 := BitVec.ofNat 32 (i 0).val
  let c128_i32_4359 : BitVec 32 := 128#32
  let v6152 : BitVec 32 := Scalar.muli arg0 c128_i32_4359
  let c101_i32_4764 : BitVec 32 := 101#32
  let v6658 : BitVec 32 := Scalar.addi v6152 c101_i32_4764
  let v6659 : Index := Scalar.indexCast v6658
  ![v6659.toNat]
def k0_off2252 (v6660 : BitVec 32) : Fin 2 → Nat :=
  let c0_i32_4765 : BitVec 32 := 0#32
  ![v6660.toNat, 0]

def k0_chk1126 (i : grid0.Coords) (v6660 : BitVec 32) : Prop :=
  (∀ (k0_h2 : k0_cond2 i = 1#1), ∀ a, (k0_off2252 v6660) a + S1x1024.size a ≤ S37888x1024.size a)
theorem k0_off2252_inb : ∀ (i : grid0.Coords) (v6660 : BitVec 32) (k0_hw1126 : k0_chk1126 i v6660), ∀ (k0_h2 : k0_cond2 i = 1#1), ∀ a, (k0_off2252 v6660) a + S1x1024.size a ≤ S37888x1024.size a := fun i v6660 k0_hw1126 k0_h2 => k0_hw1126 k0_h2

def k0_off2253 (i : grid0.Coords) : Fin 1 → Nat :=
  let arg0 : BitVec 32 := BitVec.ofNat 32 (i 0).val
  let c128_i32_4359 : BitVec 32 := 128#32
  let v6152 : BitVec 32 := Scalar.muli arg0 c128_i32_4359
  let c102_i32_4768 : BitVec 32 := 102#32
  let v6663 : BitVec 32 := Scalar.addi v6152 c102_i32_4768
  let v6664 : Index := Scalar.indexCast v6663
  ![v6664.toNat]
def k0_off2254 (v6665 : BitVec 32) : Fin 2 → Nat :=
  let c0_i32_4769 : BitVec 32 := 0#32
  ![v6665.toNat, 0]

def k0_chk1127 (i : grid0.Coords) (v6665 : BitVec 32) : Prop :=
  (∀ (k0_h2 : k0_cond2 i = 1#1), ∀ a, (k0_off2254 v6665) a + S1x1024.size a ≤ S37888x1024.size a)
theorem k0_off2254_inb : ∀ (i : grid0.Coords) (v6665 : BitVec 32) (k0_hw1127 : k0_chk1127 i v6665), ∀ (k0_h2 : k0_cond2 i = 1#1), ∀ a, (k0_off2254 v6665) a + S1x1024.size a ≤ S37888x1024.size a := fun i v6665 k0_hw1127 k0_h2 => k0_hw1127 k0_h2

def k0_off2255 (i : grid0.Coords) : Fin 1 → Nat :=
  let arg0 : BitVec 32 := BitVec.ofNat 32 (i 0).val
  let c128_i32_4359 : BitVec 32 := 128#32
  let v6152 : BitVec 32 := Scalar.muli arg0 c128_i32_4359
  let c103_i32_4772 : BitVec 32 := 103#32
  let v6668 : BitVec 32 := Scalar.addi v6152 c103_i32_4772
  let v6669 : Index := Scalar.indexCast v6668
  ![v6669.toNat]
def k0_off2256 (v6670 : BitVec 32) : Fin 2 → Nat :=
  let c0_i32_4773 : BitVec 32 := 0#32
  ![v6670.toNat, 0]

def k0_chk1128 (i : grid0.Coords) (v6670 : BitVec 32) : Prop :=
  (∀ (k0_h2 : k0_cond2 i = 1#1), ∀ a, (k0_off2256 v6670) a + S1x1024.size a ≤ S37888x1024.size a)
theorem k0_off2256_inb : ∀ (i : grid0.Coords) (v6670 : BitVec 32) (k0_hw1128 : k0_chk1128 i v6670), ∀ (k0_h2 : k0_cond2 i = 1#1), ∀ a, (k0_off2256 v6670) a + S1x1024.size a ≤ S37888x1024.size a := fun i v6670 k0_hw1128 k0_h2 => k0_hw1128 k0_h2

def k0_off2257 (i : grid0.Coords) : Fin 1 → Nat :=
  let arg0 : BitVec 32 := BitVec.ofNat 32 (i 0).val
  let c128_i32_4359 : BitVec 32 := 128#32
  let v6152 : BitVec 32 := Scalar.muli arg0 c128_i32_4359
  let c104_i32_4776 : BitVec 32 := 104#32
  let v6673 : BitVec 32 := Scalar.addi v6152 c104_i32_4776
  let v6674 : Index := Scalar.indexCast v6673
  ![v6674.toNat]
def k0_off2258 (v6675 : BitVec 32) : Fin 2 → Nat :=
  let c0_i32_4777 : BitVec 32 := 0#32
  ![v6675.toNat, 0]

def k0_chk1129 (i : grid0.Coords) (v6675 : BitVec 32) : Prop :=
  (∀ (k0_h2 : k0_cond2 i = 1#1), ∀ a, (k0_off2258 v6675) a + S1x1024.size a ≤ S37888x1024.size a)
theorem k0_off2258_inb : ∀ (i : grid0.Coords) (v6675 : BitVec 32) (k0_hw1129 : k0_chk1129 i v6675), ∀ (k0_h2 : k0_cond2 i = 1#1), ∀ a, (k0_off2258 v6675) a + S1x1024.size a ≤ S37888x1024.size a := fun i v6675 k0_hw1129 k0_h2 => k0_hw1129 k0_h2

def k0_off2259 (i : grid0.Coords) : Fin 1 → Nat :=
  let arg0 : BitVec 32 := BitVec.ofNat 32 (i 0).val
  let c128_i32_4359 : BitVec 32 := 128#32
  let v6152 : BitVec 32 := Scalar.muli arg0 c128_i32_4359
  let c105_i32_4780 : BitVec 32 := 105#32
  let v6678 : BitVec 32 := Scalar.addi v6152 c105_i32_4780
  let v6679 : Index := Scalar.indexCast v6678
  ![v6679.toNat]
def k0_off2260 (v6680 : BitVec 32) : Fin 2 → Nat :=
  let c0_i32_4781 : BitVec 32 := 0#32
  ![v6680.toNat, 0]

def k0_chk1130 (i : grid0.Coords) (v6680 : BitVec 32) : Prop :=
  (∀ (k0_h2 : k0_cond2 i = 1#1), ∀ a, (k0_off2260 v6680) a + S1x1024.size a ≤ S37888x1024.size a)
theorem k0_off2260_inb : ∀ (i : grid0.Coords) (v6680 : BitVec 32) (k0_hw1130 : k0_chk1130 i v6680), ∀ (k0_h2 : k0_cond2 i = 1#1), ∀ a, (k0_off2260 v6680) a + S1x1024.size a ≤ S37888x1024.size a := fun i v6680 k0_hw1130 k0_h2 => k0_hw1130 k0_h2

def k0_off2261 (i : grid0.Coords) : Fin 1 → Nat :=
  let arg0 : BitVec 32 := BitVec.ofNat 32 (i 0).val
  let c128_i32_4359 : BitVec 32 := 128#32
  let v6152 : BitVec 32 := Scalar.muli arg0 c128_i32_4359
  let c106_i32_4784 : BitVec 32 := 106#32
  let v6683 : BitVec 32 := Scalar.addi v6152 c106_i32_4784
  let v6684 : Index := Scalar.indexCast v6683
  ![v6684.toNat]
def k0_off2262 (v6685 : BitVec 32) : Fin 2 → Nat :=
  let c0_i32_4785 : BitVec 32 := 0#32
  ![v6685.toNat, 0]

def k0_chk1131 (i : grid0.Coords) (v6685 : BitVec 32) : Prop :=
  (∀ (k0_h2 : k0_cond2 i = 1#1), ∀ a, (k0_off2262 v6685) a + S1x1024.size a ≤ S37888x1024.size a)
theorem k0_off2262_inb : ∀ (i : grid0.Coords) (v6685 : BitVec 32) (k0_hw1131 : k0_chk1131 i v6685), ∀ (k0_h2 : k0_cond2 i = 1#1), ∀ a, (k0_off2262 v6685) a + S1x1024.size a ≤ S37888x1024.size a := fun i v6685 k0_hw1131 k0_h2 => k0_hw1131 k0_h2

def k0_off2263 (i : grid0.Coords) : Fin 1 → Nat :=
  let arg0 : BitVec 32 := BitVec.ofNat 32 (i 0).val
  let c128_i32_4359 : BitVec 32 := 128#32
  let v6152 : BitVec 32 := Scalar.muli arg0 c128_i32_4359
  let c107_i32_4788 : BitVec 32 := 107#32
  let v6688 : BitVec 32 := Scalar.addi v6152 c107_i32_4788
  let v6689 : Index := Scalar.indexCast v6688
  ![v6689.toNat]
def k0_off2264 (v6690 : BitVec 32) : Fin 2 → Nat :=
  let c0_i32_4789 : BitVec 32 := 0#32
  ![v6690.toNat, 0]

def k0_chk1132 (i : grid0.Coords) (v6690 : BitVec 32) : Prop :=
  (∀ (k0_h2 : k0_cond2 i = 1#1), ∀ a, (k0_off2264 v6690) a + S1x1024.size a ≤ S37888x1024.size a)
theorem k0_off2264_inb : ∀ (i : grid0.Coords) (v6690 : BitVec 32) (k0_hw1132 : k0_chk1132 i v6690), ∀ (k0_h2 : k0_cond2 i = 1#1), ∀ a, (k0_off2264 v6690) a + S1x1024.size a ≤ S37888x1024.size a := fun i v6690 k0_hw1132 k0_h2 => k0_hw1132 k0_h2

def k0_off2265 (i : grid0.Coords) : Fin 1 → Nat :=
  let arg0 : BitVec 32 := BitVec.ofNat 32 (i 0).val
  let c128_i32_4359 : BitVec 32 := 128#32
  let v6152 : BitVec 32 := Scalar.muli arg0 c128_i32_4359
  let c108_i32_4792 : BitVec 32 := 108#32
  let v6693 : BitVec 32 := Scalar.addi v6152 c108_i32_4792
  let v6694 : Index := Scalar.indexCast v6693
  ![v6694.toNat]
def k0_off2266 (v6695 : BitVec 32) : Fin 2 → Nat :=
  let c0_i32_4793 : BitVec 32 := 0#32
  ![v6695.toNat, 0]

def k0_chk1133 (i : grid0.Coords) (v6695 : BitVec 32) : Prop :=
  (∀ (k0_h2 : k0_cond2 i = 1#1), ∀ a, (k0_off2266 v6695) a + S1x1024.size a ≤ S37888x1024.size a)
theorem k0_off2266_inb : ∀ (i : grid0.Coords) (v6695 : BitVec 32) (k0_hw1133 : k0_chk1133 i v6695), ∀ (k0_h2 : k0_cond2 i = 1#1), ∀ a, (k0_off2266 v6695) a + S1x1024.size a ≤ S37888x1024.size a := fun i v6695 k0_hw1133 k0_h2 => k0_hw1133 k0_h2

def k0_off2267 (i : grid0.Coords) : Fin 1 → Nat :=
  let arg0 : BitVec 32 := BitVec.ofNat 32 (i 0).val
  let c128_i32_4359 : BitVec 32 := 128#32
  let v6152 : BitVec 32 := Scalar.muli arg0 c128_i32_4359
  let c109_i32_4796 : BitVec 32 := 109#32
  let v6698 : BitVec 32 := Scalar.addi v6152 c109_i32_4796
  let v6699 : Index := Scalar.indexCast v6698
  ![v6699.toNat]
def k0_off2268 (v6700 : BitVec 32) : Fin 2 → Nat :=
  let c0_i32_4797 : BitVec 32 := 0#32
  ![v6700.toNat, 0]

def k0_chk1134 (i : grid0.Coords) (v6700 : BitVec 32) : Prop :=
  (∀ (k0_h2 : k0_cond2 i = 1#1), ∀ a, (k0_off2268 v6700) a + S1x1024.size a ≤ S37888x1024.size a)
theorem k0_off2268_inb : ∀ (i : grid0.Coords) (v6700 : BitVec 32) (k0_hw1134 : k0_chk1134 i v6700), ∀ (k0_h2 : k0_cond2 i = 1#1), ∀ a, (k0_off2268 v6700) a + S1x1024.size a ≤ S37888x1024.size a := fun i v6700 k0_hw1134 k0_h2 => k0_hw1134 k0_h2

def k0_off2269 (i : grid0.Coords) : Fin 1 → Nat :=
  let arg0 : BitVec 32 := BitVec.ofNat 32 (i 0).val
  let c128_i32_4359 : BitVec 32 := 128#32
  let v6152 : BitVec 32 := Scalar.muli arg0 c128_i32_4359
  let c110_i32_4800 : BitVec 32 := 110#32
  let v6703 : BitVec 32 := Scalar.addi v6152 c110_i32_4800
  let v6704 : Index := Scalar.indexCast v6703
  ![v6704.toNat]
def k0_off2270 (v6705 : BitVec 32) : Fin 2 → Nat :=
  let c0_i32_4801 : BitVec 32 := 0#32
  ![v6705.toNat, 0]

def k0_chk1135 (i : grid0.Coords) (v6705 : BitVec 32) : Prop :=
  (∀ (k0_h2 : k0_cond2 i = 1#1), ∀ a, (k0_off2270 v6705) a + S1x1024.size a ≤ S37888x1024.size a)
theorem k0_off2270_inb : ∀ (i : grid0.Coords) (v6705 : BitVec 32) (k0_hw1135 : k0_chk1135 i v6705), ∀ (k0_h2 : k0_cond2 i = 1#1), ∀ a, (k0_off2270 v6705) a + S1x1024.size a ≤ S37888x1024.size a := fun i v6705 k0_hw1135 k0_h2 => k0_hw1135 k0_h2

def k0_off2271 (i : grid0.Coords) : Fin 1 → Nat :=
  let arg0 : BitVec 32 := BitVec.ofNat 32 (i 0).val
  let c128_i32_4359 : BitVec 32 := 128#32
  let v6152 : BitVec 32 := Scalar.muli arg0 c128_i32_4359
  let c111_i32_4804 : BitVec 32 := 111#32
  let v6708 : BitVec 32 := Scalar.addi v6152 c111_i32_4804
  let v6709 : Index := Scalar.indexCast v6708
  ![v6709.toNat]
def k0_off2272 (v6710 : BitVec 32) : Fin 2 → Nat :=
  let c0_i32_4805 : BitVec 32 := 0#32
  ![v6710.toNat, 0]

def k0_chk1136 (i : grid0.Coords) (v6710 : BitVec 32) : Prop :=
  (∀ (k0_h2 : k0_cond2 i = 1#1), ∀ a, (k0_off2272 v6710) a + S1x1024.size a ≤ S37888x1024.size a)
theorem k0_off2272_inb : ∀ (i : grid0.Coords) (v6710 : BitVec 32) (k0_hw1136 : k0_chk1136 i v6710), ∀ (k0_h2 : k0_cond2 i = 1#1), ∀ a, (k0_off2272 v6710) a + S1x1024.size a ≤ S37888x1024.size a := fun i v6710 k0_hw1136 k0_h2 => k0_hw1136 k0_h2

def k0_off2273 (i : grid0.Coords) : Fin 1 → Nat :=
  let arg0 : BitVec 32 := BitVec.ofNat 32 (i 0).val
  let c128_i32_4359 : BitVec 32 := 128#32
  let v6152 : BitVec 32 := Scalar.muli arg0 c128_i32_4359
  let c112_i32_4808 : BitVec 32 := 112#32
  let v6713 : BitVec 32 := Scalar.addi v6152 c112_i32_4808
  let v6714 : Index := Scalar.indexCast v6713
  ![v6714.toNat]
def k0_off2274 (v6715 : BitVec 32) : Fin 2 → Nat :=
  let c0_i32_4809 : BitVec 32 := 0#32
  ![v6715.toNat, 0]

def k0_chk1137 (i : grid0.Coords) (v6715 : BitVec 32) : Prop :=
  (∀ (k0_h2 : k0_cond2 i = 1#1), ∀ a, (k0_off2274 v6715) a + S1x1024.size a ≤ S37888x1024.size a)
theorem k0_off2274_inb : ∀ (i : grid0.Coords) (v6715 : BitVec 32) (k0_hw1137 : k0_chk1137 i v6715), ∀ (k0_h2 : k0_cond2 i = 1#1), ∀ a, (k0_off2274 v6715) a + S1x1024.size a ≤ S37888x1024.size a := fun i v6715 k0_hw1137 k0_h2 => k0_hw1137 k0_h2

def k0_off2275 (i : grid0.Coords) : Fin 1 → Nat :=
  let arg0 : BitVec 32 := BitVec.ofNat 32 (i 0).val
  let c128_i32_4359 : BitVec 32 := 128#32
  let v6152 : BitVec 32 := Scalar.muli arg0 c128_i32_4359
  let c113_i32_4812 : BitVec 32 := 113#32
  let v6718 : BitVec 32 := Scalar.addi v6152 c113_i32_4812
  let v6719 : Index := Scalar.indexCast v6718
  ![v6719.toNat]
def k0_off2276 (v6720 : BitVec 32) : Fin 2 → Nat :=
  let c0_i32_4813 : BitVec 32 := 0#32
  ![v6720.toNat, 0]

def k0_chk1138 (i : grid0.Coords) (v6720 : BitVec 32) : Prop :=
  (∀ (k0_h2 : k0_cond2 i = 1#1), ∀ a, (k0_off2276 v6720) a + S1x1024.size a ≤ S37888x1024.size a)
theorem k0_off2276_inb : ∀ (i : grid0.Coords) (v6720 : BitVec 32) (k0_hw1138 : k0_chk1138 i v6720), ∀ (k0_h2 : k0_cond2 i = 1#1), ∀ a, (k0_off2276 v6720) a + S1x1024.size a ≤ S37888x1024.size a := fun i v6720 k0_hw1138 k0_h2 => k0_hw1138 k0_h2

def k0_off2277 (i : grid0.Coords) : Fin 1 → Nat :=
  let arg0 : BitVec 32 := BitVec.ofNat 32 (i 0).val
  let c128_i32_4359 : BitVec 32 := 128#32
  let v6152 : BitVec 32 := Scalar.muli arg0 c128_i32_4359
  let c114_i32_4816 : BitVec 32 := 114#32
  let v6723 : BitVec 32 := Scalar.addi v6152 c114_i32_4816
  let v6724 : Index := Scalar.indexCast v6723
  ![v6724.toNat]
def k0_off2278 (v6725 : BitVec 32) : Fin 2 → Nat :=
  let c0_i32_4817 : BitVec 32 := 0#32
  ![v6725.toNat, 0]

def k0_chk1139 (i : grid0.Coords) (v6725 : BitVec 32) : Prop :=
  (∀ (k0_h2 : k0_cond2 i = 1#1), ∀ a, (k0_off2278 v6725) a + S1x1024.size a ≤ S37888x1024.size a)
theorem k0_off2278_inb : ∀ (i : grid0.Coords) (v6725 : BitVec 32) (k0_hw1139 : k0_chk1139 i v6725), ∀ (k0_h2 : k0_cond2 i = 1#1), ∀ a, (k0_off2278 v6725) a + S1x1024.size a ≤ S37888x1024.size a := fun i v6725 k0_hw1139 k0_h2 => k0_hw1139 k0_h2

def k0_off2279 (i : grid0.Coords) : Fin 1 → Nat :=
  let arg0 : BitVec 32 := BitVec.ofNat 32 (i 0).val
  let c128_i32_4359 : BitVec 32 := 128#32
  let v6152 : BitVec 32 := Scalar.muli arg0 c128_i32_4359
  let c115_i32_4820 : BitVec 32 := 115#32
  let v6728 : BitVec 32 := Scalar.addi v6152 c115_i32_4820
  let v6729 : Index := Scalar.indexCast v6728
  ![v6729.toNat]
def k0_off2280 (v6730 : BitVec 32) : Fin 2 → Nat :=
  let c0_i32_4821 : BitVec 32 := 0#32
  ![v6730.toNat, 0]

def k0_chk1140 (i : grid0.Coords) (v6730 : BitVec 32) : Prop :=
  (∀ (k0_h2 : k0_cond2 i = 1#1), ∀ a, (k0_off2280 v6730) a + S1x1024.size a ≤ S37888x1024.size a)
theorem k0_off2280_inb : ∀ (i : grid0.Coords) (v6730 : BitVec 32) (k0_hw1140 : k0_chk1140 i v6730), ∀ (k0_h2 : k0_cond2 i = 1#1), ∀ a, (k0_off2280 v6730) a + S1x1024.size a ≤ S37888x1024.size a := fun i v6730 k0_hw1140 k0_h2 => k0_hw1140 k0_h2

def k0_off2281 (i : grid0.Coords) : Fin 1 → Nat :=
  let arg0 : BitVec 32 := BitVec.ofNat 32 (i 0).val
  let c128_i32_4359 : BitVec 32 := 128#32
  let v6152 : BitVec 32 := Scalar.muli arg0 c128_i32_4359
  let c116_i32_4824 : BitVec 32 := 116#32
  let v6733 : BitVec 32 := Scalar.addi v6152 c116_i32_4824
  let v6734 : Index := Scalar.indexCast v6733
  ![v6734.toNat]
def k0_off2282 (v6735 : BitVec 32) : Fin 2 → Nat :=
  let c0_i32_4825 : BitVec 32 := 0#32
  ![v6735.toNat, 0]

def k0_chk1141 (i : grid0.Coords) (v6735 : BitVec 32) : Prop :=
  (∀ (k0_h2 : k0_cond2 i = 1#1), ∀ a, (k0_off2282 v6735) a + S1x1024.size a ≤ S37888x1024.size a)
theorem k0_off2282_inb : ∀ (i : grid0.Coords) (v6735 : BitVec 32) (k0_hw1141 : k0_chk1141 i v6735), ∀ (k0_h2 : k0_cond2 i = 1#1), ∀ a, (k0_off2282 v6735) a + S1x1024.size a ≤ S37888x1024.size a := fun i v6735 k0_hw1141 k0_h2 => k0_hw1141 k0_h2

def k0_off2283 (i : grid0.Coords) : Fin 1 → Nat :=
  let arg0 : BitVec 32 := BitVec.ofNat 32 (i 0).val
  let c128_i32_4359 : BitVec 32 := 128#32
  let v6152 : BitVec 32 := Scalar.muli arg0 c128_i32_4359
  let c117_i32_4828 : BitVec 32 := 117#32
  let v6738 : BitVec 32 := Scalar.addi v6152 c117_i32_4828
  let v6739 : Index := Scalar.indexCast v6738
  ![v6739.toNat]
def k0_off2284 (v6740 : BitVec 32) : Fin 2 → Nat :=
  let c0_i32_4829 : BitVec 32 := 0#32
  ![v6740.toNat, 0]

def k0_chk1142 (i : grid0.Coords) (v6740 : BitVec 32) : Prop :=
  (∀ (k0_h2 : k0_cond2 i = 1#1), ∀ a, (k0_off2284 v6740) a + S1x1024.size a ≤ S37888x1024.size a)
theorem k0_off2284_inb : ∀ (i : grid0.Coords) (v6740 : BitVec 32) (k0_hw1142 : k0_chk1142 i v6740), ∀ (k0_h2 : k0_cond2 i = 1#1), ∀ a, (k0_off2284 v6740) a + S1x1024.size a ≤ S37888x1024.size a := fun i v6740 k0_hw1142 k0_h2 => k0_hw1142 k0_h2

def k0_off2285 (i : grid0.Coords) : Fin 1 → Nat :=
  let arg0 : BitVec 32 := BitVec.ofNat 32 (i 0).val
  let c128_i32_4359 : BitVec 32 := 128#32
  let v6152 : BitVec 32 := Scalar.muli arg0 c128_i32_4359
  let c118_i32_4832 : BitVec 32 := 118#32
  let v6743 : BitVec 32 := Scalar.addi v6152 c118_i32_4832
  let v6744 : Index := Scalar.indexCast v6743
  ![v6744.toNat]
def k0_off2286 (v6745 : BitVec 32) : Fin 2 → Nat :=
  let c0_i32_4833 : BitVec 32 := 0#32
  ![v6745.toNat, 0]

def k0_chk1143 (i : grid0.Coords) (v6745 : BitVec 32) : Prop :=
  (∀ (k0_h2 : k0_cond2 i = 1#1), ∀ a, (k0_off2286 v6745) a + S1x1024.size a ≤ S37888x1024.size a)
theorem k0_off2286_inb : ∀ (i : grid0.Coords) (v6745 : BitVec 32) (k0_hw1143 : k0_chk1143 i v6745), ∀ (k0_h2 : k0_cond2 i = 1#1), ∀ a, (k0_off2286 v6745) a + S1x1024.size a ≤ S37888x1024.size a := fun i v6745 k0_hw1143 k0_h2 => k0_hw1143 k0_h2

def k0_off2287 (i : grid0.Coords) : Fin 1 → Nat :=
  let arg0 : BitVec 32 := BitVec.ofNat 32 (i 0).val
  let c128_i32_4359 : BitVec 32 := 128#32
  let v6152 : BitVec 32 := Scalar.muli arg0 c128_i32_4359
  let c119_i32_4836 : BitVec 32 := 119#32
  let v6748 : BitVec 32 := Scalar.addi v6152 c119_i32_4836
  let v6749 : Index := Scalar.indexCast v6748
  ![v6749.toNat]
def k0_off2288 (v6750 : BitVec 32) : Fin 2 → Nat :=
  let c0_i32_4837 : BitVec 32 := 0#32
  ![v6750.toNat, 0]

def k0_chk1144 (i : grid0.Coords) (v6750 : BitVec 32) : Prop :=
  (∀ (k0_h2 : k0_cond2 i = 1#1), ∀ a, (k0_off2288 v6750) a + S1x1024.size a ≤ S37888x1024.size a)
theorem k0_off2288_inb : ∀ (i : grid0.Coords) (v6750 : BitVec 32) (k0_hw1144 : k0_chk1144 i v6750), ∀ (k0_h2 : k0_cond2 i = 1#1), ∀ a, (k0_off2288 v6750) a + S1x1024.size a ≤ S37888x1024.size a := fun i v6750 k0_hw1144 k0_h2 => k0_hw1144 k0_h2

def k0_off2289 (i : grid0.Coords) : Fin 1 → Nat :=
  let arg0 : BitVec 32 := BitVec.ofNat 32 (i 0).val
  let c128_i32_4359 : BitVec 32 := 128#32
  let v6152 : BitVec 32 := Scalar.muli arg0 c128_i32_4359
  let c120_i32_4840 : BitVec 32 := 120#32
  let v6753 : BitVec 32 := Scalar.addi v6152 c120_i32_4840
  let v6754 : Index := Scalar.indexCast v6753
  ![v6754.toNat]
def k0_off2290 (v6755 : BitVec 32) : Fin 2 → Nat :=
  let c0_i32_4841 : BitVec 32 := 0#32
  ![v6755.toNat, 0]

def k0_chk1145 (i : grid0.Coords) (v6755 : BitVec 32) : Prop :=
  (∀ (k0_h2 : k0_cond2 i = 1#1), ∀ a, (k0_off2290 v6755) a + S1x1024.size a ≤ S37888x1024.size a)
theorem k0_off2290_inb : ∀ (i : grid0.Coords) (v6755 : BitVec 32) (k0_hw1145 : k0_chk1145 i v6755), ∀ (k0_h2 : k0_cond2 i = 1#1), ∀ a, (k0_off2290 v6755) a + S1x1024.size a ≤ S37888x1024.size a := fun i v6755 k0_hw1145 k0_h2 => k0_hw1145 k0_h2

def k0_off2291 (i : grid0.Coords) : Fin 1 → Nat :=
  let arg0 : BitVec 32 := BitVec.ofNat 32 (i 0).val
  let c128_i32_4359 : BitVec 32 := 128#32
  let v6152 : BitVec 32 := Scalar.muli arg0 c128_i32_4359
  let c121_i32_4844 : BitVec 32 := 121#32
  let v6758 : BitVec 32 := Scalar.addi v6152 c121_i32_4844
  let v6759 : Index := Scalar.indexCast v6758
  ![v6759.toNat]
def k0_off2292 (v6760 : BitVec 32) : Fin 2 → Nat :=
  let c0_i32_4845 : BitVec 32 := 0#32
  ![v6760.toNat, 0]

def k0_chk1146 (i : grid0.Coords) (v6760 : BitVec 32) : Prop :=
  (∀ (k0_h2 : k0_cond2 i = 1#1), ∀ a, (k0_off2292 v6760) a + S1x1024.size a ≤ S37888x1024.size a)
theorem k0_off2292_inb : ∀ (i : grid0.Coords) (v6760 : BitVec 32) (k0_hw1146 : k0_chk1146 i v6760), ∀ (k0_h2 : k0_cond2 i = 1#1), ∀ a, (k0_off2292 v6760) a + S1x1024.size a ≤ S37888x1024.size a := fun i v6760 k0_hw1146 k0_h2 => k0_hw1146 k0_h2

def k0_off2293 (i : grid0.Coords) : Fin 1 → Nat :=
  let arg0 : BitVec 32 := BitVec.ofNat 32 (i 0).val
  let c128_i32_4359 : BitVec 32 := 128#32
  let v6152 : BitVec 32 := Scalar.muli arg0 c128_i32_4359
  let c122_i32_4848 : BitVec 32 := 122#32
  let v6763 : BitVec 32 := Scalar.addi v6152 c122_i32_4848
  let v6764 : Index := Scalar.indexCast v6763
  ![v6764.toNat]
def k0_off2294 (v6765 : BitVec 32) : Fin 2 → Nat :=
  let c0_i32_4849 : BitVec 32 := 0#32
  ![v6765.toNat, 0]

def k0_chk1147 (i : grid0.Coords) (v6765 : BitVec 32) : Prop :=
  (∀ (k0_h2 : k0_cond2 i = 1#1), ∀ a, (k0_off2294 v6765) a + S1x1024.size a ≤ S37888x1024.size a)
theorem k0_off2294_inb : ∀ (i : grid0.Coords) (v6765 : BitVec 32) (k0_hw1147 : k0_chk1147 i v6765), ∀ (k0_h2 : k0_cond2 i = 1#1), ∀ a, (k0_off2294 v6765) a + S1x1024.size a ≤ S37888x1024.size a := fun i v6765 k0_hw1147 k0_h2 => k0_hw1147 k0_h2

def k0_off2295 (i : grid0.Coords) : Fin 1 → Nat :=
  let arg0 : BitVec 32 := BitVec.ofNat 32 (i 0).val
  let c128_i32_4359 : BitVec 32 := 128#32
  let v6152 : BitVec 32 := Scalar.muli arg0 c128_i32_4359
  let c123_i32_4852 : BitVec 32 := 123#32
  let v6768 : BitVec 32 := Scalar.addi v6152 c123_i32_4852
  let v6769 : Index := Scalar.indexCast v6768
  ![v6769.toNat]
def k0_off2296 (v6770 : BitVec 32) : Fin 2 → Nat :=
  let c0_i32_4853 : BitVec 32 := 0#32
  ![v6770.toNat, 0]

def k0_chk1148 (i : grid0.Coords) (v6770 : BitVec 32) : Prop :=
  (∀ (k0_h2 : k0_cond2 i = 1#1), ∀ a, (k0_off2296 v6770) a + S1x1024.size a ≤ S37888x1024.size a)
theorem k0_off2296_inb : ∀ (i : grid0.Coords) (v6770 : BitVec 32) (k0_hw1148 : k0_chk1148 i v6770), ∀ (k0_h2 : k0_cond2 i = 1#1), ∀ a, (k0_off2296 v6770) a + S1x1024.size a ≤ S37888x1024.size a := fun i v6770 k0_hw1148 k0_h2 => k0_hw1148 k0_h2

def k0_off2297 (i : grid0.Coords) : Fin 1 → Nat :=
  let arg0 : BitVec 32 := BitVec.ofNat 32 (i 0).val
  let c128_i32_4359 : BitVec 32 := 128#32
  let v6152 : BitVec 32 := Scalar.muli arg0 c128_i32_4359
  let c124_i32_4856 : BitVec 32 := 124#32
  let v6773 : BitVec 32 := Scalar.addi v6152 c124_i32_4856
  let v6774 : Index := Scalar.indexCast v6773
  ![v6774.toNat]
def k0_off2298 (v6775 : BitVec 32) : Fin 2 → Nat :=
  let c0_i32_4857 : BitVec 32 := 0#32
  ![v6775.toNat, 0]

def k0_chk1149 (i : grid0.Coords) (v6775 : BitVec 32) : Prop :=
  (∀ (k0_h2 : k0_cond2 i = 1#1), ∀ a, (k0_off2298 v6775) a + S1x1024.size a ≤ S37888x1024.size a)
theorem k0_off2298_inb : ∀ (i : grid0.Coords) (v6775 : BitVec 32) (k0_hw1149 : k0_chk1149 i v6775), ∀ (k0_h2 : k0_cond2 i = 1#1), ∀ a, (k0_off2298 v6775) a + S1x1024.size a ≤ S37888x1024.size a := fun i v6775 k0_hw1149 k0_h2 => k0_hw1149 k0_h2

def k0_off2299 (i : grid0.Coords) : Fin 1 → Nat :=
  let arg0 : BitVec 32 := BitVec.ofNat 32 (i 0).val
  let c128_i32_4359 : BitVec 32 := 128#32
  let v6152 : BitVec 32 := Scalar.muli arg0 c128_i32_4359
  let c125_i32_4860 : BitVec 32 := 125#32
  let v6778 : BitVec 32 := Scalar.addi v6152 c125_i32_4860
  let v6779 : Index := Scalar.indexCast v6778
  ![v6779.toNat]

variable {F : FTy → Type} [FloatOps F]

def k0_off2300 (v6780 : BitVec 32) : Fin 2 → Nat :=
  let c0_i32_4861 : BitVec 32 := 0#32
  ![v6780.toNat, 0]

def k0_chk1150 (i : grid0.Coords) (v6780 : BitVec 32) : Prop :=
  (∀ (k0_h2 : k0_cond2 i = 1#1), ∀ a, (k0_off2300 v6780) a + S1x1024.size a ≤ S37888x1024.size a)
theorem k0_off2300_inb : ∀ (i : grid0.Coords) (v6780 : BitVec 32) (k0_hw1150 : k0_chk1150 i v6780), ∀ (k0_h2 : k0_cond2 i = 1#1), ∀ a, (k0_off2300 v6780) a + S1x1024.size a ≤ S37888x1024.size a := fun i v6780 k0_hw1150 k0_h2 => k0_hw1150 k0_h2

def k0_off2301 (i : grid0.Coords) : Fin 1 → Nat :=
  let arg0 : BitVec 32 := BitVec.ofNat 32 (i 0).val
  let c128_i32_4359 : BitVec 32 := 128#32
  let v6152 : BitVec 32 := Scalar.muli arg0 c128_i32_4359
  let c126_i32_4864 : BitVec 32 := 126#32
  let v6783 : BitVec 32 := Scalar.addi v6152 c126_i32_4864
  let v6784 : Index := Scalar.indexCast v6783
  ![v6784.toNat]
def k0_off2302 (v6785 : BitVec 32) : Fin 2 → Nat :=
  let c0_i32_4865 : BitVec 32 := 0#32
  ![v6785.toNat, 0]

def k0_chk1151 (i : grid0.Coords) (v6785 : BitVec 32) : Prop :=
  (∀ (k0_h2 : k0_cond2 i = 1#1), ∀ a, (k0_off2302 v6785) a + S1x1024.size a ≤ S37888x1024.size a)
theorem k0_off2302_inb : ∀ (i : grid0.Coords) (v6785 : BitVec 32) (k0_hw1151 : k0_chk1151 i v6785), ∀ (k0_h2 : k0_cond2 i = 1#1), ∀ a, (k0_off2302 v6785) a + S1x1024.size a ≤ S37888x1024.size a := fun i v6785 k0_hw1151 k0_h2 => k0_hw1151 k0_h2

def k0_off2303 (i : grid0.Coords) : Fin 1 → Nat :=
  let arg0 : BitVec 32 := BitVec.ofNat 32 (i 0).val
  let c128_i32_4359 : BitVec 32 := 128#32
  let v6152 : BitVec 32 := Scalar.muli arg0 c128_i32_4359
  let c127_i32_4868 : BitVec 32 := 127#32
  let v6788 : BitVec 32 := Scalar.addi v6152 c127_i32_4868
  let v6789 : Index := Scalar.indexCast v6788
  ![v6789.toNat]
def k0_off2304 (v6790 : BitVec 32) : Fin 2 → Nat :=
  let c0_i32_4869 : BitVec 32 := 0#32
  ![v6790.toNat, 0]

def k0_chk1152 (i : grid0.Coords) (v6790 : BitVec 32) : Prop :=
  (∀ (k0_h2 : k0_cond2 i = 1#1), ∀ a, (k0_off2304 v6790) a + S1x1024.size a ≤ S37888x1024.size a)
theorem k0_off2304_inb : ∀ (i : grid0.Coords) (v6790 : BitVec 32) (k0_hw1152 : k0_chk1152 i v6790), ∀ (k0_h2 : k0_cond2 i = 1#1), ∀ a, (k0_off2304 v6790) a + S1x1024.size a ≤ S37888x1024.size a := fun i v6790 k0_hw1152 k0_h2 => k0_hw1152 k0_h2

@[reducible] def k0_t1_loop : Scf.Loop 32 :=
  let c0_i32_4872 : BitVec 32 := 0#32
  let c128_i32_4873 : BitVec 32 := 128#32
  let v6793 : BitVec 32 := Scalar.addi c0_i32_4872 c128_i32_4873
  let c1_i32_4874 : BitVec 32 := 1#32
  ⟨c0_i32_4872, v6793, c1_i32_4874⟩
@[reducible] def k0_t2_loop : Scf.Loop 32 :=
  let c0_i32_4356 : BitVec 32 := 0#32
  let c1024_i32_4357 : BitVec 32 := 1024#32
  let v6151 : BitVec 32 := Scalar.addi c0_i32_4356 c1024_i32_4357
  let c1_i32_4358 : BitVec 32 := 1#32
  ⟨c0_i32_4356, v6151, c1_i32_4358⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S16896x1024 : Shape := ⟨2, ![16896, 1024]⟩
abbrev S33792 : Shape := ⟨1, ![33792]⟩
abbrev S4096 : Shape := ⟨1, ![4096]⟩
abbrev S_ : Shape := ⟨0, ![]⟩
abbrev S37888x1024 : Shape := ⟨2, ![37888, 1024]⟩
abbrev S16896x2x1024 : Shape := ⟨3, ![16896, 2, 1024]⟩
abbrev S33792x1024 : Shape := ⟨2, ![33792, 1024]⟩
abbrev S33792x1 : Shape := ⟨2, ![33792, 1]⟩

abbrev nBuf : Space → Nat
  | .hbm => 16
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S33792, .i32⟩
  | .hbm, ⟨2, _⟩ => ⟨S4096, .i32⟩
  | .hbm, ⟨3, _⟩ => ⟨S_, .f32⟩
  | .hbm, ⟨4, _⟩ => ⟨S37888x1024, .f32⟩
  | .hbm, ⟨5, _⟩ => ⟨S16896x2x1024, .f32⟩
  | .hbm, ⟨6, _⟩ => ⟨S33792x1024, .f32⟩
  | .hbm, ⟨7, _⟩ => ⟨S_, .i32⟩
  | .hbm, ⟨8, _⟩ => ⟨S33792, .i32⟩
  | .hbm, ⟨9, _⟩ => ⟨S33792, .i1⟩
  | .hbm, ⟨10, _⟩ => ⟨S_, .i32⟩
  | .hbm, ⟨11, _⟩ => ⟨S33792, .i32⟩
  | .hbm, ⟨12, _⟩ => ⟨S33792, .i32⟩
  | .hbm, ⟨13, _⟩ => ⟨S33792, .i32⟩
  | .hbm, ⟨14, _⟩ => ⟨S33792x1, .i32⟩
  | .hbm, ⟨15, _⟩ => ⟨S37888x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel2.lean ====
abbrev S37888x1024 : Shape := ⟨2, ![37888, 1024]⟩
abbrev S74 : Shape := ⟨1, ![74]⟩
abbrev S1 : Shape := ⟨1, ![1]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩

abbrev nBuf : Space → Nat
  | .hbm => 5
  | .vmem => 10
  | .smem => 2
  | _ => 0

abbrev bufTy : (tb : Table) → Fin (tcTables nBuf tb) → BufTy
  | .hbm, ⟨0, _⟩ => ⟨S37888x1024, .f32⟩
  | .hbm, ⟨1, _⟩ => ⟨S8x1024x2816, .bf16⟩
  | .hbm, ⟨2, _⟩ => ⟨S8x1024x2816, .bf16⟩
  | .hbm, ⟨3, _⟩ => ⟨S8x2816x1024, .bf16⟩
  | .hbm, ⟨4, _⟩ => ⟨S37888x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S512x1024, .f32⟩
  | .local _ .vmem, ⟨9, _⟩ => ⟨S512x1024, .f32⟩
  | .local _ .smem, ⟨0, _⟩ => ⟨S74, .i32⟩
  | .local _ .smem, ⟨1, _⟩ => ⟨S1, .i32⟩
  | _, _ => ⟨S37888x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![74], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S74) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S74) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S74.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S74) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S37888x1024 : Shape := ⟨2, ![37888, 1024]⟩
abbrev S74 : Shape := ⟨1, ![74]⟩
abbrev S1 : Shape := ⟨1, ![1]⟩
abbrev S8x1024x2816 : Shape := ⟨3, ![8, 1024, 2816]⟩
abbrev S8x2816x1024 : Shape := ⟨3, ![8, 2816, 1024]⟩
abbrev S74x512x1024 : Shape := ⟨3, ![74, 512, 1024]⟩
abbrev S_ : Shape := ⟨0, ![]⟩
abbrev S74x1 : Shape := ⟨2, ![74, 1]⟩
abbrev S74x1024x2816 : Shape := ⟨3, ![74, 1024, 2816]⟩
abbrev S74x512x2816 : Shape := ⟨3, ![74, 512, 2816]⟩
abbrev S74x2816x1024 : Shape := ⟨3, ![74, 2816, 1024]⟩
abbrev S74x1x1 : Shape := ⟨3, ![74, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S37888x1024, .f32⟩
  | .hbm, ⟨1, _⟩ => ⟨S74, .i32⟩
  | .hbm, ⟨2, _⟩ => ⟨S1, .i32⟩
  | .hbm, ⟨3, _⟩ => ⟨S8x1024x2816, .bf16⟩
  | .hbm, ⟨4, _⟩ => ⟨S8x1024x2816, .bf16⟩
  | .hbm, ⟨5, _⟩ => ⟨S8x2816x1024, .bf16⟩
  | .hbm, ⟨6, _⟩ => ⟨S74x512x1024, .f32⟩
  | .hbm, ⟨7, _⟩ => ⟨S74x512x1024, .bf16⟩
  | .hbm, ⟨8, _⟩ => ⟨S_, .i32⟩
  | .hbm, ⟨9, _⟩ => ⟨S74, .i32⟩
  | .hbm, ⟨10, _⟩ => ⟨S74, .i1⟩
  | .hbm, ⟨11, _⟩ => ⟨S_, .i32⟩
  | .hbm, ⟨12, _⟩ => ⟨S74, .i32⟩
  | .hbm, ⟨13, _⟩ => ⟨S74, .i32⟩
  | .hbm, ⟨14, _⟩ => ⟨S74, .i32⟩
  | .hbm, ⟨15, _⟩ => ⟨S74x1, .i32⟩
  | .hbm, ⟨16, _⟩ => ⟨S74x1024x2816, .bf16⟩
  | .hbm, ⟨17, _⟩ => ⟨S74x512x2816, .f32⟩
  | .hbm, ⟨18, _⟩ => ⟨S_, .i32⟩
  | .hbm, ⟨19, _⟩ => ⟨S74, .i32⟩
  | .hbm, ⟨20, _⟩ => ⟨S74, .i1⟩
  | .hbm, ⟨21, _⟩ => ⟨S_, .i32⟩
  | .hbm, ⟨22, _⟩ => ⟨S74, .i32⟩
  | .hbm, ⟨23, _⟩ => ⟨S74, .i32⟩
  | .hbm, ⟨24, _⟩ => ⟨S74, .i32⟩
  | .hbm, ⟨25, _⟩ => ⟨S74x1, .i32⟩
  | .hbm, ⟨26, _⟩ => ⟨S74x1024x2816, .bf16⟩
  | .hbm, ⟨27, _⟩ => ⟨S74x512x2816, .f32⟩
  | .hbm, ⟨28, _⟩ => ⟨S74x512x2816, .f32⟩
  | .hbm, ⟨29, _⟩ => ⟨S74x512x2816, .f32⟩
  | .hbm, ⟨30, _⟩ => ⟨S_, .f32⟩
  | .hbm, ⟨31, _⟩ => ⟨S74x512x2816, .f32⟩
  | .hbm, ⟨32, _⟩ => ⟨S74x512x2816, .f32⟩
  | .hbm, ⟨33, _⟩ => ⟨S_, .f32⟩
  | .hbm, ⟨34, _⟩ => ⟨S74x512x2816, .f32⟩
  | .hbm, ⟨35, _⟩ => ⟨S74x512x2816, .f32⟩
  | .hbm, ⟨36, _⟩ => ⟨S74x512x2816, .f32⟩
  | .hbm, ⟨37, _⟩ => ⟨S74x512x2816, .f32⟩
  | .hbm, ⟨38, _⟩ => ⟨S74x512x2816, .bf16⟩
  | .hbm, ⟨39, _⟩ => ⟨S_, .i32⟩
  | .hbm, ⟨40, _⟩ => ⟨S74, .i32⟩
  | .hbm, ⟨41, _⟩ => ⟨S74, .i1⟩
  | .hbm, ⟨42, _⟩ => ⟨S_, .i32⟩
  | .hbm, ⟨43, _⟩ => ⟨S74, .i32⟩
  | .hbm, ⟨44, _⟩ => ⟨S74, .i32⟩
  | .hbm, ⟨45, _⟩ => ⟨S74, .i32⟩
  | .hbm, ⟨46, _⟩ => ⟨S74x1, .i32⟩
  | .hbm, ⟨47, _⟩ => ⟨S74x2816x1024, .bf16⟩
  | .hbm, ⟨48, _⟩ => ⟨S74x512x1024, .f32⟩
  | .hbm, ⟨49, _⟩ => ⟨S74, .i32⟩
  | .hbm, ⟨50, _⟩ => ⟨S_, .i32⟩
  | .hbm, ⟨51, _⟩ => ⟨S74, .i32⟩
  | .hbm, ⟨52, _⟩ => ⟨S74, .i1⟩
  | .hbm, ⟨53, _⟩ => ⟨S74x1x1, .i1⟩
  | .hbm, ⟨54, _⟩ => ⟨S_, .f32⟩
  | .hbm, ⟨55, _⟩ => ⟨S_, .f32⟩
  | .hbm, ⟨56, _⟩ => ⟨S74x512x1024, .i1⟩
  | .hbm, ⟨57, _⟩ => ⟨S74x512x1024, .f32⟩
  | .hbm, ⟨58, _⟩ => ⟨S74x512x1024, .f32⟩
  | .hbm, ⟨59, _⟩ => ⟨S37888x1024, .f32⟩
  | _, _ => ⟨S37888x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Kernel3.lean ====
abbrev S16384x512 : Shape := ⟨2, ![16384, 512]⟩
abbrev S512x512 : Shape := ⟨2, ![512, 512]⟩
abbrev S16896x1024 : Shape := ⟨2, ![16896, 1024]⟩
abbrev S1x1024 : Shape := ⟨2, ![1, 1024]⟩
abbrev S4x8x6144 : Shape := ⟨3, ![4, 8, 6144]⟩
abbrev S4x128x6144 : Shape := ⟨3, ![4, 128, 6144]⟩
abbrev S1024x1024 : Shape := ⟨2, ![1024, 1024]⟩
abbrev S1024x2816 : Shape := ⟨2, ![1024, 2816]⟩
abbrev S2816x1024 : Shape := ⟨2, ![2816, 1024]⟩
abbrev S4x8x1x6144 : Shape := ⟨4, ![4, 8, 1, 6144]⟩
abbrev S512x1024 : Shape := ⟨2, ![512, 1024]⟩
abbrev S1x1x1x1024 : Shape := ⟨4, ![1, 1, 1, 1024]⟩
abbrev S1x128x1024 : Shape := ⟨3, ![1, 128, 1024]⟩
abbrev S128x1024 : Shape := ⟨2, ![128, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 15
  | .vmem => 28
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S16384x512, .f32⟩
  | .hbm, ⟨3, _⟩ => ⟨S512x512, .f32⟩
  | .hbm, ⟨4, _⟩ => ⟨S16896x1024, .f32⟩
  | .hbm, ⟨5, _⟩ => ⟨S1x1024, .f32⟩
  | .hbm, ⟨6, _⟩ => ⟨S4x8x6144, .f32⟩
  | .hbm, ⟨7, _⟩ => ⟨S4x128x6144, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S4x8x1x6144, .f32⟩
  | .hbm, ⟨14, _⟩ => ⟨S16896x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x128x1024, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x128x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x128x1024, .f32⟩
  | .local _ .vmem, ⟨20, _⟩ => ⟨S1x1x1x1024, .f32⟩
  | .local _ .vmem, ⟨21, _⟩ => ⟨S1x1x1x1024, .f32⟩
  | .local _ .vmem, ⟨22, _⟩ => ⟨S1x128x1024, .f32⟩
  | .local _ .vmem, ⟨23, _⟩ => ⟨S1024x2816, .bf16⟩
  | .local _ .vmem, ⟨24, _⟩ => ⟨S1024x2816, .bf16⟩
  | .local _ .vmem, ⟨25, _⟩ => ⟨S2816x1024, .bf16⟩
  | .local _ .vmem, ⟨26, _⟩ => ⟨S512x1024, .f32⟩
  | .local _ .vmem, ⟨27, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let v17 : BitVec 32 := Scalar.minsi v16 c7_i32
  let c2_i32 : BitVec 32 := 2#32
  let c0_i32_4 : BitVec 32 := 0#32
  let c2_i32_5 : BitVec 32 := 2#32
  let c0_i32_6 : BitVec 32 := 0#32
  ![c2_i32.toNat, v17.toNat, c0_i32_4.toNat, c2_i32_5.toNat]

def cc0_transform_6 (i : grid0.Coords) : Fin 3 → Nat :=
  let arg0 : BitVec 32 := BitVec.ofNat 32 (i 0).val
  let c2_i32 : BitVec 32 := 2#32
  let c0_i32 : BitVec 32 := 0#32
  let c2_i32_0 : BitVec 32 := 2#32
  let c0_i32_1 : BitVec 32 := 0#32
  ![c2_i32.toNat, c0_i32.toNat, c2_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let v17 : BitVec 32 := Scalar.minsi v16 c7_i32
  let c2_i32 : BitVec 32 := 2#32
  let c0_i32_4 : BitVec 32 := 0#32
  let c3_i32 : BitVec 32 := 3#32
  let c0_i32_5 : BitVec 32 := 0#32
  ![c2_i32.toNat, v17.toNat, c0_i32_4.toNat, c3_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c3_i32 : BitVec 32 := 3#32
  let c0_i32_0 : BitVec 32 := 0#32
  ![c2_i32.toNat, c0_i32.toNat, c3_i32.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let v17 : BitVec 32 := Scalar.minsi v16 c7_i32
  let c2_i32 : BitVec 32 := 2#32
  let c0_i32_4 : BitVec 32 := 0#32
  let c4_i32_5 : BitVec 32 := 4#32
  let c0_i32_6 : BitVec 32 := 0#32
  ![c2_i32.toNat, v17.toNat, c0_i32_4.toNat, c4_i32_5.toNat]

def cc0_transform_13 (i : grid0.Coords) : Fin 3 → Nat :=
  let arg0 : BitVec 32 := BitVec.ofNat 32 (i 0).val
  let c2_i32 : BitVec 32 := 2#32
  let c0_i32 : BitVec 32 := 0#32
  let c4_i32 : BitVec 32 := 4#32
  let c0_i32_0 : BitVec 32 := 0#32
  ![c2_i32.toNat, c0_i32.toNat, c4_i32.toNat]

def cc0_transform_14 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let v17 : BitVec 32 := Scalar.minsi v16 c7_i32
  let c2_i32 : BitVec 32 := 2#32
  let c0_i32_4 : BitVec 32 := 0#32
  let c5_i32 : BitVec 32 := 5#32
  let c0_i32_5 : BitVec 32 := 0#32
  ![c2_i32.toNat, v17.toNat, c0_i32_4.toNat, c5_i32.toNat]

def cc0_transform_15 (i : grid0.Coords) : Fin 3 → Nat :=
  let arg0 : BitVec 32 := BitVec.ofNat 32 (i 0).val
  let c2_i32 : BitVec 32 := 2#32
  let c0_i32 : BitVec 32 := 0#32
  let c5_i32 : BitVec 32 := 5#32
  let c0_i32_0 : BitVec 32 := 0#32
  ![c2_i32.toNat, c0_i32.toNat, c5_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x2816 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2816 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S16384x512 : Shape := ⟨2, ![16384, 512]⟩
abbrev S512x512 : Shape := ⟨2, ![512, 512]⟩
abbrev S16896x1024 : Shape := ⟨2, ![16896, 1024]⟩
abbrev S1x1024 : Shape := ⟨2, ![1, 1024]⟩
abbrev S4x8x6144 : Shape := ⟨3, ![4, 8, 6144]⟩
abbrev S4x128x6144 : Shape := ⟨3, ![4, 128, 6144]⟩
abbrev S1024x1024 : Shape := ⟨2, ![1024, 1024]⟩
abbrev S1024x2816 : Shape := ⟨2, ![1024, 2816]⟩
abbrev S2816x1024 : Shape := ⟨2, ![2816, 1024]⟩
abbrev S1x8x6144 : Shape := ⟨3, ![1, 8, 6144]⟩
abbrev S8x6144 : Shape := ⟨2, ![8, 6144]⟩
abbrev S8x2048x6144 : Shape := ⟨3, ![8, 2048, 6144]⟩
abbrev S16384x6144 : Shape := ⟨2, ![16384, 6144]⟩
abbrev S1x128x6144 : Shape := ⟨3, ![1, 128, 6144]⟩
abbrev S128x6144 : Shape := ⟨2, ![128, 6144]⟩
abbrev S1x128x1x6144 : Shape := ⟨4, ![1, 128, 1, 6144]⟩
abbrev S4x128x1x6144 : Shape := ⟨4, ![4, 128, 1, 6144]⟩
abbrev S512x6144 : Shape := ⟨2, ![512, 6144]⟩
abbrev S16896x6144 : Shape := ⟨2, ![16896, 6144]⟩
abbrev S16384x1024 : Shape := ⟨2, ![16384, 1024]⟩
abbrev S512x1024 : Shape := ⟨2, ![512, 1024]⟩
abbrev S_ : Shape := ⟨0, ![]⟩
abbrev S16896 : Shape := ⟨1, ![16896]⟩
abbrev S16896x1 : Shape := ⟨2, ![16896, 1]⟩
abbrev S16896x2816 : Shape := ⟨2, ![16896, 2816]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x512, .f32⟩
  | .hbm, ⟨2, _⟩ => ⟨S16384x512, .f32⟩
  | .hbm, ⟨3, _⟩ => ⟨S512x512, .f32⟩
  | .hbm, ⟨4, _⟩ => ⟨S16896x1024, .f32⟩
  | .hbm, ⟨5, _⟩ => ⟨S1x1024, .f32⟩
  | .hbm, ⟨6, _⟩ => ⟨S4x8x6144, .f32⟩
  | .hbm, ⟨7, _⟩ => ⟨S4x128x6144, .f32⟩
  | .hbm, ⟨8, _⟩ => ⟨S1024x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x8x6144, .f32⟩
  | .hbm, ⟨14, _⟩ => ⟨S8x6144, .f32⟩
  | .hbm, ⟨15, _⟩ => ⟨S8x2048x6144, .f32⟩
  | .hbm, ⟨16, _⟩ => ⟨S16384x6144, .f32⟩
  | .hbm, ⟨17, _⟩ => ⟨S1x128x6144, .f32⟩
  | .hbm, ⟨18, _⟩ => ⟨S128x6144, .f32⟩
  | .hbm, ⟨19, _⟩ => ⟨S1x128x1x6144, .f32⟩
  | .hbm, ⟨20, _⟩ => ⟨S4x128x1x6144, .f32⟩
  | .hbm, ⟨21, _⟩ => ⟨S512x6144, .f32⟩
  | .hbm, ⟨22, _⟩ => ⟨S16896x6144, .f32⟩
  | .hbm, ⟨23, _⟩ => ⟨S16896x1024, .f32⟩
  | .hbm, ⟨24, _⟩ => ⟨S16896x1024, .f32⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S16896x1024, .f32⟩
  | .hbm, ⟨29, _⟩ => ⟨S16384x1024, .f32⟩
  | .hbm, ⟨30, _⟩ => ⟨S512x1024, .f32⟩
  | .hbm, ⟨31, _⟩ => ⟨S16896x1024, .f32⟩
  | .hbm, ⟨32, _⟩ => ⟨S16896x1024, .bf16⟩
  | .hbm, ⟨33, _⟩ => ⟨S16896x1024, .f32⟩
  | .hbm, ⟨34, _⟩ => ⟨S16896x1024, .f32⟩
  | .hbm, ⟨35, _⟩ => ⟨S16896x1024, .f32⟩
  | .hbm, ⟨36, _⟩ => ⟨S16896x1024, .f32⟩
  | .hbm, ⟨37, _⟩ => ⟨S16896x1024, .f32⟩
  | .hbm, ⟨38, _⟩ => ⟨S16896x1024, .f32⟩
  | .hbm, ⟨39, _⟩ => ⟨S_, .f32⟩
  | .hbm, ⟨40, _⟩ => ⟨S16896, .f32⟩
  | .hbm, ⟨41, _⟩ => ⟨S16896x1, .f32⟩
  | .hbm, ⟨42, _⟩ => ⟨S_, .f32⟩
  | .hbm, ⟨43, _⟩ => ⟨S16896x1, .f32⟩
  | .hbm, ⟨44, _⟩ => ⟨S16896x1, .f32⟩
  | .hbm, ⟨45, _⟩ => ⟨S_, .f32⟩
  | .hbm, ⟨46, _⟩ => ⟨S16896x1, .f32⟩
  | .hbm, ⟨47, _⟩ => ⟨S16896x1, .f32⟩
  | .hbm, ⟨48, _⟩ => ⟨S16896x1, .f32⟩
  | .hbm, ⟨49, _⟩ => ⟨S16896x1024, .f32⟩
  | .hbm, ⟨50, _⟩ => ⟨S16896x1024, .f32⟩
  | .hbm, ⟨51, _⟩ => ⟨S16896x1024, .f32⟩
  | .hbm, ⟨52, _⟩ => ⟨S16896x1024, .f32⟩
  | .hbm, ⟨53, _⟩ => ⟨S_, .f32⟩
  | .hbm, ⟨54, _⟩ => ⟨S16896x1024, .f32⟩
  | .hbm, ⟨55, _⟩ => ⟨S16896x1024, .f32⟩
  | .hbm, ⟨56, _⟩ => ⟨S16896x1024, .f32⟩
  | .hbm, ⟨57, _⟩ => ⟨S16896x1024, .f32⟩
  | .hbm, ⟨58, _⟩ => ⟨S16896x1024, .bf16⟩
  | .hbm, ⟨59, _⟩ => ⟨S16896x2816, .f32⟩
  | .hbm, ⟨60, _⟩ => ⟨S16896x2816, .f32⟩
  | .hbm, ⟨61, _⟩ => ⟨S16896x2816, .f32⟩
  | .hbm, ⟨62, _⟩ => ⟨S16896x2816, .f32⟩
  | .hbm, ⟨63, _⟩ => ⟨S_, .f32⟩
  | .hbm, ⟨64, _⟩ => ⟨S16896x2816, .f32⟩
  | .hbm, ⟨65, _⟩ => ⟨S16896x2816, .f32⟩
  | .hbm, ⟨66, _⟩ => ⟨S_, .f32⟩
  | .hbm, ⟨67, _⟩ => ⟨S16896x2816, .f32⟩
  | .hbm, ⟨68, _⟩ => ⟨S16896x2816, .f32⟩
  | .hbm, ⟨69, _⟩ => ⟨S16896x2816, .f32⟩
  | .hbm, ⟨70, _⟩ => ⟨S16896x2816, .f32⟩
  | .hbm, ⟨71, _⟩ => ⟨S16896x2816, .bf16⟩
  | .hbm, ⟨72, _⟩ => ⟨S16896x1024, .f32⟩
  | .hbm, ⟨73, _⟩ => ⟨S16896x1024, .f32⟩
  | .hbm, ⟨74, _⟩ => ⟨S16896x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_0 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Proof.Steps.lean ====
/-
  The dispatch kernel's run, one copy at a time: what the core holds with `j` of the grid point's row copies issued
  (`St`), and how a load of a table word, the range assumption on that word and the enqueue of the copy move it.
-/
module

public import proofs.«01_k».proof.Proof.Gen.KernelIdeal
public import Idealize.ShloMosaic.Lib.Batch
public import Idealize.ShloMosaic.Lib.Ring
public import Idealize.ShloMosaic.Lib.Tactic
public import Idealize.ShloMosaic.Lib.SortFacts
public import Idealize.ShloMosaic.Lib.Pipeline.FrameValue

@[expose] public section

noncomputable section

namespace Cert.KernelIdeal.Disp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two tables, the result, the row of zeros, and the semaphore the copies complete on. -/
abbrev tabA : Memref sig .tc .smem S33792 .i32 := Memref.whole main_arg1
abbrev tabB : Memref sig .tc .smem S4096 .i32 := Memref.whole main_arg2
abbrev outM : Memref sig .tc .hbm S37888x1024 .f32 := Memref.whole main_v0
abbrev zeroM : Memref sig .tc .vmem S512x1024 .f32 := Memref.whole cc0_scratch0
abbrev semM : DmaSem sig := cc0_scratch1.sem

theorem outRow_inb (d : Fin 37888) : ∀ a, (![d.val, 0] : Fin 2 → ℕ) a + S1x1024.size a ≤ S37888x1024.size a := by
  have := d.isLt
  intro a; fin_cases a
  · show d.val + 1 ≤ 37888; omega
  · show 0 + 1024 ≤ 1024; omega
theorem srcRow_inb (r : Fin 512) : ∀ a, (![r.val, 0] : Fin 2 → ℕ) a + S1x1024.size a ≤ S512x1024.size a := by
  have := r.isLt
  intro a; fin_cases a
  · show r.val + 1 ≤ 512; omega
  · show 0 + 1024 ≤ 1024; omega

/-- Row `d` of the result, and row `r` of a block of 512 rows, as the copies name them. -/
abbrev outRow (d : Fin 37888) : Memref sig .tc .hbm S1x1024 .f32 :=
  outM.slice (Rect.unit (s := S37888x1024) ![d.val, 0] S1x1024.size (outRow_inb d)) (fun _ => rfl)
abbrev srcRow (m : Memref sig .tc .vmem S512x1024 .f32) (r : Fin 512) : Memref sig .tc .vmem S1x1024 .f32 :=
  m.slice (Rect.unit (s := S512x1024) ![r.val, 0] S1x1024.size (srcRow_inb r)) (fun _ => rfl)

/-- The row a table word names, and the row of its block that row copy `m` copies. -/
def rowOf (w : BitVec 32) : Fin 37888 := ⟨w.toNat % 37888, Nat.mod_lt _ (by decide)⟩
def srcOf (m : ℕ) : Fin 512 := ⟨m / 2 % 512, Nat.mod_lt _ (by decide)⟩

theorem rowOf_val {w : BitVec 32} (h : w.toNat < 37888) : (rowOf w).val = w.toNat := Nat.mod_eq_of_lt h

variable (c : Dev nD)

/-- What a grid point copies: the tables, the point, its staged block and the contents of that block, of the row of
    zeros and of the result before the point. -/
structure Pt where
  fA : Buf (Elt F) ((c : Thread nD τ).loc main_arg1)
  fB : Buf (Elt F) ((c : Thread nD τ).loc main_arg2)
  t : Fin 33
  st : Memref sig .tc .vmem S512x1024 .f32
  x : Buf (Elt F) (st.view.loc (c : Thread nD τ))
  z : Buf (Elt F) ((c : Thread nD τ).loc cc0_scratch0)
  g : Buf (Elt F) ((c : Thread nD τ).loc main_v0)

variable {c}

namespace Pt

variable (p : Pt (F := F) c)

/-- The table word of row copy `m`, of pad copy `m`. -/
def wA (m : ℕ) : BitVec 32 := p.fA (Shape.Idx.ofFin (n := 33792) ⟨(1024 * p.t.val + m) % 33792, Nat.mod_lt _ (by decide)⟩)
def wB (m : ℕ) : BitVec 32 := p.fB (Shape.Idx.ofFin (n := 4096) ⟨(128 * p.t.val + m) % 4096, Nat.mod_lt _ (by decide)⟩)

/-- Every table word names a row of the result. -/
def Ranged : Prop := (∀ m, (p.wA m).toNat < 37888) ∧ ∀ m, (p.wB m).toNat < 37888

/-- The share of its source that copy `m` takes, and the row of the result it takes or holds at `f`. -/
abbrev rowSrc (m : ℕ) : sProp 𝕄 :=
  iprop((srcRow p.st (srcOf m)).view.loc (c : Thread nD τ) ↦[(srcRow p.st (srcOf m)).view.set]{Transfers.shareTokN fullShare m} p.x)
abbrev padSrc (m : ℕ) : sProp 𝕄 :=
  iprop((srcRow zeroM 0).view.loc (c : Thread nD τ) ↦[(srcRow zeroM 0).view.set]{Transfers.shareTokN fullShare m} p.z)
abbrev outAt (c : Dev nD) (d : Fin 37888) (f : Buf (Elt F) ((c : Thread nD τ).loc main_v0)) : sProp 𝕄 :=
  iprop((outRow d).view.loc (c : Thread nD τ) ↦[(outRow d).view.set]{fullShare} f)

/-- The result with `w` written to its row `d`. -/
def landed (c : Dev nD) (d : Fin 37888) (f : Buf (Elt F) ((c : Thread nD τ).loc main_v0)) (w : S1x1024.Idx → Elt F .f32) :
    Buf (Elt F) ((c : Thread nD τ).loc main_v0) := (outRow d).view.write (Elt F) f w Finset.univ
def rowIn (m : ℕ) : S1x1024.Idx → Elt F .f32 := (srcRow p.st (srcOf m)).view.read (Elt F) p.x
def padIn : S1x1024.Idx → Elt F .f32 := (srcRow zeroM 0).view.read (Elt F) p.z

/-- What copy `m` takes, and what it delivers. -/
def need (m : ℕ) : sProp 𝕄 :=
  if m < 1024 then iprop(p.rowSrc m ∗ outAt c (rowOf (p.wA m)) p.g)
  else iprop(p.padSrc (m - 1024) ∗ outAt c (rowOf (p.wB (m - 1024))) p.g)
def got (m : ℕ) : sProp 𝕄 :=
  if m < 1024 then iprop(outAt c (rowOf (p.wA m)) (landed c (rowOf (p.wA m)) p.g (p.rowIn m)) ∗ p.rowSrc m)
  else iprop(outAt c (rowOf (p.wB (m - 1024))) (landed c (rowOf (p.wB (m - 1024))) p.g p.padIn) ∗ p.padSrc (m - 1024))

/-- One row's credit on the semaphore. -/
def credit : ℕ := main_v0.dmaCredit S1x1024 .f32
theorem amount_outRow (d : Fin 37888) : (outRow d).view.amount (.dma semM) = credit := rfl

/-- With `j` of `n` copies issued: both tables held to read, the batch, what the copies still to come take, and `R`,
    which the copies leave alone. -/
def St (n : ℕ) (R : sProp 𝕄) (j : ℕ) : sProp 𝕄 :=
  iprop(((c : Thread nD τ).loc main_arg1 ↦{fullShare.right} p.fA) ∗ ((c : Thread nD τ).loc main_arg2 ↦{fullShare.right} p.fB)
    ∗ Transfers.Batch (countersEmb (U := Pipeline.UD sig nD τ)) (c : Thread nD τ) (.dma semM) () credit (fun m : Fin n => p.got m.val) j 0
    ∗ bigSep (Transfers.pending (n := n) j) (fun m => p.need m.val) ∗ R)

variable {p} {n : ℕ} {R : sProp (MT nD τ sig Unit (Elt F) ℕ (Pipeline.UD sig nD τ) ℕ)} {α : Type}

local notation "WP" => wp (M := MT nD τ sig Unit (Elt F) ℕ (Pipeline.UD sig nD τ) ℕ) frame (wpE (defs₀ (F := F)) Variants.none (c : Thread nD τ) none) Set.univ

theorem offA {i : grid0.Coords} {t j : ℕ} (hi : (i 0).val = t) (a b : BitVec 32) (hj : a.toNat + b.toNat = j) (hj' : j < 1024) (ht : t < 33) :
    (![(Scalar.indexCast (Scalar.addi (Scalar.addi (Scalar.muli (BitVec.ofNat 32 (i 0).val) 1024#32) a) b)).toNat] : Fin 1 → ℕ) = ![1024 * t + j] := by
  subst hi
  congr 1
  show ((BitVec.ofNat 32 (i 0).val * 1024#32 + a) + b).toNat = _
  simp only [BitVec.toNat_add, BitVec.toNat_mul, BitVec.toNat_ofNat]
  omega
theorem offB {i : grid0.Coords} {t j : ℕ} (hi : (i 0).val = t) (a : BitVec 32) (hj : a.toNat = j) (hj' : j < 128) (ht : t < 33) :
    (![(Scalar.indexCast (Scalar.addi (Scalar.muli (BitVec.ofNat 32 (i 0).val) 128#32) a)).toNat] : Fin 1 → ℕ) = ![128 * t + j] := by
  subst hi
  congr 1
  show (BitVec.ofNat 32 (i 0).val * 128#32 + a).toNat = _
  simp only [BitVec.toNat_add, BitVec.toNat_mul, BitVec.toNat_ofNat]
  omega
theorem chkA {w v : BitVec 32} (h : w = v) (hv : v.toNat < 37888) : ∀ a, (![w.toNat, 0] : Fin 2 → ℕ) a + S1x1024.size a ≤ S37888x1024.size a := by
  subst h
  intro a; fin_cases a
  · show w.toNat + 1 ≤ 37888; omega
  · show 0 + 1024 ≤ 1024; omega

theorem loadA {Q : α → sProp 𝕄} {j : ℕ} {off : Fin 1 → ℕ} {inb : ∀ a, off a + S1.size a ≤ S33792.size a} {hl}
    {k : ((Rect.unit (s := S33792) off S1.size inb).shape.Idx → Elt F .i32) → Prog (TpuEff nD τ sig (Elt F) Λ₀ .tc) α}
    (hj : j < 1024) (hoff : off = ![1024 * p.t.val + j])
    (hk : ∀ f : ((Rect.unit (s := S33792) off S1.size inb).shape.Idx → Elt F .i32), (∀ y, f y = p.wA j) → p.St n R j ⊢ WP (k f) Q) :
    p.St n R j ⊢ WP (.op (.load tabA (Rect.unit (s := S33792) off S1.size inb).toLoadRect hl) k) Q := by
  subst hoff
  have hf : ∀ y, (tabA.access (Rect.unit (s := S33792) ![1024 * p.t.val + j] S1.size inb)).read (Elt F) p.fA y = p.wA j := fun y => by
    refine congrArg p.fA (funext fun a => Fin.ext ?_)
    have ht := p.t.isLt
    fin_cases a
    have hy : (y 0).val = 0 := by have := (y 0).isLt; exact Nat.lt_one_iff.1 this
    show 1024 * p.t.val + j + 1 * (y 0).val = (1024 * p.t.val + j) % 33792
    rw [hy, Nat.mod_eq_of_lt (by omega), Nat.mul_zero, Nat.add_zero]
  unfold St
  iintro ⟨HA, HB, Hb, Hp, HR⟩
  iapply (wp_load_rect (m := tabA) (r := Rect.unit (s := S33792) ![1024 * p.t.val + j] S1.size inb) (f := p.fA) (q := fullShare.right)
    Variants.none (c : Thread nD τ) none Set.univ (S := Finset.univ) (Finset.subset_univ _)) $$ HA
  iintro HA
  iapply (hk _ hf)
  unfold St; isplitl [HA]; · iexact HA
  isplitl [HB]; · iexact HB
  isplitl [Hb]; · iexact Hb
  isplitl [Hp]; · iexact Hp
  iexact HR

theorem loadB {Q : α → sProp 𝕄} {j : ℕ} {off : Fin 1 → ℕ} {inb : ∀ a, off a + S1.size a ≤ S4096.size a} {hl}
    {k : ((Rect.unit (s := S4096) off S1.size inb).shape.Idx → Elt F .i32) → Prog (TpuEff nD τ sig (Elt F) Λ₀ .tc) α}
    (ht : p.t.val < 32) (hj : j < 128) (hoff : off = ![128 * p.t.val + j])
    (hk : ∀ f : ((Rect.unit (s := S4096) off S1.size inb).shape.Idx → Elt F .i32), (∀ y, f y = p.wB j) → p.St n R (1024 + j) ⊢ WP (k f) Q) :
    p.St n R (1024 + j) ⊢ WP (.op (.load tabB (Rect.unit (s := S4096) off S1.size inb).toLoadRect hl) k) Q := by
  subst hoff
  have hf : ∀ y, (tabB.access (Rect.unit (s := S4096) ![128 * p.t.val + j] S1.size inb)).read (Elt F) p.fB y = p.wB j := fun y => by
    refine congrArg p.fB (funext fun a => Fin.ext ?_)
    fin_cases a
    have hy : (y 0).val = 0 := by have := (y 0).isLt; exact Nat.lt_one_iff.1 this
    show 128 * p.t.val + j + 1 * (y 0).val = (128 * p.t.val + j) % 4096
    rw [hy, Nat.mod_eq_of_lt (by omega), Nat.mul_zero, Nat.add_zero]
  unfold St
  iintro ⟨HA, HB, Hb, Hp, HR⟩
  iapply (wp_load_rect (m := tabB) (r := Rect.unit (s := S4096) ![128 * p.t.val + j] S1.size inb) (f := p.fB) (q := fullShare.right)
    Variants.none (c : Thread nD τ) none Set.univ (S := Finset.univ) (Finset.subset_univ _)) $$ HB
  iintro HB
  iapply (hk _ hf)
  unfold St; isplitl [HA]; · iexact HA
  isplitl [HB]; · iexact HB
  isplitl [Hb]; · iexact Hb
  isplitl [Hp]; · iexact Hp
  iexact HR

theorem assumed {Q : α → sProp 𝕄} {P : Prop} {d : Decidable P} {k : PLift P → Prog (TpuEff nD τ sig (Elt F) Λ₀ .tc) α}
    (h : P) (hk : R ⊢ WP (k ⟨h⟩) Q) :
    R ⊢ WP (.op (.assume P d) k) Q :=
  hk.trans (wp_assume Variants.none (c : Thread nD τ) none Set.univ h)

theorem enqA {Q : α → sProp 𝕄} {j j' : ℕ} {w : BitVec 32} {off off' : Fin 2 → ℕ} {inb : ∀ a, off a + S1x1024.size a ≤ S37888x1024.size a}
    {inb' : ∀ a, off' a + S1x1024.size a ≤ S512x1024.size a} {hst hst' hx hx' ht}
    {k : PUnit → Prog (TpuEff nD τ sig (Elt F) Λ₀ .tc) α}
    (hw : w = p.wA j) (hr : p.Ranged) (hj : j < 1024) (hn : j < n) (hoff : off = ![w.toNat, 0]) (hoff' : off' = ![j / 2 % 512, 0])
    (hj' : j + 1 = j') (hk : p.St n R j' ⊢ WP (k ⟨⟩) Q) :
    p.St n R j ⊢ WP (.op (.enqueueDmaAs (p.st.slice (Rect.unit (s := S512x1024) off' S1x1024.size inb') hst')
      (.here (outM.slice (Rect.unit (s := S37888x1024) off S1x1024.size inb) hst)) .same (.dma semM) hx hx' ht) k) Q := by
  subst hw hj'
  obtain rfl : off = ![(rowOf (p.wA j)).val, 0] := by rw [hoff, rowOf_val (hr.1 j)]
  subst hoff'
  unfold St
  iintro ⟨HA, HB, Hb, Hp, HR⟩
  ihave Hp' := (show bigSep (Transfers.pending (n := n) j) (fun m : Fin n => p.need m.val)
      ⊢ iprop(p.need j ∗ bigSep (Transfers.pending (j + 1)) (fun m : Fin n => p.need m.val))
    from Entails.of_eq (Transfers.bigSep_pending_step (fun m : Fin n => p.need m.val) j hn)) $$ Hp
  icases Hp' with ⟨Hm, Hp⟩
  ihave Hm' := (show p.need j ⊢ iprop(p.rowSrc j ∗ outAt c (rowOf (p.wA j)) p.g) from Entails.of_eq (if_pos hj)) $$ Hm
  icases Hm' with ⟨Hs, Hd⟩
  have hstep := (Transfers.wp_dmaBatch (countersEmb (U := Pipeline.UD sig nD τ)) (defs := defs₀ (F := F)) (Q := Q) (k := k) Variants.none (c : Thread nD τ) none
    (hsrc := hx) (hdst := hx') (hsem := ht) (via := .same) (sm := .dma semM)
    (src := srcRow p.st (srcOf j)) (dst := outRow (rowOf (p.wA j))) (q := Transfers.shareTokN fullShare j) (fs := p.x) (fd := p.g)
    (Sd := (outRow (rowOf (p.wA j))).view.set) (D := fun m : Fin n => p.got m.val)
    () credit (amount_outRow _) (Finset.Subset.refl _) hn (Nat.zero_le _) (Entails.of_eq (if_pos hj).symm))
  iapply hstep $$ [Hs Hd Hb]
  · isplitl [Hs]; · iexact Hs
    isplitl [Hd]; · iexact Hd
    iexact Hb
  iintro Hb
  iapply hk
  unfold St; isplitl [HA]; · iexact HA
  isplitl [HB]; · iexact HB
  isplitl [Hb]; · iexact Hb
  isplitl [Hp]; · iexact Hp
  iexact HR

theorem enqB {Q : α → sProp 𝕄} {j j' : ℕ} {w : BitVec 32} {off off' : Fin 2 → ℕ} {inb : ∀ a, off a + S1x1024.size a ≤ S37888x1024.size a}
    {inb' : ∀ a, off' a + S1x1024.size a ≤ S512x1024.size a} {hst hst' hx hx' ht}
    {k : PUnit → Prog (TpuEff nD τ sig (Elt F) Λ₀ .tc) α}
    (hw : w = p.wB j) (hr : p.Ranged) (hn : 1024 + j < n) (hoff : off = ![w.toNat, 0]) (hoff' : off' = ![0, 0])
    (hj' : j + 1 = j') (hk : p.St n R (1024 + j') ⊢ WP (k ⟨⟩) Q) :
    p.St n R (1024 + j) ⊢ WP (.op (.enqueueDmaAs (zeroM.slice (Rect.unit (s := S512x1024) off' S1x1024.size inb') hst')
      (.here (outM.slice (Rect.unit (s := S37888x1024) off S1x1024.size inb) hst)) .same (.dma semM) hx hx' ht) k) Q := by
  subst hw hj'
  obtain rfl : off = ![(rowOf (p.wB j)).val, 0] := by rw [hoff, rowOf_val (hr.2 j)]
  subst hoff'
  have hneed : p.need (1024 + j) = iprop(p.padSrc j ∗ outAt c (rowOf (p.wB j)) p.g) := by
    rw [need, if_neg (by omega), Nat.add_sub_cancel_left]
  have hgot : p.got (1024 + j) = iprop(outAt c (rowOf (p.wB j)) (landed c (rowOf (p.wB j)) p.g p.padIn) ∗ p.padSrc j) := by
    rw [got, if_neg (by omega), Nat.add_sub_cancel_left]
  unfold St
  iintro ⟨HA, HB, Hb, Hp, HR⟩
  ihave Hp' := (show bigSep (Transfers.pending (n := n) (1024 + j)) (fun m : Fin n => p.need m.val)
      ⊢ iprop(p.need (1024 + j) ∗ bigSep (Transfers.pending (1024 + j + 1)) (fun m : Fin n => p.need m.val))
    from Entails.of_eq (Transfers.bigSep_pending_step (fun m : Fin n => p.need m.val) _ hn)) $$ Hp
  icases Hp' with ⟨Hm, Hp⟩
  ihave Hm' := (Entails.of_eq hneed) $$ Hm
  icases Hm' with ⟨Hs, Hd⟩
  have hstep := (Transfers.wp_dmaBatch (countersEmb (U := Pipeline.UD sig nD τ)) (defs := defs₀ (F := F)) (Q := Q) (k := k) Variants.none (c : Thread nD τ) none
    (hsrc := hx) (hdst := hx') (hsem := ht) (via := .same) (sm := .dma semM)
    (src := srcRow zeroM 0) (dst := outRow (rowOf (p.wB j))) (q := Transfers.shareTokN fullShare j) (fs := p.z) (fd := p.g)
    (Sd := (outRow (rowOf (p.wB j))).view.set) (D := fun m : Fin n => p.got m.val)
    () credit (amount_outRow _) (Finset.Subset.refl _) hn (Nat.zero_le _) (Entails.of_eq hgot.symm))
  iapply hstep $$ [Hs Hd Hb]
  · isplitl [Hs]; · iexact Hs
    isplitl [Hd]; · iexact Hd
    iexact Hb
  iintro Hb
  iapply hk
  unfold St; isplitl [HA]; · iexact HA
  isplitl [HB]; · iexact HB
  isplitl [Hb]; · iexact Hb
  isplitl [Hp]; · iexact Hp
  iexact HR

/-- The copies all issued, `u` of their credit waited for. -/
def Dr (p : Pt (F := F) c) (n : ℕ) (R : sProp 𝕄) (u : ℕ) : sProp 𝕄 :=
  iprop(Transfers.Batch (countersEmb (U := Pipeline.UD sig nD τ)) (c : Thread nD τ) (.dma semM) () credit (fun m : Fin n => p.got m.val) n u
    ∗ (∃ W, owes (c : Thread nD τ) 0 W) ∗ R)

/-- A loop of `N` waits, each for one row. -/
theorem drain {Q : α → sProp 𝕄} {loop : Scf.Loop 32} {hok : loop.OK} {u N : ℕ} {sw : Memref sig .tc .vmem S1x1024 .f32}
    {dw : Memref sig .tc .hbm S1x1024 .f32} {hs : sw.view.WordExact} {hd : dw.view.WordExact} {k : PUnit → Prog (TpuEff nD τ sig (Elt F) Λ₀ .tc) α}
    (hN : loop.trips = N) (hJ : dw.view.dmaCredit = credit) (hu : u + N * credit ≤ credit * n)
    (hk : Dr p n R (u + N * credit) ⊢ WP (k ⟨⟩) Q) :
    Dr p n R u ⊢ WP (Scf.Loop.for loop hok ⟨⟩ (fun _ _ => Prog.op (.waitDma2 semM sw dw hs hd) fun _ => .ret ⟨⟩) >>= k) Q := by
  subst hN
  have h := Scf.wp_for_bind (M := 𝕄) frame (wpE (defs₀ (F := F)) Variants.none (c : Thread nD τ) none) Set.univ loop.lb loop.ub loop.st hok (⟨⟩ : PUnit)
    (fun _ _ => Prog.op (.waitDma2 semM sw dw hs hd) fun _ => .ret ⟨⟩) (fun m _ => Dr p n R (u + m * credit)) (by
      intro m acc
      unfold Dr
      iintro ⟨Hb, ⟨%W, HO⟩, HR⟩
      have hm := m.isLt
      have hw := Transfers.wp_waitBatchMul (countersEmb (U := Pipeline.UD sig nD τ)) (defs := defs₀ (F := F)) Variants.none (c : Thread nD τ) none
        (sem := semM) (srcw := sw) (dstw := dw) (hsrc := hs) (hdst := hd) (k := fun _ => .ret (⟨⟩ : PUnit)) () 1 (hJ.trans (Nat.one_mul _).symm)
        (D := fun m : Fin n => p.got m.val) (j := n) (u := u + m.val * credit)
        (Q := fun _ => Dr p n R (u + (m.val + 1) * credit))
        (hu := by
          have : (m.val + 1) * credit ≤ loop.trips * credit := Nat.mul_le_mul_right _ hm
          rw [Nat.add_mul] at this; omega) (W := W)
      iapply hw $$ [Hb HO]
      · isplitl [Hb]; · iexact Hb
        iexact HO
      iintro ⟨Hb, HO⟩
      rw [wp_ret]
      imodintro
      unfold Dr
      isplitl [Hb]
      · rw [Nat.add_mul, ← Nat.add_assoc]; iexact Hb
      isplitl [HO]; · iexists _; iexact HO
      iexact HR) (kk := k) (Q := Q)
  iintro HD
  iapply h $$ [HD]
  · rw [Nat.zero_mul, Nat.add_zero]; iexact HD
  iintro %acc HD
  iapply hk; iexact HD

/-- With every copy issued the batch is what the waits drain. -/
theorem St_Dr (R' : sProp 𝕄) :
    p.St n iprop((∃ W, owes (c : Thread nD τ) 0 W) ∗ R') n
      ⊢ Dr p n iprop(((c : Thread nD τ).loc main_arg1 ↦{fullShare.right} p.fA) ∗ ((c : Thread nD τ).loc main_arg2 ↦{fullShare.right} p.fB) ∗ R') 0 := by
  unfold St Dr
  iintro ⟨HA, HB, Hb, Hp, HO, HR⟩
  isplitl [Hb]; · iexact Hb
  isplitl [HO]; · iexact HO
  isplitl [HA]; · iexact HA
  isplitl [HB]; · iexact HB
  iexact HR

end Pt
end Cert.KernelIdeal.Disp
end
-- ==== Proof.RunA.lean ====
/-
  The start of the kernel's text: the rows of zeros, which the first grid point writes, and the first 276 row copies.
-/
module

public import proofs.«01_k».proof.Proof.Steps

@[expose] public section

noncomputable section

namespace Cert.KernelIdeal.Disp.Pt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ
variable {c : Dev nD} {p : Pt (F := F) c} {n : ℕ} {R : sProp (MT nD τ sig Unit (Elt F) ℕ (Pipeline.UD sig nD τ) ℕ)} {α β γ δ : Type}
local notation "WP" => wp (M := MT nD τ sig Unit (Elt F) ℕ (Pipeline.UD sig nD τ) ℕ) frame (wpE (defs₀ (F := F)) Variants.none (c : Thread nD τ) none) Set.univ

/-- The rows of zeros. -/
def zeros (c : Dev nD) : Buf (Elt F) ((c : Thread nD τ).loc cc0_scratch0) := fun _ => Scalar.ofBits .f32 0x00000000#32

/-- A conditional with nothing on its second branch: what follows it is proved once. -/
theorem when2 {Q : α → sProp 𝕄} {S S' : sProp 𝕄} (P : Prop) [d : Decidable P] {A : P → Prog (TpuEff nD τ sig (Elt F) Λ₀ .tc) β}
    {J : Prog (TpuEff nD τ sig (Elt F) Λ₀ .tc) β} {k : β → Prog (TpuEff nD τ sig (Elt F) Λ₀ .tc) γ}
    {K : γ → Prog (TpuEff nD τ sig (Elt F) Λ₀ .tc) α}
    (hA : ∀ h : P, (S' ⊢ WP ((J >>= k) >>= K) Q) → S ⊢ WP ((A h >>= k) >>= K) Q) (hB : ¬P → S ⊢ S')
    (hJ : S' ⊢ WP ((J >>= k) >>= K) Q) : S ⊢ WP ((dite P A (fun _ => J) >>= k) >>= K) Q := by
  by_cases h : P
  · rw [dif_pos h]; exact hA h hJ
  · rw [dif_neg h]; exact (hB h).trans hJ

theorem loadZ {Q : α → sProp 𝕄} {S : sProp 𝕄} {z : Buf (Elt F) ((c : Thread nD τ).loc cc0_scratch0)} {inb hl}
    {k : _ → Prog (TpuEff nD τ sig (Elt F) Λ₀ .tc) α}
    (hk : ∀ x, iprop(((c : Thread nD τ).loc cc0_scratch0 ↦{fullShare} z) ∗ S) ⊢ WP (k x) Q) :
    iprop(((c : Thread nD τ).loc cc0_scratch0 ↦{fullShare} z) ∗ S)
      ⊢ WP (.op (.load zeroM (Rect.unit (s := S512x1024) ![0, 0] S512x1024.size inb).toLoadRect hl) k) Q := by
  iintro ⟨HZ, HS⟩
  iapply (wp_load_rect (m := zeroM) (r := Rect.unit (s := S512x1024) ![0, 0] S512x1024.size inb) (f := z) (q := fullShare)
    Variants.none (c : Thread nD τ) none Set.univ (S := Finset.univ) (Finset.subset_univ _)) $$ HZ
  iintro HZ
  iapply (hk _)
  isplitl [HZ]; · iexact HZ
  iexact HS

theorem storeZ {Q : α → sProp 𝕄} {S : sProp 𝕄} {z : Buf (Elt F) ((c : Thread nD τ).loc cc0_scratch0)} {inb}
    {w : S512x1024.Idx → Elt F .f32} {hx hm} {k : PUnit → Prog (TpuEff nD τ sig (Elt F) Λ₀ .tc) α} (hw : w = zeros c)
    (hk : iprop(((c : Thread nD τ).loc cc0_scratch0 ↦{fullShare} zeros c) ∗ S) ⊢ WP (k ⟨⟩) Q) :
    iprop(((c : Thread nD τ).loc cc0_scratch0 ↦{fullShare} z) ∗ S)
      ⊢ WP (.op (.store zeroM (Rect.unit (s := S512x1024) ![0, 0] S512x1024.size inb) w Finset.univ hx hm) k) Q := by
  iintro ⟨HZ, HS⟩
  iapply (wp_store (m := zeroM) (r := Rect.unit (s := S512x1024) ![0, 0] S512x1024.size inb) (w := w) (f := z) (hx := hx) (hm := hm) (k := k)
    Variants.none (c : Thread nD τ) none Set.univ (S := Finset.univ) (Finset.subset_univ _)) $$ HZ
  iintro HZ
  iapply hk
  isplitl [HZ]
  · rw [← hw]
    have h := Memref.write_access_unit_zero_univ (Elt F) cc0_scratch0 (off := ![0, 0]) (by funext a; fin_cases a <;> rfl) inb z w
    refine BIBase.Entails.trans ?_ .rfl
    exact BIBase.Entails.of_eq (congrArg (fun f => pointsTo ((c : Thread nD τ).loc cc0_scratch0) Finset.univ fullShare f) h)
  iexact HS

set_option maxRecDepth 100000
set_option maxHeartbeats 0

theorem run246 {Q : α → sProp 𝕄} {S : sProp 𝕄} {z : Buf (Elt F) ((c : Thread nD τ).loc cc0_scratch0)} {i : grid0.Coords}
    {harg1 harg2 harg3 harg4 harg5} (K : _ → Prog (TpuEff nD τ sig (Elt F) Λ₀ .tc) α)
    (hi : (i 0).val = p.t.val) (hr : p.Ranged) (hn : 1024 ≤ n) (hz : (i 0).val ≠ 0 → z = zeros c)
    (hS : iprop(((c : Thread nD τ).loc cc0_scratch0 ↦{fullShare} zeros c) ∗ S) ⊢ |={Set.univ}=> p.St n R 0)
    (hK : p.St n R 276 ⊢ WP (K ⟨BitVec.ofNat 32 (i 0).val, (Scalar.muli (BitVec.ofNat 32 (i 0).val) 1024#32), Scalar.addi (Scalar.muli (BitVec.ofNat 32 (i 0).val) 1024#32) 276#32, 0#32⟩) Q) :
    iprop(((c : Thread nD τ).loc cc0_scratch0 ↦{fullShare} z) ∗ S)
      ⊢ WP (k0_part246 i tabA harg1 tabB harg2 p.st harg3 outM harg4 zeroM harg5 cc0_scratch1 >>= K) Q := by
  refine when2 (Scalar.cmpi .ne (Scalar.extui (Scalar.cmpi .eq (BitVec.ofNat 32 (i 0).val) 0#32)) 0#32 = 1#1)
    (S' := iprop(((c : Thread nD τ).loc cc0_scratch0 ↦{fullShare} zeros c) ∗ S)) (fun h hJ => ?_) (fun h => ?_) ?_
  · refine loadZ fun _ => storeZ rfl ?_
    exact hJ
  · rw [hz fun h0 => h (by rw [h0]; decide)]
  refine hS.trans ((fupd_mono ?_).trans (fupd_wp _ _ _ _ _))
  iterate 276
    refine loadA (by decide) (offA hi _ _ rfl (by decide) p.t.isLt) fun f hf => assumed (chkA (hf _) (hr.1 _))
      (enqA (hf _) hr (by decide) (by omega) rfl rfl (by simp only [Nat.reduceAdd]; rfl) ?_)
    clear f hf
  exact hK

end Cert.KernelIdeal.Disp.Pt

end
-- ==== Proof.RunB.lean ====
/-
  Row copies 276 to 552.
-/
module

public import proofs.«01_k».proof.Proof.Steps

@[expose] public section

noncomputable section

namespace Cert.KernelIdeal.Disp.Pt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ
variable {c : Dev nD} {p : Pt (F := F) c} {n : ℕ} {R : sProp (MT nD τ sig Unit (Elt F) ℕ (Pipeline.UD sig nD τ) ℕ)} {α β γ δ : Type}
local notation "WP" => wp (M := MT nD τ sig Unit (Elt F) ℕ (Pipeline.UD sig nD τ) ℕ) frame (wpE (defs₀ (F := F)) Variants.none (c : Thread nD τ) none) Set.univ

set_option maxRecDepth 100000
set_option maxHeartbeats 0

theorem run247 {Q : α → sProp 𝕄} {i : grid0.Coords} {harg1 harg2 harg3 harg4 harg5} (K : BitVec 32 → Prog (TpuEff nD τ sig (Elt F) Λ₀ .tc) α)
    (hi : (i 0).val = p.t.val) (hr : p.Ranged) (hn : 1024 ≤ n)
    (hK : p.St n R 553 ⊢ WP (K (Scalar.addi (Scalar.muli (BitVec.ofNat 32 (i 0).val) 1024#32) 552#32)) Q) :
    p.St n R 276 ⊢ WP (k0_part247 i tabA harg1 tabB harg2 p.st harg3 outM harg4 zeroM harg5 cc0_scratch1 (Scalar.muli (BitVec.ofNat 32 (i 0).val) 1024#32)
      (Scalar.addi (Scalar.muli (BitVec.ofNat 32 (i 0).val) 1024#32) 276#32) 0#32 >>= K) Q := by
  iterate 277
    refine loadA (by decide) (offA hi _ _ rfl (by decide) p.t.isLt) fun f hf => assumed (chkA (hf _) (hr.1 _))
      (enqA (hf _) hr (by decide) (by omega) rfl rfl (by simp only [Nat.reduceAdd]; rfl) ?_)
    clear f hf
  exact hK

end Cert.KernelIdeal.Disp.Pt

end
-- ==== Proof.RunC.lean ====
/-
  Row copies 553 to 829.
-/
module

public import proofs.«01_k».proof.Proof.Steps

@[expose] public section

noncomputable section

namespace Cert.KernelIdeal.Disp.Pt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ
variable {c : Dev nD} {p : Pt (F := F) c} {n : ℕ} {R : sProp (MT nD τ sig Unit (Elt F) ℕ (Pipeline.UD sig nD τ) ℕ)} {α β γ δ : Type}
local notation "WP" => wp (M := MT nD τ sig Unit (Elt F) ℕ (Pipeline.UD sig nD τ) ℕ) frame (wpE (defs₀ (F := F)) Variants.none (c : Thread nD τ) none) Set.univ

set_option maxRecDepth 100000
set_option maxHeartbeats 0

theorem run248 {Q : α → sProp 𝕄} {i : grid0.Coords} {harg1 harg2 harg3 harg4 harg5} (K : BitVec 32 → Prog (TpuEff nD τ sig (Elt F) Λ₀ .tc) α)
    (hi : (i 0).val = p.t.val) (hr : p.Ranged) (hn : 1024 ≤ n)
    (hK : p.St n R 830 ⊢ WP (K 830#32) Q) :
    p.St n R 553 ⊢ WP (k0_part248 i tabA harg1 tabB harg2 p.st harg3 outM harg4 zeroM harg5 cc0_scratch1 (Scalar.muli (BitVec.ofNat 32 (i 0).val) 1024#32)
      (Scalar.addi (Scalar.muli (BitVec.ofNat 32 (i 0).val) 1024#32) 552#32) >>= K) Q := by
  iterate 277
    refine loadA (by decide) (offA hi _ _ rfl (by decide) p.t.isLt) fun f hf => assumed (chkA (hf _) (hr.1 _))
      (enqA (hf _) hr (by decide) (by omega) rfl rfl (by simp only [Nat.reduceAdd]; rfl) ?_)
    clear f hf
  exact hK

end Cert.KernelIdeal.Disp.Pt

end
-- ==== Proof.Run.lean ====
/-
  The kernel's whole text at one grid point: the last row copies, the copies of zeros to the pad rows where the point
  has any, and the waits.
-/
module

public import proofs.«01_k».proof.Proof.RunA
public import proofs.«01_k».proof.Proof.RunB
public import proofs.«01_k».proof.Proof.RunC

@[expose] public section

noncomputable section

namespace Cert.KernelIdeal.Disp.Pt

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ
variable {c : Dev nD} {p : Pt (F := F) c} {n : ℕ} {R : sProp (MT nD τ sig Unit (Elt F) ℕ (Pipeline.UD sig nD τ) ℕ)} {α β γ δ : Type}
local notation "WP" => wp (M := MT nD τ sig Unit (Elt F) ℕ (Pipeline.UD sig nD τ) ℕ) frame (wpE (defs₀ (F := F)) Variants.none (c : Thread nD τ) none) Set.univ

theorem pick {Q : α → sProp 𝕄} {S : sProp 𝕄} (P : Prop) [d : Decidable P] {A : P → Prog (TpuEff nD τ sig (Elt F) Λ₀ .tc) α}
    {B : ¬P → Prog (TpuEff nD τ sig (Elt F) Λ₀ .tc) α} (h : P) (hA : S ⊢ WP (A h) Q) : S ⊢ WP (dite P A B) Q := by
  rw [dif_pos h]; exact hA
theorem skip {Q : α → sProp 𝕄} {S : sProp 𝕄} (P : Prop) [d : Decidable P] {A : P → Prog (TpuEff nD τ sig (Elt F) Λ₀ .tc) α}
    {B : ¬P → Prog (TpuEff nD τ sig (Elt F) Λ₀ .tc) α} (h : ¬P) (hB : S ⊢ WP (B h) Q) : S ⊢ WP (dite P A B) Q := by
  rw [dif_neg h]; exact hB

theorem wp_of_ret {Q : PUnit → sProp 𝕄} {S : sProp 𝕄} (h : S ⊢ |={Set.univ}=> Q ⟨⟩) : S ⊢ WP (.ret ⟨⟩) Q := by
  rw [wp_ret]; exact h

set_option maxRecDepth 100000
set_option maxHeartbeats 0

theorem runRows {Q : PUnit → sProp 𝕄} {S R : sProp 𝕄} {z : Buf (Elt F) ((c : Thread nD τ).loc cc0_scratch0)} {i : grid0.Coords}
    {harg1 harg2 harg3 harg4 harg5} (hi : (i 0).val = p.t.val) (hr : p.Ranged) (h2 : ¬k0_cond2 i = 1#1)
    (hz : (i 0).val ≠ 0 → z = zeros c)
    (hS : iprop(((c : Thread nD τ).loc cc0_scratch0 ↦{fullShare} zeros c) ∗ S)
      ⊢ |={Set.univ}=> p.St 1024 iprop((∃ W, owes (c : Thread nD τ) 0 W) ∗ R) 0)
    (hK : Dr p 1024 iprop(((c : Thread nD τ).loc main_arg1 ↦{fullShare.right} p.fA) ∗ ((c : Thread nD τ).loc main_arg2 ↦{fullShare.right} p.fB) ∗ R)
      (credit * 1024) ⊢ |={Set.univ}=> Q ⟨⟩) :
    iprop(((c : Thread nD τ).loc cc0_scratch0 ↦{fullShare} z) ∗ S)
      ⊢ WP (cc0_moe_dispatch i tabA harg1 tabB harg2 p.st harg3 outM harg4 zeroM harg5 cc0_scratch1) Q := by
  refine run246 (n := 1024) _ hi hr (by decide) hz hS (run247 _ hi hr (by decide) (run248 _ hi hr (by decide) ?_))
  iterate 194
    refine loadA (by decide) (offA hi _ _ rfl (by decide) p.t.isLt) fun f hf => assumed (chkA (hf _) (hr.1 _))
      (enqA (hf _) hr (by decide) (by omega) rfl rfl (by simp only [Nat.reduceAdd]; rfl) ?_)
    clear f hf
  refine skip _ h2 ?_
  refine (St_Dr R).trans ?_
  refine drain (N := 1024) (by decide) rfl (by omega) ?_
  refine BIBase.Entails.trans ?_ (wp_of_ret hK)
  rw [show 0 + 1024 * credit = credit * 1024 by omega]

theorem runPads {Q : PUnit → sProp 𝕄} {S R : sProp 𝕄} {z : Buf (Elt F) ((c : Thread nD τ).loc cc0_scratch0)} {i : grid0.Coords}
    {harg1 harg2 harg3 harg4 harg5} (hi : (i 0).val = p.t.val) (hr : p.Ranged) (h2 : k0_cond2 i = 1#1) (ht : p.t.val < 32)
    (hz : (i 0).val ≠ 0 → z = zeros c)
    (hS : iprop(((c : Thread nD τ).loc cc0_scratch0 ↦{fullShare} zeros c) ∗ S)
      ⊢ |={Set.univ}=> p.St 1152 iprop((∃ W, owes (c : Thread nD τ) 0 W) ∗ R) 0)
    (hK : Dr p 1152 iprop(((c : Thread nD τ).loc main_arg1 ↦{fullShare.right} p.fA) ∗ ((c : Thread nD τ).loc main_arg2 ↦{fullShare.right} p.fB) ∗ R)
      (credit * 1152) ⊢ |={Set.univ}=> Q ⟨⟩) :
    iprop(((c : Thread nD τ).loc cc0_scratch0 ↦{fullShare} z) ∗ S)
      ⊢ WP (cc0_moe_dispatch i tabA harg1 tabB harg2 p.st harg3 outM harg4 zeroM harg5 cc0_scratch1) Q := by
  refine run246 (n := 1152) _ hi hr (by decide) hz hS (run247 _ hi hr (by decide) (run248 _ hi hr (by decide) ?_))
  iterate 194
    refine loadA (by decide) (offA hi _ _ rfl (by decide) p.t.isLt) fun f hf => assumed (chkA (hf _) (hr.1 _))
      (enqA (hf _) hr (by decide) (by omega) rfl rfl (by simp only [Nat.reduceAdd]; rfl) ?_)
    clear f hf
  refine pick _ h2 ?_
  show p.St 1152 _ (1024 + 0) ⊢ _
  iterate 128
    refine loadB ht (by decide) (offB hi _ rfl (by decide) p.t.isLt) fun f hf => assumed (fun _ => chkA (hf _) (hr.2 _))
      (enqB (hf _) hr (by decide) rfl rfl (by simp only [Nat.reduceAdd]; rfl) ?_)
    clear f hf
  show p.St 1152 _ 1152 ⊢ _
  refine (St_Dr R).trans ?_
  refine drain (N := 128) (by decide) rfl (by omega) ?_
  refine drain (N := 1024) (by decide) rfl (by omega) ?_
  refine BIBase.Entails.trans ?_ (wp_of_ret hK)
  rw [show 0 + 128 * credit + 1024 * credit = credit * 1152 by omega]

end Cert.KernelIdeal.Disp.Pt

end
-- ==== Proof.Rows.lean ====
/-
  The result held row by row, in the order the copies write it: position `k` of `[dest, pad_rows]` names row `pos k`, and a
  grid point owns the positions `pt k = t`. A buffer dealt into read tokens, one piece per token.
-/
module

public import proofs.«01_k».proof.Proof.Steps

@[expose] public section

noncomputable section

namespace Cert.KernelIdeal.Disp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What is left of a buffer dealt into `N` read tokens of which token `m` keeps the elements `T m`. -/
def left {ℓ : Loc nD τ sig} (S : Finset (Idx ℓ)) (N : ℕ) (T : ℕ → Finset (Idx ℓ)) (f : Buf (Elt F) ℓ) : sProp 𝕄 :=
  iprop((ℓ ↦[S]{Transfers.shareDrop fullShare N} f)
    ∗ bigSep (Finset.range N) fun m => ℓ ↦[S \ T m]{Transfers.shareTokN fullShare m} f)

theorem tokens {ℓ : Loc nD τ sig} (S : Finset (Idx ℓ)) (N : ℕ) (T : ℕ → Finset (Idx ℓ)) (hT : ∀ m, T m ⊆ S) (f : Buf (Elt F) ℓ) :
    (ℓ ↦[S]{fullShare} f : sProp 𝕄)
      = iprop((bigSep (Finset.range N) fun m => ℓ ↦[T m]{Transfers.shareTokN fullShare m} f) ∗ left S N T f) := by
  have h := Transfers.pointsTo_toks_range (nD := nD) (τ := τ) (sig := sig) (Ix := Unit) (Val := Elt F) (Name := ℕ)
    (U := Pipeline.UD sig nD τ) (Lvl := ℕ) (ℓ := ℓ) (S := S) (f := f) fullShare N
  have hs : ∀ m, (ℓ ↦[S]{Transfers.shareTokN fullShare m} f : sProp 𝕄)
      = iprop((ℓ ↦[T m]{Transfers.shareTokN fullShare m} f) ∗ (ℓ ↦[S \ T m]{Transfers.shareTokN fullShare m} f)) := fun m =>
    have h := pointsTo_split_subset (nD := nD) (τ := τ) (sig := sig) (Ix := Unit) (Val := Elt F) (Name := ℕ)
      (U := Pipeline.UD sig nD τ) (Lvl := ℕ) (ℓ := ℓ) (q := Transfers.shareTokN fullShare m) (f := f) (hT m)
    BI.Entails.antisymm h.1 h.2
  rw [BI.Entails.antisymm h.1 h.2, bigSep_congr (fun m _ => hs m), bigSep_sep']
  unfold left
  exact BI.Entails.antisymm (sep_left_comm (PROP := sProp 𝕄)).1 (sep_left_comm (PROP := sProp 𝕄)).2

/-! ## The rows by position -/

variable (fA : S33792.Idx → BitVec 32) (fB : S4096.Idx → BitVec 32)

/-- The word at position `k` of the two tables laid end to end, and the row it names. -/
def word (k : Fin 37888) : BitVec 32 :=
  if h : k.val < 33792 then fA (Shape.Idx.ofFin (n := 33792) ⟨k.val, h⟩)
  else fB (Shape.Idx.ofFin (n := 4096) ⟨k.val - 33792, by have := k.isLt; omega⟩)
def pos (k : Fin 37888) : Fin 37888 := rowOf (word fA fB k)

/-- Every word names a row, and every row is named once. -/
structure Named : Prop where
  lt : ∀ k, (word fA fB k).toNat < 37888
  bij : Function.Bijective (pos fA fB)

/-- The grid point that copies position `k`, the number of copies of point `t`, and its copies' positions. -/
def pt (k : Fin 37888) : ℕ := if k.val < 33792 then k.val / 1024 else (k.val - 33792) / 128
def at_ (t m : ℕ) : Fin 37888 := ⟨(if m < 1024 then 1024 * t + m else 33792 + 128 * t + (m - 1024)) % 37888, Nat.mod_lt _ (by decide)⟩

/-- `n` is the number of copies of point `t`. -/
def Copies (t n : ℕ) : Prop := t < 32 ∧ n = 1152 ∨ t = 32 ∧ n = 1024

variable {t n : ℕ}

theorem at_val (h : Copies t n) {m : ℕ} (hm : m < n) :
    (at_ t m).val = if m < 1024 then 1024 * t + m else 33792 + 128 * t + (m - 1024) := by
  refine Nat.mod_eq_of_lt ?_
  unfold Copies at h
  split <;> omega

theorem image_at (h : Copies t n) : (Finset.univ : Finset (Fin n)).image (fun m => at_ t m.val) = Finset.univ.filter fun k => pt k = t := by
  ext k
  simp only [Finset.mem_image, Finset.mem_univ, true_and, Finset.mem_filter]
  have hk := k.isLt
  constructor
  · rintro ⟨m, rfl⟩
    unfold pt
    rw [at_val h m.isLt]
    have hm := m.isLt
    unfold Copies at h
    split <;> split <;> omega
  · intro hp
    unfold pt at hp
    by_cases hk' : k.val < 33792
    · rw [if_pos hk'] at hp
      have hm : k.val % 1024 < n := by unfold Copies at h; omega
      refine ⟨⟨k.val % 1024, hm⟩, Fin.ext ?_⟩
      rw [at_val h hm, if_pos (by omega)]; omega
    · rw [if_neg hk'] at hp
      have hm : 1024 + (k.val - 33792) % 128 < n := by unfold Copies at h; omega
      refine ⟨⟨1024 + (k.val - 33792) % 128, hm⟩, Fin.ext ?_⟩
      rw [at_val h hm, if_neg (by omega)]; omega

theorem at_inj (h : Copies t n) : Set.InjOn (fun m : Fin n => at_ t m.val) (Finset.univ : Finset (Fin n)) := by
  intro a _ b _ hab
  have hv := congrArg Fin.val hab
  have ha := a.isLt
  have hb := b.isLt
  simp only [at_val h a.isLt, at_val h b.isLt] at hv
  apply Fin.ext
  unfold Copies at h
  split at hv <;> split at hv <;> omega

variable (c : Dev nD) (g X : Buf (Elt F) ((c : Thread nD τ).loc main_v0))

/-- The result at the start of point `t`: the rows of the points before it at `X`, the others at `g`. -/
def rows (t : ℕ) : sProp 𝕄 := bigSep Finset.univ fun k : Fin 37888 => Pt.outAt c (pos fA fB k) (if pt k < t then X else g)
/-- Of those the rows point `t` does not write. -/
def others (t : ℕ) : sProp 𝕄 :=
  bigSep (Finset.univ.filter fun k : Fin 37888 => ¬pt k = t) fun k => Pt.outAt c (pos fA fB k) (if pt k < t then X else g)

theorem rows_take (h : Copies t n) :
    rows fA fB c g X t = iprop((bigSep Finset.univ fun m : Fin n => Pt.outAt c (pos fA fB (at_ t m.val)) g) ∗ others fA fB c g X t) := by
  have hlt : ∀ m : Fin n, ¬pt (at_ t m.val) < t := fun m => by
    have := Finset.mem_filter.1 (image_at h ▸ Finset.mem_image_of_mem (fun m : Fin n => at_ t m.val) (Finset.mem_univ m))
    omega
  unfold rows others
  rw [bigSep_filter_split Finset.univ (fun k => pt k = t), ← image_at h, bigSep_image_of_injOn (at_inj h)]
  exact congrArg₂ _ (bigSep_congr fun m _ => by rw [if_neg (hlt m)]) rfl

theorem rows_give (h : Copies t n) :
    rows fA fB c g X (t + 1) = iprop((bigSep Finset.univ fun m : Fin n => Pt.outAt c (pos fA fB (at_ t m.val)) X) ∗ others fA fB c g X t) := by
  have hlt : ∀ m : Fin n, pt (at_ t m.val) < t + 1 := fun m => by
    have := Finset.mem_filter.1 (image_at h ▸ Finset.mem_image_of_mem (fun m : Fin n => at_ t m.val) (Finset.mem_univ m))
    omega
  unfold rows others
  rw [bigSep_filter_split Finset.univ (fun k => pt k = t), ← image_at h, bigSep_image_of_injOn (at_inj h)]
  refine congrArg₂ _ (bigSep_congr fun m _ => by rw [if_pos (hlt m)]) (bigSep_congr fun k hk => ?_)
  have hk := (Finset.mem_filter.1 hk).2
  by_cases h' : pt k < t
  · rw [if_pos h', if_pos (by omega)]
  · rw [if_neg h', if_neg (by omega)]

theorem mem_outRow {d : Fin 37888} {i : S37888x1024.Idx} : i ∈ (outRow d).view.set ↔ (i 0).val = d.val := by
  rw [show (outRow d).view.set = (Rect.unit (s := S37888x1024) ![d.val, 0] S1x1024.size (outRow_inb d)).set from View.set_slice_whole _ _,
    Rect.mem_set_unit]
  constructor
  · intro h
    have h0 := h 0
    have h1 : d.val ≤ (i 0).val := h0.1
    have h2 : (i 0).val < d.val + 1 := h0.2
    omega
  · intro h a
    fin_cases a
    · show d.val ≤ (i 0).val ∧ (i 0).val < d.val + 1
      omega
    · have := (i 1).isLt
      exact ⟨Nat.zero_le _, by show (i 1).val < 0 + 1024; rw [Nat.zero_add]; exact this⟩

theorem outRow_cover : (Finset.univ : Finset (Fin 37888)).biUnion (β := S37888x1024.Idx) (fun d => (outRow d).view.set) = Finset.univ := by
  apply Finset.eq_univ_of_forall
  intro i
  rw [Finset.mem_biUnion]
  exact ⟨(i : S37888x1024.Idx) 0, Finset.mem_univ _, mem_outRow.2 rfl⟩

/-- The whole result is its rows, taken in the order of the positions. -/
theorem whole_rows (hn : Named fA fB) (f : Buf (Elt F) ((c : Thread nD τ).loc main_v0)) :
    ((c : Thread nD τ).loc main_v0 ↦{fullShare} f : sProp 𝕄) = bigSep Finset.univ fun k : Fin 37888 => Pt.outAt c (pos fA fB k) f := by
  have h := Ring.pointsTo_blocks (nD := nD) (τ := τ) (sig := sig) (Ix := Unit) (Val := Elt F) (Name := ℕ) (U := Pipeline.UD sig nD τ) (Lvl := ℕ)
    (ℓ := (c : Thread nD τ).loc main_v0) (fun d : Fin 37888 => (outRow d).view.set)
    (fun b b' hb => Finset.disjoint_left.2 fun i hi hi' => hb (Fin.ext ((mem_outRow.1 hi).symm.trans (mem_outRow.1 hi'))))
    outRow_cover
    (q := fullShare) f
  rw [h, bigSep_univ_equiv (Equiv.ofBijective _ hn.bij)]
  rfl

theorem rows_zero (hn : Named fA fB) : ((c : Thread nD τ).loc main_v0 ↦{fullShare} g : sProp 𝕄) = rows fA fB c g X 0 := by
  rw [whole_rows fA fB c hn]
  exact bigSep_congr fun k _ => by rw [if_neg (Nat.not_lt_zero _)]

theorem rows_last (hn : Named fA fB) : rows fA fB c g X 33 = ((c : Thread nD τ).loc main_v0 ↦{fullShare} X : sProp 𝕄) := by
  rw [whole_rows fA fB c hn]
  refine bigSep_congr fun k _ => by
    have : pt k < 33 := by unfold pt; have := k.isLt; split <;> omega
    rw [if_pos this]

end Cert.KernelIdeal.Disp

end
-- ==== Proof.Point.lean ====
/-
  One grid point: from the rows written so far to those and the point's own.
-/
module

public import proofs.«01_k».proof.Proof.Run
public import proofs.«01_k».proof.Proof.Rows
public import Idealize.ShloMosaic.Lib.PageRing.Basic

@[expose] public section

noncomputable section

namespace Cert.KernelIdeal.Disp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (fA : S33792.Idx → BitVec 32) (fB : S4096.Idx → BitVec 32) (h : S16896x1024.Idx → Elt F .f32)

/-- Column `j` of the row the copies put at position `k`: a row of `h` twice over, or zeros. -/
def rowAt (k : Fin 37888) (j : Fin 1024) : Elt F .f32 :=
  if hk : k.val < 33792 then h (Shape.pair (d := S16896x1024.size) (show Fin 16896 from ⟨k.val / 2, by omega⟩) (show Fin 1024 from j))
  else Scalar.ofBits .f32 0x00000000#32
/-- The dispatched result. -/
def dispatched : S37888x1024.Idx → Elt F .f32 := fun i => rowAt h (Function.invFun (pos fA fB) (show Fin 37888 from i 0)) (show Fin 1024 from i 1)

theorem dispatched_pos (hn : Named fA fB) (k : Fin 37888) (i : S37888x1024.Idx) (hi : (i 0).val = (pos fA fB k).val) :
    dispatched fA fB h i = rowAt h k (show Fin 1024 from i 1) := by
  unfold dispatched
  rw [show (show Fin 37888 from i 0) = pos fA fB k from Fin.ext hi, Function.leftInverse_invFun hn.bij.1 k]
end

variable {c : Dev nD} (fA : Buf (Elt F) ((c : Thread nD τ).loc main_arg1)) (fB : Buf (Elt F) ((c : Thread nD τ).loc main_arg2))
  (h : S16896x1024.Idx → Elt F .f32) (g : Buf (Elt F) ((c : Thread nD τ).loc main_v0)) (t : Fin 33)
  (st : Memref sig .tc .vmem S512x1024 .f32) (x : Buf (Elt F) (st.view.loc (c : Thread nD τ)))

/-- Point `t`'s copies, from block `x`. -/
def job : Pt (F := F) c := ⟨fA, fB, t, st, x, Pt.zeros c, g⟩

theorem job_ranged (hn : Named fA fB) : (job fA fB g t st x).Ranged := by
  constructor
  · intro m
    have h := hn.lt ⟨(1024 * t.val + m) % 33792, by omega⟩
    unfold word at h
    rw [dif_pos (show (1024 * t.val + m) % 33792 < 33792 by omega)] at h
    exact h
  · intro m
    have h := hn.lt ⟨33792 + (128 * t.val + m) % 4096, by omega⟩
    unfold word at h
    rw [dif_neg (show ¬33792 + (128 * t.val + m) % 4096 < 33792 by omega)] at h
    have e : (⟨33792 + (128 * t.val + m) % 4096 - 33792, by omega⟩ : Fin 4096) = ⟨(128 * t.val + m) % 4096, by omega⟩ := Fin.ext (by simp)
    rw [e] at h
    exact h

variable {t} {n : ℕ}

theorem rowOf_wA (hc : Copies t.val n) {m : ℕ} (hm : m < 1024) : rowOf ((job fA fB g t st x).wA m) = pos fA fB (at_ t.val m) := by
  have ht := t.isLt
  have hv := at_val hc (m := m) (by unfold Copies at hc; omega)
  rw [if_pos hm] at hv
  unfold pos word
  rw [dif_pos (by omega)]
  unfold Pt.wA
  exact congrArg (fun j => rowOf (fA (Shape.Idx.ofFin (n := 33792) j))) (Fin.ext (by simp only [hv]; exact Nat.mod_eq_of_lt (by omega)))

theorem rowOf_wB (hc : Copies t.val n) {m : ℕ} (hm : ¬m < 1024) (hm' : m < n) :
    rowOf ((job fA fB g t st x).wB (m - 1024)) = pos fA fB (at_ t.val m) := by
  have ht := t.isLt
  have hv := at_val hc (m := m) hm'
  rw [if_neg hm] at hv
  unfold Copies at hc
  unfold pos word
  rw [dif_neg (by omega)]
  unfold Pt.wB
  refine congrArg (fun j => rowOf (fB (Shape.Idx.ofFin (n := 4096) j))) (Fin.ext ?_)
  simp only [hv]
  show (128 * t.val + (m - 1024)) % 4096 = _
  omega

/-- The elements of a block that copy `m` reads. -/
abbrev rowSet (m : ℕ) : Finset (Idx (st.view.loc (c : Thread nD τ))) := (srcRow st (srcOf m)).view.set
abbrev zeroSet (m : ℕ) : Finset (Idx ((c : Thread nD τ).loc cc0_scratch0)) := (srcRow zeroM 0).view.set

/-- What copy `m` reads from, by number. -/
def src (p : Pt (F := F) c) (m : ℕ) : sProp 𝕄 := if m < 1024 then p.rowSrc m else p.padSrc (m - 1024)

theorem srcs_eq (p : Pt (F := F) c) (r : ℕ) :
    (bigSep Finset.univ fun m : Fin (1024 + r) => src p m.val)
      = iprop((bigSep (Finset.range 1024) fun m => p.rowSrc m) ∗ bigSep (Finset.range r) fun m => p.padSrc m) := by
  rw [Ring.bigSep_fin_eq_range (1024 + r) _ (src p) (fun _ _ => rfl), PageRing.bigSep_range_add (src p) 1024 r]
  refine congrArg₂ _ (bigSep_congr fun m hm => ?_) (bigSep_congr fun m _ => ?_)
  · unfold src; rw [if_pos (Finset.mem_range.1 hm)]
  · unfold src; rw [if_neg (by omega), Nat.add_sub_cancel_left]

theorem need_eq (hc : Copies t.val n) (m : Fin n) :
    (job fA fB g t st x).need m.val = iprop(src (job fA fB g t st x) m.val ∗ Pt.outAt c (pos fA fB (at_ t.val m.val)) g) := by
  unfold Pt.need src
  by_cases hm : m.val < 1024
  · rw [if_pos hm, if_pos hm, rowOf_wA fA fB g st x hc hm]; rfl
  · rw [if_neg hm, if_neg hm, rowOf_wB fA fB g st x hc hm m.isLt]; rfl

/-- A copy's row, landed, is the dispatched result's. -/
theorem landed_row {d : Fin 37888} {w : S1x1024.Idx → Elt F .f32} {X : Buf (Elt F) ((c : Thread nD τ).loc main_v0)}
    (hw : ∀ y : S1x1024.Idx, w y = X ((outRow d).view.emb y)) :
    Pt.outAt c d (Pt.landed c d g w) = Pt.outAt c d X := by
  refine pointsTo_congr fun i hi => ?_
  obtain ⟨y, -, rfl⟩ := Finset.mem_map.1 hi
  exact (View.write_emb_of_mem (v := (outRow d).view) g w (Finset.mem_univ y)).trans (hw y)

theorem blk_lt (t : Fin 33) (y : S512x1024.Idx) : 512 * t.val + (y 0).val < 16896 := by
  have h : (y 0).val < 512 := (y 0).isLt
  have := t.isLt
  omega

theorem emb_zero (d : Fin 37888) (y : S1x1024.Idx) : (((outRow d).view.emb y : S37888x1024.Idx) 0).val = d.val := by
  have hy : (y 0).val = 0 := Nat.lt_one_iff.1 (y 0).isLt
  show d.val + 1 * (y 0).val = d.val
  omega
theorem emb_one (d : Fin 37888) (y : S1x1024.Idx) : (((outRow d).view.emb y : S37888x1024.Idx) 1).val = (y 1).val := by
  show 0 + 1 * (y 1).val = (y 1).val
  omega

theorem dispatched_emb (hn : Named fA fB) (k : Fin 37888) (y : S1x1024.Idx) :
    dispatched fA fB h ((outRow (pos fA fB k)).view.emb y) = rowAt h k (show Fin 1024 from y 1) := by
  rw [dispatched_pos fA fB h hn k ((outRow (pos fA fB k)).view.emb y) (emb_zero (pos fA fB k) y)]
  exact congrArg (rowAt h k) (Fin.ext (emb_one (pos fA fB k) y))

theorem got_eq (hn : Named fA fB) (hc : Copies t.val n)
    (hx : ∀ y : S512x1024.Idx, st.view.read (Elt F) x y
      = h (Shape.pair (d := S16896x1024.size) (show Fin 16896 from ⟨512 * t.val + (y 0).val, blk_lt t y⟩) (show Fin 1024 from y 1)))
    (m : Fin n) :
    (job fA fB g t st x).got m.val
      = iprop(Pt.outAt c (pos fA fB (at_ t.val m.val)) (dispatched fA fB h) ∗ src (job fA fB g t st x) m.val) := by
  have hv := at_val hc m.isLt
  have ht := t.isLt
  unfold Pt.got src
  by_cases hm : m.val < 1024
  · rw [if_pos hm, if_pos hm, rowOf_wA fA fB g st x hc hm]
    refine congrArg₂ _ (landed_row g fun y => ?_) rfl
    refine Eq.trans ?_ (dispatched_emb fA fB h hn (at_ t.val m.val) y).symm
    rw [if_pos hm] at hv
    unfold rowAt
    rw [dif_pos (by omega)]
    show st.view.read (Elt F) x ((Rect.unit (s := S512x1024) ![(srcOf m.val).val, 0] S1x1024.size (srcRow_inb _)).idx y) = _
    rw [hx]
    have hy : (y 0).val = 0 := Nat.lt_one_iff.1 (y 0).isLt
    refine congrArg h (congrArg₂ (Shape.pair (d := S16896x1024.size)) (Fin.ext ?_) (Fin.ext ?_))
    · show 512 * t.val + (m.val / 2 % 512 + 1 * (y 0).val) = (at_ t.val m.val).val / 2
      rw [hv, hy]; omega
    · show 0 + 1 * (y 1).val = (y 1).val
      omega
  · rw [if_neg hm, if_neg hm, rowOf_wB fA fB g st x hc hm m.isLt]
    refine congrArg₂ _ (landed_row g fun y => ?_) rfl
    refine Eq.trans ?_ (dispatched_emb fA fB h hn (at_ t.val m.val) y).symm
    rw [if_neg hm] at hv
    unfold rowAt
    rw [dif_neg (by omega)]
    rfl

instance got_storable (p : Pt (F := F) c) (m : ℕ) : Storable (upEmb : UEmb _ 𝕄) (p.got m) := by
  unfold Pt.got
  split <;> infer_instance

/-- The core's state between points: the rows written so far, the rows of zeros (written by the first point), the
    semaphore at zero, the tables to read, and `P`, which no point touches. -/
def State (P : sProp (MT nD τ sig Unit (Elt F) ℕ (Pipeline.UD sig nD τ) ℕ)) (t : ℕ) : sProp 𝕄 :=
  iprop((∃ z : Buf (Elt F) ((c : Thread nD τ).loc cc0_scratch0), ⌜t ≠ 0 → z = Pt.zeros c⌝ ∗ ((c : Thread nD τ).loc cc0_scratch0 ↦{fullShare} z))
    ∗ rows fA fB c g (dispatched fA fB h) t ∗ semVal ((c : Thread nD τ), .dma semM) 0
    ∗ ((c : Thread nD τ).loc main_arg1 ↦{fullShare.right} fA) ∗ ((c : Thread nD τ).loc main_arg2 ↦{fullShare.right} fB) ∗ P)

variable {P : sProp (MT nD τ sig Unit (Elt F) ℕ (Pipeline.UD sig nD τ) ℕ)} {r : ℕ}

/-- What the copies leave alone. -/
def kept (P : sProp (MT nD τ sig Unit (Elt F) ℕ (Pipeline.UD sig nD τ) ℕ)) (r : ℕ) (t : Fin 33) : sProp 𝕄 :=
  iprop(left st.view.set 1024 (rowSet (c := c) st) x ∗ left Finset.univ r (zeroSet (c := c)) (Pt.zeros (F := F) c)
    ∗ others fA fB c g (dispatched fA fB h) t.val ∗ P)

theorem sep_mix (A B C D : sProp (MT nD τ sig Unit (Elt F) ℕ (Pipeline.UD sig nD τ) ℕ)) :
    iprop((A ∗ B) ∗ C ∗ D) = iprop((A ∗ C) ∗ B ∗ D) := by
  have h : ∀ A B C D : sProp (MT nD τ sig Unit (Elt F) ℕ (Pipeline.UD sig nD τ) ℕ), iprop((A ∗ B) ∗ C ∗ D) ⊢ iprop((A ∗ C) ∗ B ∗ D) := by
    intro A B C D
    iintro ⟨⟨H1, H2⟩, H3, H4⟩
    isplitl [H1 H3]
    · isplitl [H1]; · iexact H1
      iexact H3
    isplitl [H2]; · iexact H2
    iexact H4
  exact BI.Entails.antisymm (h A B C D) (h A C B D)

theorem sources_eq (r : ℕ) :
    iprop((st.view.loc (c : Thread nD τ) ↦[st.view.set]{fullShare} x) ∗ ((c : Thread nD τ).loc cc0_scratch0 ↦{fullShare} Pt.zeros (F := F) c))
      = iprop((bigSep Finset.univ fun m : Fin (1024 + r) => src (job fA fB g t st x) m.val)
        ∗ left st.view.set 1024 (rowSet (c := c) st) x ∗ left Finset.univ r (zeroSet (c := c)) (Pt.zeros (F := F) c)) := by
  rw [srcs_eq, tokens st.view.set 1024 (rowSet (c := c) st) (fun m => View.set_slice_subset _ _) x,
    tokens Finset.univ r (zeroSet (c := c)) (fun m => Finset.subset_univ _) (Pt.zeros (F := F) c)]
  exact sep_mix _ _ _ _

theorem setup (hc : Copies t.val (1024 + r)) :
    iprop(((c : Thread nD τ).loc cc0_scratch0 ↦{fullShare} Pt.zeros (F := F) c)
        ∗ rows fA fB c g (dispatched fA fB h) t.val ∗ semVal ((c : Thread nD τ), .dma semM) 0
        ∗ ((c : Thread nD τ).loc main_arg1 ↦{fullShare.right} fA) ∗ ((c : Thread nD τ).loc main_arg2 ↦{fullShare.right} fB) ∗ P
        ∗ (∃ W, owes (c : Thread nD τ) 0 W) ∗ (st.view.loc (c : Thread nD τ) ↦[st.view.set]{fullShare} x))
      ⊢ |={Set.univ}=> (job fA fB g t st x).St (1024 + r) iprop((∃ W, owes (c : Thread nD τ) 0 W) ∗ kept fA fB h g st x P r t) 0 := by
  iintro ⟨HZ, Hrows, Hs, HA, HB, HP, HO, Hx⟩
  imod (Transfers.batch_alloc' (countersEmb (U := Pipeline.UD sig nD τ)) (c : Thread nD τ) (sm := .dma semM) () Pt.credit
    (fun m : Fin (1024 + r) => (job fA fB g t st x).got m.val) (E := Set.univ)) $$ Hs with Hb
  ihave H := (BIBase.Entails.of_eq (sources_eq fA fB g (t := t) st x r)) $$ [Hx HZ]
  · isplitl [Hx]; · iexact Hx
    iexact HZ
  icases H with ⟨Hsrc, Hl, Hl'⟩
  ihave Hrows := (BIBase.Entails.of_eq (rows_take fA fB c g (dispatched fA fB h) hc)) $$ Hrows
  icases Hrows with ⟨Hout, Hoth⟩
  imodintro
  unfold Pt.St kept
  isplitl [HA]; · iexact HA
  isplitl [HB]; · iexact HB
  isplitl [Hb]; · iexact Hb
  isplitl [Hsrc Hout]
  · rw [← Transfers.bigSep_pending_zero, bigSep_congr (fun m _ => need_eq fA fB g st x hc m), bigSep_sep']
    isplitl [Hsrc]; · iexact Hsrc
    iexact Hout
  isplitl [HO]; · iexact HO
  isplitl [Hl]; · iexact Hl
  isplitl [Hl']; · iexact Hl'
  isplitl [Hoth]; · iexact Hoth
  iexact HP

theorem collect (hn : Named fA fB) (hc : Copies t.val (1024 + r))
    (hx : ∀ y : S512x1024.Idx, st.view.read (Elt F) x y
      = h (Shape.pair (d := S16896x1024.size) (show Fin 16896 from ⟨512 * t.val + (y 0).val, blk_lt t y⟩) (show Fin 1024 from y 1))) :
    Pt.Dr (job fA fB g t st x) (1024 + r) iprop(((c : Thread nD τ).loc main_arg1 ↦{fullShare.right} fA)
        ∗ ((c : Thread nD τ).loc main_arg2 ↦{fullShare.right} fB) ∗ kept fA fB h g st x P r t) (Pt.credit * (1024 + r))
      ⊢ |={Set.univ}=> iprop(State fA fB h g P (t.val + 1) ∗ (∃ W, owes (c : Thread nD τ) 0 W)
        ∗ (st.view.loc (c : Thread nD τ) ↦[st.view.set]{fullShare} x)) := by
  unfold Pt.Dr kept
  iintro ⟨Hb, HO, HA, HB, Hl, Hl', Hoth, HP⟩
  imod (Transfers.batch_collect' (countersEmb (U := Pipeline.UD sig nD τ)) (c : Thread nD τ) (sm := .dma semM) (ι := ()) (N := Pt.credit)
    (View.dmaCredit_pos (outRow 0).view (by decide)) (D := fun m : Fin (1024 + r) => (job fA fB g t st x).got m.val)) $$ Hb with ⟨HD, Hs⟩
  ihave HD := (BIBase.Entails.of_eq ((bigSep_congr (fun m _ => got_eq fA fB h g st x hn hc hx m)).trans (bigSep_sep' _ _ _))) $$ HD
  icases HD with ⟨Hout, Hsrc⟩
  ihave H := (BIBase.Entails.of_eq (sources_eq fA fB g (t := t) st x r).symm) $$ [Hsrc Hl Hl']
  · isplitl [Hsrc]; · iexact Hsrc
    isplitl [Hl]; · iexact Hl
    iexact Hl'
  icases H with ⟨Hx, HZ⟩
  imodintro
  unfold State
  isplitl [HZ Hout Hoth Hs HA HB HP]
  · isplitl [HZ]
    · iexists (Pt.zeros c)
      isplitr
      · ipureintro; exact fun _ => rfl
      iexact HZ
    isplitl [Hout Hoth]
    · rw [rows_give fA fB c g (dispatched fA fB h) hc]
      isplitl [Hout]; · iexact Hout
      iexact Hoth
    isplitl [Hs]; · iexact Hs
    isplitl [HA]; · iexact HA
    isplitl [HB]; · iexact HB
    iexact HP
  isplitl [HO]; · iexact HO
  iexact Hx

theorem copies_of (t : Fin 33) : t.val < 32 → Copies t.val (1024 + 128) := fun h => Or.inl ⟨h, rfl⟩
theorem copies_of_not (t : Fin 33) : ¬t.val < 32 → Copies t.val (1024 + 0) := fun h => Or.inr ⟨by have := t.isLt; omega, rfl⟩

theorem finish (hn : Named fA fB) (hc : Copies t.val (1024 + r)) (X : S512x1024.Idx → Elt F .f32) (hf : st.view.read (Elt F) x = X)
    (hx : ∀ y : S512x1024.Idx, st.view.read (Elt F) x y
      = h (Shape.pair (d := S16896x1024.size) (show Fin 16896 from ⟨512 * t.val + (y 0).val, blk_lt t y⟩) (show Fin 1024 from y 1))) :
    Pt.Dr (job fA fB g t st x) (1024 + r) iprop(((c : Thread nD τ).loc main_arg1 ↦{fullShare.right} fA)
        ∗ ((c : Thread nD τ).loc main_arg2 ↦{fullShare.right} fB) ∗ kept fA fB h g st x P r t) (Pt.credit * (1024 + r))
      ⊢ |={Set.univ}=> iprop(State fA fB h g P (t.val + 1) ∗ (∃ W, owes (c : Thread nD τ) 0 W)
        ∗ ∃ f, ⌜st.view.read (Elt F) f = X⌝ ∗ (st.view.loc (c : Thread nD τ) ↦[st.view.set]{fullShare} f)) := by
  refine (collect fA fB h g (P := P) st x hn hc hx).trans (fupd_mono ?_)
  iintro ⟨H1, H2, H3⟩
  isplitl [H1]; · iexact H1
  isplitl [H2]; · iexact H2
  iexists x
  isplitr
  · ipureintro; exact hf
  iexact H3

/-- The kernel's text at point `t`. -/
theorem point (hn : Named fA fB) {i : grid0.Coords} {harg1 harg2 harg3 harg4 harg5} (hi : (i 0).val = t.val)
    (h2 : k0_cond2 i = 1#1 ↔ t.val < 32)
    (X : S512x1024.Idx → Elt F .f32)
    (hX : ∀ y : S512x1024.Idx, X y
      = h (Shape.pair (d := S16896x1024.size) (show Fin 16896 from ⟨512 * t.val + (y 0).val, blk_lt t y⟩) (show Fin 1024 from y 1))) :
    iprop(State fA fB h g P t.val ∗ (∃ W, owes (c : Thread nD τ) 0 W) ∗ owns (c : Thread nD τ) st fullShare X)
      ⊢ wp (M := MT nD τ sig Unit (Elt F) ℕ (Pipeline.UD sig nD τ) ℕ) frame (wpE (defs₀ (F := F)) Variants.none (c : Thread nD τ) none) Set.univ
        (cc0_moe_dispatch i tabA harg1 tabB harg2 st harg3 outM harg4 zeroM harg5 cc0_scratch1)
        fun _ => iprop(State fA fB h g P (t.val + 1) ∗ (∃ W, owes (c : Thread nD τ) 0 W) ∗ owns (c : Thread nD τ) st fullShare X) := by
  unfold owns
  iintro ⟨HS, HO, %x, %hx, Hx⟩
  have hx' : ∀ y : S512x1024.Idx, st.view.read (Elt F) x y = _ := fun y => (congrFun hx y).trans (hX y)
  have hr := job_ranged fA fB g t st x hn
  unfold State
  icases HS with ⟨⟨%z, %hz, HZ⟩, Hrows, Hs, HA, HB, HP⟩
  have hz' : (i 0).val ≠ 0 → z = Pt.zeros c := fun h0 => hz (hi ▸ h0)
  by_cases ht : t.val < 32
  · have H := Pt.runPads (Q := fun _ => iprop(State fA fB h g P (t.val + 1) ∗ (∃ W, owes (c : Thread nD τ) 0 W)
        ∗ ∃ f, ⌜st.view.read (Elt F) f = X⌝ ∗ (st.view.loc (c : Thread nD τ) ↦[st.view.set]{fullShare} f))) (p := job fA fB g t st x) (harg1 := harg1) (harg2 := harg2) (harg3 := harg3) (harg4 := harg4) (harg5 := harg5)
      hi hr (h2.2 ht) ht hz' (setup fA fB h g (P := P) (r := 128) st x (copies_of t ht)) (finish fA fB h g (P := P) st x hn (copies_of t ht) X hx hx')
    iapply H $$ [HZ Hrows Hs HA HB HP HO Hx]
    isplitl [HZ]; · iexact HZ
    isplitl [Hrows]; · iexact Hrows
    isplitl [Hs]; · iexact Hs
    isplitl [HA]; · iexact HA
    isplitl [HB]; · iexact HB
    isplitl [HP]; · iexact HP
    isplitl [HO]; · iexact HO
    iexact Hx
  · have H := Pt.runRows (Q := fun _ => iprop(State fA fB h g P (t.val + 1) ∗ (∃ W, owes (c : Thread nD τ) 0 W)
        ∗ ∃ f, ⌜st.view.read (Elt F) f = X⌝ ∗ (st.view.loc (c : Thread nD τ) ↦[st.view.set]{fullShare} f))) (p := job fA fB g t st x) (harg1 := harg1) (harg2 := harg2) (harg3 := harg3) (harg4 := harg4) (harg5 := harg5)
      hi hr (fun h => ht (h2.1 h)) hz' (setup fA fB h g (P := P) (r := 0) st x (copies_of_not t ht)) (finish fA fB h g (P := P) st x hn (copies_of_not t ht) X hx hx')
    iapply H $$ [HZ Hrows Hs HA HB HP HO Hx]
    isplitl [HZ]; · iexact HZ
    isplitl [Hrows]; · iexact Hrows
    isplitl [Hs]; · iexact Hs
    isplitl [HA]; · iexact HA
    isplitl [HB]; · iexact HB
    isplitl [HP]; · iexact HP
    isplitl [HO]; · iexact HO
    iexact Hx

end Cert.KernelIdeal.Disp

end
-- ==== Proof.Disp.lean ====
/-
  The dispatch kernel's run: at every grid point the body is `point`, and the result ends at `dispatched`.
-/
module

public import proofs.«01_k».proof.Proof.Point
public import proofs.«01_k».proof.Proof.Gen.KernelIdeal
public import proofs.«01_k».proof.Proof.Gen.KernelIdeal.Launch
public import Idealize.ShloMosaic.Lib.Pipeline.FrameBody
public import Idealize.ShloMosaic.Lib.Pipeline.FrameValue
public import Idealize.ShloMosaic.Lib.Pipeline.ValueKit

@[expose] public section

noncomputable section

namespace Cert.KernelIdeal.Disp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-- The two tables' contents at launch. -/
def tables : pre0.Contents (Elt F) := fun
  | ⟨0, _⟩ => m (((0 : Dev nD) : Thread nD τ).loc main_arg1)
  | ⟨1, _⟩ => m (((0 : Dev nD) : Thread nD τ).loc main_arg2)
  | ⟨_ + 2, h⟩ => absurd h (Nat.not_lt.2 (Nat.le_add_left _ _))

def adm : (p : Fin 1) → (pcfgs (F := F) p).Adm := fun _ => ⟨tables m, trivial⟩

/-- A buffer's contents at launch. -/
def atStart (c : Dev nD) (b : Ref sig .tc) : Buf (Elt F) ((c : Thread nD τ).loc b) := m ((c : Thread nD τ).loc b)

/-- The state between points, at the launch contents. -/
def Inv (c : Dev nD) (t : ℕ) : sProp 𝕄 :=
  State (atStart m c main_arg1) (atStart m c main_arg2) (atStart m c main_arg0) (atStart m c main_v0) iprop(∃ r, prngReg c r) t

def dats (p : Fin 1) (c : Dev nD) : Pipeline.Dat τ (Elt F) Unit ℕ (Pipeline.UD sig nD τ) ℕ (Pipeline.pin (pcfgs (F := F)) (adm m) p) c where
  A := fun
    | ⟨0, _⟩ => atStart m c main_arg0
    | ⟨_ + 1, h⟩ => absurd h (Nat.not_lt.2 (Nat.le_add_left _ _))
  after := fun
    | ⟨0, _⟩ => fun t => (((Pipeline.pin (pcfgs (F := F)) (adm m) p).win 0).blk t).view.read (Elt F) (atStart m c main_arg0)
    | ⟨_ + 1, h⟩ => absurd h (Nat.not_lt.2 (Nat.le_add_left _ _))
  Φ := fun t => Inv m c t.val
  q := fun _ => fullShare
  owed := fun _ => 0

/-- What the result's buffer holds at the end. -/
def final (c : Dev nD) : (b : Ref sig .tc) → Buf (Elt F) ((c : Thread nD τ).loc b) :=
  Function.update (atStart m c) main_v0 (dispatched (atStart m c main_arg1) (atStart m c main_arg2) (atStart m c main_arg0))

abbrev osem : Fin 1 → SemLoc sig := fun _ => .dma semM

theorem cond2 (t : Fin grid0.N) : k0_cond2 (grid0.coords t) = 1#1 ↔ t.val < 32 := by
  revert t; decide

theorem coords0 (t : Fin grid0.N) : ((grid0.coords t) 0).val = t.val := by
  revert t; decide

theorem index_at (t : Fin grid0.N) : cc0_transform_0 (grid0.coords t) = ![t.val, 0] := by
  revert t; decide

theorem found (c : Dev nD) (t : Fin grid0.N) (d) : (dats m 0 c).before 0 t d = (dats m 0 c).after 0 t :=
  (Pipeline.Dat.before_in_eq_fetched (dats m 0 c) 0 rfl (fun _ => rfl) (fun _ _ _ => rfl) (fun _ => rfl) t d)

theorem row (t : Fin grid0.N) (s : (w : Fin 1) → Fin (spec0 w).nbuf) :
    (defs₀ (F := F)) .tc 0 (t, s)
      = cc0_moe_dispatch (grid0.coords t) tabA (Memref.isWhole_whole _) tabB (Memref.isWhole_whole _) (spec0_0.stage (s 0))
          (hstage0_0 ((s 0).cast nbuf0_0)) outM (Memref.isWhole_whole _) zeroM (Memref.isWhole_whole _) cc0_scratch1 := by
  unfold defs₀; rw [Defs.onTc_tc]

/-- Element `y` of window 0's block at point `t`. -/
theorem block_at (c : Dev nD) (t : Fin grid0.N) (y : S512x1024.Idx) (ht : t.val < 33) :
    (dats m 0 c).after 0 t y = atStart m c main_arg0
      (Shape.pair (d := S16896x1024.size) (show Fin 16896 from ⟨512 * t.val + (y 0).val, blk_lt ⟨t.val, ht⟩ y⟩) (show Fin 1024 from y 1)) := by
  show atStart m c main_arg0 ((((Pipeline.pin (pcfgs (F := F)) (adm m) 0).win 0).blk t).view.emb y) = _
  congr 1
  funext a
  refine Fin.ext ?_
  have h0 : ((Pipeline.pin (pcfgs (F := F)) (adm m) 0).win 0).index t (show Fin 2 from 0) = t.val := congrFun (index_at t) 0
  have h1 : ((Pipeline.pin (pcfgs (F := F)) (adm m) 0).win 0).index t (show Fin 2 from 1) = 0 := congrFun (index_at t) 1
  match a with
  | ⟨0, _⟩ => blk_simp; rw [h0, Nat.mul_comm]; rfl
  | ⟨1, _⟩ => blk_simp; rw [h1, Nat.zero_mul, Nat.zero_add]; rfl
  | ⟨_ + 2, h⟩ => exact absurd h (Nat.not_lt.2 (Nat.le_add_left _ _))

theorem phi (c : Dev nD) (t : Fin (grid0.N + 1)) : (dats m 0 c).Φ t
    = State (atStart m c main_arg1) (atStart m c main_arg2) (atStart m c main_arg0) (atStart m c main_v0) iprop(∃ r, prngReg c r) t.val := rfl

theorem phi_last (c : Dev nD) : (dats m 0 c).Φ (Fin.last grid0.N)
    = State (atStart m c main_arg1) (atStart m c main_arg2) (atStart m c main_arg0) (atStart m c main_v0) iprop(∃ r, prngReg c r) 33 := rfl

theorem body (c : Dev nD) (hn : Named (atStart m c main_arg1) (atStart m c main_arg2)) :
    Pipeline.BodyObligationLoose (dats m 0 c) (defs₀ (F := F)) Variants.none () Set.univ := by
  intro t
  have ht : t.val < 33 := t.isLt
  rw [Gen.bigSep_W0, Gen.bigSep_W0]
  refine triple_restated (point (t := ⟨t.val, ht⟩) (P := iprop(∃ r, prngReg c r)) (atStart m c main_arg1) (atStart m c main_arg2)
    (atStart m c main_arg0) (atStart m c main_v0) (spec0_0.stage ((Pipeline.pin (pcfgs (F := F)) (adm m) 0).slots t 0)) hn
    (i := grid0.coords t) (coords0 t) (cond2 t) ((dats m 0 c).after 0 t) (fun y => block_at m c t y ht))
    (congrArg (wp frame _ _) (row t _).symm) ?_ ?_
  · rw [phi]
    iintro ⟨HS, ⟨%W, %hW, HO⟩, %d, Hx⟩
    isplitl [HS]; · iexact HS
    isplitl [HO]; · iexists W; iexact HO
    have e := found m c t d
    rw [← e]
    iexact Hx
  · intro _
    rw [phi]
    iintro ⟨HS, ⟨%W, HO⟩, Hx⟩
    isplitl [HS]; · iexact HS
    isplitl [HO]
    · iexists W; isplitr; · ipureintro; exact fun _ _ => Or.inl (Set.mem_univ _)
      iexact HO
    iexact Hx

theorem ownFacts : Pipeline.OwnSemFacts spec0 osem := by decide
theorem written : ({main_v0} : Finset (Ref sig .tc)) ⊆ Pipeline.restRefsP sig pre0 spec0 \ ∅ := by decide

theorem kept1 : main_arg1 ∈ Pipeline.restRefs sig spec0 \ {main_v0} := by decide
theorem kept2 : main_arg2 ∈ Pipeline.restRefs sig spec0 \ {main_v0} := by decide

theorem routed_eq (c : Dev nD) (W : (b : Ref sig .tc) → Buf (Elt F) ((c : Thread nD τ).loc b)) :
    (Pipeline.routed {main_v0} c W : sProp 𝕄) = iprop(((c : Thread nD τ).loc main_v0) ↦{fullShare} W main_v0) := by
  unfold Pipeline.routed; rw [BI.bigSep_eq_bigSepL_of_eq [main_v0] (by decide) (by decide)]; rfl

theorem sems_eq (c : Dev nD) : (Pipeline.ownSems0 (τ := τ) osem c : sProp 𝕄) = semVal ((c : Thread nD τ), .dma semM) 0 :=
  Pipeline.ownSems0_eq_of_list c osem [0] (by decide) (by decide)

theorem tables_eq (c : Dev nD) : (Pipeline.ΦT pre0 (tables m) c : sProp 𝕄)
    = iprop(((c : Thread nD τ).loc main_arg1 ↦{fullShare.right} atStart m c main_arg1)
        ∗ ((c : Thread nD τ).loc main_arg2 ↦{fullShare.right} atStart m c main_arg2)) := by
  obtain rfl : c = 0 := Subsingleton.elim _ _
  unfold Pipeline.ΦT Pipeline.prefHeld
  exact bigSep_univ_eq_bigSepL [(0 : Fin 2), 1] (by decide) (by decide) _

theorem enter (c : Dev nD) (hn : Named (atStart m c main_arg1) (atStart m c main_arg2)) :
    iprop(Pipeline.ΦDRG osem spec0 ∅ {main_v0} (atStart m) (atStart m) c ∗ Pipeline.ΦT pre0 (tables m) c) ⊢ (dats m 0 c).Φ 0 := by
  rw [Pipeline.ΦDRG_eq, tables_eq, routed_eq, sems_eq, Gen.scopedRest0_eq, phi]
  unfold State
  iintro ⟨⟨⟨%z, HZ⟩, HP, Hs, -, Hv⟩, HA, HB⟩
  isplitl [HZ]
  · iexists z; isplitr
    · ipureintro; intro h; exact absurd rfl h
    iexact HZ
  isplitl [Hv]
  · ihave H := (BIBase.Entails.of_eq (rows_zero _ _ _ _ _ hn)) $$ Hv
    iexact H
  isplitl [Hs]; · iexact Hs
  isplitl [HA]; · iexact HA
  isplitl [HB]; · iexact HB
  iexact HP

theorem leave (c : Dev nD) (hn : Named (atStart m c main_arg1) (atStart m c main_arg2)) :
    (dats m 0 c).Φ (Fin.last grid0.N) ⊢ Pipeline.ΦDRG osem spec0 ∅ {main_v0} (atStart m) (final m) c := by
  rw [Pipeline.ΦDRG_eq, routed_eq, sems_eq, Gen.scopedRest0_eq, phi_last]
  unfold State
  iintro ⟨⟨%z, -, HZ⟩, Hv, Hs, HA, HB, HP⟩
  isplitl [HZ]; · iexists z; iexact HZ
  isplitl [HP]; · iexact HP
  isplitl [Hs]; · iexact Hs
  isplitr; · rw [bigSep_empty]; exact .rfl
  unfold final; rw [Function.update_self]
  ihave H := (BIBase.Entails.of_eq (rows_last _ _ _ _ _ hn)) $$ Hv
  iexact H

theorem run_main (hn : ∀ c, Named (atStart m c main_arg1) (atStart m c main_arg2)) (g : Dev nD → PrngReg) :
    θ_run (defs (F := F)) (onTc (τ := τ) (main (F := F))) ⟨m, fun _ => 0, g⟩ (fun r =>
      (∀ c : Dev nD, r.2.mem ((c : Thread nD τ).loc main_v0) = dispatched (atStart m c main_arg1) (atStart m c main_arg2) (atStart m c main_arg0)
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) := by
  refine Pipeline.θ_run_frameP_dmaRG pcfgs (adm m) (dats m) 0 Gen.launch0 osem (defs₀ (F := F)) Variants.none ownFacts ∅ {main_v0} (Finset.empty_subset _) written m g main
    (fun c => body m c (hn c)) (fun c w => ?_) (fun _ _ => rfl) (fun c b => m ((c : Thread nD τ).loc b))
    (Pipeline.hmainP_region _ _ _ _ m main fun c => rfl) (fun c w => ?_) (fun c k => ?_) (final m) (fun c => ?_) (fun c => ?_) _ ?_
  · match w with
    | ⟨0, _⟩ => rfl
  · match w with
    | ⟨0, _⟩ => rfl
  · match k with
    | ⟨0, _⟩ => obtain rfl : c = 0 := Subsingleton.elim _ _; rfl
    | ⟨1, _⟩ => obtain rfl : c = 0 := Subsingleton.elim _ _; rfl
  · exact enter m c (hn c)
  · exact leave m c (hn c)
  · rintro r ⟨h, hz⟩
    refine ⟨fun c => ⟨(h.written c (by decide)).trans (Function.update_self ..), ?_, ?_, ?_⟩, hz⟩
    · exact ((h.toR c).1 0).trans (Pipeline.Dat.arrAt_in (dats m 0 c) 0 rfl _)
    · exact (h.toR c).2 main_arg1 kept1
    · exact (h.toR c).2 main_arg2 kept2

end Cert.KernelIdeal.Disp

end
-- ==== Proof.Scatter.lean ====
/-
  The reference's scatter of whole rows, read at an element: update row `q` lands in the row its index word names, column by column,
  and an element that no word names keeps the operand's zero.
-/
module

public import proofs.«01_k».proof.Proof.Point
public import proofs.«01_k».proof.Proof.Gen.ReferenceIdeal.Run
public import Idealize.ShloMosaic.Lib.Routing.OpsPair
public import Idealize.ShloMosaic.Lib.ValueLayout
public import Idealize.ShloMosaic.Lib.Quiescent
public import Idealize.ShloMosaic.Lib.Routing.OpsSet
public import Idealize.ShloMosaic.Lib.Pipeline.Value

@[expose] public section

noncomputable section

namespace Cert.ReferenceIdeal.Disp

open Cert.ReferenceIdeal Cert.ReferenceIdeal.Gen Idealize.ShloMosaic Idealize.ShloMosaic.TcCoe Idealize.SL.Sem

variable {F : FTy → Type} [FloatOps F]

abbrev rows := scatter_S37888x1024_S33792x1_S33792x1024_1_0_0_1

/-- Update element `u` lands at `ι` when its row's index word, read signed, is `ι`'s row and the columns agree. -/
theorem lands (idx : IVec S33792x1 32) (u : S33792x1024.Idx) (ι : S37888x1024.Idx) :
    rows.resultIdx? u idx = some ι
      ↔ (idx (Shape.pair (d := S33792x1.size) (show Fin 33792 from u 0) (show Fin 1 from 0))).toInt = ((ι 0).val : Int) ∧ (u 1).val = (ι 1).val := by
  have hw0 : rows.window u 0 = 0 := by
    unfold ScatterDims.window
    exact dif_neg (by decide)
  have hw1 : rows.window u 1 = (u 1).val := by
    unfold ScatterDims.window
    exact (dif_pos (by decide)).trans rfl
  have hs1 : rows.start u idx 1 = 0 := by
    unfold ScatterDims.start
    exact dif_neg (by decide)
  have hs0 : rows.start u idx 0 = (idx (Shape.pair (d := S33792x1.size) (show Fin 33792 from u 0) (show Fin 1 from 0))).toInt := by
    unfold ScatterDims.start
    refine (dif_pos (by decide)).trans (congrArg (fun i => (idx i).toInt) (funext fun b => ?_))
    match b with
    | ⟨0, _⟩ => exact Fin.ext rfl
    | ⟨1, _⟩ => exact Subsingleton.elim (α := Fin 1) _ _
  rw [Routing.resultIdx?_eq_some]
  constructor
  · intro h
    have h0 := h 0
    have h1 := h 1
    rw [hw0, hs0] at h0
    rw [hw1, hs1] at h1
    exact ⟨by omega, by omega⟩
  · rintro ⟨h0, h1⟩ a
    match a with
    | ⟨0, _⟩ => exact (congrArg₂ (fun (x : Int) (y : Nat) => x + (y : Int)) hs0 hw0).trans (by simpa using h0)
    | ⟨1, _⟩ => exact (congrArg₂ (fun (x : Int) (y : Nat) => x + (y : Int)) hs1 hw1).trans (by simpa using h1)

/-- The index words as the scatter takes them: a word below `2³¹` is not moved by the wrap of a negative one. -/
def wrapped (fA : S33792.Idx → BitVec 32) : S33792x1.Idx → BitVec 32 :=
  broadcastInDim S33792x1 ![0] bcast_S33792_S33792x1_0
    (select (cmpi .slt fA (broadcastInDim S33792 ![] bcast_S_S33792 (constantI S_ 32 0#32)))
      (addi fA (broadcastInDim S33792 ![] bcast_S_S33792 (constantI S_ 32 37888#32))) fA)
/-- Each row twice. -/
def twice (h : S16896x1024.Idx → Elt F .f32) : S33792x1024.Idx → Elt F .f32 :=
  shapeCast _ (broadcastInDim S16896x2x1024 ![0, 2] bcast_S16896x1024_S16896x2x1024_0_2 h) shapeCasts_S16896x2x1024_S33792x1024
/-- The reference's result. -/
def scattered (fA : S33792.Idx → BitVec 32) (h : S16896x1024.Idx → Elt F .f32) : S37888x1024.Idx → Elt F .f32 :=
  Host.scatter rows (fun _ b => b) (broadcastInDim S37888x1024 ![] bcast_S_S37888x1024 (constant S_ .f32 0x00000000#32)) (wrapped fA) (twice h)

theorem wrapped_at (fA : S33792.Idx → BitVec 32) (q : Fin 33792) (hq : (fA (Shape.Idx.ofFin q)).toNat < 37888) :
    wrapped fA (Shape.pair (d := S33792x1.size) (show Fin 33792 from q) (show Fin 1 from 0)) = fA (Shape.Idx.ofFin q) := by
  have e : wrapped fA (Shape.pair (d := S33792x1.size) (show Fin 33792 from q) (show Fin 1 from 0))
      = Scalar.select (IntOp.cmpi .slt (fA (Shape.Idx.ofFin q)) 0#32) (fA (Shape.Idx.ofFin q) + 37888#32) (fA (Shape.Idx.ofFin q)) := by
    unfold wrapped
    refine (broadcastInDim_apply _ _ _ _ (Shape.Idx.ofFin q) fun a => ?_).trans rfl
    match a with
    | ⟨0, _⟩ => rfl
  rw [e]
  exact Routing.wrap_of_lt _ _ (by omega)

theorem twice_at (h : S16896x1024.Idx → Elt F .f32) (u : S33792x1024.Idx) :
    twice h u = h (Shape.pair (d := S16896x1024.size) (show Fin 16896 from ⟨(u 0).val / 2, by have : (u 0).val < 33792 := (u 0).isLt; omega⟩)
      (show Fin 1024 from u 1)) := by
  have hu : (u 0).val < 33792 := (u 0).isLt
  unfold twice
  refine (shapeCast_apply _ _ u (ValueIdx.ix3 (⟨(u 0).val / 2, by omega⟩ : Fin 16896) (⟨(u 0).val % 2, by omega⟩ : Fin 2) (u 1 : Fin 1024)) ?_).trans ?_
  · refine (Shape.rowMajor_val_three _).trans (Eq.trans ?_ (Shape.rowMajor_val_two _).symm)
    show ((u 0).val / 2 * 2 + (u 0).val % 2) * 1024 + (u 1).val = (u 0).val * 1024 + (u 1).val
    rw [Nat.div_add_mod']
  · refine congrArg h (funext fun a => ?_)
    match a with
    | ⟨0, _⟩ => exact Fin.ext rfl
    | ⟨1, _⟩ => exact Fin.ext rfl

open Cert.KernelIdeal.Disp in
/-- The reference's result is the dispatched one. -/
theorem scattered_eq (fA : S33792.Idx → BitVec 32) (fB : Cert.KernelIdeal.S4096.Idx → BitVec 32) (h : S16896x1024.Idx → Elt F .f32)
    (hn : Named fA fB) : scattered fA h = dispatched fA fB h := by
  have hword : ∀ q : Fin 33792, ∀ k : Fin 37888, k.val = q.val → word fA fB k = fA (Shape.Idx.ofFin q) := fun q k hk => by
    unfold word
    rw [dif_pos (show k.val < 33792 by rw [hk]; exact q.isLt)]
    exact congrArg fA (congrArg Shape.Idx.ofFin (Fin.ext hk))
  have hpos : ∀ k : Fin 37888, (pos fA fB k).val = (word fA fB k).toNat := fun k => Nat.mod_eq_of_lt (hn.lt k)
  -- update element `u` lands where position `u 0` of the tables says
  have hland : ∀ (u : S33792x1024.Idx) (i : S37888x1024.Idx), rows.resultIdx? u (wrapped fA) = some i ↔
      (pos fA fB ⟨(u 0).val, Nat.lt_trans (u 0).isLt (by decide : (33792 : ℕ) < 37888)⟩).val = (i 0).val ∧ (u 1).val = (i 1).val := fun u i => by
    have hw := hword (show Fin 33792 from u 0) ⟨(u 0).val, Nat.lt_trans (u 0).isLt (by decide : (33792 : ℕ) < 37888)⟩ rfl
    have hlt := hn.lt ⟨(u 0).val, Nat.lt_trans (u 0).isLt (by decide : (33792 : ℕ) < 37888)⟩
    rw [hw] at hlt
    rw [lands, wrapped_at fA _ hlt, hpos, hw, BitVec.toInt_eq_toNat_of_lt (by omega)]
    exact and_congr_left' Int.ofNat_inj
  funext i
  obtain ⟨k, hk⟩ := hn.bij.2 (show Fin 37888 from i 0)
  have hki : (i 0).val = (pos fA fB k).val := (congrArg Fin.val hk).symm
  rw [dispatched_pos fA fB h hn k i hki]
  have hself : ∀ u : S33792x1024.Idx, rows.resultIdx? u (wrapped fA) = some i → (u 0).val = k.val := fun u hu =>
    congrArg Fin.val (hn.bij.1 (Fin.ext (((hland u i).1 hu).1.trans hki)) :
      (⟨(u 0).val, Nat.lt_trans (u 0).isLt (by decide : (33792 : ℕ) < 37888)⟩ : Fin 37888) = k)
  unfold scattered rowAt
  by_cases hlt : k.val < 33792
  · rw [dif_pos hlt]
    refine Routing.scatter_set_hit rows _ _ _ i _ (fun u hu => ?_)
      (Shape.pair (d := S33792x1024.size) (show Fin 33792 from ⟨k.val, hlt⟩) (show Fin 1024 from i 1)) ((hland _ i).2 ⟨hki.symm, rfl⟩)
    rw [twice_at]
    have h0 := hself u hu
    have h1 := ((hland u i).1 hu).2
    exact congrArg h (congrArg₂ (Shape.pair (d := S16896x1024.size)) (Fin.ext (congrArg (· / 2) h0)) (Fin.ext h1))
  · rw [dif_neg hlt, Routing.scatter_set_miss rows _ _ _ i fun u hu => hlt (by
      have := hself u hu
      have h' : (u 0).val < 33792 := (u 0).isLt
      omega)]
    rfl

/-- The reference's run: the dispatched rows, the arguments and the counters unchanged. -/
theorem run (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v9) = scattered (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨h, sem_eq_zero_of_no_sems (by decide) r.2⟩) (Cert.ReferenceIdeal.Value.run m ρ)

end Cert.ReferenceIdeal.Disp

end
-- ==== Proof.Pre.lean ====
/-
  The precondition read: the tables laid end to end sort to `0, 1, …, 37887`, so every word names a row and every row is named once.
-/
module

public import proofs.«01_k».proof.Proof.Rows
public import proofs.«01_k».proof.Proof.Gen.Pre_every_row_named_once
public import Idealize.ShloMosaic.Lib.SortFacts
public import Idealize.ShloMosaic.Lib.StableHlo.Predicate
public import Idealize.ShloMosaic.Lib.Pointwise

@[expose] public section

noncomputable section

namespace Cert.KernelIdeal.Disp

open Idealize.ShloMosaic Cert.Pre_every_row_named_once Cert.Pre_every_row_named_once.Gen

/-- The tables laid end to end, read at position `k`. -/
theorem joined (fA : Cert.KernelIdeal.S33792.Idx → BitVec 32) (fB : Cert.KernelIdeal.S4096.Idx → BitVec 32) (k : Fin 37888) :
    concatenate Cert.Pre_every_row_named_once.S37888 0 [⟨Cert.Pre_every_row_named_once.S33792, fA⟩, ⟨Cert.Pre_every_row_named_once.S4096, fB⟩]
      concatenates_S33792_S4096_S37888_d0 (Shape.Idx.ofFin k) = word fA fB k := by
  rw [concatenate_pair_apply]
  unfold word
  by_cases h : k.val < 33792
  · rw [dif_pos h]
    refine (dif_pos (show (Shape.Idx.ofFin k 0).val < 33792 from h)).trans (congrArg fA ?_)
    rw [Shape.Idx.eq_ofFin (Shape.Idx.norm _)]
    exact congrArg Shape.Idx.ofFin (Fin.ext rfl)
  · rw [dif_neg h]
    refine (dif_neg (show ¬ (Shape.Idx.ofFin k 0).val < 33792 from h)).trans (congrArg fB ?_)
    rw [Shape.Idx.eq_ofFin (Shape.Idx.norm _)]
    exact congrArg Shape.Idx.ofFin (Fin.ext rfl)

theorem named_of_pre {F : FTy → Type} [FloatOps F] (h : Cert.KernelIdeal.S16896x1024.Idx → Elt F .f32) (fA : Cert.KernelIdeal.S33792.Idx → BitVec 32)
    (fB : Cert.KernelIdeal.S4096.Idx → BitVec 32) (hp : Cert.Pre_every_row_named_once.fn (F := F) h fA fB = fun _ => 1#1) : Named fA fB := by
  have hs : ∀ j, Host.sort Cert.Pre_every_row_named_once.S37888 0 comparator_i32_d0
      (concatenate Cert.Pre_every_row_named_once.S37888 0 [⟨Cert.Pre_every_row_named_once.S33792, fA⟩, ⟨Cert.Pre_every_row_named_once.S4096, fB⟩]
        concatenates_S33792_S4096_S37888_d0) j = iotaInDim Cert.Pre_every_row_named_once.S37888 32 0 j := fun j =>
    StableHlo.Predicate.cmpi_eq_iff.1 (congrFun hp j)
  generalize hx : concatenate Cert.Pre_every_row_named_once.S37888 0 [⟨Cert.Pre_every_row_named_once.S33792, fA⟩, ⟨Cert.Pre_every_row_named_once.S4096, fB⟩]
        concatenates_S33792_S4096_S37888_d0 = x at hs
  have hw : ∀ k : Fin 37888, x (Shape.Idx.ofFin k) = word fA fB k := fun k => by rw [← hx]; exact joined fA fB k
  have hinj := injective_toNat_of_sort_eq_iota (n := 37888) (w := 32) (by decide) comparator_i32_d0 x hs
  have hlt : ∀ k, (word fA fB k).toNat < 37888 := fun k => by
    obtain ⟨k', hk'⟩ := sortedFrom_surjective (fun a b => comparator_i32_d0 (x (Shape.Idx.ofFin a)) (x (Shape.Idx.ofFin b)) == 1#1) k
    have e := hs (Shape.Idx.ofFin k')
    rw [Host.sort_rank1] at e
    have e' : x (Shape.Idx.ofFin k) = BitVec.ofNat 32 k'.val := by rw [← hk']; exact e
    rw [← hw, e', BitVec.toNat_ofNat]
    exact Nat.lt_of_le_of_lt (Nat.mod_le _ _) k'.isLt
  refine ⟨hlt, Finite.injective_iff_bijective.1 fun k k' hkk => ?_⟩
  have hv : (word fA fB k).toNat = (word fA fB k').toNat := by
    have := congrArg Fin.val hkk
    exact (Nat.mod_eq_of_lt (hlt k)).symm.trans (this.trans (Nat.mod_eq_of_lt (hlt k')))
  rw [← hw, ← hw] at hv
  have := congrFun (hinj hv) 0
  exact this

end Cert.KernelIdeal.Disp

end
-- ==== Proof.FfnBody.lean ====
/-
  One grid point of the experts' feed-forward call: the block that the body leaves, and its run.
-/
module

public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2
public import proofs.«01_k».proof.Proof.Gen.Reference2Ideal
public import proofs.«01_k».proof.Proof.Gen.Reference2Ideal.Run
public import proofs.«01_k».proof.Proof.Gen.Pre_every_block_has_an_expert
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Pipeline.Value
public import Idealize.ShloMosaic.Lib.StableHlo.Predicate

@[expose] public section

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables that the call is handed. -/
abbrev tabE : Memref sig .tc .smem S74 .i32 := Memref.whole main_arg1
abbrev tabN : Memref sig .tc .smem S1 .i32 := Memref.whole main_arg2

/-- The number of blocks in use, as the body loads it. -/
abbrev inUse (T1 : S1.Idx → BitVec 32) : BitVec 32 :=
  View.readAt (Elt F) (tabN).view (Rect.unit (s := S1) ![0] S1.size inb_S1_S1_0).toLoadRect T1 (Shape.Idx.first (numel1_S1.symm ▸ Nat.one_pos))

/-- The feed-forward of a block, each weight in two slabs of the hidden axis. -/
def fed (x0 : S512x1024.Idx → Elt F .f32) (x1 x2 : S1x1024x2816.Idx → Elt F .bf16) (x3 : S1x2816x1024.Idx → Elt F .bf16) :
    S512x1024.Idx → Elt F .f32 :=
  k0_pay1 x0
    (VecWindow.window x1 ![0, 0, 0] S1x1024x1536.size inb_S1x1024x2816_S1x1024x1536_0_0_0)
    (VecWindow.window x2 ![0, 0, 0] S1x1024x1536.size inb_S1x1024x2816_S1x1024x1536_0_0_0)
    (VecWindow.window x3 ![0, 0, 0] S1x1536x1024.size inb_S1x2816x1024_S1x1536x1024_0_0_0)
    (VecWindow.window x1 ![0, 0, 1536] S1x1024x1280.size inb_S1x1024x2816_S1x1024x1280_0_0_1536)
    (VecWindow.window x2 ![0, 0, 1536] S1x1024x1280.size inb_S1x1024x2816_S1x1024x1280_0_0_1536)
    (VecWindow.window x3 ![0, 1536, 0] S1x1280x1024.size inb_S1x2816x1024_S1x1280x1024_0_1536_0)

/-- What the body leaves in the result's block at a point. -/
def left (i : grid0.Coords) (n : BitVec 32) (x0 : S512x1024.Idx → Elt F .f32) (x1 x2 : S1x1024x2816.Idx → Elt F .bf16)
    (x3 : S1x2816x1024.Idx → Elt F .bf16) : S512x1024.Idx → Elt F .f32 :=
  if k0_cond1 i n = 1#1 then fed x0 x1 x2 x3 else k0_pay2

theorem one_of (i : grid0.Coords) (n : BitVec 32) : (k0_cond1 i n = 1#1 ∧ ¬ k0_cond2 i n = 1#1) ∨ (¬ k0_cond1 i n = 1#1 ∧ k0_cond2 i n = 1#1) := by
  unfold k0_cond1 k0_cond2
  generalize BitVec.ofNat 32 (i 0).val = a
  simp only [Scalar.cmpi, Scalar.extui, IntOp.cmpi]
  rw [BitVec.sle_eq_not_slt]
  cases a.slt n <;> decide

/-- What the body is handed at a point, the result's block at any contents. -/
def Given (c : Dev nD) (T0 : S74.Idx → BitVec 32) (T1 : S1.Idx → BitVec 32)
    (a0 : Memref sig .tc .vmem S512x1024 .f32) (a1 a2 : Memref sig .tc .vmem S1x1024x2816 .bf16) (a3 : Memref sig .tc .vmem S1x2816x1024 .bf16)
    (x0 : S512x1024.Idx → Elt F .f32) (x1 x2 : S1x1024x2816.Idx → Elt F .bf16) (x3 : S1x2816x1024.Idx → Elt F .bf16) : sProp 𝕄 :=
  iprop((tabE.view.loc (c : Thread nD τ) ↦{fullShare.right} T0) ∗ (tabN.view.loc (c : Thread nD τ) ↦{fullShare.right} T1)
    ∗ owns (c : Thread nD τ) a0 fullShare x0 ∗ owns (c : Thread nD τ) a1 fullShare x1
    ∗ owns (c : Thread nD τ) a2 fullShare x2 ∗ owns (c : Thread nD τ) a3 fullShare x3)

theorem whole_store (v : View sig .tc .vmem S512x1024 .f32) (f : v.ty.Contents (Elt F)) (w : S512x1024.Idx → Elt F .f32) :
    v.read (Elt F) (v.writes (Elt F) f [⟨Rect.unit (s := S512x1024) ![0, 0] S512x1024.size inb_S512x1024_S512x1024_0_0, w⟩]) = w := by
  rw [View.read_writes_eq_canon _ _ _ (View.cover_of_tiledL _ S512x1024.size (by sl_kernel_rfl))]
  exact View.canon_cons_unit_zero (by decide) _ _ _

set_option maxHeartbeats 8000000 in
theorem run_used (c : Dev nD) (i : grid0.Coords) (T0 : S74.Idx → BitVec 32) (T1 : S1.Idx → BitVec 32)
    (a0 : Memref sig .tc .vmem S512x1024 .f32) (h0 : a0.IsWhole) (a1 : Memref sig .tc .vmem S1x1024x2816 .bf16) (h1 : a1.IsWhole)
    (a2 : Memref sig .tc .vmem S1x1024x2816 .bf16) (h2 : a2.IsWhole) (a3 : Memref sig .tc .vmem S1x2816x1024 .bf16) (h3 : a3.IsWhole)
    (a4 : Memref sig .tc .vmem S512x1024 .f32) (h4 : a4.IsWhole)
    (x0 : S512x1024.Idx → Elt F .f32) (x1 x2 : S1x1024x2816.Idx → Elt F .bf16) (x3 : S1x2816x1024.Idx → Elt F .bf16)
    (k0_h1 : k0_cond1 i (inUse (F := F) T1) = 1#1) (k0_h2 : ¬ k0_cond2 i (inUse (F := F) T1) = 1#1) (K : PUnit → sProp 𝕄) :
    iprop(Given c T0 T1 a0 a1 a2 a3 x0 x1 x2 x3 ∗ (∃ d, owns (c : Thread nD τ) a4 fullShare d)
        ∗ (iprop(Given c T0 T1 a0 a1 a2 a3 x0 x1 x2 x3 ∗ owns (c : Thread nD τ) a4 fullShare (fed x0 x1 x2 x3)) -∗ K ⟨⟩))
      ⊢ wp frame (wpE (defs₀ (F := F)) Variants.none c none) Set.univ
          (cc0_moe_ffn i tabE (Memref.isWhole_whole _) tabN (Memref.isWhole_whole _) a0 h0 a1 h1 a2 h2 a3 h3 a4 h4) K := by
  unfold Given
  rw [owns_eq_rep (c : Thread nD τ) a0, owns_eq_rep (c : Thread nD τ) a1, owns_eq_rep (c : Thread nD τ) a2, owns_eq_rep (c : Thread nD τ) a3]
  unfold owns
  rw [cc0_moe_ffn_eq_skeleton]; unfold cc0_moe_ffn_skel
  iintro ⟨⟨HT0, HT1, H0, H1, H2, H3⟩, ⟨%d4, %f4, -, HO4⟩, Hk⟩
  have hT0 : tabE.IsWhole := Memref.isWhole_whole _
  have hT1 : tabN.IsWhole := Memref.isWhole_whole _
  sl_exec! (disch := first | (guard_target = k0_cond1 _ _ = _; exact k0_h1) | (guard_target = ¬(k0_cond2 _ _ = _); exact k0_h2))
  sl_step
  iapply Hk
  isplitl [HT0 HT1 H0 H1 H2 H3]
  · isplitl [HT0]; · iexact HT0
    isplitl [HT1]; · iexact HT1
    isplitl [H0]; · iexact H0
    isplitl [H1]; · iexact H1
    isplitl [H2]; · iexact H2
    iexact H3
  iexists _; isplitr; swap
  · iexact HO4
  ipureintro
  sl_unfold_words
  rw [whole_store]
  unfold fed
  congr 1
  · exact View.readAt_rep_full _ _ _
  all_goals exact View.readAt_rep_unit _ _ _ rfl _

set_option maxHeartbeats 8000000 in
theorem run_unused (c : Dev nD) (i : grid0.Coords) (T0 : S74.Idx → BitVec 32) (T1 : S1.Idx → BitVec 32)
    (a0 : Memref sig .tc .vmem S512x1024 .f32) (h0 : a0.IsWhole) (a1 : Memref sig .tc .vmem S1x1024x2816 .bf16) (h1 : a1.IsWhole)
    (a2 : Memref sig .tc .vmem S1x1024x2816 .bf16) (h2 : a2.IsWhole) (a3 : Memref sig .tc .vmem S1x2816x1024 .bf16) (h3 : a3.IsWhole)
    (a4 : Memref sig .tc .vmem S512x1024 .f32) (h4 : a4.IsWhole)
    (x0 : S512x1024.Idx → Elt F .f32) (x1 x2 : S1x1024x2816.Idx → Elt F .bf16) (x3 : S1x2816x1024.Idx → Elt F .bf16)
    (k0_h1 : ¬ k0_cond1 i (inUse (F := F) T1) = 1#1) (k0_h2 : k0_cond2 i (inUse (F := F) T1) = 1#1) (K : PUnit → sProp 𝕄) :
    iprop(Given c T0 T1 a0 a1 a2 a3 x0 x1 x2 x3 ∗ (∃ d, owns (c : Thread nD τ) a4 fullShare d)
        ∗ (iprop(Given c T0 T1 a0 a1 a2 a3 x0 x1 x2 x3 ∗ owns (c : Thread nD τ) a4 fullShare (k0_pay2 (F := F))) -∗ K ⟨⟩))
      ⊢ wp frame (wpE (defs₀ (F := F)) Variants.none c none) Set.univ
          (cc0_moe_ffn i tabE (Memref.isWhole_whole _) tabN (Memref.isWhole_whole _) a0 h0 a1 h1 a2 h2 a3 h3 a4 h4) K := by
  unfold Given
  rw [owns_eq_rep (c : Thread nD τ) a0, owns_eq_rep (c : Thread nD τ) a1, owns_eq_rep (c : Thread nD τ) a2, owns_eq_rep (c : Thread nD τ) a3]
  unfold owns
  rw [cc0_moe_ffn_eq_skeleton]; unfold cc0_moe_ffn_skel
  iintro ⟨⟨HT0, HT1, H0, H1, H2, H3⟩, ⟨%d4, %f4, -, HO4⟩, Hk⟩
  have hT0 : tabE.IsWhole := Memref.isWhole_whole _
  have hT1 : tabN.IsWhole := Memref.isWhole_whole _
  sl_exec! (disch := first | (guard_target = ¬(k0_cond1 _ _ = _); exact k0_h1) | (guard_target = k0_cond2 _ _ = _; exact k0_h2))
  sl_step
  iapply Hk
  isplitl [HT0 HT1 H0 H1 H2 H3]
  · isplitl [HT0]; · iexact HT0
    isplitl [HT1]; · iexact HT1
    isplitl [H0]; · iexact H0
    isplitl [H1]; · iexact H1
    isplitl [H2]; · iexact H2
    iexact H3
  iexists _; isplitr; swap
  · iexact HO4
  ipureintro
  sl_unfold_words
  exact whole_store _ _ _

theorem run_body (c : Dev nD) (i : grid0.Coords) (T0 : S74.Idx → BitVec 32) (T1 : S1.Idx → BitVec 32)
    (a0 : Memref sig .tc .vmem S512x1024 .f32) (h0 : a0.IsWhole) (a1 : Memref sig .tc .vmem S1x1024x2816 .bf16) (h1 : a1.IsWhole)
    (a2 : Memref sig .tc .vmem S1x1024x2816 .bf16) (h2 : a2.IsWhole) (a3 : Memref sig .tc .vmem S1x2816x1024 .bf16) (h3 : a3.IsWhole)
    (a4 : Memref sig .tc .vmem S512x1024 .f32) (h4 : a4.IsWhole)
    (x0 : S512x1024.Idx → Elt F .f32) (x1 x2 : S1x1024x2816.Idx → Elt F .bf16) (x3 : S1x2816x1024.Idx → Elt F .bf16) (K : PUnit → sProp 𝕄) :
    iprop(Given c T0 T1 a0 a1 a2 a3 x0 x1 x2 x3 ∗ (∃ d, owns (c : Thread nD τ) a4 fullShare d)
        ∗ (iprop(Given c T0 T1 a0 a1 a2 a3 x0 x1 x2 x3 ∗ owns (c : Thread nD τ) a4 fullShare (left i (inUse (F := F) T1) x0 x1 x2 x3)) -∗ K ⟨⟩))
      ⊢ wp frame (wpE (defs₀ (F := F)) Variants.none c none) Set.univ
          (cc0_moe_ffn i tabE (Memref.isWhole_whole _) tabN (Memref.isWhole_whole _) a0 h0 a1 h1 a2 h2 a3 h3 a4 h4) K := by
  unfold left
  rcases one_of i (inUse (F := F) T1) with ⟨u, v⟩ | ⟨u, v⟩
  · rw [if_pos u]; exact run_used c i T0 T1 a0 h0 a1 h1 a2 h2 a3 h3 a4 h4 x0 x1 x2 x3 u v K
  · rw [if_neg u]; exact run_unused c i T0 T1 a0 h0 a1 h1 a2 h2 a3 h3 a4 h4 x0 x1 x2 x3 u v K

end Cert.Kernel2Ideal.Ffn

end
-- ==== Proof.FfnRun.lean ====
/-
  The experts' feed-forward call's run, for any table of experts in range: its result is, block by block, what the body leaves.
-/
module

public import proofs.«01_k».proof.Proof.FfnBody
public import Idealize.ShloMosaic.Lib.Pipeline.Quiescent
public import Idealize.ShloMosaic.Lib.Pipeline.ValueKit

@[expose] public section

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What the result holds -/

/-- Every word of the table names one of the eight experts. -/
def InRange (T : S74.Idx → BitVec 32) : Prop := ∀ j, (T j).toNat < 8

theorem row_lt (b : Fin 74) (y : S512x1024.Idx) : 512 * b.val + (y 0).val < 37888 := by
  have h : (y 0).val < 512 := (y 0).isLt
  omega

/-- Block `b` of the rows. -/
def rows (X : S37888x1024.Idx → Elt F .f32) (b : Fin 74) : S512x1024.Idx → Elt F .f32 := fun y =>
  X (Shape.pair (d := S37888x1024.size) (show Fin 37888 from ⟨512 * b.val + (y 0).val, row_lt b y⟩) (show Fin 1024 from y 1))

/-- The expert of block `b`. -/
def who (T : S74.Idx → BitVec 32) (b : Fin 74) : Fin 8 := Fin.ofNat 8 (T (Shape.Idx.ofFin b)).toNat

/-- One expert's weights, out of all of them. -/
def oneUp (W : S8x1024x2816.Idx → Elt F .bf16) (e : Fin 8) : S1x1024x2816.Idx → Elt F .bf16 := fun y =>
  W (fun | ⟨0, _⟩ => e | ⟨1, _⟩ => y 1 | ⟨2, _⟩ => y 2 | ⟨_ + 3, h⟩ => absurd h (Nat.not_lt.2 (Nat.le_add_left _ _)))
def oneDown (W : S8x2816x1024.Idx → Elt F .bf16) (e : Fin 8) : S1x2816x1024.Idx → Elt F .bf16 := fun y =>
  W (fun | ⟨0, _⟩ => e | ⟨1, _⟩ => y 1 | ⟨2, _⟩ => y 2 | ⟨_ + 3, h⟩ => absurd h (Nat.not_lt.2 (Nat.le_add_left _ _)))

theorem N_eq : grid0.N = 74 := by decide

/-- Block `b` of the result. -/
def blockOf (X : S37888x1024.Idx → Elt F .f32) (T0 : S74.Idx → BitVec 32) (T1 : S1.Idx → BitVec 32)
    (Wg Wu : S8x1024x2816.Idx → Elt F .bf16) (Wd : S8x2816x1024.Idx → Elt F .bf16) (b : Fin 74) : S512x1024.Idx → Elt F .f32 :=
  left (grid0.coords (b.cast N_eq.symm)) (inUse (F := F) T1) (rows X b) (oneUp Wg (who T0 b)) (oneUp Wu (who T0 b)) (oneDown Wd (who T0 b))

theorem block_lt (j : S37888x1024.Idx) : (j 0).val / 512 < 74 := by
  have h : (j 0).val < 37888 := (j 0).isLt
  omega

theorem in_lt (j : S37888x1024.Idx) : (j 0).val % 512 < 512 := Nat.mod_lt _ (by decide)

/-- The result. -/
def result (X : S37888x1024.Idx → Elt F .f32) (T0 : S74.Idx → BitVec 32) (T1 : S1.Idx → BitVec 32)
    (Wg Wu : S8x1024x2816.Idx → Elt F .bf16) (Wd : S8x2816x1024.Idx → Elt F .bf16) : S37888x1024.Idx → Elt F .f32 := fun j =>
  blockOf X T0 T1 Wg Wu Wd ⟨(j 0).val / 512, block_lt j⟩
    (Shape.pair (d := S512x1024.size) (show Fin 512 from ⟨(j 0).val % 512, in_lt j⟩) (show Fin 1024 from j 1))

/-! ## The pipeline at the launch's tables -/

variable (m : (ℓ : Loc nD τ sig) → Buf (Elt F) ℓ)

/-- A buffer's contents at launch. -/
def atStart (c : Dev nD) (b : Ref sig .tc) : Buf (Elt F) ((c : Thread nD τ).loc b) := m ((c : Thread nD τ).loc b)

/-- The two tables' contents at launch. -/
def tables : pre0.Contents (Elt F) := fun
  | ⟨0, _⟩ => m (((0 : Dev nD) : Thread nD τ).loc main_arg1)
  | ⟨1, _⟩ => m (((0 : Dev nD) : Thread nD τ).loc main_arg2)
  | ⟨_ + 2, h⟩ => absurd h (Nat.not_lt.2 (Nat.le_add_left _ _))

theorem word_at (i : grid0.Coords) : (tables m).at 0 (Rect.unit (s := S74) (k0_off1 i) S1.size (k0_off1_inb i)) numel1_S1
    = atStart m 0 main_arg1 (Shape.Idx.ofFin (show Fin 74 from i 0)) := by
  show m (((0 : Dev nD) : Thread nD τ).loc main_arg1) _ = m (((0 : Dev nD) : Thread nD τ).loc main_arg1) _
  congr 1
  funext a
  refine Fin.ext ?_
  match a with
  | ⟨0, _⟩ =>
    show k0_off1 i 0 + 1 * 0 = (i 0).val
    have h : ((i 0).val : ℕ) < 74 := (i 0).isLt
    show (Scalar.indexCast (BitVec.ofNat 32 (i 0).val)).toNat + 1 * 0 = (i 0).val
    show (BitVec.ofNat 32 (i 0).val).toNat + 1 * 0 = (i 0).val
    rw [BitVec.toNat_ofNat, Nat.mod_eq_of_lt (by omega)]; rfl
  | ⟨_ + 1, h⟩ => exact absurd h (Nat.not_lt.2 (Nat.le_add_left _ _))

theorem word_lt (hr : InRange (atStart m 0 main_arg1)) (i : grid0.Coords) :
    ((tables m).at 0 (Rect.unit (s := S74) (k0_off1 i) S1.size (k0_off1_inb i)) numel1_S1).toNat < 8 := by
  rw [word_at]; exact hr _

theorem up_inb (hr : InRange (atStart m 0 main_arg1)) (i : grid0.Coords) (a : Fin 3) :
    (cc0_transform_1 k0_off1_inb numel1_S1 (tables m) i a + 1) * S1x1024x2816.size a ≤ S8x1024x2816.size a := by
  have h := word_lt m hr i
  match a with
  | ⟨0, _⟩ => exact (Nat.mul_one _).le.trans h
  | ⟨1, _⟩ => show (0 + 1) * 1024 ≤ 1024; decide
  | ⟨2, _⟩ => show (0 + 1) * 2816 ≤ 2816; decide
  | ⟨_ + 3, h⟩ => exact absurd h (Nat.not_lt.2 (Nat.le_add_left _ _))

theorem down_inb (hr : InRange (atStart m 0 main_arg1)) (i : grid0.Coords) (a : Fin 3) :
    (cc0_transform_3 k0_off1_inb numel1_S1 (tables m) i a + 1) * S1x2816x1024.size a ≤ S8x2816x1024.size a := by
  have h := word_lt m hr i
  match a with
  | ⟨0, _⟩ => exact (Nat.mul_one _).le.trans h
  | ⟨1, _⟩ => show (0 + 1) * 2816 ≤ 2816; decide
  | ⟨2, _⟩ => show (0 + 1) * 1024 ≤ 1024; decide
  | ⟨_ + 3, h⟩ => exact absurd h (Nat.not_lt.2 (Nat.le_add_left _ _))

theorem ok_tables (hr : InRange (atStart m 0 main_arg1)) : ok0 (tables m) :=
  ⟨fun i => ⟨up_inb m hr i, .inr (Affine.block_words_dvd (s := S8x1024x2816) (p := EltTy.packing .bf16) (by decide) (by decide))⟩,
   fun i => ⟨up_inb m hr i, .inr (Affine.block_words_dvd (s := S8x1024x2816) (p := EltTy.packing .bf16) (by decide) (by decide))⟩,
   fun i => ⟨down_inb m hr i, .inr (Affine.block_words_dvd (s := S8x2816x1024) (p := EltTy.packing .bf16) (by decide) (by decide))⟩⟩

variable (hr : InRange (atStart m 0 main_arg1))

def adm : (pcfg0 (F := F)).Adm := ⟨tables m, ok_tables m hr⟩

abbrev cfgA : Pipeline.Cfg sig Λ₀ := cfg0 (adm m hr)
abbrev pcs : Fin 1 → Pipeline.Cfg sig Λ₀ := Pipeline.pin (pcfgs (F := F)) fun _ => adm m hr

/-- A point's number as a block's. -/
abbrev blockAt (t : Fin grid0.N) : Fin 74 := t.cast N_eq

theorem coords0 (t : Fin grid0.N) : ((grid0.coords t) 0).val = t.val := by
  revert t; decide

/-- Window `w`'s block at point `t`, at launch. -/
def held (c : Dev nD) (w : Fin (cfgA m hr).W) (t : Fin (cfgA m hr).N) :
    (((cfgA m hr).win w).xblock ((cfgA m hr).grid.coords t)).Idx → Elt F ((cfgA m hr).win w).elt :=
  (((cfgA m hr).win w).blk t).view.read (Elt F) (m (((cfgA m hr).win w).arr.view.loc (c : Thread nD τ)))

/-- The state between points: the body's halves of the tables. -/
def Inv (c : Dev nD) : sProp 𝕄 :=
  iprop((tabE.view.loc (c : Thread nD τ) ↦{fullShare.right} tables m 0) ∗ (tabN.view.loc (c : Thread nD τ) ↦{fullShare.right} tables m 1))

def dats (_ : Fin 1) (c : Dev nD) : Dat τ (Elt F) Unit ℕ (UR sig nD τ) ℕ (cfgA m hr) c where
  A w := m (((cfgA m hr).win w).arr.view.loc (c : Thread nD τ))
  after w t := match w with
    | ⟨0, _⟩ => held m hr c (0 : Fin 5) t
    | ⟨1, _⟩ => held m hr c (1 : Fin 5) t
    | ⟨2, _⟩ => held m hr c (2 : Fin 5) t
    | ⟨3, _⟩ => held m hr c (3 : Fin 5) t
    | ⟨4, _⟩ => left (grid0.coords t) (inUse (F := F) (tables m 1)) (held m hr c (0 : Fin 5) t) (held m hr c (1 : Fin 5) t)
        (held m hr c (2 : Fin 5) t) (held m hr c (3 : Fin 5) t)
  Φ t := Inv m c
  q _ := fullShare
  owed _ := 0

theorem before0 (c : Dev nD) (t : Fin (cfgA m hr).N) (d) : (dats m hr 0 c).before (0 : Fin 5) t d = held m hr c (0 : Fin 5) t :=
  (dats m hr 0 c).before_in_eq_fetched (0 : Fin 5) rfl (fun _ => rfl) (fun _ _ _ => rfl) (fun _ => rfl) t d
theorem before1 (c : Dev nD) (t : Fin (cfgA m hr).N) (d) : (dats m hr 0 c).before (1 : Fin 5) t d = held m hr c (1 : Fin 5) t :=
  (dats m hr 0 c).before_in_eq_fetched (1 : Fin 5) rfl (fun _ => rfl) (fun _ _ _ => rfl) (fun _ => rfl) t d
theorem before2 (c : Dev nD) (t : Fin (cfgA m hr).N) (d) : (dats m hr 0 c).before (2 : Fin 5) t d = held m hr c (2 : Fin 5) t :=
  (dats m hr 0 c).before_in_eq_fetched (2 : Fin 5) rfl (fun _ => rfl) (fun _ _ _ => rfl) (fun _ => rfl) t d
theorem before3 (c : Dev nD) (t : Fin (cfgA m hr).N) (d) : (dats m hr 0 c).before (3 : Fin 5) t d = held m hr c (3 : Fin 5) t :=
  (dats m hr 0 c).before_in_eq_fetched (3 : Fin 5) rfl (fun _ => rfl) (fun _ _ _ => rfl) (fun _ => rfl) t d

/-- The body stores into the result's block at each point, whatever the count of blocks in use. -/
theorem stores (t : Fin (cfgA m hr).N) : (cfgA m hr).idle (4 : Fin 5) ((cfgA m hr).grid.coords t) = false := by
  show (!(k0_cond1 (grid0.coords t) _ == 1#1) && !(k0_cond2 (grid0.coords t) _ == 1#1)) = false
  rcases one_of (grid0.coords t) ((tables m).atD 1 ![0]) with ⟨u, v⟩ | ⟨u, v⟩
  · rw [show k0_cond1 (grid0.coords t) ((adm m hr).1.atD 1 ![0]) = 1#1 from u]; rfl
  · rw [show k0_cond2 (grid0.coords t) ((adm m hr).1.atD 1 ![0]) = 1#1 from v, Bool.and_comm]; rfl

theorem row (t : Fin grid0.N) (s : (w : Fin 5) → Fin (spec0 w).nbuf) :
    (defs₀ (F := F)) .tc 0 (t, s)
      = cc0_moe_ffn (grid0.coords t) tabE (Memref.isWhole_whole _) tabN (Memref.isWhole_whole _)
          (spec0_0.stage (s 0)) (hstage0_0 ((s 0).cast nbuf0_0)) (spec0_1.stage (s 1)) (hstage0_1 ((s 1).cast nbuf0_1))
          (spec0_2.stage (s 2)) (hstage0_2 ((s 2).cast nbuf0_2)) (spec0_3.stage (s 3)) (hstage0_3 ((s 3).cast nbuf0_3))
          (spec0_4.stage (s 4)) (hstage0_4 ((s 4).cast nbuf0_4)) := by
  unfold defs₀; rw [Defs.onTc_tc]

theorem body (c : Dev nD) : BodyObligation (dats m hr 0 c) (defs₀ (F := F)) Variants.none () Set.univ := by
  intro t
  rw [bigSep_W0, bigSep_W0]
  rewrite [stores m hr t]
  simp only [before0, before1, before2, before3]
  rw [show (dats m hr 0 c).Φ t.castSucc = Inv m c from rfl, show (dats m hr 0 c).Φ t.succ = Inv m c from rfl,
    show (dats m hr 0 c).owesAt () t.succ = (dats m hr 0 c).owesAt () t.castSucc from rfl]
  unfold Inv
  refine BIBase.Entails.trans ?_ (BIBase.Entails.of_eq (congrArg (fun e => wp frame _ _ e _) (row t _).symm))
  iintro ⟨⟨HT0, HT1⟩, Ho, ⟨%d0, H0⟩, ⟨%d1, H1⟩, ⟨%d2, H2⟩, ⟨%d3, H3⟩, ⟨%d4, H4⟩⟩
  iapply (run_body c (grid0.coords t) (tables m 0) (tables m 1) _ _ _ _ _ _ _ _ _ _
    (held m hr c (0 : Fin 5) t) (held m hr c (1 : Fin 5) t) (held m hr c (2 : Fin 5) t) (held m hr c (3 : Fin 5) t) _)
  unfold Given
  isplitl [HT0 HT1 H0 H1 H2 H3]
  · isplitl [HT0]; · iexact HT0
    isplitl [HT1]; · iexact HT1
    isplitl [H0]; · iexact H0
    isplitl [H1]; · iexact H1
    isplitl [H2]; · iexact H2
    iexact H3
  isplitl [H4]; · iexists _; iexact H4
  iintro ⟨⟨HT0, HT1, H0, H1, H2, H3⟩, H4⟩
  isplitl [HT0 HT1]
  · isplitl [HT0]
    · iexact HT0
    iexact HT1
  isplitl [Ho]; · iexact Ho
  isplitl [H0]; · iexact H0
  isplitl [H1]; · iexact H1
  isplitl [H2]; · iexact H2
  isplitl [H3]; · iexact H3
  iexact H4

/-! ## The launch -/

def u₀ : UR sig nD τ :=
  initOf (Pipeline.cells (pcs m hr) ((launch0 (F := F)).cellOf_inj fun _ => adm m hr))
    (Pipeline.launchToks (pcs m hr) ((launch0 (F := F)).cellOf_inj fun _ => adm m hr))

theorem share_eq (c : Dev nD) (w : Fin (cfgA m hr).W) : (dats m hr 0 c).share w = fullShare := by unfold Dat.share; split <;> rfl

theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  exact bigSep_univ_eq_bigSepL [(0 : Fin 2), 1] (by decide) (by decide) _

theorem enter (c : Dev nD) :
    iprop(BI.emp ∗ Pipeline.prefHeld pre0 c (fun _ => fullShare.right) (adm m hr).1 ∗ Pipeline.scopedRest spec0 c) ⊢ (dats m hr 0 c).Φ 0 := by
  rw [tables_eq, scopedRest0_eq, show (dats m hr 0 c).Φ 0 = Inv m c from rfl]
  unfold Inv
  iintro ⟨-, ⟨HT0, HT1⟩, -⟩
  isplitl [HT0]
  · iexact HT0
  iexact HT1

theorem leave (c : Dev nD) : (dats m hr 0 c).Φ (Fin.last (cfgA m hr).N) ⊢ iprop(BI.emp ∗ Pipeline.scopedRest spec0 c) := by
  rw [scopedRest0_eq, show (dats m hr 0 c).Φ (Fin.last (cfgA m hr).N) = Inv m c from rfl]
  unfold Inv
  iintro ⟨-, -⟩
  isplitr; · iempintro
  iempintro

theorem tables_at (c : Dev nD) (k : Fin 2) : m ((c : Thread nD τ).loc (pre0.ref k)) = (adm m hr).1 k := by
  obtain rfl : c = 0 := Subsingleton.elim _ _
  match k with
  | ⟨0, _⟩ => rfl
  | ⟨1, _⟩ => rfl

set_option backward.isDefEq.respectTransparency.types false in
set_option maxHeartbeats 4000000 in
theorem run_arrays (g : Dev nD → PrngReg) : θ_run (defs (F := F)) (onTc (τ := τ) (main (F := F))) ⟨m, fun _ => 0, g⟩ (fun r =>
    (∀ c : Dev nD, (∀ w : Fin (cfgA m hr).W, r.2.mem (((cfgA m hr).win w).arr.view.loc (c : Thread nD τ)) = (dats m hr 0 c).arrAt w (cfgA m hr).N)
      ∧ ∀ j, r.2.mem ((c : Thread nD τ).loc (pre0.ref j)) = (adm m hr).1 j) ∧ r.2.sem = fun _ => 0) :=
  Pipeline.θ_run_region_noSem_pf_quiescent pcfgs (fun _ => adm m hr) (dats m hr) () ((launch0 (F := F)).cellOf_inj fun _ => adm m hr) (0 : Fin 1)
    (launch0 (F := F)).win.to₀ (launch0 (F := F)).pre emb₁ defs₀ Variants.none m g main
    (hbody := fun c => (body m hr c).loose) (hne := (launch0 (F := F)).block_pos)
    (harr := (launch0 (F := F)).arr_whole) (hstage := (launch0 (F := F)).stage_whole) (howed := fun _ _ => rfl)
    (u₀ := u₀ m hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hr) (dats m hr) 0 (launch0 (F := F)).win.arr_inj c (launch0 (F := F)).arr_whole
      (share_eq m hr c) _ _ fun _ => rfl)
    (hpf := tables_at m hr)
    (X := fun _ => iprop(emp)) (Y := fun _ => iprop(emp)) (Z := fun _ => iprop(emp))
    (hX := fun c => by rw [unscopedRestP0_eq]; iintro -; isplitr <;> iempintro)
    (hin := enter m hr)
    (hout := leave m hr)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Kernel2Ideal.Ffn

end
-- ==== Proof.FfnOut.lean ====
/-
  The experts' feed-forward call's result: the run's last contents of its array, read block by block.
-/
module

public import proofs.«01_k».proof.Proof.FfnRun
public import Idealize.ShloMosaic.Lib.Pipeline.Quiescent
public import Idealize.ShloMosaic.Lib.Pipeline.ValueKit

@[expose] public section

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (hr : InRange (atStart m 0 main_arg1))

/-! ## A point's blocks -/

theorem index_row (t : Fin grid0.N) : cc0_transform_0 (grid0.coords t) = ![t.val, 0] := by
  revert t; decide

theorem index_out (t : Fin grid0.N) : cc0_transform_4 (grid0.coords t) = ![t.val, 0] := by
  revert t; decide

theorem coord_eq (t : Fin grid0.N) : (Shape.Idx.ofFin (show Fin 74 from (grid0.coords t) 0) : S74.Idx) = Shape.Idx.ofFin (blockAt t) := by
  congr 1
  exact Fin.ext (coords0 t)

include hr in
theorem who_eq (t : Fin grid0.N) :
    ((tables m).at 0 (Rect.unit (s := S74) (k0_off1 (grid0.coords t)) S1.size (k0_off1_inb (grid0.coords t))) numel1_S1).toNat
      = (who (atStart m 0 main_arg1) (blockAt t)).val := by
  rw [word_at, coord_eq]
  exact (Nat.mod_eq_of_lt (hr _)).symm

theorem held0 (t : Fin grid0.N) : held m hr 0 (0 : Fin 5) t = rows (atStart m 0 main_arg0) (blockAt t) := by
  funext y
  show atStart m 0 main_arg0 ((((cfgA m hr).win (0 : Fin 5)).blk t).view.emb y) = _
  unfold rows
  congr 1
  funext a
  refine Fin.ext ?_
  have h0 : ((cfgA m hr).win (0 : Fin 5)).index t (show Fin 2 from 0) = t.val := congrFun (index_row t) 0
  have h1 : ((cfgA m hr).win (0 : Fin 5)).index t (show Fin 2 from 1) = 0 := congrFun (index_row t) 1
  match a with
  | ⟨0, _⟩ => blk_simp; rw [h0, Nat.mul_comm]; rfl
  | ⟨1, _⟩ => blk_simp; rw [h1, Nat.zero_mul, Nat.zero_add]; rfl
  | ⟨_ + 2, h⟩ => exact absurd h (Nat.not_lt.2 (Nat.le_add_left _ _))

theorem held1 (t : Fin grid0.N) : held m hr 0 (1 : Fin 5) t = oneUp (atStart m 0 main_arg3) (who (atStart m 0 main_arg1) (blockAt t)) := by
  funext y
  show atStart m 0 main_arg3 ((((cfgA m hr).win (1 : Fin 5)).blk t).view.emb y) = _
  unfold oneUp
  congr 1
  funext a
  refine Fin.ext ?_
  have h0 : ((cfgA m hr).win (1 : Fin 5)).index t (show Fin 3 from 0) = (who (atStart m 0 main_arg1) (blockAt t)).val := who_eq m hr t
  have h1 : ((cfgA m hr).win (1 : Fin 5)).index t (show Fin 3 from 1) = 0 := rfl
  have h2 : ((cfgA m hr).win (1 : Fin 5)).index t (show Fin 3 from 2) = 0 := rfl
  have hy : (y 0).val = 0 := Nat.lt_one_iff.1 (y 0).isLt
  match a with
  | ⟨0, _⟩ => blk_simp; rw [h0]
  | ⟨1, _⟩ => blk_simp; rw [h1, Nat.zero_mul, Nat.zero_add]; rfl
  | ⟨2, _⟩ => blk_simp; rw [h2, Nat.zero_mul, Nat.zero_add]; rfl
  | ⟨_ + 3, h⟩ => exact absurd h (Nat.not_lt.2 (Nat.le_add_left _ _))

theorem held2 (t : Fin grid0.N) : held m hr 0 (2 : Fin 5) t = oneUp (atStart m 0 main_arg4) (who (atStart m 0 main_arg1) (blockAt t)) := by
  funext y
  show atStart m 0 main_arg4 ((((cfgA m hr).win (2 : Fin 5)).blk t).view.emb y) = _
  unfold oneUp
  congr 1
  funext a
  refine Fin.ext ?_
  have h0 : ((cfgA m hr).win (2 : Fin 5)).index t (show Fin 3 from 0) = (who (atStart m 0 main_arg1) (blockAt t)).val := who_eq m hr t
  have h1 : ((cfgA m hr).win (2 : Fin 5)).index t (show Fin 3 from 1) = 0 := rfl
  have h2 : ((cfgA m hr).win (2 : Fin 5)).index t (show Fin 3 from 2) = 0 := rfl
  have hy : (y 0).val = 0 := Nat.lt_one_iff.1 (y 0).isLt
  match a with
  | ⟨0, _⟩ => blk_simp; rw [h0]
  | ⟨1, _⟩ => blk_simp; rw [h1, Nat.zero_mul, Nat.zero_add]; rfl
  | ⟨2, _⟩ => blk_simp; rw [h2, Nat.zero_mul, Nat.zero_add]; rfl
  | ⟨_ + 3, h⟩ => exact absurd h (Nat.not_lt.2 (Nat.le_add_left _ _))

theorem held3 (t : Fin grid0.N) : held m hr 0 (3 : Fin 5) t = oneDown (atStart m 0 main_arg5) (who (atStart m 0 main_arg1) (blockAt t)) := by
  funext y
  show atStart m 0 main_arg5 ((((cfgA m hr).win (3 : Fin 5)).blk t).view.emb y) = _
  unfold oneDown
  congr 1
  funext a
  refine Fin.ext ?_
  have h0 : ((cfgA m hr).win (3 : Fin 5)).index t (show Fin 3 from 0) = (who (atStart m 0 main_arg1) (blockAt t)).val := who_eq m hr t
  have h1 : ((cfgA m hr).win (3 : Fin 5)).index t (show Fin 3 from 1) = 0 := rfl
  have h2 : ((cfgA m hr).win (3 : Fin 5)).index t (show Fin 3 from 2) = 0 := rfl
  have hy : (y 0).val = 0 := Nat.lt_one_iff.1 (y 0).isLt
  match a with
  | ⟨0, _⟩ => blk_simp; rw [h0]
  | ⟨1, _⟩ => blk_simp; rw [h1, Nat.zero_mul, Nat.zero_add]; rfl
  | ⟨2, _⟩ => blk_simp; rw [h2, Nat.zero_mul, Nat.zero_add]; rfl
  | ⟨_ + 3, h⟩ => exact absurd h (Nat.not_lt.2 (Nat.le_add_left _ _))

/-- What the run leaves in the result's block at a point is the result's block there. -/
theorem after4 (t : Fin grid0.N) : (dats m hr 0 0).after (4 : Fin 5) t
    = blockOf (atStart m 0 main_arg0) (atStart m 0 main_arg1) (atStart m 0 main_arg2) (atStart m 0 main_arg3) (atStart m 0 main_arg4) (atStart m 0 main_arg5)
        (blockAt t) := by
  show left (grid0.coords t) (inUse (F := F) (tables m 1)) (held m hr 0 (0 : Fin 5) t) (held m hr 0 (1 : Fin 5) t)
        (held m hr 0 (2 : Fin 5) t) (held m hr 0 (3 : Fin 5) t) = _
  rw [held0, held1, held2, held3]
  rfl

/-! ## The array -/

/-- Every point's block is written back: each point names a block of its own. -/
theorem flushes (t : Fin grid0.N) : Window.flushOf grid0 true cc0_transform_4 t = true := by
  revert t; decide

/-- Where a block's element lies in the array. -/
theorem place0 (t : Fin grid0.N) (y : S512x1024.Idx) : ((((cfgA m hr).win (4 : Fin 5)).blk t).view.emb y (show Fin 2 from 0)).val = 512 * t.val + (y 0).val := by
  have h0 : ((cfgA m hr).win (4 : Fin 5)).index t (show Fin 2 from 0) = t.val := congrFun (index_out t) 0
  blk_simp; rw [h0, Nat.mul_comm]

theorem place1 (t : Fin grid0.N) (y : S512x1024.Idx) : ((((cfgA m hr).win (4 : Fin 5)).blk t).view.emb y (show Fin 2 from 1)).val = (y 1).val := by
  have h1 : ((cfgA m hr).win (4 : Fin 5)).index t (show Fin 2 from 1) = 0 := congrFun (index_out t) 1
  blk_simp; rw [h1, Nat.zero_mul, Nat.zero_add]

/-- The result, at a block's element. -/
theorem result_at (X : S37888x1024.Idx → Elt F .f32) (T0 : S74.Idx → BitVec 32) (T1 : S1.Idx → BitVec 32)
    (Wg Wu : S8x1024x2816.Idx → Elt F .bf16) (Wd : S8x2816x1024.Idx → Elt F .bf16) (b : Fin 74) (y : S512x1024.Idx) (j : S37888x1024.Idx)
    (h0 : (j 0).val = 512 * b.val + (y 0).val) (h1 : (j 1).val = (y 1).val) :
    blockOf X T0 T1 Wg Wu Wd b y = result X T0 T1 Wg Wu Wd j := by
  have hy : (y 0).val < 512 := (y 0).isLt
  unfold result
  have hb : (⟨(j 0).val / 512, block_lt j⟩ : Fin 74) = b := Fin.ext (by show (j 0).val / 512 = b.val; omega)
  rw [hb]
  congr 1
  funext a
  refine Fin.ext ?_
  match a with
  | ⟨0, _⟩ => show (y 0).val = (j 0).val % 512; omega
  | ⟨1, _⟩ => exact h1.symm
  | ⟨_ + 2, h⟩ => exact absurd h (Nat.not_lt.2 (Nat.le_add_left _ _))

theorem out_eq : (dats m hr 0 0).arrAt (4 : Fin 5) (cfgA m hr).N
    = result (atStart m 0 main_arg0) (atStart m 0 main_arg1) (atStart m 0 main_arg2) (atStart m 0 main_arg3) (atStart m 0 main_arg4) (atStart m 0 main_arg5) := by
  refine (dats m hr 0 0).arrAt_eq_of_emb (4 : Fin 5) _ (fun t _ y => ?_) fun j => ?_
  · refine (congrFun (after4 m hr t) y).trans ?_
    exact result_at _ _ _ _ _ _ (blockAt t) y _ (place0 m hr t y) (place1 m hr t y)
  · let t : Fin grid0.N := (⟨((show S37888x1024.Idx from j) 0).val / 512, block_lt j⟩ : Fin 74).cast N_eq.symm
    let y : S512x1024.Idx := Shape.pair (d := S512x1024.size) (show Fin 512 from ⟨((show S37888x1024.Idx from j) 0).val % 512, in_lt j⟩) (show Fin 1024 from (show S37888x1024.Idx from j) 1)
    refine ⟨t, flushes t, ?_⟩
    have e : (((cfgA m hr).win (4 : Fin 5)).blk t).view.emb y = j := by
      funext a
      refine Fin.ext ?_
      match a with
      | ⟨0, _⟩ =>
        refine (place0 m hr t y).trans ?_
        exact Nat.div_add_mod _ _
      | ⟨1, _⟩ => exact place1 m hr t y
      | ⟨_ + 2, h⟩ => exact absurd h (Nat.not_lt.2 (Nat.le_add_left _ _))
    exact e ▸ View.emb_mem_set _ _

/-- The run: the result holds `result` of the arguments, the arguments are as they were, every semaphore at zero. -/
theorem run_main (hn : ∀ c, InRange (atStart m c main_arg1)) (g : Dev nD → PrngReg) :
    θ_run (defs (F := F)) (onTc (τ := τ) (main (F := F))) ⟨m, fun _ => 0, g⟩ (fun r =>
      (∀ c : Dev nD, r.2.mem ((c : Thread nD τ).loc main_v0)
          = result (atStart m c main_arg0) (atStart m c main_arg1) (atStart m c main_arg2) (atStart m c main_arg3) (atStart m c main_arg4) (atStart m c main_arg5)
        ∧ r.2.mem ((c : Thread nD τ).loc main_arg0) = atStart m c main_arg0
        ∧ r.2.mem ((c : Thread nD τ).loc main_arg1) = atStart m c main_arg1
        ∧ r.2.mem ((c : Thread nD τ).loc main_arg2) = atStart m c main_arg2
        ∧ r.2.mem ((c : Thread nD τ).loc main_arg3) = atStart m c main_arg3
        ∧ r.2.mem ((c : Thread nD τ).loc main_arg4) = atStart m c main_arg4
        ∧ r.2.mem ((c : Thread nD τ).loc main_arg5) = atStart m c main_arg5) ∧ r.2.sem = fun _ => 0) := by
  have hr := hn 0
  refine (θ_run _ _ _).mono (fun r h => ⟨fun c => ?_, h.2⟩) (run_arrays m hr g)
  obtain rfl : c = 0 := Subsingleton.elim _ _
  obtain ⟨hw, ht⟩ := h.1 0
  exact ⟨(hw (4 : Fin 5)).trans (out_eq m hr), (hw (0 : Fin 5)).trans ((dats m hr 0 0).arrAt_in (0 : Fin 5) rfl _), ht 0, ht 1,
    (hw (1 : Fin 5)).trans ((dats m hr 0 0).arrAt_in (1 : Fin 5) rfl _), (hw (2 : Fin 5)).trans ((dats m hr 0 0).arrAt_in (2 : Fin 5) rfl _),
    (hw (3 : Fin 5)).trans ((dats m hr 0 0).arrAt_in (3 : Fin 5) rfl _)⟩

end Cert.Kernel2Ideal.Ffn
-- ==== Proof.FfnPre.lean ====
/-
  The feed-forward's precondition read: every word of the table names one of the eight experts.
-/
module

public import proofs.«01_k».proof.Proof.FfnRun
public import proofs.«01_k».proof.Proof.Gen.Pre_every_block_has_an_expert
public import Idealize.ShloMosaic.Lib.StableHlo.Predicate

@[expose] public section

noncomputable section

namespace Cert.Kernel2Ideal.Ffn

open Idealize.ShloMosaic Cert.Pre_every_block_has_an_expert Cert.Pre_every_block_has_an_expert.Gen

/-- A word that is signed from 0 and below 8 is below 8. -/
theorem word_range (w : BitVec 32) (h : IntOp.cmpi .sge w 0#32 &&& IntOp.cmpi .slt w 8#32 = 1#1) : w.toNat < 8 := by
  simp only [IntOp.cmpi] at h
  have h2 : (0#32).sle w = true ∧ w.slt 8#32 = true := by
    revert h
    cases (0#32).sle w <;> cases w.slt 8#32 <;> decide
  obtain ⟨ha, hb⟩ := h2
  have ha' : (0 : Int) ≤ w.toInt := by simpa [BitVec.sle_iff_toInt_le] using ha
  have hb' : w.toInt < 8 := by simpa [BitVec.slt_iff_toInt_lt] using hb
  have := w.isLt
  rw [BitVec.toInt_eq_toNat_cond] at ha' hb'
  split at ha' <;> omega

theorem range_of_pre {F : FTy → Type} [FloatOps F] (X : Cert.Kernel2Ideal.S37888x1024.Idx → Elt F .f32) (T0 : Cert.Kernel2Ideal.S74.Idx → BitVec 32)
    (T1 : Cert.Kernel2Ideal.S1.Idx → BitVec 32) (Wg Wu : Cert.Kernel2Ideal.S8x1024x2816.Idx → Elt F .bf16) (Wd : Cert.Kernel2Ideal.S8x2816x1024.Idx → Elt F .bf16)
    (hp : Cert.Pre_every_block_has_an_expert.fn (F := F) X T0 T1 Wg Wu Wd = fun _ => 1#1) : InRange T0 := fun j =>
  word_range _ (congrFun hp j)

end Cert.Kernel2Ideal.Ffn

end
-- ==== Proof.FfnFed.lean ====
/-
  The kernel's block at the ideal values: the two slabs of the hidden axis add up to one sum over it.
-/
module

public import proofs.«01_k».proof.Proof.FfnRun
public import Idealize.ShloMosaic.Lib.MatmulPlain
public import Idealize.ShloMosaic.Lib.ValueIdx

@[expose] public section

noncomputable section

namespace Cert.Kernel2Ideal.Ffn

open Cert.Kernel2Ideal.Gen
open Idealize.ShloMosaic hiding ix2 ix3 addf_apply mulf_apply truncf_apply
open Idealize.ShloMosaic.ValueIdx

/-- The gated activation of a gate and an up value. -/
def gated (g u : EReal) : EReal := g * Ideal.logistic g * u

/-- One slab's product, of any width: `gated` of the two products with the slab's columns, times the slab's rows. -/
theorem slab_apply {N : ℕ} (x : FVec Ideal ⟨2, ![512, 1024]⟩ .f32) (g u : FVec Ideal ⟨2, ![1024, N]⟩ .bf16) (d : FVec Ideal ⟨2, ![N, 1024]⟩ .bf16)
    (hb : FTy.bits .bf16 < FTy.bits .f32) (r : Fin 512) (c : Fin 1024) :
    (matmul (DotDims.plain 512 N 1024) none
      (truncf .bf16 (mulf (mulf
          (matmul (DotDims.plain 512 1024 N) none (truncf .bf16 x hb) g (constant ⟨2, ![512, N]⟩ .f32 0x00000000#32))
          (logistic (matmul (DotDims.plain 512 1024 N) none (truncf .bf16 x hb) g (constant ⟨2, ![512, N]⟩ .f32 0x00000000#32))))
        (matmul (DotDims.plain 512 1024 N) none (truncf .bf16 x hb) u (constant ⟨2, ![512, N]⟩ .f32 0x00000000#32))) hb)
      d (constant ⟨2, ![512, 1024]⟩ .f32 0x00000000#32) : FVec Ideal ⟨2, ![512, 1024]⟩ .f32) (ix2 r c)
      = ∑ f : Fin N, gated (∑ k : Fin 1024, x (ix2 r k) * g (ix2 k f)) (∑ k : Fin 1024, x (ix2 r k) * u (ix2 k f)) * d (ix2 f c) := by
  have hz : ∀ (s : Shape) (i : s.Idx), constant (F := Ideal) s .f32 0x00000000#32 i = (0 : EReal) := fun s i => Ideal.ofBits_zero_f32
  have hm : ∀ w : FVec Ideal ⟨2, ![1024, N]⟩ .bf16, ∀ f : Fin N,
      matmul (DotDims.plain 512 1024 N) none (truncf .bf16 x hb) w (constant ⟨2, ![512, N]⟩ .f32 0x00000000#32) (ix2 r f)
        = ∑ k : Fin 1024, x (ix2 r k) * w (ix2 k f) := fun w f => by
    refine (Ideal.matmul_plain_apply none _ _ _ r f).trans ?_
    rw [hz, zero_add]; rfl
  refine (Ideal.matmul_plain_apply none _ _ _ r c).trans ?_
  rw [hz, zero_add]
  refine Finset.sum_congr rfl fun f _ => ?_
  unfold gated
  rw [truncf_apply, mulf_apply, mulf_apply, ← hm g f, ← hm u f]
  rfl

/-- A block of the feed-forward, element by element. -/
def fedAt (x0 : S512x1024.Idx → EReal) (x1 x2 : S1x1024x2816.Idx → EReal) (x3 : S1x2816x1024.Idx → EReal) (r : Fin 512) (c : Fin 1024) : EReal :=
  ∑ f : Fin 2816, gated (∑ k : Fin 1024, x0 (ix2 r k) * x1 (ix3 (0 : Fin 1) k f)) (∑ k : Fin 1024, x0 (ix2 r k) * x2 (ix3 (0 : Fin 1) k f))
    * x3 (ix3 (0 : Fin 1) f c)

/-- A window of one expert's weights without its leading unit axis. -/
theorem cut_apply {A B A' B' : ℕ} (x : (⟨3, ![1, A, B]⟩ : Shape).Idx → EReal) (oa ob : ℕ) (inb) (hs : (⟨3, ![1, A', B']⟩ : Shape).ShapeCasts ⟨2, ![A', B']⟩)
    (i : Fin A') (j : Fin B') (hi : oa + i.val < A) (hj : ob + j.val < B) :
    shapeCast ⟨2, ![A', B']⟩ (VecWindow.window (s := ⟨3, ![1, A, B]⟩) x ![0, oa, ob] ![1, A', B'] inb) hs (ix2 i j)
      = x (ix3 (0 : Fin 1) (⟨oa + i.val, hi⟩ : Fin A) (⟨ob + j.val, hj⟩ : Fin B)) := by
  refine (shapeCast_dropUnit_apply ![A', B'] _ hs (ix2 i j)).trans ?_
  unfold VecWindow.window
  refine congrArg x (funext fun a => Fin.ext ?_)
  match a with
  | ⟨0, _⟩ => rfl
  | ⟨1, _⟩ => show oa + 1 * i.val = oa + i.val; rw [Nat.one_mul]
  | ⟨2, _⟩ => show ob + 1 * j.val = ob + j.val; rw [Nat.one_mul]
  | ⟨_ + 3, h⟩ => exact absurd h (Nat.not_lt.2 (Nat.le_add_left _ _))

theorem fed_apply (x0 : S512x1024.Idx → EReal) (x1 x2 : S1x1024x2816.Idx → EReal) (x3 : S1x2816x1024.Idx → EReal) (r : Fin 512) (c : Fin 1024) :
    fed (F := Ideal) x0 x1 x2 x3 (ix2 r c) = fedAt x0 x1 x2 x3 r c := by
  unfold fed k0_pay1 fedAt
  refine (addf_apply _ _ _).trans ?_
  have hsplit := Fin.sum_univ_add (a := 1536) (b := 1280) fun f : Fin (1536 + 1280) =>
    gated (∑ k : Fin 1024, x0 (ix2 r k) * x1 (ix3 (0 : Fin 1) k (f : Fin 2816))) (∑ k : Fin 1024, x0 (ix2 r k) * x2 (ix3 (0 : Fin 1) k (f : Fin 2816)))
      * x3 (ix3 (0 : Fin 1) (f : Fin 2816) c)
  refine Eq.trans ?_ hsplit.symm
  refine congrArg₂ (· + ·) ?_ ?_
  · refine (slab_apply (N := 1536) x0 _ _ _ bitsLt_bf16_f32 r c).trans (Finset.sum_congr rfl fun f _ => ?_)
    have hf : 0 + f.val < 2816 := by have := f.isLt; omega
    have hc : 0 + c.val < 1024 := by have := c.isLt; omega
    have e : (⟨0 + f.val, hf⟩ : Fin 2816) = Fin.castAdd 1280 f := Fin.ext (Nat.zero_add _)
    have ec : (⟨0 + c.val, hc⟩ : Fin 1024) = c := Fin.ext (Nat.zero_add _)
    have hk : ∀ k : Fin 1024, 0 + k.val < 1024 := fun k => by have := k.isLt; omega
    have ek : ∀ k : Fin 1024, (⟨0 + k.val, hk k⟩ : Fin 1024) = k := fun k => Fin.ext (Nat.zero_add _)
    have hup : ∀ w : S1x1024x2816.Idx → EReal, ∀ k : Fin 1024,
        shapeCast S1024x1536 (VecWindow.window w ![0, 0, 0] S1x1024x1536.size inb_S1x1024x2816_S1x1024x1536_0_0_0) shapeCasts_S1x1024x1536_S1024x1536 (ix2 k f)
          = w (ix3 (0 : Fin 1) k (Fin.castAdd 1280 f : Fin 2816)) := fun w k => by
      refine (cut_apply w 0 0 _ _ k f (hk k) hf).trans ?_
      rw [e, ek]
    refine congrArg₂ (· * ·) (congrArg₂ gated ?_ ?_) ?_
    · exact Finset.sum_congr rfl fun k _ => congrArg (x0 (ix2 r k) * ·) (hup x1 k)
    · exact Finset.sum_congr rfl fun k _ => congrArg (x0 (ix2 r k) * ·) (hup x2 k)
    · refine (cut_apply x3 0 0 _ _ f c hf hc).trans ?_
      rw [e, ec]
  · refine (slab_apply (N := 1280) x0 _ _ _ bitsLt_bf16_f32 r c).trans (Finset.sum_congr rfl fun f _ => ?_)
    have hf : 1536 + f.val < 2816 := by have := f.isLt; omega
    have hc : 0 + c.val < 1024 := by have := c.isLt; omega
    have e : (⟨1536 + f.val, hf⟩ : Fin 2816) = Fin.natAdd 1536 f := rfl
    have ec : (⟨0 + c.val, hc⟩ : Fin 1024) = c := Fin.ext (Nat.zero_add _)
    have hk : ∀ k : Fin 1024, 0 + k.val < 1024 := fun k => by have := k.isLt; omega
    have ek : ∀ k : Fin 1024, (⟨0 + k.val, hk k⟩ : Fin 1024) = k := fun k => Fin.ext (Nat.zero_add _)
    have hup : ∀ w : S1x1024x2816.Idx → EReal, ∀ k : Fin 1024,
        shapeCast S1024x1280 (VecWindow.window w ![0, 0, 1536] S1x1024x1280.size inb_S1x1024x2816_S1x1024x1280_0_0_1536) shapeCasts_S1x1024x1280_S1024x1280 (ix2 k f)
          = w (ix3 (0 : Fin 1) k (Fin.natAdd 1536 f : Fin 2816)) := fun w k => by
      refine (cut_apply w 0 1536 _ _ k f (hk k) hf).trans ?_
      rw [e, ek]
    refine congrArg₂ (· * ·) (congrArg₂ gated ?_ ?_) ?_
    · exact Finset.sum_congr rfl fun k _ => congrArg (x0 (ix2 r k) * ·) (hup x1 k)
    · exact Finset.sum_congr rfl fun k _ => congrArg (x0 (ix2 r k) * ·) (hup x2 k)
    · refine (cut_apply x3 1536 0 _ _ f c hf hc).trans ?_
      rw [e, ec]

end Cert.Kernel2Ideal.Ffn

end
-- ==== Proof.FfnRef.lean ====
/-
  The feed-forward's reference at the ideal values: its result is the kernel's, and its run.
-/
module

public import proofs.«01_k».proof.Proof.FfnFed
public import proofs.«01_k».proof.Proof.Gen.Reference2Ideal
public import proofs.«01_k».proof.Proof.Gen.Reference2Ideal.Run
public import Idealize.ShloMosaic.Lib.Quiescent
public import Idealize.ShloMosaic.Lib.Routing.Ops
public import Idealize.ShloMosaic.Lib.Routing.OpsPair
public import Idealize.ShloMosaic.Lib.StackMember

@[expose] public section

noncomputable section

namespace Cert.Reference2Ideal.Ffn

open Cert.Reference2Ideal Cert.Reference2Ideal.Gen
open Idealize.ShloMosaic hiding ix2 ix3 addf_apply mulf_apply truncf_apply
open Idealize.ShloMosaic.ValueIdx

/-- The take of one expert's weights per block: where the index word of block `b` is `e`, the result's block `b` is expert `e`'s. -/
theorem take_apply {α : Type} {A B : ℕ} (w : GatherDims.WF ⟨3, ![8, A, B]⟩ ⟨2, ![74, 1]⟩ ⟨3, ![74, A, B]⟩ [1, 2] [0] [] [0] [] 1 ![1, A, B])
    (x : (⟨3, ![8, A, B]⟩ : Shape).Idx → α) (idx : IVec ⟨2, ![74, 1]⟩ 32) (b : Fin 74) (i : Fin A) (j : Fin B) (e : Fin 8)
    (he : idx (ix2 b (0 : Fin 1)) = BitVec.ofNat 32 e.val) :
    Host.gather (⟨[1, 2], [0], [], [], [0], 1, ![1, A, B], w⟩ : GatherDims _ _ _) x idx (ix3 b i j) = x (ix3 e i j) := by
  unfold Host.gather
  refine congrArg x (funext fun a => Fin.ext ?_)
  have hN : ∀ a', a' ∉ (⟨[1, 2], [0], [], [], [0], 1, ![1, A, B], w⟩ : GatherDims ⟨3, ![8, A, B]⟩ ⟨2, ![74, 1]⟩ ⟨3, ![74, A, B]⟩).operandBatchingDims := fun a' => List.not_mem_nil
  generalize hd : (⟨[1, 2], [0], [], [], [0], 1, ![1, A, B], w⟩ : GatherDims ⟨3, ![8, A, B]⟩ ⟨2, ![74, 1]⟩ ⟨3, ![74, A, B]⟩) = d at hN
  show d.start (ix3 b i j) idx a + d.batchCoord (ix3 b i j) a + d.offCoord (ix3 b i j) a = (ix3 e i j a).val
  rw [d.batchCoord_eq_zero _ _ (hN a), Nat.add_zero]
  subst hd
  match a with
  | ⟨0, _⟩ =>
    have hs : (⟨[1, 2], [0], [], [], [0], 1, ![1, A, B], w⟩ : GatherDims ⟨3, ![8, A, B]⟩ ⟨2, ![74, 1]⟩ ⟨3, ![74, A, B]⟩).start (ix3 b i j) idx 0
        = min (idx (ix2 b (0 : Fin 1))).toInt.toNat (8 - 1) := by
      unfold GatherDims.start
      refine (dif_pos (List.mem_singleton.2 rfl)).trans ?_
      refine congrArg (fun q => min (idx q).toInt.toNat (8 - 1)) (funext fun q => ?_)
      match q with
      | ⟨0, _⟩ => exact Fin.ext rfl
      | ⟨1, _⟩ => exact Subsingleton.elim (α := Fin 1) _ _
    have hlt := e.isLt
    refine (congrArg₂ (· + ·) hs (GatherDims.offCoord_eq_zero _ _ _ (fun h => ((GatherDims.mem_sKept _ 0).1 h).1 (List.mem_singleton.2 rfl)))).trans ?_
    rw [he, StableHlo.Predicate.toInt_ofNat_small _ (by omega)]
    show min ((e.val : Int)).toNat 7 + 0 = e.val
    omega
  | ⟨1, _⟩ =>
    unfold GatherDims.start GatherDims.offCoord
    refine (congrArg₂ (· + ·) (dif_neg (show (1 : Fin 3) ∉ [(0 : Fin 3)] by decide)) (dif_pos ((GatherDims.mem_sKept _ _).2 ⟨(show (1 : Fin 3) ∉ [(0 : Fin 3)] by decide), List.not_mem_nil⟩))).trans ?_
    exact (Nat.zero_add _).trans rfl
  | ⟨2, _⟩ =>
    unfold GatherDims.start GatherDims.offCoord
    refine (congrArg₂ (· + ·) (dif_neg (show (2 : Fin 3) ∉ [(0 : Fin 3)] by decide)) (dif_pos ((GatherDims.mem_sKept _ _).2 ⟨(show (2 : Fin 3) ∉ [(0 : Fin 3)] by decide), List.not_mem_nil⟩))).trans ?_
    exact (Nat.zero_add _).trans rfl
  | ⟨_ + 3, h⟩ => exact absurd h (Nat.not_lt.2 (Nat.le_add_left _ _))

/-! ## The reference's pieces -/

/-- The table's words as the takes are handed them: a word below `2³¹` is not moved by the wrap of a negative one. -/
def words (T0 : S74.Idx → BitVec 32) : S74x1.Idx → BitVec 32 :=
  broadcastInDim S74x1 ![0] bcast_S74_S74x1_0
    (select (cmpi .slt T0 (broadcastInDim S74 ![] bcast_S_S74 (constantI S_ 32 0#32)))
      (addi T0 (broadcastInDim S74 ![] bcast_S_S74 (constantI S_ 32 8#32))) T0)

/-- The rows in blocks. -/
def blocks (X : S37888x1024.Idx → EReal) : FVec Ideal S74x512x1024 .bf16 :=
  truncf (F := Ideal) (φ := .f32) .bf16 (shapeCast _ X shapeCasts_S37888x1024_S74x512x1024) bitsLt_bf16_f32

/-- Each block's product with its expert's gate, or up, weights. -/
def through (X : S37888x1024.Idx → EReal) (T0 : S74.Idx → BitVec 32) (W : S8x1024x2816.Idx → EReal) : FVec Ideal S74x512x2816 .f32 :=
  Host.dotGeneral (F := Ideal) (φ₁ := .bf16) (φ₂ := .bf16) dot_S74x512x1024_S74x1024x2816_S74x512x2816_2_1_1_2_0_0 none (blocks X)
    (Host.gather gather_S8x1024x2816_S74x1_S74x1024x2816_12_0_n_n_0_1_110242816 W (words T0))

/-- The gated activation, written out. -/
def activated (g u : FVec Ideal S74x512x2816 .f32) : FVec Ideal S74x512x2816 .bf16 :=
  truncf .bf16 (mulf (mulf g
    (Host.divf (broadcastInDim S74x512x2816 ![] bcast_S_S74x512x2816 (constant (F := Ideal) S_ .f32 0x3F800000#32))
      (addf (broadcastInDim S74x512x2816 ![] bcast_S_S74x512x2816 (constant (F := Ideal) S_ .f32 0x3F800000#32)) (Host.exp (Host.negf g))))) u) bitsLt_bf16_f32

/-- Whether a block is in use, for each of its elements. -/
def mask (T1 : S1.Idx → BitVec 32) : S74x512x1024.Idx → BitVec 1 :=
  broadcastInDim S74x512x1024 ![0, 1, 2] bcast_S74x1x1_S74x512x1024_0_1_2 (broadcastInDim S74x1x1 ![0] bcast_S74_S74x1x1_0
    (cmpi .slt (iotaInDim S74 32 0) (broadcastInDim S74 ![] bcast_S_S74 (shapeCast _ T1 shapeCasts_S1_S_))))

/-- The reference's result. -/
def computed (X : S37888x1024.Idx → EReal) (T0 : S74.Idx → BitVec 32) (T1 : S1.Idx → BitVec 32)
    (Wg Wu : S8x1024x2816.Idx → EReal) (Wd : S8x2816x1024.Idx → EReal) : S37888x1024.Idx → EReal :=
  shapeCast _ (select (mask T1)
    (Host.dotGeneral (F := Ideal) (φ₁ := .bf16) (φ₂ := .bf16) dot_S74x512x2816_S74x2816x1024_S74x512x1024_2_1_1_2_0_0 none (activated (through X T0 Wg) (through X T0 Wu))
      (Host.gather gather_S8x2816x1024_S74x1_S74x2816x1024_12_0_n_n_0_1_128161024 Wd (words T0)))
    (broadcastInDim S74x512x1024 ![] bcast_S_S74x512x1024 (id (constant (F := Ideal) S_ .f32 0x00000000#32)))) shapeCasts_S74x512x1024_S37888x1024

open Cert.Kernel2Ideal.Ffn (InRange who rows oneUp oneDown gated fedAt)

theorem words_at (T0 : S74.Idx → BitVec 32) (hr : InRange T0) (b : Fin 74) :
    words T0 (ix2 b (0 : Fin 1)) = BitVec.ofNat 32 (who T0 b).val := by
  have h8 := hr (Shape.Idx.ofFin b)
  have e : words T0 (ix2 b (0 : Fin 1))
      = Scalar.select (IntOp.cmpi .slt (T0 (Shape.Idx.ofFin b)) 0#32) (T0 (Shape.Idx.ofFin b) + 8#32) (T0 (Shape.Idx.ofFin b)) := by
    unfold words
    refine (broadcastInDim_apply _ _ _ _ (Shape.Idx.ofFin b) fun a => ?_).trans rfl
    match a with
    | ⟨0, _⟩ => rfl
  rw [e, Routing.wrap_of_lt _ _ (by omega)]
  refine BitVec.eq_of_toNat_eq ?_
  have hw : (who T0 b).val = (T0 (Shape.Idx.ofFin b)).toNat := Nat.mod_eq_of_lt h8
  rw [BitVec.toNat_ofNat, hw, Nat.mod_eq_of_lt (by omega)]

theorem blocks_at (X : S37888x1024.Idx → EReal) (b : Fin 74) (r : Fin 512) (k : Fin 1024) :
    blocks X (ix3 b r k) = rows (F := Ideal) X b (ix2 r k) := by
  show shapeCast _ X shapeCasts_S37888x1024_S74x512x1024 (ix3 b r k) = _
  have hb := b.isLt
  have hr := r.isLt
  refine (shapeCast_apply X _ _ (ix2 (⟨512 * b.val + r.val, by omega⟩ : Fin 37888) k) ?_).trans ?_
  · refine (Shape.rowMajor_val_two _).trans (Eq.trans ?_ (Shape.rowMajor_val_three _).symm)
    show (512 * b.val + r.val) * 1024 + k.val = (b.val * 512 + r.val) * 1024 + k.val
    rw [Nat.mul_comm 512]
  · unfold rows
    refine congrArg X (funext fun a => ?_)
    match a with
    | ⟨0, _⟩ => exact Fin.ext rfl
    | ⟨1, _⟩ => exact Fin.ext rfl

theorem through_at (X : S37888x1024.Idx → EReal) (T0 : S74.Idx → BitVec 32) (hr : InRange T0) (W : S8x1024x2816.Idx → EReal) (b : Fin 74) (r : Fin 512) (f : Fin 2816) :
    through X T0 W (ix3 b r f) = ∑ k : Fin 1024, rows (F := Ideal) X b (ix2 r k) * oneUp (F := Ideal) W (who T0 b) (ix3 (0 : Fin 1) k f) := by
  unfold through
  refine (StackMember.dotGeneral_stack_apply _ none _ _ b r f).trans (Finset.sum_congr rfl fun k _ => ?_)
  refine congrArg₂ (· * ·) (blocks_at X b r k) ?_
  refine (take_apply _ W (words T0) b k f (who T0 b) (words_at T0 hr b)).trans ?_
  unfold oneUp
  refine congrArg W (funext fun a => ?_)
  match a with
  | ⟨0, _⟩ => rfl
  | ⟨1, _⟩ => rfl
  | ⟨2, _⟩ => rfl

theorem activated_at (g u : FVec Ideal S74x512x2816 .f32) (i : S74x512x2816.Idx) : activated g u i = gated (g i) (u i) := by
  show (g i * Ideal.div (Ideal.ofBits .f32 0x3F800000#32) (Ideal.ofBits .f32 0x3F800000#32 + Ideal.exp (-(g i))) * u i : EReal) = _
  unfold gated Ideal.logistic
  rw [show Ideal.ofBits .f32 0x3F800000#32 = (1 : EReal) from Ideal.ofBits_one_f32]

theorem product_at (X : S37888x1024.Idx → EReal) (T0 : S74.Idx → BitVec 32) (hr : InRange T0)
    (Wg Wu : S8x1024x2816.Idx → EReal) (Wd : S8x2816x1024.Idx → EReal) (b : Fin 74) (r : Fin 512) (c : Fin 1024) :
    Host.dotGeneral (F := Ideal) (φ₁ := .bf16) (φ₂ := .bf16) dot_S74x512x2816_S74x2816x1024_S74x512x1024_2_1_1_2_0_0 none (activated (through X T0 Wg) (through X T0 Wu))
      (Host.gather gather_S8x2816x1024_S74x1_S74x2816x1024_12_0_n_n_0_1_128161024 Wd (words T0)) (ix3 b r c)
      = fedAt (rows (F := Ideal) X b) (oneUp (F := Ideal) Wg (who T0 b)) (oneUp (F := Ideal) Wu (who T0 b)) (oneDown (F := Ideal) Wd (who T0 b)) r c := by
  refine (StackMember.dotGeneral_stack_apply _ none _ _ b r c).trans ?_
  unfold fedAt
  refine Finset.sum_congr rfl fun f _ => ?_
  rw [activated_at, through_at X T0 hr, through_at X T0 hr]
  refine congrArg (fun q : EReal => gated _ _ * q) ?_
  refine (take_apply _ Wd (words T0) b f c (who T0 b) (words_at T0 hr b)).trans ?_
  unfold oneDown
  refine congrArg Wd (funext fun a => ?_)
  match a with
  | ⟨0, _⟩ => rfl
  | ⟨1, _⟩ => rfl
  | ⟨2, _⟩ => rfl

theorem one_index (i : S1.Idx) : i = Shape.Idx.ofFin (0 : Fin 1) := by
  funext a
  match a with
  | ⟨0, _⟩ => exact Subsingleton.elim (α := Fin 1) _ _

theorem mask_at (T1 : S1.Idx → BitVec 32) (b : Fin 74) (r : Fin 512) (c : Fin 1024) :
    mask T1 (ix3 b r c) = IntOp.cmpi .slt (BitVec.ofNat 32 b.val) (T1 (Shape.Idx.ofFin (0 : Fin 1))) := by
  unfold mask
  refine (broadcastInDim_apply _ _ _ _ (ix3 b (0 : Fin 1) (0 : Fin 1)) fun a => ?_).trans ?_
  · match a with
    | ⟨0, _⟩ => rfl
    | ⟨1, _⟩ => rfl
    | ⟨2, _⟩ => rfl
  refine (broadcastInDim_apply _ _ _ _ (Shape.Idx.ofFin b) fun a => ?_).trans ?_
  · match a with
    | ⟨0, _⟩ => rfl
  show IntOp.cmpi .slt (BitVec.ofNat 32 b.val) (T1 _) = _
  exact congrArg (fun i => IntOp.cmpi .slt (BitVec.ofNat 32 b.val) (T1 i)) (one_index _)

/-- A block is in use for the kernel where it is for the reference. -/
theorem cond_iff (b : Fin 74) (T1 : S1.Idx → BitVec 32) :
    Cert.Kernel2Ideal.k0_cond1 (Cert.Kernel2Ideal.grid0.coords (b.cast Cert.Kernel2Ideal.Ffn.N_eq.symm)) (Cert.Kernel2Ideal.Ffn.inUse (F := Ideal) T1) = 1#1
      ↔ IntOp.cmpi .slt (BitVec.ofNat 32 b.val) (T1 (Shape.Idx.ofFin (0 : Fin 1))) = 1#1 := by
  have hn : Cert.Kernel2Ideal.Ffn.inUse (F := Ideal) T1 = T1 (Shape.Idx.ofFin (0 : Fin 1)) := congrArg T1 (one_index _)
  have hc : ((Cert.Kernel2Ideal.grid0.coords (b.cast Cert.Kernel2Ideal.Ffn.N_eq.symm)) 0).val = b.val := Cert.Kernel2Ideal.Ffn.coords0 _
  rw [hn]
  unfold Cert.Kernel2Ideal.k0_cond1
  rw [hc]
  simp only [Scalar.cmpi, Scalar.extui, IntOp.cmpi]
  cases (BitVec.ofNat 32 b.val).slt (T1 (Shape.Idx.ofFin (0 : Fin 1))) <;> decide

/-- The reference's result is the kernel's. -/
theorem computed_eq (X : S37888x1024.Idx → EReal) (T0 : S74.Idx → BitVec 32) (hr : InRange T0) (T1 : S1.Idx → BitVec 32)
    (Wg Wu : S8x1024x2816.Idx → EReal) (Wd : S8x2816x1024.Idx → EReal) :
    computed X T0 T1 Wg Wu Wd = Cert.Kernel2Ideal.Ffn.result (F := Ideal) X T0 T1 Wg Wu Wd := by
  funext j
  have hj : (j 0).val < 37888 := (j 0).isLt
  let b : Fin 74 := ⟨(j 0).val / 512, by omega⟩
  let r : Fin 512 := ⟨(j 0).val % 512, by omega⟩
  obtain ⟨c, hc⟩ : ∃ c : Fin 1024, c.val = (j 1).val := ⟨j 1, rfl⟩
  have e : computed X T0 T1 Wg Wu Wd j = Scalar.select (mask T1 (ix3 b r c))
      (fedAt (rows (F := Ideal) X b) (oneUp (F := Ideal) Wg (who T0 b)) (oneUp (F := Ideal) Wu (who T0 b)) (oneDown (F := Ideal) Wd (who T0 b)) r c)
      (Ideal.ofBits .f32 0x00000000#32) := by
    unfold computed
    refine (shapeCast_apply _ _ j (ix3 b r c) ?_).trans ?_
    · refine (Shape.rowMajor_val_three _).trans (Eq.trans ?_ (Shape.rowMajor_val_two _).symm)
      show ((j 0).val / 512 * 512 + (j 0).val % 512) * 1024 + c.val = (j 0).val * 1024 + (j 1).val
      rw [Nat.div_add_mod', hc]
    · rw [← product_at X T0 hr Wg Wu Wd b r c]
      rfl
  rw [e, mask_at]
  unfold Cert.Kernel2Ideal.Ffn.result Cert.Kernel2Ideal.Ffn.blockOf Cert.Kernel2Ideal.Ffn.left
  have hy : (Shape.pair (d := Cert.Kernel2Ideal.S512x1024.size) (show Fin 512 from ⟨(j 0).val % 512, Cert.Kernel2Ideal.Ffn.in_lt j⟩) (show Fin 1024 from j 1)) = ix2 r c := by
    funext a
    match a with
    | ⟨0, _⟩ => rfl
    | ⟨1, _⟩ => exact Fin.ext hc.symm
  rw [hy]
  by_cases hu : IntOp.cmpi .slt (BitVec.ofNat 32 b.val) (T1 (Shape.Idx.ofFin (0 : Fin 1))) = 1#1
  · rw [hu, select_one, if_pos ((cond_iff b T1).2 hu), Cert.Kernel2Ideal.Ffn.fed_apply]
  · rw [eq_zero_of_ne_one hu, select_zero, if_neg fun h => hu ((cond_iff b T1).1 h)]
    rfl

/-- The reference's run: the arguments and the counters unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v35) = computed (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨h, sem_eq_zero_of_no_sems (by decide) r.2⟩) (Cert.Reference2Ideal.Value.run m ρ)

end Cert.Reference2Ideal.Ffn

end
-- ==== Proof.MixRow.lean ====
/-
  One row of an even layer's output projection and feed-forward, at the ideal values, and what the kernel's pieces are at an element.
-/
module

public import proofs.«01_k».proof.Proof.FfnFed
public import Idealize.ShloMosaic.Lib.MatmulPlain
public import Idealize.ShloMosaic.Lib.ValueIdx
public import Idealize.ShloMosaic.Lib.Pointwise.Reduce
public import Idealize.ShloMosaic.Lib.Pipeline.Value
public import Idealize.ShloMosaic.Lib.Pipeline.ValueKit

@[expose] public section

noncomputable section

namespace Cert.Mix

open Idealize.ShloMosaic hiding ix2 ix3 ix4 addf_apply mulf_apply truncf_apply
open Idealize.ShloMosaic.ValueIdx
open Cert.Kernel2Ideal.Ffn (gated slab_apply)

/-! ## A row -/

/-- The row after the output projection: the two mixers' halves through their halves of the weights, the bias, the gate, the residual. -/
def mixed (a b : Fin 512 → EReal) (x g1 bias : Fin 1024 → EReal) (wo : (⟨2, ![1024, 1024]⟩ : Shape).Idx → EReal) (c : Fin 1024) : EReal :=
  x c + g1 c * ((∑ k : Fin 512, a k * wo (ix2 (Fin.castAdd 512 k : Fin (512 + 512)) c) + ∑ k : Fin 512, b k * wo (ix2 (Fin.natAdd 512 k : Fin (512 + 512)) c)) + bias c)

/-- The normalised row, scaled and shifted. -/
def normed (y g sh sc : Fin 1024 → EReal) (c : Fin 1024) : EReal :=
  y c * Ideal.rsqrt (Ideal.div (∑ k : Fin 1024, y k * y k) (Ideal.ofBits .f32 0x44800000#32) + Ideal.ofBits .f32 0x358637BD#32) * g c
    * (Ideal.ofBits .f32 0x3F800000#32 + sc c) + sh c

/-- The row through the gated feed-forward. -/
def fed (h : Fin 1024 → EReal) (wg wu : (⟨2, ![1024, 2816]⟩ : Shape).Idx → EReal) (wd : (⟨2, ![2816, 1024]⟩ : Shape).Idx → EReal) (c : Fin 1024) : EReal :=
  ∑ f : Fin 2816, gated (∑ k : Fin 1024, h k * wg (ix2 k f)) (∑ k : Fin 1024, h k * wu (ix2 k f)) * wd (ix2 f c)

/-- The row of the result. -/
def row (a b : Fin 512 → EReal) (x g1 sh sc g2 g bias : Fin 1024 → EReal) (wo : (⟨2, ![1024, 1024]⟩ : Shape).Idx → EReal)
    (wg wu : (⟨2, ![1024, 2816]⟩ : Shape).Idx → EReal) (wd : (⟨2, ![2816, 1024]⟩ : Shape).Idx → EReal) (c : Fin 1024) : EReal :=
  mixed a b x g1 bias wo c + g2 c * fed (normed (mixed a b x g1 bias wo) g sh sc) wg wu wd c

/-! ## The kernel's pieces at an element -/

/-- A block's row of a modulation: the prompt's one row, or the sample's row, of which the block holds four copies. -/
def pick (v : BitVec 1) (p : (⟨4, ![1, 1, 1, 1024]⟩ : Shape).Idx → EReal) (s : (⟨3, ![1, 128, 1024]⟩ : Shape).Idx → EReal) (r : Fin 512) (c : Fin 1024) : EReal :=
  Scalar.select v (p (ix4 (0 : Fin 1) (0 : Fin 1) (0 : Fin 1) c)) (s (ix3 (0 : Fin 1) (⟨r.val % 128, Nat.mod_lt _ (by decide)⟩ : Fin 128) c))

theorem select_at {ι α : Type} (v : BitVec 1) (p q : ι → α) (i : ι) : Scalar.select v p q i = Scalar.select v (p i) (q i) := by
  unfold Scalar.select; split <;> rfl

theorem oneRow_apply {α : Type} (p : (⟨2, ![1, 1024]⟩ : Shape).Idx → α) (hb : (⟨2, ![1, 1024]⟩ : Shape).Broadcasts ⟨2, ![512, 1024]⟩) (r : Fin 512) (c : Fin 1024) :
    broadcastTo ⟨2, ![512, 1024]⟩ p hb (ix2 r c) = p (ix2 (0 : Fin 1) c) := by
  refine broadcastTo_apply _ hb _ _ fun a => ?_
  match a with
  | ⟨0, _⟩ => rfl
  | ⟨1, _⟩ => rfl

theorem pick_apply (v : BitVec 1) (p : (⟨4, ![1, 1, 1, 1024]⟩ : Shape).Idx → EReal) (s : (⟨3, ![1, 128, 1024]⟩ : Shape).Idx → EReal)
    (h1 : (⟨4, ![1, 1, 1, 1024]⟩ : Shape).ShapeCasts ⟨2, ![1, 1024]⟩) (h2 : (⟨2, ![1, 1024]⟩ : Shape).ShapeCasts ⟨2, ![1, 1024]⟩)
    (hb : (⟨2, ![1, 1024]⟩ : Shape).Broadcasts ⟨2, ![512, 1024]⟩) (hs : (⟨3, ![1, 128, 1024]⟩ : Shape).ShapeCasts ⟨2, ![128, 1024]⟩)
    (hc : Shape.Concatenates [⟨2, ![128, 1024]⟩, ⟨2, ![128, 1024]⟩, ⟨2, ![128, 1024]⟩, ⟨2, ![128, 1024]⟩] ⟨2, ![512, 1024]⟩ 0) (r : Fin 512) (c : Fin 1024) :
    Scalar.select v (broadcastTo ⟨2, ![512, 1024]⟩ (shapeCast ⟨2, ![1, 1024]⟩ (shapeCast ⟨2, ![1, 1024]⟩ p h1) h2) hb)
      (concatenate ⟨2, ![512, 1024]⟩ 0 [⟨⟨2, ![128, 1024]⟩, shapeCast ⟨2, ![128, 1024]⟩ s hs⟩, ⟨⟨2, ![128, 1024]⟩, shapeCast ⟨2, ![128, 1024]⟩ s hs⟩,
        ⟨⟨2, ![128, 1024]⟩, shapeCast ⟨2, ![128, 1024]⟩ s hs⟩, ⟨⟨2, ![128, 1024]⟩, shapeCast ⟨2, ![128, 1024]⟩ s hs⟩] hc) (ix2 r c)
      = pick v p s r c := by
  rw [select_at]
  unfold pick
  refine congrArg₂ (Scalar.select v) ?_ ?_
  · rw [oneRow_apply]
    refine (shapeCast_apply _ h2 _ (ix2 (0 : Fin 1) c) rfl).trans (shapeCast_apply p h1 _ _ ?_)
    refine (Shape.rowMajor_val_four _).trans (Eq.trans ?_ (Shape.rowMajor_val_two _).symm)
    show ((0 * 1 + 0) * 1 + 0) * 1024 + c.val = 0 * 1024 + c.val
    omega
  · refine (concatenate_replicate_apply (s₁ := ⟨2, ![128, 1024]⟩) 0 4 _ hc rfl (ix2 r c) (ix2 (⟨r.val % 128, Nat.mod_lt _ (by decide)⟩ : Fin 128) c) rfl fun b hb => ?_).trans ?_
    · match b with
      | ⟨0, _⟩ => exact absurd rfl hb
      | ⟨1, _⟩ => rfl
    · refine shapeCast_apply s hs _ _ ?_
      refine (Shape.rowMajor_val_three _).trans (Eq.trans ?_ (Shape.rowMajor_val_two _).symm)
      show (0 * 128 + r.val % 128) * 1024 + c.val = r.val % 128 * 1024 + c.val
      omega

theorem zero_at (s : Shape) (i : s.Idx) : constant (F := Ideal) s .f32 0x00000000#32 i = (0 : EReal) := Ideal.ofBits_zero_f32

/-- One slab's product of a block already narrowed. -/
theorem slab {N : ℕ} (h : FVec Ideal ⟨2, ![512, 1024]⟩ .bf16) (g u : FVec Ideal ⟨2, ![1024, N]⟩ .bf16) (d : FVec Ideal ⟨2, ![N, 1024]⟩ .bf16)
    (hb : FTy.bits .bf16 < FTy.bits .f32) (r : Fin 512) (c : Fin 1024) :
    (matmul (DotDims.plain 512 N 1024) none
      (truncf .bf16 (mulf (mulf
          (matmul (DotDims.plain 512 1024 N) none h g (constant ⟨2, ![512, N]⟩ .f32 0x00000000#32))
          (logistic (matmul (DotDims.plain 512 1024 N) none h g (constant ⟨2, ![512, N]⟩ .f32 0x00000000#32))))
        (matmul (DotDims.plain 512 1024 N) none h u (constant ⟨2, ![512, N]⟩ .f32 0x00000000#32))) hb)
      d (constant ⟨2, ![512, 1024]⟩ .f32 0x00000000#32) : FVec Ideal ⟨2, ![512, 1024]⟩ .f32) (ix2 r c)
      = ∑ f : Fin N, gated (∑ k : Fin 1024, h (ix2 r k) * g (ix2 k f)) (∑ k : Fin 1024, h (ix2 r k) * u (ix2 k f)) * d (ix2 f c) :=
  slab_apply (N := N) (show FVec Ideal ⟨2, ![512, 1024]⟩ .f32 from h) g u d hb r c

/-! ## The call's result -/

/-- One row of a mixer's output: the prompt's rows are the first 16384, the samples' the last 512. -/
def half (p : (⟨2, ![16384, 512]⟩ : Shape).Idx → EReal) (s : (⟨2, ![512, 512]⟩ : Shape).Idx → EReal) (R : Fin 16896) (k : Fin 512) : EReal :=
  if h : R.val < 16384 then p (ix2 (⟨R.val, h⟩ : Fin 16384) k) else s (ix2 (⟨R.val - 16384, by have := R.isLt; omega⟩ : Fin 512) k)

/-- One row of the layer's modulation `ch`, of six: a prompt row has its prompt's, eight prompts of 2048 rows; a sample row has that of its place in its block of 128. -/
def modulation (p : (⟨3, ![4, 8, 6144]⟩ : Shape).Idx → EReal) (s : (⟨3, ![4, 128, 6144]⟩ : Shape).Idx → EReal) (ch : Fin 6) (R : Fin 16896) (k : Fin 1024) : EReal :=
  if h : R.val < 16384 then p (ix3 (2 : Fin 4) (⟨R.val / 2048, by omega⟩ : Fin 8) (⟨1024 * ch.val + k.val, by have := ch.isLt; have := k.isLt; omega⟩ : Fin 6144))
  else s (ix3 (2 : Fin 4) (⟨(R.val - 16384) % 128, Nat.mod_lt _ (by decide)⟩ : Fin 128) (⟨1024 * ch.val + k.val, by have := ch.isLt; have := k.isLt; omega⟩ : Fin 6144))

/-- The result of the call at row `R`, column `c`. -/
def entry (ap : (⟨2, ![16384, 512]⟩ : Shape).Idx → EReal) (sa : (⟨2, ![512, 512]⟩ : Shape).Idx → EReal)
    (bp : (⟨2, ![16384, 512]⟩ : Shape).Idx → EReal) (sb : (⟨2, ![512, 512]⟩ : Shape).Idx → EReal) (x : (⟨2, ![16896, 1024]⟩ : Shape).Idx → EReal)
    (g : (⟨2, ![1, 1024]⟩ : Shape).Idx → EReal) (mp : (⟨3, ![4, 8, 6144]⟩ : Shape).Idx → EReal) (ms : (⟨3, ![4, 128, 6144]⟩ : Shape).Idx → EReal)
    (wo : (⟨2, ![1024, 1024]⟩ : Shape).Idx → EReal) (bias : (⟨2, ![1, 1024]⟩ : Shape).Idx → EReal)
    (wg wu : (⟨2, ![1024, 2816]⟩ : Shape).Idx → EReal) (wd : (⟨2, ![2816, 1024]⟩ : Shape).Idx → EReal) (R : Fin 16896) (c : Fin 1024) : EReal :=
  row (half ap sa R) (half bp sb R) (fun k => x (ix2 R k)) (modulation mp ms 2 R) (modulation mp ms 3 R) (modulation mp ms 4 R) (modulation mp ms 5 R)
    (fun k => g (ix2 (0 : Fin 1) k)) (fun k => bias (ix2 (0 : Fin 1) k)) wo wg wu wd c

end Cert.Mix

end
-- ==== Proof.MixBody.lean ====
/-
  What the kernel leaves in the result's block, at the ideal values: each row is `Mix.row` of the rows of the blocks it is handed.
-/
module

public import proofs.«01_k».proof.Proof.MixRow
public import proofs.«01_k».proof.Proof.Gen.Kernel3Ideal.Frame

@[expose] public section

noncomputable section

namespace Cert.Kernel3Ideal.Mix

open Cert.Kernel3Ideal Cert.Kernel3Ideal.Gen
open Idealize.ShloMosaic hiding ix2 ix3 ix4 addf_apply mulf_apply truncf_apply
open Idealize.ShloMosaic.ValueIdx
open Cert.Mix
open Cert.Kernel2Ideal.Ffn (gated)

theorem mixed_apply (i : grid0.Coords) (v1 : S1x1024.Idx → EReal) (v2 v3 v10 v11 : S512x512.Idx → EReal) (v6 v14 : S512x1024.Idx → EReal)
    (v17 : S512x1024.Idx → EReal) (v18 : S1x128x1024.Idx → EReal) (v21 : S1x1x1x1024.Idx → EReal) (r : Fin 512) (c : Fin 1024) :
    k0_pay2 (F := Ideal) i v1 v2 v3 v6 v10 v11 v14 v17 v18 v21 (ix2 r c)
      = v17 (ix2 r c) + pick (Scalar.cmpi .slt (BitVec.ofNat 32 (i 0).val) 32#32) v21 v18 r c
        * ((∑ k : Fin 512, Scalar.select (Scalar.cmpi .slt (BitVec.ofNat 32 (i 0).val) 32#32) (v2 (ix2 r k)) (v3 (ix2 r k)) * v6 (ix2 k c)
          + ∑ k : Fin 512, Scalar.select (Scalar.cmpi .slt (BitVec.ofNat 32 (i 0).val) 32#32) (v10 (ix2 r k)) (v11 (ix2 r k)) * v14 (ix2 k c)) + v1 (ix2 (0 : Fin 1) c)) := by
  have hm : ∀ (p q : S512x512.Idx → EReal) (w : S512x1024.Idx → EReal),
      matmul (F := Ideal) (φ₁ := .bf16) (φ₂ := .bf16) (DotDims.plain 512 512 1024) none
        (truncf (F := Ideal) (φ := .f32) .bf16 (Scalar.select (Scalar.cmpi .slt (BitVec.ofNat 32 (i 0).val) 32#32) p q) bitsLt_bf16_f32) w (constant S512x1024 .f32 0x00000000#32) (ix2 r c)
        = ∑ k : Fin 512, Scalar.select (Scalar.cmpi .slt (BitVec.ofNat 32 (i 0).val) 32#32) (p (ix2 r k)) (q (ix2 r k)) * w (ix2 k c) := fun p q w => by
    refine (Ideal.matmul_plain_apply none _ _ _ r c).trans ?_
    rw [zero_at, zero_add]
    refine Finset.sum_congr rfl fun k _ => ?_
    rw [truncf_apply, select_at]
  unfold k0_pay2
  refine (addf_apply _ _ _).trans (congrArg (v17 (ix2 r c) + ·) ?_)
  refine (mulf_apply _ _ _).trans (congrArg₂ (· * ·) (pick_apply _ v21 v18 _ _ _ _ _ r c) ?_)
  refine (addf_apply _ _ _).trans ?_
  refine (congrArg₂ (· + ·) ((addf_apply _ _ _).trans (congrArg₂ (· + ·) (oneRow_apply v1 _ r c) (hm v2 v3 v6))) (hm v10 v11 v14)).trans ?_
  rw [add_assoc, add_comm]

theorem normed_apply (v0 : BitVec 1) (y : S512x1024.Idx → EReal) (g : S1x1024.Idx → EReal) (v29 : S1x128x1024.Idx → EReal) (v32 : S1x1x1x1024.Idx → EReal)
    (v37 : S1x128x1024.Idx → EReal) (v40 : S1x1x1x1024.Idx → EReal) (r : Fin 512) (c : Fin 1024) :
    k0_pay3 (F := Ideal) v0 y g v29 v32 v37 v40 (ix2 r c)
      = normed (fun k => y (ix2 r k)) (fun k => g (ix2 (0 : Fin 1) k)) (pick v0 v32 v29 r) (pick v0 v40 v37 r) c := by
  have hr : ∀ (hh : S512x1024.Reduces [1] S512) (hφ) (hacc),
      multiReduction (F := Ideal) (φ := .f32) .add [1] S512 (mulf (F := Ideal) (φ := .f32) y y) 0x00000000#32 hh hφ hacc (Shape.Idx.ofFin r)
        = ∑ k : Fin 1024, y (ix2 r k) * y (ix2 r k) := fun hh hφ hacc =>
    (Ideal.reduceAdd_r2_a1 hh _ _).trans rfl
  have hs : ∀ (z : S512.Idx → EReal) (hc : S512.ShapeCasts S512x1), shapeCast S512x1 z hc (ix2 r (0 : Fin 1)) = z (Shape.Idx.ofFin r) := fun z hc => by
    refine shapeCast_apply z hc _ _ ?_
    refine (Shape.rowMajor_val_one _).trans (Eq.trans ?_ (Shape.rowMajor_val_two _).symm)
    show r.val = r.val * 1 + 0
    omega
  have hcol : ∀ (z : S512x1.Idx → EReal) (hb : S512x1.Broadcasts S512x1024), broadcastTo S512x1024 z hb (ix2 r c) = z (ix2 r (0 : Fin 1)) := fun z hb => by
    refine broadcastTo_apply z hb _ _ fun a => ?_
    match a with
    | ⟨0, _⟩ => rfl
    | ⟨1, _⟩ => rfl
  unfold k0_pay3 normed
  refine (truncf_apply (φ := .f32) _ bitsLt_bf16_f32 _).trans ?_
  refine (addf_apply _ _ _).trans (congrArg₂ (· + ·) ?_ (pick_apply _ v32 v29 _ _ _ _ _ r c))
  refine (mulf_apply _ _ _).trans (congrArg₂ (· * ·) ?_ ((addf_apply _ _ _).trans (congrArg₂ (· + ·) rfl (pick_apply _ v40 v37 _ _ _ _ _ r c))))
  refine (mulf_apply _ _ _).trans (congrArg₂ (· * ·) ?_ (oneRow_apply g _ r c))
  refine (mulf_apply _ _ _).trans (congrArg (y (ix2 r c) * ·) ?_)
  refine (hcol _ _).trans ?_
  refine congrArg (fun q : EReal => Ideal.rsqrt (Ideal.div q (Ideal.ofBits .f32 0x44800000#32) + Ideal.ofBits .f32 0x358637BD#32)) ?_
  exact (hs _ _).trans (hr _ _ _)

theorem gate_apply (v0 : BitVec 1) (y : S512x1024.Idx → EReal) (h : S512x1024.Idx → EReal) (wg1 wu1 : S1024x1536.Idx → EReal) (wd1 : S1536x1024.Idx → EReal)
    (wg2 wu2 : S1024x1280.Idx → EReal) (wd2 : S1280x1024.Idx → EReal) (v83 : S1x128x1024.Idx → EReal) (v86 : S1x1x1x1024.Idx → EReal) (r : Fin 512) (c : Fin 1024) :
    k0_pay1 (F := Ideal) v0 y h
        (matmul (F := Ideal) (φ₁ := .bf16) (φ₂ := .bf16) dot_S512x1024_S1024x1536_S512x1536_1_0_0_1_n_n none h wg1 (constant S512x1536 .f32 0x00000000#32))
        (matmul (F := Ideal) (φ₁ := .bf16) (φ₂ := .bf16) dot_S512x1024_S1024x1536_S512x1536_1_0_0_1_n_n none h wu1 (constant S512x1536 .f32 0x00000000#32))
        (logistic (matmul (F := Ideal) (φ₁ := .bf16) (φ₂ := .bf16) dot_S512x1024_S1024x1536_S512x1536_1_0_0_1_n_n none h wg1 (constant S512x1536 .f32 0x00000000#32)))
        wd1 wg2 wu2 wd2 v83 v86 (ix2 r c)
      = y (ix2 r c) + pick v0 v86 v83 r c
        * ((∑ f : Fin 1536, gated (∑ k : Fin 1024, h (ix2 r k) * wg1 (ix2 k f)) (∑ k : Fin 1024, h (ix2 r k) * wu1 (ix2 k f)) * wd1 (ix2 f c))
          + ∑ f : Fin 1280, gated (∑ k : Fin 1024, h (ix2 r k) * wg2 (ix2 k f)) (∑ k : Fin 1024, h (ix2 r k) * wu2 (ix2 k f)) * wd2 (ix2 f c)) := by
  unfold k0_pay1
  refine (addf_apply _ _ _).trans (congrArg (y (ix2 r c) + ·) ?_)
  refine (mulf_apply _ _ _).trans (congrArg₂ (· * ·) (pick_apply _ v86 v83 _ _ _ _ _ r c) ?_)
  exact (addf_apply _ _ _).trans (congrArg₂ (· + ·) (slab (N := 1536) h wg1 wu1 wd1 bitsLt_bf16_f32 r c) (slab (N := 1280) h wg2 wu2 wd2 bitsLt_bf16_f32 r c))

/-! ## The block -/

/-- A part of a matrix loaded, at an element. -/
theorem ld_part {Val : EltTy → Type} {e : EltTy} {A B A' B' : ℕ} (x : (⟨2, ![A, B]⟩ : Shape).Idx → Val e) (oa ob : ℕ) (inb) (i : Fin A') (j : Fin B') (i' : Fin A) (j' : Fin B)
    (hi : i'.val = oa + i.val) (hj : j'.val = ob + j.val) :
    View.ld x (Rect.unit (s := ⟨2, ![A, B]⟩) ![oa, ob] ![A', B'] inb) (ix2 i j) = x (ix2 i' j') := by
  refine View.ld_unit_apply_of x _ _ inb _ _ fun a => ?_
  match a with
  | ⟨0, _⟩ => exact hi
  | ⟨1, _⟩ => exact hj

/-- A whole block loaded. -/
theorem ld_whole {Val : EltTy → Type} {S : Shape} {e : EltTy} (x : S.Idx → Val e) (off : Fin S.rank → ℕ) (inb) (h : ∀ a, off a = 0) :
    View.ld x (Rect.unit (s := S) off S.size inb) = x := by
  funext j
  refine View.ld_unit_apply_of x off _ inb j j fun a => ?_
  rw [h, Nat.zero_add]

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide

theorem ld0 (x : Vec Ideal S1x1024 .f32) : View.ld x r0_0 = x := ld_whole x _ _ (congrFun z2)
theorem ld1 (x : Vec Ideal S512x512 .f32) : View.ld x r0_1 = x := ld_whole x _ _ (congrFun z2)
theorem ld4 (x : Vec Ideal S512x1024 .f32) : View.ld x r0_4 = x := ld_whole x _ _ (congrFun z2)
theorem ld5 (x : Vec Ideal S1x128x1024 .f32) : View.ld x r0_5 = x := ld_whole x _ _ (congrFun z3)
theorem ld6 (x : Vec Ideal S1x1x1x1024 .f32) : View.ld x r0_6 = x := ld_whole x _ _ (congrFun z4)

theorem ld2 (x : Vec Ideal S1024x1024 .bf16) (k : Fin 512) (c : Fin 1024) : View.ld x r0_2 (ix2 k c) = x (ix2 (Fin.castAdd 512 k : Fin (512 + 512)) c) :=
  ld_part (A := 1024) (B := 1024) x 0 0 _ k c _ _ (Nat.zero_add _).symm (Nat.zero_add _).symm
theorem ld3 (x : Vec Ideal S1024x1024 .bf16) (k : Fin 512) (c : Fin 1024) : View.ld x r0_3 (ix2 k c) = x (ix2 (Fin.natAdd 512 k : Fin (512 + 512)) c) :=
  ld_part (A := 1024) (B := 1024) x 512 0 _ k c _ _ rfl (Nat.zero_add _).symm
theorem ld7 (x : Vec Ideal S1024x2816 .bf16) (k : Fin 1024) (f : Fin 1536) : View.ld x r0_7 (ix2 k f) = x (ix2 k (Fin.castAdd 1280 f : Fin (1536 + 1280))) :=
  ld_part (A := 1024) (B := 2816) x 0 0 _ k f _ _ (Nat.zero_add _).symm (Nat.zero_add _).symm
theorem ld8 (x : Vec Ideal S2816x1024 .bf16) (f : Fin 1536) (c : Fin 1024) : View.ld x r0_8 (ix2 f c) = x (ix2 (Fin.castAdd 1280 f : Fin (1536 + 1280)) c) :=
  ld_part (A := 2816) (B := 1024) x 0 0 _ f c _ _ (Nat.zero_add _).symm (Nat.zero_add _).symm
theorem ld9 (x : Vec Ideal S1024x2816 .bf16) (k : Fin 1024) (f : Fin 1280) : View.ld x r0_9 (ix2 k f) = x (ix2 k (Fin.natAdd 1536 f : Fin (1536 + 1280))) :=
  ld_part (A := 1024) (B := 2816) x 0 1536 _ k f _ _ (Nat.zero_add _).symm rfl
theorem ld10 (x : Vec Ideal S2816x1024 .bf16) (f : Fin 1280) (c : Fin 1024) : View.ld x r0_10 (ix2 f c) = x (ix2 (Fin.natAdd 1536 f : Fin (1536 + 1280)) c) :=
  ld_part (A := 2816) (B := 1024) x 1536 0 _ f c _ _ rfl (Nat.zero_add _).symm

theorem canon_whole (p : Vec Ideal S512x1024 .f32) : View.canon (Val := Elt Ideal) [(⟨r0_4, p⟩ : View.Piece (Elt Ideal) S512x1024 .f32)] = p :=
  View.canon_unit_zero (S := S512x1024) z2 inb_S512x1024_S512x1024_0_0 p

/-- The first residual's block: the output projection's halves added to the rows. -/
theorem block_mixed
    (i : grid0.Coords) (x0 x1 x2 x3 : S512x512.Idx → EReal) (x4 : S512x1024.Idx → EReal) (x5 : S1x1x1x1024.Idx → EReal) (x6 : S1x128x1024.Idx → EReal)
    (x7 : S1024x1024.Idx → EReal) (x8 x9 : S1x1024.Idx → EReal) (x10 : S1x1x1x1024.Idx → EReal) (x11 : S1x128x1024.Idx → EReal) (x12 : S1x1x1x1024.Idx → EReal)
    (x13 : S1x128x1024.Idx → EReal) (x14 : S1x1x1x1024.Idx → EReal) (x15 : S1x128x1024.Idx → EReal) (x16 x17 : S1024x2816.Idx → EReal) (x18 : S2816x1024.Idx → EReal)
    (r : Fin 512) (v : BitVec 1) (hv : Scalar.cmpi .slt (BitVec.ofNat 32 (i 0).val) 32#32 = v) (k : Fin 1024) :
    k0_pay7 (F := Ideal) i x0 x1 x2 x3 x4 x5 x6 x7 x8 x9 x10 x11 x12 x13 x14 x15 x16 x17 x18 (ix2 r k)
      = mixed (fun k => Scalar.select v (x0 (ix2 r k)) (x1 (ix2 r k))) (fun k => Scalar.select v (x2 (ix2 r k)) (x3 (ix2 r k))) (fun k => x4 (ix2 r k))
          (pick v x5 x6 r) (fun k => x8 (ix2 (0 : Fin 1) k)) x7 k := by
  unfold k0_pay7
  refine (mixed_apply i _ _ _ _ _ _ _ _ _ _ r k).trans ?_
  rw [hv, ld0 x8, ld1 x0, ld1 x1, ld1 x2, ld1 x3, ld4 x4, ld5 x6, ld6 x5]
  unfold mixed
  refine congrArg (fun q : EReal => x4 (ix2 r k) + pick v x5 x6 r k * (q + x8 (ix2 (0 : Fin 1) k))) (congrArg₂ (· + ·) ?_ ?_)
  · refine Finset.sum_congr rfl fun f _ => congrArg (Scalar.select v (x0 (ix2 r f)) (x1 (ix2 r f)) * ·) ?_
    exact ld2 x7 f k
  · refine Finset.sum_congr rfl fun f _ => congrArg (Scalar.select v (x2 (ix2 r f)) (x3 (ix2 r f)) * ·) ?_
    exact ld3 x7 f k

/-- The feed-forward's two slabs, from the weights loaded in parts. -/
theorem block_fed (v : BitVec 1) (Y H : S512x1024.Idx → EReal) (x14 : S1x1x1x1024.Idx → EReal) (x15 : S1x128x1024.Idx → EReal)
    (x16 x17 : S1024x2816.Idx → EReal) (x18 : S2816x1024.Idx → EReal) (r : Fin 512) (c : Fin 1024) (h : Fin 1024 → EReal) (hh : ∀ k, H (ix2 r k) = h k) :
    Y (ix2 r c) + pick v x14 x15 r c
        * ((∑ f : Fin 1536, gated (∑ k : Fin 1024, H (ix2 r k) * (View.ld (Val := Elt Ideal) (e' := .bf16) (S := S1024x2816) x16 r0_7 : S1024x1536.Idx → EReal) (ix2 k f)) (∑ k : Fin 1024, H (ix2 r k) * (View.ld (Val := Elt Ideal) (e' := .bf16) (S := S1024x2816) x17 r0_7 : S1024x1536.Idx → EReal) (ix2 k f)) * (View.ld (Val := Elt Ideal) (e' := .bf16) (S := S2816x1024) x18 r0_8 : S1536x1024.Idx → EReal) (ix2 f c))
          + ∑ f : Fin 1280, gated (∑ k : Fin 1024, H (ix2 r k) * (View.ld (Val := Elt Ideal) (e' := .bf16) (S := S1024x2816) x16 r0_9 : S1024x1280.Idx → EReal) (ix2 k f)) (∑ k : Fin 1024, H (ix2 r k) * (View.ld (Val := Elt Ideal) (e' := .bf16) (S := S1024x2816) x17 r0_9 : S1024x1280.Idx → EReal) (ix2 k f)) * (View.ld (Val := Elt Ideal) (e' := .bf16) (S := S2816x1024) x18 r0_10 : S1280x1024.Idx → EReal) (ix2 f c))
      = Y (ix2 r c) + pick v x14 x15 r c * fed h x16 x17 x18 c := by
  unfold fed
  refine congrArg (HAdd.hAdd _) (congrArg (pick v x14 x15 r c * ·) ?_)
  refine Eq.trans ?_ (Fin.sum_univ_add (a := 1536) (b := 1280) fun f : Fin (1536 + 1280) => _).symm
  refine congrArg₂ (· + ·) (Finset.sum_congr rfl fun f _ => ?_) (Finset.sum_congr rfl fun f _ => ?_)
  · refine congrArg₂ (· * ·) (congrArg₂ gated ?_ ?_) (ld8 x18 f c)
    · exact Finset.sum_congr rfl fun k _ => congrArg₂ (· * ·) (hh k) (ld7 x16 k f)
    · exact Finset.sum_congr rfl fun k _ => congrArg₂ (· * ·) (hh k) (ld7 x17 k f)
  · refine congrArg₂ (· * ·) (congrArg₂ gated ?_ ?_) (ld10 x18 f c)
    · exact Finset.sum_congr rfl fun k _ => congrArg₂ (· * ·) (hh k) (ld9 x16 k f)
    · exact Finset.sum_congr rfl fun k _ => congrArg₂ (· * ·) (hh k) (ld9 x17 k f)

/-- What is left in the result's block. -/
theorem out_apply
    (i : grid0.Coords) (x0 x1 x2 x3 : S512x512.Idx → EReal) (x4 : S512x1024.Idx → EReal) (x5 : S1x1x1x1024.Idx → EReal) (x6 : S1x128x1024.Idx → EReal)
    (x7 : S1024x1024.Idx → EReal) (x8 x9 : S1x1024.Idx → EReal) (x10 : S1x1x1x1024.Idx → EReal) (x11 : S1x128x1024.Idx → EReal) (x12 : S1x1x1x1024.Idx → EReal)
    (x13 : S1x128x1024.Idx → EReal) (x14 : S1x1x1x1024.Idx → EReal) (x15 : S1x128x1024.Idx → EReal) (x16 x17 : S1024x2816.Idx → EReal) (x18 : S2816x1024.Idx → EReal)
    (r : Fin 512) (v : BitVec 1) (hv : Scalar.cmpi .slt (BitVec.ofNat 32 (i 0).val) 32#32 = v) (c : Fin 1024) :
    out0_19 (F := Ideal) i x0 x1 x2 x3 x4 x5 x6 x7 x8 x9 x10 x11 x12 x13 x14 x15 x16 x17 x18 (ix2 r c)
      = row (fun k => Scalar.select v (x0 (ix2 r k)) (x1 (ix2 r k))) (fun k => Scalar.select v (x2 (ix2 r k)) (x3 (ix2 r k))) (fun k => x4 (ix2 r k))
          (pick v x5 x6 r) (pick v x10 x11 r) (pick v x12 x13 r) (pick v x14 x15 r) (fun k => x9 (ix2 (0 : Fin 1) k)) (fun k => x8 (ix2 (0 : Fin 1) k)) x7 x16 x17 x18 c := by
  have hy := block_mixed i x0 x1 x2 x3 x4 x5 x6 x7 x8 x9 x10 x11 x12 x13 x14 x15 x16 x17 x18 r v hv
  unfold out0_19
  refine (congrFun (canon_whole _) _).trans ?_
  unfold k0_pay6 k0_pay5 k0_pay4
  rw [hv, ld0 x9, ld5 x11, ld6 x10, ld5 x13, ld6 x12, ld5 x15, ld6 x14]
  generalize k0_pay7 (F := Ideal) i x0 x1 x2 x3 x4 x5 x6 x7 x8 x9 x10 x11 x12 x13 x14 x15 x16 x17 x18 = Y at hy ⊢
  have hh := fun k : Fin 1024 => normed_apply v Y x9 x11 x10 x13 x12 r k
  rw [funext hy] at hh
  generalize k0_pay3 (F := Ideal) v Y x9 x11 x10 x13 x12 = H at hh ⊢
  refine (gate_apply v Y H _ _ _ _ _ _ x15 x14 r c).trans ?_
  refine (block_fed v Y H x14 x15 x16 x17 x18 r c _ hh).trans ?_
  rw [hy]
  rfl

end Cert.Kernel3Ideal.Mix

end
-- ==== Proof.MixOut.lean ====
/-
  The result of the even layers' call: each point's blocks read from the arrays, and the array the points leave.
-/
module

public import proofs.«01_k».proof.Proof.MixBody
public import proofs.«01_k».proof.Proof.Gen.Kernel3Ideal.Value
public import Idealize.ShloMosaic.Lib.Quiescent
public import Idealize.ShloMosaic.Lib.IdealHost

@[expose] public section

noncomputable section

namespace Cert.Kernel3Ideal.Mix

open Cert.Kernel3Ideal Cert.Kernel3Ideal.Gen
open Idealize.ShloMosaic hiding ix2 ix3 ix4 addf_apply mulf_apply truncf_apply
open Idealize.ShloMosaic.ValueIdx Idealize.ShloMosaic.TcCoe Idealize.SL.Sem
open Cert.Mix

variable (m : (ℓ : Loc nD τ sig) → Buf (Elt Ideal) ℓ) (c : Dev nD)

/-! ## A point's blocks -/

theorem index0 : ∀ t : Fin grid0.N, t.val < 32 → cc0_transform_0 (grid0.coords t) = ![t.val, 0] := by decide
theorem index4 : ∀ t : Fin grid0.N, cc0_transform_4 (grid0.coords t) = ![t.val, 0] := by decide
theorem index5 : ∀ t : Fin grid0.N, t.val < 32 → cc0_transform_5 (grid0.coords t) = ![2, t.val / 4, 0, 2] := by decide +kernel
theorem index10 : ∀ t : Fin grid0.N, t.val < 32 → cc0_transform_10 (grid0.coords t) = ![2, t.val / 4, 0, 3] := by decide +kernel
theorem index12 : ∀ t : Fin grid0.N, t.val < 32 → cc0_transform_12 (grid0.coords t) = ![2, t.val / 4, 0, 4] := by decide +kernel
theorem index14 : ∀ t : Fin grid0.N, t.val < 32 → cc0_transform_14 (grid0.coords t) = ![2, t.val / 4, 0, 5] := by decide +kernel

/-- Whether a point's rows are the prompt's, as the body tests it. -/
theorem prompt_point : ∀ t : Fin grid0.N, t.val < 32 → Scalar.cmpi .slt (BitVec.ofNat 32 ((grid0.coords t) 0).val) 32#32 = 1#1 := by decide
theorem sample_point : ∀ t : Fin grid0.N, ¬ t.val < 32 → Scalar.cmpi .slt (BitVec.ofNat 32 ((grid0.coords t) 0).val) 32#32 = 0#1 := by decide

theorem points (t : Fin grid0.N) : t.val < 33 := t.isLt

theorem at2 {α : Type} {A B : ℕ} (X : (⟨2, ![A, B]⟩ : Shape).Idx → α) (j : (⟨2, ![A, B]⟩ : Shape).Idx) (a : Fin A) (b : Fin B)
    (h0 : (j 0).val = a.val) (h1 : (j 1).val = b.val) : X j = X (ix2 a b) := by
  refine congrArg X (funext fun q => Fin.ext ?_)
  match q with
  | ⟨0, _⟩ => exact h0
  | ⟨1, _⟩ => exact h1

theorem at3 {α : Type} {A B C : ℕ} (X : (⟨3, ![A, B, C]⟩ : Shape).Idx → α) (j : (⟨3, ![A, B, C]⟩ : Shape).Idx) (a : Fin A) (b : Fin B) (d : Fin C)
    (h0 : (j 0).val = a.val) (h1 : (j 1).val = b.val) (h2 : (j 2).val = d.val) : X j = X (ix3 a b d) := by
  refine congrArg X (funext fun q => Fin.ext ?_)
  match q with
  | ⟨0, _⟩ => exact h0
  | ⟨1, _⟩ => exact h1
  | ⟨2, _⟩ => exact h2

theorem at4 {α : Type} {A B C D : ℕ} (X : (⟨4, ![A, B, C, D]⟩ : Shape).Idx → α) (j : (⟨4, ![A, B, C, D]⟩ : Shape).Idx) (a : Fin A) (b : Fin B) (d : Fin C) (e : Fin D)
    (h0 : (j 0).val = a.val) (h1 : (j 1).val = b.val) (h2 : (j 2).val = d.val) (h3 : (j 3).val = e.val) : X j = X (ix4 a b d e) := by
  refine congrArg X (funext fun q => Fin.ext ?_)
  match q with
  | ⟨0, _⟩ => exact h0
  | ⟨1, _⟩ => exact h1
  | ⟨2, _⟩ => exact h2
  | ⟨3, _⟩ => exact h3

/-- The prompt's modulations as the region finds them: the argument, with a unit axis put in. -/
theorem V_main_v0 : V m c main_v0 = broadcastInDim S4x8x1x6144 ![0, 1, 3] bcast_S4x8x6144_S4x8x1x6144_0_1_3 (m ((c : Thread nD τ).loc main_arg6)) := by
  show StableHlo.after hostOps0 (fun b => m (c, b)) (Proc.devRef .tc main_v0) = _
  simp only [hostOps0, StableHlo.after_cons, StableHlo.after_nil]
  exact StableHlo.unary_result' _ _ _ _

theorem column (ch : Fin 6) (k : Fin 1024) : 1024 * ch.val + k.val < 6144 := by
  have := ch.isLt
  have := k.isLt
  omega

theorem unit_axis (x : S4x8x6144.Idx → EReal) (a : Fin 4) (b : Fin 8) (e : Fin 6144) :
    broadcastInDim S4x8x1x6144 ![0, 1, 3] bcast_S4x8x6144_S4x8x1x6144_0_1_3 x (ix4 a b (0 : Fin 1) e) = x (ix3 a b e) := by
  refine broadcastInDim_apply _ _ x _ _ fun q => ?_
  match q with
  | ⟨0, _⟩ => rfl
  | ⟨1, _⟩ => rfl
  | ⟨2, _⟩ => rfl

/-! Where a block of each kind sits in its array: `e` is the block's embedding, `ix` its place, in blocks. -/

theorem whole_block {α : Type} {A B : ℕ} (X : (⟨2, ![A, B]⟩ : Shape).Idx → α) (ix : Fin 2 → ℕ) (e : (⟨2, ![A, B]⟩ : Shape).Idx → (⟨2, ![A, B]⟩ : Shape).Idx)
    (he : ∀ y a, (e y a).val = ix a * (⟨2, ![A, B]⟩ : Shape).size a + 1 * (y a).val) (hix : ix = ![0, 0]) : (fun y => X (e y)) = X := by
  funext y
  refine congrArg X (funext fun a => Fin.ext ?_)
  rw [he, hix, show (![0, 0] : Fin 2 → ℕ) a = 0 by match a with | 0 => rfl | 1 => rfl, Nat.zero_mul, Nat.zero_add, Nat.one_mul]

theorem row_block {α : Type} {A B : ℕ} (X : (⟨2, ![A, B]⟩ : Shape).Idx → α) (ix : Fin 2 → ℕ) (e : (⟨2, ![512, B]⟩ : Shape).Idx → (⟨2, ![A, B]⟩ : Shape).Idx)
    (he : ∀ y a, (e y a).val = ix a * (⟨2, ![512, B]⟩ : Shape).size a + 1 * (y a).val) (t : ℕ) (hix : ix = ![t, 0]) (r : Fin 512) (k : Fin B) (h : 512 * t + r.val < A) :
    X (e (ix2 r k)) = X (ix2 (⟨512 * t + r.val, h⟩ : Fin A) k) := by
  subst hix
  refine at2 X _ _ _ ((he _ 0).trans ?_) ((he _ 1).trans ?_)
  · show t * 512 + 1 * r.val = 512 * t + r.val
    omega
  · show 0 * B + 1 * k.val = k.val
    rw [Nat.zero_mul, Nat.zero_add, Nat.one_mul]

theorem prompt_block (x : S4x8x6144.Idx → EReal) (ix : Fin 4 → ℕ) (e : S1x1x1x1024.Idx → S4x8x1x6144.Idx) (he : ∀ y a, (e y a).val = ix a * S1x1x1x1024.size a + 1 * (y a).val)
    (q : Fin 8) (ch : Fin 6) (hix : ix = ![2, q.val, 0, ch.val]) (k : Fin 1024) :
    broadcastInDim S4x8x1x6144 ![0, 1, 3] bcast_S4x8x6144_S4x8x1x6144_0_1_3 x (e (ix4 (0 : Fin 1) (0 : Fin 1) (0 : Fin 1) k))
      = x (ix3 (2 : Fin 4) q (⟨1024 * ch.val + k.val, column ch k⟩ : Fin 6144)) := by
  subst hix
  refine (at4 (A := 4) (B := 8) (C := 1) (D := 6144) _ _ (2 : Fin 4) q (0 : Fin 1) ⟨1024 * ch.val + k.val, column ch k⟩ ((he _ 0).trans rfl) ((he _ 1).trans ?_) ((he _ 2).trans rfl)
    ((he _ 3).trans ?_)).trans (unit_axis _ _ _ _)
  · show q.val * 1 + 1 * 0 = q.val
    omega
  · show ch.val * 1024 + 1 * k.val = 1024 * ch.val + k.val
    omega

theorem sample_block (x : S4x128x6144.Idx → EReal) (ix : Fin 3 → ℕ) (e : S1x128x1024.Idx → S4x128x6144.Idx) (he : ∀ y a, (e y a).val = ix a * S1x128x1024.size a + 1 * (y a).val)
    (ch : Fin 6) (hix : ix = ![2, 0, ch.val]) (q : Fin 128) (k : Fin 1024) :
    x (e (ix3 (0 : Fin 1) q k)) = x (ix3 (2 : Fin 4) q (⟨1024 * ch.val + k.val, column ch k⟩ : Fin 6144)) := by
  subst hix
  refine at3 (A := 4) (B := 128) (C := 6144) x _ _ _ _ ((he _ 0).trans rfl) ((he _ 1).trans ?_) ((he _ 2).trans ?_)
  · show 0 * 128 + 1 * q.val = q.val
    omega
  · show ch.val * 1024 + 1 * k.val = 1024 * ch.val + k.val
    omega

/-! What each window's block holds. -/

theorem held0 (t : Fin grid0.N) (h : t.val < 32) (r k : Fin 512) : iblk m c 0 t (ix2 r k)
    = (m ((c : Thread nD τ).loc main_arg0) : S16384x512.Idx → EReal) (ix2 (⟨512 * t.val + r.val, by have := r.isLt; omega⟩ : Fin 16384) k) :=
  (row_block (A := 16384) (V m c main_arg0) _ ((cfg0.win 0).blk t).view.emb (fun _ _ => rfl) t.val (index0 t h) r k _).trans (congrFun (V_main_arg0 m c) _)

theorem held1 (t : Fin grid0.N) : iblk m c 1 t = (m ((c : Thread nD τ).loc main_arg1) : S512x512.Idx → EReal) :=
  (whole_block (V m c main_arg1) (win0_1.index t) ((cfg0.win 1).blk t).view.emb (fun _ _ => rfl) rfl).trans (V_main_arg1 m c)

theorem held2 (t : Fin grid0.N) (h : t.val < 32) (r k : Fin 512) : iblk m c 2 t (ix2 r k)
    = (m ((c : Thread nD τ).loc main_arg2) : S16384x512.Idx → EReal) (ix2 (⟨512 * t.val + r.val, by have := r.isLt; omega⟩ : Fin 16384) k) :=
  (row_block (A := 16384) (V m c main_arg2) _ ((cfg0.win 2).blk t).view.emb (fun _ _ => rfl) t.val (index0 t h) r k _).trans (congrFun (V_main_arg2 m c) _)

theorem held3 (t : Fin grid0.N) : iblk m c 3 t = (m ((c : Thread nD τ).loc main_arg3) : S512x512.Idx → EReal) :=
  (whole_block (V m c main_arg3) (win0_3.index t) ((cfg0.win 3).blk t).view.emb (fun _ _ => rfl) rfl).trans (V_main_arg3 m c)

theorem held4 (t : Fin grid0.N) (r : Fin 512) (k : Fin 1024) : iblk m c 4 t (ix2 r k)
    = (m ((c : Thread nD τ).loc main_arg4) : S16896x1024.Idx → EReal) (ix2 (⟨512 * t.val + r.val, by have := r.isLt; have := points t; omega⟩ : Fin 16896) k) :=
  (row_block (A := 16896) (V m c main_arg4) _ ((cfg0.win 4).blk t).view.emb (fun _ _ => rfl) t.val (index4 t) r k _).trans (congrFun (V_main_arg4 m c) _)

/-- A prompt point's sequence. -/
abbrev seqOf (t : Fin grid0.N) (h : t.val < 32) : Fin 8 := ⟨t.val / 4, by omega⟩

theorem held5 (t : Fin grid0.N) (h : t.val < 32) (k : Fin 1024) : iblk m c 5 t (ix4 (0 : Fin 1) (0 : Fin 1) (0 : Fin 1) k)
    = (m ((c : Thread nD τ).loc main_arg6) : S4x8x6144.Idx → EReal) (ix3 (2 : Fin 4) (seqOf t h) (⟨1024 * (2 : Fin 6).val + k.val, column 2 k⟩ : Fin 6144)) :=
  (congrFun (V_main_v0 m c) _).trans (prompt_block _ _ ((cfg0.win 5).blk t).view.emb (fun _ _ => rfl) (seqOf t h) 2 (index5 t h) k)

theorem held6 (t : Fin grid0.N) (q : Fin 128) (k : Fin 1024) : iblk m c 6 t (ix3 (0 : Fin 1) q k)
    = (m ((c : Thread nD τ).loc main_arg7) : S4x128x6144.Idx → EReal) (ix3 (2 : Fin 4) q (⟨1024 * (2 : Fin 6).val + k.val, column 2 k⟩ : Fin 6144)) :=
  (sample_block (V m c main_arg7) (win0_6.index t) ((cfg0.win 6).blk t).view.emb (fun _ _ => rfl) 2 rfl q k).trans (congrFun (V_main_arg7 m c) _)

theorem held7 (t : Fin grid0.N) : iblk m c 7 t = (m ((c : Thread nD τ).loc main_arg8) : S1024x1024.Idx → EReal) :=
  (whole_block (V m c main_arg8) (win0_7.index t) ((cfg0.win 7).blk t).view.emb (fun _ _ => rfl) rfl).trans (V_main_arg8 m c)

theorem held8 (t : Fin grid0.N) : iblk m c 8 t = (m ((c : Thread nD τ).loc main_arg9) : S1x1024.Idx → EReal) :=
  (whole_block (V m c main_arg9) (win0_8.index t) ((cfg0.win 8).blk t).view.emb (fun _ _ => rfl) rfl).trans (V_main_arg9 m c)

theorem held9 (t : Fin grid0.N) : iblk m c 9 t = (m ((c : Thread nD τ).loc main_arg5) : S1x1024.Idx → EReal) :=
  (whole_block (V m c main_arg5) (win0_9.index t) ((cfg0.win 9).blk t).view.emb (fun _ _ => rfl) rfl).trans (V_main_arg5 m c)

theorem held10 (t : Fin grid0.N) (h : t.val < 32) (k : Fin 1024) : iblk m c 10 t (ix4 (0 : Fin 1) (0 : Fin 1) (0 : Fin 1) k)
    = (m ((c : Thread nD τ).loc main_arg6) : S4x8x6144.Idx → EReal) (ix3 (2 : Fin 4) (seqOf t h) (⟨1024 * (3 : Fin 6).val + k.val, column 3 k⟩ : Fin 6144)) :=
  (congrFun (V_main_v0 m c) _).trans (prompt_block _ _ ((cfg0.win 10).blk t).view.emb (fun _ _ => rfl) (seqOf t h) 3 (index10 t h) k)

theorem held11 (t : Fin grid0.N) (q : Fin 128) (k : Fin 1024) : iblk m c 11 t (ix3 (0 : Fin 1) q k)
    = (m ((c : Thread nD τ).loc main_arg7) : S4x128x6144.Idx → EReal) (ix3 (2 : Fin 4) q (⟨1024 * (3 : Fin 6).val + k.val, column 3 k⟩ : Fin 6144)) :=
  (sample_block (V m c main_arg7) (win0_11.index t) ((cfg0.win 11).blk t).view.emb (fun _ _ => rfl) 3 rfl q k).trans (congrFun (V_main_arg7 m c) _)

theorem held12 (t : Fin grid0.N) (h : t.val < 32) (k : Fin 1024) : iblk m c 12 t (ix4 (0 : Fin 1) (0 : Fin 1) (0 : Fin 1) k)
    = (m ((c : Thread nD τ).loc main_arg6) : S4x8x6144.Idx → EReal) (ix3 (2 : Fin 4) (seqOf t h) (⟨1024 * (4 : Fin 6).val + k.val, column 4 k⟩ : Fin 6144)) :=
  (congrFun (V_main_v0 m c) _).trans (prompt_block _ _ ((cfg0.win 12).blk t).view.emb (fun _ _ => rfl) (seqOf t h) 4 (index12 t h) k)

theorem held13 (t : Fin grid0.N) (q : Fin 128) (k : Fin 1024) : iblk m c 13 t (ix3 (0 : Fin 1) q k)
    = (m ((c : Thread nD τ).loc main_arg7) : S4x128x6144.Idx → EReal) (ix3 (2 : Fin 4) q (⟨1024 * (4 : Fin 6).val + k.val, column 4 k⟩ : Fin 6144)) :=
  (sample_block (V m c main_arg7) (win0_13.index t) ((cfg0.win 13).blk t).view.emb (fun _ _ => rfl) 4 rfl q k).trans (congrFun (V_main_arg7 m c) _)

theorem held14 (t : Fin grid0.N) (h : t.val < 32) (k : Fin 1024) : iblk m c 14 t (ix4 (0 : Fin 1) (0 : Fin 1) (0 : Fin 1) k)
    = (m ((c : Thread nD τ).loc main_arg6) : S4x8x6144.Idx → EReal) (ix3 (2 : Fin 4) (seqOf t h) (⟨1024 * (5 : Fin 6).val + k.val, column 5 k⟩ : Fin 6144)) :=
  (congrFun (V_main_v0 m c) _).trans (prompt_block _ _ ((cfg0.win 14).blk t).view.emb (fun _ _ => rfl) (seqOf t h) 5 (index14 t h) k)

theorem held15 (t : Fin grid0.N) (q : Fin 128) (k : Fin 1024) : iblk m c 15 t (ix3 (0 : Fin 1) q k)
    = (m ((c : Thread nD τ).loc main_arg7) : S4x128x6144.Idx → EReal) (ix3 (2 : Fin 4) q (⟨1024 * (5 : Fin 6).val + k.val, column 5 k⟩ : Fin 6144)) :=
  (sample_block (V m c main_arg7) (win0_15.index t) ((cfg0.win 15).blk t).view.emb (fun _ _ => rfl) 5 rfl q k).trans (congrFun (V_main_arg7 m c) _)

theorem held16 (t : Fin grid0.N) : iblk m c 16 t = (m ((c : Thread nD τ).loc main_arg10) : S1024x2816.Idx → EReal) :=
  (whole_block (V m c main_arg10) (win0_16.index t) ((cfg0.win 16).blk t).view.emb (fun _ _ => rfl) rfl).trans (V_main_arg10 m c)

theorem held17 (t : Fin grid0.N) : iblk m c 17 t = (m ((c : Thread nD τ).loc main_arg11) : S1024x2816.Idx → EReal) :=
  (whole_block (V m c main_arg11) (win0_17.index t) ((cfg0.win 17).blk t).view.emb (fun _ _ => rfl) rfl).trans (V_main_arg11 m c)

theorem held18 (t : Fin grid0.N) : iblk m c 18 t = (m ((c : Thread nD τ).loc main_arg12) : S2816x1024.Idx → EReal) :=
  (whole_block (V m c main_arg12) (win0_18.index t) ((cfg0.win 18).blk t).view.emb (fun _ _ => rfl) rfl).trans (V_main_arg12 m c)

/-! ## A point's row -/

theorem row_lt (t : Fin grid0.N) (r : Fin 512) : 512 * t.val + r.val < 16896 := by
  have := r.isLt
  have := points t
  omega

/-- The array's row that is row `r` of point `t`'s block. -/
abbrev rowAt (t : Fin grid0.N) (r : Fin 512) : Fin 16896 := ⟨512 * t.val + r.val, row_lt t r⟩

theorem half_prompt (t : Fin grid0.N) (h : t.val < 32) (r : Fin 512) (p : S16384x512.Idx → EReal) (s x y : S512x512.Idx → EReal)
    (hx : ∀ k : Fin 512, x (ix2 r k) = p (ix2 (⟨512 * t.val + r.val, by have := r.isLt; omega⟩ : Fin 16384) k)) :
    (fun k : Fin 512 => Scalar.select 1#1 (x (ix2 r k)) (y (ix2 r k))) = half p s (rowAt t r) := by
  funext k
  have hr : (rowAt t r).val < 16384 := by show 512 * t.val + r.val < 16384; have := r.isLt; omega
  unfold half
  rw [dif_pos hr]
  exact (select_one _ _).trans (hx k)

theorem half_sample (t : Fin grid0.N) (h : ¬ t.val < 32) (r : Fin 512) (p : S16384x512.Idx → EReal) (s x y : S512x512.Idx → EReal) (hy : y = s) :
    (fun k : Fin 512 => Scalar.select 0#1 (x (ix2 r k)) (y (ix2 r k))) = half p s (rowAt t r) := by
  funext k
  have ht := points t
  have hr : ¬ (rowAt t r).val < 16384 := by show ¬ 512 * t.val + r.val < 16384; omega
  unfold half
  rw [dif_neg hr]
  refine (select_zero _ _).trans ((congrFun hy _).trans (congrArg (fun q : Fin 512 => s (ix2 q k)) (Fin.ext ?_)))
  show r.val = 512 * t.val + r.val - 16384
  omega

theorem pick_prompt (t : Fin grid0.N) (h : t.val < 32) (r : Fin 512) (ch : Fin 6) (mp : S4x8x6144.Idx → EReal) (ms : S4x128x6144.Idx → EReal)
    (x : S1x1x1x1024.Idx → EReal) (y : S1x128x1024.Idx → EReal)
    (hx : ∀ k : Fin 1024, x (ix4 (0 : Fin 1) (0 : Fin 1) (0 : Fin 1) k) = mp (ix3 (2 : Fin 4) (⟨t.val / 4, by omega⟩ : Fin 8) (⟨1024 * ch.val + k.val, column ch k⟩ : Fin 6144))) :
    pick 1#1 x y r = modulation mp ms ch (rowAt t r) := by
  funext k
  have hr : (rowAt t r).val < 16384 := by show 512 * t.val + r.val < 16384; have := r.isLt; omega
  unfold pick modulation
  rw [dif_pos hr]
  refine (select_one _ _).trans ((hx k).trans (congrArg (fun q : Fin 8 => mp (ix3 (2 : Fin 4) q (⟨1024 * ch.val + k.val, column ch k⟩ : Fin 6144))) (Fin.ext ?_)))
  show t.val / 4 = (512 * t.val + r.val) / 2048
  have := r.isLt
  omega

theorem pick_sample (t : Fin grid0.N) (h : ¬ t.val < 32) (r : Fin 512) (ch : Fin 6) (mp : S4x8x6144.Idx → EReal) (ms : S4x128x6144.Idx → EReal)
    (x : S1x1x1x1024.Idx → EReal) (y : S1x128x1024.Idx → EReal)
    (hy : ∀ (q : Fin 128) (k : Fin 1024), y (ix3 (0 : Fin 1) q k) = ms (ix3 (2 : Fin 4) q (⟨1024 * ch.val + k.val, column ch k⟩ : Fin 6144))) :
    pick 0#1 x y r = modulation mp ms ch (rowAt t r) := by
  funext k
  have ht := points t
  have hr : ¬ (rowAt t r).val < 16384 := by show ¬ 512 * t.val + r.val < 16384; omega
  unfold pick modulation
  rw [dif_neg hr]
  refine (select_zero _ _).trans ((hy _ k).trans (congrArg (fun q : Fin 128 => ms (ix3 (2 : Fin 4) q (⟨1024 * ch.val + k.val, column ch k⟩ : Fin 6144))) (Fin.ext ?_)))
  show r.val % 128 = (512 * t.val + r.val - 16384) % 128
  omega

theorem row_congr {a a' b b' : Fin 512 → EReal} {x x' g1 g1' sh sh' sc sc' g2 g2' g g' bias bias' : Fin 1024 → EReal} {wo wo' : S1024x1024.Idx → EReal}
    {wg wg' wu wu' : S1024x2816.Idx → EReal} {wd wd' : S2816x1024.Idx → EReal} (q : Fin 1024) (ha : a = a') (hb : b = b') (hx : x = x') (h1 : g1 = g1') (hs : sh = sh')
    (hc : sc = sc') (h2 : g2 = g2') (hg : g = g') (hi : bias = bias') (ho : wo = wo') (hwg : wg = wg') (hwu : wu = wu') (hwd : wd = wd') :
    row a b x g1 sh sc g2 g bias wo wg wu wd q = row a' b' x' g1' sh' sc' g2' g' bias' wo' wg' wu' wd' q := by
  subst ha hb hx h1 hs hc h2 hg hi ho hwg hwu hwd
  rfl

/-- The result's element, of the arguments the region was launched with. -/
abbrev entryOf (R : Fin 16896) (q : Fin 1024) : EReal :=
  entry (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) R q

/-- What point `t` leaves in row `r` of the result's block. -/
theorem left_at (t : Fin grid0.N) (r : Fin 512) (q : Fin 1024) : (dats m 0 c).after 19 t (ix2 r q) = entryOf m c (rowAt t r) q := by
  refine (congrFun (after0_19 m c t) (ix2 r q)).trans ?_
  have hx : (fun k : Fin 1024 => (iblk m c 4 t : S512x1024.Idx → EReal) (ix2 r k)) = fun k => (m ((c : Thread nD τ).loc main_arg4) : S16896x1024.Idx → EReal) (ix2 (rowAt t r) k) :=
    funext fun k => held4 m c t r k
  have hg : (fun k : Fin 1024 => (iblk m c 9 t : S1x1024.Idx → EReal) (ix2 (0 : Fin 1) k)) = fun k => (m ((c : Thread nD τ).loc main_arg5) : S1x1024.Idx → EReal) (ix2 (0 : Fin 1) k) :=
    funext fun k => congrFun (held9 m c t) _
  have hi : (fun k : Fin 1024 => (iblk m c 8 t : S1x1024.Idx → EReal) (ix2 (0 : Fin 1) k)) = fun k => (m ((c : Thread nD τ).loc main_arg9) : S1x1024.Idx → EReal) (ix2 (0 : Fin 1) k) :=
    funext fun k => congrFun (held8 m c t) _
  by_cases h : t.val < 32
  · refine (out_apply (grid0.coords t) _ _ _ _ _ _ _ _ _ _ _ _ _ _ _ _ _ _ _ r 1#1 (prompt_point t h) q).trans ?_
    exact row_congr q (half_prompt t h r _ _ _ _ (held0 m c t h r)) (half_prompt t h r _ _ _ _ (held2 m c t h r)) hx
      (pick_prompt t h r 2 _ _ _ _ (held5 m c t h)) (pick_prompt t h r 3 _ _ _ _ (held10 m c t h)) (pick_prompt t h r 4 _ _ _ _ (held12 m c t h))
      (pick_prompt t h r 5 _ _ _ _ (held14 m c t h)) hg hi (held7 m c t) (held16 m c t) (held17 m c t) (held18 m c t)
  · refine (out_apply (grid0.coords t) _ _ _ _ _ _ _ _ _ _ _ _ _ _ _ _ _ _ _ r 0#1 (sample_point t h) q).trans ?_
    exact row_congr q (half_sample t h r _ _ _ _ (held1 m c t)) (half_sample t h r _ _ _ _ (held3 m c t)) hx
      (pick_sample t h r 2 _ _ _ _ (held6 m c t)) (pick_sample t h r 3 _ _ _ _ (held11 m c t)) (pick_sample t h r 4 _ _ _ _ (held13 m c t))
      (pick_sample t h r 5 _ _ _ _ (held15 m c t)) hg hi (held7 m c t) (held16 m c t) (held17 m c t) (held18 m c t)

/-! ## The array -/

/-- The result. -/
def result : S16896x1024.Idx → EReal := fun j => entryOf m c (show Fin 16896 from j 0) (show Fin 1024 from j 1)

theorem index19 : ∀ t : Fin grid0.N, cc0_transform_19 (grid0.coords t) = ![t.val, 0] := by decide

theorem place0 (t : Fin grid0.N) (y : S512x1024.Idx) : ((((cfg0.win 19).blk t).view.emb y) (show Fin 2 from 0)).val = 512 * t.val + (y 0).val := by
  have e0 : win0_19.index t 0 = t.val := congrFun (index19 t) 0
  blk_simp; rw [e0, Nat.mul_comm]

theorem place1 (t : Fin grid0.N) (y : S512x1024.Idx) : ((((cfg0.win 19).blk t).view.emb y) (show Fin 2 from 1)).val = (y 1).val := by
  have e1 : win0_19.index t 1 = 0 := congrFun (index19 t) 1
  blk_simp; rw [e1, Nat.zero_mul, Nat.zero_add]

theorem out_eq : (dats m 0 c).arrAt 19 cfg0.N = result m c := by
  refine (dats m 0 c).arrAt_eq_of_emb 19 _ (fun t _ y => ?_) fun j => ?_
  · have hy : ∀ y : S512x1024.Idx, (dats m 0 c).after 19 t y = result m c (((cfg0.win 19).blk t).view.emb y) := fun y => by
      refine (at2 (A := 512) (B := 1024) ((dats m 0 c).after 19 t) y (y 0) (y 1) rfl rfl).trans ((left_at m c t (y 0) (y 1)).trans ?_)
      unfold result
      exact congrArg₂ (entryOf m c) (Fin.ext (place0 t y).symm) (Fin.ext (place1 t y).symm)
    exact hy y
  · have h0 : ((show S16896x1024.Idx from j) 0).val < 16896 := ((show S16896x1024.Idx from j) 0).isLt
    let t : Fin grid0.N := ⟨((show S16896x1024.Idx from j) 0).val / 512, show ((show S16896x1024.Idx from j) 0).val / 512 < 33 by omega⟩
    let y : S512x1024.Idx := ix2 (⟨((show S16896x1024.Idx from j) 0).val % 512, Nat.mod_lt _ (by decide)⟩ : Fin 512) (show Fin 1024 from (show S16896x1024.Idx from j) 1)
    refine ⟨t, flush0_19 t, ?_⟩
    have e : ((cfg0.win 19).blk t).view.emb y = j := by
      funext a
      refine Fin.ext ?_
      match a with
      | ⟨0, _⟩ =>
        refine (place0 t y).trans ?_
        exact Nat.div_add_mod _ _
      | ⟨1, _⟩ => exact place1 t y
    exact e ▸ View.emb_mem_set _ _

end Cert.Kernel3Ideal.Mix

end
-- ==== Proof.MixRef.lean ====
/-
  The reference of the even layers' call at the ideal values: its result is the kernel's, and its run.
-/
module

public import proofs.«01_k».proof.Proof.MixRow
public import proofs.«01_k».proof.Proof.Gen.Reference3Ideal
public import proofs.«01_k».proof.Proof.Gen.Reference3Ideal.Run
public import Idealize.ShloMosaic.Lib.Quiescent
public import Idealize.ShloMosaic.Lib.IdealHost
public import Idealize.ShloMosaic.Lib.KernelVsHost

@[expose] public section

noncomputable section

namespace Cert.Reference3Ideal.Mix

open Cert.Reference3Ideal Cert.Reference3Ideal.Gen
open Idealize.ShloMosaic hiding ix2 ix3 ix4 addf_apply mulf_apply truncf_apply
open Idealize.ShloMosaic.ValueIdx Idealize.ShloMosaic.TcCoe Idealize.SL.Sem
open Cert.Mix
open Cert.Kernel2Ideal.Ffn (gated)

/-! ## The reference's pieces -/

/-- Every row's six modulations, side by side. -/
def modulations (mp : S4x8x6144.Idx → EReal) (ms : S4x128x6144.Idx → EReal) : FVec Ideal S16896x6144 .f32 :=
  concatenate S16896x6144 0
    [⟨S16384x6144, shapeCast _ (broadcastInDim S8x2048x6144 ![0, 2] bcast_S8x6144_S8x2048x6144_0_2
      (shapeCast _ (extractStridedSlice S1x8x6144 ![2, 0, 0] mp slices_S4x8x6144_S1x8x6144_2_0_0) shapeCasts_S1x8x6144_S8x6144)) shapeCasts_S8x2048x6144_S16384x6144⟩,
      ⟨S512x6144, shapeCast _ (broadcastInDim S4x128x1x6144 ![0, 1, 2, 3] bcast_S1x128x1x6144_S4x128x1x6144_0_1_2_3
        (shapeCast _ (shapeCast _ (extractStridedSlice S1x128x6144 ![2, 0, 0] ms slices_S4x128x6144_S1x128x6144_2_0_0) shapeCasts_S1x128x6144_S128x6144)
          shapeCasts_S128x6144_S1x128x1x6144)) shapeCasts_S4x128x1x6144_S512x6144⟩] concatenates_S16384x6144_S512x6144_S16896x6144_d0

/-- The two mixers' outputs, side by side. -/
def mixers (ap bp : S16384x512.Idx → EReal) (sa sb : S512x512.Idx → EReal) : FVec Ideal S16896x1024 .bf16 :=
  truncf (F := Ideal) (φ := .f32) .bf16 (concatenate S16896x1024 0
    [⟨S16384x1024, concatenate S16384x1024 1 [⟨S16384x512, ap⟩, ⟨S16384x512, bp⟩] concatenates_S16384x512_S16384x512_S16384x1024_d1⟩,
      ⟨S512x1024, concatenate S512x1024 1 [⟨S512x512, sa⟩, ⟨S512x512, sb⟩] concatenates_S512x512_S512x512_S512x1024_d1⟩]
    concatenates_S16384x1024_S512x1024_S16896x1024_d0) bitsLt_bf16_f32

/-- The rows after the output projection. -/
def projected (a : FVec Ideal S16896x1024 .bf16) (x : FVec Ideal S16896x1024 .f32) (md : FVec Ideal S16896x6144 .f32) (wo : S1024x1024.Idx → EReal) (bias : FVec Ideal S1x1024 .f32) :
    FVec Ideal S16896x1024 .f32 :=
  addf x (mulf (extractStridedSlice S16896x1024 ![0, 2048] md slices_S16896x6144_S16896x1024_0_2048)
    (addf (Host.dotGeneral (F := Ideal) (φ₁ := .bf16) (φ₂ := .bf16) dot_S16896x1024_S1024x1024_S16896x1024_1_0_0_1_n_n none a wo)
      (broadcastInDim S16896x1024 ![0, 1] bcast_S1x1024_S16896x1024_0_1 bias)))

/-- The rows normalised, scaled and shifted. -/
def normalised (y : FVec Ideal S16896x1024 .f32) (g : FVec Ideal S1x1024 .f32) (md : FVec Ideal S16896x6144 .f32) : FVec Ideal S16896x1024 .bf16 :=
  truncf .bf16 (addf (mulf (mulf (mulf y
      (broadcastInDim S16896x1024 ![0, 1] bcast_S16896x1_S16896x1024_0_1 (Host.rsqrt (addf
        (Host.divf (broadcastInDim S16896x1 ![0] bcast_S16896_S16896x1_0
            (Host.reduceAdd (mulf y y) (constant (F := Ideal) S_ .f32 0x00000000#32) reducesTo_S16896x1024_S16896_d1 h_S_))
          (broadcastInDim S16896x1 ![] bcast_S_S16896x1 (constant (F := Ideal) S_ .f32 0x44800000#32)))
        (broadcastInDim S16896x1 ![] bcast_S_S16896x1 (constant (F := Ideal) S_ .f32 0x358637BD#32))))))
      (broadcastInDim S16896x1024 ![0, 1] bcast_S1x1024_S16896x1024_0_1 g))
      (addf (broadcastInDim S16896x1024 ![] bcast_S_S16896x1024 (constant (F := Ideal) S_ .f32 0x3F800000#32))
        (extractStridedSlice S16896x1024 ![0, 4096] md slices_S16896x6144_S16896x1024_0_4096)))
      (extractStridedSlice S16896x1024 ![0, 3072] md slices_S16896x6144_S16896x1024_0_3072)) bitsLt_bf16_f32

/-- The rows through the gate, or up, weights. -/
def through (h : FVec Ideal S16896x1024 .bf16) (w : S1024x2816.Idx → EReal) : FVec Ideal S16896x2816 .f32 :=
  Host.dotGeneral (F := Ideal) (φ₁ := .bf16) (φ₂ := .bf16) dot_S16896x1024_S1024x2816_S16896x2816_1_0_0_1_n_n none h w

/-- The gated activation, written out. -/
def activated (g u : FVec Ideal S16896x2816 .f32) : FVec Ideal S16896x2816 .bf16 :=
  truncf .bf16 (mulf (mulf g
    (Host.divf (broadcastInDim S16896x2816 ![] bcast_S_S16896x2816 (constant (F := Ideal) S_ .f32 0x3F800000#32))
      (addf (broadcastInDim S16896x2816 ![] bcast_S_S16896x2816 (constant (F := Ideal) S_ .f32 0x3F800000#32)) (Host.exp (Host.negf g))))) u) bitsLt_bf16_f32

/-- The rows after the feed-forward. -/
def fedForward (y : FVec Ideal S16896x1024 .f32) (g : FVec Ideal S1x1024 .f32) (md : FVec Ideal S16896x6144 .f32) (wg wu : S1024x2816.Idx → EReal) (wd : S2816x1024.Idx → EReal) :
    FVec Ideal S16896x1024 .f32 :=
  addf y (mulf (extractStridedSlice S16896x1024 ![0, 5120] md slices_S16896x6144_S16896x1024_0_5120)
    (Host.dotGeneral (F := Ideal) (φ₁ := .bf16) (φ₂ := .bf16) dot_S16896x2816_S2816x1024_S16896x1024_1_0_0_1_n_n none
      (activated (through (normalised y g md) wg) (through (normalised y g md) wu)) wd))

/-- The reference's result. -/
def computed (ap : S16384x512.Idx → EReal) (sa : S512x512.Idx → EReal) (bp : S16384x512.Idx → EReal) (sb : S512x512.Idx → EReal) (x : S16896x1024.Idx → EReal)
    (g : S1x1024.Idx → EReal) (mp : S4x8x6144.Idx → EReal) (ms : S4x128x6144.Idx → EReal) (wo : S1024x1024.Idx → EReal) (bias : S1x1024.Idx → EReal)
    (wg wu : S1024x2816.Idx → EReal) (wd : S2816x1024.Idx → EReal) : S16896x1024.Idx → EReal :=
  fedForward (projected (mixers ap bp sa sb) x (modulations mp ms) wo bias) g (modulations mp ms) wg wu wd

theorem res_eq (m : (ℓ : Loc nD τ sig) → Buf (Elt Ideal) ℓ) (c : Dev nD) : Cert.Reference3Ideal.Value.res_out0 m c
    = computed (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) := rfl

/-! ## The pieces at an element -/

theorem modulations_at (mp : S4x8x6144.Idx → EReal) (ms : S4x128x6144.Idx → EReal) (R : Fin 16896) (ch : Fin 6) (k : Fin 1024) (e : Fin 6144) (he : e.val = 1024 * ch.val + k.val) :
    modulations mp ms (ix2 R e) = modulation mp ms ch R k := by
  unfold modulations modulation
  rw [show (⟨1024 * ch.val + k.val, he ▸ e.isLt⟩ : Fin 6144) = e from Fin.ext he.symm]
  by_cases h : R.val < 16384
  · rw [dif_pos h]
    refine (concatenate_pair_apply_left (s₁ := S16384x6144) (s₂ := S512x6144) 0 _ _ _ (ix2 R e) rfl (ix2 (⟨R.val, h⟩ : Fin 16384) e) fun b => ?_).trans ?_
    · match b with
      | ⟨0, _⟩ => rfl
      | ⟨1, _⟩ => rfl
    refine (shapeCast_apply _ _ _ (ix3 (⟨R.val / 2048, by omega⟩ : Fin 8) (⟨R.val % 2048, Nat.mod_lt _ (by decide)⟩ : Fin 2048) e) ?_).trans ?_
    · refine (Shape.rowMajor_val_three _).trans (Eq.trans ?_ (Shape.rowMajor_val_two _).symm)
      show (R.val / 2048 * 2048 + R.val % 2048) * 6144 + e.val = R.val * 6144 + e.val
      rw [Nat.div_add_mod']
    refine (broadcastInDim_apply _ _ _ _ (ix2 (⟨R.val / 2048, by omega⟩ : Fin 8) e) fun a => ?_).trans ?_
    · match a with
      | ⟨0, _⟩ => rfl
      | ⟨1, _⟩ => rfl
    refine (shapeCast_apply _ _ _ (ix3 (0 : Fin 1) (⟨R.val / 2048, by omega⟩ : Fin 8) e) ?_).trans ?_
    · refine (Shape.rowMajor_val_three _).trans (Eq.trans ?_ (Shape.rowMajor_val_two _).symm)
      show (0 * 8 + R.val / 2048) * 6144 + e.val = R.val / 2048 * 6144 + e.val
      rw [Nat.zero_mul, Nat.zero_add]
    refine extractStridedSlice_apply _ mp _ _ _ fun a => ?_
    match a with
    | ⟨0, _⟩ => rfl
    | ⟨1, _⟩ => exact (Nat.zero_add _).symm
    | ⟨2, _⟩ => exact (Nat.zero_add _).symm
  · rw [dif_neg h]
    have hR := R.isLt
    have h2 : ∀ y : S128x6144.Idx → EReal, ∀ q : Fin 128, shapeCast S1x128x1x6144 y shapeCasts_S128x6144_S1x128x1x6144 (ix4 (0 : Fin 1) q (0 : Fin 1) e) = y (ix2 q e) := fun y q => by
      refine shapeCast_apply _ _ _ _ ?_
      refine (Shape.rowMajor_val_two _).trans (Eq.trans ?_ (Shape.rowMajor_val_four _).symm)
      show q.val * 6144 + e.val = ((0 * 128 + q.val) * 1 + 0) * 6144 + e.val
      rw [Nat.zero_mul, Nat.zero_add, Nat.mul_one, Nat.add_zero]
    refine (concatenate_pair_apply_right (s₁ := S16384x6144) (s₂ := S512x6144) 0 _ _ _ (ix2 R e) rfl rfl (ix2 (⟨R.val - 16384, by omega⟩ : Fin 512) e) (fun b hb => ?_) ?_).trans ?_
    · match b with
      | ⟨0, _⟩ => exact absurd rfl hb
      | ⟨1, _⟩ => rfl
    · show R.val - 16384 + 16384 = R.val
      omega
    refine (shapeCast_apply _ _ _ (ix4 (⟨(R.val - 16384) / 128, by omega⟩ : Fin 4) (⟨(R.val - 16384) % 128, Nat.mod_lt _ (by decide)⟩ : Fin 128) (0 : Fin 1) e) ?_).trans ?_
    · refine (Shape.rowMajor_val_four _).trans (Eq.trans ?_ (Shape.rowMajor_val_two _).symm)
      show (((R.val - 16384) / 128 * 128 + (R.val - 16384) % 128) * 1 + 0) * 6144 + e.val = (R.val - 16384) * 6144 + e.val
      rw [Nat.div_add_mod', Nat.mul_one, Nat.add_zero]
    refine (broadcastInDim_apply _ _ _ _ (ix4 (0 : Fin 1) (⟨(R.val - 16384) % 128, Nat.mod_lt _ (by decide)⟩ : Fin 128) (0 : Fin 1) e) fun a => ?_).trans ?_
    · match a with
      | ⟨0, _⟩ => rfl
      | ⟨1, _⟩ => rfl
      | ⟨2, _⟩ => rfl
      | ⟨3, _⟩ => rfl
    refine (h2 _ _).trans ((shapeCast_apply _ _ _ (ix3 (0 : Fin 1) (⟨(R.val - 16384) % 128, Nat.mod_lt _ (by decide)⟩ : Fin 128) e) ?_).trans ?_)
    · refine (Shape.rowMajor_val_three _).trans (Eq.trans ?_ (Shape.rowMajor_val_two _).symm)
      show (0 * 128 + (R.val - 16384) % 128) * 6144 + e.val = (R.val - 16384) % 128 * 6144 + e.val
      rw [Nat.zero_mul, Nat.zero_add]
    refine extractStridedSlice_apply _ ms _ _ _ fun a => ?_
    match a with
    | ⟨0, _⟩ => rfl
    | ⟨1, _⟩ => exact (Nat.zero_add _).symm
    | ⟨2, _⟩ => exact (Nat.zero_add _).symm

/-- One of the six modulations, cut out. -/
theorem slice_at (mp : S4x8x6144.Idx → EReal) (ms : S4x128x6144.Idx → EReal) (o : ℕ) (ch : Fin 6) (ho : o = 1024 * ch.val) (hs : S16896x6144.Slices ![0, o] S16896x1024) (R : Fin 16896) (k : Fin 1024) :
    extractStridedSlice S16896x1024 ![0, o] (modulations mp ms) hs (ix2 R k) = modulation mp ms ch R k := by
  have hch := ch.isLt
  have hk := k.isLt
  refine (extractStridedSlice_apply _ _ _ _ (ix2 R (⟨1024 * ch.val + k.val, by omega⟩ : Fin 6144)) fun a => ?_).trans (modulations_at mp ms R ch k _ rfl)
  match a with
  | ⟨0, _⟩ => exact (Nat.zero_add _).symm
  | ⟨1, _⟩ => show 1024 * ch.val + k.val = o + k.val; rw [ho]

/-- Two arrays of 512 columns side by side, at a row. -/
theorem sides {A : ℕ} (p q : (⟨2, ![A, 512]⟩ : Shape).Idx → EReal) (h : Shape.Concatenates [(⟨2, ![A, 512]⟩ : Shape), ⟨2, ![A, 512]⟩] ⟨2, ![A, 1024]⟩ 1) (R : Fin A) (k : Fin 512) :
    concatenate ⟨2, ![A, 1024]⟩ 1 [⟨⟨2, ![A, 512]⟩, p⟩, ⟨⟨2, ![A, 512]⟩, q⟩] h (ix2 R (Fin.castAdd 512 k : Fin (512 + 512))) = p (ix2 R k)
    ∧ concatenate ⟨2, ![A, 1024]⟩ 1 [⟨⟨2, ![A, 512]⟩, p⟩, ⟨⟨2, ![A, 512]⟩, q⟩] h (ix2 R (Fin.natAdd 512 k : Fin (512 + 512))) = q (ix2 R k) := by
  constructor
  · refine concatenate_pair_apply_left 1 p q h _ rfl _ fun b => ?_
    match b with
    | ⟨0, _⟩ => rfl
    | ⟨1, _⟩ => rfl
  · refine concatenate_pair_apply_right 1 p q h _ rfl rfl _ (fun b hb => ?_) (Nat.add_comm _ _)
    match b with
    | ⟨0, _⟩ => rfl
    | ⟨1, _⟩ => exact absurd rfl hb

theorem stacked (p : S16384x1024.Idx → EReal) (s : S512x1024.Idx → EReal) (R : Fin 16896) (k : Fin 1024) :
    concatenate S16896x1024 0 [⟨S16384x1024, p⟩, ⟨S512x1024, s⟩] concatenates_S16384x1024_S512x1024_S16896x1024_d0 (ix2 R k)
      = if h : R.val < 16384 then p (ix2 (⟨R.val, h⟩ : Fin 16384) k) else s (ix2 (⟨R.val - 16384, by have := R.isLt; omega⟩ : Fin 512) k) := by
  by_cases h : R.val < 16384
  · rw [dif_pos h]
    refine concatenate_pair_apply_left (s₁ := S16384x1024) (s₂ := S512x1024) 0 _ _ _ (ix2 R k) rfl (ix2 (⟨R.val, h⟩ : Fin 16384) k) fun b => ?_
    match b with
    | ⟨0, _⟩ => rfl
    | ⟨1, _⟩ => rfl
  · rw [dif_neg h]
    refine concatenate_pair_apply_right (s₁ := S16384x1024) (s₂ := S512x1024) 0 _ _ _ (ix2 R k) rfl rfl (ix2 (⟨R.val - 16384, by have := R.isLt; omega⟩ : Fin 512) k) (fun b hb => ?_) ?_
    · match b with
      | ⟨0, _⟩ => exact absurd rfl hb
      | ⟨1, _⟩ => rfl
    · show R.val - 16384 + 16384 = R.val
      omega

theorem mixers_at (ap bp : S16384x512.Idx → EReal) (sa sb : S512x512.Idx → EReal) (R : Fin 16896) (k : Fin 512) :
    mixers ap bp sa sb (ix2 R (Fin.castAdd 512 k : Fin (512 + 512))) = half ap sa R k
    ∧ mixers ap bp sa sb (ix2 R (Fin.natAdd 512 k : Fin (512 + 512))) = half bp sb R k := by
  unfold mixers half
  constructor
  · refine (truncf_apply (φ := .f32) _ bitsLt_bf16_f32 _).trans ((stacked _ _ R _).trans ?_)
    by_cases h : R.val < 16384
    · rw [dif_pos h, dif_pos h]; exact (sides ap bp _ _ k).1
    · rw [dif_neg h, dif_neg h]; exact (sides sa sb _ _ k).1
  · refine (truncf_apply (φ := .f32) _ bitsLt_bf16_f32 _).trans ((stacked _ _ R _).trans ?_)
    by_cases h : R.val < 16384
    · rw [dif_pos h, dif_pos h]; exact (sides ap bp _ _ k).2
    · rw [dif_neg h, dif_neg h]; exact (sides sa sb _ _ k).2

/-- A plain product at an element. -/
theorem dot_at {M K N : ℕ} (l : (⟨2, ![M, K]⟩ : Shape).Idx → EReal) (r : (⟨2, ![K, N]⟩ : Shape).Idx → EReal) (R : Fin M) (c : Fin N) :
    Host.dotGeneral (F := Ideal) (φ₁ := .bf16) (φ₂ := .bf16) (DotDims.plain M K N) none l r (ix2 R c) = ∑ k : Fin K, l (ix2 R k) * r (ix2 k c) := by
  refine (congrFun (matmul_zero_eq_dotGeneral (φ₁ := .bf16) (φ₂ := .bf16) (DotDims.plain M K N) none l r).symm _).trans ?_
  refine (Ideal.matmul_plain_apply (φ₁ := .bf16) (φ₂ := .bf16) none l r _ R c).trans ?_
  rw [zero_at, zero_add]

theorem projected_at (ap bp : S16384x512.Idx → EReal) (sa sb : S512x512.Idx → EReal) (x : S16896x1024.Idx → EReal) (mp : S4x8x6144.Idx → EReal) (ms : S4x128x6144.Idx → EReal)
    (wo : S1024x1024.Idx → EReal) (bias : S1x1024.Idx → EReal) (R : Fin 16896) (c : Fin 1024) :
    projected (mixers ap bp sa sb) x (modulations mp ms) wo bias (ix2 R c)
      = mixed (half ap sa R) (half bp sb R) (fun k => x (ix2 R k)) (modulation mp ms 2 R) (fun k => bias (ix2 (0 : Fin 1) k)) wo c := by
  unfold projected mixed
  refine (addf_apply _ _ _).trans (congrArg (x (ix2 R c) + ·) ?_)
  refine (mulf_apply _ _ _).trans (congrArg₂ (· * ·) (slice_at mp ms 2048 2 rfl _ R c) ?_)
  refine (addf_apply _ _ _).trans (congrArg₂ (· + ·) ?_ (broadcastInDim_oneRow_apply _ bias R c))
  refine (dot_at (M := 16896) (K := 1024) (N := 1024) (mixers ap bp sa sb) wo R c).trans ?_
  refine (Fin.sum_univ_add (a := 512) (b := 512) fun k : Fin (512 + 512) => mixers ap bp sa sb (ix2 R k) * wo (ix2 k c)).trans ?_
  refine congrArg₂ (· + ·) (Finset.sum_congr rfl fun k _ => ?_) (Finset.sum_congr rfl fun k _ => ?_)
  · rw [(mixers_at ap bp sa sb R k).1]
  · rw [(mixers_at ap bp sa sb R k).2]

theorem normalised_at (y : S16896x1024.Idx → EReal) (g : S1x1024.Idx → EReal) (mp : S4x8x6144.Idx → EReal) (ms : S4x128x6144.Idx → EReal) (R : Fin 16896) (c : Fin 1024) :
    normalised y g (modulations mp ms) (ix2 R c)
      = normed (fun k => y (ix2 R k)) (fun k => g (ix2 (0 : Fin 1) k)) (modulation mp ms 3 R) (modulation mp ms 4 R) c := by
  have hcol : ∀ z : S16896x1.Idx → EReal, broadcastInDim S16896x1024 ![0, 1] bcast_S16896x1_S16896x1024_0_1 z (ix2 R c) = z (ix2 R (0 : Fin 1)) := fun z => by
    refine broadcastInDim_apply _ _ z _ _ fun a => ?_
    match a with
    | ⟨0, _⟩ => rfl
    | ⟨1, _⟩ => rfl
  have hrow : ∀ z : S16896.Idx → EReal, broadcastInDim S16896x1 ![0] bcast_S16896_S16896x1_0 z (ix2 R (0 : Fin 1)) = z (Shape.Idx.ofFin R) := fun z => by
    refine broadcastInDim_apply _ _ z _ _ fun a => ?_
    match a with
    | ⟨0, _⟩ => rfl
  have hsum : Host.reduceAdd (F := Ideal) (φ := .f32) (mulf (F := Ideal) (φ := .f32) y y) (constant (F := Ideal) S_ .f32 0x00000000#32) reducesTo_S16896x1024_S16896_d1 h_S_ (Shape.Idx.ofFin R)
      = ∑ k : Fin 1024, y (ix2 R k) * y (ix2 R k) := by
    refine (Ideal.hostReduceAdd_r2_a1 reducesTo_S16896x1024_S16896_d1 _ _ _).trans ?_
    rw [zero_at, zero_add]
    rfl
  unfold normalised normed
  refine (truncf_apply (φ := .f32) _ bitsLt_bf16_f32 _).trans ?_
  refine (addf_apply _ _ _).trans (congrArg₂ (· + ·) ?_ (slice_at mp ms 3072 3 rfl _ R c))
  refine (mulf_apply _ _ _).trans (congrArg₂ (· * ·) ?_ ((addf_apply _ _ _).trans (congrArg₂ (· + ·) (broadcastInDim_scalar_apply _ _ _) (slice_at mp ms 4096 4 rfl _ R c))))
  refine (mulf_apply _ _ _).trans (congrArg₂ (· * ·) ?_ (broadcastInDim_oneRow_apply _ g R c))
  refine (mulf_apply _ _ _).trans (congrArg (y (ix2 R c) * ·) ?_)
  refine (hcol _).trans ?_
  refine congrArg Ideal.rsqrt ?_
  refine (addf_apply _ _ _).trans (congrArg₂ (· + ·) ?_ (broadcastInDim_scalar_apply _ _ _))
  exact congrArg₂ Ideal.div ((hrow _).trans hsum) (broadcastInDim_scalar_apply _ _ _)

theorem activated_at (g u : FVec Ideal S16896x2816 .f32) (i : S16896x2816.Idx) : activated g u i = gated (g i) (u i) := by
  show (g i * Ideal.div (Ideal.ofBits .f32 0x3F800000#32) (Ideal.ofBits .f32 0x3F800000#32 + Ideal.exp (-(g i))) * u i : EReal) = _
  unfold gated Ideal.logistic
  rw [show Ideal.ofBits .f32 0x3F800000#32 = (1 : EReal) from Ideal.ofBits_one_f32]

theorem fedForward_at (y : S16896x1024.Idx → EReal) (g : S1x1024.Idx → EReal) (mp : S4x8x6144.Idx → EReal) (ms : S4x128x6144.Idx → EReal) (wg wu : S1024x2816.Idx → EReal)
    (wd : S2816x1024.Idx → EReal) (R : Fin 16896) (c : Fin 1024) :
    fedForward y g (modulations mp ms) wg wu wd (ix2 R c)
      = y (ix2 R c) + modulation mp ms 5 R c
        * fed (normed (fun k => y (ix2 R k)) (fun k => g (ix2 (0 : Fin 1) k)) (modulation mp ms 3 R) (modulation mp ms 4 R)) wg wu wd c := by
  have ht : ∀ (w : S1024x2816.Idx → EReal) (f : Fin 2816), through (normalised y g (modulations mp ms)) w (ix2 R f)
      = ∑ k : Fin 1024, normed (fun k => y (ix2 R k)) (fun k => g (ix2 (0 : Fin 1) k)) (modulation mp ms 3 R) (modulation mp ms 4 R) k * w (ix2 k f) := fun w f => by
    unfold through
    refine (dot_at (M := 16896) (K := 1024) (N := 2816) _ w R f).trans (Finset.sum_congr rfl fun k _ => ?_)
    rw [normalised_at]
  unfold fedForward fed
  refine (addf_apply _ _ _).trans (congrArg (y (ix2 R c) + ·) ?_)
  refine (mulf_apply _ _ _).trans (congrArg₂ (· * ·) (slice_at mp ms 5120 5 rfl _ R c) ?_)
  refine (dot_at (M := 16896) (K := 2816) (N := 1024) _ wd R c).trans (Finset.sum_congr rfl fun f _ => ?_)
  rw [activated_at, ht wg f, ht wu f]

/-- The reference's result, element by element. -/
theorem computed_at (ap : S16384x512.Idx → EReal) (sa : S512x512.Idx → EReal) (bp : S16384x512.Idx → EReal) (sb : S512x512.Idx → EReal) (x : S16896x1024.Idx → EReal)
    (g : S1x1024.Idx → EReal) (mp : S4x8x6144.Idx → EReal) (ms : S4x128x6144.Idx → EReal) (wo : S1024x1024.Idx → EReal) (bias : S1x1024.Idx → EReal)
    (wg wu : S1024x2816.Idx → EReal) (wd : S2816x1024.Idx → EReal) (R : Fin 16896) (c : Fin 1024) :
    computed ap sa bp sb x g mp ms wo bias wg wu wd (ix2 R c) = entry ap sa bp sb x g mp ms wo bias wg wu wd R c := by
  unfold computed entry row
  rw [fedForward_at, funext (projected_at ap bp sa sb x mp ms wo bias R), projected_at]

theorem computed_eq (ap : S16384x512.Idx → EReal) (sa : S512x512.Idx → EReal) (bp : S16384x512.Idx → EReal) (sb : S512x512.Idx → EReal) (x : S16896x1024.Idx → EReal)
    (g : S1x1024.Idx → EReal) (mp : S4x8x6144.Idx → EReal) (ms : S4x128x6144.Idx → EReal) (wo : S1024x1024.Idx → EReal) (bias : S1x1024.Idx → EReal)
    (wg wu : S1024x2816.Idx → EReal) (wd : S2816x1024.Idx → EReal) :
    computed ap sa bp sb x g mp ms wo bias wg wu wd
      = fun j => entry ap sa bp sb x g mp ms wo bias wg wu wd (show Fin 16896 from j 0) (show Fin 1024 from j 1) := by
  funext j
  refine Eq.trans (congrArg _ (funext fun a => ?_)) (computed_at ap sa bp sb x g mp ms wo bias wg wu wd (j 0) (j 1))
  match a with
  | ⟨0, _⟩ => rfl
  | ⟨1, _⟩ => rfl

/-- The reference's run: the arguments and the counters unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v49) = computed (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0 :=
  (θ_run defs _ _).mono (fun r h => ⟨fun c => ⟨(h c).1.trans (res_eq m c), (h c).2⟩, sem_eq_zero_of_no_sems (by decide) r.2⟩) (Cert.Reference3Ideal.Value.run m ρ)

end Cert.Reference3Ideal.Mix

end
-- ==== Proof.lean ====
/-
  The certificate. The dispatch: the kernel's run (Proof/Disp.lean) and the reference's (Proof/Scatter.lean) are each proved once over any float values;
  `Kernel` and `Reference` are the same texts as `KernelIdeal` and `ReferenceIdeal`, so their claims are those runs at `Bits`.
  The experts' feed-forward: the kernel's run (Proof/FfnOut.lean), once over any float values, and the reference's result (Proof/FfnRef.lean).
  The even layers' output projection and feed-forward: the kernel's result (Proof/MixOut.lean) and the reference's (Proof/MixRef.lean), both one row's
  value (Proof/MixRow.lean).
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.Reference
public import proofs.«01_k».proof.Proof.Gen.ReferenceIdeal
public import proofs.«01_k».proof.Proof.Gen.ReferenceIdeal.Run
public import proofs.«01_k».proof.Proof.Gen.Pre_every_row_named_once
public import proofs.«01_k».proof.Proof.Disp
public import proofs.«01_k».proof.Proof.Scatter
public import proofs.«01_k».proof.Proof.Pre
public import proofs.«01_k».proof.Proof.Gen.Kernel2
public import proofs.«01_k».proof.Proof.Gen.Kernel2Ideal
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_every_block_has_an_expert
public import proofs.«01_k».proof.Proof.FfnOut
public import proofs.«01_k».proof.Proof.FfnPre
public import proofs.«01_k».proof.Proof.FfnRef
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.MixOut
public import proofs.«01_k».proof.Proof.MixRef
public import Idealize.ShloMosaic.Lib.Pipeline.Regions

@[expose] public section

noncomputable section

namespace Cert.Proof

open Idealize.ShloMosaic Idealize.ShloMosaic.TcCoe Idealize.SL.Sem
open Cert.KernelIdeal.Disp (dispatched named_of_pre atStart)

/-- `Kernel`'s bodies are `KernelIdeal`'s. -/
theorem defs_eq : Cert.Kernel.defs (F := Bits) = Cert.KernelIdeal.defs (F := Bits) := by chain_rfl

theorem frame_k : Cert.quiescent_Kernel := by
  intro m ρ hp
  rw [defs_eq]
  exact (θ_run (Cert.KernelIdeal.defs (F := Bits)) _ _).mono (fun _ h => ⟨fun c => (h.1 c).2, h.2⟩)
    (Cert.KernelIdeal.Disp.run_main (F := Bits) m (fun c => named_of_pre _ _ _ (hp c)) ρ)

theorem frame_ki : Cert.quiescent_KernelIdeal := fun m ρ hp =>
  (θ_run Cert.KernelIdeal.defs _ _).mono (fun _ h => ⟨fun c => (h.1 c).2, h.2⟩)
    (Cert.KernelIdeal.Disp.run_main m (fun c => named_of_pre _ _ _ (hp c)) ρ)

theorem frame_ri : Cert.quiescent_ReferenceIdeal := fun m ρ _ =>
  (θ_run Cert.ReferenceIdeal.defs _ _).mono (fun _ h => ⟨fun c => (h.1 c).2, h.2⟩) (Cert.ReferenceIdeal.Disp.run m ρ)

theorem frame_ri_pre : Cert.quiescent_ReferenceIdeal_pre_every_row_named_once := fun m ρ _ => frame_ri m ρ trivial

theorem frame_r : Cert.quiescent_Reference := fun m ρ _ =>
  (θ_run (Cert.ReferenceIdeal.defs (F := Bits)) _ _).mono (fun _ h => ⟨fun c => (h.1 c).2, h.2⟩) (Cert.ReferenceIdeal.Disp.run (F := Bits) m ρ)

theorem bitexact : Cert.bitexact_Kernel_Reference := by
  intro m g m' g' hp ha
  rw [defs_eq]
  have hn := fun c => named_of_pre _ _ _ (hp c)
  refine ⟨fun c => dispatched (F := Bits) _ _ _, (θ_run (Cert.KernelIdeal.defs (F := Bits)) _ _).mono (fun _ h => h.1) (Cert.KernelIdeal.Disp.run_main (F := Bits) m hn g),
    (θ_run (Cert.ReferenceIdeal.defs (F := Bits)) _ _).mono (fun _ h c => ⟨(h.1 c).1.trans ?_, (h.1 c).2⟩) (Cert.ReferenceIdeal.Disp.run (F := Bits) m' g')⟩
  exact (congrArg₂ (Cert.ReferenceIdeal.Disp.scattered (F := Bits)) (ha c).2.1 (ha c).1).trans (Cert.ReferenceIdeal.Disp.scattered_eq _ _ _ (hn c))

theorem algebraic : Cert.algebraic_KernelIdeal_ReferenceIdeal := by
  intro m g m' g' hp ha
  have hn := fun c => named_of_pre _ _ _ (hp c)
  refine ⟨fun c => dispatched (F := Ideal) _ _ _, (θ_run Cert.KernelIdeal.defs _ _).mono (fun _ h => h.1) (Cert.KernelIdeal.Disp.run_main m hn g),
    (θ_run Cert.ReferenceIdeal.defs _ _).mono (fun _ h c => ⟨(h.1 c).1.trans ?_, (h.1 c).2⟩) (Cert.ReferenceIdeal.Disp.run m' g')⟩
  exact (congrArg₂ Cert.ReferenceIdeal.Disp.scattered (ha c).2.1 (ha c).1).trans (Cert.ReferenceIdeal.Disp.scattered_eq _ _ _ (hn c))

/-! ## The experts' feed-forward -/

/-- `Kernel2`'s bodies are `Kernel2Ideal`'s. -/
theorem defs2_eq : Cert.Kernel2.defs (F := Bits) = Cert.Kernel2Ideal.defs (F := Bits) := by chain_rfl

open Cert.Kernel2Ideal.Ffn (range_of_pre result)

theorem frame_k2 : Cert.quiescent_Kernel2 := by
  intro m ρ hp
  rw [defs2_eq]
  exact (θ_run (Cert.Kernel2Ideal.defs (F := Bits)) _ _).mono (fun _ h => ⟨fun c => (h.1 c).2, h.2⟩)
    (Cert.Kernel2Ideal.Ffn.run_main (F := Bits) m (fun c => range_of_pre _ _ _ _ _ _ (hp c)) ρ)

theorem frame_ki2 : Cert.quiescent_Kernel2Ideal := fun m ρ hp =>
  (θ_run Cert.Kernel2Ideal.defs _ _).mono (fun _ h => ⟨fun c => (h.1 c).2, h.2⟩)
    (Cert.Kernel2Ideal.Ffn.run_main m (fun c => range_of_pre _ _ _ _ _ _ (hp c)) ρ)

theorem frame_ri2 : Cert.quiescent_Reference2Ideal := fun m ρ _ =>
  (θ_run Cert.Reference2Ideal.defs _ _).mono (fun _ h => ⟨fun c => (h.1 c).2, h.2⟩) (Cert.Reference2Ideal.Ffn.run m ρ)

theorem frame_ri2_pre : Cert.quiescent_Reference2Ideal_pre_every_block_has_an_expert := fun m ρ _ => frame_ri2 m ρ trivial

theorem algebraic2 : Cert.algebraic_Kernel2Ideal_Reference2Ideal := by
  intro m g m' g' hp ha
  have hn := fun c => range_of_pre _ _ _ _ _ _ (hp c)
  refine ⟨fun c => result (F := Ideal) _ _ _ _ _ _, (θ_run Cert.Kernel2Ideal.defs _ _).mono (fun _ h => h.1) (Cert.Kernel2Ideal.Ffn.run_main m hn g),
    (θ_run Cert.Reference2Ideal.defs _ _).mono (fun _ h c => ⟨(h.1 c).1.trans ?_, (h.1 c).2⟩) (Cert.Reference2Ideal.Ffn.run m' g')⟩
  obtain ⟨h0, h1, h2, h3, h4, h5⟩ := ha c
  rw [h0, h1, h2, h3, h4, h5]
  exact Cert.Reference2Ideal.Ffn.computed_eq _ _ (hn c) _ _ _ _

/-! ## The even layers' output projection and feed-forward -/

/-- `Kernel3`'s bodies are `Kernel3Ideal`'s. -/
theorem defs3_eq : Cert.Kernel3.defs (F := Bits) = Cert.Kernel3Ideal.defs (F := Bits) := by chain_rfl

theorem frame_k3 : Cert.quiescent_Kernel3 := by
  intro m ρ _
  rw [defs3_eq]
  exact Cert.Kernel3Ideal.Gen.frame (F := Bits) m ρ

theorem frame_ki3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun _ h => ⟨fun c => (h.1 c).2, h.2⟩) (Cert.Reference3Ideal.Mix.run m ρ)

theorem algebraic3 : Cert.algebraic_Kernel3Ideal_Reference3Ideal := by
  intro m g m' g' _ ha
  refine ⟨fun c => Cert.Kernel3Ideal.Mix.result m c,
    (θ_run Cert.Kernel3Ideal.defs _ _).mono (fun _ h c => ⟨(h c).1.trans (Cert.Kernel3Ideal.Mix.out_eq m c), (h c).2⟩) (Cert.Kernel3Ideal.Value.run_blocks m g),
    (θ_run Cert.Reference3Ideal.defs _ _).mono (fun _ h c => ⟨(h.1 c).1.trans ?_, (h.1 c).2⟩) (Cert.Reference3Ideal.Mix.run m' g')⟩
  obtain ⟨h0, h1, h2, h3, h4, h5, h6, h7, h8, h9, h10, h11, h12⟩ := ha c
  rw [h0, h1, h2, h3, h4, h5, h6, h7, h8, h9, h10, h11, h12]
  exact Cert.Reference3Ideal.Mix.computed_eq _ _ _ _ _ _ _ _ _ _ _ _ _

theorem claim : Cert.Claim :=
  ⟨Cert.Kernel.Gen.facts, Cert.KernelIdeal.Gen.facts, Cert.ReferenceIdeal.Gen.facts, Cert.Reference.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_every_row_named_once.Gen.facts, Cert.Pre_every_block_has_an_expert.Gen.facts,
    frame_k, frame_ki, frame_ri, frame_ri_pre, frame_r, frame_k2, frame_ki2, frame_ri2, frame_ri2_pre, frame_k3, frame_ki3, frame_ri3,
    trivial, bitexact, algebraic, trivial, algebraic2, trivial, algebraic3⟩

end Cert.Proof

end
